-- ==== Defs.lean ====
def Pre_Kernel [hPre_batch_in_range : Cert.Pre_batch_in_range.Facts] (m : (ℓ : Loc Cert.Kernel.nD Cert.Kernel.τ Cert.Kernel.sig) → Buf (Elt Bits) ℓ) : Prop :=
  ∀ c : Dev Cert.Kernel.nD,
    (Cert.Pre_batch_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_batch_in_range : Cert.Pre_batch_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_batch_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_pooled_input [hPre_pooled_input : Cert.Pre_pooled_input.Facts] (m : (ℓ : Loc Cert.KernelIdeal.nD Cert.KernelIdeal.τ Cert.KernelIdeal.sig) → Buf (Elt Ideal) ℓ) : Prop :=
  ∀ c : Dev Cert.KernelIdeal.nD,
    (Cert.Pre_pooled_input.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pooled_input [hPre_pooled_input : Cert.Pre_pooled_input.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pooled_input.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_batch_in_range : Cert.Pre_batch_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_batch_in_range : Cert.Pre_batch_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_pooled_input [hKernelIdeal : Cert.KernelIdeal.Facts] [hPre_pooled_input : Cert.Pre_pooled_input.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pooled_input m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_pooled_input [hReferenceIdeal : Cert.ReferenceIdeal.Facts] [hPre_pooled_input : Cert.Pre_pooled_input.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pooled_input m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_pooled_input [hKernelIdeal : Cert.KernelIdeal.Facts] [hReferenceIdeal : Cert.ReferenceIdeal.Facts] [hPre_pooled_input : Cert.Pre_pooled_input.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pooled_input m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_batch_in_range : Cert.Pre_batch_in_range.Facts) (hPre_pooled_input : Cert.Pre_pooled_input.Facts),
    quiescent_Kernel (hKernel := hKernel) (hPre_batch_in_range := hPre_batch_in_range)
    ∧ quiescent_KernelIdeal (hKernelIdeal := hKernelIdeal) (hPre_batch_in_range := hPre_batch_in_range)
    ∧ quiescent_KernelIdeal_pre_pooled_input (hKernelIdeal := hKernelIdeal) (hPre_pooled_input := hPre_pooled_input)
    ∧ quiescent_ReferenceIdeal (hReferenceIdeal := hReferenceIdeal)
    ∧ quiescent_ReferenceIdeal_pre_pooled_input (hReferenceIdeal := hReferenceIdeal) (hPre_pooled_input := hPre_pooled_input)
    ∧ preserves_Kernel_KernelIdeal
    ∧ algebraic_KernelIdeal_ReferenceIdeal_pre_pooled_input (hKernelIdeal := hKernelIdeal) (hReferenceIdeal := hReferenceIdeal) (hPre_pooled_input := hPre_pooled_input)
-- ==== Pre_batch_in_range.lean ====
abbrev S50000x256 : Shape := ⟨2, ![50000, 256]⟩
abbrev S50000 : Shape := ⟨1, ![50000]⟩
abbrev S256 : Shape := ⟨1, ![256]⟩
abbrev S_ : Shape := ⟨0, ![]⟩

class Facts : Prop where
  bcast_S_S50000 : S_.BroadcastsInDim S50000 (![] : Fin 0 → Fin S50000.rank)
  reducesTo_S50000_S_d0 : S50000.ReducesTo [0] S_
  h_S_ : 0 < S_.numel

variable [Facts]

def fn {F : FTy → Type} [FloatOps F] (main_arg0 : FVec F S50000x256 .f32) (main_arg1 : IVec S50000 32) (main_arg2 : FVec F S256 .f32) (main_arg3 : FVec F S256 .f32) : IVec S_ 1 :=
  let main_c : IVec S_ 32 := constantI S_ 32 0#32
  let main_v0 : IVec S50000 32 := broadcastInDim S50000 ![] bcast_S_S50000 main_c
  let main_v1 : IVec S50000 1 := cmpi .sge main_arg1 main_v0
  let main_c_0 : IVec S_ 32 := constantI S_ 32 64#32
  let main_v2 : IVec S50000 32 := broadcastInDim S50000 ![] bcast_S_S50000 main_c_0
  let main_v3 : IVec S50000 1 := cmpi .slt main_arg1 main_v2
  let main_v4 : IVec S50000 1 := andi main_v1 main_v3
  let main_c_1 : IVec S_ 1 := constantI S_ 1 1#1
  let main_v5 : IVec S_ 1 := (fun x v => Host.reduce IntOp.andi x v reducesTo_S50000_S_d0 h_S_) main_v4 main_c_1
  main_v5
-- ==== Pre_pooled_input.lean ====
abbrev S50000x256 : Shape := ⟨2, ![50000, 256]⟩
abbrev S50000 : Shape := ⟨1, ![50000]⟩
abbrev S256 : Shape := ⟨1, ![256]⟩
abbrev S_ : Shape := ⟨0, ![]⟩
abbrev S49999 : Shape := ⟨1, ![49999]⟩
abbrev S127 : Shape := ⟨1, ![127]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256 : S_.BroadcastsInDim S256 (![] : Fin 0 → Fin S256.rank)
  reducesTo_S256_S_d0 : S256.ReducesTo [0] S_
  bcast_S_S50000 : S_.BroadcastsInDim S50000 (![] : Fin 0 → Fin S50000.rank)
  reducesTo_S50000_S_d0 : S50000.ReducesTo [0] S_
  slices_S50000_S49999_0 : S50000.Slices ![0] S49999
  slices_S50000_S49999_1 : S50000.Slices ![1] S49999
  reducesTo_S49999_S_d0 : S49999.ReducesTo [0] S_
  bcast_S_S127 : S_.BroadcastsInDim S127 (![] : Fin 0 → Fin S127.rank)
  slices_S50000_S127_49872 : S50000.Slices ![49872] S127
  slices_S50000_S127_49873 : S50000.Slices ![49873] S127
  reducesTo_S127_S_d0 : S127.ReducesTo [0] S_

variable [Facts]

def fn_part1 {F : FTy → Type} [FloatOps F] (main_arg1 : IVec S50000 32) (main_v8 : IVec S_ 1) (main_v14 : IVec S_ 1) (main_v15 : IVec S49999 32) (main_v16 : IVec S49999 32) : IVec S_ 1 :=
  let main_v17 : IVec S49999 1 := cmpi .sle main_v15 main_v16
  let main_c_5 : IVec S_ 1 := constantI S_ 1 1#1
  let main_v18 : IVec S_ 1 := (fun x v => Host.reduce IntOp.andi x v reducesTo_S49999_S_d0 h_S_) main_v17 main_c_5
  let main_v19 : IVec S127 32 := iotaInDim S127 32 0
  let main_c_6 : IVec S_ 32 := constantI S_ 32 3#32
  let main_v20 : IVec S127 32 := broadcastInDim S127 ![] bcast_S_S127 main_c_6
  let main_v21 : IVec S127 32 := andi main_v19 main_v20
  let main_c_7 : IVec S_ 32 := constantI S_ 32 3#32
  let main_v22 : IVec S127 32 := broadcastInDim S127 ![] bcast_S_S127 main_c_7
  let main_v23 : IVec S127 1 := cmpi .eq main_v21 main_v22
  let main_v24 : IVec S127 32 := (extractStridedSlice S127 ![49872] · slices_S50000_S127_49872) main_arg1
  let main_v25 : IVec S127 32 := (extractStridedSlice S127 ![49873] · slices_S50000_S127_49873) main_arg1
  let main_v26 : IVec S127 1 := cmpi .eq main_v24 main_v25
  let main_v27 : IVec S127 1 := ori main_v26 main_v23
  let main_c_8 : IVec S_ 1 := constantI S_ 1 1#1
  let main_v28 : IVec S_ 1 := (fun x v => Host.reduce IntOp.andi x v reducesTo_S127_S_d0 h_S_) main_v27 main_c_8
  let main_v29 : IVec S_ 1 := andi main_v8 main_v14
  let main_v30 : IVec S_ 1 := andi main_v29 main_v18
  let main_v31 : IVec S_ 1 := andi main_v30 main_v28
  main_v31

def fn {F : FTy → Type} [FloatOps F] (main_arg0 : FVec F S50000x256 .f32) (main_arg1 : IVec S50000 32) (main_arg2 : FVec F S256 .f32) (main_arg3 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256 .f32 := Host.absf main_arg2
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_c_2 : IVec S_ 32 := constantI S_ 32 0#32
  let main_v9 : IVec S50000 32 := broadcastInDim S50000 ![] bcast_S_S50000 main_c_2
  let main_v10 : IVec S50000 1 := cmpi .sge main_arg1 main_v9
  let main_c_3 : IVec S_ 32 := constantI S_ 32 64#32
  let main_v11 : IVec S50000 32 := broadcastInDim S50000 ![] bcast_S_S50000 main_c_3
  let main_v12 : IVec S50000 1 := cmpi .slt main_arg1 main_v11
  let main_v13 : IVec S50000 1 := andi main_v10 main_v12
  let main_c_4 : IVec S_ 1 := constantI S_ 1 1#1
  let main_v14 : IVec S_ 1 := (fun x v => Host.reduce IntOp.andi x v reducesTo_S50000_S_d0 h_S_) main_v13 main_c_4
  let main_v15 : IVec S49999 32 := (extractStridedSlice S49999 ![0] · slices_S50000_S49999_0) main_arg1
  let main_v16 : IVec S49999 32 := (extractStridedSlice S49999 ![1] · slices_S50000_S49999_1) main_arg1
  fn_part1 (F := F) main_arg1 main_v8 main_v14 main_v15 main_v16
-- ==== Kernel.lean ====
abbrev S50000x256 : Shape := ⟨2, ![50000, 256]⟩
abbrev S50000 : Shape := ⟨1, ![50000]⟩
abbrev S256 : Shape := ⟨1, ![256]⟩
abbrev S65 : Shape := ⟨1, ![65]⟩
abbrev S1x65 : Shape := ⟨2, ![1, 65]⟩
abbrev S50000x1 : Shape := ⟨2, ![50000, 1]⟩
abbrev S50000x65 : Shape := ⟨2, ![50000, 65]⟩
abbrev S_ : Shape := ⟨0, ![]⟩
abbrev S64 : Shape := ⟨1, ![64]⟩
abbrev S64x1 : Shape := ⟨2, ![64, 1]⟩
abbrev S96 : Shape := ⟨1, ![96]⟩
abbrev S50 : Shape := ⟨1, ![50]⟩
abbrev S1x50 : Shape := ⟨2, ![1, 50]⟩
abbrev S65x1 : Shape := ⟨2, ![65, 1]⟩
abbrev S65x50 : Shape := ⟨2, ![65, 50]⟩
abbrev S64x50 : Shape := ⟨2, ![64, 50]⟩
abbrev S32768 : Shape := ⟨1, ![32768]⟩
abbrev S128x256 : Shape := ⟨2, ![128, 256]⟩
abbrev S1024 : Shape := ⟨1, ![1024]⟩
abbrev S16 : Shape := ⟨1, ![16]⟩
abbrev S1 : Shape := ⟨1, ![1]⟩
abbrev S1x16 : Shape := ⟨2, ![1, 16]⟩
abbrev S64x512 : Shape := ⟨2, ![64, 512]⟩
abbrev S1x256 : Shape := ⟨2, ![1, 256]⟩
abbrev S1000x256 : Shape := ⟨2, ![1000, 256]⟩
abbrev S64x256 : Shape := ⟨2, ![64, 256]⟩
abbrev S1000x1 : Shape := ⟨2, ![1000, 1]⟩

abbrev nBuf : Table → Nat
  | .hbm => 54
  | .local .tc .vmem => 10
  | .local .tc .smem => 3
  | .local .scVector .vmem => 4
  | _ => 0

abbrev bufTy : (tb : Table) → Fin (nBuf tb) → BufTy
  | .hbm, ⟨0, _⟩ => ⟨S50000x256, .f32⟩
  | .hbm, ⟨1, _⟩ => ⟨S50000, .i32⟩
  | .hbm, ⟨2, _⟩ => ⟨S256, .f32⟩
  | .hbm, ⟨3, _⟩ => ⟨S256, .f32⟩
  | .hbm, ⟨4, _⟩ => ⟨S65, .i32⟩
  | .hbm, ⟨5, _⟩ => ⟨S1x65, .i32⟩
  | .hbm, ⟨6, _⟩ => ⟨S50000x1, .i32⟩
  | .hbm, ⟨7, _⟩ => ⟨S50000x65, .i32⟩
  | .hbm, ⟨8, _⟩ => ⟨S50000x65, .i32⟩
  | .hbm, ⟨9, _⟩ => ⟨S50000x65, .i1⟩
  | .hbm, ⟨10, _⟩ => ⟨S50000x65, .i32⟩
  | .hbm, ⟨11, _⟩ => ⟨S_, .i32⟩
  | .hbm, ⟨12, _⟩ => ⟨S65, .i32⟩
  | .hbm, ⟨13, _⟩ => ⟨S64, .i32⟩
  | .hbm, ⟨14, _⟩ => ⟨S64, .i32⟩
  | .hbm, ⟨15, _⟩ => ⟨S64, .i32⟩
  | .hbm, ⟨16, _⟩ => ⟨S64, .f32⟩
  | .hbm, ⟨17, _⟩ => ⟨S64x1, .f32⟩
  | .hbm, ⟨18, _⟩ => ⟨S_, .i32⟩
  | .hbm, ⟨19, _⟩ => ⟨S_, .i32⟩
  | .hbm, ⟨20, _⟩ => ⟨S96, .i32⟩
  | .hbm, ⟨21, _⟩ => ⟨S50, .i32⟩
  | .hbm, ⟨22, _⟩ => ⟨S_, .i32⟩
  | .hbm, ⟨23, _⟩ => ⟨S50, .i32⟩
  | .hbm, ⟨24, _⟩ => ⟨S50, .i32⟩
  | .hbm, ⟨25, _⟩ => ⟨S1x50, .i32⟩
  | .hbm, ⟨26, _⟩ => ⟨S65x1, .i32⟩
  | .hbm, ⟨27, _⟩ => ⟨S65x50, .i32⟩
  | .hbm, ⟨28, _⟩ => ⟨S65x50, .i32⟩
  | .hbm, ⟨29, _⟩ => ⟨S65x50, .i1⟩
  | .hbm, ⟨30, _⟩ => ⟨S65x50, .i32⟩
  | .hbm, ⟨31, _⟩ => ⟨S_, .i32⟩
  | .hbm, ⟨32, _⟩ => ⟨S50, .i32⟩
  | .hbm, ⟨33, _⟩ => ⟨S_, .i32⟩
  | .hbm, ⟨34, _⟩ => ⟨S50, .i32⟩
  | .hbm, ⟨35, _⟩ => ⟨S50, .i32⟩
  | .hbm, ⟨36, _⟩ => ⟨S64, .i32⟩
  | .hbm, ⟨37, _⟩ => ⟨S_, .i32⟩
  | .hbm, ⟨38, _⟩ => ⟨S50, .i32⟩
  | .hbm, ⟨39, _⟩ => ⟨S50, .i32⟩
  | .hbm, ⟨40, _⟩ => ⟨S1x50, .i32⟩
  | .hbm, ⟨41, _⟩ => ⟨S64x1, .i32⟩
  | .hbm, ⟨42, _⟩ => ⟨S64x50, .i32⟩
  | .hbm, ⟨43, _⟩ => ⟨S64x50, .i32⟩
  | .hbm, ⟨44, _⟩ => ⟨S64x50, .i1⟩
  | .hbm, ⟨45, _⟩ => ⟨S64x50, .i32⟩
  | .hbm, ⟨46, _⟩ => ⟨S_, .i32⟩
  | .hbm, ⟨47, _⟩ => ⟨S50, .i32⟩
  | .hbm, ⟨48, _⟩ => ⟨S50, .i32⟩
  | .hbm, ⟨49, _⟩ => ⟨S32768, .f32⟩
  | .hbm, ⟨50, _⟩ => ⟨S64x512, .f32⟩
  | .hbm, ⟨51, _⟩ => ⟨S1x256, .f32⟩
  | .hbm, ⟨52, _⟩ => ⟨S1x256, .f32⟩
  | .hbm, ⟨53, _⟩ => ⟨S50000x256, .f32⟩
  | .local .tc .vmem, ⟨0, _⟩ => ⟨S1000x256, .f32⟩
  | .local .tc .vmem, ⟨1, _⟩ => ⟨S1000x256, .f32⟩
  | .local .tc .vmem, ⟨2, _⟩ => ⟨S64x512, .f32⟩
  | .local .tc .vmem, ⟨3, _⟩ => ⟨S64x1, .f32⟩
  | .local .tc .vmem, ⟨4, _⟩ => ⟨S1x256, .f32⟩
  | .local .tc .vmem, ⟨5, _⟩ => ⟨S1x256, .f32⟩
  | .local .tc .vmem, ⟨6, _⟩ => ⟨S1000x256, .f32⟩
  | .local .tc .vmem, ⟨7, _⟩ => ⟨S1000x256, .f32⟩
  | .local .tc .vmem, ⟨8, _⟩ => ⟨S64x256, .f32⟩
  | .local .tc .vmem, ⟨9, _⟩ => ⟨S64x256, .f32⟩
  | .local .tc .smem, ⟨0, _⟩ => ⟨S96, .i32⟩
  | .local .tc .smem, ⟨1, _⟩ => ⟨S50, .i32⟩
  | .local .tc .smem, ⟨2, _⟩ => ⟨S50, .i32⟩
  | .local .scVector .vmem, ⟨0, _⟩ => ⟨S128x256, .f32⟩
  | .local .scVector .vmem, ⟨1, _⟩ => ⟨S128x256, .f32⟩
  | .local .scVector .vmem, ⟨2, _⟩ => ⟨S96, .i32⟩
  | .local .scVector .vmem, ⟨3, _⟩ => ⟨S1024, .f32⟩
  | _, _ => ⟨S50000x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_call0_v0 : Ref sig .tc := ⟨.hbm, 5, rfl⟩
abbrev main_call0_call0_v1 : Ref sig .tc := ⟨.hbm, 6, rfl⟩
abbrev main_call0_call0_v2 : Ref sig .tc := ⟨.hbm, 7, rfl⟩
abbrev main_call0_call0_v3 : Ref sig .tc := ⟨.hbm, 8, rfl⟩
abbrev main_call0_call0_v4 : Ref sig .tc := ⟨.hbm, 9, rfl⟩
abbrev main_call0_call0_v5 : Ref sig .tc := ⟨.hbm, 10, rfl⟩
abbrev main_call0_call0_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_call1_v0 : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_v9 : Ref sig .tc := ⟨.hbm, 23, rfl⟩
abbrev main_v10 : Ref sig .tc := ⟨.hbm, 24, rfl⟩
abbrev main_call2_call0_v0 : Ref sig .tc := ⟨.hbm, 25, rfl⟩
abbrev main_call2_call0_v1 : Ref sig .tc := ⟨.hbm, 26, rfl⟩
abbrev main_call2_call0_v2 : Ref sig .tc := ⟨.hbm, 27, rfl⟩
abbrev main_call2_call0_v3 : Ref sig .tc := ⟨.hbm, 28, rfl⟩
abbrev main_call2_call0_v4 : Ref sig .tc := ⟨.hbm, 29, rfl⟩
abbrev main_call2_call0_v5 : Ref sig .tc := ⟨.hbm, 30, rfl⟩
abbrev main_call2_call0_c : Ref sig .tc := ⟨.hbm, 31, rfl⟩
abbrev main_v11 : Ref sig .tc := ⟨.hbm, 32, rfl⟩
abbrev main_c_1 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c_2 : Ref sig .tc := ⟨.hbm, 37, rfl⟩
abbrev main_v15 : Ref sig .tc := ⟨.hbm, 38, rfl⟩
abbrev main_v16 : Ref sig .tc := ⟨.hbm, 39, rfl⟩
abbrev main_call3_call0_v0 : Ref sig .tc := ⟨.hbm, 40, rfl⟩
abbrev main_call3_call0_v1 : Ref sig .tc := ⟨.hbm, 41, rfl⟩
abbrev main_call3_call0_v2 : Ref sig .tc := ⟨.hbm, 42, rfl⟩
abbrev main_call3_call0_v3 : Ref sig .tc := ⟨.hbm, 43, rfl⟩
abbrev main_call3_call0_v4 : Ref sig .tc := ⟨.hbm, 44, rfl⟩
abbrev main_call3_call0_v5 : Ref sig .tc := ⟨.hbm, 45, rfl⟩
abbrev main_call3_call0_c : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_arg0_scv : Ref sig .scVector := ⟨.hbm, 0, rfl⟩
abbrev main_v7_scv : Ref sig .scVector := ⟨.hbm, 20, rfl⟩
abbrev main_v19_scv : Ref sig .scVector := ⟨.hbm, 49, rfl⟩
abbrev cc1_stg0_0 : Ref sig .tc := ⟨.vmem, 0, rfl⟩
abbrev cc1_stg0_1 : Ref sig .tc := ⟨.vmem, 1, rfl⟩
abbrev cc1_stg4_0 : Ref sig .tc := ⟨.vmem, 2, rfl⟩
abbrev cc1_stg5_0 : Ref sig .tc := ⟨.vmem, 3, rfl⟩
abbrev cc1_stg6_0 : Ref sig .tc := ⟨.vmem, 4, rfl⟩
abbrev cc1_stg7_0 : Ref sig .tc := ⟨.vmem, 5, rfl⟩
abbrev cc1_stg8_0 : Ref sig .tc := ⟨.vmem, 6, rfl⟩
abbrev cc1_stg8_1 : Ref sig .tc := ⟨.vmem, 7, rfl⟩
abbrev cc1_scratch0 : Ref sig .tc := ⟨.vmem, 8, rfl⟩
abbrev cc1_scratch1 : Ref sig .tc := ⟨.vmem, 9, rfl⟩
abbrev cc1_stg1_0 : Ref sig .tc := ⟨.smem, 0, rfl⟩
abbrev cc1_stg2_0 : Ref sig .tc := ⟨.smem, 1, rfl⟩
abbrev cc1_stg3_0 : Ref sig .tc := ⟨.smem, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc1_sem8_1 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi v2 c0_i32
  let v4 : Index := Scalar.indexCast v3
  ![v4.toNat]
def k0_mult1 (v8 : BitVec 32) : BitVec 32 :=
  let c3_i32 : BitVec 32 := 3#32
  let v23 : BitVec 32 := Scalar.shrsi v8 c3_i32
  let c3_i32_4 : BitVec 32 := 3#32
  let v24 : BitVec 32 := Scalar.shli v23 c3_i32_4
  let c0_i32_22 : BitVec 32 := 0#32
  let v66 : BitVec 32 := Scalar.addi v24 c0_i32_22
  let c49872_i32 : BitVec 32 := 49872#32
  let v67 : BitVec 32 := Scalar.minsi v66 c49872_i32
  v67

def k0_off2 (v8 : BitVec 32) : Fin 2 → Nat :=
  let c3_i32 : BitVec 32 := 3#32
  let v23 : BitVec 32 := Scalar.shrsi v8 c3_i32
  let c3_i32_4 : BitVec 32 := 3#32
  let v24 : BitVec 32 := Scalar.shli v23 c3_i32_4
  let c0_i32_22 : BitVec 32 := 0#32
  let v66 : BitVec 32 := Scalar.addi v24 c0_i32_22
  let c49872_i32 : BitVec 32 := 49872#32
  let v67 : BitVec 32 := Scalar.minsi v66 c49872_i32
  let v68 : BitVec 32 := v67
  let c0_i32_23 : BitVec 32 := 0#32
  ![v68.toNat, 0]

def k0_chk1 (v8 : BitVec 32) : Prop :=
  (8 ∣ (k0_mult1 v8).toNat) ∧
  (∀ a, (k0_off2 v8) a + S128x256.size a ≤ S50000x256.size a)
theorem k0_mult1_dvd : ∀ (v8 : BitVec 32) (k0_hw1 : k0_chk1 v8), 8 ∣ (k0_mult1 v8).toNat := fun v8 k0_hw1 => k0_hw1.1
theorem k0_off2_inb : ∀ (v8 : BitVec 32) (k0_hw1 : k0_chk1 v8), ∀ a, (k0_off2 v8) a + S128x256.size a ≤ S50000x256.size a := fun v8 k0_hw1 => k0_hw1.2

@[reducible] def k0_t1_loop (v8 : BitVec 32) (v15 : BitVec 32) : Scf.Loop 32 :=
  let c0_i32_25 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_27 : BitVec 32 := 1#32
  ⟨c0_i32_25, v75, c1_i32_27⟩

def k0_mult2 (v8 : BitVec 32) (v15 : BitVec 32) (k0_t1 : Fin (k0_t1_loop v8 v15).trips) : BitVec 32 :=
  let c3_i32 : BitVec 32 := 3#32
  let v23 : BitVec 32 := Scalar.shrsi v8 c3_i32
  let c3_i32_4 : BitVec 32 := 3#32
  let v24 : BitVec 32 := Scalar.shli v23 c3_i32_4
  let c2_i32_71 : BitVec 32 := 2#32
  let c0_i32_25 : BitVec 32 := 0#32
  let c1_i32_27 : BitVec 32 := 1#32
  let arg11 : BitVec 32 := Scf.iv c0_i32_25 c1_i32_27 k0_t1
  let v333 : BitVec 32 := Scalar.muli c2_i32_71 arg11
  let c1_i32_72 : BitVec 32 := 1#32
  let v334 : BitVec 32 := Scalar.addi v333 c1_i32_72
  let c128_i32_73 : BitVec 32 := 128#32
  let v335 : BitVec 32 := Scalar.muli v334 c128_i32_73
  let v336 : BitVec 32 := Scalar.addi v24 v335
  let c49872_i32_74 : BitVec 32 := 49872#32
  let v337 : BitVec 32 := Scalar.minsi v336 c49872_i32_74
  v337
def k0_off3 (v8 : BitVec 32) (v15 : BitVec 32) (k0_t1 : Fin (k0_t1_loop v8 v15).trips) : Fin 2 → Nat :=
  let c3_i32 : BitVec 32 := 3#32
  let v23 : BitVec 32 := Scalar.shrsi v8 c3_i32
  let c3_i32_4 : BitVec 32 := 3#32
  let v24 : BitVec 32 := Scalar.shli v23 c3_i32_4
  let c2_i32_71 : BitVec 32 := 2#32
  let c0_i32_25 : BitVec 32 := 0#32
  let c1_i32_27 : BitVec 32 := 1#32
  let arg11 : BitVec 32 := Scf.iv c0_i32_25 c1_i32_27 k0_t1
  let v333 : BitVec 32 := Scalar.muli c2_i32_71 arg11
  let c1_i32_72 : BitVec 32 := 1#32
  let v334 : BitVec 32 := Scalar.addi v333 c1_i32_72
  let c128_i32_73 : BitVec 32 := 128#32
  let v335 : BitVec 32 := Scalar.muli v334 c128_i32_73
  let v336 : BitVec 32 := Scalar.addi v24 v335
  let c49872_i32_74 : BitVec 32 := 49872#32
  let v337 : BitVec 32 := Scalar.minsi v336 c49872_i32_74
  let v338 : BitVec 32 := v337
  let c0_i32_75 : BitVec 32 := 0#32
  ![v338.toNat, 0]
def k0_mult3 (v8 : BitVec 32) (v15 : BitVec 32) (k0_t1 : Fin (k0_t1_loop v8 v15).trips) : BitVec 32 :=
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  v346
@[reducible] def k0_t2_loop (v8 : BitVec 32) (v15 : BitVec 32) (k0_t1 : Fin (k0_t1_loop v8 v15).trips) : Scf.Loop 32 :=
  let c0_i32_86 : BitVec 32 := 0#32
  let c128_i32_84 : BitVec 32 := 128#32
  let c0_i32_83 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v352 : BitVec 32 := Scalar.subi v15 v347
  let v353 : BitVec 32 := Scalar.maxsi c0_i32_83 v352
  let v354 : BitVec 32 := Scalar.minsi c128_i32_84 v353
  let c128_i32_82 : BitVec 32 := 128#32
  let c0_i32_81 : BitVec 32 := 0#32
  let c128_i32_78 : BitVec 32 := 128#32
  let v342 : BitVec 32 := Scalar.muli v341 c128_i32_78
  let v343 : BitVec 32 := Scalar.addi v24 v342
  let v348 : BitVec 32 := Scalar.maxsi v8 v343
  let v349 : BitVec 32 := Scalar.subi v348 v347
  let v350 : BitVec 32 := Scalar.maxsi c0_i32_81 v349
  let v351 : BitVec 32 := Scalar.minsi c128_i32_82 v350
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_88 : BitVec 32 := 1#32
  ⟨c0_i32_86, v361, c1_i32_88⟩
def k0_off4 (v8 : BitVec 32) (v15 : BitVec 32) (k0_t1 : Fin (k0_t1_loop v8 v15).trips) (k0_t2 : Fin (k0_t2_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t2
  let v417 : BitVec 32 := Scalar.muli c4_i32_121 arg44
  let v418 : BitVec 32 := Scalar.addi v351 v417
  let v422 : Index := Scalar.indexCast v418
  let c0_125 : Index := 0#32
  ![v422.toNat, 0]
def k0_off5 (v8 : BitVec 32) (v15 : BitVec 32) (k0_t1 : Fin (k0_t1_loop v8 v15).trips) (k0_t2 : Fin (k0_t2_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t2
  let v417 : BitVec 32 := Scalar.muli c4_i32_121 arg44
  let v418 : BitVec 32 := Scalar.addi v351 v417
  let v428 : Index := Scalar.indexCast v418
  let c16_126 : Index := 16#32
  ![v428.toNat, 16]
def k0_off6 (v8 : BitVec 32) (v15 : BitVec 32) (k0_t1 : Fin (k0_t1_loop v8 v15).trips) (k0_t2 : Fin (k0_t2_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t2
  let v417 : BitVec 32 := Scalar.muli c4_i32_121 arg44
  let v418 : BitVec 32 := Scalar.addi v351 v417
  let v434 : Index := Scalar.indexCast v418
  let c32_127 : Index := 32#32
  ![v434.toNat, 32]
def k0_off7 (v8 : BitVec 32) (v15 : BitVec 32) (k0_t1 : Fin (k0_t1_loop v8 v15).trips) (k0_t2 : Fin (k0_t2_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t2
  let v417 : BitVec 32 := Scalar.muli c4_i32_121 arg44
  let v418 : BitVec 32 := Scalar.addi v351 v417
  let v440 : Index := Scalar.indexCast v418
  let c48_128 : Index := 48#32
  ![v440.toNat, 48]
def k0_off8 (v8 : BitVec 32) (v15 : BitVec 32) (k0_t1 : Fin (k0_t1_loop v8 v15).trips) (k0_t2 : Fin (k0_t2_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t2
  let v417 : BitVec 32 := Scalar.muli c4_i32_121 arg44
  let v418 : BitVec 32 := Scalar.addi v351 v417
  let v446 : Index := Scalar.indexCast v418
  let c64_129 : Index := 64#32
  ![v446.toNat, 64]
def k0_off9 (v8 : BitVec 32) (v15 : BitVec 32) (k0_t1 : Fin (k0_t1_loop v8 v15).trips) (k0_t2 : Fin (k0_t2_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t2
  let v417 : BitVec 32 := Scalar.muli c4_i32_121 arg44
  let v418 : BitVec 32 := Scalar.addi v351 v417
  let v452 : Index := Scalar.indexCast v418
  let c80_130 : Index := 80#32
  ![v452.toNat, 80]
def k0_off10 (v8 : BitVec 32) (v15 : BitVec 32) (k0_t1 : Fin (k0_t1_loop v8 v15).trips) (k0_t2 : Fin (k0_t2_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t2
  let v417 : BitVec 32 := Scalar.muli c4_i32_121 arg44
  let v418 : BitVec 32 := Scalar.addi v351 v417
  let v458 : Index := Scalar.indexCast v418
  let c96_131 : Index := 96#32
  ![v458.toNat, 96]
def k0_off11 (v8 : BitVec 32) (v15 : BitVec 32) (k0_t1 : Fin (k0_t1_loop v8 v15).trips) (k0_t2 : Fin (k0_t2_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t2
  let v417 : BitVec 32 := Scalar.muli c4_i32_121 arg44
  let v418 : BitVec 32 := Scalar.addi v351 v417
  let v464 : Index := Scalar.indexCast v418
  let c112_132 : Index := 112#32
  ![v464.toNat, 112]
def k0_off12 (v8 : BitVec 32) (v15 : BitVec 32) (k0_t1 : Fin (k0_t1_loop v8 v15).trips) (k0_t2 : Fin (k0_t2_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t2
  let v417 : BitVec 32 := Scalar.muli c4_i32_121 arg44
  let v418 : BitVec 32 := Scalar.addi v351 v417
  let v470 : Index := Scalar.indexCast v418
  let c128_133 : Index := 128#32
  ![v470.toNat, 128]
def k0_off13 (v8 : BitVec 32) (v15 : BitVec 32) (k0_t1 : Fin (k0_t1_loop v8 v15).trips) (k0_t2 : Fin (k0_t2_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t2
  let v417 : BitVec 32 := Scalar.muli c4_i32_121 arg44
  let v418 : BitVec 32 := Scalar.addi v351 v417
  let v476 : Index := Scalar.indexCast v418
  let c144_134 : Index := 144#32
  ![v476.toNat, 144]
def k0_off14 (v8 : BitVec 32) (v15 : BitVec 32) (k0_t1 : Fin (k0_t1_loop v8 v15).trips) (k0_t2 : Fin (k0_t2_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t2
  let v417 : BitVec 32 := Scalar.muli c4_i32_121 arg44
  let v418 : BitVec 32 := Scalar.addi v351 v417
  let v482 : Index := Scalar.indexCast v418
  let c160_135 : Index := 160#32
  ![v482.toNat, 160]
def k0_off15 (v8 : BitVec 32) (v15 : BitVec 32) (k0_t1 : Fin (k0_t1_loop v8 v15).trips) (k0_t2 : Fin (k0_t2_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t2
  let v417 : BitVec 32 := Scalar.muli c4_i32_121 arg44
  let v418 : BitVec 32 := Scalar.addi v351 v417
  let v488 : Index := Scalar.indexCast v418
  let c176_136 : Index := 176#32
  ![v488.toNat, 176]
def k0_off16 (v8 : BitVec 32) (v15 : BitVec 32) (k0_t1 : Fin (k0_t1_loop v8 v15).trips) (k0_t2 : Fin (k0_t2_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t2
  let v417 : BitVec 32 := Scalar.muli c4_i32_121 arg44
  let v418 : BitVec 32 := Scalar.addi v351 v417
  let v494 : Index := Scalar.indexCast v418
  let c192_137 : Index := 192#32
  ![v494.toNat, 192]
def k0_off17 (v8 : BitVec 32) (v15 : BitVec 32) (k0_t1 : Fin (k0_t1_loop v8 v15).trips) (k0_t2 : Fin (k0_t2_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t2
  let v417 : BitVec 32 := Scalar.muli c4_i32_121 arg44
  let v418 : BitVec 32 := Scalar.addi v351 v417
  let v500 : Index := Scalar.indexCast v418
  let c208_138 : Index := 208#32
  ![v500.toNat, 208]
def k0_off18 (v8 : BitVec 32) (v15 : BitVec 32) (k0_t1 : Fin (k0_t1_loop v8 v15).trips) (k0_t2 : Fin (k0_t2_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t2
  let v417 : BitVec 32 := Scalar.muli c4_i32_121 arg44
  let v418 : BitVec 32 := Scalar.addi v351 v417
  let v506 : Index := Scalar.indexCast v418
  let c224_139 : Index := 224#32
  ![v506.toNat, 224]
def k0_off19 (v8 : BitVec 32) (v15 : BitVec 32) (k0_t1 : Fin (k0_t1_loop v8 v15).trips) (k0_t2 : Fin (k0_t2_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t2
  let v417 : BitVec 32 := Scalar.muli c4_i32_121 arg44
  let v418 : BitVec 32 := Scalar.addi v351 v417
  let v512 : Index := Scalar.indexCast v418
  let c240_140 : Index := 240#32
  ![v512.toNat, 240]
def k0_off20 (v8 : BitVec 32) (v15 : BitVec 32) (k0_t1 : Fin (k0_t1_loop v8 v15).trips) (k0_t2 : Fin (k0_t2_loop v8 v15 k0_t1).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t2
  let v417 : BitVec 32 := Scalar.muli c4_i32_121 arg44
  let v418 : BitVec 32 := Scalar.addi v351 v417
  let v419 : BitVec 32 := Scalar.addi v418 c1_i32_122
  let v518 : Index := Scalar.indexCast v419
  let c0_141 : Index := 0#32
  ![v518.toNat, 0]
def k0_off21 (v8 : BitVec 32) (v15 : BitVec 32) (k0_t1 : Fin (k0_t1_loop v8 v15).trips) (k0_t2 : Fin (k0_t2_loop v8 v15 k0_t1).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t2
  let v417 : BitVec 32 := Scalar.muli c4_i32_121 arg44
  let v418 : BitVec 32 := Scalar.addi v351 v417
  let v419 : BitVec 32 := Scalar.addi v418 c1_i32_122
  let v524 : Index := Scalar.indexCast v419
  let c16_142 : Index := 16#32
  ![v524.toNat, 16]
def k0_off22 (v8 : BitVec 32) (v15 : BitVec 32) (k0_t1 : Fin (k0_t1_loop v8 v15).trips) (k0_t2 : Fin (k0_t2_loop v8 v15 k0_t1).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t2
  let v417 : BitVec 32 := Scalar.muli c4_i32_121 arg44
  let v418 : BitVec 32 := Scalar.addi v351 v417
  let v419 : BitVec 32 := Scalar.addi v418 c1_i32_122
  let v530 : Index := Scalar.indexCast v419
  let c32_143 : Index := 32#32
  ![v530.toNat, 32]
def k0_off23 (v8 : BitVec 32) (v15 : BitVec 32) (k0_t1 : Fin (k0_t1_loop v8 v15).trips) (k0_t2 : Fin (k0_t2_loop v8 v15 k0_t1).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t2
  let v417 : BitVec 32 := Scalar.muli c4_i32_121 arg44
  let v418 : BitVec 32 := Scalar.addi v351 v417
  let v419 : BitVec 32 := Scalar.addi v418 c1_i32_122
  let v536 : Index := Scalar.indexCast v419
  let c48_144 : Index := 48#32
  ![v536.toNat, 48]
def k0_off24 (v8 : BitVec 32) (v15 : BitVec 32) (k0_t1 : Fin (k0_t1_loop v8 v15).trips) (k0_t2 : Fin (k0_t2_loop v8 v15 k0_t1).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t2
  let v417 : BitVec 32 := Scalar.muli c4_i32_121 arg44
  let v418 : BitVec 32 := Scalar.addi v351 v417
  let v419 : BitVec 32 := Scalar.addi v418 c1_i32_122
  let v542 : Index := Scalar.indexCast v419
  let c64_145 : Index := 64#32
  ![v542.toNat, 64]
def k0_off25 (v8 : BitVec 32) (v15 : BitVec 32) (k0_t1 : Fin (k0_t1_loop v8 v15).trips) (k0_t2 : Fin (k0_t2_loop v8 v15 k0_t1).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t2
  let v417 : BitVec 32 := Scalar.muli c4_i32_121 arg44
  let v418 : BitVec 32 := Scalar.addi v351 v417
  let v419 : BitVec 32 := Scalar.addi v418 c1_i32_122
  let v548 : Index := Scalar.indexCast v419
  let c80_146 : Index := 80#32
  ![v548.toNat, 80]
def k0_off26 (v8 : BitVec 32) (v15 : BitVec 32) (k0_t1 : Fin (k0_t1_loop v8 v15).trips) (k0_t2 : Fin (k0_t2_loop v8 v15 k0_t1).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t2
  let v417 : BitVec 32 := Scalar.muli c4_i32_121 arg44
  let v418 : BitVec 32 := Scalar.addi v351 v417
  let v419 : BitVec 32 := Scalar.addi v418 c1_i32_122
  let v554 : Index := Scalar.indexCast v419
  let c96_147 : Index := 96#32
  ![v554.toNat, 96]
def k0_off27 (v8 : BitVec 32) (v15 : BitVec 32) (k0_t1 : Fin (k0_t1_loop v8 v15).trips) (k0_t2 : Fin (k0_t2_loop v8 v15 k0_t1).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t2
  let v417 : BitVec 32 := Scalar.muli c4_i32_121 arg44
  let v418 : BitVec 32 := Scalar.addi v351 v417
  let v419 : BitVec 32 := Scalar.addi v418 c1_i32_122
  let v560 : Index := Scalar.indexCast v419
  let c112_148 : Index := 112#32
  ![v560.toNat, 112]
def k0_off28 (v8 : BitVec 32) (v15 : BitVec 32) (k0_t1 : Fin (k0_t1_loop v8 v15).trips) (k0_t2 : Fin (k0_t2_loop v8 v15 k0_t1).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t2
  let v417 : BitVec 32 := Scalar.muli c4_i32_121 arg44
  let v418 : BitVec 32 := Scalar.addi v351 v417
  let v419 : BitVec 32 := Scalar.addi v418 c1_i32_122
  let v566 : Index := Scalar.indexCast v419
  let c128_149 : Index := 128#32
  ![v566.toNat, 128]
def k0_off29 (v8 : BitVec 32) (v15 : BitVec 32) (k0_t1 : Fin (k0_t1_loop v8 v15).trips) (k0_t2 : Fin (k0_t2_loop v8 v15 k0_t1).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t2
  let v417 : BitVec 32 := Scalar.muli c4_i32_121 arg44
  let v418 : BitVec 32 := Scalar.addi v351 v417
  let v419 : BitVec 32 := Scalar.addi v418 c1_i32_122
  let v572 : Index := Scalar.indexCast v419
  let c144_150 : Index := 144#32
  ![v572.toNat, 144]
def k0_off30 (v8 : BitVec 32) (v15 : BitVec 32) (k0_t1 : Fin (k0_t1_loop v8 v15).trips) (k0_t2 : Fin (k0_t2_loop v8 v15 k0_t1).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t2
  let v417 : BitVec 32 := Scalar.muli c4_i32_121 arg44
  let v418 : BitVec 32 := Scalar.addi v351 v417
  let v419 : BitVec 32 := Scalar.addi v418 c1_i32_122
  let v578 : Index := Scalar.indexCast v419
  let c160_151 : Index := 160#32
  ![v578.toNat, 160]
def k0_off31 (v8 : BitVec 32) (v15 : BitVec 32) (k0_t1 : Fin (k0_t1_loop v8 v15).trips) (k0_t2 : Fin (k0_t2_loop v8 v15 k0_t1).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t2
  let v417 : BitVec 32 := Scalar.muli c4_i32_121 arg44
  let v418 : BitVec 32 := Scalar.addi v351 v417
  let v419 : BitVec 32 := Scalar.addi v418 c1_i32_122
  let v584 : Index := Scalar.indexCast v419
  let c176_152 : Index := 176#32
  ![v584.toNat, 176]
def k0_off32 (v8 : BitVec 32) (v15 : BitVec 32) (k0_t1 : Fin (k0_t1_loop v8 v15).trips) (k0_t2 : Fin (k0_t2_loop v8 v15 k0_t1).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t2
  let v417 : BitVec 32 := Scalar.muli c4_i32_121 arg44
  let v418 : BitVec 32 := Scalar.addi v351 v417
  let v419 : BitVec 32 := Scalar.addi v418 c1_i32_122
  let v590 : Index := Scalar.indexCast v419
  let c192_153 : Index := 192#32
  ![v590.toNat, 192]
def k0_off33 (v8 : BitVec 32) (v15 : BitVec 32) (k0_t1 : Fin (k0_t1_loop v8 v15).trips) (k0_t2 : Fin (k0_t2_loop v8 v15 k0_t1).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t2
  let v417 : BitVec 32 := Scalar.muli c4_i32_121 arg44
  let v418 : BitVec 32 := Scalar.addi v351 v417
  let v419 : BitVec 32 := Scalar.addi v418 c1_i32_122
  let v596 : Index := Scalar.indexCast v419
  let c208_154 : Index := 208#32
  ![v596.toNat, 208]
def k0_off34 (v8 : BitVec 32) (v15 : BitVec 32) (k0_t1 : Fin (k0_t1_loop v8 v15).trips) (k0_t2 : Fin (k0_t2_loop v8 v15 k0_t1).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t2
  let v417 : BitVec 32 := Scalar.muli c4_i32_121 arg44
  let v418 : BitVec 32 := Scalar.addi v351 v417
  let v419 : BitVec 32 := Scalar.addi v418 c1_i32_122
  let v602 : Index := Scalar.indexCast v419
  let c224_155 : Index := 224#32
  ![v602.toNat, 224]
def k0_off35 (v8 : BitVec 32) (v15 : BitVec 32) (k0_t1 : Fin (k0_t1_loop v8 v15).trips) (k0_t2 : Fin (k0_t2_loop v8 v15 k0_t1).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t2
  let v417 : BitVec 32 := Scalar.muli c4_i32_121 arg44
  let v418 : BitVec 32 := Scalar.addi v351 v417
  let v419 : BitVec 32 := Scalar.addi v418 c1_i32_122
  let v608 : Index := Scalar.indexCast v419
  let c240_156 : Index := 240#32
  ![v608.toNat, 240]
@[reducible] def k0_t3_loop (v8 : BitVec 32) (v15 : BitVec 32) (k0_t1 : Fin (k0_t1_loop v8 v15).trips) : Scf.Loop 32 :=
  let c0_i32_86 : BitVec 32 := 0#32
  let c128_i32_84 : BitVec 32 := 128#32
  let c0_i32_83 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v352 : BitVec 32 := Scalar.subi v15 v347
  let v353 : BitVec 32 := Scalar.maxsi c0_i32_83 v352
  let v354 : BitVec 32 := Scalar.minsi c128_i32_84 v353
  let c128_i32_82 : BitVec 32 := 128#32
  let c0_i32_81 : BitVec 32 := 0#32
  let c128_i32_78 : BitVec 32 := 128#32
  let v342 : BitVec 32 := Scalar.muli v341 c128_i32_78
  let v343 : BitVec 32 := Scalar.addi v24 v342
  let v348 : BitVec 32 := Scalar.maxsi v8 v343
  let v349 : BitVec 32 := Scalar.subi v348 v347
  let v350 : BitVec 32 := Scalar.maxsi c0_i32_81 v349
  let v351 : BitVec 32 := Scalar.minsi c128_i32_82 v350
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let v358 : BitVec 32 := Scalar.addi c0_i32_86 v357
  let c1_i32_89 : BitVec 32 := 1#32
  ⟨v361, v358, c1_i32_89⟩
def k0_off36 (v8 : BitVec 32) (v15 : BitVec 32) (k0_t1 : Fin (k0_t1_loop v8 v15).trips) (k0_t3 : Fin (k0_t3_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t3
  let v417 : BitVec 32 := Scalar.muli c4_i32_121 arg44
  let v418 : BitVec 32 := Scalar.addi v351 v417
  let v422 : Index := Scalar.indexCast v418
  let c0_125 : Index := 0#32
  ![v422.toNat, 0]
def k0_off37 (v8 : BitVec 32) (v15 : BitVec 32) (k0_t1 : Fin (k0_t1_loop v8 v15).trips) (k0_t3 : Fin (k0_t3_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t3
  let v417 : BitVec 32 := Scalar.muli c4_i32_121 arg44
  let v418 : BitVec 32 := Scalar.addi v351 v417
  let v428 : Index := Scalar.indexCast v418
  let c16_126 : Index := 16#32
  ![v428.toNat, 16]
def k0_off38 (v8 : BitVec 32) (v15 : BitVec 32) (k0_t1 : Fin (k0_t1_loop v8 v15).trips) (k0_t3 : Fin (k0_t3_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t3
  let v417 : BitVec 32 := Scalar.muli c4_i32_121 arg44
  let v418 : BitVec 32 := Scalar.addi v351 v417
  let v434 : Index := Scalar.indexCast v418
  let c32_127 : Index := 32#32
  ![v434.toNat, 32]
def k0_off39 (v8 : BitVec 32) (v15 : BitVec 32) (k0_t1 : Fin (k0_t1_loop v8 v15).trips) (k0_t3 : Fin (k0_t3_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t3
  let v417 : BitVec 32 := Scalar.muli c4_i32_121 arg44
  let v418 : BitVec 32 := Scalar.addi v351 v417
  let v440 : Index := Scalar.indexCast v418
  let c48_128 : Index := 48#32
  ![v440.toNat, 48]
def k0_off40 (v8 : BitVec 32) (v15 : BitVec 32) (k0_t1 : Fin (k0_t1_loop v8 v15).trips) (k0_t3 : Fin (k0_t3_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t3
  let v417 : BitVec 32 := Scalar.muli c4_i32_121 arg44
  let v418 : BitVec 32 := Scalar.addi v351 v417
  let v446 : Index := Scalar.indexCast v418
  let c64_129 : Index := 64#32
  ![v446.toNat, 64]
def k0_off41 (v8 : BitVec 32) (v15 : BitVec 32) (k0_t1 : Fin (k0_t1_loop v8 v15).trips) (k0_t3 : Fin (k0_t3_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t3
  let v417 : BitVec 32 := Scalar.muli c4_i32_121 arg44
  let v418 : BitVec 32 := Scalar.addi v351 v417
  let v452 : Index := Scalar.indexCast v418
  let c80_130 : Index := 80#32
  ![v452.toNat, 80]
def k0_off42 (v8 : BitVec 32) (v15 : BitVec 32) (k0_t1 : Fin (k0_t1_loop v8 v15).trips) (k0_t3 : Fin (k0_t3_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t3
  let v417 : BitVec 32 := Scalar.muli c4_i32_121 arg44
  let v418 : BitVec 32 := Scalar.addi v351 v417
  let v458 : Index := Scalar.indexCast v418
  let c96_131 : Index := 96#32
  ![v458.toNat, 96]
def k0_off43 (v8 : BitVec 32) (v15 : BitVec 32) (k0_t1 : Fin (k0_t1_loop v8 v15).trips) (k0_t3 : Fin (k0_t3_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t3
  let v417 : BitVec 32 := Scalar.muli c4_i32_121 arg44
  let v418 : BitVec 32 := Scalar.addi v351 v417
  let v464 : Index := Scalar.indexCast v418
  let c112_132 : Index := 112#32
  ![v464.toNat, 112]
def k0_off44 (v8 : BitVec 32) (v15 : BitVec 32) (k0_t1 : Fin (k0_t1_loop v8 v15).trips) (k0_t3 : Fin (k0_t3_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t3
  let v417 : BitVec 32 := Scalar.muli c4_i32_121 arg44
  let v418 : BitVec 32 := Scalar.addi v351 v417
  let v470 : Index := Scalar.indexCast v418
  let c128_133 : Index := 128#32
  ![v470.toNat, 128]
def k0_off45 (v8 : BitVec 32) (v15 : BitVec 32) (k0_t1 : Fin (k0_t1_loop v8 v15).trips) (k0_t3 : Fin (k0_t3_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t3
  let v417 : BitVec 32 := Scalar.muli c4_i32_121 arg44
  let v418 : BitVec 32 := Scalar.addi v351 v417
  let v476 : Index := Scalar.indexCast v418
  let c144_134 : Index := 144#32
  ![v476.toNat, 144]
def k0_off46 (v8 : BitVec 32) (v15 : BitVec 32) (k0_t1 : Fin (k0_t1_loop v8 v15).trips) (k0_t3 : Fin (k0_t3_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t3
  let v417 : BitVec 32 := Scalar.muli c4_i32_121 arg44
  let v418 : BitVec 32 := Scalar.addi v351 v417
  let v482 : Index := Scalar.indexCast v418
  let c160_135 : Index := 160#32
  ![v482.toNat, 160]
def k0_off47 (v8 : BitVec 32) (v15 : BitVec 32) (k0_t1 : Fin (k0_t1_loop v8 v15).trips) (k0_t3 : Fin (k0_t3_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t3
  let v417 : BitVec 32 := Scalar.muli c4_i32_121 arg44
  let v418 : BitVec 32 := Scalar.addi v351 v417
  let v488 : Index := Scalar.indexCast v418
  let c176_136 : Index := 176#32
  ![v488.toNat, 176]
def k0_off48 (v8 : BitVec 32) (v15 : BitVec 32) (k0_t1 : Fin (k0_t1_loop v8 v15).trips) (k0_t3 : Fin (k0_t3_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t3
  let v417 : BitVec 32 := Scalar.muli c4_i32_121 arg44
  let v418 : BitVec 32 := Scalar.addi v351 v417
  let v494 : Index := Scalar.indexCast v418
  let c192_137 : Index := 192#32
  ![v494.toNat, 192]
def k0_off49 (v8 : BitVec 32) (v15 : BitVec 32) (k0_t1 : Fin (k0_t1_loop v8 v15).trips) (k0_t3 : Fin (k0_t3_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t3
  let v417 : BitVec 32 := Scalar.muli c4_i32_121 arg44
  let v418 : BitVec 32 := Scalar.addi v351 v417
  let v500 : Index := Scalar.indexCast v418
  let c208_138 : Index := 208#32
  ![v500.toNat, 208]
def k0_off50 (v8 : BitVec 32) (v15 : BitVec 32) (k0_t1 : Fin (k0_t1_loop v8 v15).trips) (k0_t3 : Fin (k0_t3_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t3
  let v417 : BitVec 32 := Scalar.muli c4_i32_121 arg44
  let v418 : BitVec 32 := Scalar.addi v351 v417
  let v506 : Index := Scalar.indexCast v418
  let c224_139 : Index := 224#32
  ![v506.toNat, 224]
def k0_off51 (v8 : BitVec 32) (v15 : BitVec 32) (k0_t1 : Fin (k0_t1_loop v8 v15).trips) (k0_t3 : Fin (k0_t3_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t3
  let v417 : BitVec 32 := Scalar.muli c4_i32_121 arg44
  let v418 : BitVec 32 := Scalar.addi v351 v417
  let v512 : Index := Scalar.indexCast v418
  let c240_140 : Index := 240#32
  ![v512.toNat, 240]
def k0_off52 (v8 : BitVec 32) (v15 : BitVec 32) (k0_t1 : Fin (k0_t1_loop v8 v15).trips) (k0_t3 : Fin (k0_t3_loop v8 v15 k0_t1).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t3
  let v417 : BitVec 32 := Scalar.muli c4_i32_121 arg44
  let v418 : BitVec 32 := Scalar.addi v351 v417
  let v419 : BitVec 32 := Scalar.addi v418 c1_i32_122
  let v518 : Index := Scalar.indexCast v419
  let c0_141 : Index := 0#32
  ![v518.toNat, 0]
def k0_off53 (v8 : BitVec 32) (v15 : BitVec 32) (k0_t1 : Fin (k0_t1_loop v8 v15).trips) (k0_t3 : Fin (k0_t3_loop v8 v15 k0_t1).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t3
  let v417 : BitVec 32 := Scalar.muli c4_i32_121 arg44
  let v418 : BitVec 32 := Scalar.addi v351 v417
  let v419 : BitVec 32 := Scalar.addi v418 c1_i32_122
  let v524 : Index := Scalar.indexCast v419
  let c16_142 : Index := 16#32
  ![v524.toNat, 16]
def k0_off54 (v8 : BitVec 32) (v15 : BitVec 32) (k0_t1 : Fin (k0_t1_loop v8 v15).trips) (k0_t3 : Fin (k0_t3_loop v8 v15 k0_t1).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t3
  let v417 : BitVec 32 := Scalar.muli c4_i32_121 arg44
  let v418 : BitVec 32 := Scalar.addi v351 v417
  let v419 : BitVec 32 := Scalar.addi v418 c1_i32_122
  let v530 : Index := Scalar.indexCast v419
  let c32_143 : Index := 32#32
  ![v530.toNat, 32]
def k0_off55 (v8 : BitVec 32) (v15 : BitVec 32) (k0_t1 : Fin (k0_t1_loop v8 v15).trips) (k0_t3 : Fin (k0_t3_loop v8 v15 k0_t1).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t3
  let v417 : BitVec 32 := Scalar.muli c4_i32_121 arg44
  let v418 : BitVec 32 := Scalar.addi v351 v417
  let v419 : BitVec 32 := Scalar.addi v418 c1_i32_122
  let v536 : Index := Scalar.indexCast v419
  let c48_144 : Index := 48#32
  ![v536.toNat, 48]
def k0_off56 (v8 : BitVec 32) (v15 : BitVec 32) (k0_t1 : Fin (k0_t1_loop v8 v15).trips) (k0_t3 : Fin (k0_t3_loop v8 v15 k0_t1).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t3
  let v417 : BitVec 32 := Scalar.muli c4_i32_121 arg44
  let v418 : BitVec 32 := Scalar.addi v351 v417
  let v419 : BitVec 32 := Scalar.addi v418 c1_i32_122
  let v542 : Index := Scalar.indexCast v419
  let c64_145 : Index := 64#32
  ![v542.toNat, 64]
def k0_off57 (v8 : BitVec 32) (v15 : BitVec 32) (k0_t1 : Fin (k0_t1_loop v8 v15).trips) (k0_t3 : Fin (k0_t3_loop v8 v15 k0_t1).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t3
  let v417 : BitVec 32 := Scalar.muli c4_i32_121 arg44
  let v418 : BitVec 32 := Scalar.addi v351 v417
  let v419 : BitVec 32 := Scalar.addi v418 c1_i32_122
  let v548 : Index := Scalar.indexCast v419
  let c80_146 : Index := 80#32
  ![v548.toNat, 80]
def k0_off58 (v8 : BitVec 32) (v15 : BitVec 32) (k0_t1 : Fin (k0_t1_loop v8 v15).trips) (k0_t3 : Fin (k0_t3_loop v8 v15 k0_t1).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t3
  let v417 : BitVec 32 := Scalar.muli c4_i32_121 arg44
  let v418 : BitVec 32 := Scalar.addi v351 v417
  let v419 : BitVec 32 := Scalar.addi v418 c1_i32_122
  let v554 : Index := Scalar.indexCast v419
  let c96_147 : Index := 96#32
  ![v554.toNat, 96]
def k0_off59 (v8 : BitVec 32) (v15 : BitVec 32) (k0_t1 : Fin (k0_t1_loop v8 v15).trips) (k0_t3 : Fin (k0_t3_loop v8 v15 k0_t1).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t3
  let v417 : BitVec 32 := Scalar.muli c4_i32_121 arg44
  let v418 : BitVec 32 := Scalar.addi v351 v417
  let v419 : BitVec 32 := Scalar.addi v418 c1_i32_122
  let v560 : Index := Scalar.indexCast v419
  let c112_148 : Index := 112#32
  ![v560.toNat, 112]
def k0_off60 (v8 : BitVec 32) (v15 : BitVec 32) (k0_t1 : Fin (k0_t1_loop v8 v15).trips) (k0_t3 : Fin (k0_t3_loop v8 v15 k0_t1).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t3
  let v417 : BitVec 32 := Scalar.muli c4_i32_121 arg44
  let v418 : BitVec 32 := Scalar.addi v351 v417
  let v419 : BitVec 32 := Scalar.addi v418 c1_i32_122
  let v566 : Index := Scalar.indexCast v419
  let c128_149 : Index := 128#32
  ![v566.toNat, 128]
def k0_off61 (v8 : BitVec 32) (v15 : BitVec 32) (k0_t1 : Fin (k0_t1_loop v8 v15).trips) (k0_t3 : Fin (k0_t3_loop v8 v15 k0_t1).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t3
  let v417 : BitVec 32 := Scalar.muli c4_i32_121 arg44
  let v418 : BitVec 32 := Scalar.addi v351 v417
  let v419 : BitVec 32 := Scalar.addi v418 c1_i32_122
  let v572 : Index := Scalar.indexCast v419
  let c144_150 : Index := 144#32
  ![v572.toNat, 144]
def k0_off62 (v8 : BitVec 32) (v15 : BitVec 32) (k0_t1 : Fin (k0_t1_loop v8 v15).trips) (k0_t3 : Fin (k0_t3_loop v8 v15 k0_t1).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t3
  let v417 : BitVec 32 := Scalar.muli c4_i32_121 arg44
  let v418 : BitVec 32 := Scalar.addi v351 v417
  let v419 : BitVec 32 := Scalar.addi v418 c1_i32_122
  let v578 : Index := Scalar.indexCast v419
  let c160_151 : Index := 160#32
  ![v578.toNat, 160]
def k0_off63 (v8 : BitVec 32) (v15 : BitVec 32) (k0_t1 : Fin (k0_t1_loop v8 v15).trips) (k0_t3 : Fin (k0_t3_loop v8 v15 k0_t1).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t3
  let v417 : BitVec 32 := Scalar.muli c4_i32_121 arg44
  let v418 : BitVec 32 := Scalar.addi v351 v417
  let v419 : BitVec 32 := Scalar.addi v418 c1_i32_122
  let v584 : Index := Scalar.indexCast v419
  let c176_152 : Index := 176#32
  ![v584.toNat, 176]
def k0_off64 (v8 : BitVec 32) (v15 : BitVec 32) (k0_t1 : Fin (k0_t1_loop v8 v15).trips) (k0_t3 : Fin (k0_t3_loop v8 v15 k0_t1).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t3
  let v417 : BitVec 32 := Scalar.muli c4_i32_121 arg44
  let v418 : BitVec 32 := Scalar.addi v351 v417
  let v419 : BitVec 32 := Scalar.addi v418 c1_i32_122
  let v590 : Index := Scalar.indexCast v419
  let c192_153 : Index := 192#32
  ![v590.toNat, 192]
def k0_off65 (v8 : BitVec 32) (v15 : BitVec 32) (k0_t1 : Fin (k0_t1_loop v8 v15).trips) (k0_t3 : Fin (k0_t3_loop v8 v15 k0_t1).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t3
  let v417 : BitVec 32 := Scalar.muli c4_i32_121 arg44
  let v418 : BitVec 32 := Scalar.addi v351 v417
  let v419 : BitVec 32 := Scalar.addi v418 c1_i32_122
  let v596 : Index := Scalar.indexCast v419
  let c208_154 : Index := 208#32
  ![v596.toNat, 208]
def k0_off66 (v8 : BitVec 32) (v15 : BitVec 32) (k0_t1 : Fin (k0_t1_loop v8 v15).trips) (k0_t3 : Fin (k0_t3_loop v8 v15 k0_t1).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t3
  let v417 : BitVec 32 := Scalar.muli c4_i32_121 arg44
  let v418 : BitVec 32 := Scalar.addi v351 v417
  let v419 : BitVec 32 := Scalar.addi v418 c1_i32_122
  let v602 : Index := Scalar.indexCast v419
  let c224_155 : Index := 224#32
  ![v602.toNat, 224]
def k0_off67 (v8 : BitVec 32) (v15 : BitVec 32) (k0_t1 : Fin (k0_t1_loop v8 v15).trips) (k0_t3 : Fin (k0_t3_loop v8 v15 k0_t1).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t3
  let v417 : BitVec 32 := Scalar.muli c4_i32_121 arg44
  let v418 : BitVec 32 := Scalar.addi v351 v417
  let v419 : BitVec 32 := Scalar.addi v418 c1_i32_122
  let v608 : Index := Scalar.indexCast v419
  let c240_156 : Index := 240#32
  ![v608.toNat, 240]
@[reducible] def k0_t4_loop (v8 : BitVec 32) (v15 : BitVec 32) (k0_t1 : Fin (k0_t1_loop v8 v15).trips) : Scf.Loop 32 :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_91 : BitVec 32 := 1#32
  ⟨v365, v370, c1_i32_91⟩
def k0_off68 (v8 : BitVec 32) (v15 : BitVec 32) (k0_t1 : Fin (k0_t1_loop v8 v15).trips) (k0_t4 : Fin (k0_t4_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t4
  let v417 : Index := Scalar.indexCast arg44
  let c0_121 : Index := 0#32
  ![v417.toNat, 0]
def k0_off69 (v8 : BitVec 32) (v15 : BitVec 32) (k0_t1 : Fin (k0_t1_loop v8 v15).trips) (k0_t4 : Fin (k0_t4_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t4
  let v423 : Index := Scalar.indexCast arg44
  let c16_122 : Index := 16#32
  ![v423.toNat, 16]
def k0_off70 (v8 : BitVec 32) (v15 : BitVec 32) (k0_t1 : Fin (k0_t1_loop v8 v15).trips) (k0_t4 : Fin (k0_t4_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t4
  let v429 : Index := Scalar.indexCast arg44
  let c32_123 : Index := 32#32
  ![v429.toNat, 32]
def k0_off71 (v8 : BitVec 32) (v15 : BitVec 32) (k0_t1 : Fin (k0_t1_loop v8 v15).trips) (k0_t4 : Fin (k0_t4_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t4
  let v435 : Index := Scalar.indexCast arg44
  let c48_124 : Index := 48#32
  ![v435.toNat, 48]
def k0_off72 (v8 : BitVec 32) (v15 : BitVec 32) (k0_t1 : Fin (k0_t1_loop v8 v15).trips) (k0_t4 : Fin (k0_t4_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t4
  let v441 : Index := Scalar.indexCast arg44
  let c64_125 : Index := 64#32
  ![v441.toNat, 64]
def k0_off73 (v8 : BitVec 32) (v15 : BitVec 32) (k0_t1 : Fin (k0_t1_loop v8 v15).trips) (k0_t4 : Fin (k0_t4_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t4
  let v447 : Index := Scalar.indexCast arg44
  let c80_126 : Index := 80#32
  ![v447.toNat, 80]
def k0_off74 (v8 : BitVec 32) (v15 : BitVec 32) (k0_t1 : Fin (k0_t1_loop v8 v15).trips) (k0_t4 : Fin (k0_t4_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t4
  let v453 : Index := Scalar.indexCast arg44
  let c96_127 : Index := 96#32
  ![v453.toNat, 96]
def k0_off75 (v8 : BitVec 32) (v15 : BitVec 32) (k0_t1 : Fin (k0_t1_loop v8 v15).trips) (k0_t4 : Fin (k0_t4_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t4
  let v459 : Index := Scalar.indexCast arg44
  let c112_128 : Index := 112#32
  ![v459.toNat, 112]
def k0_off76 (v8 : BitVec 32) (v15 : BitVec 32) (k0_t1 : Fin (k0_t1_loop v8 v15).trips) (k0_t4 : Fin (k0_t4_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t4
  let v465 : Index := Scalar.indexCast arg44
  let c128_129 : Index := 128#32
  ![v465.toNat, 128]
def k0_off77 (v8 : BitVec 32) (v15 : BitVec 32) (k0_t1 : Fin (k0_t1_loop v8 v15).trips) (k0_t4 : Fin (k0_t4_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t4
  let v471 : Index := Scalar.indexCast arg44
  let c144_130 : Index := 144#32
  ![v471.toNat, 144]
def k0_off78 (v8 : BitVec 32) (v15 : BitVec 32) (k0_t1 : Fin (k0_t1_loop v8 v15).trips) (k0_t4 : Fin (k0_t4_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t4
  let v477 : Index := Scalar.indexCast arg44
  let c160_131 : Index := 160#32
  ![v477.toNat, 160]
def k0_off79 (v8 : BitVec 32) (v15 : BitVec 32) (k0_t1 : Fin (k0_t1_loop v8 v15).trips) (k0_t4 : Fin (k0_t4_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t4
  let v483 : Index := Scalar.indexCast arg44
  let c176_132 : Index := 176#32
  ![v483.toNat, 176]
def k0_off80 (v8 : BitVec 32) (v15 : BitVec 32) (k0_t1 : Fin (k0_t1_loop v8 v15).trips) (k0_t4 : Fin (k0_t4_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t4
  let v489 : Index := Scalar.indexCast arg44
  let c192_133 : Index := 192#32
  ![v489.toNat, 192]
def k0_off81 (v8 : BitVec 32) (v15 : BitVec 32) (k0_t1 : Fin (k0_t1_loop v8 v15).trips) (k0_t4 : Fin (k0_t4_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t4
  let v495 : Index := Scalar.indexCast arg44
  let c208_134 : Index := 208#32
  ![v495.toNat, 208]
def k0_off82 (v8 : BitVec 32) (v15 : BitVec 32) (k0_t1 : Fin (k0_t1_loop v8 v15).trips) (k0_t4 : Fin (k0_t4_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t4
  let v501 : Index := Scalar.indexCast arg44
  let c224_135 : Index := 224#32
  ![v501.toNat, 224]
def k0_off83 (v8 : BitVec 32) (v15 : BitVec 32) (k0_t1 : Fin (k0_t1_loop v8 v15).trips) (k0_t4 : Fin (k0_t4_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t4
  let v507 : Index := Scalar.indexCast arg44
  let c240_136 : Index := 240#32
  ![v507.toNat, 240]
@[reducible] def k0_t5_loop (v8 : BitVec 32) (v15 : BitVec 32) (k0_t1 : Fin (k0_t1_loop v8 v15).trips) : Scf.Loop 32 :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let v367 : BitVec 32 := Scalar.addi v365 v366
  let c1_i32_92 : BitVec 32 := 1#32
  ⟨v370, v367, c1_i32_92⟩
def k0_off84 (v8 : BitVec 32) (v15 : BitVec 32) (k0_t1 : Fin (k0_t1_loop v8 v15).trips) (k0_t5 : Fin (k0_t5_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t5
  let v417 : Index := Scalar.indexCast arg44
  let c0_121 : Index := 0#32
  ![v417.toNat, 0]
def k0_off85 (v8 : BitVec 32) (v15 : BitVec 32) (k0_t1 : Fin (k0_t1_loop v8 v15).trips) (k0_t5 : Fin (k0_t5_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t5
  let v423 : Index := Scalar.indexCast arg44
  let c16_122 : Index := 16#32
  ![v423.toNat, 16]
def k0_off86 (v8 : BitVec 32) (v15 : BitVec 32) (k0_t1 : Fin (k0_t1_loop v8 v15).trips) (k0_t5 : Fin (k0_t5_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t5
  let v429 : Index := Scalar.indexCast arg44
  let c32_123 : Index := 32#32
  ![v429.toNat, 32]
def k0_off87 (v8 : BitVec 32) (v15 : BitVec 32) (k0_t1 : Fin (k0_t1_loop v8 v15).trips) (k0_t5 : Fin (k0_t5_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t5
  let v435 : Index := Scalar.indexCast arg44
  let c48_124 : Index := 48#32
  ![v435.toNat, 48]
def k0_off88 (v8 : BitVec 32) (v15 : BitVec 32) (k0_t1 : Fin (k0_t1_loop v8 v15).trips) (k0_t5 : Fin (k0_t5_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t5
  let v441 : Index := Scalar.indexCast arg44
  let c64_125 : Index := 64#32
  ![v441.toNat, 64]
def k0_off89 (v8 : BitVec 32) (v15 : BitVec 32) (k0_t1 : Fin (k0_t1_loop v8 v15).trips) (k0_t5 : Fin (k0_t5_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t5
  let v447 : Index := Scalar.indexCast arg44
  let c80_126 : Index := 80#32
  ![v447.toNat, 80]
def k0_off90 (v8 : BitVec 32) (v15 : BitVec 32) (k0_t1 : Fin (k0_t1_loop v8 v15).trips) (k0_t5 : Fin (k0_t5_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t5
  let v453 : Index := Scalar.indexCast arg44
  let c96_127 : Index := 96#32
  ![v453.toNat, 96]
def k0_off91 (v8 : BitVec 32) (v15 : BitVec 32) (k0_t1 : Fin (k0_t1_loop v8 v15).trips) (k0_t5 : Fin (k0_t5_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t5
  let v459 : Index := Scalar.indexCast arg44
  let c112_128 : Index := 112#32
  ![v459.toNat, 112]
def k0_off92 (v8 : BitVec 32) (v15 : BitVec 32) (k0_t1 : Fin (k0_t1_loop v8 v15).trips) (k0_t5 : Fin (k0_t5_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t5
  let v465 : Index := Scalar.indexCast arg44
  let c128_129 : Index := 128#32
  ![v465.toNat, 128]
def k0_off93 (v8 : BitVec 32) (v15 : BitVec 32) (k0_t1 : Fin (k0_t1_loop v8 v15).trips) (k0_t5 : Fin (k0_t5_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t5
  let v471 : Index := Scalar.indexCast arg44
  let c144_130 : Index := 144#32
  ![v471.toNat, 144]
def k0_off94 (v8 : BitVec 32) (v15 : BitVec 32) (k0_t1 : Fin (k0_t1_loop v8 v15).trips) (k0_t5 : Fin (k0_t5_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t5
  let v477 : Index := Scalar.indexCast arg44
  let c160_131 : Index := 160#32
  ![v477.toNat, 160]
def k0_off95 (v8 : BitVec 32) (v15 : BitVec 32) (k0_t1 : Fin (k0_t1_loop v8 v15).trips) (k0_t5 : Fin (k0_t5_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t5
  let v483 : Index := Scalar.indexCast arg44
  let c176_132 : Index := 176#32
  ![v483.toNat, 176]
def k0_off96 (v8 : BitVec 32) (v15 : BitVec 32) (k0_t1 : Fin (k0_t1_loop v8 v15).trips) (k0_t5 : Fin (k0_t5_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t5
  let v489 : Index := Scalar.indexCast arg44
  let c192_133 : Index := 192#32
  ![v489.toNat, 192]
def k0_off97 (v8 : BitVec 32) (v15 : BitVec 32) (k0_t1 : Fin (k0_t1_loop v8 v15).trips) (k0_t5 : Fin (k0_t5_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t5
  let v495 : Index := Scalar.indexCast arg44
  let c208_134 : Index := 208#32
  ![v495.toNat, 208]
def k0_off98 (v8 : BitVec 32) (v15 : BitVec 32) (k0_t1 : Fin (k0_t1_loop v8 v15).trips) (k0_t5 : Fin (k0_t5_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t5
  let v501 : Index := Scalar.indexCast arg44
  let c224_135 : Index := 224#32
  ![v501.toNat, 224]
def k0_off99 (v8 : BitVec 32) (v15 : BitVec 32) (k0_t1 : Fin (k0_t1_loop v8 v15).trips) (k0_t5 : Fin (k0_t5_loop v8 v15 k0_t1).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let c1_i32_27 : BitVec 32 := 1#32
  let arg11 : BitVec 32 := Scf.iv c0_i32_25 c1_i32_27 k0_t1
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t5
  let v507 : Index := Scalar.indexCast arg44
  let c240_136 : Index := 240#32
  ![v507.toNat, 240]
def k0_mult4 (v8 : BitVec 32) (v15 : BitVec 32) (k0_t1 : Fin (k0_t1_loop v8 v15).trips) : BitVec 32 :=
  let c3_i32 : BitVec 32 := 3#32
  let v23 : BitVec 32 := Scalar.shrsi v8 c3_i32
  let c3_i32_4 : BitVec 32 := 3#32
  let v24 : BitVec 32 := Scalar.shli v23 c3_i32_4
  let c2_i32_97 : BitVec 32 := 2#32
  let c0_i32_25 : BitVec 32 := 0#32
  let c1_i32_27 : BitVec 32 := 1#32
  let arg11 : BitVec 32 := Scf.iv c0_i32_25 c1_i32_27 k0_t1
  let v375 : BitVec 32 := Scalar.muli c2_i32_97 arg11
  let c2_i32_98 : BitVec 32 := 2#32
  let v376 : BitVec 32 := Scalar.addi v375 c2_i32_98
  let c2_i32_20 : BitVec 32 := 2#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v63 : BitVec 32 := Scalar.muli c2_i32_20 v62
  let c1_i32_21 : BitVec 32 := 1#32
  let v64 : BitVec 32 := Scalar.subi v63 c1_i32_21
  let v377 : BitVec 32 := Scalar.minsi v376 v64
  let c128_i32_99 : BitVec 32 := 128#32
  let v378 : BitVec 32 := Scalar.muli v377 c128_i32_99
  let v379 : BitVec 32 := Scalar.addi v24 v378
  let c49872_i32_100 : BitVec 32 := 49872#32
  let v380 : BitVec 32 := Scalar.minsi v379 c49872_i32_100
  v380
def k0_off100 (v8 : BitVec 32) (v15 : BitVec 32) (k0_t1 : Fin (k0_t1_loop v8 v15).trips) : Fin 2 → Nat :=
  let c3_i32 : BitVec 32 := 3#32
  let v23 : BitVec 32 := Scalar.shrsi v8 c3_i32
  let c3_i32_4 : BitVec 32 := 3#32
  let v24 : BitVec 32 := Scalar.shli v23 c3_i32_4
  let c2_i32_97 : BitVec 32 := 2#32
  let c0_i32_25 : BitVec 32 := 0#32
  let c1_i32_27 : BitVec 32 := 1#32
  let arg11 : BitVec 32 := Scf.iv c0_i32_25 c1_i32_27 k0_t1
  let v375 : BitVec 32 := Scalar.muli c2_i32_97 arg11
  let c2_i32_98 : BitVec 32 := 2#32
  let v376 : BitVec 32 := Scalar.addi v375 c2_i32_98
  let c2_i32_20 : BitVec 32 := 2#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v63 : BitVec 32 := Scalar.muli c2_i32_20 v62
  let c1_i32_21 : BitVec 32 := 1#32
  let v64 : BitVec 32 := Scalar.subi v63 c1_i32_21
  let v377 : BitVec 32 := Scalar.minsi v376 v64
  let c128_i32_99 : BitVec 32 := 128#32
  let v378 : BitVec 32 := Scalar.muli v377 c128_i32_99
  let v379 : BitVec 32 := Scalar.addi v24 v378
  let c49872_i32_100 : BitVec 32 := 49872#32
  let v380 : BitVec 32 := Scalar.minsi v379 c49872_i32_100
  let v381 : BitVec 32 := v380
  let c0_i32_101 : BitVec 32 := 0#32
  ![v381.toNat, 0]
def k0_mult5 (v8 : BitVec 32) (v15 : BitVec 32) (k0_t1 : Fin (k0_t1_loop v8 v15).trips) : BitVec 32 :=
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  v390
@[reducible] def k0_t6_loop (v8 : BitVec 32) (v15 : BitVec 32) (k0_t1 : Fin (k0_t1_loop v8 v15).trips) : Scf.Loop 32 :=
  let c0_i32_113 : BitVec 32 := 0#32
  let c128_i32_111 : BitVec 32 := 128#32
  let c0_i32_110 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v396 : BitVec 32 := Scalar.subi v15 v391
  let v397 : BitVec 32 := Scalar.maxsi c0_i32_110 v396
  let v398 : BitVec 32 := Scalar.minsi c128_i32_111 v397
  let c128_i32_109 : BitVec 32 := 128#32
  let c0_i32_108 : BitVec 32 := 0#32
  let c128_i32_105 : BitVec 32 := 128#32
  let v386 : BitVec 32 := Scalar.muli v385 c128_i32_105
  let v387 : BitVec 32 := Scalar.addi v24 v386
  let v392 : BitVec 32 := Scalar.maxsi v8 v387
  let v393 : BitVec 32 := Scalar.subi v392 v391
  let v394 : BitVec 32 := Scalar.maxsi c0_i32_108 v393
  let v395 : BitVec 32 := Scalar.minsi c128_i32_109 v394
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_115 : BitVec 32 := 1#32
  ⟨c0_i32_113, v405, c1_i32_115⟩
def k0_off101 (v8 : BitVec 32) (v15 : BitVec 32) (k0_t1 : Fin (k0_t1_loop v8 v15).trips) (k0_t6 : Fin (k0_t6_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t6
  let v417 : BitVec 32 := Scalar.muli c4_i32_121 arg44
  let v418 : BitVec 32 := Scalar.addi v395 v417
  let v422 : Index := Scalar.indexCast v418
  let c0_125 : Index := 0#32
  ![v422.toNat, 0]
def k0_off102 (v8 : BitVec 32) (v15 : BitVec 32) (k0_t1 : Fin (k0_t1_loop v8 v15).trips) (k0_t6 : Fin (k0_t6_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t6
  let v417 : BitVec 32 := Scalar.muli c4_i32_121 arg44
  let v418 : BitVec 32 := Scalar.addi v395 v417
  let v428 : Index := Scalar.indexCast v418
  let c16_126 : Index := 16#32
  ![v428.toNat, 16]
def k0_off103 (v8 : BitVec 32) (v15 : BitVec 32) (k0_t1 : Fin (k0_t1_loop v8 v15).trips) (k0_t6 : Fin (k0_t6_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t6
  let v417 : BitVec 32 := Scalar.muli c4_i32_121 arg44
  let v418 : BitVec 32 := Scalar.addi v395 v417
  let v434 : Index := Scalar.indexCast v418
  let c32_127 : Index := 32#32
  ![v434.toNat, 32]
def k0_off104 (v8 : BitVec 32) (v15 : BitVec 32) (k0_t1 : Fin (k0_t1_loop v8 v15).trips) (k0_t6 : Fin (k0_t6_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t6
  let v417 : BitVec 32 := Scalar.muli c4_i32_121 arg44
  let v418 : BitVec 32 := Scalar.addi v395 v417
  let v440 : Index := Scalar.indexCast v418
  let c48_128 : Index := 48#32
  ![v440.toNat, 48]
def k0_off105 (v8 : BitVec 32) (v15 : BitVec 32) (k0_t1 : Fin (k0_t1_loop v8 v15).trips) (k0_t6 : Fin (k0_t6_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t6
  let v417 : BitVec 32 := Scalar.muli c4_i32_121 arg44
  let v418 : BitVec 32 := Scalar.addi v395 v417
  let v446 : Index := Scalar.indexCast v418
  let c64_129 : Index := 64#32
  ![v446.toNat, 64]
def k0_off106 (v8 : BitVec 32) (v15 : BitVec 32) (k0_t1 : Fin (k0_t1_loop v8 v15).trips) (k0_t6 : Fin (k0_t6_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t6
  let v417 : BitVec 32 := Scalar.muli c4_i32_121 arg44
  let v418 : BitVec 32 := Scalar.addi v395 v417
  let v452 : Index := Scalar.indexCast v418
  let c80_130 : Index := 80#32
  ![v452.toNat, 80]
def k0_off107 (v8 : BitVec 32) (v15 : BitVec 32) (k0_t1 : Fin (k0_t1_loop v8 v15).trips) (k0_t6 : Fin (k0_t6_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t6
  let v417 : BitVec 32 := Scalar.muli c4_i32_121 arg44
  let v418 : BitVec 32 := Scalar.addi v395 v417
  let v458 : Index := Scalar.indexCast v418
  let c96_131 : Index := 96#32
  ![v458.toNat, 96]
def k0_off108 (v8 : BitVec 32) (v15 : BitVec 32) (k0_t1 : Fin (k0_t1_loop v8 v15).trips) (k0_t6 : Fin (k0_t6_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t6
  let v417 : BitVec 32 := Scalar.muli c4_i32_121 arg44
  let v418 : BitVec 32 := Scalar.addi v395 v417
  let v464 : Index := Scalar.indexCast v418
  let c112_132 : Index := 112#32
  ![v464.toNat, 112]
def k0_off109 (v8 : BitVec 32) (v15 : BitVec 32) (k0_t1 : Fin (k0_t1_loop v8 v15).trips) (k0_t6 : Fin (k0_t6_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t6
  let v417 : BitVec 32 := Scalar.muli c4_i32_121 arg44
  let v418 : BitVec 32 := Scalar.addi v395 v417
  let v470 : Index := Scalar.indexCast v418
  let c128_133 : Index := 128#32
  ![v470.toNat, 128]
def k0_off110 (v8 : BitVec 32) (v15 : BitVec 32) (k0_t1 : Fin (k0_t1_loop v8 v15).trips) (k0_t6 : Fin (k0_t6_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t6
  let v417 : BitVec 32 := Scalar.muli c4_i32_121 arg44
  let v418 : BitVec 32 := Scalar.addi v395 v417
  let v476 : Index := Scalar.indexCast v418
  let c144_134 : Index := 144#32
  ![v476.toNat, 144]
def k0_off111 (v8 : BitVec 32) (v15 : BitVec 32) (k0_t1 : Fin (k0_t1_loop v8 v15).trips) (k0_t6 : Fin (k0_t6_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t6
  let v417 : BitVec 32 := Scalar.muli c4_i32_121 arg44
  let v418 : BitVec 32 := Scalar.addi v395 v417
  let v482 : Index := Scalar.indexCast v418
  let c160_135 : Index := 160#32
  ![v482.toNat, 160]
def k0_off112 (v8 : BitVec 32) (v15 : BitVec 32) (k0_t1 : Fin (k0_t1_loop v8 v15).trips) (k0_t6 : Fin (k0_t6_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t6
  let v417 : BitVec 32 := Scalar.muli c4_i32_121 arg44
  let v418 : BitVec 32 := Scalar.addi v395 v417
  let v488 : Index := Scalar.indexCast v418
  let c176_136 : Index := 176#32
  ![v488.toNat, 176]
def k0_off113 (v8 : BitVec 32) (v15 : BitVec 32) (k0_t1 : Fin (k0_t1_loop v8 v15).trips) (k0_t6 : Fin (k0_t6_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t6
  let v417 : BitVec 32 := Scalar.muli c4_i32_121 arg44
  let v418 : BitVec 32 := Scalar.addi v395 v417
  let v494 : Index := Scalar.indexCast v418
  let c192_137 : Index := 192#32
  ![v494.toNat, 192]
def k0_off114 (v8 : BitVec 32) (v15 : BitVec 32) (k0_t1 : Fin (k0_t1_loop v8 v15).trips) (k0_t6 : Fin (k0_t6_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t6
  let v417 : BitVec 32 := Scalar.muli c4_i32_121 arg44
  let v418 : BitVec 32 := Scalar.addi v395 v417
  let v500 : Index := Scalar.indexCast v418
  let c208_138 : Index := 208#32
  ![v500.toNat, 208]
def k0_off115 (v8 : BitVec 32) (v15 : BitVec 32) (k0_t1 : Fin (k0_t1_loop v8 v15).trips) (k0_t6 : Fin (k0_t6_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t6
  let v417 : BitVec 32 := Scalar.muli c4_i32_121 arg44
  let v418 : BitVec 32 := Scalar.addi v395 v417
  let v506 : Index := Scalar.indexCast v418
  let c224_139 : Index := 224#32
  ![v506.toNat, 224]
def k0_off116 (v8 : BitVec 32) (v15 : BitVec 32) (k0_t1 : Fin (k0_t1_loop v8 v15).trips) (k0_t6 : Fin (k0_t6_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t6
  let v417 : BitVec 32 := Scalar.muli c4_i32_121 arg44
  let v418 : BitVec 32 := Scalar.addi v395 v417
  let v512 : Index := Scalar.indexCast v418
  let c240_140 : Index := 240#32
  ![v512.toNat, 240]
def k0_off117 (v8 : BitVec 32) (v15 : BitVec 32) (k0_t1 : Fin (k0_t1_loop v8 v15).trips) (k0_t6 : Fin (k0_t6_loop v8 v15 k0_t1).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t6
  let v417 : BitVec 32 := Scalar.muli c4_i32_121 arg44
  let v418 : BitVec 32 := Scalar.addi v395 v417
  let v419 : BitVec 32 := Scalar.addi v418 c1_i32_122
  let v518 : Index := Scalar.indexCast v419
  let c0_141 : Index := 0#32
  ![v518.toNat, 0]
def k0_off118 (v8 : BitVec 32) (v15 : BitVec 32) (k0_t1 : Fin (k0_t1_loop v8 v15).trips) (k0_t6 : Fin (k0_t6_loop v8 v15 k0_t1).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t6
  let v417 : BitVec 32 := Scalar.muli c4_i32_121 arg44
  let v418 : BitVec 32 := Scalar.addi v395 v417
  let v419 : BitVec 32 := Scalar.addi v418 c1_i32_122
  let v524 : Index := Scalar.indexCast v419
  let c16_142 : Index := 16#32
  ![v524.toNat, 16]
def k0_off119 (v8 : BitVec 32) (v15 : BitVec 32) (k0_t1 : Fin (k0_t1_loop v8 v15).trips) (k0_t6 : Fin (k0_t6_loop v8 v15 k0_t1).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t6
  let v417 : BitVec 32 := Scalar.muli c4_i32_121 arg44
  let v418 : BitVec 32 := Scalar.addi v395 v417
  let v419 : BitVec 32 := Scalar.addi v418 c1_i32_122
  let v530 : Index := Scalar.indexCast v419
  let c32_143 : Index := 32#32
  ![v530.toNat, 32]
def k0_off120 (v8 : BitVec 32) (v15 : BitVec 32) (k0_t1 : Fin (k0_t1_loop v8 v15).trips) (k0_t6 : Fin (k0_t6_loop v8 v15 k0_t1).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t6
  let v417 : BitVec 32 := Scalar.muli c4_i32_121 arg44
  let v418 : BitVec 32 := Scalar.addi v395 v417
  let v419 : BitVec 32 := Scalar.addi v418 c1_i32_122
  let v536 : Index := Scalar.indexCast v419
  let c48_144 : Index := 48#32
  ![v536.toNat, 48]
def k0_off121 (v8 : BitVec 32) (v15 : BitVec 32) (k0_t1 : Fin (k0_t1_loop v8 v15).trips) (k0_t6 : Fin (k0_t6_loop v8 v15 k0_t1).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t6
  let v417 : BitVec 32 := Scalar.muli c4_i32_121 arg44
  let v418 : BitVec 32 := Scalar.addi v395 v417
  let v419 : BitVec 32 := Scalar.addi v418 c1_i32_122
  let v542 : Index := Scalar.indexCast v419
  let c64_145 : Index := 64#32
  ![v542.toNat, 64]
def k0_off122 (v8 : BitVec 32) (v15 : BitVec 32) (k0_t1 : Fin (k0_t1_loop v8 v15).trips) (k0_t6 : Fin (k0_t6_loop v8 v15 k0_t1).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t6
  let v417 : BitVec 32 := Scalar.muli c4_i32_121 arg44
  let v418 : BitVec 32 := Scalar.addi v395 v417
  let v419 : BitVec 32 := Scalar.addi v418 c1_i32_122
  let v548 : Index := Scalar.indexCast v419
  let c80_146 : Index := 80#32
  ![v548.toNat, 80]
def k0_off123 (v8 : BitVec 32) (v15 : BitVec 32) (k0_t1 : Fin (k0_t1_loop v8 v15).trips) (k0_t6 : Fin (k0_t6_loop v8 v15 k0_t1).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t6
  let v417 : BitVec 32 := Scalar.muli c4_i32_121 arg44
  let v418 : BitVec 32 := Scalar.addi v395 v417
  let v419 : BitVec 32 := Scalar.addi v418 c1_i32_122
  let v554 : Index := Scalar.indexCast v419
  let c96_147 : Index := 96#32
  ![v554.toNat, 96]
def k0_off124 (v8 : BitVec 32) (v15 : BitVec 32) (k0_t1 : Fin (k0_t1_loop v8 v15).trips) (k0_t6 : Fin (k0_t6_loop v8 v15 k0_t1).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t6
  let v417 : BitVec 32 := Scalar.muli c4_i32_121 arg44
  let v418 : BitVec 32 := Scalar.addi v395 v417
  let v419 : BitVec 32 := Scalar.addi v418 c1_i32_122
  let v560 : Index := Scalar.indexCast v419
  let c112_148 : Index := 112#32
  ![v560.toNat, 112]
def k0_off125 (v8 : BitVec 32) (v15 : BitVec 32) (k0_t1 : Fin (k0_t1_loop v8 v15).trips) (k0_t6 : Fin (k0_t6_loop v8 v15 k0_t1).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t6
  let v417 : BitVec 32 := Scalar.muli c4_i32_121 arg44
  let v418 : BitVec 32 := Scalar.addi v395 v417
  let v419 : BitVec 32 := Scalar.addi v418 c1_i32_122
  let v566 : Index := Scalar.indexCast v419
  let c128_149 : Index := 128#32
  ![v566.toNat, 128]
def k0_off126 (v8 : BitVec 32) (v15 : BitVec 32) (k0_t1 : Fin (k0_t1_loop v8 v15).trips) (k0_t6 : Fin (k0_t6_loop v8 v15 k0_t1).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t6
  let v417 : BitVec 32 := Scalar.muli c4_i32_121 arg44
  let v418 : BitVec 32 := Scalar.addi v395 v417
  let v419 : BitVec 32 := Scalar.addi v418 c1_i32_122
  let v572 : Index := Scalar.indexCast v419
  let c144_150 : Index := 144#32
  ![v572.toNat, 144]
def k0_off127 (v8 : BitVec 32) (v15 : BitVec 32) (k0_t1 : Fin (k0_t1_loop v8 v15).trips) (k0_t6 : Fin (k0_t6_loop v8 v15 k0_t1).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t6
  let v417 : BitVec 32 := Scalar.muli c4_i32_121 arg44
  let v418 : BitVec 32 := Scalar.addi v395 v417
  let v419 : BitVec 32 := Scalar.addi v418 c1_i32_122
  let v578 : Index := Scalar.indexCast v419
  let c160_151 : Index := 160#32
  ![v578.toNat, 160]
def k0_off128 (v8 : BitVec 32) (v15 : BitVec 32) (k0_t1 : Fin (k0_t1_loop v8 v15).trips) (k0_t6 : Fin (k0_t6_loop v8 v15 k0_t1).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t6
  let v417 : BitVec 32 := Scalar.muli c4_i32_121 arg44
  let v418 : BitVec 32 := Scalar.addi v395 v417
  let v419 : BitVec 32 := Scalar.addi v418 c1_i32_122
  let v584 : Index := Scalar.indexCast v419
  let c176_152 : Index := 176#32
  ![v584.toNat, 176]
def k0_off129 (v8 : BitVec 32) (v15 : BitVec 32) (k0_t1 : Fin (k0_t1_loop v8 v15).trips) (k0_t6 : Fin (k0_t6_loop v8 v15 k0_t1).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t6
  let v417 : BitVec 32 := Scalar.muli c4_i32_121 arg44
  let v418 : BitVec 32 := Scalar.addi v395 v417
  let v419 : BitVec 32 := Scalar.addi v418 c1_i32_122
  let v590 : Index := Scalar.indexCast v419
  let c192_153 : Index := 192#32
  ![v590.toNat, 192]
def k0_off130 (v8 : BitVec 32) (v15 : BitVec 32) (k0_t1 : Fin (k0_t1_loop v8 v15).trips) (k0_t6 : Fin (k0_t6_loop v8 v15 k0_t1).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t6
  let v417 : BitVec 32 := Scalar.muli c4_i32_121 arg44
  let v418 : BitVec 32 := Scalar.addi v395 v417
  let v419 : BitVec 32 := Scalar.addi v418 c1_i32_122
  let v596 : Index := Scalar.indexCast v419
  let c208_154 : Index := 208#32
  ![v596.toNat, 208]
def k0_off131 (v8 : BitVec 32) (v15 : BitVec 32) (k0_t1 : Fin (k0_t1_loop v8 v15).trips) (k0_t6 : Fin (k0_t6_loop v8 v15 k0_t1).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t6
  let v417 : BitVec 32 := Scalar.muli c4_i32_121 arg44
  let v418 : BitVec 32 := Scalar.addi v395 v417
  let v419 : BitVec 32 := Scalar.addi v418 c1_i32_122
  let v602 : Index := Scalar.indexCast v419
  let c224_155 : Index := 224#32
  ![v602.toNat, 224]
def k0_off132 (v8 : BitVec 32) (v15 : BitVec 32) (k0_t1 : Fin (k0_t1_loop v8 v15).trips) (k0_t6 : Fin (k0_t6_loop v8 v15 k0_t1).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t6
  let v417 : BitVec 32 := Scalar.muli c4_i32_121 arg44
  let v418 : BitVec 32 := Scalar.addi v395 v417
  let v419 : BitVec 32 := Scalar.addi v418 c1_i32_122
  let v608 : Index := Scalar.indexCast v419
  let c240_156 : Index := 240#32
  ![v608.toNat, 240]
@[reducible] def k0_t7_loop (v8 : BitVec 32) (v15 : BitVec 32) (k0_t1 : Fin (k0_t1_loop v8 v15).trips) : Scf.Loop 32 :=
  let c0_i32_113 : BitVec 32 := 0#32
  let c128_i32_111 : BitVec 32 := 128#32
  let c0_i32_110 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v396 : BitVec 32 := Scalar.subi v15 v391
  let v397 : BitVec 32 := Scalar.maxsi c0_i32_110 v396
  let v398 : BitVec 32 := Scalar.minsi c128_i32_111 v397
  let c128_i32_109 : BitVec 32 := 128#32
  let c0_i32_108 : BitVec 32 := 0#32
  let c128_i32_105 : BitVec 32 := 128#32
  let v386 : BitVec 32 := Scalar.muli v385 c128_i32_105
  let v387 : BitVec 32 := Scalar.addi v24 v386
  let v392 : BitVec 32 := Scalar.maxsi v8 v387
  let v393 : BitVec 32 := Scalar.subi v392 v391
  let v394 : BitVec 32 := Scalar.maxsi c0_i32_108 v393
  let v395 : BitVec 32 := Scalar.minsi c128_i32_109 v394
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let v402 : BitVec 32 := Scalar.addi c0_i32_113 v401
  let c1_i32_116 : BitVec 32 := 1#32
  ⟨v405, v402, c1_i32_116⟩
def k0_off133 (v8 : BitVec 32) (v15 : BitVec 32) (k0_t1 : Fin (k0_t1_loop v8 v15).trips) (k0_t7 : Fin (k0_t7_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t7
  let v417 : BitVec 32 := Scalar.muli c4_i32_121 arg44
  let v418 : BitVec 32 := Scalar.addi v395 v417
  let v422 : Index := Scalar.indexCast v418
  let c0_125 : Index := 0#32
  ![v422.toNat, 0]
def k0_off134 (v8 : BitVec 32) (v15 : BitVec 32) (k0_t1 : Fin (k0_t1_loop v8 v15).trips) (k0_t7 : Fin (k0_t7_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t7
  let v417 : BitVec 32 := Scalar.muli c4_i32_121 arg44
  let v418 : BitVec 32 := Scalar.addi v395 v417
  let v428 : Index := Scalar.indexCast v418
  let c16_126 : Index := 16#32
  ![v428.toNat, 16]
def k0_off135 (v8 : BitVec 32) (v15 : BitVec 32) (k0_t1 : Fin (k0_t1_loop v8 v15).trips) (k0_t7 : Fin (k0_t7_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t7
  let v417 : BitVec 32 := Scalar.muli c4_i32_121 arg44
  let v418 : BitVec 32 := Scalar.addi v395 v417
  let v434 : Index := Scalar.indexCast v418
  let c32_127 : Index := 32#32
  ![v434.toNat, 32]
def k0_off136 (v8 : BitVec 32) (v15 : BitVec 32) (k0_t1 : Fin (k0_t1_loop v8 v15).trips) (k0_t7 : Fin (k0_t7_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t7
  let v417 : BitVec 32 := Scalar.muli c4_i32_121 arg44
  let v418 : BitVec 32 := Scalar.addi v395 v417
  let v440 : Index := Scalar.indexCast v418
  let c48_128 : Index := 48#32
  ![v440.toNat, 48]
def k0_off137 (v8 : BitVec 32) (v15 : BitVec 32) (k0_t1 : Fin (k0_t1_loop v8 v15).trips) (k0_t7 : Fin (k0_t7_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t7
  let v417 : BitVec 32 := Scalar.muli c4_i32_121 arg44
  let v418 : BitVec 32 := Scalar.addi v395 v417
  let v446 : Index := Scalar.indexCast v418
  let c64_129 : Index := 64#32
  ![v446.toNat, 64]
def k0_off138 (v8 : BitVec 32) (v15 : BitVec 32) (k0_t1 : Fin (k0_t1_loop v8 v15).trips) (k0_t7 : Fin (k0_t7_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t7
  let v417 : BitVec 32 := Scalar.muli c4_i32_121 arg44
  let v418 : BitVec 32 := Scalar.addi v395 v417
  let v452 : Index := Scalar.indexCast v418
  let c80_130 : Index := 80#32
  ![v452.toNat, 80]
def k0_off139 (v8 : BitVec 32) (v15 : BitVec 32) (k0_t1 : Fin (k0_t1_loop v8 v15).trips) (k0_t7 : Fin (k0_t7_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t7
  let v417 : BitVec 32 := Scalar.muli c4_i32_121 arg44
  let v418 : BitVec 32 := Scalar.addi v395 v417
  let v458 : Index := Scalar.indexCast v418
  let c96_131 : Index := 96#32
  ![v458.toNat, 96]
def k0_off140 (v8 : BitVec 32) (v15 : BitVec 32) (k0_t1 : Fin (k0_t1_loop v8 v15).trips) (k0_t7 : Fin (k0_t7_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t7
  let v417 : BitVec 32 := Scalar.muli c4_i32_121 arg44
  let v418 : BitVec 32 := Scalar.addi v395 v417
  let v464 : Index := Scalar.indexCast v418
  let c112_132 : Index := 112#32
  ![v464.toNat, 112]
def k0_off141 (v8 : BitVec 32) (v15 : BitVec 32) (k0_t1 : Fin (k0_t1_loop v8 v15).trips) (k0_t7 : Fin (k0_t7_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t7
  let v417 : BitVec 32 := Scalar.muli c4_i32_121 arg44
  let v418 : BitVec 32 := Scalar.addi v395 v417
  let v470 : Index := Scalar.indexCast v418
  let c128_133 : Index := 128#32
  ![v470.toNat, 128]
def k0_off142 (v8 : BitVec 32) (v15 : BitVec 32) (k0_t1 : Fin (k0_t1_loop v8 v15).trips) (k0_t7 : Fin (k0_t7_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t7
  let v417 : BitVec 32 := Scalar.muli c4_i32_121 arg44
  let v418 : BitVec 32 := Scalar.addi v395 v417
  let v476 : Index := Scalar.indexCast v418
  let c144_134 : Index := 144#32
  ![v476.toNat, 144]
def k0_off143 (v8 : BitVec 32) (v15 : BitVec 32) (k0_t1 : Fin (k0_t1_loop v8 v15).trips) (k0_t7 : Fin (k0_t7_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t7
  let v417 : BitVec 32 := Scalar.muli c4_i32_121 arg44
  let v418 : BitVec 32 := Scalar.addi v395 v417
  let v482 : Index := Scalar.indexCast v418
  let c160_135 : Index := 160#32
  ![v482.toNat, 160]
def k0_off144 (v8 : BitVec 32) (v15 : BitVec 32) (k0_t1 : Fin (k0_t1_loop v8 v15).trips) (k0_t7 : Fin (k0_t7_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t7
  let v417 : BitVec 32 := Scalar.muli c4_i32_121 arg44
  let v418 : BitVec 32 := Scalar.addi v395 v417
  let v488 : Index := Scalar.indexCast v418
  let c176_136 : Index := 176#32
  ![v488.toNat, 176]
def k0_off145 (v8 : BitVec 32) (v15 : BitVec 32) (k0_t1 : Fin (k0_t1_loop v8 v15).trips) (k0_t7 : Fin (k0_t7_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t7
  let v417 : BitVec 32 := Scalar.muli c4_i32_121 arg44
  let v418 : BitVec 32 := Scalar.addi v395 v417
  let v494 : Index := Scalar.indexCast v418
  let c192_137 : Index := 192#32
  ![v494.toNat, 192]
def k0_off146 (v8 : BitVec 32) (v15 : BitVec 32) (k0_t1 : Fin (k0_t1_loop v8 v15).trips) (k0_t7 : Fin (k0_t7_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t7
  let v417 : BitVec 32 := Scalar.muli c4_i32_121 arg44
  let v418 : BitVec 32 := Scalar.addi v395 v417
  let v500 : Index := Scalar.indexCast v418
  let c208_138 : Index := 208#32
  ![v500.toNat, 208]
def k0_off147 (v8 : BitVec 32) (v15 : BitVec 32) (k0_t1 : Fin (k0_t1_loop v8 v15).trips) (k0_t7 : Fin (k0_t7_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t7
  let v417 : BitVec 32 := Scalar.muli c4_i32_121 arg44
  let v418 : BitVec 32 := Scalar.addi v395 v417
  let v506 : Index := Scalar.indexCast v418
  let c224_139 : Index := 224#32
  ![v506.toNat, 224]
def k0_off148 (v8 : BitVec 32) (v15 : BitVec 32) (k0_t1 : Fin (k0_t1_loop v8 v15).trips) (k0_t7 : Fin (k0_t7_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t7
  let v417 : BitVec 32 := Scalar.muli c4_i32_121 arg44
  let v418 : BitVec 32 := Scalar.addi v395 v417
  let v512 : Index := Scalar.indexCast v418
  let c240_140 : Index := 240#32
  ![v512.toNat, 240]
def k0_off149 (v8 : BitVec 32) (v15 : BitVec 32) (k0_t1 : Fin (k0_t1_loop v8 v15).trips) (k0_t7 : Fin (k0_t7_loop v8 v15 k0_t1).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t7
  let v417 : BitVec 32 := Scalar.muli c4_i32_121 arg44
  let v418 : BitVec 32 := Scalar.addi v395 v417
  let v419 : BitVec 32 := Scalar.addi v418 c1_i32_122
  let v518 : Index := Scalar.indexCast v419
  let c0_141 : Index := 0#32
  ![v518.toNat, 0]
def k0_off150 (v8 : BitVec 32) (v15 : BitVec 32) (k0_t1 : Fin (k0_t1_loop v8 v15).trips) (k0_t7 : Fin (k0_t7_loop v8 v15 k0_t1).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t7
  let v417 : BitVec 32 := Scalar.muli c4_i32_121 arg44
  let v418 : BitVec 32 := Scalar.addi v395 v417
  let v419 : BitVec 32 := Scalar.addi v418 c1_i32_122
  let v524 : Index := Scalar.indexCast v419
  let c16_142 : Index := 16#32
  ![v524.toNat, 16]
def k0_off151 (v8 : BitVec 32) (v15 : BitVec 32) (k0_t1 : Fin (k0_t1_loop v8 v15).trips) (k0_t7 : Fin (k0_t7_loop v8 v15 k0_t1).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t7
  let v417 : BitVec 32 := Scalar.muli c4_i32_121 arg44
  let v418 : BitVec 32 := Scalar.addi v395 v417
  let v419 : BitVec 32 := Scalar.addi v418 c1_i32_122
  let v530 : Index := Scalar.indexCast v419
  let c32_143 : Index := 32#32
  ![v530.toNat, 32]
def k0_off152 (v8 : BitVec 32) (v15 : BitVec 32) (k0_t1 : Fin (k0_t1_loop v8 v15).trips) (k0_t7 : Fin (k0_t7_loop v8 v15 k0_t1).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t7
  let v417 : BitVec 32 := Scalar.muli c4_i32_121 arg44
  let v418 : BitVec 32 := Scalar.addi v395 v417
  let v419 : BitVec 32 := Scalar.addi v418 c1_i32_122
  let v536 : Index := Scalar.indexCast v419
  let c48_144 : Index := 48#32
  ![v536.toNat, 48]
def k0_off153 (v8 : BitVec 32) (v15 : BitVec 32) (k0_t1 : Fin (k0_t1_loop v8 v15).trips) (k0_t7 : Fin (k0_t7_loop v8 v15 k0_t1).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t7
  let v417 : BitVec 32 := Scalar.muli c4_i32_121 arg44
  let v418 : BitVec 32 := Scalar.addi v395 v417
  let v419 : BitVec 32 := Scalar.addi v418 c1_i32_122
  let v542 : Index := Scalar.indexCast v419
  let c64_145 : Index := 64#32
  ![v542.toNat, 64]
def k0_off154 (v8 : BitVec 32) (v15 : BitVec 32) (k0_t1 : Fin (k0_t1_loop v8 v15).trips) (k0_t7 : Fin (k0_t7_loop v8 v15 k0_t1).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t7
  let v417 : BitVec 32 := Scalar.muli c4_i32_121 arg44
  let v418 : BitVec 32 := Scalar.addi v395 v417
  let v419 : BitVec 32 := Scalar.addi v418 c1_i32_122
  let v548 : Index := Scalar.indexCast v419
  let c80_146 : Index := 80#32
  ![v548.toNat, 80]
def k0_off155 (v8 : BitVec 32) (v15 : BitVec 32) (k0_t1 : Fin (k0_t1_loop v8 v15).trips) (k0_t7 : Fin (k0_t7_loop v8 v15 k0_t1).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t7
  let v417 : BitVec 32 := Scalar.muli c4_i32_121 arg44
  let v418 : BitVec 32 := Scalar.addi v395 v417
  let v419 : BitVec 32 := Scalar.addi v418 c1_i32_122
  let v554 : Index := Scalar.indexCast v419
  let c96_147 : Index := 96#32
  ![v554.toNat, 96]
def k0_off156 (v8 : BitVec 32) (v15 : BitVec 32) (k0_t1 : Fin (k0_t1_loop v8 v15).trips) (k0_t7 : Fin (k0_t7_loop v8 v15 k0_t1).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t7
  let v417 : BitVec 32 := Scalar.muli c4_i32_121 arg44
  let v418 : BitVec 32 := Scalar.addi v395 v417
  let v419 : BitVec 32 := Scalar.addi v418 c1_i32_122
  let v560 : Index := Scalar.indexCast v419
  let c112_148 : Index := 112#32
  ![v560.toNat, 112]
def k0_off157 (v8 : BitVec 32) (v15 : BitVec 32) (k0_t1 : Fin (k0_t1_loop v8 v15).trips) (k0_t7 : Fin (k0_t7_loop v8 v15 k0_t1).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t7
  let v417 : BitVec 32 := Scalar.muli c4_i32_121 arg44
  let v418 : BitVec 32 := Scalar.addi v395 v417
  let v419 : BitVec 32 := Scalar.addi v418 c1_i32_122
  let v566 : Index := Scalar.indexCast v419
  let c128_149 : Index := 128#32
  ![v566.toNat, 128]
def k0_off158 (v8 : BitVec 32) (v15 : BitVec 32) (k0_t1 : Fin (k0_t1_loop v8 v15).trips) (k0_t7 : Fin (k0_t7_loop v8 v15 k0_t1).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t7
  let v417 : BitVec 32 := Scalar.muli c4_i32_121 arg44
  let v418 : BitVec 32 := Scalar.addi v395 v417
  let v419 : BitVec 32 := Scalar.addi v418 c1_i32_122
  let v572 : Index := Scalar.indexCast v419
  let c144_150 : Index := 144#32
  ![v572.toNat, 144]
def k0_off159 (v8 : BitVec 32) (v15 : BitVec 32) (k0_t1 : Fin (k0_t1_loop v8 v15).trips) (k0_t7 : Fin (k0_t7_loop v8 v15 k0_t1).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t7
  let v417 : BitVec 32 := Scalar.muli c4_i32_121 arg44
  let v418 : BitVec 32 := Scalar.addi v395 v417
  let v419 : BitVec 32 := Scalar.addi v418 c1_i32_122
  let v578 : Index := Scalar.indexCast v419
  let c160_151 : Index := 160#32
  ![v578.toNat, 160]
def k0_off160 (v8 : BitVec 32) (v15 : BitVec 32) (k0_t1 : Fin (k0_t1_loop v8 v15).trips) (k0_t7 : Fin (k0_t7_loop v8 v15 k0_t1).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t7
  let v417 : BitVec 32 := Scalar.muli c4_i32_121 arg44
  let v418 : BitVec 32 := Scalar.addi v395 v417
  let v419 : BitVec 32 := Scalar.addi v418 c1_i32_122
  let v584 : Index := Scalar.indexCast v419
  let c176_152 : Index := 176#32
  ![v584.toNat, 176]
def k0_off161 (v8 : BitVec 32) (v15 : BitVec 32) (k0_t1 : Fin (k0_t1_loop v8 v15).trips) (k0_t7 : Fin (k0_t7_loop v8 v15 k0_t1).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t7
  let v417 : BitVec 32 := Scalar.muli c4_i32_121 arg44
  let v418 : BitVec 32 := Scalar.addi v395 v417
  let v419 : BitVec 32 := Scalar.addi v418 c1_i32_122
  let v590 : Index := Scalar.indexCast v419
  let c192_153 : Index := 192#32
  ![v590.toNat, 192]
def k0_off162 (v8 : BitVec 32) (v15 : BitVec 32) (k0_t1 : Fin (k0_t1_loop v8 v15).trips) (k0_t7 : Fin (k0_t7_loop v8 v15 k0_t1).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t7
  let v417 : BitVec 32 := Scalar.muli c4_i32_121 arg44
  let v418 : BitVec 32 := Scalar.addi v395 v417
  let v419 : BitVec 32 := Scalar.addi v418 c1_i32_122
  let v596 : Index := Scalar.indexCast v419
  let c208_154 : Index := 208#32
  ![v596.toNat, 208]
def k0_off163 (v8 : BitVec 32) (v15 : BitVec 32) (k0_t1 : Fin (k0_t1_loop v8 v15).trips) (k0_t7 : Fin (k0_t7_loop v8 v15 k0_t1).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t7
  let v417 : BitVec 32 := Scalar.muli c4_i32_121 arg44
  let v418 : BitVec 32 := Scalar.addi v395 v417
  let v419 : BitVec 32 := Scalar.addi v418 c1_i32_122
  let v602 : Index := Scalar.indexCast v419
  let c224_155 : Index := 224#32
  ![v602.toNat, 224]
def k0_off164 (v8 : BitVec 32) (v15 : BitVec 32) (k0_t1 : Fin (k0_t1_loop v8 v15).trips) (k0_t7 : Fin (k0_t7_loop v8 v15 k0_t1).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t7
  let v417 : BitVec 32 := Scalar.muli c4_i32_121 arg44
  let v418 : BitVec 32 := Scalar.addi v395 v417
  let v419 : BitVec 32 := Scalar.addi v418 c1_i32_122
  let v608 : Index := Scalar.indexCast v419
  let c240_156 : Index := 240#32
  ![v608.toNat, 240]
@[reducible] def k0_t8_loop (v8 : BitVec 32) (v15 : BitVec 32) (k0_t1 : Fin (k0_t1_loop v8 v15).trips) : Scf.Loop 32 :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_119 : BitVec 32 := 1#32
  ⟨v409, v414, c1_i32_119⟩
def k0_off165 (v8 : BitVec 32) (v15 : BitVec 32) (k0_t1 : Fin (k0_t1_loop v8 v15).trips) (k0_t8 : Fin (k0_t8_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t8
  let v417 : Index := Scalar.indexCast arg44
  let c0_121 : Index := 0#32
  ![v417.toNat, 0]
def k0_off166 (v8 : BitVec 32) (v15 : BitVec 32) (k0_t1 : Fin (k0_t1_loop v8 v15).trips) (k0_t8 : Fin (k0_t8_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t8
  let v423 : Index := Scalar.indexCast arg44
  let c16_122 : Index := 16#32
  ![v423.toNat, 16]
def k0_off167 (v8 : BitVec 32) (v15 : BitVec 32) (k0_t1 : Fin (k0_t1_loop v8 v15).trips) (k0_t8 : Fin (k0_t8_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t8
  let v429 : Index := Scalar.indexCast arg44
  let c32_123 : Index := 32#32
  ![v429.toNat, 32]
def k0_off168 (v8 : BitVec 32) (v15 : BitVec 32) (k0_t1 : Fin (k0_t1_loop v8 v15).trips) (k0_t8 : Fin (k0_t8_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t8
  let v435 : Index := Scalar.indexCast arg44
  let c48_124 : Index := 48#32
  ![v435.toNat, 48]
def k0_off169 (v8 : BitVec 32) (v15 : BitVec 32) (k0_t1 : Fin (k0_t1_loop v8 v15).trips) (k0_t8 : Fin (k0_t8_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t8
  let v441 : Index := Scalar.indexCast arg44
  let c64_125 : Index := 64#32
  ![v441.toNat, 64]
def k0_off170 (v8 : BitVec 32) (v15 : BitVec 32) (k0_t1 : Fin (k0_t1_loop v8 v15).trips) (k0_t8 : Fin (k0_t8_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t8
  let v447 : Index := Scalar.indexCast arg44
  let c80_126 : Index := 80#32
  ![v447.toNat, 80]
def k0_off171 (v8 : BitVec 32) (v15 : BitVec 32) (k0_t1 : Fin (k0_t1_loop v8 v15).trips) (k0_t8 : Fin (k0_t8_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t8
  let v453 : Index := Scalar.indexCast arg44
  let c96_127 : Index := 96#32
  ![v453.toNat, 96]
def k0_off172 (v8 : BitVec 32) (v15 : BitVec 32) (k0_t1 : Fin (k0_t1_loop v8 v15).trips) (k0_t8 : Fin (k0_t8_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t8
  let v459 : Index := Scalar.indexCast arg44
  let c112_128 : Index := 112#32
  ![v459.toNat, 112]
def k0_off173 (v8 : BitVec 32) (v15 : BitVec 32) (k0_t1 : Fin (k0_t1_loop v8 v15).trips) (k0_t8 : Fin (k0_t8_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t8
  let v465 : Index := Scalar.indexCast arg44
  let c128_129 : Index := 128#32
  ![v465.toNat, 128]
def k0_off174 (v8 : BitVec 32) (v15 : BitVec 32) (k0_t1 : Fin (k0_t1_loop v8 v15).trips) (k0_t8 : Fin (k0_t8_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t8
  let v471 : Index := Scalar.indexCast arg44
  let c144_130 : Index := 144#32
  ![v471.toNat, 144]
def k0_off175 (v8 : BitVec 32) (v15 : BitVec 32) (k0_t1 : Fin (k0_t1_loop v8 v15).trips) (k0_t8 : Fin (k0_t8_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t8
  let v477 : Index := Scalar.indexCast arg44
  let c160_131 : Index := 160#32
  ![v477.toNat, 160]
def k0_off176 (v8 : BitVec 32) (v15 : BitVec 32) (k0_t1 : Fin (k0_t1_loop v8 v15).trips) (k0_t8 : Fin (k0_t8_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t8
  let v483 : Index := Scalar.indexCast arg44
  let c176_132 : Index := 176#32
  ![v483.toNat, 176]
def k0_off177 (v8 : BitVec 32) (v15 : BitVec 32) (k0_t1 : Fin (k0_t1_loop v8 v15).trips) (k0_t8 : Fin (k0_t8_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t8
  let v489 : Index := Scalar.indexCast arg44
  let c192_133 : Index := 192#32
  ![v489.toNat, 192]
def k0_off178 (v8 : BitVec 32) (v15 : BitVec 32) (k0_t1 : Fin (k0_t1_loop v8 v15).trips) (k0_t8 : Fin (k0_t8_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t8
  let v495 : Index := Scalar.indexCast arg44
  let c208_134 : Index := 208#32
  ![v495.toNat, 208]
def k0_off179 (v8 : BitVec 32) (v15 : BitVec 32) (k0_t1 : Fin (k0_t1_loop v8 v15).trips) (k0_t8 : Fin (k0_t8_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t8
  let v501 : Index := Scalar.indexCast arg44
  let c224_135 : Index := 224#32
  ![v501.toNat, 224]
def k0_off180 (v8 : BitVec 32) (v15 : BitVec 32) (k0_t1 : Fin (k0_t1_loop v8 v15).trips) (k0_t8 : Fin (k0_t8_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t8
  let v507 : Index := Scalar.indexCast arg44
  let c240_136 : Index := 240#32
  ![v507.toNat, 240]
@[reducible] def k0_t9_loop (v8 : BitVec 32) (v15 : BitVec 32) (k0_t1 : Fin (k0_t1_loop v8 v15).trips) : Scf.Loop 32 :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let v411 : BitVec 32 := Scalar.addi v409 v410
  let c1_i32_120 : BitVec 32 := 1#32
  ⟨v414, v411, c1_i32_120⟩
def k0_off181 (v8 : BitVec 32) (v15 : BitVec 32) (k0_t1 : Fin (k0_t1_loop v8 v15).trips) (k0_t9 : Fin (k0_t9_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t9
  let v417 : Index := Scalar.indexCast arg44
  let c0_121 : Index := 0#32
  ![v417.toNat, 0]
def k0_off182 (v8 : BitVec 32) (v15 : BitVec 32) (k0_t1 : Fin (k0_t1_loop v8 v15).trips) (k0_t9 : Fin (k0_t9_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t9
  let v423 : Index := Scalar.indexCast arg44
  let c16_122 : Index := 16#32
  ![v423.toNat, 16]
def k0_off183 (v8 : BitVec 32) (v15 : BitVec 32) (k0_t1 : Fin (k0_t1_loop v8 v15).trips) (k0_t9 : Fin (k0_t9_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t9
  let v429 : Index := Scalar.indexCast arg44
  let c32_123 : Index := 32#32
  ![v429.toNat, 32]
def k0_off184 (v8 : BitVec 32) (v15 : BitVec 32) (k0_t1 : Fin (k0_t1_loop v8 v15).trips) (k0_t9 : Fin (k0_t9_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t9
  let v435 : Index := Scalar.indexCast arg44
  let c48_124 : Index := 48#32
  ![v435.toNat, 48]
def k0_off185 (v8 : BitVec 32) (v15 : BitVec 32) (k0_t1 : Fin (k0_t1_loop v8 v15).trips) (k0_t9 : Fin (k0_t9_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t9
  let v441 : Index := Scalar.indexCast arg44
  let c64_125 : Index := 64#32
  ![v441.toNat, 64]
def k0_off186 (v8 : BitVec 32) (v15 : BitVec 32) (k0_t1 : Fin (k0_t1_loop v8 v15).trips) (k0_t9 : Fin (k0_t9_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t9
  let v447 : Index := Scalar.indexCast arg44
  let c80_126 : Index := 80#32
  ![v447.toNat, 80]
def k0_off187 (v8 : BitVec 32) (v15 : BitVec 32) (k0_t1 : Fin (k0_t1_loop v8 v15).trips) (k0_t9 : Fin (k0_t9_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t9
  let v453 : Index := Scalar.indexCast arg44
  let c96_127 : Index := 96#32
  ![v453.toNat, 96]
def k0_off188 (v8 : BitVec 32) (v15 : BitVec 32) (k0_t1 : Fin (k0_t1_loop v8 v15).trips) (k0_t9 : Fin (k0_t9_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t9
  let v459 : Index := Scalar.indexCast arg44
  let c112_128 : Index := 112#32
  ![v459.toNat, 112]
def k0_off189 (v8 : BitVec 32) (v15 : BitVec 32) (k0_t1 : Fin (k0_t1_loop v8 v15).trips) (k0_t9 : Fin (k0_t9_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t9
  let v465 : Index := Scalar.indexCast arg44
  let c128_129 : Index := 128#32
  ![v465.toNat, 128]
def k0_off190 (v8 : BitVec 32) (v15 : BitVec 32) (k0_t1 : Fin (k0_t1_loop v8 v15).trips) (k0_t9 : Fin (k0_t9_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t9
  let v471 : Index := Scalar.indexCast arg44
  let c144_130 : Index := 144#32
  ![v471.toNat, 144]
def k0_off191 (v8 : BitVec 32) (v15 : BitVec 32) (k0_t1 : Fin (k0_t1_loop v8 v15).trips) (k0_t9 : Fin (k0_t9_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t9
  let v477 : Index := Scalar.indexCast arg44
  let c160_131 : Index := 160#32
  ![v477.toNat, 160]
def k0_off192 (v8 : BitVec 32) (v15 : BitVec 32) (k0_t1 : Fin (k0_t1_loop v8 v15).trips) (k0_t9 : Fin (k0_t9_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t9
  let v483 : Index := Scalar.indexCast arg44
  let c176_132 : Index := 176#32
  ![v483.toNat, 176]
def k0_off193 (v8 : BitVec 32) (v15 : BitVec 32) (k0_t1 : Fin (k0_t1_loop v8 v15).trips) (k0_t9 : Fin (k0_t9_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t9
  let v489 : Index := Scalar.indexCast arg44
  let c192_133 : Index := 192#32
  ![v489.toNat, 192]
def k0_off194 (v8 : BitVec 32) (v15 : BitVec 32) (k0_t1 : Fin (k0_t1_loop v8 v15).trips) (k0_t9 : Fin (k0_t9_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t9
  let v495 : Index := Scalar.indexCast arg44
  let c208_134 : Index := 208#32
  ![v495.toNat, 208]
def k0_off195 (v8 : BitVec 32) (v15 : BitVec 32) (k0_t1 : Fin (k0_t1_loop v8 v15).trips) (k0_t9 : Fin (k0_t9_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t9
  let v501 : Index := Scalar.indexCast arg44
  let c224_135 : Index := 224#32
  ![v501.toNat, 224]
def k0_off196 (v8 : BitVec 32) (v15 : BitVec 32) (k0_t1 : Fin (k0_t1_loop v8 v15).trips) (k0_t9 : Fin (k0_t9_loop v8 v15 k0_t1).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let c1_i32_27 : BitVec 32 := 1#32
  let arg11 : BitVec 32 := Scf.iv c0_i32_25 c1_i32_27 k0_t1
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t9
  let v507 : Index := Scalar.indexCast arg44
  let c240_136 : Index := 240#32
  ![v507.toNat, 240]
@[reducible] def k0_t10_loop (v8 : BitVec 32) (v15 : BitVec 32) : Scf.Loop 32 :=
  let c0_i32_25 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let v72 : BitVec 32 := Scalar.addi c0_i32_25 v71
  let c1_i32_28 : BitVec 32 := 1#32
  ⟨v75, v72, c1_i32_28⟩
def k0_mult6 (v8 : BitVec 32) (v15 : BitVec 32) (k0_t10 : Fin (k0_t10_loop v8 v15).trips) : BitVec 32 :=
  let c3_i32 : BitVec 32 := 3#32
  let v23 : BitVec 32 := Scalar.shrsi v8 c3_i32
  let c3_i32_4 : BitVec 32 := 3#32
  let v24 : BitVec 32 := Scalar.shli v23 c3_i32_4
  let c2_i32_71 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v333 : BitVec 32 := Scalar.muli c2_i32_71 arg11
  let c1_i32_72 : BitVec 32 := 1#32
  let v334 : BitVec 32 := Scalar.addi v333 c1_i32_72
  let c128_i32_73 : BitVec 32 := 128#32
  let v335 : BitVec 32 := Scalar.muli v334 c128_i32_73
  let v336 : BitVec 32 := Scalar.addi v24 v335
  let c49872_i32_74 : BitVec 32 := 49872#32
  let v337 : BitVec 32 := Scalar.minsi v336 c49872_i32_74
  v337
def k0_off197 (v8 : BitVec 32) (v15 : BitVec 32) (k0_t10 : Fin (k0_t10_loop v8 v15).trips) : Fin 2 → Nat :=
  let c3_i32 : BitVec 32 := 3#32
  let v23 : BitVec 32 := Scalar.shrsi v8 c3_i32
  let c3_i32_4 : BitVec 32 := 3#32
  let v24 : BitVec 32 := Scalar.shli v23 c3_i32_4
  let c2_i32_71 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v333 : BitVec 32 := Scalar.muli c2_i32_71 arg11
  let c1_i32_72 : BitVec 32 := 1#32
  let v334 : BitVec 32 := Scalar.addi v333 c1_i32_72
  let c128_i32_73 : BitVec 32 := 128#32
  let v335 : BitVec 32 := Scalar.muli v334 c128_i32_73
  let v336 : BitVec 32 := Scalar.addi v24 v335
  let c49872_i32_74 : BitVec 32 := 49872#32
  let v337 : BitVec 32 := Scalar.minsi v336 c49872_i32_74
  let v338 : BitVec 32 := v337
  let c0_i32_75 : BitVec 32 := 0#32
  ![v338.toNat, 0]
def k0_mult7 (v8 : BitVec 32) (v15 : BitVec 32) (k0_t10 : Fin (k0_t10_loop v8 v15).trips) : BitVec 32 :=
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  v346
@[reducible] def k0_t11_loop (v8 : BitVec 32) (v15 : BitVec 32) (k0_t10 : Fin (k0_t10_loop v8 v15).trips) : Scf.Loop 32 :=
  let c0_i32_86 : BitVec 32 := 0#32
  let c128_i32_84 : BitVec 32 := 128#32
  let c0_i32_83 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v352 : BitVec 32 := Scalar.subi v15 v347
  let v353 : BitVec 32 := Scalar.maxsi c0_i32_83 v352
  let v354 : BitVec 32 := Scalar.minsi c128_i32_84 v353
  let c128_i32_82 : BitVec 32 := 128#32
  let c0_i32_81 : BitVec 32 := 0#32
  let c128_i32_78 : BitVec 32 := 128#32
  let v342 : BitVec 32 := Scalar.muli v341 c128_i32_78
  let v343 : BitVec 32 := Scalar.addi v24 v342
  let v348 : BitVec 32 := Scalar.maxsi v8 v343
  let v349 : BitVec 32 := Scalar.subi v348 v347
  let v350 : BitVec 32 := Scalar.maxsi c0_i32_81 v349
  let v351 : BitVec 32 := Scalar.minsi c128_i32_82 v350
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_88 : BitVec 32 := 1#32
  ⟨c0_i32_86, v361, c1_i32_88⟩
def k0_off198 (v8 : BitVec 32) (v15 : BitVec 32) (k0_t10 : Fin (k0_t10_loop v8 v15).trips) (k0_t11 : Fin (k0_t11_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t11
  let v417 : BitVec 32 := Scalar.muli c4_i32_121 arg44
  let v418 : BitVec 32 := Scalar.addi v351 v417
  let v422 : Index := Scalar.indexCast v418
  let c0_125 : Index := 0#32
  ![v422.toNat, 0]
def k0_off199 (v8 : BitVec 32) (v15 : BitVec 32) (k0_t10 : Fin (k0_t10_loop v8 v15).trips) (k0_t11 : Fin (k0_t11_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t11
  let v417 : BitVec 32 := Scalar.muli c4_i32_121 arg44
  let v418 : BitVec 32 := Scalar.addi v351 v417
  let v428 : Index := Scalar.indexCast v418
  let c16_126 : Index := 16#32
  ![v428.toNat, 16]
def k0_off200 (v8 : BitVec 32) (v15 : BitVec 32) (k0_t10 : Fin (k0_t10_loop v8 v15).trips) (k0_t11 : Fin (k0_t11_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t11
  let v417 : BitVec 32 := Scalar.muli c4_i32_121 arg44
  let v418 : BitVec 32 := Scalar.addi v351 v417
  let v434 : Index := Scalar.indexCast v418
  let c32_127 : Index := 32#32
  ![v434.toNat, 32]
def k0_off201 (v8 : BitVec 32) (v15 : BitVec 32) (k0_t10 : Fin (k0_t10_loop v8 v15).trips) (k0_t11 : Fin (k0_t11_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t11
  let v417 : BitVec 32 := Scalar.muli c4_i32_121 arg44
  let v418 : BitVec 32 := Scalar.addi v351 v417
  let v440 : Index := Scalar.indexCast v418
  let c48_128 : Index := 48#32
  ![v440.toNat, 48]
def k0_off202 (v8 : BitVec 32) (v15 : BitVec 32) (k0_t10 : Fin (k0_t10_loop v8 v15).trips) (k0_t11 : Fin (k0_t11_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t11
  let v417 : BitVec 32 := Scalar.muli c4_i32_121 arg44
  let v418 : BitVec 32 := Scalar.addi v351 v417
  let v446 : Index := Scalar.indexCast v418
  let c64_129 : Index := 64#32
  ![v446.toNat, 64]
def k0_off203 (v8 : BitVec 32) (v15 : BitVec 32) (k0_t10 : Fin (k0_t10_loop v8 v15).trips) (k0_t11 : Fin (k0_t11_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t11
  let v417 : BitVec 32 := Scalar.muli c4_i32_121 arg44
  let v418 : BitVec 32 := Scalar.addi v351 v417
  let v452 : Index := Scalar.indexCast v418
  let c80_130 : Index := 80#32
  ![v452.toNat, 80]
def k0_off204 (v8 : BitVec 32) (v15 : BitVec 32) (k0_t10 : Fin (k0_t10_loop v8 v15).trips) (k0_t11 : Fin (k0_t11_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t11
  let v417 : BitVec 32 := Scalar.muli c4_i32_121 arg44
  let v418 : BitVec 32 := Scalar.addi v351 v417
  let v458 : Index := Scalar.indexCast v418
  let c96_131 : Index := 96#32
  ![v458.toNat, 96]
def k0_off205 (v8 : BitVec 32) (v15 : BitVec 32) (k0_t10 : Fin (k0_t10_loop v8 v15).trips) (k0_t11 : Fin (k0_t11_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t11
  let v417 : BitVec 32 := Scalar.muli c4_i32_121 arg44
  let v418 : BitVec 32 := Scalar.addi v351 v417
  let v464 : Index := Scalar.indexCast v418
  let c112_132 : Index := 112#32
  ![v464.toNat, 112]
def k0_off206 (v8 : BitVec 32) (v15 : BitVec 32) (k0_t10 : Fin (k0_t10_loop v8 v15).trips) (k0_t11 : Fin (k0_t11_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t11
  let v417 : BitVec 32 := Scalar.muli c4_i32_121 arg44
  let v418 : BitVec 32 := Scalar.addi v351 v417
  let v470 : Index := Scalar.indexCast v418
  let c128_133 : Index := 128#32
  ![v470.toNat, 128]
def k0_off207 (v8 : BitVec 32) (v15 : BitVec 32) (k0_t10 : Fin (k0_t10_loop v8 v15).trips) (k0_t11 : Fin (k0_t11_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t11
  let v417 : BitVec 32 := Scalar.muli c4_i32_121 arg44
  let v418 : BitVec 32 := Scalar.addi v351 v417
  let v476 : Index := Scalar.indexCast v418
  let c144_134 : Index := 144#32
  ![v476.toNat, 144]
def k0_off208 (v8 : BitVec 32) (v15 : BitVec 32) (k0_t10 : Fin (k0_t10_loop v8 v15).trips) (k0_t11 : Fin (k0_t11_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t11
  let v417 : BitVec 32 := Scalar.muli c4_i32_121 arg44
  let v418 : BitVec 32 := Scalar.addi v351 v417
  let v482 : Index := Scalar.indexCast v418
  let c160_135 : Index := 160#32
  ![v482.toNat, 160]
def k0_off209 (v8 : BitVec 32) (v15 : BitVec 32) (k0_t10 : Fin (k0_t10_loop v8 v15).trips) (k0_t11 : Fin (k0_t11_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t11
  let v417 : BitVec 32 := Scalar.muli c4_i32_121 arg44
  let v418 : BitVec 32 := Scalar.addi v351 v417
  let v488 : Index := Scalar.indexCast v418
  let c176_136 : Index := 176#32
  ![v488.toNat, 176]
def k0_off210 (v8 : BitVec 32) (v15 : BitVec 32) (k0_t10 : Fin (k0_t10_loop v8 v15).trips) (k0_t11 : Fin (k0_t11_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t11
  let v417 : BitVec 32 := Scalar.muli c4_i32_121 arg44
  let v418 : BitVec 32 := Scalar.addi v351 v417
  let v494 : Index := Scalar.indexCast v418
  let c192_137 : Index := 192#32
  ![v494.toNat, 192]
def k0_off211 (v8 : BitVec 32) (v15 : BitVec 32) (k0_t10 : Fin (k0_t10_loop v8 v15).trips) (k0_t11 : Fin (k0_t11_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t11
  let v417 : BitVec 32 := Scalar.muli c4_i32_121 arg44
  let v418 : BitVec 32 := Scalar.addi v351 v417
  let v500 : Index := Scalar.indexCast v418
  let c208_138 : Index := 208#32
  ![v500.toNat, 208]
def k0_off212 (v8 : BitVec 32) (v15 : BitVec 32) (k0_t10 : Fin (k0_t10_loop v8 v15).trips) (k0_t11 : Fin (k0_t11_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t11
  let v417 : BitVec 32 := Scalar.muli c4_i32_121 arg44
  let v418 : BitVec 32 := Scalar.addi v351 v417
  let v506 : Index := Scalar.indexCast v418
  let c224_139 : Index := 224#32
  ![v506.toNat, 224]
def k0_off213 (v8 : BitVec 32) (v15 : BitVec 32) (k0_t10 : Fin (k0_t10_loop v8 v15).trips) (k0_t11 : Fin (k0_t11_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t11
  let v417 : BitVec 32 := Scalar.muli c4_i32_121 arg44
  let v418 : BitVec 32 := Scalar.addi v351 v417
  let v512 : Index := Scalar.indexCast v418
  let c240_140 : Index := 240#32
  ![v512.toNat, 240]
def k0_off214 (v8 : BitVec 32) (v15 : BitVec 32) (k0_t10 : Fin (k0_t10_loop v8 v15).trips) (k0_t11 : Fin (k0_t11_loop v8 v15 k0_t10).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t11
  let v417 : BitVec 32 := Scalar.muli c4_i32_121 arg44
  let v418 : BitVec 32 := Scalar.addi v351 v417
  let v419 : BitVec 32 := Scalar.addi v418 c1_i32_122
  let v518 : Index := Scalar.indexCast v419
  let c0_141 : Index := 0#32
  ![v518.toNat, 0]
def k0_off215 (v8 : BitVec 32) (v15 : BitVec 32) (k0_t10 : Fin (k0_t10_loop v8 v15).trips) (k0_t11 : Fin (k0_t11_loop v8 v15 k0_t10).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t11
  let v417 : BitVec 32 := Scalar.muli c4_i32_121 arg44
  let v418 : BitVec 32 := Scalar.addi v351 v417
  let v419 : BitVec 32 := Scalar.addi v418 c1_i32_122
  let v524 : Index := Scalar.indexCast v419
  let c16_142 : Index := 16#32
  ![v524.toNat, 16]
def k0_off216 (v8 : BitVec 32) (v15 : BitVec 32) (k0_t10 : Fin (k0_t10_loop v8 v15).trips) (k0_t11 : Fin (k0_t11_loop v8 v15 k0_t10).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t11
  let v417 : BitVec 32 := Scalar.muli c4_i32_121 arg44
  let v418 : BitVec 32 := Scalar.addi v351 v417
  let v419 : BitVec 32 := Scalar.addi v418 c1_i32_122
  let v530 : Index := Scalar.indexCast v419
  let c32_143 : Index := 32#32
  ![v530.toNat, 32]
def k0_off217 (v8 : BitVec 32) (v15 : BitVec 32) (k0_t10 : Fin (k0_t10_loop v8 v15).trips) (k0_t11 : Fin (k0_t11_loop v8 v15 k0_t10).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t11
  let v417 : BitVec 32 := Scalar.muli c4_i32_121 arg44
  let v418 : BitVec 32 := Scalar.addi v351 v417
  let v419 : BitVec 32 := Scalar.addi v418 c1_i32_122
  let v536 : Index := Scalar.indexCast v419
  let c48_144 : Index := 48#32
  ![v536.toNat, 48]
def k0_off218 (v8 : BitVec 32) (v15 : BitVec 32) (k0_t10 : Fin (k0_t10_loop v8 v15).trips) (k0_t11 : Fin (k0_t11_loop v8 v15 k0_t10).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t11
  let v417 : BitVec 32 := Scalar.muli c4_i32_121 arg44
  let v418 : BitVec 32 := Scalar.addi v351 v417
  let v419 : BitVec 32 := Scalar.addi v418 c1_i32_122
  let v542 : Index := Scalar.indexCast v419
  let c64_145 : Index := 64#32
  ![v542.toNat, 64]
def k0_off219 (v8 : BitVec 32) (v15 : BitVec 32) (k0_t10 : Fin (k0_t10_loop v8 v15).trips) (k0_t11 : Fin (k0_t11_loop v8 v15 k0_t10).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t11
  let v417 : BitVec 32 := Scalar.muli c4_i32_121 arg44
  let v418 : BitVec 32 := Scalar.addi v351 v417
  let v419 : BitVec 32 := Scalar.addi v418 c1_i32_122
  let v548 : Index := Scalar.indexCast v419
  let c80_146 : Index := 80#32
  ![v548.toNat, 80]
def k0_off220 (v8 : BitVec 32) (v15 : BitVec 32) (k0_t10 : Fin (k0_t10_loop v8 v15).trips) (k0_t11 : Fin (k0_t11_loop v8 v15 k0_t10).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t11
  let v417 : BitVec 32 := Scalar.muli c4_i32_121 arg44
  let v418 : BitVec 32 := Scalar.addi v351 v417
  let v419 : BitVec 32 := Scalar.addi v418 c1_i32_122
  let v554 : Index := Scalar.indexCast v419
  let c96_147 : Index := 96#32
  ![v554.toNat, 96]
def k0_off221 (v8 : BitVec 32) (v15 : BitVec 32) (k0_t10 : Fin (k0_t10_loop v8 v15).trips) (k0_t11 : Fin (k0_t11_loop v8 v15 k0_t10).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t11
  let v417 : BitVec 32 := Scalar.muli c4_i32_121 arg44
  let v418 : BitVec 32 := Scalar.addi v351 v417
  let v419 : BitVec 32 := Scalar.addi v418 c1_i32_122
  let v560 : Index := Scalar.indexCast v419
  let c112_148 : Index := 112#32
  ![v560.toNat, 112]
def k0_off222 (v8 : BitVec 32) (v15 : BitVec 32) (k0_t10 : Fin (k0_t10_loop v8 v15).trips) (k0_t11 : Fin (k0_t11_loop v8 v15 k0_t10).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t11
  let v417 : BitVec 32 := Scalar.muli c4_i32_121 arg44
  let v418 : BitVec 32 := Scalar.addi v351 v417
  let v419 : BitVec 32 := Scalar.addi v418 c1_i32_122
  let v566 : Index := Scalar.indexCast v419
  let c128_149 : Index := 128#32
  ![v566.toNat, 128]
def k0_off223 (v8 : BitVec 32) (v15 : BitVec 32) (k0_t10 : Fin (k0_t10_loop v8 v15).trips) (k0_t11 : Fin (k0_t11_loop v8 v15 k0_t10).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t11
  let v417 : BitVec 32 := Scalar.muli c4_i32_121 arg44
  let v418 : BitVec 32 := Scalar.addi v351 v417
  let v419 : BitVec 32 := Scalar.addi v418 c1_i32_122
  let v572 : Index := Scalar.indexCast v419
  let c144_150 : Index := 144#32
  ![v572.toNat, 144]
def k0_off224 (v8 : BitVec 32) (v15 : BitVec 32) (k0_t10 : Fin (k0_t10_loop v8 v15).trips) (k0_t11 : Fin (k0_t11_loop v8 v15 k0_t10).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t11
  let v417 : BitVec 32 := Scalar.muli c4_i32_121 arg44
  let v418 : BitVec 32 := Scalar.addi v351 v417
  let v419 : BitVec 32 := Scalar.addi v418 c1_i32_122
  let v578 : Index := Scalar.indexCast v419
  let c160_151 : Index := 160#32
  ![v578.toNat, 160]
def k0_off225 (v8 : BitVec 32) (v15 : BitVec 32) (k0_t10 : Fin (k0_t10_loop v8 v15).trips) (k0_t11 : Fin (k0_t11_loop v8 v15 k0_t10).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t11
  let v417 : BitVec 32 := Scalar.muli c4_i32_121 arg44
  let v418 : BitVec 32 := Scalar.addi v351 v417
  let v419 : BitVec 32 := Scalar.addi v418 c1_i32_122
  let v584 : Index := Scalar.indexCast v419
  let c176_152 : Index := 176#32
  ![v584.toNat, 176]
def k0_off226 (v8 : BitVec 32) (v15 : BitVec 32) (k0_t10 : Fin (k0_t10_loop v8 v15).trips) (k0_t11 : Fin (k0_t11_loop v8 v15 k0_t10).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t11
  let v417 : BitVec 32 := Scalar.muli c4_i32_121 arg44
  let v418 : BitVec 32 := Scalar.addi v351 v417
  let v419 : BitVec 32 := Scalar.addi v418 c1_i32_122
  let v590 : Index := Scalar.indexCast v419
  let c192_153 : Index := 192#32
  ![v590.toNat, 192]
def k0_off227 (v8 : BitVec 32) (v15 : BitVec 32) (k0_t10 : Fin (k0_t10_loop v8 v15).trips) (k0_t11 : Fin (k0_t11_loop v8 v15 k0_t10).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t11
  let v417 : BitVec 32 := Scalar.muli c4_i32_121 arg44
  let v418 : BitVec 32 := Scalar.addi v351 v417
  let v419 : BitVec 32 := Scalar.addi v418 c1_i32_122
  let v596 : Index := Scalar.indexCast v419
  let c208_154 : Index := 208#32
  ![v596.toNat, 208]
def k0_off228 (v8 : BitVec 32) (v15 : BitVec 32) (k0_t10 : Fin (k0_t10_loop v8 v15).trips) (k0_t11 : Fin (k0_t11_loop v8 v15 k0_t10).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t11
  let v417 : BitVec 32 := Scalar.muli c4_i32_121 arg44
  let v418 : BitVec 32 := Scalar.addi v351 v417
  let v419 : BitVec 32 := Scalar.addi v418 c1_i32_122
  let v602 : Index := Scalar.indexCast v419
  let c224_155 : Index := 224#32
  ![v602.toNat, 224]
def k0_off229 (v8 : BitVec 32) (v15 : BitVec 32) (k0_t10 : Fin (k0_t10_loop v8 v15).trips) (k0_t11 : Fin (k0_t11_loop v8 v15 k0_t10).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t11
  let v417 : BitVec 32 := Scalar.muli c4_i32_121 arg44
  let v418 : BitVec 32 := Scalar.addi v351 v417
  let v419 : BitVec 32 := Scalar.addi v418 c1_i32_122
  let v608 : Index := Scalar.indexCast v419
  let c240_156 : Index := 240#32
  ![v608.toNat, 240]
@[reducible] def k0_t12_loop (v8 : BitVec 32) (v15 : BitVec 32) (k0_t10 : Fin (k0_t10_loop v8 v15).trips) : Scf.Loop 32 :=
  let c0_i32_86 : BitVec 32 := 0#32
  let c128_i32_84 : BitVec 32 := 128#32
  let c0_i32_83 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v352 : BitVec 32 := Scalar.subi v15 v347
  let v353 : BitVec 32 := Scalar.maxsi c0_i32_83 v352
  let v354 : BitVec 32 := Scalar.minsi c128_i32_84 v353
  let c128_i32_82 : BitVec 32 := 128#32
  let c0_i32_81 : BitVec 32 := 0#32
  let c128_i32_78 : BitVec 32 := 128#32
  let v342 : BitVec 32 := Scalar.muli v341 c128_i32_78
  let v343 : BitVec 32 := Scalar.addi v24 v342
  let v348 : BitVec 32 := Scalar.maxsi v8 v343
  let v349 : BitVec 32 := Scalar.subi v348 v347
  let v350 : BitVec 32 := Scalar.maxsi c0_i32_81 v349
  let v351 : BitVec 32 := Scalar.minsi c128_i32_82 v350
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let v358 : BitVec 32 := Scalar.addi c0_i32_86 v357
  let c1_i32_89 : BitVec 32 := 1#32
  ⟨v361, v358, c1_i32_89⟩
def k0_off230 (v8 : BitVec 32) (v15 : BitVec 32) (k0_t10 : Fin (k0_t10_loop v8 v15).trips) (k0_t12 : Fin (k0_t12_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t12
  let v417 : BitVec 32 := Scalar.muli c4_i32_121 arg44
  let v418 : BitVec 32 := Scalar.addi v351 v417
  let v422 : Index := Scalar.indexCast v418
  let c0_125 : Index := 0#32
  ![v422.toNat, 0]
def k0_off231 (v8 : BitVec 32) (v15 : BitVec 32) (k0_t10 : Fin (k0_t10_loop v8 v15).trips) (k0_t12 : Fin (k0_t12_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t12
  let v417 : BitVec 32 := Scalar.muli c4_i32_121 arg44
  let v418 : BitVec 32 := Scalar.addi v351 v417
  let v428 : Index := Scalar.indexCast v418
  let c16_126 : Index := 16#32
  ![v428.toNat, 16]
def k0_off232 (v8 : BitVec 32) (v15 : BitVec 32) (k0_t10 : Fin (k0_t10_loop v8 v15).trips) (k0_t12 : Fin (k0_t12_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t12
  let v417 : BitVec 32 := Scalar.muli c4_i32_121 arg44
  let v418 : BitVec 32 := Scalar.addi v351 v417
  let v434 : Index := Scalar.indexCast v418
  let c32_127 : Index := 32#32
  ![v434.toNat, 32]
def k0_off233 (v8 : BitVec 32) (v15 : BitVec 32) (k0_t10 : Fin (k0_t10_loop v8 v15).trips) (k0_t12 : Fin (k0_t12_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t12
  let v417 : BitVec 32 := Scalar.muli c4_i32_121 arg44
  let v418 : BitVec 32 := Scalar.addi v351 v417
  let v440 : Index := Scalar.indexCast v418
  let c48_128 : Index := 48#32
  ![v440.toNat, 48]
def k0_off234 (v8 : BitVec 32) (v15 : BitVec 32) (k0_t10 : Fin (k0_t10_loop v8 v15).trips) (k0_t12 : Fin (k0_t12_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t12
  let v417 : BitVec 32 := Scalar.muli c4_i32_121 arg44
  let v418 : BitVec 32 := Scalar.addi v351 v417
  let v446 : Index := Scalar.indexCast v418
  let c64_129 : Index := 64#32
  ![v446.toNat, 64]
def k0_off235 (v8 : BitVec 32) (v15 : BitVec 32) (k0_t10 : Fin (k0_t10_loop v8 v15).trips) (k0_t12 : Fin (k0_t12_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t12
  let v417 : BitVec 32 := Scalar.muli c4_i32_121 arg44
  let v418 : BitVec 32 := Scalar.addi v351 v417
  let v452 : Index := Scalar.indexCast v418
  let c80_130 : Index := 80#32
  ![v452.toNat, 80]
def k0_off236 (v8 : BitVec 32) (v15 : BitVec 32) (k0_t10 : Fin (k0_t10_loop v8 v15).trips) (k0_t12 : Fin (k0_t12_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t12
  let v417 : BitVec 32 := Scalar.muli c4_i32_121 arg44
  let v418 : BitVec 32 := Scalar.addi v351 v417
  let v458 : Index := Scalar.indexCast v418
  let c96_131 : Index := 96#32
  ![v458.toNat, 96]
def k0_off237 (v8 : BitVec 32) (v15 : BitVec 32) (k0_t10 : Fin (k0_t10_loop v8 v15).trips) (k0_t12 : Fin (k0_t12_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t12
  let v417 : BitVec 32 := Scalar.muli c4_i32_121 arg44
  let v418 : BitVec 32 := Scalar.addi v351 v417
  let v464 : Index := Scalar.indexCast v418
  let c112_132 : Index := 112#32
  ![v464.toNat, 112]
def k0_off238 (v8 : BitVec 32) (v15 : BitVec 32) (k0_t10 : Fin (k0_t10_loop v8 v15).trips) (k0_t12 : Fin (k0_t12_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t12
  let v417 : BitVec 32 := Scalar.muli c4_i32_121 arg44
  let v418 : BitVec 32 := Scalar.addi v351 v417
  let v470 : Index := Scalar.indexCast v418
  let c128_133 : Index := 128#32
  ![v470.toNat, 128]
def k0_off239 (v8 : BitVec 32) (v15 : BitVec 32) (k0_t10 : Fin (k0_t10_loop v8 v15).trips) (k0_t12 : Fin (k0_t12_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t12
  let v417 : BitVec 32 := Scalar.muli c4_i32_121 arg44
  let v418 : BitVec 32 := Scalar.addi v351 v417
  let v476 : Index := Scalar.indexCast v418
  let c144_134 : Index := 144#32
  ![v476.toNat, 144]
def k0_off240 (v8 : BitVec 32) (v15 : BitVec 32) (k0_t10 : Fin (k0_t10_loop v8 v15).trips) (k0_t12 : Fin (k0_t12_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t12
  let v417 : BitVec 32 := Scalar.muli c4_i32_121 arg44
  let v418 : BitVec 32 := Scalar.addi v351 v417
  let v482 : Index := Scalar.indexCast v418
  let c160_135 : Index := 160#32
  ![v482.toNat, 160]
def k0_off241 (v8 : BitVec 32) (v15 : BitVec 32) (k0_t10 : Fin (k0_t10_loop v8 v15).trips) (k0_t12 : Fin (k0_t12_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t12
  let v417 : BitVec 32 := Scalar.muli c4_i32_121 arg44
  let v418 : BitVec 32 := Scalar.addi v351 v417
  let v488 : Index := Scalar.indexCast v418
  let c176_136 : Index := 176#32
  ![v488.toNat, 176]
def k0_off242 (v8 : BitVec 32) (v15 : BitVec 32) (k0_t10 : Fin (k0_t10_loop v8 v15).trips) (k0_t12 : Fin (k0_t12_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t12
  let v417 : BitVec 32 := Scalar.muli c4_i32_121 arg44
  let v418 : BitVec 32 := Scalar.addi v351 v417
  let v494 : Index := Scalar.indexCast v418
  let c192_137 : Index := 192#32
  ![v494.toNat, 192]
def k0_off243 (v8 : BitVec 32) (v15 : BitVec 32) (k0_t10 : Fin (k0_t10_loop v8 v15).trips) (k0_t12 : Fin (k0_t12_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t12
  let v417 : BitVec 32 := Scalar.muli c4_i32_121 arg44
  let v418 : BitVec 32 := Scalar.addi v351 v417
  let v500 : Index := Scalar.indexCast v418
  let c208_138 : Index := 208#32
  ![v500.toNat, 208]
def k0_off244 (v8 : BitVec 32) (v15 : BitVec 32) (k0_t10 : Fin (k0_t10_loop v8 v15).trips) (k0_t12 : Fin (k0_t12_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t12
  let v417 : BitVec 32 := Scalar.muli c4_i32_121 arg44
  let v418 : BitVec 32 := Scalar.addi v351 v417
  let v506 : Index := Scalar.indexCast v418
  let c224_139 : Index := 224#32
  ![v506.toNat, 224]
def k0_off245 (v8 : BitVec 32) (v15 : BitVec 32) (k0_t10 : Fin (k0_t10_loop v8 v15).trips) (k0_t12 : Fin (k0_t12_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t12
  let v417 : BitVec 32 := Scalar.muli c4_i32_121 arg44
  let v418 : BitVec 32 := Scalar.addi v351 v417
  let v512 : Index := Scalar.indexCast v418
  let c240_140 : Index := 240#32
  ![v512.toNat, 240]
def k0_off246 (v8 : BitVec 32) (v15 : BitVec 32) (k0_t10 : Fin (k0_t10_loop v8 v15).trips) (k0_t12 : Fin (k0_t12_loop v8 v15 k0_t10).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t12
  let v417 : BitVec 32 := Scalar.muli c4_i32_121 arg44
  let v418 : BitVec 32 := Scalar.addi v351 v417
  let v419 : BitVec 32 := Scalar.addi v418 c1_i32_122
  let v518 : Index := Scalar.indexCast v419
  let c0_141 : Index := 0#32
  ![v518.toNat, 0]
def k0_off247 (v8 : BitVec 32) (v15 : BitVec 32) (k0_t10 : Fin (k0_t10_loop v8 v15).trips) (k0_t12 : Fin (k0_t12_loop v8 v15 k0_t10).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t12
  let v417 : BitVec 32 := Scalar.muli c4_i32_121 arg44
  let v418 : BitVec 32 := Scalar.addi v351 v417
  let v419 : BitVec 32 := Scalar.addi v418 c1_i32_122
  let v524 : Index := Scalar.indexCast v419
  let c16_142 : Index := 16#32
  ![v524.toNat, 16]
def k0_off248 (v8 : BitVec 32) (v15 : BitVec 32) (k0_t10 : Fin (k0_t10_loop v8 v15).trips) (k0_t12 : Fin (k0_t12_loop v8 v15 k0_t10).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t12
  let v417 : BitVec 32 := Scalar.muli c4_i32_121 arg44
  let v418 : BitVec 32 := Scalar.addi v351 v417
  let v419 : BitVec 32 := Scalar.addi v418 c1_i32_122
  let v530 : Index := Scalar.indexCast v419
  let c32_143 : Index := 32#32
  ![v530.toNat, 32]
def k0_off249 (v8 : BitVec 32) (v15 : BitVec 32) (k0_t10 : Fin (k0_t10_loop v8 v15).trips) (k0_t12 : Fin (k0_t12_loop v8 v15 k0_t10).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t12
  let v417 : BitVec 32 := Scalar.muli c4_i32_121 arg44
  let v418 : BitVec 32 := Scalar.addi v351 v417
  let v419 : BitVec 32 := Scalar.addi v418 c1_i32_122
  let v536 : Index := Scalar.indexCast v419
  let c48_144 : Index := 48#32
  ![v536.toNat, 48]
def k0_off250 (v8 : BitVec 32) (v15 : BitVec 32) (k0_t10 : Fin (k0_t10_loop v8 v15).trips) (k0_t12 : Fin (k0_t12_loop v8 v15 k0_t10).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t12
  let v417 : BitVec 32 := Scalar.muli c4_i32_121 arg44
  let v418 : BitVec 32 := Scalar.addi v351 v417
  let v419 : BitVec 32 := Scalar.addi v418 c1_i32_122
  let v542 : Index := Scalar.indexCast v419
  let c64_145 : Index := 64#32
  ![v542.toNat, 64]
def k0_off251 (v8 : BitVec 32) (v15 : BitVec 32) (k0_t10 : Fin (k0_t10_loop v8 v15).trips) (k0_t12 : Fin (k0_t12_loop v8 v15 k0_t10).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t12
  let v417 : BitVec 32 := Scalar.muli c4_i32_121 arg44
  let v418 : BitVec 32 := Scalar.addi v351 v417
  let v419 : BitVec 32 := Scalar.addi v418 c1_i32_122
  let v548 : Index := Scalar.indexCast v419
  let c80_146 : Index := 80#32
  ![v548.toNat, 80]
def k0_off252 (v8 : BitVec 32) (v15 : BitVec 32) (k0_t10 : Fin (k0_t10_loop v8 v15).trips) (k0_t12 : Fin (k0_t12_loop v8 v15 k0_t10).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t12
  let v417 : BitVec 32 := Scalar.muli c4_i32_121 arg44
  let v418 : BitVec 32 := Scalar.addi v351 v417
  let v419 : BitVec 32 := Scalar.addi v418 c1_i32_122
  let v554 : Index := Scalar.indexCast v419
  let c96_147 : Index := 96#32
  ![v554.toNat, 96]
def k0_off253 (v8 : BitVec 32) (v15 : BitVec 32) (k0_t10 : Fin (k0_t10_loop v8 v15).trips) (k0_t12 : Fin (k0_t12_loop v8 v15 k0_t10).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t12
  let v417 : BitVec 32 := Scalar.muli c4_i32_121 arg44
  let v418 : BitVec 32 := Scalar.addi v351 v417
  let v419 : BitVec 32 := Scalar.addi v418 c1_i32_122
  let v560 : Index := Scalar.indexCast v419
  let c112_148 : Index := 112#32
  ![v560.toNat, 112]
def k0_off254 (v8 : BitVec 32) (v15 : BitVec 32) (k0_t10 : Fin (k0_t10_loop v8 v15).trips) (k0_t12 : Fin (k0_t12_loop v8 v15 k0_t10).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t12
  let v417 : BitVec 32 := Scalar.muli c4_i32_121 arg44
  let v418 : BitVec 32 := Scalar.addi v351 v417
  let v419 : BitVec 32 := Scalar.addi v418 c1_i32_122
  let v566 : Index := Scalar.indexCast v419
  let c128_149 : Index := 128#32
  ![v566.toNat, 128]
def k0_off255 (v8 : BitVec 32) (v15 : BitVec 32) (k0_t10 : Fin (k0_t10_loop v8 v15).trips) (k0_t12 : Fin (k0_t12_loop v8 v15 k0_t10).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t12
  let v417 : BitVec 32 := Scalar.muli c4_i32_121 arg44
  let v418 : BitVec 32 := Scalar.addi v351 v417
  let v419 : BitVec 32 := Scalar.addi v418 c1_i32_122
  let v572 : Index := Scalar.indexCast v419
  let c144_150 : Index := 144#32
  ![v572.toNat, 144]
def k0_off256 (v8 : BitVec 32) (v15 : BitVec 32) (k0_t10 : Fin (k0_t10_loop v8 v15).trips) (k0_t12 : Fin (k0_t12_loop v8 v15 k0_t10).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t12
  let v417 : BitVec 32 := Scalar.muli c4_i32_121 arg44
  let v418 : BitVec 32 := Scalar.addi v351 v417
  let v419 : BitVec 32 := Scalar.addi v418 c1_i32_122
  let v578 : Index := Scalar.indexCast v419
  let c160_151 : Index := 160#32
  ![v578.toNat, 160]
def k0_off257 (v8 : BitVec 32) (v15 : BitVec 32) (k0_t10 : Fin (k0_t10_loop v8 v15).trips) (k0_t12 : Fin (k0_t12_loop v8 v15 k0_t10).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t12
  let v417 : BitVec 32 := Scalar.muli c4_i32_121 arg44
  let v418 : BitVec 32 := Scalar.addi v351 v417
  let v419 : BitVec 32 := Scalar.addi v418 c1_i32_122
  let v584 : Index := Scalar.indexCast v419
  let c176_152 : Index := 176#32
  ![v584.toNat, 176]
def k0_off258 (v8 : BitVec 32) (v15 : BitVec 32) (k0_t10 : Fin (k0_t10_loop v8 v15).trips) (k0_t12 : Fin (k0_t12_loop v8 v15 k0_t10).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t12
  let v417 : BitVec 32 := Scalar.muli c4_i32_121 arg44
  let v418 : BitVec 32 := Scalar.addi v351 v417
  let v419 : BitVec 32 := Scalar.addi v418 c1_i32_122
  let v590 : Index := Scalar.indexCast v419
  let c192_153 : Index := 192#32
  ![v590.toNat, 192]
def k0_off259 (v8 : BitVec 32) (v15 : BitVec 32) (k0_t10 : Fin (k0_t10_loop v8 v15).trips) (k0_t12 : Fin (k0_t12_loop v8 v15 k0_t10).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t12
  let v417 : BitVec 32 := Scalar.muli c4_i32_121 arg44
  let v418 : BitVec 32 := Scalar.addi v351 v417
  let v419 : BitVec 32 := Scalar.addi v418 c1_i32_122
  let v596 : Index := Scalar.indexCast v419
  let c208_154 : Index := 208#32
  ![v596.toNat, 208]
def k0_off260 (v8 : BitVec 32) (v15 : BitVec 32) (k0_t10 : Fin (k0_t10_loop v8 v15).trips) (k0_t12 : Fin (k0_t12_loop v8 v15 k0_t10).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t12
  let v417 : BitVec 32 := Scalar.muli c4_i32_121 arg44
  let v418 : BitVec 32 := Scalar.addi v351 v417
  let v419 : BitVec 32 := Scalar.addi v418 c1_i32_122
  let v602 : Index := Scalar.indexCast v419
  let c224_155 : Index := 224#32
  ![v602.toNat, 224]
def k0_off261 (v8 : BitVec 32) (v15 : BitVec 32) (k0_t10 : Fin (k0_t10_loop v8 v15).trips) (k0_t12 : Fin (k0_t12_loop v8 v15 k0_t10).trips) (c1_i32_122 : BitVec 32) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t12
  let v417 : BitVec 32 := Scalar.muli c4_i32_121 arg44
  let v418 : BitVec 32 := Scalar.addi v351 v417
  let v419 : BitVec 32 := Scalar.addi v418 c1_i32_122
  let v608 : Index := Scalar.indexCast v419
  let c240_156 : Index := 240#32
  ![v608.toNat, 240]
@[reducible] def k0_t13_loop (v8 : BitVec 32) (v15 : BitVec 32) (k0_t10 : Fin (k0_t10_loop v8 v15).trips) : Scf.Loop 32 :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_91 : BitVec 32 := 1#32
  ⟨v365, v370, c1_i32_91⟩
def k0_off262 (v8 : BitVec 32) (v15 : BitVec 32) (k0_t10 : Fin (k0_t10_loop v8 v15).trips) (k0_t13 : Fin (k0_t13_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t13
  let v417 : Index := Scalar.indexCast arg44
  let c0_121 : Index := 0#32
  ![v417.toNat, 0]
def k0_off263 (v8 : BitVec 32) (v15 : BitVec 32) (k0_t10 : Fin (k0_t10_loop v8 v15).trips) (k0_t13 : Fin (k0_t13_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t13
  let v423 : Index := Scalar.indexCast arg44
  let c16_122 : Index := 16#32
  ![v423.toNat, 16]
def k0_off264 (v8 : BitVec 32) (v15 : BitVec 32) (k0_t10 : Fin (k0_t10_loop v8 v15).trips) (k0_t13 : Fin (k0_t13_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t13
  let v429 : Index := Scalar.indexCast arg44
  let c32_123 : Index := 32#32
  ![v429.toNat, 32]
def k0_off265 (v8 : BitVec 32) (v15 : BitVec 32) (k0_t10 : Fin (k0_t10_loop v8 v15).trips) (k0_t13 : Fin (k0_t13_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t13
  let v435 : Index := Scalar.indexCast arg44
  let c48_124 : Index := 48#32
  ![v435.toNat, 48]
def k0_off266 (v8 : BitVec 32) (v15 : BitVec 32) (k0_t10 : Fin (k0_t10_loop v8 v15).trips) (k0_t13 : Fin (k0_t13_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t13
  let v441 : Index := Scalar.indexCast arg44
  let c64_125 : Index := 64#32
  ![v441.toNat, 64]
def k0_off267 (v8 : BitVec 32) (v15 : BitVec 32) (k0_t10 : Fin (k0_t10_loop v8 v15).trips) (k0_t13 : Fin (k0_t13_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t13
  let v447 : Index := Scalar.indexCast arg44
  let c80_126 : Index := 80#32
  ![v447.toNat, 80]
def k0_off268 (v8 : BitVec 32) (v15 : BitVec 32) (k0_t10 : Fin (k0_t10_loop v8 v15).trips) (k0_t13 : Fin (k0_t13_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t13
  let v453 : Index := Scalar.indexCast arg44
  let c96_127 : Index := 96#32
  ![v453.toNat, 96]
def k0_off269 (v8 : BitVec 32) (v15 : BitVec 32) (k0_t10 : Fin (k0_t10_loop v8 v15).trips) (k0_t13 : Fin (k0_t13_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t13
  let v459 : Index := Scalar.indexCast arg44
  let c112_128 : Index := 112#32
  ![v459.toNat, 112]
def k0_off270 (v8 : BitVec 32) (v15 : BitVec 32) (k0_t10 : Fin (k0_t10_loop v8 v15).trips) (k0_t13 : Fin (k0_t13_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t13
  let v465 : Index := Scalar.indexCast arg44
  let c128_129 : Index := 128#32
  ![v465.toNat, 128]
def k0_off271 (v8 : BitVec 32) (v15 : BitVec 32) (k0_t10 : Fin (k0_t10_loop v8 v15).trips) (k0_t13 : Fin (k0_t13_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t13
  let v471 : Index := Scalar.indexCast arg44
  let c144_130 : Index := 144#32
  ![v471.toNat, 144]
def k0_off272 (v8 : BitVec 32) (v15 : BitVec 32) (k0_t10 : Fin (k0_t10_loop v8 v15).trips) (k0_t13 : Fin (k0_t13_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t13
  let v477 : Index := Scalar.indexCast arg44
  let c160_131 : Index := 160#32
  ![v477.toNat, 160]
def k0_off273 (v8 : BitVec 32) (v15 : BitVec 32) (k0_t10 : Fin (k0_t10_loop v8 v15).trips) (k0_t13 : Fin (k0_t13_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t13
  let v483 : Index := Scalar.indexCast arg44
  let c176_132 : Index := 176#32
  ![v483.toNat, 176]
def k0_off274 (v8 : BitVec 32) (v15 : BitVec 32) (k0_t10 : Fin (k0_t10_loop v8 v15).trips) (k0_t13 : Fin (k0_t13_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t13
  let v489 : Index := Scalar.indexCast arg44
  let c192_133 : Index := 192#32
  ![v489.toNat, 192]
def k0_off275 (v8 : BitVec 32) (v15 : BitVec 32) (k0_t10 : Fin (k0_t10_loop v8 v15).trips) (k0_t13 : Fin (k0_t13_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t13
  let v495 : Index := Scalar.indexCast arg44
  let c208_134 : Index := 208#32
  ![v495.toNat, 208]
def k0_off276 (v8 : BitVec 32) (v15 : BitVec 32) (k0_t10 : Fin (k0_t10_loop v8 v15).trips) (k0_t13 : Fin (k0_t13_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t13
  let v501 : Index := Scalar.indexCast arg44
  let c224_135 : Index := 224#32
  ![v501.toNat, 224]
def k0_off277 (v8 : BitVec 32) (v15 : BitVec 32) (k0_t10 : Fin (k0_t10_loop v8 v15).trips) (k0_t13 : Fin (k0_t13_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t13
  let v507 : Index := Scalar.indexCast arg44
  let c240_136 : Index := 240#32
  ![v507.toNat, 240]
@[reducible] def k0_t14_loop (v8 : BitVec 32) (v15 : BitVec 32) (k0_t10 : Fin (k0_t10_loop v8 v15).trips) : Scf.Loop 32 :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let v367 : BitVec 32 := Scalar.addi v365 v366
  let c1_i32_92 : BitVec 32 := 1#32
  ⟨v370, v367, c1_i32_92⟩
def k0_off278 (v8 : BitVec 32) (v15 : BitVec 32) (k0_t10 : Fin (k0_t10_loop v8 v15).trips) (k0_t14 : Fin (k0_t14_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t14
  let v417 : Index := Scalar.indexCast arg44
  let c0_121 : Index := 0#32
  ![v417.toNat, 0]
def k0_off279 (v8 : BitVec 32) (v15 : BitVec 32) (k0_t10 : Fin (k0_t10_loop v8 v15).trips) (k0_t14 : Fin (k0_t14_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t14
  let v423 : Index := Scalar.indexCast arg44
  let c16_122 : Index := 16#32
  ![v423.toNat, 16]
def k0_off280 (v8 : BitVec 32) (v15 : BitVec 32) (k0_t10 : Fin (k0_t10_loop v8 v15).trips) (k0_t14 : Fin (k0_t14_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t14
  let v429 : Index := Scalar.indexCast arg44
  let c32_123 : Index := 32#32
  ![v429.toNat, 32]
def k0_off281 (v8 : BitVec 32) (v15 : BitVec 32) (k0_t10 : Fin (k0_t10_loop v8 v15).trips) (k0_t14 : Fin (k0_t14_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t14
  let v435 : Index := Scalar.indexCast arg44
  let c48_124 : Index := 48#32
  ![v435.toNat, 48]
def k0_off282 (v8 : BitVec 32) (v15 : BitVec 32) (k0_t10 : Fin (k0_t10_loop v8 v15).trips) (k0_t14 : Fin (k0_t14_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t14
  let v441 : Index := Scalar.indexCast arg44
  let c64_125 : Index := 64#32
  ![v441.toNat, 64]
def k0_off283 (v8 : BitVec 32) (v15 : BitVec 32) (k0_t10 : Fin (k0_t10_loop v8 v15).trips) (k0_t14 : Fin (k0_t14_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t14
  let v447 : Index := Scalar.indexCast arg44
  let c80_126 : Index := 80#32
  ![v447.toNat, 80]
def k0_off284 (v8 : BitVec 32) (v15 : BitVec 32) (k0_t10 : Fin (k0_t10_loop v8 v15).trips) (k0_t14 : Fin (k0_t14_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t14
  let v453 : Index := Scalar.indexCast arg44
  let c96_127 : Index := 96#32
  ![v453.toNat, 96]
def k0_off285 (v8 : BitVec 32) (v15 : BitVec 32) (k0_t10 : Fin (k0_t10_loop v8 v15).trips) (k0_t14 : Fin (k0_t14_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t14
  let v459 : Index := Scalar.indexCast arg44
  let c112_128 : Index := 112#32
  ![v459.toNat, 112]
def k0_off286 (v8 : BitVec 32) (v15 : BitVec 32) (k0_t10 : Fin (k0_t10_loop v8 v15).trips) (k0_t14 : Fin (k0_t14_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t14
  let v465 : Index := Scalar.indexCast arg44
  let c128_129 : Index := 128#32
  ![v465.toNat, 128]
def k0_off287 (v8 : BitVec 32) (v15 : BitVec 32) (k0_t10 : Fin (k0_t10_loop v8 v15).trips) (k0_t14 : Fin (k0_t14_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t14
  let v471 : Index := Scalar.indexCast arg44
  let c144_130 : Index := 144#32
  ![v471.toNat, 144]
def k0_off288 (v8 : BitVec 32) (v15 : BitVec 32) (k0_t10 : Fin (k0_t10_loop v8 v15).trips) (k0_t14 : Fin (k0_t14_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t14
  let v477 : Index := Scalar.indexCast arg44
  let c160_131 : Index := 160#32
  ![v477.toNat, 160]
def k0_off289 (v8 : BitVec 32) (v15 : BitVec 32) (k0_t10 : Fin (k0_t10_loop v8 v15).trips) (k0_t14 : Fin (k0_t14_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t14
  let v483 : Index := Scalar.indexCast arg44
  let c176_132 : Index := 176#32
  ![v483.toNat, 176]
def k0_off290 (v8 : BitVec 32) (v15 : BitVec 32) (k0_t10 : Fin (k0_t10_loop v8 v15).trips) (k0_t14 : Fin (k0_t14_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t14
  let v489 : Index := Scalar.indexCast arg44
  let c192_133 : Index := 192#32
  ![v489.toNat, 192]
def k0_off291 (v8 : BitVec 32) (v15 : BitVec 32) (k0_t10 : Fin (k0_t10_loop v8 v15).trips) (k0_t14 : Fin (k0_t14_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t14
  let v495 : Index := Scalar.indexCast arg44
  let c208_134 : Index := 208#32
  ![v495.toNat, 208]
def k0_off292 (v8 : BitVec 32) (v15 : BitVec 32) (k0_t10 : Fin (k0_t10_loop v8 v15).trips) (k0_t14 : Fin (k0_t14_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t14
  let v501 : Index := Scalar.indexCast arg44
  let c224_135 : Index := 224#32
  ![v501.toNat, 224]
def k0_off293 (v8 : BitVec 32) (v15 : BitVec 32) (k0_t10 : Fin (k0_t10_loop v8 v15).trips) (k0_t14 : Fin (k0_t14_loop v8 v15 k0_t10).trips) : Fin 2 → Nat :=
  let c128_i32_82 : BitVec 32 := 128#32
  let c0_i32_81 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_77 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v341 : BitVec 32 := Scalar.muli c2_i32_77 arg11
  let c128_i32_78 : BitVec 32 := 128#32
  let v342 : BitVec 32 := Scalar.muli v341 c128_i32_78
  let v343 : BitVec 32 := Scalar.addi v24 v342
  let v348 : BitVec 32 := Scalar.maxsi v8 v343
  let c128_i32_79 : BitVec 32 := 128#32
  let v344 : BitVec 32 := Scalar.muli v341 c128_i32_79
  let v345 : BitVec 32 := Scalar.addi v24 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v15 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t14
  let v507 : Index := Scalar.indexCast arg44
  let c240_136 : Index := 240#32
  ![v507.toNat, 240]
def k0_mult8 (v8 : BitVec 32) (v15 : BitVec 32) (k0_t10 : Fin (k0_t10_loop v8 v15).trips) : BitVec 32 :=
  let c3_i32 : BitVec 32 := 3#32
  let v23 : BitVec 32 := Scalar.shrsi v8 c3_i32
  let c3_i32_4 : BitVec 32 := 3#32
  let v24 : BitVec 32 := Scalar.shli v23 c3_i32_4
  let c2_i32_97 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v375 : BitVec 32 := Scalar.muli c2_i32_97 arg11
  let c2_i32_98 : BitVec 32 := 2#32
  let v376 : BitVec 32 := Scalar.addi v375 c2_i32_98
  let c2_i32_20 : BitVec 32 := 2#32
  let v63 : BitVec 32 := Scalar.muli c2_i32_20 v62
  let c1_i32_21 : BitVec 32 := 1#32
  let v64 : BitVec 32 := Scalar.subi v63 c1_i32_21
  let v377 : BitVec 32 := Scalar.minsi v376 v64
  let c128_i32_99 : BitVec 32 := 128#32
  let v378 : BitVec 32 := Scalar.muli v377 c128_i32_99
  let v379 : BitVec 32 := Scalar.addi v24 v378
  let c49872_i32_100 : BitVec 32 := 49872#32
  let v380 : BitVec 32 := Scalar.minsi v379 c49872_i32_100
  v380
def k0_off294 (v8 : BitVec 32) (v15 : BitVec 32) (k0_t10 : Fin (k0_t10_loop v8 v15).trips) : Fin 2 → Nat :=
  let c3_i32 : BitVec 32 := 3#32
  let v23 : BitVec 32 := Scalar.shrsi v8 c3_i32
  let c3_i32_4 : BitVec 32 := 3#32
  let v24 : BitVec 32 := Scalar.shli v23 c3_i32_4
  let c2_i32_97 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v375 : BitVec 32 := Scalar.muli c2_i32_97 arg11
  let c2_i32_98 : BitVec 32 := 2#32
  let v376 : BitVec 32 := Scalar.addi v375 c2_i32_98
  let c2_i32_20 : BitVec 32 := 2#32
  let v63 : BitVec 32 := Scalar.muli c2_i32_20 v62
  let c1_i32_21 : BitVec 32 := 1#32
  let v64 : BitVec 32 := Scalar.subi v63 c1_i32_21
  let v377 : BitVec 32 := Scalar.minsi v376 v64
  let c128_i32_99 : BitVec 32 := 128#32
  let v378 : BitVec 32 := Scalar.muli v377 c128_i32_99
  let v379 : BitVec 32 := Scalar.addi v24 v378
  let c49872_i32_100 : BitVec 32 := 49872#32
  let v380 : BitVec 32 := Scalar.minsi v379 c49872_i32_100
  let v381 : BitVec 32 := v380
  let c0_i32_101 : BitVec 32 := 0#32
  ![v381.toNat, 0]
def k0_mult9 (v8 : BitVec 32) (v15 : BitVec 32) (k0_t10 : Fin (k0_t10_loop v8 v15).trips) : BitVec 32 :=
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  v390
@[reducible] def k0_t15_loop (v8 : BitVec 32) (v15 : BitVec 32) (k0_t10 : Fin (k0_t10_loop v8 v15).trips) : Scf.Loop 32 :=
  let c0_i32_113 : BitVec 32 := 0#32
  let c128_i32_111 : BitVec 32 := 128#32
  let c0_i32_110 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v396 : BitVec 32 := Scalar.subi v15 v391
  let v397 : BitVec 32 := Scalar.maxsi c0_i32_110 v396
  let v398 : BitVec 32 := Scalar.minsi c128_i32_111 v397
  let c128_i32_109 : BitVec 32 := 128#32
  let c0_i32_108 : BitVec 32 := 0#32
  let c128_i32_105 : BitVec 32 := 128#32
  let v386 : BitVec 32 := Scalar.muli v385 c128_i32_105
  let v387 : BitVec 32 := Scalar.addi v24 v386
  let v392 : BitVec 32 := Scalar.maxsi v8 v387
  let v393 : BitVec 32 := Scalar.subi v392 v391
  let v394 : BitVec 32 := Scalar.maxsi c0_i32_108 v393
  let v395 : BitVec 32 := Scalar.minsi c128_i32_109 v394
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_115 : BitVec 32 := 1#32
  ⟨c0_i32_113, v405, c1_i32_115⟩
def k0_off295 (v8 : BitVec 32) (v15 : BitVec 32) (k0_t10 : Fin (k0_t10_loop v8 v15).trips) (k0_t15 : Fin (k0_t15_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t15
  let v417 : BitVec 32 := Scalar.muli c4_i32_121 arg44
  let v418 : BitVec 32 := Scalar.addi v395 v417
  let v422 : Index := Scalar.indexCast v418
  let c0_125 : Index := 0#32
  ![v422.toNat, 0]
def k0_off296 (v8 : BitVec 32) (v15 : BitVec 32) (k0_t10 : Fin (k0_t10_loop v8 v15).trips) (k0_t15 : Fin (k0_t15_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t15
  let v417 : BitVec 32 := Scalar.muli c4_i32_121 arg44
  let v418 : BitVec 32 := Scalar.addi v395 v417
  let v428 : Index := Scalar.indexCast v418
  let c16_126 : Index := 16#32
  ![v428.toNat, 16]
def k0_off297 (v8 : BitVec 32) (v15 : BitVec 32) (k0_t10 : Fin (k0_t10_loop v8 v15).trips) (k0_t15 : Fin (k0_t15_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t15
  let v417 : BitVec 32 := Scalar.muli c4_i32_121 arg44
  let v418 : BitVec 32 := Scalar.addi v395 v417
  let v434 : Index := Scalar.indexCast v418
  let c32_127 : Index := 32#32
  ![v434.toNat, 32]
def k0_off298 (v8 : BitVec 32) (v15 : BitVec 32) (k0_t10 : Fin (k0_t10_loop v8 v15).trips) (k0_t15 : Fin (k0_t15_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t15
  let v417 : BitVec 32 := Scalar.muli c4_i32_121 arg44
  let v418 : BitVec 32 := Scalar.addi v395 v417
  let v440 : Index := Scalar.indexCast v418
  let c48_128 : Index := 48#32
  ![v440.toNat, 48]
def k0_off299 (v8 : BitVec 32) (v15 : BitVec 32) (k0_t10 : Fin (k0_t10_loop v8 v15).trips) (k0_t15 : Fin (k0_t15_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t15
  let v417 : BitVec 32 := Scalar.muli c4_i32_121 arg44
  let v418 : BitVec 32 := Scalar.addi v395 v417
  let v446 : Index := Scalar.indexCast v418
  let c64_129 : Index := 64#32
  ![v446.toNat, 64]
def k0_off300 (v8 : BitVec 32) (v15 : BitVec 32) (k0_t10 : Fin (k0_t10_loop v8 v15).trips) (k0_t15 : Fin (k0_t15_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t15
  let v417 : BitVec 32 := Scalar.muli c4_i32_121 arg44
  let v418 : BitVec 32 := Scalar.addi v395 v417
  let v452 : Index := Scalar.indexCast v418
  let c80_130 : Index := 80#32
  ![v452.toNat, 80]
def k0_off301 (v8 : BitVec 32) (v15 : BitVec 32) (k0_t10 : Fin (k0_t10_loop v8 v15).trips) (k0_t15 : Fin (k0_t15_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t15
  let v417 : BitVec 32 := Scalar.muli c4_i32_121 arg44
  let v418 : BitVec 32 := Scalar.addi v395 v417
  let v458 : Index := Scalar.indexCast v418
  let c96_131 : Index := 96#32
  ![v458.toNat, 96]
def k0_off302 (v8 : BitVec 32) (v15 : BitVec 32) (k0_t10 : Fin (k0_t10_loop v8 v15).trips) (k0_t15 : Fin (k0_t15_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t15
  let v417 : BitVec 32 := Scalar.muli c4_i32_121 arg44
  let v418 : BitVec 32 := Scalar.addi v395 v417
  let v464 : Index := Scalar.indexCast v418
  let c112_132 : Index := 112#32
  ![v464.toNat, 112]
def k0_off303 (v8 : BitVec 32) (v15 : BitVec 32) (k0_t10 : Fin (k0_t10_loop v8 v15).trips) (k0_t15 : Fin (k0_t15_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t15
  let v417 : BitVec 32 := Scalar.muli c4_i32_121 arg44
  let v418 : BitVec 32 := Scalar.addi v395 v417
  let v470 : Index := Scalar.indexCast v418
  let c128_133 : Index := 128#32
  ![v470.toNat, 128]
def k0_off304 (v8 : BitVec 32) (v15 : BitVec 32) (k0_t10 : Fin (k0_t10_loop v8 v15).trips) (k0_t15 : Fin (k0_t15_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t15
  let v417 : BitVec 32 := Scalar.muli c4_i32_121 arg44
  let v418 : BitVec 32 := Scalar.addi v395 v417
  let v476 : Index := Scalar.indexCast v418
  let c144_134 : Index := 144#32
  ![v476.toNat, 144]
def k0_off305 (v8 : BitVec 32) (v15 : BitVec 32) (k0_t10 : Fin (k0_t10_loop v8 v15).trips) (k0_t15 : Fin (k0_t15_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t15
  let v417 : BitVec 32 := Scalar.muli c4_i32_121 arg44
  let v418 : BitVec 32 := Scalar.addi v395 v417
  let v482 : Index := Scalar.indexCast v418
  let c160_135 : Index := 160#32
  ![v482.toNat, 160]
def k0_off306 (v8 : BitVec 32) (v15 : BitVec 32) (k0_t10 : Fin (k0_t10_loop v8 v15).trips) (k0_t15 : Fin (k0_t15_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t15
  let v417 : BitVec 32 := Scalar.muli c4_i32_121 arg44
  let v418 : BitVec 32 := Scalar.addi v395 v417
  let v488 : Index := Scalar.indexCast v418
  let c176_136 : Index := 176#32
  ![v488.toNat, 176]
def k0_off307 (v8 : BitVec 32) (v15 : BitVec 32) (k0_t10 : Fin (k0_t10_loop v8 v15).trips) (k0_t15 : Fin (k0_t15_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t15
  let v417 : BitVec 32 := Scalar.muli c4_i32_121 arg44
  let v418 : BitVec 32 := Scalar.addi v395 v417
  let v494 : Index := Scalar.indexCast v418
  let c192_137 : Index := 192#32
  ![v494.toNat, 192]
def k0_off308 (v8 : BitVec 32) (v15 : BitVec 32) (k0_t10 : Fin (k0_t10_loop v8 v15).trips) (k0_t15 : Fin (k0_t15_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t15
  let v417 : BitVec 32 := Scalar.muli c4_i32_121 arg44
  let v418 : BitVec 32 := Scalar.addi v395 v417
  let v500 : Index := Scalar.indexCast v418
  let c208_138 : Index := 208#32
  ![v500.toNat, 208]
def k0_off309 (v8 : BitVec 32) (v15 : BitVec 32) (k0_t10 : Fin (k0_t10_loop v8 v15).trips) (k0_t15 : Fin (k0_t15_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t15
  let v417 : BitVec 32 := Scalar.muli c4_i32_121 arg44
  let v418 : BitVec 32 := Scalar.addi v395 v417
  let v506 : Index := Scalar.indexCast v418
  let c224_139 : Index := 224#32
  ![v506.toNat, 224]
def k0_off310 (v8 : BitVec 32) (v15 : BitVec 32) (k0_t10 : Fin (k0_t10_loop v8 v15).trips) (k0_t15 : Fin (k0_t15_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t15
  let v417 : BitVec 32 := Scalar.muli c4_i32_121 arg44
  let v418 : BitVec 32 := Scalar.addi v395 v417
  let v512 : Index := Scalar.indexCast v418
  let c240_140 : Index := 240#32
  ![v512.toNat, 240]
def k0_off311 (v8 : BitVec 32) (v15 : BitVec 32) (k0_t10 : Fin (k0_t10_loop v8 v15).trips) (k0_t15 : Fin (k0_t15_loop v8 v15 k0_t10).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t15
  let v417 : BitVec 32 := Scalar.muli c4_i32_121 arg44
  let v418 : BitVec 32 := Scalar.addi v395 v417
  let v419 : BitVec 32 := Scalar.addi v418 c1_i32_122
  let v518 : Index := Scalar.indexCast v419
  let c0_141 : Index := 0#32
  ![v518.toNat, 0]
def k0_off312 (v8 : BitVec 32) (v15 : BitVec 32) (k0_t10 : Fin (k0_t10_loop v8 v15).trips) (k0_t15 : Fin (k0_t15_loop v8 v15 k0_t10).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t15
  let v417 : BitVec 32 := Scalar.muli c4_i32_121 arg44
  let v418 : BitVec 32 := Scalar.addi v395 v417
  let v419 : BitVec 32 := Scalar.addi v418 c1_i32_122
  let v524 : Index := Scalar.indexCast v419
  let c16_142 : Index := 16#32
  ![v524.toNat, 16]
def k0_off313 (v8 : BitVec 32) (v15 : BitVec 32) (k0_t10 : Fin (k0_t10_loop v8 v15).trips) (k0_t15 : Fin (k0_t15_loop v8 v15 k0_t10).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t15
  let v417 : BitVec 32 := Scalar.muli c4_i32_121 arg44
  let v418 : BitVec 32 := Scalar.addi v395 v417
  let v419 : BitVec 32 := Scalar.addi v418 c1_i32_122
  let v530 : Index := Scalar.indexCast v419
  let c32_143 : Index := 32#32
  ![v530.toNat, 32]
def k0_off314 (v8 : BitVec 32) (v15 : BitVec 32) (k0_t10 : Fin (k0_t10_loop v8 v15).trips) (k0_t15 : Fin (k0_t15_loop v8 v15 k0_t10).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t15
  let v417 : BitVec 32 := Scalar.muli c4_i32_121 arg44
  let v418 : BitVec 32 := Scalar.addi v395 v417
  let v419 : BitVec 32 := Scalar.addi v418 c1_i32_122
  let v536 : Index := Scalar.indexCast v419
  let c48_144 : Index := 48#32
  ![v536.toNat, 48]
def k0_off315 (v8 : BitVec 32) (v15 : BitVec 32) (k0_t10 : Fin (k0_t10_loop v8 v15).trips) (k0_t15 : Fin (k0_t15_loop v8 v15 k0_t10).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t15
  let v417 : BitVec 32 := Scalar.muli c4_i32_121 arg44
  let v418 : BitVec 32 := Scalar.addi v395 v417
  let v419 : BitVec 32 := Scalar.addi v418 c1_i32_122
  let v542 : Index := Scalar.indexCast v419
  let c64_145 : Index := 64#32
  ![v542.toNat, 64]
def k0_off316 (v8 : BitVec 32) (v15 : BitVec 32) (k0_t10 : Fin (k0_t10_loop v8 v15).trips) (k0_t15 : Fin (k0_t15_loop v8 v15 k0_t10).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t15
  let v417 : BitVec 32 := Scalar.muli c4_i32_121 arg44
  let v418 : BitVec 32 := Scalar.addi v395 v417
  let v419 : BitVec 32 := Scalar.addi v418 c1_i32_122
  let v548 : Index := Scalar.indexCast v419
  let c80_146 : Index := 80#32
  ![v548.toNat, 80]
def k0_off317 (v8 : BitVec 32) (v15 : BitVec 32) (k0_t10 : Fin (k0_t10_loop v8 v15).trips) (k0_t15 : Fin (k0_t15_loop v8 v15 k0_t10).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t15
  let v417 : BitVec 32 := Scalar.muli c4_i32_121 arg44
  let v418 : BitVec 32 := Scalar.addi v395 v417
  let v419 : BitVec 32 := Scalar.addi v418 c1_i32_122
  let v554 : Index := Scalar.indexCast v419
  let c96_147 : Index := 96#32
  ![v554.toNat, 96]
def k0_off318 (v8 : BitVec 32) (v15 : BitVec 32) (k0_t10 : Fin (k0_t10_loop v8 v15).trips) (k0_t15 : Fin (k0_t15_loop v8 v15 k0_t10).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t15
  let v417 : BitVec 32 := Scalar.muli c4_i32_121 arg44
  let v418 : BitVec 32 := Scalar.addi v395 v417
  let v419 : BitVec 32 := Scalar.addi v418 c1_i32_122
  let v560 : Index := Scalar.indexCast v419
  let c112_148 : Index := 112#32
  ![v560.toNat, 112]
def k0_off319 (v8 : BitVec 32) (v15 : BitVec 32) (k0_t10 : Fin (k0_t10_loop v8 v15).trips) (k0_t15 : Fin (k0_t15_loop v8 v15 k0_t10).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t15
  let v417 : BitVec 32 := Scalar.muli c4_i32_121 arg44
  let v418 : BitVec 32 := Scalar.addi v395 v417
  let v419 : BitVec 32 := Scalar.addi v418 c1_i32_122
  let v566 : Index := Scalar.indexCast v419
  let c128_149 : Index := 128#32
  ![v566.toNat, 128]
def k0_off320 (v8 : BitVec 32) (v15 : BitVec 32) (k0_t10 : Fin (k0_t10_loop v8 v15).trips) (k0_t15 : Fin (k0_t15_loop v8 v15 k0_t10).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t15
  let v417 : BitVec 32 := Scalar.muli c4_i32_121 arg44
  let v418 : BitVec 32 := Scalar.addi v395 v417
  let v419 : BitVec 32 := Scalar.addi v418 c1_i32_122
  let v572 : Index := Scalar.indexCast v419
  let c144_150 : Index := 144#32
  ![v572.toNat, 144]
def k0_off321 (v8 : BitVec 32) (v15 : BitVec 32) (k0_t10 : Fin (k0_t10_loop v8 v15).trips) (k0_t15 : Fin (k0_t15_loop v8 v15 k0_t10).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t15
  let v417 : BitVec 32 := Scalar.muli c4_i32_121 arg44
  let v418 : BitVec 32 := Scalar.addi v395 v417
  let v419 : BitVec 32 := Scalar.addi v418 c1_i32_122
  let v578 : Index := Scalar.indexCast v419
  let c160_151 : Index := 160#32
  ![v578.toNat, 160]
def k0_off322 (v8 : BitVec 32) (v15 : BitVec 32) (k0_t10 : Fin (k0_t10_loop v8 v15).trips) (k0_t15 : Fin (k0_t15_loop v8 v15 k0_t10).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t15
  let v417 : BitVec 32 := Scalar.muli c4_i32_121 arg44
  let v418 : BitVec 32 := Scalar.addi v395 v417
  let v419 : BitVec 32 := Scalar.addi v418 c1_i32_122
  let v584 : Index := Scalar.indexCast v419
  let c176_152 : Index := 176#32
  ![v584.toNat, 176]
def k0_off323 (v8 : BitVec 32) (v15 : BitVec 32) (k0_t10 : Fin (k0_t10_loop v8 v15).trips) (k0_t15 : Fin (k0_t15_loop v8 v15 k0_t10).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t15
  let v417 : BitVec 32 := Scalar.muli c4_i32_121 arg44
  let v418 : BitVec 32 := Scalar.addi v395 v417
  let v419 : BitVec 32 := Scalar.addi v418 c1_i32_122
  let v590 : Index := Scalar.indexCast v419
  let c192_153 : Index := 192#32
  ![v590.toNat, 192]
def k0_off324 (v8 : BitVec 32) (v15 : BitVec 32) (k0_t10 : Fin (k0_t10_loop v8 v15).trips) (k0_t15 : Fin (k0_t15_loop v8 v15 k0_t10).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t15
  let v417 : BitVec 32 := Scalar.muli c4_i32_121 arg44
  let v418 : BitVec 32 := Scalar.addi v395 v417
  let v419 : BitVec 32 := Scalar.addi v418 c1_i32_122
  let v596 : Index := Scalar.indexCast v419
  let c208_154 : Index := 208#32
  ![v596.toNat, 208]
def k0_off325 (v8 : BitVec 32) (v15 : BitVec 32) (k0_t10 : Fin (k0_t10_loop v8 v15).trips) (k0_t15 : Fin (k0_t15_loop v8 v15 k0_t10).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t15
  let v417 : BitVec 32 := Scalar.muli c4_i32_121 arg44
  let v418 : BitVec 32 := Scalar.addi v395 v417
  let v419 : BitVec 32 := Scalar.addi v418 c1_i32_122
  let v602 : Index := Scalar.indexCast v419
  let c224_155 : Index := 224#32
  ![v602.toNat, 224]
def k0_off326 (v8 : BitVec 32) (v15 : BitVec 32) (k0_t10 : Fin (k0_t10_loop v8 v15).trips) (k0_t15 : Fin (k0_t15_loop v8 v15 k0_t10).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t15
  let v417 : BitVec 32 := Scalar.muli c4_i32_121 arg44
  let v418 : BitVec 32 := Scalar.addi v395 v417
  let v419 : BitVec 32 := Scalar.addi v418 c1_i32_122
  let v608 : Index := Scalar.indexCast v419
  let c240_156 : Index := 240#32
  ![v608.toNat, 240]
@[reducible] def k0_t16_loop (v8 : BitVec 32) (v15 : BitVec 32) (k0_t10 : Fin (k0_t10_loop v8 v15).trips) : Scf.Loop 32 :=
  let c0_i32_113 : BitVec 32 := 0#32
  let c128_i32_111 : BitVec 32 := 128#32
  let c0_i32_110 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v396 : BitVec 32 := Scalar.subi v15 v391
  let v397 : BitVec 32 := Scalar.maxsi c0_i32_110 v396
  let v398 : BitVec 32 := Scalar.minsi c128_i32_111 v397
  let c128_i32_109 : BitVec 32 := 128#32
  let c0_i32_108 : BitVec 32 := 0#32
  let c128_i32_105 : BitVec 32 := 128#32
  let v386 : BitVec 32 := Scalar.muli v385 c128_i32_105
  let v387 : BitVec 32 := Scalar.addi v24 v386
  let v392 : BitVec 32 := Scalar.maxsi v8 v387
  let v393 : BitVec 32 := Scalar.subi v392 v391
  let v394 : BitVec 32 := Scalar.maxsi c0_i32_108 v393
  let v395 : BitVec 32 := Scalar.minsi c128_i32_109 v394
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let v402 : BitVec 32 := Scalar.addi c0_i32_113 v401
  let c1_i32_116 : BitVec 32 := 1#32
  ⟨v405, v402, c1_i32_116⟩
def k0_off327 (v8 : BitVec 32) (v15 : BitVec 32) (k0_t10 : Fin (k0_t10_loop v8 v15).trips) (k0_t16 : Fin (k0_t16_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t16
  let v417 : BitVec 32 := Scalar.muli c4_i32_121 arg44
  let v418 : BitVec 32 := Scalar.addi v395 v417
  let v422 : Index := Scalar.indexCast v418
  let c0_125 : Index := 0#32
  ![v422.toNat, 0]
def k0_off328 (v8 : BitVec 32) (v15 : BitVec 32) (k0_t10 : Fin (k0_t10_loop v8 v15).trips) (k0_t16 : Fin (k0_t16_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t16
  let v417 : BitVec 32 := Scalar.muli c4_i32_121 arg44
  let v418 : BitVec 32 := Scalar.addi v395 v417
  let v428 : Index := Scalar.indexCast v418
  let c16_126 : Index := 16#32
  ![v428.toNat, 16]
def k0_off329 (v8 : BitVec 32) (v15 : BitVec 32) (k0_t10 : Fin (k0_t10_loop v8 v15).trips) (k0_t16 : Fin (k0_t16_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t16
  let v417 : BitVec 32 := Scalar.muli c4_i32_121 arg44
  let v418 : BitVec 32 := Scalar.addi v395 v417
  let v434 : Index := Scalar.indexCast v418
  let c32_127 : Index := 32#32
  ![v434.toNat, 32]
def k0_off330 (v8 : BitVec 32) (v15 : BitVec 32) (k0_t10 : Fin (k0_t10_loop v8 v15).trips) (k0_t16 : Fin (k0_t16_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t16
  let v417 : BitVec 32 := Scalar.muli c4_i32_121 arg44
  let v418 : BitVec 32 := Scalar.addi v395 v417
  let v440 : Index := Scalar.indexCast v418
  let c48_128 : Index := 48#32
  ![v440.toNat, 48]
def k0_off331 (v8 : BitVec 32) (v15 : BitVec 32) (k0_t10 : Fin (k0_t10_loop v8 v15).trips) (k0_t16 : Fin (k0_t16_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t16
  let v417 : BitVec 32 := Scalar.muli c4_i32_121 arg44
  let v418 : BitVec 32 := Scalar.addi v395 v417
  let v446 : Index := Scalar.indexCast v418
  let c64_129 : Index := 64#32
  ![v446.toNat, 64]
def k0_off332 (v8 : BitVec 32) (v15 : BitVec 32) (k0_t10 : Fin (k0_t10_loop v8 v15).trips) (k0_t16 : Fin (k0_t16_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t16
  let v417 : BitVec 32 := Scalar.muli c4_i32_121 arg44
  let v418 : BitVec 32 := Scalar.addi v395 v417
  let v452 : Index := Scalar.indexCast v418
  let c80_130 : Index := 80#32
  ![v452.toNat, 80]
def k0_off333 (v8 : BitVec 32) (v15 : BitVec 32) (k0_t10 : Fin (k0_t10_loop v8 v15).trips) (k0_t16 : Fin (k0_t16_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t16
  let v417 : BitVec 32 := Scalar.muli c4_i32_121 arg44
  let v418 : BitVec 32 := Scalar.addi v395 v417
  let v458 : Index := Scalar.indexCast v418
  let c96_131 : Index := 96#32
  ![v458.toNat, 96]
def k0_off334 (v8 : BitVec 32) (v15 : BitVec 32) (k0_t10 : Fin (k0_t10_loop v8 v15).trips) (k0_t16 : Fin (k0_t16_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t16
  let v417 : BitVec 32 := Scalar.muli c4_i32_121 arg44
  let v418 : BitVec 32 := Scalar.addi v395 v417
  let v464 : Index := Scalar.indexCast v418
  let c112_132 : Index := 112#32
  ![v464.toNat, 112]
def k0_off335 (v8 : BitVec 32) (v15 : BitVec 32) (k0_t10 : Fin (k0_t10_loop v8 v15).trips) (k0_t16 : Fin (k0_t16_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t16
  let v417 : BitVec 32 := Scalar.muli c4_i32_121 arg44
  let v418 : BitVec 32 := Scalar.addi v395 v417
  let v470 : Index := Scalar.indexCast v418
  let c128_133 : Index := 128#32
  ![v470.toNat, 128]
def k0_off336 (v8 : BitVec 32) (v15 : BitVec 32) (k0_t10 : Fin (k0_t10_loop v8 v15).trips) (k0_t16 : Fin (k0_t16_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t16
  let v417 : BitVec 32 := Scalar.muli c4_i32_121 arg44
  let v418 : BitVec 32 := Scalar.addi v395 v417
  let v476 : Index := Scalar.indexCast v418
  let c144_134 : Index := 144#32
  ![v476.toNat, 144]
def k0_off337 (v8 : BitVec 32) (v15 : BitVec 32) (k0_t10 : Fin (k0_t10_loop v8 v15).trips) (k0_t16 : Fin (k0_t16_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t16
  let v417 : BitVec 32 := Scalar.muli c4_i32_121 arg44
  let v418 : BitVec 32 := Scalar.addi v395 v417
  let v482 : Index := Scalar.indexCast v418
  let c160_135 : Index := 160#32
  ![v482.toNat, 160]
def k0_off338 (v8 : BitVec 32) (v15 : BitVec 32) (k0_t10 : Fin (k0_t10_loop v8 v15).trips) (k0_t16 : Fin (k0_t16_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t16
  let v417 : BitVec 32 := Scalar.muli c4_i32_121 arg44
  let v418 : BitVec 32 := Scalar.addi v395 v417
  let v488 : Index := Scalar.indexCast v418
  let c176_136 : Index := 176#32
  ![v488.toNat, 176]
def k0_off339 (v8 : BitVec 32) (v15 : BitVec 32) (k0_t10 : Fin (k0_t10_loop v8 v15).trips) (k0_t16 : Fin (k0_t16_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t16
  let v417 : BitVec 32 := Scalar.muli c4_i32_121 arg44
  let v418 : BitVec 32 := Scalar.addi v395 v417
  let v494 : Index := Scalar.indexCast v418
  let c192_137 : Index := 192#32
  ![v494.toNat, 192]
def k0_off340 (v8 : BitVec 32) (v15 : BitVec 32) (k0_t10 : Fin (k0_t10_loop v8 v15).trips) (k0_t16 : Fin (k0_t16_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t16
  let v417 : BitVec 32 := Scalar.muli c4_i32_121 arg44
  let v418 : BitVec 32 := Scalar.addi v395 v417
  let v500 : Index := Scalar.indexCast v418
  let c208_138 : Index := 208#32
  ![v500.toNat, 208]
def k0_off341 (v8 : BitVec 32) (v15 : BitVec 32) (k0_t10 : Fin (k0_t10_loop v8 v15).trips) (k0_t16 : Fin (k0_t16_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t16
  let v417 : BitVec 32 := Scalar.muli c4_i32_121 arg44
  let v418 : BitVec 32 := Scalar.addi v395 v417
  let v506 : Index := Scalar.indexCast v418
  let c224_139 : Index := 224#32
  ![v506.toNat, 224]
def k0_off342 (v8 : BitVec 32) (v15 : BitVec 32) (k0_t10 : Fin (k0_t10_loop v8 v15).trips) (k0_t16 : Fin (k0_t16_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t16
  let v417 : BitVec 32 := Scalar.muli c4_i32_121 arg44
  let v418 : BitVec 32 := Scalar.addi v395 v417
  let v512 : Index := Scalar.indexCast v418
  let c240_140 : Index := 240#32
  ![v512.toNat, 240]
def k0_off343 (v8 : BitVec 32) (v15 : BitVec 32) (k0_t10 : Fin (k0_t10_loop v8 v15).trips) (k0_t16 : Fin (k0_t16_loop v8 v15 k0_t10).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t16
  let v417 : BitVec 32 := Scalar.muli c4_i32_121 arg44
  let v418 : BitVec 32 := Scalar.addi v395 v417
  let v419 : BitVec 32 := Scalar.addi v418 c1_i32_122
  let v518 : Index := Scalar.indexCast v419
  let c0_141 : Index := 0#32
  ![v518.toNat, 0]
def k0_off344 (v8 : BitVec 32) (v15 : BitVec 32) (k0_t10 : Fin (k0_t10_loop v8 v15).trips) (k0_t16 : Fin (k0_t16_loop v8 v15 k0_t10).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t16
  let v417 : BitVec 32 := Scalar.muli c4_i32_121 arg44
  let v418 : BitVec 32 := Scalar.addi v395 v417
  let v419 : BitVec 32 := Scalar.addi v418 c1_i32_122
  let v524 : Index := Scalar.indexCast v419
  let c16_142 : Index := 16#32
  ![v524.toNat, 16]
def k0_off345 (v8 : BitVec 32) (v15 : BitVec 32) (k0_t10 : Fin (k0_t10_loop v8 v15).trips) (k0_t16 : Fin (k0_t16_loop v8 v15 k0_t10).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t16
  let v417 : BitVec 32 := Scalar.muli c4_i32_121 arg44
  let v418 : BitVec 32 := Scalar.addi v395 v417
  let v419 : BitVec 32 := Scalar.addi v418 c1_i32_122
  let v530 : Index := Scalar.indexCast v419
  let c32_143 : Index := 32#32
  ![v530.toNat, 32]
def k0_off346 (v8 : BitVec 32) (v15 : BitVec 32) (k0_t10 : Fin (k0_t10_loop v8 v15).trips) (k0_t16 : Fin (k0_t16_loop v8 v15 k0_t10).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t16
  let v417 : BitVec 32 := Scalar.muli c4_i32_121 arg44
  let v418 : BitVec 32 := Scalar.addi v395 v417
  let v419 : BitVec 32 := Scalar.addi v418 c1_i32_122
  let v536 : Index := Scalar.indexCast v419
  let c48_144 : Index := 48#32
  ![v536.toNat, 48]
def k0_off347 (v8 : BitVec 32) (v15 : BitVec 32) (k0_t10 : Fin (k0_t10_loop v8 v15).trips) (k0_t16 : Fin (k0_t16_loop v8 v15 k0_t10).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t16
  let v417 : BitVec 32 := Scalar.muli c4_i32_121 arg44
  let v418 : BitVec 32 := Scalar.addi v395 v417
  let v419 : BitVec 32 := Scalar.addi v418 c1_i32_122
  let v542 : Index := Scalar.indexCast v419
  let c64_145 : Index := 64#32
  ![v542.toNat, 64]
def k0_off348 (v8 : BitVec 32) (v15 : BitVec 32) (k0_t10 : Fin (k0_t10_loop v8 v15).trips) (k0_t16 : Fin (k0_t16_loop v8 v15 k0_t10).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t16
  let v417 : BitVec 32 := Scalar.muli c4_i32_121 arg44
  let v418 : BitVec 32 := Scalar.addi v395 v417
  let v419 : BitVec 32 := Scalar.addi v418 c1_i32_122
  let v548 : Index := Scalar.indexCast v419
  let c80_146 : Index := 80#32
  ![v548.toNat, 80]
def k0_off349 (v8 : BitVec 32) (v15 : BitVec 32) (k0_t10 : Fin (k0_t10_loop v8 v15).trips) (k0_t16 : Fin (k0_t16_loop v8 v15 k0_t10).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t16
  let v417 : BitVec 32 := Scalar.muli c4_i32_121 arg44
  let v418 : BitVec 32 := Scalar.addi v395 v417
  let v419 : BitVec 32 := Scalar.addi v418 c1_i32_122
  let v554 : Index := Scalar.indexCast v419
  let c96_147 : Index := 96#32
  ![v554.toNat, 96]
def k0_off350 (v8 : BitVec 32) (v15 : BitVec 32) (k0_t10 : Fin (k0_t10_loop v8 v15).trips) (k0_t16 : Fin (k0_t16_loop v8 v15 k0_t10).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t16
  let v417 : BitVec 32 := Scalar.muli c4_i32_121 arg44
  let v418 : BitVec 32 := Scalar.addi v395 v417
  let v419 : BitVec 32 := Scalar.addi v418 c1_i32_122
  let v560 : Index := Scalar.indexCast v419
  let c112_148 : Index := 112#32
  ![v560.toNat, 112]
def k0_off351 (v8 : BitVec 32) (v15 : BitVec 32) (k0_t10 : Fin (k0_t10_loop v8 v15).trips) (k0_t16 : Fin (k0_t16_loop v8 v15 k0_t10).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t16
  let v417 : BitVec 32 := Scalar.muli c4_i32_121 arg44
  let v418 : BitVec 32 := Scalar.addi v395 v417
  let v419 : BitVec 32 := Scalar.addi v418 c1_i32_122
  let v566 : Index := Scalar.indexCast v419
  let c128_149 : Index := 128#32
  ![v566.toNat, 128]
def k0_off352 (v8 : BitVec 32) (v15 : BitVec 32) (k0_t10 : Fin (k0_t10_loop v8 v15).trips) (k0_t16 : Fin (k0_t16_loop v8 v15 k0_t10).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t16
  let v417 : BitVec 32 := Scalar.muli c4_i32_121 arg44
  let v418 : BitVec 32 := Scalar.addi v395 v417
  let v419 : BitVec 32 := Scalar.addi v418 c1_i32_122
  let v572 : Index := Scalar.indexCast v419
  let c144_150 : Index := 144#32
  ![v572.toNat, 144]
def k0_off353 (v8 : BitVec 32) (v15 : BitVec 32) (k0_t10 : Fin (k0_t10_loop v8 v15).trips) (k0_t16 : Fin (k0_t16_loop v8 v15 k0_t10).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t16
  let v417 : BitVec 32 := Scalar.muli c4_i32_121 arg44
  let v418 : BitVec 32 := Scalar.addi v395 v417
  let v419 : BitVec 32 := Scalar.addi v418 c1_i32_122
  let v578 : Index := Scalar.indexCast v419
  let c160_151 : Index := 160#32
  ![v578.toNat, 160]
def k0_off354 (v8 : BitVec 32) (v15 : BitVec 32) (k0_t10 : Fin (k0_t10_loop v8 v15).trips) (k0_t16 : Fin (k0_t16_loop v8 v15 k0_t10).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t16
  let v417 : BitVec 32 := Scalar.muli c4_i32_121 arg44
  let v418 : BitVec 32 := Scalar.addi v395 v417
  let v419 : BitVec 32 := Scalar.addi v418 c1_i32_122
  let v584 : Index := Scalar.indexCast v419
  let c176_152 : Index := 176#32
  ![v584.toNat, 176]
def k0_off355 (v8 : BitVec 32) (v15 : BitVec 32) (k0_t10 : Fin (k0_t10_loop v8 v15).trips) (k0_t16 : Fin (k0_t16_loop v8 v15 k0_t10).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t16
  let v417 : BitVec 32 := Scalar.muli c4_i32_121 arg44
  let v418 : BitVec 32 := Scalar.addi v395 v417
  let v419 : BitVec 32 := Scalar.addi v418 c1_i32_122
  let v590 : Index := Scalar.indexCast v419
  let c192_153 : Index := 192#32
  ![v590.toNat, 192]
def k0_off356 (v8 : BitVec 32) (v15 : BitVec 32) (k0_t10 : Fin (k0_t10_loop v8 v15).trips) (k0_t16 : Fin (k0_t16_loop v8 v15 k0_t10).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t16
  let v417 : BitVec 32 := Scalar.muli c4_i32_121 arg44
  let v418 : BitVec 32 := Scalar.addi v395 v417
  let v419 : BitVec 32 := Scalar.addi v418 c1_i32_122
  let v596 : Index := Scalar.indexCast v419
  let c208_154 : Index := 208#32
  ![v596.toNat, 208]
def k0_off357 (v8 : BitVec 32) (v15 : BitVec 32) (k0_t10 : Fin (k0_t10_loop v8 v15).trips) (k0_t16 : Fin (k0_t16_loop v8 v15 k0_t10).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t16
  let v417 : BitVec 32 := Scalar.muli c4_i32_121 arg44
  let v418 : BitVec 32 := Scalar.addi v395 v417
  let v419 : BitVec 32 := Scalar.addi v418 c1_i32_122
  let v602 : Index := Scalar.indexCast v419
  let c224_155 : Index := 224#32
  ![v602.toNat, 224]
def k0_off358 (v8 : BitVec 32) (v15 : BitVec 32) (k0_t10 : Fin (k0_t10_loop v8 v15).trips) (k0_t16 : Fin (k0_t16_loop v8 v15 k0_t10).trips) (c1_i32_122 : BitVec 32) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t16
  let v417 : BitVec 32 := Scalar.muli c4_i32_121 arg44
  let v418 : BitVec 32 := Scalar.addi v395 v417
  let v419 : BitVec 32 := Scalar.addi v418 c1_i32_122
  let v608 : Index := Scalar.indexCast v419
  let c240_156 : Index := 240#32
  ![v608.toNat, 240]
@[reducible] def k0_t17_loop (v8 : BitVec 32) (v15 : BitVec 32) (k0_t10 : Fin (k0_t10_loop v8 v15).trips) : Scf.Loop 32 :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_119 : BitVec 32 := 1#32
  ⟨v409, v414, c1_i32_119⟩
def k0_off359 (v8 : BitVec 32) (v15 : BitVec 32) (k0_t10 : Fin (k0_t10_loop v8 v15).trips) (k0_t17 : Fin (k0_t17_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t17
  let v417 : Index := Scalar.indexCast arg44
  let c0_121 : Index := 0#32
  ![v417.toNat, 0]
def k0_off360 (v8 : BitVec 32) (v15 : BitVec 32) (k0_t10 : Fin (k0_t10_loop v8 v15).trips) (k0_t17 : Fin (k0_t17_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t17
  let v423 : Index := Scalar.indexCast arg44
  let c16_122 : Index := 16#32
  ![v423.toNat, 16]
def k0_off361 (v8 : BitVec 32) (v15 : BitVec 32) (k0_t10 : Fin (k0_t10_loop v8 v15).trips) (k0_t17 : Fin (k0_t17_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t17
  let v429 : Index := Scalar.indexCast arg44
  let c32_123 : Index := 32#32
  ![v429.toNat, 32]
def k0_off362 (v8 : BitVec 32) (v15 : BitVec 32) (k0_t10 : Fin (k0_t10_loop v8 v15).trips) (k0_t17 : Fin (k0_t17_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t17
  let v435 : Index := Scalar.indexCast arg44
  let c48_124 : Index := 48#32
  ![v435.toNat, 48]
def k0_off363 (v8 : BitVec 32) (v15 : BitVec 32) (k0_t10 : Fin (k0_t10_loop v8 v15).trips) (k0_t17 : Fin (k0_t17_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t17
  let v441 : Index := Scalar.indexCast arg44
  let c64_125 : Index := 64#32
  ![v441.toNat, 64]
def k0_off364 (v8 : BitVec 32) (v15 : BitVec 32) (k0_t10 : Fin (k0_t10_loop v8 v15).trips) (k0_t17 : Fin (k0_t17_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t17
  let v447 : Index := Scalar.indexCast arg44
  let c80_126 : Index := 80#32
  ![v447.toNat, 80]
def k0_off365 (v8 : BitVec 32) (v15 : BitVec 32) (k0_t10 : Fin (k0_t10_loop v8 v15).trips) (k0_t17 : Fin (k0_t17_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t17
  let v453 : Index := Scalar.indexCast arg44
  let c96_127 : Index := 96#32
  ![v453.toNat, 96]
def k0_off366 (v8 : BitVec 32) (v15 : BitVec 32) (k0_t10 : Fin (k0_t10_loop v8 v15).trips) (k0_t17 : Fin (k0_t17_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t17
  let v459 : Index := Scalar.indexCast arg44
  let c112_128 : Index := 112#32
  ![v459.toNat, 112]
def k0_off367 (v8 : BitVec 32) (v15 : BitVec 32) (k0_t10 : Fin (k0_t10_loop v8 v15).trips) (k0_t17 : Fin (k0_t17_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t17
  let v465 : Index := Scalar.indexCast arg44
  let c128_129 : Index := 128#32
  ![v465.toNat, 128]
def k0_off368 (v8 : BitVec 32) (v15 : BitVec 32) (k0_t10 : Fin (k0_t10_loop v8 v15).trips) (k0_t17 : Fin (k0_t17_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t17
  let v471 : Index := Scalar.indexCast arg44
  let c144_130 : Index := 144#32
  ![v471.toNat, 144]
def k0_off369 (v8 : BitVec 32) (v15 : BitVec 32) (k0_t10 : Fin (k0_t10_loop v8 v15).trips) (k0_t17 : Fin (k0_t17_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t17
  let v477 : Index := Scalar.indexCast arg44
  let c160_131 : Index := 160#32
  ![v477.toNat, 160]
def k0_off370 (v8 : BitVec 32) (v15 : BitVec 32) (k0_t10 : Fin (k0_t10_loop v8 v15).trips) (k0_t17 : Fin (k0_t17_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t17
  let v483 : Index := Scalar.indexCast arg44
  let c176_132 : Index := 176#32
  ![v483.toNat, 176]
def k0_off371 (v8 : BitVec 32) (v15 : BitVec 32) (k0_t10 : Fin (k0_t10_loop v8 v15).trips) (k0_t17 : Fin (k0_t17_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t17
  let v489 : Index := Scalar.indexCast arg44
  let c192_133 : Index := 192#32
  ![v489.toNat, 192]
def k0_off372 (v8 : BitVec 32) (v15 : BitVec 32) (k0_t10 : Fin (k0_t10_loop v8 v15).trips) (k0_t17 : Fin (k0_t17_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t17
  let v495 : Index := Scalar.indexCast arg44
  let c208_134 : Index := 208#32
  ![v495.toNat, 208]
def k0_off373 (v8 : BitVec 32) (v15 : BitVec 32) (k0_t10 : Fin (k0_t10_loop v8 v15).trips) (k0_t17 : Fin (k0_t17_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t17
  let v501 : Index := Scalar.indexCast arg44
  let c224_135 : Index := 224#32
  ![v501.toNat, 224]
def k0_off374 (v8 : BitVec 32) (v15 : BitVec 32) (k0_t10 : Fin (k0_t10_loop v8 v15).trips) (k0_t17 : Fin (k0_t17_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t17
  let v507 : Index := Scalar.indexCast arg44
  let c240_136 : Index := 240#32
  ![v507.toNat, 240]
@[reducible] def k0_t18_loop (v8 : BitVec 32) (v15 : BitVec 32) (k0_t10 : Fin (k0_t10_loop v8 v15).trips) : Scf.Loop 32 :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let v411 : BitVec 32 := Scalar.addi v409 v410
  let c1_i32_120 : BitVec 32 := 1#32
  ⟨v414, v411, c1_i32_120⟩
def k0_off375 (v8 : BitVec 32) (v15 : BitVec 32) (k0_t10 : Fin (k0_t10_loop v8 v15).trips) (k0_t18 : Fin (k0_t18_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t18
  let v417 : Index := Scalar.indexCast arg44
  let c0_121 : Index := 0#32
  ![v417.toNat, 0]
def k0_off376 (v8 : BitVec 32) (v15 : BitVec 32) (k0_t10 : Fin (k0_t10_loop v8 v15).trips) (k0_t18 : Fin (k0_t18_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t18
  let v423 : Index := Scalar.indexCast arg44
  let c16_122 : Index := 16#32
  ![v423.toNat, 16]
def k0_off377 (v8 : BitVec 32) (v15 : BitVec 32) (k0_t10 : Fin (k0_t10_loop v8 v15).trips) (k0_t18 : Fin (k0_t18_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t18
  let v429 : Index := Scalar.indexCast arg44
  let c32_123 : Index := 32#32
  ![v429.toNat, 32]
def k0_off378 (v8 : BitVec 32) (v15 : BitVec 32) (k0_t10 : Fin (k0_t10_loop v8 v15).trips) (k0_t18 : Fin (k0_t18_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t18
  let v435 : Index := Scalar.indexCast arg44
  let c48_124 : Index := 48#32
  ![v435.toNat, 48]
def k0_off379 (v8 : BitVec 32) (v15 : BitVec 32) (k0_t10 : Fin (k0_t10_loop v8 v15).trips) (k0_t18 : Fin (k0_t18_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t18
  let v441 : Index := Scalar.indexCast arg44
  let c64_125 : Index := 64#32
  ![v441.toNat, 64]
def k0_off380 (v8 : BitVec 32) (v15 : BitVec 32) (k0_t10 : Fin (k0_t10_loop v8 v15).trips) (k0_t18 : Fin (k0_t18_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t18
  let v447 : Index := Scalar.indexCast arg44
  let c80_126 : Index := 80#32
  ![v447.toNat, 80]
def k0_off381 (v8 : BitVec 32) (v15 : BitVec 32) (k0_t10 : Fin (k0_t10_loop v8 v15).trips) (k0_t18 : Fin (k0_t18_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t18
  let v453 : Index := Scalar.indexCast arg44
  let c96_127 : Index := 96#32
  ![v453.toNat, 96]
def k0_off382 (v8 : BitVec 32) (v15 : BitVec 32) (k0_t10 : Fin (k0_t10_loop v8 v15).trips) (k0_t18 : Fin (k0_t18_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t18
  let v459 : Index := Scalar.indexCast arg44
  let c112_128 : Index := 112#32
  ![v459.toNat, 112]
def k0_off383 (v8 : BitVec 32) (v15 : BitVec 32) (k0_t10 : Fin (k0_t10_loop v8 v15).trips) (k0_t18 : Fin (k0_t18_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t18
  let v465 : Index := Scalar.indexCast arg44
  let c128_129 : Index := 128#32
  ![v465.toNat, 128]
def k0_off384 (v8 : BitVec 32) (v15 : BitVec 32) (k0_t10 : Fin (k0_t10_loop v8 v15).trips) (k0_t18 : Fin (k0_t18_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t18
  let v471 : Index := Scalar.indexCast arg44
  let c144_130 : Index := 144#32
  ![v471.toNat, 144]
def k0_off385 (v8 : BitVec 32) (v15 : BitVec 32) (k0_t10 : Fin (k0_t10_loop v8 v15).trips) (k0_t18 : Fin (k0_t18_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t18
  let v477 : Index := Scalar.indexCast arg44
  let c160_131 : Index := 160#32
  ![v477.toNat, 160]
def k0_off386 (v8 : BitVec 32) (v15 : BitVec 32) (k0_t10 : Fin (k0_t10_loop v8 v15).trips) (k0_t18 : Fin (k0_t18_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t18
  let v483 : Index := Scalar.indexCast arg44
  let c176_132 : Index := 176#32
  ![v483.toNat, 176]
def k0_off387 (v8 : BitVec 32) (v15 : BitVec 32) (k0_t10 : Fin (k0_t10_loop v8 v15).trips) (k0_t18 : Fin (k0_t18_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t18
  let v489 : Index := Scalar.indexCast arg44
  let c192_133 : Index := 192#32
  ![v489.toNat, 192]
def k0_off388 (v8 : BitVec 32) (v15 : BitVec 32) (k0_t10 : Fin (k0_t10_loop v8 v15).trips) (k0_t18 : Fin (k0_t18_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t18
  let v495 : Index := Scalar.indexCast arg44
  let c208_134 : Index := 208#32
  ![v495.toNat, 208]
def k0_off389 (v8 : BitVec 32) (v15 : BitVec 32) (k0_t10 : Fin (k0_t10_loop v8 v15).trips) (k0_t18 : Fin (k0_t18_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t18
  let v501 : Index := Scalar.indexCast arg44
  let c224_135 : Index := 224#32
  ![v501.toNat, 224]
def k0_off390 (v8 : BitVec 32) (v15 : BitVec 32) (k0_t10 : Fin (k0_t10_loop v8 v15).trips) (k0_t18 : Fin (k0_t18_loop v8 v15 k0_t10).trips) : Fin 2 → Nat :=
  let c128_i32_109 : BitVec 32 := 128#32
  let c0_i32_108 : BitVec 32 := 0#32
  let c3_i32 : BitVec 32 := 3#32
  let v23 : BitVec 32 := Scalar.shrsi v8 c3_i32
  let c3_i32_4 : BitVec 32 := 3#32
  let v24 : BitVec 32 := Scalar.shli v23 c3_i32_4
  let c2_i32_103 : BitVec 32 := 2#32
  let c0_i32_25 : BitVec 32 := 0#32
  let v25 : BitVec 32 := Scalar.subi v15 v24
  let c127_i32 : BitVec 32 := 127#32
  let v26 : BitVec 32 := Scalar.addi v25 c127_i32
  let c0_i32_5 : BitVec 32 := 0#32
  let v28 : BitVec 1 := Scalar.cmpi .sgt v26 c0_i32_5
  let v29 : BitVec 32 := Scalar.extui v28
  let c0_i32_6 : BitVec 32 := 0#32
  let v30 : BitVec 1 := Scalar.cmpi .slt v26 c0_i32_6
  let v31 : BitVec 32 := Scalar.extui v30
  let v32 : BitVec 32 := Scalar.subi v29 v31
  let c128_i32 : BitVec 32 := 128#32
  let c0_i32_7 : BitVec 32 := 0#32
  let v33 : BitVec 1 := Scalar.cmpi .sgt c128_i32 c0_i32_7
  let v34 : BitVec 32 := Scalar.extui v33
  let c0_i32_8 : BitVec 32 := 0#32
  let v35 : BitVec 1 := Scalar.cmpi .slt c128_i32 c0_i32_8
  let v36 : BitVec 32 := Scalar.extui v35
  let v37 : BitVec 32 := Scalar.subi v34 v36
  let v38 : BitVec 1 := Scalar.cmpi .ne v32 v37
  let v39 : BitVec 32 := Scalar.remsi v26 c128_i32
  let c0_i32_9 : BitVec 32 := 0#32
  let v40 : BitVec 1 := Scalar.cmpi .ne v39 c0_i32_9
  let v41 : BitVec 1 := Scalar.andi v38 v40
  let v27 : BitVec 32 := Scalar.divsi v26 c128_i32
  let c1_i32_10 : BitVec 32 := 1#32
  let v42 : BitVec 32 := Scalar.subi v27 c1_i32_10
  let v43 : BitVec 32 := Scalar.select v41 v42 v27
  let c1_i32_11 : BitVec 32 := 1#32
  let v44 : BitVec 32 := Scalar.addi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c2_i32_12 : BitVec 32 := 2#32
  let c0_i32_15 : BitVec 32 := 0#32
  let v51 : BitVec 1 := Scalar.cmpi .sgt c2_i32_12 c0_i32_15
  let v52 : BitVec 32 := Scalar.extui v51
  let c0_i32_16 : BitVec 32 := 0#32
  let v53 : BitVec 1 := Scalar.cmpi .slt c2_i32_12 c0_i32_16
  let v54 : BitVec 32 := Scalar.extui v53
  let v55 : BitVec 32 := Scalar.subi v52 v54
  let v56 : BitVec 1 := Scalar.cmpi .ne v50 v55
  let v57 : BitVec 32 := Scalar.remsi v44 c2_i32_12
  let c0_i32_17 : BitVec 32 := 0#32
  let v58 : BitVec 1 := Scalar.cmpi .ne v57 c0_i32_17
  let v59 : BitVec 1 := Scalar.andi v56 v58
  let v45 : BitVec 32 := Scalar.divsi v44 c2_i32_12
  let c1_i32_18 : BitVec 32 := 1#32
  let v60 : BitVec 32 := Scalar.subi v45 c1_i32_18
  let v61 : BitVec 32 := Scalar.select v59 v60 v45
  let c1_i32_19 : BitVec 32 := 1#32
  let v62 : BitVec 32 := Scalar.maxsi v61 c1_i32_19
  let v71 : BitVec 32 := Scalar.subi v62 c0_i32_25
  let c1_i32_26 : BitVec 32 := 1#32
  let v73 : BitVec 32 := Scalar.divsi v71 c1_i32_26
  let v74 : BitVec 32 := Scalar.muli v73 c1_i32_26
  let v75 : BitVec 32 := Scalar.addi c0_i32_25 v74
  let c1_i32_28 : BitVec 32 := 1#32
  let arg11 : BitVec 32 := Scf.iv v75 c1_i32_28 k0_t10
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v24 v386
  let v392 : BitVec 32 := Scalar.maxsi v8 v387
  let c128_i32_106 : BitVec 32 := 128#32
  let v388 : BitVec 32 := Scalar.muli v385 c128_i32_106
  let v389 : BitVec 32 := Scalar.addi v24 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v15 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t18
  let v507 : Index := Scalar.indexCast arg44
  let c240_136 : Index := 240#32
  ![v507.toNat, 240]
def k0_mult10 (v15 : BitVec 32) : BitVec 32 :=
  let c3_i32_33 : BitVec 32 := 3#32
  let v176 : BitVec 32 := Scalar.shrsi v15 c3_i32_33
  let c3_i32_34 : BitVec 32 := 3#32
  let v177 : BitVec 32 := Scalar.shli v176 c3_i32_34
  let c0_i32_55 : BitVec 32 := 0#32
  let v219 : BitVec 32 := Scalar.addi v177 c0_i32_55
  let c49872_i32_56 : BitVec 32 := 49872#32
  let v220 : BitVec 32 := Scalar.minsi v219 c49872_i32_56
  v220
def k0_off391 (v15 : BitVec 32) : Fin 2 → Nat :=
  let c3_i32_33 : BitVec 32 := 3#32
  let v176 : BitVec 32 := Scalar.shrsi v15 c3_i32_33
  let c3_i32_34 : BitVec 32 := 3#32
  let v177 : BitVec 32 := Scalar.shli v176 c3_i32_34
  let c0_i32_55 : BitVec 32 := 0#32
  let v219 : BitVec 32 := Scalar.addi v177 c0_i32_55
  let c49872_i32_56 : BitVec 32 := 49872#32
  let v220 : BitVec 32 := Scalar.minsi v219 c49872_i32_56
  let v221 : BitVec 32 := v220
  let c0_i32_57 : BitVec 32 := 0#32
  ![v221.toNat, 0]

def k0_chk2_0 (v8 : BitVec 32) (v15 : BitVec 32) : Prop :=
  ((k0_t1_loop v8 v15).OK) ∧
  (∀ k0_t1 : Fin (k0_t1_loop v8 v15).trips, 8 ∣ (k0_mult2 v8 v15 k0_t1).toNat) ∧
  (∀ k0_t1 : Fin (k0_t1_loop v8 v15).trips, ∀ a, (k0_off3 v8 v15 k0_t1) a + S128x256.size a ≤ S50000x256.size a) ∧
  (∀ k0_t1 : Fin (k0_t1_loop v8 v15).trips, 8 ∣ (k0_mult3 v8 v15 k0_t1).toNat) ∧
  (∀ k0_t1 : Fin (k0_t1_loop v8 v15).trips, (k0_t2_loop v8 v15 k0_t1).OK) ∧
  (∀ (k0_t1 : Fin (k0_t1_loop v8 v15).trips) (k0_t2 : Fin (k0_t2_loop v8 v15 k0_t1).trips), ∀ a, (k0_off4 v8 v15 k0_t1 k0_t2) a + S1x16.size a ≤ S128x256.size a) ∧
  (∀ (k0_t1 : Fin (k0_t1_loop v8 v15).trips) (k0_t2 : Fin (k0_t2_loop v8 v15 k0_t1).trips), ∀ a, (k0_off5 v8 v15 k0_t1 k0_t2) a + S1x16.size a ≤ S128x256.size a) ∧
  (∀ (k0_t1 : Fin (k0_t1_loop v8 v15).trips) (k0_t2 : Fin (k0_t2_loop v8 v15 k0_t1).trips), ∀ a, (k0_off6 v8 v15 k0_t1 k0_t2) a + S1x16.size a ≤ S128x256.size a) ∧
  (∀ (k0_t1 : Fin (k0_t1_loop v8 v15).trips) (k0_t2 : Fin (k0_t2_loop v8 v15 k0_t1).trips), ∀ a, (k0_off7 v8 v15 k0_t1 k0_t2) a + S1x16.size a ≤ S128x256.size a) ∧
  (∀ (k0_t1 : Fin (k0_t1_loop v8 v15).trips) (k0_t2 : Fin (k0_t2_loop v8 v15 k0_t1).trips), ∀ a, (k0_off8 v8 v15 k0_t1 k0_t2) a + S1x16.size a ≤ S128x256.size a) ∧
  (∀ (k0_t1 : Fin (k0_t1_loop v8 v15).trips) (k0_t2 : Fin (k0_t2_loop v8 v15 k0_t1).trips), ∀ a, (k0_off9 v8 v15 k0_t1 k0_t2) a + S1x16.size a ≤ S128x256.size a) ∧
  (∀ (k0_t1 : Fin (k0_t1_loop v8 v15).trips) (k0_t2 : Fin (k0_t2_loop v8 v15 k0_t1).trips), ∀ a, (k0_off10 v8 v15 k0_t1 k0_t2) a + S1x16.size a ≤ S128x256.size a) ∧
  (∀ (k0_t1 : Fin (k0_t1_loop v8 v15).trips) (k0_t2 : Fin (k0_t2_loop v8 v15 k0_t1).trips), ∀ a, (k0_off11 v8 v15 k0_t1 k0_t2) a + S1x16.size a ≤ S128x256.size a) ∧
  (∀ (k0_t1 : Fin (k0_t1_loop v8 v15).trips) (k0_t2 : Fin (k0_t2_loop v8 v15 k0_t1).trips), ∀ a, (k0_off12 v8 v15 k0_t1 k0_t2) a + S1x16.size a ≤ S128x256.size a) ∧
  (∀ (k0_t1 : Fin (k0_t1_loop v8 v15).trips) (k0_t2 : Fin (k0_t2_loop v8 v15 k0_t1).trips), ∀ a, (k0_off13 v8 v15 k0_t1 k0_t2) a + S1x16.size a ≤ S128x256.size a) ∧
  (∀ (k0_t1 : Fin (k0_t1_loop v8 v15).trips) (k0_t2 : Fin (k0_t2_loop v8 v15 k0_t1).trips), ∀ a, (k0_off14 v8 v15 k0_t1 k0_t2) a + S1x16.size a ≤ S128x256.size a) ∧
  (∀ (k0_t1 : Fin (k0_t1_loop v8 v15).trips) (k0_t2 : Fin (k0_t2_loop v8 v15 k0_t1).trips), ∀ a, (k0_off15 v8 v15 k0_t1 k0_t2) a + S1x16.size a ≤ S128x256.size a) ∧
  (∀ (k0_t1 : Fin (k0_t1_loop v8 v15).trips) (k0_t2 : Fin (k0_t2_loop v8 v15 k0_t1).trips), ∀ a, (k0_off16 v8 v15 k0_t1 k0_t2) a + S1x16.size a ≤ S128x256.size a) ∧
  (∀ (k0_t1 : Fin (k0_t1_loop v8 v15).trips) (k0_t2 : Fin (k0_t2_loop v8 v15 k0_t1).trips), ∀ a, (k0_off17 v8 v15 k0_t1 k0_t2) a + S1x16.size a ≤ S128x256.size a) ∧
  (∀ (k0_t1 : Fin (k0_t1_loop v8 v15).trips) (k0_t2 : Fin (k0_t2_loop v8 v15 k0_t1).trips), ∀ a, (k0_off18 v8 v15 k0_t1 k0_t2) a + S1x16.size a ≤ S128x256.size a) ∧
  (∀ (k0_t1 : Fin (k0_t1_loop v8 v15).trips) (k0_t2 : Fin (k0_t2_loop v8 v15 k0_t1).trips), ∀ a, (k0_off19 v8 v15 k0_t1 k0_t2) a + S1x16.size a ≤ S128x256.size a) ∧
  (∀ (k0_t1 : Fin (k0_t1_loop v8 v15).trips) (k0_t2 : Fin (k0_t2_loop v8 v15 k0_t1).trips), ∀ (r : Fin 3), ∀ a, (k0_off20 v8 v15 k0_t1 k0_t2 (BitVec.ofNat 32 (1 + r.val))) a + S1x16.size a ≤ S128x256.size a) ∧
  (∀ (k0_t1 : Fin (k0_t1_loop v8 v15).trips) (k0_t2 : Fin (k0_t2_loop v8 v15 k0_t1).trips), ∀ (r : Fin 3), ∀ a, (k0_off21 v8 v15 k0_t1 k0_t2 (BitVec.ofNat 32 (1 + r.val))) a + S1x16.size a ≤ S128x256.size a) ∧
  (∀ (k0_t1 : Fin (k0_t1_loop v8 v15).trips) (k0_t2 : Fin (k0_t2_loop v8 v15 k0_t1).trips), ∀ (r : Fin 3), ∀ a, (k0_off22 v8 v15 k0_t1 k0_t2 (BitVec.ofNat 32 (1 + r.val))) a + S1x16.size a ≤ S128x256.size a) ∧
  (∀ (k0_t1 : Fin (k0_t1_loop v8 v15).trips) (k0_t2 : Fin (k0_t2_loop v8 v15 k0_t1).trips), ∀ (r : Fin 3), ∀ a, (k0_off23 v8 v15 k0_t1 k0_t2 (BitVec.ofNat 32 (1 + r.val))) a + S1x16.size a ≤ S128x256.size a) ∧
  (∀ (k0_t1 : Fin (k0_t1_loop v8 v15).trips) (k0_t2 : Fin (k0_t2_loop v8 v15 k0_t1).trips), ∀ (r : Fin 3), ∀ a, (k0_off24 v8 v15 k0_t1 k0_t2 (BitVec.ofNat 32 (1 + r.val))) a + S1x16.size a ≤ S128x256.size a) ∧
  (∀ (k0_t1 : Fin (k0_t1_loop v8 v15).trips) (k0_t2 : Fin (k0_t2_loop v8 v15 k0_t1).trips), ∀ (r : Fin 3), ∀ a, (k0_off25 v8 v15 k0_t1 k0_t2 (BitVec.ofNat 32 (1 + r.val))) a + S1x16.size a ≤ S128x256.size a) ∧
  (∀ (k0_t1 : Fin (k0_t1_loop v8 v15).trips) (k0_t2 : Fin (k0_t2_loop v8 v15 k0_t1).trips), ∀ (r : Fin 3), ∀ a, (k0_off26 v8 v15 k0_t1 k0_t2 (BitVec.ofNat 32 (1 + r.val))) a + S1x16.size a ≤ S128x256.size a) ∧
  (∀ (k0_t1 : Fin (k0_t1_loop v8 v15).trips) (k0_t2 : Fin (k0_t2_loop v8 v15 k0_t1).trips), ∀ (r : Fin 3), ∀ a, (k0_off27 v8 v15 k0_t1 k0_t2 (BitVec.ofNat 32 (1 + r.val))) a + S1x16.size a ≤ S128x256.size a) ∧
  (∀ (k0_t1 : Fin (k0_t1_loop v8 v15).trips) (k0_t2 : Fin (k0_t2_loop v8 v15 k0_t1).trips), ∀ (r : Fin 3), ∀ a, (k0_off28 v8 v15 k0_t1 k0_t2 (BitVec.ofNat 32 (1 + r.val))) a + S1x16.size a ≤ S128x256.size a) ∧
  (∀ (k0_t1 : Fin (k0_t1_loop v8 v15).trips) (k0_t2 : Fin (k0_t2_loop v8 v15 k0_t1).trips), ∀ (r : Fin 3), ∀ a, (k0_off29 v8 v15 k0_t1 k0_t2 (BitVec.ofNat 32 (1 + r.val))) a + S1x16.size a ≤ S128x256.size a) ∧
  (∀ (k0_t1 : Fin (k0_t1_loop v8 v15).trips) (k0_t2 : Fin (k0_t2_loop v8 v15 k0_t1).trips), ∀ (r : Fin 3), ∀ a, (k0_off30 v8 v15 k0_t1 k0_t2 (BitVec.ofNat 32 (1 + r.val))) a + S1x16.size a ≤ S128x256.size a)
def k0_chk2_1 (v8 : BitVec 32) (v15 : BitVec 32) : Prop :=
  (∀ (k0_t1 : Fin (k0_t1_loop v8 v15).trips) (k0_t2 : Fin (k0_t2_loop v8 v15 k0_t1).trips), ∀ (r : Fin 3), ∀ a, (k0_off31 v8 v15 k0_t1 k0_t2 (BitVec.ofNat 32 (1 + r.val))) a + S1x16.size a ≤ S128x256.size a) ∧
  (∀ (k0_t1 : Fin (k0_t1_loop v8 v15).trips) (k0_t2 : Fin (k0_t2_loop v8 v15 k0_t1).trips), ∀ (r : Fin 3), ∀ a, (k0_off32 v8 v15 k0_t1 k0_t2 (BitVec.ofNat 32 (1 + r.val))) a + S1x16.size a ≤ S128x256.size a) ∧
  (∀ (k0_t1 : Fin (k0_t1_loop v8 v15).trips) (k0_t2 : Fin (k0_t2_loop v8 v15 k0_t1).trips), ∀ (r : Fin 3), ∀ a, (k0_off33 v8 v15 k0_t1 k0_t2 (BitVec.ofNat 32 (1 + r.val))) a + S1x16.size a ≤ S128x256.size a) ∧
  (∀ (k0_t1 : Fin (k0_t1_loop v8 v15).trips) (k0_t2 : Fin (k0_t2_loop v8 v15 k0_t1).trips), ∀ (r : Fin 3), ∀ a, (k0_off34 v8 v15 k0_t1 k0_t2 (BitVec.ofNat 32 (1 + r.val))) a + S1x16.size a ≤ S128x256.size a) ∧
  (∀ (k0_t1 : Fin (k0_t1_loop v8 v15).trips) (k0_t2 : Fin (k0_t2_loop v8 v15 k0_t1).trips), ∀ (r : Fin 3), ∀ a, (k0_off35 v8 v15 k0_t1 k0_t2 (BitVec.ofNat 32 (1 + r.val))) a + S1x16.size a ≤ S128x256.size a) ∧
  (∀ k0_t1 : Fin (k0_t1_loop v8 v15).trips, (k0_t3_loop v8 v15 k0_t1).OK) ∧
  (∀ (k0_t1 : Fin (k0_t1_loop v8 v15).trips) (k0_t3 : Fin (k0_t3_loop v8 v15 k0_t1).trips), ∀ a, (k0_off36 v8 v15 k0_t1 k0_t3) a + S1x16.size a ≤ S128x256.size a) ∧
  (∀ (k0_t1 : Fin (k0_t1_loop v8 v15).trips) (k0_t3 : Fin (k0_t3_loop v8 v15 k0_t1).trips), ∀ a, (k0_off37 v8 v15 k0_t1 k0_t3) a + S1x16.size a ≤ S128x256.size a) ∧
  (∀ (k0_t1 : Fin (k0_t1_loop v8 v15).trips) (k0_t3 : Fin (k0_t3_loop v8 v15 k0_t1).trips), ∀ a, (k0_off38 v8 v15 k0_t1 k0_t3) a + S1x16.size a ≤ S128x256.size a) ∧
  (∀ (k0_t1 : Fin (k0_t1_loop v8 v15).trips) (k0_t3 : Fin (k0_t3_loop v8 v15 k0_t1).trips), ∀ a, (k0_off39 v8 v15 k0_t1 k0_t3) a + S1x16.size a ≤ S128x256.size a) ∧
  (∀ (k0_t1 : Fin (k0_t1_loop v8 v15).trips) (k0_t3 : Fin (k0_t3_loop v8 v15 k0_t1).trips), ∀ a, (k0_off40 v8 v15 k0_t1 k0_t3) a + S1x16.size a ≤ S128x256.size a) ∧
  (∀ (k0_t1 : Fin (k0_t1_loop v8 v15).trips) (k0_t3 : Fin (k0_t3_loop v8 v15 k0_t1).trips), ∀ a, (k0_off41 v8 v15 k0_t1 k0_t3) a + S1x16.size a ≤ S128x256.size a) ∧
  (∀ (k0_t1 : Fin (k0_t1_loop v8 v15).trips) (k0_t3 : Fin (k0_t3_loop v8 v15 k0_t1).trips), ∀ a, (k0_off42 v8 v15 k0_t1 k0_t3) a + S1x16.size a ≤ S128x256.size a) ∧
  (∀ (k0_t1 : Fin (k0_t1_loop v8 v15).trips) (k0_t3 : Fin (k0_t3_loop v8 v15 k0_t1).trips), ∀ a, (k0_off43 v8 v15 k0_t1 k0_t3) a + S1x16.size a ≤ S128x256.size a) ∧
  (∀ (k0_t1 : Fin (k0_t1_loop v8 v15).trips) (k0_t3 : Fin (k0_t3_loop v8 v15 k0_t1).trips), ∀ a, (k0_off44 v8 v15 k0_t1 k0_t3) a + S1x16.size a ≤ S128x256.size a) ∧
  (∀ (k0_t1 : Fin (k0_t1_loop v8 v15).trips) (k0_t3 : Fin (k0_t3_loop v8 v15 k0_t1).trips), ∀ a, (k0_off45 v8 v15 k0_t1 k0_t3) a + S1x16.size a ≤ S128x256.size a) ∧
  (∀ (k0_t1 : Fin (k0_t1_loop v8 v15).trips) (k0_t3 : Fin (k0_t3_loop v8 v15 k0_t1).trips), ∀ a, (k0_off46 v8 v15 k0_t1 k0_t3) a + S1x16.size a ≤ S128x256.size a) ∧
  (∀ (k0_t1 : Fin (k0_t1_loop v8 v15).trips) (k0_t3 : Fin (k0_t3_loop v8 v15 k0_t1).trips), ∀ a, (k0_off47 v8 v15 k0_t1 k0_t3) a + S1x16.size a ≤ S128x256.size a) ∧
  (∀ (k0_t1 : Fin (k0_t1_loop v8 v15).trips) (k0_t3 : Fin (k0_t3_loop v8 v15 k0_t1).trips), ∀ a, (k0_off48 v8 v15 k0_t1 k0_t3) a + S1x16.size a ≤ S128x256.size a) ∧
  (∀ (k0_t1 : Fin (k0_t1_loop v8 v15).trips) (k0_t3 : Fin (k0_t3_loop v8 v15 k0_t1).trips), ∀ a, (k0_off49 v8 v15 k0_t1 k0_t3) a + S1x16.size a ≤ S128x256.size a) ∧
  (∀ (k0_t1 : Fin (k0_t1_loop v8 v15).trips) (k0_t3 : Fin (k0_t3_loop v8 v15 k0_t1).trips), ∀ a, (k0_off50 v8 v15 k0_t1 k0_t3) a + S1x16.size a ≤ S128x256.size a) ∧
  (∀ (k0_t1 : Fin (k0_t1_loop v8 v15).trips) (k0_t3 : Fin (k0_t3_loop v8 v15 k0_t1).trips), ∀ a, (k0_off51 v8 v15 k0_t1 k0_t3) a + S1x16.size a ≤ S128x256.size a) ∧
  (∀ (k0_t1 : Fin (k0_t1_loop v8 v15).trips) (k0_t3 : Fin (k0_t3_loop v8 v15 k0_t1).trips), ∀ (r : Fin 3), ∀ a, (k0_off52 v8 v15 k0_t1 k0_t3 (BitVec.ofNat 32 (1 + r.val))) a + S1x16.size a ≤ S128x256.size a) ∧
  (∀ (k0_t1 : Fin (k0_t1_loop v8 v15).trips) (k0_t3 : Fin (k0_t3_loop v8 v15 k0_t1).trips), ∀ (r : Fin 3), ∀ a, (k0_off53 v8 v15 k0_t1 k0_t3 (BitVec.ofNat 32 (1 + r.val))) a + S1x16.size a ≤ S128x256.size a) ∧
  (∀ (k0_t1 : Fin (k0_t1_loop v8 v15).trips) (k0_t3 : Fin (k0_t3_loop v8 v15 k0_t1).trips), ∀ (r : Fin 3), ∀ a, (k0_off54 v8 v15 k0_t1 k0_t3 (BitVec.ofNat 32 (1 + r.val))) a + S1x16.size a ≤ S128x256.size a) ∧
  (∀ (k0_t1 : Fin (k0_t1_loop v8 v15).trips) (k0_t3 : Fin (k0_t3_loop v8 v15 k0_t1).trips), ∀ (r : Fin 3), ∀ a, (k0_off55 v8 v15 k0_t1 k0_t3 (BitVec.ofNat 32 (1 + r.val))) a + S1x16.size a ≤ S128x256.size a) ∧
  (∀ (k0_t1 : Fin (k0_t1_loop v8 v15).trips) (k0_t3 : Fin (k0_t3_loop v8 v15 k0_t1).trips), ∀ (r : Fin 3), ∀ a, (k0_off56 v8 v15 k0_t1 k0_t3 (BitVec.ofNat 32 (1 + r.val))) a + S1x16.size a ≤ S128x256.size a) ∧
  (∀ (k0_t1 : Fin (k0_t1_loop v8 v15).trips) (k0_t3 : Fin (k0_t3_loop v8 v15 k0_t1).trips), ∀ (r : Fin 3), ∀ a, (k0_off57 v8 v15 k0_t1 k0_t3 (BitVec.ofNat 32 (1 + r.val))) a + S1x16.size a ≤ S128x256.size a) ∧
  (∀ (k0_t1 : Fin (k0_t1_loop v8 v15).trips) (k0_t3 : Fin (k0_t3_loop v8 v15 k0_t1).trips), ∀ (r : Fin 3), ∀ a, (k0_off58 v8 v15 k0_t1 k0_t3 (BitVec.ofNat 32 (1 + r.val))) a + S1x16.size a ≤ S128x256.size a) ∧
  (∀ (k0_t1 : Fin (k0_t1_loop v8 v15).trips) (k0_t3 : Fin (k0_t3_loop v8 v15 k0_t1).trips), ∀ (r : Fin 3), ∀ a, (k0_off59 v8 v15 k0_t1 k0_t3 (BitVec.ofNat 32 (1 + r.val))) a + S1x16.size a ≤ S128x256.size a) ∧
  (∀ (k0_t1 : Fin (k0_t1_loop v8 v15).trips) (k0_t3 : Fin (k0_t3_loop v8 v15 k0_t1).trips), ∀ (r : Fin 3), ∀ a, (k0_off60 v8 v15 k0_t1 k0_t3 (BitVec.ofNat 32 (1 + r.val))) a + S1x16.size a ≤ S128x256.size a) ∧
  (∀ (k0_t1 : Fin (k0_t1_loop v8 v15).trips) (k0_t3 : Fin (k0_t3_loop v8 v15 k0_t1).trips), ∀ (r : Fin 3), ∀ a, (k0_off61 v8 v15 k0_t1 k0_t3 (BitVec.ofNat 32 (1 + r.val))) a + S1x16.size a ≤ S128x256.size a)
def k0_chk2_2 (v8 : BitVec 32) (v15 : BitVec 32) : Prop :=
  (∀ (k0_t1 : Fin (k0_t1_loop v8 v15).trips) (k0_t3 : Fin (k0_t3_loop v8 v15 k0_t1).trips), ∀ (r : Fin 3), ∀ a, (k0_off62 v8 v15 k0_t1 k0_t3 (BitVec.ofNat 32 (1 + r.val))) a + S1x16.size a ≤ S128x256.size a) ∧
  (∀ (k0_t1 : Fin (k0_t1_loop v8 v15).trips) (k0_t3 : Fin (k0_t3_loop v8 v15 k0_t1).trips), ∀ (r : Fin 3), ∀ a, (k0_off63 v8 v15 k0_t1 k0_t3 (BitVec.ofNat 32 (1 + r.val))) a + S1x16.size a ≤ S128x256.size a) ∧
  (∀ (k0_t1 : Fin (k0_t1_loop v8 v15).trips) (k0_t3 : Fin (k0_t3_loop v8 v15 k0_t1).trips), ∀ (r : Fin 3), ∀ a, (k0_off64 v8 v15 k0_t1 k0_t3 (BitVec.ofNat 32 (1 + r.val))) a + S1x16.size a ≤ S128x256.size a) ∧
  (∀ (k0_t1 : Fin (k0_t1_loop v8 v15).trips) (k0_t3 : Fin (k0_t3_loop v8 v15 k0_t1).trips), ∀ (r : Fin 3), ∀ a, (k0_off65 v8 v15 k0_t1 k0_t3 (BitVec.ofNat 32 (1 + r.val))) a + S1x16.size a ≤ S128x256.size a) ∧
  (∀ (k0_t1 : Fin (k0_t1_loop v8 v15).trips) (k0_t3 : Fin (k0_t3_loop v8 v15 k0_t1).trips), ∀ (r : Fin 3), ∀ a, (k0_off66 v8 v15 k0_t1 k0_t3 (BitVec.ofNat 32 (1 + r.val))) a + S1x16.size a ≤ S128x256.size a) ∧
  (∀ (k0_t1 : Fin (k0_t1_loop v8 v15).trips) (k0_t3 : Fin (k0_t3_loop v8 v15 k0_t1).trips), ∀ (r : Fin 3), ∀ a, (k0_off67 v8 v15 k0_t1 k0_t3 (BitVec.ofNat 32 (1 + r.val))) a + S1x16.size a ≤ S128x256.size a) ∧
  (∀ k0_t1 : Fin (k0_t1_loop v8 v15).trips, (k0_t4_loop v8 v15 k0_t1).OK) ∧
  (∀ (k0_t1 : Fin (k0_t1_loop v8 v15).trips) (k0_t4 : Fin (k0_t4_loop v8 v15 k0_t1).trips), ∀ a, (k0_off68 v8 v15 k0_t1 k0_t4) a + S1x16.size a ≤ S128x256.size a) ∧
  (∀ (k0_t1 : Fin (k0_t1_loop v8 v15).trips) (k0_t4 : Fin (k0_t4_loop v8 v15 k0_t1).trips), ∀ a, (k0_off69 v8 v15 k0_t1 k0_t4) a + S1x16.size a ≤ S128x256.size a) ∧
  (∀ (k0_t1 : Fin (k0_t1_loop v8 v15).trips) (k0_t4 : Fin (k0_t4_loop v8 v15 k0_t1).trips), ∀ a, (k0_off70 v8 v15 k0_t1 k0_t4) a + S1x16.size a ≤ S128x256.size a) ∧
  (∀ (k0_t1 : Fin (k0_t1_loop v8 v15).trips) (k0_t4 : Fin (k0_t4_loop v8 v15 k0_t1).trips), ∀ a, (k0_off71 v8 v15 k0_t1 k0_t4) a + S1x16.size a ≤ S128x256.size a) ∧
  (∀ (k0_t1 : Fin (k0_t1_loop v8 v15).trips) (k0_t4 : Fin (k0_t4_loop v8 v15 k0_t1).trips), ∀ a, (k0_off72 v8 v15 k0_t1 k0_t4) a + S1x16.size a ≤ S128x256.size a) ∧
  (∀ (k0_t1 : Fin (k0_t1_loop v8 v15).trips) (k0_t4 : Fin (k0_t4_loop v8 v15 k0_t1).trips), ∀ a, (k0_off73 v8 v15 k0_t1 k0_t4) a + S1x16.size a ≤ S128x256.size a) ∧
  (∀ (k0_t1 : Fin (k0_t1_loop v8 v15).trips) (k0_t4 : Fin (k0_t4_loop v8 v15 k0_t1).trips), ∀ a, (k0_off74 v8 v15 k0_t1 k0_t4) a + S1x16.size a ≤ S128x256.size a) ∧
  (∀ (k0_t1 : Fin (k0_t1_loop v8 v15).trips) (k0_t4 : Fin (k0_t4_loop v8 v15 k0_t1).trips), ∀ a, (k0_off75 v8 v15 k0_t1 k0_t4) a + S1x16.size a ≤ S128x256.size a) ∧
  (∀ (k0_t1 : Fin (k0_t1_loop v8 v15).trips) (k0_t4 : Fin (k0_t4_loop v8 v15 k0_t1).trips), ∀ a, (k0_off76 v8 v15 k0_t1 k0_t4) a + S1x16.size a ≤ S128x256.size a) ∧
  (∀ (k0_t1 : Fin (k0_t1_loop v8 v15).trips) (k0_t4 : Fin (k0_t4_loop v8 v15 k0_t1).trips), ∀ a, (k0_off77 v8 v15 k0_t1 k0_t4) a + S1x16.size a ≤ S128x256.size a) ∧
  (∀ (k0_t1 : Fin (k0_t1_loop v8 v15).trips) (k0_t4 : Fin (k0_t4_loop v8 v15 k0_t1).trips), ∀ a, (k0_off78 v8 v15 k0_t1 k0_t4) a + S1x16.size a ≤ S128x256.size a) ∧
  (∀ (k0_t1 : Fin (k0_t1_loop v8 v15).trips) (k0_t4 : Fin (k0_t4_loop v8 v15 k0_t1).trips), ∀ a, (k0_off79 v8 v15 k0_t1 k0_t4) a + S1x16.size a ≤ S128x256.size a) ∧
  (∀ (k0_t1 : Fin (k0_t1_loop v8 v15).trips) (k0_t4 : Fin (k0_t4_loop v8 v15 k0_t1).trips), ∀ a, (k0_off80 v8 v15 k0_t1 k0_t4) a + S1x16.size a ≤ S128x256.size a) ∧
  (∀ (k0_t1 : Fin (k0_t1_loop v8 v15).trips) (k0_t4 : Fin (k0_t4_loop v8 v15 k0_t1).trips), ∀ a, (k0_off81 v8 v15 k0_t1 k0_t4) a + S1x16.size a ≤ S128x256.size a) ∧
  (∀ (k0_t1 : Fin (k0_t1_loop v8 v15).trips) (k0_t4 : Fin (k0_t4_loop v8 v15 k0_t1).trips), ∀ a, (k0_off82 v8 v15 k0_t1 k0_t4) a + S1x16.size a ≤ S128x256.size a) ∧
  (∀ (k0_t1 : Fin (k0_t1_loop v8 v15).trips) (k0_t4 : Fin (k0_t4_loop v8 v15 k0_t1).trips), ∀ a, (k0_off83 v8 v15 k0_t1 k0_t4) a + S1x16.size a ≤ S128x256.size a) ∧
  (∀ k0_t1 : Fin (k0_t1_loop v8 v15).trips, (k0_t5_loop v8 v15 k0_t1).OK) ∧
  (∀ (k0_t1 : Fin (k0_t1_loop v8 v15).trips) (k0_t5 : Fin (k0_t5_loop v8 v15 k0_t1).trips), ∀ a, (k0_off84 v8 v15 k0_t1 k0_t5) a + S1x16.size a ≤ S128x256.size a) ∧
  (∀ (k0_t1 : Fin (k0_t1_loop v8 v15).trips) (k0_t5 : Fin (k0_t5_loop v8 v15 k0_t1).trips), ∀ a, (k0_off85 v8 v15 k0_t1 k0_t5) a + S1x16.size a ≤ S128x256.size a) ∧
  (∀ (k0_t1 : Fin (k0_t1_loop v8 v15).trips) (k0_t5 : Fin (k0_t5_loop v8 v15 k0_t1).trips), ∀ a, (k0_off86 v8 v15 k0_t1 k0_t5) a + S1x16.size a ≤ S128x256.size a) ∧
  (∀ (k0_t1 : Fin (k0_t1_loop v8 v15).trips) (k0_t5 : Fin (k0_t5_loop v8 v15 k0_t1).trips), ∀ a, (k0_off87 v8 v15 k0_t1 k0_t5) a + S1x16.size a ≤ S128x256.size a) ∧
  (∀ (k0_t1 : Fin (k0_t1_loop v8 v15).trips) (k0_t5 : Fin (k0_t5_loop v8 v15 k0_t1).trips), ∀ a, (k0_off88 v8 v15 k0_t1 k0_t5) a + S1x16.size a ≤ S128x256.size a) ∧
  (∀ (k0_t1 : Fin (k0_t1_loop v8 v15).trips) (k0_t5 : Fin (k0_t5_loop v8 v15 k0_t1).trips), ∀ a, (k0_off89 v8 v15 k0_t1 k0_t5) a + S1x16.size a ≤ S128x256.size a) ∧
  (∀ (k0_t1 : Fin (k0_t1_loop v8 v15).trips) (k0_t5 : Fin (k0_t5_loop v8 v15 k0_t1).trips), ∀ a, (k0_off90 v8 v15 k0_t1 k0_t5) a + S1x16.size a ≤ S128x256.size a) ∧
  (∀ (k0_t1 : Fin (k0_t1_loop v8 v15).trips) (k0_t5 : Fin (k0_t5_loop v8 v15 k0_t1).trips), ∀ a, (k0_off91 v8 v15 k0_t1 k0_t5) a + S1x16.size a ≤ S128x256.size a)
def k0_chk2_3 (v8 : BitVec 32) (v15 : BitVec 32) : Prop :=
  (∀ (k0_t1 : Fin (k0_t1_loop v8 v15).trips) (k0_t5 : Fin (k0_t5_loop v8 v15 k0_t1).trips), ∀ a, (k0_off92 v8 v15 k0_t1 k0_t5) a + S1x16.size a ≤ S128x256.size a) ∧
  (∀ (k0_t1 : Fin (k0_t1_loop v8 v15).trips) (k0_t5 : Fin (k0_t5_loop v8 v15 k0_t1).trips), ∀ a, (k0_off93 v8 v15 k0_t1 k0_t5) a + S1x16.size a ≤ S128x256.size a) ∧
  (∀ (k0_t1 : Fin (k0_t1_loop v8 v15).trips) (k0_t5 : Fin (k0_t5_loop v8 v15 k0_t1).trips), ∀ a, (k0_off94 v8 v15 k0_t1 k0_t5) a + S1x16.size a ≤ S128x256.size a) ∧
  (∀ (k0_t1 : Fin (k0_t1_loop v8 v15).trips) (k0_t5 : Fin (k0_t5_loop v8 v15 k0_t1).trips), ∀ a, (k0_off95 v8 v15 k0_t1 k0_t5) a + S1x16.size a ≤ S128x256.size a) ∧
  (∀ (k0_t1 : Fin (k0_t1_loop v8 v15).trips) (k0_t5 : Fin (k0_t5_loop v8 v15 k0_t1).trips), ∀ a, (k0_off96 v8 v15 k0_t1 k0_t5) a + S1x16.size a ≤ S128x256.size a) ∧
  (∀ (k0_t1 : Fin (k0_t1_loop v8 v15).trips) (k0_t5 : Fin (k0_t5_loop v8 v15 k0_t1).trips), ∀ a, (k0_off97 v8 v15 k0_t1 k0_t5) a + S1x16.size a ≤ S128x256.size a) ∧
  (∀ (k0_t1 : Fin (k0_t1_loop v8 v15).trips) (k0_t5 : Fin (k0_t5_loop v8 v15 k0_t1).trips), ∀ a, (k0_off98 v8 v15 k0_t1 k0_t5) a + S1x16.size a ≤ S128x256.size a) ∧
  (∀ (k0_t1 : Fin (k0_t1_loop v8 v15).trips) (k0_t5 : Fin (k0_t5_loop v8 v15 k0_t1).trips), ∀ a, (k0_off99 v8 v15 k0_t1 k0_t5) a + S1x16.size a ≤ S128x256.size a) ∧
  (∀ k0_t1 : Fin (k0_t1_loop v8 v15).trips, 8 ∣ (k0_mult4 v8 v15 k0_t1).toNat) ∧
  (∀ k0_t1 : Fin (k0_t1_loop v8 v15).trips, ∀ a, (k0_off100 v8 v15 k0_t1) a + S128x256.size a ≤ S50000x256.size a) ∧
  (∀ k0_t1 : Fin (k0_t1_loop v8 v15).trips, 8 ∣ (k0_mult5 v8 v15 k0_t1).toNat) ∧
  (∀ k0_t1 : Fin (k0_t1_loop v8 v15).trips, (k0_t6_loop v8 v15 k0_t1).OK) ∧
  (∀ (k0_t1 : Fin (k0_t1_loop v8 v15).trips) (k0_t6 : Fin (k0_t6_loop v8 v15 k0_t1).trips), ∀ a, (k0_off101 v8 v15 k0_t1 k0_t6) a + S1x16.size a ≤ S128x256.size a) ∧
  (∀ (k0_t1 : Fin (k0_t1_loop v8 v15).trips) (k0_t6 : Fin (k0_t6_loop v8 v15 k0_t1).trips), ∀ a, (k0_off102 v8 v15 k0_t1 k0_t6) a + S1x16.size a ≤ S128x256.size a) ∧
  (∀ (k0_t1 : Fin (k0_t1_loop v8 v15).trips) (k0_t6 : Fin (k0_t6_loop v8 v15 k0_t1).trips), ∀ a, (k0_off103 v8 v15 k0_t1 k0_t6) a + S1x16.size a ≤ S128x256.size a) ∧
  (∀ (k0_t1 : Fin (k0_t1_loop v8 v15).trips) (k0_t6 : Fin (k0_t6_loop v8 v15 k0_t1).trips), ∀ a, (k0_off104 v8 v15 k0_t1 k0_t6) a + S1x16.size a ≤ S128x256.size a) ∧
  (∀ (k0_t1 : Fin (k0_t1_loop v8 v15).trips) (k0_t6 : Fin (k0_t6_loop v8 v15 k0_t1).trips), ∀ a, (k0_off105 v8 v15 k0_t1 k0_t6) a + S1x16.size a ≤ S128x256.size a) ∧
  (∀ (k0_t1 : Fin (k0_t1_loop v8 v15).trips) (k0_t6 : Fin (k0_t6_loop v8 v15 k0_t1).trips), ∀ a, (k0_off106 v8 v15 k0_t1 k0_t6) a + S1x16.size a ≤ S128x256.size a) ∧
  (∀ (k0_t1 : Fin (k0_t1_loop v8 v15).trips) (k0_t6 : Fin (k0_t6_loop v8 v15 k0_t1).trips), ∀ a, (k0_off107 v8 v15 k0_t1 k0_t6) a + S1x16.size a ≤ S128x256.size a) ∧
  (∀ (k0_t1 : Fin (k0_t1_loop v8 v15).trips) (k0_t6 : Fin (k0_t6_loop v8 v15 k0_t1).trips), ∀ a, (k0_off108 v8 v15 k0_t1 k0_t6) a + S1x16.size a ≤ S128x256.size a) ∧
  (∀ (k0_t1 : Fin (k0_t1_loop v8 v15).trips) (k0_t6 : Fin (k0_t6_loop v8 v15 k0_t1).trips), ∀ a, (k0_off109 v8 v15 k0_t1 k0_t6) a + S1x16.size a ≤ S128x256.size a) ∧
  (∀ (k0_t1 : Fin (k0_t1_loop v8 v15).trips) (k0_t6 : Fin (k0_t6_loop v8 v15 k0_t1).trips), ∀ a, (k0_off110 v8 v15 k0_t1 k0_t6) a + S1x16.size a ≤ S128x256.size a) ∧
  (∀ (k0_t1 : Fin (k0_t1_loop v8 v15).trips) (k0_t6 : Fin (k0_t6_loop v8 v15 k0_t1).trips), ∀ a, (k0_off111 v8 v15 k0_t1 k0_t6) a + S1x16.size a ≤ S128x256.size a) ∧
  (∀ (k0_t1 : Fin (k0_t1_loop v8 v15).trips) (k0_t6 : Fin (k0_t6_loop v8 v15 k0_t1).trips), ∀ a, (k0_off112 v8 v15 k0_t1 k0_t6) a + S1x16.size a ≤ S128x256.size a) ∧
  (∀ (k0_t1 : Fin (k0_t1_loop v8 v15).trips) (k0_t6 : Fin (k0_t6_loop v8 v15 k0_t1).trips), ∀ a, (k0_off113 v8 v15 k0_t1 k0_t6) a + S1x16.size a ≤ S128x256.size a) ∧
  (∀ (k0_t1 : Fin (k0_t1_loop v8 v15).trips) (k0_t6 : Fin (k0_t6_loop v8 v15 k0_t1).trips), ∀ a, (k0_off114 v8 v15 k0_t1 k0_t6) a + S1x16.size a ≤ S128x256.size a) ∧
  (∀ (k0_t1 : Fin (k0_t1_loop v8 v15).trips) (k0_t6 : Fin (k0_t6_loop v8 v15 k0_t1).trips), ∀ a, (k0_off115 v8 v15 k0_t1 k0_t6) a + S1x16.size a ≤ S128x256.size a) ∧
  (∀ (k0_t1 : Fin (k0_t1_loop v8 v15).trips) (k0_t6 : Fin (k0_t6_loop v8 v15 k0_t1).trips), ∀ a, (k0_off116 v8 v15 k0_t1 k0_t6) a + S1x16.size a ≤ S128x256.size a) ∧
  (∀ (k0_t1 : Fin (k0_t1_loop v8 v15).trips) (k0_t6 : Fin (k0_t6_loop v8 v15 k0_t1).trips), ∀ (r : Fin 3), ∀ a, (k0_off117 v8 v15 k0_t1 k0_t6 (BitVec.ofNat 32 (1 + r.val))) a + S1x16.size a ≤ S128x256.size a) ∧
  (∀ (k0_t1 : Fin (k0_t1_loop v8 v15).trips) (k0_t6 : Fin (k0_t6_loop v8 v15 k0_t1).trips), ∀ (r : Fin 3), ∀ a, (k0_off118 v8 v15 k0_t1 k0_t6 (BitVec.ofNat 32 (1 + r.val))) a + S1x16.size a ≤ S128x256.size a) ∧
  (∀ (k0_t1 : Fin (k0_t1_loop v8 v15).trips) (k0_t6 : Fin (k0_t6_loop v8 v15 k0_t1).trips), ∀ (r : Fin 3), ∀ a, (k0_off119 v8 v15 k0_t1 k0_t6 (BitVec.ofNat 32 (1 + r.val))) a + S1x16.size a ≤ S128x256.size a) ∧
  (∀ (k0_t1 : Fin (k0_t1_loop v8 v15).trips) (k0_t6 : Fin (k0_t6_loop v8 v15 k0_t1).trips), ∀ (r : Fin 3), ∀ a, (k0_off120 v8 v15 k0_t1 k0_t6 (BitVec.ofNat 32 (1 + r.val))) a + S1x16.size a ≤ S128x256.size a)
def k0_chk2_4 (v8 : BitVec 32) (v15 : BitVec 32) : Prop :=
  (∀ (k0_t1 : Fin (k0_t1_loop v8 v15).trips) (k0_t6 : Fin (k0_t6_loop v8 v15 k0_t1).trips), ∀ (r : Fin 3), ∀ a, (k0_off121 v8 v15 k0_t1 k0_t6 (BitVec.ofNat 32 (1 + r.val))) a + S1x16.size a ≤ S128x256.size a) ∧
  (∀ (k0_t1 : Fin (k0_t1_loop v8 v15).trips) (k0_t6 : Fin (k0_t6_loop v8 v15 k0_t1).trips), ∀ (r : Fin 3), ∀ a, (k0_off122 v8 v15 k0_t1 k0_t6 (BitVec.ofNat 32 (1 + r.val))) a + S1x16.size a ≤ S128x256.size a) ∧
  (∀ (k0_t1 : Fin (k0_t1_loop v8 v15).trips) (k0_t6 : Fin (k0_t6_loop v8 v15 k0_t1).trips), ∀ (r : Fin 3), ∀ a, (k0_off123 v8 v15 k0_t1 k0_t6 (BitVec.ofNat 32 (1 + r.val))) a + S1x16.size a ≤ S128x256.size a) ∧
  (∀ (k0_t1 : Fin (k0_t1_loop v8 v15).trips) (k0_t6 : Fin (k0_t6_loop v8 v15 k0_t1).trips), ∀ (r : Fin 3), ∀ a, (k0_off124 v8 v15 k0_t1 k0_t6 (BitVec.ofNat 32 (1 + r.val))) a + S1x16.size a ≤ S128x256.size a) ∧
  (∀ (k0_t1 : Fin (k0_t1_loop v8 v15).trips) (k0_t6 : Fin (k0_t6_loop v8 v15 k0_t1).trips), ∀ (r : Fin 3), ∀ a, (k0_off125 v8 v15 k0_t1 k0_t6 (BitVec.ofNat 32 (1 + r.val))) a + S1x16.size a ≤ S128x256.size a) ∧
  (∀ (k0_t1 : Fin (k0_t1_loop v8 v15).trips) (k0_t6 : Fin (k0_t6_loop v8 v15 k0_t1).trips), ∀ (r : Fin 3), ∀ a, (k0_off126 v8 v15 k0_t1 k0_t6 (BitVec.ofNat 32 (1 + r.val))) a + S1x16.size a ≤ S128x256.size a) ∧
  (∀ (k0_t1 : Fin (k0_t1_loop v8 v15).trips) (k0_t6 : Fin (k0_t6_loop v8 v15 k0_t1).trips), ∀ (r : Fin 3), ∀ a, (k0_off127 v8 v15 k0_t1 k0_t6 (BitVec.ofNat 32 (1 + r.val))) a + S1x16.size a ≤ S128x256.size a) ∧
  (∀ (k0_t1 : Fin (k0_t1_loop v8 v15).trips) (k0_t6 : Fin (k0_t6_loop v8 v15 k0_t1).trips), ∀ (r : Fin 3), ∀ a, (k0_off128 v8 v15 k0_t1 k0_t6 (BitVec.ofNat 32 (1 + r.val))) a + S1x16.size a ≤ S128x256.size a) ∧
  (∀ (k0_t1 : Fin (k0_t1_loop v8 v15).trips) (k0_t6 : Fin (k0_t6_loop v8 v15 k0_t1).trips), ∀ (r : Fin 3), ∀ a, (k0_off129 v8 v15 k0_t1 k0_t6 (BitVec.ofNat 32 (1 + r.val))) a + S1x16.size a ≤ S128x256.size a) ∧
  (∀ (k0_t1 : Fin (k0_t1_loop v8 v15).trips) (k0_t6 : Fin (k0_t6_loop v8 v15 k0_t1).trips), ∀ (r : Fin 3), ∀ a, (k0_off130 v8 v15 k0_t1 k0_t6 (BitVec.ofNat 32 (1 + r.val))) a + S1x16.size a ≤ S128x256.size a) ∧
  (∀ (k0_t1 : Fin (k0_t1_loop v8 v15).trips) (k0_t6 : Fin (k0_t6_loop v8 v15 k0_t1).trips), ∀ (r : Fin 3), ∀ a, (k0_off131 v8 v15 k0_t1 k0_t6 (BitVec.ofNat 32 (1 + r.val))) a + S1x16.size a ≤ S128x256.size a) ∧
  (∀ (k0_t1 : Fin (k0_t1_loop v8 v15).trips) (k0_t6 : Fin (k0_t6_loop v8 v15 k0_t1).trips), ∀ (r : Fin 3), ∀ a, (k0_off132 v8 v15 k0_t1 k0_t6 (BitVec.ofNat 32 (1 + r.val))) a + S1x16.size a ≤ S128x256.size a) ∧
  (∀ k0_t1 : Fin (k0_t1_loop v8 v15).trips, (k0_t7_loop v8 v15 k0_t1).OK) ∧
  (∀ (k0_t1 : Fin (k0_t1_loop v8 v15).trips) (k0_t7 : Fin (k0_t7_loop v8 v15 k0_t1).trips), ∀ a, (k0_off133 v8 v15 k0_t1 k0_t7) a + S1x16.size a ≤ S128x256.size a) ∧
  (∀ (k0_t1 : Fin (k0_t1_loop v8 v15).trips) (k0_t7 : Fin (k0_t7_loop v8 v15 k0_t1).trips), ∀ a, (k0_off134 v8 v15 k0_t1 k0_t7) a + S1x16.size a ≤ S128x256.size a) ∧
  (∀ (k0_t1 : Fin (k0_t1_loop v8 v15).trips) (k0_t7 : Fin (k0_t7_loop v8 v15 k0_t1).trips), ∀ a, (k0_off135 v8 v15 k0_t1 k0_t7) a + S1x16.size a ≤ S128x256.size a) ∧
  (∀ (k0_t1 : Fin (k0_t1_loop v8 v15).trips) (k0_t7 : Fin (k0_t7_loop v8 v15 k0_t1).trips), ∀ a, (k0_off136 v8 v15 k0_t1 k0_t7) a + S1x16.size a ≤ S128x256.size a) ∧
  (∀ (k0_t1 : Fin (k0_t1_loop v8 v15).trips) (k0_t7 : Fin (k0_t7_loop v8 v15 k0_t1).trips), ∀ a, (k0_off137 v8 v15 k0_t1 k0_t7) a + S1x16.size a ≤ S128x256.size a) ∧
  (∀ (k0_t1 : Fin (k0_t1_loop v8 v15).trips) (k0_t7 : Fin (k0_t7_loop v8 v15 k0_t1).trips), ∀ a, (k0_off138 v8 v15 k0_t1 k0_t7) a + S1x16.size a ≤ S128x256.size a) ∧
  (∀ (k0_t1 : Fin (k0_t1_loop v8 v15).trips) (k0_t7 : Fin (k0_t7_loop v8 v15 k0_t1).trips), ∀ a, (k0_off139 v8 v15 k0_t1 k0_t7) a + S1x16.size a ≤ S128x256.size a) ∧
  (∀ (k0_t1 : Fin (k0_t1_loop v8 v15).trips) (k0_t7 : Fin (k0_t7_loop v8 v15 k0_t1).trips), ∀ a, (k0_off140 v8 v15 k0_t1 k0_t7) a + S1x16.size a ≤ S128x256.size a) ∧
  (∀ (k0_t1 : Fin (k0_t1_loop v8 v15).trips) (k0_t7 : Fin (k0_t7_loop v8 v15 k0_t1).trips), ∀ a, (k0_off141 v8 v15 k0_t1 k0_t7) a + S1x16.size a ≤ S128x256.size a) ∧
  (∀ (k0_t1 : Fin (k0_t1_loop v8 v15).trips) (k0_t7 : Fin (k0_t7_loop v8 v15 k0_t1).trips), ∀ a, (k0_off142 v8 v15 k0_t1 k0_t7) a + S1x16.size a ≤ S128x256.size a) ∧
  (∀ (k0_t1 : Fin (k0_t1_loop v8 v15).trips) (k0_t7 : Fin (k0_t7_loop v8 v15 k0_t1).trips), ∀ a, (k0_off143 v8 v15 k0_t1 k0_t7) a + S1x16.size a ≤ S128x256.size a) ∧
  (∀ (k0_t1 : Fin (k0_t1_loop v8 v15).trips) (k0_t7 : Fin (k0_t7_loop v8 v15 k0_t1).trips), ∀ a, (k0_off144 v8 v15 k0_t1 k0_t7) a + S1x16.size a ≤ S128x256.size a) ∧
  (∀ (k0_t1 : Fin (k0_t1_loop v8 v15).trips) (k0_t7 : Fin (k0_t7_loop v8 v15 k0_t1).trips), ∀ a, (k0_off145 v8 v15 k0_t1 k0_t7) a + S1x16.size a ≤ S128x256.size a) ∧
  (∀ (k0_t1 : Fin (k0_t1_loop v8 v15).trips) (k0_t7 : Fin (k0_t7_loop v8 v15 k0_t1).trips), ∀ a, (k0_off146 v8 v15 k0_t1 k0_t7) a + S1x16.size a ≤ S128x256.size a) ∧
  (∀ (k0_t1 : Fin (k0_t1_loop v8 v15).trips) (k0_t7 : Fin (k0_t7_loop v8 v15 k0_t1).trips), ∀ a, (k0_off147 v8 v15 k0_t1 k0_t7) a + S1x16.size a ≤ S128x256.size a) ∧
  (∀ (k0_t1 : Fin (k0_t1_loop v8 v15).trips) (k0_t7 : Fin (k0_t7_loop v8 v15 k0_t1).trips), ∀ a, (k0_off148 v8 v15 k0_t1 k0_t7) a + S1x16.size a ≤ S128x256.size a) ∧
  (∀ (k0_t1 : Fin (k0_t1_loop v8 v15).trips) (k0_t7 : Fin (k0_t7_loop v8 v15 k0_t1).trips), ∀ (r : Fin 3), ∀ a, (k0_off149 v8 v15 k0_t1 k0_t7 (BitVec.ofNat 32 (1 + r.val))) a + S1x16.size a ≤ S128x256.size a) ∧
  (∀ (k0_t1 : Fin (k0_t1_loop v8 v15).trips) (k0_t7 : Fin (k0_t7_loop v8 v15 k0_t1).trips), ∀ (r : Fin 3), ∀ a, (k0_off150 v8 v15 k0_t1 k0_t7 (BitVec.ofNat 32 (1 + r.val))) a + S1x16.size a ≤ S128x256.size a) ∧
  (∀ (k0_t1 : Fin (k0_t1_loop v8 v15).trips) (k0_t7 : Fin (k0_t7_loop v8 v15 k0_t1).trips), ∀ (r : Fin 3), ∀ a, (k0_off151 v8 v15 k0_t1 k0_t7 (BitVec.ofNat 32 (1 + r.val))) a + S1x16.size a ≤ S128x256.size a)
def k0_chk2_5 (v8 : BitVec 32) (v15 : BitVec 32) : Prop :=
  (∀ (k0_t1 : Fin (k0_t1_loop v8 v15).trips) (k0_t7 : Fin (k0_t7_loop v8 v15 k0_t1).trips), ∀ (r : Fin 3), ∀ a, (k0_off152 v8 v15 k0_t1 k0_t7 (BitVec.ofNat 32 (1 + r.val))) a + S1x16.size a ≤ S128x256.size a) ∧
  (∀ (k0_t1 : Fin (k0_t1_loop v8 v15).trips) (k0_t7 : Fin (k0_t7_loop v8 v15 k0_t1).trips), ∀ (r : Fin 3), ∀ a, (k0_off153 v8 v15 k0_t1 k0_t7 (BitVec.ofNat 32 (1 + r.val))) a + S1x16.size a ≤ S128x256.size a) ∧
  (∀ (k0_t1 : Fin (k0_t1_loop v8 v15).trips) (k0_t7 : Fin (k0_t7_loop v8 v15 k0_t1).trips), ∀ (r : Fin 3), ∀ a, (k0_off154 v8 v15 k0_t1 k0_t7 (BitVec.ofNat 32 (1 + r.val))) a + S1x16.size a ≤ S128x256.size a) ∧
  (∀ (k0_t1 : Fin (k0_t1_loop v8 v15).trips) (k0_t7 : Fin (k0_t7_loop v8 v15 k0_t1).trips), ∀ (r : Fin 3), ∀ a, (k0_off155 v8 v15 k0_t1 k0_t7 (BitVec.ofNat 32 (1 + r.val))) a + S1x16.size a ≤ S128x256.size a) ∧
  (∀ (k0_t1 : Fin (k0_t1_loop v8 v15).trips) (k0_t7 : Fin (k0_t7_loop v8 v15 k0_t1).trips), ∀ (r : Fin 3), ∀ a, (k0_off156 v8 v15 k0_t1 k0_t7 (BitVec.ofNat 32 (1 + r.val))) a + S1x16.size a ≤ S128x256.size a) ∧
  (∀ (k0_t1 : Fin (k0_t1_loop v8 v15).trips) (k0_t7 : Fin (k0_t7_loop v8 v15 k0_t1).trips), ∀ (r : Fin 3), ∀ a, (k0_off157 v8 v15 k0_t1 k0_t7 (BitVec.ofNat 32 (1 + r.val))) a + S1x16.size a ≤ S128x256.size a) ∧
  (∀ (k0_t1 : Fin (k0_t1_loop v8 v15).trips) (k0_t7 : Fin (k0_t7_loop v8 v15 k0_t1).trips), ∀ (r : Fin 3), ∀ a, (k0_off158 v8 v15 k0_t1 k0_t7 (BitVec.ofNat 32 (1 + r.val))) a + S1x16.size a ≤ S128x256.size a) ∧
  (∀ (k0_t1 : Fin (k0_t1_loop v8 v15).trips) (k0_t7 : Fin (k0_t7_loop v8 v15 k0_t1).trips), ∀ (r : Fin 3), ∀ a, (k0_off159 v8 v15 k0_t1 k0_t7 (BitVec.ofNat 32 (1 + r.val))) a + S1x16.size a ≤ S128x256.size a) ∧
  (∀ (k0_t1 : Fin (k0_t1_loop v8 v15).trips) (k0_t7 : Fin (k0_t7_loop v8 v15 k0_t1).trips), ∀ (r : Fin 3), ∀ a, (k0_off160 v8 v15 k0_t1 k0_t7 (BitVec.ofNat 32 (1 + r.val))) a + S1x16.size a ≤ S128x256.size a) ∧
  (∀ (k0_t1 : Fin (k0_t1_loop v8 v15).trips) (k0_t7 : Fin (k0_t7_loop v8 v15 k0_t1).trips), ∀ (r : Fin 3), ∀ a, (k0_off161 v8 v15 k0_t1 k0_t7 (BitVec.ofNat 32 (1 + r.val))) a + S1x16.size a ≤ S128x256.size a) ∧
  (∀ (k0_t1 : Fin (k0_t1_loop v8 v15).trips) (k0_t7 : Fin (k0_t7_loop v8 v15 k0_t1).trips), ∀ (r : Fin 3), ∀ a, (k0_off162 v8 v15 k0_t1 k0_t7 (BitVec.ofNat 32 (1 + r.val))) a + S1x16.size a ≤ S128x256.size a) ∧
  (∀ (k0_t1 : Fin (k0_t1_loop v8 v15).trips) (k0_t7 : Fin (k0_t7_loop v8 v15 k0_t1).trips), ∀ (r : Fin 3), ∀ a, (k0_off163 v8 v15 k0_t1 k0_t7 (BitVec.ofNat 32 (1 + r.val))) a + S1x16.size a ≤ S128x256.size a) ∧
  (∀ (k0_t1 : Fin (k0_t1_loop v8 v15).trips) (k0_t7 : Fin (k0_t7_loop v8 v15 k0_t1).trips), ∀ (r : Fin 3), ∀ a, (k0_off164 v8 v15 k0_t1 k0_t7 (BitVec.ofNat 32 (1 + r.val))) a + S1x16.size a ≤ S128x256.size a) ∧
  (∀ k0_t1 : Fin (k0_t1_loop v8 v15).trips, (k0_t8_loop v8 v15 k0_t1).OK) ∧
  (∀ (k0_t1 : Fin (k0_t1_loop v8 v15).trips) (k0_t8 : Fin (k0_t8_loop v8 v15 k0_t1).trips), ∀ a, (k0_off165 v8 v15 k0_t1 k0_t8) a + S1x16.size a ≤ S128x256.size a) ∧
  (∀ (k0_t1 : Fin (k0_t1_loop v8 v15).trips) (k0_t8 : Fin (k0_t8_loop v8 v15 k0_t1).trips), ∀ a, (k0_off166 v8 v15 k0_t1 k0_t8) a + S1x16.size a ≤ S128x256.size a) ∧
  (∀ (k0_t1 : Fin (k0_t1_loop v8 v15).trips) (k0_t8 : Fin (k0_t8_loop v8 v15 k0_t1).trips), ∀ a, (k0_off167 v8 v15 k0_t1 k0_t8) a + S1x16.size a ≤ S128x256.size a) ∧
  (∀ (k0_t1 : Fin (k0_t1_loop v8 v15).trips) (k0_t8 : Fin (k0_t8_loop v8 v15 k0_t1).trips), ∀ a, (k0_off168 v8 v15 k0_t1 k0_t8) a + S1x16.size a ≤ S128x256.size a) ∧
  (∀ (k0_t1 : Fin (k0_t1_loop v8 v15).trips) (k0_t8 : Fin (k0_t8_loop v8 v15 k0_t1).trips), ∀ a, (k0_off169 v8 v15 k0_t1 k0_t8) a + S1x16.size a ≤ S128x256.size a) ∧
  (∀ (k0_t1 : Fin (k0_t1_loop v8 v15).trips) (k0_t8 : Fin (k0_t8_loop v8 v15 k0_t1).trips), ∀ a, (k0_off170 v8 v15 k0_t1 k0_t8) a + S1x16.size a ≤ S128x256.size a) ∧
  (∀ (k0_t1 : Fin (k0_t1_loop v8 v15).trips) (k0_t8 : Fin (k0_t8_loop v8 v15 k0_t1).trips), ∀ a, (k0_off171 v8 v15 k0_t1 k0_t8) a + S1x16.size a ≤ S128x256.size a) ∧
  (∀ (k0_t1 : Fin (k0_t1_loop v8 v15).trips) (k0_t8 : Fin (k0_t8_loop v8 v15 k0_t1).trips), ∀ a, (k0_off172 v8 v15 k0_t1 k0_t8) a + S1x16.size a ≤ S128x256.size a) ∧
  (∀ (k0_t1 : Fin (k0_t1_loop v8 v15).trips) (k0_t8 : Fin (k0_t8_loop v8 v15 k0_t1).trips), ∀ a, (k0_off173 v8 v15 k0_t1 k0_t8) a + S1x16.size a ≤ S128x256.size a) ∧
  (∀ (k0_t1 : Fin (k0_t1_loop v8 v15).trips) (k0_t8 : Fin (k0_t8_loop v8 v15 k0_t1).trips), ∀ a, (k0_off174 v8 v15 k0_t1 k0_t8) a + S1x16.size a ≤ S128x256.size a) ∧
  (∀ (k0_t1 : Fin (k0_t1_loop v8 v15).trips) (k0_t8 : Fin (k0_t8_loop v8 v15 k0_t1).trips), ∀ a, (k0_off175 v8 v15 k0_t1 k0_t8) a + S1x16.size a ≤ S128x256.size a) ∧
  (∀ (k0_t1 : Fin (k0_t1_loop v8 v15).trips) (k0_t8 : Fin (k0_t8_loop v8 v15 k0_t1).trips), ∀ a, (k0_off176 v8 v15 k0_t1 k0_t8) a + S1x16.size a ≤ S128x256.size a) ∧
  (∀ (k0_t1 : Fin (k0_t1_loop v8 v15).trips) (k0_t8 : Fin (k0_t8_loop v8 v15 k0_t1).trips), ∀ a, (k0_off177 v8 v15 k0_t1 k0_t8) a + S1x16.size a ≤ S128x256.size a) ∧
  (∀ (k0_t1 : Fin (k0_t1_loop v8 v15).trips) (k0_t8 : Fin (k0_t8_loop v8 v15 k0_t1).trips), ∀ a, (k0_off178 v8 v15 k0_t1 k0_t8) a + S1x16.size a ≤ S128x256.size a) ∧
  (∀ (k0_t1 : Fin (k0_t1_loop v8 v15).trips) (k0_t8 : Fin (k0_t8_loop v8 v15 k0_t1).trips), ∀ a, (k0_off179 v8 v15 k0_t1 k0_t8) a + S1x16.size a ≤ S128x256.size a) ∧
  (∀ (k0_t1 : Fin (k0_t1_loop v8 v15).trips) (k0_t8 : Fin (k0_t8_loop v8 v15 k0_t1).trips), ∀ a, (k0_off180 v8 v15 k0_t1 k0_t8) a + S1x16.size a ≤ S128x256.size a) ∧
  (∀ k0_t1 : Fin (k0_t1_loop v8 v15).trips, (k0_t9_loop v8 v15 k0_t1).OK) ∧
  (∀ (k0_t1 : Fin (k0_t1_loop v8 v15).trips) (k0_t9 : Fin (k0_t9_loop v8 v15 k0_t1).trips), ∀ a, (k0_off181 v8 v15 k0_t1 k0_t9) a + S1x16.size a ≤ S128x256.size a)
def k0_chk2_6 (v8 : BitVec 32) (v15 : BitVec 32) : Prop :=
  (∀ (k0_t1 : Fin (k0_t1_loop v8 v15).trips) (k0_t9 : Fin (k0_t9_loop v8 v15 k0_t1).trips), ∀ a, (k0_off182 v8 v15 k0_t1 k0_t9) a + S1x16.size a ≤ S128x256.size a) ∧
  (∀ (k0_t1 : Fin (k0_t1_loop v8 v15).trips) (k0_t9 : Fin (k0_t9_loop v8 v15 k0_t1).trips), ∀ a, (k0_off183 v8 v15 k0_t1 k0_t9) a + S1x16.size a ≤ S128x256.size a) ∧
  (∀ (k0_t1 : Fin (k0_t1_loop v8 v15).trips) (k0_t9 : Fin (k0_t9_loop v8 v15 k0_t1).trips), ∀ a, (k0_off184 v8 v15 k0_t1 k0_t9) a + S1x16.size a ≤ S128x256.size a) ∧
  (∀ (k0_t1 : Fin (k0_t1_loop v8 v15).trips) (k0_t9 : Fin (k0_t9_loop v8 v15 k0_t1).trips), ∀ a, (k0_off185 v8 v15 k0_t1 k0_t9) a + S1x16.size a ≤ S128x256.size a) ∧
  (∀ (k0_t1 : Fin (k0_t1_loop v8 v15).trips) (k0_t9 : Fin (k0_t9_loop v8 v15 k0_t1).trips), ∀ a, (k0_off186 v8 v15 k0_t1 k0_t9) a + S1x16.size a ≤ S128x256.size a) ∧
  (∀ (k0_t1 : Fin (k0_t1_loop v8 v15).trips) (k0_t9 : Fin (k0_t9_loop v8 v15 k0_t1).trips), ∀ a, (k0_off187 v8 v15 k0_t1 k0_t9) a + S1x16.size a ≤ S128x256.size a) ∧
  (∀ (k0_t1 : Fin (k0_t1_loop v8 v15).trips) (k0_t9 : Fin (k0_t9_loop v8 v15 k0_t1).trips), ∀ a, (k0_off188 v8 v15 k0_t1 k0_t9) a + S1x16.size a ≤ S128x256.size a) ∧
  (∀ (k0_t1 : Fin (k0_t1_loop v8 v15).trips) (k0_t9 : Fin (k0_t9_loop v8 v15 k0_t1).trips), ∀ a, (k0_off189 v8 v15 k0_t1 k0_t9) a + S1x16.size a ≤ S128x256.size a) ∧
  (∀ (k0_t1 : Fin (k0_t1_loop v8 v15).trips) (k0_t9 : Fin (k0_t9_loop v8 v15 k0_t1).trips), ∀ a, (k0_off190 v8 v15 k0_t1 k0_t9) a + S1x16.size a ≤ S128x256.size a) ∧
  (∀ (k0_t1 : Fin (k0_t1_loop v8 v15).trips) (k0_t9 : Fin (k0_t9_loop v8 v15 k0_t1).trips), ∀ a, (k0_off191 v8 v15 k0_t1 k0_t9) a + S1x16.size a ≤ S128x256.size a) ∧
  (∀ (k0_t1 : Fin (k0_t1_loop v8 v15).trips) (k0_t9 : Fin (k0_t9_loop v8 v15 k0_t1).trips), ∀ a, (k0_off192 v8 v15 k0_t1 k0_t9) a + S1x16.size a ≤ S128x256.size a) ∧
  (∀ (k0_t1 : Fin (k0_t1_loop v8 v15).trips) (k0_t9 : Fin (k0_t9_loop v8 v15 k0_t1).trips), ∀ a, (k0_off193 v8 v15 k0_t1 k0_t9) a + S1x16.size a ≤ S128x256.size a) ∧
  (∀ (k0_t1 : Fin (k0_t1_loop v8 v15).trips) (k0_t9 : Fin (k0_t9_loop v8 v15 k0_t1).trips), ∀ a, (k0_off194 v8 v15 k0_t1 k0_t9) a + S1x16.size a ≤ S128x256.size a) ∧
  (∀ (k0_t1 : Fin (k0_t1_loop v8 v15).trips) (k0_t9 : Fin (k0_t9_loop v8 v15 k0_t1).trips), ∀ a, (k0_off195 v8 v15 k0_t1 k0_t9) a + S1x16.size a ≤ S128x256.size a) ∧
  (∀ (k0_t1 : Fin (k0_t1_loop v8 v15).trips) (k0_t9 : Fin (k0_t9_loop v8 v15 k0_t1).trips), ∀ a, (k0_off196 v8 v15 k0_t1 k0_t9) a + S1x16.size a ≤ S128x256.size a) ∧
  ((k0_t10_loop v8 v15).OK) ∧
  (∀ k0_t10 : Fin (k0_t10_loop v8 v15).trips, 8 ∣ (k0_mult6 v8 v15 k0_t10).toNat) ∧
  (∀ k0_t10 : Fin (k0_t10_loop v8 v15).trips, ∀ a, (k0_off197 v8 v15 k0_t10) a + S128x256.size a ≤ S50000x256.size a) ∧
  (∀ k0_t10 : Fin (k0_t10_loop v8 v15).trips, 8 ∣ (k0_mult7 v8 v15 k0_t10).toNat) ∧
  (∀ k0_t10 : Fin (k0_t10_loop v8 v15).trips, (k0_t11_loop v8 v15 k0_t10).OK) ∧
  (∀ (k0_t10 : Fin (k0_t10_loop v8 v15).trips) (k0_t11 : Fin (k0_t11_loop v8 v15 k0_t10).trips), ∀ a, (k0_off198 v8 v15 k0_t10 k0_t11) a + S1x16.size a ≤ S128x256.size a) ∧
  (∀ (k0_t10 : Fin (k0_t10_loop v8 v15).trips) (k0_t11 : Fin (k0_t11_loop v8 v15 k0_t10).trips), ∀ a, (k0_off199 v8 v15 k0_t10 k0_t11) a + S1x16.size a ≤ S128x256.size a) ∧
  (∀ (k0_t10 : Fin (k0_t10_loop v8 v15).trips) (k0_t11 : Fin (k0_t11_loop v8 v15 k0_t10).trips), ∀ a, (k0_off200 v8 v15 k0_t10 k0_t11) a + S1x16.size a ≤ S128x256.size a) ∧
  (∀ (k0_t10 : Fin (k0_t10_loop v8 v15).trips) (k0_t11 : Fin (k0_t11_loop v8 v15 k0_t10).trips), ∀ a, (k0_off201 v8 v15 k0_t10 k0_t11) a + S1x16.size a ≤ S128x256.size a) ∧
  (∀ (k0_t10 : Fin (k0_t10_loop v8 v15).trips) (k0_t11 : Fin (k0_t11_loop v8 v15 k0_t10).trips), ∀ a, (k0_off202 v8 v15 k0_t10 k0_t11) a + S1x16.size a ≤ S128x256.size a) ∧
  (∀ (k0_t10 : Fin (k0_t10_loop v8 v15).trips) (k0_t11 : Fin (k0_t11_loop v8 v15 k0_t10).trips), ∀ a, (k0_off203 v8 v15 k0_t10 k0_t11) a + S1x16.size a ≤ S128x256.size a) ∧
  (∀ (k0_t10 : Fin (k0_t10_loop v8 v15).trips) (k0_t11 : Fin (k0_t11_loop v8 v15 k0_t10).trips), ∀ a, (k0_off204 v8 v15 k0_t10 k0_t11) a + S1x16.size a ≤ S128x256.size a) ∧
  (∀ (k0_t10 : Fin (k0_t10_loop v8 v15).trips) (k0_t11 : Fin (k0_t11_loop v8 v15 k0_t10).trips), ∀ a, (k0_off205 v8 v15 k0_t10 k0_t11) a + S1x16.size a ≤ S128x256.size a) ∧
  (∀ (k0_t10 : Fin (k0_t10_loop v8 v15).trips) (k0_t11 : Fin (k0_t11_loop v8 v15 k0_t10).trips), ∀ a, (k0_off206 v8 v15 k0_t10 k0_t11) a + S1x16.size a ≤ S128x256.size a) ∧
  (∀ (k0_t10 : Fin (k0_t10_loop v8 v15).trips) (k0_t11 : Fin (k0_t11_loop v8 v15 k0_t10).trips), ∀ a, (k0_off207 v8 v15 k0_t10 k0_t11) a + S1x16.size a ≤ S128x256.size a) ∧
  (∀ (k0_t10 : Fin (k0_t10_loop v8 v15).trips) (k0_t11 : Fin (k0_t11_loop v8 v15 k0_t10).trips), ∀ a, (k0_off208 v8 v15 k0_t10 k0_t11) a + S1x16.size a ≤ S128x256.size a) ∧
  (∀ (k0_t10 : Fin (k0_t10_loop v8 v15).trips) (k0_t11 : Fin (k0_t11_loop v8 v15 k0_t10).trips), ∀ a, (k0_off209 v8 v15 k0_t10 k0_t11) a + S1x16.size a ≤ S128x256.size a)
def k0_chk2_7 (v8 : BitVec 32) (v15 : BitVec 32) : Prop :=
  (∀ (k0_t10 : Fin (k0_t10_loop v8 v15).trips) (k0_t11 : Fin (k0_t11_loop v8 v15 k0_t10).trips), ∀ a, (k0_off210 v8 v15 k0_t10 k0_t11) a + S1x16.size a ≤ S128x256.size a) ∧
  (∀ (k0_t10 : Fin (k0_t10_loop v8 v15).trips) (k0_t11 : Fin (k0_t11_loop v8 v15 k0_t10).trips), ∀ a, (k0_off211 v8 v15 k0_t10 k0_t11) a + S1x16.size a ≤ S128x256.size a) ∧
  (∀ (k0_t10 : Fin (k0_t10_loop v8 v15).trips) (k0_t11 : Fin (k0_t11_loop v8 v15 k0_t10).trips), ∀ a, (k0_off212 v8 v15 k0_t10 k0_t11) a + S1x16.size a ≤ S128x256.size a) ∧
  (∀ (k0_t10 : Fin (k0_t10_loop v8 v15).trips) (k0_t11 : Fin (k0_t11_loop v8 v15 k0_t10).trips), ∀ a, (k0_off213 v8 v15 k0_t10 k0_t11) a + S1x16.size a ≤ S128x256.size a) ∧
  (∀ (k0_t10 : Fin (k0_t10_loop v8 v15).trips) (k0_t11 : Fin (k0_t11_loop v8 v15 k0_t10).trips), ∀ (r : Fin 3), ∀ a, (k0_off214 v8 v15 k0_t10 k0_t11 (BitVec.ofNat 32 (1 + r.val))) a + S1x16.size a ≤ S128x256.size a) ∧
  (∀ (k0_t10 : Fin (k0_t10_loop v8 v15).trips) (k0_t11 : Fin (k0_t11_loop v8 v15 k0_t10).trips), ∀ (r : Fin 3), ∀ a, (k0_off215 v8 v15 k0_t10 k0_t11 (BitVec.ofNat 32 (1 + r.val))) a + S1x16.size a ≤ S128x256.size a) ∧
  (∀ (k0_t10 : Fin (k0_t10_loop v8 v15).trips) (k0_t11 : Fin (k0_t11_loop v8 v15 k0_t10).trips), ∀ (r : Fin 3), ∀ a, (k0_off216 v8 v15 k0_t10 k0_t11 (BitVec.ofNat 32 (1 + r.val))) a + S1x16.size a ≤ S128x256.size a) ∧
  (∀ (k0_t10 : Fin (k0_t10_loop v8 v15).trips) (k0_t11 : Fin (k0_t11_loop v8 v15 k0_t10).trips), ∀ (r : Fin 3), ∀ a, (k0_off217 v8 v15 k0_t10 k0_t11 (BitVec.ofNat 32 (1 + r.val))) a + S1x16.size a ≤ S128x256.size a) ∧
  (∀ (k0_t10 : Fin (k0_t10_loop v8 v15).trips) (k0_t11 : Fin (k0_t11_loop v8 v15 k0_t10).trips), ∀ (r : Fin 3), ∀ a, (k0_off218 v8 v15 k0_t10 k0_t11 (BitVec.ofNat 32 (1 + r.val))) a + S1x16.size a ≤ S128x256.size a) ∧
  (∀ (k0_t10 : Fin (k0_t10_loop v8 v15).trips) (k0_t11 : Fin (k0_t11_loop v8 v15 k0_t10).trips), ∀ (r : Fin 3), ∀ a, (k0_off219 v8 v15 k0_t10 k0_t11 (BitVec.ofNat 32 (1 + r.val))) a + S1x16.size a ≤ S128x256.size a) ∧
  (∀ (k0_t10 : Fin (k0_t10_loop v8 v15).trips) (k0_t11 : Fin (k0_t11_loop v8 v15 k0_t10).trips), ∀ (r : Fin 3), ∀ a, (k0_off220 v8 v15 k0_t10 k0_t11 (BitVec.ofNat 32 (1 + r.val))) a + S1x16.size a ≤ S128x256.size a) ∧
  (∀ (k0_t10 : Fin (k0_t10_loop v8 v15).trips) (k0_t11 : Fin (k0_t11_loop v8 v15 k0_t10).trips), ∀ (r : Fin 3), ∀ a, (k0_off221 v8 v15 k0_t10 k0_t11 (BitVec.ofNat 32 (1 + r.val))) a + S1x16.size a ≤ S128x256.size a) ∧
  (∀ (k0_t10 : Fin (k0_t10_loop v8 v15).trips) (k0_t11 : Fin (k0_t11_loop v8 v15 k0_t10).trips), ∀ (r : Fin 3), ∀ a, (k0_off222 v8 v15 k0_t10 k0_t11 (BitVec.ofNat 32 (1 + r.val))) a + S1x16.size a ≤ S128x256.size a) ∧
  (∀ (k0_t10 : Fin (k0_t10_loop v8 v15).trips) (k0_t11 : Fin (k0_t11_loop v8 v15 k0_t10).trips), ∀ (r : Fin 3), ∀ a, (k0_off223 v8 v15 k0_t10 k0_t11 (BitVec.ofNat 32 (1 + r.val))) a + S1x16.size a ≤ S128x256.size a) ∧
  (∀ (k0_t10 : Fin (k0_t10_loop v8 v15).trips) (k0_t11 : Fin (k0_t11_loop v8 v15 k0_t10).trips), ∀ (r : Fin 3), ∀ a, (k0_off224 v8 v15 k0_t10 k0_t11 (BitVec.ofNat 32 (1 + r.val))) a + S1x16.size a ≤ S128x256.size a) ∧
  (∀ (k0_t10 : Fin (k0_t10_loop v8 v15).trips) (k0_t11 : Fin (k0_t11_loop v8 v15 k0_t10).trips), ∀ (r : Fin 3), ∀ a, (k0_off225 v8 v15 k0_t10 k0_t11 (BitVec.ofNat 32 (1 + r.val))) a + S1x16.size a ≤ S128x256.size a) ∧
  (∀ (k0_t10 : Fin (k0_t10_loop v8 v15).trips) (k0_t11 : Fin (k0_t11_loop v8 v15 k0_t10).trips), ∀ (r : Fin 3), ∀ a, (k0_off226 v8 v15 k0_t10 k0_t11 (BitVec.ofNat 32 (1 + r.val))) a + S1x16.size a ≤ S128x256.size a) ∧
  (∀ (k0_t10 : Fin (k0_t10_loop v8 v15).trips) (k0_t11 : Fin (k0_t11_loop v8 v15 k0_t10).trips), ∀ (r : Fin 3), ∀ a, (k0_off227 v8 v15 k0_t10 k0_t11 (BitVec.ofNat 32 (1 + r.val))) a + S1x16.size a ≤ S128x256.size a) ∧
  (∀ (k0_t10 : Fin (k0_t10_loop v8 v15).trips) (k0_t11 : Fin (k0_t11_loop v8 v15 k0_t10).trips), ∀ (r : Fin 3), ∀ a, (k0_off228 v8 v15 k0_t10 k0_t11 (BitVec.ofNat 32 (1 + r.val))) a + S1x16.size a ≤ S128x256.size a) ∧
  (∀ (k0_t10 : Fin (k0_t10_loop v8 v15).trips) (k0_t11 : Fin (k0_t11_loop v8 v15 k0_t10).trips), ∀ (r : Fin 3), ∀ a, (k0_off229 v8 v15 k0_t10 k0_t11 (BitVec.ofNat 32 (1 + r.val))) a + S1x16.size a ≤ S128x256.size a) ∧
  (∀ k0_t10 : Fin (k0_t10_loop v8 v15).trips, (k0_t12_loop v8 v15 k0_t10).OK) ∧
  (∀ (k0_t10 : Fin (k0_t10_loop v8 v15).trips) (k0_t12 : Fin (k0_t12_loop v8 v15 k0_t10).trips), ∀ a, (k0_off230 v8 v15 k0_t10 k0_t12) a + S1x16.size a ≤ S128x256.size a) ∧
  (∀ (k0_t10 : Fin (k0_t10_loop v8 v15).trips) (k0_t12 : Fin (k0_t12_loop v8 v15 k0_t10).trips), ∀ a, (k0_off231 v8 v15 k0_t10 k0_t12) a + S1x16.size a ≤ S128x256.size a) ∧
  (∀ (k0_t10 : Fin (k0_t10_loop v8 v15).trips) (k0_t12 : Fin (k0_t12_loop v8 v15 k0_t10).trips), ∀ a, (k0_off232 v8 v15 k0_t10 k0_t12) a + S1x16.size a ≤ S128x256.size a) ∧
  (∀ (k0_t10 : Fin (k0_t10_loop v8 v15).trips) (k0_t12 : Fin (k0_t12_loop v8 v15 k0_t10).trips), ∀ a, (k0_off233 v8 v15 k0_t10 k0_t12) a + S1x16.size a ≤ S128x256.size a) ∧
  (∀ (k0_t10 : Fin (k0_t10_loop v8 v15).trips) (k0_t12 : Fin (k0_t12_loop v8 v15 k0_t10).trips), ∀ a, (k0_off234 v8 v15 k0_t10 k0_t12) a + S1x16.size a ≤ S128x256.size a) ∧
  (∀ (k0_t10 : Fin (k0_t10_loop v8 v15).trips) (k0_t12 : Fin (k0_t12_loop v8 v15 k0_t10).trips), ∀ a, (k0_off235 v8 v15 k0_t10 k0_t12) a + S1x16.size a ≤ S128x256.size a) ∧
  (∀ (k0_t10 : Fin (k0_t10_loop v8 v15).trips) (k0_t12 : Fin (k0_t12_loop v8 v15 k0_t10).trips), ∀ a, (k0_off236 v8 v15 k0_t10 k0_t12) a + S1x16.size a ≤ S128x256.size a) ∧
  (∀ (k0_t10 : Fin (k0_t10_loop v8 v15).trips) (k0_t12 : Fin (k0_t12_loop v8 v15 k0_t10).trips), ∀ a, (k0_off237 v8 v15 k0_t10 k0_t12) a + S1x16.size a ≤ S128x256.size a) ∧
  (∀ (k0_t10 : Fin (k0_t10_loop v8 v15).trips) (k0_t12 : Fin (k0_t12_loop v8 v15 k0_t10).trips), ∀ a, (k0_off238 v8 v15 k0_t10 k0_t12) a + S1x16.size a ≤ S128x256.size a) ∧
  (∀ (k0_t10 : Fin (k0_t10_loop v8 v15).trips) (k0_t12 : Fin (k0_t12_loop v8 v15 k0_t10).trips), ∀ a, (k0_off239 v8 v15 k0_t10 k0_t12) a + S1x16.size a ≤ S128x256.size a) ∧
  (∀ (k0_t10 : Fin (k0_t10_loop v8 v15).trips) (k0_t12 : Fin (k0_t12_loop v8 v15 k0_t10).trips), ∀ a, (k0_off240 v8 v15 k0_t10 k0_t12) a + S1x16.size a ≤ S128x256.size a)
def k0_chk2_8 (v8 : BitVec 32) (v15 : BitVec 32) : Prop :=
  (∀ (k0_t10 : Fin (k0_t10_loop v8 v15).trips) (k0_t12 : Fin (k0_t12_loop v8 v15 k0_t10).trips), ∀ a, (k0_off241 v8 v15 k0_t10 k0_t12) a + S1x16.size a ≤ S128x256.size a) ∧
  (∀ (k0_t10 : Fin (k0_t10_loop v8 v15).trips) (k0_t12 : Fin (k0_t12_loop v8 v15 k0_t10).trips), ∀ a, (k0_off242 v8 v15 k0_t10 k0_t12) a + S1x16.size a ≤ S128x256.size a) ∧
  (∀ (k0_t10 : Fin (k0_t10_loop v8 v15).trips) (k0_t12 : Fin (k0_t12_loop v8 v15 k0_t10).trips), ∀ a, (k0_off243 v8 v15 k0_t10 k0_t12) a + S1x16.size a ≤ S128x256.size a) ∧
  (∀ (k0_t10 : Fin (k0_t10_loop v8 v15).trips) (k0_t12 : Fin (k0_t12_loop v8 v15 k0_t10).trips), ∀ a, (k0_off244 v8 v15 k0_t10 k0_t12) a + S1x16.size a ≤ S128x256.size a) ∧
  (∀ (k0_t10 : Fin (k0_t10_loop v8 v15).trips) (k0_t12 : Fin (k0_t12_loop v8 v15 k0_t10).trips), ∀ a, (k0_off245 v8 v15 k0_t10 k0_t12) a + S1x16.size a ≤ S128x256.size a) ∧
  (∀ (k0_t10 : Fin (k0_t10_loop v8 v15).trips) (k0_t12 : Fin (k0_t12_loop v8 v15 k0_t10).trips), ∀ (r : Fin 3), ∀ a, (k0_off246 v8 v15 k0_t10 k0_t12 (BitVec.ofNat 32 (1 + r.val))) a + S1x16.size a ≤ S128x256.size a) ∧
  (∀ (k0_t10 : Fin (k0_t10_loop v8 v15).trips) (k0_t12 : Fin (k0_t12_loop v8 v15 k0_t10).trips), ∀ (r : Fin 3), ∀ a, (k0_off247 v8 v15 k0_t10 k0_t12 (BitVec.ofNat 32 (1 + r.val))) a + S1x16.size a ≤ S128x256.size a) ∧
  (∀ (k0_t10 : Fin (k0_t10_loop v8 v15).trips) (k0_t12 : Fin (k0_t12_loop v8 v15 k0_t10).trips), ∀ (r : Fin 3), ∀ a, (k0_off248 v8 v15 k0_t10 k0_t12 (BitVec.ofNat 32 (1 + r.val))) a + S1x16.size a ≤ S128x256.size a) ∧
  (∀ (k0_t10 : Fin (k0_t10_loop v8 v15).trips) (k0_t12 : Fin (k0_t12_loop v8 v15 k0_t10).trips), ∀ (r : Fin 3), ∀ a, (k0_off249 v8 v15 k0_t10 k0_t12 (BitVec.ofNat 32 (1 + r.val))) a + S1x16.size a ≤ S128x256.size a) ∧
  (∀ (k0_t10 : Fin (k0_t10_loop v8 v15).trips) (k0_t12 : Fin (k0_t12_loop v8 v15 k0_t10).trips), ∀ (r : Fin 3), ∀ a, (k0_off250 v8 v15 k0_t10 k0_t12 (BitVec.ofNat 32 (1 + r.val))) a + S1x16.size a ≤ S128x256.size a) ∧
  (∀ (k0_t10 : Fin (k0_t10_loop v8 v15).trips) (k0_t12 : Fin (k0_t12_loop v8 v15 k0_t10).trips), ∀ (r : Fin 3), ∀ a, (k0_off251 v8 v15 k0_t10 k0_t12 (BitVec.ofNat 32 (1 + r.val))) a + S1x16.size a ≤ S128x256.size a) ∧
  (∀ (k0_t10 : Fin (k0_t10_loop v8 v15).trips) (k0_t12 : Fin (k0_t12_loop v8 v15 k0_t10).trips), ∀ (r : Fin 3), ∀ a, (k0_off252 v8 v15 k0_t10 k0_t12 (BitVec.ofNat 32 (1 + r.val))) a + S1x16.size a ≤ S128x256.size a) ∧
  (∀ (k0_t10 : Fin (k0_t10_loop v8 v15).trips) (k0_t12 : Fin (k0_t12_loop v8 v15 k0_t10).trips), ∀ (r : Fin 3), ∀ a, (k0_off253 v8 v15 k0_t10 k0_t12 (BitVec.ofNat 32 (1 + r.val))) a + S1x16.size a ≤ S128x256.size a) ∧
  (∀ (k0_t10 : Fin (k0_t10_loop v8 v15).trips) (k0_t12 : Fin (k0_t12_loop v8 v15 k0_t10).trips), ∀ (r : Fin 3), ∀ a, (k0_off254 v8 v15 k0_t10 k0_t12 (BitVec.ofNat 32 (1 + r.val))) a + S1x16.size a ≤ S128x256.size a) ∧
  (∀ (k0_t10 : Fin (k0_t10_loop v8 v15).trips) (k0_t12 : Fin (k0_t12_loop v8 v15 k0_t10).trips), ∀ (r : Fin 3), ∀ a, (k0_off255 v8 v15 k0_t10 k0_t12 (BitVec.ofNat 32 (1 + r.val))) a + S1x16.size a ≤ S128x256.size a) ∧
  (∀ (k0_t10 : Fin (k0_t10_loop v8 v15).trips) (k0_t12 : Fin (k0_t12_loop v8 v15 k0_t10).trips), ∀ (r : Fin 3), ∀ a, (k0_off256 v8 v15 k0_t10 k0_t12 (BitVec.ofNat 32 (1 + r.val))) a + S1x16.size a ≤ S128x256.size a) ∧
  (∀ (k0_t10 : Fin (k0_t10_loop v8 v15).trips) (k0_t12 : Fin (k0_t12_loop v8 v15 k0_t10).trips), ∀ (r : Fin 3), ∀ a, (k0_off257 v8 v15 k0_t10 k0_t12 (BitVec.ofNat 32 (1 + r.val))) a + S1x16.size a ≤ S128x256.size a) ∧
  (∀ (k0_t10 : Fin (k0_t10_loop v8 v15).trips) (k0_t12 : Fin (k0_t12_loop v8 v15 k0_t10).trips), ∀ (r : Fin 3), ∀ a, (k0_off258 v8 v15 k0_t10 k0_t12 (BitVec.ofNat 32 (1 + r.val))) a + S1x16.size a ≤ S128x256.size a) ∧
  (∀ (k0_t10 : Fin (k0_t10_loop v8 v15).trips) (k0_t12 : Fin (k0_t12_loop v8 v15 k0_t10).trips), ∀ (r : Fin 3), ∀ a, (k0_off259 v8 v15 k0_t10 k0_t12 (BitVec.ofNat 32 (1 + r.val))) a + S1x16.size a ≤ S128x256.size a) ∧
  (∀ (k0_t10 : Fin (k0_t10_loop v8 v15).trips) (k0_t12 : Fin (k0_t12_loop v8 v15 k0_t10).trips), ∀ (r : Fin 3), ∀ a, (k0_off260 v8 v15 k0_t10 k0_t12 (BitVec.ofNat 32 (1 + r.val))) a + S1x16.size a ≤ S128x256.size a) ∧
  (∀ (k0_t10 : Fin (k0_t10_loop v8 v15).trips) (k0_t12 : Fin (k0_t12_loop v8 v15 k0_t10).trips), ∀ (r : Fin 3), ∀ a, (k0_off261 v8 v15 k0_t10 k0_t12 (BitVec.ofNat 32 (1 + r.val))) a + S1x16.size a ≤ S128x256.size a) ∧
  (∀ k0_t10 : Fin (k0_t10_loop v8 v15).trips, (k0_t13_loop v8 v15 k0_t10).OK) ∧
  (∀ (k0_t10 : Fin (k0_t10_loop v8 v15).trips) (k0_t13 : Fin (k0_t13_loop v8 v15 k0_t10).trips), ∀ a, (k0_off262 v8 v15 k0_t10 k0_t13) a + S1x16.size a ≤ S128x256.size a) ∧
  (∀ (k0_t10 : Fin (k0_t10_loop v8 v15).trips) (k0_t13 : Fin (k0_t13_loop v8 v15 k0_t10).trips), ∀ a, (k0_off263 v8 v15 k0_t10 k0_t13) a + S1x16.size a ≤ S128x256.size a) ∧
  (∀ (k0_t10 : Fin (k0_t10_loop v8 v15).trips) (k0_t13 : Fin (k0_t13_loop v8 v15 k0_t10).trips), ∀ a, (k0_off264 v8 v15 k0_t10 k0_t13) a + S1x16.size a ≤ S128x256.size a) ∧
  (∀ (k0_t10 : Fin (k0_t10_loop v8 v15).trips) (k0_t13 : Fin (k0_t13_loop v8 v15 k0_t10).trips), ∀ a, (k0_off265 v8 v15 k0_t10 k0_t13) a + S1x16.size a ≤ S128x256.size a) ∧
  (∀ (k0_t10 : Fin (k0_t10_loop v8 v15).trips) (k0_t13 : Fin (k0_t13_loop v8 v15 k0_t10).trips), ∀ a, (k0_off266 v8 v15 k0_t10 k0_t13) a + S1x16.size a ≤ S128x256.size a) ∧
  (∀ (k0_t10 : Fin (k0_t10_loop v8 v15).trips) (k0_t13 : Fin (k0_t13_loop v8 v15 k0_t10).trips), ∀ a, (k0_off267 v8 v15 k0_t10 k0_t13) a + S1x16.size a ≤ S128x256.size a) ∧
  (∀ (k0_t10 : Fin (k0_t10_loop v8 v15).trips) (k0_t13 : Fin (k0_t13_loop v8 v15 k0_t10).trips), ∀ a, (k0_off268 v8 v15 k0_t10 k0_t13) a + S1x16.size a ≤ S128x256.size a) ∧
  (∀ (k0_t10 : Fin (k0_t10_loop v8 v15).trips) (k0_t13 : Fin (k0_t13_loop v8 v15 k0_t10).trips), ∀ a, (k0_off269 v8 v15 k0_t10 k0_t13) a + S1x16.size a ≤ S128x256.size a) ∧
  (∀ (k0_t10 : Fin (k0_t10_loop v8 v15).trips) (k0_t13 : Fin (k0_t13_loop v8 v15 k0_t10).trips), ∀ a, (k0_off270 v8 v15 k0_t10 k0_t13) a + S1x16.size a ≤ S128x256.size a) ∧
  (∀ (k0_t10 : Fin (k0_t10_loop v8 v15).trips) (k0_t13 : Fin (k0_t13_loop v8 v15 k0_t10).trips), ∀ a, (k0_off271 v8 v15 k0_t10 k0_t13) a + S1x16.size a ≤ S128x256.size a)
def k0_chk2_9 (v8 : BitVec 32) (v15 : BitVec 32) : Prop :=
  (∀ (k0_t10 : Fin (k0_t10_loop v8 v15).trips) (k0_t13 : Fin (k0_t13_loop v8 v15 k0_t10).trips), ∀ a, (k0_off272 v8 v15 k0_t10 k0_t13) a + S1x16.size a ≤ S128x256.size a) ∧
  (∀ (k0_t10 : Fin (k0_t10_loop v8 v15).trips) (k0_t13 : Fin (k0_t13_loop v8 v15 k0_t10).trips), ∀ a, (k0_off273 v8 v15 k0_t10 k0_t13) a + S1x16.size a ≤ S128x256.size a) ∧
  (∀ (k0_t10 : Fin (k0_t10_loop v8 v15).trips) (k0_t13 : Fin (k0_t13_loop v8 v15 k0_t10).trips), ∀ a, (k0_off274 v8 v15 k0_t10 k0_t13) a + S1x16.size a ≤ S128x256.size a) ∧
  (∀ (k0_t10 : Fin (k0_t10_loop v8 v15).trips) (k0_t13 : Fin (k0_t13_loop v8 v15 k0_t10).trips), ∀ a, (k0_off275 v8 v15 k0_t10 k0_t13) a + S1x16.size a ≤ S128x256.size a) ∧
  (∀ (k0_t10 : Fin (k0_t10_loop v8 v15).trips) (k0_t13 : Fin (k0_t13_loop v8 v15 k0_t10).trips), ∀ a, (k0_off276 v8 v15 k0_t10 k0_t13) a + S1x16.size a ≤ S128x256.size a) ∧
  (∀ (k0_t10 : Fin (k0_t10_loop v8 v15).trips) (k0_t13 : Fin (k0_t13_loop v8 v15 k0_t10).trips), ∀ a, (k0_off277 v8 v15 k0_t10 k0_t13) a + S1x16.size a ≤ S128x256.size a) ∧
  (∀ k0_t10 : Fin (k0_t10_loop v8 v15).trips, (k0_t14_loop v8 v15 k0_t10).OK) ∧
  (∀ (k0_t10 : Fin (k0_t10_loop v8 v15).trips) (k0_t14 : Fin (k0_t14_loop v8 v15 k0_t10).trips), ∀ a, (k0_off278 v8 v15 k0_t10 k0_t14) a + S1x16.size a ≤ S128x256.size a) ∧
  (∀ (k0_t10 : Fin (k0_t10_loop v8 v15).trips) (k0_t14 : Fin (k0_t14_loop v8 v15 k0_t10).trips), ∀ a, (k0_off279 v8 v15 k0_t10 k0_t14) a + S1x16.size a ≤ S128x256.size a) ∧
  (∀ (k0_t10 : Fin (k0_t10_loop v8 v15).trips) (k0_t14 : Fin (k0_t14_loop v8 v15 k0_t10).trips), ∀ a, (k0_off280 v8 v15 k0_t10 k0_t14) a + S1x16.size a ≤ S128x256.size a) ∧
  (∀ (k0_t10 : Fin (k0_t10_loop v8 v15).trips) (k0_t14 : Fin (k0_t14_loop v8 v15 k0_t10).trips), ∀ a, (k0_off281 v8 v15 k0_t10 k0_t14) a + S1x16.size a ≤ S128x256.size a) ∧
  (∀ (k0_t10 : Fin (k0_t10_loop v8 v15).trips) (k0_t14 : Fin (k0_t14_loop v8 v15 k0_t10).trips), ∀ a, (k0_off282 v8 v15 k0_t10 k0_t14) a + S1x16.size a ≤ S128x256.size a) ∧
  (∀ (k0_t10 : Fin (k0_t10_loop v8 v15).trips) (k0_t14 : Fin (k0_t14_loop v8 v15 k0_t10).trips), ∀ a, (k0_off283 v8 v15 k0_t10 k0_t14) a + S1x16.size a ≤ S128x256.size a) ∧
  (∀ (k0_t10 : Fin (k0_t10_loop v8 v15).trips) (k0_t14 : Fin (k0_t14_loop v8 v15 k0_t10).trips), ∀ a, (k0_off284 v8 v15 k0_t10 k0_t14) a + S1x16.size a ≤ S128x256.size a) ∧
  (∀ (k0_t10 : Fin (k0_t10_loop v8 v15).trips) (k0_t14 : Fin (k0_t14_loop v8 v15 k0_t10).trips), ∀ a, (k0_off285 v8 v15 k0_t10 k0_t14) a + S1x16.size a ≤ S128x256.size a) ∧
  (∀ (k0_t10 : Fin (k0_t10_loop v8 v15).trips) (k0_t14 : Fin (k0_t14_loop v8 v15 k0_t10).trips), ∀ a, (k0_off286 v8 v15 k0_t10 k0_t14) a + S1x16.size a ≤ S128x256.size a) ∧
  (∀ (k0_t10 : Fin (k0_t10_loop v8 v15).trips) (k0_t14 : Fin (k0_t14_loop v8 v15 k0_t10).trips), ∀ a, (k0_off287 v8 v15 k0_t10 k0_t14) a + S1x16.size a ≤ S128x256.size a) ∧
  (∀ (k0_t10 : Fin (k0_t10_loop v8 v15).trips) (k0_t14 : Fin (k0_t14_loop v8 v15 k0_t10).trips), ∀ a, (k0_off288 v8 v15 k0_t10 k0_t14) a + S1x16.size a ≤ S128x256.size a) ∧
  (∀ (k0_t10 : Fin (k0_t10_loop v8 v15).trips) (k0_t14 : Fin (k0_t14_loop v8 v15 k0_t10).trips), ∀ a, (k0_off289 v8 v15 k0_t10 k0_t14) a + S1x16.size a ≤ S128x256.size a) ∧
  (∀ (k0_t10 : Fin (k0_t10_loop v8 v15).trips) (k0_t14 : Fin (k0_t14_loop v8 v15 k0_t10).trips), ∀ a, (k0_off290 v8 v15 k0_t10 k0_t14) a + S1x16.size a ≤ S128x256.size a) ∧
  (∀ (k0_t10 : Fin (k0_t10_loop v8 v15).trips) (k0_t14 : Fin (k0_t14_loop v8 v15 k0_t10).trips), ∀ a, (k0_off291 v8 v15 k0_t10 k0_t14) a + S1x16.size a ≤ S128x256.size a) ∧
  (∀ (k0_t10 : Fin (k0_t10_loop v8 v15).trips) (k0_t14 : Fin (k0_t14_loop v8 v15 k0_t10).trips), ∀ a, (k0_off292 v8 v15 k0_t10 k0_t14) a + S1x16.size a ≤ S128x256.size a) ∧
  (∀ (k0_t10 : Fin (k0_t10_loop v8 v15).trips) (k0_t14 : Fin (k0_t14_loop v8 v15 k0_t10).trips), ∀ a, (k0_off293 v8 v15 k0_t10 k0_t14) a + S1x16.size a ≤ S128x256.size a) ∧
  (∀ k0_t10 : Fin (k0_t10_loop v8 v15).trips, 8 ∣ (k0_mult8 v8 v15 k0_t10).toNat) ∧
  (∀ k0_t10 : Fin (k0_t10_loop v8 v15).trips, ∀ a, (k0_off294 v8 v15 k0_t10) a + S128x256.size a ≤ S50000x256.size a) ∧
  (∀ k0_t10 : Fin (k0_t10_loop v8 v15).trips, 8 ∣ (k0_mult9 v8 v15 k0_t10).toNat) ∧
  (∀ k0_t10 : Fin (k0_t10_loop v8 v15).trips, (k0_t15_loop v8 v15 k0_t10).OK) ∧
  (∀ (k0_t10 : Fin (k0_t10_loop v8 v15).trips) (k0_t15 : Fin (k0_t15_loop v8 v15 k0_t10).trips), ∀ a, (k0_off295 v8 v15 k0_t10 k0_t15) a + S1x16.size a ≤ S128x256.size a) ∧
  (∀ (k0_t10 : Fin (k0_t10_loop v8 v15).trips) (k0_t15 : Fin (k0_t15_loop v8 v15 k0_t10).trips), ∀ a, (k0_off296 v8 v15 k0_t10 k0_t15) a + S1x16.size a ≤ S128x256.size a) ∧
  (∀ (k0_t10 : Fin (k0_t10_loop v8 v15).trips) (k0_t15 : Fin (k0_t15_loop v8 v15 k0_t10).trips), ∀ a, (k0_off297 v8 v15 k0_t10 k0_t15) a + S1x16.size a ≤ S128x256.size a) ∧
  (∀ (k0_t10 : Fin (k0_t10_loop v8 v15).trips) (k0_t15 : Fin (k0_t15_loop v8 v15 k0_t10).trips), ∀ a, (k0_off298 v8 v15 k0_t10 k0_t15) a + S1x16.size a ≤ S128x256.size a) ∧
  (∀ (k0_t10 : Fin (k0_t10_loop v8 v15).trips) (k0_t15 : Fin (k0_t15_loop v8 v15 k0_t10).trips), ∀ a, (k0_off299 v8 v15 k0_t10 k0_t15) a + S1x16.size a ≤ S128x256.size a)
def k0_chk2_10 (v8 : BitVec 32) (v15 : BitVec 32) : Prop :=
  (∀ (k0_t10 : Fin (k0_t10_loop v8 v15).trips) (k0_t15 : Fin (k0_t15_loop v8 v15 k0_t10).trips), ∀ a, (k0_off300 v8 v15 k0_t10 k0_t15) a + S1x16.size a ≤ S128x256.size a) ∧
  (∀ (k0_t10 : Fin (k0_t10_loop v8 v15).trips) (k0_t15 : Fin (k0_t15_loop v8 v15 k0_t10).trips), ∀ a, (k0_off301 v8 v15 k0_t10 k0_t15) a + S1x16.size a ≤ S128x256.size a) ∧
  (∀ (k0_t10 : Fin (k0_t10_loop v8 v15).trips) (k0_t15 : Fin (k0_t15_loop v8 v15 k0_t10).trips), ∀ a, (k0_off302 v8 v15 k0_t10 k0_t15) a + S1x16.size a ≤ S128x256.size a) ∧
  (∀ (k0_t10 : Fin (k0_t10_loop v8 v15).trips) (k0_t15 : Fin (k0_t15_loop v8 v15 k0_t10).trips), ∀ a, (k0_off303 v8 v15 k0_t10 k0_t15) a + S1x16.size a ≤ S128x256.size a) ∧
  (∀ (k0_t10 : Fin (k0_t10_loop v8 v15).trips) (k0_t15 : Fin (k0_t15_loop v8 v15 k0_t10).trips), ∀ a, (k0_off304 v8 v15 k0_t10 k0_t15) a + S1x16.size a ≤ S128x256.size a) ∧
  (∀ (k0_t10 : Fin (k0_t10_loop v8 v15).trips) (k0_t15 : Fin (k0_t15_loop v8 v15 k0_t10).trips), ∀ a, (k0_off305 v8 v15 k0_t10 k0_t15) a + S1x16.size a ≤ S128x256.size a) ∧
  (∀ (k0_t10 : Fin (k0_t10_loop v8 v15).trips) (k0_t15 : Fin (k0_t15_loop v8 v15 k0_t10).trips), ∀ a, (k0_off306 v8 v15 k0_t10 k0_t15) a + S1x16.size a ≤ S128x256.size a) ∧
  (∀ (k0_t10 : Fin (k0_t10_loop v8 v15).trips) (k0_t15 : Fin (k0_t15_loop v8 v15 k0_t10).trips), ∀ a, (k0_off307 v8 v15 k0_t10 k0_t15) a + S1x16.size a ≤ S128x256.size a) ∧
  (∀ (k0_t10 : Fin (k0_t10_loop v8 v15).trips) (k0_t15 : Fin (k0_t15_loop v8 v15 k0_t10).trips), ∀ a, (k0_off308 v8 v15 k0_t10 k0_t15) a + S1x16.size a ≤ S128x256.size a) ∧
  (∀ (k0_t10 : Fin (k0_t10_loop v8 v15).trips) (k0_t15 : Fin (k0_t15_loop v8 v15 k0_t10).trips), ∀ a, (k0_off309 v8 v15 k0_t10 k0_t15) a + S1x16.size a ≤ S128x256.size a) ∧
  (∀ (k0_t10 : Fin (k0_t10_loop v8 v15).trips) (k0_t15 : Fin (k0_t15_loop v8 v15 k0_t10).trips), ∀ a, (k0_off310 v8 v15 k0_t10 k0_t15) a + S1x16.size a ≤ S128x256.size a) ∧
  (∀ (k0_t10 : Fin (k0_t10_loop v8 v15).trips) (k0_t15 : Fin (k0_t15_loop v8 v15 k0_t10).trips), ∀ (r : Fin 3), ∀ a, (k0_off311 v8 v15 k0_t10 k0_t15 (BitVec.ofNat 32 (1 + r.val))) a + S1x16.size a ≤ S128x256.size a) ∧
  (∀ (k0_t10 : Fin (k0_t10_loop v8 v15).trips) (k0_t15 : Fin (k0_t15_loop v8 v15 k0_t10).trips), ∀ (r : Fin 3), ∀ a, (k0_off312 v8 v15 k0_t10 k0_t15 (BitVec.ofNat 32 (1 + r.val))) a + S1x16.size a ≤ S128x256.size a) ∧
  (∀ (k0_t10 : Fin (k0_t10_loop v8 v15).trips) (k0_t15 : Fin (k0_t15_loop v8 v15 k0_t10).trips), ∀ (r : Fin 3), ∀ a, (k0_off313 v8 v15 k0_t10 k0_t15 (BitVec.ofNat 32 (1 + r.val))) a + S1x16.size a ≤ S128x256.size a) ∧
  (∀ (k0_t10 : Fin (k0_t10_loop v8 v15).trips) (k0_t15 : Fin (k0_t15_loop v8 v15 k0_t10).trips), ∀ (r : Fin 3), ∀ a, (k0_off314 v8 v15 k0_t10 k0_t15 (BitVec.ofNat 32 (1 + r.val))) a + S1x16.size a ≤ S128x256.size a) ∧
  (∀ (k0_t10 : Fin (k0_t10_loop v8 v15).trips) (k0_t15 : Fin (k0_t15_loop v8 v15 k0_t10).trips), ∀ (r : Fin 3), ∀ a, (k0_off315 v8 v15 k0_t10 k0_t15 (BitVec.ofNat 32 (1 + r.val))) a + S1x16.size a ≤ S128x256.size a) ∧
  (∀ (k0_t10 : Fin (k0_t10_loop v8 v15).trips) (k0_t15 : Fin (k0_t15_loop v8 v15 k0_t10).trips), ∀ (r : Fin 3), ∀ a, (k0_off316 v8 v15 k0_t10 k0_t15 (BitVec.ofNat 32 (1 + r.val))) a + S1x16.size a ≤ S128x256.size a) ∧
  (∀ (k0_t10 : Fin (k0_t10_loop v8 v15).trips) (k0_t15 : Fin (k0_t15_loop v8 v15 k0_t10).trips), ∀ (r : Fin 3), ∀ a, (k0_off317 v8 v15 k0_t10 k0_t15 (BitVec.ofNat 32 (1 + r.val))) a + S1x16.size a ≤ S128x256.size a) ∧
  (∀ (k0_t10 : Fin (k0_t10_loop v8 v15).trips) (k0_t15 : Fin (k0_t15_loop v8 v15 k0_t10).trips), ∀ (r : Fin 3), ∀ a, (k0_off318 v8 v15 k0_t10 k0_t15 (BitVec.ofNat 32 (1 + r.val))) a + S1x16.size a ≤ S128x256.size a) ∧
  (∀ (k0_t10 : Fin (k0_t10_loop v8 v15).trips) (k0_t15 : Fin (k0_t15_loop v8 v15 k0_t10).trips), ∀ (r : Fin 3), ∀ a, (k0_off319 v8 v15 k0_t10 k0_t15 (BitVec.ofNat 32 (1 + r.val))) a + S1x16.size a ≤ S128x256.size a) ∧
  (∀ (k0_t10 : Fin (k0_t10_loop v8 v15).trips) (k0_t15 : Fin (k0_t15_loop v8 v15 k0_t10).trips), ∀ (r : Fin 3), ∀ a, (k0_off320 v8 v15 k0_t10 k0_t15 (BitVec.ofNat 32 (1 + r.val))) a + S1x16.size a ≤ S128x256.size a) ∧
  (∀ (k0_t10 : Fin (k0_t10_loop v8 v15).trips) (k0_t15 : Fin (k0_t15_loop v8 v15 k0_t10).trips), ∀ (r : Fin 3), ∀ a, (k0_off321 v8 v15 k0_t10 k0_t15 (BitVec.ofNat 32 (1 + r.val))) a + S1x16.size a ≤ S128x256.size a) ∧
  (∀ (k0_t10 : Fin (k0_t10_loop v8 v15).trips) (k0_t15 : Fin (k0_t15_loop v8 v15 k0_t10).trips), ∀ (r : Fin 3), ∀ a, (k0_off322 v8 v15 k0_t10 k0_t15 (BitVec.ofNat 32 (1 + r.val))) a + S1x16.size a ≤ S128x256.size a) ∧
  (∀ (k0_t10 : Fin (k0_t10_loop v8 v15).trips) (k0_t15 : Fin (k0_t15_loop v8 v15 k0_t10).trips), ∀ (r : Fin 3), ∀ a, (k0_off323 v8 v15 k0_t10 k0_t15 (BitVec.ofNat 32 (1 + r.val))) a + S1x16.size a ≤ S128x256.size a) ∧
  (∀ (k0_t10 : Fin (k0_t10_loop v8 v15).trips) (k0_t15 : Fin (k0_t15_loop v8 v15 k0_t10).trips), ∀ (r : Fin 3), ∀ a, (k0_off324 v8 v15 k0_t10 k0_t15 (BitVec.ofNat 32 (1 + r.val))) a + S1x16.size a ≤ S128x256.size a) ∧
  (∀ (k0_t10 : Fin (k0_t10_loop v8 v15).trips) (k0_t15 : Fin (k0_t15_loop v8 v15 k0_t10).trips), ∀ (r : Fin 3), ∀ a, (k0_off325 v8 v15 k0_t10 k0_t15 (BitVec.ofNat 32 (1 + r.val))) a + S1x16.size a ≤ S128x256.size a) ∧
  (∀ (k0_t10 : Fin (k0_t10_loop v8 v15).trips) (k0_t15 : Fin (k0_t15_loop v8 v15 k0_t10).trips), ∀ (r : Fin 3), ∀ a, (k0_off326 v8 v15 k0_t10 k0_t15 (BitVec.ofNat 32 (1 + r.val))) a + S1x16.size a ≤ S128x256.size a) ∧
  (∀ k0_t10 : Fin (k0_t10_loop v8 v15).trips, (k0_t16_loop v8 v15 k0_t10).OK) ∧
  (∀ (k0_t10 : Fin (k0_t10_loop v8 v15).trips) (k0_t16 : Fin (k0_t16_loop v8 v15 k0_t10).trips), ∀ a, (k0_off327 v8 v15 k0_t10 k0_t16) a + S1x16.size a ≤ S128x256.size a) ∧
  (∀ (k0_t10 : Fin (k0_t10_loop v8 v15).trips) (k0_t16 : Fin (k0_t16_loop v8 v15 k0_t10).trips), ∀ a, (k0_off328 v8 v15 k0_t10 k0_t16) a + S1x16.size a ≤ S128x256.size a) ∧
  (∀ (k0_t10 : Fin (k0_t10_loop v8 v15).trips) (k0_t16 : Fin (k0_t16_loop v8 v15 k0_t10).trips), ∀ a, (k0_off329 v8 v15 k0_t10 k0_t16) a + S1x16.size a ≤ S128x256.size a) ∧
  (∀ (k0_t10 : Fin (k0_t10_loop v8 v15).trips) (k0_t16 : Fin (k0_t16_loop v8 v15 k0_t10).trips), ∀ a, (k0_off330 v8 v15 k0_t10 k0_t16) a + S1x16.size a ≤ S128x256.size a)
def k0_chk2_11 (v8 : BitVec 32) (v15 : BitVec 32) : Prop :=
  (∀ (k0_t10 : Fin (k0_t10_loop v8 v15).trips) (k0_t16 : Fin (k0_t16_loop v8 v15 k0_t10).trips), ∀ a, (k0_off331 v8 v15 k0_t10 k0_t16) a + S1x16.size a ≤ S128x256.size a) ∧
  (∀ (k0_t10 : Fin (k0_t10_loop v8 v15).trips) (k0_t16 : Fin (k0_t16_loop v8 v15 k0_t10).trips), ∀ a, (k0_off332 v8 v15 k0_t10 k0_t16) a + S1x16.size a ≤ S128x256.size a) ∧
  (∀ (k0_t10 : Fin (k0_t10_loop v8 v15).trips) (k0_t16 : Fin (k0_t16_loop v8 v15 k0_t10).trips), ∀ a, (k0_off333 v8 v15 k0_t10 k0_t16) a + S1x16.size a ≤ S128x256.size a) ∧
  (∀ (k0_t10 : Fin (k0_t10_loop v8 v15).trips) (k0_t16 : Fin (k0_t16_loop v8 v15 k0_t10).trips), ∀ a, (k0_off334 v8 v15 k0_t10 k0_t16) a + S1x16.size a ≤ S128x256.size a) ∧
  (∀ (k0_t10 : Fin (k0_t10_loop v8 v15).trips) (k0_t16 : Fin (k0_t16_loop v8 v15 k0_t10).trips), ∀ a, (k0_off335 v8 v15 k0_t10 k0_t16) a + S1x16.size a ≤ S128x256.size a) ∧
  (∀ (k0_t10 : Fin (k0_t10_loop v8 v15).trips) (k0_t16 : Fin (k0_t16_loop v8 v15 k0_t10).trips), ∀ a, (k0_off336 v8 v15 k0_t10 k0_t16) a + S1x16.size a ≤ S128x256.size a) ∧
  (∀ (k0_t10 : Fin (k0_t10_loop v8 v15).trips) (k0_t16 : Fin (k0_t16_loop v8 v15 k0_t10).trips), ∀ a, (k0_off337 v8 v15 k0_t10 k0_t16) a + S1x16.size a ≤ S128x256.size a) ∧
  (∀ (k0_t10 : Fin (k0_t10_loop v8 v15).trips) (k0_t16 : Fin (k0_t16_loop v8 v15 k0_t10).trips), ∀ a, (k0_off338 v8 v15 k0_t10 k0_t16) a + S1x16.size a ≤ S128x256.size a) ∧
  (∀ (k0_t10 : Fin (k0_t10_loop v8 v15).trips) (k0_t16 : Fin (k0_t16_loop v8 v15 k0_t10).trips), ∀ a, (k0_off339 v8 v15 k0_t10 k0_t16) a + S1x16.size a ≤ S128x256.size a) ∧
  (∀ (k0_t10 : Fin (k0_t10_loop v8 v15).trips) (k0_t16 : Fin (k0_t16_loop v8 v15 k0_t10).trips), ∀ a, (k0_off340 v8 v15 k0_t10 k0_t16) a + S1x16.size a ≤ S128x256.size a) ∧
  (∀ (k0_t10 : Fin (k0_t10_loop v8 v15).trips) (k0_t16 : Fin (k0_t16_loop v8 v15 k0_t10).trips), ∀ a, (k0_off341 v8 v15 k0_t10 k0_t16) a + S1x16.size a ≤ S128x256.size a) ∧
  (∀ (k0_t10 : Fin (k0_t10_loop v8 v15).trips) (k0_t16 : Fin (k0_t16_loop v8 v15 k0_t10).trips), ∀ a, (k0_off342 v8 v15 k0_t10 k0_t16) a + S1x16.size a ≤ S128x256.size a) ∧
  (∀ (k0_t10 : Fin (k0_t10_loop v8 v15).trips) (k0_t16 : Fin (k0_t16_loop v8 v15 k0_t10).trips), ∀ (r : Fin 3), ∀ a, (k0_off343 v8 v15 k0_t10 k0_t16 (BitVec.ofNat 32 (1 + r.val))) a + S1x16.size a ≤ S128x256.size a) ∧
  (∀ (k0_t10 : Fin (k0_t10_loop v8 v15).trips) (k0_t16 : Fin (k0_t16_loop v8 v15 k0_t10).trips), ∀ (r : Fin 3), ∀ a, (k0_off344 v8 v15 k0_t10 k0_t16 (BitVec.ofNat 32 (1 + r.val))) a + S1x16.size a ≤ S128x256.size a) ∧
  (∀ (k0_t10 : Fin (k0_t10_loop v8 v15).trips) (k0_t16 : Fin (k0_t16_loop v8 v15 k0_t10).trips), ∀ (r : Fin 3), ∀ a, (k0_off345 v8 v15 k0_t10 k0_t16 (BitVec.ofNat 32 (1 + r.val))) a + S1x16.size a ≤ S128x256.size a) ∧
  (∀ (k0_t10 : Fin (k0_t10_loop v8 v15).trips) (k0_t16 : Fin (k0_t16_loop v8 v15 k0_t10).trips), ∀ (r : Fin 3), ∀ a, (k0_off346 v8 v15 k0_t10 k0_t16 (BitVec.ofNat 32 (1 + r.val))) a + S1x16.size a ≤ S128x256.size a) ∧
  (∀ (k0_t10 : Fin (k0_t10_loop v8 v15).trips) (k0_t16 : Fin (k0_t16_loop v8 v15 k0_t10).trips), ∀ (r : Fin 3), ∀ a, (k0_off347 v8 v15 k0_t10 k0_t16 (BitVec.ofNat 32 (1 + r.val))) a + S1x16.size a ≤ S128x256.size a) ∧
  (∀ (k0_t10 : Fin (k0_t10_loop v8 v15).trips) (k0_t16 : Fin (k0_t16_loop v8 v15 k0_t10).trips), ∀ (r : Fin 3), ∀ a, (k0_off348 v8 v15 k0_t10 k0_t16 (BitVec.ofNat 32 (1 + r.val))) a + S1x16.size a ≤ S128x256.size a) ∧
  (∀ (k0_t10 : Fin (k0_t10_loop v8 v15).trips) (k0_t16 : Fin (k0_t16_loop v8 v15 k0_t10).trips), ∀ (r : Fin 3), ∀ a, (k0_off349 v8 v15 k0_t10 k0_t16 (BitVec.ofNat 32 (1 + r.val))) a + S1x16.size a ≤ S128x256.size a) ∧
  (∀ (k0_t10 : Fin (k0_t10_loop v8 v15).trips) (k0_t16 : Fin (k0_t16_loop v8 v15 k0_t10).trips), ∀ (r : Fin 3), ∀ a, (k0_off350 v8 v15 k0_t10 k0_t16 (BitVec.ofNat 32 (1 + r.val))) a + S1x16.size a ≤ S128x256.size a) ∧
  (∀ (k0_t10 : Fin (k0_t10_loop v8 v15).trips) (k0_t16 : Fin (k0_t16_loop v8 v15 k0_t10).trips), ∀ (r : Fin 3), ∀ a, (k0_off351 v8 v15 k0_t10 k0_t16 (BitVec.ofNat 32 (1 + r.val))) a + S1x16.size a ≤ S128x256.size a) ∧
  (∀ (k0_t10 : Fin (k0_t10_loop v8 v15).trips) (k0_t16 : Fin (k0_t16_loop v8 v15 k0_t10).trips), ∀ (r : Fin 3), ∀ a, (k0_off352 v8 v15 k0_t10 k0_t16 (BitVec.ofNat 32 (1 + r.val))) a + S1x16.size a ≤ S128x256.size a) ∧
  (∀ (k0_t10 : Fin (k0_t10_loop v8 v15).trips) (k0_t16 : Fin (k0_t16_loop v8 v15 k0_t10).trips), ∀ (r : Fin 3), ∀ a, (k0_off353 v8 v15 k0_t10 k0_t16 (BitVec.ofNat 32 (1 + r.val))) a + S1x16.size a ≤ S128x256.size a) ∧
  (∀ (k0_t10 : Fin (k0_t10_loop v8 v15).trips) (k0_t16 : Fin (k0_t16_loop v8 v15 k0_t10).trips), ∀ (r : Fin 3), ∀ a, (k0_off354 v8 v15 k0_t10 k0_t16 (BitVec.ofNat 32 (1 + r.val))) a + S1x16.size a ≤ S128x256.size a) ∧
  (∀ (k0_t10 : Fin (k0_t10_loop v8 v15).trips) (k0_t16 : Fin (k0_t16_loop v8 v15 k0_t10).trips), ∀ (r : Fin 3), ∀ a, (k0_off355 v8 v15 k0_t10 k0_t16 (BitVec.ofNat 32 (1 + r.val))) a + S1x16.size a ≤ S128x256.size a) ∧
  (∀ (k0_t10 : Fin (k0_t10_loop v8 v15).trips) (k0_t16 : Fin (k0_t16_loop v8 v15 k0_t10).trips), ∀ (r : Fin 3), ∀ a, (k0_off356 v8 v15 k0_t10 k0_t16 (BitVec.ofNat 32 (1 + r.val))) a + S1x16.size a ≤ S128x256.size a) ∧
  (∀ (k0_t10 : Fin (k0_t10_loop v8 v15).trips) (k0_t16 : Fin (k0_t16_loop v8 v15 k0_t10).trips), ∀ (r : Fin 3), ∀ a, (k0_off357 v8 v15 k0_t10 k0_t16 (BitVec.ofNat 32 (1 + r.val))) a + S1x16.size a ≤ S128x256.size a) ∧
  (∀ (k0_t10 : Fin (k0_t10_loop v8 v15).trips) (k0_t16 : Fin (k0_t16_loop v8 v15 k0_t10).trips), ∀ (r : Fin 3), ∀ a, (k0_off358 v8 v15 k0_t10 k0_t16 (BitVec.ofNat 32 (1 + r.val))) a + S1x16.size a ≤ S128x256.size a) ∧
  (∀ k0_t10 : Fin (k0_t10_loop v8 v15).trips, (k0_t17_loop v8 v15 k0_t10).OK) ∧
  (∀ (k0_t10 : Fin (k0_t10_loop v8 v15).trips) (k0_t17 : Fin (k0_t17_loop v8 v15 k0_t10).trips), ∀ a, (k0_off359 v8 v15 k0_t10 k0_t17) a + S1x16.size a ≤ S128x256.size a) ∧
  (∀ (k0_t10 : Fin (k0_t10_loop v8 v15).trips) (k0_t17 : Fin (k0_t17_loop v8 v15 k0_t10).trips), ∀ a, (k0_off360 v8 v15 k0_t10 k0_t17) a + S1x16.size a ≤ S128x256.size a) ∧
  (∀ (k0_t10 : Fin (k0_t10_loop v8 v15).trips) (k0_t17 : Fin (k0_t17_loop v8 v15 k0_t10).trips), ∀ a, (k0_off361 v8 v15 k0_t10 k0_t17) a + S1x16.size a ≤ S128x256.size a)
def k0_chk2_12 (v8 : BitVec 32) (v15 : BitVec 32) : Prop :=
  (∀ (k0_t10 : Fin (k0_t10_loop v8 v15).trips) (k0_t17 : Fin (k0_t17_loop v8 v15 k0_t10).trips), ∀ a, (k0_off362 v8 v15 k0_t10 k0_t17) a + S1x16.size a ≤ S128x256.size a) ∧
  (∀ (k0_t10 : Fin (k0_t10_loop v8 v15).trips) (k0_t17 : Fin (k0_t17_loop v8 v15 k0_t10).trips), ∀ a, (k0_off363 v8 v15 k0_t10 k0_t17) a + S1x16.size a ≤ S128x256.size a) ∧
  (∀ (k0_t10 : Fin (k0_t10_loop v8 v15).trips) (k0_t17 : Fin (k0_t17_loop v8 v15 k0_t10).trips), ∀ a, (k0_off364 v8 v15 k0_t10 k0_t17) a + S1x16.size a ≤ S128x256.size a) ∧
  (∀ (k0_t10 : Fin (k0_t10_loop v8 v15).trips) (k0_t17 : Fin (k0_t17_loop v8 v15 k0_t10).trips), ∀ a, (k0_off365 v8 v15 k0_t10 k0_t17) a + S1x16.size a ≤ S128x256.size a) ∧
  (∀ (k0_t10 : Fin (k0_t10_loop v8 v15).trips) (k0_t17 : Fin (k0_t17_loop v8 v15 k0_t10).trips), ∀ a, (k0_off366 v8 v15 k0_t10 k0_t17) a + S1x16.size a ≤ S128x256.size a) ∧
  (∀ (k0_t10 : Fin (k0_t10_loop v8 v15).trips) (k0_t17 : Fin (k0_t17_loop v8 v15 k0_t10).trips), ∀ a, (k0_off367 v8 v15 k0_t10 k0_t17) a + S1x16.size a ≤ S128x256.size a) ∧
  (∀ (k0_t10 : Fin (k0_t10_loop v8 v15).trips) (k0_t17 : Fin (k0_t17_loop v8 v15 k0_t10).trips), ∀ a, (k0_off368 v8 v15 k0_t10 k0_t17) a + S1x16.size a ≤ S128x256.size a) ∧
  (∀ (k0_t10 : Fin (k0_t10_loop v8 v15).trips) (k0_t17 : Fin (k0_t17_loop v8 v15 k0_t10).trips), ∀ a, (k0_off369 v8 v15 k0_t10 k0_t17) a + S1x16.size a ≤ S128x256.size a) ∧
  (∀ (k0_t10 : Fin (k0_t10_loop v8 v15).trips) (k0_t17 : Fin (k0_t17_loop v8 v15 k0_t10).trips), ∀ a, (k0_off370 v8 v15 k0_t10 k0_t17) a + S1x16.size a ≤ S128x256.size a) ∧
  (∀ (k0_t10 : Fin (k0_t10_loop v8 v15).trips) (k0_t17 : Fin (k0_t17_loop v8 v15 k0_t10).trips), ∀ a, (k0_off371 v8 v15 k0_t10 k0_t17) a + S1x16.size a ≤ S128x256.size a) ∧
  (∀ (k0_t10 : Fin (k0_t10_loop v8 v15).trips) (k0_t17 : Fin (k0_t17_loop v8 v15 k0_t10).trips), ∀ a, (k0_off372 v8 v15 k0_t10 k0_t17) a + S1x16.size a ≤ S128x256.size a) ∧
  (∀ (k0_t10 : Fin (k0_t10_loop v8 v15).trips) (k0_t17 : Fin (k0_t17_loop v8 v15 k0_t10).trips), ∀ a, (k0_off373 v8 v15 k0_t10 k0_t17) a + S1x16.size a ≤ S128x256.size a) ∧
  (∀ (k0_t10 : Fin (k0_t10_loop v8 v15).trips) (k0_t17 : Fin (k0_t17_loop v8 v15 k0_t10).trips), ∀ a, (k0_off374 v8 v15 k0_t10 k0_t17) a + S1x16.size a ≤ S128x256.size a) ∧
  (∀ k0_t10 : Fin (k0_t10_loop v8 v15).trips, (k0_t18_loop v8 v15 k0_t10).OK) ∧
  (∀ (k0_t10 : Fin (k0_t10_loop v8 v15).trips) (k0_t18 : Fin (k0_t18_loop v8 v15 k0_t10).trips), ∀ a, (k0_off375 v8 v15 k0_t10 k0_t18) a + S1x16.size a ≤ S128x256.size a) ∧
  (∀ (k0_t10 : Fin (k0_t10_loop v8 v15).trips) (k0_t18 : Fin (k0_t18_loop v8 v15 k0_t10).trips), ∀ a, (k0_off376 v8 v15 k0_t10 k0_t18) a + S1x16.size a ≤ S128x256.size a) ∧
  (∀ (k0_t10 : Fin (k0_t10_loop v8 v15).trips) (k0_t18 : Fin (k0_t18_loop v8 v15 k0_t10).trips), ∀ a, (k0_off377 v8 v15 k0_t10 k0_t18) a + S1x16.size a ≤ S128x256.size a) ∧
  (∀ (k0_t10 : Fin (k0_t10_loop v8 v15).trips) (k0_t18 : Fin (k0_t18_loop v8 v15 k0_t10).trips), ∀ a, (k0_off378 v8 v15 k0_t10 k0_t18) a + S1x16.size a ≤ S128x256.size a) ∧
  (∀ (k0_t10 : Fin (k0_t10_loop v8 v15).trips) (k0_t18 : Fin (k0_t18_loop v8 v15 k0_t10).trips), ∀ a, (k0_off379 v8 v15 k0_t10 k0_t18) a + S1x16.size a ≤ S128x256.size a) ∧
  (∀ (k0_t10 : Fin (k0_t10_loop v8 v15).trips) (k0_t18 : Fin (k0_t18_loop v8 v15 k0_t10).trips), ∀ a, (k0_off380 v8 v15 k0_t10 k0_t18) a + S1x16.size a ≤ S128x256.size a) ∧
  (∀ (k0_t10 : Fin (k0_t10_loop v8 v15).trips) (k0_t18 : Fin (k0_t18_loop v8 v15 k0_t10).trips), ∀ a, (k0_off381 v8 v15 k0_t10 k0_t18) a + S1x16.size a ≤ S128x256.size a) ∧
  (∀ (k0_t10 : Fin (k0_t10_loop v8 v15).trips) (k0_t18 : Fin (k0_t18_loop v8 v15 k0_t10).trips), ∀ a, (k0_off382 v8 v15 k0_t10 k0_t18) a + S1x16.size a ≤ S128x256.size a) ∧
  (∀ (k0_t10 : Fin (k0_t10_loop v8 v15).trips) (k0_t18 : Fin (k0_t18_loop v8 v15 k0_t10).trips), ∀ a, (k0_off383 v8 v15 k0_t10 k0_t18) a + S1x16.size a ≤ S128x256.size a) ∧
  (∀ (k0_t10 : Fin (k0_t10_loop v8 v15).trips) (k0_t18 : Fin (k0_t18_loop v8 v15 k0_t10).trips), ∀ a, (k0_off384 v8 v15 k0_t10 k0_t18) a + S1x16.size a ≤ S128x256.size a) ∧
  (∀ (k0_t10 : Fin (k0_t10_loop v8 v15).trips) (k0_t18 : Fin (k0_t18_loop v8 v15 k0_t10).trips), ∀ a, (k0_off385 v8 v15 k0_t10 k0_t18) a + S1x16.size a ≤ S128x256.size a) ∧
  (∀ (k0_t10 : Fin (k0_t10_loop v8 v15).trips) (k0_t18 : Fin (k0_t18_loop v8 v15 k0_t10).trips), ∀ a, (k0_off386 v8 v15 k0_t10 k0_t18) a + S1x16.size a ≤ S128x256.size a) ∧
  (∀ (k0_t10 : Fin (k0_t10_loop v8 v15).trips) (k0_t18 : Fin (k0_t18_loop v8 v15 k0_t10).trips), ∀ a, (k0_off387 v8 v15 k0_t10 k0_t18) a + S1x16.size a ≤ S128x256.size a) ∧
  (∀ (k0_t10 : Fin (k0_t10_loop v8 v15).trips) (k0_t18 : Fin (k0_t18_loop v8 v15 k0_t10).trips), ∀ a, (k0_off388 v8 v15 k0_t10 k0_t18) a + S1x16.size a ≤ S128x256.size a) ∧
  (∀ (k0_t10 : Fin (k0_t10_loop v8 v15).trips) (k0_t18 : Fin (k0_t18_loop v8 v15 k0_t10).trips), ∀ a, (k0_off389 v8 v15 k0_t10 k0_t18) a + S1x16.size a ≤ S128x256.size a) ∧
  (∀ (k0_t10 : Fin (k0_t10_loop v8 v15).trips) (k0_t18 : Fin (k0_t18_loop v8 v15 k0_t10).trips), ∀ a, (k0_off390 v8 v15 k0_t10 k0_t18) a + S1x16.size a ≤ S128x256.size a) ∧
  (8 ∣ (k0_mult10 v15).toNat) ∧
  (∀ a, (k0_off391 v15) a + S128x256.size a ≤ S50000x256.size a)
def k0_chk2 (v8 : BitVec 32) (v15 : BitVec 32) : Prop :=
  k0_chk2_0 v8 v15 ∧
  k0_chk2_1 v8 v15 ∧
  k0_chk2_2 v8 v15 ∧
  k0_chk2_3 v8 v15 ∧
  k0_chk2_4 v8 v15 ∧
  k0_chk2_5 v8 v15 ∧
  k0_chk2_6 v8 v15 ∧
  k0_chk2_7 v8 v15 ∧
  k0_chk2_8 v8 v15 ∧
  k0_chk2_9 v8 v15 ∧
  k0_chk2_10 v8 v15 ∧
  k0_chk2_11 v8 v15 ∧
  k0_chk2_12 v8 v15
theorem k0_t1_ok : ∀ (v8 : BitVec 32) (v15 : BitVec 32) (k0_hw2 : k0_chk2 v8 v15), (k0_t1_loop v8 v15).OK := fun v8 v15 k0_hw2 => k0_hw2.1.1
theorem k0_mult2_dvd : ∀ (v8 : BitVec 32) (v15 : BitVec 32) (k0_hw2 : k0_chk2 v8 v15) (k0_t1 : Fin (k0_t1_loop v8 v15).trips), 8 ∣ (k0_mult2 v8 v15 k0_t1).toNat := fun v8 v15 k0_hw2 k0_t1 => k0_hw2.1.2.1 k0_t1
theorem k0_off3_inb : ∀ (v8 : BitVec 32) (v15 : BitVec 32) (k0_hw2 : k0_chk2 v8 v15) (k0_t1 : Fin (k0_t1_loop v8 v15).trips), ∀ a, (k0_off3 v8 v15 k0_t1) a + S128x256.size a ≤ S50000x256.size a := fun v8 v15 k0_hw2 k0_t1 => k0_hw2.1.2.2.1 k0_t1
theorem k0_mult3_dvd : ∀ (v8 : BitVec 32) (v15 : BitVec 32) (k0_hw2 : k0_chk2 v8 v15) (k0_t1 : Fin (k0_t1_loop v8 v15).trips), 8 ∣ (k0_mult3 v8 v15 k0_t1).toNat := fun v8 v15 k0_hw2 k0_t1 => k0_hw2.1.2.2.2.1 k0_t1
theorem k0_t2_ok : ∀ (v8 : BitVec 32) (v15 : BitVec 32) (k0_hw2 : k0_chk2 v8 v15) (k0_t1 : Fin (k0_t1_loop v8 v15).trips), (k0_t2_loop v8 v15 k0_t1).OK := fun v8 v15 k0_hw2 k0_t1 => k0_hw2.1.2.2.2.2.1 k0_t1
theorem k0_off4_inb : ∀ (v8 : BitVec 32) (v15 : BitVec 32) (k0_hw2 : k0_chk2 v8 v15) (k0_t1 : Fin (k0_t1_loop v8 v15).trips) (k0_t2 : Fin (k0_t2_loop v8 v15 k0_t1).trips), ∀ a, (k0_off4 v8 v15 k0_t1 k0_t2) a + S1x16.size a ≤ S128x256.size a := fun v8 v15 k0_hw2 k0_t1 k0_t2 => k0_hw2.1.2.2.2.2.2.1 k0_t1 k0_t2
theorem k0_off5_inb : ∀ (v8 : BitVec 32) (v15 : BitVec 32) (k0_hw2 : k0_chk2 v8 v15) (k0_t1 : Fin (k0_t1_loop v8 v15).trips) (k0_t2 : Fin (k0_t2_loop v8 v15 k0_t1).trips), ∀ a, (k0_off5 v8 v15 k0_t1 k0_t2) a + S1x16.size a ≤ S128x256.size a := fun v8 v15 k0_hw2 k0_t1 k0_t2 => k0_hw2.1.2.2.2.2.2.2.1 k0_t1 k0_t2
theorem k0_off6_inb : ∀ (v8 : BitVec 32) (v15 : BitVec 32) (k0_hw2 : k0_chk2 v8 v15) (k0_t1 : Fin (k0_t1_loop v8 v15).trips) (k0_t2 : Fin (k0_t2_loop v8 v15 k0_t1).trips), ∀ a, (k0_off6 v8 v15 k0_t1 k0_t2) a + S1x16.size a ≤ S128x256.size a := fun v8 v15 k0_hw2 k0_t1 k0_t2 => k0_hw2.1.2.2.2.2.2.2.2.1 k0_t1 k0_t2
theorem k0_off7_inb : ∀ (v8 : BitVec 32) (v15 : BitVec 32) (k0_hw2 : k0_chk2 v8 v15) (k0_t1 : Fin (k0_t1_loop v8 v15).trips) (k0_t2 : Fin (k0_t2_loop v8 v15 k0_t1).trips), ∀ a, (k0_off7 v8 v15 k0_t1 k0_t2) a + S1x16.size a ≤ S128x256.size a := fun v8 v15 k0_hw2 k0_t1 k0_t2 => k0_hw2.1.2.2.2.2.2.2.2.2.1 k0_t1 k0_t2
theorem k0_off8_inb : ∀ (v8 : BitVec 32) (v15 : BitVec 32) (k0_hw2 : k0_chk2 v8 v15) (k0_t1 : Fin (k0_t1_loop v8 v15).trips) (k0_t2 : Fin (k0_t2_loop v8 v15 k0_t1).trips), ∀ a, (k0_off8 v8 v15 k0_t1 k0_t2) a + S1x16.size a ≤ S128x256.size a := fun v8 v15 k0_hw2 k0_t1 k0_t2 => k0_hw2.1.2.2.2.2.2.2.2.2.2.1 k0_t1 k0_t2
theorem k0_off9_inb : ∀ (v8 : BitVec 32) (v15 : BitVec 32) (k0_hw2 : k0_chk2 v8 v15) (k0_t1 : Fin (k0_t1_loop v8 v15).trips) (k0_t2 : Fin (k0_t2_loop v8 v15 k0_t1).trips), ∀ a, (k0_off9 v8 v15 k0_t1 k0_t2) a + S1x16.size a ≤ S128x256.size a := fun v8 v15 k0_hw2 k0_t1 k0_t2 => k0_hw2.1.2.2.2.2.2.2.2.2.2.2.1 k0_t1 k0_t2
theorem k0_off10_inb : ∀ (v8 : BitVec 32) (v15 : BitVec 32) (k0_hw2 : k0_chk2 v8 v15) (k0_t1 : Fin (k0_t1_loop v8 v15).trips) (k0_t2 : Fin (k0_t2_loop v8 v15 k0_t1).trips), ∀ a, (k0_off10 v8 v15 k0_t1 k0_t2) a + S1x16.size a ≤ S128x256.size a := fun v8 v15 k0_hw2 k0_t1 k0_t2 => k0_hw2.1.2.2.2.2.2.2.2.2.2.2.2.1 k0_t1 k0_t2
theorem k0_off11_inb : ∀ (v8 : BitVec 32) (v15 : BitVec 32) (k0_hw2 : k0_chk2 v8 v15) (k0_t1 : Fin (k0_t1_loop v8 v15).trips) (k0_t2 : Fin (k0_t2_loop v8 v15 k0_t1).trips), ∀ a, (k0_off11 v8 v15 k0_t1 k0_t2) a + S1x16.size a ≤ S128x256.size a := fun v8 v15 k0_hw2 k0_t1 k0_t2 => k0_hw2.1.2.2.2.2.2.2.2.2.2.2.2.2.1 k0_t1 k0_t2
theorem k0_off12_inb : ∀ (v8 : BitVec 32) (v15 : BitVec 32) (k0_hw2 : k0_chk2 v8 v15) (k0_t1 : Fin (k0_t1_loop v8 v15).trips) (k0_t2 : Fin (k0_t2_loop v8 v15 k0_t1).trips), ∀ a, (k0_off12 v8 v15 k0_t1 k0_t2) a + S1x16.size a ≤ S128x256.size a := fun v8 v15 k0_hw2 k0_t1 k0_t2 => k0_hw2.1.2.2.2.2.2.2.2.2.2.2.2.2.2.1 k0_t1 k0_t2
theorem k0_off13_inb : ∀ (v8 : BitVec 32) (v15 : BitVec 32) (k0_hw2 : k0_chk2 v8 v15) (k0_t1 : Fin (k0_t1_loop v8 v15).trips) (k0_t2 : Fin (k0_t2_loop v8 v15 k0_t1).trips), ∀ a, (k0_off13 v8 v15 k0_t1 k0_t2) a + S1x16.size a ≤ S128x256.size a := fun v8 v15 k0_hw2 k0_t1 k0_t2 => k0_hw2.1.2.2.2.2.2.2.2.2.2.2.2.2.2.2.1 k0_t1 k0_t2
theorem k0_off14_inb : ∀ (v8 : BitVec 32) (v15 : BitVec 32) (k0_hw2 : k0_chk2 v8 v15) (k0_t1 : Fin (k0_t1_loop v8 v15).trips) (k0_t2 : Fin (k0_t2_loop v8 v15 k0_t1).trips), ∀ a, (k0_off14 v8 v15 k0_t1 k0_t2) a + S1x16.size a ≤ S128x256.size a := fun v8 v15 k0_hw2 k0_t1 k0_t2 => k0_hw2.1.2.2.2.2.2.2.2.2.2.2.2.2.2.2.2.1 k0_t1 k0_t2
theorem k0_off15_inb : ∀ (v8 : BitVec 32) (v15 : BitVec 32) (k0_hw2 : k0_chk2 v8 v15) (k0_t1 : Fin (k0_t1_loop v8 v15).trips) (k0_t2 : Fin (k0_t2_loop v8 v15 k0_t1).trips), ∀ a, (k0_off15 v8 v15 k0_t1 k0_t2) a + S1x16.size a ≤ S128x256.size a := fun v8 v15 k0_hw2 k0_t1 k0_t2 => k0_hw2.1.2.2.2.2.2.2.2.2.2.2.2.2.2.2.2.2.1 k0_t1 k0_t2
theorem k0_off16_inb : ∀ (v8 : BitVec 32) (v15 : BitVec 32) (k0_hw2 : k0_chk2 v8 v15) (k0_t1 : Fin (k0_t1_loop v8 v15).trips) (k0_t2 : Fin (k0_t2_loop v8 v15 k0_t1).trips), ∀ a, (k0_off16 v8 v15 k0_t1 k0_t2) a + S1x16.size a ≤ S128x256.size a := fun v8 v15 k0_hw2 k0_t1 k0_t2 => k0_hw2.1.2.2.2.2.2.2.2.2.2.2.2.2.2.2.2.2.2.1 k0_t1 k0_t2
theorem k0_off17_inb : ∀ (v8 : BitVec 32) (v15 : BitVec 32) (k0_hw2 : k0_chk2 v8 v15) (k0_t1 : Fin (k0_t1_loop v8 v15).trips) (k0_t2 : Fin (k0_t2_loop v8 v15 k0_t1).trips), ∀ a, (k0_off17 v8 v15 k0_t1 k0_t2) a + S1x16.size a ≤ S128x256.size a := fun v8 v15 k0_hw2 k0_t1 k0_t2 => k0_hw2.1.2.2.2.2.2.2.2.2.2.2.2.2.2.2.2.2.2.2.1 k0_t1 k0_t2
theorem k0_off18_inb : ∀ (v8 : BitVec 32) (v15 : BitVec 32) (k0_hw2 : k0_chk2 v8 v15) (k0_t1 : Fin (k0_t1_loop v8 v15).trips) (k0_t2 : Fin (k0_t2_loop v8 v15 k0_t1).trips), ∀ a, (k0_off18 v8 v15 k0_t1 k0_t2) a + S1x16.size a ≤ S128x256.size a := fun v8 v15 k0_hw2 k0_t1 k0_t2 => k0_hw2.1.2.2.2.2.2.2.2.2.2.2.2.2.2.2.2.2.2.2.2.1 k0_t1 k0_t2
theorem k0_off19_inb : ∀ (v8 : BitVec 32) (v15 : BitVec 32) (k0_hw2 : k0_chk2 v8 v15) (k0_t1 : Fin (k0_t1_loop v8 v15).trips) (k0_t2 : Fin (k0_t2_loop v8 v15 k0_t1).trips), ∀ a, (k0_off19 v8 v15 k0_t1 k0_t2) a + S1x16.size a ≤ S128x256.size a := fun v8 v15 k0_hw2 k0_t1 k0_t2 => k0_hw2.1.2.2.2.2.2.2.2.2.2.2.2.2.2.2.2.2.2.2.2.2.1 k0_t1 k0_t2
theorem k0_off20_inb : ∀ (v8 : BitVec 32) (v15 : BitVec 32) (k0_hw2 : k0_chk2 v8 v15) (k0_t1 : Fin (k0_t1_loop v8 v15).trips) (k0_t2 : Fin (k0_t2_loop v8 v15 k0_t1).trips), ∀ (r : Fin 3), ∀ a, (k0_off20 v8 v15 k0_t1 k0_t2 (BitVec.ofNat 32 (1 + r.val))) a + S1x16.size a ≤ S128x256.size a := fun v8 v15 k0_hw2 k0_t1 k0_t2 r => k0_hw2.1.2.2.2.2.2.2.2.2.2.2.2.2.2.2.2.2.2.2.2.2.2.1 k0_t1 k0_t2 r
theorem k0_off21_inb : ∀ (v8 : BitVec 32) (v15 : BitVec 32) (k0_hw2 : k0_chk2 v8 v15) (k0_t1 : Fin (k0_t1_loop v8 v15).trips) (k0_t2 : Fin (k0_t2_loop v8 v15 k0_t1).trips), ∀ (r : Fin 3), ∀ a, (k0_off21 v8 v15 k0_t1 k0_t2 (BitVec.ofNat 32 (1 + r.val))) a + S1x16.size a ≤ S128x256.size a := fun v8 v15 k0_hw2 k0_t1 k0_t2 r => k0_hw2.1.2.2.2.2.2.2.2.2.2.2.2.2.2.2.2.2.2.2.2.2.2.2.1 k0_t1 k0_t2 r
theorem k0_off22_inb : ∀ (v8 : BitVec 32) (v15 : BitVec 32) (k0_hw2 : k0_chk2 v8 v15) (k0_t1 : Fin (k0_t1_loop v8 v15).trips) (k0_t2 : Fin (k0_t2_loop v8 v15 k0_t1).trips), ∀ (r : Fin 3), ∀ a, (k0_off22 v8 v15 k0_t1 k0_t2 (BitVec.ofNat 32 (1 + r.val))) a + S1x16.size a ≤ S128x256.size a := fun v8 v15 k0_hw2 k0_t1 k0_t2 r => k0_hw2.1.2.2.2.2.2.2.2.2.2.2.2.2.2.2.2.2.2.2.2.2.2.2.2.1 k0_t1 k0_t2 r
theorem k0_off23_inb : ∀ (v8 : BitVec 32) (v15 : BitVec 32) (k0_hw2 : k0_chk2 v8 v15) (k0_t1 : Fin (k0_t1_loop v8 v15).trips) (k0_t2 : Fin (k0_t2_loop v8 v15 k0_t1).trips), ∀ (r : Fin 3), ∀ a, (k0_off23 v8 v15 k0_t1 k0_t2 (BitVec.ofNat 32 (1 + r.val))) a + S1x16.size a ≤ S128x256.size a := fun v8 v15 k0_hw2 k0_t1 k0_t2 r => k0_hw2.1.2.2.2.2.2.2.2.2.2.2.2.2.2.2.2.2.2.2.2.2.2.2.2.2.1 k0_t1 k0_t2 r
theorem k0_off24_inb : ∀ (v8 : BitVec 32) (v15 : BitVec 32) (k0_hw2 : k0_chk2 v8 v15) (k0_t1 : Fin (k0_t1_loop v8 v15).trips) (k0_t2 : Fin (k0_t2_loop v8 v15 k0_t1).trips), ∀ (r : Fin 3), ∀ a, (k0_off24 v8 v15 k0_t1 k0_t2 (BitVec.ofNat 32 (1 + r.val))) a + S1x16.size a ≤ S128x256.size a := fun v8 v15 k0_hw2 k0_t1 k0_t2 r => k0_hw2.1.2.2.2.2.2.2.2.2.2.2.2.2.2.2.2.2.2.2.2.2.2.2.2.2.2.1 k0_t1 k0_t2 r
theorem k0_off25_inb : ∀ (v8 : BitVec 32) (v15 : BitVec 32) (k0_hw2 : k0_chk2 v8 v15) (k0_t1 : Fin (k0_t1_loop v8 v15).trips) (k0_t2 : Fin (k0_t2_loop v8 v15 k0_t1).trips), ∀ (r : Fin 3), ∀ a, (k0_off25 v8 v15 k0_t1 k0_t2 (BitVec.ofNat 32 (1 + r.val))) a + S1x16.size a ≤ S128x256.size a := fun v8 v15 k0_hw2 k0_t1 k0_t2 r => k0_hw2.1.2.2.2.2.2.2.2.2.2.2.2.2.2.2.2.2.2.2.2.2.2.2.2.2.2.2.1 k0_t1 k0_t2 r
theorem k0_off26_inb : ∀ (v8 : BitVec 32) (v15 : BitVec 32) (k0_hw2 : k0_chk2 v8 v15) (k0_t1 : Fin (k0_t1_loop v8 v15).trips) (k0_t2 : Fin (k0_t2_loop v8 v15 k0_t1).trips), ∀ (r : Fin 3), ∀ a, (k0_off26 v8 v15 k0_t1 k0_t2 (BitVec.ofNat 32 (1 + r.val))) a + S1x16.size a ≤ S128x256.size a := fun v8 v15 k0_hw2 k0_t1 k0_t2 r => k0_hw2.1.2.2.2.2.2.2.2.2.2.2.2.2.2.2.2.2.2.2.2.2.2.2.2.2.2.2.2.1 k0_t1 k0_t2 r
theorem k0_off27_inb : ∀ (v8 : BitVec 32) (v15 : BitVec 32) (k0_hw2 : k0_chk2 v8 v15) (k0_t1 : Fin (k0_t1_loop v8 v15).trips) (k0_t2 : Fin (k0_t2_loop v8 v15 k0_t1).trips), ∀ (r : Fin 3), ∀ a, (k0_off27 v8 v15 k0_t1 k0_t2 (BitVec.ofNat 32 (1 + r.val))) a + S1x16.size a ≤ S128x256.size a := fun v8 v15 k0_hw2 k0_t1 k0_t2 r => k0_hw2.1.2.2.2.2.2.2.2.2.2.2.2.2.2.2.2.2.2.2.2.2.2.2.2.2.2.2.2.2.1 k0_t1 k0_t2 r
theorem k0_off28_inb : ∀ (v8 : BitVec 32) (v15 : BitVec 32) (k0_hw2 : k0_chk2 v8 v15) (k0_t1 : Fin (k0_t1_loop v8 v15).trips) (k0_t2 : Fin (k0_t2_loop v8 v15 k0_t1).trips), ∀ (r : Fin 3), ∀ a, (k0_off28 v8 v15 k0_t1 k0_t2 (BitVec.ofNat 32 (1 + r.val))) a + S1x16.size a ≤ S128x256.size a := fun v8 v15 k0_hw2 k0_t1 k0_t2 r => k0_hw2.1.2.2.2.2.2.2.2.2.2.2.2.2.2.2.2.2.2.2.2.2.2.2.2.2.2.2.2.2.2.1 k0_t1 k0_t2 r
theorem k0_off29_inb : ∀ (v8 : BitVec 32) (v15 : BitVec 32) (k0_hw2 : k0_chk2 v8 v15) (k0_t1 : Fin (k0_t1_loop v8 v15).trips) (k0_t2 : Fin (k0_t2_loop v8 v15 k0_t1).trips), ∀ (r : Fin 3), ∀ a, (k0_off29 v8 v15 k0_t1 k0_t2 (BitVec.ofNat 32 (1 + r.val))) a + S1x16.size a ≤ S128x256.size a := fun v8 v15 k0_hw2 k0_t1 k0_t2 r => k0_hw2.1.2.2.2.2.2.2.2.2.2.2.2.2.2.2.2.2.2.2.2.2.2.2.2.2.2.2.2.2.2.2.1 k0_t1 k0_t2 r
theorem k0_off30_inb : ∀ (v8 : BitVec 32) (v15 : BitVec 32) (k0_hw2 : k0_chk2 v8 v15) (k0_t1 : Fin (k0_t1_loop v8 v15).trips) (k0_t2 : Fin (k0_t2_loop v8 v15 k0_t1).trips), ∀ (r : Fin 3), ∀ a, (k0_off30 v8 v15 k0_t1 k0_t2 (BitVec.ofNat 32 (1 + r.val))) a + S1x16.size a ≤ S128x256.size a := fun v8 v15 k0_hw2 k0_t1 k0_t2 r => k0_hw2.1.2.2.2.2.2.2.2.2.2.2.2.2.2.2.2.2.2.2.2.2.2.2.2.2.2.2.2.2.2.2.2 k0_t1 k0_t2 r
theorem k0_off31_inb : ∀ (v8 : BitVec 32) (v15 : BitVec 32) (k0_hw2 : k0_chk2 v8 v15) (k0_t1 : Fin (k0_t1_loop v8 v15).trips) (k0_t2 : Fin (k0_t2_loop v8 v15 k0_t1).trips), ∀ (r : Fin 3), ∀ a, (k0_off31 v8 v15 k0_t1 k0_t2 (BitVec.ofNat 32 (1 + r.val))) a + S1x16.size a ≤ S128x256.size a := fun v8 v15 k0_hw2 k0_t1 k0_t2 r => k0_hw2.2.1.1 k0_t1 k0_t2 r
theorem k0_off32_inb : ∀ (v8 : BitVec 32) (v15 : BitVec 32) (k0_hw2 : k0_chk2 v8 v15) (k0_t1 : Fin (k0_t1_loop v8 v15).trips) (k0_t2 : Fin (k0_t2_loop v8 v15 k0_t1).trips), ∀ (r : Fin 3), ∀ a, (k0_off32 v8 v15 k0_t1 k0_t2 (BitVec.ofNat 32 (1 + r.val))) a + S1x16.size a ≤ S128x256.size a := fun v8 v15 k0_hw2 k0_t1 k0_t2 r => k0_hw2.2.1.2.1 k0_t1 k0_t2 r
theorem k0_off33_inb : ∀ (v8 : BitVec 32) (v15 : BitVec 32) (k0_hw2 : k0_chk2 v8 v15) (k0_t1 : Fin (k0_t1_loop v8 v15).trips) (k0_t2 : Fin (k0_t2_loop v8 v15 k0_t1).trips), ∀ (r : Fin 3), ∀ a, (k0_off33 v8 v15 k0_t1 k0_t2 (BitVec.ofNat 32 (1 + r.val))) a + S1x16.size a ≤ S128x256.size a := fun v8 v15 k0_hw2 k0_t1 k0_t2 r => k0_hw2.2.1.2.2.1 k0_t1 k0_t2 r
theorem k0_off34_inb : ∀ (v8 : BitVec 32) (v15 : BitVec 32) (k0_hw2 : k0_chk2 v8 v15) (k0_t1 : Fin (k0_t1_loop v8 v15).trips) (k0_t2 : Fin (k0_t2_loop v8 v15 k0_t1).trips), ∀ (r : Fin 3), ∀ a, (k0_off34 v8 v15 k0_t1 k0_t2 (BitVec.ofNat 32 (1 + r.val))) a + S1x16.size a ≤ S128x256.size a := fun v8 v15 k0_hw2 k0_t1 k0_t2 r => k0_hw2.2.1.2.2.2.1 k0_t1 k0_t2 r
theorem k0_off35_inb : ∀ (v8 : BitVec 32) (v15 : BitVec 32) (k0_hw2 : k0_chk2 v8 v15) (k0_t1 : Fin (k0_t1_loop v8 v15).trips) (k0_t2 : Fin (k0_t2_loop v8 v15 k0_t1).trips), ∀ (r : Fin 3), ∀ a, (k0_off35 v8 v15 k0_t1 k0_t2 (BitVec.ofNat 32 (1 + r.val))) a + S1x16.size a ≤ S128x256.size a := fun v8 v15 k0_hw2 k0_t1 k0_t2 r => k0_hw2.2.1.2.2.2.2.1 k0_t1 k0_t2 r
theorem k0_t3_ok : ∀ (v8 : BitVec 32) (v15 : BitVec 32) (k0_hw2 : k0_chk2 v8 v15) (k0_t1 : Fin (k0_t1_loop v8 v15).trips), (k0_t3_loop v8 v15 k0_t1).OK := fun v8 v15 k0_hw2 k0_t1 => k0_hw2.2.1.2.2.2.2.2.1 k0_t1
theorem k0_off36_inb : ∀ (v8 : BitVec 32) (v15 : BitVec 32) (k0_hw2 : k0_chk2 v8 v15) (k0_t1 : Fin (k0_t1_loop v8 v15).trips) (k0_t3 : Fin (k0_t3_loop v8 v15 k0_t1).trips), ∀ a, (k0_off36 v8 v15 k0_t1 k0_t3) a + S1x16.size a ≤ S128x256.size a := fun v8 v15 k0_hw2 k0_t1 k0_t3 => k0_hw2.2.1.2.2.2.2.2.2.1 k0_t1 k0_t3
theorem k0_off37_inb : ∀ (v8 : BitVec 32) (v15 : BitVec 32) (k0_hw2 : k0_chk2 v8 v15) (k0_t1 : Fin (k0_t1_loop v8 v15).trips) (k0_t3 : Fin (k0_t3_loop v8 v15 k0_t1).trips), ∀ a, (k0_off37 v8 v15 k0_t1 k0_t3) a + S1x16.size a ≤ S128x256.size a := fun v8 v15 k0_hw2 k0_t1 k0_t3 => k0_hw2.2.1.2.2.2.2.2.2.2.1 k0_t1 k0_t3
theorem k0_off38_inb : ∀ (v8 : BitVec 32) (v15 : BitVec 32) (k0_hw2 : k0_chk2 v8 v15) (k0_t1 : Fin (k0_t1_loop v8 v15).trips) (k0_t3 : Fin (k0_t3_loop v8 v15 k0_t1).trips), ∀ a, (k0_off38 v8 v15 k0_t1 k0_t3) a + S1x16.size a ≤ S128x256.size a := fun v8 v15 k0_hw2 k0_t1 k0_t3 => k0_hw2.2.1.2.2.2.2.2.2.2.2.1 k0_t1 k0_t3
theorem k0_off39_inb : ∀ (v8 : BitVec 32) (v15 : BitVec 32) (k0_hw2 : k0_chk2 v8 v15) (k0_t1 : Fin (k0_t1_loop v8 v15).trips) (k0_t3 : Fin (k0_t3_loop v8 v15 k0_t1).trips), ∀ a, (k0_off39 v8 v15 k0_t1 k0_t3) a + S1x16.size a ≤ S128x256.size a := fun v8 v15 k0_hw2 k0_t1 k0_t3 => k0_hw2.2.1.2.2.2.2.2.2.2.2.2.1 k0_t1 k0_t3
theorem k0_off40_inb : ∀ (v8 : BitVec 32) (v15 : BitVec 32) (k0_hw2 : k0_chk2 v8 v15) (k0_t1 : Fin (k0_t1_loop v8 v15).trips) (k0_t3 : Fin (k0_t3_loop v8 v15 k0_t1).trips), ∀ a, (k0_off40 v8 v15 k0_t1 k0_t3) a + S1x16.size a ≤ S128x256.size a := fun v8 v15 k0_hw2 k0_t1 k0_t3 => k0_hw2.2.1.2.2.2.2.2.2.2.2.2.2.1 k0_t1 k0_t3
theorem k0_off41_inb : ∀ (v8 : BitVec 32) (v15 : BitVec 32) (k0_hw2 : k0_chk2 v8 v15) (k0_t1 : Fin (k0_t1_loop v8 v15).trips) (k0_t3 : Fin (k0_t3_loop v8 v15 k0_t1).trips), ∀ a, (k0_off41 v8 v15 k0_t1 k0_t3) a + S1x16.size a ≤ S128x256.size a := fun v8 v15 k0_hw2 k0_t1 k0_t3 => k0_hw2.2.1.2.2.2.2.2.2.2.2.2.2.2.1 k0_t1 k0_t3
theorem k0_off42_inb : ∀ (v8 : BitVec 32) (v15 : BitVec 32) (k0_hw2 : k0_chk2 v8 v15) (k0_t1 : Fin (k0_t1_loop v8 v15).trips) (k0_t3 : Fin (k0_t3_loop v8 v15 k0_t1).trips), ∀ a, (k0_off42 v8 v15 k0_t1 k0_t3) a + S1x16.size a ≤ S128x256.size a := fun v8 v15 k0_hw2 k0_t1 k0_t3 => k0_hw2.2.1.2.2.2.2.2.2.2.2.2.2.2.2.1 k0_t1 k0_t3
theorem k0_off43_inb : ∀ (v8 : BitVec 32) (v15 : BitVec 32) (k0_hw2 : k0_chk2 v8 v15) (k0_t1 : Fin (k0_t1_loop v8 v15).trips) (k0_t3 : Fin (k0_t3_loop v8 v15 k0_t1).trips), ∀ a, (k0_off43 v8 v15 k0_t1 k0_t3) a + S1x16.size a ≤ S128x256.size a := fun v8 v15 k0_hw2 k0_t1 k0_t3 => k0_hw2.2.1.2.2.2.2.2.2.2.2.2.2.2.2.2.1 k0_t1 k0_t3
theorem k0_off44_inb : ∀ (v8 : BitVec 32) (v15 : BitVec 32) (k0_hw2 : k0_chk2 v8 v15) (k0_t1 : Fin (k0_t1_loop v8 v15).trips) (k0_t3 : Fin (k0_t3_loop v8 v15 k0_t1).trips), ∀ a, (k0_off44 v8 v15 k0_t1 k0_t3) a + S1x16.size a ≤ S128x256.size a := fun v8 v15 k0_hw2 k0_t1 k0_t3 => k0_hw2.2.1.2.2.2.2.2.2.2.2.2.2.2.2.2.2.1 k0_t1 k0_t3
theorem k0_off45_inb : ∀ (v8 : BitVec 32) (v15 : BitVec 32) (k0_hw2 : k0_chk2 v8 v15) (k0_t1 : Fin (k0_t1_loop v8 v15).trips) (k0_t3 : Fin (k0_t3_loop v8 v15 k0_t1).trips), ∀ a, (k0_off45 v8 v15 k0_t1 k0_t3) a + S1x16.size a ≤ S128x256.size a := fun v8 v15 k0_hw2 k0_t1 k0_t3 => k0_hw2.2.1.2.2.2.2.2.2.2.2.2.2.2.2.2.2.2.1 k0_t1 k0_t3
theorem k0_off46_inb : ∀ (v8 : BitVec 32) (v15 : BitVec 32) (k0_hw2 : k0_chk2 v8 v15) (k0_t1 : Fin (k0_t1_loop v8 v15).trips) (k0_t3 : Fin (k0_t3_loop v8 v15 k0_t1).trips), ∀ a, (k0_off46 v8 v15 k0_t1 k0_t3) a + S1x16.size a ≤ S128x256.size a := fun v8 v15 k0_hw2 k0_t1 k0_t3 => k0_hw2.2.1.2.2.2.2.2.2.2.2.2.2.2.2.2.2.2.2.1 k0_t1 k0_t3
theorem k0_off47_inb : ∀ (v8 : BitVec 32) (v15 : BitVec 32) (k0_hw2 : k0_chk2 v8 v15) (k0_t1 : Fin (k0_t1_loop v8 v15).trips) (k0_t3 : Fin (k0_t3_loop v8 v15 k0_t1).trips), ∀ a, (k0_off47 v8 v15 k0_t1 k0_t3) a + S1x16.size a ≤ S128x256.size a := fun v8 v15 k0_hw2 k0_t1 k0_t3 => k0_hw2.2.1.2.2.2.2.2.2.2.2.2.2.2.2.2.2.2.2.2.1 k0_t1 k0_t3
theorem k0_off48_inb : ∀ (v8 : BitVec 32) (v15 : BitVec 32) (k0_hw2 : k0_chk2 v8 v15) (k0_t1 : Fin (k0_t1_loop v8 v15).trips) (k0_t3 : Fin (k0_t3_loop v8 v15 k0_t1).trips), ∀ a, (k0_off48 v8 v15 k0_t1 k0_t3) a + S1x16.size a ≤ S128x256.size a := fun v8 v15 k0_hw2 k0_t1 k0_t3 => k0_hw2.2.1.2.2.2.2.2.2.2.2.2.2.2.2.2.2.2.2.2.2.1 k0_t1 k0_t3
theorem k0_off49_inb : ∀ (v8 : BitVec 32) (v15 : BitVec 32) (k0_hw2 : k0_chk2 v8 v15) (k0_t1 : Fin (k0_t1_loop v8 v15).trips) (k0_t3 : Fin (k0_t3_loop v8 v15 k0_t1).trips), ∀ a, (k0_off49 v8 v15 k0_t1 k0_t3) a + S1x16.size a ≤ S128x256.size a := fun v8 v15 k0_hw2 k0_t1 k0_t3 => k0_hw2.2.1.2.2.2.2.2.2.2.2.2.2.2.2.2.2.2.2.2.2.2.1 k0_t1 k0_t3
theorem k0_off50_inb : ∀ (v8 : BitVec 32) (v15 : BitVec 32) (k0_hw2 : k0_chk2 v8 v15) (k0_t1 : Fin (k0_t1_loop v8 v15).trips) (k0_t3 : Fin (k0_t3_loop v8 v15 k0_t1).trips), ∀ a, (k0_off50 v8 v15 k0_t1 k0_t3) a + S1x16.size a ≤ S128x256.size a := fun v8 v15 k0_hw2 k0_t1 k0_t3 => k0_hw2.2.1.2.2.2.2.2.2.2.2.2.2.2.2.2.2.2.2.2.2.2.2.1 k0_t1 k0_t3
theorem k0_off51_inb : ∀ (v8 : BitVec 32) (v15 : BitVec 32) (k0_hw2 : k0_chk2 v8 v15) (k0_t1 : Fin (k0_t1_loop v8 v15).trips) (k0_t3 : Fin (k0_t3_loop v8 v15 k0_t1).trips), ∀ a, (k0_off51 v8 v15 k0_t1 k0_t3) a + S1x16.size a ≤ S128x256.size a := fun v8 v15 k0_hw2 k0_t1 k0_t3 => k0_hw2.2.1.2.2.2.2.2.2.2.2.2.2.2.2.2.2.2.2.2.2.2.2.2.1 k0_t1 k0_t3
theorem k0_off52_inb : ∀ (v8 : BitVec 32) (v15 : BitVec 32) (k0_hw2 : k0_chk2 v8 v15) (k0_t1 : Fin (k0_t1_loop v8 v15).trips) (k0_t3 : Fin (k0_t3_loop v8 v15 k0_t1).trips), ∀ (r : Fin 3), ∀ a, (k0_off52 v8 v15 k0_t1 k0_t3 (BitVec.ofNat 32 (1 + r.val))) a + S1x16.size a ≤ S128x256.size a := fun v8 v15 k0_hw2 k0_t1 k0_t3 r => k0_hw2.2.1.2.2.2.2.2.2.2.2.2.2.2.2.2.2.2.2.2.2.2.2.2.2.1 k0_t1 k0_t3 r
theorem k0_off53_inb : ∀ (v8 : BitVec 32) (v15 : BitVec 32) (k0_hw2 : k0_chk2 v8 v15) (k0_t1 : Fin (k0_t1_loop v8 v15).trips) (k0_t3 : Fin (k0_t3_loop v8 v15 k0_t1).trips), ∀ (r : Fin 3), ∀ a, (k0_off53 v8 v15 k0_t1 k0_t3 (BitVec.ofNat 32 (1 + r.val))) a + S1x16.size a ≤ S128x256.size a := fun v8 v15 k0_hw2 k0_t1 k0_t3 r => k0_hw2.2.1.2.2.2.2.2.2.2.2.2.2.2.2.2.2.2.2.2.2.2.2.2.2.2.1 k0_t1 k0_t3 r
theorem k0_off54_inb : ∀ (v8 : BitVec 32) (v15 : BitVec 32) (k0_hw2 : k0_chk2 v8 v15) (k0_t1 : Fin (k0_t1_loop v8 v15).trips) (k0_t3 : Fin (k0_t3_loop v8 v15 k0_t1).trips), ∀ (r : Fin 3), ∀ a, (k0_off54 v8 v15 k0_t1 k0_t3 (BitVec.ofNat 32 (1 + r.val))) a + S1x16.size a ≤ S128x256.size a := fun v8 v15 k0_hw2 k0_t1 k0_t3 r => k0_hw2.2.1.2.2.2.2.2.2.2.2.2.2.2.2.2.2.2.2.2.2.2.2.2.2.2.2.1 k0_t1 k0_t3 r
theorem k0_off55_inb : ∀ (v8 : BitVec 32) (v15 : BitVec 32) (k0_hw2 : k0_chk2 v8 v15) (k0_t1 : Fin (k0_t1_loop v8 v15).trips) (k0_t3 : Fin (k0_t3_loop v8 v15 k0_t1).trips), ∀ (r : Fin 3), ∀ a, (k0_off55 v8 v15 k0_t1 k0_t3 (BitVec.ofNat 32 (1 + r.val))) a + S1x16.size a ≤ S128x256.size a := fun v8 v15 k0_hw2 k0_t1 k0_t3 r => k0_hw2.2.1.2.2.2.2.2.2.2.2.2.2.2.2.2.2.2.2.2.2.2.2.2.2.2.2.2.1 k0_t1 k0_t3 r
theorem k0_off56_inb : ∀ (v8 : BitVec 32) (v15 : BitVec 32) (k0_hw2 : k0_chk2 v8 v15) (k0_t1 : Fin (k0_t1_loop v8 v15).trips) (k0_t3 : Fin (k0_t3_loop v8 v15 k0_t1).trips), ∀ (r : Fin 3), ∀ a, (k0_off56 v8 v15 k0_t1 k0_t3 (BitVec.ofNat 32 (1 + r.val))) a + S1x16.size a ≤ S128x256.size a := fun v8 v15 k0_hw2 k0_t1 k0_t3 r => k0_hw2.2.1.2.2.2.2.2.2.2.2.2.2.2.2.2.2.2.2.2.2.2.2.2.2.2.2.2.2.1 k0_t1 k0_t3 r
theorem k0_off57_inb : ∀ (v8 : BitVec 32) (v15 : BitVec 32) (k0_hw2 : k0_chk2 v8 v15) (k0_t1 : Fin (k0_t1_loop v8 v15).trips) (k0_t3 : Fin (k0_t3_loop v8 v15 k0_t1).trips), ∀ (r : Fin 3), ∀ a, (k0_off57 v8 v15 k0_t1 k0_t3 (BitVec.ofNat 32 (1 + r.val))) a + S1x16.size a ≤ S128x256.size a := fun v8 v15 k0_hw2 k0_t1 k0_t3 r => k0_hw2.2.1.2.2.2.2.2.2.2.2.2.2.2.2.2.2.2.2.2.2.2.2.2.2.2.2.2.2.2.1 k0_t1 k0_t3 r
theorem k0_off58_inb : ∀ (v8 : BitVec 32) (v15 : BitVec 32) (k0_hw2 : k0_chk2 v8 v15) (k0_t1 : Fin (k0_t1_loop v8 v15).trips) (k0_t3 : Fin (k0_t3_loop v8 v15 k0_t1).trips), ∀ (r : Fin 3), ∀ a, (k0_off58 v8 v15 k0_t1 k0_t3 (BitVec.ofNat 32 (1 + r.val))) a + S1x16.size a ≤ S128x256.size a := fun v8 v15 k0_hw2 k0_t1 k0_t3 r => k0_hw2.2.1.2.2.2.2.2.2.2.2.2.2.2.2.2.2.2.2.2.2.2.2.2.2.2.2.2.2.2.2.1 k0_t1 k0_t3 r
theorem k0_off59_inb : ∀ (v8 : BitVec 32) (v15 : BitVec 32) (k0_hw2 : k0_chk2 v8 v15) (k0_t1 : Fin (k0_t1_loop v8 v15).trips) (k0_t3 : Fin (k0_t3_loop v8 v15 k0_t1).trips), ∀ (r : Fin 3), ∀ a, (k0_off59 v8 v15 k0_t1 k0_t3 (BitVec.ofNat 32 (1 + r.val))) a + S1x16.size a ≤ S128x256.size a := fun v8 v15 k0_hw2 k0_t1 k0_t3 r => k0_hw2.2.1.2.2.2.2.2.2.2.2.2.2.2.2.2.2.2.2.2.2.2.2.2.2.2.2.2.2.2.2.2.1 k0_t1 k0_t3 r
theorem k0_off60_inb : ∀ (v8 : BitVec 32) (v15 : BitVec 32) (k0_hw2 : k0_chk2 v8 v15) (k0_t1 : Fin (k0_t1_loop v8 v15).trips) (k0_t3 : Fin (k0_t3_loop v8 v15 k0_t1).trips), ∀ (r : Fin 3), ∀ a, (k0_off60 v8 v15 k0_t1 k0_t3 (BitVec.ofNat 32 (1 + r.val))) a + S1x16.size a ≤ S128x256.size a := fun v8 v15 k0_hw2 k0_t1 k0_t3 r => k0_hw2.2.1.2.2.2.2.2.2.2.2.2.2.2.2.2.2.2.2.2.2.2.2.2.2.2.2.2.2.2.2.2.2.1 k0_t1 k0_t3 r
theorem k0_off61_inb : ∀ (v8 : BitVec 32) (v15 : BitVec 32) (k0_hw2 : k0_chk2 v8 v15) (k0_t1 : Fin (k0_t1_loop v8 v15).trips) (k0_t3 : Fin (k0_t3_loop v8 v15 k0_t1).trips), ∀ (r : Fin 3), ∀ a, (k0_off61 v8 v15 k0_t1 k0_t3 (BitVec.ofNat 32 (1 + r.val))) a + S1x16.size a ≤ S128x256.size a := fun v8 v15 k0_hw2 k0_t1 k0_t3 r => k0_hw2.2.1.2.2.2.2.2.2.2.2.2.2.2.2.2.2.2.2.2.2.2.2.2.2.2.2.2.2.2.2.2.2.2 k0_t1 k0_t3 r
theorem k0_off62_inb : ∀ (v8 : BitVec 32) (v15 : BitVec 32) (k0_hw2 : k0_chk2 v8 v15) (k0_t1 : Fin (k0_t1_loop v8 v15).trips) (k0_t3 : Fin (k0_t3_loop v8 v15 k0_t1).trips), ∀ (r : Fin 3), ∀ a, (k0_off62 v8 v15 k0_t1 k0_t3 (BitVec.ofNat 32 (1 + r.val))) a + S1x16.size a ≤ S128x256.size a := fun v8 v15 k0_hw2 k0_t1 k0_t3 r => k0_hw2.2.2.1.1 k0_t1 k0_t3 r
theorem k0_off63_inb : ∀ (v8 : BitVec 32) (v15 : BitVec 32) (k0_hw2 : k0_chk2 v8 v15) (k0_t1 : Fin (k0_t1_loop v8 v15).trips) (k0_t3 : Fin (k0_t3_loop v8 v15 k0_t1).trips), ∀ (r : Fin 3), ∀ a, (k0_off63 v8 v15 k0_t1 k0_t3 (BitVec.ofNat 32 (1 + r.val))) a + S1x16.size a ≤ S128x256.size a := fun v8 v15 k0_hw2 k0_t1 k0_t3 r => k0_hw2.2.2.1.2.1 k0_t1 k0_t3 r
theorem k0_off64_inb : ∀ (v8 : BitVec 32) (v15 : BitVec 32) (k0_hw2 : k0_chk2 v8 v15) (k0_t1 : Fin (k0_t1_loop v8 v15).trips) (k0_t3 : Fin (k0_t3_loop v8 v15 k0_t1).trips), ∀ (r : Fin 3), ∀ a, (k0_off64 v8 v15 k0_t1 k0_t3 (BitVec.ofNat 32 (1 + r.val))) a + S1x16.size a ≤ S128x256.size a := fun v8 v15 k0_hw2 k0_t1 k0_t3 r => k0_hw2.2.2.1.2.2.1 k0_t1 k0_t3 r
theorem k0_off65_inb : ∀ (v8 : BitVec 32) (v15 : BitVec 32) (k0_hw2 : k0_chk2 v8 v15) (k0_t1 : Fin (k0_t1_loop v8 v15).trips) (k0_t3 : Fin (k0_t3_loop v8 v15 k0_t1).trips), ∀ (r : Fin 3), ∀ a, (k0_off65 v8 v15 k0_t1 k0_t3 (BitVec.ofNat 32 (1 + r.val))) a + S1x16.size a ≤ S128x256.size a := fun v8 v15 k0_hw2 k0_t1 k0_t3 r => k0_hw2.2.2.1.2.2.2.1 k0_t1 k0_t3 r
theorem k0_off66_inb : ∀ (v8 : BitVec 32) (v15 : BitVec 32) (k0_hw2 : k0_chk2 v8 v15) (k0_t1 : Fin (k0_t1_loop v8 v15).trips) (k0_t3 : Fin (k0_t3_loop v8 v15 k0_t1).trips), ∀ (r : Fin 3), ∀ a, (k0_off66 v8 v15 k0_t1 k0_t3 (BitVec.ofNat 32 (1 + r.val))) a + S1x16.size a ≤ S128x256.size a := fun v8 v15 k0_hw2 k0_t1 k0_t3 r => k0_hw2.2.2.1.2.2.2.2.1 k0_t1 k0_t3 r
theorem k0_off67_inb : ∀ (v8 : BitVec 32) (v15 : BitVec 32) (k0_hw2 : k0_chk2 v8 v15) (k0_t1 : Fin (k0_t1_loop v8 v15).trips) (k0_t3 : Fin (k0_t3_loop v8 v15 k0_t1).trips), ∀ (r : Fin 3), ∀ a, (k0_off67 v8 v15 k0_t1 k0_t3 (BitVec.ofNat 32 (1 + r.val))) a + S1x16.size a ≤ S128x256.size a := fun v8 v15 k0_hw2 k0_t1 k0_t3 r => k0_hw2.2.2.1.2.2.2.2.2.1 k0_t1 k0_t3 r
theorem k0_t4_ok : ∀ (v8 : BitVec 32) (v15 : BitVec 32) (k0_hw2 : k0_chk2 v8 v15) (k0_t1 : Fin (k0_t1_loop v8 v15).trips), (k0_t4_loop v8 v15 k0_t1).OK := fun v8 v15 k0_hw2 k0_t1 => k0_hw2.2.2.1.2.2.2.2.2.2.1 k0_t1
theorem k0_off68_inb : ∀ (v8 : BitVec 32) (v15 : BitVec 32) (k0_hw2 : k0_chk2 v8 v15) (k0_t1 : Fin (k0_t1_loop v8 v15).trips) (k0_t4 : Fin (k0_t4_loop v8 v15 k0_t1).trips), ∀ a, (k0_off68 v8 v15 k0_t1 k0_t4) a + S1x16.size a ≤ S128x256.size a := fun v8 v15 k0_hw2 k0_t1 k0_t4 => k0_hw2.2.2.1.2.2.2.2.2.2.2.1 k0_t1 k0_t4
theorem k0_off69_inb : ∀ (v8 : BitVec 32) (v15 : BitVec 32) (k0_hw2 : k0_chk2 v8 v15) (k0_t1 : Fin (k0_t1_loop v8 v15).trips) (k0_t4 : Fin (k0_t4_loop v8 v15 k0_t1).trips), ∀ a, (k0_off69 v8 v15 k0_t1 k0_t4) a + S1x16.size a ≤ S128x256.size a := fun v8 v15 k0_hw2 k0_t1 k0_t4 => k0_hw2.2.2.1.2.2.2.2.2.2.2.2.1 k0_t1 k0_t4
theorem k0_off70_inb : ∀ (v8 : BitVec 32) (v15 : BitVec 32) (k0_hw2 : k0_chk2 v8 v15) (k0_t1 : Fin (k0_t1_loop v8 v15).trips) (k0_t4 : Fin (k0_t4_loop v8 v15 k0_t1).trips), ∀ a, (k0_off70 v8 v15 k0_t1 k0_t4) a + S1x16.size a ≤ S128x256.size a := fun v8 v15 k0_hw2 k0_t1 k0_t4 => k0_hw2.2.2.1.2.2.2.2.2.2.2.2.2.1 k0_t1 k0_t4
theorem k0_off71_inb : ∀ (v8 : BitVec 32) (v15 : BitVec 32) (k0_hw2 : k0_chk2 v8 v15) (k0_t1 : Fin (k0_t1_loop v8 v15).trips) (k0_t4 : Fin (k0_t4_loop v8 v15 k0_t1).trips), ∀ a, (k0_off71 v8 v15 k0_t1 k0_t4) a + S1x16.size a ≤ S128x256.size a := fun v8 v15 k0_hw2 k0_t1 k0_t4 => k0_hw2.2.2.1.2.2.2.2.2.2.2.2.2.2.1 k0_t1 k0_t4
theorem k0_off72_inb : ∀ (v8 : BitVec 32) (v15 : BitVec 32) (k0_hw2 : k0_chk2 v8 v15) (k0_t1 : Fin (k0_t1_loop v8 v15).trips) (k0_t4 : Fin (k0_t4_loop v8 v15 k0_t1).trips), ∀ a, (k0_off72 v8 v15 k0_t1 k0_t4) a + S1x16.size a ≤ S128x256.size a := fun v8 v15 k0_hw2 k0_t1 k0_t4 => k0_hw2.2.2.1.2.2.2.2.2.2.2.2.2.2.2.1 k0_t1 k0_t4
theorem k0_off73_inb : ∀ (v8 : BitVec 32) (v15 : BitVec 32) (k0_hw2 : k0_chk2 v8 v15) (k0_t1 : Fin (k0_t1_loop v8 v15).trips) (k0_t4 : Fin (k0_t4_loop v8 v15 k0_t1).trips), ∀ a, (k0_off73 v8 v15 k0_t1 k0_t4) a + S1x16.size a ≤ S128x256.size a := fun v8 v15 k0_hw2 k0_t1 k0_t4 => k0_hw2.2.2.1.2.2.2.2.2.2.2.2.2.2.2.2.1 k0_t1 k0_t4
theorem k0_off74_inb : ∀ (v8 : BitVec 32) (v15 : BitVec 32) (k0_hw2 : k0_chk2 v8 v15) (k0_t1 : Fin (k0_t1_loop v8 v15).trips) (k0_t4 : Fin (k0_t4_loop v8 v15 k0_t1).trips), ∀ a, (k0_off74 v8 v15 k0_t1 k0_t4) a + S1x16.size a ≤ S128x256.size a := fun v8 v15 k0_hw2 k0_t1 k0_t4 => k0_hw2.2.2.1.2.2.2.2.2.2.2.2.2.2.2.2.2.1 k0_t1 k0_t4
theorem k0_off75_inb : ∀ (v8 : BitVec 32) (v15 : BitVec 32) (k0_hw2 : k0_chk2 v8 v15) (k0_t1 : Fin (k0_t1_loop v8 v15).trips) (k0_t4 : Fin (k0_t4_loop v8 v15 k0_t1).trips), ∀ a, (k0_off75 v8 v15 k0_t1 k0_t4) a + S1x16.size a ≤ S128x256.size a := fun v8 v15 k0_hw2 k0_t1 k0_t4 => k0_hw2.2.2.1.2.2.2.2.2.2.2.2.2.2.2.2.2.2.1 k0_t1 k0_t4
theorem k0_off76_inb : ∀ (v8 : BitVec 32) (v15 : BitVec 32) (k0_hw2 : k0_chk2 v8 v15) (k0_t1 : Fin (k0_t1_loop v8 v15).trips) (k0_t4 : Fin (k0_t4_loop v8 v15 k0_t1).trips), ∀ a, (k0_off76 v8 v15 k0_t1 k0_t4) a + S1x16.size a ≤ S128x256.size a := fun v8 v15 k0_hw2 k0_t1 k0_t4 => k0_hw2.2.2.1.2.2.2.2.2.2.2.2.2.2.2.2.2.2.2.1 k0_t1 k0_t4
theorem k0_off77_inb : ∀ (v8 : BitVec 32) (v15 : BitVec 32) (k0_hw2 : k0_chk2 v8 v15) (k0_t1 : Fin (k0_t1_loop v8 v15).trips) (k0_t4 : Fin (k0_t4_loop v8 v15 k0_t1).trips), ∀ a, (k0_off77 v8 v15 k0_t1 k0_t4) a + S1x16.size a ≤ S128x256.size a := fun v8 v15 k0_hw2 k0_t1 k0_t4 => k0_hw2.2.2.1.2.2.2.2.2.2.2.2.2.2.2.2.2.2.2.2.1 k0_t1 k0_t4
theorem k0_off78_inb : ∀ (v8 : BitVec 32) (v15 : BitVec 32) (k0_hw2 : k0_chk2 v8 v15) (k0_t1 : Fin (k0_t1_loop v8 v15).trips) (k0_t4 : Fin (k0_t4_loop v8 v15 k0_t1).trips), ∀ a, (k0_off78 v8 v15 k0_t1 k0_t4) a + S1x16.size a ≤ S128x256.size a := fun v8 v15 k0_hw2 k0_t1 k0_t4 => k0_hw2.2.2.1.2.2.2.2.2.2.2.2.2.2.2.2.2.2.2.2.2.1 k0_t1 k0_t4
theorem k0_off79_inb : ∀ (v8 : BitVec 32) (v15 : BitVec 32) (k0_hw2 : k0_chk2 v8 v15) (k0_t1 : Fin (k0_t1_loop v8 v15).trips) (k0_t4 : Fin (k0_t4_loop v8 v15 k0_t1).trips), ∀ a, (k0_off79 v8 v15 k0_t1 k0_t4) a + S1x16.size a ≤ S128x256.size a := fun v8 v15 k0_hw2 k0_t1 k0_t4 => k0_hw2.2.2.1.2.2.2.2.2.2.2.2.2.2.2.2.2.2.2.2.2.2.1 k0_t1 k0_t4
theorem k0_off80_inb : ∀ (v8 : BitVec 32) (v15 : BitVec 32) (k0_hw2 : k0_chk2 v8 v15) (k0_t1 : Fin (k0_t1_loop v8 v15).trips) (k0_t4 : Fin (k0_t4_loop v8 v15 k0_t1).trips), ∀ a, (k0_off80 v8 v15 k0_t1 k0_t4) a + S1x16.size a ≤ S128x256.size a := fun v8 v15 k0_hw2 k0_t1 k0_t4 => k0_hw2.2.2.1.2.2.2.2.2.2.2.2.2.2.2.2.2.2.2.2.2.2.2.1 k0_t1 k0_t4
theorem k0_off81_inb : ∀ (v8 : BitVec 32) (v15 : BitVec 32) (k0_hw2 : k0_chk2 v8 v15) (k0_t1 : Fin (k0_t1_loop v8 v15).trips) (k0_t4 : Fin (k0_t4_loop v8 v15 k0_t1).trips), ∀ a, (k0_off81 v8 v15 k0_t1 k0_t4) a + S1x16.size a ≤ S128x256.size a := fun v8 v15 k0_hw2 k0_t1 k0_t4 => k0_hw2.2.2.1.2.2.2.2.2.2.2.2.2.2.2.2.2.2.2.2.2.2.2.2.1 k0_t1 k0_t4
theorem k0_off82_inb : ∀ (v8 : BitVec 32) (v15 : BitVec 32) (k0_hw2 : k0_chk2 v8 v15) (k0_t1 : Fin (k0_t1_loop v8 v15).trips) (k0_t4 : Fin (k0_t4_loop v8 v15 k0_t1).trips), ∀ a, (k0_off82 v8 v15 k0_t1 k0_t4) a + S1x16.size a ≤ S128x256.size a := fun v8 v15 k0_hw2 k0_t1 k0_t4 => k0_hw2.2.2.1.2.2.2.2.2.2.2.2.2.2.2.2.2.2.2.2.2.2.2.2.2.1 k0_t1 k0_t4
theorem k0_off83_inb : ∀ (v8 : BitVec 32) (v15 : BitVec 32) (k0_hw2 : k0_chk2 v8 v15) (k0_t1 : Fin (k0_t1_loop v8 v15).trips) (k0_t4 : Fin (k0_t4_loop v8 v15 k0_t1).trips), ∀ a, (k0_off83 v8 v15 k0_t1 k0_t4) a + S1x16.size a ≤ S128x256.size a := fun v8 v15 k0_hw2 k0_t1 k0_t4 => k0_hw2.2.2.1.2.2.2.2.2.2.2.2.2.2.2.2.2.2.2.2.2.2.2.2.2.2.1 k0_t1 k0_t4
theorem k0_t5_ok : ∀ (v8 : BitVec 32) (v15 : BitVec 32) (k0_hw2 : k0_chk2 v8 v15) (k0_t1 : Fin (k0_t1_loop v8 v15).trips), (k0_t5_loop v8 v15 k0_t1).OK := fun v8 v15 k0_hw2 k0_t1 => k0_hw2.2.2.1.2.2.2.2.2.2.2.2.2.2.2.2.2.2.2.2.2.2.2.2.2.2.2.1 k0_t1
theorem k0_off84_inb : ∀ (v8 : BitVec 32) (v15 : BitVec 32) (k0_hw2 : k0_chk2 v8 v15) (k0_t1 : Fin (k0_t1_loop v8 v15).trips) (k0_t5 : Fin (k0_t5_loop v8 v15 k0_t1).trips), ∀ a, (k0_off84 v8 v15 k0_t1 k0_t5) a + S1x16.size a ≤ S128x256.size a := fun v8 v15 k0_hw2 k0_t1 k0_t5 => k0_hw2.2.2.1.2.2.2.2.2.2.2.2.2.2.2.2.2.2.2.2.2.2.2.2.2.2.2.2.1 k0_t1 k0_t5
theorem k0_off85_inb : ∀ (v8 : BitVec 32) (v15 : BitVec 32) (k0_hw2 : k0_chk2 v8 v15) (k0_t1 : Fin (k0_t1_loop v8 v15).trips) (k0_t5 : Fin (k0_t5_loop v8 v15 k0_t1).trips), ∀ a, (k0_off85 v8 v15 k0_t1 k0_t5) a + S1x16.size a ≤ S128x256.size a := fun v8 v15 k0_hw2 k0_t1 k0_t5 => k0_hw2.2.2.1.2.2.2.2.2.2.2.2.2.2.2.2.2.2.2.2.2.2.2.2.2.2.2.2.2.1 k0_t1 k0_t5
theorem k0_off86_inb : ∀ (v8 : BitVec 32) (v15 : BitVec 32) (k0_hw2 : k0_chk2 v8 v15) (k0_t1 : Fin (k0_t1_loop v8 v15).trips) (k0_t5 : Fin (k0_t5_loop v8 v15 k0_t1).trips), ∀ a, (k0_off86 v8 v15 k0_t1 k0_t5) a + S1x16.size a ≤ S128x256.size a := fun v8 v15 k0_hw2 k0_t1 k0_t5 => k0_hw2.2.2.1.2.2.2.2.2.2.2.2.2.2.2.2.2.2.2.2.2.2.2.2.2.2.2.2.2.2.1 k0_t1 k0_t5
theorem k0_off87_inb : ∀ (v8 : BitVec 32) (v15 : BitVec 32) (k0_hw2 : k0_chk2 v8 v15) (k0_t1 : Fin (k0_t1_loop v8 v15).trips) (k0_t5 : Fin (k0_t5_loop v8 v15 k0_t1).trips), ∀ a, (k0_off87 v8 v15 k0_t1 k0_t5) a + S1x16.size a ≤ S128x256.size a := fun v8 v15 k0_hw2 k0_t1 k0_t5 => k0_hw2.2.2.1.2.2.2.2.2.2.2.2.2.2.2.2.2.2.2.2.2.2.2.2.2.2.2.2.2.2.2.1 k0_t1 k0_t5
theorem k0_off88_inb : ∀ (v8 : BitVec 32) (v15 : BitVec 32) (k0_hw2 : k0_chk2 v8 v15) (k0_t1 : Fin (k0_t1_loop v8 v15).trips) (k0_t5 : Fin (k0_t5_loop v8 v15 k0_t1).trips), ∀ a, (k0_off88 v8 v15 k0_t1 k0_t5) a + S1x16.size a ≤ S128x256.size a := fun v8 v15 k0_hw2 k0_t1 k0_t5 => k0_hw2.2.2.1.2.2.2.2.2.2.2.2.2.2.2.2.2.2.2.2.2.2.2.2.2.2.2.2.2.2.2.2.1 k0_t1 k0_t5
theorem k0_off89_inb : ∀ (v8 : BitVec 32) (v15 : BitVec 32) (k0_hw2 : k0_chk2 v8 v15) (k0_t1 : Fin (k0_t1_loop v8 v15).trips) (k0_t5 : Fin (k0_t5_loop v8 v15 k0_t1).trips), ∀ a, (k0_off89 v8 v15 k0_t1 k0_t5) a + S1x16.size a ≤ S128x256.size a := fun v8 v15 k0_hw2 k0_t1 k0_t5 => k0_hw2.2.2.1.2.2.2.2.2.2.2.2.2.2.2.2.2.2.2.2.2.2.2.2.2.2.2.2.2.2.2.2.2.1 k0_t1 k0_t5
theorem k0_off90_inb : ∀ (v8 : BitVec 32) (v15 : BitVec 32) (k0_hw2 : k0_chk2 v8 v15) (k0_t1 : Fin (k0_t1_loop v8 v15).trips) (k0_t5 : Fin (k0_t5_loop v8 v15 k0_t1).trips), ∀ a, (k0_off90 v8 v15 k0_t1 k0_t5) a + S1x16.size a ≤ S128x256.size a := fun v8 v15 k0_hw2 k0_t1 k0_t5 => k0_hw2.2.2.1.2.2.2.2.2.2.2.2.2.2.2.2.2.2.2.2.2.2.2.2.2.2.2.2.2.2.2.2.2.2.1 k0_t1 k0_t5
theorem k0_off91_inb : ∀ (v8 : BitVec 32) (v15 : BitVec 32) (k0_hw2 : k0_chk2 v8 v15) (k0_t1 : Fin (k0_t1_loop v8 v15).trips) (k0_t5 : Fin (k0_t5_loop v8 v15 k0_t1).trips), ∀ a, (k0_off91 v8 v15 k0_t1 k0_t5) a + S1x16.size a ≤ S128x256.size a := fun v8 v15 k0_hw2 k0_t1 k0_t5 => k0_hw2.2.2.1.2.2.2.2.2.2.2.2.2.2.2.2.2.2.2.2.2.2.2.2.2.2.2.2.2.2.2.2.2.2.2 k0_t1 k0_t5
theorem k0_off92_inb : ∀ (v8 : BitVec 32) (v15 : BitVec 32) (k0_hw2 : k0_chk2 v8 v15) (k0_t1 : Fin (k0_t1_loop v8 v15).trips) (k0_t5 : Fin (k0_t5_loop v8 v15 k0_t1).trips), ∀ a, (k0_off92 v8 v15 k0_t1 k0_t5) a + S1x16.size a ≤ S128x256.size a := fun v8 v15 k0_hw2 k0_t1 k0_t5 => k0_hw2.2.2.2.1.1 k0_t1 k0_t5
theorem k0_off93_inb : ∀ (v8 : BitVec 32) (v15 : BitVec 32) (k0_hw2 : k0_chk2 v8 v15) (k0_t1 : Fin (k0_t1_loop v8 v15).trips) (k0_t5 : Fin (k0_t5_loop v8 v15 k0_t1).trips), ∀ a, (k0_off93 v8 v15 k0_t1 k0_t5) a + S1x16.size a ≤ S128x256.size a := fun v8 v15 k0_hw2 k0_t1 k0_t5 => k0_hw2.2.2.2.1.2.1 k0_t1 k0_t5
theorem k0_off94_inb : ∀ (v8 : BitVec 32) (v15 : BitVec 32) (k0_hw2 : k0_chk2 v8 v15) (k0_t1 : Fin (k0_t1_loop v8 v15).trips) (k0_t5 : Fin (k0_t5_loop v8 v15 k0_t1).trips), ∀ a, (k0_off94 v8 v15 k0_t1 k0_t5) a + S1x16.size a ≤ S128x256.size a := fun v8 v15 k0_hw2 k0_t1 k0_t5 => k0_hw2.2.2.2.1.2.2.1 k0_t1 k0_t5
theorem k0_off95_inb : ∀ (v8 : BitVec 32) (v15 : BitVec 32) (k0_hw2 : k0_chk2 v8 v15) (k0_t1 : Fin (k0_t1_loop v8 v15).trips) (k0_t5 : Fin (k0_t5_loop v8 v15 k0_t1).trips), ∀ a, (k0_off95 v8 v15 k0_t1 k0_t5) a + S1x16.size a ≤ S128x256.size a := fun v8 v15 k0_hw2 k0_t1 k0_t5 => k0_hw2.2.2.2.1.2.2.2.1 k0_t1 k0_t5
theorem k0_off96_inb : ∀ (v8 : BitVec 32) (v15 : BitVec 32) (k0_hw2 : k0_chk2 v8 v15) (k0_t1 : Fin (k0_t1_loop v8 v15).trips) (k0_t5 : Fin (k0_t5_loop v8 v15 k0_t1).trips), ∀ a, (k0_off96 v8 v15 k0_t1 k0_t5) a + S1x16.size a ≤ S128x256.size a := fun v8 v15 k0_hw2 k0_t1 k0_t5 => k0_hw2.2.2.2.1.2.2.2.2.1 k0_t1 k0_t5
theorem k0_off97_inb : ∀ (v8 : BitVec 32) (v15 : BitVec 32) (k0_hw2 : k0_chk2 v8 v15) (k0_t1 : Fin (k0_t1_loop v8 v15).trips) (k0_t5 : Fin (k0_t5_loop v8 v15 k0_t1).trips), ∀ a, (k0_off97 v8 v15 k0_t1 k0_t5) a + S1x16.size a ≤ S128x256.size a := fun v8 v15 k0_hw2 k0_t1 k0_t5 => k0_hw2.2.2.2.1.2.2.2.2.2.1 k0_t1 k0_t5
theorem k0_off98_inb : ∀ (v8 : BitVec 32) (v15 : BitVec 32) (k0_hw2 : k0_chk2 v8 v15) (k0_t1 : Fin (k0_t1_loop v8 v15).trips) (k0_t5 : Fin (k0_t5_loop v8 v15 k0_t1).trips), ∀ a, (k0_off98 v8 v15 k0_t1 k0_t5) a + S1x16.size a ≤ S128x256.size a := fun v8 v15 k0_hw2 k0_t1 k0_t5 => k0_hw2.2.2.2.1.2.2.2.2.2.2.1 k0_t1 k0_t5
theorem k0_off99_inb : ∀ (v8 : BitVec 32) (v15 : BitVec 32) (k0_hw2 : k0_chk2 v8 v15) (k0_t1 : Fin (k0_t1_loop v8 v15).trips) (k0_t5 : Fin (k0_t5_loop v8 v15 k0_t1).trips), ∀ a, (k0_off99 v8 v15 k0_t1 k0_t5) a + S1x16.size a ≤ S128x256.size a := fun v8 v15 k0_hw2 k0_t1 k0_t5 => k0_hw2.2.2.2.1.2.2.2.2.2.2.2.1 k0_t1 k0_t5
theorem k0_mult4_dvd : ∀ (v8 : BitVec 32) (v15 : BitVec 32) (k0_hw2 : k0_chk2 v8 v15) (k0_t1 : Fin (k0_t1_loop v8 v15).trips), 8 ∣ (k0_mult4 v8 v15 k0_t1).toNat := fun v8 v15 k0_hw2 k0_t1 => k0_hw2.2.2.2.1.2.2.2.2.2.2.2.2.1 k0_t1
theorem k0_off100_inb : ∀ (v8 : BitVec 32) (v15 : BitVec 32) (k0_hw2 : k0_chk2 v8 v15) (k0_t1 : Fin (k0_t1_loop v8 v15).trips), ∀ a, (k0_off100 v8 v15 k0_t1) a + S128x256.size a ≤ S50000x256.size a := fun v8 v15 k0_hw2 k0_t1 => k0_hw2.2.2.2.1.2.2.2.2.2.2.2.2.2.1 k0_t1
theorem k0_mult5_dvd : ∀ (v8 : BitVec 32) (v15 : BitVec 32) (k0_hw2 : k0_chk2 v8 v15) (k0_t1 : Fin (k0_t1_loop v8 v15).trips), 8 ∣ (k0_mult5 v8 v15 k0_t1).toNat := fun v8 v15 k0_hw2 k0_t1 => k0_hw2.2.2.2.1.2.2.2.2.2.2.2.2.2.2.1 k0_t1
theorem k0_t6_ok : ∀ (v8 : BitVec 32) (v15 : BitVec 32) (k0_hw2 : k0_chk2 v8 v15) (k0_t1 : Fin (k0_t1_loop v8 v15).trips), (k0_t6_loop v8 v15 k0_t1).OK := fun v8 v15 k0_hw2 k0_t1 => k0_hw2.2.2.2.1.2.2.2.2.2.2.2.2.2.2.2.1 k0_t1
theorem k0_off101_inb : ∀ (v8 : BitVec 32) (v15 : BitVec 32) (k0_hw2 : k0_chk2 v8 v15) (k0_t1 : Fin (k0_t1_loop v8 v15).trips) (k0_t6 : Fin (k0_t6_loop v8 v15 k0_t1).trips), ∀ a, (k0_off101 v8 v15 k0_t1 k0_t6) a + S1x16.size a ≤ S128x256.size a := fun v8 v15 k0_hw2 k0_t1 k0_t6 => k0_hw2.2.2.2.1.2.2.2.2.2.2.2.2.2.2.2.2.1 k0_t1 k0_t6
theorem k0_off102_inb : ∀ (v8 : BitVec 32) (v15 : BitVec 32) (k0_hw2 : k0_chk2 v8 v15) (k0_t1 : Fin (k0_t1_loop v8 v15).trips) (k0_t6 : Fin (k0_t6_loop v8 v15 k0_t1).trips), ∀ a, (k0_off102 v8 v15 k0_t1 k0_t6) a + S1x16.size a ≤ S128x256.size a := fun v8 v15 k0_hw2 k0_t1 k0_t6 => k0_hw2.2.2.2.1.2.2.2.2.2.2.2.2.2.2.2.2.2.1 k0_t1 k0_t6
theorem k0_off103_inb : ∀ (v8 : BitVec 32) (v15 : BitVec 32) (k0_hw2 : k0_chk2 v8 v15) (k0_t1 : Fin (k0_t1_loop v8 v15).trips) (k0_t6 : Fin (k0_t6_loop v8 v15 k0_t1).trips), ∀ a, (k0_off103 v8 v15 k0_t1 k0_t6) a + S1x16.size a ≤ S128x256.size a := fun v8 v15 k0_hw2 k0_t1 k0_t6 => k0_hw2.2.2.2.1.2.2.2.2.2.2.2.2.2.2.2.2.2.2.1 k0_t1 k0_t6
theorem k0_off104_inb : ∀ (v8 : BitVec 32) (v15 : BitVec 32) (k0_hw2 : k0_chk2 v8 v15) (k0_t1 : Fin (k0_t1_loop v8 v15).trips) (k0_t6 : Fin (k0_t6_loop v8 v15 k0_t1).trips), ∀ a, (k0_off104 v8 v15 k0_t1 k0_t6) a + S1x16.size a ≤ S128x256.size a := fun v8 v15 k0_hw2 k0_t1 k0_t6 => k0_hw2.2.2.2.1.2.2.2.2.2.2.2.2.2.2.2.2.2.2.2.1 k0_t1 k0_t6
theorem k0_off105_inb : ∀ (v8 : BitVec 32) (v15 : BitVec 32) (k0_hw2 : k0_chk2 v8 v15) (k0_t1 : Fin (k0_t1_loop v8 v15).trips) (k0_t6 : Fin (k0_t6_loop v8 v15 k0_t1).trips), ∀ a, (k0_off105 v8 v15 k0_t1 k0_t6) a + S1x16.size a ≤ S128x256.size a := fun v8 v15 k0_hw2 k0_t1 k0_t6 => k0_hw2.2.2.2.1.2.2.2.2.2.2.2.2.2.2.2.2.2.2.2.2.1 k0_t1 k0_t6
theorem k0_off106_inb : ∀ (v8 : BitVec 32) (v15 : BitVec 32) (k0_hw2 : k0_chk2 v8 v15) (k0_t1 : Fin (k0_t1_loop v8 v15).trips) (k0_t6 : Fin (k0_t6_loop v8 v15 k0_t1).trips), ∀ a, (k0_off106 v8 v15 k0_t1 k0_t6) a + S1x16.size a ≤ S128x256.size a := fun v8 v15 k0_hw2 k0_t1 k0_t6 => k0_hw2.2.2.2.1.2.2.2.2.2.2.2.2.2.2.2.2.2.2.2.2.2.1 k0_t1 k0_t6
theorem k0_off107_inb : ∀ (v8 : BitVec 32) (v15 : BitVec 32) (k0_hw2 : k0_chk2 v8 v15) (k0_t1 : Fin (k0_t1_loop v8 v15).trips) (k0_t6 : Fin (k0_t6_loop v8 v15 k0_t1).trips), ∀ a, (k0_off107 v8 v15 k0_t1 k0_t6) a + S1x16.size a ≤ S128x256.size a := fun v8 v15 k0_hw2 k0_t1 k0_t6 => k0_hw2.2.2.2.1.2.2.2.2.2.2.2.2.2.2.2.2.2.2.2.2.2.2.1 k0_t1 k0_t6
theorem k0_off108_inb : ∀ (v8 : BitVec 32) (v15 : BitVec 32) (k0_hw2 : k0_chk2 v8 v15) (k0_t1 : Fin (k0_t1_loop v8 v15).trips) (k0_t6 : Fin (k0_t6_loop v8 v15 k0_t1).trips), ∀ a, (k0_off108 v8 v15 k0_t1 k0_t6) a + S1x16.size a ≤ S128x256.size a := fun v8 v15 k0_hw2 k0_t1 k0_t6 => k0_hw2.2.2.2.1.2.2.2.2.2.2.2.2.2.2.2.2.2.2.2.2.2.2.2.1 k0_t1 k0_t6
theorem k0_off109_inb : ∀ (v8 : BitVec 32) (v15 : BitVec 32) (k0_hw2 : k0_chk2 v8 v15) (k0_t1 : Fin (k0_t1_loop v8 v15).trips) (k0_t6 : Fin (k0_t6_loop v8 v15 k0_t1).trips), ∀ a, (k0_off109 v8 v15 k0_t1 k0_t6) a + S1x16.size a ≤ S128x256.size a := fun v8 v15 k0_hw2 k0_t1 k0_t6 => k0_hw2.2.2.2.1.2.2.2.2.2.2.2.2.2.2.2.2.2.2.2.2.2.2.2.2.1 k0_t1 k0_t6
theorem k0_off110_inb : ∀ (v8 : BitVec 32) (v15 : BitVec 32) (k0_hw2 : k0_chk2 v8 v15) (k0_t1 : Fin (k0_t1_loop v8 v15).trips) (k0_t6 : Fin (k0_t6_loop v8 v15 k0_t1).trips), ∀ a, (k0_off110 v8 v15 k0_t1 k0_t6) a + S1x16.size a ≤ S128x256.size a := fun v8 v15 k0_hw2 k0_t1 k0_t6 => k0_hw2.2.2.2.1.2.2.2.2.2.2.2.2.2.2.2.2.2.2.2.2.2.2.2.2.2.1 k0_t1 k0_t6
theorem k0_off111_inb : ∀ (v8 : BitVec 32) (v15 : BitVec 32) (k0_hw2 : k0_chk2 v8 v15) (k0_t1 : Fin (k0_t1_loop v8 v15).trips) (k0_t6 : Fin (k0_t6_loop v8 v15 k0_t1).trips), ∀ a, (k0_off111 v8 v15 k0_t1 k0_t6) a + S1x16.size a ≤ S128x256.size a := fun v8 v15 k0_hw2 k0_t1 k0_t6 => k0_hw2.2.2.2.1.2.2.2.2.2.2.2.2.2.2.2.2.2.2.2.2.2.2.2.2.2.2.1 k0_t1 k0_t6
theorem k0_off112_inb : ∀ (v8 : BitVec 32) (v15 : BitVec 32) (k0_hw2 : k0_chk2 v8 v15) (k0_t1 : Fin (k0_t1_loop v8 v15).trips) (k0_t6 : Fin (k0_t6_loop v8 v15 k0_t1).trips), ∀ a, (k0_off112 v8 v15 k0_t1 k0_t6) a + S1x16.size a ≤ S128x256.size a := fun v8 v15 k0_hw2 k0_t1 k0_t6 => k0_hw2.2.2.2.1.2.2.2.2.2.2.2.2.2.2.2.2.2.2.2.2.2.2.2.2.2.2.2.1 k0_t1 k0_t6
theorem k0_off113_inb : ∀ (v8 : BitVec 32) (v15 : BitVec 32) (k0_hw2 : k0_chk2 v8 v15) (k0_t1 : Fin (k0_t1_loop v8 v15).trips) (k0_t6 : Fin (k0_t6_loop v8 v15 k0_t1).trips), ∀ a, (k0_off113 v8 v15 k0_t1 k0_t6) a + S1x16.size a ≤ S128x256.size a := fun v8 v15 k0_hw2 k0_t1 k0_t6 => k0_hw2.2.2.2.1.2.2.2.2.2.2.2.2.2.2.2.2.2.2.2.2.2.2.2.2.2.2.2.2.1 k0_t1 k0_t6
theorem k0_off114_inb : ∀ (v8 : BitVec 32) (v15 : BitVec 32) (k0_hw2 : k0_chk2 v8 v15) (k0_t1 : Fin (k0_t1_loop v8 v15).trips) (k0_t6 : Fin (k0_t6_loop v8 v15 k0_t1).trips), ∀ a, (k0_off114 v8 v15 k0_t1 k0_t6) a + S1x16.size a ≤ S128x256.size a := fun v8 v15 k0_hw2 k0_t1 k0_t6 => k0_hw2.2.2.2.1.2.2.2.2.2.2.2.2.2.2.2.2.2.2.2.2.2.2.2.2.2.2.2.2.2.1 k0_t1 k0_t6
theorem k0_off115_inb : ∀ (v8 : BitVec 32) (v15 : BitVec 32) (k0_hw2 : k0_chk2 v8 v15) (k0_t1 : Fin (k0_t1_loop v8 v15).trips) (k0_t6 : Fin (k0_t6_loop v8 v15 k0_t1).trips), ∀ a, (k0_off115 v8 v15 k0_t1 k0_t6) a + S1x16.size a ≤ S128x256.size a := fun v8 v15 k0_hw2 k0_t1 k0_t6 => k0_hw2.2.2.2.1.2.2.2.2.2.2.2.2.2.2.2.2.2.2.2.2.2.2.2.2.2.2.2.2.2.2.1 k0_t1 k0_t6
theorem k0_off116_inb : ∀ (v8 : BitVec 32) (v15 : BitVec 32) (k0_hw2 : k0_chk2 v8 v15) (k0_t1 : Fin (k0_t1_loop v8 v15).trips) (k0_t6 : Fin (k0_t6_loop v8 v15 k0_t1).trips), ∀ a, (k0_off116 v8 v15 k0_t1 k0_t6) a + S1x16.size a ≤ S128x256.size a := fun v8 v15 k0_hw2 k0_t1 k0_t6 => k0_hw2.2.2.2.1.2.2.2.2.2.2.2.2.2.2.2.2.2.2.2.2.2.2.2.2.2.2.2.2.2.2.2.1 k0_t1 k0_t6
theorem k0_off117_inb : ∀ (v8 : BitVec 32) (v15 : BitVec 32) (k0_hw2 : k0_chk2 v8 v15) (k0_t1 : Fin (k0_t1_loop v8 v15).trips) (k0_t6 : Fin (k0_t6_loop v8 v15 k0_t1).trips), ∀ (r : Fin 3), ∀ a, (k0_off117 v8 v15 k0_t1 k0_t6 (BitVec.ofNat 32 (1 + r.val))) a + S1x16.size a ≤ S128x256.size a := fun v8 v15 k0_hw2 k0_t1 k0_t6 r => k0_hw2.2.2.2.1.2.2.2.2.2.2.2.2.2.2.2.2.2.2.2.2.2.2.2.2.2.2.2.2.2.2.2.2.1 k0_t1 k0_t6 r
theorem k0_off118_inb : ∀ (v8 : BitVec 32) (v15 : BitVec 32) (k0_hw2 : k0_chk2 v8 v15) (k0_t1 : Fin (k0_t1_loop v8 v15).trips) (k0_t6 : Fin (k0_t6_loop v8 v15 k0_t1).trips), ∀ (r : Fin 3), ∀ a, (k0_off118 v8 v15 k0_t1 k0_t6 (BitVec.ofNat 32 (1 + r.val))) a + S1x16.size a ≤ S128x256.size a := fun v8 v15 k0_hw2 k0_t1 k0_t6 r => k0_hw2.2.2.2.1.2.2.2.2.2.2.2.2.2.2.2.2.2.2.2.2.2.2.2.2.2.2.2.2.2.2.2.2.2.1 k0_t1 k0_t6 r
theorem k0_off119_inb : ∀ (v8 : BitVec 32) (v15 : BitVec 32) (k0_hw2 : k0_chk2 v8 v15) (k0_t1 : Fin (k0_t1_loop v8 v15).trips) (k0_t6 : Fin (k0_t6_loop v8 v15 k0_t1).trips), ∀ (r : Fin 3), ∀ a, (k0_off119 v8 v15 k0_t1 k0_t6 (BitVec.ofNat 32 (1 + r.val))) a + S1x16.size a ≤ S128x256.size a := fun v8 v15 k0_hw2 k0_t1 k0_t6 r => k0_hw2.2.2.2.1.2.2.2.2.2.2.2.2.2.2.2.2.2.2.2.2.2.2.2.2.2.2.2.2.2.2.2.2.2.2.1 k0_t1 k0_t6 r
theorem k0_off120_inb : ∀ (v8 : BitVec 32) (v15 : BitVec 32) (k0_hw2 : k0_chk2 v8 v15) (k0_t1 : Fin (k0_t1_loop v8 v15).trips) (k0_t6 : Fin (k0_t6_loop v8 v15 k0_t1).trips), ∀ (r : Fin 3), ∀ a, (k0_off120 v8 v15 k0_t1 k0_t6 (BitVec.ofNat 32 (1 + r.val))) a + S1x16.size a ≤ S128x256.size a := fun v8 v15 k0_hw2 k0_t1 k0_t6 r => k0_hw2.2.2.2.1.2.2.2.2.2.2.2.2.2.2.2.2.2.2.2.2.2.2.2.2.2.2.2.2.2.2.2.2.2.2.2 k0_t1 k0_t6 r
theorem k0_off121_inb : ∀ (v8 : BitVec 32) (v15 : BitVec 32) (k0_hw2 : k0_chk2 v8 v15) (k0_t1 : Fin (k0_t1_loop v8 v15).trips) (k0_t6 : Fin (k0_t6_loop v8 v15 k0_t1).trips), ∀ (r : Fin 3), ∀ a, (k0_off121 v8 v15 k0_t1 k0_t6 (BitVec.ofNat 32 (1 + r.val))) a + S1x16.size a ≤ S128x256.size a := fun v8 v15 k0_hw2 k0_t1 k0_t6 r => k0_hw2.2.2.2.2.1.1 k0_t1 k0_t6 r
theorem k0_off122_inb : ∀ (v8 : BitVec 32) (v15 : BitVec 32) (k0_hw2 : k0_chk2 v8 v15) (k0_t1 : Fin (k0_t1_loop v8 v15).trips) (k0_t6 : Fin (k0_t6_loop v8 v15 k0_t1).trips), ∀ (r : Fin 3), ∀ a, (k0_off122 v8 v15 k0_t1 k0_t6 (BitVec.ofNat 32 (1 + r.val))) a + S1x16.size a ≤ S128x256.size a := fun v8 v15 k0_hw2 k0_t1 k0_t6 r => k0_hw2.2.2.2.2.1.2.1 k0_t1 k0_t6 r
theorem k0_off123_inb : ∀ (v8 : BitVec 32) (v15 : BitVec 32) (k0_hw2 : k0_chk2 v8 v15) (k0_t1 : Fin (k0_t1_loop v8 v15).trips) (k0_t6 : Fin (k0_t6_loop v8 v15 k0_t1).trips), ∀ (r : Fin 3), ∀ a, (k0_off123 v8 v15 k0_t1 k0_t6 (BitVec.ofNat 32 (1 + r.val))) a + S1x16.size a ≤ S128x256.size a := fun v8 v15 k0_hw2 k0_t1 k0_t6 r => k0_hw2.2.2.2.2.1.2.2.1 k0_t1 k0_t6 r
theorem k0_off124_inb : ∀ (v8 : BitVec 32) (v15 : BitVec 32) (k0_hw2 : k0_chk2 v8 v15) (k0_t1 : Fin (k0_t1_loop v8 v15).trips) (k0_t6 : Fin (k0_t6_loop v8 v15 k0_t1).trips), ∀ (r : Fin 3), ∀ a, (k0_off124 v8 v15 k0_t1 k0_t6 (BitVec.ofNat 32 (1 + r.val))) a + S1x16.size a ≤ S128x256.size a := fun v8 v15 k0_hw2 k0_t1 k0_t6 r => k0_hw2.2.2.2.2.1.2.2.2.1 k0_t1 k0_t6 r
theorem k0_off125_inb : ∀ (v8 : BitVec 32) (v15 : BitVec 32) (k0_hw2 : k0_chk2 v8 v15) (k0_t1 : Fin (k0_t1_loop v8 v15).trips) (k0_t6 : Fin (k0_t6_loop v8 v15 k0_t1).trips), ∀ (r : Fin 3), ∀ a, (k0_off125 v8 v15 k0_t1 k0_t6 (BitVec.ofNat 32 (1 + r.val))) a + S1x16.size a ≤ S128x256.size a := fun v8 v15 k0_hw2 k0_t1 k0_t6 r => k0_hw2.2.2.2.2.1.2.2.2.2.1 k0_t1 k0_t6 r
theorem k0_off126_inb : ∀ (v8 : BitVec 32) (v15 : BitVec 32) (k0_hw2 : k0_chk2 v8 v15) (k0_t1 : Fin (k0_t1_loop v8 v15).trips) (k0_t6 : Fin (k0_t6_loop v8 v15 k0_t1).trips), ∀ (r : Fin 3), ∀ a, (k0_off126 v8 v15 k0_t1 k0_t6 (BitVec.ofNat 32 (1 + r.val))) a + S1x16.size a ≤ S128x256.size a := fun v8 v15 k0_hw2 k0_t1 k0_t6 r => k0_hw2.2.2.2.2.1.2.2.2.2.2.1 k0_t1 k0_t6 r
theorem k0_off127_inb : ∀ (v8 : BitVec 32) (v15 : BitVec 32) (k0_hw2 : k0_chk2 v8 v15) (k0_t1 : Fin (k0_t1_loop v8 v15).trips) (k0_t6 : Fin (k0_t6_loop v8 v15 k0_t1).trips), ∀ (r : Fin 3), ∀ a, (k0_off127 v8 v15 k0_t1 k0_t6 (BitVec.ofNat 32 (1 + r.val))) a + S1x16.size a ≤ S128x256.size a := fun v8 v15 k0_hw2 k0_t1 k0_t6 r => k0_hw2.2.2.2.2.1.2.2.2.2.2.2.1 k0_t1 k0_t6 r
theorem k0_off128_inb : ∀ (v8 : BitVec 32) (v15 : BitVec 32) (k0_hw2 : k0_chk2 v8 v15) (k0_t1 : Fin (k0_t1_loop v8 v15).trips) (k0_t6 : Fin (k0_t6_loop v8 v15 k0_t1).trips), ∀ (r : Fin 3), ∀ a, (k0_off128 v8 v15 k0_t1 k0_t6 (BitVec.ofNat 32 (1 + r.val))) a + S1x16.size a ≤ S128x256.size a := fun v8 v15 k0_hw2 k0_t1 k0_t6 r => k0_hw2.2.2.2.2.1.2.2.2.2.2.2.2.1 k0_t1 k0_t6 r
theorem k0_off129_inb : ∀ (v8 : BitVec 32) (v15 : BitVec 32) (k0_hw2 : k0_chk2 v8 v15) (k0_t1 : Fin (k0_t1_loop v8 v15).trips) (k0_t6 : Fin (k0_t6_loop v8 v15 k0_t1).trips), ∀ (r : Fin 3), ∀ a, (k0_off129 v8 v15 k0_t1 k0_t6 (BitVec.ofNat 32 (1 + r.val))) a + S1x16.size a ≤ S128x256.size a := fun v8 v15 k0_hw2 k0_t1 k0_t6 r => k0_hw2.2.2.2.2.1.2.2.2.2.2.2.2.2.1 k0_t1 k0_t6 r
theorem k0_off130_inb : ∀ (v8 : BitVec 32) (v15 : BitVec 32) (k0_hw2 : k0_chk2 v8 v15) (k0_t1 : Fin (k0_t1_loop v8 v15).trips) (k0_t6 : Fin (k0_t6_loop v8 v15 k0_t1).trips), ∀ (r : Fin 3), ∀ a, (k0_off130 v8 v15 k0_t1 k0_t6 (BitVec.ofNat 32 (1 + r.val))) a + S1x16.size a ≤ S128x256.size a := fun v8 v15 k0_hw2 k0_t1 k0_t6 r => k0_hw2.2.2.2.2.1.2.2.2.2.2.2.2.2.2.1 k0_t1 k0_t6 r
theorem k0_off131_inb : ∀ (v8 : BitVec 32) (v15 : BitVec 32) (k0_hw2 : k0_chk2 v8 v15) (k0_t1 : Fin (k0_t1_loop v8 v15).trips) (k0_t6 : Fin (k0_t6_loop v8 v15 k0_t1).trips), ∀ (r : Fin 3), ∀ a, (k0_off131 v8 v15 k0_t1 k0_t6 (BitVec.ofNat 32 (1 + r.val))) a + S1x16.size a ≤ S128x256.size a := fun v8 v15 k0_hw2 k0_t1 k0_t6 r => k0_hw2.2.2.2.2.1.2.2.2.2.2.2.2.2.2.2.1 k0_t1 k0_t6 r
theorem k0_off132_inb : ∀ (v8 : BitVec 32) (v15 : BitVec 32) (k0_hw2 : k0_chk2 v8 v15) (k0_t1 : Fin (k0_t1_loop v8 v15).trips) (k0_t6 : Fin (k0_t6_loop v8 v15 k0_t1).trips), ∀ (r : Fin 3), ∀ a, (k0_off132 v8 v15 k0_t1 k0_t6 (BitVec.ofNat 32 (1 + r.val))) a + S1x16.size a ≤ S128x256.size a := fun v8 v15 k0_hw2 k0_t1 k0_t6 r => k0_hw2.2.2.2.2.1.2.2.2.2.2.2.2.2.2.2.2.1 k0_t1 k0_t6 r
theorem k0_t7_ok : ∀ (v8 : BitVec 32) (v15 : BitVec 32) (k0_hw2 : k0_chk2 v8 v15) (k0_t1 : Fin (k0_t1_loop v8 v15).trips), (k0_t7_loop v8 v15 k0_t1).OK := fun v8 v15 k0_hw2 k0_t1 => k0_hw2.2.2.2.2.1.2.2.2.2.2.2.2.2.2.2.2.2.1 k0_t1
theorem k0_off133_inb : ∀ (v8 : BitVec 32) (v15 : BitVec 32) (k0_hw2 : k0_chk2 v8 v15) (k0_t1 : Fin (k0_t1_loop v8 v15).trips) (k0_t7 : Fin (k0_t7_loop v8 v15 k0_t1).trips), ∀ a, (k0_off133 v8 v15 k0_t1 k0_t7) a + S1x16.size a ≤ S128x256.size a := fun v8 v15 k0_hw2 k0_t1 k0_t7 => k0_hw2.2.2.2.2.1.2.2.2.2.2.2.2.2.2.2.2.2.2.1 k0_t1 k0_t7
theorem k0_off134_inb : ∀ (v8 : BitVec 32) (v15 : BitVec 32) (k0_hw2 : k0_chk2 v8 v15) (k0_t1 : Fin (k0_t1_loop v8 v15).trips) (k0_t7 : Fin (k0_t7_loop v8 v15 k0_t1).trips), ∀ a, (k0_off134 v8 v15 k0_t1 k0_t7) a + S1x16.size a ≤ S128x256.size a := fun v8 v15 k0_hw2 k0_t1 k0_t7 => k0_hw2.2.2.2.2.1.2.2.2.2.2.2.2.2.2.2.2.2.2.2.1 k0_t1 k0_t7
theorem k0_off135_inb : ∀ (v8 : BitVec 32) (v15 : BitVec 32) (k0_hw2 : k0_chk2 v8 v15) (k0_t1 : Fin (k0_t1_loop v8 v15).trips) (k0_t7 : Fin (k0_t7_loop v8 v15 k0_t1).trips), ∀ a, (k0_off135 v8 v15 k0_t1 k0_t7) a + S1x16.size a ≤ S128x256.size a := fun v8 v15 k0_hw2 k0_t1 k0_t7 => k0_hw2.2.2.2.2.1.2.2.2.2.2.2.2.2.2.2.2.2.2.2.2.1 k0_t1 k0_t7
theorem k0_off136_inb : ∀ (v8 : BitVec 32) (v15 : BitVec 32) (k0_hw2 : k0_chk2 v8 v15) (k0_t1 : Fin (k0_t1_loop v8 v15).trips) (k0_t7 : Fin (k0_t7_loop v8 v15 k0_t1).trips), ∀ a, (k0_off136 v8 v15 k0_t1 k0_t7) a + S1x16.size a ≤ S128x256.size a := fun v8 v15 k0_hw2 k0_t1 k0_t7 => k0_hw2.2.2.2.2.1.2.2.2.2.2.2.2.2.2.2.2.2.2.2.2.2.1 k0_t1 k0_t7
theorem k0_off137_inb : ∀ (v8 : BitVec 32) (v15 : BitVec 32) (k0_hw2 : k0_chk2 v8 v15) (k0_t1 : Fin (k0_t1_loop v8 v15).trips) (k0_t7 : Fin (k0_t7_loop v8 v15 k0_t1).trips), ∀ a, (k0_off137 v8 v15 k0_t1 k0_t7) a + S1x16.size a ≤ S128x256.size a := fun v8 v15 k0_hw2 k0_t1 k0_t7 => k0_hw2.2.2.2.2.1.2.2.2.2.2.2.2.2.2.2.2.2.2.2.2.2.2.1 k0_t1 k0_t7
theorem k0_off138_inb : ∀ (v8 : BitVec 32) (v15 : BitVec 32) (k0_hw2 : k0_chk2 v8 v15) (k0_t1 : Fin (k0_t1_loop v8 v15).trips) (k0_t7 : Fin (k0_t7_loop v8 v15 k0_t1).trips), ∀ a, (k0_off138 v8 v15 k0_t1 k0_t7) a + S1x16.size a ≤ S128x256.size a := fun v8 v15 k0_hw2 k0_t1 k0_t7 => k0_hw2.2.2.2.2.1.2.2.2.2.2.2.2.2.2.2.2.2.2.2.2.2.2.2.1 k0_t1 k0_t7
theorem k0_off139_inb : ∀ (v8 : BitVec 32) (v15 : BitVec 32) (k0_hw2 : k0_chk2 v8 v15) (k0_t1 : Fin (k0_t1_loop v8 v15).trips) (k0_t7 : Fin (k0_t7_loop v8 v15 k0_t1).trips), ∀ a, (k0_off139 v8 v15 k0_t1 k0_t7) a + S1x16.size a ≤ S128x256.size a := fun v8 v15 k0_hw2 k0_t1 k0_t7 => k0_hw2.2.2.2.2.1.2.2.2.2.2.2.2.2.2.2.2.2.2.2.2.2.2.2.2.1 k0_t1 k0_t7
theorem k0_off140_inb : ∀ (v8 : BitVec 32) (v15 : BitVec 32) (k0_hw2 : k0_chk2 v8 v15) (k0_t1 : Fin (k0_t1_loop v8 v15).trips) (k0_t7 : Fin (k0_t7_loop v8 v15 k0_t1).trips), ∀ a, (k0_off140 v8 v15 k0_t1 k0_t7) a + S1x16.size a ≤ S128x256.size a := fun v8 v15 k0_hw2 k0_t1 k0_t7 => k0_hw2.2.2.2.2.1.2.2.2.2.2.2.2.2.2.2.2.2.2.2.2.2.2.2.2.2.1 k0_t1 k0_t7
theorem k0_off141_inb : ∀ (v8 : BitVec 32) (v15 : BitVec 32) (k0_hw2 : k0_chk2 v8 v15) (k0_t1 : Fin (k0_t1_loop v8 v15).trips) (k0_t7 : Fin (k0_t7_loop v8 v15 k0_t1).trips), ∀ a, (k0_off141 v8 v15 k0_t1 k0_t7) a + S1x16.size a ≤ S128x256.size a := fun v8 v15 k0_hw2 k0_t1 k0_t7 => k0_hw2.2.2.2.2.1.2.2.2.2.2.2.2.2.2.2.2.2.2.2.2.2.2.2.2.2.2.1 k0_t1 k0_t7
theorem k0_off142_inb : ∀ (v8 : BitVec 32) (v15 : BitVec 32) (k0_hw2 : k0_chk2 v8 v15) (k0_t1 : Fin (k0_t1_loop v8 v15).trips) (k0_t7 : Fin (k0_t7_loop v8 v15 k0_t1).trips), ∀ a, (k0_off142 v8 v15 k0_t1 k0_t7) a + S1x16.size a ≤ S128x256.size a := fun v8 v15 k0_hw2 k0_t1 k0_t7 => k0_hw2.2.2.2.2.1.2.2.2.2.2.2.2.2.2.2.2.2.2.2.2.2.2.2.2.2.2.2.1 k0_t1 k0_t7
theorem k0_off143_inb : ∀ (v8 : BitVec 32) (v15 : BitVec 32) (k0_hw2 : k0_chk2 v8 v15) (k0_t1 : Fin (k0_t1_loop v8 v15).trips) (k0_t7 : Fin (k0_t7_loop v8 v15 k0_t1).trips), ∀ a, (k0_off143 v8 v15 k0_t1 k0_t7) a + S1x16.size a ≤ S128x256.size a := fun v8 v15 k0_hw2 k0_t1 k0_t7 => k0_hw2.2.2.2.2.1.2.2.2.2.2.2.2.2.2.2.2.2.2.2.2.2.2.2.2.2.2.2.2.1 k0_t1 k0_t7
theorem k0_off144_inb : ∀ (v8 : BitVec 32) (v15 : BitVec 32) (k0_hw2 : k0_chk2 v8 v15) (k0_t1 : Fin (k0_t1_loop v8 v15).trips) (k0_t7 : Fin (k0_t7_loop v8 v15 k0_t1).trips), ∀ a, (k0_off144 v8 v15 k0_t1 k0_t7) a + S1x16.size a ≤ S128x256.size a := fun v8 v15 k0_hw2 k0_t1 k0_t7 => k0_hw2.2.2.2.2.1.2.2.2.2.2.2.2.2.2.2.2.2.2.2.2.2.2.2.2.2.2.2.2.2.1 k0_t1 k0_t7
theorem k0_off145_inb : ∀ (v8 : BitVec 32) (v15 : BitVec 32) (k0_hw2 : k0_chk2 v8 v15) (k0_t1 : Fin (k0_t1_loop v8 v15).trips) (k0_t7 : Fin (k0_t7_loop v8 v15 k0_t1).trips), ∀ a, (k0_off145 v8 v15 k0_t1 k0_t7) a + S1x16.size a ≤ S128x256.size a := fun v8 v15 k0_hw2 k0_t1 k0_t7 => k0_hw2.2.2.2.2.1.2.2.2.2.2.2.2.2.2.2.2.2.2.2.2.2.2.2.2.2.2.2.2.2.2.1 k0_t1 k0_t7
theorem k0_off146_inb : ∀ (v8 : BitVec 32) (v15 : BitVec 32) (k0_hw2 : k0_chk2 v8 v15) (k0_t1 : Fin (k0_t1_loop v8 v15).trips) (k0_t7 : Fin (k0_t7_loop v8 v15 k0_t1).trips), ∀ a, (k0_off146 v8 v15 k0_t1 k0_t7) a + S1x16.size a ≤ S128x256.size a := fun v8 v15 k0_hw2 k0_t1 k0_t7 => k0_hw2.2.2.2.2.1.2.2.2.2.2.2.2.2.2.2.2.2.2.2.2.2.2.2.2.2.2.2.2.2.2.2.1 k0_t1 k0_t7
theorem k0_off147_inb : ∀ (v8 : BitVec 32) (v15 : BitVec 32) (k0_hw2 : k0_chk2 v8 v15) (k0_t1 : Fin (k0_t1_loop v8 v15).trips) (k0_t7 : Fin (k0_t7_loop v8 v15 k0_t1).trips), ∀ a, (k0_off147 v8 v15 k0_t1 k0_t7) a + S1x16.size a ≤ S128x256.size a := fun v8 v15 k0_hw2 k0_t1 k0_t7 => k0_hw2.2.2.2.2.1.2.2.2.2.2.2.2.2.2.2.2.2.2.2.2.2.2.2.2.2.2.2.2.2.2.2.2.1 k0_t1 k0_t7
theorem k0_off148_inb : ∀ (v8 : BitVec 32) (v15 : BitVec 32) (k0_hw2 : k0_chk2 v8 v15) (k0_t1 : Fin (k0_t1_loop v8 v15).trips) (k0_t7 : Fin (k0_t7_loop v8 v15 k0_t1).trips), ∀ a, (k0_off148 v8 v15 k0_t1 k0_t7) a + S1x16.size a ≤ S128x256.size a := fun v8 v15 k0_hw2 k0_t1 k0_t7 => k0_hw2.2.2.2.2.1.2.2.2.2.2.2.2.2.2.2.2.2.2.2.2.2.2.2.2.2.2.2.2.2.2.2.2.2.1 k0_t1 k0_t7
theorem k0_off149_inb : ∀ (v8 : BitVec 32) (v15 : BitVec 32) (k0_hw2 : k0_chk2 v8 v15) (k0_t1 : Fin (k0_t1_loop v8 v15).trips) (k0_t7 : Fin (k0_t7_loop v8 v15 k0_t1).trips), ∀ (r : Fin 3), ∀ a, (k0_off149 v8 v15 k0_t1 k0_t7 (BitVec.ofNat 32 (1 + r.val))) a + S1x16.size a ≤ S128x256.size a := fun v8 v15 k0_hw2 k0_t1 k0_t7 r => k0_hw2.2.2.2.2.1.2.2.2.2.2.2.2.2.2.2.2.2.2.2.2.2.2.2.2.2.2.2.2.2.2.2.2.2.2.1 k0_t1 k0_t7 r
theorem k0_off150_inb : ∀ (v8 : BitVec 32) (v15 : BitVec 32) (k0_hw2 : k0_chk2 v8 v15) (k0_t1 : Fin (k0_t1_loop v8 v15).trips) (k0_t7 : Fin (k0_t7_loop v8 v15 k0_t1).trips), ∀ (r : Fin 3), ∀ a, (k0_off150 v8 v15 k0_t1 k0_t7 (BitVec.ofNat 32 (1 + r.val))) a + S1x16.size a ≤ S128x256.size a := fun v8 v15 k0_hw2 k0_t1 k0_t7 r => k0_hw2.2.2.2.2.1.2.2.2.2.2.2.2.2.2.2.2.2.2.2.2.2.2.2.2.2.2.2.2.2.2.2.2.2.2.2.1 k0_t1 k0_t7 r
theorem k0_off151_inb : ∀ (v8 : BitVec 32) (v15 : BitVec 32) (k0_hw2 : k0_chk2 v8 v15) (k0_t1 : Fin (k0_t1_loop v8 v15).trips) (k0_t7 : Fin (k0_t7_loop v8 v15 k0_t1).trips), ∀ (r : Fin 3), ∀ a, (k0_off151 v8 v15 k0_t1 k0_t7 (BitVec.ofNat 32 (1 + r.val))) a + S1x16.size a ≤ S128x256.size a := fun v8 v15 k0_hw2 k0_t1 k0_t7 r => k0_hw2.2.2.2.2.1.2.2.2.2.2.2.2.2.2.2.2.2.2.2.2.2.2.2.2.2.2.2.2.2.2.2.2.2.2.2.2 k0_t1 k0_t7 r
theorem k0_off152_inb : ∀ (v8 : BitVec 32) (v15 : BitVec 32) (k0_hw2 : k0_chk2 v8 v15) (k0_t1 : Fin (k0_t1_loop v8 v15).trips) (k0_t7 : Fin (k0_t7_loop v8 v15 k0_t1).trips), ∀ (r : Fin 3), ∀ a, (k0_off152 v8 v15 k0_t1 k0_t7 (BitVec.ofNat 32 (1 + r.val))) a + S1x16.size a ≤ S128x256.size a := fun v8 v15 k0_hw2 k0_t1 k0_t7 r => k0_hw2.2.2.2.2.2.1.1 k0_t1 k0_t7 r
theorem k0_off153_inb : ∀ (v8 : BitVec 32) (v15 : BitVec 32) (k0_hw2 : k0_chk2 v8 v15) (k0_t1 : Fin (k0_t1_loop v8 v15).trips) (k0_t7 : Fin (k0_t7_loop v8 v15 k0_t1).trips), ∀ (r : Fin 3), ∀ a, (k0_off153 v8 v15 k0_t1 k0_t7 (BitVec.ofNat 32 (1 + r.val))) a + S1x16.size a ≤ S128x256.size a := fun v8 v15 k0_hw2 k0_t1 k0_t7 r => k0_hw2.2.2.2.2.2.1.2.1 k0_t1 k0_t7 r
theorem k0_off154_inb : ∀ (v8 : BitVec 32) (v15 : BitVec 32) (k0_hw2 : k0_chk2 v8 v15) (k0_t1 : Fin (k0_t1_loop v8 v15).trips) (k0_t7 : Fin (k0_t7_loop v8 v15 k0_t1).trips), ∀ (r : Fin 3), ∀ a, (k0_off154 v8 v15 k0_t1 k0_t7 (BitVec.ofNat 32 (1 + r.val))) a + S1x16.size a ≤ S128x256.size a := fun v8 v15 k0_hw2 k0_t1 k0_t7 r => k0_hw2.2.2.2.2.2.1.2.2.1 k0_t1 k0_t7 r
theorem k0_off155_inb : ∀ (v8 : BitVec 32) (v15 : BitVec 32) (k0_hw2 : k0_chk2 v8 v15) (k0_t1 : Fin (k0_t1_loop v8 v15).trips) (k0_t7 : Fin (k0_t7_loop v8 v15 k0_t1).trips), ∀ (r : Fin 3), ∀ a, (k0_off155 v8 v15 k0_t1 k0_t7 (BitVec.ofNat 32 (1 + r.val))) a + S1x16.size a ≤ S128x256.size a := fun v8 v15 k0_hw2 k0_t1 k0_t7 r => k0_hw2.2.2.2.2.2.1.2.2.2.1 k0_t1 k0_t7 r
theorem k0_off156_inb : ∀ (v8 : BitVec 32) (v15 : BitVec 32) (k0_hw2 : k0_chk2 v8 v15) (k0_t1 : Fin (k0_t1_loop v8 v15).trips) (k0_t7 : Fin (k0_t7_loop v8 v15 k0_t1).trips), ∀ (r : Fin 3), ∀ a, (k0_off156 v8 v15 k0_t1 k0_t7 (BitVec.ofNat 32 (1 + r.val))) a + S1x16.size a ≤ S128x256.size a := fun v8 v15 k0_hw2 k0_t1 k0_t7 r => k0_hw2.2.2.2.2.2.1.2.2.2.2.1 k0_t1 k0_t7 r
theorem k0_off157_inb : ∀ (v8 : BitVec 32) (v15 : BitVec 32) (k0_hw2 : k0_chk2 v8 v15) (k0_t1 : Fin (k0_t1_loop v8 v15).trips) (k0_t7 : Fin (k0_t7_loop v8 v15 k0_t1).trips), ∀ (r : Fin 3), ∀ a, (k0_off157 v8 v15 k0_t1 k0_t7 (BitVec.ofNat 32 (1 + r.val))) a + S1x16.size a ≤ S128x256.size a := fun v8 v15 k0_hw2 k0_t1 k0_t7 r => k0_hw2.2.2.2.2.2.1.2.2.2.2.2.1 k0_t1 k0_t7 r
theorem k0_off158_inb : ∀ (v8 : BitVec 32) (v15 : BitVec 32) (k0_hw2 : k0_chk2 v8 v15) (k0_t1 : Fin (k0_t1_loop v8 v15).trips) (k0_t7 : Fin (k0_t7_loop v8 v15 k0_t1).trips), ∀ (r : Fin 3), ∀ a, (k0_off158 v8 v15 k0_t1 k0_t7 (BitVec.ofNat 32 (1 + r.val))) a + S1x16.size a ≤ S128x256.size a := fun v8 v15 k0_hw2 k0_t1 k0_t7 r => k0_hw2.2.2.2.2.2.1.2.2.2.2.2.2.1 k0_t1 k0_t7 r
theorem k0_off159_inb : ∀ (v8 : BitVec 32) (v15 : BitVec 32) (k0_hw2 : k0_chk2 v8 v15) (k0_t1 : Fin (k0_t1_loop v8 v15).trips) (k0_t7 : Fin (k0_t7_loop v8 v15 k0_t1).trips), ∀ (r : Fin 3), ∀ a, (k0_off159 v8 v15 k0_t1 k0_t7 (BitVec.ofNat 32 (1 + r.val))) a + S1x16.size a ≤ S128x256.size a := fun v8 v15 k0_hw2 k0_t1 k0_t7 r => k0_hw2.2.2.2.2.2.1.2.2.2.2.2.2.2.1 k0_t1 k0_t7 r
theorem k0_off160_inb : ∀ (v8 : BitVec 32) (v15 : BitVec 32) (k0_hw2 : k0_chk2 v8 v15) (k0_t1 : Fin (k0_t1_loop v8 v15).trips) (k0_t7 : Fin (k0_t7_loop v8 v15 k0_t1).trips), ∀ (r : Fin 3), ∀ a, (k0_off160 v8 v15 k0_t1 k0_t7 (BitVec.ofNat 32 (1 + r.val))) a + S1x16.size a ≤ S128x256.size a := fun v8 v15 k0_hw2 k0_t1 k0_t7 r => k0_hw2.2.2.2.2.2.1.2.2.2.2.2.2.2.2.1 k0_t1 k0_t7 r
theorem k0_off161_inb : ∀ (v8 : BitVec 32) (v15 : BitVec 32) (k0_hw2 : k0_chk2 v8 v15) (k0_t1 : Fin (k0_t1_loop v8 v15).trips) (k0_t7 : Fin (k0_t7_loop v8 v15 k0_t1).trips), ∀ (r : Fin 3), ∀ a, (k0_off161 v8 v15 k0_t1 k0_t7 (BitVec.ofNat 32 (1 + r.val))) a + S1x16.size a ≤ S128x256.size a := fun v8 v15 k0_hw2 k0_t1 k0_t7 r => k0_hw2.2.2.2.2.2.1.2.2.2.2.2.2.2.2.2.1 k0_t1 k0_t7 r
theorem k0_off162_inb : ∀ (v8 : BitVec 32) (v15 : BitVec 32) (k0_hw2 : k0_chk2 v8 v15) (k0_t1 : Fin (k0_t1_loop v8 v15).trips) (k0_t7 : Fin (k0_t7_loop v8 v15 k0_t1).trips), ∀ (r : Fin 3), ∀ a, (k0_off162 v8 v15 k0_t1 k0_t7 (BitVec.ofNat 32 (1 + r.val))) a + S1x16.size a ≤ S128x256.size a := fun v8 v15 k0_hw2 k0_t1 k0_t7 r => k0_hw2.2.2.2.2.2.1.2.2.2.2.2.2.2.2.2.2.1 k0_t1 k0_t7 r
theorem k0_off163_inb : ∀ (v8 : BitVec 32) (v15 : BitVec 32) (k0_hw2 : k0_chk2 v8 v15) (k0_t1 : Fin (k0_t1_loop v8 v15).trips) (k0_t7 : Fin (k0_t7_loop v8 v15 k0_t1).trips), ∀ (r : Fin 3), ∀ a, (k0_off163 v8 v15 k0_t1 k0_t7 (BitVec.ofNat 32 (1 + r.val))) a + S1x16.size a ≤ S128x256.size a := fun v8 v15 k0_hw2 k0_t1 k0_t7 r => k0_hw2.2.2.2.2.2.1.2.2.2.2.2.2.2.2.2.2.2.1 k0_t1 k0_t7 r
theorem k0_off164_inb : ∀ (v8 : BitVec 32) (v15 : BitVec 32) (k0_hw2 : k0_chk2 v8 v15) (k0_t1 : Fin (k0_t1_loop v8 v15).trips) (k0_t7 : Fin (k0_t7_loop v8 v15 k0_t1).trips), ∀ (r : Fin 3), ∀ a, (k0_off164 v8 v15 k0_t1 k0_t7 (BitVec.ofNat 32 (1 + r.val))) a + S1x16.size a ≤ S128x256.size a := fun v8 v15 k0_hw2 k0_t1 k0_t7 r => k0_hw2.2.2.2.2.2.1.2.2.2.2.2.2.2.2.2.2.2.2.1 k0_t1 k0_t7 r
theorem k0_t8_ok : ∀ (v8 : BitVec 32) (v15 : BitVec 32) (k0_hw2 : k0_chk2 v8 v15) (k0_t1 : Fin (k0_t1_loop v8 v15).trips), (k0_t8_loop v8 v15 k0_t1).OK := fun v8 v15 k0_hw2 k0_t1 => k0_hw2.2.2.2.2.2.1.2.2.2.2.2.2.2.2.2.2.2.2.2.1 k0_t1
theorem k0_off165_inb : ∀ (v8 : BitVec 32) (v15 : BitVec 32) (k0_hw2 : k0_chk2 v8 v15) (k0_t1 : Fin (k0_t1_loop v8 v15).trips) (k0_t8 : Fin (k0_t8_loop v8 v15 k0_t1).trips), ∀ a, (k0_off165 v8 v15 k0_t1 k0_t8) a + S1x16.size a ≤ S128x256.size a := fun v8 v15 k0_hw2 k0_t1 k0_t8 => k0_hw2.2.2.2.2.2.1.2.2.2.2.2.2.2.2.2.2.2.2.2.2.1 k0_t1 k0_t8
theorem k0_off166_inb : ∀ (v8 : BitVec 32) (v15 : BitVec 32) (k0_hw2 : k0_chk2 v8 v15) (k0_t1 : Fin (k0_t1_loop v8 v15).trips) (k0_t8 : Fin (k0_t8_loop v8 v15 k0_t1).trips), ∀ a, (k0_off166 v8 v15 k0_t1 k0_t8) a + S1x16.size a ≤ S128x256.size a := fun v8 v15 k0_hw2 k0_t1 k0_t8 => k0_hw2.2.2.2.2.2.1.2.2.2.2.2.2.2.2.2.2.2.2.2.2.2.1 k0_t1 k0_t8
theorem k0_off167_inb : ∀ (v8 : BitVec 32) (v15 : BitVec 32) (k0_hw2 : k0_chk2 v8 v15) (k0_t1 : Fin (k0_t1_loop v8 v15).trips) (k0_t8 : Fin (k0_t8_loop v8 v15 k0_t1).trips), ∀ a, (k0_off167 v8 v15 k0_t1 k0_t8) a + S1x16.size a ≤ S128x256.size a := fun v8 v15 k0_hw2 k0_t1 k0_t8 => k0_hw2.2.2.2.2.2.1.2.2.2.2.2.2.2.2.2.2.2.2.2.2.2.2.1 k0_t1 k0_t8
theorem k0_off168_inb : ∀ (v8 : BitVec 32) (v15 : BitVec 32) (k0_hw2 : k0_chk2 v8 v15) (k0_t1 : Fin (k0_t1_loop v8 v15).trips) (k0_t8 : Fin (k0_t8_loop v8 v15 k0_t1).trips), ∀ a, (k0_off168 v8 v15 k0_t1 k0_t8) a + S1x16.size a ≤ S128x256.size a := fun v8 v15 k0_hw2 k0_t1 k0_t8 => k0_hw2.2.2.2.2.2.1.2.2.2.2.2.2.2.2.2.2.2.2.2.2.2.2.2.1 k0_t1 k0_t8
theorem k0_off169_inb : ∀ (v8 : BitVec 32) (v15 : BitVec 32) (k0_hw2 : k0_chk2 v8 v15) (k0_t1 : Fin (k0_t1_loop v8 v15).trips) (k0_t8 : Fin (k0_t8_loop v8 v15 k0_t1).trips), ∀ a, (k0_off169 v8 v15 k0_t1 k0_t8) a + S1x16.size a ≤ S128x256.size a := fun v8 v15 k0_hw2 k0_t1 k0_t8 => k0_hw2.2.2.2.2.2.1.2.2.2.2.2.2.2.2.2.2.2.2.2.2.2.2.2.2.1 k0_t1 k0_t8
theorem k0_off170_inb : ∀ (v8 : BitVec 32) (v15 : BitVec 32) (k0_hw2 : k0_chk2 v8 v15) (k0_t1 : Fin (k0_t1_loop v8 v15).trips) (k0_t8 : Fin (k0_t8_loop v8 v15 k0_t1).trips), ∀ a, (k0_off170 v8 v15 k0_t1 k0_t8) a + S1x16.size a ≤ S128x256.size a := fun v8 v15 k0_hw2 k0_t1 k0_t8 => k0_hw2.2.2.2.2.2.1.2.2.2.2.2.2.2.2.2.2.2.2.2.2.2.2.2.2.2.1 k0_t1 k0_t8
theorem k0_off171_inb : ∀ (v8 : BitVec 32) (v15 : BitVec 32) (k0_hw2 : k0_chk2 v8 v15) (k0_t1 : Fin (k0_t1_loop v8 v15).trips) (k0_t8 : Fin (k0_t8_loop v8 v15 k0_t1).trips), ∀ a, (k0_off171 v8 v15 k0_t1 k0_t8) a + S1x16.size a ≤ S128x256.size a := fun v8 v15 k0_hw2 k0_t1 k0_t8 => k0_hw2.2.2.2.2.2.1.2.2.2.2.2.2.2.2.2.2.2.2.2.2.2.2.2.2.2.2.1 k0_t1 k0_t8
theorem k0_off172_inb : ∀ (v8 : BitVec 32) (v15 : BitVec 32) (k0_hw2 : k0_chk2 v8 v15) (k0_t1 : Fin (k0_t1_loop v8 v15).trips) (k0_t8 : Fin (k0_t8_loop v8 v15 k0_t1).trips), ∀ a, (k0_off172 v8 v15 k0_t1 k0_t8) a + S1x16.size a ≤ S128x256.size a := fun v8 v15 k0_hw2 k0_t1 k0_t8 => k0_hw2.2.2.2.2.2.1.2.2.2.2.2.2.2.2.2.2.2.2.2.2.2.2.2.2.2.2.2.1 k0_t1 k0_t8
theorem k0_off173_inb : ∀ (v8 : BitVec 32) (v15 : BitVec 32) (k0_hw2 : k0_chk2 v8 v15) (k0_t1 : Fin (k0_t1_loop v8 v15).trips) (k0_t8 : Fin (k0_t8_loop v8 v15 k0_t1).trips), ∀ a, (k0_off173 v8 v15 k0_t1 k0_t8) a + S1x16.size a ≤ S128x256.size a := fun v8 v15 k0_hw2 k0_t1 k0_t8 => k0_hw2.2.2.2.2.2.1.2.2.2.2.2.2.2.2.2.2.2.2.2.2.2.2.2.2.2.2.2.2.1 k0_t1 k0_t8
theorem k0_off174_inb : ∀ (v8 : BitVec 32) (v15 : BitVec 32) (k0_hw2 : k0_chk2 v8 v15) (k0_t1 : Fin (k0_t1_loop v8 v15).trips) (k0_t8 : Fin (k0_t8_loop v8 v15 k0_t1).trips), ∀ a, (k0_off174 v8 v15 k0_t1 k0_t8) a + S1x16.size a ≤ S128x256.size a := fun v8 v15 k0_hw2 k0_t1 k0_t8 => k0_hw2.2.2.2.2.2.1.2.2.2.2.2.2.2.2.2.2.2.2.2.2.2.2.2.2.2.2.2.2.2.1 k0_t1 k0_t8
theorem k0_off175_inb : ∀ (v8 : BitVec 32) (v15 : BitVec 32) (k0_hw2 : k0_chk2 v8 v15) (k0_t1 : Fin (k0_t1_loop v8 v15).trips) (k0_t8 : Fin (k0_t8_loop v8 v15 k0_t1).trips), ∀ a, (k0_off175 v8 v15 k0_t1 k0_t8) a + S1x16.size a ≤ S128x256.size a := fun v8 v15 k0_hw2 k0_t1 k0_t8 => k0_hw2.2.2.2.2.2.1.2.2.2.2.2.2.2.2.2.2.2.2.2.2.2.2.2.2.2.2.2.2.2.2.1 k0_t1 k0_t8
theorem k0_off176_inb : ∀ (v8 : BitVec 32) (v15 : BitVec 32) (k0_hw2 : k0_chk2 v8 v15) (k0_t1 : Fin (k0_t1_loop v8 v15).trips) (k0_t8 : Fin (k0_t8_loop v8 v15 k0_t1).trips), ∀ a, (k0_off176 v8 v15 k0_t1 k0_t8) a + S1x16.size a ≤ S128x256.size a := fun v8 v15 k0_hw2 k0_t1 k0_t8 => k0_hw2.2.2.2.2.2.1.2.2.2.2.2.2.2.2.2.2.2.2.2.2.2.2.2.2.2.2.2.2.2.2.2.1 k0_t1 k0_t8
theorem k0_off177_inb : ∀ (v8 : BitVec 32) (v15 : BitVec 32) (k0_hw2 : k0_chk2 v8 v15) (k0_t1 : Fin (k0_t1_loop v8 v15).trips) (k0_t8 : Fin (k0_t8_loop v8 v15 k0_t1).trips), ∀ a, (k0_off177 v8 v15 k0_t1 k0_t8) a + S1x16.size a ≤ S128x256.size a := fun v8 v15 k0_hw2 k0_t1 k0_t8 => k0_hw2.2.2.2.2.2.1.2.2.2.2.2.2.2.2.2.2.2.2.2.2.2.2.2.2.2.2.2.2.2.2.2.2.1 k0_t1 k0_t8
theorem k0_off178_inb : ∀ (v8 : BitVec 32) (v15 : BitVec 32) (k0_hw2 : k0_chk2 v8 v15) (k0_t1 : Fin (k0_t1_loop v8 v15).trips) (k0_t8 : Fin (k0_t8_loop v8 v15 k0_t1).trips), ∀ a, (k0_off178 v8 v15 k0_t1 k0_t8) a + S1x16.size a ≤ S128x256.size a := fun v8 v15 k0_hw2 k0_t1 k0_t8 => k0_hw2.2.2.2.2.2.1.2.2.2.2.2.2.2.2.2.2.2.2.2.2.2.2.2.2.2.2.2.2.2.2.2.2.2.1 k0_t1 k0_t8
theorem k0_off179_inb : ∀ (v8 : BitVec 32) (v15 : BitVec 32) (k0_hw2 : k0_chk2 v8 v15) (k0_t1 : Fin (k0_t1_loop v8 v15).trips) (k0_t8 : Fin (k0_t8_loop v8 v15 k0_t1).trips), ∀ a, (k0_off179 v8 v15 k0_t1 k0_t8) a + S1x16.size a ≤ S128x256.size a := fun v8 v15 k0_hw2 k0_t1 k0_t8 => k0_hw2.2.2.2.2.2.1.2.2.2.2.2.2.2.2.2.2.2.2.2.2.2.2.2.2.2.2.2.2.2.2.2.2.2.2.1 k0_t1 k0_t8
theorem k0_off180_inb : ∀ (v8 : BitVec 32) (v15 : BitVec 32) (k0_hw2 : k0_chk2 v8 v15) (k0_t1 : Fin (k0_t1_loop v8 v15).trips) (k0_t8 : Fin (k0_t8_loop v8 v15 k0_t1).trips), ∀ a, (k0_off180 v8 v15 k0_t1 k0_t8) a + S1x16.size a ≤ S128x256.size a := fun v8 v15 k0_hw2 k0_t1 k0_t8 => k0_hw2.2.2.2.2.2.1.2.2.2.2.2.2.2.2.2.2.2.2.2.2.2.2.2.2.2.2.2.2.2.2.2.2.2.2.2.1 k0_t1 k0_t8
theorem k0_t9_ok : ∀ (v8 : BitVec 32) (v15 : BitVec 32) (k0_hw2 : k0_chk2 v8 v15) (k0_t1 : Fin (k0_t1_loop v8 v15).trips), (k0_t9_loop v8 v15 k0_t1).OK := fun v8 v15 k0_hw2 k0_t1 => k0_hw2.2.2.2.2.2.1.2.2.2.2.2.2.2.2.2.2.2.2.2.2.2.2.2.2.2.2.2.2.2.2.2.2.2.2.2.2.1 k0_t1
theorem k0_off181_inb : ∀ (v8 : BitVec 32) (v15 : BitVec 32) (k0_hw2 : k0_chk2 v8 v15) (k0_t1 : Fin (k0_t1_loop v8 v15).trips) (k0_t9 : Fin (k0_t9_loop v8 v15 k0_t1).trips), ∀ a, (k0_off181 v8 v15 k0_t1 k0_t9) a + S1x16.size a ≤ S128x256.size a := fun v8 v15 k0_hw2 k0_t1 k0_t9 => k0_hw2.2.2.2.2.2.1.2.2.2.2.2.2.2.2.2.2.2.2.2.2.2.2.2.2.2.2.2.2.2.2.2.2.2.2.2.2.2 k0_t1 k0_t9
theorem k0_off182_inb : ∀ (v8 : BitVec 32) (v15 : BitVec 32) (k0_hw2 : k0_chk2 v8 v15) (k0_t1 : Fin (k0_t1_loop v8 v15).trips) (k0_t9 : Fin (k0_t9_loop v8 v15 k0_t1).trips), ∀ a, (k0_off182 v8 v15 k0_t1 k0_t9) a + S1x16.size a ≤ S128x256.size a := fun v8 v15 k0_hw2 k0_t1 k0_t9 => k0_hw2.2.2.2.2.2.2.1.1 k0_t1 k0_t9
theorem k0_off183_inb : ∀ (v8 : BitVec 32) (v15 : BitVec 32) (k0_hw2 : k0_chk2 v8 v15) (k0_t1 : Fin (k0_t1_loop v8 v15).trips) (k0_t9 : Fin (k0_t9_loop v8 v15 k0_t1).trips), ∀ a, (k0_off183 v8 v15 k0_t1 k0_t9) a + S1x16.size a ≤ S128x256.size a := fun v8 v15 k0_hw2 k0_t1 k0_t9 => k0_hw2.2.2.2.2.2.2.1.2.1 k0_t1 k0_t9
theorem k0_off184_inb : ∀ (v8 : BitVec 32) (v15 : BitVec 32) (k0_hw2 : k0_chk2 v8 v15) (k0_t1 : Fin (k0_t1_loop v8 v15).trips) (k0_t9 : Fin (k0_t9_loop v8 v15 k0_t1).trips), ∀ a, (k0_off184 v8 v15 k0_t1 k0_t9) a + S1x16.size a ≤ S128x256.size a := fun v8 v15 k0_hw2 k0_t1 k0_t9 => k0_hw2.2.2.2.2.2.2.1.2.2.1 k0_t1 k0_t9
theorem k0_off185_inb : ∀ (v8 : BitVec 32) (v15 : BitVec 32) (k0_hw2 : k0_chk2 v8 v15) (k0_t1 : Fin (k0_t1_loop v8 v15).trips) (k0_t9 : Fin (k0_t9_loop v8 v15 k0_t1).trips), ∀ a, (k0_off185 v8 v15 k0_t1 k0_t9) a + S1x16.size a ≤ S128x256.size a := fun v8 v15 k0_hw2 k0_t1 k0_t9 => k0_hw2.2.2.2.2.2.2.1.2.2.2.1 k0_t1 k0_t9
theorem k0_off186_inb : ∀ (v8 : BitVec 32) (v15 : BitVec 32) (k0_hw2 : k0_chk2 v8 v15) (k0_t1 : Fin (k0_t1_loop v8 v15).trips) (k0_t9 : Fin (k0_t9_loop v8 v15 k0_t1).trips), ∀ a, (k0_off186 v8 v15 k0_t1 k0_t9) a + S1x16.size a ≤ S128x256.size a := fun v8 v15 k0_hw2 k0_t1 k0_t9 => k0_hw2.2.2.2.2.2.2.1.2.2.2.2.1 k0_t1 k0_t9
theorem k0_off187_inb : ∀ (v8 : BitVec 32) (v15 : BitVec 32) (k0_hw2 : k0_chk2 v8 v15) (k0_t1 : Fin (k0_t1_loop v8 v15).trips) (k0_t9 : Fin (k0_t9_loop v8 v15 k0_t1).trips), ∀ a, (k0_off187 v8 v15 k0_t1 k0_t9) a + S1x16.size a ≤ S128x256.size a := fun v8 v15 k0_hw2 k0_t1 k0_t9 => k0_hw2.2.2.2.2.2.2.1.2.2.2.2.2.1 k0_t1 k0_t9
theorem k0_off188_inb : ∀ (v8 : BitVec 32) (v15 : BitVec 32) (k0_hw2 : k0_chk2 v8 v15) (k0_t1 : Fin (k0_t1_loop v8 v15).trips) (k0_t9 : Fin (k0_t9_loop v8 v15 k0_t1).trips), ∀ a, (k0_off188 v8 v15 k0_t1 k0_t9) a + S1x16.size a ≤ S128x256.size a := fun v8 v15 k0_hw2 k0_t1 k0_t9 => k0_hw2.2.2.2.2.2.2.1.2.2.2.2.2.2.1 k0_t1 k0_t9
theorem k0_off189_inb : ∀ (v8 : BitVec 32) (v15 : BitVec 32) (k0_hw2 : k0_chk2 v8 v15) (k0_t1 : Fin (k0_t1_loop v8 v15).trips) (k0_t9 : Fin (k0_t9_loop v8 v15 k0_t1).trips), ∀ a, (k0_off189 v8 v15 k0_t1 k0_t9) a + S1x16.size a ≤ S128x256.size a := fun v8 v15 k0_hw2 k0_t1 k0_t9 => k0_hw2.2.2.2.2.2.2.1.2.2.2.2.2.2.2.1 k0_t1 k0_t9
theorem k0_off190_inb : ∀ (v8 : BitVec 32) (v15 : BitVec 32) (k0_hw2 : k0_chk2 v8 v15) (k0_t1 : Fin (k0_t1_loop v8 v15).trips) (k0_t9 : Fin (k0_t9_loop v8 v15 k0_t1).trips), ∀ a, (k0_off190 v8 v15 k0_t1 k0_t9) a + S1x16.size a ≤ S128x256.size a := fun v8 v15 k0_hw2 k0_t1 k0_t9 => k0_hw2.2.2.2.2.2.2.1.2.2.2.2.2.2.2.2.1 k0_t1 k0_t9
theorem k0_off191_inb : ∀ (v8 : BitVec 32) (v15 : BitVec 32) (k0_hw2 : k0_chk2 v8 v15) (k0_t1 : Fin (k0_t1_loop v8 v15).trips) (k0_t9 : Fin (k0_t9_loop v8 v15 k0_t1).trips), ∀ a, (k0_off191 v8 v15 k0_t1 k0_t9) a + S1x16.size a ≤ S128x256.size a := fun v8 v15 k0_hw2 k0_t1 k0_t9 => k0_hw2.2.2.2.2.2.2.1.2.2.2.2.2.2.2.2.2.1 k0_t1 k0_t9
theorem k0_off192_inb : ∀ (v8 : BitVec 32) (v15 : BitVec 32) (k0_hw2 : k0_chk2 v8 v15) (k0_t1 : Fin (k0_t1_loop v8 v15).trips) (k0_t9 : Fin (k0_t9_loop v8 v15 k0_t1).trips), ∀ a, (k0_off192 v8 v15 k0_t1 k0_t9) a + S1x16.size a ≤ S128x256.size a := fun v8 v15 k0_hw2 k0_t1 k0_t9 => k0_hw2.2.2.2.2.2.2.1.2.2.2.2.2.2.2.2.2.2.1 k0_t1 k0_t9
theorem k0_off193_inb : ∀ (v8 : BitVec 32) (v15 : BitVec 32) (k0_hw2 : k0_chk2 v8 v15) (k0_t1 : Fin (k0_t1_loop v8 v15).trips) (k0_t9 : Fin (k0_t9_loop v8 v15 k0_t1).trips), ∀ a, (k0_off193 v8 v15 k0_t1 k0_t9) a + S1x16.size a ≤ S128x256.size a := fun v8 v15 k0_hw2 k0_t1 k0_t9 => k0_hw2.2.2.2.2.2.2.1.2.2.2.2.2.2.2.2.2.2.2.1 k0_t1 k0_t9
theorem k0_off194_inb : ∀ (v8 : BitVec 32) (v15 : BitVec 32) (k0_hw2 : k0_chk2 v8 v15) (k0_t1 : Fin (k0_t1_loop v8 v15).trips) (k0_t9 : Fin (k0_t9_loop v8 v15 k0_t1).trips), ∀ a, (k0_off194 v8 v15 k0_t1 k0_t9) a + S1x16.size a ≤ S128x256.size a := fun v8 v15 k0_hw2 k0_t1 k0_t9 => k0_hw2.2.2.2.2.2.2.1.2.2.2.2.2.2.2.2.2.2.2.2.1 k0_t1 k0_t9
theorem k0_off195_inb : ∀ (v8 : BitVec 32) (v15 : BitVec 32) (k0_hw2 : k0_chk2 v8 v15) (k0_t1 : Fin (k0_t1_loop v8 v15).trips) (k0_t9 : Fin (k0_t9_loop v8 v15 k0_t1).trips), ∀ a, (k0_off195 v8 v15 k0_t1 k0_t9) a + S1x16.size a ≤ S128x256.size a := fun v8 v15 k0_hw2 k0_t1 k0_t9 => k0_hw2.2.2.2.2.2.2.1.2.2.2.2.2.2.2.2.2.2.2.2.2.1 k0_t1 k0_t9
theorem k0_off196_inb : ∀ (v8 : BitVec 32) (v15 : BitVec 32) (k0_hw2 : k0_chk2 v8 v15) (k0_t1 : Fin (k0_t1_loop v8 v15).trips) (k0_t9 : Fin (k0_t9_loop v8 v15 k0_t1).trips), ∀ a, (k0_off196 v8 v15 k0_t1 k0_t9) a + S1x16.size a ≤ S128x256.size a := fun v8 v15 k0_hw2 k0_t1 k0_t9 => k0_hw2.2.2.2.2.2.2.1.2.2.2.2.2.2.2.2.2.2.2.2.2.2.1 k0_t1 k0_t9
theorem k0_t10_ok : ∀ (v8 : BitVec 32) (v15 : BitVec 32) (k0_hw2 : k0_chk2 v8 v15), (k0_t10_loop v8 v15).OK := fun v8 v15 k0_hw2 => k0_hw2.2.2.2.2.2.2.1.2.2.2.2.2.2.2.2.2.2.2.2.2.2.2.1
theorem k0_mult6_dvd : ∀ (v8 : BitVec 32) (v15 : BitVec 32) (k0_hw2 : k0_chk2 v8 v15) (k0_t10 : Fin (k0_t10_loop v8 v15).trips), 8 ∣ (k0_mult6 v8 v15 k0_t10).toNat := fun v8 v15 k0_hw2 k0_t10 => k0_hw2.2.2.2.2.2.2.1.2.2.2.2.2.2.2.2.2.2.2.2.2.2.2.2.1 k0_t10
theorem k0_off197_inb : ∀ (v8 : BitVec 32) (v15 : BitVec 32) (k0_hw2 : k0_chk2 v8 v15) (k0_t10 : Fin (k0_t10_loop v8 v15).trips), ∀ a, (k0_off197 v8 v15 k0_t10) a + S128x256.size a ≤ S50000x256.size a := fun v8 v15 k0_hw2 k0_t10 => k0_hw2.2.2.2.2.2.2.1.2.2.2.2.2.2.2.2.2.2.2.2.2.2.2.2.2.1 k0_t10
theorem k0_mult7_dvd : ∀ (v8 : BitVec 32) (v15 : BitVec 32) (k0_hw2 : k0_chk2 v8 v15) (k0_t10 : Fin (k0_t10_loop v8 v15).trips), 8 ∣ (k0_mult7 v8 v15 k0_t10).toNat := fun v8 v15 k0_hw2 k0_t10 => k0_hw2.2.2.2.2.2.2.1.2.2.2.2.2.2.2.2.2.2.2.2.2.2.2.2.2.2.1 k0_t10
theorem k0_t11_ok : ∀ (v8 : BitVec 32) (v15 : BitVec 32) (k0_hw2 : k0_chk2 v8 v15) (k0_t10 : Fin (k0_t10_loop v8 v15).trips), (k0_t11_loop v8 v15 k0_t10).OK := fun v8 v15 k0_hw2 k0_t10 => k0_hw2.2.2.2.2.2.2.1.2.2.2.2.2.2.2.2.2.2.2.2.2.2.2.2.2.2.2.1 k0_t10
theorem k0_off198_inb : ∀ (v8 : BitVec 32) (v15 : BitVec 32) (k0_hw2 : k0_chk2 v8 v15) (k0_t10 : Fin (k0_t10_loop v8 v15).trips) (k0_t11 : Fin (k0_t11_loop v8 v15 k0_t10).trips), ∀ a, (k0_off198 v8 v15 k0_t10 k0_t11) a + S1x16.size a ≤ S128x256.size a := fun v8 v15 k0_hw2 k0_t10 k0_t11 => k0_hw2.2.2.2.2.2.2.1.2.2.2.2.2.2.2.2.2.2.2.2.2.2.2.2.2.2.2.2.1 k0_t10 k0_t11
theorem k0_off199_inb : ∀ (v8 : BitVec 32) (v15 : BitVec 32) (k0_hw2 : k0_chk2 v8 v15) (k0_t10 : Fin (k0_t10_loop v8 v15).trips) (k0_t11 : Fin (k0_t11_loop v8 v15 k0_t10).trips), ∀ a, (k0_off199 v8 v15 k0_t10 k0_t11) a + S1x16.size a ≤ S128x256.size a := fun v8 v15 k0_hw2 k0_t10 k0_t11 => k0_hw2.2.2.2.2.2.2.1.2.2.2.2.2.2.2.2.2.2.2.2.2.2.2.2.2.2.2.2.2.1 k0_t10 k0_t11
theorem k0_off200_inb : ∀ (v8 : BitVec 32) (v15 : BitVec 32) (k0_hw2 : k0_chk2 v8 v15) (k0_t10 : Fin (k0_t10_loop v8 v15).trips) (k0_t11 : Fin (k0_t11_loop v8 v15 k0_t10).trips), ∀ a, (k0_off200 v8 v15 k0_t10 k0_t11) a + S1x16.size a ≤ S128x256.size a := fun v8 v15 k0_hw2 k0_t10 k0_t11 => k0_hw2.2.2.2.2.2.2.1.2.2.2.2.2.2.2.2.2.2.2.2.2.2.2.2.2.2.2.2.2.2.1 k0_t10 k0_t11
theorem k0_off201_inb : ∀ (v8 : BitVec 32) (v15 : BitVec 32) (k0_hw2 : k0_chk2 v8 v15) (k0_t10 : Fin (k0_t10_loop v8 v15).trips) (k0_t11 : Fin (k0_t11_loop v8 v15 k0_t10).trips), ∀ a, (k0_off201 v8 v15 k0_t10 k0_t11) a + S1x16.size a ≤ S128x256.size a := fun v8 v15 k0_hw2 k0_t10 k0_t11 => k0_hw2.2.2.2.2.2.2.1.2.2.2.2.2.2.2.2.2.2.2.2.2.2.2.2.2.2.2.2.2.2.2.1 k0_t10 k0_t11
theorem k0_off202_inb : ∀ (v8 : BitVec 32) (v15 : BitVec 32) (k0_hw2 : k0_chk2 v8 v15) (k0_t10 : Fin (k0_t10_loop v8 v15).trips) (k0_t11 : Fin (k0_t11_loop v8 v15 k0_t10).trips), ∀ a, (k0_off202 v8 v15 k0_t10 k0_t11) a + S1x16.size a ≤ S128x256.size a := fun v8 v15 k0_hw2 k0_t10 k0_t11 => k0_hw2.2.2.2.2.2.2.1.2.2.2.2.2.2.2.2.2.2.2.2.2.2.2.2.2.2.2.2.2.2.2.2.1 k0_t10 k0_t11
theorem k0_off203_inb : ∀ (v8 : BitVec 32) (v15 : BitVec 32) (k0_hw2 : k0_chk2 v8 v15) (k0_t10 : Fin (k0_t10_loop v8 v15).trips) (k0_t11 : Fin (k0_t11_loop v8 v15 k0_t10).trips), ∀ a, (k0_off203 v8 v15 k0_t10 k0_t11) a + S1x16.size a ≤ S128x256.size a := fun v8 v15 k0_hw2 k0_t10 k0_t11 => k0_hw2.2.2.2.2.2.2.1.2.2.2.2.2.2.2.2.2.2.2.2.2.2.2.2.2.2.2.2.2.2.2.2.2.1 k0_t10 k0_t11
theorem k0_off204_inb : ∀ (v8 : BitVec 32) (v15 : BitVec 32) (k0_hw2 : k0_chk2 v8 v15) (k0_t10 : Fin (k0_t10_loop v8 v15).trips) (k0_t11 : Fin (k0_t11_loop v8 v15 k0_t10).trips), ∀ a, (k0_off204 v8 v15 k0_t10 k0_t11) a + S1x16.size a ≤ S128x256.size a := fun v8 v15 k0_hw2 k0_t10 k0_t11 => k0_hw2.2.2.2.2.2.2.1.2.2.2.2.2.2.2.2.2.2.2.2.2.2.2.2.2.2.2.2.2.2.2.2.2.2.1 k0_t10 k0_t11
theorem k0_off205_inb : ∀ (v8 : BitVec 32) (v15 : BitVec 32) (k0_hw2 : k0_chk2 v8 v15) (k0_t10 : Fin (k0_t10_loop v8 v15).trips) (k0_t11 : Fin (k0_t11_loop v8 v15 k0_t10).trips), ∀ a, (k0_off205 v8 v15 k0_t10 k0_t11) a + S1x16.size a ≤ S128x256.size a := fun v8 v15 k0_hw2 k0_t10 k0_t11 => k0_hw2.2.2.2.2.2.2.1.2.2.2.2.2.2.2.2.2.2.2.2.2.2.2.2.2.2.2.2.2.2.2.2.2.2.2.1 k0_t10 k0_t11
theorem k0_off206_inb : ∀ (v8 : BitVec 32) (v15 : BitVec 32) (k0_hw2 : k0_chk2 v8 v15) (k0_t10 : Fin (k0_t10_loop v8 v15).trips) (k0_t11 : Fin (k0_t11_loop v8 v15 k0_t10).trips), ∀ a, (k0_off206 v8 v15 k0_t10 k0_t11) a + S1x16.size a ≤ S128x256.size a := fun v8 v15 k0_hw2 k0_t10 k0_t11 => k0_hw2.2.2.2.2.2.2.1.2.2.2.2.2.2.2.2.2.2.2.2.2.2.2.2.2.2.2.2.2.2.2.2.2.2.2.2.1 k0_t10 k0_t11
theorem k0_off207_inb : ∀ (v8 : BitVec 32) (v15 : BitVec 32) (k0_hw2 : k0_chk2 v8 v15) (k0_t10 : Fin (k0_t10_loop v8 v15).trips) (k0_t11 : Fin (k0_t11_loop v8 v15 k0_t10).trips), ∀ a, (k0_off207 v8 v15 k0_t10 k0_t11) a + S1x16.size a ≤ S128x256.size a := fun v8 v15 k0_hw2 k0_t10 k0_t11 => k0_hw2.2.2.2.2.2.2.1.2.2.2.2.2.2.2.2.2.2.2.2.2.2.2.2.2.2.2.2.2.2.2.2.2.2.2.2.2.1 k0_t10 k0_t11
theorem k0_off208_inb : ∀ (v8 : BitVec 32) (v15 : BitVec 32) (k0_hw2 : k0_chk2 v8 v15) (k0_t10 : Fin (k0_t10_loop v8 v15).trips) (k0_t11 : Fin (k0_t11_loop v8 v15 k0_t10).trips), ∀ a, (k0_off208 v8 v15 k0_t10 k0_t11) a + S1x16.size a ≤ S128x256.size a := fun v8 v15 k0_hw2 k0_t10 k0_t11 => k0_hw2.2.2.2.2.2.2.1.2.2.2.2.2.2.2.2.2.2.2.2.2.2.2.2.2.2.2.2.2.2.2.2.2.2.2.2.2.2.1 k0_t10 k0_t11
theorem k0_off209_inb : ∀ (v8 : BitVec 32) (v15 : BitVec 32) (k0_hw2 : k0_chk2 v8 v15) (k0_t10 : Fin (k0_t10_loop v8 v15).trips) (k0_t11 : Fin (k0_t11_loop v8 v15 k0_t10).trips), ∀ a, (k0_off209 v8 v15 k0_t10 k0_t11) a + S1x16.size a ≤ S128x256.size a := fun v8 v15 k0_hw2 k0_t10 k0_t11 => k0_hw2.2.2.2.2.2.2.1.2.2.2.2.2.2.2.2.2.2.2.2.2.2.2.2.2.2.2.2.2.2.2.2.2.2.2.2.2.2.2 k0_t10 k0_t11
theorem k0_off210_inb : ∀ (v8 : BitVec 32) (v15 : BitVec 32) (k0_hw2 : k0_chk2 v8 v15) (k0_t10 : Fin (k0_t10_loop v8 v15).trips) (k0_t11 : Fin (k0_t11_loop v8 v15 k0_t10).trips), ∀ a, (k0_off210 v8 v15 k0_t10 k0_t11) a + S1x16.size a ≤ S128x256.size a := fun v8 v15 k0_hw2 k0_t10 k0_t11 => k0_hw2.2.2.2.2.2.2.2.1.1 k0_t10 k0_t11
theorem k0_off211_inb : ∀ (v8 : BitVec 32) (v15 : BitVec 32) (k0_hw2 : k0_chk2 v8 v15) (k0_t10 : Fin (k0_t10_loop v8 v15).trips) (k0_t11 : Fin (k0_t11_loop v8 v15 k0_t10).trips), ∀ a, (k0_off211 v8 v15 k0_t10 k0_t11) a + S1x16.size a ≤ S128x256.size a := fun v8 v15 k0_hw2 k0_t10 k0_t11 => k0_hw2.2.2.2.2.2.2.2.1.2.1 k0_t10 k0_t11
theorem k0_off212_inb : ∀ (v8 : BitVec 32) (v15 : BitVec 32) (k0_hw2 : k0_chk2 v8 v15) (k0_t10 : Fin (k0_t10_loop v8 v15).trips) (k0_t11 : Fin (k0_t11_loop v8 v15 k0_t10).trips), ∀ a, (k0_off212 v8 v15 k0_t10 k0_t11) a + S1x16.size a ≤ S128x256.size a := fun v8 v15 k0_hw2 k0_t10 k0_t11 => k0_hw2.2.2.2.2.2.2.2.1.2.2.1 k0_t10 k0_t11
theorem k0_off213_inb : ∀ (v8 : BitVec 32) (v15 : BitVec 32) (k0_hw2 : k0_chk2 v8 v15) (k0_t10 : Fin (k0_t10_loop v8 v15).trips) (k0_t11 : Fin (k0_t11_loop v8 v15 k0_t10).trips), ∀ a, (k0_off213 v8 v15 k0_t10 k0_t11) a + S1x16.size a ≤ S128x256.size a := fun v8 v15 k0_hw2 k0_t10 k0_t11 => k0_hw2.2.2.2.2.2.2.2.1.2.2.2.1 k0_t10 k0_t11
theorem k0_off214_inb : ∀ (v8 : BitVec 32) (v15 : BitVec 32) (k0_hw2 : k0_chk2 v8 v15) (k0_t10 : Fin (k0_t10_loop v8 v15).trips) (k0_t11 : Fin (k0_t11_loop v8 v15 k0_t10).trips), ∀ (r : Fin 3), ∀ a, (k0_off214 v8 v15 k0_t10 k0_t11 (BitVec.ofNat 32 (1 + r.val))) a + S1x16.size a ≤ S128x256.size a := fun v8 v15 k0_hw2 k0_t10 k0_t11 r => k0_hw2.2.2.2.2.2.2.2.1.2.2.2.2.1 k0_t10 k0_t11 r
theorem k0_off215_inb : ∀ (v8 : BitVec 32) (v15 : BitVec 32) (k0_hw2 : k0_chk2 v8 v15) (k0_t10 : Fin (k0_t10_loop v8 v15).trips) (k0_t11 : Fin (k0_t11_loop v8 v15 k0_t10).trips), ∀ (r : Fin 3), ∀ a, (k0_off215 v8 v15 k0_t10 k0_t11 (BitVec.ofNat 32 (1 + r.val))) a + S1x16.size a ≤ S128x256.size a := fun v8 v15 k0_hw2 k0_t10 k0_t11 r => k0_hw2.2.2.2.2.2.2.2.1.2.2.2.2.2.1 k0_t10 k0_t11 r
theorem k0_off216_inb : ∀ (v8 : BitVec 32) (v15 : BitVec 32) (k0_hw2 : k0_chk2 v8 v15) (k0_t10 : Fin (k0_t10_loop v8 v15).trips) (k0_t11 : Fin (k0_t11_loop v8 v15 k0_t10).trips), ∀ (r : Fin 3), ∀ a, (k0_off216 v8 v15 k0_t10 k0_t11 (BitVec.ofNat 32 (1 + r.val))) a + S1x16.size a ≤ S128x256.size a := fun v8 v15 k0_hw2 k0_t10 k0_t11 r => k0_hw2.2.2.2.2.2.2.2.1.2.2.2.2.2.2.1 k0_t10 k0_t11 r
theorem k0_off217_inb : ∀ (v8 : BitVec 32) (v15 : BitVec 32) (k0_hw2 : k0_chk2 v8 v15) (k0_t10 : Fin (k0_t10_loop v8 v15).trips) (k0_t11 : Fin (k0_t11_loop v8 v15 k0_t10).trips), ∀ (r : Fin 3), ∀ a, (k0_off217 v8 v15 k0_t10 k0_t11 (BitVec.ofNat 32 (1 + r.val))) a + S1x16.size a ≤ S128x256.size a := fun v8 v15 k0_hw2 k0_t10 k0_t11 r => k0_hw2.2.2.2.2.2.2.2.1.2.2.2.2.2.2.2.1 k0_t10 k0_t11 r
theorem k0_off218_inb : ∀ (v8 : BitVec 32) (v15 : BitVec 32) (k0_hw2 : k0_chk2 v8 v15) (k0_t10 : Fin (k0_t10_loop v8 v15).trips) (k0_t11 : Fin (k0_t11_loop v8 v15 k0_t10).trips), ∀ (r : Fin 3), ∀ a, (k0_off218 v8 v15 k0_t10 k0_t11 (BitVec.ofNat 32 (1 + r.val))) a + S1x16.size a ≤ S128x256.size a := fun v8 v15 k0_hw2 k0_t10 k0_t11 r => k0_hw2.2.2.2.2.2.2.2.1.2.2.2.2.2.2.2.2.1 k0_t10 k0_t11 r
theorem k0_off219_inb : ∀ (v8 : BitVec 32) (v15 : BitVec 32) (k0_hw2 : k0_chk2 v8 v15) (k0_t10 : Fin (k0_t10_loop v8 v15).trips) (k0_t11 : Fin (k0_t11_loop v8 v15 k0_t10).trips), ∀ (r : Fin 3), ∀ a, (k0_off219 v8 v15 k0_t10 k0_t11 (BitVec.ofNat 32 (1 + r.val))) a + S1x16.size a ≤ S128x256.size a := fun v8 v15 k0_hw2 k0_t10 k0_t11 r => k0_hw2.2.2.2.2.2.2.2.1.2.2.2.2.2.2.2.2.2.1 k0_t10 k0_t11 r
theorem k0_off220_inb : ∀ (v8 : BitVec 32) (v15 : BitVec 32) (k0_hw2 : k0_chk2 v8 v15) (k0_t10 : Fin (k0_t10_loop v8 v15).trips) (k0_t11 : Fin (k0_t11_loop v8 v15 k0_t10).trips), ∀ (r : Fin 3), ∀ a, (k0_off220 v8 v15 k0_t10 k0_t11 (BitVec.ofNat 32 (1 + r.val))) a + S1x16.size a ≤ S128x256.size a := fun v8 v15 k0_hw2 k0_t10 k0_t11 r => k0_hw2.2.2.2.2.2.2.2.1.2.2.2.2.2.2.2.2.2.2.1 k0_t10 k0_t11 r
theorem k0_off221_inb : ∀ (v8 : BitVec 32) (v15 : BitVec 32) (k0_hw2 : k0_chk2 v8 v15) (k0_t10 : Fin (k0_t10_loop v8 v15).trips) (k0_t11 : Fin (k0_t11_loop v8 v15 k0_t10).trips), ∀ (r : Fin 3), ∀ a, (k0_off221 v8 v15 k0_t10 k0_t11 (BitVec.ofNat 32 (1 + r.val))) a + S1x16.size a ≤ S128x256.size a := fun v8 v15 k0_hw2 k0_t10 k0_t11 r => k0_hw2.2.2.2.2.2.2.2.1.2.2.2.2.2.2.2.2.2.2.2.1 k0_t10 k0_t11 r
theorem k0_off222_inb : ∀ (v8 : BitVec 32) (v15 : BitVec 32) (k0_hw2 : k0_chk2 v8 v15) (k0_t10 : Fin (k0_t10_loop v8 v15).trips) (k0_t11 : Fin (k0_t11_loop v8 v15 k0_t10).trips), ∀ (r : Fin 3), ∀ a, (k0_off222 v8 v15 k0_t10 k0_t11 (BitVec.ofNat 32 (1 + r.val))) a + S1x16.size a ≤ S128x256.size a := fun v8 v15 k0_hw2 k0_t10 k0_t11 r => k0_hw2.2.2.2.2.2.2.2.1.2.2.2.2.2.2.2.2.2.2.2.2.1 k0_t10 k0_t11 r
theorem k0_off223_inb : ∀ (v8 : BitVec 32) (v15 : BitVec 32) (k0_hw2 : k0_chk2 v8 v15) (k0_t10 : Fin (k0_t10_loop v8 v15).trips) (k0_t11 : Fin (k0_t11_loop v8 v15 k0_t10).trips), ∀ (r : Fin 3), ∀ a, (k0_off223 v8 v15 k0_t10 k0_t11 (BitVec.ofNat 32 (1 + r.val))) a + S1x16.size a ≤ S128x256.size a := fun v8 v15 k0_hw2 k0_t10 k0_t11 r => k0_hw2.2.2.2.2.2.2.2.1.2.2.2.2.2.2.2.2.2.2.2.2.2.1 k0_t10 k0_t11 r
theorem k0_off224_inb : ∀ (v8 : BitVec 32) (v15 : BitVec 32) (k0_hw2 : k0_chk2 v8 v15) (k0_t10 : Fin (k0_t10_loop v8 v15).trips) (k0_t11 : Fin (k0_t11_loop v8 v15 k0_t10).trips), ∀ (r : Fin 3), ∀ a, (k0_off224 v8 v15 k0_t10 k0_t11 (BitVec.ofNat 32 (1 + r.val))) a + S1x16.size a ≤ S128x256.size a := fun v8 v15 k0_hw2 k0_t10 k0_t11 r => k0_hw2.2.2.2.2.2.2.2.1.2.2.2.2.2.2.2.2.2.2.2.2.2.2.1 k0_t10 k0_t11 r
theorem k0_off225_inb : ∀ (v8 : BitVec 32) (v15 : BitVec 32) (k0_hw2 : k0_chk2 v8 v15) (k0_t10 : Fin (k0_t10_loop v8 v15).trips) (k0_t11 : Fin (k0_t11_loop v8 v15 k0_t10).trips), ∀ (r : Fin 3), ∀ a, (k0_off225 v8 v15 k0_t10 k0_t11 (BitVec.ofNat 32 (1 + r.val))) a + S1x16.size a ≤ S128x256.size a := fun v8 v15 k0_hw2 k0_t10 k0_t11 r => k0_hw2.2.2.2.2.2.2.2.1.2.2.2.2.2.2.2.2.2.2.2.2.2.2.2.1 k0_t10 k0_t11 r
theorem k0_off226_inb : ∀ (v8 : BitVec 32) (v15 : BitVec 32) (k0_hw2 : k0_chk2 v8 v15) (k0_t10 : Fin (k0_t10_loop v8 v15).trips) (k0_t11 : Fin (k0_t11_loop v8 v15 k0_t10).trips), ∀ (r : Fin 3), ∀ a, (k0_off226 v8 v15 k0_t10 k0_t11 (BitVec.ofNat 32 (1 + r.val))) a + S1x16.size a ≤ S128x256.size a := fun v8 v15 k0_hw2 k0_t10 k0_t11 r => k0_hw2.2.2.2.2.2.2.2.1.2.2.2.2.2.2.2.2.2.2.2.2.2.2.2.2.1 k0_t10 k0_t11 r
theorem k0_off227_inb : ∀ (v8 : BitVec 32) (v15 : BitVec 32) (k0_hw2 : k0_chk2 v8 v15) (k0_t10 : Fin (k0_t10_loop v8 v15).trips) (k0_t11 : Fin (k0_t11_loop v8 v15 k0_t10).trips), ∀ (r : Fin 3), ∀ a, (k0_off227 v8 v15 k0_t10 k0_t11 (BitVec.ofNat 32 (1 + r.val))) a + S1x16.size a ≤ S128x256.size a := fun v8 v15 k0_hw2 k0_t10 k0_t11 r => k0_hw2.2.2.2.2.2.2.2.1.2.2.2.2.2.2.2.2.2.2.2.2.2.2.2.2.2.1 k0_t10 k0_t11 r
theorem k0_off228_inb : ∀ (v8 : BitVec 32) (v15 : BitVec 32) (k0_hw2 : k0_chk2 v8 v15) (k0_t10 : Fin (k0_t10_loop v8 v15).trips) (k0_t11 : Fin (k0_t11_loop v8 v15 k0_t10).trips), ∀ (r : Fin 3), ∀ a, (k0_off228 v8 v15 k0_t10 k0_t11 (BitVec.ofNat 32 (1 + r.val))) a + S1x16.size a ≤ S128x256.size a := fun v8 v15 k0_hw2 k0_t10 k0_t11 r => k0_hw2.2.2.2.2.2.2.2.1.2.2.2.2.2.2.2.2.2.2.2.2.2.2.2.2.2.2.1 k0_t10 k0_t11 r
theorem k0_off229_inb : ∀ (v8 : BitVec 32) (v15 : BitVec 32) (k0_hw2 : k0_chk2 v8 v15) (k0_t10 : Fin (k0_t10_loop v8 v15).trips) (k0_t11 : Fin (k0_t11_loop v8 v15 k0_t10).trips), ∀ (r : Fin 3), ∀ a, (k0_off229 v8 v15 k0_t10 k0_t11 (BitVec.ofNat 32 (1 + r.val))) a + S1x16.size a ≤ S128x256.size a := fun v8 v15 k0_hw2 k0_t10 k0_t11 r => k0_hw2.2.2.2.2.2.2.2.1.2.2.2.2.2.2.2.2.2.2.2.2.2.2.2.2.2.2.2.1 k0_t10 k0_t11 r
theorem k0_t12_ok : ∀ (v8 : BitVec 32) (v15 : BitVec 32) (k0_hw2 : k0_chk2 v8 v15) (k0_t10 : Fin (k0_t10_loop v8 v15).trips), (k0_t12_loop v8 v15 k0_t10).OK := fun v8 v15 k0_hw2 k0_t10 => k0_hw2.2.2.2.2.2.2.2.1.2.2.2.2.2.2.2.2.2.2.2.2.2.2.2.2.2.2.2.2.1 k0_t10
theorem k0_off230_inb : ∀ (v8 : BitVec 32) (v15 : BitVec 32) (k0_hw2 : k0_chk2 v8 v15) (k0_t10 : Fin (k0_t10_loop v8 v15).trips) (k0_t12 : Fin (k0_t12_loop v8 v15 k0_t10).trips), ∀ a, (k0_off230 v8 v15 k0_t10 k0_t12) a + S1x16.size a ≤ S128x256.size a := fun v8 v15 k0_hw2 k0_t10 k0_t12 => k0_hw2.2.2.2.2.2.2.2.1.2.2.2.2.2.2.2.2.2.2.2.2.2.2.2.2.2.2.2.2.2.1 k0_t10 k0_t12
theorem k0_off231_inb : ∀ (v8 : BitVec 32) (v15 : BitVec 32) (k0_hw2 : k0_chk2 v8 v15) (k0_t10 : Fin (k0_t10_loop v8 v15).trips) (k0_t12 : Fin (k0_t12_loop v8 v15 k0_t10).trips), ∀ a, (k0_off231 v8 v15 k0_t10 k0_t12) a + S1x16.size a ≤ S128x256.size a := fun v8 v15 k0_hw2 k0_t10 k0_t12 => k0_hw2.2.2.2.2.2.2.2.1.2.2.2.2.2.2.2.2.2.2.2.2.2.2.2.2.2.2.2.2.2.2.1 k0_t10 k0_t12
theorem k0_off232_inb : ∀ (v8 : BitVec 32) (v15 : BitVec 32) (k0_hw2 : k0_chk2 v8 v15) (k0_t10 : Fin (k0_t10_loop v8 v15).trips) (k0_t12 : Fin (k0_t12_loop v8 v15 k0_t10).trips), ∀ a, (k0_off232 v8 v15 k0_t10 k0_t12) a + S1x16.size a ≤ S128x256.size a := fun v8 v15 k0_hw2 k0_t10 k0_t12 => k0_hw2.2.2.2.2.2.2.2.1.2.2.2.2.2.2.2.2.2.2.2.2.2.2.2.2.2.2.2.2.2.2.2.1 k0_t10 k0_t12
theorem k0_off233_inb : ∀ (v8 : BitVec 32) (v15 : BitVec 32) (k0_hw2 : k0_chk2 v8 v15) (k0_t10 : Fin (k0_t10_loop v8 v15).trips) (k0_t12 : Fin (k0_t12_loop v8 v15 k0_t10).trips), ∀ a, (k0_off233 v8 v15 k0_t10 k0_t12) a + S1x16.size a ≤ S128x256.size a := fun v8 v15 k0_hw2 k0_t10 k0_t12 => k0_hw2.2.2.2.2.2.2.2.1.2.2.2.2.2.2.2.2.2.2.2.2.2.2.2.2.2.2.2.2.2.2.2.2.1 k0_t10 k0_t12
theorem k0_off234_inb : ∀ (v8 : BitVec 32) (v15 : BitVec 32) (k0_hw2 : k0_chk2 v8 v15) (k0_t10 : Fin (k0_t10_loop v8 v15).trips) (k0_t12 : Fin (k0_t12_loop v8 v15 k0_t10).trips), ∀ a, (k0_off234 v8 v15 k0_t10 k0_t12) a + S1x16.size a ≤ S128x256.size a := fun v8 v15 k0_hw2 k0_t10 k0_t12 => k0_hw2.2.2.2.2.2.2.2.1.2.2.2.2.2.2.2.2.2.2.2.2.2.2.2.2.2.2.2.2.2.2.2.2.2.1 k0_t10 k0_t12
theorem k0_off235_inb : ∀ (v8 : BitVec 32) (v15 : BitVec 32) (k0_hw2 : k0_chk2 v8 v15) (k0_t10 : Fin (k0_t10_loop v8 v15).trips) (k0_t12 : Fin (k0_t12_loop v8 v15 k0_t10).trips), ∀ a, (k0_off235 v8 v15 k0_t10 k0_t12) a + S1x16.size a ≤ S128x256.size a := fun v8 v15 k0_hw2 k0_t10 k0_t12 => k0_hw2.2.2.2.2.2.2.2.1.2.2.2.2.2.2.2.2.2.2.2.2.2.2.2.2.2.2.2.2.2.2.2.2.2.2.1 k0_t10 k0_t12
theorem k0_off236_inb : ∀ (v8 : BitVec 32) (v15 : BitVec 32) (k0_hw2 : k0_chk2 v8 v15) (k0_t10 : Fin (k0_t10_loop v8 v15).trips) (k0_t12 : Fin (k0_t12_loop v8 v15 k0_t10).trips), ∀ a, (k0_off236 v8 v15 k0_t10 k0_t12) a + S1x16.size a ≤ S128x256.size a := fun v8 v15 k0_hw2 k0_t10 k0_t12 => k0_hw2.2.2.2.2.2.2.2.1.2.2.2.2.2.2.2.2.2.2.2.2.2.2.2.2.2.2.2.2.2.2.2.2.2.2.2.1 k0_t10 k0_t12
theorem k0_off237_inb : ∀ (v8 : BitVec 32) (v15 : BitVec 32) (k0_hw2 : k0_chk2 v8 v15) (k0_t10 : Fin (k0_t10_loop v8 v15).trips) (k0_t12 : Fin (k0_t12_loop v8 v15 k0_t10).trips), ∀ a, (k0_off237 v8 v15 k0_t10 k0_t12) a + S1x16.size a ≤ S128x256.size a := fun v8 v15 k0_hw2 k0_t10 k0_t12 => k0_hw2.2.2.2.2.2.2.2.1.2.2.2.2.2.2.2.2.2.2.2.2.2.2.2.2.2.2.2.2.2.2.2.2.2.2.2.2.1 k0_t10 k0_t12
theorem k0_off238_inb : ∀ (v8 : BitVec 32) (v15 : BitVec 32) (k0_hw2 : k0_chk2 v8 v15) (k0_t10 : Fin (k0_t10_loop v8 v15).trips) (k0_t12 : Fin (k0_t12_loop v8 v15 k0_t10).trips), ∀ a, (k0_off238 v8 v15 k0_t10 k0_t12) a + S1x16.size a ≤ S128x256.size a := fun v8 v15 k0_hw2 k0_t10 k0_t12 => k0_hw2.2.2.2.2.2.2.2.1.2.2.2.2.2.2.2.2.2.2.2.2.2.2.2.2.2.2.2.2.2.2.2.2.2.2.2.2.2.1 k0_t10 k0_t12
theorem k0_off239_inb : ∀ (v8 : BitVec 32) (v15 : BitVec 32) (k0_hw2 : k0_chk2 v8 v15) (k0_t10 : Fin (k0_t10_loop v8 v15).trips) (k0_t12 : Fin (k0_t12_loop v8 v15 k0_t10).trips), ∀ a, (k0_off239 v8 v15 k0_t10 k0_t12) a + S1x16.size a ≤ S128x256.size a := fun v8 v15 k0_hw2 k0_t10 k0_t12 => k0_hw2.2.2.2.2.2.2.2.1.2.2.2.2.2.2.2.2.2.2.2.2.2.2.2.2.2.2.2.2.2.2.2.2.2.2.2.2.2.2.1 k0_t10 k0_t12
theorem k0_off240_inb : ∀ (v8 : BitVec 32) (v15 : BitVec 32) (k0_hw2 : k0_chk2 v8 v15) (k0_t10 : Fin (k0_t10_loop v8 v15).trips) (k0_t12 : Fin (k0_t12_loop v8 v15 k0_t10).trips), ∀ a, (k0_off240 v8 v15 k0_t10 k0_t12) a + S1x16.size a ≤ S128x256.size a := fun v8 v15 k0_hw2 k0_t10 k0_t12 => k0_hw2.2.2.2.2.2.2.2.1.2.2.2.2.2.2.2.2.2.2.2.2.2.2.2.2.2.2.2.2.2.2.2.2.2.2.2.2.2.2.2 k0_t10 k0_t12
theorem k0_off241_inb : ∀ (v8 : BitVec 32) (v15 : BitVec 32) (k0_hw2 : k0_chk2 v8 v15) (k0_t10 : Fin (k0_t10_loop v8 v15).trips) (k0_t12 : Fin (k0_t12_loop v8 v15 k0_t10).trips), ∀ a, (k0_off241 v8 v15 k0_t10 k0_t12) a + S1x16.size a ≤ S128x256.size a := fun v8 v15 k0_hw2 k0_t10 k0_t12 => k0_hw2.2.2.2.2.2.2.2.2.1.1 k0_t10 k0_t12
theorem k0_off242_inb : ∀ (v8 : BitVec 32) (v15 : BitVec 32) (k0_hw2 : k0_chk2 v8 v15) (k0_t10 : Fin (k0_t10_loop v8 v15).trips) (k0_t12 : Fin (k0_t12_loop v8 v15 k0_t10).trips), ∀ a, (k0_off242 v8 v15 k0_t10 k0_t12) a + S1x16.size a ≤ S128x256.size a := fun v8 v15 k0_hw2 k0_t10 k0_t12 => k0_hw2.2.2.2.2.2.2.2.2.1.2.1 k0_t10 k0_t12
theorem k0_off243_inb : ∀ (v8 : BitVec 32) (v15 : BitVec 32) (k0_hw2 : k0_chk2 v8 v15) (k0_t10 : Fin (k0_t10_loop v8 v15).trips) (k0_t12 : Fin (k0_t12_loop v8 v15 k0_t10).trips), ∀ a, (k0_off243 v8 v15 k0_t10 k0_t12) a + S1x16.size a ≤ S128x256.size a := fun v8 v15 k0_hw2 k0_t10 k0_t12 => k0_hw2.2.2.2.2.2.2.2.2.1.2.2.1 k0_t10 k0_t12
theorem k0_off244_inb : ∀ (v8 : BitVec 32) (v15 : BitVec 32) (k0_hw2 : k0_chk2 v8 v15) (k0_t10 : Fin (k0_t10_loop v8 v15).trips) (k0_t12 : Fin (k0_t12_loop v8 v15 k0_t10).trips), ∀ a, (k0_off244 v8 v15 k0_t10 k0_t12) a + S1x16.size a ≤ S128x256.size a := fun v8 v15 k0_hw2 k0_t10 k0_t12 => k0_hw2.2.2.2.2.2.2.2.2.1.2.2.2.1 k0_t10 k0_t12
theorem k0_off245_inb : ∀ (v8 : BitVec 32) (v15 : BitVec 32) (k0_hw2 : k0_chk2 v8 v15) (k0_t10 : Fin (k0_t10_loop v8 v15).trips) (k0_t12 : Fin (k0_t12_loop v8 v15 k0_t10).trips), ∀ a, (k0_off245 v8 v15 k0_t10 k0_t12) a + S1x16.size a ≤ S128x256.size a := fun v8 v15 k0_hw2 k0_t10 k0_t12 => k0_hw2.2.2.2.2.2.2.2.2.1.2.2.2.2.1 k0_t10 k0_t12
theorem k0_off246_inb : ∀ (v8 : BitVec 32) (v15 : BitVec 32) (k0_hw2 : k0_chk2 v8 v15) (k0_t10 : Fin (k0_t10_loop v8 v15).trips) (k0_t12 : Fin (k0_t12_loop v8 v15 k0_t10).trips), ∀ (r : Fin 3), ∀ a, (k0_off246 v8 v15 k0_t10 k0_t12 (BitVec.ofNat 32 (1 + r.val))) a + S1x16.size a ≤ S128x256.size a := fun v8 v15 k0_hw2 k0_t10 k0_t12 r => k0_hw2.2.2.2.2.2.2.2.2.1.2.2.2.2.2.1 k0_t10 k0_t12 r
theorem k0_off247_inb : ∀ (v8 : BitVec 32) (v15 : BitVec 32) (k0_hw2 : k0_chk2 v8 v15) (k0_t10 : Fin (k0_t10_loop v8 v15).trips) (k0_t12 : Fin (k0_t12_loop v8 v15 k0_t10).trips), ∀ (r : Fin 3), ∀ a, (k0_off247 v8 v15 k0_t10 k0_t12 (BitVec.ofNat 32 (1 + r.val))) a + S1x16.size a ≤ S128x256.size a := fun v8 v15 k0_hw2 k0_t10 k0_t12 r => k0_hw2.2.2.2.2.2.2.2.2.1.2.2.2.2.2.2.1 k0_t10 k0_t12 r
theorem k0_off248_inb : ∀ (v8 : BitVec 32) (v15 : BitVec 32) (k0_hw2 : k0_chk2 v8 v15) (k0_t10 : Fin (k0_t10_loop v8 v15).trips) (k0_t12 : Fin (k0_t12_loop v8 v15 k0_t10).trips), ∀ (r : Fin 3), ∀ a, (k0_off248 v8 v15 k0_t10 k0_t12 (BitVec.ofNat 32 (1 + r.val))) a + S1x16.size a ≤ S128x256.size a := fun v8 v15 k0_hw2 k0_t10 k0_t12 r => k0_hw2.2.2.2.2.2.2.2.2.1.2.2.2.2.2.2.2.1 k0_t10 k0_t12 r
theorem k0_off249_inb : ∀ (v8 : BitVec 32) (v15 : BitVec 32) (k0_hw2 : k0_chk2 v8 v15) (k0_t10 : Fin (k0_t10_loop v8 v15).trips) (k0_t12 : Fin (k0_t12_loop v8 v15 k0_t10).trips), ∀ (r : Fin 3), ∀ a, (k0_off249 v8 v15 k0_t10 k0_t12 (BitVec.ofNat 32 (1 + r.val))) a + S1x16.size a ≤ S128x256.size a := fun v8 v15 k0_hw2 k0_t10 k0_t12 r => k0_hw2.2.2.2.2.2.2.2.2.1.2.2.2.2.2.2.2.2.1 k0_t10 k0_t12 r
theorem k0_off250_inb : ∀ (v8 : BitVec 32) (v15 : BitVec 32) (k0_hw2 : k0_chk2 v8 v15) (k0_t10 : Fin (k0_t10_loop v8 v15).trips) (k0_t12 : Fin (k0_t12_loop v8 v15 k0_t10).trips), ∀ (r : Fin 3), ∀ a, (k0_off250 v8 v15 k0_t10 k0_t12 (BitVec.ofNat 32 (1 + r.val))) a + S1x16.size a ≤ S128x256.size a := fun v8 v15 k0_hw2 k0_t10 k0_t12 r => k0_hw2.2.2.2.2.2.2.2.2.1.2.2.2.2.2.2.2.2.2.1 k0_t10 k0_t12 r
theorem k0_off251_inb : ∀ (v8 : BitVec 32) (v15 : BitVec 32) (k0_hw2 : k0_chk2 v8 v15) (k0_t10 : Fin (k0_t10_loop v8 v15).trips) (k0_t12 : Fin (k0_t12_loop v8 v15 k0_t10).trips), ∀ (r : Fin 3), ∀ a, (k0_off251 v8 v15 k0_t10 k0_t12 (BitVec.ofNat 32 (1 + r.val))) a + S1x16.size a ≤ S128x256.size a := fun v8 v15 k0_hw2 k0_t10 k0_t12 r => k0_hw2.2.2.2.2.2.2.2.2.1.2.2.2.2.2.2.2.2.2.2.1 k0_t10 k0_t12 r
theorem k0_off252_inb : ∀ (v8 : BitVec 32) (v15 : BitVec 32) (k0_hw2 : k0_chk2 v8 v15) (k0_t10 : Fin (k0_t10_loop v8 v15).trips) (k0_t12 : Fin (k0_t12_loop v8 v15 k0_t10).trips), ∀ (r : Fin 3), ∀ a, (k0_off252 v8 v15 k0_t10 k0_t12 (BitVec.ofNat 32 (1 + r.val))) a + S1x16.size a ≤ S128x256.size a := fun v8 v15 k0_hw2 k0_t10 k0_t12 r => k0_hw2.2.2.2.2.2.2.2.2.1.2.2.2.2.2.2.2.2.2.2.2.1 k0_t10 k0_t12 r
theorem k0_off253_inb : ∀ (v8 : BitVec 32) (v15 : BitVec 32) (k0_hw2 : k0_chk2 v8 v15) (k0_t10 : Fin (k0_t10_loop v8 v15).trips) (k0_t12 : Fin (k0_t12_loop v8 v15 k0_t10).trips), ∀ (r : Fin 3), ∀ a, (k0_off253 v8 v15 k0_t10 k0_t12 (BitVec.ofNat 32 (1 + r.val))) a + S1x16.size a ≤ S128x256.size a := fun v8 v15 k0_hw2 k0_t10 k0_t12 r => k0_hw2.2.2.2.2.2.2.2.2.1.2.2.2.2.2.2.2.2.2.2.2.2.1 k0_t10 k0_t12 r
theorem k0_off254_inb : ∀ (v8 : BitVec 32) (v15 : BitVec 32) (k0_hw2 : k0_chk2 v8 v15) (k0_t10 : Fin (k0_t10_loop v8 v15).trips) (k0_t12 : Fin (k0_t12_loop v8 v15 k0_t10).trips), ∀ (r : Fin 3), ∀ a, (k0_off254 v8 v15 k0_t10 k0_t12 (BitVec.ofNat 32 (1 + r.val))) a + S1x16.size a ≤ S128x256.size a := fun v8 v15 k0_hw2 k0_t10 k0_t12 r => k0_hw2.2.2.2.2.2.2.2.2.1.2.2.2.2.2.2.2.2.2.2.2.2.2.1 k0_t10 k0_t12 r
theorem k0_off255_inb : ∀ (v8 : BitVec 32) (v15 : BitVec 32) (k0_hw2 : k0_chk2 v8 v15) (k0_t10 : Fin (k0_t10_loop v8 v15).trips) (k0_t12 : Fin (k0_t12_loop v8 v15 k0_t10).trips), ∀ (r : Fin 3), ∀ a, (k0_off255 v8 v15 k0_t10 k0_t12 (BitVec.ofNat 32 (1 + r.val))) a + S1x16.size a ≤ S128x256.size a := fun v8 v15 k0_hw2 k0_t10 k0_t12 r => k0_hw2.2.2.2.2.2.2.2.2.1.2.2.2.2.2.2.2.2.2.2.2.2.2.2.1 k0_t10 k0_t12 r
theorem k0_off256_inb : ∀ (v8 : BitVec 32) (v15 : BitVec 32) (k0_hw2 : k0_chk2 v8 v15) (k0_t10 : Fin (k0_t10_loop v8 v15).trips) (k0_t12 : Fin (k0_t12_loop v8 v15 k0_t10).trips), ∀ (r : Fin 3), ∀ a, (k0_off256 v8 v15 k0_t10 k0_t12 (BitVec.ofNat 32 (1 + r.val))) a + S1x16.size a ≤ S128x256.size a := fun v8 v15 k0_hw2 k0_t10 k0_t12 r => k0_hw2.2.2.2.2.2.2.2.2.1.2.2.2.2.2.2.2.2.2.2.2.2.2.2.2.1 k0_t10 k0_t12 r
theorem k0_off257_inb : ∀ (v8 : BitVec 32) (v15 : BitVec 32) (k0_hw2 : k0_chk2 v8 v15) (k0_t10 : Fin (k0_t10_loop v8 v15).trips) (k0_t12 : Fin (k0_t12_loop v8 v15 k0_t10).trips), ∀ (r : Fin 3), ∀ a, (k0_off257 v8 v15 k0_t10 k0_t12 (BitVec.ofNat 32 (1 + r.val))) a + S1x16.size a ≤ S128x256.size a := fun v8 v15 k0_hw2 k0_t10 k0_t12 r => k0_hw2.2.2.2.2.2.2.2.2.1.2.2.2.2.2.2.2.2.2.2.2.2.2.2.2.2.1 k0_t10 k0_t12 r
theorem k0_off258_inb : ∀ (v8 : BitVec 32) (v15 : BitVec 32) (k0_hw2 : k0_chk2 v8 v15) (k0_t10 : Fin (k0_t10_loop v8 v15).trips) (k0_t12 : Fin (k0_t12_loop v8 v15 k0_t10).trips), ∀ (r : Fin 3), ∀ a, (k0_off258 v8 v15 k0_t10 k0_t12 (BitVec.ofNat 32 (1 + r.val))) a + S1x16.size a ≤ S128x256.size a := fun v8 v15 k0_hw2 k0_t10 k0_t12 r => k0_hw2.2.2.2.2.2.2.2.2.1.2.2.2.2.2.2.2.2.2.2.2.2.2.2.2.2.2.1 k0_t10 k0_t12 r
theorem k0_off259_inb : ∀ (v8 : BitVec 32) (v15 : BitVec 32) (k0_hw2 : k0_chk2 v8 v15) (k0_t10 : Fin (k0_t10_loop v8 v15).trips) (k0_t12 : Fin (k0_t12_loop v8 v15 k0_t10).trips), ∀ (r : Fin 3), ∀ a, (k0_off259 v8 v15 k0_t10 k0_t12 (BitVec.ofNat 32 (1 + r.val))) a + S1x16.size a ≤ S128x256.size a := fun v8 v15 k0_hw2 k0_t10 k0_t12 r => k0_hw2.2.2.2.2.2.2.2.2.1.2.2.2.2.2.2.2.2.2.2.2.2.2.2.2.2.2.2.1 k0_t10 k0_t12 r
theorem k0_off260_inb : ∀ (v8 : BitVec 32) (v15 : BitVec 32) (k0_hw2 : k0_chk2 v8 v15) (k0_t10 : Fin (k0_t10_loop v8 v15).trips) (k0_t12 : Fin (k0_t12_loop v8 v15 k0_t10).trips), ∀ (r : Fin 3), ∀ a, (k0_off260 v8 v15 k0_t10 k0_t12 (BitVec.ofNat 32 (1 + r.val))) a + S1x16.size a ≤ S128x256.size a := fun v8 v15 k0_hw2 k0_t10 k0_t12 r => k0_hw2.2.2.2.2.2.2.2.2.1.2.2.2.2.2.2.2.2.2.2.2.2.2.2.2.2.2.2.2.1 k0_t10 k0_t12 r
theorem k0_off261_inb : ∀ (v8 : BitVec 32) (v15 : BitVec 32) (k0_hw2 : k0_chk2 v8 v15) (k0_t10 : Fin (k0_t10_loop v8 v15).trips) (k0_t12 : Fin (k0_t12_loop v8 v15 k0_t10).trips), ∀ (r : Fin 3), ∀ a, (k0_off261 v8 v15 k0_t10 k0_t12 (BitVec.ofNat 32 (1 + r.val))) a + S1x16.size a ≤ S128x256.size a := fun v8 v15 k0_hw2 k0_t10 k0_t12 r => k0_hw2.2.2.2.2.2.2.2.2.1.2.2.2.2.2.2.2.2.2.2.2.2.2.2.2.2.2.2.2.2.1 k0_t10 k0_t12 r
theorem k0_t13_ok : ∀ (v8 : BitVec 32) (v15 : BitVec 32) (k0_hw2 : k0_chk2 v8 v15) (k0_t10 : Fin (k0_t10_loop v8 v15).trips), (k0_t13_loop v8 v15 k0_t10).OK := fun v8 v15 k0_hw2 k0_t10 => k0_hw2.2.2.2.2.2.2.2.2.1.2.2.2.2.2.2.2.2.2.2.2.2.2.2.2.2.2.2.2.2.2.1 k0_t10
theorem k0_off262_inb : ∀ (v8 : BitVec 32) (v15 : BitVec 32) (k0_hw2 : k0_chk2 v8 v15) (k0_t10 : Fin (k0_t10_loop v8 v15).trips) (k0_t13 : Fin (k0_t13_loop v8 v15 k0_t10).trips), ∀ a, (k0_off262 v8 v15 k0_t10 k0_t13) a + S1x16.size a ≤ S128x256.size a := fun v8 v15 k0_hw2 k0_t10 k0_t13 => k0_hw2.2.2.2.2.2.2.2.2.1.2.2.2.2.2.2.2.2.2.2.2.2.2.2.2.2.2.2.2.2.2.2.1 k0_t10 k0_t13
theorem k0_off263_inb : ∀ (v8 : BitVec 32) (v15 : BitVec 32) (k0_hw2 : k0_chk2 v8 v15) (k0_t10 : Fin (k0_t10_loop v8 v15).trips) (k0_t13 : Fin (k0_t13_loop v8 v15 k0_t10).trips), ∀ a, (k0_off263 v8 v15 k0_t10 k0_t13) a + S1x16.size a ≤ S128x256.size a := fun v8 v15 k0_hw2 k0_t10 k0_t13 => k0_hw2.2.2.2.2.2.2.2.2.1.2.2.2.2.2.2.2.2.2.2.2.2.2.2.2.2.2.2.2.2.2.2.2.1 k0_t10 k0_t13
theorem k0_off264_inb : ∀ (v8 : BitVec 32) (v15 : BitVec 32) (k0_hw2 : k0_chk2 v8 v15) (k0_t10 : Fin (k0_t10_loop v8 v15).trips) (k0_t13 : Fin (k0_t13_loop v8 v15 k0_t10).trips), ∀ a, (k0_off264 v8 v15 k0_t10 k0_t13) a + S1x16.size a ≤ S128x256.size a := fun v8 v15 k0_hw2 k0_t10 k0_t13 => k0_hw2.2.2.2.2.2.2.2.2.1.2.2.2.2.2.2.2.2.2.2.2.2.2.2.2.2.2.2.2.2.2.2.2.2.1 k0_t10 k0_t13
theorem k0_off265_inb : ∀ (v8 : BitVec 32) (v15 : BitVec 32) (k0_hw2 : k0_chk2 v8 v15) (k0_t10 : Fin (k0_t10_loop v8 v15).trips) (k0_t13 : Fin (k0_t13_loop v8 v15 k0_t10).trips), ∀ a, (k0_off265 v8 v15 k0_t10 k0_t13) a + S1x16.size a ≤ S128x256.size a := fun v8 v15 k0_hw2 k0_t10 k0_t13 => k0_hw2.2.2.2.2.2.2.2.2.1.2.2.2.2.2.2.2.2.2.2.2.2.2.2.2.2.2.2.2.2.2.2.2.2.2.1 k0_t10 k0_t13
theorem k0_off266_inb : ∀ (v8 : BitVec 32) (v15 : BitVec 32) (k0_hw2 : k0_chk2 v8 v15) (k0_t10 : Fin (k0_t10_loop v8 v15).trips) (k0_t13 : Fin (k0_t13_loop v8 v15 k0_t10).trips), ∀ a, (k0_off266 v8 v15 k0_t10 k0_t13) a + S1x16.size a ≤ S128x256.size a := fun v8 v15 k0_hw2 k0_t10 k0_t13 => k0_hw2.2.2.2.2.2.2.2.2.1.2.2.2.2.2.2.2.2.2.2.2.2.2.2.2.2.2.2.2.2.2.2.2.2.2.2.1 k0_t10 k0_t13
theorem k0_off267_inb : ∀ (v8 : BitVec 32) (v15 : BitVec 32) (k0_hw2 : k0_chk2 v8 v15) (k0_t10 : Fin (k0_t10_loop v8 v15).trips) (k0_t13 : Fin (k0_t13_loop v8 v15 k0_t10).trips), ∀ a, (k0_off267 v8 v15 k0_t10 k0_t13) a + S1x16.size a ≤ S128x256.size a := fun v8 v15 k0_hw2 k0_t10 k0_t13 => k0_hw2.2.2.2.2.2.2.2.2.1.2.2.2.2.2.2.2.2.2.2.2.2.2.2.2.2.2.2.2.2.2.2.2.2.2.2.2.1 k0_t10 k0_t13
theorem k0_off268_inb : ∀ (v8 : BitVec 32) (v15 : BitVec 32) (k0_hw2 : k0_chk2 v8 v15) (k0_t10 : Fin (k0_t10_loop v8 v15).trips) (k0_t13 : Fin (k0_t13_loop v8 v15 k0_t10).trips), ∀ a, (k0_off268 v8 v15 k0_t10 k0_t13) a + S1x16.size a ≤ S128x256.size a := fun v8 v15 k0_hw2 k0_t10 k0_t13 => k0_hw2.2.2.2.2.2.2.2.2.1.2.2.2.2.2.2.2.2.2.2.2.2.2.2.2.2.2.2.2.2.2.2.2.2.2.2.2.2.1 k0_t10 k0_t13
theorem k0_off269_inb : ∀ (v8 : BitVec 32) (v15 : BitVec 32) (k0_hw2 : k0_chk2 v8 v15) (k0_t10 : Fin (k0_t10_loop v8 v15).trips) (k0_t13 : Fin (k0_t13_loop v8 v15 k0_t10).trips), ∀ a, (k0_off269 v8 v15 k0_t10 k0_t13) a + S1x16.size a ≤ S128x256.size a := fun v8 v15 k0_hw2 k0_t10 k0_t13 => k0_hw2.2.2.2.2.2.2.2.2.1.2.2.2.2.2.2.2.2.2.2.2.2.2.2.2.2.2.2.2.2.2.2.2.2.2.2.2.2.2.1 k0_t10 k0_t13
theorem k0_off270_inb : ∀ (v8 : BitVec 32) (v15 : BitVec 32) (k0_hw2 : k0_chk2 v8 v15) (k0_t10 : Fin (k0_t10_loop v8 v15).trips) (k0_t13 : Fin (k0_t13_loop v8 v15 k0_t10).trips), ∀ a, (k0_off270 v8 v15 k0_t10 k0_t13) a + S1x16.size a ≤ S128x256.size a := fun v8 v15 k0_hw2 k0_t10 k0_t13 => k0_hw2.2.2.2.2.2.2.2.2.1.2.2.2.2.2.2.2.2.2.2.2.2.2.2.2.2.2.2.2.2.2.2.2.2.2.2.2.2.2.2.1 k0_t10 k0_t13
theorem k0_off271_inb : ∀ (v8 : BitVec 32) (v15 : BitVec 32) (k0_hw2 : k0_chk2 v8 v15) (k0_t10 : Fin (k0_t10_loop v8 v15).trips) (k0_t13 : Fin (k0_t13_loop v8 v15 k0_t10).trips), ∀ a, (k0_off271 v8 v15 k0_t10 k0_t13) a + S1x16.size a ≤ S128x256.size a := fun v8 v15 k0_hw2 k0_t10 k0_t13 => k0_hw2.2.2.2.2.2.2.2.2.1.2.2.2.2.2.2.2.2.2.2.2.2.2.2.2.2.2.2.2.2.2.2.2.2.2.2.2.2.2.2.2 k0_t10 k0_t13
theorem k0_off272_inb : ∀ (v8 : BitVec 32) (v15 : BitVec 32) (k0_hw2 : k0_chk2 v8 v15) (k0_t10 : Fin (k0_t10_loop v8 v15).trips) (k0_t13 : Fin (k0_t13_loop v8 v15 k0_t10).trips), ∀ a, (k0_off272 v8 v15 k0_t10 k0_t13) a + S1x16.size a ≤ S128x256.size a := fun v8 v15 k0_hw2 k0_t10 k0_t13 => k0_hw2.2.2.2.2.2.2.2.2.2.1.1 k0_t10 k0_t13
theorem k0_off273_inb : ∀ (v8 : BitVec 32) (v15 : BitVec 32) (k0_hw2 : k0_chk2 v8 v15) (k0_t10 : Fin (k0_t10_loop v8 v15).trips) (k0_t13 : Fin (k0_t13_loop v8 v15 k0_t10).trips), ∀ a, (k0_off273 v8 v15 k0_t10 k0_t13) a + S1x16.size a ≤ S128x256.size a := fun v8 v15 k0_hw2 k0_t10 k0_t13 => k0_hw2.2.2.2.2.2.2.2.2.2.1.2.1 k0_t10 k0_t13
theorem k0_off274_inb : ∀ (v8 : BitVec 32) (v15 : BitVec 32) (k0_hw2 : k0_chk2 v8 v15) (k0_t10 : Fin (k0_t10_loop v8 v15).trips) (k0_t13 : Fin (k0_t13_loop v8 v15 k0_t10).trips), ∀ a, (k0_off274 v8 v15 k0_t10 k0_t13) a + S1x16.size a ≤ S128x256.size a := fun v8 v15 k0_hw2 k0_t10 k0_t13 => k0_hw2.2.2.2.2.2.2.2.2.2.1.2.2.1 k0_t10 k0_t13
theorem k0_off275_inb : ∀ (v8 : BitVec 32) (v15 : BitVec 32) (k0_hw2 : k0_chk2 v8 v15) (k0_t10 : Fin (k0_t10_loop v8 v15).trips) (k0_t13 : Fin (k0_t13_loop v8 v15 k0_t10).trips), ∀ a, (k0_off275 v8 v15 k0_t10 k0_t13) a + S1x16.size a ≤ S128x256.size a := fun v8 v15 k0_hw2 k0_t10 k0_t13 => k0_hw2.2.2.2.2.2.2.2.2.2.1.2.2.2.1 k0_t10 k0_t13
theorem k0_off276_inb : ∀ (v8 : BitVec 32) (v15 : BitVec 32) (k0_hw2 : k0_chk2 v8 v15) (k0_t10 : Fin (k0_t10_loop v8 v15).trips) (k0_t13 : Fin (k0_t13_loop v8 v15 k0_t10).trips), ∀ a, (k0_off276 v8 v15 k0_t10 k0_t13) a + S1x16.size a ≤ S128x256.size a := fun v8 v15 k0_hw2 k0_t10 k0_t13 => k0_hw2.2.2.2.2.2.2.2.2.2.1.2.2.2.2.1 k0_t10 k0_t13
theorem k0_off277_inb : ∀ (v8 : BitVec 32) (v15 : BitVec 32) (k0_hw2 : k0_chk2 v8 v15) (k0_t10 : Fin (k0_t10_loop v8 v15).trips) (k0_t13 : Fin (k0_t13_loop v8 v15 k0_t10).trips), ∀ a, (k0_off277 v8 v15 k0_t10 k0_t13) a + S1x16.size a ≤ S128x256.size a := fun v8 v15 k0_hw2 k0_t10 k0_t13 => k0_hw2.2.2.2.2.2.2.2.2.2.1.2.2.2.2.2.1 k0_t10 k0_t13
theorem k0_t14_ok : ∀ (v8 : BitVec 32) (v15 : BitVec 32) (k0_hw2 : k0_chk2 v8 v15) (k0_t10 : Fin (k0_t10_loop v8 v15).trips), (k0_t14_loop v8 v15 k0_t10).OK := fun v8 v15 k0_hw2 k0_t10 => k0_hw2.2.2.2.2.2.2.2.2.2.1.2.2.2.2.2.2.1 k0_t10
theorem k0_off278_inb : ∀ (v8 : BitVec 32) (v15 : BitVec 32) (k0_hw2 : k0_chk2 v8 v15) (k0_t10 : Fin (k0_t10_loop v8 v15).trips) (k0_t14 : Fin (k0_t14_loop v8 v15 k0_t10).trips), ∀ a, (k0_off278 v8 v15 k0_t10 k0_t14) a + S1x16.size a ≤ S128x256.size a := fun v8 v15 k0_hw2 k0_t10 k0_t14 => k0_hw2.2.2.2.2.2.2.2.2.2.1.2.2.2.2.2.2.2.1 k0_t10 k0_t14
theorem k0_off279_inb : ∀ (v8 : BitVec 32) (v15 : BitVec 32) (k0_hw2 : k0_chk2 v8 v15) (k0_t10 : Fin (k0_t10_loop v8 v15).trips) (k0_t14 : Fin (k0_t14_loop v8 v15 k0_t10).trips), ∀ a, (k0_off279 v8 v15 k0_t10 k0_t14) a + S1x16.size a ≤ S128x256.size a := fun v8 v15 k0_hw2 k0_t10 k0_t14 => k0_hw2.2.2.2.2.2.2.2.2.2.1.2.2.2.2.2.2.2.2.1 k0_t10 k0_t14
theorem k0_off280_inb : ∀ (v8 : BitVec 32) (v15 : BitVec 32) (k0_hw2 : k0_chk2 v8 v15) (k0_t10 : Fin (k0_t10_loop v8 v15).trips) (k0_t14 : Fin (k0_t14_loop v8 v15 k0_t10).trips), ∀ a, (k0_off280 v8 v15 k0_t10 k0_t14) a + S1x16.size a ≤ S128x256.size a := fun v8 v15 k0_hw2 k0_t10 k0_t14 => k0_hw2.2.2.2.2.2.2.2.2.2.1.2.2.2.2.2.2.2.2.2.1 k0_t10 k0_t14
theorem k0_off281_inb : ∀ (v8 : BitVec 32) (v15 : BitVec 32) (k0_hw2 : k0_chk2 v8 v15) (k0_t10 : Fin (k0_t10_loop v8 v15).trips) (k0_t14 : Fin (k0_t14_loop v8 v15 k0_t10).trips), ∀ a, (k0_off281 v8 v15 k0_t10 k0_t14) a + S1x16.size a ≤ S128x256.size a := fun v8 v15 k0_hw2 k0_t10 k0_t14 => k0_hw2.2.2.2.2.2.2.2.2.2.1.2.2.2.2.2.2.2.2.2.2.1 k0_t10 k0_t14
theorem k0_off282_inb : ∀ (v8 : BitVec 32) (v15 : BitVec 32) (k0_hw2 : k0_chk2 v8 v15) (k0_t10 : Fin (k0_t10_loop v8 v15).trips) (k0_t14 : Fin (k0_t14_loop v8 v15 k0_t10).trips), ∀ a, (k0_off282 v8 v15 k0_t10 k0_t14) a + S1x16.size a ≤ S128x256.size a := fun v8 v15 k0_hw2 k0_t10 k0_t14 => k0_hw2.2.2.2.2.2.2.2.2.2.1.2.2.2.2.2.2.2.2.2.2.2.1 k0_t10 k0_t14
theorem k0_off283_inb : ∀ (v8 : BitVec 32) (v15 : BitVec 32) (k0_hw2 : k0_chk2 v8 v15) (k0_t10 : Fin (k0_t10_loop v8 v15).trips) (k0_t14 : Fin (k0_t14_loop v8 v15 k0_t10).trips), ∀ a, (k0_off283 v8 v15 k0_t10 k0_t14) a + S1x16.size a ≤ S128x256.size a := fun v8 v15 k0_hw2 k0_t10 k0_t14 => k0_hw2.2.2.2.2.2.2.2.2.2.1.2.2.2.2.2.2.2.2.2.2.2.2.1 k0_t10 k0_t14
theorem k0_off284_inb : ∀ (v8 : BitVec 32) (v15 : BitVec 32) (k0_hw2 : k0_chk2 v8 v15) (k0_t10 : Fin (k0_t10_loop v8 v15).trips) (k0_t14 : Fin (k0_t14_loop v8 v15 k0_t10).trips), ∀ a, (k0_off284 v8 v15 k0_t10 k0_t14) a + S1x16.size a ≤ S128x256.size a := fun v8 v15 k0_hw2 k0_t10 k0_t14 => k0_hw2.2.2.2.2.2.2.2.2.2.1.2.2.2.2.2.2.2.2.2.2.2.2.2.1 k0_t10 k0_t14
theorem k0_off285_inb : ∀ (v8 : BitVec 32) (v15 : BitVec 32) (k0_hw2 : k0_chk2 v8 v15) (k0_t10 : Fin (k0_t10_loop v8 v15).trips) (k0_t14 : Fin (k0_t14_loop v8 v15 k0_t10).trips), ∀ a, (k0_off285 v8 v15 k0_t10 k0_t14) a + S1x16.size a ≤ S128x256.size a := fun v8 v15 k0_hw2 k0_t10 k0_t14 => k0_hw2.2.2.2.2.2.2.2.2.2.1.2.2.2.2.2.2.2.2.2.2.2.2.2.2.1 k0_t10 k0_t14
theorem k0_off286_inb : ∀ (v8 : BitVec 32) (v15 : BitVec 32) (k0_hw2 : k0_chk2 v8 v15) (k0_t10 : Fin (k0_t10_loop v8 v15).trips) (k0_t14 : Fin (k0_t14_loop v8 v15 k0_t10).trips), ∀ a, (k0_off286 v8 v15 k0_t10 k0_t14) a + S1x16.size a ≤ S128x256.size a := fun v8 v15 k0_hw2 k0_t10 k0_t14 => k0_hw2.2.2.2.2.2.2.2.2.2.1.2.2.2.2.2.2.2.2.2.2.2.2.2.2.2.1 k0_t10 k0_t14
theorem k0_off287_inb : ∀ (v8 : BitVec 32) (v15 : BitVec 32) (k0_hw2 : k0_chk2 v8 v15) (k0_t10 : Fin (k0_t10_loop v8 v15).trips) (k0_t14 : Fin (k0_t14_loop v8 v15 k0_t10).trips), ∀ a, (k0_off287 v8 v15 k0_t10 k0_t14) a + S1x16.size a ≤ S128x256.size a := fun v8 v15 k0_hw2 k0_t10 k0_t14 => k0_hw2.2.2.2.2.2.2.2.2.2.1.2.2.2.2.2.2.2.2.2.2.2.2.2.2.2.2.1 k0_t10 k0_t14
theorem k0_off288_inb : ∀ (v8 : BitVec 32) (v15 : BitVec 32) (k0_hw2 : k0_chk2 v8 v15) (k0_t10 : Fin (k0_t10_loop v8 v15).trips) (k0_t14 : Fin (k0_t14_loop v8 v15 k0_t10).trips), ∀ a, (k0_off288 v8 v15 k0_t10 k0_t14) a + S1x16.size a ≤ S128x256.size a := fun v8 v15 k0_hw2 k0_t10 k0_t14 => k0_hw2.2.2.2.2.2.2.2.2.2.1.2.2.2.2.2.2.2.2.2.2.2.2.2.2.2.2.2.1 k0_t10 k0_t14
theorem k0_off289_inb : ∀ (v8 : BitVec 32) (v15 : BitVec 32) (k0_hw2 : k0_chk2 v8 v15) (k0_t10 : Fin (k0_t10_loop v8 v15).trips) (k0_t14 : Fin (k0_t14_loop v8 v15 k0_t10).trips), ∀ a, (k0_off289 v8 v15 k0_t10 k0_t14) a + S1x16.size a ≤ S128x256.size a := fun v8 v15 k0_hw2 k0_t10 k0_t14 => k0_hw2.2.2.2.2.2.2.2.2.2.1.2.2.2.2.2.2.2.2.2.2.2.2.2.2.2.2.2.2.1 k0_t10 k0_t14
theorem k0_off290_inb : ∀ (v8 : BitVec 32) (v15 : BitVec 32) (k0_hw2 : k0_chk2 v8 v15) (k0_t10 : Fin (k0_t10_loop v8 v15).trips) (k0_t14 : Fin (k0_t14_loop v8 v15 k0_t10).trips), ∀ a, (k0_off290 v8 v15 k0_t10 k0_t14) a + S1x16.size a ≤ S128x256.size a := fun v8 v15 k0_hw2 k0_t10 k0_t14 => k0_hw2.2.2.2.2.2.2.2.2.2.1.2.2.2.2.2.2.2.2.2.2.2.2.2.2.2.2.2.2.2.1 k0_t10 k0_t14
theorem k0_off291_inb : ∀ (v8 : BitVec 32) (v15 : BitVec 32) (k0_hw2 : k0_chk2 v8 v15) (k0_t10 : Fin (k0_t10_loop v8 v15).trips) (k0_t14 : Fin (k0_t14_loop v8 v15 k0_t10).trips), ∀ a, (k0_off291 v8 v15 k0_t10 k0_t14) a + S1x16.size a ≤ S128x256.size a := fun v8 v15 k0_hw2 k0_t10 k0_t14 => k0_hw2.2.2.2.2.2.2.2.2.2.1.2.2.2.2.2.2.2.2.2.2.2.2.2.2.2.2.2.2.2.2.1 k0_t10 k0_t14
theorem k0_off292_inb : ∀ (v8 : BitVec 32) (v15 : BitVec 32) (k0_hw2 : k0_chk2 v8 v15) (k0_t10 : Fin (k0_t10_loop v8 v15).trips) (k0_t14 : Fin (k0_t14_loop v8 v15 k0_t10).trips), ∀ a, (k0_off292 v8 v15 k0_t10 k0_t14) a + S1x16.size a ≤ S128x256.size a := fun v8 v15 k0_hw2 k0_t10 k0_t14 => k0_hw2.2.2.2.2.2.2.2.2.2.1.2.2.2.2.2.2.2.2.2.2.2.2.2.2.2.2.2.2.2.2.2.1 k0_t10 k0_t14
theorem k0_off293_inb : ∀ (v8 : BitVec 32) (v15 : BitVec 32) (k0_hw2 : k0_chk2 v8 v15) (k0_t10 : Fin (k0_t10_loop v8 v15).trips) (k0_t14 : Fin (k0_t14_loop v8 v15 k0_t10).trips), ∀ a, (k0_off293 v8 v15 k0_t10 k0_t14) a + S1x16.size a ≤ S128x256.size a := fun v8 v15 k0_hw2 k0_t10 k0_t14 => k0_hw2.2.2.2.2.2.2.2.2.2.1.2.2.2.2.2.2.2.2.2.2.2.2.2.2.2.2.2.2.2.2.2.2.1 k0_t10 k0_t14
theorem k0_mult8_dvd : ∀ (v8 : BitVec 32) (v15 : BitVec 32) (k0_hw2 : k0_chk2 v8 v15) (k0_t10 : Fin (k0_t10_loop v8 v15).trips), 8 ∣ (k0_mult8 v8 v15 k0_t10).toNat := fun v8 v15 k0_hw2 k0_t10 => k0_hw2.2.2.2.2.2.2.2.2.2.1.2.2.2.2.2.2.2.2.2.2.2.2.2.2.2.2.2.2.2.2.2.2.2.1 k0_t10
theorem k0_off294_inb : ∀ (v8 : BitVec 32) (v15 : BitVec 32) (k0_hw2 : k0_chk2 v8 v15) (k0_t10 : Fin (k0_t10_loop v8 v15).trips), ∀ a, (k0_off294 v8 v15 k0_t10) a + S128x256.size a ≤ S50000x256.size a := fun v8 v15 k0_hw2 k0_t10 => k0_hw2.2.2.2.2.2.2.2.2.2.1.2.2.2.2.2.2.2.2.2.2.2.2.2.2.2.2.2.2.2.2.2.2.2.2.1 k0_t10
theorem k0_mult9_dvd : ∀ (v8 : BitVec 32) (v15 : BitVec 32) (k0_hw2 : k0_chk2 v8 v15) (k0_t10 : Fin (k0_t10_loop v8 v15).trips), 8 ∣ (k0_mult9 v8 v15 k0_t10).toNat := fun v8 v15 k0_hw2 k0_t10 => k0_hw2.2.2.2.2.2.2.2.2.2.1.2.2.2.2.2.2.2.2.2.2.2.2.2.2.2.2.2.2.2.2.2.2.2.2.2.1 k0_t10
theorem k0_t15_ok : ∀ (v8 : BitVec 32) (v15 : BitVec 32) (k0_hw2 : k0_chk2 v8 v15) (k0_t10 : Fin (k0_t10_loop v8 v15).trips), (k0_t15_loop v8 v15 k0_t10).OK := fun v8 v15 k0_hw2 k0_t10 => k0_hw2.2.2.2.2.2.2.2.2.2.1.2.2.2.2.2.2.2.2.2.2.2.2.2.2.2.2.2.2.2.2.2.2.2.2.2.2.1 k0_t10
theorem k0_off295_inb : ∀ (v8 : BitVec 32) (v15 : BitVec 32) (k0_hw2 : k0_chk2 v8 v15) (k0_t10 : Fin (k0_t10_loop v8 v15).trips) (k0_t15 : Fin (k0_t15_loop v8 v15 k0_t10).trips), ∀ a, (k0_off295 v8 v15 k0_t10 k0_t15) a + S1x16.size a ≤ S128x256.size a := fun v8 v15 k0_hw2 k0_t10 k0_t15 => k0_hw2.2.2.2.2.2.2.2.2.2.1.2.2.2.2.2.2.2.2.2.2.2.2.2.2.2.2.2.2.2.2.2.2.2.2.2.2.2.1 k0_t10 k0_t15
theorem k0_off296_inb : ∀ (v8 : BitVec 32) (v15 : BitVec 32) (k0_hw2 : k0_chk2 v8 v15) (k0_t10 : Fin (k0_t10_loop v8 v15).trips) (k0_t15 : Fin (k0_t15_loop v8 v15 k0_t10).trips), ∀ a, (k0_off296 v8 v15 k0_t10 k0_t15) a + S1x16.size a ≤ S128x256.size a := fun v8 v15 k0_hw2 k0_t10 k0_t15 => k0_hw2.2.2.2.2.2.2.2.2.2.1.2.2.2.2.2.2.2.2.2.2.2.2.2.2.2.2.2.2.2.2.2.2.2.2.2.2.2.2.1 k0_t10 k0_t15
theorem k0_off297_inb : ∀ (v8 : BitVec 32) (v15 : BitVec 32) (k0_hw2 : k0_chk2 v8 v15) (k0_t10 : Fin (k0_t10_loop v8 v15).trips) (k0_t15 : Fin (k0_t15_loop v8 v15 k0_t10).trips), ∀ a, (k0_off297 v8 v15 k0_t10 k0_t15) a + S1x16.size a ≤ S128x256.size a := fun v8 v15 k0_hw2 k0_t10 k0_t15 => k0_hw2.2.2.2.2.2.2.2.2.2.1.2.2.2.2.2.2.2.2.2.2.2.2.2.2.2.2.2.2.2.2.2.2.2.2.2.2.2.2.2.1 k0_t10 k0_t15
theorem k0_off298_inb : ∀ (v8 : BitVec 32) (v15 : BitVec 32) (k0_hw2 : k0_chk2 v8 v15) (k0_t10 : Fin (k0_t10_loop v8 v15).trips) (k0_t15 : Fin (k0_t15_loop v8 v15 k0_t10).trips), ∀ a, (k0_off298 v8 v15 k0_t10 k0_t15) a + S1x16.size a ≤ S128x256.size a := fun v8 v15 k0_hw2 k0_t10 k0_t15 => k0_hw2.2.2.2.2.2.2.2.2.2.1.2.2.2.2.2.2.2.2.2.2.2.2.2.2.2.2.2.2.2.2.2.2.2.2.2.2.2.2.2.2.1 k0_t10 k0_t15
theorem k0_off299_inb : ∀ (v8 : BitVec 32) (v15 : BitVec 32) (k0_hw2 : k0_chk2 v8 v15) (k0_t10 : Fin (k0_t10_loop v8 v15).trips) (k0_t15 : Fin (k0_t15_loop v8 v15 k0_t10).trips), ∀ a, (k0_off299 v8 v15 k0_t10 k0_t15) a + S1x16.size a ≤ S128x256.size a := fun v8 v15 k0_hw2 k0_t10 k0_t15 => k0_hw2.2.2.2.2.2.2.2.2.2.1.2.2.2.2.2.2.2.2.2.2.2.2.2.2.2.2.2.2.2.2.2.2.2.2.2.2.2.2.2.2.2 k0_t10 k0_t15
theorem k0_off300_inb : ∀ (v8 : BitVec 32) (v15 : BitVec 32) (k0_hw2 : k0_chk2 v8 v15) (k0_t10 : Fin (k0_t10_loop v8 v15).trips) (k0_t15 : Fin (k0_t15_loop v8 v15 k0_t10).trips), ∀ a, (k0_off300 v8 v15 k0_t10 k0_t15) a + S1x16.size a ≤ S128x256.size a := fun v8 v15 k0_hw2 k0_t10 k0_t15 => k0_hw2.2.2.2.2.2.2.2.2.2.2.1.1 k0_t10 k0_t15
theorem k0_off301_inb : ∀ (v8 : BitVec 32) (v15 : BitVec 32) (k0_hw2 : k0_chk2 v8 v15) (k0_t10 : Fin (k0_t10_loop v8 v15).trips) (k0_t15 : Fin (k0_t15_loop v8 v15 k0_t10).trips), ∀ a, (k0_off301 v8 v15 k0_t10 k0_t15) a + S1x16.size a ≤ S128x256.size a := fun v8 v15 k0_hw2 k0_t10 k0_t15 => k0_hw2.2.2.2.2.2.2.2.2.2.2.1.2.1 k0_t10 k0_t15
theorem k0_off302_inb : ∀ (v8 : BitVec 32) (v15 : BitVec 32) (k0_hw2 : k0_chk2 v8 v15) (k0_t10 : Fin (k0_t10_loop v8 v15).trips) (k0_t15 : Fin (k0_t15_loop v8 v15 k0_t10).trips), ∀ a, (k0_off302 v8 v15 k0_t10 k0_t15) a + S1x16.size a ≤ S128x256.size a := fun v8 v15 k0_hw2 k0_t10 k0_t15 => k0_hw2.2.2.2.2.2.2.2.2.2.2.1.2.2.1 k0_t10 k0_t15
theorem k0_off303_inb : ∀ (v8 : BitVec 32) (v15 : BitVec 32) (k0_hw2 : k0_chk2 v8 v15) (k0_t10 : Fin (k0_t10_loop v8 v15).trips) (k0_t15 : Fin (k0_t15_loop v8 v15 k0_t10).trips), ∀ a, (k0_off303 v8 v15 k0_t10 k0_t15) a + S1x16.size a ≤ S128x256.size a := fun v8 v15 k0_hw2 k0_t10 k0_t15 => k0_hw2.2.2.2.2.2.2.2.2.2.2.1.2.2.2.1 k0_t10 k0_t15
theorem k0_off304_inb : ∀ (v8 : BitVec 32) (v15 : BitVec 32) (k0_hw2 : k0_chk2 v8 v15) (k0_t10 : Fin (k0_t10_loop v8 v15).trips) (k0_t15 : Fin (k0_t15_loop v8 v15 k0_t10).trips), ∀ a, (k0_off304 v8 v15 k0_t10 k0_t15) a + S1x16.size a ≤ S128x256.size a := fun v8 v15 k0_hw2 k0_t10 k0_t15 => k0_hw2.2.2.2.2.2.2.2.2.2.2.1.2.2.2.2.1 k0_t10 k0_t15
theorem k0_off305_inb : ∀ (v8 : BitVec 32) (v15 : BitVec 32) (k0_hw2 : k0_chk2 v8 v15) (k0_t10 : Fin (k0_t10_loop v8 v15).trips) (k0_t15 : Fin (k0_t15_loop v8 v15 k0_t10).trips), ∀ a, (k0_off305 v8 v15 k0_t10 k0_t15) a + S1x16.size a ≤ S128x256.size a := fun v8 v15 k0_hw2 k0_t10 k0_t15 => k0_hw2.2.2.2.2.2.2.2.2.2.2.1.2.2.2.2.2.1 k0_t10 k0_t15
theorem k0_off306_inb : ∀ (v8 : BitVec 32) (v15 : BitVec 32) (k0_hw2 : k0_chk2 v8 v15) (k0_t10 : Fin (k0_t10_loop v8 v15).trips) (k0_t15 : Fin (k0_t15_loop v8 v15 k0_t10).trips), ∀ a, (k0_off306 v8 v15 k0_t10 k0_t15) a + S1x16.size a ≤ S128x256.size a := fun v8 v15 k0_hw2 k0_t10 k0_t15 => k0_hw2.2.2.2.2.2.2.2.2.2.2.1.2.2.2.2.2.2.1 k0_t10 k0_t15
theorem k0_off307_inb : ∀ (v8 : BitVec 32) (v15 : BitVec 32) (k0_hw2 : k0_chk2 v8 v15) (k0_t10 : Fin (k0_t10_loop v8 v15).trips) (k0_t15 : Fin (k0_t15_loop v8 v15 k0_t10).trips), ∀ a, (k0_off307 v8 v15 k0_t10 k0_t15) a + S1x16.size a ≤ S128x256.size a := fun v8 v15 k0_hw2 k0_t10 k0_t15 => k0_hw2.2.2.2.2.2.2.2.2.2.2.1.2.2.2.2.2.2.2.1 k0_t10 k0_t15
theorem k0_off308_inb : ∀ (v8 : BitVec 32) (v15 : BitVec 32) (k0_hw2 : k0_chk2 v8 v15) (k0_t10 : Fin (k0_t10_loop v8 v15).trips) (k0_t15 : Fin (k0_t15_loop v8 v15 k0_t10).trips), ∀ a, (k0_off308 v8 v15 k0_t10 k0_t15) a + S1x16.size a ≤ S128x256.size a := fun v8 v15 k0_hw2 k0_t10 k0_t15 => k0_hw2.2.2.2.2.2.2.2.2.2.2.1.2.2.2.2.2.2.2.2.1 k0_t10 k0_t15
theorem k0_off309_inb : ∀ (v8 : BitVec 32) (v15 : BitVec 32) (k0_hw2 : k0_chk2 v8 v15) (k0_t10 : Fin (k0_t10_loop v8 v15).trips) (k0_t15 : Fin (k0_t15_loop v8 v15 k0_t10).trips), ∀ a, (k0_off309 v8 v15 k0_t10 k0_t15) a + S1x16.size a ≤ S128x256.size a := fun v8 v15 k0_hw2 k0_t10 k0_t15 => k0_hw2.2.2.2.2.2.2.2.2.2.2.1.2.2.2.2.2.2.2.2.2.1 k0_t10 k0_t15
theorem k0_off310_inb : ∀ (v8 : BitVec 32) (v15 : BitVec 32) (k0_hw2 : k0_chk2 v8 v15) (k0_t10 : Fin (k0_t10_loop v8 v15).trips) (k0_t15 : Fin (k0_t15_loop v8 v15 k0_t10).trips), ∀ a, (k0_off310 v8 v15 k0_t10 k0_t15) a + S1x16.size a ≤ S128x256.size a := fun v8 v15 k0_hw2 k0_t10 k0_t15 => k0_hw2.2.2.2.2.2.2.2.2.2.2.1.2.2.2.2.2.2.2.2.2.2.1 k0_t10 k0_t15
theorem k0_off311_inb : ∀ (v8 : BitVec 32) (v15 : BitVec 32) (k0_hw2 : k0_chk2 v8 v15) (k0_t10 : Fin (k0_t10_loop v8 v15).trips) (k0_t15 : Fin (k0_t15_loop v8 v15 k0_t10).trips), ∀ (r : Fin 3), ∀ a, (k0_off311 v8 v15 k0_t10 k0_t15 (BitVec.ofNat 32 (1 + r.val))) a + S1x16.size a ≤ S128x256.size a := fun v8 v15 k0_hw2 k0_t10 k0_t15 r => k0_hw2.2.2.2.2.2.2.2.2.2.2.1.2.2.2.2.2.2.2.2.2.2.2.1 k0_t10 k0_t15 r
theorem k0_off312_inb : ∀ (v8 : BitVec 32) (v15 : BitVec 32) (k0_hw2 : k0_chk2 v8 v15) (k0_t10 : Fin (k0_t10_loop v8 v15).trips) (k0_t15 : Fin (k0_t15_loop v8 v15 k0_t10).trips), ∀ (r : Fin 3), ∀ a, (k0_off312 v8 v15 k0_t10 k0_t15 (BitVec.ofNat 32 (1 + r.val))) a + S1x16.size a ≤ S128x256.size a := fun v8 v15 k0_hw2 k0_t10 k0_t15 r => k0_hw2.2.2.2.2.2.2.2.2.2.2.1.2.2.2.2.2.2.2.2.2.2.2.2.1 k0_t10 k0_t15 r
theorem k0_off313_inb : ∀ (v8 : BitVec 32) (v15 : BitVec 32) (k0_hw2 : k0_chk2 v8 v15) (k0_t10 : Fin (k0_t10_loop v8 v15).trips) (k0_t15 : Fin (k0_t15_loop v8 v15 k0_t10).trips), ∀ (r : Fin 3), ∀ a, (k0_off313 v8 v15 k0_t10 k0_t15 (BitVec.ofNat 32 (1 + r.val))) a + S1x16.size a ≤ S128x256.size a := fun v8 v15 k0_hw2 k0_t10 k0_t15 r => k0_hw2.2.2.2.2.2.2.2.2.2.2.1.2.2.2.2.2.2.2.2.2.2.2.2.2.1 k0_t10 k0_t15 r
theorem k0_off314_inb : ∀ (v8 : BitVec 32) (v15 : BitVec 32) (k0_hw2 : k0_chk2 v8 v15) (k0_t10 : Fin (k0_t10_loop v8 v15).trips) (k0_t15 : Fin (k0_t15_loop v8 v15 k0_t10).trips), ∀ (r : Fin 3), ∀ a, (k0_off314 v8 v15 k0_t10 k0_t15 (BitVec.ofNat 32 (1 + r.val))) a + S1x16.size a ≤ S128x256.size a := fun v8 v15 k0_hw2 k0_t10 k0_t15 r => k0_hw2.2.2.2.2.2.2.2.2.2.2.1.2.2.2.2.2.2.2.2.2.2.2.2.2.2.1 k0_t10 k0_t15 r
theorem k0_off315_inb : ∀ (v8 : BitVec 32) (v15 : BitVec 32) (k0_hw2 : k0_chk2 v8 v15) (k0_t10 : Fin (k0_t10_loop v8 v15).trips) (k0_t15 : Fin (k0_t15_loop v8 v15 k0_t10).trips), ∀ (r : Fin 3), ∀ a, (k0_off315 v8 v15 k0_t10 k0_t15 (BitVec.ofNat 32 (1 + r.val))) a + S1x16.size a ≤ S128x256.size a := fun v8 v15 k0_hw2 k0_t10 k0_t15 r => k0_hw2.2.2.2.2.2.2.2.2.2.2.1.2.2.2.2.2.2.2.2.2.2.2.2.2.2.2.1 k0_t10 k0_t15 r
theorem k0_off316_inb : ∀ (v8 : BitVec 32) (v15 : BitVec 32) (k0_hw2 : k0_chk2 v8 v15) (k0_t10 : Fin (k0_t10_loop v8 v15).trips) (k0_t15 : Fin (k0_t15_loop v8 v15 k0_t10).trips), ∀ (r : Fin 3), ∀ a, (k0_off316 v8 v15 k0_t10 k0_t15 (BitVec.ofNat 32 (1 + r.val))) a + S1x16.size a ≤ S128x256.size a := fun v8 v15 k0_hw2 k0_t10 k0_t15 r => k0_hw2.2.2.2.2.2.2.2.2.2.2.1.2.2.2.2.2.2.2.2.2.2.2.2.2.2.2.2.1 k0_t10 k0_t15 r
theorem k0_off317_inb : ∀ (v8 : BitVec 32) (v15 : BitVec 32) (k0_hw2 : k0_chk2 v8 v15) (k0_t10 : Fin (k0_t10_loop v8 v15).trips) (k0_t15 : Fin (k0_t15_loop v8 v15 k0_t10).trips), ∀ (r : Fin 3), ∀ a, (k0_off317 v8 v15 k0_t10 k0_t15 (BitVec.ofNat 32 (1 + r.val))) a + S1x16.size a ≤ S128x256.size a := fun v8 v15 k0_hw2 k0_t10 k0_t15 r => k0_hw2.2.2.2.2.2.2.2.2.2.2.1.2.2.2.2.2.2.2.2.2.2.2.2.2.2.2.2.2.1 k0_t10 k0_t15 r
theorem k0_off318_inb : ∀ (v8 : BitVec 32) (v15 : BitVec 32) (k0_hw2 : k0_chk2 v8 v15) (k0_t10 : Fin (k0_t10_loop v8 v15).trips) (k0_t15 : Fin (k0_t15_loop v8 v15 k0_t10).trips), ∀ (r : Fin 3), ∀ a, (k0_off318 v8 v15 k0_t10 k0_t15 (BitVec.ofNat 32 (1 + r.val))) a + S1x16.size a ≤ S128x256.size a := fun v8 v15 k0_hw2 k0_t10 k0_t15 r => k0_hw2.2.2.2.2.2.2.2.2.2.2.1.2.2.2.2.2.2.2.2.2.2.2.2.2.2.2.2.2.2.1 k0_t10 k0_t15 r
theorem k0_off319_inb : ∀ (v8 : BitVec 32) (v15 : BitVec 32) (k0_hw2 : k0_chk2 v8 v15) (k0_t10 : Fin (k0_t10_loop v8 v15).trips) (k0_t15 : Fin (k0_t15_loop v8 v15 k0_t10).trips), ∀ (r : Fin 3), ∀ a, (k0_off319 v8 v15 k0_t10 k0_t15 (BitVec.ofNat 32 (1 + r.val))) a + S1x16.size a ≤ S128x256.size a := fun v8 v15 k0_hw2 k0_t10 k0_t15 r => k0_hw2.2.2.2.2.2.2.2.2.2.2.1.2.2.2.2.2.2.2.2.2.2.2.2.2.2.2.2.2.2.2.1 k0_t10 k0_t15 r
theorem k0_off320_inb : ∀ (v8 : BitVec 32) (v15 : BitVec 32) (k0_hw2 : k0_chk2 v8 v15) (k0_t10 : Fin (k0_t10_loop v8 v15).trips) (k0_t15 : Fin (k0_t15_loop v8 v15 k0_t10).trips), ∀ (r : Fin 3), ∀ a, (k0_off320 v8 v15 k0_t10 k0_t15 (BitVec.ofNat 32 (1 + r.val))) a + S1x16.size a ≤ S128x256.size a := fun v8 v15 k0_hw2 k0_t10 k0_t15 r => k0_hw2.2.2.2.2.2.2.2.2.2.2.1.2.2.2.2.2.2.2.2.2.2.2.2.2.2.2.2.2.2.2.2.1 k0_t10 k0_t15 r
theorem k0_off321_inb : ∀ (v8 : BitVec 32) (v15 : BitVec 32) (k0_hw2 : k0_chk2 v8 v15) (k0_t10 : Fin (k0_t10_loop v8 v15).trips) (k0_t15 : Fin (k0_t15_loop v8 v15 k0_t10).trips), ∀ (r : Fin 3), ∀ a, (k0_off321 v8 v15 k0_t10 k0_t15 (BitVec.ofNat 32 (1 + r.val))) a + S1x16.size a ≤ S128x256.size a := fun v8 v15 k0_hw2 k0_t10 k0_t15 r => k0_hw2.2.2.2.2.2.2.2.2.2.2.1.2.2.2.2.2.2.2.2.2.2.2.2.2.2.2.2.2.2.2.2.2.1 k0_t10 k0_t15 r
theorem k0_off322_inb : ∀ (v8 : BitVec 32) (v15 : BitVec 32) (k0_hw2 : k0_chk2 v8 v15) (k0_t10 : Fin (k0_t10_loop v8 v15).trips) (k0_t15 : Fin (k0_t15_loop v8 v15 k0_t10).trips), ∀ (r : Fin 3), ∀ a, (k0_off322 v8 v15 k0_t10 k0_t15 (BitVec.ofNat 32 (1 + r.val))) a + S1x16.size a ≤ S128x256.size a := fun v8 v15 k0_hw2 k0_t10 k0_t15 r => k0_hw2.2.2.2.2.2.2.2.2.2.2.1.2.2.2.2.2.2.2.2.2.2.2.2.2.2.2.2.2.2.2.2.2.2.1 k0_t10 k0_t15 r
theorem k0_off323_inb : ∀ (v8 : BitVec 32) (v15 : BitVec 32) (k0_hw2 : k0_chk2 v8 v15) (k0_t10 : Fin (k0_t10_loop v8 v15).trips) (k0_t15 : Fin (k0_t15_loop v8 v15 k0_t10).trips), ∀ (r : Fin 3), ∀ a, (k0_off323 v8 v15 k0_t10 k0_t15 (BitVec.ofNat 32 (1 + r.val))) a + S1x16.size a ≤ S128x256.size a := fun v8 v15 k0_hw2 k0_t10 k0_t15 r => k0_hw2.2.2.2.2.2.2.2.2.2.2.1.2.2.2.2.2.2.2.2.2.2.2.2.2.2.2.2.2.2.2.2.2.2.2.1 k0_t10 k0_t15 r
theorem k0_off324_inb : ∀ (v8 : BitVec 32) (v15 : BitVec 32) (k0_hw2 : k0_chk2 v8 v15) (k0_t10 : Fin (k0_t10_loop v8 v15).trips) (k0_t15 : Fin (k0_t15_loop v8 v15 k0_t10).trips), ∀ (r : Fin 3), ∀ a, (k0_off324 v8 v15 k0_t10 k0_t15 (BitVec.ofNat 32 (1 + r.val))) a + S1x16.size a ≤ S128x256.size a := fun v8 v15 k0_hw2 k0_t10 k0_t15 r => k0_hw2.2.2.2.2.2.2.2.2.2.2.1.2.2.2.2.2.2.2.2.2.2.2.2.2.2.2.2.2.2.2.2.2.2.2.2.1 k0_t10 k0_t15 r
theorem k0_off325_inb : ∀ (v8 : BitVec 32) (v15 : BitVec 32) (k0_hw2 : k0_chk2 v8 v15) (k0_t10 : Fin (k0_t10_loop v8 v15).trips) (k0_t15 : Fin (k0_t15_loop v8 v15 k0_t10).trips), ∀ (r : Fin 3), ∀ a, (k0_off325 v8 v15 k0_t10 k0_t15 (BitVec.ofNat 32 (1 + r.val))) a + S1x16.size a ≤ S128x256.size a := fun v8 v15 k0_hw2 k0_t10 k0_t15 r => k0_hw2.2.2.2.2.2.2.2.2.2.2.1.2.2.2.2.2.2.2.2.2.2.2.2.2.2.2.2.2.2.2.2.2.2.2.2.2.1 k0_t10 k0_t15 r
theorem k0_off326_inb : ∀ (v8 : BitVec 32) (v15 : BitVec 32) (k0_hw2 : k0_chk2 v8 v15) (k0_t10 : Fin (k0_t10_loop v8 v15).trips) (k0_t15 : Fin (k0_t15_loop v8 v15 k0_t10).trips), ∀ (r : Fin 3), ∀ a, (k0_off326 v8 v15 k0_t10 k0_t15 (BitVec.ofNat 32 (1 + r.val))) a + S1x16.size a ≤ S128x256.size a := fun v8 v15 k0_hw2 k0_t10 k0_t15 r => k0_hw2.2.2.2.2.2.2.2.2.2.2.1.2.2.2.2.2.2.2.2.2.2.2.2.2.2.2.2.2.2.2.2.2.2.2.2.2.2.1 k0_t10 k0_t15 r
theorem k0_t16_ok : ∀ (v8 : BitVec 32) (v15 : BitVec 32) (k0_hw2 : k0_chk2 v8 v15) (k0_t10 : Fin (k0_t10_loop v8 v15).trips), (k0_t16_loop v8 v15 k0_t10).OK := fun v8 v15 k0_hw2 k0_t10 => k0_hw2.2.2.2.2.2.2.2.2.2.2.1.2.2.2.2.2.2.2.2.2.2.2.2.2.2.2.2.2.2.2.2.2.2.2.2.2.2.2.1 k0_t10
theorem k0_off327_inb : ∀ (v8 : BitVec 32) (v15 : BitVec 32) (k0_hw2 : k0_chk2 v8 v15) (k0_t10 : Fin (k0_t10_loop v8 v15).trips) (k0_t16 : Fin (k0_t16_loop v8 v15 k0_t10).trips), ∀ a, (k0_off327 v8 v15 k0_t10 k0_t16) a + S1x16.size a ≤ S128x256.size a := fun v8 v15 k0_hw2 k0_t10 k0_t16 => k0_hw2.2.2.2.2.2.2.2.2.2.2.1.2.2.2.2.2.2.2.2.2.2.2.2.2.2.2.2.2.2.2.2.2.2.2.2.2.2.2.2.1 k0_t10 k0_t16
theorem k0_off328_inb : ∀ (v8 : BitVec 32) (v15 : BitVec 32) (k0_hw2 : k0_chk2 v8 v15) (k0_t10 : Fin (k0_t10_loop v8 v15).trips) (k0_t16 : Fin (k0_t16_loop v8 v15 k0_t10).trips), ∀ a, (k0_off328 v8 v15 k0_t10 k0_t16) a + S1x16.size a ≤ S128x256.size a := fun v8 v15 k0_hw2 k0_t10 k0_t16 => k0_hw2.2.2.2.2.2.2.2.2.2.2.1.2.2.2.2.2.2.2.2.2.2.2.2.2.2.2.2.2.2.2.2.2.2.2.2.2.2.2.2.2.1 k0_t10 k0_t16
theorem k0_off329_inb : ∀ (v8 : BitVec 32) (v15 : BitVec 32) (k0_hw2 : k0_chk2 v8 v15) (k0_t10 : Fin (k0_t10_loop v8 v15).trips) (k0_t16 : Fin (k0_t16_loop v8 v15 k0_t10).trips), ∀ a, (k0_off329 v8 v15 k0_t10 k0_t16) a + S1x16.size a ≤ S128x256.size a := fun v8 v15 k0_hw2 k0_t10 k0_t16 => k0_hw2.2.2.2.2.2.2.2.2.2.2.1.2.2.2.2.2.2.2.2.2.2.2.2.2.2.2.2.2.2.2.2.2.2.2.2.2.2.2.2.2.2.1 k0_t10 k0_t16
theorem k0_off330_inb : ∀ (v8 : BitVec 32) (v15 : BitVec 32) (k0_hw2 : k0_chk2 v8 v15) (k0_t10 : Fin (k0_t10_loop v8 v15).trips) (k0_t16 : Fin (k0_t16_loop v8 v15 k0_t10).trips), ∀ a, (k0_off330 v8 v15 k0_t10 k0_t16) a + S1x16.size a ≤ S128x256.size a := fun v8 v15 k0_hw2 k0_t10 k0_t16 => k0_hw2.2.2.2.2.2.2.2.2.2.2.1.2.2.2.2.2.2.2.2.2.2.2.2.2.2.2.2.2.2.2.2.2.2.2.2.2.2.2.2.2.2.2 k0_t10 k0_t16
theorem k0_off331_inb : ∀ (v8 : BitVec 32) (v15 : BitVec 32) (k0_hw2 : k0_chk2 v8 v15) (k0_t10 : Fin (k0_t10_loop v8 v15).trips) (k0_t16 : Fin (k0_t16_loop v8 v15 k0_t10).trips), ∀ a, (k0_off331 v8 v15 k0_t10 k0_t16) a + S1x16.size a ≤ S128x256.size a := fun v8 v15 k0_hw2 k0_t10 k0_t16 => k0_hw2.2.2.2.2.2.2.2.2.2.2.2.1.1 k0_t10 k0_t16
theorem k0_off332_inb : ∀ (v8 : BitVec 32) (v15 : BitVec 32) (k0_hw2 : k0_chk2 v8 v15) (k0_t10 : Fin (k0_t10_loop v8 v15).trips) (k0_t16 : Fin (k0_t16_loop v8 v15 k0_t10).trips), ∀ a, (k0_off332 v8 v15 k0_t10 k0_t16) a + S1x16.size a ≤ S128x256.size a := fun v8 v15 k0_hw2 k0_t10 k0_t16 => k0_hw2.2.2.2.2.2.2.2.2.2.2.2.1.2.1 k0_t10 k0_t16
theorem k0_off333_inb : ∀ (v8 : BitVec 32) (v15 : BitVec 32) (k0_hw2 : k0_chk2 v8 v15) (k0_t10 : Fin (k0_t10_loop v8 v15).trips) (k0_t16 : Fin (k0_t16_loop v8 v15 k0_t10).trips), ∀ a, (k0_off333 v8 v15 k0_t10 k0_t16) a + S1x16.size a ≤ S128x256.size a := fun v8 v15 k0_hw2 k0_t10 k0_t16 => k0_hw2.2.2.2.2.2.2.2.2.2.2.2.1.2.2.1 k0_t10 k0_t16
theorem k0_off334_inb : ∀ (v8 : BitVec 32) (v15 : BitVec 32) (k0_hw2 : k0_chk2 v8 v15) (k0_t10 : Fin (k0_t10_loop v8 v15).trips) (k0_t16 : Fin (k0_t16_loop v8 v15 k0_t10).trips), ∀ a, (k0_off334 v8 v15 k0_t10 k0_t16) a + S1x16.size a ≤ S128x256.size a := fun v8 v15 k0_hw2 k0_t10 k0_t16 => k0_hw2.2.2.2.2.2.2.2.2.2.2.2.1.2.2.2.1 k0_t10 k0_t16
theorem k0_off335_inb : ∀ (v8 : BitVec 32) (v15 : BitVec 32) (k0_hw2 : k0_chk2 v8 v15) (k0_t10 : Fin (k0_t10_loop v8 v15).trips) (k0_t16 : Fin (k0_t16_loop v8 v15 k0_t10).trips), ∀ a, (k0_off335 v8 v15 k0_t10 k0_t16) a + S1x16.size a ≤ S128x256.size a := fun v8 v15 k0_hw2 k0_t10 k0_t16 => k0_hw2.2.2.2.2.2.2.2.2.2.2.2.1.2.2.2.2.1 k0_t10 k0_t16
theorem k0_off336_inb : ∀ (v8 : BitVec 32) (v15 : BitVec 32) (k0_hw2 : k0_chk2 v8 v15) (k0_t10 : Fin (k0_t10_loop v8 v15).trips) (k0_t16 : Fin (k0_t16_loop v8 v15 k0_t10).trips), ∀ a, (k0_off336 v8 v15 k0_t10 k0_t16) a + S1x16.size a ≤ S128x256.size a := fun v8 v15 k0_hw2 k0_t10 k0_t16 => k0_hw2.2.2.2.2.2.2.2.2.2.2.2.1.2.2.2.2.2.1 k0_t10 k0_t16
theorem k0_off337_inb : ∀ (v8 : BitVec 32) (v15 : BitVec 32) (k0_hw2 : k0_chk2 v8 v15) (k0_t10 : Fin (k0_t10_loop v8 v15).trips) (k0_t16 : Fin (k0_t16_loop v8 v15 k0_t10).trips), ∀ a, (k0_off337 v8 v15 k0_t10 k0_t16) a + S1x16.size a ≤ S128x256.size a := fun v8 v15 k0_hw2 k0_t10 k0_t16 => k0_hw2.2.2.2.2.2.2.2.2.2.2.2.1.2.2.2.2.2.2.1 k0_t10 k0_t16
theorem k0_off338_inb : ∀ (v8 : BitVec 32) (v15 : BitVec 32) (k0_hw2 : k0_chk2 v8 v15) (k0_t10 : Fin (k0_t10_loop v8 v15).trips) (k0_t16 : Fin (k0_t16_loop v8 v15 k0_t10).trips), ∀ a, (k0_off338 v8 v15 k0_t10 k0_t16) a + S1x16.size a ≤ S128x256.size a := fun v8 v15 k0_hw2 k0_t10 k0_t16 => k0_hw2.2.2.2.2.2.2.2.2.2.2.2.1.2.2.2.2.2.2.2.1 k0_t10 k0_t16
theorem k0_off339_inb : ∀ (v8 : BitVec 32) (v15 : BitVec 32) (k0_hw2 : k0_chk2 v8 v15) (k0_t10 : Fin (k0_t10_loop v8 v15).trips) (k0_t16 : Fin (k0_t16_loop v8 v15 k0_t10).trips), ∀ a, (k0_off339 v8 v15 k0_t10 k0_t16) a + S1x16.size a ≤ S128x256.size a := fun v8 v15 k0_hw2 k0_t10 k0_t16 => k0_hw2.2.2.2.2.2.2.2.2.2.2.2.1.2.2.2.2.2.2.2.2.1 k0_t10 k0_t16
theorem k0_off340_inb : ∀ (v8 : BitVec 32) (v15 : BitVec 32) (k0_hw2 : k0_chk2 v8 v15) (k0_t10 : Fin (k0_t10_loop v8 v15).trips) (k0_t16 : Fin (k0_t16_loop v8 v15 k0_t10).trips), ∀ a, (k0_off340 v8 v15 k0_t10 k0_t16) a + S1x16.size a ≤ S128x256.size a := fun v8 v15 k0_hw2 k0_t10 k0_t16 => k0_hw2.2.2.2.2.2.2.2.2.2.2.2.1.2.2.2.2.2.2.2.2.2.1 k0_t10 k0_t16
theorem k0_off341_inb : ∀ (v8 : BitVec 32) (v15 : BitVec 32) (k0_hw2 : k0_chk2 v8 v15) (k0_t10 : Fin (k0_t10_loop v8 v15).trips) (k0_t16 : Fin (k0_t16_loop v8 v15 k0_t10).trips), ∀ a, (k0_off341 v8 v15 k0_t10 k0_t16) a + S1x16.size a ≤ S128x256.size a := fun v8 v15 k0_hw2 k0_t10 k0_t16 => k0_hw2.2.2.2.2.2.2.2.2.2.2.2.1.2.2.2.2.2.2.2.2.2.2.1 k0_t10 k0_t16
theorem k0_off342_inb : ∀ (v8 : BitVec 32) (v15 : BitVec 32) (k0_hw2 : k0_chk2 v8 v15) (k0_t10 : Fin (k0_t10_loop v8 v15).trips) (k0_t16 : Fin (k0_t16_loop v8 v15 k0_t10).trips), ∀ a, (k0_off342 v8 v15 k0_t10 k0_t16) a + S1x16.size a ≤ S128x256.size a := fun v8 v15 k0_hw2 k0_t10 k0_t16 => k0_hw2.2.2.2.2.2.2.2.2.2.2.2.1.2.2.2.2.2.2.2.2.2.2.2.1 k0_t10 k0_t16
theorem k0_off343_inb : ∀ (v8 : BitVec 32) (v15 : BitVec 32) (k0_hw2 : k0_chk2 v8 v15) (k0_t10 : Fin (k0_t10_loop v8 v15).trips) (k0_t16 : Fin (k0_t16_loop v8 v15 k0_t10).trips), ∀ (r : Fin 3), ∀ a, (k0_off343 v8 v15 k0_t10 k0_t16 (BitVec.ofNat 32 (1 + r.val))) a + S1x16.size a ≤ S128x256.size a := fun v8 v15 k0_hw2 k0_t10 k0_t16 r => k0_hw2.2.2.2.2.2.2.2.2.2.2.2.1.2.2.2.2.2.2.2.2.2.2.2.2.1 k0_t10 k0_t16 r
theorem k0_off344_inb : ∀ (v8 : BitVec 32) (v15 : BitVec 32) (k0_hw2 : k0_chk2 v8 v15) (k0_t10 : Fin (k0_t10_loop v8 v15).trips) (k0_t16 : Fin (k0_t16_loop v8 v15 k0_t10).trips), ∀ (r : Fin 3), ∀ a, (k0_off344 v8 v15 k0_t10 k0_t16 (BitVec.ofNat 32 (1 + r.val))) a + S1x16.size a ≤ S128x256.size a := fun v8 v15 k0_hw2 k0_t10 k0_t16 r => k0_hw2.2.2.2.2.2.2.2.2.2.2.2.1.2.2.2.2.2.2.2.2.2.2.2.2.2.1 k0_t10 k0_t16 r
theorem k0_off345_inb : ∀ (v8 : BitVec 32) (v15 : BitVec 32) (k0_hw2 : k0_chk2 v8 v15) (k0_t10 : Fin (k0_t10_loop v8 v15).trips) (k0_t16 : Fin (k0_t16_loop v8 v15 k0_t10).trips), ∀ (r : Fin 3), ∀ a, (k0_off345 v8 v15 k0_t10 k0_t16 (BitVec.ofNat 32 (1 + r.val))) a + S1x16.size a ≤ S128x256.size a := fun v8 v15 k0_hw2 k0_t10 k0_t16 r => k0_hw2.2.2.2.2.2.2.2.2.2.2.2.1.2.2.2.2.2.2.2.2.2.2.2.2.2.2.1 k0_t10 k0_t16 r
theorem k0_off346_inb : ∀ (v8 : BitVec 32) (v15 : BitVec 32) (k0_hw2 : k0_chk2 v8 v15) (k0_t10 : Fin (k0_t10_loop v8 v15).trips) (k0_t16 : Fin (k0_t16_loop v8 v15 k0_t10).trips), ∀ (r : Fin 3), ∀ a, (k0_off346 v8 v15 k0_t10 k0_t16 (BitVec.ofNat 32 (1 + r.val))) a + S1x16.size a ≤ S128x256.size a := fun v8 v15 k0_hw2 k0_t10 k0_t16 r => k0_hw2.2.2.2.2.2.2.2.2.2.2.2.1.2.2.2.2.2.2.2.2.2.2.2.2.2.2.2.1 k0_t10 k0_t16 r
theorem k0_off347_inb : ∀ (v8 : BitVec 32) (v15 : BitVec 32) (k0_hw2 : k0_chk2 v8 v15) (k0_t10 : Fin (k0_t10_loop v8 v15).trips) (k0_t16 : Fin (k0_t16_loop v8 v15 k0_t10).trips), ∀ (r : Fin 3), ∀ a, (k0_off347 v8 v15 k0_t10 k0_t16 (BitVec.ofNat 32 (1 + r.val))) a + S1x16.size a ≤ S128x256.size a := fun v8 v15 k0_hw2 k0_t10 k0_t16 r => k0_hw2.2.2.2.2.2.2.2.2.2.2.2.1.2.2.2.2.2.2.2.2.2.2.2.2.2.2.2.2.1 k0_t10 k0_t16 r
theorem k0_off348_inb : ∀ (v8 : BitVec 32) (v15 : BitVec 32) (k0_hw2 : k0_chk2 v8 v15) (k0_t10 : Fin (k0_t10_loop v8 v15).trips) (k0_t16 : Fin (k0_t16_loop v8 v15 k0_t10).trips), ∀ (r : Fin 3), ∀ a, (k0_off348 v8 v15 k0_t10 k0_t16 (BitVec.ofNat 32 (1 + r.val))) a + S1x16.size a ≤ S128x256.size a := fun v8 v15 k0_hw2 k0_t10 k0_t16 r => k0_hw2.2.2.2.2.2.2.2.2.2.2.2.1.2.2.2.2.2.2.2.2.2.2.2.2.2.2.2.2.2.1 k0_t10 k0_t16 r
theorem k0_off349_inb : ∀ (v8 : BitVec 32) (v15 : BitVec 32) (k0_hw2 : k0_chk2 v8 v15) (k0_t10 : Fin (k0_t10_loop v8 v15).trips) (k0_t16 : Fin (k0_t16_loop v8 v15 k0_t10).trips), ∀ (r : Fin 3), ∀ a, (k0_off349 v8 v15 k0_t10 k0_t16 (BitVec.ofNat 32 (1 + r.val))) a + S1x16.size a ≤ S128x256.size a := fun v8 v15 k0_hw2 k0_t10 k0_t16 r => k0_hw2.2.2.2.2.2.2.2.2.2.2.2.1.2.2.2.2.2.2.2.2.2.2.2.2.2.2.2.2.2.2.1 k0_t10 k0_t16 r
theorem k0_off350_inb : ∀ (v8 : BitVec 32) (v15 : BitVec 32) (k0_hw2 : k0_chk2 v8 v15) (k0_t10 : Fin (k0_t10_loop v8 v15).trips) (k0_t16 : Fin (k0_t16_loop v8 v15 k0_t10).trips), ∀ (r : Fin 3), ∀ a, (k0_off350 v8 v15 k0_t10 k0_t16 (BitVec.ofNat 32 (1 + r.val))) a + S1x16.size a ≤ S128x256.size a := fun v8 v15 k0_hw2 k0_t10 k0_t16 r => k0_hw2.2.2.2.2.2.2.2.2.2.2.2.1.2.2.2.2.2.2.2.2.2.2.2.2.2.2.2.2.2.2.2.1 k0_t10 k0_t16 r
theorem k0_off351_inb : ∀ (v8 : BitVec 32) (v15 : BitVec 32) (k0_hw2 : k0_chk2 v8 v15) (k0_t10 : Fin (k0_t10_loop v8 v15).trips) (k0_t16 : Fin (k0_t16_loop v8 v15 k0_t10).trips), ∀ (r : Fin 3), ∀ a, (k0_off351 v8 v15 k0_t10 k0_t16 (BitVec.ofNat 32 (1 + r.val))) a + S1x16.size a ≤ S128x256.size a := fun v8 v15 k0_hw2 k0_t10 k0_t16 r => k0_hw2.2.2.2.2.2.2.2.2.2.2.2.1.2.2.2.2.2.2.2.2.2.2.2.2.2.2.2.2.2.2.2.2.1 k0_t10 k0_t16 r
theorem k0_off352_inb : ∀ (v8 : BitVec 32) (v15 : BitVec 32) (k0_hw2 : k0_chk2 v8 v15) (k0_t10 : Fin (k0_t10_loop v8 v15).trips) (k0_t16 : Fin (k0_t16_loop v8 v15 k0_t10).trips), ∀ (r : Fin 3), ∀ a, (k0_off352 v8 v15 k0_t10 k0_t16 (BitVec.ofNat 32 (1 + r.val))) a + S1x16.size a ≤ S128x256.size a := fun v8 v15 k0_hw2 k0_t10 k0_t16 r => k0_hw2.2.2.2.2.2.2.2.2.2.2.2.1.2.2.2.2.2.2.2.2.2.2.2.2.2.2.2.2.2.2.2.2.2.1 k0_t10 k0_t16 r
theorem k0_off353_inb : ∀ (v8 : BitVec 32) (v15 : BitVec 32) (k0_hw2 : k0_chk2 v8 v15) (k0_t10 : Fin (k0_t10_loop v8 v15).trips) (k0_t16 : Fin (k0_t16_loop v8 v15 k0_t10).trips), ∀ (r : Fin 3), ∀ a, (k0_off353 v8 v15 k0_t10 k0_t16 (BitVec.ofNat 32 (1 + r.val))) a + S1x16.size a ≤ S128x256.size a := fun v8 v15 k0_hw2 k0_t10 k0_t16 r => k0_hw2.2.2.2.2.2.2.2.2.2.2.2.1.2.2.2.2.2.2.2.2.2.2.2.2.2.2.2.2.2.2.2.2.2.2.1 k0_t10 k0_t16 r
theorem k0_off354_inb : ∀ (v8 : BitVec 32) (v15 : BitVec 32) (k0_hw2 : k0_chk2 v8 v15) (k0_t10 : Fin (k0_t10_loop v8 v15).trips) (k0_t16 : Fin (k0_t16_loop v8 v15 k0_t10).trips), ∀ (r : Fin 3), ∀ a, (k0_off354 v8 v15 k0_t10 k0_t16 (BitVec.ofNat 32 (1 + r.val))) a + S1x16.size a ≤ S128x256.size a := fun v8 v15 k0_hw2 k0_t10 k0_t16 r => k0_hw2.2.2.2.2.2.2.2.2.2.2.2.1.2.2.2.2.2.2.2.2.2.2.2.2.2.2.2.2.2.2.2.2.2.2.2.1 k0_t10 k0_t16 r
theorem k0_off355_inb : ∀ (v8 : BitVec 32) (v15 : BitVec 32) (k0_hw2 : k0_chk2 v8 v15) (k0_t10 : Fin (k0_t10_loop v8 v15).trips) (k0_t16 : Fin (k0_t16_loop v8 v15 k0_t10).trips), ∀ (r : Fin 3), ∀ a, (k0_off355 v8 v15 k0_t10 k0_t16 (BitVec.ofNat 32 (1 + r.val))) a + S1x16.size a ≤ S128x256.size a := fun v8 v15 k0_hw2 k0_t10 k0_t16 r => k0_hw2.2.2.2.2.2.2.2.2.2.2.2.1.2.2.2.2.2.2.2.2.2.2.2.2.2.2.2.2.2.2.2.2.2.2.2.2.1 k0_t10 k0_t16 r
theorem k0_off356_inb : ∀ (v8 : BitVec 32) (v15 : BitVec 32) (k0_hw2 : k0_chk2 v8 v15) (k0_t10 : Fin (k0_t10_loop v8 v15).trips) (k0_t16 : Fin (k0_t16_loop v8 v15 k0_t10).trips), ∀ (r : Fin 3), ∀ a, (k0_off356 v8 v15 k0_t10 k0_t16 (BitVec.ofNat 32 (1 + r.val))) a + S1x16.size a ≤ S128x256.size a := fun v8 v15 k0_hw2 k0_t10 k0_t16 r => k0_hw2.2.2.2.2.2.2.2.2.2.2.2.1.2.2.2.2.2.2.2.2.2.2.2.2.2.2.2.2.2.2.2.2.2.2.2.2.2.1 k0_t10 k0_t16 r
theorem k0_off357_inb : ∀ (v8 : BitVec 32) (v15 : BitVec 32) (k0_hw2 : k0_chk2 v8 v15) (k0_t10 : Fin (k0_t10_loop v8 v15).trips) (k0_t16 : Fin (k0_t16_loop v8 v15 k0_t10).trips), ∀ (r : Fin 3), ∀ a, (k0_off357 v8 v15 k0_t10 k0_t16 (BitVec.ofNat 32 (1 + r.val))) a + S1x16.size a ≤ S128x256.size a := fun v8 v15 k0_hw2 k0_t10 k0_t16 r => k0_hw2.2.2.2.2.2.2.2.2.2.2.2.1.2.2.2.2.2.2.2.2.2.2.2.2.2.2.2.2.2.2.2.2.2.2.2.2.2.2.1 k0_t10 k0_t16 r
theorem k0_off358_inb : ∀ (v8 : BitVec 32) (v15 : BitVec 32) (k0_hw2 : k0_chk2 v8 v15) (k0_t10 : Fin (k0_t10_loop v8 v15).trips) (k0_t16 : Fin (k0_t16_loop v8 v15 k0_t10).trips), ∀ (r : Fin 3), ∀ a, (k0_off358 v8 v15 k0_t10 k0_t16 (BitVec.ofNat 32 (1 + r.val))) a + S1x16.size a ≤ S128x256.size a := fun v8 v15 k0_hw2 k0_t10 k0_t16 r => k0_hw2.2.2.2.2.2.2.2.2.2.2.2.1.2.2.2.2.2.2.2.2.2.2.2.2.2.2.2.2.2.2.2.2.2.2.2.2.2.2.2.1 k0_t10 k0_t16 r
theorem k0_t17_ok : ∀ (v8 : BitVec 32) (v15 : BitVec 32) (k0_hw2 : k0_chk2 v8 v15) (k0_t10 : Fin (k0_t10_loop v8 v15).trips), (k0_t17_loop v8 v15 k0_t10).OK := fun v8 v15 k0_hw2 k0_t10 => k0_hw2.2.2.2.2.2.2.2.2.2.2.2.1.2.2.2.2.2.2.2.2.2.2.2.2.2.2.2.2.2.2.2.2.2.2.2.2.2.2.2.2.1 k0_t10
theorem k0_off359_inb : ∀ (v8 : BitVec 32) (v15 : BitVec 32) (k0_hw2 : k0_chk2 v8 v15) (k0_t10 : Fin (k0_t10_loop v8 v15).trips) (k0_t17 : Fin (k0_t17_loop v8 v15 k0_t10).trips), ∀ a, (k0_off359 v8 v15 k0_t10 k0_t17) a + S1x16.size a ≤ S128x256.size a := fun v8 v15 k0_hw2 k0_t10 k0_t17 => k0_hw2.2.2.2.2.2.2.2.2.2.2.2.1.2.2.2.2.2.2.2.2.2.2.2.2.2.2.2.2.2.2.2.2.2.2.2.2.2.2.2.2.2.1 k0_t10 k0_t17
theorem k0_off360_inb : ∀ (v8 : BitVec 32) (v15 : BitVec 32) (k0_hw2 : k0_chk2 v8 v15) (k0_t10 : Fin (k0_t10_loop v8 v15).trips) (k0_t17 : Fin (k0_t17_loop v8 v15 k0_t10).trips), ∀ a, (k0_off360 v8 v15 k0_t10 k0_t17) a + S1x16.size a ≤ S128x256.size a := fun v8 v15 k0_hw2 k0_t10 k0_t17 => k0_hw2.2.2.2.2.2.2.2.2.2.2.2.1.2.2.2.2.2.2.2.2.2.2.2.2.2.2.2.2.2.2.2.2.2.2.2.2.2.2.2.2.2.2.1 k0_t10 k0_t17
theorem k0_off361_inb : ∀ (v8 : BitVec 32) (v15 : BitVec 32) (k0_hw2 : k0_chk2 v8 v15) (k0_t10 : Fin (k0_t10_loop v8 v15).trips) (k0_t17 : Fin (k0_t17_loop v8 v15 k0_t10).trips), ∀ a, (k0_off361 v8 v15 k0_t10 k0_t17) a + S1x16.size a ≤ S128x256.size a := fun v8 v15 k0_hw2 k0_t10 k0_t17 => k0_hw2.2.2.2.2.2.2.2.2.2.2.2.1.2.2.2.2.2.2.2.2.2.2.2.2.2.2.2.2.2.2.2.2.2.2.2.2.2.2.2.2.2.2.2 k0_t10 k0_t17
theorem k0_off362_inb : ∀ (v8 : BitVec 32) (v15 : BitVec 32) (k0_hw2 : k0_chk2 v8 v15) (k0_t10 : Fin (k0_t10_loop v8 v15).trips) (k0_t17 : Fin (k0_t17_loop v8 v15 k0_t10).trips), ∀ a, (k0_off362 v8 v15 k0_t10 k0_t17) a + S1x16.size a ≤ S128x256.size a := fun v8 v15 k0_hw2 k0_t10 k0_t17 => k0_hw2.2.2.2.2.2.2.2.2.2.2.2.2.1 k0_t10 k0_t17
theorem k0_off363_inb : ∀ (v8 : BitVec 32) (v15 : BitVec 32) (k0_hw2 : k0_chk2 v8 v15) (k0_t10 : Fin (k0_t10_loop v8 v15).trips) (k0_t17 : Fin (k0_t17_loop v8 v15 k0_t10).trips), ∀ a, (k0_off363 v8 v15 k0_t10 k0_t17) a + S1x16.size a ≤ S128x256.size a := fun v8 v15 k0_hw2 k0_t10 k0_t17 => k0_hw2.2.2.2.2.2.2.2.2.2.2.2.2.2.1 k0_t10 k0_t17
theorem k0_off364_inb : ∀ (v8 : BitVec 32) (v15 : BitVec 32) (k0_hw2 : k0_chk2 v8 v15) (k0_t10 : Fin (k0_t10_loop v8 v15).trips) (k0_t17 : Fin (k0_t17_loop v8 v15 k0_t10).trips), ∀ a, (k0_off364 v8 v15 k0_t10 k0_t17) a + S1x16.size a ≤ S128x256.size a := fun v8 v15 k0_hw2 k0_t10 k0_t17 => k0_hw2.2.2.2.2.2.2.2.2.2.2.2.2.2.2.1 k0_t10 k0_t17
theorem k0_off365_inb : ∀ (v8 : BitVec 32) (v15 : BitVec 32) (k0_hw2 : k0_chk2 v8 v15) (k0_t10 : Fin (k0_t10_loop v8 v15).trips) (k0_t17 : Fin (k0_t17_loop v8 v15 k0_t10).trips), ∀ a, (k0_off365 v8 v15 k0_t10 k0_t17) a + S1x16.size a ≤ S128x256.size a := fun v8 v15 k0_hw2 k0_t10 k0_t17 => k0_hw2.2.2.2.2.2.2.2.2.2.2.2.2.2.2.2.1 k0_t10 k0_t17
theorem k0_off366_inb : ∀ (v8 : BitVec 32) (v15 : BitVec 32) (k0_hw2 : k0_chk2 v8 v15) (k0_t10 : Fin (k0_t10_loop v8 v15).trips) (k0_t17 : Fin (k0_t17_loop v8 v15 k0_t10).trips), ∀ a, (k0_off366 v8 v15 k0_t10 k0_t17) a + S1x16.size a ≤ S128x256.size a := fun v8 v15 k0_hw2 k0_t10 k0_t17 => k0_hw2.2.2.2.2.2.2.2.2.2.2.2.2.2.2.2.2.1 k0_t10 k0_t17
theorem k0_off367_inb : ∀ (v8 : BitVec 32) (v15 : BitVec 32) (k0_hw2 : k0_chk2 v8 v15) (k0_t10 : Fin (k0_t10_loop v8 v15).trips) (k0_t17 : Fin (k0_t17_loop v8 v15 k0_t10).trips), ∀ a, (k0_off367 v8 v15 k0_t10 k0_t17) a + S1x16.size a ≤ S128x256.size a := fun v8 v15 k0_hw2 k0_t10 k0_t17 => k0_hw2.2.2.2.2.2.2.2.2.2.2.2.2.2.2.2.2.2.1 k0_t10 k0_t17
theorem k0_off368_inb : ∀ (v8 : BitVec 32) (v15 : BitVec 32) (k0_hw2 : k0_chk2 v8 v15) (k0_t10 : Fin (k0_t10_loop v8 v15).trips) (k0_t17 : Fin (k0_t17_loop v8 v15 k0_t10).trips), ∀ a, (k0_off368 v8 v15 k0_t10 k0_t17) a + S1x16.size a ≤ S128x256.size a := fun v8 v15 k0_hw2 k0_t10 k0_t17 => k0_hw2.2.2.2.2.2.2.2.2.2.2.2.2.2.2.2.2.2.2.1 k0_t10 k0_t17
theorem k0_off369_inb : ∀ (v8 : BitVec 32) (v15 : BitVec 32) (k0_hw2 : k0_chk2 v8 v15) (k0_t10 : Fin (k0_t10_loop v8 v15).trips) (k0_t17 : Fin (k0_t17_loop v8 v15 k0_t10).trips), ∀ a, (k0_off369 v8 v15 k0_t10 k0_t17) a + S1x16.size a ≤ S128x256.size a := fun v8 v15 k0_hw2 k0_t10 k0_t17 => k0_hw2.2.2.2.2.2.2.2.2.2.2.2.2.2.2.2.2.2.2.2.1 k0_t10 k0_t17
theorem k0_off370_inb : ∀ (v8 : BitVec 32) (v15 : BitVec 32) (k0_hw2 : k0_chk2 v8 v15) (k0_t10 : Fin (k0_t10_loop v8 v15).trips) (k0_t17 : Fin (k0_t17_loop v8 v15 k0_t10).trips), ∀ a, (k0_off370 v8 v15 k0_t10 k0_t17) a + S1x16.size a ≤ S128x256.size a := fun v8 v15 k0_hw2 k0_t10 k0_t17 => k0_hw2.2.2.2.2.2.2.2.2.2.2.2.2.2.2.2.2.2.2.2.2.1 k0_t10 k0_t17
theorem k0_off371_inb : ∀ (v8 : BitVec 32) (v15 : BitVec 32) (k0_hw2 : k0_chk2 v8 v15) (k0_t10 : Fin (k0_t10_loop v8 v15).trips) (k0_t17 : Fin (k0_t17_loop v8 v15 k0_t10).trips), ∀ a, (k0_off371 v8 v15 k0_t10 k0_t17) a + S1x16.size a ≤ S128x256.size a := fun v8 v15 k0_hw2 k0_t10 k0_t17 => k0_hw2.2.2.2.2.2.2.2.2.2.2.2.2.2.2.2.2.2.2.2.2.2.1 k0_t10 k0_t17
theorem k0_off372_inb : ∀ (v8 : BitVec 32) (v15 : BitVec 32) (k0_hw2 : k0_chk2 v8 v15) (k0_t10 : Fin (k0_t10_loop v8 v15).trips) (k0_t17 : Fin (k0_t17_loop v8 v15 k0_t10).trips), ∀ a, (k0_off372 v8 v15 k0_t10 k0_t17) a + S1x16.size a ≤ S128x256.size a := fun v8 v15 k0_hw2 k0_t10 k0_t17 => k0_hw2.2.2.2.2.2.2.2.2.2.2.2.2.2.2.2.2.2.2.2.2.2.2.1 k0_t10 k0_t17
theorem k0_off373_inb : ∀ (v8 : BitVec 32) (v15 : BitVec 32) (k0_hw2 : k0_chk2 v8 v15) (k0_t10 : Fin (k0_t10_loop v8 v15).trips) (k0_t17 : Fin (k0_t17_loop v8 v15 k0_t10).trips), ∀ a, (k0_off373 v8 v15 k0_t10 k0_t17) a + S1x16.size a ≤ S128x256.size a := fun v8 v15 k0_hw2 k0_t10 k0_t17 => k0_hw2.2.2.2.2.2.2.2.2.2.2.2.2.2.2.2.2.2.2.2.2.2.2.2.1 k0_t10 k0_t17
theorem k0_off374_inb : ∀ (v8 : BitVec 32) (v15 : BitVec 32) (k0_hw2 : k0_chk2 v8 v15) (k0_t10 : Fin (k0_t10_loop v8 v15).trips) (k0_t17 : Fin (k0_t17_loop v8 v15 k0_t10).trips), ∀ a, (k0_off374 v8 v15 k0_t10 k0_t17) a + S1x16.size a ≤ S128x256.size a := fun v8 v15 k0_hw2 k0_t10 k0_t17 => k0_hw2.2.2.2.2.2.2.2.2.2.2.2.2.2.2.2.2.2.2.2.2.2.2.2.2.1 k0_t10 k0_t17
theorem k0_t18_ok : ∀ (v8 : BitVec 32) (v15 : BitVec 32) (k0_hw2 : k0_chk2 v8 v15) (k0_t10 : Fin (k0_t10_loop v8 v15).trips), (k0_t18_loop v8 v15 k0_t10).OK := fun v8 v15 k0_hw2 k0_t10 => k0_hw2.2.2.2.2.2.2.2.2.2.2.2.2.2.2.2.2.2.2.2.2.2.2.2.2.2.1 k0_t10
theorem k0_off375_inb : ∀ (v8 : BitVec 32) (v15 : BitVec 32) (k0_hw2 : k0_chk2 v8 v15) (k0_t10 : Fin (k0_t10_loop v8 v15).trips) (k0_t18 : Fin (k0_t18_loop v8 v15 k0_t10).trips), ∀ a, (k0_off375 v8 v15 k0_t10 k0_t18) a + S1x16.size a ≤ S128x256.size a := fun v8 v15 k0_hw2 k0_t10 k0_t18 => k0_hw2.2.2.2.2.2.2.2.2.2.2.2.2.2.2.2.2.2.2.2.2.2.2.2.2.2.2.1 k0_t10 k0_t18
theorem k0_off376_inb : ∀ (v8 : BitVec 32) (v15 : BitVec 32) (k0_hw2 : k0_chk2 v8 v15) (k0_t10 : Fin (k0_t10_loop v8 v15).trips) (k0_t18 : Fin (k0_t18_loop v8 v15 k0_t10).trips), ∀ a, (k0_off376 v8 v15 k0_t10 k0_t18) a + S1x16.size a ≤ S128x256.size a := fun v8 v15 k0_hw2 k0_t10 k0_t18 => k0_hw2.2.2.2.2.2.2.2.2.2.2.2.2.2.2.2.2.2.2.2.2.2.2.2.2.2.2.2.1 k0_t10 k0_t18
theorem k0_off377_inb : ∀ (v8 : BitVec 32) (v15 : BitVec 32) (k0_hw2 : k0_chk2 v8 v15) (k0_t10 : Fin (k0_t10_loop v8 v15).trips) (k0_t18 : Fin (k0_t18_loop v8 v15 k0_t10).trips), ∀ a, (k0_off377 v8 v15 k0_t10 k0_t18) a + S1x16.size a ≤ S128x256.size a := fun v8 v15 k0_hw2 k0_t10 k0_t18 => k0_hw2.2.2.2.2.2.2.2.2.2.2.2.2.2.2.2.2.2.2.2.2.2.2.2.2.2.2.2.2.1 k0_t10 k0_t18
theorem k0_off378_inb : ∀ (v8 : BitVec 32) (v15 : BitVec 32) (k0_hw2 : k0_chk2 v8 v15) (k0_t10 : Fin (k0_t10_loop v8 v15).trips) (k0_t18 : Fin (k0_t18_loop v8 v15 k0_t10).trips), ∀ a, (k0_off378 v8 v15 k0_t10 k0_t18) a + S1x16.size a ≤ S128x256.size a := fun v8 v15 k0_hw2 k0_t10 k0_t18 => k0_hw2.2.2.2.2.2.2.2.2.2.2.2.2.2.2.2.2.2.2.2.2.2.2.2.2.2.2.2.2.2.1 k0_t10 k0_t18
theorem k0_off379_inb : ∀ (v8 : BitVec 32) (v15 : BitVec 32) (k0_hw2 : k0_chk2 v8 v15) (k0_t10 : Fin (k0_t10_loop v8 v15).trips) (k0_t18 : Fin (k0_t18_loop v8 v15 k0_t10).trips), ∀ a, (k0_off379 v8 v15 k0_t10 k0_t18) a + S1x16.size a ≤ S128x256.size a := fun v8 v15 k0_hw2 k0_t10 k0_t18 => k0_hw2.2.2.2.2.2.2.2.2.2.2.2.2.2.2.2.2.2.2.2.2.2.2.2.2.2.2.2.2.2.2.1 k0_t10 k0_t18
theorem k0_off380_inb : ∀ (v8 : BitVec 32) (v15 : BitVec 32) (k0_hw2 : k0_chk2 v8 v15) (k0_t10 : Fin (k0_t10_loop v8 v15).trips) (k0_t18 : Fin (k0_t18_loop v8 v15 k0_t10).trips), ∀ a, (k0_off380 v8 v15 k0_t10 k0_t18) a + S1x16.size a ≤ S128x256.size a := fun v8 v15 k0_hw2 k0_t10 k0_t18 => k0_hw2.2.2.2.2.2.2.2.2.2.2.2.2.2.2.2.2.2.2.2.2.2.2.2.2.2.2.2.2.2.2.2.1 k0_t10 k0_t18
theorem k0_off381_inb : ∀ (v8 : BitVec 32) (v15 : BitVec 32) (k0_hw2 : k0_chk2 v8 v15) (k0_t10 : Fin (k0_t10_loop v8 v15).trips) (k0_t18 : Fin (k0_t18_loop v8 v15 k0_t10).trips), ∀ a, (k0_off381 v8 v15 k0_t10 k0_t18) a + S1x16.size a ≤ S128x256.size a := fun v8 v15 k0_hw2 k0_t10 k0_t18 => k0_hw2.2.2.2.2.2.2.2.2.2.2.2.2.2.2.2.2.2.2.2.2.2.2.2.2.2.2.2.2.2.2.2.2.1 k0_t10 k0_t18
theorem k0_off382_inb : ∀ (v8 : BitVec 32) (v15 : BitVec 32) (k0_hw2 : k0_chk2 v8 v15) (k0_t10 : Fin (k0_t10_loop v8 v15).trips) (k0_t18 : Fin (k0_t18_loop v8 v15 k0_t10).trips), ∀ a, (k0_off382 v8 v15 k0_t10 k0_t18) a + S1x16.size a ≤ S128x256.size a := fun v8 v15 k0_hw2 k0_t10 k0_t18 => k0_hw2.2.2.2.2.2.2.2.2.2.2.2.2.2.2.2.2.2.2.2.2.2.2.2.2.2.2.2.2.2.2.2.2.2.1 k0_t10 k0_t18
theorem k0_off383_inb : ∀ (v8 : BitVec 32) (v15 : BitVec 32) (k0_hw2 : k0_chk2 v8 v15) (k0_t10 : Fin (k0_t10_loop v8 v15).trips) (k0_t18 : Fin (k0_t18_loop v8 v15 k0_t10).trips), ∀ a, (k0_off383 v8 v15 k0_t10 k0_t18) a + S1x16.size a ≤ S128x256.size a := fun v8 v15 k0_hw2 k0_t10 k0_t18 => k0_hw2.2.2.2.2.2.2.2.2.2.2.2.2.2.2.2.2.2.2.2.2.2.2.2.2.2.2.2.2.2.2.2.2.2.2.1 k0_t10 k0_t18
theorem k0_off384_inb : ∀ (v8 : BitVec 32) (v15 : BitVec 32) (k0_hw2 : k0_chk2 v8 v15) (k0_t10 : Fin (k0_t10_loop v8 v15).trips) (k0_t18 : Fin (k0_t18_loop v8 v15 k0_t10).trips), ∀ a, (k0_off384 v8 v15 k0_t10 k0_t18) a + S1x16.size a ≤ S128x256.size a := fun v8 v15 k0_hw2 k0_t10 k0_t18 => k0_hw2.2.2.2.2.2.2.2.2.2.2.2.2.2.2.2.2.2.2.2.2.2.2.2.2.2.2.2.2.2.2.2.2.2.2.2.1 k0_t10 k0_t18
theorem k0_off385_inb : ∀ (v8 : BitVec 32) (v15 : BitVec 32) (k0_hw2 : k0_chk2 v8 v15) (k0_t10 : Fin (k0_t10_loop v8 v15).trips) (k0_t18 : Fin (k0_t18_loop v8 v15 k0_t10).trips), ∀ a, (k0_off385 v8 v15 k0_t10 k0_t18) a + S1x16.size a ≤ S128x256.size a := fun v8 v15 k0_hw2 k0_t10 k0_t18 => k0_hw2.2.2.2.2.2.2.2.2.2.2.2.2.2.2.2.2.2.2.2.2.2.2.2.2.2.2.2.2.2.2.2.2.2.2.2.2.1 k0_t10 k0_t18
theorem k0_off386_inb : ∀ (v8 : BitVec 32) (v15 : BitVec 32) (k0_hw2 : k0_chk2 v8 v15) (k0_t10 : Fin (k0_t10_loop v8 v15).trips) (k0_t18 : Fin (k0_t18_loop v8 v15 k0_t10).trips), ∀ a, (k0_off386 v8 v15 k0_t10 k0_t18) a + S1x16.size a ≤ S128x256.size a := fun v8 v15 k0_hw2 k0_t10 k0_t18 => k0_hw2.2.2.2.2.2.2.2.2.2.2.2.2.2.2.2.2.2.2.2.2.2.2.2.2.2.2.2.2.2.2.2.2.2.2.2.2.2.1 k0_t10 k0_t18
theorem k0_off387_inb : ∀ (v8 : BitVec 32) (v15 : BitVec 32) (k0_hw2 : k0_chk2 v8 v15) (k0_t10 : Fin (k0_t10_loop v8 v15).trips) (k0_t18 : Fin (k0_t18_loop v8 v15 k0_t10).trips), ∀ a, (k0_off387 v8 v15 k0_t10 k0_t18) a + S1x16.size a ≤ S128x256.size a := fun v8 v15 k0_hw2 k0_t10 k0_t18 => k0_hw2.2.2.2.2.2.2.2.2.2.2.2.2.2.2.2.2.2.2.2.2.2.2.2.2.2.2.2.2.2.2.2.2.2.2.2.2.2.2.1 k0_t10 k0_t18
theorem k0_off388_inb : ∀ (v8 : BitVec 32) (v15 : BitVec 32) (k0_hw2 : k0_chk2 v8 v15) (k0_t10 : Fin (k0_t10_loop v8 v15).trips) (k0_t18 : Fin (k0_t18_loop v8 v15 k0_t10).trips), ∀ a, (k0_off388 v8 v15 k0_t10 k0_t18) a + S1x16.size a ≤ S128x256.size a := fun v8 v15 k0_hw2 k0_t10 k0_t18 => k0_hw2.2.2.2.2.2.2.2.2.2.2.2.2.2.2.2.2.2.2.2.2.2.2.2.2.2.2.2.2.2.2.2.2.2.2.2.2.2.2.2.1 k0_t10 k0_t18
theorem k0_off389_inb : ∀ (v8 : BitVec 32) (v15 : BitVec 32) (k0_hw2 : k0_chk2 v8 v15) (k0_t10 : Fin (k0_t10_loop v8 v15).trips) (k0_t18 : Fin (k0_t18_loop v8 v15 k0_t10).trips), ∀ a, (k0_off389 v8 v15 k0_t10 k0_t18) a + S1x16.size a ≤ S128x256.size a := fun v8 v15 k0_hw2 k0_t10 k0_t18 => k0_hw2.2.2.2.2.2.2.2.2.2.2.2.2.2.2.2.2.2.2.2.2.2.2.2.2.2.2.2.2.2.2.2.2.2.2.2.2.2.2.2.2.1 k0_t10 k0_t18
theorem k0_off390_inb : ∀ (v8 : BitVec 32) (v15 : BitVec 32) (k0_hw2 : k0_chk2 v8 v15) (k0_t10 : Fin (k0_t10_loop v8 v15).trips) (k0_t18 : Fin (k0_t18_loop v8 v15 k0_t10).trips), ∀ a, (k0_off390 v8 v15 k0_t10 k0_t18) a + S1x16.size a ≤ S128x256.size a := fun v8 v15 k0_hw2 k0_t10 k0_t18 => k0_hw2.2.2.2.2.2.2.2.2.2.2.2.2.2.2.2.2.2.2.2.2.2.2.2.2.2.2.2.2.2.2.2.2.2.2.2.2.2.2.2.2.2.1 k0_t10 k0_t18
theorem k0_mult10_dvd : ∀ (v8 : BitVec 32) (v15 : BitVec 32) (k0_hw2 : k0_chk2 v8 v15), 8 ∣ (k0_mult10 v15).toNat := fun v8 v15 k0_hw2 => k0_hw2.2.2.2.2.2.2.2.2.2.2.2.2.2.2.2.2.2.2.2.2.2.2.2.2.2.2.2.2.2.2.2.2.2.2.2.2.2.2.2.2.2.2.1
theorem k0_off391_inb : ∀ (v8 : BitVec 32) (v15 : BitVec 32) (k0_hw2 : k0_chk2 v8 v15), ∀ a, (k0_off391 v15) a + S128x256.size a ≤ S50000x256.size a := fun v8 v15 k0_hw2 => k0_hw2.2.2.2.2.2.2.2.2.2.2.2.2.2.2.2.2.2.2.2.2.2.2.2.2.2.2.2.2.2.2.2.2.2.2.2.2.2.2.2.2.2.2.2

@[reducible] def k0_t19_loop (v15 : BitVec 32) (v22 : BitVec 32) : Scf.Loop 32 :=
  let c0_i32_59 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_61 : BitVec 32 := 1#32
  ⟨c0_i32_59, v228, c1_i32_61⟩

def k0_mult11 (v15 : BitVec 32) (v22 : BitVec 32) (k0_t19 : Fin (k0_t19_loop v15 v22).trips) : BitVec 32 :=
  let c3_i32_33 : BitVec 32 := 3#32
  let v176 : BitVec 32 := Scalar.shrsi v15 c3_i32_33
  let c3_i32_34 : BitVec 32 := 3#32
  let v177 : BitVec 32 := Scalar.shli v176 c3_i32_34
  let c2_i32_71 : BitVec 32 := 2#32
  let c0_i32_59 : BitVec 32 := 0#32
  let c1_i32_61 : BitVec 32 := 1#32
  let arg11 : BitVec 32 := Scf.iv c0_i32_59 c1_i32_61 k0_t19
  let v333 : BitVec 32 := Scalar.muli c2_i32_71 arg11
  let c1_i32_72 : BitVec 32 := 1#32
  let v334 : BitVec 32 := Scalar.addi v333 c1_i32_72
  let c128_i32_73 : BitVec 32 := 128#32
  let v335 : BitVec 32 := Scalar.muli v334 c128_i32_73
  let v336 : BitVec 32 := Scalar.addi v177 v335
  let c49872_i32_74 : BitVec 32 := 49872#32
  let v337 : BitVec 32 := Scalar.minsi v336 c49872_i32_74
  v337
def k0_off392 (v15 : BitVec 32) (v22 : BitVec 32) (k0_t19 : Fin (k0_t19_loop v15 v22).trips) : Fin 2 → Nat :=
  let c3_i32_33 : BitVec 32 := 3#32
  let v176 : BitVec 32 := Scalar.shrsi v15 c3_i32_33
  let c3_i32_34 : BitVec 32 := 3#32
  let v177 : BitVec 32 := Scalar.shli v176 c3_i32_34
  let c2_i32_71 : BitVec 32 := 2#32
  let c0_i32_59 : BitVec 32 := 0#32
  let c1_i32_61 : BitVec 32 := 1#32
  let arg11 : BitVec 32 := Scf.iv c0_i32_59 c1_i32_61 k0_t19
  let v333 : BitVec 32 := Scalar.muli c2_i32_71 arg11
  let c1_i32_72 : BitVec 32 := 1#32
  let v334 : BitVec 32 := Scalar.addi v333 c1_i32_72
  let c128_i32_73 : BitVec 32 := 128#32
  let v335 : BitVec 32 := Scalar.muli v334 c128_i32_73
  let v336 : BitVec 32 := Scalar.addi v177 v335
  let c49872_i32_74 : BitVec 32 := 49872#32
  let v337 : BitVec 32 := Scalar.minsi v336 c49872_i32_74
  let v338 : BitVec 32 := v337
  let c0_i32_75 : BitVec 32 := 0#32
  ![v338.toNat, 0]
def k0_mult12 (v15 : BitVec 32) (v22 : BitVec 32) (k0_t19 : Fin (k0_t19_loop v15 v22).trips) : BitVec 32 :=
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  v346
@[reducible] def k0_t20_loop (v15 : BitVec 32) (v22 : BitVec 32) (k0_t19 : Fin (k0_t19_loop v15 v22).trips) : Scf.Loop 32 :=
  let c0_i32_86 : BitVec 32 := 0#32
  let c128_i32_84 : BitVec 32 := 128#32
  let c0_i32_83 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v352 : BitVec 32 := Scalar.subi v22 v347
  let v353 : BitVec 32 := Scalar.maxsi c0_i32_83 v352
  let v354 : BitVec 32 := Scalar.minsi c128_i32_84 v353
  let c128_i32_82 : BitVec 32 := 128#32
  let c0_i32_81 : BitVec 32 := 0#32
  let c128_i32_78 : BitVec 32 := 128#32
  let v342 : BitVec 32 := Scalar.muli v341 c128_i32_78
  let v343 : BitVec 32 := Scalar.addi v177 v342
  let v348 : BitVec 32 := Scalar.maxsi v15 v343
  let v349 : BitVec 32 := Scalar.subi v348 v347
  let v350 : BitVec 32 := Scalar.maxsi c0_i32_81 v349
  let v351 : BitVec 32 := Scalar.minsi c128_i32_82 v350
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_88 : BitVec 32 := 1#32
  ⟨c0_i32_86, v361, c1_i32_88⟩
def k0_off393 (v15 : BitVec 32) (v22 : BitVec 32) (k0_t19 : Fin (k0_t19_loop v15 v22).trips) (k0_t20 : Fin (k0_t20_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t20
  let v417 : BitVec 32 := Scalar.muli c4_i32_121 arg44
  let v418 : BitVec 32 := Scalar.addi v351 v417
  let v422 : Index := Scalar.indexCast v418
  let c0_125 : Index := 0#32
  ![v422.toNat, 0]
def k0_off394 (v15 : BitVec 32) (v22 : BitVec 32) (k0_t19 : Fin (k0_t19_loop v15 v22).trips) (k0_t20 : Fin (k0_t20_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t20
  let v417 : BitVec 32 := Scalar.muli c4_i32_121 arg44
  let v418 : BitVec 32 := Scalar.addi v351 v417
  let v428 : Index := Scalar.indexCast v418
  let c16_126 : Index := 16#32
  ![v428.toNat, 16]
def k0_off395 (v15 : BitVec 32) (v22 : BitVec 32) (k0_t19 : Fin (k0_t19_loop v15 v22).trips) (k0_t20 : Fin (k0_t20_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t20
  let v417 : BitVec 32 := Scalar.muli c4_i32_121 arg44
  let v418 : BitVec 32 := Scalar.addi v351 v417
  let v434 : Index := Scalar.indexCast v418
  let c32_127 : Index := 32#32
  ![v434.toNat, 32]
def k0_off396 (v15 : BitVec 32) (v22 : BitVec 32) (k0_t19 : Fin (k0_t19_loop v15 v22).trips) (k0_t20 : Fin (k0_t20_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t20
  let v417 : BitVec 32 := Scalar.muli c4_i32_121 arg44
  let v418 : BitVec 32 := Scalar.addi v351 v417
  let v440 : Index := Scalar.indexCast v418
  let c48_128 : Index := 48#32
  ![v440.toNat, 48]
def k0_off397 (v15 : BitVec 32) (v22 : BitVec 32) (k0_t19 : Fin (k0_t19_loop v15 v22).trips) (k0_t20 : Fin (k0_t20_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t20
  let v417 : BitVec 32 := Scalar.muli c4_i32_121 arg44
  let v418 : BitVec 32 := Scalar.addi v351 v417
  let v446 : Index := Scalar.indexCast v418
  let c64_129 : Index := 64#32
  ![v446.toNat, 64]
def k0_off398 (v15 : BitVec 32) (v22 : BitVec 32) (k0_t19 : Fin (k0_t19_loop v15 v22).trips) (k0_t20 : Fin (k0_t20_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t20
  let v417 : BitVec 32 := Scalar.muli c4_i32_121 arg44
  let v418 : BitVec 32 := Scalar.addi v351 v417
  let v452 : Index := Scalar.indexCast v418
  let c80_130 : Index := 80#32
  ![v452.toNat, 80]
def k0_off399 (v15 : BitVec 32) (v22 : BitVec 32) (k0_t19 : Fin (k0_t19_loop v15 v22).trips) (k0_t20 : Fin (k0_t20_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t20
  let v417 : BitVec 32 := Scalar.muli c4_i32_121 arg44
  let v418 : BitVec 32 := Scalar.addi v351 v417
  let v458 : Index := Scalar.indexCast v418
  let c96_131 : Index := 96#32
  ![v458.toNat, 96]
def k0_off400 (v15 : BitVec 32) (v22 : BitVec 32) (k0_t19 : Fin (k0_t19_loop v15 v22).trips) (k0_t20 : Fin (k0_t20_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t20
  let v417 : BitVec 32 := Scalar.muli c4_i32_121 arg44
  let v418 : BitVec 32 := Scalar.addi v351 v417
  let v464 : Index := Scalar.indexCast v418
  let c112_132 : Index := 112#32
  ![v464.toNat, 112]
def k0_off401 (v15 : BitVec 32) (v22 : BitVec 32) (k0_t19 : Fin (k0_t19_loop v15 v22).trips) (k0_t20 : Fin (k0_t20_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t20
  let v417 : BitVec 32 := Scalar.muli c4_i32_121 arg44
  let v418 : BitVec 32 := Scalar.addi v351 v417
  let v470 : Index := Scalar.indexCast v418
  let c128_133 : Index := 128#32
  ![v470.toNat, 128]
def k0_off402 (v15 : BitVec 32) (v22 : BitVec 32) (k0_t19 : Fin (k0_t19_loop v15 v22).trips) (k0_t20 : Fin (k0_t20_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t20
  let v417 : BitVec 32 := Scalar.muli c4_i32_121 arg44
  let v418 : BitVec 32 := Scalar.addi v351 v417
  let v476 : Index := Scalar.indexCast v418
  let c144_134 : Index := 144#32
  ![v476.toNat, 144]
def k0_off403 (v15 : BitVec 32) (v22 : BitVec 32) (k0_t19 : Fin (k0_t19_loop v15 v22).trips) (k0_t20 : Fin (k0_t20_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t20
  let v417 : BitVec 32 := Scalar.muli c4_i32_121 arg44
  let v418 : BitVec 32 := Scalar.addi v351 v417
  let v482 : Index := Scalar.indexCast v418
  let c160_135 : Index := 160#32
  ![v482.toNat, 160]
def k0_off404 (v15 : BitVec 32) (v22 : BitVec 32) (k0_t19 : Fin (k0_t19_loop v15 v22).trips) (k0_t20 : Fin (k0_t20_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t20
  let v417 : BitVec 32 := Scalar.muli c4_i32_121 arg44
  let v418 : BitVec 32 := Scalar.addi v351 v417
  let v488 : Index := Scalar.indexCast v418
  let c176_136 : Index := 176#32
  ![v488.toNat, 176]
def k0_off405 (v15 : BitVec 32) (v22 : BitVec 32) (k0_t19 : Fin (k0_t19_loop v15 v22).trips) (k0_t20 : Fin (k0_t20_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t20
  let v417 : BitVec 32 := Scalar.muli c4_i32_121 arg44
  let v418 : BitVec 32 := Scalar.addi v351 v417
  let v494 : Index := Scalar.indexCast v418
  let c192_137 : Index := 192#32
  ![v494.toNat, 192]
def k0_off406 (v15 : BitVec 32) (v22 : BitVec 32) (k0_t19 : Fin (k0_t19_loop v15 v22).trips) (k0_t20 : Fin (k0_t20_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t20
  let v417 : BitVec 32 := Scalar.muli c4_i32_121 arg44
  let v418 : BitVec 32 := Scalar.addi v351 v417
  let v500 : Index := Scalar.indexCast v418
  let c208_138 : Index := 208#32
  ![v500.toNat, 208]
def k0_off407 (v15 : BitVec 32) (v22 : BitVec 32) (k0_t19 : Fin (k0_t19_loop v15 v22).trips) (k0_t20 : Fin (k0_t20_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t20
  let v417 : BitVec 32 := Scalar.muli c4_i32_121 arg44
  let v418 : BitVec 32 := Scalar.addi v351 v417
  let v506 : Index := Scalar.indexCast v418
  let c224_139 : Index := 224#32
  ![v506.toNat, 224]
def k0_off408 (v15 : BitVec 32) (v22 : BitVec 32) (k0_t19 : Fin (k0_t19_loop v15 v22).trips) (k0_t20 : Fin (k0_t20_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t20
  let v417 : BitVec 32 := Scalar.muli c4_i32_121 arg44
  let v418 : BitVec 32 := Scalar.addi v351 v417
  let v512 : Index := Scalar.indexCast v418
  let c240_140 : Index := 240#32
  ![v512.toNat, 240]
def k0_off409 (v15 : BitVec 32) (v22 : BitVec 32) (k0_t19 : Fin (k0_t19_loop v15 v22).trips) (k0_t20 : Fin (k0_t20_loop v15 v22 k0_t19).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t20
  let v417 : BitVec 32 := Scalar.muli c4_i32_121 arg44
  let v418 : BitVec 32 := Scalar.addi v351 v417
  let v419 : BitVec 32 := Scalar.addi v418 c1_i32_122
  let v518 : Index := Scalar.indexCast v419
  let c0_141 : Index := 0#32
  ![v518.toNat, 0]
def k0_off410 (v15 : BitVec 32) (v22 : BitVec 32) (k0_t19 : Fin (k0_t19_loop v15 v22).trips) (k0_t20 : Fin (k0_t20_loop v15 v22 k0_t19).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t20
  let v417 : BitVec 32 := Scalar.muli c4_i32_121 arg44
  let v418 : BitVec 32 := Scalar.addi v351 v417
  let v419 : BitVec 32 := Scalar.addi v418 c1_i32_122
  let v524 : Index := Scalar.indexCast v419
  let c16_142 : Index := 16#32
  ![v524.toNat, 16]
def k0_off411 (v15 : BitVec 32) (v22 : BitVec 32) (k0_t19 : Fin (k0_t19_loop v15 v22).trips) (k0_t20 : Fin (k0_t20_loop v15 v22 k0_t19).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t20
  let v417 : BitVec 32 := Scalar.muli c4_i32_121 arg44
  let v418 : BitVec 32 := Scalar.addi v351 v417
  let v419 : BitVec 32 := Scalar.addi v418 c1_i32_122
  let v530 : Index := Scalar.indexCast v419
  let c32_143 : Index := 32#32
  ![v530.toNat, 32]
def k0_off412 (v15 : BitVec 32) (v22 : BitVec 32) (k0_t19 : Fin (k0_t19_loop v15 v22).trips) (k0_t20 : Fin (k0_t20_loop v15 v22 k0_t19).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t20
  let v417 : BitVec 32 := Scalar.muli c4_i32_121 arg44
  let v418 : BitVec 32 := Scalar.addi v351 v417
  let v419 : BitVec 32 := Scalar.addi v418 c1_i32_122
  let v536 : Index := Scalar.indexCast v419
  let c48_144 : Index := 48#32
  ![v536.toNat, 48]
def k0_off413 (v15 : BitVec 32) (v22 : BitVec 32) (k0_t19 : Fin (k0_t19_loop v15 v22).trips) (k0_t20 : Fin (k0_t20_loop v15 v22 k0_t19).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t20
  let v417 : BitVec 32 := Scalar.muli c4_i32_121 arg44
  let v418 : BitVec 32 := Scalar.addi v351 v417
  let v419 : BitVec 32 := Scalar.addi v418 c1_i32_122
  let v542 : Index := Scalar.indexCast v419
  let c64_145 : Index := 64#32
  ![v542.toNat, 64]
def k0_off414 (v15 : BitVec 32) (v22 : BitVec 32) (k0_t19 : Fin (k0_t19_loop v15 v22).trips) (k0_t20 : Fin (k0_t20_loop v15 v22 k0_t19).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t20
  let v417 : BitVec 32 := Scalar.muli c4_i32_121 arg44
  let v418 : BitVec 32 := Scalar.addi v351 v417
  let v419 : BitVec 32 := Scalar.addi v418 c1_i32_122
  let v548 : Index := Scalar.indexCast v419
  let c80_146 : Index := 80#32
  ![v548.toNat, 80]
def k0_off415 (v15 : BitVec 32) (v22 : BitVec 32) (k0_t19 : Fin (k0_t19_loop v15 v22).trips) (k0_t20 : Fin (k0_t20_loop v15 v22 k0_t19).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t20
  let v417 : BitVec 32 := Scalar.muli c4_i32_121 arg44
  let v418 : BitVec 32 := Scalar.addi v351 v417
  let v419 : BitVec 32 := Scalar.addi v418 c1_i32_122
  let v554 : Index := Scalar.indexCast v419
  let c96_147 : Index := 96#32
  ![v554.toNat, 96]
def k0_off416 (v15 : BitVec 32) (v22 : BitVec 32) (k0_t19 : Fin (k0_t19_loop v15 v22).trips) (k0_t20 : Fin (k0_t20_loop v15 v22 k0_t19).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t20
  let v417 : BitVec 32 := Scalar.muli c4_i32_121 arg44
  let v418 : BitVec 32 := Scalar.addi v351 v417
  let v419 : BitVec 32 := Scalar.addi v418 c1_i32_122
  let v560 : Index := Scalar.indexCast v419
  let c112_148 : Index := 112#32
  ![v560.toNat, 112]
def k0_off417 (v15 : BitVec 32) (v22 : BitVec 32) (k0_t19 : Fin (k0_t19_loop v15 v22).trips) (k0_t20 : Fin (k0_t20_loop v15 v22 k0_t19).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t20
  let v417 : BitVec 32 := Scalar.muli c4_i32_121 arg44
  let v418 : BitVec 32 := Scalar.addi v351 v417
  let v419 : BitVec 32 := Scalar.addi v418 c1_i32_122
  let v566 : Index := Scalar.indexCast v419
  let c128_149 : Index := 128#32
  ![v566.toNat, 128]
def k0_off418 (v15 : BitVec 32) (v22 : BitVec 32) (k0_t19 : Fin (k0_t19_loop v15 v22).trips) (k0_t20 : Fin (k0_t20_loop v15 v22 k0_t19).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t20
  let v417 : BitVec 32 := Scalar.muli c4_i32_121 arg44
  let v418 : BitVec 32 := Scalar.addi v351 v417
  let v419 : BitVec 32 := Scalar.addi v418 c1_i32_122
  let v572 : Index := Scalar.indexCast v419
  let c144_150 : Index := 144#32
  ![v572.toNat, 144]
def k0_off419 (v15 : BitVec 32) (v22 : BitVec 32) (k0_t19 : Fin (k0_t19_loop v15 v22).trips) (k0_t20 : Fin (k0_t20_loop v15 v22 k0_t19).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t20
  let v417 : BitVec 32 := Scalar.muli c4_i32_121 arg44
  let v418 : BitVec 32 := Scalar.addi v351 v417
  let v419 : BitVec 32 := Scalar.addi v418 c1_i32_122
  let v578 : Index := Scalar.indexCast v419
  let c160_151 : Index := 160#32
  ![v578.toNat, 160]
def k0_off420 (v15 : BitVec 32) (v22 : BitVec 32) (k0_t19 : Fin (k0_t19_loop v15 v22).trips) (k0_t20 : Fin (k0_t20_loop v15 v22 k0_t19).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t20
  let v417 : BitVec 32 := Scalar.muli c4_i32_121 arg44
  let v418 : BitVec 32 := Scalar.addi v351 v417
  let v419 : BitVec 32 := Scalar.addi v418 c1_i32_122
  let v584 : Index := Scalar.indexCast v419
  let c176_152 : Index := 176#32
  ![v584.toNat, 176]
def k0_off421 (v15 : BitVec 32) (v22 : BitVec 32) (k0_t19 : Fin (k0_t19_loop v15 v22).trips) (k0_t20 : Fin (k0_t20_loop v15 v22 k0_t19).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t20
  let v417 : BitVec 32 := Scalar.muli c4_i32_121 arg44
  let v418 : BitVec 32 := Scalar.addi v351 v417
  let v419 : BitVec 32 := Scalar.addi v418 c1_i32_122
  let v590 : Index := Scalar.indexCast v419
  let c192_153 : Index := 192#32
  ![v590.toNat, 192]
def k0_off422 (v15 : BitVec 32) (v22 : BitVec 32) (k0_t19 : Fin (k0_t19_loop v15 v22).trips) (k0_t20 : Fin (k0_t20_loop v15 v22 k0_t19).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t20
  let v417 : BitVec 32 := Scalar.muli c4_i32_121 arg44
  let v418 : BitVec 32 := Scalar.addi v351 v417
  let v419 : BitVec 32 := Scalar.addi v418 c1_i32_122
  let v596 : Index := Scalar.indexCast v419
  let c208_154 : Index := 208#32
  ![v596.toNat, 208]
def k0_off423 (v15 : BitVec 32) (v22 : BitVec 32) (k0_t19 : Fin (k0_t19_loop v15 v22).trips) (k0_t20 : Fin (k0_t20_loop v15 v22 k0_t19).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t20
  let v417 : BitVec 32 := Scalar.muli c4_i32_121 arg44
  let v418 : BitVec 32 := Scalar.addi v351 v417
  let v419 : BitVec 32 := Scalar.addi v418 c1_i32_122
  let v602 : Index := Scalar.indexCast v419
  let c224_155 : Index := 224#32
  ![v602.toNat, 224]
def k0_off424 (v15 : BitVec 32) (v22 : BitVec 32) (k0_t19 : Fin (k0_t19_loop v15 v22).trips) (k0_t20 : Fin (k0_t20_loop v15 v22 k0_t19).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t20
  let v417 : BitVec 32 := Scalar.muli c4_i32_121 arg44
  let v418 : BitVec 32 := Scalar.addi v351 v417
  let v419 : BitVec 32 := Scalar.addi v418 c1_i32_122
  let v608 : Index := Scalar.indexCast v419
  let c240_156 : Index := 240#32
  ![v608.toNat, 240]
@[reducible] def k0_t21_loop (v15 : BitVec 32) (v22 : BitVec 32) (k0_t19 : Fin (k0_t19_loop v15 v22).trips) : Scf.Loop 32 :=
  let c0_i32_86 : BitVec 32 := 0#32
  let c128_i32_84 : BitVec 32 := 128#32
  let c0_i32_83 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v352 : BitVec 32 := Scalar.subi v22 v347
  let v353 : BitVec 32 := Scalar.maxsi c0_i32_83 v352
  let v354 : BitVec 32 := Scalar.minsi c128_i32_84 v353
  let c128_i32_82 : BitVec 32 := 128#32
  let c0_i32_81 : BitVec 32 := 0#32
  let c128_i32_78 : BitVec 32 := 128#32
  let v342 : BitVec 32 := Scalar.muli v341 c128_i32_78
  let v343 : BitVec 32 := Scalar.addi v177 v342
  let v348 : BitVec 32 := Scalar.maxsi v15 v343
  let v349 : BitVec 32 := Scalar.subi v348 v347
  let v350 : BitVec 32 := Scalar.maxsi c0_i32_81 v349
  let v351 : BitVec 32 := Scalar.minsi c128_i32_82 v350
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let v358 : BitVec 32 := Scalar.addi c0_i32_86 v357
  let c1_i32_89 : BitVec 32 := 1#32
  ⟨v361, v358, c1_i32_89⟩
def k0_off425 (v15 : BitVec 32) (v22 : BitVec 32) (k0_t19 : Fin (k0_t19_loop v15 v22).trips) (k0_t21 : Fin (k0_t21_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t21
  let v417 : BitVec 32 := Scalar.muli c4_i32_121 arg44
  let v418 : BitVec 32 := Scalar.addi v351 v417
  let v422 : Index := Scalar.indexCast v418
  let c0_125 : Index := 0#32
  ![v422.toNat, 0]
def k0_off426 (v15 : BitVec 32) (v22 : BitVec 32) (k0_t19 : Fin (k0_t19_loop v15 v22).trips) (k0_t21 : Fin (k0_t21_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t21
  let v417 : BitVec 32 := Scalar.muli c4_i32_121 arg44
  let v418 : BitVec 32 := Scalar.addi v351 v417
  let v428 : Index := Scalar.indexCast v418
  let c16_126 : Index := 16#32
  ![v428.toNat, 16]
def k0_off427 (v15 : BitVec 32) (v22 : BitVec 32) (k0_t19 : Fin (k0_t19_loop v15 v22).trips) (k0_t21 : Fin (k0_t21_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t21
  let v417 : BitVec 32 := Scalar.muli c4_i32_121 arg44
  let v418 : BitVec 32 := Scalar.addi v351 v417
  let v434 : Index := Scalar.indexCast v418
  let c32_127 : Index := 32#32
  ![v434.toNat, 32]
def k0_off428 (v15 : BitVec 32) (v22 : BitVec 32) (k0_t19 : Fin (k0_t19_loop v15 v22).trips) (k0_t21 : Fin (k0_t21_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t21
  let v417 : BitVec 32 := Scalar.muli c4_i32_121 arg44
  let v418 : BitVec 32 := Scalar.addi v351 v417
  let v440 : Index := Scalar.indexCast v418
  let c48_128 : Index := 48#32
  ![v440.toNat, 48]
def k0_off429 (v15 : BitVec 32) (v22 : BitVec 32) (k0_t19 : Fin (k0_t19_loop v15 v22).trips) (k0_t21 : Fin (k0_t21_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t21
  let v417 : BitVec 32 := Scalar.muli c4_i32_121 arg44
  let v418 : BitVec 32 := Scalar.addi v351 v417
  let v446 : Index := Scalar.indexCast v418
  let c64_129 : Index := 64#32
  ![v446.toNat, 64]
def k0_off430 (v15 : BitVec 32) (v22 : BitVec 32) (k0_t19 : Fin (k0_t19_loop v15 v22).trips) (k0_t21 : Fin (k0_t21_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t21
  let v417 : BitVec 32 := Scalar.muli c4_i32_121 arg44
  let v418 : BitVec 32 := Scalar.addi v351 v417
  let v452 : Index := Scalar.indexCast v418
  let c80_130 : Index := 80#32
  ![v452.toNat, 80]
def k0_off431 (v15 : BitVec 32) (v22 : BitVec 32) (k0_t19 : Fin (k0_t19_loop v15 v22).trips) (k0_t21 : Fin (k0_t21_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t21
  let v417 : BitVec 32 := Scalar.muli c4_i32_121 arg44
  let v418 : BitVec 32 := Scalar.addi v351 v417
  let v458 : Index := Scalar.indexCast v418
  let c96_131 : Index := 96#32
  ![v458.toNat, 96]
def k0_off432 (v15 : BitVec 32) (v22 : BitVec 32) (k0_t19 : Fin (k0_t19_loop v15 v22).trips) (k0_t21 : Fin (k0_t21_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t21
  let v417 : BitVec 32 := Scalar.muli c4_i32_121 arg44
  let v418 : BitVec 32 := Scalar.addi v351 v417
  let v464 : Index := Scalar.indexCast v418
  let c112_132 : Index := 112#32
  ![v464.toNat, 112]
def k0_off433 (v15 : BitVec 32) (v22 : BitVec 32) (k0_t19 : Fin (k0_t19_loop v15 v22).trips) (k0_t21 : Fin (k0_t21_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t21
  let v417 : BitVec 32 := Scalar.muli c4_i32_121 arg44
  let v418 : BitVec 32 := Scalar.addi v351 v417
  let v470 : Index := Scalar.indexCast v418
  let c128_133 : Index := 128#32
  ![v470.toNat, 128]
def k0_off434 (v15 : BitVec 32) (v22 : BitVec 32) (k0_t19 : Fin (k0_t19_loop v15 v22).trips) (k0_t21 : Fin (k0_t21_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t21
  let v417 : BitVec 32 := Scalar.muli c4_i32_121 arg44
  let v418 : BitVec 32 := Scalar.addi v351 v417
  let v476 : Index := Scalar.indexCast v418
  let c144_134 : Index := 144#32
  ![v476.toNat, 144]
def k0_off435 (v15 : BitVec 32) (v22 : BitVec 32) (k0_t19 : Fin (k0_t19_loop v15 v22).trips) (k0_t21 : Fin (k0_t21_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t21
  let v417 : BitVec 32 := Scalar.muli c4_i32_121 arg44
  let v418 : BitVec 32 := Scalar.addi v351 v417
  let v482 : Index := Scalar.indexCast v418
  let c160_135 : Index := 160#32
  ![v482.toNat, 160]
def k0_off436 (v15 : BitVec 32) (v22 : BitVec 32) (k0_t19 : Fin (k0_t19_loop v15 v22).trips) (k0_t21 : Fin (k0_t21_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t21
  let v417 : BitVec 32 := Scalar.muli c4_i32_121 arg44
  let v418 : BitVec 32 := Scalar.addi v351 v417
  let v488 : Index := Scalar.indexCast v418
  let c176_136 : Index := 176#32
  ![v488.toNat, 176]
def k0_off437 (v15 : BitVec 32) (v22 : BitVec 32) (k0_t19 : Fin (k0_t19_loop v15 v22).trips) (k0_t21 : Fin (k0_t21_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t21
  let v417 : BitVec 32 := Scalar.muli c4_i32_121 arg44
  let v418 : BitVec 32 := Scalar.addi v351 v417
  let v494 : Index := Scalar.indexCast v418
  let c192_137 : Index := 192#32
  ![v494.toNat, 192]
def k0_off438 (v15 : BitVec 32) (v22 : BitVec 32) (k0_t19 : Fin (k0_t19_loop v15 v22).trips) (k0_t21 : Fin (k0_t21_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t21
  let v417 : BitVec 32 := Scalar.muli c4_i32_121 arg44
  let v418 : BitVec 32 := Scalar.addi v351 v417
  let v500 : Index := Scalar.indexCast v418
  let c208_138 : Index := 208#32
  ![v500.toNat, 208]
def k0_off439 (v15 : BitVec 32) (v22 : BitVec 32) (k0_t19 : Fin (k0_t19_loop v15 v22).trips) (k0_t21 : Fin (k0_t21_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t21
  let v417 : BitVec 32 := Scalar.muli c4_i32_121 arg44
  let v418 : BitVec 32 := Scalar.addi v351 v417
  let v506 : Index := Scalar.indexCast v418
  let c224_139 : Index := 224#32
  ![v506.toNat, 224]
def k0_off440 (v15 : BitVec 32) (v22 : BitVec 32) (k0_t19 : Fin (k0_t19_loop v15 v22).trips) (k0_t21 : Fin (k0_t21_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t21
  let v417 : BitVec 32 := Scalar.muli c4_i32_121 arg44
  let v418 : BitVec 32 := Scalar.addi v351 v417
  let v512 : Index := Scalar.indexCast v418
  let c240_140 : Index := 240#32
  ![v512.toNat, 240]
def k0_off441 (v15 : BitVec 32) (v22 : BitVec 32) (k0_t19 : Fin (k0_t19_loop v15 v22).trips) (k0_t21 : Fin (k0_t21_loop v15 v22 k0_t19).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t21
  let v417 : BitVec 32 := Scalar.muli c4_i32_121 arg44
  let v418 : BitVec 32 := Scalar.addi v351 v417
  let v419 : BitVec 32 := Scalar.addi v418 c1_i32_122
  let v518 : Index := Scalar.indexCast v419
  let c0_141 : Index := 0#32
  ![v518.toNat, 0]
def k0_off442 (v15 : BitVec 32) (v22 : BitVec 32) (k0_t19 : Fin (k0_t19_loop v15 v22).trips) (k0_t21 : Fin (k0_t21_loop v15 v22 k0_t19).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t21
  let v417 : BitVec 32 := Scalar.muli c4_i32_121 arg44
  let v418 : BitVec 32 := Scalar.addi v351 v417
  let v419 : BitVec 32 := Scalar.addi v418 c1_i32_122
  let v524 : Index := Scalar.indexCast v419
  let c16_142 : Index := 16#32
  ![v524.toNat, 16]
def k0_off443 (v15 : BitVec 32) (v22 : BitVec 32) (k0_t19 : Fin (k0_t19_loop v15 v22).trips) (k0_t21 : Fin (k0_t21_loop v15 v22 k0_t19).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t21
  let v417 : BitVec 32 := Scalar.muli c4_i32_121 arg44
  let v418 : BitVec 32 := Scalar.addi v351 v417
  let v419 : BitVec 32 := Scalar.addi v418 c1_i32_122
  let v530 : Index := Scalar.indexCast v419
  let c32_143 : Index := 32#32
  ![v530.toNat, 32]
def k0_off444 (v15 : BitVec 32) (v22 : BitVec 32) (k0_t19 : Fin (k0_t19_loop v15 v22).trips) (k0_t21 : Fin (k0_t21_loop v15 v22 k0_t19).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t21
  let v417 : BitVec 32 := Scalar.muli c4_i32_121 arg44
  let v418 : BitVec 32 := Scalar.addi v351 v417
  let v419 : BitVec 32 := Scalar.addi v418 c1_i32_122
  let v536 : Index := Scalar.indexCast v419
  let c48_144 : Index := 48#32
  ![v536.toNat, 48]
def k0_off445 (v15 : BitVec 32) (v22 : BitVec 32) (k0_t19 : Fin (k0_t19_loop v15 v22).trips) (k0_t21 : Fin (k0_t21_loop v15 v22 k0_t19).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t21
  let v417 : BitVec 32 := Scalar.muli c4_i32_121 arg44
  let v418 : BitVec 32 := Scalar.addi v351 v417
  let v419 : BitVec 32 := Scalar.addi v418 c1_i32_122
  let v542 : Index := Scalar.indexCast v419
  let c64_145 : Index := 64#32
  ![v542.toNat, 64]
def k0_off446 (v15 : BitVec 32) (v22 : BitVec 32) (k0_t19 : Fin (k0_t19_loop v15 v22).trips) (k0_t21 : Fin (k0_t21_loop v15 v22 k0_t19).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t21
  let v417 : BitVec 32 := Scalar.muli c4_i32_121 arg44
  let v418 : BitVec 32 := Scalar.addi v351 v417
  let v419 : BitVec 32 := Scalar.addi v418 c1_i32_122
  let v548 : Index := Scalar.indexCast v419
  let c80_146 : Index := 80#32
  ![v548.toNat, 80]
def k0_off447 (v15 : BitVec 32) (v22 : BitVec 32) (k0_t19 : Fin (k0_t19_loop v15 v22).trips) (k0_t21 : Fin (k0_t21_loop v15 v22 k0_t19).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t21
  let v417 : BitVec 32 := Scalar.muli c4_i32_121 arg44
  let v418 : BitVec 32 := Scalar.addi v351 v417
  let v419 : BitVec 32 := Scalar.addi v418 c1_i32_122
  let v554 : Index := Scalar.indexCast v419
  let c96_147 : Index := 96#32
  ![v554.toNat, 96]
def k0_off448 (v15 : BitVec 32) (v22 : BitVec 32) (k0_t19 : Fin (k0_t19_loop v15 v22).trips) (k0_t21 : Fin (k0_t21_loop v15 v22 k0_t19).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t21
  let v417 : BitVec 32 := Scalar.muli c4_i32_121 arg44
  let v418 : BitVec 32 := Scalar.addi v351 v417
  let v419 : BitVec 32 := Scalar.addi v418 c1_i32_122
  let v560 : Index := Scalar.indexCast v419
  let c112_148 : Index := 112#32
  ![v560.toNat, 112]
def k0_off449 (v15 : BitVec 32) (v22 : BitVec 32) (k0_t19 : Fin (k0_t19_loop v15 v22).trips) (k0_t21 : Fin (k0_t21_loop v15 v22 k0_t19).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t21
  let v417 : BitVec 32 := Scalar.muli c4_i32_121 arg44
  let v418 : BitVec 32 := Scalar.addi v351 v417
  let v419 : BitVec 32 := Scalar.addi v418 c1_i32_122
  let v566 : Index := Scalar.indexCast v419
  let c128_149 : Index := 128#32
  ![v566.toNat, 128]
def k0_off450 (v15 : BitVec 32) (v22 : BitVec 32) (k0_t19 : Fin (k0_t19_loop v15 v22).trips) (k0_t21 : Fin (k0_t21_loop v15 v22 k0_t19).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t21
  let v417 : BitVec 32 := Scalar.muli c4_i32_121 arg44
  let v418 : BitVec 32 := Scalar.addi v351 v417
  let v419 : BitVec 32 := Scalar.addi v418 c1_i32_122
  let v572 : Index := Scalar.indexCast v419
  let c144_150 : Index := 144#32
  ![v572.toNat, 144]
def k0_off451 (v15 : BitVec 32) (v22 : BitVec 32) (k0_t19 : Fin (k0_t19_loop v15 v22).trips) (k0_t21 : Fin (k0_t21_loop v15 v22 k0_t19).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t21
  let v417 : BitVec 32 := Scalar.muli c4_i32_121 arg44
  let v418 : BitVec 32 := Scalar.addi v351 v417
  let v419 : BitVec 32 := Scalar.addi v418 c1_i32_122
  let v578 : Index := Scalar.indexCast v419
  let c160_151 : Index := 160#32
  ![v578.toNat, 160]
def k0_off452 (v15 : BitVec 32) (v22 : BitVec 32) (k0_t19 : Fin (k0_t19_loop v15 v22).trips) (k0_t21 : Fin (k0_t21_loop v15 v22 k0_t19).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t21
  let v417 : BitVec 32 := Scalar.muli c4_i32_121 arg44
  let v418 : BitVec 32 := Scalar.addi v351 v417
  let v419 : BitVec 32 := Scalar.addi v418 c1_i32_122
  let v584 : Index := Scalar.indexCast v419
  let c176_152 : Index := 176#32
  ![v584.toNat, 176]
def k0_off453 (v15 : BitVec 32) (v22 : BitVec 32) (k0_t19 : Fin (k0_t19_loop v15 v22).trips) (k0_t21 : Fin (k0_t21_loop v15 v22 k0_t19).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t21
  let v417 : BitVec 32 := Scalar.muli c4_i32_121 arg44
  let v418 : BitVec 32 := Scalar.addi v351 v417
  let v419 : BitVec 32 := Scalar.addi v418 c1_i32_122
  let v590 : Index := Scalar.indexCast v419
  let c192_153 : Index := 192#32
  ![v590.toNat, 192]
def k0_off454 (v15 : BitVec 32) (v22 : BitVec 32) (k0_t19 : Fin (k0_t19_loop v15 v22).trips) (k0_t21 : Fin (k0_t21_loop v15 v22 k0_t19).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t21
  let v417 : BitVec 32 := Scalar.muli c4_i32_121 arg44
  let v418 : BitVec 32 := Scalar.addi v351 v417
  let v419 : BitVec 32 := Scalar.addi v418 c1_i32_122
  let v596 : Index := Scalar.indexCast v419
  let c208_154 : Index := 208#32
  ![v596.toNat, 208]
def k0_off455 (v15 : BitVec 32) (v22 : BitVec 32) (k0_t19 : Fin (k0_t19_loop v15 v22).trips) (k0_t21 : Fin (k0_t21_loop v15 v22 k0_t19).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t21
  let v417 : BitVec 32 := Scalar.muli c4_i32_121 arg44
  let v418 : BitVec 32 := Scalar.addi v351 v417
  let v419 : BitVec 32 := Scalar.addi v418 c1_i32_122
  let v602 : Index := Scalar.indexCast v419
  let c224_155 : Index := 224#32
  ![v602.toNat, 224]
def k0_off456 (v15 : BitVec 32) (v22 : BitVec 32) (k0_t19 : Fin (k0_t19_loop v15 v22).trips) (k0_t21 : Fin (k0_t21_loop v15 v22 k0_t19).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t21
  let v417 : BitVec 32 := Scalar.muli c4_i32_121 arg44
  let v418 : BitVec 32 := Scalar.addi v351 v417
  let v419 : BitVec 32 := Scalar.addi v418 c1_i32_122
  let v608 : Index := Scalar.indexCast v419
  let c240_156 : Index := 240#32
  ![v608.toNat, 240]
@[reducible] def k0_t22_loop (v15 : BitVec 32) (v22 : BitVec 32) (k0_t19 : Fin (k0_t19_loop v15 v22).trips) : Scf.Loop 32 :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_91 : BitVec 32 := 1#32
  ⟨v365, v370, c1_i32_91⟩
def k0_off457 (v15 : BitVec 32) (v22 : BitVec 32) (k0_t19 : Fin (k0_t19_loop v15 v22).trips) (k0_t22 : Fin (k0_t22_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t22
  let v417 : Index := Scalar.indexCast arg44
  let c0_121 : Index := 0#32
  ![v417.toNat, 0]
def k0_off458 (v15 : BitVec 32) (v22 : BitVec 32) (k0_t19 : Fin (k0_t19_loop v15 v22).trips) (k0_t22 : Fin (k0_t22_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t22
  let v423 : Index := Scalar.indexCast arg44
  let c16_122 : Index := 16#32
  ![v423.toNat, 16]
def k0_off459 (v15 : BitVec 32) (v22 : BitVec 32) (k0_t19 : Fin (k0_t19_loop v15 v22).trips) (k0_t22 : Fin (k0_t22_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t22
  let v429 : Index := Scalar.indexCast arg44
  let c32_123 : Index := 32#32
  ![v429.toNat, 32]
def k0_off460 (v15 : BitVec 32) (v22 : BitVec 32) (k0_t19 : Fin (k0_t19_loop v15 v22).trips) (k0_t22 : Fin (k0_t22_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t22
  let v435 : Index := Scalar.indexCast arg44
  let c48_124 : Index := 48#32
  ![v435.toNat, 48]
def k0_off461 (v15 : BitVec 32) (v22 : BitVec 32) (k0_t19 : Fin (k0_t19_loop v15 v22).trips) (k0_t22 : Fin (k0_t22_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t22
  let v441 : Index := Scalar.indexCast arg44
  let c64_125 : Index := 64#32
  ![v441.toNat, 64]
def k0_off462 (v15 : BitVec 32) (v22 : BitVec 32) (k0_t19 : Fin (k0_t19_loop v15 v22).trips) (k0_t22 : Fin (k0_t22_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t22
  let v447 : Index := Scalar.indexCast arg44
  let c80_126 : Index := 80#32
  ![v447.toNat, 80]
def k0_off463 (v15 : BitVec 32) (v22 : BitVec 32) (k0_t19 : Fin (k0_t19_loop v15 v22).trips) (k0_t22 : Fin (k0_t22_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t22
  let v453 : Index := Scalar.indexCast arg44
  let c96_127 : Index := 96#32
  ![v453.toNat, 96]
def k0_off464 (v15 : BitVec 32) (v22 : BitVec 32) (k0_t19 : Fin (k0_t19_loop v15 v22).trips) (k0_t22 : Fin (k0_t22_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t22
  let v459 : Index := Scalar.indexCast arg44
  let c112_128 : Index := 112#32
  ![v459.toNat, 112]
def k0_off465 (v15 : BitVec 32) (v22 : BitVec 32) (k0_t19 : Fin (k0_t19_loop v15 v22).trips) (k0_t22 : Fin (k0_t22_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t22
  let v465 : Index := Scalar.indexCast arg44
  let c128_129 : Index := 128#32
  ![v465.toNat, 128]
def k0_off466 (v15 : BitVec 32) (v22 : BitVec 32) (k0_t19 : Fin (k0_t19_loop v15 v22).trips) (k0_t22 : Fin (k0_t22_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t22
  let v471 : Index := Scalar.indexCast arg44
  let c144_130 : Index := 144#32
  ![v471.toNat, 144]
def k0_off467 (v15 : BitVec 32) (v22 : BitVec 32) (k0_t19 : Fin (k0_t19_loop v15 v22).trips) (k0_t22 : Fin (k0_t22_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t22
  let v477 : Index := Scalar.indexCast arg44
  let c160_131 : Index := 160#32
  ![v477.toNat, 160]
def k0_off468 (v15 : BitVec 32) (v22 : BitVec 32) (k0_t19 : Fin (k0_t19_loop v15 v22).trips) (k0_t22 : Fin (k0_t22_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t22
  let v483 : Index := Scalar.indexCast arg44
  let c176_132 : Index := 176#32
  ![v483.toNat, 176]
def k0_off469 (v15 : BitVec 32) (v22 : BitVec 32) (k0_t19 : Fin (k0_t19_loop v15 v22).trips) (k0_t22 : Fin (k0_t22_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t22
  let v489 : Index := Scalar.indexCast arg44
  let c192_133 : Index := 192#32
  ![v489.toNat, 192]
def k0_off470 (v15 : BitVec 32) (v22 : BitVec 32) (k0_t19 : Fin (k0_t19_loop v15 v22).trips) (k0_t22 : Fin (k0_t22_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t22
  let v495 : Index := Scalar.indexCast arg44
  let c208_134 : Index := 208#32
  ![v495.toNat, 208]
def k0_off471 (v15 : BitVec 32) (v22 : BitVec 32) (k0_t19 : Fin (k0_t19_loop v15 v22).trips) (k0_t22 : Fin (k0_t22_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t22
  let v501 : Index := Scalar.indexCast arg44
  let c224_135 : Index := 224#32
  ![v501.toNat, 224]
def k0_off472 (v15 : BitVec 32) (v22 : BitVec 32) (k0_t19 : Fin (k0_t19_loop v15 v22).trips) (k0_t22 : Fin (k0_t22_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t22
  let v507 : Index := Scalar.indexCast arg44
  let c240_136 : Index := 240#32
  ![v507.toNat, 240]
@[reducible] def k0_t23_loop (v15 : BitVec 32) (v22 : BitVec 32) (k0_t19 : Fin (k0_t19_loop v15 v22).trips) : Scf.Loop 32 :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let v367 : BitVec 32 := Scalar.addi v365 v366
  let c1_i32_92 : BitVec 32 := 1#32
  ⟨v370, v367, c1_i32_92⟩
def k0_off473 (v15 : BitVec 32) (v22 : BitVec 32) (k0_t19 : Fin (k0_t19_loop v15 v22).trips) (k0_t23 : Fin (k0_t23_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t23
  let v417 : Index := Scalar.indexCast arg44
  let c0_121 : Index := 0#32
  ![v417.toNat, 0]
def k0_off474 (v15 : BitVec 32) (v22 : BitVec 32) (k0_t19 : Fin (k0_t19_loop v15 v22).trips) (k0_t23 : Fin (k0_t23_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t23
  let v423 : Index := Scalar.indexCast arg44
  let c16_122 : Index := 16#32
  ![v423.toNat, 16]
def k0_off475 (v15 : BitVec 32) (v22 : BitVec 32) (k0_t19 : Fin (k0_t19_loop v15 v22).trips) (k0_t23 : Fin (k0_t23_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t23
  let v429 : Index := Scalar.indexCast arg44
  let c32_123 : Index := 32#32
  ![v429.toNat, 32]
def k0_off476 (v15 : BitVec 32) (v22 : BitVec 32) (k0_t19 : Fin (k0_t19_loop v15 v22).trips) (k0_t23 : Fin (k0_t23_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t23
  let v435 : Index := Scalar.indexCast arg44
  let c48_124 : Index := 48#32
  ![v435.toNat, 48]
def k0_off477 (v15 : BitVec 32) (v22 : BitVec 32) (k0_t19 : Fin (k0_t19_loop v15 v22).trips) (k0_t23 : Fin (k0_t23_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t23
  let v441 : Index := Scalar.indexCast arg44
  let c64_125 : Index := 64#32
  ![v441.toNat, 64]
def k0_off478 (v15 : BitVec 32) (v22 : BitVec 32) (k0_t19 : Fin (k0_t19_loop v15 v22).trips) (k0_t23 : Fin (k0_t23_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t23
  let v447 : Index := Scalar.indexCast arg44
  let c80_126 : Index := 80#32
  ![v447.toNat, 80]
def k0_off479 (v15 : BitVec 32) (v22 : BitVec 32) (k0_t19 : Fin (k0_t19_loop v15 v22).trips) (k0_t23 : Fin (k0_t23_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t23
  let v453 : Index := Scalar.indexCast arg44
  let c96_127 : Index := 96#32
  ![v453.toNat, 96]
def k0_off480 (v15 : BitVec 32) (v22 : BitVec 32) (k0_t19 : Fin (k0_t19_loop v15 v22).trips) (k0_t23 : Fin (k0_t23_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t23
  let v459 : Index := Scalar.indexCast arg44
  let c112_128 : Index := 112#32
  ![v459.toNat, 112]
def k0_off481 (v15 : BitVec 32) (v22 : BitVec 32) (k0_t19 : Fin (k0_t19_loop v15 v22).trips) (k0_t23 : Fin (k0_t23_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t23
  let v465 : Index := Scalar.indexCast arg44
  let c128_129 : Index := 128#32
  ![v465.toNat, 128]
def k0_off482 (v15 : BitVec 32) (v22 : BitVec 32) (k0_t19 : Fin (k0_t19_loop v15 v22).trips) (k0_t23 : Fin (k0_t23_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t23
  let v471 : Index := Scalar.indexCast arg44
  let c144_130 : Index := 144#32
  ![v471.toNat, 144]
def k0_off483 (v15 : BitVec 32) (v22 : BitVec 32) (k0_t19 : Fin (k0_t19_loop v15 v22).trips) (k0_t23 : Fin (k0_t23_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t23
  let v477 : Index := Scalar.indexCast arg44
  let c160_131 : Index := 160#32
  ![v477.toNat, 160]
def k0_off484 (v15 : BitVec 32) (v22 : BitVec 32) (k0_t19 : Fin (k0_t19_loop v15 v22).trips) (k0_t23 : Fin (k0_t23_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t23
  let v483 : Index := Scalar.indexCast arg44
  let c176_132 : Index := 176#32
  ![v483.toNat, 176]
def k0_off485 (v15 : BitVec 32) (v22 : BitVec 32) (k0_t19 : Fin (k0_t19_loop v15 v22).trips) (k0_t23 : Fin (k0_t23_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t23
  let v489 : Index := Scalar.indexCast arg44
  let c192_133 : Index := 192#32
  ![v489.toNat, 192]
def k0_off486 (v15 : BitVec 32) (v22 : BitVec 32) (k0_t19 : Fin (k0_t19_loop v15 v22).trips) (k0_t23 : Fin (k0_t23_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t23
  let v495 : Index := Scalar.indexCast arg44
  let c208_134 : Index := 208#32
  ![v495.toNat, 208]
def k0_off487 (v15 : BitVec 32) (v22 : BitVec 32) (k0_t19 : Fin (k0_t19_loop v15 v22).trips) (k0_t23 : Fin (k0_t23_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t23
  let v501 : Index := Scalar.indexCast arg44
  let c224_135 : Index := 224#32
  ![v501.toNat, 224]
def k0_off488 (v15 : BitVec 32) (v22 : BitVec 32) (k0_t19 : Fin (k0_t19_loop v15 v22).trips) (k0_t23 : Fin (k0_t23_loop v15 v22 k0_t19).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let c1_i32_61 : BitVec 32 := 1#32
  let arg11 : BitVec 32 := Scf.iv c0_i32_59 c1_i32_61 k0_t19
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t23
  let v507 : Index := Scalar.indexCast arg44
  let c240_136 : Index := 240#32
  ![v507.toNat, 240]
def k0_mult13 (v15 : BitVec 32) (v22 : BitVec 32) (k0_t19 : Fin (k0_t19_loop v15 v22).trips) : BitVec 32 :=
  let c3_i32_33 : BitVec 32 := 3#32
  let v176 : BitVec 32 := Scalar.shrsi v15 c3_i32_33
  let c3_i32_34 : BitVec 32 := 3#32
  let v177 : BitVec 32 := Scalar.shli v176 c3_i32_34
  let c2_i32_97 : BitVec 32 := 2#32
  let c0_i32_59 : BitVec 32 := 0#32
  let c1_i32_61 : BitVec 32 := 1#32
  let arg11 : BitVec 32 := Scf.iv c0_i32_59 c1_i32_61 k0_t19
  let v375 : BitVec 32 := Scalar.muli c2_i32_97 arg11
  let c2_i32_98 : BitVec 32 := 2#32
  let v376 : BitVec 32 := Scalar.addi v375 c2_i32_98
  let c2_i32_52 : BitVec 32 := 2#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v216 : BitVec 32 := Scalar.muli c2_i32_52 v215
  let c1_i32_53 : BitVec 32 := 1#32
  let v217 : BitVec 32 := Scalar.subi v216 c1_i32_53
  let v377 : BitVec 32 := Scalar.minsi v376 v217
  let c128_i32_99 : BitVec 32 := 128#32
  let v378 : BitVec 32 := Scalar.muli v377 c128_i32_99
  let v379 : BitVec 32 := Scalar.addi v177 v378
  let c49872_i32_100 : BitVec 32 := 49872#32
  let v380 : BitVec 32 := Scalar.minsi v379 c49872_i32_100
  v380
def k0_off489 (v15 : BitVec 32) (v22 : BitVec 32) (k0_t19 : Fin (k0_t19_loop v15 v22).trips) : Fin 2 → Nat :=
  let c3_i32_33 : BitVec 32 := 3#32
  let v176 : BitVec 32 := Scalar.shrsi v15 c3_i32_33
  let c3_i32_34 : BitVec 32 := 3#32
  let v177 : BitVec 32 := Scalar.shli v176 c3_i32_34
  let c2_i32_97 : BitVec 32 := 2#32
  let c0_i32_59 : BitVec 32 := 0#32
  let c1_i32_61 : BitVec 32 := 1#32
  let arg11 : BitVec 32 := Scf.iv c0_i32_59 c1_i32_61 k0_t19
  let v375 : BitVec 32 := Scalar.muli c2_i32_97 arg11
  let c2_i32_98 : BitVec 32 := 2#32
  let v376 : BitVec 32 := Scalar.addi v375 c2_i32_98
  let c2_i32_52 : BitVec 32 := 2#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v216 : BitVec 32 := Scalar.muli c2_i32_52 v215
  let c1_i32_53 : BitVec 32 := 1#32
  let v217 : BitVec 32 := Scalar.subi v216 c1_i32_53
  let v377 : BitVec 32 := Scalar.minsi v376 v217
  let c128_i32_99 : BitVec 32 := 128#32
  let v378 : BitVec 32 := Scalar.muli v377 c128_i32_99
  let v379 : BitVec 32 := Scalar.addi v177 v378
  let c49872_i32_100 : BitVec 32 := 49872#32
  let v380 : BitVec 32 := Scalar.minsi v379 c49872_i32_100
  let v381 : BitVec 32 := v380
  let c0_i32_101 : BitVec 32 := 0#32
  ![v381.toNat, 0]
def k0_mult14 (v15 : BitVec 32) (v22 : BitVec 32) (k0_t19 : Fin (k0_t19_loop v15 v22).trips) : BitVec 32 :=
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  v390
@[reducible] def k0_t24_loop (v15 : BitVec 32) (v22 : BitVec 32) (k0_t19 : Fin (k0_t19_loop v15 v22).trips) : Scf.Loop 32 :=
  let c0_i32_113 : BitVec 32 := 0#32
  let c128_i32_111 : BitVec 32 := 128#32
  let c0_i32_110 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v396 : BitVec 32 := Scalar.subi v22 v391
  let v397 : BitVec 32 := Scalar.maxsi c0_i32_110 v396
  let v398 : BitVec 32 := Scalar.minsi c128_i32_111 v397
  let c128_i32_109 : BitVec 32 := 128#32
  let c0_i32_108 : BitVec 32 := 0#32
  let c128_i32_105 : BitVec 32 := 128#32
  let v386 : BitVec 32 := Scalar.muli v385 c128_i32_105
  let v387 : BitVec 32 := Scalar.addi v177 v386
  let v392 : BitVec 32 := Scalar.maxsi v15 v387
  let v393 : BitVec 32 := Scalar.subi v392 v391
  let v394 : BitVec 32 := Scalar.maxsi c0_i32_108 v393
  let v395 : BitVec 32 := Scalar.minsi c128_i32_109 v394
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_115 : BitVec 32 := 1#32
  ⟨c0_i32_113, v405, c1_i32_115⟩
def k0_off490 (v15 : BitVec 32) (v22 : BitVec 32) (k0_t19 : Fin (k0_t19_loop v15 v22).trips) (k0_t24 : Fin (k0_t24_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t24
  let v417 : BitVec 32 := Scalar.muli c4_i32_121 arg44
  let v418 : BitVec 32 := Scalar.addi v395 v417
  let v422 : Index := Scalar.indexCast v418
  let c0_125 : Index := 0#32
  ![v422.toNat, 0]
def k0_off491 (v15 : BitVec 32) (v22 : BitVec 32) (k0_t19 : Fin (k0_t19_loop v15 v22).trips) (k0_t24 : Fin (k0_t24_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t24
  let v417 : BitVec 32 := Scalar.muli c4_i32_121 arg44
  let v418 : BitVec 32 := Scalar.addi v395 v417
  let v428 : Index := Scalar.indexCast v418
  let c16_126 : Index := 16#32
  ![v428.toNat, 16]
def k0_off492 (v15 : BitVec 32) (v22 : BitVec 32) (k0_t19 : Fin (k0_t19_loop v15 v22).trips) (k0_t24 : Fin (k0_t24_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t24
  let v417 : BitVec 32 := Scalar.muli c4_i32_121 arg44
  let v418 : BitVec 32 := Scalar.addi v395 v417
  let v434 : Index := Scalar.indexCast v418
  let c32_127 : Index := 32#32
  ![v434.toNat, 32]
def k0_off493 (v15 : BitVec 32) (v22 : BitVec 32) (k0_t19 : Fin (k0_t19_loop v15 v22).trips) (k0_t24 : Fin (k0_t24_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t24
  let v417 : BitVec 32 := Scalar.muli c4_i32_121 arg44
  let v418 : BitVec 32 := Scalar.addi v395 v417
  let v440 : Index := Scalar.indexCast v418
  let c48_128 : Index := 48#32
  ![v440.toNat, 48]
def k0_off494 (v15 : BitVec 32) (v22 : BitVec 32) (k0_t19 : Fin (k0_t19_loop v15 v22).trips) (k0_t24 : Fin (k0_t24_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t24
  let v417 : BitVec 32 := Scalar.muli c4_i32_121 arg44
  let v418 : BitVec 32 := Scalar.addi v395 v417
  let v446 : Index := Scalar.indexCast v418
  let c64_129 : Index := 64#32
  ![v446.toNat, 64]
def k0_off495 (v15 : BitVec 32) (v22 : BitVec 32) (k0_t19 : Fin (k0_t19_loop v15 v22).trips) (k0_t24 : Fin (k0_t24_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t24
  let v417 : BitVec 32 := Scalar.muli c4_i32_121 arg44
  let v418 : BitVec 32 := Scalar.addi v395 v417
  let v452 : Index := Scalar.indexCast v418
  let c80_130 : Index := 80#32
  ![v452.toNat, 80]
def k0_off496 (v15 : BitVec 32) (v22 : BitVec 32) (k0_t19 : Fin (k0_t19_loop v15 v22).trips) (k0_t24 : Fin (k0_t24_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t24
  let v417 : BitVec 32 := Scalar.muli c4_i32_121 arg44
  let v418 : BitVec 32 := Scalar.addi v395 v417
  let v458 : Index := Scalar.indexCast v418
  let c96_131 : Index := 96#32
  ![v458.toNat, 96]
def k0_off497 (v15 : BitVec 32) (v22 : BitVec 32) (k0_t19 : Fin (k0_t19_loop v15 v22).trips) (k0_t24 : Fin (k0_t24_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t24
  let v417 : BitVec 32 := Scalar.muli c4_i32_121 arg44
  let v418 : BitVec 32 := Scalar.addi v395 v417
  let v464 : Index := Scalar.indexCast v418
  let c112_132 : Index := 112#32
  ![v464.toNat, 112]
def k0_off498 (v15 : BitVec 32) (v22 : BitVec 32) (k0_t19 : Fin (k0_t19_loop v15 v22).trips) (k0_t24 : Fin (k0_t24_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t24
  let v417 : BitVec 32 := Scalar.muli c4_i32_121 arg44
  let v418 : BitVec 32 := Scalar.addi v395 v417
  let v470 : Index := Scalar.indexCast v418
  let c128_133 : Index := 128#32
  ![v470.toNat, 128]
def k0_off499 (v15 : BitVec 32) (v22 : BitVec 32) (k0_t19 : Fin (k0_t19_loop v15 v22).trips) (k0_t24 : Fin (k0_t24_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t24
  let v417 : BitVec 32 := Scalar.muli c4_i32_121 arg44
  let v418 : BitVec 32 := Scalar.addi v395 v417
  let v476 : Index := Scalar.indexCast v418
  let c144_134 : Index := 144#32
  ![v476.toNat, 144]
def k0_off500 (v15 : BitVec 32) (v22 : BitVec 32) (k0_t19 : Fin (k0_t19_loop v15 v22).trips) (k0_t24 : Fin (k0_t24_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t24
  let v417 : BitVec 32 := Scalar.muli c4_i32_121 arg44
  let v418 : BitVec 32 := Scalar.addi v395 v417
  let v482 : Index := Scalar.indexCast v418
  let c160_135 : Index := 160#32
  ![v482.toNat, 160]
def k0_off501 (v15 : BitVec 32) (v22 : BitVec 32) (k0_t19 : Fin (k0_t19_loop v15 v22).trips) (k0_t24 : Fin (k0_t24_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t24
  let v417 : BitVec 32 := Scalar.muli c4_i32_121 arg44
  let v418 : BitVec 32 := Scalar.addi v395 v417
  let v488 : Index := Scalar.indexCast v418
  let c176_136 : Index := 176#32
  ![v488.toNat, 176]
def k0_off502 (v15 : BitVec 32) (v22 : BitVec 32) (k0_t19 : Fin (k0_t19_loop v15 v22).trips) (k0_t24 : Fin (k0_t24_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t24
  let v417 : BitVec 32 := Scalar.muli c4_i32_121 arg44
  let v418 : BitVec 32 := Scalar.addi v395 v417
  let v494 : Index := Scalar.indexCast v418
  let c192_137 : Index := 192#32
  ![v494.toNat, 192]
def k0_off503 (v15 : BitVec 32) (v22 : BitVec 32) (k0_t19 : Fin (k0_t19_loop v15 v22).trips) (k0_t24 : Fin (k0_t24_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t24
  let v417 : BitVec 32 := Scalar.muli c4_i32_121 arg44
  let v418 : BitVec 32 := Scalar.addi v395 v417
  let v500 : Index := Scalar.indexCast v418
  let c208_138 : Index := 208#32
  ![v500.toNat, 208]

variable {F : FTy → Type} [FloatOps F]

def k0_off504 (v15 : BitVec 32) (v22 : BitVec 32) (k0_t19 : Fin (k0_t19_loop v15 v22).trips) (k0_t24 : Fin (k0_t24_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t24
  let v417 : BitVec 32 := Scalar.muli c4_i32_121 arg44
  let v418 : BitVec 32 := Scalar.addi v395 v417
  let v506 : Index := Scalar.indexCast v418
  let c224_139 : Index := 224#32
  ![v506.toNat, 224]
def k0_off505 (v15 : BitVec 32) (v22 : BitVec 32) (k0_t19 : Fin (k0_t19_loop v15 v22).trips) (k0_t24 : Fin (k0_t24_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t24
  let v417 : BitVec 32 := Scalar.muli c4_i32_121 arg44
  let v418 : BitVec 32 := Scalar.addi v395 v417
  let v512 : Index := Scalar.indexCast v418
  let c240_140 : Index := 240#32
  ![v512.toNat, 240]
def k0_off506 (v15 : BitVec 32) (v22 : BitVec 32) (k0_t19 : Fin (k0_t19_loop v15 v22).trips) (k0_t24 : Fin (k0_t24_loop v15 v22 k0_t19).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t24
  let v417 : BitVec 32 := Scalar.muli c4_i32_121 arg44
  let v418 : BitVec 32 := Scalar.addi v395 v417
  let v419 : BitVec 32 := Scalar.addi v418 c1_i32_122
  let v518 : Index := Scalar.indexCast v419
  let c0_141 : Index := 0#32
  ![v518.toNat, 0]
def k0_off507 (v15 : BitVec 32) (v22 : BitVec 32) (k0_t19 : Fin (k0_t19_loop v15 v22).trips) (k0_t24 : Fin (k0_t24_loop v15 v22 k0_t19).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t24
  let v417 : BitVec 32 := Scalar.muli c4_i32_121 arg44
  let v418 : BitVec 32 := Scalar.addi v395 v417
  let v419 : BitVec 32 := Scalar.addi v418 c1_i32_122
  let v524 : Index := Scalar.indexCast v419
  let c16_142 : Index := 16#32
  ![v524.toNat, 16]
def k0_off508 (v15 : BitVec 32) (v22 : BitVec 32) (k0_t19 : Fin (k0_t19_loop v15 v22).trips) (k0_t24 : Fin (k0_t24_loop v15 v22 k0_t19).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t24
  let v417 : BitVec 32 := Scalar.muli c4_i32_121 arg44
  let v418 : BitVec 32 := Scalar.addi v395 v417
  let v419 : BitVec 32 := Scalar.addi v418 c1_i32_122
  let v530 : Index := Scalar.indexCast v419
  let c32_143 : Index := 32#32
  ![v530.toNat, 32]
def k0_off509 (v15 : BitVec 32) (v22 : BitVec 32) (k0_t19 : Fin (k0_t19_loop v15 v22).trips) (k0_t24 : Fin (k0_t24_loop v15 v22 k0_t19).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t24
  let v417 : BitVec 32 := Scalar.muli c4_i32_121 arg44
  let v418 : BitVec 32 := Scalar.addi v395 v417
  let v419 : BitVec 32 := Scalar.addi v418 c1_i32_122
  let v536 : Index := Scalar.indexCast v419
  let c48_144 : Index := 48#32
  ![v536.toNat, 48]
def k0_off510 (v15 : BitVec 32) (v22 : BitVec 32) (k0_t19 : Fin (k0_t19_loop v15 v22).trips) (k0_t24 : Fin (k0_t24_loop v15 v22 k0_t19).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t24
  let v417 : BitVec 32 := Scalar.muli c4_i32_121 arg44
  let v418 : BitVec 32 := Scalar.addi v395 v417
  let v419 : BitVec 32 := Scalar.addi v418 c1_i32_122
  let v542 : Index := Scalar.indexCast v419
  let c64_145 : Index := 64#32
  ![v542.toNat, 64]
def k0_off511 (v15 : BitVec 32) (v22 : BitVec 32) (k0_t19 : Fin (k0_t19_loop v15 v22).trips) (k0_t24 : Fin (k0_t24_loop v15 v22 k0_t19).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t24
  let v417 : BitVec 32 := Scalar.muli c4_i32_121 arg44
  let v418 : BitVec 32 := Scalar.addi v395 v417
  let v419 : BitVec 32 := Scalar.addi v418 c1_i32_122
  let v548 : Index := Scalar.indexCast v419
  let c80_146 : Index := 80#32
  ![v548.toNat, 80]
def k0_off512 (v15 : BitVec 32) (v22 : BitVec 32) (k0_t19 : Fin (k0_t19_loop v15 v22).trips) (k0_t24 : Fin (k0_t24_loop v15 v22 k0_t19).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t24
  let v417 : BitVec 32 := Scalar.muli c4_i32_121 arg44
  let v418 : BitVec 32 := Scalar.addi v395 v417
  let v419 : BitVec 32 := Scalar.addi v418 c1_i32_122
  let v554 : Index := Scalar.indexCast v419
  let c96_147 : Index := 96#32
  ![v554.toNat, 96]
def k0_off513 (v15 : BitVec 32) (v22 : BitVec 32) (k0_t19 : Fin (k0_t19_loop v15 v22).trips) (k0_t24 : Fin (k0_t24_loop v15 v22 k0_t19).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t24
  let v417 : BitVec 32 := Scalar.muli c4_i32_121 arg44
  let v418 : BitVec 32 := Scalar.addi v395 v417
  let v419 : BitVec 32 := Scalar.addi v418 c1_i32_122
  let v560 : Index := Scalar.indexCast v419
  let c112_148 : Index := 112#32
  ![v560.toNat, 112]
def k0_off514 (v15 : BitVec 32) (v22 : BitVec 32) (k0_t19 : Fin (k0_t19_loop v15 v22).trips) (k0_t24 : Fin (k0_t24_loop v15 v22 k0_t19).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t24
  let v417 : BitVec 32 := Scalar.muli c4_i32_121 arg44
  let v418 : BitVec 32 := Scalar.addi v395 v417
  let v419 : BitVec 32 := Scalar.addi v418 c1_i32_122
  let v566 : Index := Scalar.indexCast v419
  let c128_149 : Index := 128#32
  ![v566.toNat, 128]
def k0_off515 (v15 : BitVec 32) (v22 : BitVec 32) (k0_t19 : Fin (k0_t19_loop v15 v22).trips) (k0_t24 : Fin (k0_t24_loop v15 v22 k0_t19).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t24
  let v417 : BitVec 32 := Scalar.muli c4_i32_121 arg44
  let v418 : BitVec 32 := Scalar.addi v395 v417
  let v419 : BitVec 32 := Scalar.addi v418 c1_i32_122
  let v572 : Index := Scalar.indexCast v419
  let c144_150 : Index := 144#32
  ![v572.toNat, 144]
def k0_off516 (v15 : BitVec 32) (v22 : BitVec 32) (k0_t19 : Fin (k0_t19_loop v15 v22).trips) (k0_t24 : Fin (k0_t24_loop v15 v22 k0_t19).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t24
  let v417 : BitVec 32 := Scalar.muli c4_i32_121 arg44
  let v418 : BitVec 32 := Scalar.addi v395 v417
  let v419 : BitVec 32 := Scalar.addi v418 c1_i32_122
  let v578 : Index := Scalar.indexCast v419
  let c160_151 : Index := 160#32
  ![v578.toNat, 160]
def k0_off517 (v15 : BitVec 32) (v22 : BitVec 32) (k0_t19 : Fin (k0_t19_loop v15 v22).trips) (k0_t24 : Fin (k0_t24_loop v15 v22 k0_t19).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t24
  let v417 : BitVec 32 := Scalar.muli c4_i32_121 arg44
  let v418 : BitVec 32 := Scalar.addi v395 v417
  let v419 : BitVec 32 := Scalar.addi v418 c1_i32_122
  let v584 : Index := Scalar.indexCast v419
  let c176_152 : Index := 176#32
  ![v584.toNat, 176]
def k0_off518 (v15 : BitVec 32) (v22 : BitVec 32) (k0_t19 : Fin (k0_t19_loop v15 v22).trips) (k0_t24 : Fin (k0_t24_loop v15 v22 k0_t19).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t24
  let v417 : BitVec 32 := Scalar.muli c4_i32_121 arg44
  let v418 : BitVec 32 := Scalar.addi v395 v417
  let v419 : BitVec 32 := Scalar.addi v418 c1_i32_122
  let v590 : Index := Scalar.indexCast v419
  let c192_153 : Index := 192#32
  ![v590.toNat, 192]
def k0_off519 (v15 : BitVec 32) (v22 : BitVec 32) (k0_t19 : Fin (k0_t19_loop v15 v22).trips) (k0_t24 : Fin (k0_t24_loop v15 v22 k0_t19).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t24
  let v417 : BitVec 32 := Scalar.muli c4_i32_121 arg44
  let v418 : BitVec 32 := Scalar.addi v395 v417
  let v419 : BitVec 32 := Scalar.addi v418 c1_i32_122
  let v596 : Index := Scalar.indexCast v419
  let c208_154 : Index := 208#32
  ![v596.toNat, 208]
def k0_off520 (v15 : BitVec 32) (v22 : BitVec 32) (k0_t19 : Fin (k0_t19_loop v15 v22).trips) (k0_t24 : Fin (k0_t24_loop v15 v22 k0_t19).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t24
  let v417 : BitVec 32 := Scalar.muli c4_i32_121 arg44
  let v418 : BitVec 32 := Scalar.addi v395 v417
  let v419 : BitVec 32 := Scalar.addi v418 c1_i32_122
  let v602 : Index := Scalar.indexCast v419
  let c224_155 : Index := 224#32
  ![v602.toNat, 224]
def k0_off521 (v15 : BitVec 32) (v22 : BitVec 32) (k0_t19 : Fin (k0_t19_loop v15 v22).trips) (k0_t24 : Fin (k0_t24_loop v15 v22 k0_t19).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t24
  let v417 : BitVec 32 := Scalar.muli c4_i32_121 arg44
  let v418 : BitVec 32 := Scalar.addi v395 v417
  let v419 : BitVec 32 := Scalar.addi v418 c1_i32_122
  let v608 : Index := Scalar.indexCast v419
  let c240_156 : Index := 240#32
  ![v608.toNat, 240]
@[reducible] def k0_t25_loop (v15 : BitVec 32) (v22 : BitVec 32) (k0_t19 : Fin (k0_t19_loop v15 v22).trips) : Scf.Loop 32 :=
  let c0_i32_113 : BitVec 32 := 0#32
  let c128_i32_111 : BitVec 32 := 128#32
  let c0_i32_110 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v396 : BitVec 32 := Scalar.subi v22 v391
  let v397 : BitVec 32 := Scalar.maxsi c0_i32_110 v396
  let v398 : BitVec 32 := Scalar.minsi c128_i32_111 v397
  let c128_i32_109 : BitVec 32 := 128#32
  let c0_i32_108 : BitVec 32 := 0#32
  let c128_i32_105 : BitVec 32 := 128#32
  let v386 : BitVec 32 := Scalar.muli v385 c128_i32_105
  let v387 : BitVec 32 := Scalar.addi v177 v386
  let v392 : BitVec 32 := Scalar.maxsi v15 v387
  let v393 : BitVec 32 := Scalar.subi v392 v391
  let v394 : BitVec 32 := Scalar.maxsi c0_i32_108 v393
  let v395 : BitVec 32 := Scalar.minsi c128_i32_109 v394
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let v402 : BitVec 32 := Scalar.addi c0_i32_113 v401
  let c1_i32_116 : BitVec 32 := 1#32
  ⟨v405, v402, c1_i32_116⟩
def k0_off522 (v15 : BitVec 32) (v22 : BitVec 32) (k0_t19 : Fin (k0_t19_loop v15 v22).trips) (k0_t25 : Fin (k0_t25_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t25
  let v417 : BitVec 32 := Scalar.muli c4_i32_121 arg44
  let v418 : BitVec 32 := Scalar.addi v395 v417
  let v422 : Index := Scalar.indexCast v418
  let c0_125 : Index := 0#32
  ![v422.toNat, 0]
def k0_off523 (v15 : BitVec 32) (v22 : BitVec 32) (k0_t19 : Fin (k0_t19_loop v15 v22).trips) (k0_t25 : Fin (k0_t25_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t25
  let v417 : BitVec 32 := Scalar.muli c4_i32_121 arg44
  let v418 : BitVec 32 := Scalar.addi v395 v417
  let v428 : Index := Scalar.indexCast v418
  let c16_126 : Index := 16#32
  ![v428.toNat, 16]
def k0_off524 (v15 : BitVec 32) (v22 : BitVec 32) (k0_t19 : Fin (k0_t19_loop v15 v22).trips) (k0_t25 : Fin (k0_t25_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t25
  let v417 : BitVec 32 := Scalar.muli c4_i32_121 arg44
  let v418 : BitVec 32 := Scalar.addi v395 v417
  let v434 : Index := Scalar.indexCast v418
  let c32_127 : Index := 32#32
  ![v434.toNat, 32]
def k0_off525 (v15 : BitVec 32) (v22 : BitVec 32) (k0_t19 : Fin (k0_t19_loop v15 v22).trips) (k0_t25 : Fin (k0_t25_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t25
  let v417 : BitVec 32 := Scalar.muli c4_i32_121 arg44
  let v418 : BitVec 32 := Scalar.addi v395 v417
  let v440 : Index := Scalar.indexCast v418
  let c48_128 : Index := 48#32
  ![v440.toNat, 48]
def k0_off526 (v15 : BitVec 32) (v22 : BitVec 32) (k0_t19 : Fin (k0_t19_loop v15 v22).trips) (k0_t25 : Fin (k0_t25_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t25
  let v417 : BitVec 32 := Scalar.muli c4_i32_121 arg44
  let v418 : BitVec 32 := Scalar.addi v395 v417
  let v446 : Index := Scalar.indexCast v418
  let c64_129 : Index := 64#32
  ![v446.toNat, 64]
def k0_off527 (v15 : BitVec 32) (v22 : BitVec 32) (k0_t19 : Fin (k0_t19_loop v15 v22).trips) (k0_t25 : Fin (k0_t25_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t25
  let v417 : BitVec 32 := Scalar.muli c4_i32_121 arg44
  let v418 : BitVec 32 := Scalar.addi v395 v417
  let v452 : Index := Scalar.indexCast v418
  let c80_130 : Index := 80#32
  ![v452.toNat, 80]
def k0_off528 (v15 : BitVec 32) (v22 : BitVec 32) (k0_t19 : Fin (k0_t19_loop v15 v22).trips) (k0_t25 : Fin (k0_t25_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t25
  let v417 : BitVec 32 := Scalar.muli c4_i32_121 arg44
  let v418 : BitVec 32 := Scalar.addi v395 v417
  let v458 : Index := Scalar.indexCast v418
  let c96_131 : Index := 96#32
  ![v458.toNat, 96]
def k0_off529 (v15 : BitVec 32) (v22 : BitVec 32) (k0_t19 : Fin (k0_t19_loop v15 v22).trips) (k0_t25 : Fin (k0_t25_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t25
  let v417 : BitVec 32 := Scalar.muli c4_i32_121 arg44
  let v418 : BitVec 32 := Scalar.addi v395 v417
  let v464 : Index := Scalar.indexCast v418
  let c112_132 : Index := 112#32
  ![v464.toNat, 112]
def k0_off530 (v15 : BitVec 32) (v22 : BitVec 32) (k0_t19 : Fin (k0_t19_loop v15 v22).trips) (k0_t25 : Fin (k0_t25_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t25
  let v417 : BitVec 32 := Scalar.muli c4_i32_121 arg44
  let v418 : BitVec 32 := Scalar.addi v395 v417
  let v470 : Index := Scalar.indexCast v418
  let c128_133 : Index := 128#32
  ![v470.toNat, 128]
def k0_off531 (v15 : BitVec 32) (v22 : BitVec 32) (k0_t19 : Fin (k0_t19_loop v15 v22).trips) (k0_t25 : Fin (k0_t25_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t25
  let v417 : BitVec 32 := Scalar.muli c4_i32_121 arg44
  let v418 : BitVec 32 := Scalar.addi v395 v417
  let v476 : Index := Scalar.indexCast v418
  let c144_134 : Index := 144#32
  ![v476.toNat, 144]
def k0_off532 (v15 : BitVec 32) (v22 : BitVec 32) (k0_t19 : Fin (k0_t19_loop v15 v22).trips) (k0_t25 : Fin (k0_t25_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t25
  let v417 : BitVec 32 := Scalar.muli c4_i32_121 arg44
  let v418 : BitVec 32 := Scalar.addi v395 v417
  let v482 : Index := Scalar.indexCast v418
  let c160_135 : Index := 160#32
  ![v482.toNat, 160]
def k0_off533 (v15 : BitVec 32) (v22 : BitVec 32) (k0_t19 : Fin (k0_t19_loop v15 v22).trips) (k0_t25 : Fin (k0_t25_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t25
  let v417 : BitVec 32 := Scalar.muli c4_i32_121 arg44
  let v418 : BitVec 32 := Scalar.addi v395 v417
  let v488 : Index := Scalar.indexCast v418
  let c176_136 : Index := 176#32
  ![v488.toNat, 176]
def k0_off534 (v15 : BitVec 32) (v22 : BitVec 32) (k0_t19 : Fin (k0_t19_loop v15 v22).trips) (k0_t25 : Fin (k0_t25_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t25
  let v417 : BitVec 32 := Scalar.muli c4_i32_121 arg44
  let v418 : BitVec 32 := Scalar.addi v395 v417
  let v494 : Index := Scalar.indexCast v418
  let c192_137 : Index := 192#32
  ![v494.toNat, 192]
def k0_off535 (v15 : BitVec 32) (v22 : BitVec 32) (k0_t19 : Fin (k0_t19_loop v15 v22).trips) (k0_t25 : Fin (k0_t25_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t25
  let v417 : BitVec 32 := Scalar.muli c4_i32_121 arg44
  let v418 : BitVec 32 := Scalar.addi v395 v417
  let v500 : Index := Scalar.indexCast v418
  let c208_138 : Index := 208#32
  ![v500.toNat, 208]
def k0_off536 (v15 : BitVec 32) (v22 : BitVec 32) (k0_t19 : Fin (k0_t19_loop v15 v22).trips) (k0_t25 : Fin (k0_t25_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t25
  let v417 : BitVec 32 := Scalar.muli c4_i32_121 arg44
  let v418 : BitVec 32 := Scalar.addi v395 v417
  let v506 : Index := Scalar.indexCast v418
  let c224_139 : Index := 224#32
  ![v506.toNat, 224]
def k0_off537 (v15 : BitVec 32) (v22 : BitVec 32) (k0_t19 : Fin (k0_t19_loop v15 v22).trips) (k0_t25 : Fin (k0_t25_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t25
  let v417 : BitVec 32 := Scalar.muli c4_i32_121 arg44
  let v418 : BitVec 32 := Scalar.addi v395 v417
  let v512 : Index := Scalar.indexCast v418
  let c240_140 : Index := 240#32
  ![v512.toNat, 240]
def k0_off538 (v15 : BitVec 32) (v22 : BitVec 32) (k0_t19 : Fin (k0_t19_loop v15 v22).trips) (k0_t25 : Fin (k0_t25_loop v15 v22 k0_t19).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t25
  let v417 : BitVec 32 := Scalar.muli c4_i32_121 arg44
  let v418 : BitVec 32 := Scalar.addi v395 v417
  let v419 : BitVec 32 := Scalar.addi v418 c1_i32_122
  let v518 : Index := Scalar.indexCast v419
  let c0_141 : Index := 0#32
  ![v518.toNat, 0]
def k0_off539 (v15 : BitVec 32) (v22 : BitVec 32) (k0_t19 : Fin (k0_t19_loop v15 v22).trips) (k0_t25 : Fin (k0_t25_loop v15 v22 k0_t19).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t25
  let v417 : BitVec 32 := Scalar.muli c4_i32_121 arg44
  let v418 : BitVec 32 := Scalar.addi v395 v417
  let v419 : BitVec 32 := Scalar.addi v418 c1_i32_122
  let v524 : Index := Scalar.indexCast v419
  let c16_142 : Index := 16#32
  ![v524.toNat, 16]
def k0_off540 (v15 : BitVec 32) (v22 : BitVec 32) (k0_t19 : Fin (k0_t19_loop v15 v22).trips) (k0_t25 : Fin (k0_t25_loop v15 v22 k0_t19).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t25
  let v417 : BitVec 32 := Scalar.muli c4_i32_121 arg44
  let v418 : BitVec 32 := Scalar.addi v395 v417
  let v419 : BitVec 32 := Scalar.addi v418 c1_i32_122
  let v530 : Index := Scalar.indexCast v419
  let c32_143 : Index := 32#32
  ![v530.toNat, 32]
def k0_off541 (v15 : BitVec 32) (v22 : BitVec 32) (k0_t19 : Fin (k0_t19_loop v15 v22).trips) (k0_t25 : Fin (k0_t25_loop v15 v22 k0_t19).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t25
  let v417 : BitVec 32 := Scalar.muli c4_i32_121 arg44
  let v418 : BitVec 32 := Scalar.addi v395 v417
  let v419 : BitVec 32 := Scalar.addi v418 c1_i32_122
  let v536 : Index := Scalar.indexCast v419
  let c48_144 : Index := 48#32
  ![v536.toNat, 48]
def k0_off542 (v15 : BitVec 32) (v22 : BitVec 32) (k0_t19 : Fin (k0_t19_loop v15 v22).trips) (k0_t25 : Fin (k0_t25_loop v15 v22 k0_t19).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t25
  let v417 : BitVec 32 := Scalar.muli c4_i32_121 arg44
  let v418 : BitVec 32 := Scalar.addi v395 v417
  let v419 : BitVec 32 := Scalar.addi v418 c1_i32_122
  let v542 : Index := Scalar.indexCast v419
  let c64_145 : Index := 64#32
  ![v542.toNat, 64]
def k0_off543 (v15 : BitVec 32) (v22 : BitVec 32) (k0_t19 : Fin (k0_t19_loop v15 v22).trips) (k0_t25 : Fin (k0_t25_loop v15 v22 k0_t19).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t25
  let v417 : BitVec 32 := Scalar.muli c4_i32_121 arg44
  let v418 : BitVec 32 := Scalar.addi v395 v417
  let v419 : BitVec 32 := Scalar.addi v418 c1_i32_122
  let v548 : Index := Scalar.indexCast v419
  let c80_146 : Index := 80#32
  ![v548.toNat, 80]
def k0_off544 (v15 : BitVec 32) (v22 : BitVec 32) (k0_t19 : Fin (k0_t19_loop v15 v22).trips) (k0_t25 : Fin (k0_t25_loop v15 v22 k0_t19).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t25
  let v417 : BitVec 32 := Scalar.muli c4_i32_121 arg44
  let v418 : BitVec 32 := Scalar.addi v395 v417
  let v419 : BitVec 32 := Scalar.addi v418 c1_i32_122
  let v554 : Index := Scalar.indexCast v419
  let c96_147 : Index := 96#32
  ![v554.toNat, 96]
def k0_off545 (v15 : BitVec 32) (v22 : BitVec 32) (k0_t19 : Fin (k0_t19_loop v15 v22).trips) (k0_t25 : Fin (k0_t25_loop v15 v22 k0_t19).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t25
  let v417 : BitVec 32 := Scalar.muli c4_i32_121 arg44
  let v418 : BitVec 32 := Scalar.addi v395 v417
  let v419 : BitVec 32 := Scalar.addi v418 c1_i32_122
  let v560 : Index := Scalar.indexCast v419
  let c112_148 : Index := 112#32
  ![v560.toNat, 112]
def k0_off546 (v15 : BitVec 32) (v22 : BitVec 32) (k0_t19 : Fin (k0_t19_loop v15 v22).trips) (k0_t25 : Fin (k0_t25_loop v15 v22 k0_t19).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t25
  let v417 : BitVec 32 := Scalar.muli c4_i32_121 arg44
  let v418 : BitVec 32 := Scalar.addi v395 v417
  let v419 : BitVec 32 := Scalar.addi v418 c1_i32_122
  let v566 : Index := Scalar.indexCast v419
  let c128_149 : Index := 128#32
  ![v566.toNat, 128]
def k0_off547 (v15 : BitVec 32) (v22 : BitVec 32) (k0_t19 : Fin (k0_t19_loop v15 v22).trips) (k0_t25 : Fin (k0_t25_loop v15 v22 k0_t19).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t25
  let v417 : BitVec 32 := Scalar.muli c4_i32_121 arg44
  let v418 : BitVec 32 := Scalar.addi v395 v417
  let v419 : BitVec 32 := Scalar.addi v418 c1_i32_122
  let v572 : Index := Scalar.indexCast v419
  let c144_150 : Index := 144#32
  ![v572.toNat, 144]
def k0_off548 (v15 : BitVec 32) (v22 : BitVec 32) (k0_t19 : Fin (k0_t19_loop v15 v22).trips) (k0_t25 : Fin (k0_t25_loop v15 v22 k0_t19).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t25
  let v417 : BitVec 32 := Scalar.muli c4_i32_121 arg44
  let v418 : BitVec 32 := Scalar.addi v395 v417
  let v419 : BitVec 32 := Scalar.addi v418 c1_i32_122
  let v578 : Index := Scalar.indexCast v419
  let c160_151 : Index := 160#32
  ![v578.toNat, 160]
def k0_off549 (v15 : BitVec 32) (v22 : BitVec 32) (k0_t19 : Fin (k0_t19_loop v15 v22).trips) (k0_t25 : Fin (k0_t25_loop v15 v22 k0_t19).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t25
  let v417 : BitVec 32 := Scalar.muli c4_i32_121 arg44
  let v418 : BitVec 32 := Scalar.addi v395 v417
  let v419 : BitVec 32 := Scalar.addi v418 c1_i32_122
  let v584 : Index := Scalar.indexCast v419
  let c176_152 : Index := 176#32
  ![v584.toNat, 176]
def k0_off550 (v15 : BitVec 32) (v22 : BitVec 32) (k0_t19 : Fin (k0_t19_loop v15 v22).trips) (k0_t25 : Fin (k0_t25_loop v15 v22 k0_t19).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t25
  let v417 : BitVec 32 := Scalar.muli c4_i32_121 arg44
  let v418 : BitVec 32 := Scalar.addi v395 v417
  let v419 : BitVec 32 := Scalar.addi v418 c1_i32_122
  let v590 : Index := Scalar.indexCast v419
  let c192_153 : Index := 192#32
  ![v590.toNat, 192]
def k0_off551 (v15 : BitVec 32) (v22 : BitVec 32) (k0_t19 : Fin (k0_t19_loop v15 v22).trips) (k0_t25 : Fin (k0_t25_loop v15 v22 k0_t19).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t25
  let v417 : BitVec 32 := Scalar.muli c4_i32_121 arg44
  let v418 : BitVec 32 := Scalar.addi v395 v417
  let v419 : BitVec 32 := Scalar.addi v418 c1_i32_122
  let v596 : Index := Scalar.indexCast v419
  let c208_154 : Index := 208#32
  ![v596.toNat, 208]
def k0_off552 (v15 : BitVec 32) (v22 : BitVec 32) (k0_t19 : Fin (k0_t19_loop v15 v22).trips) (k0_t25 : Fin (k0_t25_loop v15 v22 k0_t19).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t25
  let v417 : BitVec 32 := Scalar.muli c4_i32_121 arg44
  let v418 : BitVec 32 := Scalar.addi v395 v417
  let v419 : BitVec 32 := Scalar.addi v418 c1_i32_122
  let v602 : Index := Scalar.indexCast v419
  let c224_155 : Index := 224#32
  ![v602.toNat, 224]
def k0_off553 (v15 : BitVec 32) (v22 : BitVec 32) (k0_t19 : Fin (k0_t19_loop v15 v22).trips) (k0_t25 : Fin (k0_t25_loop v15 v22 k0_t19).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t25
  let v417 : BitVec 32 := Scalar.muli c4_i32_121 arg44
  let v418 : BitVec 32 := Scalar.addi v395 v417
  let v419 : BitVec 32 := Scalar.addi v418 c1_i32_122
  let v608 : Index := Scalar.indexCast v419
  let c240_156 : Index := 240#32
  ![v608.toNat, 240]
@[reducible] def k0_t26_loop (v15 : BitVec 32) (v22 : BitVec 32) (k0_t19 : Fin (k0_t19_loop v15 v22).trips) : Scf.Loop 32 :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_119 : BitVec 32 := 1#32
  ⟨v409, v414, c1_i32_119⟩
def k0_off554 (v15 : BitVec 32) (v22 : BitVec 32) (k0_t19 : Fin (k0_t19_loop v15 v22).trips) (k0_t26 : Fin (k0_t26_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t26
  let v417 : Index := Scalar.indexCast arg44
  let c0_121 : Index := 0#32
  ![v417.toNat, 0]
def k0_off555 (v15 : BitVec 32) (v22 : BitVec 32) (k0_t19 : Fin (k0_t19_loop v15 v22).trips) (k0_t26 : Fin (k0_t26_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t26
  let v423 : Index := Scalar.indexCast arg44
  let c16_122 : Index := 16#32
  ![v423.toNat, 16]
def k0_off556 (v15 : BitVec 32) (v22 : BitVec 32) (k0_t19 : Fin (k0_t19_loop v15 v22).trips) (k0_t26 : Fin (k0_t26_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t26
  let v429 : Index := Scalar.indexCast arg44
  let c32_123 : Index := 32#32
  ![v429.toNat, 32]
def k0_off557 (v15 : BitVec 32) (v22 : BitVec 32) (k0_t19 : Fin (k0_t19_loop v15 v22).trips) (k0_t26 : Fin (k0_t26_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t26
  let v435 : Index := Scalar.indexCast arg44
  let c48_124 : Index := 48#32
  ![v435.toNat, 48]
def k0_off558 (v15 : BitVec 32) (v22 : BitVec 32) (k0_t19 : Fin (k0_t19_loop v15 v22).trips) (k0_t26 : Fin (k0_t26_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t26
  let v441 : Index := Scalar.indexCast arg44
  let c64_125 : Index := 64#32
  ![v441.toNat, 64]
def k0_off559 (v15 : BitVec 32) (v22 : BitVec 32) (k0_t19 : Fin (k0_t19_loop v15 v22).trips) (k0_t26 : Fin (k0_t26_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t26
  let v447 : Index := Scalar.indexCast arg44
  let c80_126 : Index := 80#32
  ![v447.toNat, 80]
def k0_off560 (v15 : BitVec 32) (v22 : BitVec 32) (k0_t19 : Fin (k0_t19_loop v15 v22).trips) (k0_t26 : Fin (k0_t26_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t26
  let v453 : Index := Scalar.indexCast arg44
  let c96_127 : Index := 96#32
  ![v453.toNat, 96]
def k0_off561 (v15 : BitVec 32) (v22 : BitVec 32) (k0_t19 : Fin (k0_t19_loop v15 v22).trips) (k0_t26 : Fin (k0_t26_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t26
  let v459 : Index := Scalar.indexCast arg44
  let c112_128 : Index := 112#32
  ![v459.toNat, 112]
def k0_off562 (v15 : BitVec 32) (v22 : BitVec 32) (k0_t19 : Fin (k0_t19_loop v15 v22).trips) (k0_t26 : Fin (k0_t26_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t26
  let v465 : Index := Scalar.indexCast arg44
  let c128_129 : Index := 128#32
  ![v465.toNat, 128]
def k0_off563 (v15 : BitVec 32) (v22 : BitVec 32) (k0_t19 : Fin (k0_t19_loop v15 v22).trips) (k0_t26 : Fin (k0_t26_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t26
  let v471 : Index := Scalar.indexCast arg44
  let c144_130 : Index := 144#32
  ![v471.toNat, 144]
def k0_off564 (v15 : BitVec 32) (v22 : BitVec 32) (k0_t19 : Fin (k0_t19_loop v15 v22).trips) (k0_t26 : Fin (k0_t26_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t26
  let v477 : Index := Scalar.indexCast arg44
  let c160_131 : Index := 160#32
  ![v477.toNat, 160]
def k0_off565 (v15 : BitVec 32) (v22 : BitVec 32) (k0_t19 : Fin (k0_t19_loop v15 v22).trips) (k0_t26 : Fin (k0_t26_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t26
  let v483 : Index := Scalar.indexCast arg44
  let c176_132 : Index := 176#32
  ![v483.toNat, 176]
def k0_off566 (v15 : BitVec 32) (v22 : BitVec 32) (k0_t19 : Fin (k0_t19_loop v15 v22).trips) (k0_t26 : Fin (k0_t26_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t26
  let v489 : Index := Scalar.indexCast arg44
  let c192_133 : Index := 192#32
  ![v489.toNat, 192]
def k0_off567 (v15 : BitVec 32) (v22 : BitVec 32) (k0_t19 : Fin (k0_t19_loop v15 v22).trips) (k0_t26 : Fin (k0_t26_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t26
  let v495 : Index := Scalar.indexCast arg44
  let c208_134 : Index := 208#32
  ![v495.toNat, 208]
def k0_off568 (v15 : BitVec 32) (v22 : BitVec 32) (k0_t19 : Fin (k0_t19_loop v15 v22).trips) (k0_t26 : Fin (k0_t26_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t26
  let v501 : Index := Scalar.indexCast arg44
  let c224_135 : Index := 224#32
  ![v501.toNat, 224]
def k0_off569 (v15 : BitVec 32) (v22 : BitVec 32) (k0_t19 : Fin (k0_t19_loop v15 v22).trips) (k0_t26 : Fin (k0_t26_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t26
  let v507 : Index := Scalar.indexCast arg44
  let c240_136 : Index := 240#32
  ![v507.toNat, 240]
@[reducible] def k0_t27_loop (v15 : BitVec 32) (v22 : BitVec 32) (k0_t19 : Fin (k0_t19_loop v15 v22).trips) : Scf.Loop 32 :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let v411 : BitVec 32 := Scalar.addi v409 v410
  let c1_i32_120 : BitVec 32 := 1#32
  ⟨v414, v411, c1_i32_120⟩
def k0_off570 (v15 : BitVec 32) (v22 : BitVec 32) (k0_t19 : Fin (k0_t19_loop v15 v22).trips) (k0_t27 : Fin (k0_t27_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t27
  let v417 : Index := Scalar.indexCast arg44
  let c0_121 : Index := 0#32
  ![v417.toNat, 0]
def k0_off571 (v15 : BitVec 32) (v22 : BitVec 32) (k0_t19 : Fin (k0_t19_loop v15 v22).trips) (k0_t27 : Fin (k0_t27_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t27
  let v423 : Index := Scalar.indexCast arg44
  let c16_122 : Index := 16#32
  ![v423.toNat, 16]
def k0_off572 (v15 : BitVec 32) (v22 : BitVec 32) (k0_t19 : Fin (k0_t19_loop v15 v22).trips) (k0_t27 : Fin (k0_t27_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t27
  let v429 : Index := Scalar.indexCast arg44
  let c32_123 : Index := 32#32
  ![v429.toNat, 32]
def k0_off573 (v15 : BitVec 32) (v22 : BitVec 32) (k0_t19 : Fin (k0_t19_loop v15 v22).trips) (k0_t27 : Fin (k0_t27_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t27
  let v435 : Index := Scalar.indexCast arg44
  let c48_124 : Index := 48#32
  ![v435.toNat, 48]
def k0_off574 (v15 : BitVec 32) (v22 : BitVec 32) (k0_t19 : Fin (k0_t19_loop v15 v22).trips) (k0_t27 : Fin (k0_t27_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t27
  let v441 : Index := Scalar.indexCast arg44
  let c64_125 : Index := 64#32
  ![v441.toNat, 64]
def k0_off575 (v15 : BitVec 32) (v22 : BitVec 32) (k0_t19 : Fin (k0_t19_loop v15 v22).trips) (k0_t27 : Fin (k0_t27_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t27
  let v447 : Index := Scalar.indexCast arg44
  let c80_126 : Index := 80#32
  ![v447.toNat, 80]
def k0_off576 (v15 : BitVec 32) (v22 : BitVec 32) (k0_t19 : Fin (k0_t19_loop v15 v22).trips) (k0_t27 : Fin (k0_t27_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t27
  let v453 : Index := Scalar.indexCast arg44
  let c96_127 : Index := 96#32
  ![v453.toNat, 96]
def k0_off577 (v15 : BitVec 32) (v22 : BitVec 32) (k0_t19 : Fin (k0_t19_loop v15 v22).trips) (k0_t27 : Fin (k0_t27_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t27
  let v459 : Index := Scalar.indexCast arg44
  let c112_128 : Index := 112#32
  ![v459.toNat, 112]
def k0_off578 (v15 : BitVec 32) (v22 : BitVec 32) (k0_t19 : Fin (k0_t19_loop v15 v22).trips) (k0_t27 : Fin (k0_t27_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t27
  let v465 : Index := Scalar.indexCast arg44
  let c128_129 : Index := 128#32
  ![v465.toNat, 128]
def k0_off579 (v15 : BitVec 32) (v22 : BitVec 32) (k0_t19 : Fin (k0_t19_loop v15 v22).trips) (k0_t27 : Fin (k0_t27_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t27
  let v471 : Index := Scalar.indexCast arg44
  let c144_130 : Index := 144#32
  ![v471.toNat, 144]
def k0_off580 (v15 : BitVec 32) (v22 : BitVec 32) (k0_t19 : Fin (k0_t19_loop v15 v22).trips) (k0_t27 : Fin (k0_t27_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t27
  let v477 : Index := Scalar.indexCast arg44
  let c160_131 : Index := 160#32
  ![v477.toNat, 160]
def k0_off581 (v15 : BitVec 32) (v22 : BitVec 32) (k0_t19 : Fin (k0_t19_loop v15 v22).trips) (k0_t27 : Fin (k0_t27_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t27
  let v483 : Index := Scalar.indexCast arg44
  let c176_132 : Index := 176#32
  ![v483.toNat, 176]
def k0_off582 (v15 : BitVec 32) (v22 : BitVec 32) (k0_t19 : Fin (k0_t19_loop v15 v22).trips) (k0_t27 : Fin (k0_t27_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t27
  let v489 : Index := Scalar.indexCast arg44
  let c192_133 : Index := 192#32
  ![v489.toNat, 192]
def k0_off583 (v15 : BitVec 32) (v22 : BitVec 32) (k0_t19 : Fin (k0_t19_loop v15 v22).trips) (k0_t27 : Fin (k0_t27_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t27
  let v495 : Index := Scalar.indexCast arg44
  let c208_134 : Index := 208#32
  ![v495.toNat, 208]
def k0_off584 (v15 : BitVec 32) (v22 : BitVec 32) (k0_t19 : Fin (k0_t19_loop v15 v22).trips) (k0_t27 : Fin (k0_t27_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t27
  let v501 : Index := Scalar.indexCast arg44
  let c224_135 : Index := 224#32
  ![v501.toNat, 224]
def k0_off585 (v15 : BitVec 32) (v22 : BitVec 32) (k0_t19 : Fin (k0_t19_loop v15 v22).trips) (k0_t27 : Fin (k0_t27_loop v15 v22 k0_t19).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let c1_i32_61 : BitVec 32 := 1#32
  let arg11 : BitVec 32 := Scf.iv c0_i32_59 c1_i32_61 k0_t19
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t27
  let v507 : Index := Scalar.indexCast arg44
  let c240_136 : Index := 240#32
  ![v507.toNat, 240]
@[reducible] def k0_t28_loop (v15 : BitVec 32) (v22 : BitVec 32) : Scf.Loop 32 :=
  let c0_i32_59 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let v225 : BitVec 32 := Scalar.addi c0_i32_59 v224
  let c1_i32_62 : BitVec 32 := 1#32
  ⟨v228, v225, c1_i32_62⟩
def k0_mult15 (v15 : BitVec 32) (v22 : BitVec 32) (k0_t28 : Fin (k0_t28_loop v15 v22).trips) : BitVec 32 :=
  let c3_i32_33 : BitVec 32 := 3#32
  let v176 : BitVec 32 := Scalar.shrsi v15 c3_i32_33
  let c3_i32_34 : BitVec 32 := 3#32
  let v177 : BitVec 32 := Scalar.shli v176 c3_i32_34
  let c2_i32_71 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v333 : BitVec 32 := Scalar.muli c2_i32_71 arg11
  let c1_i32_72 : BitVec 32 := 1#32
  let v334 : BitVec 32 := Scalar.addi v333 c1_i32_72
  let c128_i32_73 : BitVec 32 := 128#32
  let v335 : BitVec 32 := Scalar.muli v334 c128_i32_73
  let v336 : BitVec 32 := Scalar.addi v177 v335
  let c49872_i32_74 : BitVec 32 := 49872#32
  let v337 : BitVec 32 := Scalar.minsi v336 c49872_i32_74
  v337
def k0_off586 (v15 : BitVec 32) (v22 : BitVec 32) (k0_t28 : Fin (k0_t28_loop v15 v22).trips) : Fin 2 → Nat :=
  let c3_i32_33 : BitVec 32 := 3#32
  let v176 : BitVec 32 := Scalar.shrsi v15 c3_i32_33
  let c3_i32_34 : BitVec 32 := 3#32
  let v177 : BitVec 32 := Scalar.shli v176 c3_i32_34
  let c2_i32_71 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v333 : BitVec 32 := Scalar.muli c2_i32_71 arg11
  let c1_i32_72 : BitVec 32 := 1#32
  let v334 : BitVec 32 := Scalar.addi v333 c1_i32_72
  let c128_i32_73 : BitVec 32 := 128#32
  let v335 : BitVec 32 := Scalar.muli v334 c128_i32_73
  let v336 : BitVec 32 := Scalar.addi v177 v335
  let c49872_i32_74 : BitVec 32 := 49872#32
  let v337 : BitVec 32 := Scalar.minsi v336 c49872_i32_74
  let v338 : BitVec 32 := v337
  let c0_i32_75 : BitVec 32 := 0#32
  ![v338.toNat, 0]
def k0_mult16 (v15 : BitVec 32) (v22 : BitVec 32) (k0_t28 : Fin (k0_t28_loop v15 v22).trips) : BitVec 32 :=
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  v346
@[reducible] def k0_t29_loop (v15 : BitVec 32) (v22 : BitVec 32) (k0_t28 : Fin (k0_t28_loop v15 v22).trips) : Scf.Loop 32 :=
  let c0_i32_86 : BitVec 32 := 0#32
  let c128_i32_84 : BitVec 32 := 128#32
  let c0_i32_83 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v352 : BitVec 32 := Scalar.subi v22 v347
  let v353 : BitVec 32 := Scalar.maxsi c0_i32_83 v352
  let v354 : BitVec 32 := Scalar.minsi c128_i32_84 v353
  let c128_i32_82 : BitVec 32 := 128#32
  let c0_i32_81 : BitVec 32 := 0#32
  let c128_i32_78 : BitVec 32 := 128#32
  let v342 : BitVec 32 := Scalar.muli v341 c128_i32_78
  let v343 : BitVec 32 := Scalar.addi v177 v342
  let v348 : BitVec 32 := Scalar.maxsi v15 v343
  let v349 : BitVec 32 := Scalar.subi v348 v347
  let v350 : BitVec 32 := Scalar.maxsi c0_i32_81 v349
  let v351 : BitVec 32 := Scalar.minsi c128_i32_82 v350
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_88 : BitVec 32 := 1#32
  ⟨c0_i32_86, v361, c1_i32_88⟩
def k0_off587 (v15 : BitVec 32) (v22 : BitVec 32) (k0_t28 : Fin (k0_t28_loop v15 v22).trips) (k0_t29 : Fin (k0_t29_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t29
  let v417 : BitVec 32 := Scalar.muli c4_i32_121 arg44
  let v418 : BitVec 32 := Scalar.addi v351 v417
  let v422 : Index := Scalar.indexCast v418
  let c0_125 : Index := 0#32
  ![v422.toNat, 0]
def k0_off588 (v15 : BitVec 32) (v22 : BitVec 32) (k0_t28 : Fin (k0_t28_loop v15 v22).trips) (k0_t29 : Fin (k0_t29_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t29
  let v417 : BitVec 32 := Scalar.muli c4_i32_121 arg44
  let v418 : BitVec 32 := Scalar.addi v351 v417
  let v428 : Index := Scalar.indexCast v418
  let c16_126 : Index := 16#32
  ![v428.toNat, 16]
def k0_off589 (v15 : BitVec 32) (v22 : BitVec 32) (k0_t28 : Fin (k0_t28_loop v15 v22).trips) (k0_t29 : Fin (k0_t29_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t29
  let v417 : BitVec 32 := Scalar.muli c4_i32_121 arg44
  let v418 : BitVec 32 := Scalar.addi v351 v417
  let v434 : Index := Scalar.indexCast v418
  let c32_127 : Index := 32#32
  ![v434.toNat, 32]
def k0_off590 (v15 : BitVec 32) (v22 : BitVec 32) (k0_t28 : Fin (k0_t28_loop v15 v22).trips) (k0_t29 : Fin (k0_t29_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t29
  let v417 : BitVec 32 := Scalar.muli c4_i32_121 arg44
  let v418 : BitVec 32 := Scalar.addi v351 v417
  let v440 : Index := Scalar.indexCast v418
  let c48_128 : Index := 48#32
  ![v440.toNat, 48]
def k0_off591 (v15 : BitVec 32) (v22 : BitVec 32) (k0_t28 : Fin (k0_t28_loop v15 v22).trips) (k0_t29 : Fin (k0_t29_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t29
  let v417 : BitVec 32 := Scalar.muli c4_i32_121 arg44
  let v418 : BitVec 32 := Scalar.addi v351 v417
  let v446 : Index := Scalar.indexCast v418
  let c64_129 : Index := 64#32
  ![v446.toNat, 64]
def k0_off592 (v15 : BitVec 32) (v22 : BitVec 32) (k0_t28 : Fin (k0_t28_loop v15 v22).trips) (k0_t29 : Fin (k0_t29_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t29
  let v417 : BitVec 32 := Scalar.muli c4_i32_121 arg44
  let v418 : BitVec 32 := Scalar.addi v351 v417
  let v452 : Index := Scalar.indexCast v418
  let c80_130 : Index := 80#32
  ![v452.toNat, 80]
def k0_off593 (v15 : BitVec 32) (v22 : BitVec 32) (k0_t28 : Fin (k0_t28_loop v15 v22).trips) (k0_t29 : Fin (k0_t29_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t29
  let v417 : BitVec 32 := Scalar.muli c4_i32_121 arg44
  let v418 : BitVec 32 := Scalar.addi v351 v417
  let v458 : Index := Scalar.indexCast v418
  let c96_131 : Index := 96#32
  ![v458.toNat, 96]
def k0_off594 (v15 : BitVec 32) (v22 : BitVec 32) (k0_t28 : Fin (k0_t28_loop v15 v22).trips) (k0_t29 : Fin (k0_t29_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t29
  let v417 : BitVec 32 := Scalar.muli c4_i32_121 arg44
  let v418 : BitVec 32 := Scalar.addi v351 v417
  let v464 : Index := Scalar.indexCast v418
  let c112_132 : Index := 112#32
  ![v464.toNat, 112]
def k0_off595 (v15 : BitVec 32) (v22 : BitVec 32) (k0_t28 : Fin (k0_t28_loop v15 v22).trips) (k0_t29 : Fin (k0_t29_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t29
  let v417 : BitVec 32 := Scalar.muli c4_i32_121 arg44
  let v418 : BitVec 32 := Scalar.addi v351 v417
  let v470 : Index := Scalar.indexCast v418
  let c128_133 : Index := 128#32
  ![v470.toNat, 128]
def k0_off596 (v15 : BitVec 32) (v22 : BitVec 32) (k0_t28 : Fin (k0_t28_loop v15 v22).trips) (k0_t29 : Fin (k0_t29_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t29
  let v417 : BitVec 32 := Scalar.muli c4_i32_121 arg44
  let v418 : BitVec 32 := Scalar.addi v351 v417
  let v476 : Index := Scalar.indexCast v418
  let c144_134 : Index := 144#32
  ![v476.toNat, 144]
def k0_off597 (v15 : BitVec 32) (v22 : BitVec 32) (k0_t28 : Fin (k0_t28_loop v15 v22).trips) (k0_t29 : Fin (k0_t29_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t29
  let v417 : BitVec 32 := Scalar.muli c4_i32_121 arg44
  let v418 : BitVec 32 := Scalar.addi v351 v417
  let v482 : Index := Scalar.indexCast v418
  let c160_135 : Index := 160#32
  ![v482.toNat, 160]
def k0_off598 (v15 : BitVec 32) (v22 : BitVec 32) (k0_t28 : Fin (k0_t28_loop v15 v22).trips) (k0_t29 : Fin (k0_t29_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t29
  let v417 : BitVec 32 := Scalar.muli c4_i32_121 arg44
  let v418 : BitVec 32 := Scalar.addi v351 v417
  let v488 : Index := Scalar.indexCast v418
  let c176_136 : Index := 176#32
  ![v488.toNat, 176]
def k0_off599 (v15 : BitVec 32) (v22 : BitVec 32) (k0_t28 : Fin (k0_t28_loop v15 v22).trips) (k0_t29 : Fin (k0_t29_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t29
  let v417 : BitVec 32 := Scalar.muli c4_i32_121 arg44
  let v418 : BitVec 32 := Scalar.addi v351 v417
  let v494 : Index := Scalar.indexCast v418
  let c192_137 : Index := 192#32
  ![v494.toNat, 192]
def k0_off600 (v15 : BitVec 32) (v22 : BitVec 32) (k0_t28 : Fin (k0_t28_loop v15 v22).trips) (k0_t29 : Fin (k0_t29_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t29
  let v417 : BitVec 32 := Scalar.muli c4_i32_121 arg44
  let v418 : BitVec 32 := Scalar.addi v351 v417
  let v500 : Index := Scalar.indexCast v418
  let c208_138 : Index := 208#32
  ![v500.toNat, 208]
def k0_off601 (v15 : BitVec 32) (v22 : BitVec 32) (k0_t28 : Fin (k0_t28_loop v15 v22).trips) (k0_t29 : Fin (k0_t29_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t29
  let v417 : BitVec 32 := Scalar.muli c4_i32_121 arg44
  let v418 : BitVec 32 := Scalar.addi v351 v417
  let v506 : Index := Scalar.indexCast v418
  let c224_139 : Index := 224#32
  ![v506.toNat, 224]
def k0_off602 (v15 : BitVec 32) (v22 : BitVec 32) (k0_t28 : Fin (k0_t28_loop v15 v22).trips) (k0_t29 : Fin (k0_t29_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t29
  let v417 : BitVec 32 := Scalar.muli c4_i32_121 arg44
  let v418 : BitVec 32 := Scalar.addi v351 v417
  let v512 : Index := Scalar.indexCast v418
  let c240_140 : Index := 240#32
  ![v512.toNat, 240]
def k0_off603 (v15 : BitVec 32) (v22 : BitVec 32) (k0_t28 : Fin (k0_t28_loop v15 v22).trips) (k0_t29 : Fin (k0_t29_loop v15 v22 k0_t28).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t29
  let v417 : BitVec 32 := Scalar.muli c4_i32_121 arg44
  let v418 : BitVec 32 := Scalar.addi v351 v417
  let v419 : BitVec 32 := Scalar.addi v418 c1_i32_122
  let v518 : Index := Scalar.indexCast v419
  let c0_141 : Index := 0#32
  ![v518.toNat, 0]
def k0_off604 (v15 : BitVec 32) (v22 : BitVec 32) (k0_t28 : Fin (k0_t28_loop v15 v22).trips) (k0_t29 : Fin (k0_t29_loop v15 v22 k0_t28).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t29
  let v417 : BitVec 32 := Scalar.muli c4_i32_121 arg44
  let v418 : BitVec 32 := Scalar.addi v351 v417
  let v419 : BitVec 32 := Scalar.addi v418 c1_i32_122
  let v524 : Index := Scalar.indexCast v419
  let c16_142 : Index := 16#32
  ![v524.toNat, 16]
def k0_off605 (v15 : BitVec 32) (v22 : BitVec 32) (k0_t28 : Fin (k0_t28_loop v15 v22).trips) (k0_t29 : Fin (k0_t29_loop v15 v22 k0_t28).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t29
  let v417 : BitVec 32 := Scalar.muli c4_i32_121 arg44
  let v418 : BitVec 32 := Scalar.addi v351 v417
  let v419 : BitVec 32 := Scalar.addi v418 c1_i32_122
  let v530 : Index := Scalar.indexCast v419
  let c32_143 : Index := 32#32
  ![v530.toNat, 32]
def k0_off606 (v15 : BitVec 32) (v22 : BitVec 32) (k0_t28 : Fin (k0_t28_loop v15 v22).trips) (k0_t29 : Fin (k0_t29_loop v15 v22 k0_t28).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t29
  let v417 : BitVec 32 := Scalar.muli c4_i32_121 arg44
  let v418 : BitVec 32 := Scalar.addi v351 v417
  let v419 : BitVec 32 := Scalar.addi v418 c1_i32_122
  let v536 : Index := Scalar.indexCast v419
  let c48_144 : Index := 48#32
  ![v536.toNat, 48]
def k0_off607 (v15 : BitVec 32) (v22 : BitVec 32) (k0_t28 : Fin (k0_t28_loop v15 v22).trips) (k0_t29 : Fin (k0_t29_loop v15 v22 k0_t28).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t29
  let v417 : BitVec 32 := Scalar.muli c4_i32_121 arg44
  let v418 : BitVec 32 := Scalar.addi v351 v417
  let v419 : BitVec 32 := Scalar.addi v418 c1_i32_122
  let v542 : Index := Scalar.indexCast v419
  let c64_145 : Index := 64#32
  ![v542.toNat, 64]
def k0_off608 (v15 : BitVec 32) (v22 : BitVec 32) (k0_t28 : Fin (k0_t28_loop v15 v22).trips) (k0_t29 : Fin (k0_t29_loop v15 v22 k0_t28).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t29
  let v417 : BitVec 32 := Scalar.muli c4_i32_121 arg44
  let v418 : BitVec 32 := Scalar.addi v351 v417
  let v419 : BitVec 32 := Scalar.addi v418 c1_i32_122
  let v548 : Index := Scalar.indexCast v419
  let c80_146 : Index := 80#32
  ![v548.toNat, 80]
def k0_off609 (v15 : BitVec 32) (v22 : BitVec 32) (k0_t28 : Fin (k0_t28_loop v15 v22).trips) (k0_t29 : Fin (k0_t29_loop v15 v22 k0_t28).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t29
  let v417 : BitVec 32 := Scalar.muli c4_i32_121 arg44
  let v418 : BitVec 32 := Scalar.addi v351 v417
  let v419 : BitVec 32 := Scalar.addi v418 c1_i32_122
  let v554 : Index := Scalar.indexCast v419
  let c96_147 : Index := 96#32
  ![v554.toNat, 96]
def k0_off610 (v15 : BitVec 32) (v22 : BitVec 32) (k0_t28 : Fin (k0_t28_loop v15 v22).trips) (k0_t29 : Fin (k0_t29_loop v15 v22 k0_t28).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t29
  let v417 : BitVec 32 := Scalar.muli c4_i32_121 arg44
  let v418 : BitVec 32 := Scalar.addi v351 v417
  let v419 : BitVec 32 := Scalar.addi v418 c1_i32_122
  let v560 : Index := Scalar.indexCast v419
  let c112_148 : Index := 112#32
  ![v560.toNat, 112]
def k0_off611 (v15 : BitVec 32) (v22 : BitVec 32) (k0_t28 : Fin (k0_t28_loop v15 v22).trips) (k0_t29 : Fin (k0_t29_loop v15 v22 k0_t28).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t29
  let v417 : BitVec 32 := Scalar.muli c4_i32_121 arg44
  let v418 : BitVec 32 := Scalar.addi v351 v417
  let v419 : BitVec 32 := Scalar.addi v418 c1_i32_122
  let v566 : Index := Scalar.indexCast v419
  let c128_149 : Index := 128#32
  ![v566.toNat, 128]
def k0_off612 (v15 : BitVec 32) (v22 : BitVec 32) (k0_t28 : Fin (k0_t28_loop v15 v22).trips) (k0_t29 : Fin (k0_t29_loop v15 v22 k0_t28).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t29
  let v417 : BitVec 32 := Scalar.muli c4_i32_121 arg44
  let v418 : BitVec 32 := Scalar.addi v351 v417
  let v419 : BitVec 32 := Scalar.addi v418 c1_i32_122
  let v572 : Index := Scalar.indexCast v419
  let c144_150 : Index := 144#32
  ![v572.toNat, 144]
def k0_off613 (v15 : BitVec 32) (v22 : BitVec 32) (k0_t28 : Fin (k0_t28_loop v15 v22).trips) (k0_t29 : Fin (k0_t29_loop v15 v22 k0_t28).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t29
  let v417 : BitVec 32 := Scalar.muli c4_i32_121 arg44
  let v418 : BitVec 32 := Scalar.addi v351 v417
  let v419 : BitVec 32 := Scalar.addi v418 c1_i32_122
  let v578 : Index := Scalar.indexCast v419
  let c160_151 : Index := 160#32
  ![v578.toNat, 160]
def k0_off614 (v15 : BitVec 32) (v22 : BitVec 32) (k0_t28 : Fin (k0_t28_loop v15 v22).trips) (k0_t29 : Fin (k0_t29_loop v15 v22 k0_t28).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t29
  let v417 : BitVec 32 := Scalar.muli c4_i32_121 arg44
  let v418 : BitVec 32 := Scalar.addi v351 v417
  let v419 : BitVec 32 := Scalar.addi v418 c1_i32_122
  let v584 : Index := Scalar.indexCast v419
  let c176_152 : Index := 176#32
  ![v584.toNat, 176]
def k0_off615 (v15 : BitVec 32) (v22 : BitVec 32) (k0_t28 : Fin (k0_t28_loop v15 v22).trips) (k0_t29 : Fin (k0_t29_loop v15 v22 k0_t28).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t29
  let v417 : BitVec 32 := Scalar.muli c4_i32_121 arg44
  let v418 : BitVec 32 := Scalar.addi v351 v417
  let v419 : BitVec 32 := Scalar.addi v418 c1_i32_122
  let v590 : Index := Scalar.indexCast v419
  let c192_153 : Index := 192#32
  ![v590.toNat, 192]
def k0_off616 (v15 : BitVec 32) (v22 : BitVec 32) (k0_t28 : Fin (k0_t28_loop v15 v22).trips) (k0_t29 : Fin (k0_t29_loop v15 v22 k0_t28).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t29
  let v417 : BitVec 32 := Scalar.muli c4_i32_121 arg44
  let v418 : BitVec 32 := Scalar.addi v351 v417
  let v419 : BitVec 32 := Scalar.addi v418 c1_i32_122
  let v596 : Index := Scalar.indexCast v419
  let c208_154 : Index := 208#32
  ![v596.toNat, 208]
def k0_off617 (v15 : BitVec 32) (v22 : BitVec 32) (k0_t28 : Fin (k0_t28_loop v15 v22).trips) (k0_t29 : Fin (k0_t29_loop v15 v22 k0_t28).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t29
  let v417 : BitVec 32 := Scalar.muli c4_i32_121 arg44
  let v418 : BitVec 32 := Scalar.addi v351 v417
  let v419 : BitVec 32 := Scalar.addi v418 c1_i32_122
  let v602 : Index := Scalar.indexCast v419
  let c224_155 : Index := 224#32
  ![v602.toNat, 224]
def k0_off618 (v15 : BitVec 32) (v22 : BitVec 32) (k0_t28 : Fin (k0_t28_loop v15 v22).trips) (k0_t29 : Fin (k0_t29_loop v15 v22 k0_t28).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c1_i32_88 : BitVec 32 := 1#32
  let arg44 : BitVec 32 := Scf.iv c0_i32_86 c1_i32_88 k0_t29
  let v417 : BitVec 32 := Scalar.muli c4_i32_121 arg44
  let v418 : BitVec 32 := Scalar.addi v351 v417
  let v419 : BitVec 32 := Scalar.addi v418 c1_i32_122
  let v608 : Index := Scalar.indexCast v419
  let c240_156 : Index := 240#32
  ![v608.toNat, 240]
@[reducible] def k0_t30_loop (v15 : BitVec 32) (v22 : BitVec 32) (k0_t28 : Fin (k0_t28_loop v15 v22).trips) : Scf.Loop 32 :=
  let c0_i32_86 : BitVec 32 := 0#32
  let c128_i32_84 : BitVec 32 := 128#32
  let c0_i32_83 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v352 : BitVec 32 := Scalar.subi v22 v347
  let v353 : BitVec 32 := Scalar.maxsi c0_i32_83 v352
  let v354 : BitVec 32 := Scalar.minsi c128_i32_84 v353
  let c128_i32_82 : BitVec 32 := 128#32
  let c0_i32_81 : BitVec 32 := 0#32
  let c128_i32_78 : BitVec 32 := 128#32
  let v342 : BitVec 32 := Scalar.muli v341 c128_i32_78
  let v343 : BitVec 32 := Scalar.addi v177 v342
  let v348 : BitVec 32 := Scalar.maxsi v15 v343
  let v349 : BitVec 32 := Scalar.subi v348 v347
  let v350 : BitVec 32 := Scalar.maxsi c0_i32_81 v349
  let v351 : BitVec 32 := Scalar.minsi c128_i32_82 v350
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let v358 : BitVec 32 := Scalar.addi c0_i32_86 v357
  let c1_i32_89 : BitVec 32 := 1#32
  ⟨v361, v358, c1_i32_89⟩
def k0_off619 (v15 : BitVec 32) (v22 : BitVec 32) (k0_t28 : Fin (k0_t28_loop v15 v22).trips) (k0_t30 : Fin (k0_t30_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t30
  let v417 : BitVec 32 := Scalar.muli c4_i32_121 arg44
  let v418 : BitVec 32 := Scalar.addi v351 v417
  let v422 : Index := Scalar.indexCast v418
  let c0_125 : Index := 0#32
  ![v422.toNat, 0]
def k0_off620 (v15 : BitVec 32) (v22 : BitVec 32) (k0_t28 : Fin (k0_t28_loop v15 v22).trips) (k0_t30 : Fin (k0_t30_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t30
  let v417 : BitVec 32 := Scalar.muli c4_i32_121 arg44
  let v418 : BitVec 32 := Scalar.addi v351 v417
  let v428 : Index := Scalar.indexCast v418
  let c16_126 : Index := 16#32
  ![v428.toNat, 16]
def k0_off621 (v15 : BitVec 32) (v22 : BitVec 32) (k0_t28 : Fin (k0_t28_loop v15 v22).trips) (k0_t30 : Fin (k0_t30_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t30
  let v417 : BitVec 32 := Scalar.muli c4_i32_121 arg44
  let v418 : BitVec 32 := Scalar.addi v351 v417
  let v434 : Index := Scalar.indexCast v418
  let c32_127 : Index := 32#32
  ![v434.toNat, 32]
def k0_off622 (v15 : BitVec 32) (v22 : BitVec 32) (k0_t28 : Fin (k0_t28_loop v15 v22).trips) (k0_t30 : Fin (k0_t30_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t30
  let v417 : BitVec 32 := Scalar.muli c4_i32_121 arg44
  let v418 : BitVec 32 := Scalar.addi v351 v417
  let v440 : Index := Scalar.indexCast v418
  let c48_128 : Index := 48#32
  ![v440.toNat, 48]
def k0_off623 (v15 : BitVec 32) (v22 : BitVec 32) (k0_t28 : Fin (k0_t28_loop v15 v22).trips) (k0_t30 : Fin (k0_t30_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t30
  let v417 : BitVec 32 := Scalar.muli c4_i32_121 arg44
  let v418 : BitVec 32 := Scalar.addi v351 v417
  let v446 : Index := Scalar.indexCast v418
  let c64_129 : Index := 64#32
  ![v446.toNat, 64]
def k0_off624 (v15 : BitVec 32) (v22 : BitVec 32) (k0_t28 : Fin (k0_t28_loop v15 v22).trips) (k0_t30 : Fin (k0_t30_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t30
  let v417 : BitVec 32 := Scalar.muli c4_i32_121 arg44
  let v418 : BitVec 32 := Scalar.addi v351 v417
  let v452 : Index := Scalar.indexCast v418
  let c80_130 : Index := 80#32
  ![v452.toNat, 80]
def k0_off625 (v15 : BitVec 32) (v22 : BitVec 32) (k0_t28 : Fin (k0_t28_loop v15 v22).trips) (k0_t30 : Fin (k0_t30_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t30
  let v417 : BitVec 32 := Scalar.muli c4_i32_121 arg44
  let v418 : BitVec 32 := Scalar.addi v351 v417
  let v458 : Index := Scalar.indexCast v418
  let c96_131 : Index := 96#32
  ![v458.toNat, 96]
def k0_off626 (v15 : BitVec 32) (v22 : BitVec 32) (k0_t28 : Fin (k0_t28_loop v15 v22).trips) (k0_t30 : Fin (k0_t30_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t30
  let v417 : BitVec 32 := Scalar.muli c4_i32_121 arg44
  let v418 : BitVec 32 := Scalar.addi v351 v417
  let v464 : Index := Scalar.indexCast v418
  let c112_132 : Index := 112#32
  ![v464.toNat, 112]
def k0_off627 (v15 : BitVec 32) (v22 : BitVec 32) (k0_t28 : Fin (k0_t28_loop v15 v22).trips) (k0_t30 : Fin (k0_t30_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t30
  let v417 : BitVec 32 := Scalar.muli c4_i32_121 arg44
  let v418 : BitVec 32 := Scalar.addi v351 v417
  let v470 : Index := Scalar.indexCast v418
  let c128_133 : Index := 128#32
  ![v470.toNat, 128]
def k0_off628 (v15 : BitVec 32) (v22 : BitVec 32) (k0_t28 : Fin (k0_t28_loop v15 v22).trips) (k0_t30 : Fin (k0_t30_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t30
  let v417 : BitVec 32 := Scalar.muli c4_i32_121 arg44
  let v418 : BitVec 32 := Scalar.addi v351 v417
  let v476 : Index := Scalar.indexCast v418
  let c144_134 : Index := 144#32
  ![v476.toNat, 144]
def k0_off629 (v15 : BitVec 32) (v22 : BitVec 32) (k0_t28 : Fin (k0_t28_loop v15 v22).trips) (k0_t30 : Fin (k0_t30_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t30
  let v417 : BitVec 32 := Scalar.muli c4_i32_121 arg44
  let v418 : BitVec 32 := Scalar.addi v351 v417
  let v482 : Index := Scalar.indexCast v418
  let c160_135 : Index := 160#32
  ![v482.toNat, 160]
def k0_off630 (v15 : BitVec 32) (v22 : BitVec 32) (k0_t28 : Fin (k0_t28_loop v15 v22).trips) (k0_t30 : Fin (k0_t30_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t30
  let v417 : BitVec 32 := Scalar.muli c4_i32_121 arg44
  let v418 : BitVec 32 := Scalar.addi v351 v417
  let v488 : Index := Scalar.indexCast v418
  let c176_136 : Index := 176#32
  ![v488.toNat, 176]
def k0_off631 (v15 : BitVec 32) (v22 : BitVec 32) (k0_t28 : Fin (k0_t28_loop v15 v22).trips) (k0_t30 : Fin (k0_t30_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t30
  let v417 : BitVec 32 := Scalar.muli c4_i32_121 arg44
  let v418 : BitVec 32 := Scalar.addi v351 v417
  let v494 : Index := Scalar.indexCast v418
  let c192_137 : Index := 192#32
  ![v494.toNat, 192]
def k0_off632 (v15 : BitVec 32) (v22 : BitVec 32) (k0_t28 : Fin (k0_t28_loop v15 v22).trips) (k0_t30 : Fin (k0_t30_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t30
  let v417 : BitVec 32 := Scalar.muli c4_i32_121 arg44
  let v418 : BitVec 32 := Scalar.addi v351 v417
  let v500 : Index := Scalar.indexCast v418
  let c208_138 : Index := 208#32
  ![v500.toNat, 208]
def k0_off633 (v15 : BitVec 32) (v22 : BitVec 32) (k0_t28 : Fin (k0_t28_loop v15 v22).trips) (k0_t30 : Fin (k0_t30_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t30
  let v417 : BitVec 32 := Scalar.muli c4_i32_121 arg44
  let v418 : BitVec 32 := Scalar.addi v351 v417
  let v506 : Index := Scalar.indexCast v418
  let c224_139 : Index := 224#32
  ![v506.toNat, 224]
def k0_off634 (v15 : BitVec 32) (v22 : BitVec 32) (k0_t28 : Fin (k0_t28_loop v15 v22).trips) (k0_t30 : Fin (k0_t30_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t30
  let v417 : BitVec 32 := Scalar.muli c4_i32_121 arg44
  let v418 : BitVec 32 := Scalar.addi v351 v417
  let v512 : Index := Scalar.indexCast v418
  let c240_140 : Index := 240#32
  ![v512.toNat, 240]
def k0_off635 (v15 : BitVec 32) (v22 : BitVec 32) (k0_t28 : Fin (k0_t28_loop v15 v22).trips) (k0_t30 : Fin (k0_t30_loop v15 v22 k0_t28).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t30
  let v417 : BitVec 32 := Scalar.muli c4_i32_121 arg44
  let v418 : BitVec 32 := Scalar.addi v351 v417
  let v419 : BitVec 32 := Scalar.addi v418 c1_i32_122
  let v518 : Index := Scalar.indexCast v419
  let c0_141 : Index := 0#32
  ![v518.toNat, 0]
def k0_off636 (v15 : BitVec 32) (v22 : BitVec 32) (k0_t28 : Fin (k0_t28_loop v15 v22).trips) (k0_t30 : Fin (k0_t30_loop v15 v22 k0_t28).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t30
  let v417 : BitVec 32 := Scalar.muli c4_i32_121 arg44
  let v418 : BitVec 32 := Scalar.addi v351 v417
  let v419 : BitVec 32 := Scalar.addi v418 c1_i32_122
  let v524 : Index := Scalar.indexCast v419
  let c16_142 : Index := 16#32
  ![v524.toNat, 16]
def k0_off637 (v15 : BitVec 32) (v22 : BitVec 32) (k0_t28 : Fin (k0_t28_loop v15 v22).trips) (k0_t30 : Fin (k0_t30_loop v15 v22 k0_t28).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t30
  let v417 : BitVec 32 := Scalar.muli c4_i32_121 arg44
  let v418 : BitVec 32 := Scalar.addi v351 v417
  let v419 : BitVec 32 := Scalar.addi v418 c1_i32_122
  let v530 : Index := Scalar.indexCast v419
  let c32_143 : Index := 32#32
  ![v530.toNat, 32]
def k0_off638 (v15 : BitVec 32) (v22 : BitVec 32) (k0_t28 : Fin (k0_t28_loop v15 v22).trips) (k0_t30 : Fin (k0_t30_loop v15 v22 k0_t28).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t30
  let v417 : BitVec 32 := Scalar.muli c4_i32_121 arg44
  let v418 : BitVec 32 := Scalar.addi v351 v417
  let v419 : BitVec 32 := Scalar.addi v418 c1_i32_122
  let v536 : Index := Scalar.indexCast v419
  let c48_144 : Index := 48#32
  ![v536.toNat, 48]
def k0_off639 (v15 : BitVec 32) (v22 : BitVec 32) (k0_t28 : Fin (k0_t28_loop v15 v22).trips) (k0_t30 : Fin (k0_t30_loop v15 v22 k0_t28).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t30
  let v417 : BitVec 32 := Scalar.muli c4_i32_121 arg44
  let v418 : BitVec 32 := Scalar.addi v351 v417
  let v419 : BitVec 32 := Scalar.addi v418 c1_i32_122
  let v542 : Index := Scalar.indexCast v419
  let c64_145 : Index := 64#32
  ![v542.toNat, 64]
def k0_off640 (v15 : BitVec 32) (v22 : BitVec 32) (k0_t28 : Fin (k0_t28_loop v15 v22).trips) (k0_t30 : Fin (k0_t30_loop v15 v22 k0_t28).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t30
  let v417 : BitVec 32 := Scalar.muli c4_i32_121 arg44
  let v418 : BitVec 32 := Scalar.addi v351 v417
  let v419 : BitVec 32 := Scalar.addi v418 c1_i32_122
  let v548 : Index := Scalar.indexCast v419
  let c80_146 : Index := 80#32
  ![v548.toNat, 80]
def k0_off641 (v15 : BitVec 32) (v22 : BitVec 32) (k0_t28 : Fin (k0_t28_loop v15 v22).trips) (k0_t30 : Fin (k0_t30_loop v15 v22 k0_t28).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t30
  let v417 : BitVec 32 := Scalar.muli c4_i32_121 arg44
  let v418 : BitVec 32 := Scalar.addi v351 v417
  let v419 : BitVec 32 := Scalar.addi v418 c1_i32_122
  let v554 : Index := Scalar.indexCast v419
  let c96_147 : Index := 96#32
  ![v554.toNat, 96]
def k0_off642 (v15 : BitVec 32) (v22 : BitVec 32) (k0_t28 : Fin (k0_t28_loop v15 v22).trips) (k0_t30 : Fin (k0_t30_loop v15 v22 k0_t28).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t30
  let v417 : BitVec 32 := Scalar.muli c4_i32_121 arg44
  let v418 : BitVec 32 := Scalar.addi v351 v417
  let v419 : BitVec 32 := Scalar.addi v418 c1_i32_122
  let v560 : Index := Scalar.indexCast v419
  let c112_148 : Index := 112#32
  ![v560.toNat, 112]
def k0_off643 (v15 : BitVec 32) (v22 : BitVec 32) (k0_t28 : Fin (k0_t28_loop v15 v22).trips) (k0_t30 : Fin (k0_t30_loop v15 v22 k0_t28).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t30
  let v417 : BitVec 32 := Scalar.muli c4_i32_121 arg44
  let v418 : BitVec 32 := Scalar.addi v351 v417
  let v419 : BitVec 32 := Scalar.addi v418 c1_i32_122
  let v566 : Index := Scalar.indexCast v419
  let c128_149 : Index := 128#32
  ![v566.toNat, 128]
def k0_off644 (v15 : BitVec 32) (v22 : BitVec 32) (k0_t28 : Fin (k0_t28_loop v15 v22).trips) (k0_t30 : Fin (k0_t30_loop v15 v22 k0_t28).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t30
  let v417 : BitVec 32 := Scalar.muli c4_i32_121 arg44
  let v418 : BitVec 32 := Scalar.addi v351 v417
  let v419 : BitVec 32 := Scalar.addi v418 c1_i32_122
  let v572 : Index := Scalar.indexCast v419
  let c144_150 : Index := 144#32
  ![v572.toNat, 144]
def k0_off645 (v15 : BitVec 32) (v22 : BitVec 32) (k0_t28 : Fin (k0_t28_loop v15 v22).trips) (k0_t30 : Fin (k0_t30_loop v15 v22 k0_t28).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t30
  let v417 : BitVec 32 := Scalar.muli c4_i32_121 arg44
  let v418 : BitVec 32 := Scalar.addi v351 v417
  let v419 : BitVec 32 := Scalar.addi v418 c1_i32_122
  let v578 : Index := Scalar.indexCast v419
  let c160_151 : Index := 160#32
  ![v578.toNat, 160]
def k0_off646 (v15 : BitVec 32) (v22 : BitVec 32) (k0_t28 : Fin (k0_t28_loop v15 v22).trips) (k0_t30 : Fin (k0_t30_loop v15 v22 k0_t28).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t30
  let v417 : BitVec 32 := Scalar.muli c4_i32_121 arg44
  let v418 : BitVec 32 := Scalar.addi v351 v417
  let v419 : BitVec 32 := Scalar.addi v418 c1_i32_122
  let v584 : Index := Scalar.indexCast v419
  let c176_152 : Index := 176#32
  ![v584.toNat, 176]
def k0_off647 (v15 : BitVec 32) (v22 : BitVec 32) (k0_t28 : Fin (k0_t28_loop v15 v22).trips) (k0_t30 : Fin (k0_t30_loop v15 v22 k0_t28).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t30
  let v417 : BitVec 32 := Scalar.muli c4_i32_121 arg44
  let v418 : BitVec 32 := Scalar.addi v351 v417
  let v419 : BitVec 32 := Scalar.addi v418 c1_i32_122
  let v590 : Index := Scalar.indexCast v419
  let c192_153 : Index := 192#32
  ![v590.toNat, 192]
def k0_off648 (v15 : BitVec 32) (v22 : BitVec 32) (k0_t28 : Fin (k0_t28_loop v15 v22).trips) (k0_t30 : Fin (k0_t30_loop v15 v22 k0_t28).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t30
  let v417 : BitVec 32 := Scalar.muli c4_i32_121 arg44
  let v418 : BitVec 32 := Scalar.addi v351 v417
  let v419 : BitVec 32 := Scalar.addi v418 c1_i32_122
  let v596 : Index := Scalar.indexCast v419
  let c208_154 : Index := 208#32
  ![v596.toNat, 208]
def k0_off649 (v15 : BitVec 32) (v22 : BitVec 32) (k0_t28 : Fin (k0_t28_loop v15 v22).trips) (k0_t30 : Fin (k0_t30_loop v15 v22 k0_t28).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t30
  let v417 : BitVec 32 := Scalar.muli c4_i32_121 arg44
  let v418 : BitVec 32 := Scalar.addi v351 v417
  let v419 : BitVec 32 := Scalar.addi v418 c1_i32_122
  let v602 : Index := Scalar.indexCast v419
  let c224_155 : Index := 224#32
  ![v602.toNat, 224]
def k0_off650 (v15 : BitVec 32) (v22 : BitVec 32) (k0_t28 : Fin (k0_t28_loop v15 v22).trips) (k0_t30 : Fin (k0_t30_loop v15 v22 k0_t28).trips) (c1_i32_122 : BitVec 32) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32_121 : BitVec 32 := 4#32
  let c0_i32_86 : BitVec 32 := 0#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v357 : BitVec 32 := Scalar.subi v356 c0_i32_86
  let c1_i32_87 : BitVec 32 := 1#32
  let v359 : BitVec 32 := Scalar.divsi v357 c1_i32_87
  let v360 : BitVec 32 := Scalar.muli v359 c1_i32_87
  let v361 : BitVec 32 := Scalar.addi c0_i32_86 v360
  let c1_i32_89 : BitVec 32 := 1#32
  let arg44 : BitVec 32 := Scf.iv v361 c1_i32_89 k0_t30
  let v417 : BitVec 32 := Scalar.muli c4_i32_121 arg44
  let v418 : BitVec 32 := Scalar.addi v351 v417
  let v419 : BitVec 32 := Scalar.addi v418 c1_i32_122
  let v608 : Index := Scalar.indexCast v419
  let c240_156 : Index := 240#32
  ![v608.toNat, 240]
@[reducible] def k0_t31_loop (v15 : BitVec 32) (v22 : BitVec 32) (k0_t28 : Fin (k0_t28_loop v15 v22).trips) : Scf.Loop 32 :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_91 : BitVec 32 := 1#32
  ⟨v365, v370, c1_i32_91⟩
def k0_off651 (v15 : BitVec 32) (v22 : BitVec 32) (k0_t28 : Fin (k0_t28_loop v15 v22).trips) (k0_t31 : Fin (k0_t31_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t31
  let v417 : Index := Scalar.indexCast arg44
  let c0_121 : Index := 0#32
  ![v417.toNat, 0]
def k0_off652 (v15 : BitVec 32) (v22 : BitVec 32) (k0_t28 : Fin (k0_t28_loop v15 v22).trips) (k0_t31 : Fin (k0_t31_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t31
  let v423 : Index := Scalar.indexCast arg44
  let c16_122 : Index := 16#32
  ![v423.toNat, 16]
def k0_off653 (v15 : BitVec 32) (v22 : BitVec 32) (k0_t28 : Fin (k0_t28_loop v15 v22).trips) (k0_t31 : Fin (k0_t31_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t31
  let v429 : Index := Scalar.indexCast arg44
  let c32_123 : Index := 32#32
  ![v429.toNat, 32]
def k0_off654 (v15 : BitVec 32) (v22 : BitVec 32) (k0_t28 : Fin (k0_t28_loop v15 v22).trips) (k0_t31 : Fin (k0_t31_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t31
  let v435 : Index := Scalar.indexCast arg44
  let c48_124 : Index := 48#32
  ![v435.toNat, 48]
def k0_off655 (v15 : BitVec 32) (v22 : BitVec 32) (k0_t28 : Fin (k0_t28_loop v15 v22).trips) (k0_t31 : Fin (k0_t31_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t31
  let v441 : Index := Scalar.indexCast arg44
  let c64_125 : Index := 64#32
  ![v441.toNat, 64]
def k0_off656 (v15 : BitVec 32) (v22 : BitVec 32) (k0_t28 : Fin (k0_t28_loop v15 v22).trips) (k0_t31 : Fin (k0_t31_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t31
  let v447 : Index := Scalar.indexCast arg44
  let c80_126 : Index := 80#32
  ![v447.toNat, 80]
def k0_off657 (v15 : BitVec 32) (v22 : BitVec 32) (k0_t28 : Fin (k0_t28_loop v15 v22).trips) (k0_t31 : Fin (k0_t31_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t31
  let v453 : Index := Scalar.indexCast arg44
  let c96_127 : Index := 96#32
  ![v453.toNat, 96]
def k0_off658 (v15 : BitVec 32) (v22 : BitVec 32) (k0_t28 : Fin (k0_t28_loop v15 v22).trips) (k0_t31 : Fin (k0_t31_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t31
  let v459 : Index := Scalar.indexCast arg44
  let c112_128 : Index := 112#32
  ![v459.toNat, 112]
def k0_off659 (v15 : BitVec 32) (v22 : BitVec 32) (k0_t28 : Fin (k0_t28_loop v15 v22).trips) (k0_t31 : Fin (k0_t31_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t31
  let v465 : Index := Scalar.indexCast arg44
  let c128_129 : Index := 128#32
  ![v465.toNat, 128]
def k0_off660 (v15 : BitVec 32) (v22 : BitVec 32) (k0_t28 : Fin (k0_t28_loop v15 v22).trips) (k0_t31 : Fin (k0_t31_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t31
  let v471 : Index := Scalar.indexCast arg44
  let c144_130 : Index := 144#32
  ![v471.toNat, 144]
def k0_off661 (v15 : BitVec 32) (v22 : BitVec 32) (k0_t28 : Fin (k0_t28_loop v15 v22).trips) (k0_t31 : Fin (k0_t31_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t31
  let v477 : Index := Scalar.indexCast arg44
  let c160_131 : Index := 160#32
  ![v477.toNat, 160]
def k0_off662 (v15 : BitVec 32) (v22 : BitVec 32) (k0_t28 : Fin (k0_t28_loop v15 v22).trips) (k0_t31 : Fin (k0_t31_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t31
  let v483 : Index := Scalar.indexCast arg44
  let c176_132 : Index := 176#32
  ![v483.toNat, 176]
def k0_off663 (v15 : BitVec 32) (v22 : BitVec 32) (k0_t28 : Fin (k0_t28_loop v15 v22).trips) (k0_t31 : Fin (k0_t31_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t31
  let v489 : Index := Scalar.indexCast arg44
  let c192_133 : Index := 192#32
  ![v489.toNat, 192]
def k0_off664 (v15 : BitVec 32) (v22 : BitVec 32) (k0_t28 : Fin (k0_t28_loop v15 v22).trips) (k0_t31 : Fin (k0_t31_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t31
  let v495 : Index := Scalar.indexCast arg44
  let c208_134 : Index := 208#32
  ![v495.toNat, 208]
def k0_off665 (v15 : BitVec 32) (v22 : BitVec 32) (k0_t28 : Fin (k0_t28_loop v15 v22).trips) (k0_t31 : Fin (k0_t31_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t31
  let v501 : Index := Scalar.indexCast arg44
  let c224_135 : Index := 224#32
  ![v501.toNat, 224]
def k0_off666 (v15 : BitVec 32) (v22 : BitVec 32) (k0_t28 : Fin (k0_t28_loop v15 v22).trips) (k0_t31 : Fin (k0_t31_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let c1_i32_91 : BitVec 32 := 1#32
  let arg44 : BitVec 32 := Scf.iv v365 c1_i32_91 k0_t31
  let v507 : Index := Scalar.indexCast arg44
  let c240_136 : Index := 240#32
  ![v507.toNat, 240]
@[reducible] def k0_t32_loop (v15 : BitVec 32) (v22 : BitVec 32) (k0_t28 : Fin (k0_t28_loop v15 v22).trips) : Scf.Loop 32 :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let v367 : BitVec 32 := Scalar.addi v365 v366
  let c1_i32_92 : BitVec 32 := 1#32
  ⟨v370, v367, c1_i32_92⟩
def k0_off667 (v15 : BitVec 32) (v22 : BitVec 32) (k0_t28 : Fin (k0_t28_loop v15 v22).trips) (k0_t32 : Fin (k0_t32_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t32
  let v417 : Index := Scalar.indexCast arg44
  let c0_121 : Index := 0#32
  ![v417.toNat, 0]
def k0_off668 (v15 : BitVec 32) (v22 : BitVec 32) (k0_t28 : Fin (k0_t28_loop v15 v22).trips) (k0_t32 : Fin (k0_t32_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t32
  let v423 : Index := Scalar.indexCast arg44
  let c16_122 : Index := 16#32
  ![v423.toNat, 16]
def k0_off669 (v15 : BitVec 32) (v22 : BitVec 32) (k0_t28 : Fin (k0_t28_loop v15 v22).trips) (k0_t32 : Fin (k0_t32_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t32
  let v429 : Index := Scalar.indexCast arg44
  let c32_123 : Index := 32#32
  ![v429.toNat, 32]
def k0_off670 (v15 : BitVec 32) (v22 : BitVec 32) (k0_t28 : Fin (k0_t28_loop v15 v22).trips) (k0_t32 : Fin (k0_t32_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t32
  let v435 : Index := Scalar.indexCast arg44
  let c48_124 : Index := 48#32
  ![v435.toNat, 48]
def k0_off671 (v15 : BitVec 32) (v22 : BitVec 32) (k0_t28 : Fin (k0_t28_loop v15 v22).trips) (k0_t32 : Fin (k0_t32_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t32
  let v441 : Index := Scalar.indexCast arg44
  let c64_125 : Index := 64#32
  ![v441.toNat, 64]
def k0_off672 (v15 : BitVec 32) (v22 : BitVec 32) (k0_t28 : Fin (k0_t28_loop v15 v22).trips) (k0_t32 : Fin (k0_t32_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t32
  let v447 : Index := Scalar.indexCast arg44
  let c80_126 : Index := 80#32
  ![v447.toNat, 80]
def k0_off673 (v15 : BitVec 32) (v22 : BitVec 32) (k0_t28 : Fin (k0_t28_loop v15 v22).trips) (k0_t32 : Fin (k0_t32_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t32
  let v453 : Index := Scalar.indexCast arg44
  let c96_127 : Index := 96#32
  ![v453.toNat, 96]
def k0_off674 (v15 : BitVec 32) (v22 : BitVec 32) (k0_t28 : Fin (k0_t28_loop v15 v22).trips) (k0_t32 : Fin (k0_t32_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t32
  let v459 : Index := Scalar.indexCast arg44
  let c112_128 : Index := 112#32
  ![v459.toNat, 112]
def k0_off675 (v15 : BitVec 32) (v22 : BitVec 32) (k0_t28 : Fin (k0_t28_loop v15 v22).trips) (k0_t32 : Fin (k0_t32_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t32
  let v465 : Index := Scalar.indexCast arg44
  let c128_129 : Index := 128#32
  ![v465.toNat, 128]
def k0_off676 (v15 : BitVec 32) (v22 : BitVec 32) (k0_t28 : Fin (k0_t28_loop v15 v22).trips) (k0_t32 : Fin (k0_t32_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t32
  let v471 : Index := Scalar.indexCast arg44
  let c144_130 : Index := 144#32
  ![v471.toNat, 144]
def k0_off677 (v15 : BitVec 32) (v22 : BitVec 32) (k0_t28 : Fin (k0_t28_loop v15 v22).trips) (k0_t32 : Fin (k0_t32_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t32
  let v477 : Index := Scalar.indexCast arg44
  let c160_131 : Index := 160#32
  ![v477.toNat, 160]
def k0_off678 (v15 : BitVec 32) (v22 : BitVec 32) (k0_t28 : Fin (k0_t28_loop v15 v22).trips) (k0_t32 : Fin (k0_t32_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t32
  let v483 : Index := Scalar.indexCast arg44
  let c176_132 : Index := 176#32
  ![v483.toNat, 176]
def k0_off679 (v15 : BitVec 32) (v22 : BitVec 32) (k0_t28 : Fin (k0_t28_loop v15 v22).trips) (k0_t32 : Fin (k0_t32_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t32
  let v489 : Index := Scalar.indexCast arg44
  let c192_133 : Index := 192#32
  ![v489.toNat, 192]
def k0_off680 (v15 : BitVec 32) (v22 : BitVec 32) (k0_t28 : Fin (k0_t28_loop v15 v22).trips) (k0_t32 : Fin (k0_t32_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t32
  let v495 : Index := Scalar.indexCast arg44
  let c208_134 : Index := 208#32
  ![v495.toNat, 208]
def k0_off681 (v15 : BitVec 32) (v22 : BitVec 32) (k0_t28 : Fin (k0_t28_loop v15 v22).trips) (k0_t32 : Fin (k0_t32_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t32
  let v501 : Index := Scalar.indexCast arg44
  let c224_135 : Index := 224#32
  ![v501.toNat, 224]
def k0_off682 (v15 : BitVec 32) (v22 : BitVec 32) (k0_t28 : Fin (k0_t28_loop v15 v22).trips) (k0_t32 : Fin (k0_t32_loop v15 v22 k0_t28).trips) : Fin 2 → Nat :=
  let c128_i32_82 : BitVec 32 := 128#32
  let c0_i32_81 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_77 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v341 : BitVec 32 := Scalar.muli c2_i32_77 arg11
  let c128_i32_78 : BitVec 32 := 128#32
  let v342 : BitVec 32 := Scalar.muli v341 c128_i32_78
  let v343 : BitVec 32 := Scalar.addi v177 v342
  let v348 : BitVec 32 := Scalar.maxsi v15 v343
  let c128_i32_79 : BitVec 32 := 128#32
  let v344 : BitVec 32 := Scalar.muli v341 c128_i32_79
  let v345 : BitVec 32 := Scalar.addi v177 v344
  let c49872_i32_80 : BitVec 32 := 49872#32
  let v346 : BitVec 32 := Scalar.minsi v345 c49872_i32_80
  let v347 : BitVec 32 := v346
  let v349 : BitVec 32 := Scalar.subi v348 v347
  let v350 : BitVec 32 := Scalar.maxsi c0_i32_81 v349
  let v351 : BitVec 32 := Scalar.minsi c128_i32_82 v350
  let c4_i32 : BitVec 32 := 4#32
  let c128_i32_84 : BitVec 32 := 128#32
  let c0_i32_83 : BitVec 32 := 0#32
  let v352 : BitVec 32 := Scalar.subi v22 v347
  let v353 : BitVec 32 := Scalar.maxsi c0_i32_83 v352
  let v354 : BitVec 32 := Scalar.minsi c128_i32_84 v353
  let v355 : BitVec 32 := Scalar.subi v354 v351
  let c2_i32_85 : BitVec 32 := 2#32
  let v356 : BitVec 32 := Scalar.shrsi v355 c2_i32_85
  let v364 : BitVec 32 := Scalar.muli c4_i32 v356
  let v365 : BitVec 32 := Scalar.addi v351 v364
  let v366 : BitVec 32 := Scalar.subi v354 v365
  let c1_i32_90 : BitVec 32 := 1#32
  let v368 : BitVec 32 := Scalar.divsi v366 c1_i32_90
  let v369 : BitVec 32 := Scalar.muli v368 c1_i32_90
  let v370 : BitVec 32 := Scalar.addi v365 v369
  let c1_i32_92 : BitVec 32 := 1#32
  let arg44 : BitVec 32 := Scf.iv v370 c1_i32_92 k0_t32
  let v507 : Index := Scalar.indexCast arg44
  let c240_136 : Index := 240#32
  ![v507.toNat, 240]
def k0_mult17 (v15 : BitVec 32) (v22 : BitVec 32) (k0_t28 : Fin (k0_t28_loop v15 v22).trips) : BitVec 32 :=
  let c3_i32_33 : BitVec 32 := 3#32
  let v176 : BitVec 32 := Scalar.shrsi v15 c3_i32_33
  let c3_i32_34 : BitVec 32 := 3#32
  let v177 : BitVec 32 := Scalar.shli v176 c3_i32_34
  let c2_i32_97 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v375 : BitVec 32 := Scalar.muli c2_i32_97 arg11
  let c2_i32_98 : BitVec 32 := 2#32
  let v376 : BitVec 32 := Scalar.addi v375 c2_i32_98
  let c2_i32_52 : BitVec 32 := 2#32
  let v216 : BitVec 32 := Scalar.muli c2_i32_52 v215
  let c1_i32_53 : BitVec 32 := 1#32
  let v217 : BitVec 32 := Scalar.subi v216 c1_i32_53
  let v377 : BitVec 32 := Scalar.minsi v376 v217
  let c128_i32_99 : BitVec 32 := 128#32
  let v378 : BitVec 32 := Scalar.muli v377 c128_i32_99
  let v379 : BitVec 32 := Scalar.addi v177 v378
  let c49872_i32_100 : BitVec 32 := 49872#32
  let v380 : BitVec 32 := Scalar.minsi v379 c49872_i32_100
  v380
def k0_off683 (v15 : BitVec 32) (v22 : BitVec 32) (k0_t28 : Fin (k0_t28_loop v15 v22).trips) : Fin 2 → Nat :=
  let c3_i32_33 : BitVec 32 := 3#32
  let v176 : BitVec 32 := Scalar.shrsi v15 c3_i32_33
  let c3_i32_34 : BitVec 32 := 3#32
  let v177 : BitVec 32 := Scalar.shli v176 c3_i32_34
  let c2_i32_97 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v375 : BitVec 32 := Scalar.muli c2_i32_97 arg11
  let c2_i32_98 : BitVec 32 := 2#32
  let v376 : BitVec 32 := Scalar.addi v375 c2_i32_98
  let c2_i32_52 : BitVec 32 := 2#32
  let v216 : BitVec 32 := Scalar.muli c2_i32_52 v215
  let c1_i32_53 : BitVec 32 := 1#32
  let v217 : BitVec 32 := Scalar.subi v216 c1_i32_53
  let v377 : BitVec 32 := Scalar.minsi v376 v217
  let c128_i32_99 : BitVec 32 := 128#32
  let v378 : BitVec 32 := Scalar.muli v377 c128_i32_99
  let v379 : BitVec 32 := Scalar.addi v177 v378
  let c49872_i32_100 : BitVec 32 := 49872#32
  let v380 : BitVec 32 := Scalar.minsi v379 c49872_i32_100
  let v381 : BitVec 32 := v380
  let c0_i32_101 : BitVec 32 := 0#32
  ![v381.toNat, 0]
def k0_mult18 (v15 : BitVec 32) (v22 : BitVec 32) (k0_t28 : Fin (k0_t28_loop v15 v22).trips) : BitVec 32 :=
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  v390
@[reducible] def k0_t33_loop (v15 : BitVec 32) (v22 : BitVec 32) (k0_t28 : Fin (k0_t28_loop v15 v22).trips) : Scf.Loop 32 :=
  let c0_i32_113 : BitVec 32 := 0#32
  let c128_i32_111 : BitVec 32 := 128#32
  let c0_i32_110 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v396 : BitVec 32 := Scalar.subi v22 v391
  let v397 : BitVec 32 := Scalar.maxsi c0_i32_110 v396
  let v398 : BitVec 32 := Scalar.minsi c128_i32_111 v397
  let c128_i32_109 : BitVec 32 := 128#32
  let c0_i32_108 : BitVec 32 := 0#32
  let c128_i32_105 : BitVec 32 := 128#32
  let v386 : BitVec 32 := Scalar.muli v385 c128_i32_105
  let v387 : BitVec 32 := Scalar.addi v177 v386
  let v392 : BitVec 32 := Scalar.maxsi v15 v387
  let v393 : BitVec 32 := Scalar.subi v392 v391
  let v394 : BitVec 32 := Scalar.maxsi c0_i32_108 v393
  let v395 : BitVec 32 := Scalar.minsi c128_i32_109 v394
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_115 : BitVec 32 := 1#32
  ⟨c0_i32_113, v405, c1_i32_115⟩
def k0_off684 (v15 : BitVec 32) (v22 : BitVec 32) (k0_t28 : Fin (k0_t28_loop v15 v22).trips) (k0_t33 : Fin (k0_t33_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t33
  let v417 : BitVec 32 := Scalar.muli c4_i32_121 arg44
  let v418 : BitVec 32 := Scalar.addi v395 v417
  let v422 : Index := Scalar.indexCast v418
  let c0_125 : Index := 0#32
  ![v422.toNat, 0]
def k0_off685 (v15 : BitVec 32) (v22 : BitVec 32) (k0_t28 : Fin (k0_t28_loop v15 v22).trips) (k0_t33 : Fin (k0_t33_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t33
  let v417 : BitVec 32 := Scalar.muli c4_i32_121 arg44
  let v418 : BitVec 32 := Scalar.addi v395 v417
  let v428 : Index := Scalar.indexCast v418
  let c16_126 : Index := 16#32
  ![v428.toNat, 16]
def k0_off686 (v15 : BitVec 32) (v22 : BitVec 32) (k0_t28 : Fin (k0_t28_loop v15 v22).trips) (k0_t33 : Fin (k0_t33_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t33
  let v417 : BitVec 32 := Scalar.muli c4_i32_121 arg44
  let v418 : BitVec 32 := Scalar.addi v395 v417
  let v434 : Index := Scalar.indexCast v418
  let c32_127 : Index := 32#32
  ![v434.toNat, 32]
def k0_off687 (v15 : BitVec 32) (v22 : BitVec 32) (k0_t28 : Fin (k0_t28_loop v15 v22).trips) (k0_t33 : Fin (k0_t33_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t33
  let v417 : BitVec 32 := Scalar.muli c4_i32_121 arg44
  let v418 : BitVec 32 := Scalar.addi v395 v417
  let v440 : Index := Scalar.indexCast v418
  let c48_128 : Index := 48#32
  ![v440.toNat, 48]
def k0_off688 (v15 : BitVec 32) (v22 : BitVec 32) (k0_t28 : Fin (k0_t28_loop v15 v22).trips) (k0_t33 : Fin (k0_t33_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t33
  let v417 : BitVec 32 := Scalar.muli c4_i32_121 arg44
  let v418 : BitVec 32 := Scalar.addi v395 v417
  let v446 : Index := Scalar.indexCast v418
  let c64_129 : Index := 64#32
  ![v446.toNat, 64]
def k0_off689 (v15 : BitVec 32) (v22 : BitVec 32) (k0_t28 : Fin (k0_t28_loop v15 v22).trips) (k0_t33 : Fin (k0_t33_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t33
  let v417 : BitVec 32 := Scalar.muli c4_i32_121 arg44
  let v418 : BitVec 32 := Scalar.addi v395 v417
  let v452 : Index := Scalar.indexCast v418
  let c80_130 : Index := 80#32
  ![v452.toNat, 80]
def k0_off690 (v15 : BitVec 32) (v22 : BitVec 32) (k0_t28 : Fin (k0_t28_loop v15 v22).trips) (k0_t33 : Fin (k0_t33_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t33
  let v417 : BitVec 32 := Scalar.muli c4_i32_121 arg44
  let v418 : BitVec 32 := Scalar.addi v395 v417
  let v458 : Index := Scalar.indexCast v418
  let c96_131 : Index := 96#32
  ![v458.toNat, 96]
def k0_off691 (v15 : BitVec 32) (v22 : BitVec 32) (k0_t28 : Fin (k0_t28_loop v15 v22).trips) (k0_t33 : Fin (k0_t33_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t33
  let v417 : BitVec 32 := Scalar.muli c4_i32_121 arg44
  let v418 : BitVec 32 := Scalar.addi v395 v417
  let v464 : Index := Scalar.indexCast v418
  let c112_132 : Index := 112#32
  ![v464.toNat, 112]
def k0_off692 (v15 : BitVec 32) (v22 : BitVec 32) (k0_t28 : Fin (k0_t28_loop v15 v22).trips) (k0_t33 : Fin (k0_t33_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t33
  let v417 : BitVec 32 := Scalar.muli c4_i32_121 arg44
  let v418 : BitVec 32 := Scalar.addi v395 v417
  let v470 : Index := Scalar.indexCast v418
  let c128_133 : Index := 128#32
  ![v470.toNat, 128]
def k0_off693 (v15 : BitVec 32) (v22 : BitVec 32) (k0_t28 : Fin (k0_t28_loop v15 v22).trips) (k0_t33 : Fin (k0_t33_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t33
  let v417 : BitVec 32 := Scalar.muli c4_i32_121 arg44
  let v418 : BitVec 32 := Scalar.addi v395 v417
  let v476 : Index := Scalar.indexCast v418
  let c144_134 : Index := 144#32
  ![v476.toNat, 144]
def k0_off694 (v15 : BitVec 32) (v22 : BitVec 32) (k0_t28 : Fin (k0_t28_loop v15 v22).trips) (k0_t33 : Fin (k0_t33_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t33
  let v417 : BitVec 32 := Scalar.muli c4_i32_121 arg44
  let v418 : BitVec 32 := Scalar.addi v395 v417
  let v482 : Index := Scalar.indexCast v418
  let c160_135 : Index := 160#32
  ![v482.toNat, 160]
def k0_off695 (v15 : BitVec 32) (v22 : BitVec 32) (k0_t28 : Fin (k0_t28_loop v15 v22).trips) (k0_t33 : Fin (k0_t33_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t33
  let v417 : BitVec 32 := Scalar.muli c4_i32_121 arg44
  let v418 : BitVec 32 := Scalar.addi v395 v417
  let v488 : Index := Scalar.indexCast v418
  let c176_136 : Index := 176#32
  ![v488.toNat, 176]
def k0_off696 (v15 : BitVec 32) (v22 : BitVec 32) (k0_t28 : Fin (k0_t28_loop v15 v22).trips) (k0_t33 : Fin (k0_t33_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t33
  let v417 : BitVec 32 := Scalar.muli c4_i32_121 arg44
  let v418 : BitVec 32 := Scalar.addi v395 v417
  let v494 : Index := Scalar.indexCast v418
  let c192_137 : Index := 192#32
  ![v494.toNat, 192]
def k0_off697 (v15 : BitVec 32) (v22 : BitVec 32) (k0_t28 : Fin (k0_t28_loop v15 v22).trips) (k0_t33 : Fin (k0_t33_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t33
  let v417 : BitVec 32 := Scalar.muli c4_i32_121 arg44
  let v418 : BitVec 32 := Scalar.addi v395 v417
  let v500 : Index := Scalar.indexCast v418
  let c208_138 : Index := 208#32
  ![v500.toNat, 208]
def k0_off698 (v15 : BitVec 32) (v22 : BitVec 32) (k0_t28 : Fin (k0_t28_loop v15 v22).trips) (k0_t33 : Fin (k0_t33_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t33
  let v417 : BitVec 32 := Scalar.muli c4_i32_121 arg44
  let v418 : BitVec 32 := Scalar.addi v395 v417
  let v506 : Index := Scalar.indexCast v418
  let c224_139 : Index := 224#32
  ![v506.toNat, 224]
def k0_off699 (v15 : BitVec 32) (v22 : BitVec 32) (k0_t28 : Fin (k0_t28_loop v15 v22).trips) (k0_t33 : Fin (k0_t33_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t33
  let v417 : BitVec 32 := Scalar.muli c4_i32_121 arg44
  let v418 : BitVec 32 := Scalar.addi v395 v417
  let v512 : Index := Scalar.indexCast v418
  let c240_140 : Index := 240#32
  ![v512.toNat, 240]
def k0_off700 (v15 : BitVec 32) (v22 : BitVec 32) (k0_t28 : Fin (k0_t28_loop v15 v22).trips) (k0_t33 : Fin (k0_t33_loop v15 v22 k0_t28).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t33
  let v417 : BitVec 32 := Scalar.muli c4_i32_121 arg44
  let v418 : BitVec 32 := Scalar.addi v395 v417
  let v419 : BitVec 32 := Scalar.addi v418 c1_i32_122
  let v518 : Index := Scalar.indexCast v419
  let c0_141 : Index := 0#32
  ![v518.toNat, 0]
def k0_off701 (v15 : BitVec 32) (v22 : BitVec 32) (k0_t28 : Fin (k0_t28_loop v15 v22).trips) (k0_t33 : Fin (k0_t33_loop v15 v22 k0_t28).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t33
  let v417 : BitVec 32 := Scalar.muli c4_i32_121 arg44
  let v418 : BitVec 32 := Scalar.addi v395 v417
  let v419 : BitVec 32 := Scalar.addi v418 c1_i32_122
  let v524 : Index := Scalar.indexCast v419
  let c16_142 : Index := 16#32
  ![v524.toNat, 16]
def k0_off702 (v15 : BitVec 32) (v22 : BitVec 32) (k0_t28 : Fin (k0_t28_loop v15 v22).trips) (k0_t33 : Fin (k0_t33_loop v15 v22 k0_t28).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t33
  let v417 : BitVec 32 := Scalar.muli c4_i32_121 arg44
  let v418 : BitVec 32 := Scalar.addi v395 v417
  let v419 : BitVec 32 := Scalar.addi v418 c1_i32_122
  let v530 : Index := Scalar.indexCast v419
  let c32_143 : Index := 32#32
  ![v530.toNat, 32]
def k0_off703 (v15 : BitVec 32) (v22 : BitVec 32) (k0_t28 : Fin (k0_t28_loop v15 v22).trips) (k0_t33 : Fin (k0_t33_loop v15 v22 k0_t28).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t33
  let v417 : BitVec 32 := Scalar.muli c4_i32_121 arg44
  let v418 : BitVec 32 := Scalar.addi v395 v417
  let v419 : BitVec 32 := Scalar.addi v418 c1_i32_122
  let v536 : Index := Scalar.indexCast v419
  let c48_144 : Index := 48#32
  ![v536.toNat, 48]
def k0_off704 (v15 : BitVec 32) (v22 : BitVec 32) (k0_t28 : Fin (k0_t28_loop v15 v22).trips) (k0_t33 : Fin (k0_t33_loop v15 v22 k0_t28).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t33
  let v417 : BitVec 32 := Scalar.muli c4_i32_121 arg44
  let v418 : BitVec 32 := Scalar.addi v395 v417
  let v419 : BitVec 32 := Scalar.addi v418 c1_i32_122
  let v542 : Index := Scalar.indexCast v419
  let c64_145 : Index := 64#32
  ![v542.toNat, 64]
def k0_off705 (v15 : BitVec 32) (v22 : BitVec 32) (k0_t28 : Fin (k0_t28_loop v15 v22).trips) (k0_t33 : Fin (k0_t33_loop v15 v22 k0_t28).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t33
  let v417 : BitVec 32 := Scalar.muli c4_i32_121 arg44
  let v418 : BitVec 32 := Scalar.addi v395 v417
  let v419 : BitVec 32 := Scalar.addi v418 c1_i32_122
  let v548 : Index := Scalar.indexCast v419
  let c80_146 : Index := 80#32
  ![v548.toNat, 80]
def k0_off706 (v15 : BitVec 32) (v22 : BitVec 32) (k0_t28 : Fin (k0_t28_loop v15 v22).trips) (k0_t33 : Fin (k0_t33_loop v15 v22 k0_t28).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t33
  let v417 : BitVec 32 := Scalar.muli c4_i32_121 arg44
  let v418 : BitVec 32 := Scalar.addi v395 v417
  let v419 : BitVec 32 := Scalar.addi v418 c1_i32_122
  let v554 : Index := Scalar.indexCast v419
  let c96_147 : Index := 96#32
  ![v554.toNat, 96]
def k0_off707 (v15 : BitVec 32) (v22 : BitVec 32) (k0_t28 : Fin (k0_t28_loop v15 v22).trips) (k0_t33 : Fin (k0_t33_loop v15 v22 k0_t28).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t33
  let v417 : BitVec 32 := Scalar.muli c4_i32_121 arg44
  let v418 : BitVec 32 := Scalar.addi v395 v417
  let v419 : BitVec 32 := Scalar.addi v418 c1_i32_122
  let v560 : Index := Scalar.indexCast v419
  let c112_148 : Index := 112#32
  ![v560.toNat, 112]
def k0_off708 (v15 : BitVec 32) (v22 : BitVec 32) (k0_t28 : Fin (k0_t28_loop v15 v22).trips) (k0_t33 : Fin (k0_t33_loop v15 v22 k0_t28).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t33
  let v417 : BitVec 32 := Scalar.muli c4_i32_121 arg44
  let v418 : BitVec 32 := Scalar.addi v395 v417
  let v419 : BitVec 32 := Scalar.addi v418 c1_i32_122
  let v566 : Index := Scalar.indexCast v419
  let c128_149 : Index := 128#32
  ![v566.toNat, 128]
def k0_off709 (v15 : BitVec 32) (v22 : BitVec 32) (k0_t28 : Fin (k0_t28_loop v15 v22).trips) (k0_t33 : Fin (k0_t33_loop v15 v22 k0_t28).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t33
  let v417 : BitVec 32 := Scalar.muli c4_i32_121 arg44
  let v418 : BitVec 32 := Scalar.addi v395 v417
  let v419 : BitVec 32 := Scalar.addi v418 c1_i32_122
  let v572 : Index := Scalar.indexCast v419
  let c144_150 : Index := 144#32
  ![v572.toNat, 144]
def k0_off710 (v15 : BitVec 32) (v22 : BitVec 32) (k0_t28 : Fin (k0_t28_loop v15 v22).trips) (k0_t33 : Fin (k0_t33_loop v15 v22 k0_t28).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t33
  let v417 : BitVec 32 := Scalar.muli c4_i32_121 arg44
  let v418 : BitVec 32 := Scalar.addi v395 v417
  let v419 : BitVec 32 := Scalar.addi v418 c1_i32_122
  let v578 : Index := Scalar.indexCast v419
  let c160_151 : Index := 160#32
  ![v578.toNat, 160]
def k0_off711 (v15 : BitVec 32) (v22 : BitVec 32) (k0_t28 : Fin (k0_t28_loop v15 v22).trips) (k0_t33 : Fin (k0_t33_loop v15 v22 k0_t28).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t33
  let v417 : BitVec 32 := Scalar.muli c4_i32_121 arg44
  let v418 : BitVec 32 := Scalar.addi v395 v417
  let v419 : BitVec 32 := Scalar.addi v418 c1_i32_122
  let v584 : Index := Scalar.indexCast v419
  let c176_152 : Index := 176#32
  ![v584.toNat, 176]
def k0_off712 (v15 : BitVec 32) (v22 : BitVec 32) (k0_t28 : Fin (k0_t28_loop v15 v22).trips) (k0_t33 : Fin (k0_t33_loop v15 v22 k0_t28).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t33
  let v417 : BitVec 32 := Scalar.muli c4_i32_121 arg44
  let v418 : BitVec 32 := Scalar.addi v395 v417
  let v419 : BitVec 32 := Scalar.addi v418 c1_i32_122
  let v590 : Index := Scalar.indexCast v419
  let c192_153 : Index := 192#32
  ![v590.toNat, 192]
def k0_off713 (v15 : BitVec 32) (v22 : BitVec 32) (k0_t28 : Fin (k0_t28_loop v15 v22).trips) (k0_t33 : Fin (k0_t33_loop v15 v22 k0_t28).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t33
  let v417 : BitVec 32 := Scalar.muli c4_i32_121 arg44
  let v418 : BitVec 32 := Scalar.addi v395 v417
  let v419 : BitVec 32 := Scalar.addi v418 c1_i32_122
  let v596 : Index := Scalar.indexCast v419
  let c208_154 : Index := 208#32
  ![v596.toNat, 208]
def k0_off714 (v15 : BitVec 32) (v22 : BitVec 32) (k0_t28 : Fin (k0_t28_loop v15 v22).trips) (k0_t33 : Fin (k0_t33_loop v15 v22 k0_t28).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t33
  let v417 : BitVec 32 := Scalar.muli c4_i32_121 arg44
  let v418 : BitVec 32 := Scalar.addi v395 v417
  let v419 : BitVec 32 := Scalar.addi v418 c1_i32_122
  let v602 : Index := Scalar.indexCast v419
  let c224_155 : Index := 224#32
  ![v602.toNat, 224]
def k0_off715 (v15 : BitVec 32) (v22 : BitVec 32) (k0_t28 : Fin (k0_t28_loop v15 v22).trips) (k0_t33 : Fin (k0_t33_loop v15 v22 k0_t28).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c1_i32_115 : BitVec 32 := 1#32
  let arg44 : BitVec 32 := Scf.iv c0_i32_113 c1_i32_115 k0_t33
  let v417 : BitVec 32 := Scalar.muli c4_i32_121 arg44
  let v418 : BitVec 32 := Scalar.addi v395 v417
  let v419 : BitVec 32 := Scalar.addi v418 c1_i32_122
  let v608 : Index := Scalar.indexCast v419
  let c240_156 : Index := 240#32
  ![v608.toNat, 240]
@[reducible] def k0_t34_loop (v15 : BitVec 32) (v22 : BitVec 32) (k0_t28 : Fin (k0_t28_loop v15 v22).trips) : Scf.Loop 32 :=
  let c0_i32_113 : BitVec 32 := 0#32
  let c128_i32_111 : BitVec 32 := 128#32
  let c0_i32_110 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v396 : BitVec 32 := Scalar.subi v22 v391
  let v397 : BitVec 32 := Scalar.maxsi c0_i32_110 v396
  let v398 : BitVec 32 := Scalar.minsi c128_i32_111 v397
  let c128_i32_109 : BitVec 32 := 128#32
  let c0_i32_108 : BitVec 32 := 0#32
  let c128_i32_105 : BitVec 32 := 128#32
  let v386 : BitVec 32 := Scalar.muli v385 c128_i32_105
  let v387 : BitVec 32 := Scalar.addi v177 v386
  let v392 : BitVec 32 := Scalar.maxsi v15 v387
  let v393 : BitVec 32 := Scalar.subi v392 v391
  let v394 : BitVec 32 := Scalar.maxsi c0_i32_108 v393
  let v395 : BitVec 32 := Scalar.minsi c128_i32_109 v394
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let v402 : BitVec 32 := Scalar.addi c0_i32_113 v401
  let c1_i32_116 : BitVec 32 := 1#32
  ⟨v405, v402, c1_i32_116⟩
def k0_off716 (v15 : BitVec 32) (v22 : BitVec 32) (k0_t28 : Fin (k0_t28_loop v15 v22).trips) (k0_t34 : Fin (k0_t34_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t34
  let v417 : BitVec 32 := Scalar.muli c4_i32_121 arg44
  let v418 : BitVec 32 := Scalar.addi v395 v417
  let v422 : Index := Scalar.indexCast v418
  let c0_125 : Index := 0#32
  ![v422.toNat, 0]
def k0_off717 (v15 : BitVec 32) (v22 : BitVec 32) (k0_t28 : Fin (k0_t28_loop v15 v22).trips) (k0_t34 : Fin (k0_t34_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t34
  let v417 : BitVec 32 := Scalar.muli c4_i32_121 arg44
  let v418 : BitVec 32 := Scalar.addi v395 v417
  let v428 : Index := Scalar.indexCast v418
  let c16_126 : Index := 16#32
  ![v428.toNat, 16]
def k0_off718 (v15 : BitVec 32) (v22 : BitVec 32) (k0_t28 : Fin (k0_t28_loop v15 v22).trips) (k0_t34 : Fin (k0_t34_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t34
  let v417 : BitVec 32 := Scalar.muli c4_i32_121 arg44
  let v418 : BitVec 32 := Scalar.addi v395 v417
  let v434 : Index := Scalar.indexCast v418
  let c32_127 : Index := 32#32
  ![v434.toNat, 32]
def k0_off719 (v15 : BitVec 32) (v22 : BitVec 32) (k0_t28 : Fin (k0_t28_loop v15 v22).trips) (k0_t34 : Fin (k0_t34_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t34
  let v417 : BitVec 32 := Scalar.muli c4_i32_121 arg44
  let v418 : BitVec 32 := Scalar.addi v395 v417
  let v440 : Index := Scalar.indexCast v418
  let c48_128 : Index := 48#32
  ![v440.toNat, 48]
def k0_off720 (v15 : BitVec 32) (v22 : BitVec 32) (k0_t28 : Fin (k0_t28_loop v15 v22).trips) (k0_t34 : Fin (k0_t34_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t34
  let v417 : BitVec 32 := Scalar.muli c4_i32_121 arg44
  let v418 : BitVec 32 := Scalar.addi v395 v417
  let v446 : Index := Scalar.indexCast v418
  let c64_129 : Index := 64#32
  ![v446.toNat, 64]
def k0_off721 (v15 : BitVec 32) (v22 : BitVec 32) (k0_t28 : Fin (k0_t28_loop v15 v22).trips) (k0_t34 : Fin (k0_t34_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t34
  let v417 : BitVec 32 := Scalar.muli c4_i32_121 arg44
  let v418 : BitVec 32 := Scalar.addi v395 v417
  let v452 : Index := Scalar.indexCast v418
  let c80_130 : Index := 80#32
  ![v452.toNat, 80]
def k0_off722 (v15 : BitVec 32) (v22 : BitVec 32) (k0_t28 : Fin (k0_t28_loop v15 v22).trips) (k0_t34 : Fin (k0_t34_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t34
  let v417 : BitVec 32 := Scalar.muli c4_i32_121 arg44
  let v418 : BitVec 32 := Scalar.addi v395 v417
  let v458 : Index := Scalar.indexCast v418
  let c96_131 : Index := 96#32
  ![v458.toNat, 96]
def k0_off723 (v15 : BitVec 32) (v22 : BitVec 32) (k0_t28 : Fin (k0_t28_loop v15 v22).trips) (k0_t34 : Fin (k0_t34_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t34
  let v417 : BitVec 32 := Scalar.muli c4_i32_121 arg44
  let v418 : BitVec 32 := Scalar.addi v395 v417
  let v464 : Index := Scalar.indexCast v418
  let c112_132 : Index := 112#32
  ![v464.toNat, 112]
def k0_off724 (v15 : BitVec 32) (v22 : BitVec 32) (k0_t28 : Fin (k0_t28_loop v15 v22).trips) (k0_t34 : Fin (k0_t34_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t34
  let v417 : BitVec 32 := Scalar.muli c4_i32_121 arg44
  let v418 : BitVec 32 := Scalar.addi v395 v417
  let v470 : Index := Scalar.indexCast v418
  let c128_133 : Index := 128#32
  ![v470.toNat, 128]
def k0_off725 (v15 : BitVec 32) (v22 : BitVec 32) (k0_t28 : Fin (k0_t28_loop v15 v22).trips) (k0_t34 : Fin (k0_t34_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t34
  let v417 : BitVec 32 := Scalar.muli c4_i32_121 arg44
  let v418 : BitVec 32 := Scalar.addi v395 v417
  let v476 : Index := Scalar.indexCast v418
  let c144_134 : Index := 144#32
  ![v476.toNat, 144]
def k0_off726 (v15 : BitVec 32) (v22 : BitVec 32) (k0_t28 : Fin (k0_t28_loop v15 v22).trips) (k0_t34 : Fin (k0_t34_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t34
  let v417 : BitVec 32 := Scalar.muli c4_i32_121 arg44
  let v418 : BitVec 32 := Scalar.addi v395 v417
  let v482 : Index := Scalar.indexCast v418
  let c160_135 : Index := 160#32
  ![v482.toNat, 160]
def k0_off727 (v15 : BitVec 32) (v22 : BitVec 32) (k0_t28 : Fin (k0_t28_loop v15 v22).trips) (k0_t34 : Fin (k0_t34_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t34
  let v417 : BitVec 32 := Scalar.muli c4_i32_121 arg44
  let v418 : BitVec 32 := Scalar.addi v395 v417
  let v488 : Index := Scalar.indexCast v418
  let c176_136 : Index := 176#32
  ![v488.toNat, 176]
def k0_off728 (v15 : BitVec 32) (v22 : BitVec 32) (k0_t28 : Fin (k0_t28_loop v15 v22).trips) (k0_t34 : Fin (k0_t34_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t34
  let v417 : BitVec 32 := Scalar.muli c4_i32_121 arg44
  let v418 : BitVec 32 := Scalar.addi v395 v417
  let v494 : Index := Scalar.indexCast v418
  let c192_137 : Index := 192#32
  ![v494.toNat, 192]
def k0_off729 (v15 : BitVec 32) (v22 : BitVec 32) (k0_t28 : Fin (k0_t28_loop v15 v22).trips) (k0_t34 : Fin (k0_t34_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t34
  let v417 : BitVec 32 := Scalar.muli c4_i32_121 arg44
  let v418 : BitVec 32 := Scalar.addi v395 v417
  let v500 : Index := Scalar.indexCast v418
  let c208_138 : Index := 208#32
  ![v500.toNat, 208]
def k0_off730 (v15 : BitVec 32) (v22 : BitVec 32) (k0_t28 : Fin (k0_t28_loop v15 v22).trips) (k0_t34 : Fin (k0_t34_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t34
  let v417 : BitVec 32 := Scalar.muli c4_i32_121 arg44
  let v418 : BitVec 32 := Scalar.addi v395 v417
  let v506 : Index := Scalar.indexCast v418
  let c224_139 : Index := 224#32
  ![v506.toNat, 224]
def k0_off731 (v15 : BitVec 32) (v22 : BitVec 32) (k0_t28 : Fin (k0_t28_loop v15 v22).trips) (k0_t34 : Fin (k0_t34_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t34
  let v417 : BitVec 32 := Scalar.muli c4_i32_121 arg44
  let v418 : BitVec 32 := Scalar.addi v395 v417
  let v512 : Index := Scalar.indexCast v418
  let c240_140 : Index := 240#32
  ![v512.toNat, 240]
def k0_off732 (v15 : BitVec 32) (v22 : BitVec 32) (k0_t28 : Fin (k0_t28_loop v15 v22).trips) (k0_t34 : Fin (k0_t34_loop v15 v22 k0_t28).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t34
  let v417 : BitVec 32 := Scalar.muli c4_i32_121 arg44
  let v418 : BitVec 32 := Scalar.addi v395 v417
  let v419 : BitVec 32 := Scalar.addi v418 c1_i32_122
  let v518 : Index := Scalar.indexCast v419
  let c0_141 : Index := 0#32
  ![v518.toNat, 0]
def k0_off733 (v15 : BitVec 32) (v22 : BitVec 32) (k0_t28 : Fin (k0_t28_loop v15 v22).trips) (k0_t34 : Fin (k0_t34_loop v15 v22 k0_t28).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t34
  let v417 : BitVec 32 := Scalar.muli c4_i32_121 arg44
  let v418 : BitVec 32 := Scalar.addi v395 v417
  let v419 : BitVec 32 := Scalar.addi v418 c1_i32_122
  let v524 : Index := Scalar.indexCast v419
  let c16_142 : Index := 16#32
  ![v524.toNat, 16]
def k0_off734 (v15 : BitVec 32) (v22 : BitVec 32) (k0_t28 : Fin (k0_t28_loop v15 v22).trips) (k0_t34 : Fin (k0_t34_loop v15 v22 k0_t28).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t34
  let v417 : BitVec 32 := Scalar.muli c4_i32_121 arg44
  let v418 : BitVec 32 := Scalar.addi v395 v417
  let v419 : BitVec 32 := Scalar.addi v418 c1_i32_122
  let v530 : Index := Scalar.indexCast v419
  let c32_143 : Index := 32#32
  ![v530.toNat, 32]
def k0_off735 (v15 : BitVec 32) (v22 : BitVec 32) (k0_t28 : Fin (k0_t28_loop v15 v22).trips) (k0_t34 : Fin (k0_t34_loop v15 v22 k0_t28).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t34
  let v417 : BitVec 32 := Scalar.muli c4_i32_121 arg44
  let v418 : BitVec 32 := Scalar.addi v395 v417
  let v419 : BitVec 32 := Scalar.addi v418 c1_i32_122
  let v536 : Index := Scalar.indexCast v419
  let c48_144 : Index := 48#32
  ![v536.toNat, 48]
def k0_off736 (v15 : BitVec 32) (v22 : BitVec 32) (k0_t28 : Fin (k0_t28_loop v15 v22).trips) (k0_t34 : Fin (k0_t34_loop v15 v22 k0_t28).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t34
  let v417 : BitVec 32 := Scalar.muli c4_i32_121 arg44
  let v418 : BitVec 32 := Scalar.addi v395 v417
  let v419 : BitVec 32 := Scalar.addi v418 c1_i32_122
  let v542 : Index := Scalar.indexCast v419
  let c64_145 : Index := 64#32
  ![v542.toNat, 64]
def k0_off737 (v15 : BitVec 32) (v22 : BitVec 32) (k0_t28 : Fin (k0_t28_loop v15 v22).trips) (k0_t34 : Fin (k0_t34_loop v15 v22 k0_t28).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t34
  let v417 : BitVec 32 := Scalar.muli c4_i32_121 arg44
  let v418 : BitVec 32 := Scalar.addi v395 v417
  let v419 : BitVec 32 := Scalar.addi v418 c1_i32_122
  let v548 : Index := Scalar.indexCast v419
  let c80_146 : Index := 80#32
  ![v548.toNat, 80]
def k0_off738 (v15 : BitVec 32) (v22 : BitVec 32) (k0_t28 : Fin (k0_t28_loop v15 v22).trips) (k0_t34 : Fin (k0_t34_loop v15 v22 k0_t28).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t34
  let v417 : BitVec 32 := Scalar.muli c4_i32_121 arg44
  let v418 : BitVec 32 := Scalar.addi v395 v417
  let v419 : BitVec 32 := Scalar.addi v418 c1_i32_122
  let v554 : Index := Scalar.indexCast v419
  let c96_147 : Index := 96#32
  ![v554.toNat, 96]
def k0_off739 (v15 : BitVec 32) (v22 : BitVec 32) (k0_t28 : Fin (k0_t28_loop v15 v22).trips) (k0_t34 : Fin (k0_t34_loop v15 v22 k0_t28).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t34
  let v417 : BitVec 32 := Scalar.muli c4_i32_121 arg44
  let v418 : BitVec 32 := Scalar.addi v395 v417
  let v419 : BitVec 32 := Scalar.addi v418 c1_i32_122
  let v560 : Index := Scalar.indexCast v419
  let c112_148 : Index := 112#32
  ![v560.toNat, 112]
def k0_off740 (v15 : BitVec 32) (v22 : BitVec 32) (k0_t28 : Fin (k0_t28_loop v15 v22).trips) (k0_t34 : Fin (k0_t34_loop v15 v22 k0_t28).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t34
  let v417 : BitVec 32 := Scalar.muli c4_i32_121 arg44
  let v418 : BitVec 32 := Scalar.addi v395 v417
  let v419 : BitVec 32 := Scalar.addi v418 c1_i32_122
  let v566 : Index := Scalar.indexCast v419
  let c128_149 : Index := 128#32
  ![v566.toNat, 128]
def k0_off741 (v15 : BitVec 32) (v22 : BitVec 32) (k0_t28 : Fin (k0_t28_loop v15 v22).trips) (k0_t34 : Fin (k0_t34_loop v15 v22 k0_t28).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t34
  let v417 : BitVec 32 := Scalar.muli c4_i32_121 arg44
  let v418 : BitVec 32 := Scalar.addi v395 v417
  let v419 : BitVec 32 := Scalar.addi v418 c1_i32_122
  let v572 : Index := Scalar.indexCast v419
  let c144_150 : Index := 144#32
  ![v572.toNat, 144]
def k0_off742 (v15 : BitVec 32) (v22 : BitVec 32) (k0_t28 : Fin (k0_t28_loop v15 v22).trips) (k0_t34 : Fin (k0_t34_loop v15 v22 k0_t28).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t34
  let v417 : BitVec 32 := Scalar.muli c4_i32_121 arg44
  let v418 : BitVec 32 := Scalar.addi v395 v417
  let v419 : BitVec 32 := Scalar.addi v418 c1_i32_122
  let v578 : Index := Scalar.indexCast v419
  let c160_151 : Index := 160#32
  ![v578.toNat, 160]
def k0_off743 (v15 : BitVec 32) (v22 : BitVec 32) (k0_t28 : Fin (k0_t28_loop v15 v22).trips) (k0_t34 : Fin (k0_t34_loop v15 v22 k0_t28).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t34
  let v417 : BitVec 32 := Scalar.muli c4_i32_121 arg44
  let v418 : BitVec 32 := Scalar.addi v395 v417
  let v419 : BitVec 32 := Scalar.addi v418 c1_i32_122
  let v584 : Index := Scalar.indexCast v419
  let c176_152 : Index := 176#32
  ![v584.toNat, 176]
def k0_off744 (v15 : BitVec 32) (v22 : BitVec 32) (k0_t28 : Fin (k0_t28_loop v15 v22).trips) (k0_t34 : Fin (k0_t34_loop v15 v22 k0_t28).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t34
  let v417 : BitVec 32 := Scalar.muli c4_i32_121 arg44
  let v418 : BitVec 32 := Scalar.addi v395 v417
  let v419 : BitVec 32 := Scalar.addi v418 c1_i32_122
  let v590 : Index := Scalar.indexCast v419
  let c192_153 : Index := 192#32
  ![v590.toNat, 192]
def k0_off745 (v15 : BitVec 32) (v22 : BitVec 32) (k0_t28 : Fin (k0_t28_loop v15 v22).trips) (k0_t34 : Fin (k0_t34_loop v15 v22 k0_t28).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t34
  let v417 : BitVec 32 := Scalar.muli c4_i32_121 arg44
  let v418 : BitVec 32 := Scalar.addi v395 v417
  let v419 : BitVec 32 := Scalar.addi v418 c1_i32_122
  let v596 : Index := Scalar.indexCast v419
  let c208_154 : Index := 208#32
  ![v596.toNat, 208]
def k0_off746 (v15 : BitVec 32) (v22 : BitVec 32) (k0_t28 : Fin (k0_t28_loop v15 v22).trips) (k0_t34 : Fin (k0_t34_loop v15 v22 k0_t28).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t34
  let v417 : BitVec 32 := Scalar.muli c4_i32_121 arg44
  let v418 : BitVec 32 := Scalar.addi v395 v417
  let v419 : BitVec 32 := Scalar.addi v418 c1_i32_122
  let v602 : Index := Scalar.indexCast v419
  let c224_155 : Index := 224#32
  ![v602.toNat, 224]
def k0_off747 (v15 : BitVec 32) (v22 : BitVec 32) (k0_t28 : Fin (k0_t28_loop v15 v22).trips) (k0_t34 : Fin (k0_t34_loop v15 v22 k0_t28).trips) (c1_i32_122 : BitVec 32) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_121 : BitVec 32 := 4#32
  let c0_i32_113 : BitVec 32 := 0#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v401 : BitVec 32 := Scalar.subi v400 c0_i32_113
  let c1_i32_114 : BitVec 32 := 1#32
  let v403 : BitVec 32 := Scalar.divsi v401 c1_i32_114
  let v404 : BitVec 32 := Scalar.muli v403 c1_i32_114
  let v405 : BitVec 32 := Scalar.addi c0_i32_113 v404
  let c1_i32_116 : BitVec 32 := 1#32
  let arg44 : BitVec 32 := Scf.iv v405 c1_i32_116 k0_t34
  let v417 : BitVec 32 := Scalar.muli c4_i32_121 arg44
  let v418 : BitVec 32 := Scalar.addi v395 v417
  let v419 : BitVec 32 := Scalar.addi v418 c1_i32_122
  let v608 : Index := Scalar.indexCast v419
  let c240_156 : Index := 240#32
  ![v608.toNat, 240]
@[reducible] def k0_t35_loop (v15 : BitVec 32) (v22 : BitVec 32) (k0_t28 : Fin (k0_t28_loop v15 v22).trips) : Scf.Loop 32 :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_119 : BitVec 32 := 1#32
  ⟨v409, v414, c1_i32_119⟩
def k0_off748 (v15 : BitVec 32) (v22 : BitVec 32) (k0_t28 : Fin (k0_t28_loop v15 v22).trips) (k0_t35 : Fin (k0_t35_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t35
  let v417 : Index := Scalar.indexCast arg44
  let c0_121 : Index := 0#32
  ![v417.toNat, 0]
def k0_off749 (v15 : BitVec 32) (v22 : BitVec 32) (k0_t28 : Fin (k0_t28_loop v15 v22).trips) (k0_t35 : Fin (k0_t35_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t35
  let v423 : Index := Scalar.indexCast arg44
  let c16_122 : Index := 16#32
  ![v423.toNat, 16]
def k0_off750 (v15 : BitVec 32) (v22 : BitVec 32) (k0_t28 : Fin (k0_t28_loop v15 v22).trips) (k0_t35 : Fin (k0_t35_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t35
  let v429 : Index := Scalar.indexCast arg44
  let c32_123 : Index := 32#32
  ![v429.toNat, 32]
def k0_off751 (v15 : BitVec 32) (v22 : BitVec 32) (k0_t28 : Fin (k0_t28_loop v15 v22).trips) (k0_t35 : Fin (k0_t35_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t35
  let v435 : Index := Scalar.indexCast arg44
  let c48_124 : Index := 48#32
  ![v435.toNat, 48]
def k0_off752 (v15 : BitVec 32) (v22 : BitVec 32) (k0_t28 : Fin (k0_t28_loop v15 v22).trips) (k0_t35 : Fin (k0_t35_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t35
  let v441 : Index := Scalar.indexCast arg44
  let c64_125 : Index := 64#32
  ![v441.toNat, 64]
def k0_off753 (v15 : BitVec 32) (v22 : BitVec 32) (k0_t28 : Fin (k0_t28_loop v15 v22).trips) (k0_t35 : Fin (k0_t35_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t35
  let v447 : Index := Scalar.indexCast arg44
  let c80_126 : Index := 80#32
  ![v447.toNat, 80]
def k0_off754 (v15 : BitVec 32) (v22 : BitVec 32) (k0_t28 : Fin (k0_t28_loop v15 v22).trips) (k0_t35 : Fin (k0_t35_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t35
  let v453 : Index := Scalar.indexCast arg44
  let c96_127 : Index := 96#32
  ![v453.toNat, 96]
def k0_off755 (v15 : BitVec 32) (v22 : BitVec 32) (k0_t28 : Fin (k0_t28_loop v15 v22).trips) (k0_t35 : Fin (k0_t35_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t35
  let v459 : Index := Scalar.indexCast arg44
  let c112_128 : Index := 112#32
  ![v459.toNat, 112]
def k0_off756 (v15 : BitVec 32) (v22 : BitVec 32) (k0_t28 : Fin (k0_t28_loop v15 v22).trips) (k0_t35 : Fin (k0_t35_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t35
  let v465 : Index := Scalar.indexCast arg44
  let c128_129 : Index := 128#32
  ![v465.toNat, 128]
def k0_off757 (v15 : BitVec 32) (v22 : BitVec 32) (k0_t28 : Fin (k0_t28_loop v15 v22).trips) (k0_t35 : Fin (k0_t35_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t35
  let v471 : Index := Scalar.indexCast arg44
  let c144_130 : Index := 144#32
  ![v471.toNat, 144]
def k0_off758 (v15 : BitVec 32) (v22 : BitVec 32) (k0_t28 : Fin (k0_t28_loop v15 v22).trips) (k0_t35 : Fin (k0_t35_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t35
  let v477 : Index := Scalar.indexCast arg44
  let c160_131 : Index := 160#32
  ![v477.toNat, 160]
def k0_off759 (v15 : BitVec 32) (v22 : BitVec 32) (k0_t28 : Fin (k0_t28_loop v15 v22).trips) (k0_t35 : Fin (k0_t35_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t35
  let v483 : Index := Scalar.indexCast arg44
  let c176_132 : Index := 176#32
  ![v483.toNat, 176]
def k0_off760 (v15 : BitVec 32) (v22 : BitVec 32) (k0_t28 : Fin (k0_t28_loop v15 v22).trips) (k0_t35 : Fin (k0_t35_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t35
  let v489 : Index := Scalar.indexCast arg44
  let c192_133 : Index := 192#32
  ![v489.toNat, 192]
def k0_off761 (v15 : BitVec 32) (v22 : BitVec 32) (k0_t28 : Fin (k0_t28_loop v15 v22).trips) (k0_t35 : Fin (k0_t35_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t35
  let v495 : Index := Scalar.indexCast arg44
  let c208_134 : Index := 208#32
  ![v495.toNat, 208]
def k0_off762 (v15 : BitVec 32) (v22 : BitVec 32) (k0_t28 : Fin (k0_t28_loop v15 v22).trips) (k0_t35 : Fin (k0_t35_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t35
  let v501 : Index := Scalar.indexCast arg44
  let c224_135 : Index := 224#32
  ![v501.toNat, 224]
def k0_off763 (v15 : BitVec 32) (v22 : BitVec 32) (k0_t28 : Fin (k0_t28_loop v15 v22).trips) (k0_t35 : Fin (k0_t35_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let c1_i32_119 : BitVec 32 := 1#32
  let arg44 : BitVec 32 := Scf.iv v409 c1_i32_119 k0_t35
  let v507 : Index := Scalar.indexCast arg44
  let c240_136 : Index := 240#32
  ![v507.toNat, 240]
@[reducible] def k0_t36_loop (v15 : BitVec 32) (v22 : BitVec 32) (k0_t28 : Fin (k0_t28_loop v15 v22).trips) : Scf.Loop 32 :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let v411 : BitVec 32 := Scalar.addi v409 v410
  let c1_i32_120 : BitVec 32 := 1#32
  ⟨v414, v411, c1_i32_120⟩
def k0_off764 (v15 : BitVec 32) (v22 : BitVec 32) (k0_t28 : Fin (k0_t28_loop v15 v22).trips) (k0_t36 : Fin (k0_t36_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t36
  let v417 : Index := Scalar.indexCast arg44
  let c0_121 : Index := 0#32
  ![v417.toNat, 0]
def k0_off765 (v15 : BitVec 32) (v22 : BitVec 32) (k0_t28 : Fin (k0_t28_loop v15 v22).trips) (k0_t36 : Fin (k0_t36_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t36
  let v423 : Index := Scalar.indexCast arg44
  let c16_122 : Index := 16#32
  ![v423.toNat, 16]
def k0_off766 (v15 : BitVec 32) (v22 : BitVec 32) (k0_t28 : Fin (k0_t28_loop v15 v22).trips) (k0_t36 : Fin (k0_t36_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t36
  let v429 : Index := Scalar.indexCast arg44
  let c32_123 : Index := 32#32
  ![v429.toNat, 32]
def k0_off767 (v15 : BitVec 32) (v22 : BitVec 32) (k0_t28 : Fin (k0_t28_loop v15 v22).trips) (k0_t36 : Fin (k0_t36_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t36
  let v435 : Index := Scalar.indexCast arg44
  let c48_124 : Index := 48#32
  ![v435.toNat, 48]
def k0_off768 (v15 : BitVec 32) (v22 : BitVec 32) (k0_t28 : Fin (k0_t28_loop v15 v22).trips) (k0_t36 : Fin (k0_t36_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t36
  let v441 : Index := Scalar.indexCast arg44
  let c64_125 : Index := 64#32
  ![v441.toNat, 64]
def k0_off769 (v15 : BitVec 32) (v22 : BitVec 32) (k0_t28 : Fin (k0_t28_loop v15 v22).trips) (k0_t36 : Fin (k0_t36_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t36
  let v447 : Index := Scalar.indexCast arg44
  let c80_126 : Index := 80#32
  ![v447.toNat, 80]
def k0_off770 (v15 : BitVec 32) (v22 : BitVec 32) (k0_t28 : Fin (k0_t28_loop v15 v22).trips) (k0_t36 : Fin (k0_t36_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t36
  let v453 : Index := Scalar.indexCast arg44
  let c96_127 : Index := 96#32
  ![v453.toNat, 96]
def k0_off771 (v15 : BitVec 32) (v22 : BitVec 32) (k0_t28 : Fin (k0_t28_loop v15 v22).trips) (k0_t36 : Fin (k0_t36_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t36
  let v459 : Index := Scalar.indexCast arg44
  let c112_128 : Index := 112#32
  ![v459.toNat, 112]
def k0_off772 (v15 : BitVec 32) (v22 : BitVec 32) (k0_t28 : Fin (k0_t28_loop v15 v22).trips) (k0_t36 : Fin (k0_t36_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t36
  let v465 : Index := Scalar.indexCast arg44
  let c128_129 : Index := 128#32
  ![v465.toNat, 128]
def k0_off773 (v15 : BitVec 32) (v22 : BitVec 32) (k0_t28 : Fin (k0_t28_loop v15 v22).trips) (k0_t36 : Fin (k0_t36_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t36
  let v471 : Index := Scalar.indexCast arg44
  let c144_130 : Index := 144#32
  ![v471.toNat, 144]
def k0_off774 (v15 : BitVec 32) (v22 : BitVec 32) (k0_t28 : Fin (k0_t28_loop v15 v22).trips) (k0_t36 : Fin (k0_t36_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t36
  let v477 : Index := Scalar.indexCast arg44
  let c160_131 : Index := 160#32
  ![v477.toNat, 160]
def k0_off775 (v15 : BitVec 32) (v22 : BitVec 32) (k0_t28 : Fin (k0_t28_loop v15 v22).trips) (k0_t36 : Fin (k0_t36_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t36
  let v483 : Index := Scalar.indexCast arg44
  let c176_132 : Index := 176#32
  ![v483.toNat, 176]
def k0_off776 (v15 : BitVec 32) (v22 : BitVec 32) (k0_t28 : Fin (k0_t28_loop v15 v22).trips) (k0_t36 : Fin (k0_t36_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t36
  let v489 : Index := Scalar.indexCast arg44
  let c192_133 : Index := 192#32
  ![v489.toNat, 192]
def k0_off777 (v15 : BitVec 32) (v22 : BitVec 32) (k0_t28 : Fin (k0_t28_loop v15 v22).trips) (k0_t36 : Fin (k0_t36_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t36
  let v495 : Index := Scalar.indexCast arg44
  let c208_134 : Index := 208#32
  ![v495.toNat, 208]
def k0_off778 (v15 : BitVec 32) (v22 : BitVec 32) (k0_t28 : Fin (k0_t28_loop v15 v22).trips) (k0_t36 : Fin (k0_t36_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t36
  let v501 : Index := Scalar.indexCast arg44
  let c224_135 : Index := 224#32
  ![v501.toNat, 224]
def k0_off779 (v15 : BitVec 32) (v22 : BitVec 32) (k0_t28 : Fin (k0_t28_loop v15 v22).trips) (k0_t36 : Fin (k0_t36_loop v15 v22 k0_t28).trips) : Fin 2 → Nat :=
  let c128_i32_109 : BitVec 32 := 128#32
  let c0_i32_108 : BitVec 32 := 0#32
  let c3_i32_33 : BitVec 32 := 3#32
  let v176 : BitVec 32 := Scalar.shrsi v15 c3_i32_33
  let c3_i32_34 : BitVec 32 := 3#32
  let v177 : BitVec 32 := Scalar.shli v176 c3_i32_34
  let c2_i32_103 : BitVec 32 := 2#32
  let c0_i32_59 : BitVec 32 := 0#32
  let v178 : BitVec 32 := Scalar.subi v22 v177
  let c127_i32_35 : BitVec 32 := 127#32
  let v179 : BitVec 32 := Scalar.addi v178 c127_i32_35
  let c0_i32_37 : BitVec 32 := 0#32
  let v181 : BitVec 1 := Scalar.cmpi .sgt v179 c0_i32_37
  let v182 : BitVec 32 := Scalar.extui v181
  let c0_i32_38 : BitVec 32 := 0#32
  let v183 : BitVec 1 := Scalar.cmpi .slt v179 c0_i32_38
  let v184 : BitVec 32 := Scalar.extui v183
  let v185 : BitVec 32 := Scalar.subi v182 v184
  let c128_i32_36 : BitVec 32 := 128#32
  let c0_i32_39 : BitVec 32 := 0#32
  let v186 : BitVec 1 := Scalar.cmpi .sgt c128_i32_36 c0_i32_39
  let v187 : BitVec 32 := Scalar.extui v186
  let c0_i32_40 : BitVec 32 := 0#32
  let v188 : BitVec 1 := Scalar.cmpi .slt c128_i32_36 c0_i32_40
  let v189 : BitVec 32 := Scalar.extui v188
  let v190 : BitVec 32 := Scalar.subi v187 v189
  let v191 : BitVec 1 := Scalar.cmpi .ne v185 v190
  let v192 : BitVec 32 := Scalar.remsi v179 c128_i32_36
  let c0_i32_41 : BitVec 32 := 0#32
  let v193 : BitVec 1 := Scalar.cmpi .ne v192 c0_i32_41
  let v194 : BitVec 1 := Scalar.andi v191 v193
  let v180 : BitVec 32 := Scalar.divsi v179 c128_i32_36
  let c1_i32_42 : BitVec 32 := 1#32
  let v195 : BitVec 32 := Scalar.subi v180 c1_i32_42
  let v196 : BitVec 32 := Scalar.select v194 v195 v180
  let c1_i32_43 : BitVec 32 := 1#32
  let v197 : BitVec 32 := Scalar.addi v196 c1_i32_43
  let c0_i32_45 : BitVec 32 := 0#32
  let v199 : BitVec 1 := Scalar.cmpi .sgt v197 c0_i32_45
  let v200 : BitVec 32 := Scalar.extui v199
  let c0_i32_46 : BitVec 32 := 0#32
  let v201 : BitVec 1 := Scalar.cmpi .slt v197 c0_i32_46
  let v202 : BitVec 32 := Scalar.extui v201
  let v203 : BitVec 32 := Scalar.subi v200 v202
  let c2_i32_44 : BitVec 32 := 2#32
  let c0_i32_47 : BitVec 32 := 0#32
  let v204 : BitVec 1 := Scalar.cmpi .sgt c2_i32_44 c0_i32_47
  let v205 : BitVec 32 := Scalar.extui v204
  let c0_i32_48 : BitVec 32 := 0#32
  let v206 : BitVec 1 := Scalar.cmpi .slt c2_i32_44 c0_i32_48
  let v207 : BitVec 32 := Scalar.extui v206
  let v208 : BitVec 32 := Scalar.subi v205 v207
  let v209 : BitVec 1 := Scalar.cmpi .ne v203 v208
  let v210 : BitVec 32 := Scalar.remsi v197 c2_i32_44
  let c0_i32_49 : BitVec 32 := 0#32
  let v211 : BitVec 1 := Scalar.cmpi .ne v210 c0_i32_49
  let v212 : BitVec 1 := Scalar.andi v209 v211
  let v198 : BitVec 32 := Scalar.divsi v197 c2_i32_44
  let c1_i32_50 : BitVec 32 := 1#32
  let v213 : BitVec 32 := Scalar.subi v198 c1_i32_50
  let v214 : BitVec 32 := Scalar.select v212 v213 v198
  let c1_i32_51 : BitVec 32 := 1#32
  let v215 : BitVec 32 := Scalar.maxsi v214 c1_i32_51
  let v224 : BitVec 32 := Scalar.subi v215 c0_i32_59
  let c1_i32_60 : BitVec 32 := 1#32
  let v226 : BitVec 32 := Scalar.divsi v224 c1_i32_60
  let v227 : BitVec 32 := Scalar.muli v226 c1_i32_60
  let v228 : BitVec 32 := Scalar.addi c0_i32_59 v227
  let c1_i32_62 : BitVec 32 := 1#32
  let arg11 : BitVec 32 := Scf.iv v228 c1_i32_62 k0_t28
  let v384 : BitVec 32 := Scalar.muli c2_i32_103 arg11
  let c1_i32_104 : BitVec 32 := 1#32
  let v385 : BitVec 32 := Scalar.addi v384 c1_i32_104
  let c128_i32_105 : BitVec 32 := 128#32
  let v386 : BitVec 32 := Scalar.muli v385 c128_i32_105
  let v387 : BitVec 32 := Scalar.addi v177 v386
  let v392 : BitVec 32 := Scalar.maxsi v15 v387
  let c128_i32_106 : BitVec 32 := 128#32
  let v388 : BitVec 32 := Scalar.muli v385 c128_i32_106
  let v389 : BitVec 32 := Scalar.addi v177 v388
  let c49872_i32_107 : BitVec 32 := 49872#32
  let v390 : BitVec 32 := Scalar.minsi v389 c49872_i32_107
  let v391 : BitVec 32 := v390
  let v393 : BitVec 32 := Scalar.subi v392 v391
  let v394 : BitVec 32 := Scalar.maxsi c0_i32_108 v393
  let v395 : BitVec 32 := Scalar.minsi c128_i32_109 v394
  let c4_i32_117 : BitVec 32 := 4#32
  let c128_i32_111 : BitVec 32 := 128#32
  let c0_i32_110 : BitVec 32 := 0#32
  let v396 : BitVec 32 := Scalar.subi v22 v391
  let v397 : BitVec 32 := Scalar.maxsi c0_i32_110 v396
  let v398 : BitVec 32 := Scalar.minsi c128_i32_111 v397
  let v399 : BitVec 32 := Scalar.subi v398 v395
  let c2_i32_112 : BitVec 32 := 2#32
  let v400 : BitVec 32 := Scalar.shrsi v399 c2_i32_112
  let v408 : BitVec 32 := Scalar.muli c4_i32_117 v400
  let v409 : BitVec 32 := Scalar.addi v395 v408
  let v410 : BitVec 32 := Scalar.subi v398 v409
  let c1_i32_118 : BitVec 32 := 1#32
  let v412 : BitVec 32 := Scalar.divsi v410 c1_i32_118
  let v413 : BitVec 32 := Scalar.muli v412 c1_i32_118
  let v414 : BitVec 32 := Scalar.addi v409 v413
  let c1_i32_120 : BitVec 32 := 1#32
  let arg44 : BitVec 32 := Scf.iv v414 c1_i32_120 k0_t36
  let v507 : Index := Scalar.indexCast arg44
  let c240_136 : Index := 240#32
  ![v507.toNat, 240]

def k0_chk3_0 (v15 : BitVec 32) (v22 : BitVec 32) : Prop :=
  ((k0_t19_loop v15 v22).OK) ∧
  (∀ k0_t19 : Fin (k0_t19_loop v15 v22).trips, 8 ∣ (k0_mult11 v15 v22 k0_t19).toNat) ∧
  (∀ k0_t19 : Fin (k0_t19_loop v15 v22).trips, ∀ a, (k0_off392 v15 v22 k0_t19) a + S128x256.size a ≤ S50000x256.size a) ∧
  (∀ k0_t19 : Fin (k0_t19_loop v15 v22).trips, 8 ∣ (k0_mult12 v15 v22 k0_t19).toNat) ∧
  (∀ k0_t19 : Fin (k0_t19_loop v15 v22).trips, (k0_t20_loop v15 v22 k0_t19).OK) ∧
  (∀ (k0_t19 : Fin (k0_t19_loop v15 v22).trips) (k0_t20 : Fin (k0_t20_loop v15 v22 k0_t19).trips), ∀ a, (k0_off393 v15 v22 k0_t19 k0_t20) a + S1x16.size a ≤ S128x256.size a) ∧
  (∀ (k0_t19 : Fin (k0_t19_loop v15 v22).trips) (k0_t20 : Fin (k0_t20_loop v15 v22 k0_t19).trips), ∀ a, (k0_off394 v15 v22 k0_t19 k0_t20) a + S1x16.size a ≤ S128x256.size a) ∧
  (∀ (k0_t19 : Fin (k0_t19_loop v15 v22).trips) (k0_t20 : Fin (k0_t20_loop v15 v22 k0_t19).trips), ∀ a, (k0_off395 v15 v22 k0_t19 k0_t20) a + S1x16.size a ≤ S128x256.size a) ∧
  (∀ (k0_t19 : Fin (k0_t19_loop v15 v22).trips) (k0_t20 : Fin (k0_t20_loop v15 v22 k0_t19).trips), ∀ a, (k0_off396 v15 v22 k0_t19 k0_t20) a + S1x16.size a ≤ S128x256.size a) ∧
  (∀ (k0_t19 : Fin (k0_t19_loop v15 v22).trips) (k0_t20 : Fin (k0_t20_loop v15 v22 k0_t19).trips), ∀ a, (k0_off397 v15 v22 k0_t19 k0_t20) a + S1x16.size a ≤ S128x256.size a) ∧
  (∀ (k0_t19 : Fin (k0_t19_loop v15 v22).trips) (k0_t20 : Fin (k0_t20_loop v15 v22 k0_t19).trips), ∀ a, (k0_off398 v15 v22 k0_t19 k0_t20) a + S1x16.size a ≤ S128x256.size a) ∧
  (∀ (k0_t19 : Fin (k0_t19_loop v15 v22).trips) (k0_t20 : Fin (k0_t20_loop v15 v22 k0_t19).trips), ∀ a, (k0_off399 v15 v22 k0_t19 k0_t20) a + S1x16.size a ≤ S128x256.size a) ∧
  (∀ (k0_t19 : Fin (k0_t19_loop v15 v22).trips) (k0_t20 : Fin (k0_t20_loop v15 v22 k0_t19).trips), ∀ a, (k0_off400 v15 v22 k0_t19 k0_t20) a + S1x16.size a ≤ S128x256.size a) ∧
  (∀ (k0_t19 : Fin (k0_t19_loop v15 v22).trips) (k0_t20 : Fin (k0_t20_loop v15 v22 k0_t19).trips), ∀ a, (k0_off401 v15 v22 k0_t19 k0_t20) a + S1x16.size a ≤ S128x256.size a) ∧
  (∀ (k0_t19 : Fin (k0_t19_loop v15 v22).trips) (k0_t20 : Fin (k0_t20_loop v15 v22 k0_t19).trips), ∀ a, (k0_off402 v15 v22 k0_t19 k0_t20) a + S1x16.size a ≤ S128x256.size a) ∧
  (∀ (k0_t19 : Fin (k0_t19_loop v15 v22).trips) (k0_t20 : Fin (k0_t20_loop v15 v22 k0_t19).trips), ∀ a, (k0_off403 v15 v22 k0_t19 k0_t20) a + S1x16.size a ≤ S128x256.size a) ∧
  (∀ (k0_t19 : Fin (k0_t19_loop v15 v22).trips) (k0_t20 : Fin (k0_t20_loop v15 v22 k0_t19).trips), ∀ a, (k0_off404 v15 v22 k0_t19 k0_t20) a + S1x16.size a ≤ S128x256.size a) ∧
  (∀ (k0_t19 : Fin (k0_t19_loop v15 v22).trips) (k0_t20 : Fin (k0_t20_loop v15 v22 k0_t19).trips), ∀ a, (k0_off405 v15 v22 k0_t19 k0_t20) a + S1x16.size a ≤ S128x256.size a) ∧
  (∀ (k0_t19 : Fin (k0_t19_loop v15 v22).trips) (k0_t20 : Fin (k0_t20_loop v15 v22 k0_t19).trips), ∀ a, (k0_off406 v15 v22 k0_t19 k0_t20) a + S1x16.size a ≤ S128x256.size a) ∧
  (∀ (k0_t19 : Fin (k0_t19_loop v15 v22).trips) (k0_t20 : Fin (k0_t20_loop v15 v22 k0_t19).trips), ∀ a, (k0_off407 v15 v22 k0_t19 k0_t20) a + S1x16.size a ≤ S128x256.size a) ∧
  (∀ (k0_t19 : Fin (k0_t19_loop v15 v22).trips) (k0_t20 : Fin (k0_t20_loop v15 v22 k0_t19).trips), ∀ a, (k0_off408 v15 v22 k0_t19 k0_t20) a + S1x16.size a ≤ S128x256.size a) ∧
  (∀ (k0_t19 : Fin (k0_t19_loop v15 v22).trips) (k0_t20 : Fin (k0_t20_loop v15 v22 k0_t19).trips), ∀ (r : Fin 3), ∀ a, (k0_off409 v15 v22 k0_t19 k0_t20 (BitVec.ofNat 32 (1 + r.val))) a + S1x16.size a ≤ S128x256.size a) ∧
  (∀ (k0_t19 : Fin (k0_t19_loop v15 v22).trips) (k0_t20 : Fin (k0_t20_loop v15 v22 k0_t19).trips), ∀ (r : Fin 3), ∀ a, (k0_off410 v15 v22 k0_t19 k0_t20 (BitVec.ofNat 32 (1 + r.val))) a + S1x16.size a ≤ S128x256.size a) ∧
  (∀ (k0_t19 : Fin (k0_t19_loop v15 v22).trips) (k0_t20 : Fin (k0_t20_loop v15 v22 k0_t19).trips), ∀ (r : Fin 3), ∀ a, (k0_off411 v15 v22 k0_t19 k0_t20 (BitVec.ofNat 32 (1 + r.val))) a + S1x16.size a ≤ S128x256.size a) ∧
  (∀ (k0_t19 : Fin (k0_t19_loop v15 v22).trips) (k0_t20 : Fin (k0_t20_loop v15 v22 k0_t19).trips), ∀ (r : Fin 3), ∀ a, (k0_off412 v15 v22 k0_t19 k0_t20 (BitVec.ofNat 32 (1 + r.val))) a + S1x16.size a ≤ S128x256.size a) ∧
  (∀ (k0_t19 : Fin (k0_t19_loop v15 v22).trips) (k0_t20 : Fin (k0_t20_loop v15 v22 k0_t19).trips), ∀ (r : Fin 3), ∀ a, (k0_off413 v15 v22 k0_t19 k0_t20 (BitVec.ofNat 32 (1 + r.val))) a + S1x16.size a ≤ S128x256.size a) ∧
  (∀ (k0_t19 : Fin (k0_t19_loop v15 v22).trips) (k0_t20 : Fin (k0_t20_loop v15 v22 k0_t19).trips), ∀ (r : Fin 3), ∀ a, (k0_off414 v15 v22 k0_t19 k0_t20 (BitVec.ofNat 32 (1 + r.val))) a + S1x16.size a ≤ S128x256.size a) ∧
  (∀ (k0_t19 : Fin (k0_t19_loop v15 v22).trips) (k0_t20 : Fin (k0_t20_loop v15 v22 k0_t19).trips), ∀ (r : Fin 3), ∀ a, (k0_off415 v15 v22 k0_t19 k0_t20 (BitVec.ofNat 32 (1 + r.val))) a + S1x16.size a ≤ S128x256.size a) ∧
  (∀ (k0_t19 : Fin (k0_t19_loop v15 v22).trips) (k0_t20 : Fin (k0_t20_loop v15 v22 k0_t19).trips), ∀ (r : Fin 3), ∀ a, (k0_off416 v15 v22 k0_t19 k0_t20 (BitVec.ofNat 32 (1 + r.val))) a + S1x16.size a ≤ S128x256.size a) ∧
  (∀ (k0_t19 : Fin (k0_t19_loop v15 v22).trips) (k0_t20 : Fin (k0_t20_loop v15 v22 k0_t19).trips), ∀ (r : Fin 3), ∀ a, (k0_off417 v15 v22 k0_t19 k0_t20 (BitVec.ofNat 32 (1 + r.val))) a + S1x16.size a ≤ S128x256.size a) ∧
  (∀ (k0_t19 : Fin (k0_t19_loop v15 v22).trips) (k0_t20 : Fin (k0_t20_loop v15 v22 k0_t19).trips), ∀ (r : Fin 3), ∀ a, (k0_off418 v15 v22 k0_t19 k0_t20 (BitVec.ofNat 32 (1 + r.val))) a + S1x16.size a ≤ S128x256.size a) ∧
  (∀ (k0_t19 : Fin (k0_t19_loop v15 v22).trips) (k0_t20 : Fin (k0_t20_loop v15 v22 k0_t19).trips), ∀ (r : Fin 3), ∀ a, (k0_off419 v15 v22 k0_t19 k0_t20 (BitVec.ofNat 32 (1 + r.val))) a + S1x16.size a ≤ S128x256.size a)
def k0_chk3_1 (v15 : BitVec 32) (v22 : BitVec 32) : Prop :=
  (∀ (k0_t19 : Fin (k0_t19_loop v15 v22).trips) (k0_t20 : Fin (k0_t20_loop v15 v22 k0_t19).trips), ∀ (r : Fin 3), ∀ a, (k0_off420 v15 v22 k0_t19 k0_t20 (BitVec.ofNat 32 (1 + r.val))) a + S1x16.size a ≤ S128x256.size a) ∧
  (∀ (k0_t19 : Fin (k0_t19_loop v15 v22).trips) (k0_t20 : Fin (k0_t20_loop v15 v22 k0_t19).trips), ∀ (r : Fin 3), ∀ a, (k0_off421 v15 v22 k0_t19 k0_t20 (BitVec.ofNat 32 (1 + r.val))) a + S1x16.size a ≤ S128x256.size a) ∧
  (∀ (k0_t19 : Fin (k0_t19_loop v15 v22).trips) (k0_t20 : Fin (k0_t20_loop v15 v22 k0_t19).trips), ∀ (r : Fin 3), ∀ a, (k0_off422 v15 v22 k0_t19 k0_t20 (BitVec.ofNat 32 (1 + r.val))) a + S1x16.size a ≤ S128x256.size a) ∧
  (∀ (k0_t19 : Fin (k0_t19_loop v15 v22).trips) (k0_t20 : Fin (k0_t20_loop v15 v22 k0_t19).trips), ∀ (r : Fin 3), ∀ a, (k0_off423 v15 v22 k0_t19 k0_t20 (BitVec.ofNat 32 (1 + r.val))) a + S1x16.size a ≤ S128x256.size a) ∧
  (∀ (k0_t19 : Fin (k0_t19_loop v15 v22).trips) (k0_t20 : Fin (k0_t20_loop v15 v22 k0_t19).trips), ∀ (r : Fin 3), ∀ a, (k0_off424 v15 v22 k0_t19 k0_t20 (BitVec.ofNat 32 (1 + r.val))) a + S1x16.size a ≤ S128x256.size a) ∧
  (∀ k0_t19 : Fin (k0_t19_loop v15 v22).trips, (k0_t21_loop v15 v22 k0_t19).OK) ∧
  (∀ (k0_t19 : Fin (k0_t19_loop v15 v22).trips) (k0_t21 : Fin (k0_t21_loop v15 v22 k0_t19).trips), ∀ a, (k0_off425 v15 v22 k0_t19 k0_t21) a + S1x16.size a ≤ S128x256.size a) ∧
  (∀ (k0_t19 : Fin (k0_t19_loop v15 v22).trips) (k0_t21 : Fin (k0_t21_loop v15 v22 k0_t19).trips), ∀ a, (k0_off426 v15 v22 k0_t19 k0_t21) a + S1x16.size a ≤ S128x256.size a) ∧
  (∀ (k0_t19 : Fin (k0_t19_loop v15 v22).trips) (k0_t21 : Fin (k0_t21_loop v15 v22 k0_t19).trips), ∀ a, (k0_off427 v15 v22 k0_t19 k0_t21) a + S1x16.size a ≤ S128x256.size a) ∧
  (∀ (k0_t19 : Fin (k0_t19_loop v15 v22).trips) (k0_t21 : Fin (k0_t21_loop v15 v22 k0_t19).trips), ∀ a, (k0_off428 v15 v22 k0_t19 k0_t21) a + S1x16.size a ≤ S128x256.size a) ∧
  (∀ (k0_t19 : Fin (k0_t19_loop v15 v22).trips) (k0_t21 : Fin (k0_t21_loop v15 v22 k0_t19).trips), ∀ a, (k0_off429 v15 v22 k0_t19 k0_t21) a + S1x16.size a ≤ S128x256.size a) ∧
  (∀ (k0_t19 : Fin (k0_t19_loop v15 v22).trips) (k0_t21 : Fin (k0_t21_loop v15 v22 k0_t19).trips), ∀ a, (k0_off430 v15 v22 k0_t19 k0_t21) a + S1x16.size a ≤ S128x256.size a) ∧
  (∀ (k0_t19 : Fin (k0_t19_loop v15 v22).trips) (k0_t21 : Fin (k0_t21_loop v15 v22 k0_t19).trips), ∀ a, (k0_off431 v15 v22 k0_t19 k0_t21) a + S1x16.size a ≤ S128x256.size a) ∧
  (∀ (k0_t19 : Fin (k0_t19_loop v15 v22).trips) (k0_t21 : Fin (k0_t21_loop v15 v22 k0_t19).trips), ∀ a, (k0_off432 v15 v22 k0_t19 k0_t21) a + S1x16.size a ≤ S128x256.size a) ∧
  (∀ (k0_t19 : Fin (k0_t19_loop v15 v22).trips) (k0_t21 : Fin (k0_t21_loop v15 v22 k0_t19).trips), ∀ a, (k0_off433 v15 v22 k0_t19 k0_t21) a + S1x16.size a ≤ S128x256.size a) ∧
  (∀ (k0_t19 : Fin (k0_t19_loop v15 v22).trips) (k0_t21 : Fin (k0_t21_loop v15 v22 k0_t19).trips), ∀ a, (k0_off434 v15 v22 k0_t19 k0_t21) a + S1x16.size a ≤ S128x256.size a) ∧
  (∀ (k0_t19 : Fin (k0_t19_loop v15 v22).trips) (k0_t21 : Fin (k0_t21_loop v15 v22 k0_t19).trips), ∀ a, (k0_off435 v15 v22 k0_t19 k0_t21) a + S1x16.size a ≤ S128x256.size a) ∧
  (∀ (k0_t19 : Fin (k0_t19_loop v15 v22).trips) (k0_t21 : Fin (k0_t21_loop v15 v22 k0_t19).trips), ∀ a, (k0_off436 v15 v22 k0_t19 k0_t21) a + S1x16.size a ≤ S128x256.size a) ∧
  (∀ (k0_t19 : Fin (k0_t19_loop v15 v22).trips) (k0_t21 : Fin (k0_t21_loop v15 v22 k0_t19).trips), ∀ a, (k0_off437 v15 v22 k0_t19 k0_t21) a + S1x16.size a ≤ S128x256.size a) ∧
  (∀ (k0_t19 : Fin (k0_t19_loop v15 v22).trips) (k0_t21 : Fin (k0_t21_loop v15 v22 k0_t19).trips), ∀ a, (k0_off438 v15 v22 k0_t19 k0_t21) a + S1x16.size a ≤ S128x256.size a) ∧
  (∀ (k0_t19 : Fin (k0_t19_loop v15 v22).trips) (k0_t21 : Fin (k0_t21_loop v15 v22 k0_t19).trips), ∀ a, (k0_off439 v15 v22 k0_t19 k0_t21) a + S1x16.size a ≤ S128x256.size a) ∧
  (∀ (k0_t19 : Fin (k0_t19_loop v15 v22).trips) (k0_t21 : Fin (k0_t21_loop v15 v22 k0_t19).trips), ∀ a, (k0_off440 v15 v22 k0_t19 k0_t21) a + S1x16.size a ≤ S128x256.size a) ∧
  (∀ (k0_t19 : Fin (k0_t19_loop v15 v22).trips) (k0_t21 : Fin (k0_t21_loop v15 v22 k0_t19).trips), ∀ (r : Fin 3), ∀ a, (k0_off441 v15 v22 k0_t19 k0_t21 (BitVec.ofNat 32 (1 + r.val))) a + S1x16.size a ≤ S128x256.size a) ∧
  (∀ (k0_t19 : Fin (k0_t19_loop v15 v22).trips) (k0_t21 : Fin (k0_t21_loop v15 v22 k0_t19).trips), ∀ (r : Fin 3), ∀ a, (k0_off442 v15 v22 k0_t19 k0_t21 (BitVec.ofNat 32 (1 + r.val))) a + S1x16.size a ≤ S128x256.size a) ∧
  (∀ (k0_t19 : Fin (k0_t19_loop v15 v22).trips) (k0_t21 : Fin (k0_t21_loop v15 v22 k0_t19).trips), ∀ (r : Fin 3), ∀ a, (k0_off443 v15 v22 k0_t19 k0_t21 (BitVec.ofNat 32 (1 + r.val))) a + S1x16.size a ≤ S128x256.size a) ∧
  (∀ (k0_t19 : Fin (k0_t19_loop v15 v22).trips) (k0_t21 : Fin (k0_t21_loop v15 v22 k0_t19).trips), ∀ (r : Fin 3), ∀ a, (k0_off444 v15 v22 k0_t19 k0_t21 (BitVec.ofNat 32 (1 + r.val))) a + S1x16.size a ≤ S128x256.size a) ∧
  (∀ (k0_t19 : Fin (k0_t19_loop v15 v22).trips) (k0_t21 : Fin (k0_t21_loop v15 v22 k0_t19).trips), ∀ (r : Fin 3), ∀ a, (k0_off445 v15 v22 k0_t19 k0_t21 (BitVec.ofNat 32 (1 + r.val))) a + S1x16.size a ≤ S128x256.size a) ∧
  (∀ (k0_t19 : Fin (k0_t19_loop v15 v22).trips) (k0_t21 : Fin (k0_t21_loop v15 v22 k0_t19).trips), ∀ (r : Fin 3), ∀ a, (k0_off446 v15 v22 k0_t19 k0_t21 (BitVec.ofNat 32 (1 + r.val))) a + S1x16.size a ≤ S128x256.size a) ∧
  (∀ (k0_t19 : Fin (k0_t19_loop v15 v22).trips) (k0_t21 : Fin (k0_t21_loop v15 v22 k0_t19).trips), ∀ (r : Fin 3), ∀ a, (k0_off447 v15 v22 k0_t19 k0_t21 (BitVec.ofNat 32 (1 + r.val))) a + S1x16.size a ≤ S128x256.size a) ∧
  (∀ (k0_t19 : Fin (k0_t19_loop v15 v22).trips) (k0_t21 : Fin (k0_t21_loop v15 v22 k0_t19).trips), ∀ (r : Fin 3), ∀ a, (k0_off448 v15 v22 k0_t19 k0_t21 (BitVec.ofNat 32 (1 + r.val))) a + S1x16.size a ≤ S128x256.size a) ∧
  (∀ (k0_t19 : Fin (k0_t19_loop v15 v22).trips) (k0_t21 : Fin (k0_t21_loop v15 v22 k0_t19).trips), ∀ (r : Fin 3), ∀ a, (k0_off449 v15 v22 k0_t19 k0_t21 (BitVec.ofNat 32 (1 + r.val))) a + S1x16.size a ≤ S128x256.size a) ∧
  (∀ (k0_t19 : Fin (k0_t19_loop v15 v22).trips) (k0_t21 : Fin (k0_t21_loop v15 v22 k0_t19).trips), ∀ (r : Fin 3), ∀ a, (k0_off450 v15 v22 k0_t19 k0_t21 (BitVec.ofNat 32 (1 + r.val))) a + S1x16.size a ≤ S128x256.size a)
def k0_chk3_2 (v15 : BitVec 32) (v22 : BitVec 32) : Prop :=
  (∀ (k0_t19 : Fin (k0_t19_loop v15 v22).trips) (k0_t21 : Fin (k0_t21_loop v15 v22 k0_t19).trips), ∀ (r : Fin 3), ∀ a, (k0_off451 v15 v22 k0_t19 k0_t21 (BitVec.ofNat 32 (1 + r.val))) a + S1x16.size a ≤ S128x256.size a) ∧
  (∀ (k0_t19 : Fin (k0_t19_loop v15 v22).trips) (k0_t21 : Fin (k0_t21_loop v15 v22 k0_t19).trips), ∀ (r : Fin 3), ∀ a, (k0_off452 v15 v22 k0_t19 k0_t21 (BitVec.ofNat 32 (1 + r.val))) a + S1x16.size a ≤ S128x256.size a) ∧
  (∀ (k0_t19 : Fin (k0_t19_loop v15 v22).trips) (k0_t21 : Fin (k0_t21_loop v15 v22 k0_t19).trips), ∀ (r : Fin 3), ∀ a, (k0_off453 v15 v22 k0_t19 k0_t21 (BitVec.ofNat 32 (1 + r.val))) a + S1x16.size a ≤ S128x256.size a) ∧
  (∀ (k0_t19 : Fin (k0_t19_loop v15 v22).trips) (k0_t21 : Fin (k0_t21_loop v15 v22 k0_t19).trips), ∀ (r : Fin 3), ∀ a, (k0_off454 v15 v22 k0_t19 k0_t21 (BitVec.ofNat 32 (1 + r.val))) a + S1x16.size a ≤ S128x256.size a) ∧
  (∀ (k0_t19 : Fin (k0_t19_loop v15 v22).trips) (k0_t21 : Fin (k0_t21_loop v15 v22 k0_t19).trips), ∀ (r : Fin 3), ∀ a, (k0_off455 v15 v22 k0_t19 k0_t21 (BitVec.ofNat 32 (1 + r.val))) a + S1x16.size a ≤ S128x256.size a) ∧
  (∀ (k0_t19 : Fin (k0_t19_loop v15 v22).trips) (k0_t21 : Fin (k0_t21_loop v15 v22 k0_t19).trips), ∀ (r : Fin 3), ∀ a, (k0_off456 v15 v22 k0_t19 k0_t21 (BitVec.ofNat 32 (1 + r.val))) a + S1x16.size a ≤ S128x256.size a) ∧
  (∀ k0_t19 : Fin (k0_t19_loop v15 v22).trips, (k0_t22_loop v15 v22 k0_t19).OK) ∧
  (∀ (k0_t19 : Fin (k0_t19_loop v15 v22).trips) (k0_t22 : Fin (k0_t22_loop v15 v22 k0_t19).trips), ∀ a, (k0_off457 v15 v22 k0_t19 k0_t22) a + S1x16.size a ≤ S128x256.size a) ∧
  (∀ (k0_t19 : Fin (k0_t19_loop v15 v22).trips) (k0_t22 : Fin (k0_t22_loop v15 v22 k0_t19).trips), ∀ a, (k0_off458 v15 v22 k0_t19 k0_t22) a + S1x16.size a ≤ S128x256.size a) ∧
  (∀ (k0_t19 : Fin (k0_t19_loop v15 v22).trips) (k0_t22 : Fin (k0_t22_loop v15 v22 k0_t19).trips), ∀ a, (k0_off459 v15 v22 k0_t19 k0_t22) a + S1x16.size a ≤ S128x256.size a) ∧
  (∀ (k0_t19 : Fin (k0_t19_loop v15 v22).trips) (k0_t22 : Fin (k0_t22_loop v15 v22 k0_t19).trips), ∀ a, (k0_off460 v15 v22 k0_t19 k0_t22) a + S1x16.size a ≤ S128x256.size a) ∧
  (∀ (k0_t19 : Fin (k0_t19_loop v15 v22).trips) (k0_t22 : Fin (k0_t22_loop v15 v22 k0_t19).trips), ∀ a, (k0_off461 v15 v22 k0_t19 k0_t22) a + S1x16.size a ≤ S128x256.size a) ∧
  (∀ (k0_t19 : Fin (k0_t19_loop v15 v22).trips) (k0_t22 : Fin (k0_t22_loop v15 v22 k0_t19).trips), ∀ a, (k0_off462 v15 v22 k0_t19 k0_t22) a + S1x16.size a ≤ S128x256.size a) ∧
  (∀ (k0_t19 : Fin (k0_t19_loop v15 v22).trips) (k0_t22 : Fin (k0_t22_loop v15 v22 k0_t19).trips), ∀ a, (k0_off463 v15 v22 k0_t19 k0_t22) a + S1x16.size a ≤ S128x256.size a) ∧
  (∀ (k0_t19 : Fin (k0_t19_loop v15 v22).trips) (k0_t22 : Fin (k0_t22_loop v15 v22 k0_t19).trips), ∀ a, (k0_off464 v15 v22 k0_t19 k0_t22) a + S1x16.size a ≤ S128x256.size a) ∧
  (∀ (k0_t19 : Fin (k0_t19_loop v15 v22).trips) (k0_t22 : Fin (k0_t22_loop v15 v22 k0_t19).trips), ∀ a, (k0_off465 v15 v22 k0_t19 k0_t22) a + S1x16.size a ≤ S128x256.size a) ∧
  (∀ (k0_t19 : Fin (k0_t19_loop v15 v22).trips) (k0_t22 : Fin (k0_t22_loop v15 v22 k0_t19).trips), ∀ a, (k0_off466 v15 v22 k0_t19 k0_t22) a + S1x16.size a ≤ S128x256.size a) ∧
  (∀ (k0_t19 : Fin (k0_t19_loop v15 v22).trips) (k0_t22 : Fin (k0_t22_loop v15 v22 k0_t19).trips), ∀ a, (k0_off467 v15 v22 k0_t19 k0_t22) a + S1x16.size a ≤ S128x256.size a) ∧
  (∀ (k0_t19 : Fin (k0_t19_loop v15 v22).trips) (k0_t22 : Fin (k0_t22_loop v15 v22 k0_t19).trips), ∀ a, (k0_off468 v15 v22 k0_t19 k0_t22) a + S1x16.size a ≤ S128x256.size a) ∧
  (∀ (k0_t19 : Fin (k0_t19_loop v15 v22).trips) (k0_t22 : Fin (k0_t22_loop v15 v22 k0_t19).trips), ∀ a, (k0_off469 v15 v22 k0_t19 k0_t22) a + S1x16.size a ≤ S128x256.size a) ∧
  (∀ (k0_t19 : Fin (k0_t19_loop v15 v22).trips) (k0_t22 : Fin (k0_t22_loop v15 v22 k0_t19).trips), ∀ a, (k0_off470 v15 v22 k0_t19 k0_t22) a + S1x16.size a ≤ S128x256.size a) ∧
  (∀ (k0_t19 : Fin (k0_t19_loop v15 v22).trips) (k0_t22 : Fin (k0_t22_loop v15 v22 k0_t19).trips), ∀ a, (k0_off471 v15 v22 k0_t19 k0_t22) a + S1x16.size a ≤ S128x256.size a) ∧
  (∀ (k0_t19 : Fin (k0_t19_loop v15 v22).trips) (k0_t22 : Fin (k0_t22_loop v15 v22 k0_t19).trips), ∀ a, (k0_off472 v15 v22 k0_t19 k0_t22) a + S1x16.size a ≤ S128x256.size a) ∧
  (∀ k0_t19 : Fin (k0_t19_loop v15 v22).trips, (k0_t23_loop v15 v22 k0_t19).OK) ∧
  (∀ (k0_t19 : Fin (k0_t19_loop v15 v22).trips) (k0_t23 : Fin (k0_t23_loop v15 v22 k0_t19).trips), ∀ a, (k0_off473 v15 v22 k0_t19 k0_t23) a + S1x16.size a ≤ S128x256.size a) ∧
  (∀ (k0_t19 : Fin (k0_t19_loop v15 v22).trips) (k0_t23 : Fin (k0_t23_loop v15 v22 k0_t19).trips), ∀ a, (k0_off474 v15 v22 k0_t19 k0_t23) a + S1x16.size a ≤ S128x256.size a) ∧
  (∀ (k0_t19 : Fin (k0_t19_loop v15 v22).trips) (k0_t23 : Fin (k0_t23_loop v15 v22 k0_t19).trips), ∀ a, (k0_off475 v15 v22 k0_t19 k0_t23) a + S1x16.size a ≤ S128x256.size a) ∧
  (∀ (k0_t19 : Fin (k0_t19_loop v15 v22).trips) (k0_t23 : Fin (k0_t23_loop v15 v22 k0_t19).trips), ∀ a, (k0_off476 v15 v22 k0_t19 k0_t23) a + S1x16.size a ≤ S128x256.size a) ∧
  (∀ (k0_t19 : Fin (k0_t19_loop v15 v22).trips) (k0_t23 : Fin (k0_t23_loop v15 v22 k0_t19).trips), ∀ a, (k0_off477 v15 v22 k0_t19 k0_t23) a + S1x16.size a ≤ S128x256.size a) ∧
  (∀ (k0_t19 : Fin (k0_t19_loop v15 v22).trips) (k0_t23 : Fin (k0_t23_loop v15 v22 k0_t19).trips), ∀ a, (k0_off478 v15 v22 k0_t19 k0_t23) a + S1x16.size a ≤ S128x256.size a) ∧
  (∀ (k0_t19 : Fin (k0_t19_loop v15 v22).trips) (k0_t23 : Fin (k0_t23_loop v15 v22 k0_t19).trips), ∀ a, (k0_off479 v15 v22 k0_t19 k0_t23) a + S1x16.size a ≤ S128x256.size a) ∧
  (∀ (k0_t19 : Fin (k0_t19_loop v15 v22).trips) (k0_t23 : Fin (k0_t23_loop v15 v22 k0_t19).trips), ∀ a, (k0_off480 v15 v22 k0_t19 k0_t23) a + S1x16.size a ≤ S128x256.size a)
def k0_chk3_3 (v15 : BitVec 32) (v22 : BitVec 32) : Prop :=
  (∀ (k0_t19 : Fin (k0_t19_loop v15 v22).trips) (k0_t23 : Fin (k0_t23_loop v15 v22 k0_t19).trips), ∀ a, (k0_off481 v15 v22 k0_t19 k0_t23) a + S1x16.size a ≤ S128x256.size a) ∧
  (∀ (k0_t19 : Fin (k0_t19_loop v15 v22).trips) (k0_t23 : Fin (k0_t23_loop v15 v22 k0_t19).trips), ∀ a, (k0_off482 v15 v22 k0_t19 k0_t23) a + S1x16.size a ≤ S128x256.size a) ∧
  (∀ (k0_t19 : Fin (k0_t19_loop v15 v22).trips) (k0_t23 : Fin (k0_t23_loop v15 v22 k0_t19).trips), ∀ a, (k0_off483 v15 v22 k0_t19 k0_t23) a + S1x16.size a ≤ S128x256.size a) ∧
  (∀ (k0_t19 : Fin (k0_t19_loop v15 v22).trips) (k0_t23 : Fin (k0_t23_loop v15 v22 k0_t19).trips), ∀ a, (k0_off484 v15 v22 k0_t19 k0_t23) a + S1x16.size a ≤ S128x256.size a) ∧
  (∀ (k0_t19 : Fin (k0_t19_loop v15 v22).trips) (k0_t23 : Fin (k0_t23_loop v15 v22 k0_t19).trips), ∀ a, (k0_off485 v15 v22 k0_t19 k0_t23) a + S1x16.size a ≤ S128x256.size a) ∧
  (∀ (k0_t19 : Fin (k0_t19_loop v15 v22).trips) (k0_t23 : Fin (k0_t23_loop v15 v22 k0_t19).trips), ∀ a, (k0_off486 v15 v22 k0_t19 k0_t23) a + S1x16.size a ≤ S128x256.size a) ∧
  (∀ (k0_t19 : Fin (k0_t19_loop v15 v22).trips) (k0_t23 : Fin (k0_t23_loop v15 v22 k0_t19).trips), ∀ a, (k0_off487 v15 v22 k0_t19 k0_t23) a + S1x16.size a ≤ S128x256.size a) ∧
  (∀ (k0_t19 : Fin (k0_t19_loop v15 v22).trips) (k0_t23 : Fin (k0_t23_loop v15 v22 k0_t19).trips), ∀ a, (k0_off488 v15 v22 k0_t19 k0_t23) a + S1x16.size a ≤ S128x256.size a) ∧
  (∀ k0_t19 : Fin (k0_t19_loop v15 v22).trips, 8 ∣ (k0_mult13 v15 v22 k0_t19).toNat) ∧
  (∀ k0_t19 : Fin (k0_t19_loop v15 v22).trips, ∀ a, (k0_off489 v15 v22 k0_t19) a + S128x256.size a ≤ S50000x256.size a) ∧
  (∀ k0_t19 : Fin (k0_t19_loop v15 v22).trips, 8 ∣ (k0_mult14 v15 v22 k0_t19).toNat) ∧
  (∀ k0_t19 : Fin (k0_t19_loop v15 v22).trips, (k0_t24_loop v15 v22 k0_t19).OK) ∧
  (∀ (k0_t19 : Fin (k0_t19_loop v15 v22).trips) (k0_t24 : Fin (k0_t24_loop v15 v22 k0_t19).trips), ∀ a, (k0_off490 v15 v22 k0_t19 k0_t24) a + S1x16.size a ≤ S128x256.size a) ∧
  (∀ (k0_t19 : Fin (k0_t19_loop v15 v22).trips) (k0_t24 : Fin (k0_t24_loop v15 v22 k0_t19).trips), ∀ a, (k0_off491 v15 v22 k0_t19 k0_t24) a + S1x16.size a ≤ S128x256.size a) ∧
  (∀ (k0_t19 : Fin (k0_t19_loop v15 v22).trips) (k0_t24 : Fin (k0_t24_loop v15 v22 k0_t19).trips), ∀ a, (k0_off492 v15 v22 k0_t19 k0_t24) a + S1x16.size a ≤ S128x256.size a) ∧
  (∀ (k0_t19 : Fin (k0_t19_loop v15 v22).trips) (k0_t24 : Fin (k0_t24_loop v15 v22 k0_t19).trips), ∀ a, (k0_off493 v15 v22 k0_t19 k0_t24) a + S1x16.size a ≤ S128x256.size a) ∧
  (∀ (k0_t19 : Fin (k0_t19_loop v15 v22).trips) (k0_t24 : Fin (k0_t24_loop v15 v22 k0_t19).trips), ∀ a, (k0_off494 v15 v22 k0_t19 k0_t24) a + S1x16.size a ≤ S128x256.size a) ∧
  (∀ (k0_t19 : Fin (k0_t19_loop v15 v22).trips) (k0_t24 : Fin (k0_t24_loop v15 v22 k0_t19).trips), ∀ a, (k0_off495 v15 v22 k0_t19 k0_t24) a + S1x16.size a ≤ S128x256.size a) ∧
  (∀ (k0_t19 : Fin (k0_t19_loop v15 v22).trips) (k0_t24 : Fin (k0_t24_loop v15 v22 k0_t19).trips), ∀ a, (k0_off496 v15 v22 k0_t19 k0_t24) a + S1x16.size a ≤ S128x256.size a) ∧
  (∀ (k0_t19 : Fin (k0_t19_loop v15 v22).trips) (k0_t24 : Fin (k0_t24_loop v15 v22 k0_t19).trips), ∀ a, (k0_off497 v15 v22 k0_t19 k0_t24) a + S1x16.size a ≤ S128x256.size a) ∧
  (∀ (k0_t19 : Fin (k0_t19_loop v15 v22).trips) (k0_t24 : Fin (k0_t24_loop v15 v22 k0_t19).trips), ∀ a, (k0_off498 v15 v22 k0_t19 k0_t24) a + S1x16.size a ≤ S128x256.size a) ∧
  (∀ (k0_t19 : Fin (k0_t19_loop v15 v22).trips) (k0_t24 : Fin (k0_t24_loop v15 v22 k0_t19).trips), ∀ a, (k0_off499 v15 v22 k0_t19 k0_t24) a + S1x16.size a ≤ S128x256.size a) ∧
  (∀ (k0_t19 : Fin (k0_t19_loop v15 v22).trips) (k0_t24 : Fin (k0_t24_loop v15 v22 k0_t19).trips), ∀ a, (k0_off500 v15 v22 k0_t19 k0_t24) a + S1x16.size a ≤ S128x256.size a) ∧
  (∀ (k0_t19 : Fin (k0_t19_loop v15 v22).trips) (k0_t24 : Fin (k0_t24_loop v15 v22 k0_t19).trips), ∀ a, (k0_off501 v15 v22 k0_t19 k0_t24) a + S1x16.size a ≤ S128x256.size a) ∧
  (∀ (k0_t19 : Fin (k0_t19_loop v15 v22).trips) (k0_t24 : Fin (k0_t24_loop v15 v22 k0_t19).trips), ∀ a, (k0_off502 v15 v22 k0_t19 k0_t24) a + S1x16.size a ≤ S128x256.size a) ∧
  (∀ (k0_t19 : Fin (k0_t19_loop v15 v22).trips) (k0_t24 : Fin (k0_t24_loop v15 v22 k0_t19).trips), ∀ a, (k0_off503 v15 v22 k0_t19 k0_t24) a + S1x16.size a ≤ S128x256.size a) ∧
  (∀ (k0_t19 : Fin (k0_t19_loop v15 v22).trips) (k0_t24 : Fin (k0_t24_loop v15 v22 k0_t19).trips), ∀ a, (k0_off504 v15 v22 k0_t19 k0_t24) a + S1x16.size a ≤ S128x256.size a) ∧
  (∀ (k0_t19 : Fin (k0_t19_loop v15 v22).trips) (k0_t24 : Fin (k0_t24_loop v15 v22 k0_t19).trips), ∀ a, (k0_off505 v15 v22 k0_t19 k0_t24) a + S1x16.size a ≤ S128x256.size a) ∧
  (∀ (k0_t19 : Fin (k0_t19_loop v15 v22).trips) (k0_t24 : Fin (k0_t24_loop v15 v22 k0_t19).trips), ∀ (r : Fin 3), ∀ a, (k0_off506 v15 v22 k0_t19 k0_t24 (BitVec.ofNat 32 (1 + r.val))) a + S1x16.size a ≤ S128x256.size a) ∧
  (∀ (k0_t19 : Fin (k0_t19_loop v15 v22).trips) (k0_t24 : Fin (k0_t24_loop v15 v22 k0_t19).trips), ∀ (r : Fin 3), ∀ a, (k0_off507 v15 v22 k0_t19 k0_t24 (BitVec.ofNat 32 (1 + r.val))) a + S1x16.size a ≤ S128x256.size a) ∧
  (∀ (k0_t19 : Fin (k0_t19_loop v15 v22).trips) (k0_t24 : Fin (k0_t24_loop v15 v22 k0_t19).trips), ∀ (r : Fin 3), ∀ a, (k0_off508 v15 v22 k0_t19 k0_t24 (BitVec.ofNat 32 (1 + r.val))) a + S1x16.size a ≤ S128x256.size a) ∧
  (∀ (k0_t19 : Fin (k0_t19_loop v15 v22).trips) (k0_t24 : Fin (k0_t24_loop v15 v22 k0_t19).trips), ∀ (r : Fin 3), ∀ a, (k0_off509 v15 v22 k0_t19 k0_t24 (BitVec.ofNat 32 (1 + r.val))) a + S1x16.size a ≤ S128x256.size a)
def k0_chk3_4 (v15 : BitVec 32) (v22 : BitVec 32) : Prop :=
  (∀ (k0_t19 : Fin (k0_t19_loop v15 v22).trips) (k0_t24 : Fin (k0_t24_loop v15 v22 k0_t19).trips), ∀ (r : Fin 3), ∀ a, (k0_off510 v15 v22 k0_t19 k0_t24 (BitVec.ofNat 32 (1 + r.val))) a + S1x16.size a ≤ S128x256.size a) ∧
  (∀ (k0_t19 : Fin (k0_t19_loop v15 v22).trips) (k0_t24 : Fin (k0_t24_loop v15 v22 k0_t19).trips), ∀ (r : Fin 3), ∀ a, (k0_off511 v15 v22 k0_t19 k0_t24 (BitVec.ofNat 32 (1 + r.val))) a + S1x16.size a ≤ S128x256.size a) ∧
  (∀ (k0_t19 : Fin (k0_t19_loop v15 v22).trips) (k0_t24 : Fin (k0_t24_loop v15 v22 k0_t19).trips), ∀ (r : Fin 3), ∀ a, (k0_off512 v15 v22 k0_t19 k0_t24 (BitVec.ofNat 32 (1 + r.val))) a + S1x16.size a ≤ S128x256.size a) ∧
  (∀ (k0_t19 : Fin (k0_t19_loop v15 v22).trips) (k0_t24 : Fin (k0_t24_loop v15 v22 k0_t19).trips), ∀ (r : Fin 3), ∀ a, (k0_off513 v15 v22 k0_t19 k0_t24 (BitVec.ofNat 32 (1 + r.val))) a + S1x16.size a ≤ S128x256.size a) ∧
  (∀ (k0_t19 : Fin (k0_t19_loop v15 v22).trips) (k0_t24 : Fin (k0_t24_loop v15 v22 k0_t19).trips), ∀ (r : Fin 3), ∀ a, (k0_off514 v15 v22 k0_t19 k0_t24 (BitVec.ofNat 32 (1 + r.val))) a + S1x16.size a ≤ S128x256.size a) ∧
  (∀ (k0_t19 : Fin (k0_t19_loop v15 v22).trips) (k0_t24 : Fin (k0_t24_loop v15 v22 k0_t19).trips), ∀ (r : Fin 3), ∀ a, (k0_off515 v15 v22 k0_t19 k0_t24 (BitVec.ofNat 32 (1 + r.val))) a + S1x16.size a ≤ S128x256.size a) ∧
  (∀ (k0_t19 : Fin (k0_t19_loop v15 v22).trips) (k0_t24 : Fin (k0_t24_loop v15 v22 k0_t19).trips), ∀ (r : Fin 3), ∀ a, (k0_off516 v15 v22 k0_t19 k0_t24 (BitVec.ofNat 32 (1 + r.val))) a + S1x16.size a ≤ S128x256.size a) ∧
  (∀ (k0_t19 : Fin (k0_t19_loop v15 v22).trips) (k0_t24 : Fin (k0_t24_loop v15 v22 k0_t19).trips), ∀ (r : Fin 3), ∀ a, (k0_off517 v15 v22 k0_t19 k0_t24 (BitVec.ofNat 32 (1 + r.val))) a + S1x16.size a ≤ S128x256.size a) ∧
  (∀ (k0_t19 : Fin (k0_t19_loop v15 v22).trips) (k0_t24 : Fin (k0_t24_loop v15 v22 k0_t19).trips), ∀ (r : Fin 3), ∀ a, (k0_off518 v15 v22 k0_t19 k0_t24 (BitVec.ofNat 32 (1 + r.val))) a + S1x16.size a ≤ S128x256.size a) ∧
  (∀ (k0_t19 : Fin (k0_t19_loop v15 v22).trips) (k0_t24 : Fin (k0_t24_loop v15 v22 k0_t19).trips), ∀ (r : Fin 3), ∀ a, (k0_off519 v15 v22 k0_t19 k0_t24 (BitVec.ofNat 32 (1 + r.val))) a + S1x16.size a ≤ S128x256.size a) ∧
  (∀ (k0_t19 : Fin (k0_t19_loop v15 v22).trips) (k0_t24 : Fin (k0_t24_loop v15 v22 k0_t19).trips), ∀ (r : Fin 3), ∀ a, (k0_off520 v15 v22 k0_t19 k0_t24 (BitVec.ofNat 32 (1 + r.val))) a + S1x16.size a ≤ S128x256.size a) ∧
  (∀ (k0_t19 : Fin (k0_t19_loop v15 v22).trips) (k0_t24 : Fin (k0_t24_loop v15 v22 k0_t19).trips), ∀ (r : Fin 3), ∀ a, (k0_off521 v15 v22 k0_t19 k0_t24 (BitVec.ofNat 32 (1 + r.val))) a + S1x16.size a ≤ S128x256.size a) ∧
  (∀ k0_t19 : Fin (k0_t19_loop v15 v22).trips, (k0_t25_loop v15 v22 k0_t19).OK) ∧
  (∀ (k0_t19 : Fin (k0_t19_loop v15 v22).trips) (k0_t25 : Fin (k0_t25_loop v15 v22 k0_t19).trips), ∀ a, (k0_off522 v15 v22 k0_t19 k0_t25) a + S1x16.size a ≤ S128x256.size a) ∧
  (∀ (k0_t19 : Fin (k0_t19_loop v15 v22).trips) (k0_t25 : Fin (k0_t25_loop v15 v22 k0_t19).trips), ∀ a, (k0_off523 v15 v22 k0_t19 k0_t25) a + S1x16.size a ≤ S128x256.size a) ∧
  (∀ (k0_t19 : Fin (k0_t19_loop v15 v22).trips) (k0_t25 : Fin (k0_t25_loop v15 v22 k0_t19).trips), ∀ a, (k0_off524 v15 v22 k0_t19 k0_t25) a + S1x16.size a ≤ S128x256.size a) ∧
  (∀ (k0_t19 : Fin (k0_t19_loop v15 v22).trips) (k0_t25 : Fin (k0_t25_loop v15 v22 k0_t19).trips), ∀ a, (k0_off525 v15 v22 k0_t19 k0_t25) a + S1x16.size a ≤ S128x256.size a) ∧
  (∀ (k0_t19 : Fin (k0_t19_loop v15 v22).trips) (k0_t25 : Fin (k0_t25_loop v15 v22 k0_t19).trips), ∀ a, (k0_off526 v15 v22 k0_t19 k0_t25) a + S1x16.size a ≤ S128x256.size a) ∧
  (∀ (k0_t19 : Fin (k0_t19_loop v15 v22).trips) (k0_t25 : Fin (k0_t25_loop v15 v22 k0_t19).trips), ∀ a, (k0_off527 v15 v22 k0_t19 k0_t25) a + S1x16.size a ≤ S128x256.size a) ∧
  (∀ (k0_t19 : Fin (k0_t19_loop v15 v22).trips) (k0_t25 : Fin (k0_t25_loop v15 v22 k0_t19).trips), ∀ a, (k0_off528 v15 v22 k0_t19 k0_t25) a + S1x16.size a ≤ S128x256.size a) ∧
  (∀ (k0_t19 : Fin (k0_t19_loop v15 v22).trips) (k0_t25 : Fin (k0_t25_loop v15 v22 k0_t19).trips), ∀ a, (k0_off529 v15 v22 k0_t19 k0_t25) a + S1x16.size a ≤ S128x256.size a) ∧
  (∀ (k0_t19 : Fin (k0_t19_loop v15 v22).trips) (k0_t25 : Fin (k0_t25_loop v15 v22 k0_t19).trips), ∀ a, (k0_off530 v15 v22 k0_t19 k0_t25) a + S1x16.size a ≤ S128x256.size a) ∧
  (∀ (k0_t19 : Fin (k0_t19_loop v15 v22).trips) (k0_t25 : Fin (k0_t25_loop v15 v22 k0_t19).trips), ∀ a, (k0_off531 v15 v22 k0_t19 k0_t25) a + S1x16.size a ≤ S128x256.size a) ∧
  (∀ (k0_t19 : Fin (k0_t19_loop v15 v22).trips) (k0_t25 : Fin (k0_t25_loop v15 v22 k0_t19).trips), ∀ a, (k0_off532 v15 v22 k0_t19 k0_t25) a + S1x16.size a ≤ S128x256.size a) ∧
  (∀ (k0_t19 : Fin (k0_t19_loop v15 v22).trips) (k0_t25 : Fin (k0_t25_loop v15 v22 k0_t19).trips), ∀ a, (k0_off533 v15 v22 k0_t19 k0_t25) a + S1x16.size a ≤ S128x256.size a) ∧
  (∀ (k0_t19 : Fin (k0_t19_loop v15 v22).trips) (k0_t25 : Fin (k0_t25_loop v15 v22 k0_t19).trips), ∀ a, (k0_off534 v15 v22 k0_t19 k0_t25) a + S1x16.size a ≤ S128x256.size a) ∧
  (∀ (k0_t19 : Fin (k0_t19_loop v15 v22).trips) (k0_t25 : Fin (k0_t25_loop v15 v22 k0_t19).trips), ∀ a, (k0_off535 v15 v22 k0_t19 k0_t25) a + S1x16.size a ≤ S128x256.size a) ∧
  (∀ (k0_t19 : Fin (k0_t19_loop v15 v22).trips) (k0_t25 : Fin (k0_t25_loop v15 v22 k0_t19).trips), ∀ a, (k0_off536 v15 v22 k0_t19 k0_t25) a + S1x16.size a ≤ S128x256.size a) ∧
  (∀ (k0_t19 : Fin (k0_t19_loop v15 v22).trips) (k0_t25 : Fin (k0_t25_loop v15 v22 k0_t19).trips), ∀ a, (k0_off537 v15 v22 k0_t19 k0_t25) a + S1x16.size a ≤ S128x256.size a) ∧
  (∀ (k0_t19 : Fin (k0_t19_loop v15 v22).trips) (k0_t25 : Fin (k0_t25_loop v15 v22 k0_t19).trips), ∀ (r : Fin 3), ∀ a, (k0_off538 v15 v22 k0_t19 k0_t25 (BitVec.ofNat 32 (1 + r.val))) a + S1x16.size a ≤ S128x256.size a) ∧
  (∀ (k0_t19 : Fin (k0_t19_loop v15 v22).trips) (k0_t25 : Fin (k0_t25_loop v15 v22 k0_t19).trips), ∀ (r : Fin 3), ∀ a, (k0_off539 v15 v22 k0_t19 k0_t25 (BitVec.ofNat 32 (1 + r.val))) a + S1x16.size a ≤ S128x256.size a) ∧
  (∀ (k0_t19 : Fin (k0_t19_loop v15 v22).trips) (k0_t25 : Fin (k0_t25_loop v15 v22 k0_t19).trips), ∀ (r : Fin 3), ∀ a, (k0_off540 v15 v22 k0_t19 k0_t25 (BitVec.ofNat 32 (1 + r.val))) a + S1x16.size a ≤ S128x256.size a)
def k0_chk3_5 (v15 : BitVec 32) (v22 : BitVec 32) : Prop :=
  (∀ (k0_t19 : Fin (k0_t19_loop v15 v22).trips) (k0_t25 : Fin (k0_t25_loop v15 v22 k0_t19).trips), ∀ (r : Fin 3), ∀ a, (k0_off541 v15 v22 k0_t19 k0_t25 (BitVec.ofNat 32 (1 + r.val))) a + S1x16.size a ≤ S128x256.size a) ∧
  (∀ (k0_t19 : Fin (k0_t19_loop v15 v22).trips) (k0_t25 : Fin (k0_t25_loop v15 v22 k0_t19).trips), ∀ (r : Fin 3), ∀ a, (k0_off542 v15 v22 k0_t19 k0_t25 (BitVec.ofNat 32 (1 + r.val))) a + S1x16.size a ≤ S128x256.size a) ∧
  (∀ (k0_t19 : Fin (k0_t19_loop v15 v22).trips) (k0_t25 : Fin (k0_t25_loop v15 v22 k0_t19).trips), ∀ (r : Fin 3), ∀ a, (k0_off543 v15 v22 k0_t19 k0_t25 (BitVec.ofNat 32 (1 + r.val))) a + S1x16.size a ≤ S128x256.size a) ∧
  (∀ (k0_t19 : Fin (k0_t19_loop v15 v22).trips) (k0_t25 : Fin (k0_t25_loop v15 v22 k0_t19).trips), ∀ (r : Fin 3), ∀ a, (k0_off544 v15 v22 k0_t19 k0_t25 (BitVec.ofNat 32 (1 + r.val))) a + S1x16.size a ≤ S128x256.size a) ∧
  (∀ (k0_t19 : Fin (k0_t19_loop v15 v22).trips) (k0_t25 : Fin (k0_t25_loop v15 v22 k0_t19).trips), ∀ (r : Fin 3), ∀ a, (k0_off545 v15 v22 k0_t19 k0_t25 (BitVec.ofNat 32 (1 + r.val))) a + S1x16.size a ≤ S128x256.size a) ∧
  (∀ (k0_t19 : Fin (k0_t19_loop v15 v22).trips) (k0_t25 : Fin (k0_t25_loop v15 v22 k0_t19).trips), ∀ (r : Fin 3), ∀ a, (k0_off546 v15 v22 k0_t19 k0_t25 (BitVec.ofNat 32 (1 + r.val))) a + S1x16.size a ≤ S128x256.size a) ∧
  (∀ (k0_t19 : Fin (k0_t19_loop v15 v22).trips) (k0_t25 : Fin (k0_t25_loop v15 v22 k0_t19).trips), ∀ (r : Fin 3), ∀ a, (k0_off547 v15 v22 k0_t19 k0_t25 (BitVec.ofNat 32 (1 + r.val))) a + S1x16.size a ≤ S128x256.size a) ∧
  (∀ (k0_t19 : Fin (k0_t19_loop v15 v22).trips) (k0_t25 : Fin (k0_t25_loop v15 v22 k0_t19).trips), ∀ (r : Fin 3), ∀ a, (k0_off548 v15 v22 k0_t19 k0_t25 (BitVec.ofNat 32 (1 + r.val))) a + S1x16.size a ≤ S128x256.size a) ∧
  (∀ (k0_t19 : Fin (k0_t19_loop v15 v22).trips) (k0_t25 : Fin (k0_t25_loop v15 v22 k0_t19).trips), ∀ (r : Fin 3), ∀ a, (k0_off549 v15 v22 k0_t19 k0_t25 (BitVec.ofNat 32 (1 + r.val))) a + S1x16.size a ≤ S128x256.size a) ∧
  (∀ (k0_t19 : Fin (k0_t19_loop v15 v22).trips) (k0_t25 : Fin (k0_t25_loop v15 v22 k0_t19).trips), ∀ (r : Fin 3), ∀ a, (k0_off550 v15 v22 k0_t19 k0_t25 (BitVec.ofNat 32 (1 + r.val))) a + S1x16.size a ≤ S128x256.size a) ∧
  (∀ (k0_t19 : Fin (k0_t19_loop v15 v22).trips) (k0_t25 : Fin (k0_t25_loop v15 v22 k0_t19).trips), ∀ (r : Fin 3), ∀ a, (k0_off551 v15 v22 k0_t19 k0_t25 (BitVec.ofNat 32 (1 + r.val))) a + S1x16.size a ≤ S128x256.size a) ∧
  (∀ (k0_t19 : Fin (k0_t19_loop v15 v22).trips) (k0_t25 : Fin (k0_t25_loop v15 v22 k0_t19).trips), ∀ (r : Fin 3), ∀ a, (k0_off552 v15 v22 k0_t19 k0_t25 (BitVec.ofNat 32 (1 + r.val))) a + S1x16.size a ≤ S128x256.size a) ∧
  (∀ (k0_t19 : Fin (k0_t19_loop v15 v22).trips) (k0_t25 : Fin (k0_t25_loop v15 v22 k0_t19).trips), ∀ (r : Fin 3), ∀ a, (k0_off553 v15 v22 k0_t19 k0_t25 (BitVec.ofNat 32 (1 + r.val))) a + S1x16.size a ≤ S128x256.size a) ∧
  (∀ k0_t19 : Fin (k0_t19_loop v15 v22).trips, (k0_t26_loop v15 v22 k0_t19).OK) ∧
  (∀ (k0_t19 : Fin (k0_t19_loop v15 v22).trips) (k0_t26 : Fin (k0_t26_loop v15 v22 k0_t19).trips), ∀ a, (k0_off554 v15 v22 k0_t19 k0_t26) a + S1x16.size a ≤ S128x256.size a) ∧
  (∀ (k0_t19 : Fin (k0_t19_loop v15 v22).trips) (k0_t26 : Fin (k0_t26_loop v15 v22 k0_t19).trips), ∀ a, (k0_off555 v15 v22 k0_t19 k0_t26) a + S1x16.size a ≤ S128x256.size a) ∧
  (∀ (k0_t19 : Fin (k0_t19_loop v15 v22).trips) (k0_t26 : Fin (k0_t26_loop v15 v22 k0_t19).trips), ∀ a, (k0_off556 v15 v22 k0_t19 k0_t26) a + S1x16.size a ≤ S128x256.size a) ∧
  (∀ (k0_t19 : Fin (k0_t19_loop v15 v22).trips) (k0_t26 : Fin (k0_t26_loop v15 v22 k0_t19).trips), ∀ a, (k0_off557 v15 v22 k0_t19 k0_t26) a + S1x16.size a ≤ S128x256.size a) ∧
  (∀ (k0_t19 : Fin (k0_t19_loop v15 v22).trips) (k0_t26 : Fin (k0_t26_loop v15 v22 k0_t19).trips), ∀ a, (k0_off558 v15 v22 k0_t19 k0_t26) a + S1x16.size a ≤ S128x256.size a) ∧
  (∀ (k0_t19 : Fin (k0_t19_loop v15 v22).trips) (k0_t26 : Fin (k0_t26_loop v15 v22 k0_t19).trips), ∀ a, (k0_off559 v15 v22 k0_t19 k0_t26) a + S1x16.size a ≤ S128x256.size a) ∧
  (∀ (k0_t19 : Fin (k0_t19_loop v15 v22).trips) (k0_t26 : Fin (k0_t26_loop v15 v22 k0_t19).trips), ∀ a, (k0_off560 v15 v22 k0_t19 k0_t26) a + S1x16.size a ≤ S128x256.size a) ∧
  (∀ (k0_t19 : Fin (k0_t19_loop v15 v22).trips) (k0_t26 : Fin (k0_t26_loop v15 v22 k0_t19).trips), ∀ a, (k0_off561 v15 v22 k0_t19 k0_t26) a + S1x16.size a ≤ S128x256.size a) ∧
  (∀ (k0_t19 : Fin (k0_t19_loop v15 v22).trips) (k0_t26 : Fin (k0_t26_loop v15 v22 k0_t19).trips), ∀ a, (k0_off562 v15 v22 k0_t19 k0_t26) a + S1x16.size a ≤ S128x256.size a) ∧
  (∀ (k0_t19 : Fin (k0_t19_loop v15 v22).trips) (k0_t26 : Fin (k0_t26_loop v15 v22 k0_t19).trips), ∀ a, (k0_off563 v15 v22 k0_t19 k0_t26) a + S1x16.size a ≤ S128x256.size a) ∧
  (∀ (k0_t19 : Fin (k0_t19_loop v15 v22).trips) (k0_t26 : Fin (k0_t26_loop v15 v22 k0_t19).trips), ∀ a, (k0_off564 v15 v22 k0_t19 k0_t26) a + S1x16.size a ≤ S128x256.size a) ∧
  (∀ (k0_t19 : Fin (k0_t19_loop v15 v22).trips) (k0_t26 : Fin (k0_t26_loop v15 v22 k0_t19).trips), ∀ a, (k0_off565 v15 v22 k0_t19 k0_t26) a + S1x16.size a ≤ S128x256.size a) ∧
  (∀ (k0_t19 : Fin (k0_t19_loop v15 v22).trips) (k0_t26 : Fin (k0_t26_loop v15 v22 k0_t19).trips), ∀ a, (k0_off566 v15 v22 k0_t19 k0_t26) a + S1x16.size a ≤ S128x256.size a) ∧
  (∀ (k0_t19 : Fin (k0_t19_loop v15 v22).trips) (k0_t26 : Fin (k0_t26_loop v15 v22 k0_t19).trips), ∀ a, (k0_off567 v15 v22 k0_t19 k0_t26) a + S1x16.size a ≤ S128x256.size a) ∧
  (∀ (k0_t19 : Fin (k0_t19_loop v15 v22).trips) (k0_t26 : Fin (k0_t26_loop v15 v22 k0_t19).trips), ∀ a, (k0_off568 v15 v22 k0_t19 k0_t26) a + S1x16.size a ≤ S128x256.size a) ∧
  (∀ (k0_t19 : Fin (k0_t19_loop v15 v22).trips) (k0_t26 : Fin (k0_t26_loop v15 v22 k0_t19).trips), ∀ a, (k0_off569 v15 v22 k0_t19 k0_t26) a + S1x16.size a ≤ S128x256.size a) ∧
  (∀ k0_t19 : Fin (k0_t19_loop v15 v22).trips, (k0_t27_loop v15 v22 k0_t19).OK) ∧
  (∀ (k0_t19 : Fin (k0_t19_loop v15 v22).trips) (k0_t27 : Fin (k0_t27_loop v15 v22 k0_t19).trips), ∀ a, (k0_off570 v15 v22 k0_t19 k0_t27) a + S1x16.size a ≤ S128x256.size a)
def k0_chk3_6 (v15 : BitVec 32) (v22 : BitVec 32) : Prop :=
  (∀ (k0_t19 : Fin (k0_t19_loop v15 v22).trips) (k0_t27 : Fin (k0_t27_loop v15 v22 k0_t19).trips), ∀ a, (k0_off571 v15 v22 k0_t19 k0_t27) a + S1x16.size a ≤ S128x256.size a) ∧
  (∀ (k0_t19 : Fin (k0_t19_loop v15 v22).trips) (k0_t27 : Fin (k0_t27_loop v15 v22 k0_t19).trips), ∀ a, (k0_off572 v15 v22 k0_t19 k0_t27) a + S1x16.size a ≤ S128x256.size a) ∧
  (∀ (k0_t19 : Fin (k0_t19_loop v15 v22).trips) (k0_t27 : Fin (k0_t27_loop v15 v22 k0_t19).trips), ∀ a, (k0_off573 v15 v22 k0_t19 k0_t27) a + S1x16.size a ≤ S128x256.size a) ∧
  (∀ (k0_t19 : Fin (k0_t19_loop v15 v22).trips) (k0_t27 : Fin (k0_t27_loop v15 v22 k0_t19).trips), ∀ a, (k0_off574 v15 v22 k0_t19 k0_t27) a + S1x16.size a ≤ S128x256.size a) ∧
  (∀ (k0_t19 : Fin (k0_t19_loop v15 v22).trips) (k0_t27 : Fin (k0_t27_loop v15 v22 k0_t19).trips), ∀ a, (k0_off575 v15 v22 k0_t19 k0_t27) a + S1x16.size a ≤ S128x256.size a) ∧
  (∀ (k0_t19 : Fin (k0_t19_loop v15 v22).trips) (k0_t27 : Fin (k0_t27_loop v15 v22 k0_t19).trips), ∀ a, (k0_off576 v15 v22 k0_t19 k0_t27) a + S1x16.size a ≤ S128x256.size a) ∧
  (∀ (k0_t19 : Fin (k0_t19_loop v15 v22).trips) (k0_t27 : Fin (k0_t27_loop v15 v22 k0_t19).trips), ∀ a, (k0_off577 v15 v22 k0_t19 k0_t27) a + S1x16.size a ≤ S128x256.size a) ∧
  (∀ (k0_t19 : Fin (k0_t19_loop v15 v22).trips) (k0_t27 : Fin (k0_t27_loop v15 v22 k0_t19).trips), ∀ a, (k0_off578 v15 v22 k0_t19 k0_t27) a + S1x16.size a ≤ S128x256.size a) ∧
  (∀ (k0_t19 : Fin (k0_t19_loop v15 v22).trips) (k0_t27 : Fin (k0_t27_loop v15 v22 k0_t19).trips), ∀ a, (k0_off579 v15 v22 k0_t19 k0_t27) a + S1x16.size a ≤ S128x256.size a) ∧
  (∀ (k0_t19 : Fin (k0_t19_loop v15 v22).trips) (k0_t27 : Fin (k0_t27_loop v15 v22 k0_t19).trips), ∀ a, (k0_off580 v15 v22 k0_t19 k0_t27) a + S1x16.size a ≤ S128x256.size a) ∧
  (∀ (k0_t19 : Fin (k0_t19_loop v15 v22).trips) (k0_t27 : Fin (k0_t27_loop v15 v22 k0_t19).trips), ∀ a, (k0_off581 v15 v22 k0_t19 k0_t27) a + S1x16.size a ≤ S128x256.size a) ∧
  (∀ (k0_t19 : Fin (k0_t19_loop v15 v22).trips) (k0_t27 : Fin (k0_t27_loop v15 v22 k0_t19).trips), ∀ a, (k0_off582 v15 v22 k0_t19 k0_t27) a + S1x16.size a ≤ S128x256.size a) ∧
  (∀ (k0_t19 : Fin (k0_t19_loop v15 v22).trips) (k0_t27 : Fin (k0_t27_loop v15 v22 k0_t19).trips), ∀ a, (k0_off583 v15 v22 k0_t19 k0_t27) a + S1x16.size a ≤ S128x256.size a) ∧
  (∀ (k0_t19 : Fin (k0_t19_loop v15 v22).trips) (k0_t27 : Fin (k0_t27_loop v15 v22 k0_t19).trips), ∀ a, (k0_off584 v15 v22 k0_t19 k0_t27) a + S1x16.size a ≤ S128x256.size a) ∧
  (∀ (k0_t19 : Fin (k0_t19_loop v15 v22).trips) (k0_t27 : Fin (k0_t27_loop v15 v22 k0_t19).trips), ∀ a, (k0_off585 v15 v22 k0_t19 k0_t27) a + S1x16.size a ≤ S128x256.size a) ∧
  ((k0_t28_loop v15 v22).OK) ∧
  (∀ k0_t28 : Fin (k0_t28_loop v15 v22).trips, 8 ∣ (k0_mult15 v15 v22 k0_t28).toNat) ∧
  (∀ k0_t28 : Fin (k0_t28_loop v15 v22).trips, ∀ a, (k0_off586 v15 v22 k0_t28) a + S128x256.size a ≤ S50000x256.size a) ∧
  (∀ k0_t28 : Fin (k0_t28_loop v15 v22).trips, 8 ∣ (k0_mult16 v15 v22 k0_t28).toNat) ∧
  (∀ k0_t28 : Fin (k0_t28_loop v15 v22).trips, (k0_t29_loop v15 v22 k0_t28).OK) ∧
  (∀ (k0_t28 : Fin (k0_t28_loop v15 v22).trips) (k0_t29 : Fin (k0_t29_loop v15 v22 k0_t28).trips), ∀ a, (k0_off587 v15 v22 k0_t28 k0_t29) a + S1x16.size a ≤ S128x256.size a) ∧
  (∀ (k0_t28 : Fin (k0_t28_loop v15 v22).trips) (k0_t29 : Fin (k0_t29_loop v15 v22 k0_t28).trips), ∀ a, (k0_off588 v15 v22 k0_t28 k0_t29) a + S1x16.size a ≤ S128x256.size a) ∧
  (∀ (k0_t28 : Fin (k0_t28_loop v15 v22).trips) (k0_t29 : Fin (k0_t29_loop v15 v22 k0_t28).trips), ∀ a, (k0_off589 v15 v22 k0_t28 k0_t29) a + S1x16.size a ≤ S128x256.size a) ∧
  (∀ (k0_t28 : Fin (k0_t28_loop v15 v22).trips) (k0_t29 : Fin (k0_t29_loop v15 v22 k0_t28).trips), ∀ a, (k0_off590 v15 v22 k0_t28 k0_t29) a + S1x16.size a ≤ S128x256.size a) ∧
  (∀ (k0_t28 : Fin (k0_t28_loop v15 v22).trips) (k0_t29 : Fin (k0_t29_loop v15 v22 k0_t28).trips), ∀ a, (k0_off591 v15 v22 k0_t28 k0_t29) a + S1x16.size a ≤ S128x256.size a) ∧
  (∀ (k0_t28 : Fin (k0_t28_loop v15 v22).trips) (k0_t29 : Fin (k0_t29_loop v15 v22 k0_t28).trips), ∀ a, (k0_off592 v15 v22 k0_t28 k0_t29) a + S1x16.size a ≤ S128x256.size a) ∧
  (∀ (k0_t28 : Fin (k0_t28_loop v15 v22).trips) (k0_t29 : Fin (k0_t29_loop v15 v22 k0_t28).trips), ∀ a, (k0_off593 v15 v22 k0_t28 k0_t29) a + S1x16.size a ≤ S128x256.size a) ∧
  (∀ (k0_t28 : Fin (k0_t28_loop v15 v22).trips) (k0_t29 : Fin (k0_t29_loop v15 v22 k0_t28).trips), ∀ a, (k0_off594 v15 v22 k0_t28 k0_t29) a + S1x16.size a ≤ S128x256.size a) ∧
  (∀ (k0_t28 : Fin (k0_t28_loop v15 v22).trips) (k0_t29 : Fin (k0_t29_loop v15 v22 k0_t28).trips), ∀ a, (k0_off595 v15 v22 k0_t28 k0_t29) a + S1x16.size a ≤ S128x256.size a) ∧
  (∀ (k0_t28 : Fin (k0_t28_loop v15 v22).trips) (k0_t29 : Fin (k0_t29_loop v15 v22 k0_t28).trips), ∀ a, (k0_off596 v15 v22 k0_t28 k0_t29) a + S1x16.size a ≤ S128x256.size a) ∧
  (∀ (k0_t28 : Fin (k0_t28_loop v15 v22).trips) (k0_t29 : Fin (k0_t29_loop v15 v22 k0_t28).trips), ∀ a, (k0_off597 v15 v22 k0_t28 k0_t29) a + S1x16.size a ≤ S128x256.size a) ∧
  (∀ (k0_t28 : Fin (k0_t28_loop v15 v22).trips) (k0_t29 : Fin (k0_t29_loop v15 v22 k0_t28).trips), ∀ a, (k0_off598 v15 v22 k0_t28 k0_t29) a + S1x16.size a ≤ S128x256.size a)
def k0_chk3_7 (v15 : BitVec 32) (v22 : BitVec 32) : Prop :=
  (∀ (k0_t28 : Fin (k0_t28_loop v15 v22).trips) (k0_t29 : Fin (k0_t29_loop v15 v22 k0_t28).trips), ∀ a, (k0_off599 v15 v22 k0_t28 k0_t29) a + S1x16.size a ≤ S128x256.size a) ∧
  (∀ (k0_t28 : Fin (k0_t28_loop v15 v22).trips) (k0_t29 : Fin (k0_t29_loop v15 v22 k0_t28).trips), ∀ a, (k0_off600 v15 v22 k0_t28 k0_t29) a + S1x16.size a ≤ S128x256.size a) ∧
  (∀ (k0_t28 : Fin (k0_t28_loop v15 v22).trips) (k0_t29 : Fin (k0_t29_loop v15 v22 k0_t28).trips), ∀ a, (k0_off601 v15 v22 k0_t28 k0_t29) a + S1x16.size a ≤ S128x256.size a) ∧
  (∀ (k0_t28 : Fin (k0_t28_loop v15 v22).trips) (k0_t29 : Fin (k0_t29_loop v15 v22 k0_t28).trips), ∀ a, (k0_off602 v15 v22 k0_t28 k0_t29) a + S1x16.size a ≤ S128x256.size a) ∧
  (∀ (k0_t28 : Fin (k0_t28_loop v15 v22).trips) (k0_t29 : Fin (k0_t29_loop v15 v22 k0_t28).trips), ∀ (r : Fin 3), ∀ a, (k0_off603 v15 v22 k0_t28 k0_t29 (BitVec.ofNat 32 (1 + r.val))) a + S1x16.size a ≤ S128x256.size a) ∧
  (∀ (k0_t28 : Fin (k0_t28_loop v15 v22).trips) (k0_t29 : Fin (k0_t29_loop v15 v22 k0_t28).trips), ∀ (r : Fin 3), ∀ a, (k0_off604 v15 v22 k0_t28 k0_t29 (BitVec.ofNat 32 (1 + r.val))) a + S1x16.size a ≤ S128x256.size a) ∧
  (∀ (k0_t28 : Fin (k0_t28_loop v15 v22).trips) (k0_t29 : Fin (k0_t29_loop v15 v22 k0_t28).trips), ∀ (r : Fin 3), ∀ a, (k0_off605 v15 v22 k0_t28 k0_t29 (BitVec.ofNat 32 (1 + r.val))) a + S1x16.size a ≤ S128x256.size a) ∧
  (∀ (k0_t28 : Fin (k0_t28_loop v15 v22).trips) (k0_t29 : Fin (k0_t29_loop v15 v22 k0_t28).trips), ∀ (r : Fin 3), ∀ a, (k0_off606 v15 v22 k0_t28 k0_t29 (BitVec.ofNat 32 (1 + r.val))) a + S1x16.size a ≤ S128x256.size a) ∧
  (∀ (k0_t28 : Fin (k0_t28_loop v15 v22).trips) (k0_t29 : Fin (k0_t29_loop v15 v22 k0_t28).trips), ∀ (r : Fin 3), ∀ a, (k0_off607 v15 v22 k0_t28 k0_t29 (BitVec.ofNat 32 (1 + r.val))) a + S1x16.size a ≤ S128x256.size a) ∧
  (∀ (k0_t28 : Fin (k0_t28_loop v15 v22).trips) (k0_t29 : Fin (k0_t29_loop v15 v22 k0_t28).trips), ∀ (r : Fin 3), ∀ a, (k0_off608 v15 v22 k0_t28 k0_t29 (BitVec.ofNat 32 (1 + r.val))) a + S1x16.size a ≤ S128x256.size a) ∧
  (∀ (k0_t28 : Fin (k0_t28_loop v15 v22).trips) (k0_t29 : Fin (k0_t29_loop v15 v22 k0_t28).trips), ∀ (r : Fin 3), ∀ a, (k0_off609 v15 v22 k0_t28 k0_t29 (BitVec.ofNat 32 (1 + r.val))) a + S1x16.size a ≤ S128x256.size a) ∧
  (∀ (k0_t28 : Fin (k0_t28_loop v15 v22).trips) (k0_t29 : Fin (k0_t29_loop v15 v22 k0_t28).trips), ∀ (r : Fin 3), ∀ a, (k0_off610 v15 v22 k0_t28 k0_t29 (BitVec.ofNat 32 (1 + r.val))) a + S1x16.size a ≤ S128x256.size a) ∧
  (∀ (k0_t28 : Fin (k0_t28_loop v15 v22).trips) (k0_t29 : Fin (k0_t29_loop v15 v22 k0_t28).trips), ∀ (r : Fin 3), ∀ a, (k0_off611 v15 v22 k0_t28 k0_t29 (BitVec.ofNat 32 (1 + r.val))) a + S1x16.size a ≤ S128x256.size a) ∧
  (∀ (k0_t28 : Fin (k0_t28_loop v15 v22).trips) (k0_t29 : Fin (k0_t29_loop v15 v22 k0_t28).trips), ∀ (r : Fin 3), ∀ a, (k0_off612 v15 v22 k0_t28 k0_t29 (BitVec.ofNat 32 (1 + r.val))) a + S1x16.size a ≤ S128x256.size a) ∧
  (∀ (k0_t28 : Fin (k0_t28_loop v15 v22).trips) (k0_t29 : Fin (k0_t29_loop v15 v22 k0_t28).trips), ∀ (r : Fin 3), ∀ a, (k0_off613 v15 v22 k0_t28 k0_t29 (BitVec.ofNat 32 (1 + r.val))) a + S1x16.size a ≤ S128x256.size a) ∧
  (∀ (k0_t28 : Fin (k0_t28_loop v15 v22).trips) (k0_t29 : Fin (k0_t29_loop v15 v22 k0_t28).trips), ∀ (r : Fin 3), ∀ a, (k0_off614 v15 v22 k0_t28 k0_t29 (BitVec.ofNat 32 (1 + r.val))) a + S1x16.size a ≤ S128x256.size a) ∧
  (∀ (k0_t28 : Fin (k0_t28_loop v15 v22).trips) (k0_t29 : Fin (k0_t29_loop v15 v22 k0_t28).trips), ∀ (r : Fin 3), ∀ a, (k0_off615 v15 v22 k0_t28 k0_t29 (BitVec.ofNat 32 (1 + r.val))) a + S1x16.size a ≤ S128x256.size a) ∧
  (∀ (k0_t28 : Fin (k0_t28_loop v15 v22).trips) (k0_t29 : Fin (k0_t29_loop v15 v22 k0_t28).trips), ∀ (r : Fin 3), ∀ a, (k0_off616 v15 v22 k0_t28 k0_t29 (BitVec.ofNat 32 (1 + r.val))) a + S1x16.size a ≤ S128x256.size a) ∧
  (∀ (k0_t28 : Fin (k0_t28_loop v15 v22).trips) (k0_t29 : Fin (k0_t29_loop v15 v22 k0_t28).trips), ∀ (r : Fin 3), ∀ a, (k0_off617 v15 v22 k0_t28 k0_t29 (BitVec.ofNat 32 (1 + r.val))) a + S1x16.size a ≤ S128x256.size a) ∧
  (∀ (k0_t28 : Fin (k0_t28_loop v15 v22).trips) (k0_t29 : Fin (k0_t29_loop v15 v22 k0_t28).trips), ∀ (r : Fin 3), ∀ a, (k0_off618 v15 v22 k0_t28 k0_t29 (BitVec.ofNat 32 (1 + r.val))) a + S1x16.size a ≤ S128x256.size a) ∧
  (∀ k0_t28 : Fin (k0_t28_loop v15 v22).trips, (k0_t30_loop v15 v22 k0_t28).OK) ∧
  (∀ (k0_t28 : Fin (k0_t28_loop v15 v22).trips) (k0_t30 : Fin (k0_t30_loop v15 v22 k0_t28).trips), ∀ a, (k0_off619 v15 v22 k0_t28 k0_t30) a + S1x16.size a ≤ S128x256.size a) ∧
  (∀ (k0_t28 : Fin (k0_t28_loop v15 v22).trips) (k0_t30 : Fin (k0_t30_loop v15 v22 k0_t28).trips), ∀ a, (k0_off620 v15 v22 k0_t28 k0_t30) a + S1x16.size a ≤ S128x256.size a) ∧
  (∀ (k0_t28 : Fin (k0_t28_loop v15 v22).trips) (k0_t30 : Fin (k0_t30_loop v15 v22 k0_t28).trips), ∀ a, (k0_off621 v15 v22 k0_t28 k0_t30) a + S1x16.size a ≤ S128x256.size a) ∧
  (∀ (k0_t28 : Fin (k0_t28_loop v15 v22).trips) (k0_t30 : Fin (k0_t30_loop v15 v22 k0_t28).trips), ∀ a, (k0_off622 v15 v22 k0_t28 k0_t30) a + S1x16.size a ≤ S128x256.size a) ∧
  (∀ (k0_t28 : Fin (k0_t28_loop v15 v22).trips) (k0_t30 : Fin (k0_t30_loop v15 v22 k0_t28).trips), ∀ a, (k0_off623 v15 v22 k0_t28 k0_t30) a + S1x16.size a ≤ S128x256.size a) ∧
  (∀ (k0_t28 : Fin (k0_t28_loop v15 v22).trips) (k0_t30 : Fin (k0_t30_loop v15 v22 k0_t28).trips), ∀ a, (k0_off624 v15 v22 k0_t28 k0_t30) a + S1x16.size a ≤ S128x256.size a) ∧
  (∀ (k0_t28 : Fin (k0_t28_loop v15 v22).trips) (k0_t30 : Fin (k0_t30_loop v15 v22 k0_t28).trips), ∀ a, (k0_off625 v15 v22 k0_t28 k0_t30) a + S1x16.size a ≤ S128x256.size a) ∧
  (∀ (k0_t28 : Fin (k0_t28_loop v15 v22).trips) (k0_t30 : Fin (k0_t30_loop v15 v22 k0_t28).trips), ∀ a, (k0_off626 v15 v22 k0_t28 k0_t30) a + S1x16.size a ≤ S128x256.size a) ∧
  (∀ (k0_t28 : Fin (k0_t28_loop v15 v22).trips) (k0_t30 : Fin (k0_t30_loop v15 v22 k0_t28).trips), ∀ a, (k0_off627 v15 v22 k0_t28 k0_t30) a + S1x16.size a ≤ S128x256.size a) ∧
  (∀ (k0_t28 : Fin (k0_t28_loop v15 v22).trips) (k0_t30 : Fin (k0_t30_loop v15 v22 k0_t28).trips), ∀ a, (k0_off628 v15 v22 k0_t28 k0_t30) a + S1x16.size a ≤ S128x256.size a) ∧
  (∀ (k0_t28 : Fin (k0_t28_loop v15 v22).trips) (k0_t30 : Fin (k0_t30_loop v15 v22 k0_t28).trips), ∀ a, (k0_off629 v15 v22 k0_t28 k0_t30) a + S1x16.size a ≤ S128x256.size a)
def k0_chk3_8 (v15 : BitVec 32) (v22 : BitVec 32) : Prop :=
  (∀ (k0_t28 : Fin (k0_t28_loop v15 v22).trips) (k0_t30 : Fin (k0_t30_loop v15 v22 k0_t28).trips), ∀ a, (k0_off630 v15 v22 k0_t28 k0_t30) a + S1x16.size a ≤ S128x256.size a) ∧
  (∀ (k0_t28 : Fin (k0_t28_loop v15 v22).trips) (k0_t30 : Fin (k0_t30_loop v15 v22 k0_t28).trips), ∀ a, (k0_off631 v15 v22 k0_t28 k0_t30) a + S1x16.size a ≤ S128x256.size a) ∧
  (∀ (k0_t28 : Fin (k0_t28_loop v15 v22).trips) (k0_t30 : Fin (k0_t30_loop v15 v22 k0_t28).trips), ∀ a, (k0_off632 v15 v22 k0_t28 k0_t30) a + S1x16.size a ≤ S128x256.size a) ∧
  (∀ (k0_t28 : Fin (k0_t28_loop v15 v22).trips) (k0_t30 : Fin (k0_t30_loop v15 v22 k0_t28).trips), ∀ a, (k0_off633 v15 v22 k0_t28 k0_t30) a + S1x16.size a ≤ S128x256.size a) ∧
  (∀ (k0_t28 : Fin (k0_t28_loop v15 v22).trips) (k0_t30 : Fin (k0_t30_loop v15 v22 k0_t28).trips), ∀ a, (k0_off634 v15 v22 k0_t28 k0_t30) a + S1x16.size a ≤ S128x256.size a) ∧
  (∀ (k0_t28 : Fin (k0_t28_loop v15 v22).trips) (k0_t30 : Fin (k0_t30_loop v15 v22 k0_t28).trips), ∀ (r : Fin 3), ∀ a, (k0_off635 v15 v22 k0_t28 k0_t30 (BitVec.ofNat 32 (1 + r.val))) a + S1x16.size a ≤ S128x256.size a) ∧
  (∀ (k0_t28 : Fin (k0_t28_loop v15 v22).trips) (k0_t30 : Fin (k0_t30_loop v15 v22 k0_t28).trips), ∀ (r : Fin 3), ∀ a, (k0_off636 v15 v22 k0_t28 k0_t30 (BitVec.ofNat 32 (1 + r.val))) a + S1x16.size a ≤ S128x256.size a) ∧
  (∀ (k0_t28 : Fin (k0_t28_loop v15 v22).trips) (k0_t30 : Fin (k0_t30_loop v15 v22 k0_t28).trips), ∀ (r : Fin 3), ∀ a, (k0_off637 v15 v22 k0_t28 k0_t30 (BitVec.ofNat 32 (1 + r.val))) a + S1x16.size a ≤ S128x256.size a) ∧
  (∀ (k0_t28 : Fin (k0_t28_loop v15 v22).trips) (k0_t30 : Fin (k0_t30_loop v15 v22 k0_t28).trips), ∀ (r : Fin 3), ∀ a, (k0_off638 v15 v22 k0_t28 k0_t30 (BitVec.ofNat 32 (1 + r.val))) a + S1x16.size a ≤ S128x256.size a) ∧
  (∀ (k0_t28 : Fin (k0_t28_loop v15 v22).trips) (k0_t30 : Fin (k0_t30_loop v15 v22 k0_t28).trips), ∀ (r : Fin 3), ∀ a, (k0_off639 v15 v22 k0_t28 k0_t30 (BitVec.ofNat 32 (1 + r.val))) a + S1x16.size a ≤ S128x256.size a) ∧
  (∀ (k0_t28 : Fin (k0_t28_loop v15 v22).trips) (k0_t30 : Fin (k0_t30_loop v15 v22 k0_t28).trips), ∀ (r : Fin 3), ∀ a, (k0_off640 v15 v22 k0_t28 k0_t30 (BitVec.ofNat 32 (1 + r.val))) a + S1x16.size a ≤ S128x256.size a) ∧
  (∀ (k0_t28 : Fin (k0_t28_loop v15 v22).trips) (k0_t30 : Fin (k0_t30_loop v15 v22 k0_t28).trips), ∀ (r : Fin 3), ∀ a, (k0_off641 v15 v22 k0_t28 k0_t30 (BitVec.ofNat 32 (1 + r.val))) a + S1x16.size a ≤ S128x256.size a) ∧
  (∀ (k0_t28 : Fin (k0_t28_loop v15 v22).trips) (k0_t30 : Fin (k0_t30_loop v15 v22 k0_t28).trips), ∀ (r : Fin 3), ∀ a, (k0_off642 v15 v22 k0_t28 k0_t30 (BitVec.ofNat 32 (1 + r.val))) a + S1x16.size a ≤ S128x256.size a) ∧
  (∀ (k0_t28 : Fin (k0_t28_loop v15 v22).trips) (k0_t30 : Fin (k0_t30_loop v15 v22 k0_t28).trips), ∀ (r : Fin 3), ∀ a, (k0_off643 v15 v22 k0_t28 k0_t30 (BitVec.ofNat 32 (1 + r.val))) a + S1x16.size a ≤ S128x256.size a) ∧
  (∀ (k0_t28 : Fin (k0_t28_loop v15 v22).trips) (k0_t30 : Fin (k0_t30_loop v15 v22 k0_t28).trips), ∀ (r : Fin 3), ∀ a, (k0_off644 v15 v22 k0_t28 k0_t30 (BitVec.ofNat 32 (1 + r.val))) a + S1x16.size a ≤ S128x256.size a) ∧
  (∀ (k0_t28 : Fin (k0_t28_loop v15 v22).trips) (k0_t30 : Fin (k0_t30_loop v15 v22 k0_t28).trips), ∀ (r : Fin 3), ∀ a, (k0_off645 v15 v22 k0_t28 k0_t30 (BitVec.ofNat 32 (1 + r.val))) a + S1x16.size a ≤ S128x256.size a) ∧
  (∀ (k0_t28 : Fin (k0_t28_loop v15 v22).trips) (k0_t30 : Fin (k0_t30_loop v15 v22 k0_t28).trips), ∀ (r : Fin 3), ∀ a, (k0_off646 v15 v22 k0_t28 k0_t30 (BitVec.ofNat 32 (1 + r.val))) a + S1x16.size a ≤ S128x256.size a) ∧
  (∀ (k0_t28 : Fin (k0_t28_loop v15 v22).trips) (k0_t30 : Fin (k0_t30_loop v15 v22 k0_t28).trips), ∀ (r : Fin 3), ∀ a, (k0_off647 v15 v22 k0_t28 k0_t30 (BitVec.ofNat 32 (1 + r.val))) a + S1x16.size a ≤ S128x256.size a) ∧
  (∀ (k0_t28 : Fin (k0_t28_loop v15 v22).trips) (k0_t30 : Fin (k0_t30_loop v15 v22 k0_t28).trips), ∀ (r : Fin 3), ∀ a, (k0_off648 v15 v22 k0_t28 k0_t30 (BitVec.ofNat 32 (1 + r.val))) a + S1x16.size a ≤ S128x256.size a) ∧
  (∀ (k0_t28 : Fin (k0_t28_loop v15 v22).trips) (k0_t30 : Fin (k0_t30_loop v15 v22 k0_t28).trips), ∀ (r : Fin 3), ∀ a, (k0_off649 v15 v22 k0_t28 k0_t30 (BitVec.ofNat 32 (1 + r.val))) a + S1x16.size a ≤ S128x256.size a) ∧
  (∀ (k0_t28 : Fin (k0_t28_loop v15 v22).trips) (k0_t30 : Fin (k0_t30_loop v15 v22 k0_t28).trips), ∀ (r : Fin 3), ∀ a, (k0_off650 v15 v22 k0_t28 k0_t30 (BitVec.ofNat 32 (1 + r.val))) a + S1x16.size a ≤ S128x256.size a) ∧
  (∀ k0_t28 : Fin (k0_t28_loop v15 v22).trips, (k0_t31_loop v15 v22 k0_t28).OK) ∧
  (∀ (k0_t28 : Fin (k0_t28_loop v15 v22).trips) (k0_t31 : Fin (k0_t31_loop v15 v22 k0_t28).trips), ∀ a, (k0_off651 v15 v22 k0_t28 k0_t31) a + S1x16.size a ≤ S128x256.size a) ∧
  (∀ (k0_t28 : Fin (k0_t28_loop v15 v22).trips) (k0_t31 : Fin (k0_t31_loop v15 v22 k0_t28).trips), ∀ a, (k0_off652 v15 v22 k0_t28 k0_t31) a + S1x16.size a ≤ S128x256.size a) ∧
  (∀ (k0_t28 : Fin (k0_t28_loop v15 v22).trips) (k0_t31 : Fin (k0_t31_loop v15 v22 k0_t28).trips), ∀ a, (k0_off653 v15 v22 k0_t28 k0_t31) a + S1x16.size a ≤ S128x256.size a) ∧
  (∀ (k0_t28 : Fin (k0_t28_loop v15 v22).trips) (k0_t31 : Fin (k0_t31_loop v15 v22 k0_t28).trips), ∀ a, (k0_off654 v15 v22 k0_t28 k0_t31) a + S1x16.size a ≤ S128x256.size a) ∧
  (∀ (k0_t28 : Fin (k0_t28_loop v15 v22).trips) (k0_t31 : Fin (k0_t31_loop v15 v22 k0_t28).trips), ∀ a, (k0_off655 v15 v22 k0_t28 k0_t31) a + S1x16.size a ≤ S128x256.size a) ∧
  (∀ (k0_t28 : Fin (k0_t28_loop v15 v22).trips) (k0_t31 : Fin (k0_t31_loop v15 v22 k0_t28).trips), ∀ a, (k0_off656 v15 v22 k0_t28 k0_t31) a + S1x16.size a ≤ S128x256.size a) ∧
  (∀ (k0_t28 : Fin (k0_t28_loop v15 v22).trips) (k0_t31 : Fin (k0_t31_loop v15 v22 k0_t28).trips), ∀ a, (k0_off657 v15 v22 k0_t28 k0_t31) a + S1x16.size a ≤ S128x256.size a) ∧
  (∀ (k0_t28 : Fin (k0_t28_loop v15 v22).trips) (k0_t31 : Fin (k0_t31_loop v15 v22 k0_t28).trips), ∀ a, (k0_off658 v15 v22 k0_t28 k0_t31) a + S1x16.size a ≤ S128x256.size a) ∧
  (∀ (k0_t28 : Fin (k0_t28_loop v15 v22).trips) (k0_t31 : Fin (k0_t31_loop v15 v22 k0_t28).trips), ∀ a, (k0_off659 v15 v22 k0_t28 k0_t31) a + S1x16.size a ≤ S128x256.size a) ∧
  (∀ (k0_t28 : Fin (k0_t28_loop v15 v22).trips) (k0_t31 : Fin (k0_t31_loop v15 v22 k0_t28).trips), ∀ a, (k0_off660 v15 v22 k0_t28 k0_t31) a + S1x16.size a ≤ S128x256.size a)
def k0_chk3_9 (v15 : BitVec 32) (v22 : BitVec 32) : Prop :=
  (∀ (k0_t28 : Fin (k0_t28_loop v15 v22).trips) (k0_t31 : Fin (k0_t31_loop v15 v22 k0_t28).trips), ∀ a, (k0_off661 v15 v22 k0_t28 k0_t31) a + S1x16.size a ≤ S128x256.size a) ∧
  (∀ (k0_t28 : Fin (k0_t28_loop v15 v22).trips) (k0_t31 : Fin (k0_t31_loop v15 v22 k0_t28).trips), ∀ a, (k0_off662 v15 v22 k0_t28 k0_t31) a + S1x16.size a ≤ S128x256.size a) ∧
  (∀ (k0_t28 : Fin (k0_t28_loop v15 v22).trips) (k0_t31 : Fin (k0_t31_loop v15 v22 k0_t28).trips), ∀ a, (k0_off663 v15 v22 k0_t28 k0_t31) a + S1x16.size a ≤ S128x256.size a) ∧
  (∀ (k0_t28 : Fin (k0_t28_loop v15 v22).trips) (k0_t31 : Fin (k0_t31_loop v15 v22 k0_t28).trips), ∀ a, (k0_off664 v15 v22 k0_t28 k0_t31) a + S1x16.size a ≤ S128x256.size a) ∧
  (∀ (k0_t28 : Fin (k0_t28_loop v15 v22).trips) (k0_t31 : Fin (k0_t31_loop v15 v22 k0_t28).trips), ∀ a, (k0_off665 v15 v22 k0_t28 k0_t31) a + S1x16.size a ≤ S128x256.size a) ∧
  (∀ (k0_t28 : Fin (k0_t28_loop v15 v22).trips) (k0_t31 : Fin (k0_t31_loop v15 v22 k0_t28).trips), ∀ a, (k0_off666 v15 v22 k0_t28 k0_t31) a + S1x16.size a ≤ S128x256.size a) ∧
  (∀ k0_t28 : Fin (k0_t28_loop v15 v22).trips, (k0_t32_loop v15 v22 k0_t28).OK) ∧
  (∀ (k0_t28 : Fin (k0_t28_loop v15 v22).trips) (k0_t32 : Fin (k0_t32_loop v15 v22 k0_t28).trips), ∀ a, (k0_off667 v15 v22 k0_t28 k0_t32) a + S1x16.size a ≤ S128x256.size a) ∧
  (∀ (k0_t28 : Fin (k0_t28_loop v15 v22).trips) (k0_t32 : Fin (k0_t32_loop v15 v22 k0_t28).trips), ∀ a, (k0_off668 v15 v22 k0_t28 k0_t32) a + S1x16.size a ≤ S128x256.size a) ∧
  (∀ (k0_t28 : Fin (k0_t28_loop v15 v22).trips) (k0_t32 : Fin (k0_t32_loop v15 v22 k0_t28).trips), ∀ a, (k0_off669 v15 v22 k0_t28 k0_t32) a + S1x16.size a ≤ S128x256.size a) ∧
  (∀ (k0_t28 : Fin (k0_t28_loop v15 v22).trips) (k0_t32 : Fin (k0_t32_loop v15 v22 k0_t28).trips), ∀ a, (k0_off670 v15 v22 k0_t28 k0_t32) a + S1x16.size a ≤ S128x256.size a) ∧
  (∀ (k0_t28 : Fin (k0_t28_loop v15 v22).trips) (k0_t32 : Fin (k0_t32_loop v15 v22 k0_t28).trips), ∀ a, (k0_off671 v15 v22 k0_t28 k0_t32) a + S1x16.size a ≤ S128x256.size a) ∧
  (∀ (k0_t28 : Fin (k0_t28_loop v15 v22).trips) (k0_t32 : Fin (k0_t32_loop v15 v22 k0_t28).trips), ∀ a, (k0_off672 v15 v22 k0_t28 k0_t32) a + S1x16.size a ≤ S128x256.size a) ∧
  (∀ (k0_t28 : Fin (k0_t28_loop v15 v22).trips) (k0_t32 : Fin (k0_t32_loop v15 v22 k0_t28).trips), ∀ a, (k0_off673 v15 v22 k0_t28 k0_t32) a + S1x16.size a ≤ S128x256.size a) ∧
  (∀ (k0_t28 : Fin (k0_t28_loop v15 v22).trips) (k0_t32 : Fin (k0_t32_loop v15 v22 k0_t28).trips), ∀ a, (k0_off674 v15 v22 k0_t28 k0_t32) a + S1x16.size a ≤ S128x256.size a) ∧
  (∀ (k0_t28 : Fin (k0_t28_loop v15 v22).trips) (k0_t32 : Fin (k0_t32_loop v15 v22 k0_t28).trips), ∀ a, (k0_off675 v15 v22 k0_t28 k0_t32) a + S1x16.size a ≤ S128x256.size a) ∧
  (∀ (k0_t28 : Fin (k0_t28_loop v15 v22).trips) (k0_t32 : Fin (k0_t32_loop v15 v22 k0_t28).trips), ∀ a, (k0_off676 v15 v22 k0_t28 k0_t32) a + S1x16.size a ≤ S128x256.size a) ∧
  (∀ (k0_t28 : Fin (k0_t28_loop v15 v22).trips) (k0_t32 : Fin (k0_t32_loop v15 v22 k0_t28).trips), ∀ a, (k0_off677 v15 v22 k0_t28 k0_t32) a + S1x16.size a ≤ S128x256.size a) ∧
  (∀ (k0_t28 : Fin (k0_t28_loop v15 v22).trips) (k0_t32 : Fin (k0_t32_loop v15 v22 k0_t28).trips), ∀ a, (k0_off678 v15 v22 k0_t28 k0_t32) a + S1x16.size a ≤ S128x256.size a) ∧
  (∀ (k0_t28 : Fin (k0_t28_loop v15 v22).trips) (k0_t32 : Fin (k0_t32_loop v15 v22 k0_t28).trips), ∀ a, (k0_off679 v15 v22 k0_t28 k0_t32) a + S1x16.size a ≤ S128x256.size a) ∧
  (∀ (k0_t28 : Fin (k0_t28_loop v15 v22).trips) (k0_t32 : Fin (k0_t32_loop v15 v22 k0_t28).trips), ∀ a, (k0_off680 v15 v22 k0_t28 k0_t32) a + S1x16.size a ≤ S128x256.size a) ∧
  (∀ (k0_t28 : Fin (k0_t28_loop v15 v22).trips) (k0_t32 : Fin (k0_t32_loop v15 v22 k0_t28).trips), ∀ a, (k0_off681 v15 v22 k0_t28 k0_t32) a + S1x16.size a ≤ S128x256.size a) ∧
  (∀ (k0_t28 : Fin (k0_t28_loop v15 v22).trips) (k0_t32 : Fin (k0_t32_loop v15 v22 k0_t28).trips), ∀ a, (k0_off682 v15 v22 k0_t28 k0_t32) a + S1x16.size a ≤ S128x256.size a) ∧
  (∀ k0_t28 : Fin (k0_t28_loop v15 v22).trips, 8 ∣ (k0_mult17 v15 v22 k0_t28).toNat) ∧
  (∀ k0_t28 : Fin (k0_t28_loop v15 v22).trips, ∀ a, (k0_off683 v15 v22 k0_t28) a + S128x256.size a ≤ S50000x256.size a) ∧
  (∀ k0_t28 : Fin (k0_t28_loop v15 v22).trips, 8 ∣ (k0_mult18 v15 v22 k0_t28).toNat) ∧
  (∀ k0_t28 : Fin (k0_t28_loop v15 v22).trips, (k0_t33_loop v15 v22 k0_t28).OK) ∧
  (∀ (k0_t28 : Fin (k0_t28_loop v15 v22).trips) (k0_t33 : Fin (k0_t33_loop v15 v22 k0_t28).trips), ∀ a, (k0_off684 v15 v22 k0_t28 k0_t33) a + S1x16.size a ≤ S128x256.size a) ∧
  (∀ (k0_t28 : Fin (k0_t28_loop v15 v22).trips) (k0_t33 : Fin (k0_t33_loop v15 v22 k0_t28).trips), ∀ a, (k0_off685 v15 v22 k0_t28 k0_t33) a + S1x16.size a ≤ S128x256.size a) ∧
  (∀ (k0_t28 : Fin (k0_t28_loop v15 v22).trips) (k0_t33 : Fin (k0_t33_loop v15 v22 k0_t28).trips), ∀ a, (k0_off686 v15 v22 k0_t28 k0_t33) a + S1x16.size a ≤ S128x256.size a) ∧
  (∀ (k0_t28 : Fin (k0_t28_loop v15 v22).trips) (k0_t33 : Fin (k0_t33_loop v15 v22 k0_t28).trips), ∀ a, (k0_off687 v15 v22 k0_t28 k0_t33) a + S1x16.size a ≤ S128x256.size a) ∧
  (∀ (k0_t28 : Fin (k0_t28_loop v15 v22).trips) (k0_t33 : Fin (k0_t33_loop v15 v22 k0_t28).trips), ∀ a, (k0_off688 v15 v22 k0_t28 k0_t33) a + S1x16.size a ≤ S128x256.size a)
def k0_chk3_10 (v15 : BitVec 32) (v22 : BitVec 32) : Prop :=
  (∀ (k0_t28 : Fin (k0_t28_loop v15 v22).trips) (k0_t33 : Fin (k0_t33_loop v15 v22 k0_t28).trips), ∀ a, (k0_off689 v15 v22 k0_t28 k0_t33) a + S1x16.size a ≤ S128x256.size a) ∧
  (∀ (k0_t28 : Fin (k0_t28_loop v15 v22).trips) (k0_t33 : Fin (k0_t33_loop v15 v22 k0_t28).trips), ∀ a, (k0_off690 v15 v22 k0_t28 k0_t33) a + S1x16.size a ≤ S128x256.size a) ∧
  (∀ (k0_t28 : Fin (k0_t28_loop v15 v22).trips) (k0_t33 : Fin (k0_t33_loop v15 v22 k0_t28).trips), ∀ a, (k0_off691 v15 v22 k0_t28 k0_t33) a + S1x16.size a ≤ S128x256.size a) ∧
  (∀ (k0_t28 : Fin (k0_t28_loop v15 v22).trips) (k0_t33 : Fin (k0_t33_loop v15 v22 k0_t28).trips), ∀ a, (k0_off692 v15 v22 k0_t28 k0_t33) a + S1x16.size a ≤ S128x256.size a) ∧
  (∀ (k0_t28 : Fin (k0_t28_loop v15 v22).trips) (k0_t33 : Fin (k0_t33_loop v15 v22 k0_t28).trips), ∀ a, (k0_off693 v15 v22 k0_t28 k0_t33) a + S1x16.size a ≤ S128x256.size a) ∧
  (∀ (k0_t28 : Fin (k0_t28_loop v15 v22).trips) (k0_t33 : Fin (k0_t33_loop v15 v22 k0_t28).trips), ∀ a, (k0_off694 v15 v22 k0_t28 k0_t33) a + S1x16.size a ≤ S128x256.size a) ∧
  (∀ (k0_t28 : Fin (k0_t28_loop v15 v22).trips) (k0_t33 : Fin (k0_t33_loop v15 v22 k0_t28).trips), ∀ a, (k0_off695 v15 v22 k0_t28 k0_t33) a + S1x16.size a ≤ S128x256.size a) ∧
  (∀ (k0_t28 : Fin (k0_t28_loop v15 v22).trips) (k0_t33 : Fin (k0_t33_loop v15 v22 k0_t28).trips), ∀ a, (k0_off696 v15 v22 k0_t28 k0_t33) a + S1x16.size a ≤ S128x256.size a) ∧
  (∀ (k0_t28 : Fin (k0_t28_loop v15 v22).trips) (k0_t33 : Fin (k0_t33_loop v15 v22 k0_t28).trips), ∀ a, (k0_off697 v15 v22 k0_t28 k0_t33) a + S1x16.size a ≤ S128x256.size a) ∧
  (∀ (k0_t28 : Fin (k0_t28_loop v15 v22).trips) (k0_t33 : Fin (k0_t33_loop v15 v22 k0_t28).trips), ∀ a, (k0_off698 v15 v22 k0_t28 k0_t33) a + S1x16.size a ≤ S128x256.size a) ∧
  (∀ (k0_t28 : Fin (k0_t28_loop v15 v22).trips) (k0_t33 : Fin (k0_t33_loop v15 v22 k0_t28).trips), ∀ a, (k0_off699 v15 v22 k0_t28 k0_t33) a + S1x16.size a ≤ S128x256.size a) ∧
  (∀ (k0_t28 : Fin (k0_t28_loop v15 v22).trips) (k0_t33 : Fin (k0_t33_loop v15 v22 k0_t28).trips), ∀ (r : Fin 3), ∀ a, (k0_off700 v15 v22 k0_t28 k0_t33 (BitVec.ofNat 32 (1 + r.val))) a + S1x16.size a ≤ S128x256.size a) ∧
  (∀ (k0_t28 : Fin (k0_t28_loop v15 v22).trips) (k0_t33 : Fin (k0_t33_loop v15 v22 k0_t28).trips), ∀ (r : Fin 3), ∀ a, (k0_off701 v15 v22 k0_t28 k0_t33 (BitVec.ofNat 32 (1 + r.val))) a + S1x16.size a ≤ S128x256.size a) ∧
  (∀ (k0_t28 : Fin (k0_t28_loop v15 v22).trips) (k0_t33 : Fin (k0_t33_loop v15 v22 k0_t28).trips), ∀ (r : Fin 3), ∀ a, (k0_off702 v15 v22 k0_t28 k0_t33 (BitVec.ofNat 32 (1 + r.val))) a + S1x16.size a ≤ S128x256.size a) ∧
  (∀ (k0_t28 : Fin (k0_t28_loop v15 v22).trips) (k0_t33 : Fin (k0_t33_loop v15 v22 k0_t28).trips), ∀ (r : Fin 3), ∀ a, (k0_off703 v15 v22 k0_t28 k0_t33 (BitVec.ofNat 32 (1 + r.val))) a + S1x16.size a ≤ S128x256.size a) ∧
  (∀ (k0_t28 : Fin (k0_t28_loop v15 v22).trips) (k0_t33 : Fin (k0_t33_loop v15 v22 k0_t28).trips), ∀ (r : Fin 3), ∀ a, (k0_off704 v15 v22 k0_t28 k0_t33 (BitVec.ofNat 32 (1 + r.val))) a + S1x16.size a ≤ S128x256.size a) ∧
  (∀ (k0_t28 : Fin (k0_t28_loop v15 v22).trips) (k0_t33 : Fin (k0_t33_loop v15 v22 k0_t28).trips), ∀ (r : Fin 3), ∀ a, (k0_off705 v15 v22 k0_t28 k0_t33 (BitVec.ofNat 32 (1 + r.val))) a + S1x16.size a ≤ S128x256.size a) ∧
  (∀ (k0_t28 : Fin (k0_t28_loop v15 v22).trips) (k0_t33 : Fin (k0_t33_loop v15 v22 k0_t28).trips), ∀ (r : Fin 3), ∀ a, (k0_off706 v15 v22 k0_t28 k0_t33 (BitVec.ofNat 32 (1 + r.val))) a + S1x16.size a ≤ S128x256.size a) ∧
  (∀ (k0_t28 : Fin (k0_t28_loop v15 v22).trips) (k0_t33 : Fin (k0_t33_loop v15 v22 k0_t28).trips), ∀ (r : Fin 3), ∀ a, (k0_off707 v15 v22 k0_t28 k0_t33 (BitVec.ofNat 32 (1 + r.val))) a + S1x16.size a ≤ S128x256.size a) ∧
  (∀ (k0_t28 : Fin (k0_t28_loop v15 v22).trips) (k0_t33 : Fin (k0_t33_loop v15 v22 k0_t28).trips), ∀ (r : Fin 3), ∀ a, (k0_off708 v15 v22 k0_t28 k0_t33 (BitVec.ofNat 32 (1 + r.val))) a + S1x16.size a ≤ S128x256.size a) ∧
  (∀ (k0_t28 : Fin (k0_t28_loop v15 v22).trips) (k0_t33 : Fin (k0_t33_loop v15 v22 k0_t28).trips), ∀ (r : Fin 3), ∀ a, (k0_off709 v15 v22 k0_t28 k0_t33 (BitVec.ofNat 32 (1 + r.val))) a + S1x16.size a ≤ S128x256.size a) ∧
  (∀ (k0_t28 : Fin (k0_t28_loop v15 v22).trips) (k0_t33 : Fin (k0_t33_loop v15 v22 k0_t28).trips), ∀ (r : Fin 3), ∀ a, (k0_off710 v15 v22 k0_t28 k0_t33 (BitVec.ofNat 32 (1 + r.val))) a + S1x16.size a ≤ S128x256.size a) ∧
  (∀ (k0_t28 : Fin (k0_t28_loop v15 v22).trips) (k0_t33 : Fin (k0_t33_loop v15 v22 k0_t28).trips), ∀ (r : Fin 3), ∀ a, (k0_off711 v15 v22 k0_t28 k0_t33 (BitVec.ofNat 32 (1 + r.val))) a + S1x16.size a ≤ S128x256.size a) ∧
  (∀ (k0_t28 : Fin (k0_t28_loop v15 v22).trips) (k0_t33 : Fin (k0_t33_loop v15 v22 k0_t28).trips), ∀ (r : Fin 3), ∀ a, (k0_off712 v15 v22 k0_t28 k0_t33 (BitVec.ofNat 32 (1 + r.val))) a + S1x16.size a ≤ S128x256.size a) ∧
  (∀ (k0_t28 : Fin (k0_t28_loop v15 v22).trips) (k0_t33 : Fin (k0_t33_loop v15 v22 k0_t28).trips), ∀ (r : Fin 3), ∀ a, (k0_off713 v15 v22 k0_t28 k0_t33 (BitVec.ofNat 32 (1 + r.val))) a + S1x16.size a ≤ S128x256.size a) ∧
  (∀ (k0_t28 : Fin (k0_t28_loop v15 v22).trips) (k0_t33 : Fin (k0_t33_loop v15 v22 k0_t28).trips), ∀ (r : Fin 3), ∀ a, (k0_off714 v15 v22 k0_t28 k0_t33 (BitVec.ofNat 32 (1 + r.val))) a + S1x16.size a ≤ S128x256.size a) ∧
  (∀ (k0_t28 : Fin (k0_t28_loop v15 v22).trips) (k0_t33 : Fin (k0_t33_loop v15 v22 k0_t28).trips), ∀ (r : Fin 3), ∀ a, (k0_off715 v15 v22 k0_t28 k0_t33 (BitVec.ofNat 32 (1 + r.val))) a + S1x16.size a ≤ S128x256.size a) ∧
  (∀ k0_t28 : Fin (k0_t28_loop v15 v22).trips, (k0_t34_loop v15 v22 k0_t28).OK) ∧
  (∀ (k0_t28 : Fin (k0_t28_loop v15 v22).trips) (k0_t34 : Fin (k0_t34_loop v15 v22 k0_t28).trips), ∀ a, (k0_off716 v15 v22 k0_t28 k0_t34) a + S1x16.size a ≤ S128x256.size a) ∧
  (∀ (k0_t28 : Fin (k0_t28_loop v15 v22).trips) (k0_t34 : Fin (k0_t34_loop v15 v22 k0_t28).trips), ∀ a, (k0_off717 v15 v22 k0_t28 k0_t34) a + S1x16.size a ≤ S128x256.size a) ∧
  (∀ (k0_t28 : Fin (k0_t28_loop v15 v22).trips) (k0_t34 : Fin (k0_t34_loop v15 v22 k0_t28).trips), ∀ a, (k0_off718 v15 v22 k0_t28 k0_t34) a + S1x16.size a ≤ S128x256.size a) ∧
  (∀ (k0_t28 : Fin (k0_t28_loop v15 v22).trips) (k0_t34 : Fin (k0_t34_loop v15 v22 k0_t28).trips), ∀ a, (k0_off719 v15 v22 k0_t28 k0_t34) a + S1x16.size a ≤ S128x256.size a)
def k0_chk3_11 (v15 : BitVec 32) (v22 : BitVec 32) : Prop :=
  (∀ (k0_t28 : Fin (k0_t28_loop v15 v22).trips) (k0_t34 : Fin (k0_t34_loop v15 v22 k0_t28).trips), ∀ a, (k0_off720 v15 v22 k0_t28 k0_t34) a + S1x16.size a ≤ S128x256.size a) ∧
  (∀ (k0_t28 : Fin (k0_t28_loop v15 v22).trips) (k0_t34 : Fin (k0_t34_loop v15 v22 k0_t28).trips), ∀ a, (k0_off721 v15 v22 k0_t28 k0_t34) a + S1x16.size a ≤ S128x256.size a) ∧
  (∀ (k0_t28 : Fin (k0_t28_loop v15 v22).trips) (k0_t34 : Fin (k0_t34_loop v15 v22 k0_t28).trips), ∀ a, (k0_off722 v15 v22 k0_t28 k0_t34) a + S1x16.size a ≤ S128x256.size a) ∧
  (∀ (k0_t28 : Fin (k0_t28_loop v15 v22).trips) (k0_t34 : Fin (k0_t34_loop v15 v22 k0_t28).trips), ∀ a, (k0_off723 v15 v22 k0_t28 k0_t34) a + S1x16.size a ≤ S128x256.size a) ∧
  (∀ (k0_t28 : Fin (k0_t28_loop v15 v22).trips) (k0_t34 : Fin (k0_t34_loop v15 v22 k0_t28).trips), ∀ a, (k0_off724 v15 v22 k0_t28 k0_t34) a + S1x16.size a ≤ S128x256.size a) ∧
  (∀ (k0_t28 : Fin (k0_t28_loop v15 v22).trips) (k0_t34 : Fin (k0_t34_loop v15 v22 k0_t28).trips), ∀ a, (k0_off725 v15 v22 k0_t28 k0_t34) a + S1x16.size a ≤ S128x256.size a) ∧
  (∀ (k0_t28 : Fin (k0_t28_loop v15 v22).trips) (k0_t34 : Fin (k0_t34_loop v15 v22 k0_t28).trips), ∀ a, (k0_off726 v15 v22 k0_t28 k0_t34) a + S1x16.size a ≤ S128x256.size a) ∧
  (∀ (k0_t28 : Fin (k0_t28_loop v15 v22).trips) (k0_t34 : Fin (k0_t34_loop v15 v22 k0_t28).trips), ∀ a, (k0_off727 v15 v22 k0_t28 k0_t34) a + S1x16.size a ≤ S128x256.size a) ∧
  (∀ (k0_t28 : Fin (k0_t28_loop v15 v22).trips) (k0_t34 : Fin (k0_t34_loop v15 v22 k0_t28).trips), ∀ a, (k0_off728 v15 v22 k0_t28 k0_t34) a + S1x16.size a ≤ S128x256.size a) ∧
  (∀ (k0_t28 : Fin (k0_t28_loop v15 v22).trips) (k0_t34 : Fin (k0_t34_loop v15 v22 k0_t28).trips), ∀ a, (k0_off729 v15 v22 k0_t28 k0_t34) a + S1x16.size a ≤ S128x256.size a) ∧
  (∀ (k0_t28 : Fin (k0_t28_loop v15 v22).trips) (k0_t34 : Fin (k0_t34_loop v15 v22 k0_t28).trips), ∀ a, (k0_off730 v15 v22 k0_t28 k0_t34) a + S1x16.size a ≤ S128x256.size a) ∧
  (∀ (k0_t28 : Fin (k0_t28_loop v15 v22).trips) (k0_t34 : Fin (k0_t34_loop v15 v22 k0_t28).trips), ∀ a, (k0_off731 v15 v22 k0_t28 k0_t34) a + S1x16.size a ≤ S128x256.size a) ∧
  (∀ (k0_t28 : Fin (k0_t28_loop v15 v22).trips) (k0_t34 : Fin (k0_t34_loop v15 v22 k0_t28).trips), ∀ (r : Fin 3), ∀ a, (k0_off732 v15 v22 k0_t28 k0_t34 (BitVec.ofNat 32 (1 + r.val))) a + S1x16.size a ≤ S128x256.size a) ∧
  (∀ (k0_t28 : Fin (k0_t28_loop v15 v22).trips) (k0_t34 : Fin (k0_t34_loop v15 v22 k0_t28).trips), ∀ (r : Fin 3), ∀ a, (k0_off733 v15 v22 k0_t28 k0_t34 (BitVec.ofNat 32 (1 + r.val))) a + S1x16.size a ≤ S128x256.size a) ∧
  (∀ (k0_t28 : Fin (k0_t28_loop v15 v22).trips) (k0_t34 : Fin (k0_t34_loop v15 v22 k0_t28).trips), ∀ (r : Fin 3), ∀ a, (k0_off734 v15 v22 k0_t28 k0_t34 (BitVec.ofNat 32 (1 + r.val))) a + S1x16.size a ≤ S128x256.size a) ∧
  (∀ (k0_t28 : Fin (k0_t28_loop v15 v22).trips) (k0_t34 : Fin (k0_t34_loop v15 v22 k0_t28).trips), ∀ (r : Fin 3), ∀ a, (k0_off735 v15 v22 k0_t28 k0_t34 (BitVec.ofNat 32 (1 + r.val))) a + S1x16.size a ≤ S128x256.size a) ∧
  (∀ (k0_t28 : Fin (k0_t28_loop v15 v22).trips) (k0_t34 : Fin (k0_t34_loop v15 v22 k0_t28).trips), ∀ (r : Fin 3), ∀ a, (k0_off736 v15 v22 k0_t28 k0_t34 (BitVec.ofNat 32 (1 + r.val))) a + S1x16.size a ≤ S128x256.size a) ∧
  (∀ (k0_t28 : Fin (k0_t28_loop v15 v22).trips) (k0_t34 : Fin (k0_t34_loop v15 v22 k0_t28).trips), ∀ (r : Fin 3), ∀ a, (k0_off737 v15 v22 k0_t28 k0_t34 (BitVec.ofNat 32 (1 + r.val))) a + S1x16.size a ≤ S128x256.size a) ∧
  (∀ (k0_t28 : Fin (k0_t28_loop v15 v22).trips) (k0_t34 : Fin (k0_t34_loop v15 v22 k0_t28).trips), ∀ (r : Fin 3), ∀ a, (k0_off738 v15 v22 k0_t28 k0_t34 (BitVec.ofNat 32 (1 + r.val))) a + S1x16.size a ≤ S128x256.size a) ∧
  (∀ (k0_t28 : Fin (k0_t28_loop v15 v22).trips) (k0_t34 : Fin (k0_t34_loop v15 v22 k0_t28).trips), ∀ (r : Fin 3), ∀ a, (k0_off739 v15 v22 k0_t28 k0_t34 (BitVec.ofNat 32 (1 + r.val))) a + S1x16.size a ≤ S128x256.size a) ∧
  (∀ (k0_t28 : Fin (k0_t28_loop v15 v22).trips) (k0_t34 : Fin (k0_t34_loop v15 v22 k0_t28).trips), ∀ (r : Fin 3), ∀ a, (k0_off740 v15 v22 k0_t28 k0_t34 (BitVec.ofNat 32 (1 + r.val))) a + S1x16.size a ≤ S128x256.size a) ∧
  (∀ (k0_t28 : Fin (k0_t28_loop v15 v22).trips) (k0_t34 : Fin (k0_t34_loop v15 v22 k0_t28).trips), ∀ (r : Fin 3), ∀ a, (k0_off741 v15 v22 k0_t28 k0_t34 (BitVec.ofNat 32 (1 + r.val))) a + S1x16.size a ≤ S128x256.size a) ∧
  (∀ (k0_t28 : Fin (k0_t28_loop v15 v22).trips) (k0_t34 : Fin (k0_t34_loop v15 v22 k0_t28).trips), ∀ (r : Fin 3), ∀ a, (k0_off742 v15 v22 k0_t28 k0_t34 (BitVec.ofNat 32 (1 + r.val))) a + S1x16.size a ≤ S128x256.size a) ∧
  (∀ (k0_t28 : Fin (k0_t28_loop v15 v22).trips) (k0_t34 : Fin (k0_t34_loop v15 v22 k0_t28).trips), ∀ (r : Fin 3), ∀ a, (k0_off743 v15 v22 k0_t28 k0_t34 (BitVec.ofNat 32 (1 + r.val))) a + S1x16.size a ≤ S128x256.size a) ∧
  (∀ (k0_t28 : Fin (k0_t28_loop v15 v22).trips) (k0_t34 : Fin (k0_t34_loop v15 v22 k0_t28).trips), ∀ (r : Fin 3), ∀ a, (k0_off744 v15 v22 k0_t28 k0_t34 (BitVec.ofNat 32 (1 + r.val))) a + S1x16.size a ≤ S128x256.size a) ∧
  (∀ (k0_t28 : Fin (k0_t28_loop v15 v22).trips) (k0_t34 : Fin (k0_t34_loop v15 v22 k0_t28).trips), ∀ (r : Fin 3), ∀ a, (k0_off745 v15 v22 k0_t28 k0_t34 (BitVec.ofNat 32 (1 + r.val))) a + S1x16.size a ≤ S128x256.size a) ∧
  (∀ (k0_t28 : Fin (k0_t28_loop v15 v22).trips) (k0_t34 : Fin (k0_t34_loop v15 v22 k0_t28).trips), ∀ (r : Fin 3), ∀ a, (k0_off746 v15 v22 k0_t28 k0_t34 (BitVec.ofNat 32 (1 + r.val))) a + S1x16.size a ≤ S128x256.size a) ∧
  (∀ (k0_t28 : Fin (k0_t28_loop v15 v22).trips) (k0_t34 : Fin (k0_t34_loop v15 v22 k0_t28).trips), ∀ (r : Fin 3), ∀ a, (k0_off747 v15 v22 k0_t28 k0_t34 (BitVec.ofNat 32 (1 + r.val))) a + S1x16.size a ≤ S128x256.size a) ∧
  (∀ k0_t28 : Fin (k0_t28_loop v15 v22).trips, (k0_t35_loop v15 v22 k0_t28).OK) ∧
  (∀ (k0_t28 : Fin (k0_t28_loop v15 v22).trips) (k0_t35 : Fin (k0_t35_loop v15 v22 k0_t28).trips), ∀ a, (k0_off748 v15 v22 k0_t28 k0_t35) a + S1x16.size a ≤ S128x256.size a) ∧
  (∀ (k0_t28 : Fin (k0_t28_loop v15 v22).trips) (k0_t35 : Fin (k0_t35_loop v15 v22 k0_t28).trips), ∀ a, (k0_off749 v15 v22 k0_t28 k0_t35) a + S1x16.size a ≤ S128x256.size a) ∧
  (∀ (k0_t28 : Fin (k0_t28_loop v15 v22).trips) (k0_t35 : Fin (k0_t35_loop v15 v22 k0_t28).trips), ∀ a, (k0_off750 v15 v22 k0_t28 k0_t35) a + S1x16.size a ≤ S128x256.size a)
def k0_chk3_12 (v15 : BitVec 32) (v22 : BitVec 32) : Prop :=
  (∀ (k0_t28 : Fin (k0_t28_loop v15 v22).trips) (k0_t35 : Fin (k0_t35_loop v15 v22 k0_t28).trips), ∀ a, (k0_off751 v15 v22 k0_t28 k0_t35) a + S1x16.size a ≤ S128x256.size a) ∧
  (∀ (k0_t28 : Fin (k0_t28_loop v15 v22).trips) (k0_t35 : Fin (k0_t35_loop v15 v22 k0_t28).trips), ∀ a, (k0_off752 v15 v22 k0_t28 k0_t35) a + S1x16.size a ≤ S128x256.size a) ∧
  (∀ (k0_t28 : Fin (k0_t28_loop v15 v22).trips) (k0_t35 : Fin (k0_t35_loop v15 v22 k0_t28).trips), ∀ a, (k0_off753 v15 v22 k0_t28 k0_t35) a + S1x16.size a ≤ S128x256.size a) ∧
  (∀ (k0_t28 : Fin (k0_t28_loop v15 v22).trips) (k0_t35 : Fin (k0_t35_loop v15 v22 k0_t28).trips), ∀ a, (k0_off754 v15 v22 k0_t28 k0_t35) a + S1x16.size a ≤ S128x256.size a) ∧
  (∀ (k0_t28 : Fin (k0_t28_loop v15 v22).trips) (k0_t35 : Fin (k0_t35_loop v15 v22 k0_t28).trips), ∀ a, (k0_off755 v15 v22 k0_t28 k0_t35) a + S1x16.size a ≤ S128x256.size a) ∧
  (∀ (k0_t28 : Fin (k0_t28_loop v15 v22).trips) (k0_t35 : Fin (k0_t35_loop v15 v22 k0_t28).trips), ∀ a, (k0_off756 v15 v22 k0_t28 k0_t35) a + S1x16.size a ≤ S128x256.size a) ∧
  (∀ (k0_t28 : Fin (k0_t28_loop v15 v22).trips) (k0_t35 : Fin (k0_t35_loop v15 v22 k0_t28).trips), ∀ a, (k0_off757 v15 v22 k0_t28 k0_t35) a + S1x16.size a ≤ S128x256.size a) ∧
  (∀ (k0_t28 : Fin (k0_t28_loop v15 v22).trips) (k0_t35 : Fin (k0_t35_loop v15 v22 k0_t28).trips), ∀ a, (k0_off758 v15 v22 k0_t28 k0_t35) a + S1x16.size a ≤ S128x256.size a) ∧
  (∀ (k0_t28 : Fin (k0_t28_loop v15 v22).trips) (k0_t35 : Fin (k0_t35_loop v15 v22 k0_t28).trips), ∀ a, (k0_off759 v15 v22 k0_t28 k0_t35) a + S1x16.size a ≤ S128x256.size a) ∧
  (∀ (k0_t28 : Fin (k0_t28_loop v15 v22).trips) (k0_t35 : Fin (k0_t35_loop v15 v22 k0_t28).trips), ∀ a, (k0_off760 v15 v22 k0_t28 k0_t35) a + S1x16.size a ≤ S128x256.size a) ∧
  (∀ (k0_t28 : Fin (k0_t28_loop v15 v22).trips) (k0_t35 : Fin (k0_t35_loop v15 v22 k0_t28).trips), ∀ a, (k0_off761 v15 v22 k0_t28 k0_t35) a + S1x16.size a ≤ S128x256.size a) ∧
  (∀ (k0_t28 : Fin (k0_t28_loop v15 v22).trips) (k0_t35 : Fin (k0_t35_loop v15 v22 k0_t28).trips), ∀ a, (k0_off762 v15 v22 k0_t28 k0_t35) a + S1x16.size a ≤ S128x256.size a) ∧
  (∀ (k0_t28 : Fin (k0_t28_loop v15 v22).trips) (k0_t35 : Fin (k0_t35_loop v15 v22 k0_t28).trips), ∀ a, (k0_off763 v15 v22 k0_t28 k0_t35) a + S1x16.size a ≤ S128x256.size a) ∧
  (∀ k0_t28 : Fin (k0_t28_loop v15 v22).trips, (k0_t36_loop v15 v22 k0_t28).OK) ∧
  (∀ (k0_t28 : Fin (k0_t28_loop v15 v22).trips) (k0_t36 : Fin (k0_t36_loop v15 v22 k0_t28).trips), ∀ a, (k0_off764 v15 v22 k0_t28 k0_t36) a + S1x16.size a ≤ S128x256.size a) ∧
  (∀ (k0_t28 : Fin (k0_t28_loop v15 v22).trips) (k0_t36 : Fin (k0_t36_loop v15 v22 k0_t28).trips), ∀ a, (k0_off765 v15 v22 k0_t28 k0_t36) a + S1x16.size a ≤ S128x256.size a) ∧
  (∀ (k0_t28 : Fin (k0_t28_loop v15 v22).trips) (k0_t36 : Fin (k0_t36_loop v15 v22 k0_t28).trips), ∀ a, (k0_off766 v15 v22 k0_t28 k0_t36) a + S1x16.size a ≤ S128x256.size a) ∧
  (∀ (k0_t28 : Fin (k0_t28_loop v15 v22).trips) (k0_t36 : Fin (k0_t36_loop v15 v22 k0_t28).trips), ∀ a, (k0_off767 v15 v22 k0_t28 k0_t36) a + S1x16.size a ≤ S128x256.size a) ∧
  (∀ (k0_t28 : Fin (k0_t28_loop v15 v22).trips) (k0_t36 : Fin (k0_t36_loop v15 v22 k0_t28).trips), ∀ a, (k0_off768 v15 v22 k0_t28 k0_t36) a + S1x16.size a ≤ S128x256.size a) ∧
  (∀ (k0_t28 : Fin (k0_t28_loop v15 v22).trips) (k0_t36 : Fin (k0_t36_loop v15 v22 k0_t28).trips), ∀ a, (k0_off769 v15 v22 k0_t28 k0_t36) a + S1x16.size a ≤ S128x256.size a) ∧
  (∀ (k0_t28 : Fin (k0_t28_loop v15 v22).trips) (k0_t36 : Fin (k0_t36_loop v15 v22 k0_t28).trips), ∀ a, (k0_off770 v15 v22 k0_t28 k0_t36) a + S1x16.size a ≤ S128x256.size a) ∧
  (∀ (k0_t28 : Fin (k0_t28_loop v15 v22).trips) (k0_t36 : Fin (k0_t36_loop v15 v22 k0_t28).trips), ∀ a, (k0_off771 v15 v22 k0_t28 k0_t36) a + S1x16.size a ≤ S128x256.size a) ∧
  (∀ (k0_t28 : Fin (k0_t28_loop v15 v22).trips) (k0_t36 : Fin (k0_t36_loop v15 v22 k0_t28).trips), ∀ a, (k0_off772 v15 v22 k0_t28 k0_t36) a + S1x16.size a ≤ S128x256.size a) ∧
  (∀ (k0_t28 : Fin (k0_t28_loop v15 v22).trips) (k0_t36 : Fin (k0_t36_loop v15 v22 k0_t28).trips), ∀ a, (k0_off773 v15 v22 k0_t28 k0_t36) a + S1x16.size a ≤ S128x256.size a) ∧
  (∀ (k0_t28 : Fin (k0_t28_loop v15 v22).trips) (k0_t36 : Fin (k0_t36_loop v15 v22 k0_t28).trips), ∀ a, (k0_off774 v15 v22 k0_t28 k0_t36) a + S1x16.size a ≤ S128x256.size a) ∧
  (∀ (k0_t28 : Fin (k0_t28_loop v15 v22).trips) (k0_t36 : Fin (k0_t36_loop v15 v22 k0_t28).trips), ∀ a, (k0_off775 v15 v22 k0_t28 k0_t36) a + S1x16.size a ≤ S128x256.size a) ∧
  (∀ (k0_t28 : Fin (k0_t28_loop v15 v22).trips) (k0_t36 : Fin (k0_t36_loop v15 v22 k0_t28).trips), ∀ a, (k0_off776 v15 v22 k0_t28 k0_t36) a + S1x16.size a ≤ S128x256.size a) ∧
  (∀ (k0_t28 : Fin (k0_t28_loop v15 v22).trips) (k0_t36 : Fin (k0_t36_loop v15 v22 k0_t28).trips), ∀ a, (k0_off777 v15 v22 k0_t28 k0_t36) a + S1x16.size a ≤ S128x256.size a) ∧
  (∀ (k0_t28 : Fin (k0_t28_loop v15 v22).trips) (k0_t36 : Fin (k0_t36_loop v15 v22 k0_t28).trips), ∀ a, (k0_off778 v15 v22 k0_t28 k0_t36) a + S1x16.size a ≤ S128x256.size a) ∧
  (∀ (k0_t28 : Fin (k0_t28_loop v15 v22).trips) (k0_t36 : Fin (k0_t36_loop v15 v22 k0_t28).trips), ∀ a, (k0_off779 v15 v22 k0_t28 k0_t36) a + S1x16.size a ≤ S128x256.size a)
def k0_chk3 (v15 : BitVec 32) (v22 : BitVec 32) : Prop :=
  k0_chk3_0 v15 v22 ∧
  k0_chk3_1 v15 v22 ∧
  k0_chk3_2 v15 v22 ∧
  k0_chk3_3 v15 v22 ∧
  k0_chk3_4 v15 v22 ∧
  k0_chk3_5 v15 v22 ∧
  k0_chk3_6 v15 v22 ∧
  k0_chk3_7 v15 v22 ∧
  k0_chk3_8 v15 v22 ∧
  k0_chk3_9 v15 v22 ∧
  k0_chk3_10 v15 v22 ∧
  k0_chk3_11 v15 v22 ∧
  k0_chk3_12 v15 v22
theorem k0_t19_ok : ∀ (v15 : BitVec 32) (v22 : BitVec 32) (k0_hw3 : k0_chk3 v15 v22), (k0_t19_loop v15 v22).OK := fun v15 v22 k0_hw3 => k0_hw3.1.1
theorem k0_mult11_dvd : ∀ (v15 : BitVec 32) (v22 : BitVec 32) (k0_hw3 : k0_chk3 v15 v22) (k0_t19 : Fin (k0_t19_loop v15 v22).trips), 8 ∣ (k0_mult11 v15 v22 k0_t19).toNat := fun v15 v22 k0_hw3 k0_t19 => k0_hw3.1.2.1 k0_t19
theorem k0_off392_inb : ∀ (v15 : BitVec 32) (v22 : BitVec 32) (k0_hw3 : k0_chk3 v15 v22) (k0_t19 : Fin (k0_t19_loop v15 v22).trips), ∀ a, (k0_off392 v15 v22 k0_t19) a + S128x256.size a ≤ S50000x256.size a := fun v15 v22 k0_hw3 k0_t19 => k0_hw3.1.2.2.1 k0_t19
theorem k0_mult12_dvd : ∀ (v15 : BitVec 32) (v22 : BitVec 32) (k0_hw3 : k0_chk3 v15 v22) (k0_t19 : Fin (k0_t19_loop v15 v22).trips), 8 ∣ (k0_mult12 v15 v22 k0_t19).toNat := fun v15 v22 k0_hw3 k0_t19 => k0_hw3.1.2.2.2.1 k0_t19
theorem k0_t20_ok : ∀ (v15 : BitVec 32) (v22 : BitVec 32) (k0_hw3 : k0_chk3 v15 v22) (k0_t19 : Fin (k0_t19_loop v15 v22).trips), (k0_t20_loop v15 v22 k0_t19).OK := fun v15 v22 k0_hw3 k0_t19 => k0_hw3.1.2.2.2.2.1 k0_t19
theorem k0_off393_inb : ∀ (v15 : BitVec 32) (v22 : BitVec 32) (k0_hw3 : k0_chk3 v15 v22) (k0_t19 : Fin (k0_t19_loop v15 v22).trips) (k0_t20 : Fin (k0_t20_loop v15 v22 k0_t19).trips), ∀ a, (k0_off393 v15 v22 k0_t19 k0_t20) a + S1x16.size a ≤ S128x256.size a := fun v15 v22 k0_hw3 k0_t19 k0_t20 => k0_hw3.1.2.2.2.2.2.1 k0_t19 k0_t20
theorem k0_off394_inb : ∀ (v15 : BitVec 32) (v22 : BitVec 32) (k0_hw3 : k0_chk3 v15 v22) (k0_t19 : Fin (k0_t19_loop v15 v22).trips) (k0_t20 : Fin (k0_t20_loop v15 v22 k0_t19).trips), ∀ a, (k0_off394 v15 v22 k0_t19 k0_t20) a + S1x16.size a ≤ S128x256.size a := fun v15 v22 k0_hw3 k0_t19 k0_t20 => k0_hw3.1.2.2.2.2.2.2.1 k0_t19 k0_t20
theorem k0_off395_inb : ∀ (v15 : BitVec 32) (v22 : BitVec 32) (k0_hw3 : k0_chk3 v15 v22) (k0_t19 : Fin (k0_t19_loop v15 v22).trips) (k0_t20 : Fin (k0_t20_loop v15 v22 k0_t19).trips), ∀ a, (k0_off395 v15 v22 k0_t19 k0_t20) a + S1x16.size a ≤ S128x256.size a := fun v15 v22 k0_hw3 k0_t19 k0_t20 => k0_hw3.1.2.2.2.2.2.2.2.1 k0_t19 k0_t20
theorem k0_off396_inb : ∀ (v15 : BitVec 32) (v22 : BitVec 32) (k0_hw3 : k0_chk3 v15 v22) (k0_t19 : Fin (k0_t19_loop v15 v22).trips) (k0_t20 : Fin (k0_t20_loop v15 v22 k0_t19).trips), ∀ a, (k0_off396 v15 v22 k0_t19 k0_t20) a + S1x16.size a ≤ S128x256.size a := fun v15 v22 k0_hw3 k0_t19 k0_t20 => k0_hw3.1.2.2.2.2.2.2.2.2.1 k0_t19 k0_t20
theorem k0_off397_inb : ∀ (v15 : BitVec 32) (v22 : BitVec 32) (k0_hw3 : k0_chk3 v15 v22) (k0_t19 : Fin (k0_t19_loop v15 v22).trips) (k0_t20 : Fin (k0_t20_loop v15 v22 k0_t19).trips), ∀ a, (k0_off397 v15 v22 k0_t19 k0_t20) a + S1x16.size a ≤ S128x256.size a := fun v15 v22 k0_hw3 k0_t19 k0_t20 => k0_hw3.1.2.2.2.2.2.2.2.2.2.1 k0_t19 k0_t20
theorem k0_off398_inb : ∀ (v15 : BitVec 32) (v22 : BitVec 32) (k0_hw3 : k0_chk3 v15 v22) (k0_t19 : Fin (k0_t19_loop v15 v22).trips) (k0_t20 : Fin (k0_t20_loop v15 v22 k0_t19).trips), ∀ a, (k0_off398 v15 v22 k0_t19 k0_t20) a + S1x16.size a ≤ S128x256.size a := fun v15 v22 k0_hw3 k0_t19 k0_t20 => k0_hw3.1.2.2.2.2.2.2.2.2.2.2.1 k0_t19 k0_t20
theorem k0_off399_inb : ∀ (v15 : BitVec 32) (v22 : BitVec 32) (k0_hw3 : k0_chk3 v15 v22) (k0_t19 : Fin (k0_t19_loop v15 v22).trips) (k0_t20 : Fin (k0_t20_loop v15 v22 k0_t19).trips), ∀ a, (k0_off399 v15 v22 k0_t19 k0_t20) a + S1x16.size a ≤ S128x256.size a := fun v15 v22 k0_hw3 k0_t19 k0_t20 => k0_hw3.1.2.2.2.2.2.2.2.2.2.2.2.1 k0_t19 k0_t20
theorem k0_off400_inb : ∀ (v15 : BitVec 32) (v22 : BitVec 32) (k0_hw3 : k0_chk3 v15 v22) (k0_t19 : Fin (k0_t19_loop v15 v22).trips) (k0_t20 : Fin (k0_t20_loop v15 v22 k0_t19).trips), ∀ a, (k0_off400 v15 v22 k0_t19 k0_t20) a + S1x16.size a ≤ S128x256.size a := fun v15 v22 k0_hw3 k0_t19 k0_t20 => k0_hw3.1.2.2.2.2.2.2.2.2.2.2.2.2.1 k0_t19 k0_t20
theorem k0_off401_inb : ∀ (v15 : BitVec 32) (v22 : BitVec 32) (k0_hw3 : k0_chk3 v15 v22) (k0_t19 : Fin (k0_t19_loop v15 v22).trips) (k0_t20 : Fin (k0_t20_loop v15 v22 k0_t19).trips), ∀ a, (k0_off401 v15 v22 k0_t19 k0_t20) a + S1x16.size a ≤ S128x256.size a := fun v15 v22 k0_hw3 k0_t19 k0_t20 => k0_hw3.1.2.2.2.2.2.2.2.2.2.2.2.2.2.1 k0_t19 k0_t20
theorem k0_off402_inb : ∀ (v15 : BitVec 32) (v22 : BitVec 32) (k0_hw3 : k0_chk3 v15 v22) (k0_t19 : Fin (k0_t19_loop v15 v22).trips) (k0_t20 : Fin (k0_t20_loop v15 v22 k0_t19).trips), ∀ a, (k0_off402 v15 v22 k0_t19 k0_t20) a + S1x16.size a ≤ S128x256.size a := fun v15 v22 k0_hw3 k0_t19 k0_t20 => k0_hw3.1.2.2.2.2.2.2.2.2.2.2.2.2.2.2.1 k0_t19 k0_t20
theorem k0_off403_inb : ∀ (v15 : BitVec 32) (v22 : BitVec 32) (k0_hw3 : k0_chk3 v15 v22) (k0_t19 : Fin (k0_t19_loop v15 v22).trips) (k0_t20 : Fin (k0_t20_loop v15 v22 k0_t19).trips), ∀ a, (k0_off403 v15 v22 k0_t19 k0_t20) a + S1x16.size a ≤ S128x256.size a := fun v15 v22 k0_hw3 k0_t19 k0_t20 => k0_hw3.1.2.2.2.2.2.2.2.2.2.2.2.2.2.2.2.1 k0_t19 k0_t20
theorem k0_off404_inb : ∀ (v15 : BitVec 32) (v22 : BitVec 32) (k0_hw3 : k0_chk3 v15 v22) (k0_t19 : Fin (k0_t19_loop v15 v22).trips) (k0_t20 : Fin (k0_t20_loop v15 v22 k0_t19).trips), ∀ a, (k0_off404 v15 v22 k0_t19 k0_t20) a + S1x16.size a ≤ S128x256.size a := fun v15 v22 k0_hw3 k0_t19 k0_t20 => k0_hw3.1.2.2.2.2.2.2.2.2.2.2.2.2.2.2.2.2.1 k0_t19 k0_t20
theorem k0_off405_inb : ∀ (v15 : BitVec 32) (v22 : BitVec 32) (k0_hw3 : k0_chk3 v15 v22) (k0_t19 : Fin (k0_t19_loop v15 v22).trips) (k0_t20 : Fin (k0_t20_loop v15 v22 k0_t19).trips), ∀ a, (k0_off405 v15 v22 k0_t19 k0_t20) a + S1x16.size a ≤ S128x256.size a := fun v15 v22 k0_hw3 k0_t19 k0_t20 => k0_hw3.1.2.2.2.2.2.2.2.2.2.2.2.2.2.2.2.2.2.1 k0_t19 k0_t20
theorem k0_off406_inb : ∀ (v15 : BitVec 32) (v22 : BitVec 32) (k0_hw3 : k0_chk3 v15 v22) (k0_t19 : Fin (k0_t19_loop v15 v22).trips) (k0_t20 : Fin (k0_t20_loop v15 v22 k0_t19).trips), ∀ a, (k0_off406 v15 v22 k0_t19 k0_t20) a + S1x16.size a ≤ S128x256.size a := fun v15 v22 k0_hw3 k0_t19 k0_t20 => k0_hw3.1.2.2.2.2.2.2.2.2.2.2.2.2.2.2.2.2.2.2.1 k0_t19 k0_t20
theorem k0_off407_inb : ∀ (v15 : BitVec 32) (v22 : BitVec 32) (k0_hw3 : k0_chk3 v15 v22) (k0_t19 : Fin (k0_t19_loop v15 v22).trips) (k0_t20 : Fin (k0_t20_loop v15 v22 k0_t19).trips), ∀ a, (k0_off407 v15 v22 k0_t19 k0_t20) a + S1x16.size a ≤ S128x256.size a := fun v15 v22 k0_hw3 k0_t19 k0_t20 => k0_hw3.1.2.2.2.2.2.2.2.2.2.2.2.2.2.2.2.2.2.2.2.1 k0_t19 k0_t20
theorem k0_off408_inb : ∀ (v15 : BitVec 32) (v22 : BitVec 32) (k0_hw3 : k0_chk3 v15 v22) (k0_t19 : Fin (k0_t19_loop v15 v22).trips) (k0_t20 : Fin (k0_t20_loop v15 v22 k0_t19).trips), ∀ a, (k0_off408 v15 v22 k0_t19 k0_t20) a + S1x16.size a ≤ S128x256.size a := fun v15 v22 k0_hw3 k0_t19 k0_t20 => k0_hw3.1.2.2.2.2.2.2.2.2.2.2.2.2.2.2.2.2.2.2.2.2.1 k0_t19 k0_t20
theorem k0_off409_inb : ∀ (v15 : BitVec 32) (v22 : BitVec 32) (k0_hw3 : k0_chk3 v15 v22) (k0_t19 : Fin (k0_t19_loop v15 v22).trips) (k0_t20 : Fin (k0_t20_loop v15 v22 k0_t19).trips), ∀ (r : Fin 3), ∀ a, (k0_off409 v15 v22 k0_t19 k0_t20 (BitVec.ofNat 32 (1 + r.val))) a + S1x16.size a ≤ S128x256.size a := fun v15 v22 k0_hw3 k0_t19 k0_t20 r => k0_hw3.1.2.2.2.2.2.2.2.2.2.2.2.2.2.2.2.2.2.2.2.2.2.1 k0_t19 k0_t20 r
theorem k0_off410_inb : ∀ (v15 : BitVec 32) (v22 : BitVec 32) (k0_hw3 : k0_chk3 v15 v22) (k0_t19 : Fin (k0_t19_loop v15 v22).trips) (k0_t20 : Fin (k0_t20_loop v15 v22 k0_t19).trips), ∀ (r : Fin 3), ∀ a, (k0_off410 v15 v22 k0_t19 k0_t20 (BitVec.ofNat 32 (1 + r.val))) a + S1x16.size a ≤ S128x256.size a := fun v15 v22 k0_hw3 k0_t19 k0_t20 r => k0_hw3.1.2.2.2.2.2.2.2.2.2.2.2.2.2.2.2.2.2.2.2.2.2.2.1 k0_t19 k0_t20 r
theorem k0_off411_inb : ∀ (v15 : BitVec 32) (v22 : BitVec 32) (k0_hw3 : k0_chk3 v15 v22) (k0_t19 : Fin (k0_t19_loop v15 v22).trips) (k0_t20 : Fin (k0_t20_loop v15 v22 k0_t19).trips), ∀ (r : Fin 3), ∀ a, (k0_off411 v15 v22 k0_t19 k0_t20 (BitVec.ofNat 32 (1 + r.val))) a + S1x16.size a ≤ S128x256.size a := fun v15 v22 k0_hw3 k0_t19 k0_t20 r => k0_hw3.1.2.2.2.2.2.2.2.2.2.2.2.2.2.2.2.2.2.2.2.2.2.2.2.1 k0_t19 k0_t20 r
theorem k0_off412_inb : ∀ (v15 : BitVec 32) (v22 : BitVec 32) (k0_hw3 : k0_chk3 v15 v22) (k0_t19 : Fin (k0_t19_loop v15 v22).trips) (k0_t20 : Fin (k0_t20_loop v15 v22 k0_t19).trips), ∀ (r : Fin 3), ∀ a, (k0_off412 v15 v22 k0_t19 k0_t20 (BitVec.ofNat 32 (1 + r.val))) a + S1x16.size a ≤ S128x256.size a := fun v15 v22 k0_hw3 k0_t19 k0_t20 r => k0_hw3.1.2.2.2.2.2.2.2.2.2.2.2.2.2.2.2.2.2.2.2.2.2.2.2.2.1 k0_t19 k0_t20 r
theorem k0_off413_inb : ∀ (v15 : BitVec 32) (v22 : BitVec 32) (k0_hw3 : k0_chk3 v15 v22) (k0_t19 : Fin (k0_t19_loop v15 v22).trips) (k0_t20 : Fin (k0_t20_loop v15 v22 k0_t19).trips), ∀ (r : Fin 3), ∀ a, (k0_off413 v15 v22 k0_t19 k0_t20 (BitVec.ofNat 32 (1 + r.val))) a + S1x16.size a ≤ S128x256.size a := fun v15 v22 k0_hw3 k0_t19 k0_t20 r => k0_hw3.1.2.2.2.2.2.2.2.2.2.2.2.2.2.2.2.2.2.2.2.2.2.2.2.2.2.1 k0_t19 k0_t20 r
theorem k0_off414_inb : ∀ (v15 : BitVec 32) (v22 : BitVec 32) (k0_hw3 : k0_chk3 v15 v22) (k0_t19 : Fin (k0_t19_loop v15 v22).trips) (k0_t20 : Fin (k0_t20_loop v15 v22 k0_t19).trips), ∀ (r : Fin 3), ∀ a, (k0_off414 v15 v22 k0_t19 k0_t20 (BitVec.ofNat 32 (1 + r.val))) a + S1x16.size a ≤ S128x256.size a := fun v15 v22 k0_hw3 k0_t19 k0_t20 r => k0_hw3.1.2.2.2.2.2.2.2.2.2.2.2.2.2.2.2.2.2.2.2.2.2.2.2.2.2.2.1 k0_t19 k0_t20 r
theorem k0_off415_inb : ∀ (v15 : BitVec 32) (v22 : BitVec 32) (k0_hw3 : k0_chk3 v15 v22) (k0_t19 : Fin (k0_t19_loop v15 v22).trips) (k0_t20 : Fin (k0_t20_loop v15 v22 k0_t19).trips), ∀ (r : Fin 3), ∀ a, (k0_off415 v15 v22 k0_t19 k0_t20 (BitVec.ofNat 32 (1 + r.val))) a + S1x16.size a ≤ S128x256.size a := fun v15 v22 k0_hw3 k0_t19 k0_t20 r => k0_hw3.1.2.2.2.2.2.2.2.2.2.2.2.2.2.2.2.2.2.2.2.2.2.2.2.2.2.2.2.1 k0_t19 k0_t20 r
theorem k0_off416_inb : ∀ (v15 : BitVec 32) (v22 : BitVec 32) (k0_hw3 : k0_chk3 v15 v22) (k0_t19 : Fin (k0_t19_loop v15 v22).trips) (k0_t20 : Fin (k0_t20_loop v15 v22 k0_t19).trips), ∀ (r : Fin 3), ∀ a, (k0_off416 v15 v22 k0_t19 k0_t20 (BitVec.ofNat 32 (1 + r.val))) a + S1x16.size a ≤ S128x256.size a := fun v15 v22 k0_hw3 k0_t19 k0_t20 r => k0_hw3.1.2.2.2.2.2.2.2.2.2.2.2.2.2.2.2.2.2.2.2.2.2.2.2.2.2.2.2.2.1 k0_t19 k0_t20 r
theorem k0_off417_inb : ∀ (v15 : BitVec 32) (v22 : BitVec 32) (k0_hw3 : k0_chk3 v15 v22) (k0_t19 : Fin (k0_t19_loop v15 v22).trips) (k0_t20 : Fin (k0_t20_loop v15 v22 k0_t19).trips), ∀ (r : Fin 3), ∀ a, (k0_off417 v15 v22 k0_t19 k0_t20 (BitVec.ofNat 32 (1 + r.val))) a + S1x16.size a ≤ S128x256.size a := fun v15 v22 k0_hw3 k0_t19 k0_t20 r => k0_hw3.1.2.2.2.2.2.2.2.2.2.2.2.2.2.2.2.2.2.2.2.2.2.2.2.2.2.2.2.2.2.1 k0_t19 k0_t20 r
theorem k0_off418_inb : ∀ (v15 : BitVec 32) (v22 : BitVec 32) (k0_hw3 : k0_chk3 v15 v22) (k0_t19 : Fin (k0_t19_loop v15 v22).trips) (k0_t20 : Fin (k0_t20_loop v15 v22 k0_t19).trips), ∀ (r : Fin 3), ∀ a, (k0_off418 v15 v22 k0_t19 k0_t20 (BitVec.ofNat 32 (1 + r.val))) a + S1x16.size a ≤ S128x256.size a := fun v15 v22 k0_hw3 k0_t19 k0_t20 r => k0_hw3.1.2.2.2.2.2.2.2.2.2.2.2.2.2.2.2.2.2.2.2.2.2.2.2.2.2.2.2.2.2.2.1 k0_t19 k0_t20 r
theorem k0_off419_inb : ∀ (v15 : BitVec 32) (v22 : BitVec 32) (k0_hw3 : k0_chk3 v15 v22) (k0_t19 : Fin (k0_t19_loop v15 v22).trips) (k0_t20 : Fin (k0_t20_loop v15 v22 k0_t19).trips), ∀ (r : Fin 3), ∀ a, (k0_off419 v15 v22 k0_t19 k0_t20 (BitVec.ofNat 32 (1 + r.val))) a + S1x16.size a ≤ S128x256.size a := fun v15 v22 k0_hw3 k0_t19 k0_t20 r => k0_hw3.1.2.2.2.2.2.2.2.2.2.2.2.2.2.2.2.2.2.2.2.2.2.2.2.2.2.2.2.2.2.2.2 k0_t19 k0_t20 r
theorem k0_off420_inb : ∀ (v15 : BitVec 32) (v22 : BitVec 32) (k0_hw3 : k0_chk3 v15 v22) (k0_t19 : Fin (k0_t19_loop v15 v22).trips) (k0_t20 : Fin (k0_t20_loop v15 v22 k0_t19).trips), ∀ (r : Fin 3), ∀ a, (k0_off420 v15 v22 k0_t19 k0_t20 (BitVec.ofNat 32 (1 + r.val))) a + S1x16.size a ≤ S128x256.size a := fun v15 v22 k0_hw3 k0_t19 k0_t20 r => k0_hw3.2.1.1 k0_t19 k0_t20 r
theorem k0_off421_inb : ∀ (v15 : BitVec 32) (v22 : BitVec 32) (k0_hw3 : k0_chk3 v15 v22) (k0_t19 : Fin (k0_t19_loop v15 v22).trips) (k0_t20 : Fin (k0_t20_loop v15 v22 k0_t19).trips), ∀ (r : Fin 3), ∀ a, (k0_off421 v15 v22 k0_t19 k0_t20 (BitVec.ofNat 32 (1 + r.val))) a + S1x16.size a ≤ S128x256.size a := fun v15 v22 k0_hw3 k0_t19 k0_t20 r => k0_hw3.2.1.2.1 k0_t19 k0_t20 r
theorem k0_off422_inb : ∀ (v15 : BitVec 32) (v22 : BitVec 32) (k0_hw3 : k0_chk3 v15 v22) (k0_t19 : Fin (k0_t19_loop v15 v22).trips) (k0_t20 : Fin (k0_t20_loop v15 v22 k0_t19).trips), ∀ (r : Fin 3), ∀ a, (k0_off422 v15 v22 k0_t19 k0_t20 (BitVec.ofNat 32 (1 + r.val))) a + S1x16.size a ≤ S128x256.size a := fun v15 v22 k0_hw3 k0_t19 k0_t20 r => k0_hw3.2.1.2.2.1 k0_t19 k0_t20 r
theorem k0_off423_inb : ∀ (v15 : BitVec 32) (v22 : BitVec 32) (k0_hw3 : k0_chk3 v15 v22) (k0_t19 : Fin (k0_t19_loop v15 v22).trips) (k0_t20 : Fin (k0_t20_loop v15 v22 k0_t19).trips), ∀ (r : Fin 3), ∀ a, (k0_off423 v15 v22 k0_t19 k0_t20 (BitVec.ofNat 32 (1 + r.val))) a + S1x16.size a ≤ S128x256.size a := fun v15 v22 k0_hw3 k0_t19 k0_t20 r => k0_hw3.2.1.2.2.2.1 k0_t19 k0_t20 r
theorem k0_off424_inb : ∀ (v15 : BitVec 32) (v22 : BitVec 32) (k0_hw3 : k0_chk3 v15 v22) (k0_t19 : Fin (k0_t19_loop v15 v22).trips) (k0_t20 : Fin (k0_t20_loop v15 v22 k0_t19).trips), ∀ (r : Fin 3), ∀ a, (k0_off424 v15 v22 k0_t19 k0_t20 (BitVec.ofNat 32 (1 + r.val))) a + S1x16.size a ≤ S128x256.size a := fun v15 v22 k0_hw3 k0_t19 k0_t20 r => k0_hw3.2.1.2.2.2.2.1 k0_t19 k0_t20 r
theorem k0_t21_ok : ∀ (v15 : BitVec 32) (v22 : BitVec 32) (k0_hw3 : k0_chk3 v15 v22) (k0_t19 : Fin (k0_t19_loop v15 v22).trips), (k0_t21_loop v15 v22 k0_t19).OK := fun v15 v22 k0_hw3 k0_t19 => k0_hw3.2.1.2.2.2.2.2.1 k0_t19
theorem k0_off425_inb : ∀ (v15 : BitVec 32) (v22 : BitVec 32) (k0_hw3 : k0_chk3 v15 v22) (k0_t19 : Fin (k0_t19_loop v15 v22).trips) (k0_t21 : Fin (k0_t21_loop v15 v22 k0_t19).trips), ∀ a, (k0_off425 v15 v22 k0_t19 k0_t21) a + S1x16.size a ≤ S128x256.size a := fun v15 v22 k0_hw3 k0_t19 k0_t21 => k0_hw3.2.1.2.2.2.2.2.2.1 k0_t19 k0_t21
theorem k0_off426_inb : ∀ (v15 : BitVec 32) (v22 : BitVec 32) (k0_hw3 : k0_chk3 v15 v22) (k0_t19 : Fin (k0_t19_loop v15 v22).trips) (k0_t21 : Fin (k0_t21_loop v15 v22 k0_t19).trips), ∀ a, (k0_off426 v15 v22 k0_t19 k0_t21) a + S1x16.size a ≤ S128x256.size a := fun v15 v22 k0_hw3 k0_t19 k0_t21 => k0_hw3.2.1.2.2.2.2.2.2.2.1 k0_t19 k0_t21
theorem k0_off427_inb : ∀ (v15 : BitVec 32) (v22 : BitVec 32) (k0_hw3 : k0_chk3 v15 v22) (k0_t19 : Fin (k0_t19_loop v15 v22).trips) (k0_t21 : Fin (k0_t21_loop v15 v22 k0_t19).trips), ∀ a, (k0_off427 v15 v22 k0_t19 k0_t21) a + S1x16.size a ≤ S128x256.size a := fun v15 v22 k0_hw3 k0_t19 k0_t21 => k0_hw3.2.1.2.2.2.2.2.2.2.2.1 k0_t19 k0_t21
theorem k0_off428_inb : ∀ (v15 : BitVec 32) (v22 : BitVec 32) (k0_hw3 : k0_chk3 v15 v22) (k0_t19 : Fin (k0_t19_loop v15 v22).trips) (k0_t21 : Fin (k0_t21_loop v15 v22 k0_t19).trips), ∀ a, (k0_off428 v15 v22 k0_t19 k0_t21) a + S1x16.size a ≤ S128x256.size a := fun v15 v22 k0_hw3 k0_t19 k0_t21 => k0_hw3.2.1.2.2.2.2.2.2.2.2.2.1 k0_t19 k0_t21
theorem k0_off429_inb : ∀ (v15 : BitVec 32) (v22 : BitVec 32) (k0_hw3 : k0_chk3 v15 v22) (k0_t19 : Fin (k0_t19_loop v15 v22).trips) (k0_t21 : Fin (k0_t21_loop v15 v22 k0_t19).trips), ∀ a, (k0_off429 v15 v22 k0_t19 k0_t21) a + S1x16.size a ≤ S128x256.size a := fun v15 v22 k0_hw3 k0_t19 k0_t21 => k0_hw3.2.1.2.2.2.2.2.2.2.2.2.2.1 k0_t19 k0_t21
theorem k0_off430_inb : ∀ (v15 : BitVec 32) (v22 : BitVec 32) (k0_hw3 : k0_chk3 v15 v22) (k0_t19 : Fin (k0_t19_loop v15 v22).trips) (k0_t21 : Fin (k0_t21_loop v15 v22 k0_t19).trips), ∀ a, (k0_off430 v15 v22 k0_t19 k0_t21) a + S1x16.size a ≤ S128x256.size a := fun v15 v22 k0_hw3 k0_t19 k0_t21 => k0_hw3.2.1.2.2.2.2.2.2.2.2.2.2.2.1 k0_t19 k0_t21
theorem k0_off431_inb : ∀ (v15 : BitVec 32) (v22 : BitVec 32) (k0_hw3 : k0_chk3 v15 v22) (k0_t19 : Fin (k0_t19_loop v15 v22).trips) (k0_t21 : Fin (k0_t21_loop v15 v22 k0_t19).trips), ∀ a, (k0_off431 v15 v22 k0_t19 k0_t21) a + S1x16.size a ≤ S128x256.size a := fun v15 v22 k0_hw3 k0_t19 k0_t21 => k0_hw3.2.1.2.2.2.2.2.2.2.2.2.2.2.2.1 k0_t19 k0_t21
theorem k0_off432_inb : ∀ (v15 : BitVec 32) (v22 : BitVec 32) (k0_hw3 : k0_chk3 v15 v22) (k0_t19 : Fin (k0_t19_loop v15 v22).trips) (k0_t21 : Fin (k0_t21_loop v15 v22 k0_t19).trips), ∀ a, (k0_off432 v15 v22 k0_t19 k0_t21) a + S1x16.size a ≤ S128x256.size a := fun v15 v22 k0_hw3 k0_t19 k0_t21 => k0_hw3.2.1.2.2.2.2.2.2.2.2.2.2.2.2.2.1 k0_t19 k0_t21
theorem k0_off433_inb : ∀ (v15 : BitVec 32) (v22 : BitVec 32) (k0_hw3 : k0_chk3 v15 v22) (k0_t19 : Fin (k0_t19_loop v15 v22).trips) (k0_t21 : Fin (k0_t21_loop v15 v22 k0_t19).trips), ∀ a, (k0_off433 v15 v22 k0_t19 k0_t21) a + S1x16.size a ≤ S128x256.size a := fun v15 v22 k0_hw3 k0_t19 k0_t21 => k0_hw3.2.1.2.2.2.2.2.2.2.2.2.2.2.2.2.2.1 k0_t19 k0_t21
theorem k0_off434_inb : ∀ (v15 : BitVec 32) (v22 : BitVec 32) (k0_hw3 : k0_chk3 v15 v22) (k0_t19 : Fin (k0_t19_loop v15 v22).trips) (k0_t21 : Fin (k0_t21_loop v15 v22 k0_t19).trips), ∀ a, (k0_off434 v15 v22 k0_t19 k0_t21) a + S1x16.size a ≤ S128x256.size a := fun v15 v22 k0_hw3 k0_t19 k0_t21 => k0_hw3.2.1.2.2.2.2.2.2.2.2.2.2.2.2.2.2.2.1 k0_t19 k0_t21
theorem k0_off435_inb : ∀ (v15 : BitVec 32) (v22 : BitVec 32) (k0_hw3 : k0_chk3 v15 v22) (k0_t19 : Fin (k0_t19_loop v15 v22).trips) (k0_t21 : Fin (k0_t21_loop v15 v22 k0_t19).trips), ∀ a, (k0_off435 v15 v22 k0_t19 k0_t21) a + S1x16.size a ≤ S128x256.size a := fun v15 v22 k0_hw3 k0_t19 k0_t21 => k0_hw3.2.1.2.2.2.2.2.2.2.2.2.2.2.2.2.2.2.2.1 k0_t19 k0_t21
theorem k0_off436_inb : ∀ (v15 : BitVec 32) (v22 : BitVec 32) (k0_hw3 : k0_chk3 v15 v22) (k0_t19 : Fin (k0_t19_loop v15 v22).trips) (k0_t21 : Fin (k0_t21_loop v15 v22 k0_t19).trips), ∀ a, (k0_off436 v15 v22 k0_t19 k0_t21) a + S1x16.size a ≤ S128x256.size a := fun v15 v22 k0_hw3 k0_t19 k0_t21 => k0_hw3.2.1.2.2.2.2.2.2.2.2.2.2.2.2.2.2.2.2.2.1 k0_t19 k0_t21
theorem k0_off437_inb : ∀ (v15 : BitVec 32) (v22 : BitVec 32) (k0_hw3 : k0_chk3 v15 v22) (k0_t19 : Fin (k0_t19_loop v15 v22).trips) (k0_t21 : Fin (k0_t21_loop v15 v22 k0_t19).trips), ∀ a, (k0_off437 v15 v22 k0_t19 k0_t21) a + S1x16.size a ≤ S128x256.size a := fun v15 v22 k0_hw3 k0_t19 k0_t21 => k0_hw3.2.1.2.2.2.2.2.2.2.2.2.2.2.2.2.2.2.2.2.2.1 k0_t19 k0_t21
theorem k0_off438_inb : ∀ (v15 : BitVec 32) (v22 : BitVec 32) (k0_hw3 : k0_chk3 v15 v22) (k0_t19 : Fin (k0_t19_loop v15 v22).trips) (k0_t21 : Fin (k0_t21_loop v15 v22 k0_t19).trips), ∀ a, (k0_off438 v15 v22 k0_t19 k0_t21) a + S1x16.size a ≤ S128x256.size a := fun v15 v22 k0_hw3 k0_t19 k0_t21 => k0_hw3.2.1.2.2.2.2.2.2.2.2.2.2.2.2.2.2.2.2.2.2.2.1 k0_t19 k0_t21
theorem k0_off439_inb : ∀ (v15 : BitVec 32) (v22 : BitVec 32) (k0_hw3 : k0_chk3 v15 v22) (k0_t19 : Fin (k0_t19_loop v15 v22).trips) (k0_t21 : Fin (k0_t21_loop v15 v22 k0_t19).trips), ∀ a, (k0_off439 v15 v22 k0_t19 k0_t21) a + S1x16.size a ≤ S128x256.size a := fun v15 v22 k0_hw3 k0_t19 k0_t21 => k0_hw3.2.1.2.2.2.2.2.2.2.2.2.2.2.2.2.2.2.2.2.2.2.2.1 k0_t19 k0_t21
theorem k0_off440_inb : ∀ (v15 : BitVec 32) (v22 : BitVec 32) (k0_hw3 : k0_chk3 v15 v22) (k0_t19 : Fin (k0_t19_loop v15 v22).trips) (k0_t21 : Fin (k0_t21_loop v15 v22 k0_t19).trips), ∀ a, (k0_off440 v15 v22 k0_t19 k0_t21) a + S1x16.size a ≤ S128x256.size a := fun v15 v22 k0_hw3 k0_t19 k0_t21 => k0_hw3.2.1.2.2.2.2.2.2.2.2.2.2.2.2.2.2.2.2.2.2.2.2.2.1 k0_t19 k0_t21
theorem k0_off441_inb : ∀ (v15 : BitVec 32) (v22 : BitVec 32) (k0_hw3 : k0_chk3 v15 v22) (k0_t19 : Fin (k0_t19_loop v15 v22).trips) (k0_t21 : Fin (k0_t21_loop v15 v22 k0_t19).trips), ∀ (r : Fin 3), ∀ a, (k0_off441 v15 v22 k0_t19 k0_t21 (BitVec.ofNat 32 (1 + r.val))) a + S1x16.size a ≤ S128x256.size a := fun v15 v22 k0_hw3 k0_t19 k0_t21 r => k0_hw3.2.1.2.2.2.2.2.2.2.2.2.2.2.2.2.2.2.2.2.2.2.2.2.2.1 k0_t19 k0_t21 r
theorem k0_off442_inb : ∀ (v15 : BitVec 32) (v22 : BitVec 32) (k0_hw3 : k0_chk3 v15 v22) (k0_t19 : Fin (k0_t19_loop v15 v22).trips) (k0_t21 : Fin (k0_t21_loop v15 v22 k0_t19).trips), ∀ (r : Fin 3), ∀ a, (k0_off442 v15 v22 k0_t19 k0_t21 (BitVec.ofNat 32 (1 + r.val))) a + S1x16.size a ≤ S128x256.size a := fun v15 v22 k0_hw3 k0_t19 k0_t21 r => k0_hw3.2.1.2.2.2.2.2.2.2.2.2.2.2.2.2.2.2.2.2.2.2.2.2.2.2.1 k0_t19 k0_t21 r
theorem k0_off443_inb : ∀ (v15 : BitVec 32) (v22 : BitVec 32) (k0_hw3 : k0_chk3 v15 v22) (k0_t19 : Fin (k0_t19_loop v15 v22).trips) (k0_t21 : Fin (k0_t21_loop v15 v22 k0_t19).trips), ∀ (r : Fin 3), ∀ a, (k0_off443 v15 v22 k0_t19 k0_t21 (BitVec.ofNat 32 (1 + r.val))) a + S1x16.size a ≤ S128x256.size a := fun v15 v22 k0_hw3 k0_t19 k0_t21 r => k0_hw3.2.1.2.2.2.2.2.2.2.2.2.2.2.2.2.2.2.2.2.2.2.2.2.2.2.2.1 k0_t19 k0_t21 r
theorem k0_off444_inb : ∀ (v15 : BitVec 32) (v22 : BitVec 32) (k0_hw3 : k0_chk3 v15 v22) (k0_t19 : Fin (k0_t19_loop v15 v22).trips) (k0_t21 : Fin (k0_t21_loop v15 v22 k0_t19).trips), ∀ (r : Fin 3), ∀ a, (k0_off444 v15 v22 k0_t19 k0_t21 (BitVec.ofNat 32 (1 + r.val))) a + S1x16.size a ≤ S128x256.size a := fun v15 v22 k0_hw3 k0_t19 k0_t21 r => k0_hw3.2.1.2.2.2.2.2.2.2.2.2.2.2.2.2.2.2.2.2.2.2.2.2.2.2.2.2.1 k0_t19 k0_t21 r
theorem k0_off445_inb : ∀ (v15 : BitVec 32) (v22 : BitVec 32) (k0_hw3 : k0_chk3 v15 v22) (k0_t19 : Fin (k0_t19_loop v15 v22).trips) (k0_t21 : Fin (k0_t21_loop v15 v22 k0_t19).trips), ∀ (r : Fin 3), ∀ a, (k0_off445 v15 v22 k0_t19 k0_t21 (BitVec.ofNat 32 (1 + r.val))) a + S1x16.size a ≤ S128x256.size a := fun v15 v22 k0_hw3 k0_t19 k0_t21 r => k0_hw3.2.1.2.2.2.2.2.2.2.2.2.2.2.2.2.2.2.2.2.2.2.2.2.2.2.2.2.2.1 k0_t19 k0_t21 r
theorem k0_off446_inb : ∀ (v15 : BitVec 32) (v22 : BitVec 32) (k0_hw3 : k0_chk3 v15 v22) (k0_t19 : Fin (k0_t19_loop v15 v22).trips) (k0_t21 : Fin (k0_t21_loop v15 v22 k0_t19).trips), ∀ (r : Fin 3), ∀ a, (k0_off446 v15 v22 k0_t19 k0_t21 (BitVec.ofNat 32 (1 + r.val))) a + S1x16.size a ≤ S128x256.size a := fun v15 v22 k0_hw3 k0_t19 k0_t21 r => k0_hw3.2.1.2.2.2.2.2.2.2.2.2.2.2.2.2.2.2.2.2.2.2.2.2.2.2.2.2.2.2.1 k0_t19 k0_t21 r
theorem k0_off447_inb : ∀ (v15 : BitVec 32) (v22 : BitVec 32) (k0_hw3 : k0_chk3 v15 v22) (k0_t19 : Fin (k0_t19_loop v15 v22).trips) (k0_t21 : Fin (k0_t21_loop v15 v22 k0_t19).trips), ∀ (r : Fin 3), ∀ a, (k0_off447 v15 v22 k0_t19 k0_t21 (BitVec.ofNat 32 (1 + r.val))) a + S1x16.size a ≤ S128x256.size a := fun v15 v22 k0_hw3 k0_t19 k0_t21 r => k0_hw3.2.1.2.2.2.2.2.2.2.2.2.2.2.2.2.2.2.2.2.2.2.2.2.2.2.2.2.2.2.2.1 k0_t19 k0_t21 r
theorem k0_off448_inb : ∀ (v15 : BitVec 32) (v22 : BitVec 32) (k0_hw3 : k0_chk3 v15 v22) (k0_t19 : Fin (k0_t19_loop v15 v22).trips) (k0_t21 : Fin (k0_t21_loop v15 v22 k0_t19).trips), ∀ (r : Fin 3), ∀ a, (k0_off448 v15 v22 k0_t19 k0_t21 (BitVec.ofNat 32 (1 + r.val))) a + S1x16.size a ≤ S128x256.size a := fun v15 v22 k0_hw3 k0_t19 k0_t21 r => k0_hw3.2.1.2.2.2.2.2.2.2.2.2.2.2.2.2.2.2.2.2.2.2.2.2.2.2.2.2.2.2.2.2.1 k0_t19 k0_t21 r
theorem k0_off449_inb : ∀ (v15 : BitVec 32) (v22 : BitVec 32) (k0_hw3 : k0_chk3 v15 v22) (k0_t19 : Fin (k0_t19_loop v15 v22).trips) (k0_t21 : Fin (k0_t21_loop v15 v22 k0_t19).trips), ∀ (r : Fin 3), ∀ a, (k0_off449 v15 v22 k0_t19 k0_t21 (BitVec.ofNat 32 (1 + r.val))) a + S1x16.size a ≤ S128x256.size a := fun v15 v22 k0_hw3 k0_t19 k0_t21 r => k0_hw3.2.1.2.2.2.2.2.2.2.2.2.2.2.2.2.2.2.2.2.2.2.2.2.2.2.2.2.2.2.2.2.2.1 k0_t19 k0_t21 r
theorem k0_off450_inb : ∀ (v15 : BitVec 32) (v22 : BitVec 32) (k0_hw3 : k0_chk3 v15 v22) (k0_t19 : Fin (k0_t19_loop v15 v22).trips) (k0_t21 : Fin (k0_t21_loop v15 v22 k0_t19).trips), ∀ (r : Fin 3), ∀ a, (k0_off450 v15 v22 k0_t19 k0_t21 (BitVec.ofNat 32 (1 + r.val))) a + S1x16.size a ≤ S128x256.size a := fun v15 v22 k0_hw3 k0_t19 k0_t21 r => k0_hw3.2.1.2.2.2.2.2.2.2.2.2.2.2.2.2.2.2.2.2.2.2.2.2.2.2.2.2.2.2.2.2.2.2 k0_t19 k0_t21 r
theorem k0_off451_inb : ∀ (v15 : BitVec 32) (v22 : BitVec 32) (k0_hw3 : k0_chk3 v15 v22) (k0_t19 : Fin (k0_t19_loop v15 v22).trips) (k0_t21 : Fin (k0_t21_loop v15 v22 k0_t19).trips), ∀ (r : Fin 3), ∀ a, (k0_off451 v15 v22 k0_t19 k0_t21 (BitVec.ofNat 32 (1 + r.val))) a + S1x16.size a ≤ S128x256.size a := fun v15 v22 k0_hw3 k0_t19 k0_t21 r => k0_hw3.2.2.1.1 k0_t19 k0_t21 r
theorem k0_off452_inb : ∀ (v15 : BitVec 32) (v22 : BitVec 32) (k0_hw3 : k0_chk3 v15 v22) (k0_t19 : Fin (k0_t19_loop v15 v22).trips) (k0_t21 : Fin (k0_t21_loop v15 v22 k0_t19).trips), ∀ (r : Fin 3), ∀ a, (k0_off452 v15 v22 k0_t19 k0_t21 (BitVec.ofNat 32 (1 + r.val))) a + S1x16.size a ≤ S128x256.size a := fun v15 v22 k0_hw3 k0_t19 k0_t21 r => k0_hw3.2.2.1.2.1 k0_t19 k0_t21 r
theorem k0_off453_inb : ∀ (v15 : BitVec 32) (v22 : BitVec 32) (k0_hw3 : k0_chk3 v15 v22) (k0_t19 : Fin (k0_t19_loop v15 v22).trips) (k0_t21 : Fin (k0_t21_loop v15 v22 k0_t19).trips), ∀ (r : Fin 3), ∀ a, (k0_off453 v15 v22 k0_t19 k0_t21 (BitVec.ofNat 32 (1 + r.val))) a + S1x16.size a ≤ S128x256.size a := fun v15 v22 k0_hw3 k0_t19 k0_t21 r => k0_hw3.2.2.1.2.2.1 k0_t19 k0_t21 r
theorem k0_off454_inb : ∀ (v15 : BitVec 32) (v22 : BitVec 32) (k0_hw3 : k0_chk3 v15 v22) (k0_t19 : Fin (k0_t19_loop v15 v22).trips) (k0_t21 : Fin (k0_t21_loop v15 v22 k0_t19).trips), ∀ (r : Fin 3), ∀ a, (k0_off454 v15 v22 k0_t19 k0_t21 (BitVec.ofNat 32 (1 + r.val))) a + S1x16.size a ≤ S128x256.size a := fun v15 v22 k0_hw3 k0_t19 k0_t21 r => k0_hw3.2.2.1.2.2.2.1 k0_t19 k0_t21 r
theorem k0_off455_inb : ∀ (v15 : BitVec 32) (v22 : BitVec 32) (k0_hw3 : k0_chk3 v15 v22) (k0_t19 : Fin (k0_t19_loop v15 v22).trips) (k0_t21 : Fin (k0_t21_loop v15 v22 k0_t19).trips), ∀ (r : Fin 3), ∀ a, (k0_off455 v15 v22 k0_t19 k0_t21 (BitVec.ofNat 32 (1 + r.val))) a + S1x16.size a ≤ S128x256.size a := fun v15 v22 k0_hw3 k0_t19 k0_t21 r => k0_hw3.2.2.1.2.2.2.2.1 k0_t19 k0_t21 r
theorem k0_off456_inb : ∀ (v15 : BitVec 32) (v22 : BitVec 32) (k0_hw3 : k0_chk3 v15 v22) (k0_t19 : Fin (k0_t19_loop v15 v22).trips) (k0_t21 : Fin (k0_t21_loop v15 v22 k0_t19).trips), ∀ (r : Fin 3), ∀ a, (k0_off456 v15 v22 k0_t19 k0_t21 (BitVec.ofNat 32 (1 + r.val))) a + S1x16.size a ≤ S128x256.size a := fun v15 v22 k0_hw3 k0_t19 k0_t21 r => k0_hw3.2.2.1.2.2.2.2.2.1 k0_t19 k0_t21 r
theorem k0_t22_ok : ∀ (v15 : BitVec 32) (v22 : BitVec 32) (k0_hw3 : k0_chk3 v15 v22) (k0_t19 : Fin (k0_t19_loop v15 v22).trips), (k0_t22_loop v15 v22 k0_t19).OK := fun v15 v22 k0_hw3 k0_t19 => k0_hw3.2.2.1.2.2.2.2.2.2.1 k0_t19
theorem k0_off457_inb : ∀ (v15 : BitVec 32) (v22 : BitVec 32) (k0_hw3 : k0_chk3 v15 v22) (k0_t19 : Fin (k0_t19_loop v15 v22).trips) (k0_t22 : Fin (k0_t22_loop v15 v22 k0_t19).trips), ∀ a, (k0_off457 v15 v22 k0_t19 k0_t22) a + S1x16.size a ≤ S128x256.size a := fun v15 v22 k0_hw3 k0_t19 k0_t22 => k0_hw3.2.2.1.2.2.2.2.2.2.2.1 k0_t19 k0_t22
theorem k0_off458_inb : ∀ (v15 : BitVec 32) (v22 : BitVec 32) (k0_hw3 : k0_chk3 v15 v22) (k0_t19 : Fin (k0_t19_loop v15 v22).trips) (k0_t22 : Fin (k0_t22_loop v15 v22 k0_t19).trips), ∀ a, (k0_off458 v15 v22 k0_t19 k0_t22) a + S1x16.size a ≤ S128x256.size a := fun v15 v22 k0_hw3 k0_t19 k0_t22 => k0_hw3.2.2.1.2.2.2.2.2.2.2.2.1 k0_t19 k0_t22
theorem k0_off459_inb : ∀ (v15 : BitVec 32) (v22 : BitVec 32) (k0_hw3 : k0_chk3 v15 v22) (k0_t19 : Fin (k0_t19_loop v15 v22).trips) (k0_t22 : Fin (k0_t22_loop v15 v22 k0_t19).trips), ∀ a, (k0_off459 v15 v22 k0_t19 k0_t22) a + S1x16.size a ≤ S128x256.size a := fun v15 v22 k0_hw3 k0_t19 k0_t22 => k0_hw3.2.2.1.2.2.2.2.2.2.2.2.2.1 k0_t19 k0_t22
theorem k0_off460_inb : ∀ (v15 : BitVec 32) (v22 : BitVec 32) (k0_hw3 : k0_chk3 v15 v22) (k0_t19 : Fin (k0_t19_loop v15 v22).trips) (k0_t22 : Fin (k0_t22_loop v15 v22 k0_t19).trips), ∀ a, (k0_off460 v15 v22 k0_t19 k0_t22) a + S1x16.size a ≤ S128x256.size a := fun v15 v22 k0_hw3 k0_t19 k0_t22 => k0_hw3.2.2.1.2.2.2.2.2.2.2.2.2.2.1 k0_t19 k0_t22
theorem k0_off461_inb : ∀ (v15 : BitVec 32) (v22 : BitVec 32) (k0_hw3 : k0_chk3 v15 v22) (k0_t19 : Fin (k0_t19_loop v15 v22).trips) (k0_t22 : Fin (k0_t22_loop v15 v22 k0_t19).trips), ∀ a, (k0_off461 v15 v22 k0_t19 k0_t22) a + S1x16.size a ≤ S128x256.size a := fun v15 v22 k0_hw3 k0_t19 k0_t22 => k0_hw3.2.2.1.2.2.2.2.2.2.2.2.2.2.2.1 k0_t19 k0_t22
theorem k0_off462_inb : ∀ (v15 : BitVec 32) (v22 : BitVec 32) (k0_hw3 : k0_chk3 v15 v22) (k0_t19 : Fin (k0_t19_loop v15 v22).trips) (k0_t22 : Fin (k0_t22_loop v15 v22 k0_t19).trips), ∀ a, (k0_off462 v15 v22 k0_t19 k0_t22) a + S1x16.size a ≤ S128x256.size a := fun v15 v22 k0_hw3 k0_t19 k0_t22 => k0_hw3.2.2.1.2.2.2.2.2.2.2.2.2.2.2.2.1 k0_t19 k0_t22
theorem k0_off463_inb : ∀ (v15 : BitVec 32) (v22 : BitVec 32) (k0_hw3 : k0_chk3 v15 v22) (k0_t19 : Fin (k0_t19_loop v15 v22).trips) (k0_t22 : Fin (k0_t22_loop v15 v22 k0_t19).trips), ∀ a, (k0_off463 v15 v22 k0_t19 k0_t22) a + S1x16.size a ≤ S128x256.size a := fun v15 v22 k0_hw3 k0_t19 k0_t22 => k0_hw3.2.2.1.2.2.2.2.2.2.2.2.2.2.2.2.2.1 k0_t19 k0_t22
theorem k0_off464_inb : ∀ (v15 : BitVec 32) (v22 : BitVec 32) (k0_hw3 : k0_chk3 v15 v22) (k0_t19 : Fin (k0_t19_loop v15 v22).trips) (k0_t22 : Fin (k0_t22_loop v15 v22 k0_t19).trips), ∀ a, (k0_off464 v15 v22 k0_t19 k0_t22) a + S1x16.size a ≤ S128x256.size a := fun v15 v22 k0_hw3 k0_t19 k0_t22 => k0_hw3.2.2.1.2.2.2.2.2.2.2.2.2.2.2.2.2.2.1 k0_t19 k0_t22
theorem k0_off465_inb : ∀ (v15 : BitVec 32) (v22 : BitVec 32) (k0_hw3 : k0_chk3 v15 v22) (k0_t19 : Fin (k0_t19_loop v15 v22).trips) (k0_t22 : Fin (k0_t22_loop v15 v22 k0_t19).trips), ∀ a, (k0_off465 v15 v22 k0_t19 k0_t22) a + S1x16.size a ≤ S128x256.size a := fun v15 v22 k0_hw3 k0_t19 k0_t22 => k0_hw3.2.2.1.2.2.2.2.2.2.2.2.2.2.2.2.2.2.2.1 k0_t19 k0_t22
theorem k0_off466_inb : ∀ (v15 : BitVec 32) (v22 : BitVec 32) (k0_hw3 : k0_chk3 v15 v22) (k0_t19 : Fin (k0_t19_loop v15 v22).trips) (k0_t22 : Fin (k0_t22_loop v15 v22 k0_t19).trips), ∀ a, (k0_off466 v15 v22 k0_t19 k0_t22) a + S1x16.size a ≤ S128x256.size a := fun v15 v22 k0_hw3 k0_t19 k0_t22 => k0_hw3.2.2.1.2.2.2.2.2.2.2.2.2.2.2.2.2.2.2.2.1 k0_t19 k0_t22
theorem k0_off467_inb : ∀ (v15 : BitVec 32) (v22 : BitVec 32) (k0_hw3 : k0_chk3 v15 v22) (k0_t19 : Fin (k0_t19_loop v15 v22).trips) (k0_t22 : Fin (k0_t22_loop v15 v22 k0_t19).trips), ∀ a, (k0_off467 v15 v22 k0_t19 k0_t22) a + S1x16.size a ≤ S128x256.size a := fun v15 v22 k0_hw3 k0_t19 k0_t22 => k0_hw3.2.2.1.2.2.2.2.2.2.2.2.2.2.2.2.2.2.2.2.2.1 k0_t19 k0_t22
theorem k0_off468_inb : ∀ (v15 : BitVec 32) (v22 : BitVec 32) (k0_hw3 : k0_chk3 v15 v22) (k0_t19 : Fin (k0_t19_loop v15 v22).trips) (k0_t22 : Fin (k0_t22_loop v15 v22 k0_t19).trips), ∀ a, (k0_off468 v15 v22 k0_t19 k0_t22) a + S1x16.size a ≤ S128x256.size a := fun v15 v22 k0_hw3 k0_t19 k0_t22 => k0_hw3.2.2.1.2.2.2.2.2.2.2.2.2.2.2.2.2.2.2.2.2.2.1 k0_t19 k0_t22
theorem k0_off469_inb : ∀ (v15 : BitVec 32) (v22 : BitVec 32) (k0_hw3 : k0_chk3 v15 v22) (k0_t19 : Fin (k0_t19_loop v15 v22).trips) (k0_t22 : Fin (k0_t22_loop v15 v22 k0_t19).trips), ∀ a, (k0_off469 v15 v22 k0_t19 k0_t22) a + S1x16.size a ≤ S128x256.size a := fun v15 v22 k0_hw3 k0_t19 k0_t22 => k0_hw3.2.2.1.2.2.2.2.2.2.2.2.2.2.2.2.2.2.2.2.2.2.2.1 k0_t19 k0_t22
theorem k0_off470_inb : ∀ (v15 : BitVec 32) (v22 : BitVec 32) (k0_hw3 : k0_chk3 v15 v22) (k0_t19 : Fin (k0_t19_loop v15 v22).trips) (k0_t22 : Fin (k0_t22_loop v15 v22 k0_t19).trips), ∀ a, (k0_off470 v15 v22 k0_t19 k0_t22) a + S1x16.size a ≤ S128x256.size a := fun v15 v22 k0_hw3 k0_t19 k0_t22 => k0_hw3.2.2.1.2.2.2.2.2.2.2.2.2.2.2.2.2.2.2.2.2.2.2.2.1 k0_t19 k0_t22
theorem k0_off471_inb : ∀ (v15 : BitVec 32) (v22 : BitVec 32) (k0_hw3 : k0_chk3 v15 v22) (k0_t19 : Fin (k0_t19_loop v15 v22).trips) (k0_t22 : Fin (k0_t22_loop v15 v22 k0_t19).trips), ∀ a, (k0_off471 v15 v22 k0_t19 k0_t22) a + S1x16.size a ≤ S128x256.size a := fun v15 v22 k0_hw3 k0_t19 k0_t22 => k0_hw3.2.2.1.2.2.2.2.2.2.2.2.2.2.2.2.2.2.2.2.2.2.2.2.2.1 k0_t19 k0_t22
theorem k0_off472_inb : ∀ (v15 : BitVec 32) (v22 : BitVec 32) (k0_hw3 : k0_chk3 v15 v22) (k0_t19 : Fin (k0_t19_loop v15 v22).trips) (k0_t22 : Fin (k0_t22_loop v15 v22 k0_t19).trips), ∀ a, (k0_off472 v15 v22 k0_t19 k0_t22) a + S1x16.size a ≤ S128x256.size a := fun v15 v22 k0_hw3 k0_t19 k0_t22 => k0_hw3.2.2.1.2.2.2.2.2.2.2.2.2.2.2.2.2.2.2.2.2.2.2.2.2.2.1 k0_t19 k0_t22
theorem k0_t23_ok : ∀ (v15 : BitVec 32) (v22 : BitVec 32) (k0_hw3 : k0_chk3 v15 v22) (k0_t19 : Fin (k0_t19_loop v15 v22).trips), (k0_t23_loop v15 v22 k0_t19).OK := fun v15 v22 k0_hw3 k0_t19 => k0_hw3.2.2.1.2.2.2.2.2.2.2.2.2.2.2.2.2.2.2.2.2.2.2.2.2.2.2.1 k0_t19
theorem k0_off473_inb : ∀ (v15 : BitVec 32) (v22 : BitVec 32) (k0_hw3 : k0_chk3 v15 v22) (k0_t19 : Fin (k0_t19_loop v15 v22).trips) (k0_t23 : Fin (k0_t23_loop v15 v22 k0_t19).trips), ∀ a, (k0_off473 v15 v22 k0_t19 k0_t23) a + S1x16.size a ≤ S128x256.size a := fun v15 v22 k0_hw3 k0_t19 k0_t23 => k0_hw3.2.2.1.2.2.2.2.2.2.2.2.2.2.2.2.2.2.2.2.2.2.2.2.2.2.2.2.1 k0_t19 k0_t23
theorem k0_off474_inb : ∀ (v15 : BitVec 32) (v22 : BitVec 32) (k0_hw3 : k0_chk3 v15 v22) (k0_t19 : Fin (k0_t19_loop v15 v22).trips) (k0_t23 : Fin (k0_t23_loop v15 v22 k0_t19).trips), ∀ a, (k0_off474 v15 v22 k0_t19 k0_t23) a + S1x16.size a ≤ S128x256.size a := fun v15 v22 k0_hw3 k0_t19 k0_t23 => k0_hw3.2.2.1.2.2.2.2.2.2.2.2.2.2.2.2.2.2.2.2.2.2.2.2.2.2.2.2.2.1 k0_t19 k0_t23
theorem k0_off475_inb : ∀ (v15 : BitVec 32) (v22 : BitVec 32) (k0_hw3 : k0_chk3 v15 v22) (k0_t19 : Fin (k0_t19_loop v15 v22).trips) (k0_t23 : Fin (k0_t23_loop v15 v22 k0_t19).trips), ∀ a, (k0_off475 v15 v22 k0_t19 k0_t23) a + S1x16.size a ≤ S128x256.size a := fun v15 v22 k0_hw3 k0_t19 k0_t23 => k0_hw3.2.2.1.2.2.2.2.2.2.2.2.2.2.2.2.2.2.2.2.2.2.2.2.2.2.2.2.2.2.1 k0_t19 k0_t23
theorem k0_off476_inb : ∀ (v15 : BitVec 32) (v22 : BitVec 32) (k0_hw3 : k0_chk3 v15 v22) (k0_t19 : Fin (k0_t19_loop v15 v22).trips) (k0_t23 : Fin (k0_t23_loop v15 v22 k0_t19).trips), ∀ a, (k0_off476 v15 v22 k0_t19 k0_t23) a + S1x16.size a ≤ S128x256.size a := fun v15 v22 k0_hw3 k0_t19 k0_t23 => k0_hw3.2.2.1.2.2.2.2.2.2.2.2.2.2.2.2.2.2.2.2.2.2.2.2.2.2.2.2.2.2.2.1 k0_t19 k0_t23
theorem k0_off477_inb : ∀ (v15 : BitVec 32) (v22 : BitVec 32) (k0_hw3 : k0_chk3 v15 v22) (k0_t19 : Fin (k0_t19_loop v15 v22).trips) (k0_t23 : Fin (k0_t23_loop v15 v22 k0_t19).trips), ∀ a, (k0_off477 v15 v22 k0_t19 k0_t23) a + S1x16.size a ≤ S128x256.size a := fun v15 v22 k0_hw3 k0_t19 k0_t23 => k0_hw3.2.2.1.2.2.2.2.2.2.2.2.2.2.2.2.2.2.2.2.2.2.2.2.2.2.2.2.2.2.2.2.1 k0_t19 k0_t23
theorem k0_off478_inb : ∀ (v15 : BitVec 32) (v22 : BitVec 32) (k0_hw3 : k0_chk3 v15 v22) (k0_t19 : Fin (k0_t19_loop v15 v22).trips) (k0_t23 : Fin (k0_t23_loop v15 v22 k0_t19).trips), ∀ a, (k0_off478 v15 v22 k0_t19 k0_t23) a + S1x16.size a ≤ S128x256.size a := fun v15 v22 k0_hw3 k0_t19 k0_t23 => k0_hw3.2.2.1.2.2.2.2.2.2.2.2.2.2.2.2.2.2.2.2.2.2.2.2.2.2.2.2.2.2.2.2.2.1 k0_t19 k0_t23
theorem k0_off479_inb : ∀ (v15 : BitVec 32) (v22 : BitVec 32) (k0_hw3 : k0_chk3 v15 v22) (k0_t19 : Fin (k0_t19_loop v15 v22).trips) (k0_t23 : Fin (k0_t23_loop v15 v22 k0_t19).trips), ∀ a, (k0_off479 v15 v22 k0_t19 k0_t23) a + S1x16.size a ≤ S128x256.size a := fun v15 v22 k0_hw3 k0_t19 k0_t23 => k0_hw3.2.2.1.2.2.2.2.2.2.2.2.2.2.2.2.2.2.2.2.2.2.2.2.2.2.2.2.2.2.2.2.2.2.1 k0_t19 k0_t23
theorem k0_off480_inb : ∀ (v15 : BitVec 32) (v22 : BitVec 32) (k0_hw3 : k0_chk3 v15 v22) (k0_t19 : Fin (k0_t19_loop v15 v22).trips) (k0_t23 : Fin (k0_t23_loop v15 v22 k0_t19).trips), ∀ a, (k0_off480 v15 v22 k0_t19 k0_t23) a + S1x16.size a ≤ S128x256.size a := fun v15 v22 k0_hw3 k0_t19 k0_t23 => k0_hw3.2.2.1.2.2.2.2.2.2.2.2.2.2.2.2.2.2.2.2.2.2.2.2.2.2.2.2.2.2.2.2.2.2.2 k0_t19 k0_t23
theorem k0_off481_inb : ∀ (v15 : BitVec 32) (v22 : BitVec 32) (k0_hw3 : k0_chk3 v15 v22) (k0_t19 : Fin (k0_t19_loop v15 v22).trips) (k0_t23 : Fin (k0_t23_loop v15 v22 k0_t19).trips), ∀ a, (k0_off481 v15 v22 k0_t19 k0_t23) a + S1x16.size a ≤ S128x256.size a := fun v15 v22 k0_hw3 k0_t19 k0_t23 => k0_hw3.2.2.2.1.1 k0_t19 k0_t23
theorem k0_off482_inb : ∀ (v15 : BitVec 32) (v22 : BitVec 32) (k0_hw3 : k0_chk3 v15 v22) (k0_t19 : Fin (k0_t19_loop v15 v22).trips) (k0_t23 : Fin (k0_t23_loop v15 v22 k0_t19).trips), ∀ a, (k0_off482 v15 v22 k0_t19 k0_t23) a + S1x16.size a ≤ S128x256.size a := fun v15 v22 k0_hw3 k0_t19 k0_t23 => k0_hw3.2.2.2.1.2.1 k0_t19 k0_t23
theorem k0_off483_inb : ∀ (v15 : BitVec 32) (v22 : BitVec 32) (k0_hw3 : k0_chk3 v15 v22) (k0_t19 : Fin (k0_t19_loop v15 v22).trips) (k0_t23 : Fin (k0_t23_loop v15 v22 k0_t19).trips), ∀ a, (k0_off483 v15 v22 k0_t19 k0_t23) a + S1x16.size a ≤ S128x256.size a := fun v15 v22 k0_hw3 k0_t19 k0_t23 => k0_hw3.2.2.2.1.2.2.1 k0_t19 k0_t23
theorem k0_off484_inb : ∀ (v15 : BitVec 32) (v22 : BitVec 32) (k0_hw3 : k0_chk3 v15 v22) (k0_t19 : Fin (k0_t19_loop v15 v22).trips) (k0_t23 : Fin (k0_t23_loop v15 v22 k0_t19).trips), ∀ a, (k0_off484 v15 v22 k0_t19 k0_t23) a + S1x16.size a ≤ S128x256.size a := fun v15 v22 k0_hw3 k0_t19 k0_t23 => k0_hw3.2.2.2.1.2.2.2.1 k0_t19 k0_t23
theorem k0_off485_inb : ∀ (v15 : BitVec 32) (v22 : BitVec 32) (k0_hw3 : k0_chk3 v15 v22) (k0_t19 : Fin (k0_t19_loop v15 v22).trips) (k0_t23 : Fin (k0_t23_loop v15 v22 k0_t19).trips), ∀ a, (k0_off485 v15 v22 k0_t19 k0_t23) a + S1x16.size a ≤ S128x256.size a := fun v15 v22 k0_hw3 k0_t19 k0_t23 => k0_hw3.2.2.2.1.2.2.2.2.1 k0_t19 k0_t23
theorem k0_off486_inb : ∀ (v15 : BitVec 32) (v22 : BitVec 32) (k0_hw3 : k0_chk3 v15 v22) (k0_t19 : Fin (k0_t19_loop v15 v22).trips) (k0_t23 : Fin (k0_t23_loop v15 v22 k0_t19).trips), ∀ a, (k0_off486 v15 v22 k0_t19 k0_t23) a + S1x16.size a ≤ S128x256.size a := fun v15 v22 k0_hw3 k0_t19 k0_t23 => k0_hw3.2.2.2.1.2.2.2.2.2.1 k0_t19 k0_t23
theorem k0_off487_inb : ∀ (v15 : BitVec 32) (v22 : BitVec 32) (k0_hw3 : k0_chk3 v15 v22) (k0_t19 : Fin (k0_t19_loop v15 v22).trips) (k0_t23 : Fin (k0_t23_loop v15 v22 k0_t19).trips), ∀ a, (k0_off487 v15 v22 k0_t19 k0_t23) a + S1x16.size a ≤ S128x256.size a := fun v15 v22 k0_hw3 k0_t19 k0_t23 => k0_hw3.2.2.2.1.2.2.2.2.2.2.1 k0_t19 k0_t23
theorem k0_off488_inb : ∀ (v15 : BitVec 32) (v22 : BitVec 32) (k0_hw3 : k0_chk3 v15 v22) (k0_t19 : Fin (k0_t19_loop v15 v22).trips) (k0_t23 : Fin (k0_t23_loop v15 v22 k0_t19).trips), ∀ a, (k0_off488 v15 v22 k0_t19 k0_t23) a + S1x16.size a ≤ S128x256.size a := fun v15 v22 k0_hw3 k0_t19 k0_t23 => k0_hw3.2.2.2.1.2.2.2.2.2.2.2.1 k0_t19 k0_t23
theorem k0_mult13_dvd : ∀ (v15 : BitVec 32) (v22 : BitVec 32) (k0_hw3 : k0_chk3 v15 v22) (k0_t19 : Fin (k0_t19_loop v15 v22).trips), 8 ∣ (k0_mult13 v15 v22 k0_t19).toNat := fun v15 v22 k0_hw3 k0_t19 => k0_hw3.2.2.2.1.2.2.2.2.2.2.2.2.1 k0_t19
theorem k0_off489_inb : ∀ (v15 : BitVec 32) (v22 : BitVec 32) (k0_hw3 : k0_chk3 v15 v22) (k0_t19 : Fin (k0_t19_loop v15 v22).trips), ∀ a, (k0_off489 v15 v22 k0_t19) a + S128x256.size a ≤ S50000x256.size a := fun v15 v22 k0_hw3 k0_t19 => k0_hw3.2.2.2.1.2.2.2.2.2.2.2.2.2.1 k0_t19
theorem k0_mult14_dvd : ∀ (v15 : BitVec 32) (v22 : BitVec 32) (k0_hw3 : k0_chk3 v15 v22) (k0_t19 : Fin (k0_t19_loop v15 v22).trips), 8 ∣ (k0_mult14 v15 v22 k0_t19).toNat := fun v15 v22 k0_hw3 k0_t19 => k0_hw3.2.2.2.1.2.2.2.2.2.2.2.2.2.2.1 k0_t19
theorem k0_t24_ok : ∀ (v15 : BitVec 32) (v22 : BitVec 32) (k0_hw3 : k0_chk3 v15 v22) (k0_t19 : Fin (k0_t19_loop v15 v22).trips), (k0_t24_loop v15 v22 k0_t19).OK := fun v15 v22 k0_hw3 k0_t19 => k0_hw3.2.2.2.1.2.2.2.2.2.2.2.2.2.2.2.1 k0_t19
theorem k0_off490_inb : ∀ (v15 : BitVec 32) (v22 : BitVec 32) (k0_hw3 : k0_chk3 v15 v22) (k0_t19 : Fin (k0_t19_loop v15 v22).trips) (k0_t24 : Fin (k0_t24_loop v15 v22 k0_t19).trips), ∀ a, (k0_off490 v15 v22 k0_t19 k0_t24) a + S1x16.size a ≤ S128x256.size a := fun v15 v22 k0_hw3 k0_t19 k0_t24 => k0_hw3.2.2.2.1.2.2.2.2.2.2.2.2.2.2.2.2.1 k0_t19 k0_t24
theorem k0_off491_inb : ∀ (v15 : BitVec 32) (v22 : BitVec 32) (k0_hw3 : k0_chk3 v15 v22) (k0_t19 : Fin (k0_t19_loop v15 v22).trips) (k0_t24 : Fin (k0_t24_loop v15 v22 k0_t19).trips), ∀ a, (k0_off491 v15 v22 k0_t19 k0_t24) a + S1x16.size a ≤ S128x256.size a := fun v15 v22 k0_hw3 k0_t19 k0_t24 => k0_hw3.2.2.2.1.2.2.2.2.2.2.2.2.2.2.2.2.2.1 k0_t19 k0_t24
theorem k0_off492_inb : ∀ (v15 : BitVec 32) (v22 : BitVec 32) (k0_hw3 : k0_chk3 v15 v22) (k0_t19 : Fin (k0_t19_loop v15 v22).trips) (k0_t24 : Fin (k0_t24_loop v15 v22 k0_t19).trips), ∀ a, (k0_off492 v15 v22 k0_t19 k0_t24) a + S1x16.size a ≤ S128x256.size a := fun v15 v22 k0_hw3 k0_t19 k0_t24 => k0_hw3.2.2.2.1.2.2.2.2.2.2.2.2.2.2.2.2.2.2.1 k0_t19 k0_t24
theorem k0_off493_inb : ∀ (v15 : BitVec 32) (v22 : BitVec 32) (k0_hw3 : k0_chk3 v15 v22) (k0_t19 : Fin (k0_t19_loop v15 v22).trips) (k0_t24 : Fin (k0_t24_loop v15 v22 k0_t19).trips), ∀ a, (k0_off493 v15 v22 k0_t19 k0_t24) a + S1x16.size a ≤ S128x256.size a := fun v15 v22 k0_hw3 k0_t19 k0_t24 => k0_hw3.2.2.2.1.2.2.2.2.2.2.2.2.2.2.2.2.2.2.2.1 k0_t19 k0_t24
theorem k0_off494_inb : ∀ (v15 : BitVec 32) (v22 : BitVec 32) (k0_hw3 : k0_chk3 v15 v22) (k0_t19 : Fin (k0_t19_loop v15 v22).trips) (k0_t24 : Fin (k0_t24_loop v15 v22 k0_t19).trips), ∀ a, (k0_off494 v15 v22 k0_t19 k0_t24) a + S1x16.size a ≤ S128x256.size a := fun v15 v22 k0_hw3 k0_t19 k0_t24 => k0_hw3.2.2.2.1.2.2.2.2.2.2.2.2.2.2.2.2.2.2.2.2.1 k0_t19 k0_t24
theorem k0_off495_inb : ∀ (v15 : BitVec 32) (v22 : BitVec 32) (k0_hw3 : k0_chk3 v15 v22) (k0_t19 : Fin (k0_t19_loop v15 v22).trips) (k0_t24 : Fin (k0_t24_loop v15 v22 k0_t19).trips), ∀ a, (k0_off495 v15 v22 k0_t19 k0_t24) a + S1x16.size a ≤ S128x256.size a := fun v15 v22 k0_hw3 k0_t19 k0_t24 => k0_hw3.2.2.2.1.2.2.2.2.2.2.2.2.2.2.2.2.2.2.2.2.2.1 k0_t19 k0_t24
theorem k0_off496_inb : ∀ (v15 : BitVec 32) (v22 : BitVec 32) (k0_hw3 : k0_chk3 v15 v22) (k0_t19 : Fin (k0_t19_loop v15 v22).trips) (k0_t24 : Fin (k0_t24_loop v15 v22 k0_t19).trips), ∀ a, (k0_off496 v15 v22 k0_t19 k0_t24) a + S1x16.size a ≤ S128x256.size a := fun v15 v22 k0_hw3 k0_t19 k0_t24 => k0_hw3.2.2.2.1.2.2.2.2.2.2.2.2.2.2.2.2.2.2.2.2.2.2.1 k0_t19 k0_t24
theorem k0_off497_inb : ∀ (v15 : BitVec 32) (v22 : BitVec 32) (k0_hw3 : k0_chk3 v15 v22) (k0_t19 : Fin (k0_t19_loop v15 v22).trips) (k0_t24 : Fin (k0_t24_loop v15 v22 k0_t19).trips), ∀ a, (k0_off497 v15 v22 k0_t19 k0_t24) a + S1x16.size a ≤ S128x256.size a := fun v15 v22 k0_hw3 k0_t19 k0_t24 => k0_hw3.2.2.2.1.2.2.2.2.2.2.2.2.2.2.2.2.2.2.2.2.2.2.2.1 k0_t19 k0_t24
theorem k0_off498_inb : ∀ (v15 : BitVec 32) (v22 : BitVec 32) (k0_hw3 : k0_chk3 v15 v22) (k0_t19 : Fin (k0_t19_loop v15 v22).trips) (k0_t24 : Fin (k0_t24_loop v15 v22 k0_t19).trips), ∀ a, (k0_off498 v15 v22 k0_t19 k0_t24) a + S1x16.size a ≤ S128x256.size a := fun v15 v22 k0_hw3 k0_t19 k0_t24 => k0_hw3.2.2.2.1.2.2.2.2.2.2.2.2.2.2.2.2.2.2.2.2.2.2.2.2.1 k0_t19 k0_t24
theorem k0_off499_inb : ∀ (v15 : BitVec 32) (v22 : BitVec 32) (k0_hw3 : k0_chk3 v15 v22) (k0_t19 : Fin (k0_t19_loop v15 v22).trips) (k0_t24 : Fin (k0_t24_loop v15 v22 k0_t19).trips), ∀ a, (k0_off499 v15 v22 k0_t19 k0_t24) a + S1x16.size a ≤ S128x256.size a := fun v15 v22 k0_hw3 k0_t19 k0_t24 => k0_hw3.2.2.2.1.2.2.2.2.2.2.2.2.2.2.2.2.2.2.2.2.2.2.2.2.2.1 k0_t19 k0_t24
theorem k0_off500_inb : ∀ (v15 : BitVec 32) (v22 : BitVec 32) (k0_hw3 : k0_chk3 v15 v22) (k0_t19 : Fin (k0_t19_loop v15 v22).trips) (k0_t24 : Fin (k0_t24_loop v15 v22 k0_t19).trips), ∀ a, (k0_off500 v15 v22 k0_t19 k0_t24) a + S1x16.size a ≤ S128x256.size a := fun v15 v22 k0_hw3 k0_t19 k0_t24 => k0_hw3.2.2.2.1.2.2.2.2.2.2.2.2.2.2.2.2.2.2.2.2.2.2.2.2.2.2.1 k0_t19 k0_t24
theorem k0_off501_inb : ∀ (v15 : BitVec 32) (v22 : BitVec 32) (k0_hw3 : k0_chk3 v15 v22) (k0_t19 : Fin (k0_t19_loop v15 v22).trips) (k0_t24 : Fin (k0_t24_loop v15 v22 k0_t19).trips), ∀ a, (k0_off501 v15 v22 k0_t19 k0_t24) a + S1x16.size a ≤ S128x256.size a := fun v15 v22 k0_hw3 k0_t19 k0_t24 => k0_hw3.2.2.2.1.2.2.2.2.2.2.2.2.2.2.2.2.2.2.2.2.2.2.2.2.2.2.2.1 k0_t19 k0_t24
theorem k0_off502_inb : ∀ (v15 : BitVec 32) (v22 : BitVec 32) (k0_hw3 : k0_chk3 v15 v22) (k0_t19 : Fin (k0_t19_loop v15 v22).trips) (k0_t24 : Fin (k0_t24_loop v15 v22 k0_t19).trips), ∀ a, (k0_off502 v15 v22 k0_t19 k0_t24) a + S1x16.size a ≤ S128x256.size a := fun v15 v22 k0_hw3 k0_t19 k0_t24 => k0_hw3.2.2.2.1.2.2.2.2.2.2.2.2.2.2.2.2.2.2.2.2.2.2.2.2.2.2.2.2.1 k0_t19 k0_t24
theorem k0_off503_inb : ∀ (v15 : BitVec 32) (v22 : BitVec 32) (k0_hw3 : k0_chk3 v15 v22) (k0_t19 : Fin (k0_t19_loop v15 v22).trips) (k0_t24 : Fin (k0_t24_loop v15 v22 k0_t19).trips), ∀ a, (k0_off503 v15 v22 k0_t19 k0_t24) a + S1x16.size a ≤ S128x256.size a := fun v15 v22 k0_hw3 k0_t19 k0_t24 => k0_hw3.2.2.2.1.2.2.2.2.2.2.2.2.2.2.2.2.2.2.2.2.2.2.2.2.2.2.2.2.2.1 k0_t19 k0_t24
theorem k0_off504_inb : ∀ (v15 : BitVec 32) (v22 : BitVec 32) (k0_hw3 : k0_chk3 v15 v22) (k0_t19 : Fin (k0_t19_loop v15 v22).trips) (k0_t24 : Fin (k0_t24_loop v15 v22 k0_t19).trips), ∀ a, (k0_off504 v15 v22 k0_t19 k0_t24) a + S1x16.size a ≤ S128x256.size a := fun v15 v22 k0_hw3 k0_t19 k0_t24 => k0_hw3.2.2.2.1.2.2.2.2.2.2.2.2.2.2.2.2.2.2.2.2.2.2.2.2.2.2.2.2.2.2.1 k0_t19 k0_t24
theorem k0_off505_inb : ∀ (v15 : BitVec 32) (v22 : BitVec 32) (k0_hw3 : k0_chk3 v15 v22) (k0_t19 : Fin (k0_t19_loop v15 v22).trips) (k0_t24 : Fin (k0_t24_loop v15 v22 k0_t19).trips), ∀ a, (k0_off505 v15 v22 k0_t19 k0_t24) a + S1x16.size a ≤ S128x256.size a := fun v15 v22 k0_hw3 k0_t19 k0_t24 => k0_hw3.2.2.2.1.2.2.2.2.2.2.2.2.2.2.2.2.2.2.2.2.2.2.2.2.2.2.2.2.2.2.2.1 k0_t19 k0_t24
theorem k0_off506_inb : ∀ (v15 : BitVec 32) (v22 : BitVec 32) (k0_hw3 : k0_chk3 v15 v22) (k0_t19 : Fin (k0_t19_loop v15 v22).trips) (k0_t24 : Fin (k0_t24_loop v15 v22 k0_t19).trips), ∀ (r : Fin 3), ∀ a, (k0_off506 v15 v22 k0_t19 k0_t24 (BitVec.ofNat 32 (1 + r.val))) a + S1x16.size a ≤ S128x256.size a := fun v15 v22 k0_hw3 k0_t19 k0_t24 r => k0_hw3.2.2.2.1.2.2.2.2.2.2.2.2.2.2.2.2.2.2.2.2.2.2.2.2.2.2.2.2.2.2.2.2.1 k0_t19 k0_t24 r
theorem k0_off507_inb : ∀ (v15 : BitVec 32) (v22 : BitVec 32) (k0_hw3 : k0_chk3 v15 v22) (k0_t19 : Fin (k0_t19_loop v15 v22).trips) (k0_t24 : Fin (k0_t24_loop v15 v22 k0_t19).trips), ∀ (r : Fin 3), ∀ a, (k0_off507 v15 v22 k0_t19 k0_t24 (BitVec.ofNat 32 (1 + r.val))) a + S1x16.size a ≤ S128x256.size a := fun v15 v22 k0_hw3 k0_t19 k0_t24 r => k0_hw3.2.2.2.1.2.2.2.2.2.2.2.2.2.2.2.2.2.2.2.2.2.2.2.2.2.2.2.2.2.2.2.2.2.1 k0_t19 k0_t24 r
theorem k0_off508_inb : ∀ (v15 : BitVec 32) (v22 : BitVec 32) (k0_hw3 : k0_chk3 v15 v22) (k0_t19 : Fin (k0_t19_loop v15 v22).trips) (k0_t24 : Fin (k0_t24_loop v15 v22 k0_t19).trips), ∀ (r : Fin 3), ∀ a, (k0_off508 v15 v22 k0_t19 k0_t24 (BitVec.ofNat 32 (1 + r.val))) a + S1x16.size a ≤ S128x256.size a := fun v15 v22 k0_hw3 k0_t19 k0_t24 r => k0_hw3.2.2.2.1.2.2.2.2.2.2.2.2.2.2.2.2.2.2.2.2.2.2.2.2.2.2.2.2.2.2.2.2.2.2.1 k0_t19 k0_t24 r
theorem k0_off509_inb : ∀ (v15 : BitVec 32) (v22 : BitVec 32) (k0_hw3 : k0_chk3 v15 v22) (k0_t19 : Fin (k0_t19_loop v15 v22).trips) (k0_t24 : Fin (k0_t24_loop v15 v22 k0_t19).trips), ∀ (r : Fin 3), ∀ a, (k0_off509 v15 v22 k0_t19 k0_t24 (BitVec.ofNat 32 (1 + r.val))) a + S1x16.size a ≤ S128x256.size a := fun v15 v22 k0_hw3 k0_t19 k0_t24 r => k0_hw3.2.2.2.1.2.2.2.2.2.2.2.2.2.2.2.2.2.2.2.2.2.2.2.2.2.2.2.2.2.2.2.2.2.2.2 k0_t19 k0_t24 r
theorem k0_off510_inb : ∀ (v15 : BitVec 32) (v22 : BitVec 32) (k0_hw3 : k0_chk3 v15 v22) (k0_t19 : Fin (k0_t19_loop v15 v22).trips) (k0_t24 : Fin (k0_t24_loop v15 v22 k0_t19).trips), ∀ (r : Fin 3), ∀ a, (k0_off510 v15 v22 k0_t19 k0_t24 (BitVec.ofNat 32 (1 + r.val))) a + S1x16.size a ≤ S128x256.size a := fun v15 v22 k0_hw3 k0_t19 k0_t24 r => k0_hw3.2.2.2.2.1.1 k0_t19 k0_t24 r
theorem k0_off511_inb : ∀ (v15 : BitVec 32) (v22 : BitVec 32) (k0_hw3 : k0_chk3 v15 v22) (k0_t19 : Fin (k0_t19_loop v15 v22).trips) (k0_t24 : Fin (k0_t24_loop v15 v22 k0_t19).trips), ∀ (r : Fin 3), ∀ a, (k0_off511 v15 v22 k0_t19 k0_t24 (BitVec.ofNat 32 (1 + r.val))) a + S1x16.size a ≤ S128x256.size a := fun v15 v22 k0_hw3 k0_t19 k0_t24 r => k0_hw3.2.2.2.2.1.2.1 k0_t19 k0_t24 r
theorem k0_off512_inb : ∀ (v15 : BitVec 32) (v22 : BitVec 32) (k0_hw3 : k0_chk3 v15 v22) (k0_t19 : Fin (k0_t19_loop v15 v22).trips) (k0_t24 : Fin (k0_t24_loop v15 v22 k0_t19).trips), ∀ (r : Fin 3), ∀ a, (k0_off512 v15 v22 k0_t19 k0_t24 (BitVec.ofNat 32 (1 + r.val))) a + S1x16.size a ≤ S128x256.size a := fun v15 v22 k0_hw3 k0_t19 k0_t24 r => k0_hw3.2.2.2.2.1.2.2.1 k0_t19 k0_t24 r
theorem k0_off513_inb : ∀ (v15 : BitVec 32) (v22 : BitVec 32) (k0_hw3 : k0_chk3 v15 v22) (k0_t19 : Fin (k0_t19_loop v15 v22).trips) (k0_t24 : Fin (k0_t24_loop v15 v22 k0_t19).trips), ∀ (r : Fin 3), ∀ a, (k0_off513 v15 v22 k0_t19 k0_t24 (BitVec.ofNat 32 (1 + r.val))) a + S1x16.size a ≤ S128x256.size a := fun v15 v22 k0_hw3 k0_t19 k0_t24 r => k0_hw3.2.2.2.2.1.2.2.2.1 k0_t19 k0_t24 r
theorem k0_off514_inb : ∀ (v15 : BitVec 32) (v22 : BitVec 32) (k0_hw3 : k0_chk3 v15 v22) (k0_t19 : Fin (k0_t19_loop v15 v22).trips) (k0_t24 : Fin (k0_t24_loop v15 v22 k0_t19).trips), ∀ (r : Fin 3), ∀ a, (k0_off514 v15 v22 k0_t19 k0_t24 (BitVec.ofNat 32 (1 + r.val))) a + S1x16.size a ≤ S128x256.size a := fun v15 v22 k0_hw3 k0_t19 k0_t24 r => k0_hw3.2.2.2.2.1.2.2.2.2.1 k0_t19 k0_t24 r
theorem k0_off515_inb : ∀ (v15 : BitVec 32) (v22 : BitVec 32) (k0_hw3 : k0_chk3 v15 v22) (k0_t19 : Fin (k0_t19_loop v15 v22).trips) (k0_t24 : Fin (k0_t24_loop v15 v22 k0_t19).trips), ∀ (r : Fin 3), ∀ a, (k0_off515 v15 v22 k0_t19 k0_t24 (BitVec.ofNat 32 (1 + r.val))) a + S1x16.size a ≤ S128x256.size a := fun v15 v22 k0_hw3 k0_t19 k0_t24 r => k0_hw3.2.2.2.2.1.2.2.2.2.2.1 k0_t19 k0_t24 r
theorem k0_off516_inb : ∀ (v15 : BitVec 32) (v22 : BitVec 32) (k0_hw3 : k0_chk3 v15 v22) (k0_t19 : Fin (k0_t19_loop v15 v22).trips) (k0_t24 : Fin (k0_t24_loop v15 v22 k0_t19).trips), ∀ (r : Fin 3), ∀ a, (k0_off516 v15 v22 k0_t19 k0_t24 (BitVec.ofNat 32 (1 + r.val))) a + S1x16.size a ≤ S128x256.size a := fun v15 v22 k0_hw3 k0_t19 k0_t24 r => k0_hw3.2.2.2.2.1.2.2.2.2.2.2.1 k0_t19 k0_t24 r
theorem k0_off517_inb : ∀ (v15 : BitVec 32) (v22 : BitVec 32) (k0_hw3 : k0_chk3 v15 v22) (k0_t19 : Fin (k0_t19_loop v15 v22).trips) (k0_t24 : Fin (k0_t24_loop v15 v22 k0_t19).trips), ∀ (r : Fin 3), ∀ a, (k0_off517 v15 v22 k0_t19 k0_t24 (BitVec.ofNat 32 (1 + r.val))) a + S1x16.size a ≤ S128x256.size a := fun v15 v22 k0_hw3 k0_t19 k0_t24 r => k0_hw3.2.2.2.2.1.2.2.2.2.2.2.2.1 k0_t19 k0_t24 r
theorem k0_off518_inb : ∀ (v15 : BitVec 32) (v22 : BitVec 32) (k0_hw3 : k0_chk3 v15 v22) (k0_t19 : Fin (k0_t19_loop v15 v22).trips) (k0_t24 : Fin (k0_t24_loop v15 v22 k0_t19).trips), ∀ (r : Fin 3), ∀ a, (k0_off518 v15 v22 k0_t19 k0_t24 (BitVec.ofNat 32 (1 + r.val))) a + S1x16.size a ≤ S128x256.size a := fun v15 v22 k0_hw3 k0_t19 k0_t24 r => k0_hw3.2.2.2.2.1.2.2.2.2.2.2.2.2.1 k0_t19 k0_t24 r
theorem k0_off519_inb : ∀ (v15 : BitVec 32) (v22 : BitVec 32) (k0_hw3 : k0_chk3 v15 v22) (k0_t19 : Fin (k0_t19_loop v15 v22).trips) (k0_t24 : Fin (k0_t24_loop v15 v22 k0_t19).trips), ∀ (r : Fin 3), ∀ a, (k0_off519 v15 v22 k0_t19 k0_t24 (BitVec.ofNat 32 (1 + r.val))) a + S1x16.size a ≤ S128x256.size a := fun v15 v22 k0_hw3 k0_t19 k0_t24 r => k0_hw3.2.2.2.2.1.2.2.2.2.2.2.2.2.2.1 k0_t19 k0_t24 r
theorem k0_off520_inb : ∀ (v15 : BitVec 32) (v22 : BitVec 32) (k0_hw3 : k0_chk3 v15 v22) (k0_t19 : Fin (k0_t19_loop v15 v22).trips) (k0_t24 : Fin (k0_t24_loop v15 v22 k0_t19).trips), ∀ (r : Fin 3), ∀ a, (k0_off520 v15 v22 k0_t19 k0_t24 (BitVec.ofNat 32 (1 + r.val))) a + S1x16.size a ≤ S128x256.size a := fun v15 v22 k0_hw3 k0_t19 k0_t24 r => k0_hw3.2.2.2.2.1.2.2.2.2.2.2.2.2.2.2.1 k0_t19 k0_t24 r
theorem k0_off521_inb : ∀ (v15 : BitVec 32) (v22 : BitVec 32) (k0_hw3 : k0_chk3 v15 v22) (k0_t19 : Fin (k0_t19_loop v15 v22).trips) (k0_t24 : Fin (k0_t24_loop v15 v22 k0_t19).trips), ∀ (r : Fin 3), ∀ a, (k0_off521 v15 v22 k0_t19 k0_t24 (BitVec.ofNat 32 (1 + r.val))) a + S1x16.size a ≤ S128x256.size a := fun v15 v22 k0_hw3 k0_t19 k0_t24 r => k0_hw3.2.2.2.2.1.2.2.2.2.2.2.2.2.2.2.2.1 k0_t19 k0_t24 r
theorem k0_t25_ok : ∀ (v15 : BitVec 32) (v22 : BitVec 32) (k0_hw3 : k0_chk3 v15 v22) (k0_t19 : Fin (k0_t19_loop v15 v22).trips), (k0_t25_loop v15 v22 k0_t19).OK := fun v15 v22 k0_hw3 k0_t19 => k0_hw3.2.2.2.2.1.2.2.2.2.2.2.2.2.2.2.2.2.1 k0_t19
theorem k0_off522_inb : ∀ (v15 : BitVec 32) (v22 : BitVec 32) (k0_hw3 : k0_chk3 v15 v22) (k0_t19 : Fin (k0_t19_loop v15 v22).trips) (k0_t25 : Fin (k0_t25_loop v15 v22 k0_t19).trips), ∀ a, (k0_off522 v15 v22 k0_t19 k0_t25) a + S1x16.size a ≤ S128x256.size a := fun v15 v22 k0_hw3 k0_t19 k0_t25 => k0_hw3.2.2.2.2.1.2.2.2.2.2.2.2.2.2.2.2.2.2.1 k0_t19 k0_t25
theorem k0_off523_inb : ∀ (v15 : BitVec 32) (v22 : BitVec 32) (k0_hw3 : k0_chk3 v15 v22) (k0_t19 : Fin (k0_t19_loop v15 v22).trips) (k0_t25 : Fin (k0_t25_loop v15 v22 k0_t19).trips), ∀ a, (k0_off523 v15 v22 k0_t19 k0_t25) a + S1x16.size a ≤ S128x256.size a := fun v15 v22 k0_hw3 k0_t19 k0_t25 => k0_hw3.2.2.2.2.1.2.2.2.2.2.2.2.2.2.2.2.2.2.2.1 k0_t19 k0_t25
theorem k0_off524_inb : ∀ (v15 : BitVec 32) (v22 : BitVec 32) (k0_hw3 : k0_chk3 v15 v22) (k0_t19 : Fin (k0_t19_loop v15 v22).trips) (k0_t25 : Fin (k0_t25_loop v15 v22 k0_t19).trips), ∀ a, (k0_off524 v15 v22 k0_t19 k0_t25) a + S1x16.size a ≤ S128x256.size a := fun v15 v22 k0_hw3 k0_t19 k0_t25 => k0_hw3.2.2.2.2.1.2.2.2.2.2.2.2.2.2.2.2.2.2.2.2.1 k0_t19 k0_t25
theorem k0_off525_inb : ∀ (v15 : BitVec 32) (v22 : BitVec 32) (k0_hw3 : k0_chk3 v15 v22) (k0_t19 : Fin (k0_t19_loop v15 v22).trips) (k0_t25 : Fin (k0_t25_loop v15 v22 k0_t19).trips), ∀ a, (k0_off525 v15 v22 k0_t19 k0_t25) a + S1x16.size a ≤ S128x256.size a := fun v15 v22 k0_hw3 k0_t19 k0_t25 => k0_hw3.2.2.2.2.1.2.2.2.2.2.2.2.2.2.2.2.2.2.2.2.2.1 k0_t19 k0_t25
theorem k0_off526_inb : ∀ (v15 : BitVec 32) (v22 : BitVec 32) (k0_hw3 : k0_chk3 v15 v22) (k0_t19 : Fin (k0_t19_loop v15 v22).trips) (k0_t25 : Fin (k0_t25_loop v15 v22 k0_t19).trips), ∀ a, (k0_off526 v15 v22 k0_t19 k0_t25) a + S1x16.size a ≤ S128x256.size a := fun v15 v22 k0_hw3 k0_t19 k0_t25 => k0_hw3.2.2.2.2.1.2.2.2.2.2.2.2.2.2.2.2.2.2.2.2.2.2.1 k0_t19 k0_t25
theorem k0_off527_inb : ∀ (v15 : BitVec 32) (v22 : BitVec 32) (k0_hw3 : k0_chk3 v15 v22) (k0_t19 : Fin (k0_t19_loop v15 v22).trips) (k0_t25 : Fin (k0_t25_loop v15 v22 k0_t19).trips), ∀ a, (k0_off527 v15 v22 k0_t19 k0_t25) a + S1x16.size a ≤ S128x256.size a := fun v15 v22 k0_hw3 k0_t19 k0_t25 => k0_hw3.2.2.2.2.1.2.2.2.2.2.2.2.2.2.2.2.2.2.2.2.2.2.2.1 k0_t19 k0_t25
theorem k0_off528_inb : ∀ (v15 : BitVec 32) (v22 : BitVec 32) (k0_hw3 : k0_chk3 v15 v22) (k0_t19 : Fin (k0_t19_loop v15 v22).trips) (k0_t25 : Fin (k0_t25_loop v15 v22 k0_t19).trips), ∀ a, (k0_off528 v15 v22 k0_t19 k0_t25) a + S1x16.size a ≤ S128x256.size a := fun v15 v22 k0_hw3 k0_t19 k0_t25 => k0_hw3.2.2.2.2.1.2.2.2.2.2.2.2.2.2.2.2.2.2.2.2.2.2.2.2.1 k0_t19 k0_t25
theorem k0_off529_inb : ∀ (v15 : BitVec 32) (v22 : BitVec 32) (k0_hw3 : k0_chk3 v15 v22) (k0_t19 : Fin (k0_t19_loop v15 v22).trips) (k0_t25 : Fin (k0_t25_loop v15 v22 k0_t19).trips), ∀ a, (k0_off529 v15 v22 k0_t19 k0_t25) a + S1x16.size a ≤ S128x256.size a := fun v15 v22 k0_hw3 k0_t19 k0_t25 => k0_hw3.2.2.2.2.1.2.2.2.2.2.2.2.2.2.2.2.2.2.2.2.2.2.2.2.2.1 k0_t19 k0_t25
theorem k0_off530_inb : ∀ (v15 : BitVec 32) (v22 : BitVec 32) (k0_hw3 : k0_chk3 v15 v22) (k0_t19 : Fin (k0_t19_loop v15 v22).trips) (k0_t25 : Fin (k0_t25_loop v15 v22 k0_t19).trips), ∀ a, (k0_off530 v15 v22 k0_t19 k0_t25) a + S1x16.size a ≤ S128x256.size a := fun v15 v22 k0_hw3 k0_t19 k0_t25 => k0_hw3.2.2.2.2.1.2.2.2.2.2.2.2.2.2.2.2.2.2.2.2.2.2.2.2.2.2.1 k0_t19 k0_t25
theorem k0_off531_inb : ∀ (v15 : BitVec 32) (v22 : BitVec 32) (k0_hw3 : k0_chk3 v15 v22) (k0_t19 : Fin (k0_t19_loop v15 v22).trips) (k0_t25 : Fin (k0_t25_loop v15 v22 k0_t19).trips), ∀ a, (k0_off531 v15 v22 k0_t19 k0_t25) a + S1x16.size a ≤ S128x256.size a := fun v15 v22 k0_hw3 k0_t19 k0_t25 => k0_hw3.2.2.2.2.1.2.2.2.2.2.2.2.2.2.2.2.2.2.2.2.2.2.2.2.2.2.2.1 k0_t19 k0_t25
theorem k0_off532_inb : ∀ (v15 : BitVec 32) (v22 : BitVec 32) (k0_hw3 : k0_chk3 v15 v22) (k0_t19 : Fin (k0_t19_loop v15 v22).trips) (k0_t25 : Fin (k0_t25_loop v15 v22 k0_t19).trips), ∀ a, (k0_off532 v15 v22 k0_t19 k0_t25) a + S1x16.size a ≤ S128x256.size a := fun v15 v22 k0_hw3 k0_t19 k0_t25 => k0_hw3.2.2.2.2.1.2.2.2.2.2.2.2.2.2.2.2.2.2.2.2.2.2.2.2.2.2.2.2.1 k0_t19 k0_t25
theorem k0_off533_inb : ∀ (v15 : BitVec 32) (v22 : BitVec 32) (k0_hw3 : k0_chk3 v15 v22) (k0_t19 : Fin (k0_t19_loop v15 v22).trips) (k0_t25 : Fin (k0_t25_loop v15 v22 k0_t19).trips), ∀ a, (k0_off533 v15 v22 k0_t19 k0_t25) a + S1x16.size a ≤ S128x256.size a := fun v15 v22 k0_hw3 k0_t19 k0_t25 => k0_hw3.2.2.2.2.1.2.2.2.2.2.2.2.2.2.2.2.2.2.2.2.2.2.2.2.2.2.2.2.2.1 k0_t19 k0_t25
theorem k0_off534_inb : ∀ (v15 : BitVec 32) (v22 : BitVec 32) (k0_hw3 : k0_chk3 v15 v22) (k0_t19 : Fin (k0_t19_loop v15 v22).trips) (k0_t25 : Fin (k0_t25_loop v15 v22 k0_t19).trips), ∀ a, (k0_off534 v15 v22 k0_t19 k0_t25) a + S1x16.size a ≤ S128x256.size a := fun v15 v22 k0_hw3 k0_t19 k0_t25 => k0_hw3.2.2.2.2.1.2.2.2.2.2.2.2.2.2.2.2.2.2.2.2.2.2.2.2.2.2.2.2.2.2.1 k0_t19 k0_t25
theorem k0_off535_inb : ∀ (v15 : BitVec 32) (v22 : BitVec 32) (k0_hw3 : k0_chk3 v15 v22) (k0_t19 : Fin (k0_t19_loop v15 v22).trips) (k0_t25 : Fin (k0_t25_loop v15 v22 k0_t19).trips), ∀ a, (k0_off535 v15 v22 k0_t19 k0_t25) a + S1x16.size a ≤ S128x256.size a := fun v15 v22 k0_hw3 k0_t19 k0_t25 => k0_hw3.2.2.2.2.1.2.2.2.2.2.2.2.2.2.2.2.2.2.2.2.2.2.2.2.2.2.2.2.2.2.2.1 k0_t19 k0_t25
theorem k0_off536_inb : ∀ (v15 : BitVec 32) (v22 : BitVec 32) (k0_hw3 : k0_chk3 v15 v22) (k0_t19 : Fin (k0_t19_loop v15 v22).trips) (k0_t25 : Fin (k0_t25_loop v15 v22 k0_t19).trips), ∀ a, (k0_off536 v15 v22 k0_t19 k0_t25) a + S1x16.size a ≤ S128x256.size a := fun v15 v22 k0_hw3 k0_t19 k0_t25 => k0_hw3.2.2.2.2.1.2.2.2.2.2.2.2.2.2.2.2.2.2.2.2.2.2.2.2.2.2.2.2.2.2.2.2.1 k0_t19 k0_t25
theorem k0_off537_inb : ∀ (v15 : BitVec 32) (v22 : BitVec 32) (k0_hw3 : k0_chk3 v15 v22) (k0_t19 : Fin (k0_t19_loop v15 v22).trips) (k0_t25 : Fin (k0_t25_loop v15 v22 k0_t19).trips), ∀ a, (k0_off537 v15 v22 k0_t19 k0_t25) a + S1x16.size a ≤ S128x256.size a := fun v15 v22 k0_hw3 k0_t19 k0_t25 => k0_hw3.2.2.2.2.1.2.2.2.2.2.2.2.2.2.2.2.2.2.2.2.2.2.2.2.2.2.2.2.2.2.2.2.2.1 k0_t19 k0_t25
theorem k0_off538_inb : ∀ (v15 : BitVec 32) (v22 : BitVec 32) (k0_hw3 : k0_chk3 v15 v22) (k0_t19 : Fin (k0_t19_loop v15 v22).trips) (k0_t25 : Fin (k0_t25_loop v15 v22 k0_t19).trips), ∀ (r : Fin 3), ∀ a, (k0_off538 v15 v22 k0_t19 k0_t25 (BitVec.ofNat 32 (1 + r.val))) a + S1x16.size a ≤ S128x256.size a := fun v15 v22 k0_hw3 k0_t19 k0_t25 r => k0_hw3.2.2.2.2.1.2.2.2.2.2.2.2.2.2.2.2.2.2.2.2.2.2.2.2.2.2.2.2.2.2.2.2.2.2.1 k0_t19 k0_t25 r
theorem k0_off539_inb : ∀ (v15 : BitVec 32) (v22 : BitVec 32) (k0_hw3 : k0_chk3 v15 v22) (k0_t19 : Fin (k0_t19_loop v15 v22).trips) (k0_t25 : Fin (k0_t25_loop v15 v22 k0_t19).trips), ∀ (r : Fin 3), ∀ a, (k0_off539 v15 v22 k0_t19 k0_t25 (BitVec.ofNat 32 (1 + r.val))) a + S1x16.size a ≤ S128x256.size a := fun v15 v22 k0_hw3 k0_t19 k0_t25 r => k0_hw3.2.2.2.2.1.2.2.2.2.2.2.2.2.2.2.2.2.2.2.2.2.2.2.2.2.2.2.2.2.2.2.2.2.2.2.1 k0_t19 k0_t25 r
theorem k0_off540_inb : ∀ (v15 : BitVec 32) (v22 : BitVec 32) (k0_hw3 : k0_chk3 v15 v22) (k0_t19 : Fin (k0_t19_loop v15 v22).trips) (k0_t25 : Fin (k0_t25_loop v15 v22 k0_t19).trips), ∀ (r : Fin 3), ∀ a, (k0_off540 v15 v22 k0_t19 k0_t25 (BitVec.ofNat 32 (1 + r.val))) a + S1x16.size a ≤ S128x256.size a := fun v15 v22 k0_hw3 k0_t19 k0_t25 r => k0_hw3.2.2.2.2.1.2.2.2.2.2.2.2.2.2.2.2.2.2.2.2.2.2.2.2.2.2.2.2.2.2.2.2.2.2.2.2 k0_t19 k0_t25 r
theorem k0_off541_inb : ∀ (v15 : BitVec 32) (v22 : BitVec 32) (k0_hw3 : k0_chk3 v15 v22) (k0_t19 : Fin (k0_t19_loop v15 v22).trips) (k0_t25 : Fin (k0_t25_loop v15 v22 k0_t19).trips), ∀ (r : Fin 3), ∀ a, (k0_off541 v15 v22 k0_t19 k0_t25 (BitVec.ofNat 32 (1 + r.val))) a + S1x16.size a ≤ S128x256.size a := fun v15 v22 k0_hw3 k0_t19 k0_t25 r => k0_hw3.2.2.2.2.2.1.1 k0_t19 k0_t25 r
theorem k0_off542_inb : ∀ (v15 : BitVec 32) (v22 : BitVec 32) (k0_hw3 : k0_chk3 v15 v22) (k0_t19 : Fin (k0_t19_loop v15 v22).trips) (k0_t25 : Fin (k0_t25_loop v15 v22 k0_t19).trips), ∀ (r : Fin 3), ∀ a, (k0_off542 v15 v22 k0_t19 k0_t25 (BitVec.ofNat 32 (1 + r.val))) a + S1x16.size a ≤ S128x256.size a := fun v15 v22 k0_hw3 k0_t19 k0_t25 r => k0_hw3.2.2.2.2.2.1.2.1 k0_t19 k0_t25 r
theorem k0_off543_inb : ∀ (v15 : BitVec 32) (v22 : BitVec 32) (k0_hw3 : k0_chk3 v15 v22) (k0_t19 : Fin (k0_t19_loop v15 v22).trips) (k0_t25 : Fin (k0_t25_loop v15 v22 k0_t19).trips), ∀ (r : Fin 3), ∀ a, (k0_off543 v15 v22 k0_t19 k0_t25 (BitVec.ofNat 32 (1 + r.val))) a + S1x16.size a ≤ S128x256.size a := fun v15 v22 k0_hw3 k0_t19 k0_t25 r => k0_hw3.2.2.2.2.2.1.2.2.1 k0_t19 k0_t25 r
theorem k0_off544_inb : ∀ (v15 : BitVec 32) (v22 : BitVec 32) (k0_hw3 : k0_chk3 v15 v22) (k0_t19 : Fin (k0_t19_loop v15 v22).trips) (k0_t25 : Fin (k0_t25_loop v15 v22 k0_t19).trips), ∀ (r : Fin 3), ∀ a, (k0_off544 v15 v22 k0_t19 k0_t25 (BitVec.ofNat 32 (1 + r.val))) a + S1x16.size a ≤ S128x256.size a := fun v15 v22 k0_hw3 k0_t19 k0_t25 r => k0_hw3.2.2.2.2.2.1.2.2.2.1 k0_t19 k0_t25 r
theorem k0_off545_inb : ∀ (v15 : BitVec 32) (v22 : BitVec 32) (k0_hw3 : k0_chk3 v15 v22) (k0_t19 : Fin (k0_t19_loop v15 v22).trips) (k0_t25 : Fin (k0_t25_loop v15 v22 k0_t19).trips), ∀ (r : Fin 3), ∀ a, (k0_off545 v15 v22 k0_t19 k0_t25 (BitVec.ofNat 32 (1 + r.val))) a + S1x16.size a ≤ S128x256.size a := fun v15 v22 k0_hw3 k0_t19 k0_t25 r => k0_hw3.2.2.2.2.2.1.2.2.2.2.1 k0_t19 k0_t25 r
theorem k0_off546_inb : ∀ (v15 : BitVec 32) (v22 : BitVec 32) (k0_hw3 : k0_chk3 v15 v22) (k0_t19 : Fin (k0_t19_loop v15 v22).trips) (k0_t25 : Fin (k0_t25_loop v15 v22 k0_t19).trips), ∀ (r : Fin 3), ∀ a, (k0_off546 v15 v22 k0_t19 k0_t25 (BitVec.ofNat 32 (1 + r.val))) a + S1x16.size a ≤ S128x256.size a := fun v15 v22 k0_hw3 k0_t19 k0_t25 r => k0_hw3.2.2.2.2.2.1.2.2.2.2.2.1 k0_t19 k0_t25 r
theorem k0_off547_inb : ∀ (v15 : BitVec 32) (v22 : BitVec 32) (k0_hw3 : k0_chk3 v15 v22) (k0_t19 : Fin (k0_t19_loop v15 v22).trips) (k0_t25 : Fin (k0_t25_loop v15 v22 k0_t19).trips), ∀ (r : Fin 3), ∀ a, (k0_off547 v15 v22 k0_t19 k0_t25 (BitVec.ofNat 32 (1 + r.val))) a + S1x16.size a ≤ S128x256.size a := fun v15 v22 k0_hw3 k0_t19 k0_t25 r => k0_hw3.2.2.2.2.2.1.2.2.2.2.2.2.1 k0_t19 k0_t25 r
theorem k0_off548_inb : ∀ (v15 : BitVec 32) (v22 : BitVec 32) (k0_hw3 : k0_chk3 v15 v22) (k0_t19 : Fin (k0_t19_loop v15 v22).trips) (k0_t25 : Fin (k0_t25_loop v15 v22 k0_t19).trips), ∀ (r : Fin 3), ∀ a, (k0_off548 v15 v22 k0_t19 k0_t25 (BitVec.ofNat 32 (1 + r.val))) a + S1x16.size a ≤ S128x256.size a := fun v15 v22 k0_hw3 k0_t19 k0_t25 r => k0_hw3.2.2.2.2.2.1.2.2.2.2.2.2.2.1 k0_t19 k0_t25 r
theorem k0_off549_inb : ∀ (v15 : BitVec 32) (v22 : BitVec 32) (k0_hw3 : k0_chk3 v15 v22) (k0_t19 : Fin (k0_t19_loop v15 v22).trips) (k0_t25 : Fin (k0_t25_loop v15 v22 k0_t19).trips), ∀ (r : Fin 3), ∀ a, (k0_off549 v15 v22 k0_t19 k0_t25 (BitVec.ofNat 32 (1 + r.val))) a + S1x16.size a ≤ S128x256.size a := fun v15 v22 k0_hw3 k0_t19 k0_t25 r => k0_hw3.2.2.2.2.2.1.2.2.2.2.2.2.2.2.1 k0_t19 k0_t25 r
theorem k0_off550_inb : ∀ (v15 : BitVec 32) (v22 : BitVec 32) (k0_hw3 : k0_chk3 v15 v22) (k0_t19 : Fin (k0_t19_loop v15 v22).trips) (k0_t25 : Fin (k0_t25_loop v15 v22 k0_t19).trips), ∀ (r : Fin 3), ∀ a, (k0_off550 v15 v22 k0_t19 k0_t25 (BitVec.ofNat 32 (1 + r.val))) a + S1x16.size a ≤ S128x256.size a := fun v15 v22 k0_hw3 k0_t19 k0_t25 r => k0_hw3.2.2.2.2.2.1.2.2.2.2.2.2.2.2.2.1 k0_t19 k0_t25 r
theorem k0_off551_inb : ∀ (v15 : BitVec 32) (v22 : BitVec 32) (k0_hw3 : k0_chk3 v15 v22) (k0_t19 : Fin (k0_t19_loop v15 v22).trips) (k0_t25 : Fin (k0_t25_loop v15 v22 k0_t19).trips), ∀ (r : Fin 3), ∀ a, (k0_off551 v15 v22 k0_t19 k0_t25 (BitVec.ofNat 32 (1 + r.val))) a + S1x16.size a ≤ S128x256.size a := fun v15 v22 k0_hw3 k0_t19 k0_t25 r => k0_hw3.2.2.2.2.2.1.2.2.2.2.2.2.2.2.2.2.1 k0_t19 k0_t25 r
theorem k0_off552_inb : ∀ (v15 : BitVec 32) (v22 : BitVec 32) (k0_hw3 : k0_chk3 v15 v22) (k0_t19 : Fin (k0_t19_loop v15 v22).trips) (k0_t25 : Fin (k0_t25_loop v15 v22 k0_t19).trips), ∀ (r : Fin 3), ∀ a, (k0_off552 v15 v22 k0_t19 k0_t25 (BitVec.ofNat 32 (1 + r.val))) a + S1x16.size a ≤ S128x256.size a := fun v15 v22 k0_hw3 k0_t19 k0_t25 r => k0_hw3.2.2.2.2.2.1.2.2.2.2.2.2.2.2.2.2.2.1 k0_t19 k0_t25 r
theorem k0_off553_inb : ∀ (v15 : BitVec 32) (v22 : BitVec 32) (k0_hw3 : k0_chk3 v15 v22) (k0_t19 : Fin (k0_t19_loop v15 v22).trips) (k0_t25 : Fin (k0_t25_loop v15 v22 k0_t19).trips), ∀ (r : Fin 3), ∀ a, (k0_off553 v15 v22 k0_t19 k0_t25 (BitVec.ofNat 32 (1 + r.val))) a + S1x16.size a ≤ S128x256.size a := fun v15 v22 k0_hw3 k0_t19 k0_t25 r => k0_hw3.2.2.2.2.2.1.2.2.2.2.2.2.2.2.2.2.2.2.1 k0_t19 k0_t25 r
theorem k0_t26_ok : ∀ (v15 : BitVec 32) (v22 : BitVec 32) (k0_hw3 : k0_chk3 v15 v22) (k0_t19 : Fin (k0_t19_loop v15 v22).trips), (k0_t26_loop v15 v22 k0_t19).OK := fun v15 v22 k0_hw3 k0_t19 => k0_hw3.2.2.2.2.2.1.2.2.2.2.2.2.2.2.2.2.2.2.2.1 k0_t19
theorem k0_off554_inb : ∀ (v15 : BitVec 32) (v22 : BitVec 32) (k0_hw3 : k0_chk3 v15 v22) (k0_t19 : Fin (k0_t19_loop v15 v22).trips) (k0_t26 : Fin (k0_t26_loop v15 v22 k0_t19).trips), ∀ a, (k0_off554 v15 v22 k0_t19 k0_t26) a + S1x16.size a ≤ S128x256.size a := fun v15 v22 k0_hw3 k0_t19 k0_t26 => k0_hw3.2.2.2.2.2.1.2.2.2.2.2.2.2.2.2.2.2.2.2.2.1 k0_t19 k0_t26
theorem k0_off555_inb : ∀ (v15 : BitVec 32) (v22 : BitVec 32) (k0_hw3 : k0_chk3 v15 v22) (k0_t19 : Fin (k0_t19_loop v15 v22).trips) (k0_t26 : Fin (k0_t26_loop v15 v22 k0_t19).trips), ∀ a, (k0_off555 v15 v22 k0_t19 k0_t26) a + S1x16.size a ≤ S128x256.size a := fun v15 v22 k0_hw3 k0_t19 k0_t26 => k0_hw3.2.2.2.2.2.1.2.2.2.2.2.2.2.2.2.2.2.2.2.2.2.1 k0_t19 k0_t26
theorem k0_off556_inb : ∀ (v15 : BitVec 32) (v22 : BitVec 32) (k0_hw3 : k0_chk3 v15 v22) (k0_t19 : Fin (k0_t19_loop v15 v22).trips) (k0_t26 : Fin (k0_t26_loop v15 v22 k0_t19).trips), ∀ a, (k0_off556 v15 v22 k0_t19 k0_t26) a + S1x16.size a ≤ S128x256.size a := fun v15 v22 k0_hw3 k0_t19 k0_t26 => k0_hw3.2.2.2.2.2.1.2.2.2.2.2.2.2.2.2.2.2.2.2.2.2.2.1 k0_t19 k0_t26
theorem k0_off557_inb : ∀ (v15 : BitVec 32) (v22 : BitVec 32) (k0_hw3 : k0_chk3 v15 v22) (k0_t19 : Fin (k0_t19_loop v15 v22).trips) (k0_t26 : Fin (k0_t26_loop v15 v22 k0_t19).trips), ∀ a, (k0_off557 v15 v22 k0_t19 k0_t26) a + S1x16.size a ≤ S128x256.size a := fun v15 v22 k0_hw3 k0_t19 k0_t26 => k0_hw3.2.2.2.2.2.1.2.2.2.2.2.2.2.2.2.2.2.2.2.2.2.2.2.1 k0_t19 k0_t26
theorem k0_off558_inb : ∀ (v15 : BitVec 32) (v22 : BitVec 32) (k0_hw3 : k0_chk3 v15 v22) (k0_t19 : Fin (k0_t19_loop v15 v22).trips) (k0_t26 : Fin (k0_t26_loop v15 v22 k0_t19).trips), ∀ a, (k0_off558 v15 v22 k0_t19 k0_t26) a + S1x16.size a ≤ S128x256.size a := fun v15 v22 k0_hw3 k0_t19 k0_t26 => k0_hw3.2.2.2.2.2.1.2.2.2.2.2.2.2.2.2.2.2.2.2.2.2.2.2.2.1 k0_t19 k0_t26
theorem k0_off559_inb : ∀ (v15 : BitVec 32) (v22 : BitVec 32) (k0_hw3 : k0_chk3 v15 v22) (k0_t19 : Fin (k0_t19_loop v15 v22).trips) (k0_t26 : Fin (k0_t26_loop v15 v22 k0_t19).trips), ∀ a, (k0_off559 v15 v22 k0_t19 k0_t26) a + S1x16.size a ≤ S128x256.size a := fun v15 v22 k0_hw3 k0_t19 k0_t26 => k0_hw3.2.2.2.2.2.1.2.2.2.2.2.2.2.2.2.2.2.2.2.2.2.2.2.2.2.1 k0_t19 k0_t26
theorem k0_off560_inb : ∀ (v15 : BitVec 32) (v22 : BitVec 32) (k0_hw3 : k0_chk3 v15 v22) (k0_t19 : Fin (k0_t19_loop v15 v22).trips) (k0_t26 : Fin (k0_t26_loop v15 v22 k0_t19).trips), ∀ a, (k0_off560 v15 v22 k0_t19 k0_t26) a + S1x16.size a ≤ S128x256.size a := fun v15 v22 k0_hw3 k0_t19 k0_t26 => k0_hw3.2.2.2.2.2.1.2.2.2.2.2.2.2.2.2.2.2.2.2.2.2.2.2.2.2.2.1 k0_t19 k0_t26
theorem k0_off561_inb : ∀ (v15 : BitVec 32) (v22 : BitVec 32) (k0_hw3 : k0_chk3 v15 v22) (k0_t19 : Fin (k0_t19_loop v15 v22).trips) (k0_t26 : Fin (k0_t26_loop v15 v22 k0_t19).trips), ∀ a, (k0_off561 v15 v22 k0_t19 k0_t26) a + S1x16.size a ≤ S128x256.size a := fun v15 v22 k0_hw3 k0_t19 k0_t26 => k0_hw3.2.2.2.2.2.1.2.2.2.2.2.2.2.2.2.2.2.2.2.2.2.2.2.2.2.2.2.1 k0_t19 k0_t26
theorem k0_off562_inb : ∀ (v15 : BitVec 32) (v22 : BitVec 32) (k0_hw3 : k0_chk3 v15 v22) (k0_t19 : Fin (k0_t19_loop v15 v22).trips) (k0_t26 : Fin (k0_t26_loop v15 v22 k0_t19).trips), ∀ a, (k0_off562 v15 v22 k0_t19 k0_t26) a + S1x16.size a ≤ S128x256.size a := fun v15 v22 k0_hw3 k0_t19 k0_t26 => k0_hw3.2.2.2.2.2.1.2.2.2.2.2.2.2.2.2.2.2.2.2.2.2.2.2.2.2.2.2.2.1 k0_t19 k0_t26
theorem k0_off563_inb : ∀ (v15 : BitVec 32) (v22 : BitVec 32) (k0_hw3 : k0_chk3 v15 v22) (k0_t19 : Fin (k0_t19_loop v15 v22).trips) (k0_t26 : Fin (k0_t26_loop v15 v22 k0_t19).trips), ∀ a, (k0_off563 v15 v22 k0_t19 k0_t26) a + S1x16.size a ≤ S128x256.size a := fun v15 v22 k0_hw3 k0_t19 k0_t26 => k0_hw3.2.2.2.2.2.1.2.2.2.2.2.2.2.2.2.2.2.2.2.2.2.2.2.2.2.2.2.2.2.1 k0_t19 k0_t26
theorem k0_off564_inb : ∀ (v15 : BitVec 32) (v22 : BitVec 32) (k0_hw3 : k0_chk3 v15 v22) (k0_t19 : Fin (k0_t19_loop v15 v22).trips) (k0_t26 : Fin (k0_t26_loop v15 v22 k0_t19).trips), ∀ a, (k0_off564 v15 v22 k0_t19 k0_t26) a + S1x16.size a ≤ S128x256.size a := fun v15 v22 k0_hw3 k0_t19 k0_t26 => k0_hw3.2.2.2.2.2.1.2.2.2.2.2.2.2.2.2.2.2.2.2.2.2.2.2.2.2.2.2.2.2.2.1 k0_t19 k0_t26
theorem k0_off565_inb : ∀ (v15 : BitVec 32) (v22 : BitVec 32) (k0_hw3 : k0_chk3 v15 v22) (k0_t19 : Fin (k0_t19_loop v15 v22).trips) (k0_t26 : Fin (k0_t26_loop v15 v22 k0_t19).trips), ∀ a, (k0_off565 v15 v22 k0_t19 k0_t26) a + S1x16.size a ≤ S128x256.size a := fun v15 v22 k0_hw3 k0_t19 k0_t26 => k0_hw3.2.2.2.2.2.1.2.2.2.2.2.2.2.2.2.2.2.2.2.2.2.2.2.2.2.2.2.2.2.2.2.1 k0_t19 k0_t26
theorem k0_off566_inb : ∀ (v15 : BitVec 32) (v22 : BitVec 32) (k0_hw3 : k0_chk3 v15 v22) (k0_t19 : Fin (k0_t19_loop v15 v22).trips) (k0_t26 : Fin (k0_t26_loop v15 v22 k0_t19).trips), ∀ a, (k0_off566 v15 v22 k0_t19 k0_t26) a + S1x16.size a ≤ S128x256.size a := fun v15 v22 k0_hw3 k0_t19 k0_t26 => k0_hw3.2.2.2.2.2.1.2.2.2.2.2.2.2.2.2.2.2.2.2.2.2.2.2.2.2.2.2.2.2.2.2.2.1 k0_t19 k0_t26
theorem k0_off567_inb : ∀ (v15 : BitVec 32) (v22 : BitVec 32) (k0_hw3 : k0_chk3 v15 v22) (k0_t19 : Fin (k0_t19_loop v15 v22).trips) (k0_t26 : Fin (k0_t26_loop v15 v22 k0_t19).trips), ∀ a, (k0_off567 v15 v22 k0_t19 k0_t26) a + S1x16.size a ≤ S128x256.size a := fun v15 v22 k0_hw3 k0_t19 k0_t26 => k0_hw3.2.2.2.2.2.1.2.2.2.2.2.2.2.2.2.2.2.2.2.2.2.2.2.2.2.2.2.2.2.2.2.2.2.1 k0_t19 k0_t26
theorem k0_off568_inb : ∀ (v15 : BitVec 32) (v22 : BitVec 32) (k0_hw3 : k0_chk3 v15 v22) (k0_t19 : Fin (k0_t19_loop v15 v22).trips) (k0_t26 : Fin (k0_t26_loop v15 v22 k0_t19).trips), ∀ a, (k0_off568 v15 v22 k0_t19 k0_t26) a + S1x16.size a ≤ S128x256.size a := fun v15 v22 k0_hw3 k0_t19 k0_t26 => k0_hw3.2.2.2.2.2.1.2.2.2.2.2.2.2.2.2.2.2.2.2.2.2.2.2.2.2.2.2.2.2.2.2.2.2.2.1 k0_t19 k0_t26
theorem k0_off569_inb : ∀ (v15 : BitVec 32) (v22 : BitVec 32) (k0_hw3 : k0_chk3 v15 v22) (k0_t19 : Fin (k0_t19_loop v15 v22).trips) (k0_t26 : Fin (k0_t26_loop v15 v22 k0_t19).trips), ∀ a, (k0_off569 v15 v22 k0_t19 k0_t26) a + S1x16.size a ≤ S128x256.size a := fun v15 v22 k0_hw3 k0_t19 k0_t26 => k0_hw3.2.2.2.2.2.1.2.2.2.2.2.2.2.2.2.2.2.2.2.2.2.2.2.2.2.2.2.2.2.2.2.2.2.2.2.1 k0_t19 k0_t26
theorem k0_t27_ok : ∀ (v15 : BitVec 32) (v22 : BitVec 32) (k0_hw3 : k0_chk3 v15 v22) (k0_t19 : Fin (k0_t19_loop v15 v22).trips), (k0_t27_loop v15 v22 k0_t19).OK := fun v15 v22 k0_hw3 k0_t19 => k0_hw3.2.2.2.2.2.1.2.2.2.2.2.2.2.2.2.2.2.2.2.2.2.2.2.2.2.2.2.2.2.2.2.2.2.2.2.2.1 k0_t19
theorem k0_off570_inb : ∀ (v15 : BitVec 32) (v22 : BitVec 32) (k0_hw3 : k0_chk3 v15 v22) (k0_t19 : Fin (k0_t19_loop v15 v22).trips) (k0_t27 : Fin (k0_t27_loop v15 v22 k0_t19).trips), ∀ a, (k0_off570 v15 v22 k0_t19 k0_t27) a + S1x16.size a ≤ S128x256.size a := fun v15 v22 k0_hw3 k0_t19 k0_t27 => k0_hw3.2.2.2.2.2.1.2.2.2.2.2.2.2.2.2.2.2.2.2.2.2.2.2.2.2.2.2.2.2.2.2.2.2.2.2.2.2 k0_t19 k0_t27
theorem k0_off571_inb : ∀ (v15 : BitVec 32) (v22 : BitVec 32) (k0_hw3 : k0_chk3 v15 v22) (k0_t19 : Fin (k0_t19_loop v15 v22).trips) (k0_t27 : Fin (k0_t27_loop v15 v22 k0_t19).trips), ∀ a, (k0_off571 v15 v22 k0_t19 k0_t27) a + S1x16.size a ≤ S128x256.size a := fun v15 v22 k0_hw3 k0_t19 k0_t27 => k0_hw3.2.2.2.2.2.2.1.1 k0_t19 k0_t27
theorem k0_off572_inb : ∀ (v15 : BitVec 32) (v22 : BitVec 32) (k0_hw3 : k0_chk3 v15 v22) (k0_t19 : Fin (k0_t19_loop v15 v22).trips) (k0_t27 : Fin (k0_t27_loop v15 v22 k0_t19).trips), ∀ a, (k0_off572 v15 v22 k0_t19 k0_t27) a + S1x16.size a ≤ S128x256.size a := fun v15 v22 k0_hw3 k0_t19 k0_t27 => k0_hw3.2.2.2.2.2.2.1.2.1 k0_t19 k0_t27
theorem k0_off573_inb : ∀ (v15 : BitVec 32) (v22 : BitVec 32) (k0_hw3 : k0_chk3 v15 v22) (k0_t19 : Fin (k0_t19_loop v15 v22).trips) (k0_t27 : Fin (k0_t27_loop v15 v22 k0_t19).trips), ∀ a, (k0_off573 v15 v22 k0_t19 k0_t27) a + S1x16.size a ≤ S128x256.size a := fun v15 v22 k0_hw3 k0_t19 k0_t27 => k0_hw3.2.2.2.2.2.2.1.2.2.1 k0_t19 k0_t27
theorem k0_off574_inb : ∀ (v15 : BitVec 32) (v22 : BitVec 32) (k0_hw3 : k0_chk3 v15 v22) (k0_t19 : Fin (k0_t19_loop v15 v22).trips) (k0_t27 : Fin (k0_t27_loop v15 v22 k0_t19).trips), ∀ a, (k0_off574 v15 v22 k0_t19 k0_t27) a + S1x16.size a ≤ S128x256.size a := fun v15 v22 k0_hw3 k0_t19 k0_t27 => k0_hw3.2.2.2.2.2.2.1.2.2.2.1 k0_t19 k0_t27
theorem k0_off575_inb : ∀ (v15 : BitVec 32) (v22 : BitVec 32) (k0_hw3 : k0_chk3 v15 v22) (k0_t19 : Fin (k0_t19_loop v15 v22).trips) (k0_t27 : Fin (k0_t27_loop v15 v22 k0_t19).trips), ∀ a, (k0_off575 v15 v22 k0_t19 k0_t27) a + S1x16.size a ≤ S128x256.size a := fun v15 v22 k0_hw3 k0_t19 k0_t27 => k0_hw3.2.2.2.2.2.2.1.2.2.2.2.1 k0_t19 k0_t27
theorem k0_off576_inb : ∀ (v15 : BitVec 32) (v22 : BitVec 32) (k0_hw3 : k0_chk3 v15 v22) (k0_t19 : Fin (k0_t19_loop v15 v22).trips) (k0_t27 : Fin (k0_t27_loop v15 v22 k0_t19).trips), ∀ a, (k0_off576 v15 v22 k0_t19 k0_t27) a + S1x16.size a ≤ S128x256.size a := fun v15 v22 k0_hw3 k0_t19 k0_t27 => k0_hw3.2.2.2.2.2.2.1.2.2.2.2.2.1 k0_t19 k0_t27
theorem k0_off577_inb : ∀ (v15 : BitVec 32) (v22 : BitVec 32) (k0_hw3 : k0_chk3 v15 v22) (k0_t19 : Fin (k0_t19_loop v15 v22).trips) (k0_t27 : Fin (k0_t27_loop v15 v22 k0_t19).trips), ∀ a, (k0_off577 v15 v22 k0_t19 k0_t27) a + S1x16.size a ≤ S128x256.size a := fun v15 v22 k0_hw3 k0_t19 k0_t27 => k0_hw3.2.2.2.2.2.2.1.2.2.2.2.2.2.1 k0_t19 k0_t27
theorem k0_off578_inb : ∀ (v15 : BitVec 32) (v22 : BitVec 32) (k0_hw3 : k0_chk3 v15 v22) (k0_t19 : Fin (k0_t19_loop v15 v22).trips) (k0_t27 : Fin (k0_t27_loop v15 v22 k0_t19).trips), ∀ a, (k0_off578 v15 v22 k0_t19 k0_t27) a + S1x16.size a ≤ S128x256.size a := fun v15 v22 k0_hw3 k0_t19 k0_t27 => k0_hw3.2.2.2.2.2.2.1.2.2.2.2.2.2.2.1 k0_t19 k0_t27
theorem k0_off579_inb : ∀ (v15 : BitVec 32) (v22 : BitVec 32) (k0_hw3 : k0_chk3 v15 v22) (k0_t19 : Fin (k0_t19_loop v15 v22).trips) (k0_t27 : Fin (k0_t27_loop v15 v22 k0_t19).trips), ∀ a, (k0_off579 v15 v22 k0_t19 k0_t27) a + S1x16.size a ≤ S128x256.size a := fun v15 v22 k0_hw3 k0_t19 k0_t27 => k0_hw3.2.2.2.2.2.2.1.2.2.2.2.2.2.2.2.1 k0_t19 k0_t27
theorem k0_off580_inb : ∀ (v15 : BitVec 32) (v22 : BitVec 32) (k0_hw3 : k0_chk3 v15 v22) (k0_t19 : Fin (k0_t19_loop v15 v22).trips) (k0_t27 : Fin (k0_t27_loop v15 v22 k0_t19).trips), ∀ a, (k0_off580 v15 v22 k0_t19 k0_t27) a + S1x16.size a ≤ S128x256.size a := fun v15 v22 k0_hw3 k0_t19 k0_t27 => k0_hw3.2.2.2.2.2.2.1.2.2.2.2.2.2.2.2.2.1 k0_t19 k0_t27
theorem k0_off581_inb : ∀ (v15 : BitVec 32) (v22 : BitVec 32) (k0_hw3 : k0_chk3 v15 v22) (k0_t19 : Fin (k0_t19_loop v15 v22).trips) (k0_t27 : Fin (k0_t27_loop v15 v22 k0_t19).trips), ∀ a, (k0_off581 v15 v22 k0_t19 k0_t27) a + S1x16.size a ≤ S128x256.size a := fun v15 v22 k0_hw3 k0_t19 k0_t27 => k0_hw3.2.2.2.2.2.2.1.2.2.2.2.2.2.2.2.2.2.1 k0_t19 k0_t27
theorem k0_off582_inb : ∀ (v15 : BitVec 32) (v22 : BitVec 32) (k0_hw3 : k0_chk3 v15 v22) (k0_t19 : Fin (k0_t19_loop v15 v22).trips) (k0_t27 : Fin (k0_t27_loop v15 v22 k0_t19).trips), ∀ a, (k0_off582 v15 v22 k0_t19 k0_t27) a + S1x16.size a ≤ S128x256.size a := fun v15 v22 k0_hw3 k0_t19 k0_t27 => k0_hw3.2.2.2.2.2.2.1.2.2.2.2.2.2.2.2.2.2.2.1 k0_t19 k0_t27
theorem k0_off583_inb : ∀ (v15 : BitVec 32) (v22 : BitVec 32) (k0_hw3 : k0_chk3 v15 v22) (k0_t19 : Fin (k0_t19_loop v15 v22).trips) (k0_t27 : Fin (k0_t27_loop v15 v22 k0_t19).trips), ∀ a, (k0_off583 v15 v22 k0_t19 k0_t27) a + S1x16.size a ≤ S128x256.size a := fun v15 v22 k0_hw3 k0_t19 k0_t27 => k0_hw3.2.2.2.2.2.2.1.2.2.2.2.2.2.2.2.2.2.2.2.1 k0_t19 k0_t27
theorem k0_off584_inb : ∀ (v15 : BitVec 32) (v22 : BitVec 32) (k0_hw3 : k0_chk3 v15 v22) (k0_t19 : Fin (k0_t19_loop v15 v22).trips) (k0_t27 : Fin (k0_t27_loop v15 v22 k0_t19).trips), ∀ a, (k0_off584 v15 v22 k0_t19 k0_t27) a + S1x16.size a ≤ S128x256.size a := fun v15 v22 k0_hw3 k0_t19 k0_t27 => k0_hw3.2.2.2.2.2.2.1.2.2.2.2.2.2.2.2.2.2.2.2.2.1 k0_t19 k0_t27
theorem k0_off585_inb : ∀ (v15 : BitVec 32) (v22 : BitVec 32) (k0_hw3 : k0_chk3 v15 v22) (k0_t19 : Fin (k0_t19_loop v15 v22).trips) (k0_t27 : Fin (k0_t27_loop v15 v22 k0_t19).trips), ∀ a, (k0_off585 v15 v22 k0_t19 k0_t27) a + S1x16.size a ≤ S128x256.size a := fun v15 v22 k0_hw3 k0_t19 k0_t27 => k0_hw3.2.2.2.2.2.2.1.2.2.2.2.2.2.2.2.2.2.2.2.2.2.1 k0_t19 k0_t27
theorem k0_t28_ok : ∀ (v15 : BitVec 32) (v22 : BitVec 32) (k0_hw3 : k0_chk3 v15 v22), (k0_t28_loop v15 v22).OK := fun v15 v22 k0_hw3 => k0_hw3.2.2.2.2.2.2.1.2.2.2.2.2.2.2.2.2.2.2.2.2.2.2.1
theorem k0_mult15_dvd : ∀ (v15 : BitVec 32) (v22 : BitVec 32) (k0_hw3 : k0_chk3 v15 v22) (k0_t28 : Fin (k0_t28_loop v15 v22).trips), 8 ∣ (k0_mult15 v15 v22 k0_t28).toNat := fun v15 v22 k0_hw3 k0_t28 => k0_hw3.2.2.2.2.2.2.1.2.2.2.2.2.2.2.2.2.2.2.2.2.2.2.2.1 k0_t28
theorem k0_off586_inb : ∀ (v15 : BitVec 32) (v22 : BitVec 32) (k0_hw3 : k0_chk3 v15 v22) (k0_t28 : Fin (k0_t28_loop v15 v22).trips), ∀ a, (k0_off586 v15 v22 k0_t28) a + S128x256.size a ≤ S50000x256.size a := fun v15 v22 k0_hw3 k0_t28 => k0_hw3.2.2.2.2.2.2.1.2.2.2.2.2.2.2.2.2.2.2.2.2.2.2.2.2.1 k0_t28
theorem k0_mult16_dvd : ∀ (v15 : BitVec 32) (v22 : BitVec 32) (k0_hw3 : k0_chk3 v15 v22) (k0_t28 : Fin (k0_t28_loop v15 v22).trips), 8 ∣ (k0_mult16 v15 v22 k0_t28).toNat := fun v15 v22 k0_hw3 k0_t28 => k0_hw3.2.2.2.2.2.2.1.2.2.2.2.2.2.2.2.2.2.2.2.2.2.2.2.2.2.1 k0_t28
theorem k0_t29_ok : ∀ (v15 : BitVec 32) (v22 : BitVec 32) (k0_hw3 : k0_chk3 v15 v22) (k0_t28 : Fin (k0_t28_loop v15 v22).trips), (k0_t29_loop v15 v22 k0_t28).OK := fun v15 v22 k0_hw3 k0_t28 => k0_hw3.2.2.2.2.2.2.1.2.2.2.2.2.2.2.2.2.2.2.2.2.2.2.2.2.2.2.1 k0_t28
theorem k0_off587_inb : ∀ (v15 : BitVec 32) (v22 : BitVec 32) (k0_hw3 : k0_chk3 v15 v22) (k0_t28 : Fin (k0_t28_loop v15 v22).trips) (k0_t29 : Fin (k0_t29_loop v15 v22 k0_t28).trips), ∀ a, (k0_off587 v15 v22 k0_t28 k0_t29) a + S1x16.size a ≤ S128x256.size a := fun v15 v22 k0_hw3 k0_t28 k0_t29 => k0_hw3.2.2.2.2.2.2.1.2.2.2.2.2.2.2.2.2.2.2.2.2.2.2.2.2.2.2.2.1 k0_t28 k0_t29
theorem k0_off588_inb : ∀ (v15 : BitVec 32) (v22 : BitVec 32) (k0_hw3 : k0_chk3 v15 v22) (k0_t28 : Fin (k0_t28_loop v15 v22).trips) (k0_t29 : Fin (k0_t29_loop v15 v22 k0_t28).trips), ∀ a, (k0_off588 v15 v22 k0_t28 k0_t29) a + S1x16.size a ≤ S128x256.size a := fun v15 v22 k0_hw3 k0_t28 k0_t29 => k0_hw3.2.2.2.2.2.2.1.2.2.2.2.2.2.2.2.2.2.2.2.2.2.2.2.2.2.2.2.2.1 k0_t28 k0_t29
theorem k0_off589_inb : ∀ (v15 : BitVec 32) (v22 : BitVec 32) (k0_hw3 : k0_chk3 v15 v22) (k0_t28 : Fin (k0_t28_loop v15 v22).trips) (k0_t29 : Fin (k0_t29_loop v15 v22 k0_t28).trips), ∀ a, (k0_off589 v15 v22 k0_t28 k0_t29) a + S1x16.size a ≤ S128x256.size a := fun v15 v22 k0_hw3 k0_t28 k0_t29 => k0_hw3.2.2.2.2.2.2.1.2.2.2.2.2.2.2.2.2.2.2.2.2.2.2.2.2.2.2.2.2.2.1 k0_t28 k0_t29
theorem k0_off590_inb : ∀ (v15 : BitVec 32) (v22 : BitVec 32) (k0_hw3 : k0_chk3 v15 v22) (k0_t28 : Fin (k0_t28_loop v15 v22).trips) (k0_t29 : Fin (k0_t29_loop v15 v22 k0_t28).trips), ∀ a, (k0_off590 v15 v22 k0_t28 k0_t29) a + S1x16.size a ≤ S128x256.size a := fun v15 v22 k0_hw3 k0_t28 k0_t29 => k0_hw3.2.2.2.2.2.2.1.2.2.2.2.2.2.2.2.2.2.2.2.2.2.2.2.2.2.2.2.2.2.2.1 k0_t28 k0_t29
theorem k0_off591_inb : ∀ (v15 : BitVec 32) (v22 : BitVec 32) (k0_hw3 : k0_chk3 v15 v22) (k0_t28 : Fin (k0_t28_loop v15 v22).trips) (k0_t29 : Fin (k0_t29_loop v15 v22 k0_t28).trips), ∀ a, (k0_off591 v15 v22 k0_t28 k0_t29) a + S1x16.size a ≤ S128x256.size a := fun v15 v22 k0_hw3 k0_t28 k0_t29 => k0_hw3.2.2.2.2.2.2.1.2.2.2.2.2.2.2.2.2.2.2.2.2.2.2.2.2.2.2.2.2.2.2.2.1 k0_t28 k0_t29
theorem k0_off592_inb : ∀ (v15 : BitVec 32) (v22 : BitVec 32) (k0_hw3 : k0_chk3 v15 v22) (k0_t28 : Fin (k0_t28_loop v15 v22).trips) (k0_t29 : Fin (k0_t29_loop v15 v22 k0_t28).trips), ∀ a, (k0_off592 v15 v22 k0_t28 k0_t29) a + S1x16.size a ≤ S128x256.size a := fun v15 v22 k0_hw3 k0_t28 k0_t29 => k0_hw3.2.2.2.2.2.2.1.2.2.2.2.2.2.2.2.2.2.2.2.2.2.2.2.2.2.2.2.2.2.2.2.2.1 k0_t28 k0_t29
theorem k0_off593_inb : ∀ (v15 : BitVec 32) (v22 : BitVec 32) (k0_hw3 : k0_chk3 v15 v22) (k0_t28 : Fin (k0_t28_loop v15 v22).trips) (k0_t29 : Fin (k0_t29_loop v15 v22 k0_t28).trips), ∀ a, (k0_off593 v15 v22 k0_t28 k0_t29) a + S1x16.size a ≤ S128x256.size a := fun v15 v22 k0_hw3 k0_t28 k0_t29 => k0_hw3.2.2.2.2.2.2.1.2.2.2.2.2.2.2.2.2.2.2.2.2.2.2.2.2.2.2.2.2.2.2.2.2.2.1 k0_t28 k0_t29
theorem k0_off594_inb : ∀ (v15 : BitVec 32) (v22 : BitVec 32) (k0_hw3 : k0_chk3 v15 v22) (k0_t28 : Fin (k0_t28_loop v15 v22).trips) (k0_t29 : Fin (k0_t29_loop v15 v22 k0_t28).trips), ∀ a, (k0_off594 v15 v22 k0_t28 k0_t29) a + S1x16.size a ≤ S128x256.size a := fun v15 v22 k0_hw3 k0_t28 k0_t29 => k0_hw3.2.2.2.2.2.2.1.2.2.2.2.2.2.2.2.2.2.2.2.2.2.2.2.2.2.2.2.2.2.2.2.2.2.2.1 k0_t28 k0_t29
theorem k0_off595_inb : ∀ (v15 : BitVec 32) (v22 : BitVec 32) (k0_hw3 : k0_chk3 v15 v22) (k0_t28 : Fin (k0_t28_loop v15 v22).trips) (k0_t29 : Fin (k0_t29_loop v15 v22 k0_t28).trips), ∀ a, (k0_off595 v15 v22 k0_t28 k0_t29) a + S1x16.size a ≤ S128x256.size a := fun v15 v22 k0_hw3 k0_t28 k0_t29 => k0_hw3.2.2.2.2.2.2.1.2.2.2.2.2.2.2.2.2.2.2.2.2.2.2.2.2.2.2.2.2.2.2.2.2.2.2.2.1 k0_t28 k0_t29
theorem k0_off596_inb : ∀ (v15 : BitVec 32) (v22 : BitVec 32) (k0_hw3 : k0_chk3 v15 v22) (k0_t28 : Fin (k0_t28_loop v15 v22).trips) (k0_t29 : Fin (k0_t29_loop v15 v22 k0_t28).trips), ∀ a, (k0_off596 v15 v22 k0_t28 k0_t29) a + S1x16.size a ≤ S128x256.size a := fun v15 v22 k0_hw3 k0_t28 k0_t29 => k0_hw3.2.2.2.2.2.2.1.2.2.2.2.2.2.2.2.2.2.2.2.2.2.2.2.2.2.2.2.2.2.2.2.2.2.2.2.2.1 k0_t28 k0_t29
theorem k0_off597_inb : ∀ (v15 : BitVec 32) (v22 : BitVec 32) (k0_hw3 : k0_chk3 v15 v22) (k0_t28 : Fin (k0_t28_loop v15 v22).trips) (k0_t29 : Fin (k0_t29_loop v15 v22 k0_t28).trips), ∀ a, (k0_off597 v15 v22 k0_t28 k0_t29) a + S1x16.size a ≤ S128x256.size a := fun v15 v22 k0_hw3 k0_t28 k0_t29 => k0_hw3.2.2.2.2.2.2.1.2.2.2.2.2.2.2.2.2.2.2.2.2.2.2.2.2.2.2.2.2.2.2.2.2.2.2.2.2.2.1 k0_t28 k0_t29
theorem k0_off598_inb : ∀ (v15 : BitVec 32) (v22 : BitVec 32) (k0_hw3 : k0_chk3 v15 v22) (k0_t28 : Fin (k0_t28_loop v15 v22).trips) (k0_t29 : Fin (k0_t29_loop v15 v22 k0_t28).trips), ∀ a, (k0_off598 v15 v22 k0_t28 k0_t29) a + S1x16.size a ≤ S128x256.size a := fun v15 v22 k0_hw3 k0_t28 k0_t29 => k0_hw3.2.2.2.2.2.2.1.2.2.2.2.2.2.2.2.2.2.2.2.2.2.2.2.2.2.2.2.2.2.2.2.2.2.2.2.2.2.2 k0_t28 k0_t29
theorem k0_off599_inb : ∀ (v15 : BitVec 32) (v22 : BitVec 32) (k0_hw3 : k0_chk3 v15 v22) (k0_t28 : Fin (k0_t28_loop v15 v22).trips) (k0_t29 : Fin (k0_t29_loop v15 v22 k0_t28).trips), ∀ a, (k0_off599 v15 v22 k0_t28 k0_t29) a + S1x16.size a ≤ S128x256.size a := fun v15 v22 k0_hw3 k0_t28 k0_t29 => k0_hw3.2.2.2.2.2.2.2.1.1 k0_t28 k0_t29
theorem k0_off600_inb : ∀ (v15 : BitVec 32) (v22 : BitVec 32) (k0_hw3 : k0_chk3 v15 v22) (k0_t28 : Fin (k0_t28_loop v15 v22).trips) (k0_t29 : Fin (k0_t29_loop v15 v22 k0_t28).trips), ∀ a, (k0_off600 v15 v22 k0_t28 k0_t29) a + S1x16.size a ≤ S128x256.size a := fun v15 v22 k0_hw3 k0_t28 k0_t29 => k0_hw3.2.2.2.2.2.2.2.1.2.1 k0_t28 k0_t29
theorem k0_off601_inb : ∀ (v15 : BitVec 32) (v22 : BitVec 32) (k0_hw3 : k0_chk3 v15 v22) (k0_t28 : Fin (k0_t28_loop v15 v22).trips) (k0_t29 : Fin (k0_t29_loop v15 v22 k0_t28).trips), ∀ a, (k0_off601 v15 v22 k0_t28 k0_t29) a + S1x16.size a ≤ S128x256.size a := fun v15 v22 k0_hw3 k0_t28 k0_t29 => k0_hw3.2.2.2.2.2.2.2.1.2.2.1 k0_t28 k0_t29
theorem k0_off602_inb : ∀ (v15 : BitVec 32) (v22 : BitVec 32) (k0_hw3 : k0_chk3 v15 v22) (k0_t28 : Fin (k0_t28_loop v15 v22).trips) (k0_t29 : Fin (k0_t29_loop v15 v22 k0_t28).trips), ∀ a, (k0_off602 v15 v22 k0_t28 k0_t29) a + S1x16.size a ≤ S128x256.size a := fun v15 v22 k0_hw3 k0_t28 k0_t29 => k0_hw3.2.2.2.2.2.2.2.1.2.2.2.1 k0_t28 k0_t29
theorem k0_off603_inb : ∀ (v15 : BitVec 32) (v22 : BitVec 32) (k0_hw3 : k0_chk3 v15 v22) (k0_t28 : Fin (k0_t28_loop v15 v22).trips) (k0_t29 : Fin (k0_t29_loop v15 v22 k0_t28).trips), ∀ (r : Fin 3), ∀ a, (k0_off603 v15 v22 k0_t28 k0_t29 (BitVec.ofNat 32 (1 + r.val))) a + S1x16.size a ≤ S128x256.size a := fun v15 v22 k0_hw3 k0_t28 k0_t29 r => k0_hw3.2.2.2.2.2.2.2.1.2.2.2.2.1 k0_t28 k0_t29 r
theorem k0_off604_inb : ∀ (v15 : BitVec 32) (v22 : BitVec 32) (k0_hw3 : k0_chk3 v15 v22) (k0_t28 : Fin (k0_t28_loop v15 v22).trips) (k0_t29 : Fin (k0_t29_loop v15 v22 k0_t28).trips), ∀ (r : Fin 3), ∀ a, (k0_off604 v15 v22 k0_t28 k0_t29 (BitVec.ofNat 32 (1 + r.val))) a + S1x16.size a ≤ S128x256.size a := fun v15 v22 k0_hw3 k0_t28 k0_t29 r => k0_hw3.2.2.2.2.2.2.2.1.2.2.2.2.2.1 k0_t28 k0_t29 r
theorem k0_off605_inb : ∀ (v15 : BitVec 32) (v22 : BitVec 32) (k0_hw3 : k0_chk3 v15 v22) (k0_t28 : Fin (k0_t28_loop v15 v22).trips) (k0_t29 : Fin (k0_t29_loop v15 v22 k0_t28).trips), ∀ (r : Fin 3), ∀ a, (k0_off605 v15 v22 k0_t28 k0_t29 (BitVec.ofNat 32 (1 + r.val))) a + S1x16.size a ≤ S128x256.size a := fun v15 v22 k0_hw3 k0_t28 k0_t29 r => k0_hw3.2.2.2.2.2.2.2.1.2.2.2.2.2.2.1 k0_t28 k0_t29 r
theorem k0_off606_inb : ∀ (v15 : BitVec 32) (v22 : BitVec 32) (k0_hw3 : k0_chk3 v15 v22) (k0_t28 : Fin (k0_t28_loop v15 v22).trips) (k0_t29 : Fin (k0_t29_loop v15 v22 k0_t28).trips), ∀ (r : Fin 3), ∀ a, (k0_off606 v15 v22 k0_t28 k0_t29 (BitVec.ofNat 32 (1 + r.val))) a + S1x16.size a ≤ S128x256.size a := fun v15 v22 k0_hw3 k0_t28 k0_t29 r => k0_hw3.2.2.2.2.2.2.2.1.2.2.2.2.2.2.2.1 k0_t28 k0_t29 r
theorem k0_off607_inb : ∀ (v15 : BitVec 32) (v22 : BitVec 32) (k0_hw3 : k0_chk3 v15 v22) (k0_t28 : Fin (k0_t28_loop v15 v22).trips) (k0_t29 : Fin (k0_t29_loop v15 v22 k0_t28).trips), ∀ (r : Fin 3), ∀ a, (k0_off607 v15 v22 k0_t28 k0_t29 (BitVec.ofNat 32 (1 + r.val))) a + S1x16.size a ≤ S128x256.size a := fun v15 v22 k0_hw3 k0_t28 k0_t29 r => k0_hw3.2.2.2.2.2.2.2.1.2.2.2.2.2.2.2.2.1 k0_t28 k0_t29 r
theorem k0_off608_inb : ∀ (v15 : BitVec 32) (v22 : BitVec 32) (k0_hw3 : k0_chk3 v15 v22) (k0_t28 : Fin (k0_t28_loop v15 v22).trips) (k0_t29 : Fin (k0_t29_loop v15 v22 k0_t28).trips), ∀ (r : Fin 3), ∀ a, (k0_off608 v15 v22 k0_t28 k0_t29 (BitVec.ofNat 32 (1 + r.val))) a + S1x16.size a ≤ S128x256.size a := fun v15 v22 k0_hw3 k0_t28 k0_t29 r => k0_hw3.2.2.2.2.2.2.2.1.2.2.2.2.2.2.2.2.2.1 k0_t28 k0_t29 r
theorem k0_off609_inb : ∀ (v15 : BitVec 32) (v22 : BitVec 32) (k0_hw3 : k0_chk3 v15 v22) (k0_t28 : Fin (k0_t28_loop v15 v22).trips) (k0_t29 : Fin (k0_t29_loop v15 v22 k0_t28).trips), ∀ (r : Fin 3), ∀ a, (k0_off609 v15 v22 k0_t28 k0_t29 (BitVec.ofNat 32 (1 + r.val))) a + S1x16.size a ≤ S128x256.size a := fun v15 v22 k0_hw3 k0_t28 k0_t29 r => k0_hw3.2.2.2.2.2.2.2.1.2.2.2.2.2.2.2.2.2.2.1 k0_t28 k0_t29 r
theorem k0_off610_inb : ∀ (v15 : BitVec 32) (v22 : BitVec 32) (k0_hw3 : k0_chk3 v15 v22) (k0_t28 : Fin (k0_t28_loop v15 v22).trips) (k0_t29 : Fin (k0_t29_loop v15 v22 k0_t28).trips), ∀ (r : Fin 3), ∀ a, (k0_off610 v15 v22 k0_t28 k0_t29 (BitVec.ofNat 32 (1 + r.val))) a + S1x16.size a ≤ S128x256.size a := fun v15 v22 k0_hw3 k0_t28 k0_t29 r => k0_hw3.2.2.2.2.2.2.2.1.2.2.2.2.2.2.2.2.2.2.2.1 k0_t28 k0_t29 r
theorem k0_off611_inb : ∀ (v15 : BitVec 32) (v22 : BitVec 32) (k0_hw3 : k0_chk3 v15 v22) (k0_t28 : Fin (k0_t28_loop v15 v22).trips) (k0_t29 : Fin (k0_t29_loop v15 v22 k0_t28).trips), ∀ (r : Fin 3), ∀ a, (k0_off611 v15 v22 k0_t28 k0_t29 (BitVec.ofNat 32 (1 + r.val))) a + S1x16.size a ≤ S128x256.size a := fun v15 v22 k0_hw3 k0_t28 k0_t29 r => k0_hw3.2.2.2.2.2.2.2.1.2.2.2.2.2.2.2.2.2.2.2.2.1 k0_t28 k0_t29 r
theorem k0_off612_inb : ∀ (v15 : BitVec 32) (v22 : BitVec 32) (k0_hw3 : k0_chk3 v15 v22) (k0_t28 : Fin (k0_t28_loop v15 v22).trips) (k0_t29 : Fin (k0_t29_loop v15 v22 k0_t28).trips), ∀ (r : Fin 3), ∀ a, (k0_off612 v15 v22 k0_t28 k0_t29 (BitVec.ofNat 32 (1 + r.val))) a + S1x16.size a ≤ S128x256.size a := fun v15 v22 k0_hw3 k0_t28 k0_t29 r => k0_hw3.2.2.2.2.2.2.2.1.2.2.2.2.2.2.2.2.2.2.2.2.2.1 k0_t28 k0_t29 r
theorem k0_off613_inb : ∀ (v15 : BitVec 32) (v22 : BitVec 32) (k0_hw3 : k0_chk3 v15 v22) (k0_t28 : Fin (k0_t28_loop v15 v22).trips) (k0_t29 : Fin (k0_t29_loop v15 v22 k0_t28).trips), ∀ (r : Fin 3), ∀ a, (k0_off613 v15 v22 k0_t28 k0_t29 (BitVec.ofNat 32 (1 + r.val))) a + S1x16.size a ≤ S128x256.size a := fun v15 v22 k0_hw3 k0_t28 k0_t29 r => k0_hw3.2.2.2.2.2.2.2.1.2.2.2.2.2.2.2.2.2.2.2.2.2.2.1 k0_t28 k0_t29 r
theorem k0_off614_inb : ∀ (v15 : BitVec 32) (v22 : BitVec 32) (k0_hw3 : k0_chk3 v15 v22) (k0_t28 : Fin (k0_t28_loop v15 v22).trips) (k0_t29 : Fin (k0_t29_loop v15 v22 k0_t28).trips), ∀ (r : Fin 3), ∀ a, (k0_off614 v15 v22 k0_t28 k0_t29 (BitVec.ofNat 32 (1 + r.val))) a + S1x16.size a ≤ S128x256.size a := fun v15 v22 k0_hw3 k0_t28 k0_t29 r => k0_hw3.2.2.2.2.2.2.2.1.2.2.2.2.2.2.2.2.2.2.2.2.2.2.2.1 k0_t28 k0_t29 r
theorem k0_off615_inb : ∀ (v15 : BitVec 32) (v22 : BitVec 32) (k0_hw3 : k0_chk3 v15 v22) (k0_t28 : Fin (k0_t28_loop v15 v22).trips) (k0_t29 : Fin (k0_t29_loop v15 v22 k0_t28).trips), ∀ (r : Fin 3), ∀ a, (k0_off615 v15 v22 k0_t28 k0_t29 (BitVec.ofNat 32 (1 + r.val))) a + S1x16.size a ≤ S128x256.size a := fun v15 v22 k0_hw3 k0_t28 k0_t29 r => k0_hw3.2.2.2.2.2.2.2.1.2.2.2.2.2.2.2.2.2.2.2.2.2.2.2.2.1 k0_t28 k0_t29 r
theorem k0_off616_inb : ∀ (v15 : BitVec 32) (v22 : BitVec 32) (k0_hw3 : k0_chk3 v15 v22) (k0_t28 : Fin (k0_t28_loop v15 v22).trips) (k0_t29 : Fin (k0_t29_loop v15 v22 k0_t28).trips), ∀ (r : Fin 3), ∀ a, (k0_off616 v15 v22 k0_t28 k0_t29 (BitVec.ofNat 32 (1 + r.val))) a + S1x16.size a ≤ S128x256.size a := fun v15 v22 k0_hw3 k0_t28 k0_t29 r => k0_hw3.2.2.2.2.2.2.2.1.2.2.2.2.2.2.2.2.2.2.2.2.2.2.2.2.2.1 k0_t28 k0_t29 r
theorem k0_off617_inb : ∀ (v15 : BitVec 32) (v22 : BitVec 32) (k0_hw3 : k0_chk3 v15 v22) (k0_t28 : Fin (k0_t28_loop v15 v22).trips) (k0_t29 : Fin (k0_t29_loop v15 v22 k0_t28).trips), ∀ (r : Fin 3), ∀ a, (k0_off617 v15 v22 k0_t28 k0_t29 (BitVec.ofNat 32 (1 + r.val))) a + S1x16.size a ≤ S128x256.size a := fun v15 v22 k0_hw3 k0_t28 k0_t29 r => k0_hw3.2.2.2.2.2.2.2.1.2.2.2.2.2.2.2.2.2.2.2.2.2.2.2.2.2.2.1 k0_t28 k0_t29 r
theorem k0_off618_inb : ∀ (v15 : BitVec 32) (v22 : BitVec 32) (k0_hw3 : k0_chk3 v15 v22) (k0_t28 : Fin (k0_t28_loop v15 v22).trips) (k0_t29 : Fin (k0_t29_loop v15 v22 k0_t28).trips), ∀ (r : Fin 3), ∀ a, (k0_off618 v15 v22 k0_t28 k0_t29 (BitVec.ofNat 32 (1 + r.val))) a + S1x16.size a ≤ S128x256.size a := fun v15 v22 k0_hw3 k0_t28 k0_t29 r => k0_hw3.2.2.2.2.2.2.2.1.2.2.2.2.2.2.2.2.2.2.2.2.2.2.2.2.2.2.2.1 k0_t28 k0_t29 r
theorem k0_t30_ok : ∀ (v15 : BitVec 32) (v22 : BitVec 32) (k0_hw3 : k0_chk3 v15 v22) (k0_t28 : Fin (k0_t28_loop v15 v22).trips), (k0_t30_loop v15 v22 k0_t28).OK := fun v15 v22 k0_hw3 k0_t28 => k0_hw3.2.2.2.2.2.2.2.1.2.2.2.2.2.2.2.2.2.2.2.2.2.2.2.2.2.2.2.2.1 k0_t28
theorem k0_off619_inb : ∀ (v15 : BitVec 32) (v22 : BitVec 32) (k0_hw3 : k0_chk3 v15 v22) (k0_t28 : Fin (k0_t28_loop v15 v22).trips) (k0_t30 : Fin (k0_t30_loop v15 v22 k0_t28).trips), ∀ a, (k0_off619 v15 v22 k0_t28 k0_t30) a + S1x16.size a ≤ S128x256.size a := fun v15 v22 k0_hw3 k0_t28 k0_t30 => k0_hw3.2.2.2.2.2.2.2.1.2.2.2.2.2.2.2.2.2.2.2.2.2.2.2.2.2.2.2.2.2.1 k0_t28 k0_t30
theorem k0_off620_inb : ∀ (v15 : BitVec 32) (v22 : BitVec 32) (k0_hw3 : k0_chk3 v15 v22) (k0_t28 : Fin (k0_t28_loop v15 v22).trips) (k0_t30 : Fin (k0_t30_loop v15 v22 k0_t28).trips), ∀ a, (k0_off620 v15 v22 k0_t28 k0_t30) a + S1x16.size a ≤ S128x256.size a := fun v15 v22 k0_hw3 k0_t28 k0_t30 => k0_hw3.2.2.2.2.2.2.2.1.2.2.2.2.2.2.2.2.2.2.2.2.2.2.2.2.2.2.2.2.2.2.1 k0_t28 k0_t30
theorem k0_off621_inb : ∀ (v15 : BitVec 32) (v22 : BitVec 32) (k0_hw3 : k0_chk3 v15 v22) (k0_t28 : Fin (k0_t28_loop v15 v22).trips) (k0_t30 : Fin (k0_t30_loop v15 v22 k0_t28).trips), ∀ a, (k0_off621 v15 v22 k0_t28 k0_t30) a + S1x16.size a ≤ S128x256.size a := fun v15 v22 k0_hw3 k0_t28 k0_t30 => k0_hw3.2.2.2.2.2.2.2.1.2.2.2.2.2.2.2.2.2.2.2.2.2.2.2.2.2.2.2.2.2.2.2.1 k0_t28 k0_t30
theorem k0_off622_inb : ∀ (v15 : BitVec 32) (v22 : BitVec 32) (k0_hw3 : k0_chk3 v15 v22) (k0_t28 : Fin (k0_t28_loop v15 v22).trips) (k0_t30 : Fin (k0_t30_loop v15 v22 k0_t28).trips), ∀ a, (k0_off622 v15 v22 k0_t28 k0_t30) a + S1x16.size a ≤ S128x256.size a := fun v15 v22 k0_hw3 k0_t28 k0_t30 => k0_hw3.2.2.2.2.2.2.2.1.2.2.2.2.2.2.2.2.2.2.2.2.2.2.2.2.2.2.2.2.2.2.2.2.1 k0_t28 k0_t30
theorem k0_off623_inb : ∀ (v15 : BitVec 32) (v22 : BitVec 32) (k0_hw3 : k0_chk3 v15 v22) (k0_t28 : Fin (k0_t28_loop v15 v22).trips) (k0_t30 : Fin (k0_t30_loop v15 v22 k0_t28).trips), ∀ a, (k0_off623 v15 v22 k0_t28 k0_t30) a + S1x16.size a ≤ S128x256.size a := fun v15 v22 k0_hw3 k0_t28 k0_t30 => k0_hw3.2.2.2.2.2.2.2.1.2.2.2.2.2.2.2.2.2.2.2.2.2.2.2.2.2.2.2.2.2.2.2.2.2.1 k0_t28 k0_t30
theorem k0_off624_inb : ∀ (v15 : BitVec 32) (v22 : BitVec 32) (k0_hw3 : k0_chk3 v15 v22) (k0_t28 : Fin (k0_t28_loop v15 v22).trips) (k0_t30 : Fin (k0_t30_loop v15 v22 k0_t28).trips), ∀ a, (k0_off624 v15 v22 k0_t28 k0_t30) a + S1x16.size a ≤ S128x256.size a := fun v15 v22 k0_hw3 k0_t28 k0_t30 => k0_hw3.2.2.2.2.2.2.2.1.2.2.2.2.2.2.2.2.2.2.2.2.2.2.2.2.2.2.2.2.2.2.2.2.2.2.1 k0_t28 k0_t30
theorem k0_off625_inb : ∀ (v15 : BitVec 32) (v22 : BitVec 32) (k0_hw3 : k0_chk3 v15 v22) (k0_t28 : Fin (k0_t28_loop v15 v22).trips) (k0_t30 : Fin (k0_t30_loop v15 v22 k0_t28).trips), ∀ a, (k0_off625 v15 v22 k0_t28 k0_t30) a + S1x16.size a ≤ S128x256.size a := fun v15 v22 k0_hw3 k0_t28 k0_t30 => k0_hw3.2.2.2.2.2.2.2.1.2.2.2.2.2.2.2.2.2.2.2.2.2.2.2.2.2.2.2.2.2.2.2.2.2.2.2.1 k0_t28 k0_t30
theorem k0_off626_inb : ∀ (v15 : BitVec 32) (v22 : BitVec 32) (k0_hw3 : k0_chk3 v15 v22) (k0_t28 : Fin (k0_t28_loop v15 v22).trips) (k0_t30 : Fin (k0_t30_loop v15 v22 k0_t28).trips), ∀ a, (k0_off626 v15 v22 k0_t28 k0_t30) a + S1x16.size a ≤ S128x256.size a := fun v15 v22 k0_hw3 k0_t28 k0_t30 => k0_hw3.2.2.2.2.2.2.2.1.2.2.2.2.2.2.2.2.2.2.2.2.2.2.2.2.2.2.2.2.2.2.2.2.2.2.2.2.1 k0_t28 k0_t30
theorem k0_off627_inb : ∀ (v15 : BitVec 32) (v22 : BitVec 32) (k0_hw3 : k0_chk3 v15 v22) (k0_t28 : Fin (k0_t28_loop v15 v22).trips) (k0_t30 : Fin (k0_t30_loop v15 v22 k0_t28).trips), ∀ a, (k0_off627 v15 v22 k0_t28 k0_t30) a + S1x16.size a ≤ S128x256.size a := fun v15 v22 k0_hw3 k0_t28 k0_t30 => k0_hw3.2.2.2.2.2.2.2.1.2.2.2.2.2.2.2.2.2.2.2.2.2.2.2.2.2.2.2.2.2.2.2.2.2.2.2.2.2.1 k0_t28 k0_t30
theorem k0_off628_inb : ∀ (v15 : BitVec 32) (v22 : BitVec 32) (k0_hw3 : k0_chk3 v15 v22) (k0_t28 : Fin (k0_t28_loop v15 v22).trips) (k0_t30 : Fin (k0_t30_loop v15 v22 k0_t28).trips), ∀ a, (k0_off628 v15 v22 k0_t28 k0_t30) a + S1x16.size a ≤ S128x256.size a := fun v15 v22 k0_hw3 k0_t28 k0_t30 => k0_hw3.2.2.2.2.2.2.2.1.2.2.2.2.2.2.2.2.2.2.2.2.2.2.2.2.2.2.2.2.2.2.2.2.2.2.2.2.2.2.1 k0_t28 k0_t30
theorem k0_off629_inb : ∀ (v15 : BitVec 32) (v22 : BitVec 32) (k0_hw3 : k0_chk3 v15 v22) (k0_t28 : Fin (k0_t28_loop v15 v22).trips) (k0_t30 : Fin (k0_t30_loop v15 v22 k0_t28).trips), ∀ a, (k0_off629 v15 v22 k0_t28 k0_t30) a + S1x16.size a ≤ S128x256.size a := fun v15 v22 k0_hw3 k0_t28 k0_t30 => k0_hw3.2.2.2.2.2.2.2.1.2.2.2.2.2.2.2.2.2.2.2.2.2.2.2.2.2.2.2.2.2.2.2.2.2.2.2.2.2.2.2 k0_t28 k0_t30
theorem k0_off630_inb : ∀ (v15 : BitVec 32) (v22 : BitVec 32) (k0_hw3 : k0_chk3 v15 v22) (k0_t28 : Fin (k0_t28_loop v15 v22).trips) (k0_t30 : Fin (k0_t30_loop v15 v22 k0_t28).trips), ∀ a, (k0_off630 v15 v22 k0_t28 k0_t30) a + S1x16.size a ≤ S128x256.size a := fun v15 v22 k0_hw3 k0_t28 k0_t30 => k0_hw3.2.2.2.2.2.2.2.2.1.1 k0_t28 k0_t30
theorem k0_off631_inb : ∀ (v15 : BitVec 32) (v22 : BitVec 32) (k0_hw3 : k0_chk3 v15 v22) (k0_t28 : Fin (k0_t28_loop v15 v22).trips) (k0_t30 : Fin (k0_t30_loop v15 v22 k0_t28).trips), ∀ a, (k0_off631 v15 v22 k0_t28 k0_t30) a + S1x16.size a ≤ S128x256.size a := fun v15 v22 k0_hw3 k0_t28 k0_t30 => k0_hw3.2.2.2.2.2.2.2.2.1.2.1 k0_t28 k0_t30
theorem k0_off632_inb : ∀ (v15 : BitVec 32) (v22 : BitVec 32) (k0_hw3 : k0_chk3 v15 v22) (k0_t28 : Fin (k0_t28_loop v15 v22).trips) (k0_t30 : Fin (k0_t30_loop v15 v22 k0_t28).trips), ∀ a, (k0_off632 v15 v22 k0_t28 k0_t30) a + S1x16.size a ≤ S128x256.size a := fun v15 v22 k0_hw3 k0_t28 k0_t30 => k0_hw3.2.2.2.2.2.2.2.2.1.2.2.1 k0_t28 k0_t30
theorem k0_off633_inb : ∀ (v15 : BitVec 32) (v22 : BitVec 32) (k0_hw3 : k0_chk3 v15 v22) (k0_t28 : Fin (k0_t28_loop v15 v22).trips) (k0_t30 : Fin (k0_t30_loop v15 v22 k0_t28).trips), ∀ a, (k0_off633 v15 v22 k0_t28 k0_t30) a + S1x16.size a ≤ S128x256.size a := fun v15 v22 k0_hw3 k0_t28 k0_t30 => k0_hw3.2.2.2.2.2.2.2.2.1.2.2.2.1 k0_t28 k0_t30
theorem k0_off634_inb : ∀ (v15 : BitVec 32) (v22 : BitVec 32) (k0_hw3 : k0_chk3 v15 v22) (k0_t28 : Fin (k0_t28_loop v15 v22).trips) (k0_t30 : Fin (k0_t30_loop v15 v22 k0_t28).trips), ∀ a, (k0_off634 v15 v22 k0_t28 k0_t30) a + S1x16.size a ≤ S128x256.size a := fun v15 v22 k0_hw3 k0_t28 k0_t30 => k0_hw3.2.2.2.2.2.2.2.2.1.2.2.2.2.1 k0_t28 k0_t30
theorem k0_off635_inb : ∀ (v15 : BitVec 32) (v22 : BitVec 32) (k0_hw3 : k0_chk3 v15 v22) (k0_t28 : Fin (k0_t28_loop v15 v22).trips) (k0_t30 : Fin (k0_t30_loop v15 v22 k0_t28).trips), ∀ (r : Fin 3), ∀ a, (k0_off635 v15 v22 k0_t28 k0_t30 (BitVec.ofNat 32 (1 + r.val))) a + S1x16.size a ≤ S128x256.size a := fun v15 v22 k0_hw3 k0_t28 k0_t30 r => k0_hw3.2.2.2.2.2.2.2.2.1.2.2.2.2.2.1 k0_t28 k0_t30 r
theorem k0_off636_inb : ∀ (v15 : BitVec 32) (v22 : BitVec 32) (k0_hw3 : k0_chk3 v15 v22) (k0_t28 : Fin (k0_t28_loop v15 v22).trips) (k0_t30 : Fin (k0_t30_loop v15 v22 k0_t28).trips), ∀ (r : Fin 3), ∀ a, (k0_off636 v15 v22 k0_t28 k0_t30 (BitVec.ofNat 32 (1 + r.val))) a + S1x16.size a ≤ S128x256.size a := fun v15 v22 k0_hw3 k0_t28 k0_t30 r => k0_hw3.2.2.2.2.2.2.2.2.1.2.2.2.2.2.2.1 k0_t28 k0_t30 r
theorem k0_off637_inb : ∀ (v15 : BitVec 32) (v22 : BitVec 32) (k0_hw3 : k0_chk3 v15 v22) (k0_t28 : Fin (k0_t28_loop v15 v22).trips) (k0_t30 : Fin (k0_t30_loop v15 v22 k0_t28).trips), ∀ (r : Fin 3), ∀ a, (k0_off637 v15 v22 k0_t28 k0_t30 (BitVec.ofNat 32 (1 + r.val))) a + S1x16.size a ≤ S128x256.size a := fun v15 v22 k0_hw3 k0_t28 k0_t30 r => k0_hw3.2.2.2.2.2.2.2.2.1.2.2.2.2.2.2.2.1 k0_t28 k0_t30 r
theorem k0_off638_inb : ∀ (v15 : BitVec 32) (v22 : BitVec 32) (k0_hw3 : k0_chk3 v15 v22) (k0_t28 : Fin (k0_t28_loop v15 v22).trips) (k0_t30 : Fin (k0_t30_loop v15 v22 k0_t28).trips), ∀ (r : Fin 3), ∀ a, (k0_off638 v15 v22 k0_t28 k0_t30 (BitVec.ofNat 32 (1 + r.val))) a + S1x16.size a ≤ S128x256.size a := fun v15 v22 k0_hw3 k0_t28 k0_t30 r => k0_hw3.2.2.2.2.2.2.2.2.1.2.2.2.2.2.2.2.2.1 k0_t28 k0_t30 r
theorem k0_off639_inb : ∀ (v15 : BitVec 32) (v22 : BitVec 32) (k0_hw3 : k0_chk3 v15 v22) (k0_t28 : Fin (k0_t28_loop v15 v22).trips) (k0_t30 : Fin (k0_t30_loop v15 v22 k0_t28).trips), ∀ (r : Fin 3), ∀ a, (k0_off639 v15 v22 k0_t28 k0_t30 (BitVec.ofNat 32 (1 + r.val))) a + S1x16.size a ≤ S128x256.size a := fun v15 v22 k0_hw3 k0_t28 k0_t30 r => k0_hw3.2.2.2.2.2.2.2.2.1.2.2.2.2.2.2.2.2.2.1 k0_t28 k0_t30 r
theorem k0_off640_inb : ∀ (v15 : BitVec 32) (v22 : BitVec 32) (k0_hw3 : k0_chk3 v15 v22) (k0_t28 : Fin (k0_t28_loop v15 v22).trips) (k0_t30 : Fin (k0_t30_loop v15 v22 k0_t28).trips), ∀ (r : Fin 3), ∀ a, (k0_off640 v15 v22 k0_t28 k0_t30 (BitVec.ofNat 32 (1 + r.val))) a + S1x16.size a ≤ S128x256.size a := fun v15 v22 k0_hw3 k0_t28 k0_t30 r => k0_hw3.2.2.2.2.2.2.2.2.1.2.2.2.2.2.2.2.2.2.2.1 k0_t28 k0_t30 r
theorem k0_off641_inb : ∀ (v15 : BitVec 32) (v22 : BitVec 32) (k0_hw3 : k0_chk3 v15 v22) (k0_t28 : Fin (k0_t28_loop v15 v22).trips) (k0_t30 : Fin (k0_t30_loop v15 v22 k0_t28).trips), ∀ (r : Fin 3), ∀ a, (k0_off641 v15 v22 k0_t28 k0_t30 (BitVec.ofNat 32 (1 + r.val))) a + S1x16.size a ≤ S128x256.size a := fun v15 v22 k0_hw3 k0_t28 k0_t30 r => k0_hw3.2.2.2.2.2.2.2.2.1.2.2.2.2.2.2.2.2.2.2.2.1 k0_t28 k0_t30 r
theorem k0_off642_inb : ∀ (v15 : BitVec 32) (v22 : BitVec 32) (k0_hw3 : k0_chk3 v15 v22) (k0_t28 : Fin (k0_t28_loop v15 v22).trips) (k0_t30 : Fin (k0_t30_loop v15 v22 k0_t28).trips), ∀ (r : Fin 3), ∀ a, (k0_off642 v15 v22 k0_t28 k0_t30 (BitVec.ofNat 32 (1 + r.val))) a + S1x16.size a ≤ S128x256.size a := fun v15 v22 k0_hw3 k0_t28 k0_t30 r => k0_hw3.2.2.2.2.2.2.2.2.1.2.2.2.2.2.2.2.2.2.2.2.2.1 k0_t28 k0_t30 r
theorem k0_off643_inb : ∀ (v15 : BitVec 32) (v22 : BitVec 32) (k0_hw3 : k0_chk3 v15 v22) (k0_t28 : Fin (k0_t28_loop v15 v22).trips) (k0_t30 : Fin (k0_t30_loop v15 v22 k0_t28).trips), ∀ (r : Fin 3), ∀ a, (k0_off643 v15 v22 k0_t28 k0_t30 (BitVec.ofNat 32 (1 + r.val))) a + S1x16.size a ≤ S128x256.size a := fun v15 v22 k0_hw3 k0_t28 k0_t30 r => k0_hw3.2.2.2.2.2.2.2.2.1.2.2.2.2.2.2.2.2.2.2.2.2.2.1 k0_t28 k0_t30 r
theorem k0_off644_inb : ∀ (v15 : BitVec 32) (v22 : BitVec 32) (k0_hw3 : k0_chk3 v15 v22) (k0_t28 : Fin (k0_t28_loop v15 v22).trips) (k0_t30 : Fin (k0_t30_loop v15 v22 k0_t28).trips), ∀ (r : Fin 3), ∀ a, (k0_off644 v15 v22 k0_t28 k0_t30 (BitVec.ofNat 32 (1 + r.val))) a + S1x16.size a ≤ S128x256.size a := fun v15 v22 k0_hw3 k0_t28 k0_t30 r => k0_hw3.2.2.2.2.2.2.2.2.1.2.2.2.2.2.2.2.2.2.2.2.2.2.2.1 k0_t28 k0_t30 r
theorem k0_off645_inb : ∀ (v15 : BitVec 32) (v22 : BitVec 32) (k0_hw3 : k0_chk3 v15 v22) (k0_t28 : Fin (k0_t28_loop v15 v22).trips) (k0_t30 : Fin (k0_t30_loop v15 v22 k0_t28).trips), ∀ (r : Fin 3), ∀ a, (k0_off645 v15 v22 k0_t28 k0_t30 (BitVec.ofNat 32 (1 + r.val))) a + S1x16.size a ≤ S128x256.size a := fun v15 v22 k0_hw3 k0_t28 k0_t30 r => k0_hw3.2.2.2.2.2.2.2.2.1.2.2.2.2.2.2.2.2.2.2.2.2.2.2.2.1 k0_t28 k0_t30 r
theorem k0_off646_inb : ∀ (v15 : BitVec 32) (v22 : BitVec 32) (k0_hw3 : k0_chk3 v15 v22) (k0_t28 : Fin (k0_t28_loop v15 v22).trips) (k0_t30 : Fin (k0_t30_loop v15 v22 k0_t28).trips), ∀ (r : Fin 3), ∀ a, (k0_off646 v15 v22 k0_t28 k0_t30 (BitVec.ofNat 32 (1 + r.val))) a + S1x16.size a ≤ S128x256.size a := fun v15 v22 k0_hw3 k0_t28 k0_t30 r => k0_hw3.2.2.2.2.2.2.2.2.1.2.2.2.2.2.2.2.2.2.2.2.2.2.2.2.2.1 k0_t28 k0_t30 r
theorem k0_off647_inb : ∀ (v15 : BitVec 32) (v22 : BitVec 32) (k0_hw3 : k0_chk3 v15 v22) (k0_t28 : Fin (k0_t28_loop v15 v22).trips) (k0_t30 : Fin (k0_t30_loop v15 v22 k0_t28).trips), ∀ (r : Fin 3), ∀ a, (k0_off647 v15 v22 k0_t28 k0_t30 (BitVec.ofNat 32 (1 + r.val))) a + S1x16.size a ≤ S128x256.size a := fun v15 v22 k0_hw3 k0_t28 k0_t30 r => k0_hw3.2.2.2.2.2.2.2.2.1.2.2.2.2.2.2.2.2.2.2.2.2.2.2.2.2.2.1 k0_t28 k0_t30 r
theorem k0_off648_inb : ∀ (v15 : BitVec 32) (v22 : BitVec 32) (k0_hw3 : k0_chk3 v15 v22) (k0_t28 : Fin (k0_t28_loop v15 v22).trips) (k0_t30 : Fin (k0_t30_loop v15 v22 k0_t28).trips), ∀ (r : Fin 3), ∀ a, (k0_off648 v15 v22 k0_t28 k0_t30 (BitVec.ofNat 32 (1 + r.val))) a + S1x16.size a ≤ S128x256.size a := fun v15 v22 k0_hw3 k0_t28 k0_t30 r => k0_hw3.2.2.2.2.2.2.2.2.1.2.2.2.2.2.2.2.2.2.2.2.2.2.2.2.2.2.2.1 k0_t28 k0_t30 r
theorem k0_off649_inb : ∀ (v15 : BitVec 32) (v22 : BitVec 32) (k0_hw3 : k0_chk3 v15 v22) (k0_t28 : Fin (k0_t28_loop v15 v22).trips) (k0_t30 : Fin (k0_t30_loop v15 v22 k0_t28).trips), ∀ (r : Fin 3), ∀ a, (k0_off649 v15 v22 k0_t28 k0_t30 (BitVec.ofNat 32 (1 + r.val))) a + S1x16.size a ≤ S128x256.size a := fun v15 v22 k0_hw3 k0_t28 k0_t30 r => k0_hw3.2.2.2.2.2.2.2.2.1.2.2.2.2.2.2.2.2.2.2.2.2.2.2.2.2.2.2.2.1 k0_t28 k0_t30 r
theorem k0_off650_inb : ∀ (v15 : BitVec 32) (v22 : BitVec 32) (k0_hw3 : k0_chk3 v15 v22) (k0_t28 : Fin (k0_t28_loop v15 v22).trips) (k0_t30 : Fin (k0_t30_loop v15 v22 k0_t28).trips), ∀ (r : Fin 3), ∀ a, (k0_off650 v15 v22 k0_t28 k0_t30 (BitVec.ofNat 32 (1 + r.val))) a + S1x16.size a ≤ S128x256.size a := fun v15 v22 k0_hw3 k0_t28 k0_t30 r => k0_hw3.2.2.2.2.2.2.2.2.1.2.2.2.2.2.2.2.2.2.2.2.2.2.2.2.2.2.2.2.2.1 k0_t28 k0_t30 r
theorem k0_t31_ok : ∀ (v15 : BitVec 32) (v22 : BitVec 32) (k0_hw3 : k0_chk3 v15 v22) (k0_t28 : Fin (k0_t28_loop v15 v22).trips), (k0_t31_loop v15 v22 k0_t28).OK := fun v15 v22 k0_hw3 k0_t28 => k0_hw3.2.2.2.2.2.2.2.2.1.2.2.2.2.2.2.2.2.2.2.2.2.2.2.2.2.2.2.2.2.2.1 k0_t28
theorem k0_off651_inb : ∀ (v15 : BitVec 32) (v22 : BitVec 32) (k0_hw3 : k0_chk3 v15 v22) (k0_t28 : Fin (k0_t28_loop v15 v22).trips) (k0_t31 : Fin (k0_t31_loop v15 v22 k0_t28).trips), ∀ a, (k0_off651 v15 v22 k0_t28 k0_t31) a + S1x16.size a ≤ S128x256.size a := fun v15 v22 k0_hw3 k0_t28 k0_t31 => k0_hw3.2.2.2.2.2.2.2.2.1.2.2.2.2.2.2.2.2.2.2.2.2.2.2.2.2.2.2.2.2.2.2.1 k0_t28 k0_t31
theorem k0_off652_inb : ∀ (v15 : BitVec 32) (v22 : BitVec 32) (k0_hw3 : k0_chk3 v15 v22) (k0_t28 : Fin (k0_t28_loop v15 v22).trips) (k0_t31 : Fin (k0_t31_loop v15 v22 k0_t28).trips), ∀ a, (k0_off652 v15 v22 k0_t28 k0_t31) a + S1x16.size a ≤ S128x256.size a := fun v15 v22 k0_hw3 k0_t28 k0_t31 => k0_hw3.2.2.2.2.2.2.2.2.1.2.2.2.2.2.2.2.2.2.2.2.2.2.2.2.2.2.2.2.2.2.2.2.1 k0_t28 k0_t31
theorem k0_off653_inb : ∀ (v15 : BitVec 32) (v22 : BitVec 32) (k0_hw3 : k0_chk3 v15 v22) (k0_t28 : Fin (k0_t28_loop v15 v22).trips) (k0_t31 : Fin (k0_t31_loop v15 v22 k0_t28).trips), ∀ a, (k0_off653 v15 v22 k0_t28 k0_t31) a + S1x16.size a ≤ S128x256.size a := fun v15 v22 k0_hw3 k0_t28 k0_t31 => k0_hw3.2.2.2.2.2.2.2.2.1.2.2.2.2.2.2.2.2.2.2.2.2.2.2.2.2.2.2.2.2.2.2.2.2.1 k0_t28 k0_t31
theorem k0_off654_inb : ∀ (v15 : BitVec 32) (v22 : BitVec 32) (k0_hw3 : k0_chk3 v15 v22) (k0_t28 : Fin (k0_t28_loop v15 v22).trips) (k0_t31 : Fin (k0_t31_loop v15 v22 k0_t28).trips), ∀ a, (k0_off654 v15 v22 k0_t28 k0_t31) a + S1x16.size a ≤ S128x256.size a := fun v15 v22 k0_hw3 k0_t28 k0_t31 => k0_hw3.2.2.2.2.2.2.2.2.1.2.2.2.2.2.2.2.2.2.2.2.2.2.2.2.2.2.2.2.2.2.2.2.2.2.1 k0_t28 k0_t31
theorem k0_off655_inb : ∀ (v15 : BitVec 32) (v22 : BitVec 32) (k0_hw3 : k0_chk3 v15 v22) (k0_t28 : Fin (k0_t28_loop v15 v22).trips) (k0_t31 : Fin (k0_t31_loop v15 v22 k0_t28).trips), ∀ a, (k0_off655 v15 v22 k0_t28 k0_t31) a + S1x16.size a ≤ S128x256.size a := fun v15 v22 k0_hw3 k0_t28 k0_t31 => k0_hw3.2.2.2.2.2.2.2.2.1.2.2.2.2.2.2.2.2.2.2.2.2.2.2.2.2.2.2.2.2.2.2.2.2.2.2.1 k0_t28 k0_t31
theorem k0_off656_inb : ∀ (v15 : BitVec 32) (v22 : BitVec 32) (k0_hw3 : k0_chk3 v15 v22) (k0_t28 : Fin (k0_t28_loop v15 v22).trips) (k0_t31 : Fin (k0_t31_loop v15 v22 k0_t28).trips), ∀ a, (k0_off656 v15 v22 k0_t28 k0_t31) a + S1x16.size a ≤ S128x256.size a := fun v15 v22 k0_hw3 k0_t28 k0_t31 => k0_hw3.2.2.2.2.2.2.2.2.1.2.2.2.2.2.2.2.2.2.2.2.2.2.2.2.2.2.2.2.2.2.2.2.2.2.2.2.1 k0_t28 k0_t31
theorem k0_off657_inb : ∀ (v15 : BitVec 32) (v22 : BitVec 32) (k0_hw3 : k0_chk3 v15 v22) (k0_t28 : Fin (k0_t28_loop v15 v22).trips) (k0_t31 : Fin (k0_t31_loop v15 v22 k0_t28).trips), ∀ a, (k0_off657 v15 v22 k0_t28 k0_t31) a + S1x16.size a ≤ S128x256.size a := fun v15 v22 k0_hw3 k0_t28 k0_t31 => k0_hw3.2.2.2.2.2.2.2.2.1.2.2.2.2.2.2.2.2.2.2.2.2.2.2.2.2.2.2.2.2.2.2.2.2.2.2.2.2.1 k0_t28 k0_t31
theorem k0_off658_inb : ∀ (v15 : BitVec 32) (v22 : BitVec 32) (k0_hw3 : k0_chk3 v15 v22) (k0_t28 : Fin (k0_t28_loop v15 v22).trips) (k0_t31 : Fin (k0_t31_loop v15 v22 k0_t28).trips), ∀ a, (k0_off658 v15 v22 k0_t28 k0_t31) a + S1x16.size a ≤ S128x256.size a := fun v15 v22 k0_hw3 k0_t28 k0_t31 => k0_hw3.2.2.2.2.2.2.2.2.1.2.2.2.2.2.2.2.2.2.2.2.2.2.2.2.2.2.2.2.2.2.2.2.2.2.2.2.2.2.1 k0_t28 k0_t31
theorem k0_off659_inb : ∀ (v15 : BitVec 32) (v22 : BitVec 32) (k0_hw3 : k0_chk3 v15 v22) (k0_t28 : Fin (k0_t28_loop v15 v22).trips) (k0_t31 : Fin (k0_t31_loop v15 v22 k0_t28).trips), ∀ a, (k0_off659 v15 v22 k0_t28 k0_t31) a + S1x16.size a ≤ S128x256.size a := fun v15 v22 k0_hw3 k0_t28 k0_t31 => k0_hw3.2.2.2.2.2.2.2.2.1.2.2.2.2.2.2.2.2.2.2.2.2.2.2.2.2.2.2.2.2.2.2.2.2.2.2.2.2.2.2.1 k0_t28 k0_t31
theorem k0_off660_inb : ∀ (v15 : BitVec 32) (v22 : BitVec 32) (k0_hw3 : k0_chk3 v15 v22) (k0_t28 : Fin (k0_t28_loop v15 v22).trips) (k0_t31 : Fin (k0_t31_loop v15 v22 k0_t28).trips), ∀ a, (k0_off660 v15 v22 k0_t28 k0_t31) a + S1x16.size a ≤ S128x256.size a := fun v15 v22 k0_hw3 k0_t28 k0_t31 => k0_hw3.2.2.2.2.2.2.2.2.1.2.2.2.2.2.2.2.2.2.2.2.2.2.2.2.2.2.2.2.2.2.2.2.2.2.2.2.2.2.2.2 k0_t28 k0_t31
theorem k0_off661_inb : ∀ (v15 : BitVec 32) (v22 : BitVec 32) (k0_hw3 : k0_chk3 v15 v22) (k0_t28 : Fin (k0_t28_loop v15 v22).trips) (k0_t31 : Fin (k0_t31_loop v15 v22 k0_t28).trips), ∀ a, (k0_off661 v15 v22 k0_t28 k0_t31) a + S1x16.size a ≤ S128x256.size a := fun v15 v22 k0_hw3 k0_t28 k0_t31 => k0_hw3.2.2.2.2.2.2.2.2.2.1.1 k0_t28 k0_t31
theorem k0_off662_inb : ∀ (v15 : BitVec 32) (v22 : BitVec 32) (k0_hw3 : k0_chk3 v15 v22) (k0_t28 : Fin (k0_t28_loop v15 v22).trips) (k0_t31 : Fin (k0_t31_loop v15 v22 k0_t28).trips), ∀ a, (k0_off662 v15 v22 k0_t28 k0_t31) a + S1x16.size a ≤ S128x256.size a := fun v15 v22 k0_hw3 k0_t28 k0_t31 => k0_hw3.2.2.2.2.2.2.2.2.2.1.2.1 k0_t28 k0_t31
theorem k0_off663_inb : ∀ (v15 : BitVec 32) (v22 : BitVec 32) (k0_hw3 : k0_chk3 v15 v22) (k0_t28 : Fin (k0_t28_loop v15 v22).trips) (k0_t31 : Fin (k0_t31_loop v15 v22 k0_t28).trips), ∀ a, (k0_off663 v15 v22 k0_t28 k0_t31) a + S1x16.size a ≤ S128x256.size a := fun v15 v22 k0_hw3 k0_t28 k0_t31 => k0_hw3.2.2.2.2.2.2.2.2.2.1.2.2.1 k0_t28 k0_t31
theorem k0_off664_inb : ∀ (v15 : BitVec 32) (v22 : BitVec 32) (k0_hw3 : k0_chk3 v15 v22) (k0_t28 : Fin (k0_t28_loop v15 v22).trips) (k0_t31 : Fin (k0_t31_loop v15 v22 k0_t28).trips), ∀ a, (k0_off664 v15 v22 k0_t28 k0_t31) a + S1x16.size a ≤ S128x256.size a := fun v15 v22 k0_hw3 k0_t28 k0_t31 => k0_hw3.2.2.2.2.2.2.2.2.2.1.2.2.2.1 k0_t28 k0_t31
theorem k0_off665_inb : ∀ (v15 : BitVec 32) (v22 : BitVec 32) (k0_hw3 : k0_chk3 v15 v22) (k0_t28 : Fin (k0_t28_loop v15 v22).trips) (k0_t31 : Fin (k0_t31_loop v15 v22 k0_t28).trips), ∀ a, (k0_off665 v15 v22 k0_t28 k0_t31) a + S1x16.size a ≤ S128x256.size a := fun v15 v22 k0_hw3 k0_t28 k0_t31 => k0_hw3.2.2.2.2.2.2.2.2.2.1.2.2.2.2.1 k0_t28 k0_t31
theorem k0_off666_inb : ∀ (v15 : BitVec 32) (v22 : BitVec 32) (k0_hw3 : k0_chk3 v15 v22) (k0_t28 : Fin (k0_t28_loop v15 v22).trips) (k0_t31 : Fin (k0_t31_loop v15 v22 k0_t28).trips), ∀ a, (k0_off666 v15 v22 k0_t28 k0_t31) a + S1x16.size a ≤ S128x256.size a := fun v15 v22 k0_hw3 k0_t28 k0_t31 => k0_hw3.2.2.2.2.2.2.2.2.2.1.2.2.2.2.2.1 k0_t28 k0_t31
theorem k0_t32_ok : ∀ (v15 : BitVec 32) (v22 : BitVec 32) (k0_hw3 : k0_chk3 v15 v22) (k0_t28 : Fin (k0_t28_loop v15 v22).trips), (k0_t32_loop v15 v22 k0_t28).OK := fun v15 v22 k0_hw3 k0_t28 => k0_hw3.2.2.2.2.2.2.2.2.2.1.2.2.2.2.2.2.1 k0_t28
theorem k0_off667_inb : ∀ (v15 : BitVec 32) (v22 : BitVec 32) (k0_hw3 : k0_chk3 v15 v22) (k0_t28 : Fin (k0_t28_loop v15 v22).trips) (k0_t32 : Fin (k0_t32_loop v15 v22 k0_t28).trips), ∀ a, (k0_off667 v15 v22 k0_t28 k0_t32) a + S1x16.size a ≤ S128x256.size a := fun v15 v22 k0_hw3 k0_t28 k0_t32 => k0_hw3.2.2.2.2.2.2.2.2.2.1.2.2.2.2.2.2.2.1 k0_t28 k0_t32
theorem k0_off668_inb : ∀ (v15 : BitVec 32) (v22 : BitVec 32) (k0_hw3 : k0_chk3 v15 v22) (k0_t28 : Fin (k0_t28_loop v15 v22).trips) (k0_t32 : Fin (k0_t32_loop v15 v22 k0_t28).trips), ∀ a, (k0_off668 v15 v22 k0_t28 k0_t32) a + S1x16.size a ≤ S128x256.size a := fun v15 v22 k0_hw3 k0_t28 k0_t32 => k0_hw3.2.2.2.2.2.2.2.2.2.1.2.2.2.2.2.2.2.2.1 k0_t28 k0_t32
theorem k0_off669_inb : ∀ (v15 : BitVec 32) (v22 : BitVec 32) (k0_hw3 : k0_chk3 v15 v22) (k0_t28 : Fin (k0_t28_loop v15 v22).trips) (k0_t32 : Fin (k0_t32_loop v15 v22 k0_t28).trips), ∀ a, (k0_off669 v15 v22 k0_t28 k0_t32) a + S1x16.size a ≤ S128x256.size a := fun v15 v22 k0_hw3 k0_t28 k0_t32 => k0_hw3.2.2.2.2.2.2.2.2.2.1.2.2.2.2.2.2.2.2.2.1 k0_t28 k0_t32
theorem k0_off670_inb : ∀ (v15 : BitVec 32) (v22 : BitVec 32) (k0_hw3 : k0_chk3 v15 v22) (k0_t28 : Fin (k0_t28_loop v15 v22).trips) (k0_t32 : Fin (k0_t32_loop v15 v22 k0_t28).trips), ∀ a, (k0_off670 v15 v22 k0_t28 k0_t32) a + S1x16.size a ≤ S128x256.size a := fun v15 v22 k0_hw3 k0_t28 k0_t32 => k0_hw3.2.2.2.2.2.2.2.2.2.1.2.2.2.2.2.2.2.2.2.2.1 k0_t28 k0_t32
theorem k0_off671_inb : ∀ (v15 : BitVec 32) (v22 : BitVec 32) (k0_hw3 : k0_chk3 v15 v22) (k0_t28 : Fin (k0_t28_loop v15 v22).trips) (k0_t32 : Fin (k0_t32_loop v15 v22 k0_t28).trips), ∀ a, (k0_off671 v15 v22 k0_t28 k0_t32) a + S1x16.size a ≤ S128x256.size a := fun v15 v22 k0_hw3 k0_t28 k0_t32 => k0_hw3.2.2.2.2.2.2.2.2.2.1.2.2.2.2.2.2.2.2.2.2.2.1 k0_t28 k0_t32
theorem k0_off672_inb : ∀ (v15 : BitVec 32) (v22 : BitVec 32) (k0_hw3 : k0_chk3 v15 v22) (k0_t28 : Fin (k0_t28_loop v15 v22).trips) (k0_t32 : Fin (k0_t32_loop v15 v22 k0_t28).trips), ∀ a, (k0_off672 v15 v22 k0_t28 k0_t32) a + S1x16.size a ≤ S128x256.size a := fun v15 v22 k0_hw3 k0_t28 k0_t32 => k0_hw3.2.2.2.2.2.2.2.2.2.1.2.2.2.2.2.2.2.2.2.2.2.2.1 k0_t28 k0_t32
theorem k0_off673_inb : ∀ (v15 : BitVec 32) (v22 : BitVec 32) (k0_hw3 : k0_chk3 v15 v22) (k0_t28 : Fin (k0_t28_loop v15 v22).trips) (k0_t32 : Fin (k0_t32_loop v15 v22 k0_t28).trips), ∀ a, (k0_off673 v15 v22 k0_t28 k0_t32) a + S1x16.size a ≤ S128x256.size a := fun v15 v22 k0_hw3 k0_t28 k0_t32 => k0_hw3.2.2.2.2.2.2.2.2.2.1.2.2.2.2.2.2.2.2.2.2.2.2.2.1 k0_t28 k0_t32
theorem k0_off674_inb : ∀ (v15 : BitVec 32) (v22 : BitVec 32) (k0_hw3 : k0_chk3 v15 v22) (k0_t28 : Fin (k0_t28_loop v15 v22).trips) (k0_t32 : Fin (k0_t32_loop v15 v22 k0_t28).trips), ∀ a, (k0_off674 v15 v22 k0_t28 k0_t32) a + S1x16.size a ≤ S128x256.size a := fun v15 v22 k0_hw3 k0_t28 k0_t32 => k0_hw3.2.2.2.2.2.2.2.2.2.1.2.2.2.2.2.2.2.2.2.2.2.2.2.2.1 k0_t28 k0_t32
theorem k0_off675_inb : ∀ (v15 : BitVec 32) (v22 : BitVec 32) (k0_hw3 : k0_chk3 v15 v22) (k0_t28 : Fin (k0_t28_loop v15 v22).trips) (k0_t32 : Fin (k0_t32_loop v15 v22 k0_t28).trips), ∀ a, (k0_off675 v15 v22 k0_t28 k0_t32) a + S1x16.size a ≤ S128x256.size a := fun v15 v22 k0_hw3 k0_t28 k0_t32 => k0_hw3.2.2.2.2.2.2.2.2.2.1.2.2.2.2.2.2.2.2.2.2.2.2.2.2.2.1 k0_t28 k0_t32
theorem k0_off676_inb : ∀ (v15 : BitVec 32) (v22 : BitVec 32) (k0_hw3 : k0_chk3 v15 v22) (k0_t28 : Fin (k0_t28_loop v15 v22).trips) (k0_t32 : Fin (k0_t32_loop v15 v22 k0_t28).trips), ∀ a, (k0_off676 v15 v22 k0_t28 k0_t32) a + S1x16.size a ≤ S128x256.size a := fun v15 v22 k0_hw3 k0_t28 k0_t32 => k0_hw3.2.2.2.2.2.2.2.2.2.1.2.2.2.2.2.2.2.2.2.2.2.2.2.2.2.2.1 k0_t28 k0_t32
theorem k0_off677_inb : ∀ (v15 : BitVec 32) (v22 : BitVec 32) (k0_hw3 : k0_chk3 v15 v22) (k0_t28 : Fin (k0_t28_loop v15 v22).trips) (k0_t32 : Fin (k0_t32_loop v15 v22 k0_t28).trips), ∀ a, (k0_off677 v15 v22 k0_t28 k0_t32) a + S1x16.size a ≤ S128x256.size a := fun v15 v22 k0_hw3 k0_t28 k0_t32 => k0_hw3.2.2.2.2.2.2.2.2.2.1.2.2.2.2.2.2.2.2.2.2.2.2.2.2.2.2.2.1 k0_t28 k0_t32
theorem k0_off678_inb : ∀ (v15 : BitVec 32) (v22 : BitVec 32) (k0_hw3 : k0_chk3 v15 v22) (k0_t28 : Fin (k0_t28_loop v15 v22).trips) (k0_t32 : Fin (k0_t32_loop v15 v22 k0_t28).trips), ∀ a, (k0_off678 v15 v22 k0_t28 k0_t32) a + S1x16.size a ≤ S128x256.size a := fun v15 v22 k0_hw3 k0_t28 k0_t32 => k0_hw3.2.2.2.2.2.2.2.2.2.1.2.2.2.2.2.2.2.2.2.2.2.2.2.2.2.2.2.2.1 k0_t28 k0_t32
theorem k0_off679_inb : ∀ (v15 : BitVec 32) (v22 : BitVec 32) (k0_hw3 : k0_chk3 v15 v22) (k0_t28 : Fin (k0_t28_loop v15 v22).trips) (k0_t32 : Fin (k0_t32_loop v15 v22 k0_t28).trips), ∀ a, (k0_off679 v15 v22 k0_t28 k0_t32) a + S1x16.size a ≤ S128x256.size a := fun v15 v22 k0_hw3 k0_t28 k0_t32 => k0_hw3.2.2.2.2.2.2.2.2.2.1.2.2.2.2.2.2.2.2.2.2.2.2.2.2.2.2.2.2.2.1 k0_t28 k0_t32
theorem k0_off680_inb : ∀ (v15 : BitVec 32) (v22 : BitVec 32) (k0_hw3 : k0_chk3 v15 v22) (k0_t28 : Fin (k0_t28_loop v15 v22).trips) (k0_t32 : Fin (k0_t32_loop v15 v22 k0_t28).trips), ∀ a, (k0_off680 v15 v22 k0_t28 k0_t32) a + S1x16.size a ≤ S128x256.size a := fun v15 v22 k0_hw3 k0_t28 k0_t32 => k0_hw3.2.2.2.2.2.2.2.2.2.1.2.2.2.2.2.2.2.2.2.2.2.2.2.2.2.2.2.2.2.2.1 k0_t28 k0_t32
theorem k0_off681_inb : ∀ (v15 : BitVec 32) (v22 : BitVec 32) (k0_hw3 : k0_chk3 v15 v22) (k0_t28 : Fin (k0_t28_loop v15 v22).trips) (k0_t32 : Fin (k0_t32_loop v15 v22 k0_t28).trips), ∀ a, (k0_off681 v15 v22 k0_t28 k0_t32) a + S1x16.size a ≤ S128x256.size a := fun v15 v22 k0_hw3 k0_t28 k0_t32 => k0_hw3.2.2.2.2.2.2.2.2.2.1.2.2.2.2.2.2.2.2.2.2.2.2.2.2.2.2.2.2.2.2.2.1 k0_t28 k0_t32
theorem k0_off682_inb : ∀ (v15 : BitVec 32) (v22 : BitVec 32) (k0_hw3 : k0_chk3 v15 v22) (k0_t28 : Fin (k0_t28_loop v15 v22).trips) (k0_t32 : Fin (k0_t32_loop v15 v22 k0_t28).trips), ∀ a, (k0_off682 v15 v22 k0_t28 k0_t32) a + S1x16.size a ≤ S128x256.size a := fun v15 v22 k0_hw3 k0_t28 k0_t32 => k0_hw3.2.2.2.2.2.2.2.2.2.1.2.2.2.2.2.2.2.2.2.2.2.2.2.2.2.2.2.2.2.2.2.2.1 k0_t28 k0_t32
theorem k0_mult17_dvd : ∀ (v15 : BitVec 32) (v22 : BitVec 32) (k0_hw3 : k0_chk3 v15 v22) (k0_t28 : Fin (k0_t28_loop v15 v22).trips), 8 ∣ (k0_mult17 v15 v22 k0_t28).toNat := fun v15 v22 k0_hw3 k0_t28 => k0_hw3.2.2.2.2.2.2.2.2.2.1.2.2.2.2.2.2.2.2.2.2.2.2.2.2.2.2.2.2.2.2.2.2.2.1 k0_t28
theorem k0_off683_inb : ∀ (v15 : BitVec 32) (v22 : BitVec 32) (k0_hw3 : k0_chk3 v15 v22) (k0_t28 : Fin (k0_t28_loop v15 v22).trips), ∀ a, (k0_off683 v15 v22 k0_t28) a + S128x256.size a ≤ S50000x256.size a := fun v15 v22 k0_hw3 k0_t28 => k0_hw3.2.2.2.2.2.2.2.2.2.1.2.2.2.2.2.2.2.2.2.2.2.2.2.2.2.2.2.2.2.2.2.2.2.2.1 k0_t28
theorem k0_mult18_dvd : ∀ (v15 : BitVec 32) (v22 : BitVec 32) (k0_hw3 : k0_chk3 v15 v22) (k0_t28 : Fin (k0_t28_loop v15 v22).trips), 8 ∣ (k0_mult18 v15 v22 k0_t28).toNat := fun v15 v22 k0_hw3 k0_t28 => k0_hw3.2.2.2.2.2.2.2.2.2.1.2.2.2.2.2.2.2.2.2.2.2.2.2.2.2.2.2.2.2.2.2.2.2.2.2.1 k0_t28
theorem k0_t33_ok : ∀ (v15 : BitVec 32) (v22 : BitVec 32) (k0_hw3 : k0_chk3 v15 v22) (k0_t28 : Fin (k0_t28_loop v15 v22).trips), (k0_t33_loop v15 v22 k0_t28).OK := fun v15 v22 k0_hw3 k0_t28 => k0_hw3.2.2.2.2.2.2.2.2.2.1.2.2.2.2.2.2.2.2.2.2.2.2.2.2.2.2.2.2.2.2.2.2.2.2.2.2.1 k0_t28
theorem k0_off684_inb : ∀ (v15 : BitVec 32) (v22 : BitVec 32) (k0_hw3 : k0_chk3 v15 v22) (k0_t28 : Fin (k0_t28_loop v15 v22).trips) (k0_t33 : Fin (k0_t33_loop v15 v22 k0_t28).trips), ∀ a, (k0_off684 v15 v22 k0_t28 k0_t33) a + S1x16.size a ≤ S128x256.size a := fun v15 v22 k0_hw3 k0_t28 k0_t33 => k0_hw3.2.2.2.2.2.2.2.2.2.1.2.2.2.2.2.2.2.2.2.2.2.2.2.2.2.2.2.2.2.2.2.2.2.2.2.2.2.1 k0_t28 k0_t33
theorem k0_off685_inb : ∀ (v15 : BitVec 32) (v22 : BitVec 32) (k0_hw3 : k0_chk3 v15 v22) (k0_t28 : Fin (k0_t28_loop v15 v22).trips) (k0_t33 : Fin (k0_t33_loop v15 v22 k0_t28).trips), ∀ a, (k0_off685 v15 v22 k0_t28 k0_t33) a + S1x16.size a ≤ S128x256.size a := fun v15 v22 k0_hw3 k0_t28 k0_t33 => k0_hw3.2.2.2.2.2.2.2.2.2.1.2.2.2.2.2.2.2.2.2.2.2.2.2.2.2.2.2.2.2.2.2.2.2.2.2.2.2.2.1 k0_t28 k0_t33
theorem k0_off686_inb : ∀ (v15 : BitVec 32) (v22 : BitVec 32) (k0_hw3 : k0_chk3 v15 v22) (k0_t28 : Fin (k0_t28_loop v15 v22).trips) (k0_t33 : Fin (k0_t33_loop v15 v22 k0_t28).trips), ∀ a, (k0_off686 v15 v22 k0_t28 k0_t33) a + S1x16.size a ≤ S128x256.size a := fun v15 v22 k0_hw3 k0_t28 k0_t33 => k0_hw3.2.2.2.2.2.2.2.2.2.1.2.2.2.2.2.2.2.2.2.2.2.2.2.2.2.2.2.2.2.2.2.2.2.2.2.2.2.2.2.1 k0_t28 k0_t33
theorem k0_off687_inb : ∀ (v15 : BitVec 32) (v22 : BitVec 32) (k0_hw3 : k0_chk3 v15 v22) (k0_t28 : Fin (k0_t28_loop v15 v22).trips) (k0_t33 : Fin (k0_t33_loop v15 v22 k0_t28).trips), ∀ a, (k0_off687 v15 v22 k0_t28 k0_t33) a + S1x16.size a ≤ S128x256.size a := fun v15 v22 k0_hw3 k0_t28 k0_t33 => k0_hw3.2.2.2.2.2.2.2.2.2.1.2.2.2.2.2.2.2.2.2.2.2.2.2.2.2.2.2.2.2.2.2.2.2.2.2.2.2.2.2.2.1 k0_t28 k0_t33
theorem k0_off688_inb : ∀ (v15 : BitVec 32) (v22 : BitVec 32) (k0_hw3 : k0_chk3 v15 v22) (k0_t28 : Fin (k0_t28_loop v15 v22).trips) (k0_t33 : Fin (k0_t33_loop v15 v22 k0_t28).trips), ∀ a, (k0_off688 v15 v22 k0_t28 k0_t33) a + S1x16.size a ≤ S128x256.size a := fun v15 v22 k0_hw3 k0_t28 k0_t33 => k0_hw3.2.2.2.2.2.2.2.2.2.1.2.2.2.2.2.2.2.2.2.2.2.2.2.2.2.2.2.2.2.2.2.2.2.2.2.2.2.2.2.2.2 k0_t28 k0_t33
theorem k0_off689_inb : ∀ (v15 : BitVec 32) (v22 : BitVec 32) (k0_hw3 : k0_chk3 v15 v22) (k0_t28 : Fin (k0_t28_loop v15 v22).trips) (k0_t33 : Fin (k0_t33_loop v15 v22 k0_t28).trips), ∀ a, (k0_off689 v15 v22 k0_t28 k0_t33) a + S1x16.size a ≤ S128x256.size a := fun v15 v22 k0_hw3 k0_t28 k0_t33 => k0_hw3.2.2.2.2.2.2.2.2.2.2.1.1 k0_t28 k0_t33
theorem k0_off690_inb : ∀ (v15 : BitVec 32) (v22 : BitVec 32) (k0_hw3 : k0_chk3 v15 v22) (k0_t28 : Fin (k0_t28_loop v15 v22).trips) (k0_t33 : Fin (k0_t33_loop v15 v22 k0_t28).trips), ∀ a, (k0_off690 v15 v22 k0_t28 k0_t33) a + S1x16.size a ≤ S128x256.size a := fun v15 v22 k0_hw3 k0_t28 k0_t33 => k0_hw3.2.2.2.2.2.2.2.2.2.2.1.2.1 k0_t28 k0_t33
theorem k0_off691_inb : ∀ (v15 : BitVec 32) (v22 : BitVec 32) (k0_hw3 : k0_chk3 v15 v22) (k0_t28 : Fin (k0_t28_loop v15 v22).trips) (k0_t33 : Fin (k0_t33_loop v15 v22 k0_t28).trips), ∀ a, (k0_off691 v15 v22 k0_t28 k0_t33) a + S1x16.size a ≤ S128x256.size a := fun v15 v22 k0_hw3 k0_t28 k0_t33 => k0_hw3.2.2.2.2.2.2.2.2.2.2.1.2.2.1 k0_t28 k0_t33
theorem k0_off692_inb : ∀ (v15 : BitVec 32) (v22 : BitVec 32) (k0_hw3 : k0_chk3 v15 v22) (k0_t28 : Fin (k0_t28_loop v15 v22).trips) (k0_t33 : Fin (k0_t33_loop v15 v22 k0_t28).trips), ∀ a, (k0_off692 v15 v22 k0_t28 k0_t33) a + S1x16.size a ≤ S128x256.size a := fun v15 v22 k0_hw3 k0_t28 k0_t33 => k0_hw3.2.2.2.2.2.2.2.2.2.2.1.2.2.2.1 k0_t28 k0_t33
theorem k0_off693_inb : ∀ (v15 : BitVec 32) (v22 : BitVec 32) (k0_hw3 : k0_chk3 v15 v22) (k0_t28 : Fin (k0_t28_loop v15 v22).trips) (k0_t33 : Fin (k0_t33_loop v15 v22 k0_t28).trips), ∀ a, (k0_off693 v15 v22 k0_t28 k0_t33) a + S1x16.size a ≤ S128x256.size a := fun v15 v22 k0_hw3 k0_t28 k0_t33 => k0_hw3.2.2.2.2.2.2.2.2.2.2.1.2.2.2.2.1 k0_t28 k0_t33
theorem k0_off694_inb : ∀ (v15 : BitVec 32) (v22 : BitVec 32) (k0_hw3 : k0_chk3 v15 v22) (k0_t28 : Fin (k0_t28_loop v15 v22).trips) (k0_t33 : Fin (k0_t33_loop v15 v22 k0_t28).trips), ∀ a, (k0_off694 v15 v22 k0_t28 k0_t33) a + S1x16.size a ≤ S128x256.size a := fun v15 v22 k0_hw3 k0_t28 k0_t33 => k0_hw3.2.2.2.2.2.2.2.2.2.2.1.2.2.2.2.2.1 k0_t28 k0_t33
theorem k0_off695_inb : ∀ (v15 : BitVec 32) (v22 : BitVec 32) (k0_hw3 : k0_chk3 v15 v22) (k0_t28 : Fin (k0_t28_loop v15 v22).trips) (k0_t33 : Fin (k0_t33_loop v15 v22 k0_t28).trips), ∀ a, (k0_off695 v15 v22 k0_t28 k0_t33) a + S1x16.size a ≤ S128x256.size a := fun v15 v22 k0_hw3 k0_t28 k0_t33 => k0_hw3.2.2.2.2.2.2.2.2.2.2.1.2.2.2.2.2.2.1 k0_t28 k0_t33
theorem k0_off696_inb : ∀ (v15 : BitVec 32) (v22 : BitVec 32) (k0_hw3 : k0_chk3 v15 v22) (k0_t28 : Fin (k0_t28_loop v15 v22).trips) (k0_t33 : Fin (k0_t33_loop v15 v22 k0_t28).trips), ∀ a, (k0_off696 v15 v22 k0_t28 k0_t33) a + S1x16.size a ≤ S128x256.size a := fun v15 v22 k0_hw3 k0_t28 k0_t33 => k0_hw3.2.2.2.2.2.2.2.2.2.2.1.2.2.2.2.2.2.2.1 k0_t28 k0_t33
theorem k0_off697_inb : ∀ (v15 : BitVec 32) (v22 : BitVec 32) (k0_hw3 : k0_chk3 v15 v22) (k0_t28 : Fin (k0_t28_loop v15 v22).trips) (k0_t33 : Fin (k0_t33_loop v15 v22 k0_t28).trips), ∀ a, (k0_off697 v15 v22 k0_t28 k0_t33) a + S1x16.size a ≤ S128x256.size a := fun v15 v22 k0_hw3 k0_t28 k0_t33 => k0_hw3.2.2.2.2.2.2.2.2.2.2.1.2.2.2.2.2.2.2.2.1 k0_t28 k0_t33
theorem k0_off698_inb : ∀ (v15 : BitVec 32) (v22 : BitVec 32) (k0_hw3 : k0_chk3 v15 v22) (k0_t28 : Fin (k0_t28_loop v15 v22).trips) (k0_t33 : Fin (k0_t33_loop v15 v22 k0_t28).trips), ∀ a, (k0_off698 v15 v22 k0_t28 k0_t33) a + S1x16.size a ≤ S128x256.size a := fun v15 v22 k0_hw3 k0_t28 k0_t33 => k0_hw3.2.2.2.2.2.2.2.2.2.2.1.2.2.2.2.2.2.2.2.2.1 k0_t28 k0_t33
theorem k0_off699_inb : ∀ (v15 : BitVec 32) (v22 : BitVec 32) (k0_hw3 : k0_chk3 v15 v22) (k0_t28 : Fin (k0_t28_loop v15 v22).trips) (k0_t33 : Fin (k0_t33_loop v15 v22 k0_t28).trips), ∀ a, (k0_off699 v15 v22 k0_t28 k0_t33) a + S1x16.size a ≤ S128x256.size a := fun v15 v22 k0_hw3 k0_t28 k0_t33 => k0_hw3.2.2.2.2.2.2.2.2.2.2.1.2.2.2.2.2.2.2.2.2.2.1 k0_t28 k0_t33
theorem k0_off700_inb : ∀ (v15 : BitVec 32) (v22 : BitVec 32) (k0_hw3 : k0_chk3 v15 v22) (k0_t28 : Fin (k0_t28_loop v15 v22).trips) (k0_t33 : Fin (k0_t33_loop v15 v22 k0_t28).trips), ∀ (r : Fin 3), ∀ a, (k0_off700 v15 v22 k0_t28 k0_t33 (BitVec.ofNat 32 (1 + r.val))) a + S1x16.size a ≤ S128x256.size a := fun v15 v22 k0_hw3 k0_t28 k0_t33 r => k0_hw3.2.2.2.2.2.2.2.2.2.2.1.2.2.2.2.2.2.2.2.2.2.2.1 k0_t28 k0_t33 r
theorem k0_off701_inb : ∀ (v15 : BitVec 32) (v22 : BitVec 32) (k0_hw3 : k0_chk3 v15 v22) (k0_t28 : Fin (k0_t28_loop v15 v22).trips) (k0_t33 : Fin (k0_t33_loop v15 v22 k0_t28).trips), ∀ (r : Fin 3), ∀ a, (k0_off701 v15 v22 k0_t28 k0_t33 (BitVec.ofNat 32 (1 + r.val))) a + S1x16.size a ≤ S128x256.size a := fun v15 v22 k0_hw3 k0_t28 k0_t33 r => k0_hw3.2.2.2.2.2.2.2.2.2.2.1.2.2.2.2.2.2.2.2.2.2.2.2.1 k0_t28 k0_t33 r
theorem k0_off702_inb : ∀ (v15 : BitVec 32) (v22 : BitVec 32) (k0_hw3 : k0_chk3 v15 v22) (k0_t28 : Fin (k0_t28_loop v15 v22).trips) (k0_t33 : Fin (k0_t33_loop v15 v22 k0_t28).trips), ∀ (r : Fin 3), ∀ a, (k0_off702 v15 v22 k0_t28 k0_t33 (BitVec.ofNat 32 (1 + r.val))) a + S1x16.size a ≤ S128x256.size a := fun v15 v22 k0_hw3 k0_t28 k0_t33 r => k0_hw3.2.2.2.2.2.2.2.2.2.2.1.2.2.2.2.2.2.2.2.2.2.2.2.2.1 k0_t28 k0_t33 r
theorem k0_off703_inb : ∀ (v15 : BitVec 32) (v22 : BitVec 32) (k0_hw3 : k0_chk3 v15 v22) (k0_t28 : Fin (k0_t28_loop v15 v22).trips) (k0_t33 : Fin (k0_t33_loop v15 v22 k0_t28).trips), ∀ (r : Fin 3), ∀ a, (k0_off703 v15 v22 k0_t28 k0_t33 (BitVec.ofNat 32 (1 + r.val))) a + S1x16.size a ≤ S128x256.size a := fun v15 v22 k0_hw3 k0_t28 k0_t33 r => k0_hw3.2.2.2.2.2.2.2.2.2.2.1.2.2.2.2.2.2.2.2.2.2.2.2.2.2.1 k0_t28 k0_t33 r
theorem k0_off704_inb : ∀ (v15 : BitVec 32) (v22 : BitVec 32) (k0_hw3 : k0_chk3 v15 v22) (k0_t28 : Fin (k0_t28_loop v15 v22).trips) (k0_t33 : Fin (k0_t33_loop v15 v22 k0_t28).trips), ∀ (r : Fin 3), ∀ a, (k0_off704 v15 v22 k0_t28 k0_t33 (BitVec.ofNat 32 (1 + r.val))) a + S1x16.size a ≤ S128x256.size a := fun v15 v22 k0_hw3 k0_t28 k0_t33 r => k0_hw3.2.2.2.2.2.2.2.2.2.2.1.2.2.2.2.2.2.2.2.2.2.2.2.2.2.2.1 k0_t28 k0_t33 r
theorem k0_off705_inb : ∀ (v15 : BitVec 32) (v22 : BitVec 32) (k0_hw3 : k0_chk3 v15 v22) (k0_t28 : Fin (k0_t28_loop v15 v22).trips) (k0_t33 : Fin (k0_t33_loop v15 v22 k0_t28).trips), ∀ (r : Fin 3), ∀ a, (k0_off705 v15 v22 k0_t28 k0_t33 (BitVec.ofNat 32 (1 + r.val))) a + S1x16.size a ≤ S128x256.size a := fun v15 v22 k0_hw3 k0_t28 k0_t33 r => k0_hw3.2.2.2.2.2.2.2.2.2.2.1.2.2.2.2.2.2.2.2.2.2.2.2.2.2.2.2.1 k0_t28 k0_t33 r
theorem k0_off706_inb : ∀ (v15 : BitVec 32) (v22 : BitVec 32) (k0_hw3 : k0_chk3 v15 v22) (k0_t28 : Fin (k0_t28_loop v15 v22).trips) (k0_t33 : Fin (k0_t33_loop v15 v22 k0_t28).trips), ∀ (r : Fin 3), ∀ a, (k0_off706 v15 v22 k0_t28 k0_t33 (BitVec.ofNat 32 (1 + r.val))) a + S1x16.size a ≤ S128x256.size a := fun v15 v22 k0_hw3 k0_t28 k0_t33 r => k0_hw3.2.2.2.2.2.2.2.2.2.2.1.2.2.2.2.2.2.2.2.2.2.2.2.2.2.2.2.2.1 k0_t28 k0_t33 r
theorem k0_off707_inb : ∀ (v15 : BitVec 32) (v22 : BitVec 32) (k0_hw3 : k0_chk3 v15 v22) (k0_t28 : Fin (k0_t28_loop v15 v22).trips) (k0_t33 : Fin (k0_t33_loop v15 v22 k0_t28).trips), ∀ (r : Fin 3), ∀ a, (k0_off707 v15 v22 k0_t28 k0_t33 (BitVec.ofNat 32 (1 + r.val))) a + S1x16.size a ≤ S128x256.size a := fun v15 v22 k0_hw3 k0_t28 k0_t33 r => k0_hw3.2.2.2.2.2.2.2.2.2.2.1.2.2.2.2.2.2.2.2.2.2.2.2.2.2.2.2.2.2.1 k0_t28 k0_t33 r
theorem k0_off708_inb : ∀ (v15 : BitVec 32) (v22 : BitVec 32) (k0_hw3 : k0_chk3 v15 v22) (k0_t28 : Fin (k0_t28_loop v15 v22).trips) (k0_t33 : Fin (k0_t33_loop v15 v22 k0_t28).trips), ∀ (r : Fin 3), ∀ a, (k0_off708 v15 v22 k0_t28 k0_t33 (BitVec.ofNat 32 (1 + r.val))) a + S1x16.size a ≤ S128x256.size a := fun v15 v22 k0_hw3 k0_t28 k0_t33 r => k0_hw3.2.2.2.2.2.2.2.2.2.2.1.2.2.2.2.2.2.2.2.2.2.2.2.2.2.2.2.2.2.2.1 k0_t28 k0_t33 r
theorem k0_off709_inb : ∀ (v15 : BitVec 32) (v22 : BitVec 32) (k0_hw3 : k0_chk3 v15 v22) (k0_t28 : Fin (k0_t28_loop v15 v22).trips) (k0_t33 : Fin (k0_t33_loop v15 v22 k0_t28).trips), ∀ (r : Fin 3), ∀ a, (k0_off709 v15 v22 k0_t28 k0_t33 (BitVec.ofNat 32 (1 + r.val))) a + S1x16.size a ≤ S128x256.size a := fun v15 v22 k0_hw3 k0_t28 k0_t33 r => k0_hw3.2.2.2.2.2.2.2.2.2.2.1.2.2.2.2.2.2.2.2.2.2.2.2.2.2.2.2.2.2.2.2.1 k0_t28 k0_t33 r
theorem k0_off710_inb : ∀ (v15 : BitVec 32) (v22 : BitVec 32) (k0_hw3 : k0_chk3 v15 v22) (k0_t28 : Fin (k0_t28_loop v15 v22).trips) (k0_t33 : Fin (k0_t33_loop v15 v22 k0_t28).trips), ∀ (r : Fin 3), ∀ a, (k0_off710 v15 v22 k0_t28 k0_t33 (BitVec.ofNat 32 (1 + r.val))) a + S1x16.size a ≤ S128x256.size a := fun v15 v22 k0_hw3 k0_t28 k0_t33 r => k0_hw3.2.2.2.2.2.2.2.2.2.2.1.2.2.2.2.2.2.2.2.2.2.2.2.2.2.2.2.2.2.2.2.2.1 k0_t28 k0_t33 r
theorem k0_off711_inb : ∀ (v15 : BitVec 32) (v22 : BitVec 32) (k0_hw3 : k0_chk3 v15 v22) (k0_t28 : Fin (k0_t28_loop v15 v22).trips) (k0_t33 : Fin (k0_t33_loop v15 v22 k0_t28).trips), ∀ (r : Fin 3), ∀ a, (k0_off711 v15 v22 k0_t28 k0_t33 (BitVec.ofNat 32 (1 + r.val))) a + S1x16.size a ≤ S128x256.size a := fun v15 v22 k0_hw3 k0_t28 k0_t33 r => k0_hw3.2.2.2.2.2.2.2.2.2.2.1.2.2.2.2.2.2.2.2.2.2.2.2.2.2.2.2.2.2.2.2.2.2.1 k0_t28 k0_t33 r
theorem k0_off712_inb : ∀ (v15 : BitVec 32) (v22 : BitVec 32) (k0_hw3 : k0_chk3 v15 v22) (k0_t28 : Fin (k0_t28_loop v15 v22).trips) (k0_t33 : Fin (k0_t33_loop v15 v22 k0_t28).trips), ∀ (r : Fin 3), ∀ a, (k0_off712 v15 v22 k0_t28 k0_t33 (BitVec.ofNat 32 (1 + r.val))) a + S1x16.size a ≤ S128x256.size a := fun v15 v22 k0_hw3 k0_t28 k0_t33 r => k0_hw3.2.2.2.2.2.2.2.2.2.2.1.2.2.2.2.2.2.2.2.2.2.2.2.2.2.2.2.2.2.2.2.2.2.2.1 k0_t28 k0_t33 r
theorem k0_off713_inb : ∀ (v15 : BitVec 32) (v22 : BitVec 32) (k0_hw3 : k0_chk3 v15 v22) (k0_t28 : Fin (k0_t28_loop v15 v22).trips) (k0_t33 : Fin (k0_t33_loop v15 v22 k0_t28).trips), ∀ (r : Fin 3), ∀ a, (k0_off713 v15 v22 k0_t28 k0_t33 (BitVec.ofNat 32 (1 + r.val))) a + S1x16.size a ≤ S128x256.size a := fun v15 v22 k0_hw3 k0_t28 k0_t33 r => k0_hw3.2.2.2.2.2.2.2.2.2.2.1.2.2.2.2.2.2.2.2.2.2.2.2.2.2.2.2.2.2.2.2.2.2.2.2.1 k0_t28 k0_t33 r
theorem k0_off714_inb : ∀ (v15 : BitVec 32) (v22 : BitVec 32) (k0_hw3 : k0_chk3 v15 v22) (k0_t28 : Fin (k0_t28_loop v15 v22).trips) (k0_t33 : Fin (k0_t33_loop v15 v22 k0_t28).trips), ∀ (r : Fin 3), ∀ a, (k0_off714 v15 v22 k0_t28 k0_t33 (BitVec.ofNat 32 (1 + r.val))) a + S1x16.size a ≤ S128x256.size a := fun v15 v22 k0_hw3 k0_t28 k0_t33 r => k0_hw3.2.2.2.2.2.2.2.2.2.2.1.2.2.2.2.2.2.2.2.2.2.2.2.2.2.2.2.2.2.2.2.2.2.2.2.2.1 k0_t28 k0_t33 r
theorem k0_off715_inb : ∀ (v15 : BitVec 32) (v22 : BitVec 32) (k0_hw3 : k0_chk3 v15 v22) (k0_t28 : Fin (k0_t28_loop v15 v22).trips) (k0_t33 : Fin (k0_t33_loop v15 v22 k0_t28).trips), ∀ (r : Fin 3), ∀ a, (k0_off715 v15 v22 k0_t28 k0_t33 (BitVec.ofNat 32 (1 + r.val))) a + S1x16.size a ≤ S128x256.size a := fun v15 v22 k0_hw3 k0_t28 k0_t33 r => k0_hw3.2.2.2.2.2.2.2.2.2.2.1.2.2.2.2.2.2.2.2.2.2.2.2.2.2.2.2.2.2.2.2.2.2.2.2.2.2.1 k0_t28 k0_t33 r
theorem k0_t34_ok : ∀ (v15 : BitVec 32) (v22 : BitVec 32) (k0_hw3 : k0_chk3 v15 v22) (k0_t28 : Fin (k0_t28_loop v15 v22).trips), (k0_t34_loop v15 v22 k0_t28).OK := fun v15 v22 k0_hw3 k0_t28 => k0_hw3.2.2.2.2.2.2.2.2.2.2.1.2.2.2.2.2.2.2.2.2.2.2.2.2.2.2.2.2.2.2.2.2.2.2.2.2.2.2.1 k0_t28
theorem k0_off716_inb : ∀ (v15 : BitVec 32) (v22 : BitVec 32) (k0_hw3 : k0_chk3 v15 v22) (k0_t28 : Fin (k0_t28_loop v15 v22).trips) (k0_t34 : Fin (k0_t34_loop v15 v22 k0_t28).trips), ∀ a, (k0_off716 v15 v22 k0_t28 k0_t34) a + S1x16.size a ≤ S128x256.size a := fun v15 v22 k0_hw3 k0_t28 k0_t34 => k0_hw3.2.2.2.2.2.2.2.2.2.2.1.2.2.2.2.2.2.2.2.2.2.2.2.2.2.2.2.2.2.2.2.2.2.2.2.2.2.2.2.1 k0_t28 k0_t34
theorem k0_off717_inb : ∀ (v15 : BitVec 32) (v22 : BitVec 32) (k0_hw3 : k0_chk3 v15 v22) (k0_t28 : Fin (k0_t28_loop v15 v22).trips) (k0_t34 : Fin (k0_t34_loop v15 v22 k0_t28).trips), ∀ a, (k0_off717 v15 v22 k0_t28 k0_t34) a + S1x16.size a ≤ S128x256.size a := fun v15 v22 k0_hw3 k0_t28 k0_t34 => k0_hw3.2.2.2.2.2.2.2.2.2.2.1.2.2.2.2.2.2.2.2.2.2.2.2.2.2.2.2.2.2.2.2.2.2.2.2.2.2.2.2.2.1 k0_t28 k0_t34
theorem k0_off718_inb : ∀ (v15 : BitVec 32) (v22 : BitVec 32) (k0_hw3 : k0_chk3 v15 v22) (k0_t28 : Fin (k0_t28_loop v15 v22).trips) (k0_t34 : Fin (k0_t34_loop v15 v22 k0_t28).trips), ∀ a, (k0_off718 v15 v22 k0_t28 k0_t34) a + S1x16.size a ≤ S128x256.size a := fun v15 v22 k0_hw3 k0_t28 k0_t34 => k0_hw3.2.2.2.2.2.2.2.2.2.2.1.2.2.2.2.2.2.2.2.2.2.2.2.2.2.2.2.2.2.2.2.2.2.2.2.2.2.2.2.2.2.1 k0_t28 k0_t34
theorem k0_off719_inb : ∀ (v15 : BitVec 32) (v22 : BitVec 32) (k0_hw3 : k0_chk3 v15 v22) (k0_t28 : Fin (k0_t28_loop v15 v22).trips) (k0_t34 : Fin (k0_t34_loop v15 v22 k0_t28).trips), ∀ a, (k0_off719 v15 v22 k0_t28 k0_t34) a + S1x16.size a ≤ S128x256.size a := fun v15 v22 k0_hw3 k0_t28 k0_t34 => k0_hw3.2.2.2.2.2.2.2.2.2.2.1.2.2.2.2.2.2.2.2.2.2.2.2.2.2.2.2.2.2.2.2.2.2.2.2.2.2.2.2.2.2.2 k0_t28 k0_t34
theorem k0_off720_inb : ∀ (v15 : BitVec 32) (v22 : BitVec 32) (k0_hw3 : k0_chk3 v15 v22) (k0_t28 : Fin (k0_t28_loop v15 v22).trips) (k0_t34 : Fin (k0_t34_loop v15 v22 k0_t28).trips), ∀ a, (k0_off720 v15 v22 k0_t28 k0_t34) a + S1x16.size a ≤ S128x256.size a := fun v15 v22 k0_hw3 k0_t28 k0_t34 => k0_hw3.2.2.2.2.2.2.2.2.2.2.2.1.1 k0_t28 k0_t34
theorem k0_off721_inb : ∀ (v15 : BitVec 32) (v22 : BitVec 32) (k0_hw3 : k0_chk3 v15 v22) (k0_t28 : Fin (k0_t28_loop v15 v22).trips) (k0_t34 : Fin (k0_t34_loop v15 v22 k0_t28).trips), ∀ a, (k0_off721 v15 v22 k0_t28 k0_t34) a + S1x16.size a ≤ S128x256.size a := fun v15 v22 k0_hw3 k0_t28 k0_t34 => k0_hw3.2.2.2.2.2.2.2.2.2.2.2.1.2.1 k0_t28 k0_t34
theorem k0_off722_inb : ∀ (v15 : BitVec 32) (v22 : BitVec 32) (k0_hw3 : k0_chk3 v15 v22) (k0_t28 : Fin (k0_t28_loop v15 v22).trips) (k0_t34 : Fin (k0_t34_loop v15 v22 k0_t28).trips), ∀ a, (k0_off722 v15 v22 k0_t28 k0_t34) a + S1x16.size a ≤ S128x256.size a := fun v15 v22 k0_hw3 k0_t28 k0_t34 => k0_hw3.2.2.2.2.2.2.2.2.2.2.2.1.2.2.1 k0_t28 k0_t34
theorem k0_off723_inb : ∀ (v15 : BitVec 32) (v22 : BitVec 32) (k0_hw3 : k0_chk3 v15 v22) (k0_t28 : Fin (k0_t28_loop v15 v22).trips) (k0_t34 : Fin (k0_t34_loop v15 v22 k0_t28).trips), ∀ a, (k0_off723 v15 v22 k0_t28 k0_t34) a + S1x16.size a ≤ S128x256.size a := fun v15 v22 k0_hw3 k0_t28 k0_t34 => k0_hw3.2.2.2.2.2.2.2.2.2.2.2.1.2.2.2.1 k0_t28 k0_t34
theorem k0_off724_inb : ∀ (v15 : BitVec 32) (v22 : BitVec 32) (k0_hw3 : k0_chk3 v15 v22) (k0_t28 : Fin (k0_t28_loop v15 v22).trips) (k0_t34 : Fin (k0_t34_loop v15 v22 k0_t28).trips), ∀ a, (k0_off724 v15 v22 k0_t28 k0_t34) a + S1x16.size a ≤ S128x256.size a := fun v15 v22 k0_hw3 k0_t28 k0_t34 => k0_hw3.2.2.2.2.2.2.2.2.2.2.2.1.2.2.2.2.1 k0_t28 k0_t34
theorem k0_off725_inb : ∀ (v15 : BitVec 32) (v22 : BitVec 32) (k0_hw3 : k0_chk3 v15 v22) (k0_t28 : Fin (k0_t28_loop v15 v22).trips) (k0_t34 : Fin (k0_t34_loop v15 v22 k0_t28).trips), ∀ a, (k0_off725 v15 v22 k0_t28 k0_t34) a + S1x16.size a ≤ S128x256.size a := fun v15 v22 k0_hw3 k0_t28 k0_t34 => k0_hw3.2.2.2.2.2.2.2.2.2.2.2.1.2.2.2.2.2.1 k0_t28 k0_t34
theorem k0_off726_inb : ∀ (v15 : BitVec 32) (v22 : BitVec 32) (k0_hw3 : k0_chk3 v15 v22) (k0_t28 : Fin (k0_t28_loop v15 v22).trips) (k0_t34 : Fin (k0_t34_loop v15 v22 k0_t28).trips), ∀ a, (k0_off726 v15 v22 k0_t28 k0_t34) a + S1x16.size a ≤ S128x256.size a := fun v15 v22 k0_hw3 k0_t28 k0_t34 => k0_hw3.2.2.2.2.2.2.2.2.2.2.2.1.2.2.2.2.2.2.1 k0_t28 k0_t34
theorem k0_off727_inb : ∀ (v15 : BitVec 32) (v22 : BitVec 32) (k0_hw3 : k0_chk3 v15 v22) (k0_t28 : Fin (k0_t28_loop v15 v22).trips) (k0_t34 : Fin (k0_t34_loop v15 v22 k0_t28).trips), ∀ a, (k0_off727 v15 v22 k0_t28 k0_t34) a + S1x16.size a ≤ S128x256.size a := fun v15 v22 k0_hw3 k0_t28 k0_t34 => k0_hw3.2.2.2.2.2.2.2.2.2.2.2.1.2.2.2.2.2.2.2.1 k0_t28 k0_t34
theorem k0_off728_inb : ∀ (v15 : BitVec 32) (v22 : BitVec 32) (k0_hw3 : k0_chk3 v15 v22) (k0_t28 : Fin (k0_t28_loop v15 v22).trips) (k0_t34 : Fin (k0_t34_loop v15 v22 k0_t28).trips), ∀ a, (k0_off728 v15 v22 k0_t28 k0_t34) a + S1x16.size a ≤ S128x256.size a := fun v15 v22 k0_hw3 k0_t28 k0_t34 => k0_hw3.2.2.2.2.2.2.2.2.2.2.2.1.2.2.2.2.2.2.2.2.1 k0_t28 k0_t34
theorem k0_off729_inb : ∀ (v15 : BitVec 32) (v22 : BitVec 32) (k0_hw3 : k0_chk3 v15 v22) (k0_t28 : Fin (k0_t28_loop v15 v22).trips) (k0_t34 : Fin (k0_t34_loop v15 v22 k0_t28).trips), ∀ a, (k0_off729 v15 v22 k0_t28 k0_t34) a + S1x16.size a ≤ S128x256.size a := fun v15 v22 k0_hw3 k0_t28 k0_t34 => k0_hw3.2.2.2.2.2.2.2.2.2.2.2.1.2.2.2.2.2.2.2.2.2.1 k0_t28 k0_t34
theorem k0_off730_inb : ∀ (v15 : BitVec 32) (v22 : BitVec 32) (k0_hw3 : k0_chk3 v15 v22) (k0_t28 : Fin (k0_t28_loop v15 v22).trips) (k0_t34 : Fin (k0_t34_loop v15 v22 k0_t28).trips), ∀ a, (k0_off730 v15 v22 k0_t28 k0_t34) a + S1x16.size a ≤ S128x256.size a := fun v15 v22 k0_hw3 k0_t28 k0_t34 => k0_hw3.2.2.2.2.2.2.2.2.2.2.2.1.2.2.2.2.2.2.2.2.2.2.1 k0_t28 k0_t34
theorem k0_off731_inb : ∀ (v15 : BitVec 32) (v22 : BitVec 32) (k0_hw3 : k0_chk3 v15 v22) (k0_t28 : Fin (k0_t28_loop v15 v22).trips) (k0_t34 : Fin (k0_t34_loop v15 v22 k0_t28).trips), ∀ a, (k0_off731 v15 v22 k0_t28 k0_t34) a + S1x16.size a ≤ S128x256.size a := fun v15 v22 k0_hw3 k0_t28 k0_t34 => k0_hw3.2.2.2.2.2.2.2.2.2.2.2.1.2.2.2.2.2.2.2.2.2.2.2.1 k0_t28 k0_t34
theorem k0_off732_inb : ∀ (v15 : BitVec 32) (v22 : BitVec 32) (k0_hw3 : k0_chk3 v15 v22) (k0_t28 : Fin (k0_t28_loop v15 v22).trips) (k0_t34 : Fin (k0_t34_loop v15 v22 k0_t28).trips), ∀ (r : Fin 3), ∀ a, (k0_off732 v15 v22 k0_t28 k0_t34 (BitVec.ofNat 32 (1 + r.val))) a + S1x16.size a ≤ S128x256.size a := fun v15 v22 k0_hw3 k0_t28 k0_t34 r => k0_hw3.2.2.2.2.2.2.2.2.2.2.2.1.2.2.2.2.2.2.2.2.2.2.2.2.1 k0_t28 k0_t34 r
theorem k0_off733_inb : ∀ (v15 : BitVec 32) (v22 : BitVec 32) (k0_hw3 : k0_chk3 v15 v22) (k0_t28 : Fin (k0_t28_loop v15 v22).trips) (k0_t34 : Fin (k0_t34_loop v15 v22 k0_t28).trips), ∀ (r : Fin 3), ∀ a, (k0_off733 v15 v22 k0_t28 k0_t34 (BitVec.ofNat 32 (1 + r.val))) a + S1x16.size a ≤ S128x256.size a := fun v15 v22 k0_hw3 k0_t28 k0_t34 r => k0_hw3.2.2.2.2.2.2.2.2.2.2.2.1.2.2.2.2.2.2.2.2.2.2.2.2.2.1 k0_t28 k0_t34 r
theorem k0_off734_inb : ∀ (v15 : BitVec 32) (v22 : BitVec 32) (k0_hw3 : k0_chk3 v15 v22) (k0_t28 : Fin (k0_t28_loop v15 v22).trips) (k0_t34 : Fin (k0_t34_loop v15 v22 k0_t28).trips), ∀ (r : Fin 3), ∀ a, (k0_off734 v15 v22 k0_t28 k0_t34 (BitVec.ofNat 32 (1 + r.val))) a + S1x16.size a ≤ S128x256.size a := fun v15 v22 k0_hw3 k0_t28 k0_t34 r => k0_hw3.2.2.2.2.2.2.2.2.2.2.2.1.2.2.2.2.2.2.2.2.2.2.2.2.2.2.1 k0_t28 k0_t34 r
theorem k0_off735_inb : ∀ (v15 : BitVec 32) (v22 : BitVec 32) (k0_hw3 : k0_chk3 v15 v22) (k0_t28 : Fin (k0_t28_loop v15 v22).trips) (k0_t34 : Fin (k0_t34_loop v15 v22 k0_t28).trips), ∀ (r : Fin 3), ∀ a, (k0_off735 v15 v22 k0_t28 k0_t34 (BitVec.ofNat 32 (1 + r.val))) a + S1x16.size a ≤ S128x256.size a := fun v15 v22 k0_hw3 k0_t28 k0_t34 r => k0_hw3.2.2.2.2.2.2.2.2.2.2.2.1.2.2.2.2.2.2.2.2.2.2.2.2.2.2.2.1 k0_t28 k0_t34 r
theorem k0_off736_inb : ∀ (v15 : BitVec 32) (v22 : BitVec 32) (k0_hw3 : k0_chk3 v15 v22) (k0_t28 : Fin (k0_t28_loop v15 v22).trips) (k0_t34 : Fin (k0_t34_loop v15 v22 k0_t28).trips), ∀ (r : Fin 3), ∀ a, (k0_off736 v15 v22 k0_t28 k0_t34 (BitVec.ofNat 32 (1 + r.val))) a + S1x16.size a ≤ S128x256.size a := fun v15 v22 k0_hw3 k0_t28 k0_t34 r => k0_hw3.2.2.2.2.2.2.2.2.2.2.2.1.2.2.2.2.2.2.2.2.2.2.2.2.2.2.2.2.1 k0_t28 k0_t34 r
theorem k0_off737_inb : ∀ (v15 : BitVec 32) (v22 : BitVec 32) (k0_hw3 : k0_chk3 v15 v22) (k0_t28 : Fin (k0_t28_loop v15 v22).trips) (k0_t34 : Fin (k0_t34_loop v15 v22 k0_t28).trips), ∀ (r : Fin 3), ∀ a, (k0_off737 v15 v22 k0_t28 k0_t34 (BitVec.ofNat 32 (1 + r.val))) a + S1x16.size a ≤ S128x256.size a := fun v15 v22 k0_hw3 k0_t28 k0_t34 r => k0_hw3.2.2.2.2.2.2.2.2.2.2.2.1.2.2.2.2.2.2.2.2.2.2.2.2.2.2.2.2.2.1 k0_t28 k0_t34 r
theorem k0_off738_inb : ∀ (v15 : BitVec 32) (v22 : BitVec 32) (k0_hw3 : k0_chk3 v15 v22) (k0_t28 : Fin (k0_t28_loop v15 v22).trips) (k0_t34 : Fin (k0_t34_loop v15 v22 k0_t28).trips), ∀ (r : Fin 3), ∀ a, (k0_off738 v15 v22 k0_t28 k0_t34 (BitVec.ofNat 32 (1 + r.val))) a + S1x16.size a ≤ S128x256.size a := fun v15 v22 k0_hw3 k0_t28 k0_t34 r => k0_hw3.2.2.2.2.2.2.2.2.2.2.2.1.2.2.2.2.2.2.2.2.2.2.2.2.2.2.2.2.2.2.1 k0_t28 k0_t34 r
theorem k0_off739_inb : ∀ (v15 : BitVec 32) (v22 : BitVec 32) (k0_hw3 : k0_chk3 v15 v22) (k0_t28 : Fin (k0_t28_loop v15 v22).trips) (k0_t34 : Fin (k0_t34_loop v15 v22 k0_t28).trips), ∀ (r : Fin 3), ∀ a, (k0_off739 v15 v22 k0_t28 k0_t34 (BitVec.ofNat 32 (1 + r.val))) a + S1x16.size a ≤ S128x256.size a := fun v15 v22 k0_hw3 k0_t28 k0_t34 r => k0_hw3.2.2.2.2.2.2.2.2.2.2.2.1.2.2.2.2.2.2.2.2.2.2.2.2.2.2.2.2.2.2.2.1 k0_t28 k0_t34 r
theorem k0_off740_inb : ∀ (v15 : BitVec 32) (v22 : BitVec 32) (k0_hw3 : k0_chk3 v15 v22) (k0_t28 : Fin (k0_t28_loop v15 v22).trips) (k0_t34 : Fin (k0_t34_loop v15 v22 k0_t28).trips), ∀ (r : Fin 3), ∀ a, (k0_off740 v15 v22 k0_t28 k0_t34 (BitVec.ofNat 32 (1 + r.val))) a + S1x16.size a ≤ S128x256.size a := fun v15 v22 k0_hw3 k0_t28 k0_t34 r => k0_hw3.2.2.2.2.2.2.2.2.2.2.2.1.2.2.2.2.2.2.2.2.2.2.2.2.2.2.2.2.2.2.2.2.1 k0_t28 k0_t34 r
theorem k0_off741_inb : ∀ (v15 : BitVec 32) (v22 : BitVec 32) (k0_hw3 : k0_chk3 v15 v22) (k0_t28 : Fin (k0_t28_loop v15 v22).trips) (k0_t34 : Fin (k0_t34_loop v15 v22 k0_t28).trips), ∀ (r : Fin 3), ∀ a, (k0_off741 v15 v22 k0_t28 k0_t34 (BitVec.ofNat 32 (1 + r.val))) a + S1x16.size a ≤ S128x256.size a := fun v15 v22 k0_hw3 k0_t28 k0_t34 r => k0_hw3.2.2.2.2.2.2.2.2.2.2.2.1.2.2.2.2.2.2.2.2.2.2.2.2.2.2.2.2.2.2.2.2.2.1 k0_t28 k0_t34 r
theorem k0_off742_inb : ∀ (v15 : BitVec 32) (v22 : BitVec 32) (k0_hw3 : k0_chk3 v15 v22) (k0_t28 : Fin (k0_t28_loop v15 v22).trips) (k0_t34 : Fin (k0_t34_loop v15 v22 k0_t28).trips), ∀ (r : Fin 3), ∀ a, (k0_off742 v15 v22 k0_t28 k0_t34 (BitVec.ofNat 32 (1 + r.val))) a + S1x16.size a ≤ S128x256.size a := fun v15 v22 k0_hw3 k0_t28 k0_t34 r => k0_hw3.2.2.2.2.2.2.2.2.2.2.2.1.2.2.2.2.2.2.2.2.2.2.2.2.2.2.2.2.2.2.2.2.2.2.1 k0_t28 k0_t34 r
theorem k0_off743_inb : ∀ (v15 : BitVec 32) (v22 : BitVec 32) (k0_hw3 : k0_chk3 v15 v22) (k0_t28 : Fin (k0_t28_loop v15 v22).trips) (k0_t34 : Fin (k0_t34_loop v15 v22 k0_t28).trips), ∀ (r : Fin 3), ∀ a, (k0_off743 v15 v22 k0_t28 k0_t34 (BitVec.ofNat 32 (1 + r.val))) a + S1x16.size a ≤ S128x256.size a := fun v15 v22 k0_hw3 k0_t28 k0_t34 r => k0_hw3.2.2.2.2.2.2.2.2.2.2.2.1.2.2.2.2.2.2.2.2.2.2.2.2.2.2.2.2.2.2.2.2.2.2.2.1 k0_t28 k0_t34 r
theorem k0_off744_inb : ∀ (v15 : BitVec 32) (v22 : BitVec 32) (k0_hw3 : k0_chk3 v15 v22) (k0_t28 : Fin (k0_t28_loop v15 v22).trips) (k0_t34 : Fin (k0_t34_loop v15 v22 k0_t28).trips), ∀ (r : Fin 3), ∀ a, (k0_off744 v15 v22 k0_t28 k0_t34 (BitVec.ofNat 32 (1 + r.val))) a + S1x16.size a ≤ S128x256.size a := fun v15 v22 k0_hw3 k0_t28 k0_t34 r => k0_hw3.2.2.2.2.2.2.2.2.2.2.2.1.2.2.2.2.2.2.2.2.2.2.2.2.2.2.2.2.2.2.2.2.2.2.2.2.1 k0_t28 k0_t34 r
theorem k0_off745_inb : ∀ (v15 : BitVec 32) (v22 : BitVec 32) (k0_hw3 : k0_chk3 v15 v22) (k0_t28 : Fin (k0_t28_loop v15 v22).trips) (k0_t34 : Fin (k0_t34_loop v15 v22 k0_t28).trips), ∀ (r : Fin 3), ∀ a, (k0_off745 v15 v22 k0_t28 k0_t34 (BitVec.ofNat 32 (1 + r.val))) a + S1x16.size a ≤ S128x256.size a := fun v15 v22 k0_hw3 k0_t28 k0_t34 r => k0_hw3.2.2.2.2.2.2.2.2.2.2.2.1.2.2.2.2.2.2.2.2.2.2.2.2.2.2.2.2.2.2.2.2.2.2.2.2.2.1 k0_t28 k0_t34 r
theorem k0_off746_inb : ∀ (v15 : BitVec 32) (v22 : BitVec 32) (k0_hw3 : k0_chk3 v15 v22) (k0_t28 : Fin (k0_t28_loop v15 v22).trips) (k0_t34 : Fin (k0_t34_loop v15 v22 k0_t28).trips), ∀ (r : Fin 3), ∀ a, (k0_off746 v15 v22 k0_t28 k0_t34 (BitVec.ofNat 32 (1 + r.val))) a + S1x16.size a ≤ S128x256.size a := fun v15 v22 k0_hw3 k0_t28 k0_t34 r => k0_hw3.2.2.2.2.2.2.2.2.2.2.2.1.2.2.2.2.2.2.2.2.2.2.2.2.2.2.2.2.2.2.2.2.2.2.2.2.2.2.1 k0_t28 k0_t34 r
theorem k0_off747_inb : ∀ (v15 : BitVec 32) (v22 : BitVec 32) (k0_hw3 : k0_chk3 v15 v22) (k0_t28 : Fin (k0_t28_loop v15 v22).trips) (k0_t34 : Fin (k0_t34_loop v15 v22 k0_t28).trips), ∀ (r : Fin 3), ∀ a, (k0_off747 v15 v22 k0_t28 k0_t34 (BitVec.ofNat 32 (1 + r.val))) a + S1x16.size a ≤ S128x256.size a := fun v15 v22 k0_hw3 k0_t28 k0_t34 r => k0_hw3.2.2.2.2.2.2.2.2.2.2.2.1.2.2.2.2.2.2.2.2.2.2.2.2.2.2.2.2.2.2.2.2.2.2.2.2.2.2.2.1 k0_t28 k0_t34 r
theorem k0_t35_ok : ∀ (v15 : BitVec 32) (v22 : BitVec 32) (k0_hw3 : k0_chk3 v15 v22) (k0_t28 : Fin (k0_t28_loop v15 v22).trips), (k0_t35_loop v15 v22 k0_t28).OK := fun v15 v22 k0_hw3 k0_t28 => k0_hw3.2.2.2.2.2.2.2.2.2.2.2.1.2.2.2.2.2.2.2.2.2.2.2.2.2.2.2.2.2.2.2.2.2.2.2.2.2.2.2.2.1 k0_t28
theorem k0_off748_inb : ∀ (v15 : BitVec 32) (v22 : BitVec 32) (k0_hw3 : k0_chk3 v15 v22) (k0_t28 : Fin (k0_t28_loop v15 v22).trips) (k0_t35 : Fin (k0_t35_loop v15 v22 k0_t28).trips), ∀ a, (k0_off748 v15 v22 k0_t28 k0_t35) a + S1x16.size a ≤ S128x256.size a := fun v15 v22 k0_hw3 k0_t28 k0_t35 => k0_hw3.2.2.2.2.2.2.2.2.2.2.2.1.2.2.2.2.2.2.2.2.2.2.2.2.2.2.2.2.2.2.2.2.2.2.2.2.2.2.2.2.2.1 k0_t28 k0_t35
theorem k0_off749_inb : ∀ (v15 : BitVec 32) (v22 : BitVec 32) (k0_hw3 : k0_chk3 v15 v22) (k0_t28 : Fin (k0_t28_loop v15 v22).trips) (k0_t35 : Fin (k0_t35_loop v15 v22 k0_t28).trips), ∀ a, (k0_off749 v15 v22 k0_t28 k0_t35) a + S1x16.size a ≤ S128x256.size a := fun v15 v22 k0_hw3 k0_t28 k0_t35 => k0_hw3.2.2.2.2.2.2.2.2.2.2.2.1.2.2.2.2.2.2.2.2.2.2.2.2.2.2.2.2.2.2.2.2.2.2.2.2.2.2.2.2.2.2.1 k0_t28 k0_t35
theorem k0_off750_inb : ∀ (v15 : BitVec 32) (v22 : BitVec 32) (k0_hw3 : k0_chk3 v15 v22) (k0_t28 : Fin (k0_t28_loop v15 v22).trips) (k0_t35 : Fin (k0_t35_loop v15 v22 k0_t28).trips), ∀ a, (k0_off750 v15 v22 k0_t28 k0_t35) a + S1x16.size a ≤ S128x256.size a := fun v15 v22 k0_hw3 k0_t28 k0_t35 => k0_hw3.2.2.2.2.2.2.2.2.2.2.2.1.2.2.2.2.2.2.2.2.2.2.2.2.2.2.2.2.2.2.2.2.2.2.2.2.2.2.2.2.2.2.2 k0_t28 k0_t35
theorem k0_off751_inb : ∀ (v15 : BitVec 32) (v22 : BitVec 32) (k0_hw3 : k0_chk3 v15 v22) (k0_t28 : Fin (k0_t28_loop v15 v22).trips) (k0_t35 : Fin (k0_t35_loop v15 v22 k0_t28).trips), ∀ a, (k0_off751 v15 v22 k0_t28 k0_t35) a + S1x16.size a ≤ S128x256.size a := fun v15 v22 k0_hw3 k0_t28 k0_t35 => k0_hw3.2.2.2.2.2.2.2.2.2.2.2.2.1 k0_t28 k0_t35
theorem k0_off752_inb : ∀ (v15 : BitVec 32) (v22 : BitVec 32) (k0_hw3 : k0_chk3 v15 v22) (k0_t28 : Fin (k0_t28_loop v15 v22).trips) (k0_t35 : Fin (k0_t35_loop v15 v22 k0_t28).trips), ∀ a, (k0_off752 v15 v22 k0_t28 k0_t35) a + S1x16.size a ≤ S128x256.size a := fun v15 v22 k0_hw3 k0_t28 k0_t35 => k0_hw3.2.2.2.2.2.2.2.2.2.2.2.2.2.1 k0_t28 k0_t35
theorem k0_off753_inb : ∀ (v15 : BitVec 32) (v22 : BitVec 32) (k0_hw3 : k0_chk3 v15 v22) (k0_t28 : Fin (k0_t28_loop v15 v22).trips) (k0_t35 : Fin (k0_t35_loop v15 v22 k0_t28).trips), ∀ a, (k0_off753 v15 v22 k0_t28 k0_t35) a + S1x16.size a ≤ S128x256.size a := fun v15 v22 k0_hw3 k0_t28 k0_t35 => k0_hw3.2.2.2.2.2.2.2.2.2.2.2.2.2.2.1 k0_t28 k0_t35
theorem k0_off754_inb : ∀ (v15 : BitVec 32) (v22 : BitVec 32) (k0_hw3 : k0_chk3 v15 v22) (k0_t28 : Fin (k0_t28_loop v15 v22).trips) (k0_t35 : Fin (k0_t35_loop v15 v22 k0_t28).trips), ∀ a, (k0_off754 v15 v22 k0_t28 k0_t35) a + S1x16.size a ≤ S128x256.size a := fun v15 v22 k0_hw3 k0_t28 k0_t35 => k0_hw3.2.2.2.2.2.2.2.2.2.2.2.2.2.2.2.1 k0_t28 k0_t35
theorem k0_off755_inb : ∀ (v15 : BitVec 32) (v22 : BitVec 32) (k0_hw3 : k0_chk3 v15 v22) (k0_t28 : Fin (k0_t28_loop v15 v22).trips) (k0_t35 : Fin (k0_t35_loop v15 v22 k0_t28).trips), ∀ a, (k0_off755 v15 v22 k0_t28 k0_t35) a + S1x16.size a ≤ S128x256.size a := fun v15 v22 k0_hw3 k0_t28 k0_t35 => k0_hw3.2.2.2.2.2.2.2.2.2.2.2.2.2.2.2.2.1 k0_t28 k0_t35
theorem k0_off756_inb : ∀ (v15 : BitVec 32) (v22 : BitVec 32) (k0_hw3 : k0_chk3 v15 v22) (k0_t28 : Fin (k0_t28_loop v15 v22).trips) (k0_t35 : Fin (k0_t35_loop v15 v22 k0_t28).trips), ∀ a, (k0_off756 v15 v22 k0_t28 k0_t35) a + S1x16.size a ≤ S128x256.size a := fun v15 v22 k0_hw3 k0_t28 k0_t35 => k0_hw3.2.2.2.2.2.2.2.2.2.2.2.2.2.2.2.2.2.1 k0_t28 k0_t35
theorem k0_off757_inb : ∀ (v15 : BitVec 32) (v22 : BitVec 32) (k0_hw3 : k0_chk3 v15 v22) (k0_t28 : Fin (k0_t28_loop v15 v22).trips) (k0_t35 : Fin (k0_t35_loop v15 v22 k0_t28).trips), ∀ a, (k0_off757 v15 v22 k0_t28 k0_t35) a + S1x16.size a ≤ S128x256.size a := fun v15 v22 k0_hw3 k0_t28 k0_t35 => k0_hw3.2.2.2.2.2.2.2.2.2.2.2.2.2.2.2.2.2.2.1 k0_t28 k0_t35
theorem k0_off758_inb : ∀ (v15 : BitVec 32) (v22 : BitVec 32) (k0_hw3 : k0_chk3 v15 v22) (k0_t28 : Fin (k0_t28_loop v15 v22).trips) (k0_t35 : Fin (k0_t35_loop v15 v22 k0_t28).trips), ∀ a, (k0_off758 v15 v22 k0_t28 k0_t35) a + S1x16.size a ≤ S128x256.size a := fun v15 v22 k0_hw3 k0_t28 k0_t35 => k0_hw3.2.2.2.2.2.2.2.2.2.2.2.2.2.2.2.2.2.2.2.1 k0_t28 k0_t35
theorem k0_off759_inb : ∀ (v15 : BitVec 32) (v22 : BitVec 32) (k0_hw3 : k0_chk3 v15 v22) (k0_t28 : Fin (k0_t28_loop v15 v22).trips) (k0_t35 : Fin (k0_t35_loop v15 v22 k0_t28).trips), ∀ a, (k0_off759 v15 v22 k0_t28 k0_t35) a + S1x16.size a ≤ S128x256.size a := fun v15 v22 k0_hw3 k0_t28 k0_t35 => k0_hw3.2.2.2.2.2.2.2.2.2.2.2.2.2.2.2.2.2.2.2.2.1 k0_t28 k0_t35
theorem k0_off760_inb : ∀ (v15 : BitVec 32) (v22 : BitVec 32) (k0_hw3 : k0_chk3 v15 v22) (k0_t28 : Fin (k0_t28_loop v15 v22).trips) (k0_t35 : Fin (k0_t35_loop v15 v22 k0_t28).trips), ∀ a, (k0_off760 v15 v22 k0_t28 k0_t35) a + S1x16.size a ≤ S128x256.size a := fun v15 v22 k0_hw3 k0_t28 k0_t35 => k0_hw3.2.2.2.2.2.2.2.2.2.2.2.2.2.2.2.2.2.2.2.2.2.1 k0_t28 k0_t35
theorem k0_off761_inb : ∀ (v15 : BitVec 32) (v22 : BitVec 32) (k0_hw3 : k0_chk3 v15 v22) (k0_t28 : Fin (k0_t28_loop v15 v22).trips) (k0_t35 : Fin (k0_t35_loop v15 v22 k0_t28).trips), ∀ a, (k0_off761 v15 v22 k0_t28 k0_t35) a + S1x16.size a ≤ S128x256.size a := fun v15 v22 k0_hw3 k0_t28 k0_t35 => k0_hw3.2.2.2.2.2.2.2.2.2.2.2.2.2.2.2.2.2.2.2.2.2.2.1 k0_t28 k0_t35
theorem k0_off762_inb : ∀ (v15 : BitVec 32) (v22 : BitVec 32) (k0_hw3 : k0_chk3 v15 v22) (k0_t28 : Fin (k0_t28_loop v15 v22).trips) (k0_t35 : Fin (k0_t35_loop v15 v22 k0_t28).trips), ∀ a, (k0_off762 v15 v22 k0_t28 k0_t35) a + S1x16.size a ≤ S128x256.size a := fun v15 v22 k0_hw3 k0_t28 k0_t35 => k0_hw3.2.2.2.2.2.2.2.2.2.2.2.2.2.2.2.2.2.2.2.2.2.2.2.1 k0_t28 k0_t35
theorem k0_off763_inb : ∀ (v15 : BitVec 32) (v22 : BitVec 32) (k0_hw3 : k0_chk3 v15 v22) (k0_t28 : Fin (k0_t28_loop v15 v22).trips) (k0_t35 : Fin (k0_t35_loop v15 v22 k0_t28).trips), ∀ a, (k0_off763 v15 v22 k0_t28 k0_t35) a + S1x16.size a ≤ S128x256.size a := fun v15 v22 k0_hw3 k0_t28 k0_t35 => k0_hw3.2.2.2.2.2.2.2.2.2.2.2.2.2.2.2.2.2.2.2.2.2.2.2.2.1 k0_t28 k0_t35
theorem k0_t36_ok : ∀ (v15 : BitVec 32) (v22 : BitVec 32) (k0_hw3 : k0_chk3 v15 v22) (k0_t28 : Fin (k0_t28_loop v15 v22).trips), (k0_t36_loop v15 v22 k0_t28).OK := fun v15 v22 k0_hw3 k0_t28 => k0_hw3.2.2.2.2.2.2.2.2.2.2.2.2.2.2.2.2.2.2.2.2.2.2.2.2.2.1 k0_t28
theorem k0_off764_inb : ∀ (v15 : BitVec 32) (v22 : BitVec 32) (k0_hw3 : k0_chk3 v15 v22) (k0_t28 : Fin (k0_t28_loop v15 v22).trips) (k0_t36 : Fin (k0_t36_loop v15 v22 k0_t28).trips), ∀ a, (k0_off764 v15 v22 k0_t28 k0_t36) a + S1x16.size a ≤ S128x256.size a := fun v15 v22 k0_hw3 k0_t28 k0_t36 => k0_hw3.2.2.2.2.2.2.2.2.2.2.2.2.2.2.2.2.2.2.2.2.2.2.2.2.2.2.1 k0_t28 k0_t36
theorem k0_off765_inb : ∀ (v15 : BitVec 32) (v22 : BitVec 32) (k0_hw3 : k0_chk3 v15 v22) (k0_t28 : Fin (k0_t28_loop v15 v22).trips) (k0_t36 : Fin (k0_t36_loop v15 v22 k0_t28).trips), ∀ a, (k0_off765 v15 v22 k0_t28 k0_t36) a + S1x16.size a ≤ S128x256.size a := fun v15 v22 k0_hw3 k0_t28 k0_t36 => k0_hw3.2.2.2.2.2.2.2.2.2.2.2.2.2.2.2.2.2.2.2.2.2.2.2.2.2.2.2.1 k0_t28 k0_t36
theorem k0_off766_inb : ∀ (v15 : BitVec 32) (v22 : BitVec 32) (k0_hw3 : k0_chk3 v15 v22) (k0_t28 : Fin (k0_t28_loop v15 v22).trips) (k0_t36 : Fin (k0_t36_loop v15 v22 k0_t28).trips), ∀ a, (k0_off766 v15 v22 k0_t28 k0_t36) a + S1x16.size a ≤ S128x256.size a := fun v15 v22 k0_hw3 k0_t28 k0_t36 => k0_hw3.2.2.2.2.2.2.2.2.2.2.2.2.2.2.2.2.2.2.2.2.2.2.2.2.2.2.2.2.1 k0_t28 k0_t36
theorem k0_off767_inb : ∀ (v15 : BitVec 32) (v22 : BitVec 32) (k0_hw3 : k0_chk3 v15 v22) (k0_t28 : Fin (k0_t28_loop v15 v22).trips) (k0_t36 : Fin (k0_t36_loop v15 v22 k0_t28).trips), ∀ a, (k0_off767 v15 v22 k0_t28 k0_t36) a + S1x16.size a ≤ S128x256.size a := fun v15 v22 k0_hw3 k0_t28 k0_t36 => k0_hw3.2.2.2.2.2.2.2.2.2.2.2.2.2.2.2.2.2.2.2.2.2.2.2.2.2.2.2.2.2.1 k0_t28 k0_t36
theorem k0_off768_inb : ∀ (v15 : BitVec 32) (v22 : BitVec 32) (k0_hw3 : k0_chk3 v15 v22) (k0_t28 : Fin (k0_t28_loop v15 v22).trips) (k0_t36 : Fin (k0_t36_loop v15 v22 k0_t28).trips), ∀ a, (k0_off768 v15 v22 k0_t28 k0_t36) a + S1x16.size a ≤ S128x256.size a := fun v15 v22 k0_hw3 k0_t28 k0_t36 => k0_hw3.2.2.2.2.2.2.2.2.2.2.2.2.2.2.2.2.2.2.2.2.2.2.2.2.2.2.2.2.2.2.1 k0_t28 k0_t36
theorem k0_off769_inb : ∀ (v15 : BitVec 32) (v22 : BitVec 32) (k0_hw3 : k0_chk3 v15 v22) (k0_t28 : Fin (k0_t28_loop v15 v22).trips) (k0_t36 : Fin (k0_t36_loop v15 v22 k0_t28).trips), ∀ a, (k0_off769 v15 v22 k0_t28 k0_t36) a + S1x16.size a ≤ S128x256.size a := fun v15 v22 k0_hw3 k0_t28 k0_t36 => k0_hw3.2.2.2.2.2.2.2.2.2.2.2.2.2.2.2.2.2.2.2.2.2.2.2.2.2.2.2.2.2.2.2.1 k0_t28 k0_t36
theorem k0_off770_inb : ∀ (v15 : BitVec 32) (v22 : BitVec 32) (k0_hw3 : k0_chk3 v15 v22) (k0_t28 : Fin (k0_t28_loop v15 v22).trips) (k0_t36 : Fin (k0_t36_loop v15 v22 k0_t28).trips), ∀ a, (k0_off770 v15 v22 k0_t28 k0_t36) a + S1x16.size a ≤ S128x256.size a := fun v15 v22 k0_hw3 k0_t28 k0_t36 => k0_hw3.2.2.2.2.2.2.2.2.2.2.2.2.2.2.2.2.2.2.2.2.2.2.2.2.2.2.2.2.2.2.2.2.1 k0_t28 k0_t36
theorem k0_off771_inb : ∀ (v15 : BitVec 32) (v22 : BitVec 32) (k0_hw3 : k0_chk3 v15 v22) (k0_t28 : Fin (k0_t28_loop v15 v22).trips) (k0_t36 : Fin (k0_t36_loop v15 v22 k0_t28).trips), ∀ a, (k0_off771 v15 v22 k0_t28 k0_t36) a + S1x16.size a ≤ S128x256.size a := fun v15 v22 k0_hw3 k0_t28 k0_t36 => k0_hw3.2.2.2.2.2.2.2.2.2.2.2.2.2.2.2.2.2.2.2.2.2.2.2.2.2.2.2.2.2.2.2.2.2.1 k0_t28 k0_t36
theorem k0_off772_inb : ∀ (v15 : BitVec 32) (v22 : BitVec 32) (k0_hw3 : k0_chk3 v15 v22) (k0_t28 : Fin (k0_t28_loop v15 v22).trips) (k0_t36 : Fin (k0_t36_loop v15 v22 k0_t28).trips), ∀ a, (k0_off772 v15 v22 k0_t28 k0_t36) a + S1x16.size a ≤ S128x256.size a := fun v15 v22 k0_hw3 k0_t28 k0_t36 => k0_hw3.2.2.2.2.2.2.2.2.2.2.2.2.2.2.2.2.2.2.2.2.2.2.2.2.2.2.2.2.2.2.2.2.2.2.1 k0_t28 k0_t36
theorem k0_off773_inb : ∀ (v15 : BitVec 32) (v22 : BitVec 32) (k0_hw3 : k0_chk3 v15 v22) (k0_t28 : Fin (k0_t28_loop v15 v22).trips) (k0_t36 : Fin (k0_t36_loop v15 v22 k0_t28).trips), ∀ a, (k0_off773 v15 v22 k0_t28 k0_t36) a + S1x16.size a ≤ S128x256.size a := fun v15 v22 k0_hw3 k0_t28 k0_t36 => k0_hw3.2.2.2.2.2.2.2.2.2.2.2.2.2.2.2.2.2.2.2.2.2.2.2.2.2.2.2.2.2.2.2.2.2.2.2.1 k0_t28 k0_t36
theorem k0_off774_inb : ∀ (v15 : BitVec 32) (v22 : BitVec 32) (k0_hw3 : k0_chk3 v15 v22) (k0_t28 : Fin (k0_t28_loop v15 v22).trips) (k0_t36 : Fin (k0_t36_loop v15 v22 k0_t28).trips), ∀ a, (k0_off774 v15 v22 k0_t28 k0_t36) a + S1x16.size a ≤ S128x256.size a := fun v15 v22 k0_hw3 k0_t28 k0_t36 => k0_hw3.2.2.2.2.2.2.2.2.2.2.2.2.2.2.2.2.2.2.2.2.2.2.2.2.2.2.2.2.2.2.2.2.2.2.2.2.1 k0_t28 k0_t36
theorem k0_off775_inb : ∀ (v15 : BitVec 32) (v22 : BitVec 32) (k0_hw3 : k0_chk3 v15 v22) (k0_t28 : Fin (k0_t28_loop v15 v22).trips) (k0_t36 : Fin (k0_t36_loop v15 v22 k0_t28).trips), ∀ a, (k0_off775 v15 v22 k0_t28 k0_t36) a + S1x16.size a ≤ S128x256.size a := fun v15 v22 k0_hw3 k0_t28 k0_t36 => k0_hw3.2.2.2.2.2.2.2.2.2.2.2.2.2.2.2.2.2.2.2.2.2.2.2.2.2.2.2.2.2.2.2.2.2.2.2.2.2.1 k0_t28 k0_t36
theorem k0_off776_inb : ∀ (v15 : BitVec 32) (v22 : BitVec 32) (k0_hw3 : k0_chk3 v15 v22) (k0_t28 : Fin (k0_t28_loop v15 v22).trips) (k0_t36 : Fin (k0_t36_loop v15 v22 k0_t28).trips), ∀ a, (k0_off776 v15 v22 k0_t28 k0_t36) a + S1x16.size a ≤ S128x256.size a := fun v15 v22 k0_hw3 k0_t28 k0_t36 => k0_hw3.2.2.2.2.2.2.2.2.2.2.2.2.2.2.2.2.2.2.2.2.2.2.2.2.2.2.2.2.2.2.2.2.2.2.2.2.2.2.1 k0_t28 k0_t36
theorem k0_off777_inb : ∀ (v15 : BitVec 32) (v22 : BitVec 32) (k0_hw3 : k0_chk3 v15 v22) (k0_t28 : Fin (k0_t28_loop v15 v22).trips) (k0_t36 : Fin (k0_t36_loop v15 v22 k0_t28).trips), ∀ a, (k0_off777 v15 v22 k0_t28 k0_t36) a + S1x16.size a ≤ S128x256.size a := fun v15 v22 k0_hw3 k0_t28 k0_t36 => k0_hw3.2.2.2.2.2.2.2.2.2.2.2.2.2.2.2.2.2.2.2.2.2.2.2.2.2.2.2.2.2.2.2.2.2.2.2.2.2.2.2.1 k0_t28 k0_t36
theorem k0_off778_inb : ∀ (v15 : BitVec 32) (v22 : BitVec 32) (k0_hw3 : k0_chk3 v15 v22) (k0_t28 : Fin (k0_t28_loop v15 v22).trips) (k0_t36 : Fin (k0_t36_loop v15 v22 k0_t28).trips), ∀ a, (k0_off778 v15 v22 k0_t28 k0_t36) a + S1x16.size a ≤ S128x256.size a := fun v15 v22 k0_hw3 k0_t28 k0_t36 => k0_hw3.2.2.2.2.2.2.2.2.2.2.2.2.2.2.2.2.2.2.2.2.2.2.2.2.2.2.2.2.2.2.2.2.2.2.2.2.2.2.2.2.1 k0_t28 k0_t36
theorem k0_off779_inb : ∀ (v15 : BitVec 32) (v22 : BitVec 32) (k0_hw3 : k0_chk3 v15 v22) (k0_t28 : Fin (k0_t28_loop v15 v22).trips) (k0_t36 : Fin (k0_t36_loop v15 v22 k0_t28).trips), ∀ a, (k0_off779 v15 v22 k0_t28 k0_t36) a + S1x16.size a ≤ S128x256.size a := fun v15 v22 k0_hw3 k0_t28 k0_t36 => k0_hw3.2.2.2.2.2.2.2.2.2.2.2.2.2.2.2.2.2.2.2.2.2.2.2.2.2.2.2.2.2.2.2.2.2.2.2.2.2.2.2.2.2 k0_t28 k0_t36

def k0_mult19 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v329 : BitVec 32 := Scalar.muli v1 c1024_i32
  v329
def k0_off780 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v329 : BitVec 32 := Scalar.muli v1 c1024_i32
  let v330 : BitVec 32 := v329
  ![v330.toNat]
abbrev grid1 : Pipeline.Grid := ⟨1, ![50], ![false]⟩

def k1_off1 (i : grid1.Coords) : Fin 1 → Nat :=
  let arg0 : BitVec 32 := BitVec.ofNat 32 (i 0).val
  let v8 : Index := Scalar.indexCast arg0
  ![v8.toNat]
@[reducible] def k1_t1_loop (v11 : BitVec 32) : Scf.Loop 32 :=
  let c0_i32_2 : BitVec 32 := 0#32
  let v12 : BitVec 32 := Scalar.subi v11 c0_i32_2
  let c1_i32 : BitVec 32 := 1#32
  let v14 : BitVec 32 := Scalar.divsi v12 c1_i32
  let v15 : BitVec 32 := Scalar.muli v14 c1_i32
  let v16 : BitVec 32 := Scalar.addi c0_i32_2 v15
  let c1_i32_4 : BitVec 32 := 1#32
  ⟨c0_i32_2, v16, c1_i32_4⟩

def k1_off2 (v9 : BitVec 32) (v11 : BitVec 32) (k1_t1 : Fin (k1_t1_loop v11).trips) : Fin 1 → Nat :=
  let c0_i32_2 : BitVec 32 := 0#32
  let c1_i32_4 : BitVec 32 := 1#32
  let arg12 : BitVec 32 := Scf.iv c0_i32_2 c1_i32_4 k1_t1
  let v19 : BitVec 32 := Scalar.addi v9 arg12
  let v20 : Index := Scalar.indexCast v19
  ![v20.toNat]
def k1_off3 (v9 : BitVec 32) (v11 : BitVec 32) (k1_t1 : Fin (k1_t1_loop v11).trips) : Fin 1 → Nat :=
  let c0_i32_2 : BitVec 32 := 0#32
  let c1_i32_4 : BitVec 32 := 1#32
  let arg12 : BitVec 32 := Scf.iv c0_i32_2 c1_i32_4 k1_t1
  let v19 : BitVec 32 := Scalar.addi v9 arg12
  let c1_i32_6 : BitVec 32 := 1#32
  let v22 : BitVec 32 := Scalar.addi v19 c1_i32_6
  let v23 : Index := Scalar.indexCast v22
  ![v23.toNat]
def k1_off4 (v9 : BitVec 32) (v11 : BitVec 32) (k1_t1 : Fin (k1_t1_loop v11).trips) : Fin 2 → Nat :=
  let c0_i32_2 : BitVec 32 := 0#32
  let c1_i32_4 : BitVec 32 := 1#32
  let arg12 : BitVec 32 := Scf.iv c0_i32_2 c1_i32_4 k1_t1
  let v19 : BitVec 32 := Scalar.addi v9 arg12
  let v30 : Index := Scalar.indexCast v19
  let c0_7 : Index := 0#32
  ![v30.toNat, 0]
@[reducible] def k1_t2_loop (v11 : BitVec 32) : Scf.Loop 32 :=
  let c0_i32_2 : BitVec 32 := 0#32
  let v12 : BitVec 32 := Scalar.subi v11 c0_i32_2
  let c1_i32 : BitVec 32 := 1#32
  let v14 : BitVec 32 := Scalar.divsi v12 c1_i32
  let v15 : BitVec 32 := Scalar.muli v14 c1_i32
  let v16 : BitVec 32 := Scalar.addi c0_i32_2 v15
  let v13 : BitVec 32 := Scalar.addi c0_i32_2 v12
  let c1_i32_5 : BitVec 32 := 1#32
  ⟨v16, v13, c1_i32_5⟩
def k1_off5 (v9 : BitVec 32) (v11 : BitVec 32) (k1_t2 : Fin (k1_t2_loop v11).trips) : Fin 1 → Nat :=
  let c0_i32_2 : BitVec 32 := 0#32
  let v12 : BitVec 32 := Scalar.subi v11 c0_i32_2
  let c1_i32 : BitVec 32 := 1#32
  let v14 : BitVec 32 := Scalar.divsi v12 c1_i32
  let v15 : BitVec 32 := Scalar.muli v14 c1_i32
  let v16 : BitVec 32 := Scalar.addi c0_i32_2 v15
  let c1_i32_5 : BitVec 32 := 1#32
  let arg12 : BitVec 32 := Scf.iv v16 c1_i32_5 k1_t2
  let v19 : BitVec 32 := Scalar.addi v9 arg12
  let v20 : Index := Scalar.indexCast v19
  ![v20.toNat]
def k1_off6 (v9 : BitVec 32) (v11 : BitVec 32) (k1_t2 : Fin (k1_t2_loop v11).trips) : Fin 1 → Nat :=
  let c0_i32_2 : BitVec 32 := 0#32
  let v12 : BitVec 32 := Scalar.subi v11 c0_i32_2
  let c1_i32 : BitVec 32 := 1#32
  let v14 : BitVec 32 := Scalar.divsi v12 c1_i32
  let v15 : BitVec 32 := Scalar.muli v14 c1_i32
  let v16 : BitVec 32 := Scalar.addi c0_i32_2 v15
  let c1_i32_5 : BitVec 32 := 1#32
  let arg12 : BitVec 32 := Scf.iv v16 c1_i32_5 k1_t2
  let v19 : BitVec 32 := Scalar.addi v9 arg12
  let c1_i32_6 : BitVec 32 := 1#32
  let v22 : BitVec 32 := Scalar.addi v19 c1_i32_6
  let v23 : Index := Scalar.indexCast v22
  ![v23.toNat]
def k1_off7 (v9 : BitVec 32) (v11 : BitVec 32) (k1_t2 : Fin (k1_t2_loop v11).trips) : Fin 2 → Nat :=
  let c0_i32_2 : BitVec 32 := 0#32
  let v12 : BitVec 32 := Scalar.subi v11 c0_i32_2
  let c1_i32 : BitVec 32 := 1#32
  let v14 : BitVec 32 := Scalar.divsi v12 c1_i32
  let v15 : BitVec 32 := Scalar.muli v14 c1_i32
  let v16 : BitVec 32 := Scalar.addi c0_i32_2 v15
  let c1_i32_5 : BitVec 32 := 1#32
  let arg12 : BitVec 32 := Scf.iv v16 c1_i32_5 k1_t2
  let v19 : BitVec 32 := Scalar.addi v9 arg12
  let v30 : Index := Scalar.indexCast v19
  let c0_7 : Index := 0#32
  ![v30.toNat, 0]

def k1_chk1 (v9 : BitVec 32) (v11 : BitVec 32) : Prop :=
  ((k1_t1_loop v11).OK) ∧
  (∀ k1_t1 : Fin (k1_t1_loop v11).trips, ∀ a, (k1_off2 v9 v11 k1_t1) a + S1.size a ≤ S96.size a) ∧
  (∀ k1_t1 : Fin (k1_t1_loop v11).trips, ∀ a, (k1_off3 v9 v11 k1_t1) a + S1.size a ≤ S96.size a) ∧
  (∀ k1_t1 : Fin (k1_t1_loop v11).trips, ∀ a, (k1_off4 v9 v11 k1_t1) a + S1x256.size a ≤ S64x256.size a) ∧
  ((k1_t2_loop v11).OK) ∧
  (∀ k1_t2 : Fin (k1_t2_loop v11).trips, ∀ a, (k1_off5 v9 v11 k1_t2) a + S1.size a ≤ S96.size a) ∧
  (∀ k1_t2 : Fin (k1_t2_loop v11).trips, ∀ a, (k1_off6 v9 v11 k1_t2) a + S1.size a ≤ S96.size a) ∧
  (∀ k1_t2 : Fin (k1_t2_loop v11).trips, ∀ a, (k1_off7 v9 v11 k1_t2) a + S1x256.size a ≤ S64x256.size a)
theorem k1_t1_ok : ∀ (v9 : BitVec 32) (v11 : BitVec 32) (k1_hw1 : k1_chk1 v9 v11), (k1_t1_loop v11).OK := fun v9 v11 k1_hw1 => k1_hw1.1
theorem k1_off2_inb : ∀ (v9 : BitVec 32) (v11 : BitVec 32) (k1_hw1 : k1_chk1 v9 v11) (k1_t1 : Fin (k1_t1_loop v11).trips), ∀ a, (k1_off2 v9 v11 k1_t1) a + S1.size a ≤ S96.size a := fun v9 v11 k1_hw1 k1_t1 => k1_hw1.2.1 k1_t1
theorem k1_off3_inb : ∀ (v9 : BitVec 32) (v11 : BitVec 32) (k1_hw1 : k1_chk1 v9 v11) (k1_t1 : Fin (k1_t1_loop v11).trips), ∀ a, (k1_off3 v9 v11 k1_t1) a + S1.size a ≤ S96.size a := fun v9 v11 k1_hw1 k1_t1 => k1_hw1.2.2.1 k1_t1
theorem k1_off4_inb : ∀ (v9 : BitVec 32) (v11 : BitVec 32) (k1_hw1 : k1_chk1 v9 v11) (k1_t1 : Fin (k1_t1_loop v11).trips), ∀ a, (k1_off4 v9 v11 k1_t1) a + S1x256.size a ≤ S64x256.size a := fun v9 v11 k1_hw1 k1_t1 => k1_hw1.2.2.2.1 k1_t1
theorem k1_t2_ok : ∀ (v9 : BitVec 32) (v11 : BitVec 32) (k1_hw1 : k1_chk1 v9 v11), (k1_t2_loop v11).OK := fun v9 v11 k1_hw1 => k1_hw1.2.2.2.2.1
theorem k1_off5_inb : ∀ (v9 : BitVec 32) (v11 : BitVec 32) (k1_hw1 : k1_chk1 v9 v11) (k1_t2 : Fin (k1_t2_loop v11).trips), ∀ a, (k1_off5 v9 v11 k1_t2) a + S1.size a ≤ S96.size a := fun v9 v11 k1_hw1 k1_t2 => k1_hw1.2.2.2.2.2.1 k1_t2
theorem k1_off6_inb : ∀ (v9 : BitVec 32) (v11 : BitVec 32) (k1_hw1 : k1_chk1 v9 v11) (k1_t2 : Fin (k1_t2_loop v11).trips), ∀ a, (k1_off6 v9 v11 k1_t2) a + S1.size a ≤ S96.size a := fun v9 v11 k1_hw1 k1_t2 => k1_hw1.2.2.2.2.2.2.1 k1_t2
theorem k1_off7_inb : ∀ (v9 : BitVec 32) (v11 : BitVec 32) (k1_hw1 : k1_chk1 v9 v11) (k1_t2 : Fin (k1_t2_loop v11).trips), ∀ a, (k1_off7 v9 v11 k1_t2) a + S1x256.size a ≤ S64x256.size a := fun v9 v11 k1_hw1 k1_t2 => k1_hw1.2.2.2.2.2.2.2 k1_t2

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .smem S96 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .smem S50 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .smem S50 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1000x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S50000x256 : Shape := ⟨2, ![50000, 256]⟩
abbrev S50000 : Shape := ⟨1, ![50000]⟩
abbrev S256 : Shape := ⟨1, ![256]⟩
abbrev S_ : Shape := ⟨0, ![]⟩
abbrev S64 : Shape := ⟨1, ![64]⟩
abbrev S50000x1 : Shape := ⟨2, ![50000, 1]⟩
abbrev S64x1 : Shape := ⟨2, ![64, 1]⟩
abbrev S64x256 : Shape := ⟨2, ![64, 256]⟩
abbrev S1 : Shape := ⟨1, ![1]⟩
abbrev S1x1 : Shape := ⟨2, ![1, 1]⟩
abbrev S1x256 : Shape := ⟨2, ![1, 256]⟩

abbrev nBuf : Space → Nat
  | .hbm => 89
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000, .i32⟩
  | .hbm, ⟨2, _⟩ => ⟨S256, .f32⟩
  | .hbm, ⟨3, _⟩ => ⟨S256, .f32⟩
  | .hbm, ⟨4, _⟩ => ⟨S_, .f32⟩
  | .hbm, ⟨5, _⟩ => ⟨S50000, .f32⟩
  | .hbm, ⟨6, _⟩ => ⟨S_, .f32⟩
  | .hbm, ⟨7, _⟩ => ⟨S64, .f32⟩
  | .hbm, ⟨8, _⟩ => ⟨S50000x1, .i32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S64x1, .f32⟩
  | .hbm, ⟨14, _⟩ => ⟨S_, .f32⟩
  | .hbm, ⟨15, _⟩ => ⟨S64x256, .f32⟩
  | .hbm, ⟨16, _⟩ => ⟨S50000x1, .i32⟩
  | .hbm, ⟨17, _⟩ => ⟨S64x256, .f32⟩
  | .hbm, ⟨18, _⟩ => ⟨S64x256, .f32⟩
  | .hbm, ⟨19, _⟩ => ⟨S64x256, .f32⟩
  | .hbm, ⟨20, _⟩ => ⟨S_, .i32⟩
  | .hbm, ⟨21, _⟩ => ⟨S50000, .i32⟩
  | .hbm, ⟨22, _⟩ => ⟨S50000, .i1⟩
  | .hbm, ⟨23, _⟩ => ⟨S_, .i32⟩
  | .hbm, ⟨24, _⟩ => ⟨S50000, .i32⟩
  | .hbm, ⟨25, _⟩ => ⟨S50000, .i32⟩
  | .hbm, ⟨26, _⟩ => ⟨S50000, .i32⟩
  | .hbm, ⟨27, _⟩ => ⟨S50000x1, .i32⟩
  | .hbm, ⟨28, _⟩ => ⟨S1, .i32⟩
  | .hbm, ⟨29, _⟩ => ⟨S_, .i32⟩
  | .hbm, ⟨30, _⟩ => ⟨S50000x1, .i32⟩
  | .hbm, ⟨31, _⟩ => ⟨S50000x1, .i1⟩
  | .hbm, ⟨32, _⟩ => ⟨S1x1, .i32⟩
  | .hbm, ⟨33, _⟩ => ⟨S50000x1, .i32⟩
  | .hbm, ⟨34, _⟩ => ⟨S50000x1, .i1⟩
  | .hbm, ⟨35, _⟩ => ⟨S50000x1, .i1⟩
  | .hbm, ⟨36, _⟩ => ⟨S_, .i1⟩
  | .hbm, ⟨37, _⟩ => ⟨S50000, .i1⟩
  | .hbm, ⟨38, _⟩ => ⟨S50000x256, .f32⟩
  | .hbm, ⟨39, _⟩ => ⟨S50000x256, .i1⟩
  | .hbm, ⟨40, _⟩ => ⟨S_, .f32⟩
  | .hbm, ⟨41, _⟩ => ⟨S50000x256, .f32⟩
  | .hbm, ⟨42, _⟩ => ⟨S50000x256, .f32⟩
  | .hbm, ⟨43, _⟩ => ⟨S50000x256, .f32⟩
  | .hbm, ⟨44, _⟩ => ⟨S50000x256, .f32⟩
  | .hbm, ⟨45, _⟩ => ⟨S_, .f32⟩
  | .hbm, ⟨46, _⟩ => ⟨S64x256, .f32⟩
  | .hbm, ⟨47, _⟩ => ⟨S50000x1, .i32⟩
  | .hbm, ⟨48, _⟩ => ⟨S64x256, .f32⟩
  | .hbm, ⟨49, _⟩ => ⟨S64x256, .f32⟩
  | .hbm, ⟨50, _⟩ => ⟨S64x256, .f32⟩
  | .hbm, ⟨51, _⟩ => ⟨S_, .f32⟩
  | .hbm, ⟨52, _⟩ => ⟨S64x256, .f32⟩
  | .hbm, ⟨53, _⟩ => ⟨S64x256, .f32⟩
  | .hbm, ⟨54, _⟩ => ⟨S64x256, .f32⟩
  | .hbm, ⟨55, _⟩ => ⟨S_, .i32⟩
  | .hbm, ⟨56, _⟩ => ⟨S50000, .i32⟩
  | .hbm, ⟨57, _⟩ => ⟨S50000, .i1⟩
  | .hbm, ⟨58, _⟩ => ⟨S_, .i32⟩
  | .hbm, ⟨59, _⟩ => ⟨S50000, .i32⟩
  | .hbm, ⟨60, _⟩ => ⟨S50000, .i32⟩
  | .hbm, ⟨61, _⟩ => ⟨S50000, .i32⟩
  | .hbm, ⟨62, _⟩ => ⟨S50000x1, .i32⟩
  | .hbm, ⟨63, _⟩ => ⟨S1, .i32⟩
  | .hbm, ⟨64, _⟩ => ⟨S_, .i32⟩
  | .hbm, ⟨65, _⟩ => ⟨S50000x1, .i32⟩
  | .hbm, ⟨66, _⟩ => ⟨S50000x1, .i1⟩
  | .hbm, ⟨67, _⟩ => ⟨S1x1, .i32⟩
  | .hbm, ⟨68, _⟩ => ⟨S50000x1, .i32⟩
  | .hbm, ⟨69, _⟩ => ⟨S50000x1, .i1⟩
  | .hbm, ⟨70, _⟩ => ⟨S50000x1, .i1⟩
  | .hbm, ⟨71, _⟩ => ⟨S_, .i1⟩
  | .hbm, ⟨72, _⟩ => ⟨S50000, .i1⟩
  | .hbm, ⟨73, _⟩ => ⟨S50000x256, .f32⟩
  | .hbm, ⟨74, _⟩ => ⟨S50000x256, .i1⟩
  | .hbm, ⟨75, _⟩ => ⟨S_, .f32⟩
  | .hbm, ⟨76, _⟩ => ⟨S50000x256, .f32⟩
  | .hbm, ⟨77, _⟩ => ⟨S50000x256, .f32⟩
  | .hbm, ⟨78, _⟩ => ⟨S50000x256, .f32⟩
  | .hbm, ⟨79, _⟩ => ⟨S_, .f32⟩
  | .hbm, ⟨80, _⟩ => ⟨S50000x256, .f32⟩
  | .hbm, ⟨81, _⟩ => ⟨S50000x256, .f32⟩
  | .hbm, ⟨82, _⟩ => ⟨S50000x256, .f32⟩
  | .hbm, ⟨83, _⟩ => ⟨S1x256, .f32⟩
  | .hbm, ⟨84, _⟩ => ⟨S50000x256, .f32⟩
  | .hbm, ⟨85, _⟩ => ⟨S50000x256, .f32⟩
  | .hbm, ⟨86, _⟩ => ⟨S1x256, .f32⟩
  | .hbm, ⟨87, _⟩ => ⟨S50000x256, .f32⟩
  | .hbm, ⟨88, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_4 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_call1_c : Ref sig .tc := ⟨.hbm, 55, rfl⟩
abbrev main_call1_v0 : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_c_1 : Ref sig .tc := ⟨.hbm, 63, rfl⟩
abbrev main_call1_c_2 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_c_3 : Ref sig .tc := ⟨.hbm, 71, rfl⟩
abbrev main_call1_v12 : Ref sig .tc := ⟨.hbm, 72, rfl⟩
abbrev main_call1_v13 : Ref sig .tc := ⟨.hbm, 73, rfl⟩
abbrev main_call1_v14 : Ref sig .tc := ⟨.hbm, 74, rfl⟩
abbrev main_call1_cst : Ref sig .tc := ⟨.hbm, 75, rfl⟩
abbrev main_call1_v15 : Ref sig .tc := ⟨.hbm, 76, rfl⟩
abbrev main_v23 : Ref sig .tc := ⟨.hbm, 77, rfl⟩
abbrev main_v24 : Ref sig .tc := ⟨.hbm, 78, rfl⟩
abbrev main_cst_5 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.Pre.lean ====
/-
  What the first precondition says of the argument arrays.
-/
module

public import proofs.«01_k».proof.Pre_batch_in_range
public import Idealize.ShloMosaic.Lib.ReduceAll
public import Idealize.ShloMosaic.Lib.WordCmp
public import Idealize.ShloMosaic.Lib.Pointwise
public import Idealize.ShloMosaic.Lib.Affine

@[expose] public section

set_option maxRecDepth 16384

noncomputable section

namespace Cert.Proof.Pre

open Idealize.ShloMosaic

/-! ## The stated shapes -/

instance range_facts : Cert.Pre_batch_in_range.Facts where
  bcast_S_S50000 := by decide
  reducesTo_S50000_S_d0 := by decide
  h_S_ := by decide

open Cert.Pre_batch_in_range (S50000x256 S50000 S256 S_)

instance : Subsingleton S_.Idx := ⟨fun _ _ => funext fun a => a.elim0⟩

theorem lt_of_bits {w : BitVec 32} (h : IntOp.andi (IntOp.cmpi .sge w 0#32) (IntOp.cmpi .slt w 64#32) = 1#1) : w.toNat < 64 := by
  obtain ⟨h0, h1⟩ := IntOp.andi_eq_one.1 h
  have h0 := IntOp.cmpi_sge.1 h0
  have h1 := IntOp.cmpi_slt.1 h1
  have e0 : (0#32 : BitVec 32).toInt = 0 := by decide
  have e1 : (64#32 : BitVec 32).toInt = 64 := by decide
  rw [e0] at h0; rw [e1] at h1
  rw [BitVec.toInt_eq_toNat_cond] at h0 h1
  have := w.isLt
  split at h0 <;> omega

variable {F : FTy → Type} [FloatOps F]

theorem in_range {x : FVec F S50000x256 .f32} {b : IVec S50000 32} {g e : FVec F S256 .f32}
    (h : Cert.Pre_batch_in_range.fn x b g e = fun _ => 1#1) (r : S50000.Idx) : (b r).toNat < 64 :=
  lt_of_bits (Host.reduce_andi_all (t := S_) _ _ _ _ (fun a => a.elim0) (congrFun h (fun a => a.elim0)) r)

end Cert.Proof.Pre

end
-- ==== Proof.Setup.lean ====
/-
  The launch set-up of the kernel: its configuration, the resource algebra, the buffers as a tile names them, and the
  carried values of a tile's loops as a tuple of sixteen sums and sixteen sums of squares.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.LoopRemainder
public import proofs.«01_k».proof.Proof.Gen.KernelIdeal

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's labels once its pipelined call is laid over them. -/
abbrev ΛP : Labels := Pipeline.Sig Λ₀ (Fin 1) fun p => (pcfgs (F := F) p).Adm
/-- The SparseCore calls of the kernel. -/
abbrev K : SparseCore.Cfg τ sig (ΛP (F := F)) 1 := sc (F := F)
/-- Its definitions, the pipeline's laid over the bodies'. -/
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the handshakes' rounds, the pipeline's rounds, and the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- Where the pipeline's rounds sit. -/
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP; infer_instance

/-! ## The buffers -/

abbrev xV : Memref sig .scVector .hbm S50000x256 .f32 := Memref.whole main_arg0_scv
abbrev bV : Memref sig .scVector .hbm S96 .i32 := Memref.whole main_v7_scv
abbrev oV : Memref sig .scVector .hbm S32768 .f32 := Memref.whole main_v19_scv
abbrev wA : Memref sig .scVector .vmem S128x256 .f32 := Memref.whole cc0_scratch0
abbrev wB : Memref sig .scVector .vmem S128x256 .f32 := Memref.whole cc0_scratch1
abbrev sV : Memref sig .scVector .vmem S96 .i32 := Memref.whole cc0_scratch2
abbrev cfV : Memref sig .scVector .vmem S1024 .f32 := Memref.whole cc0_scratch3

abbrev cV (L : grid0.Coords) : Fin τ.nSC := (L 0).castLE hcore0
abbrev jV (L : grid0.Coords) : Fin τ.nSub := (L 1).castLE hsub0

/-! ## The carried values -/

/-- Thirty-two vectors of sixteen lanes. -/
abbrev Carry (F : FTy → Type) [FloatOps F] : Type :=
  FVec F S16 .f32 × FVec F S16 .f32 × FVec F S16 .f32 × FVec F S16 .f32 × FVec F S16 .f32 × FVec F S16 .f32 × FVec F S16 .f32 × FVec F S16 .f32 ×
  FVec F S16 .f32 × FVec F S16 .f32 × FVec F S16 .f32 × FVec F S16 .f32 × FVec F S16 .f32 × FVec F S16 .f32 × FVec F S16 .f32 × FVec F S16 .f32 ×
  FVec F S16 .f32 × FVec F S16 .f32 × FVec F S16 .f32 × FVec F S16 .f32 × FVec F S16 .f32 × FVec F S16 .f32 × FVec F S16 .f32 × FVec F S16 .f32 ×
  FVec F S16 .f32 × FVec F S16 .f32 × FVec F S16 .f32 × FVec F S16 .f32 × FVec F S16 .f32 × FVec F S16 .f32 × FVec F S16 .f32 × FVec F S16 .f32

/-- Sixteen lanes of a row of values, from column `16 h`. -/
def vec (f : ℕ → F .f32) (h : ℕ) : FVec F S16 .f32 := fun i => f (16 * h + (i 0).val)

/-- The carried values that hold the row `f` of sums and the row `g` of sums of squares. -/
def tup (f g : ℕ → F .f32) : Carry F :=
  (vec f 0, vec f 1, vec f 2, vec f 3, vec f 4, vec f 5, vec f 6, vec f 7,
   vec f 8, vec f 9, vec f 10, vec f 11, vec f 12, vec f 13, vec f 14, vec f 15,
   vec g 0, vec g 1, vec g 2, vec g 3, vec g 4, vec g 5, vec g 6, vec g 7,
   vec g 8, vec g 9, vec g 10, vec g 11, vec g 12, vec g 13, vec g 14, vec g 15)

/-- The entry of a window at a row and a column, the row and the column taken within bounds. -/
def cell (w : S128x256.Idx → F .f32) (r c : ℕ) : F .f32 :=
  w (fun | 0 => ⟨min r 127, by show min r 127 < 128; omega⟩ | 1 => ⟨min c 255, by show min c 255 < 256; omega⟩)

/-- A row added to a row of sums. -/
def addRow (w : S128x256.Idx → F .f32) (r : ℕ) (f : ℕ → F .f32) : ℕ → F .f32 := fun c => FloatOps.addf (f c) (cell w r c)
/-- The squares of a row added to a row of sums of squares. -/
def addSq (w : S128x256.Idx → F .f32) (r : ℕ) (g : ℕ → F .f32) : ℕ → F .f32 :=
  fun c => FloatOps.addf (g c) (FloatOps.mulf (cell w r c) (cell w r c))

end Cert.Proof.Tile
-- ==== Proof.Words.lean ====
/-
  The words a tile computes from the two bounds of a group: where the aligned start lies, how many pairs of windows
  there are, which rows of a window belong to the group. Each is read as an integer.
-/
module

public import Idealize.ShloMosaic.Lib.LoopRemainder
public import Idealize.ShloMosaic.Lib.Affine.Words

@[expose] public section

namespace Cert.Words

open Idealize.ShloMosaic hiding addi subi muli shrsi divsi maxsi minsi
open Idealize.ShloMosaic.Affine

/-! ## The words -/

/-- The group's first row, rounded down to a multiple of eight. -/
def ast (s : BitVec 32) : BitVec 32 := Scalar.shli (Scalar.shrsi s 3#32) 3#32
/-- The first row of window `c`, before the clamp at the end of the array. -/
def wbase (s c : BitVec 32) : BitVec 32 := Scalar.addi (ast s) (Scalar.muli c 128#32)
/-- The first row that the copy of window `c` takes. -/
def bdma (s c : BitVec 32) : BitVec 32 := Scalar.minsi (wbase s c) 49872#32
/-- The first row of the window that belongs to the group. -/
def lo (s c : BitVec 32) : BitVec 32 :=
  Scalar.minsi 128#32 (Scalar.maxsi 0#32 (Scalar.subi (Scalar.maxsi s (wbase s c)) (bdma s c)))
/-- The row of the window at which the group ends. -/
def hi (s e c : BitVec 32) : BitVec 32 := Scalar.minsi 128#32 (Scalar.maxsi 0#32 (Scalar.subi e (bdma s c)))
/-- The number of steps of four rows. -/
def n4 (s e c : BitVec 32) : BitVec 32 := Scalar.shrsi (Scalar.subi (hi s e c) (lo s c)) 2#32
/-- The row from which the loop of single rows starts. -/
def rest (s e c : BitVec 32) : BitVec 32 := Scalar.addi (lo s c) (Scalar.muli 4#32 (n4 s e c))

/-- The loop of steps of four rows. -/
@[reducible] def loop4 (s e c : BitVec 32) : Scf.Loop 32 :=
  ⟨0#32, Scalar.addi 0#32 (Scalar.muli (Scalar.divsi (Scalar.subi (n4 s e c) 0#32) 1#32) 1#32), 1#32⟩
/-- The loop of single rows. -/
@[reducible] def loop1 (s e c : BitVec 32) : Scf.Loop 32 :=
  ⟨rest s e c, Scalar.addi (rest s e c) (Scalar.muli (Scalar.divsi (Scalar.subi (hi s e c) (rest s e c)) 1#32) 1#32), 1#32⟩

/-- The sign of a word, as the printed floor division takes it. -/
def sgn (x : BitVec 32) : BitVec 32 :=
  Scalar.subi (Scalar.extui (Scalar.cmpi .sgt x 0#32)) (Scalar.extui (Scalar.cmpi .slt x 0#32))
/-- The floor of a quotient, as printed. -/
def fdiv (x d : BitVec 32) : BitVec 32 :=
  Scalar.select (Scalar.andi (Scalar.cmpi .ne (sgn x) (sgn d)) (Scalar.cmpi .ne (Scalar.remsi x d) 0#32))
    (Scalar.subi (Scalar.divsi x d) 1#32) (Scalar.divsi x d)
/-- The number of pairs of windows. -/
def npair (s e : BitVec 32) : BitVec 32 :=
  Scalar.maxsi (fdiv (Scalar.addi (fdiv (Scalar.addi (Scalar.subi e (ast s)) 127#32) 128#32) 1#32) 2#32) 1#32
/-- The loop over pairs of windows. -/
@[reducible] def loopP (s e : BitVec 32) : Scf.Loop 32 :=
  ⟨0#32, Scalar.addi 0#32 (Scalar.muli (Scalar.divsi (Scalar.subi (npair s e) 0#32) 1#32) 1#32), 1#32⟩

/-- The first window of pair `t`. -/
def cA (t : ℕ) : BitVec 32 := Scalar.muli 2#32 (Scf.iv 0#32 1#32 t)
/-- The second window of pair `t`. -/
def cB (t : ℕ) : BitVec 32 := Scalar.addi (Scalar.muli 2#32 (Scf.iv 0#32 1#32 t)) 1#32
/-- The window fetched ahead in pair `t`: the first of the next pair, or the last one again. -/
def cN (s e : BitVec 32) (t : ℕ) : BitVec 32 :=
  Scalar.minsi (Scalar.addi (Scalar.muli 2#32 (Scf.iv 0#32 1#32 t)) 2#32) (Scalar.subi (Scalar.muli 2#32 (npair s e)) 1#32)

/-! ## The same, as integers -/

/-- The aligned start. -/
def Ast (S : ℕ) : ℕ := 8 * (S / 8)
/-- The number of pairs. -/
def Npair (S E : ℕ) : ℕ := max (((E - Ast S + 127) / 128 + 1) / 2) 1
/-- The first row of window `c`'s copy. -/
def Bd (S c : ℕ) : ℕ := min (Ast S + 128 * c) 49872
/-- The first row of window `c` that belongs to the group. -/
def Lo (S c : ℕ) : ℕ := min 128 (max S (Ast S + 128 * c) - Bd S c)
/-- The row of window `c` at which the group ends. -/
def Hi (S E c : ℕ) : ℕ := min 128 (E - Bd S c)
/-- The row from which single rows are taken. -/
def Rest (S E c : ℕ) : ℕ := ((Lo S c : ℤ) + 4 * (((Hi S E c : ℤ) - Lo S c) / 4)).toNat

variable {s e c : BitVec 32}

/-- What is known of the two bounds and of a window's number. -/
structure Bounds (s e : BitVec 32) : Prop where
  le : s.toNat ≤ e.toNat
  le_n : e.toNat ≤ 50000

theorem Bounds.isS (h : Bounds s e) : IsInt s (s.toNat : ℤ) := isInt_toNat s (by have := h.le; have := h.le_n; omega)
theorem Bounds.isE (h : Bounds s e) : IsInt e (e.toNat : ℤ) := isInt_toNat e (by have := h.le_n; omega)

theorem isInt_ast (h : Bounds s e) : IsInt (ast s) (Ast s.toNat : ℤ) := by
  have h1 := h.le; have h2 := h.le_n
  have hs : s.toNat < 2 ^ 31 := by omega
  have hsh : (Scalar.shrsi s 3#32) = s >>> 3 := by
    simp only [Scalar.shrsi, IntOp.shrsi]
    rw [if_pos (by decide)]
    apply BitVec.eq_of_toNat_eq
    rw [BitVec.sshiftRight', BitVec.toNat_sshiftRight_of_msb_false (by rw [BitVec.msb_eq_decide]; simp; omega)]
    simp
  have hl : ast s = (s >>> 3) <<< 3 := by
    rw [ast, hsh]; simp only [Scalar.shli, IntOp.shli]
    rw [if_pos (by decide)]; rfl
  rw [hl]
  have hn : ((s >>> 3) <<< 3).toNat = Ast s.toNat := by
    simp only [BitVec.toNat_shiftLeft, BitVec.toNat_ushiftRight, Nat.shiftRight_eq_div_pow, Nat.shiftLeft_eq, Ast]
    omega
  rw [← hn]
  exact isInt_toNat _ (by rw [hn, Ast]; omega)

theorem isInt_wbase (h : Bounds s e) {n : ℕ} (hc : IsInt c (n : ℤ)) (hn : n < 1000) : IsInt (wbase s c) ((Ast s.toNat + 128 * n : ℕ) : ℤ) := by
  have h1 := h.le; have h2 := h.le_n
  have hA : Ast s.toNat ≤ 50000 := by rw [Ast]; omega
  exact addi (isInt_ast h) (muli (e := 128 * n) hc (isInt_lit 128) (by push_cast; omega)) (by push_cast; omega)

theorem isInt_bdma (h : Bounds s e) {n : ℕ} (hc : IsInt c (n : ℤ)) (hn : n < 1000) : IsInt (bdma s c) (Bd s.toNat n : ℤ) :=
  minsi (isInt_wbase h hc hn) (isInt_lit 49872) (by rw [Bd]; push_cast; omega)

theorem isInt_lo (h : Bounds s e) {n : ℕ} (hc : IsInt c (n : ℤ)) (hn : n < 1000) : IsInt (lo s c) (Lo s.toNat n : ℤ) := by
  have h1 := h.le; have h2 := h.le_n
  have hA : Ast s.toNat ≤ 50000 := by rw [Ast]; omega
  refine minsi (isInt_lit 128) (maxsi (isInt_lit 0) (subi (maxsi h.isS (isInt_wbase h hc hn) rfl) (isInt_bdma h hc hn) ⟨rfl, ?_, ?_⟩) rfl) ?_
  · rw [Bd]; push_cast; omega
  · rw [Bd]; push_cast; omega
  · rw [Lo, Bd]; push_cast; omega

theorem isInt_hi (h : Bounds s e) {n : ℕ} (hc : IsInt c (n : ℤ)) (hn : n < 1000) : IsInt (hi s e c) (Hi s.toNat e.toNat n : ℤ) := by
  have h1 := h.le; have h2 := h.le_n
  refine minsi (isInt_lit 128) (maxsi (isInt_lit 0) (subi h.isE (isInt_bdma h hc hn) ⟨rfl, ?_, ?_⟩) rfl) ?_
  · rw [Bd]; push_cast; omega
  · rw [Bd]; push_cast; omega
  · rw [Hi, Bd]; push_cast; omega

theorem isInt_n4 (h : Bounds s e) {n : ℕ} (hc : IsInt c (n : ℤ)) (hn : n < 1000) :
    IsInt (n4 s e c) (((Hi s.toNat e.toNat n : ℤ) - Lo s.toNat n) / 4) := by
  have hl : Lo s.toNat n ≤ 128 := by rw [Lo]; omega
  have hh : Hi s.toNat e.toNat n ≤ 128 := by rw [Hi]; omega
  refine shrsi (subi (isInt_hi h hc hn) (isInt_lo h hc hn) ⟨rfl, by omega, by omega⟩) (isInt_lit 2) 2 4 (by decide) ⟨rfl, rfl, by decide⟩

theorem rest_nonneg (S E n : ℕ) (h : S ≤ E) : 0 ≤ (Lo S n : ℤ) + 4 * (((Hi S E n : ℤ) - Lo S n) / 4) := by
  rw [Lo, Hi, Bd, Ast]
  rcases Nat.eq_zero_or_pos n with rfl | hn <;> omega

theorem isInt_rest (h : Bounds s e) {n : ℕ} (hc : IsInt c (n : ℤ)) (hn : n < 1000) :
    IsInt (rest s e c) (Rest s.toNat e.toNat n : ℤ) := by
  have hl : Lo s.toNat n ≤ 128 := by rw [Lo]; omega
  have hh : Hi s.toNat e.toNat n ≤ 128 := by rw [Hi]; omega
  have h0 := rest_nonneg s.toNat e.toNat n h.le
  refine addi (isInt_lo h hc hn) (muli (e := 4 * (((Hi s.toNat e.toNat n : ℤ) - Lo s.toNat n) / 4)) (isInt_lit 4) (isInt_n4 h hc hn) (by push_cast; omega)) ?_
  rw [Rest, Int.toNat_of_nonneg h0]
  refine ⟨rfl, by omega, by omega⟩

theorem rest_le (S E n : ℕ) (h : S ≤ E) : Rest S E n ≤ Hi S E n := by
  have h0 := rest_nonneg S E n h
  rw [Rest]; omega

theorem isInt_one : IsInt 1#32 1 := isInt_lit 1
theorem isInt_zero : IsInt 0#32 0 := isInt_lit 0

/-- A loop by steps of one makes as many trips as its bounds lie apart. -/
theorem trips_of {lb ub : BitVec 32} {el eu : ℤ} {n : ℕ} (hl : IsInt lb el) (hu : IsInt ub eu) (h : (eu - el).toNat = n) :
    Scf.trips lb ub 1#32 = n := by
  unfold IsInt at hl hu
  have h1 : (1#32 : BitVec 32).toInt = 1 := by decide
  rw [Scf.trips, hl, hu, h1]
  omega

theorem ub4 (h : Bounds s e) {n : ℕ} (hc : IsInt c (n : ℤ)) (hn : n < 1000) :
    IsInt (loop4 s e c).ub (((Hi s.toNat e.toNat n : ℤ) - Lo s.toNat n) / 4) := by
  have hl : Lo s.toNat n ≤ 128 := by rw [Lo]; omega
  have hh : Hi s.toNat e.toNat n ≤ 128 := by rw [Hi]; omega
  show IsInt (Scalar.addi 0#32 _) _
  rw [Scalar.muli_divsi_one]
  exact addi (isInt_lit 0) (subi (isInt_n4 h hc hn) (isInt_lit 0) ⟨rfl, by push_cast; omega, by push_cast; omega⟩) (by push_cast; omega)

/-- The loop of four-row steps is well formed. -/
theorem ok4 (h : Bounds s e) {n : ℕ} (hc : IsInt c (n : ℤ)) (hn : n < 1000) : (loop4 s e c).OK := by
  have hl : Lo s.toNat n ≤ 128 := by rw [Lo]; omega
  have hh : Hi s.toNat e.toNat n ≤ 128 := by rw [Hi]; omega
  exact ok isInt_zero (ub4 h hc hn) isInt_one ⟨by decide, by omega⟩

/-- It makes one step for every four rows of the group in the window. -/
theorem trips4 (h : Bounds s e) {n : ℕ} (hc : IsInt c (n : ℤ)) (hn : n < 1000) :
    (loop4 s e c).trips = (Hi s.toNat e.toNat n - Lo s.toNat n) / 4 := by
  exact trips_of (isInt_lit 0) (ub4 h hc hn) (by push_cast; omega)

theorem ub1 (h : Bounds s e) {n : ℕ} (hc : IsInt c (n : ℤ)) (hn : n < 1000) :
    IsInt (loop1 s e c).ub (Hi s.toNat e.toNat n : ℤ) := by
  have hh : Hi s.toNat e.toNat n ≤ 128 := by rw [Hi]; omega
  have hr := rest_le s.toNat e.toNat n h.le
  show IsInt (Scalar.addi _ _) _
  rw [Scalar.muli_divsi_one]
  exact addi (isInt_rest h hc hn) (subi (isInt_hi h hc hn) (isInt_rest h hc hn) ⟨rfl, by omega, by omega⟩) (by omega)

/-- The loop of single rows is well formed. -/
theorem ok1 (h : Bounds s e) {n : ℕ} (hc : IsInt c (n : ℤ)) (hn : n < 1000) : (loop1 s e c).OK := by
  have hh : Hi s.toNat e.toNat n ≤ 128 := by rw [Hi]; omega
  have hr := rest_le s.toNat e.toNat n h.le
  exact ok (isInt_rest h hc hn) (ub1 h hc hn) isInt_one ⟨by decide, by omega⟩

/-- It takes the rows left over. -/
theorem trips1 (h : Bounds s e) {n : ℕ} (hc : IsInt c (n : ℤ)) (hn : n < 1000) :
    (loop1 s e c).trips = Hi s.toNat e.toNat n - Rest s.toNat e.toNat n := by
  exact trips_of (isInt_rest h hc hn) (ub1 h hc hn) (by push_cast; omega)

theorem isInt_sgn {x : BitVec 32} {n : ℕ} (hx : IsInt x (n : ℤ)) (hn : 0 < n) : IsInt (sgn x) 1 :=
  subi (extui_holds (sgt_holds hx (isInt_lit 0) (by push_cast; omega)) rfl) (extui_fails (slt_fails hx (isInt_lit 0) (by push_cast; omega)) rfl)
    (by omega)

theorem isInt_fdiv {x : BitVec 32} {n d : ℕ} (hx : IsInt x (n : ℤ)) (hn : 0 < n) (hd : d < 2 ^ 31) (hd' : 0 < d) :
    IsInt (fdiv x (BitVec.ofNat 32 d)) ((n / d : ℕ) : ℤ) := by
  have hD : IsInt (BitVec.ofNat 32 d) (d : ℤ) := ofNat d ⟨rfl, hd⟩
  have hq : IsInt (Scalar.divsi x (BitVec.ofNat 32 d)) ((n / d : ℕ) : ℤ) := divsi hx hD ⟨by push_cast; rfl, by omega, by omega⟩
  rw [fdiv, Affine.select_neg (andi_fails_left (ne_fails (isInt_sgn hx hn) (isInt_sgn hD hd') rfl) trivial)]
  exact hq

theorem isInt_npair (h : Bounds s e) : IsInt (npair s e) (Npair s.toNat e.toNat : ℤ) := by
  have h1 := h.le; have h2 := h.le_n
  have hA : Ast s.toNat ≤ s.toNat := by rw [Ast]; omega
  have hx : IsInt (Scalar.addi (Scalar.subi e (ast s)) 127#32) ((e.toNat - Ast s.toNat + 127 : ℕ) : ℤ) :=
    addi (subi h.isE (isInt_ast h) ⟨rfl, by omega, by omega⟩) (isInt_lit 127) (by push_cast [Nat.cast_sub (show Ast s.toNat ≤ e.toNat by omega)]; omega)
  have hy := isInt_fdiv hx (by omega) (d := 128) (by omega) (by omega)
  have hz : IsInt (Scalar.addi (fdiv (Scalar.addi (Scalar.subi e (ast s)) 127#32) 128#32) 1#32) (((e.toNat - Ast s.toNat + 127) / 128 + 1 : ℕ) : ℤ) :=
    addi hy (isInt_lit 1) (by push_cast; omega)
  have hw := isInt_fdiv hz (by omega) (d := 2) (by omega) (by omega)
  exact maxsi hw (isInt_lit 1) (by rw [Npair]; omega)

theorem npair_le (h : Bounds s e) : 1 ≤ Npair s.toNat e.toNat ∧ Npair s.toNat e.toNat ≤ 196 := by
  have h1 := h.le; have h2 := h.le_n
  rw [Npair]; omega

theorem ubP (h : Bounds s e) : IsInt (loopP s e).ub (Npair s.toNat e.toNat : ℤ) := by
  have hn := npair_le h
  show IsInt (Scalar.addi 0#32 _) _
  rw [Scalar.muli_divsi_one]
  exact addi (isInt_lit 0) (subi (isInt_npair h) (isInt_lit 0) ⟨rfl, by push_cast; omega, by push_cast; omega⟩) (by push_cast; omega)

/-- The loop over pairs is well formed. -/
theorem okP (h : Bounds s e) : (loopP s e).OK := by
  have hn := npair_le h
  exact ok isInt_zero (ubP h) isInt_one ⟨by decide, by omega⟩

/-- It makes one trip for every pair of windows. -/
theorem tripsP (h : Bounds s e) : (loopP s e).trips = Npair s.toNat e.toNat := by
  exact trips_of (isInt_lit 0) (ubP h) (by push_cast; omega)

theorem isInt_iv0 {t : ℕ} (ht : t < 1000) : IsInt (Scf.iv 0#32 1#32 t) (t : ℤ) :=
  Affine.iv (isInt_lit 0) (isInt_lit 1) t (by push_cast; omega)

theorem isInt_cA {t : ℕ} (ht : t < 400) : IsInt (cA t) ((2 * t : ℕ) : ℤ) :=
  muli (isInt_lit 2) (isInt_iv0 (by omega)) (by push_cast; omega)
theorem isInt_cB {t : ℕ} (ht : t < 400) : IsInt (cB t) ((2 * t + 1 : ℕ) : ℤ) :=
  addi (isInt_cA ht) (isInt_lit 1) (by push_cast; omega)
theorem isInt_cN (h : Bounds s e) {t : ℕ} (ht : t < 400) :
    IsInt (cN s e t) ((min (2 * t + 2) (2 * Npair s.toNat e.toNat - 1) : ℕ) : ℤ) := by
  have hn := npair_le h
  exact minsi (addi (e := 2 * t + 2) (isInt_cA ht) (isInt_lit 2) (by push_cast; omega))
    (subi (e := 2 * Npair s.toNat e.toNat - 1) (muli (e := 2 * Npair s.toNat e.toNat) (isInt_lit 2) (isInt_npair h) (by push_cast; omega)) (isInt_lit 1) (by push_cast; omega)) (by push_cast; omega)

/-! ## Rows in bounds -/

/-- The row that step `k` of four starts at, plus `d`. -/
def row4 (s c : BitVec 32) (k : ℕ) : BitVec 32 := Scalar.addi (lo s c) (Scalar.muli 4#32 (Scf.iv 0#32 1#32 k))

theorem toNat_row4 (h : Bounds s e) {n : ℕ} (hc : IsInt c (n : ℤ)) (hn : n < 1000) {k : ℕ} (hk : k < (loop4 s e c).trips) :
    (row4 s c k).toNat = Lo s.toNat n + 4 * k ∧ Lo s.toNat n + 4 * k + 3 < 128 ∧ Lo s.toNat n + 4 * k + 3 < Hi s.toNat e.toNat n := by
  rw [trips4 h hc hn] at hk
  have hl : Lo s.toNat n ≤ 128 := by rw [Lo]; omega
  have hh : Hi s.toNat e.toNat n ≤ 128 := by rw [Hi]; omega
  have : IsInt (row4 s c k) ((Lo s.toNat n + 4 * k : ℕ) : ℤ) :=
    addi (isInt_lo h hc hn) (muli (e := 4 * k) (isInt_lit 4) (isInt_iv0 (by omega)) (by push_cast; omega)) (by push_cast; omega)
  exact ⟨nat_eq this _ rfl, by omega, by omega⟩

theorem toNat_row4_add (h : Bounds s e) {n : ℕ} (hc : IsInt c (n : ℤ)) (hn : n < 1000) {k : ℕ} (hk : k < (loop4 s e c).trips) {r : ℕ} (hr : r < 4) :
    (Scalar.addi (row4 s c k) (BitVec.ofNat 32 r)).toNat = Lo s.toNat n + 4 * k + r := by
  obtain ⟨h1, h2, h3⟩ := toNat_row4 h hc hn hk
  have : IsInt (row4 s c k) ((Lo s.toNat n + 4 * k : ℕ) : ℤ) := by rw [← h1]; exact isInt_toNat _ (by omega)
  exact nat_eq (ea := ((Lo s.toNat n + 4 * k + r : ℕ) : ℤ)) (addi this (ofNat r ⟨rfl, by omega⟩) (by push_cast; omega)) _ rfl

theorem toNat_row1 (h : Bounds s e) {n : ℕ} (hc : IsInt c (n : ℤ)) (hn : n < 1000) {k : ℕ} (hk : k < (loop1 s e c).trips) :
    (Scf.iv (rest s e c) 1#32 k).toNat = Rest s.toNat e.toNat n + k ∧ Rest s.toNat e.toNat n + k < 128 := by
  have hh : Hi s.toNat e.toNat n ≤ 128 := by rw [Hi]; omega
  rw [trips1 h hc hn] at hk
  have : IsInt (Scf.iv (rest s e c) 1#32 k) ((Rest s.toNat e.toNat n + k : ℕ) : ℤ) :=
    Affine.iv (isInt_rest h hc hn) (isInt_lit 1) k (by push_cast; omega)
  exact ⟨nat_eq this _ rfl, by omega⟩

end Cert.Words
-- ==== Proof.Rows.lean ====
/-
  What one step of a tile's inner loops computes: the loop of single rows adds one row of its window to the carried
  sums, and the row's squares to the sums of squares; the loop of four-row steps does so for four rows in order.
-/
module

public import proofs.«01_k».proof.Proof.Setup
public import proofs.«01_k».proof.Proof.Words
public import Idealize.ShloMosaic.Lib.ValueLayout
public import proofs.«01_k».proof.Proof.Gen.KernelIdeal.Skeleton

@[expose] public section

set_option maxRecDepth 16384

noncomputable section

namespace Cert.Proof.Tile

open Cert.KernelIdeal Cert.KernelIdeal.Gen Cert.Words

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A piece of sixteen lanes loaded from window A is a piece of the row. -/
theorem lanesA {f : S128x256.Idx → F .f32} {off : Fin 2 → ℕ} {h : ℕ} {inb : ∀ a, off a + S1x16.size a ≤ S128x256.size a}
    (h1 : off 1 = 16 * h) :
    shapeCast S16 (View.readAt (Elt F) wA.view (Rect.unit (s := S128x256) off S1x16.size inb).toLoadRect f) shapeCasts_S1x16_S16 = vec (cell f (off 0)) h := by
  funext i
  refine (ValueIdx.shapeCast_1a_a_apply _ shapeCasts_S1x16_S16 (i 0)).trans ?_
  show f _ = cell f (off 0) (16 * h + (i 0).val)
  have i0 := inb 0
  have i1 := inb 1
  have hi : (i 0).val < 16 := (i 0).isLt
  change off 0 + 1 ≤ 128 at i0
  change off 1 + 16 ≤ 256 at i1
  rw [cell]
  congr 1
  funext a
  match a with
  | 0 => apply Fin.ext; show off 0 + 1 * 0 = min (off 0) 127; omega
  | 1 => apply Fin.ext; show off 1 + 1 * (i 0).val = min (16 * h + (i 0).val) 255; omega

/-- A row's sixteen lanes added to sixteen lanes of sums. -/
theorem step_add {f : S128x256.Idx → F .f32} {g : ℕ → F .f32} {v : FVec F S16 .f32} {off : Fin 2 → ℕ} {h : ℕ} {inb : ∀ a, off a + S1x16.size a ≤ S128x256.size a}
    (hv : v = vec g h) (h1 : off 1 = 16 * h) :
    addf v (shapeCast S16 (View.readAt (Elt F) wA.view (Rect.unit (s := S128x256) off S1x16.size inb).toLoadRect f) shapeCasts_S1x16_S16)
      = vec (addRow f (off 0) g) h := by
  rw [lanesA h1, hv]; rfl

/-- The squares of a row's sixteen lanes added to sixteen lanes of sums of squares. -/
theorem step_sq {f : S128x256.Idx → F .f32} {g : ℕ → F .f32} {v : FVec F S16 .f32} {off : Fin 2 → ℕ} {h : ℕ} {inb : ∀ a, off a + S1x16.size a ≤ S128x256.size a}
    (hv : v = vec g h) (h1 : off 1 = 16 * h) :
    addf v (mulf (shapeCast S16 (View.readAt (Elt F) wA.view (Rect.unit (s := S128x256) off S1x16.size inb).toLoadRect f) shapeCasts_S1x16_S16)
        (shapeCast S16 (View.readAt (Elt F) wA.view (Rect.unit (s := S128x256) off S1x16.size inb).toLoadRect f) shapeCasts_S1x16_S16))
      = vec (addSq f (off 0) g) h := by
  rw [lanesA h1, hv]; rfl

/-- Four rows added in order, from the row that a word names. -/
def add4 (f : S128x256.Idx → F .f32) (r : BitVec 32) (g : ℕ → F .f32) : ℕ → F .f32 :=
  addRow f (Scalar.addi r 3#32).toNat (addRow f (Scalar.addi r 2#32).toNat (addRow f (Scalar.addi r 1#32).toNat (addRow f r.toNat g)))

/-- The squares of four rows added in order, from the row that a word names. -/
def addSq4 (f : S128x256.Idx → F .f32) (r : BitVec 32) (g : ℕ → F .f32) : ℕ → F .f32 :=
  addSq f (Scalar.addi r 3#32).toNat (addSq f (Scalar.addi r 2#32).toNat (addSq f (Scalar.addi r 1#32).toNat (addSq f r.toNat g)))

variable (d : Dev nD) (L : grid0.Coords)

set_option maxHeartbeats 4000000 in
/-- One step of the loop of four rows of a first window, first group. -/
theorem t2_step {f : Buf (Elt F) ((V d (cV L) (jV L)).loc cc0_scratch0)} {v8 v15 : BitVec 32} {hw2 : k0_chk2 v8 v15} {t : Fin (k0_t1_loop v8 v15).trips}
    {v24 a b v351 : BitVec 32} {k : Fin (k0_t2_loop v8 v15 t).trips} {g h : ℕ → F .f32} {y0 y1 y2 y3 y4 y5 y6 y7 y8 y9 y10 y11 y12 y13 y14 y15 y16 y17 y18 y19 y20 y21 y22 y23 y24 y25 y26 y27 y28 y29 y30 y31 : FVec F S16 .f32} :
    ((wA).view.loc (V d (cV L) (jV L)) ↦{fullShare} f : sProp 𝕄) ⊢ wp frame (wpE (defs₀ (F := F)) 𝒱₀ (V d (cV L) (jV L)) none) Set.univ
      (k0_t2_body L xV (Memref.isWhole_whole _) bV (Memref.isWhole_whole _) oV (Memref.isWhole_whole _)
            wA (Memref.isWhole_whole _) wB (Memref.isWhole_whole _) sV (Memref.isWhole_whole _) cfV (Memref.isWhole_whole _) cc0_scratch4 cc0_scratch5 cc0_scoped0 cc0_scoped1 v8 v15 hw2 v24 a b t y0 y1 y2 y3 y4 y5 y6 y7 y8 y9 y10 y11 y12 y13 y14 y15 y16 y17 y18 y19 y20 y21 y22 y23 y24 y25 y26 y27 y28 y29 y30 y31 v351 k (tup g h))
      (fun r => iprop(⌜r = tup (add4 f (row4 v8 (cA t) k) g) (addSq4 f (row4 v8 (cA t) k) h)⌝
        ∗ (wA).view.loc (V d (cV L) (jV L)) ↦{fullShare} f)) := by
  unfold k0_t2_body tup
  iintro H
  sl_exec_parts
  sl_step
  isplitr
  · ipureintro
    simp only [Prod.mk.injEq]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
    all_goals first | exact step_add (step_add (step_add (step_add rfl rfl) rfl) rfl) rfl | exact step_sq (step_sq (step_sq (step_sq rfl rfl) rfl) rfl) rfl
  · iexact H

set_option maxHeartbeats 4000000 in
/-- One step of the loop of single rows of a first window, first group. -/
theorem t4_step {f : Buf (Elt F) ((V d (cV L) (jV L)).loc cc0_scratch0)} {v8 v15 : BitVec 32} {hw2 : k0_chk2 v8 v15} {t : Fin (k0_t1_loop v8 v15).trips}
    {v24 a b v351 v354 v356 v365 c5 : BitVec 32} {k : Fin (k0_t4_loop v8 v15 t).trips} {g h : ℕ → F .f32} {y0 y1 y2 y3 y4 y5 y6 y7 y8 y9 y10 y11 y12 y13 y14 y15 y16 y17 y18 y19 y20 y21 y22 y23 y24 y25 y26 y27 y28 y29 y30 y31 : FVec F S16 .f32} :
    ((wA).view.loc (V d (cV L) (jV L)) ↦{fullShare} f : sProp 𝕄) ⊢ wp frame (wpE (defs₀ (F := F)) 𝒱₀ (V d (cV L) (jV L)) none) Set.univ
      (k0_t4_body L xV (Memref.isWhole_whole _) bV (Memref.isWhole_whole _) oV (Memref.isWhole_whole _)
            wA (Memref.isWhole_whole _) wB (Memref.isWhole_whole _) sV (Memref.isWhole_whole _) cfV (Memref.isWhole_whole _) cc0_scratch4 cc0_scratch5 cc0_scoped0 cc0_scoped1 v8 v15 hw2 v24 a t b v351 v354 v356 y0 y1 y2 y3 y4 y5 y6 y7 y8 y9 y10 y11 y12 y13 y14 y15 y16 y17 y18 y19 y20 y21 y22 y23 y24 y25 y26 y27 y28 y29 y30 y31 c5 v365 k (tup g h))
      (fun r => iprop(⌜r = tup (addRow f (Scf.iv (rest v8 v15 (cA t)) 1#32 k).toNat g) (addSq f (Scf.iv (rest v8 v15 (cA t)) 1#32 k).toNat h)⌝
        ∗ (wA).view.loc (V d (cV L) (jV L)) ↦{fullShare} f)) := by
  unfold k0_t4_body tup
  iintro H
  sl_exec_parts
  sl_step
  isplitr
  · ipureintro
    simp only [Prod.mk.injEq]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
    all_goals first | exact step_add rfl rfl | exact step_sq rfl rfl
  · iexact H

set_option maxHeartbeats 4000000 in
/-- One step of the loop of four rows of a second window, first group. -/
theorem t6_step {f : Buf (Elt F) ((V d (cV L) (jV L)).loc cc0_scratch1)} {v8 v15 : BitVec 32} {hw2 : k0_chk2 v8 v15} {t : Fin (k0_t1_loop v8 v15).trips}
    {v24 a b v75 v64 v395 : BitVec 32} {y : FVec F S16 .f32} {k : Fin (k0_t6_loop v8 v15 t).trips} {g h : ℕ → F .f32}  :
    ((wB).view.loc (V d (cV L) (jV L)) ↦{fullShare} f : sProp 𝕄) ⊢ wp frame (wpE (defs₀ (F := F)) 𝒱₀ (V d (cV L) (jV L)) none) Set.univ
      (k0_t6_body L xV (Memref.isWhole_whole _) bV (Memref.isWhole_whole _) oV (Memref.isWhole_whole _)
            wA (Memref.isWhole_whole _) wB (Memref.isWhole_whole _) sV (Memref.isWhole_whole _) cfV (Memref.isWhole_whole _) cc0_scratch4 cc0_scratch5 cc0_scoped0 cc0_scoped1 v8 v15 hw2 v24 v64 y a v75 b t v395 k (tup g h))
      (fun r => iprop(⌜r = tup (add4 f (row4 v8 (cB t) k) g) (addSq4 f (row4 v8 (cB t) k) h)⌝
        ∗ (wB).view.loc (V d (cV L) (jV L)) ↦{fullShare} f)) := by
  unfold k0_t6_body tup
  iintro H
  sl_exec_parts
  sl_step
  isplitr
  · ipureintro
    simp only [Prod.mk.injEq]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
    all_goals first | exact step_add (step_add (step_add (step_add rfl rfl) rfl) rfl) rfl | exact step_sq (step_sq (step_sq (step_sq rfl rfl) rfl) rfl) rfl
  · iexact H

set_option maxHeartbeats 4000000 in
/-- One step of the loop of single rows of a second window, first group. -/
theorem t8_step {f : Buf (Elt F) ((V d (cV L) (jV L)).loc cc0_scratch1)} {v8 v15 : BitVec 32} {hw2 : k0_chk2 v8 v15} {t : Fin (k0_t1_loop v8 v15).trips}
    {v24 a b v75 v64 v409 : BitVec 32} {y : FVec F S16 .f32} {k : Fin (k0_t8_loop v8 v15 t).trips} {g h : ℕ → F .f32}  :
    ((wB).view.loc (V d (cV L) (jV L)) ↦{fullShare} f : sProp 𝕄) ⊢ wp frame (wpE (defs₀ (F := F)) 𝒱₀ (V d (cV L) (jV L)) none) Set.univ
      (k0_t8_body L xV (Memref.isWhole_whole _) bV (Memref.isWhole_whole _) oV (Memref.isWhole_whole _)
            wA (Memref.isWhole_whole _) wB (Memref.isWhole_whole _) sV (Memref.isWhole_whole _) cfV (Memref.isWhole_whole _) cc0_scratch4 cc0_scratch5 cc0_scoped0 cc0_scoped1 v8 v15 hw2 v24 v64 y a v75 b t v409 k (tup g h))
      (fun r => iprop(⌜r = tup (addRow f (Scf.iv (rest v8 v15 (cB t)) 1#32 k).toNat g) (addSq f (Scf.iv (rest v8 v15 (cB t)) 1#32 k).toNat h)⌝
        ∗ (wB).view.loc (V d (cV L) (jV L)) ↦{fullShare} f)) := by
  unfold k0_t8_body tup
  iintro H
  sl_exec_parts
  sl_step
  isplitr
  · ipureintro
    simp only [Prod.mk.injEq]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
    all_goals first | exact step_add rfl rfl | exact step_sq rfl rfl
  · iexact H

set_option maxHeartbeats 4000000 in
/-- One step of the loop of four rows of a first window, second group. -/
theorem t20_step {f : Buf (Elt F) ((V d (cV L) (jV L)).loc cc0_scratch0)} {v15 v22 : BitVec 32} {hw3 : k0_chk3 v15 v22} {t : Fin (k0_t19_loop v15 v22).trips}
    {v24 a b v351 : BitVec 32} {k : Fin (k0_t20_loop v15 v22 t).trips} {g h : ℕ → F .f32} {y0 y1 y2 y3 y4 y5 y6 y7 y8 y9 y10 y11 y12 y13 y14 y15 y16 y17 y18 y19 y20 y21 y22 y23 y24 y25 y26 y27 y28 y29 y30 y31 : FVec F S16 .f32} :
    ((wA).view.loc (V d (cV L) (jV L)) ↦{fullShare} f : sProp 𝕄) ⊢ wp frame (wpE (defs₀ (F := F)) 𝒱₀ (V d (cV L) (jV L)) none) Set.univ
      (k0_t20_body L xV (Memref.isWhole_whole _) bV (Memref.isWhole_whole _) oV (Memref.isWhole_whole _)
            wA (Memref.isWhole_whole _) wB (Memref.isWhole_whole _) sV (Memref.isWhole_whole _) cfV (Memref.isWhole_whole _) cc0_scratch4 cc0_scratch5 cc0_scoped0 cc0_scoped1 v15 v22 hw3 v24 a b t y0 y1 y2 y3 y4 y5 y6 y7 y8 y9 y10 y11 y12 y13 y14 y15 y16 y17 y18 y19 y20 y21 y22 y23 y24 y25 y26 y27 y28 y29 y30 y31 v351 k (tup g h))
      (fun r => iprop(⌜r = tup (add4 f (row4 v15 (cA t) k) g) (addSq4 f (row4 v15 (cA t) k) h)⌝
        ∗ (wA).view.loc (V d (cV L) (jV L)) ↦{fullShare} f)) := by
  unfold k0_t20_body tup
  iintro H
  sl_exec_parts
  sl_step
  isplitr
  · ipureintro
    simp only [Prod.mk.injEq]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
    all_goals first | exact step_add (step_add (step_add (step_add rfl rfl) rfl) rfl) rfl | exact step_sq (step_sq (step_sq (step_sq rfl rfl) rfl) rfl) rfl
  · iexact H

set_option maxHeartbeats 4000000 in
/-- One step of the loop of single rows of a first window, second group. -/
theorem t22_step {f : Buf (Elt F) ((V d (cV L) (jV L)).loc cc0_scratch0)} {v15 v22 : BitVec 32} {hw3 : k0_chk3 v15 v22} {t : Fin (k0_t19_loop v15 v22).trips}
    {v24 a b v351 v354 v356 v365 c5 : BitVec 32} {k : Fin (k0_t22_loop v15 v22 t).trips} {g h : ℕ → F .f32} {y0 y1 y2 y3 y4 y5 y6 y7 y8 y9 y10 y11 y12 y13 y14 y15 y16 y17 y18 y19 y20 y21 y22 y23 y24 y25 y26 y27 y28 y29 y30 y31 : FVec F S16 .f32} :
    ((wA).view.loc (V d (cV L) (jV L)) ↦{fullShare} f : sProp 𝕄) ⊢ wp frame (wpE (defs₀ (F := F)) 𝒱₀ (V d (cV L) (jV L)) none) Set.univ
      (k0_t22_body L xV (Memref.isWhole_whole _) bV (Memref.isWhole_whole _) oV (Memref.isWhole_whole _)
            wA (Memref.isWhole_whole _) wB (Memref.isWhole_whole _) sV (Memref.isWhole_whole _) cfV (Memref.isWhole_whole _) cc0_scratch4 cc0_scratch5 cc0_scoped0 cc0_scoped1 v15 v22 hw3 v24 a t b v351 v354 v356 y0 y1 y2 y3 y4 y5 y6 y7 y8 y9 y10 y11 y12 y13 y14 y15 y16 y17 y18 y19 y20 y21 y22 y23 y24 y25 y26 y27 y28 y29 y30 y31 c5 v365 k (tup g h))
      (fun r => iprop(⌜r = tup (addRow f (Scf.iv (rest v15 v22 (cA t)) 1#32 k).toNat g) (addSq f (Scf.iv (rest v15 v22 (cA t)) 1#32 k).toNat h)⌝
        ∗ (wA).view.loc (V d (cV L) (jV L)) ↦{fullShare} f)) := by
  unfold k0_t22_body tup
  iintro H
  sl_exec_parts
  sl_step
  isplitr
  · ipureintro
    simp only [Prod.mk.injEq]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
    all_goals first | exact step_add rfl rfl | exact step_sq rfl rfl
  · iexact H

set_option maxHeartbeats 4000000 in
/-- One step of the loop of four rows of a second window, second group. -/
theorem t24_step {f : Buf (Elt F) ((V d (cV L) (jV L)).loc cc0_scratch1)} {v15 v22 : BitVec 32} {hw3 : k0_chk3 v15 v22} {t : Fin (k0_t19_loop v15 v22).trips}
    {v8 v24 a b v395 : BitVec 32} {hw2 : k0_chk2 v8 v15} {y : FVec F S16 .f32} {k : Fin (k0_t24_loop v15 v22 t).trips} {g h : ℕ → F .f32}  :
    ((wB).view.loc (V d (cV L) (jV L)) ↦{fullShare} f : sProp 𝕄) ⊢ wp frame (wpE (defs₀ (F := F)) 𝒱₀ (V d (cV L) (jV L)) none) Set.univ
      (k0_t24_body L xV (Memref.isWhole_whole _) bV (Memref.isWhole_whole _) oV (Memref.isWhole_whole _)
            wA (Memref.isWhole_whole _) wB (Memref.isWhole_whole _) sV (Memref.isWhole_whole _) cfV (Memref.isWhole_whole _) cc0_scratch4 cc0_scratch5 cc0_scoped0 cc0_scoped1 v8 v15 hw2 v22 hw3 v24 a b y t v395 k (tup g h))
      (fun r => iprop(⌜r = tup (add4 f (row4 v15 (cB t) k) g) (addSq4 f (row4 v15 (cB t) k) h)⌝
        ∗ (wB).view.loc (V d (cV L) (jV L)) ↦{fullShare} f)) := by
  unfold k0_t24_body tup
  iintro H
  sl_exec_parts
  sl_step
  isplitr
  · ipureintro
    simp only [Prod.mk.injEq]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
    all_goals first | exact step_add (step_add (step_add (step_add rfl rfl) rfl) rfl) rfl | exact step_sq (step_sq (step_sq (step_sq rfl rfl) rfl) rfl) rfl
  · iexact H

set_option maxHeartbeats 4000000 in
/-- One step of the loop of single rows of a second window, second group. -/
theorem t26_step {f : Buf (Elt F) ((V d (cV L) (jV L)).loc cc0_scratch1)} {v15 v22 : BitVec 32} {hw3 : k0_chk3 v15 v22} {t : Fin (k0_t19_loop v15 v22).trips}
    {v8 v24 a b v409 : BitVec 32} {hw2 : k0_chk2 v8 v15} {y : FVec F S16 .f32} {k : Fin (k0_t26_loop v15 v22 t).trips} {g h : ℕ → F .f32}  :
    ((wB).view.loc (V d (cV L) (jV L)) ↦{fullShare} f : sProp 𝕄) ⊢ wp frame (wpE (defs₀ (F := F)) 𝒱₀ (V d (cV L) (jV L)) none) Set.univ
      (k0_t26_body L xV (Memref.isWhole_whole _) bV (Memref.isWhole_whole _) oV (Memref.isWhole_whole _)
            wA (Memref.isWhole_whole _) wB (Memref.isWhole_whole _) sV (Memref.isWhole_whole _) cfV (Memref.isWhole_whole _) cc0_scratch4 cc0_scratch5 cc0_scoped0 cc0_scoped1 v8 v15 hw2 v22 hw3 v24 a b y t v409 k (tup g h))
      (fun r => iprop(⌜r = tup (addRow f (Scf.iv (rest v15 v22 (cB t)) 1#32 k).toNat g) (addSq f (Scf.iv (rest v15 v22 (cB t)) 1#32 k).toNat h)⌝
        ∗ (wB).view.loc (V d (cV L) (jV L)) ↦{fullShare} f)) := by
  unfold k0_t26_body tup
  iintro H
  sl_exec_parts
  sl_step
  isplitr
  · ipureintro
    simp only [Prod.mk.injEq]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
    all_goals first | exact step_add rfl rfl | exact step_sq rfl rfl
  · iexact H

end Cert.Proof.Tile
-- ==== Proof.Fold.lean ====
/-
  The sums a tile accumulates, as folds: a run of rows of one window added in order, a window's contribution to its
  group, and the group's sum over its windows in order.
-/
module

public import proofs.«01_k».proof.Proof.Rows

@[expose] public section

noncomputable section

namespace Cert.Proof.Tile

open Cert.KernelIdeal Cert.KernelIdeal.Gen Cert.Words

open Idealize.ShloMosaic
open Idealize.ShloMosaic.Affine (IsInt)

variable {F : FTy → Type} [FloatOps F]

/-- `n` rows of a window, from row `r`, added in order. -/
def sumRows (w : S128x256.Idx → F .f32) (r : ℕ) : ℕ → (ℕ → F .f32) → ℕ → F .f32
  | 0, g => g
  | n + 1, g => addRow w (r + n) (sumRows w r n g)

/-- The squares of `n` rows of a window, from row `r`, added in order. -/
def sqRows (w : S128x256.Idx → F .f32) (r : ℕ) : ℕ → (ℕ → F .f32) → ℕ → F .f32
  | 0, g => g
  | n + 1, g => addSq w (r + n) (sqRows w r n g)

/-- The 128 rows of the array from row `b`. -/
def winOf (X : S50000x256.Idx → F .f32) (b : ℕ) : S128x256.Idx → F .f32 := fun i =>
  X (fun | 0 => ⟨min (b + (i 0).val) 49999, by show min _ 49999 < 50000; omega⟩ | 1 => ⟨(i 1).val, (i 1).isLt⟩)

/-- The rows of a group in its window `c`, added in the order the two loops take them. -/
def winSum (X : S50000x256.Idx → F .f32) (S E c : ℕ) (g : ℕ → F .f32) : ℕ → F .f32 :=
  sumRows (winOf X (Bd S c)) (Rest S E c) (Hi S E c - Rest S E c) (sumRows (winOf X (Bd S c)) (Lo S c) (4 * ((Hi S E c - Lo S c) / 4)) g)

/-- Their squares. -/
def winSq (X : S50000x256.Idx → F .f32) (S E c : ℕ) (g : ℕ → F .f32) : ℕ → F .f32 :=
  sqRows (winOf X (Bd S c)) (Rest S E c) (Hi S E c - Rest S E c) (sqRows (winOf X (Bd S c)) (Lo S c) (4 * ((Hi S E c - Lo S c) / 4)) g)

/-- The zero that the sums start from. -/
def zeroRow : ℕ → F .f32 := fun _ => FloatOps.ofBits .f32 0#32

/-- The sum of a group over its first `n` windows. -/
def grpSum (X : S50000x256.Idx → F .f32) (S E : ℕ) : ℕ → ℕ → F .f32
  | 0 => zeroRow
  | n + 1 => winSum X S E n (grpSum X S E n)

/-- The sum of squares of a group over its first `n` windows. -/
def grpSq (X : S50000x256.Idx → F .f32) (S E : ℕ) : ℕ → ℕ → F .f32
  | 0 => zeroRow
  | n + 1 => winSq X S E n (grpSq X S E n)

variable {s e c : BitVec 32}

/-- Four rows added at once, as four more of a run. -/
theorem add4_eq (h : Bounds s e) {n : ℕ} (hc : IsInt c (n : ℤ)) (hn : n < 1000) {k : ℕ} (hk : k < (loop4 s e c).trips)
    (w : S128x256.Idx → F .f32) (g : ℕ → F .f32) :
    add4 w (row4 s c k) (sumRows w (Lo s.toNat n) (4 * k) g) = sumRows w (Lo s.toNat n) (4 * (k + 1)) g := by
  have h0 := (toNat_row4 h hc hn hk).1
  have hr := fun r hr => toNat_row4_add h hc hn hk (r := r) hr
  rw [add4, show (1#32 : BitVec 32) = BitVec.ofNat 32 1 from rfl, show (2#32 : BitVec 32) = BitVec.ofNat 32 2 from rfl, show (3#32 : BitVec 32) = BitVec.ofNat 32 3 from rfl,
    hr 1 (by omega), hr 2 (by omega), hr 3 (by omega), h0]
  rfl

/-- The squares of four rows added at once, as four more of a run. -/
theorem addSq4_eq (h : Bounds s e) {n : ℕ} (hc : IsInt c (n : ℤ)) (hn : n < 1000) {k : ℕ} (hk : k < (loop4 s e c).trips)
    (w : S128x256.Idx → F .f32) (g : ℕ → F .f32) :
    addSq4 w (row4 s c k) (sqRows w (Lo s.toNat n) (4 * k) g) = sqRows w (Lo s.toNat n) (4 * (k + 1)) g := by
  have h0 := (toNat_row4 h hc hn hk).1
  have hr := fun r hr => toNat_row4_add h hc hn hk (r := r) hr
  rw [addSq4, show (1#32 : BitVec 32) = BitVec.ofNat 32 1 from rfl, show (2#32 : BitVec 32) = BitVec.ofNat 32 2 from rfl, show (3#32 : BitVec 32) = BitVec.ofNat 32 3 from rfl,
    hr 1 (by omega), hr 2 (by omega), hr 3 (by omega), h0]
  rfl

/-- A single row added, as one more of a run. -/
theorem add1_eq (h : Bounds s e) {n : ℕ} (hc : IsInt c (n : ℤ)) (hn : n < 1000) {k : ℕ} (hk : k < (loop1 s e c).trips)
    (w : S128x256.Idx → F .f32) (g : ℕ → F .f32) :
    addRow w (Scf.iv (rest s e c) 1#32 k).toNat (sumRows w (Rest s.toNat e.toNat n) k g) = sumRows w (Rest s.toNat e.toNat n) (k + 1) g := by
  rw [(toNat_row1 h hc hn hk).1]; rfl

/-- A single row's squares added, as one more of a run. -/
theorem addSq1_eq (h : Bounds s e) {n : ℕ} (hc : IsInt c (n : ℤ)) (hn : n < 1000) {k : ℕ} (hk : k < (loop1 s e c).trips)
    (w : S128x256.Idx → F .f32) (g : ℕ → F .f32) :
    addSq w (Scf.iv (rest s e c) 1#32 k).toNat (sqRows w (Rest s.toNat e.toNat n) k g) = sqRows w (Rest s.toNat e.toNat n) (k + 1) g := by
  rw [(toNat_row1 h hc hn hk).1]; rfl

end Cert.Proof.Tile
-- ==== Proof.Checks.lean ====
/-
  The side conditions a tile assumes of the two bounds of a group: every window copied lies in the array, every row
  read lies in its window, and the loops are well formed. They follow from the bounds being in order.
-/
module

public import proofs.«01_k».proof.Proof.Setup
public import proofs.«01_k».proof.Proof.Words

@[expose] public section

set_option maxRecDepth 16384

namespace Cert.Proof.Tile

open Cert.KernelIdeal Cert.KernelIdeal.Gen Cert.Words

open Idealize.ShloMosaic
open Idealize.ShloMosaic.Affine (IsInt)

variable {s e c : BitVec 32}

/-- A piece of sixteen lanes of a row below 128 lies in a window. -/
theorem row_inb {off : Fin 2 → ℕ} {r : ℕ} (h0 : off 0 = r) (h1 : Nat.ble (off 1 + 16) 256 = true) (hr : r < 128) :
    ∀ a, off a + S1x16.size a ≤ S128x256.size a
  | 0 => by show off 0 + 1 ≤ 128; omega
  | 1 => Nat.le_of_ble_eq_true h1

/-- The first of four rows is below 128. -/
theorem row4_lt (h : Bounds s e) {n : ℕ} (hc : IsInt c (n : ℤ)) (hn : n < 1000) {k : ℕ} (hk : k < (loop4 s e c).trips) : (row4 s c k).toNat < 128 := by
  have := toNat_row4 h hc hn hk; omega

/-- The other three are, too. -/
theorem row4_add_lt (h : Bounds s e) {n : ℕ} (hc : IsInt c (n : ℤ)) (hn : n < 1000) {k : ℕ} (hk : k < (loop4 s e c).trips) (r : Fin 3) :
    (Scalar.addi (row4 s c k) (BitVec.ofNat 32 (1 + r.val))).toNat < 128 := by
  have := toNat_row4 h hc hn hk
  rw [toNat_row4_add h hc hn hk (by omega)]; omega

/-- A single row is below 128. -/
theorem row1_lt (h : Bounds s e) {n : ℕ} (hc : IsInt c (n : ℤ)) (hn : n < 1000) {k : ℕ} (hk : k < (loop1 s e c).trips) :
    (Scf.iv (rest s e c) 1#32 k).toNat < 128 := by
  have := toNat_row1 h hc hn hk; omega

/-- The first row of a window's copy, as a natural number. -/
theorem toNat_bdma (h : Bounds s e) {n : ℕ} (hc : IsInt c (n : ℤ)) (hn : n < 1000) : (bdma s c).toNat = Bd s.toNat n :=
  Affine.nat_eq (isInt_bdma h hc hn) _ rfl

/-- A window's copy starts at a multiple of eight. -/
theorem bdma_dvd (h : Bounds s e) {n : ℕ} (hc : IsInt c (n : ℤ)) (hn : n < 1000) : 8 ∣ (bdma s c).toNat := by
  rw [toNat_bdma h hc hn, Bd, Ast]; omega

/-- A window's copy lies in the array. -/
theorem win_inb {off : Fin 2 → ℕ} (h : Bounds s e) {n : ℕ} (hc : IsInt c (n : ℤ)) (hn : n < 1000) (h0 : off 0 = (bdma s c).toNat) (h1 : off 1 = 0) :
    ∀ a, off a + S128x256.size a ≤ S50000x256.size a
  | 0 => by show off 0 + 128 ≤ 50000; rw [h0, toNat_bdma h hc hn, Bd]; omega
  | 1 => by show off 1 + 256 ≤ 256; omega

/-- A pair's number is small. -/
theorem pair_lt (h : Bounds s e) (t : Fin (loopP s e).trips) : t.val < 196 := by
  have h1 := tripsP h; have h2 := npair_le h; have h3 := t.isLt
  omega

theorem isA (h : Bounds s e) (t : Fin (loopP s e).trips) : IsInt (cA t) ((2 * t.val : ℕ) : ℤ) := isInt_cA (by have := pair_lt h t; omega)
theorem isB (h : Bounds s e) (t : Fin (loopP s e).trips) : IsInt (cB t) ((2 * t.val + 1 : ℕ) : ℤ) := isInt_cB (by have := pair_lt h t; omega)
theorem isN (h : Bounds s e) (t : Fin (loopP s e).trips) : IsInt (cN s e t) ((min (2 * t.val + 2) (2 * Npair s.toNat e.toNat - 1) : ℕ) : ℤ) :=
  isInt_cN h (by have := pair_lt h t; omega)
theorem ltA (h : Bounds s e) (t : Fin (loopP s e).trips) : 2 * t.val < 1000 := by have := pair_lt h t; omega
theorem ltB (h : Bounds s e) (t : Fin (loopP s e).trips) : 2 * t.val + 1 < 1000 := by have := pair_lt h t; omega
theorem ltN (h : Bounds s e) (t : Fin (loopP s e).trips) : min (2 * t.val + 2) (2 * Npair s.toNat e.toNat - 1) < 1000 := by have := pair_lt h t; omega

/-- The first copy of a group starts at a multiple of eight. -/
theorem chk0_dvd (h : Bounds s e) : 8 ∣ (Scalar.minsi (Scalar.addi (ast s) 0#32) 49872#32).toNat := by
  have := bdma_dvd h (c := 0#32) (n := 0) (Affine.isInt_lit 0) (by omega)
  have h0 : bdma s 0#32 = Scalar.minsi (Scalar.addi (ast s) 0#32) 49872#32 := by
    rw [bdma, wbase]; congr 2
  rwa [h0] at this

/-- The first copy of a group lies in the array. -/
theorem chk0_inb {off : Fin 2 → ℕ} (h : Bounds s e) (h0 : off 0 = (Scalar.minsi (Scalar.addi (ast s) 0#32) 49872#32).toNat) (h1 : off 1 = 0) :
    ∀ a, off a + S128x256.size a ≤ S50000x256.size a := by
  refine win_inb h (c := 0#32) (n := 0) (Affine.isInt_lit 0) (by omega) (h0.trans ?_) h1
  rw [bdma, wbase]; congr 3

variable {v8 v15 : BitVec 32}

theorem chk2_0 (h : Bounds v8 v15) : k0_chk2_0 v8 v15 := by
  unfold k0_chk2_0
  refine ⟨okP h, ?_⟩
  refine ⟨fun t => bdma_dvd h (isB h t) (ltB h t), ?_⟩
  refine ⟨fun t => win_inb h (isB h t) (ltB h t) rfl rfl, ?_⟩
  refine ⟨fun t => bdma_dvd h (isA h t) (ltA h t), ?_⟩
  refine ⟨fun t => ok4 h (isA h t) (ltA h t), ?_⟩
  iterate 16 refine ⟨fun t k => row_inb rfl rfl (row4_lt h (isA h t) (ltA h t) k.isLt), ?_⟩
  iterate 10 refine ⟨fun t k r => row_inb rfl rfl (row4_add_lt h (isA h t) (ltA h t) k.isLt r), ?_⟩
  exact fun t k r => row_inb rfl rfl (row4_add_lt h (isA h t) (ltA h t) k.isLt r)

theorem chk2_1 (h : Bounds v8 v15) : k0_chk2_1 v8 v15 := by
  unfold k0_chk2_1
  iterate 5 refine ⟨fun t k r => row_inb rfl rfl (row4_add_lt h (isA h t) (ltA h t) k.isLt r), ?_⟩
  refine ⟨fun t => Scf.rem_ok _ _, ?_⟩
  iterate 25 refine ⟨fun t k => (Scf.rem_no_trip _ _ k).elim, ?_⟩
  exact fun t k => (Scf.rem_no_trip _ _ k).elim

theorem chk2_2 (h : Bounds v8 v15) : k0_chk2_2 v8 v15 := by
  unfold k0_chk2_2
  iterate 6 refine ⟨fun t k => (Scf.rem_no_trip _ _ k).elim, ?_⟩
  refine ⟨fun t => ok1 h (isA h t) (ltA h t), ?_⟩
  iterate 16 refine ⟨fun t k => row_inb rfl rfl (row1_lt h (isA h t) (ltA h t) k.isLt), ?_⟩
  refine ⟨fun t => Scf.rem_ok _ _, ?_⟩
  iterate 7 refine ⟨fun t k => (Scf.rem_no_trip _ _ k).elim, ?_⟩
  exact fun t k => (Scf.rem_no_trip _ _ k).elim

theorem chk2_3 (h : Bounds v8 v15) : k0_chk2_3 v8 v15 := by
  unfold k0_chk2_3
  iterate 8 refine ⟨fun t k => (Scf.rem_no_trip _ _ k).elim, ?_⟩
  refine ⟨fun t => bdma_dvd h (isN h t) (ltN h t), ?_⟩
  refine ⟨fun t => win_inb h (isN h t) (ltN h t) rfl rfl, ?_⟩
  refine ⟨fun t => bdma_dvd h (isB h t) (ltB h t), ?_⟩
  refine ⟨fun t => ok4 h (isB h t) (ltB h t), ?_⟩
  iterate 16 refine ⟨fun t k => row_inb rfl rfl (row4_lt h (isB h t) (ltB h t) k.isLt), ?_⟩
  iterate 3 refine ⟨fun t k r => row_inb rfl rfl (row4_add_lt h (isB h t) (ltB h t) k.isLt r), ?_⟩
  exact fun t k r => row_inb rfl rfl (row4_add_lt h (isB h t) (ltB h t) k.isLt r)

theorem chk2_4 (h : Bounds v8 v15) : k0_chk2_4 v8 v15 := by
  unfold k0_chk2_4
  iterate 12 refine ⟨fun t k r => row_inb rfl rfl (row4_add_lt h (isB h t) (ltB h t) k.isLt r), ?_⟩
  refine ⟨fun t => Scf.rem_ok _ _, ?_⟩
  iterate 18 refine ⟨fun t k => (Scf.rem_no_trip _ _ k).elim, ?_⟩
  exact fun t k => (Scf.rem_no_trip _ _ k).elim

theorem chk2_5 (h : Bounds v8 v15) : k0_chk2_5 v8 v15 := by
  unfold k0_chk2_5
  iterate 13 refine ⟨fun t k => (Scf.rem_no_trip _ _ k).elim, ?_⟩
  refine ⟨fun t => ok1 h (isB h t) (ltB h t), ?_⟩
  iterate 16 refine ⟨fun t k => row_inb rfl rfl (row1_lt h (isB h t) (ltB h t) k.isLt), ?_⟩
  refine ⟨fun t => Scf.rem_ok _ _, ?_⟩
  exact fun t k => (Scf.rem_no_trip _ _ k).elim

theorem chk2_6 (h : Bounds v8 v15) : k0_chk2_6 v8 v15 := by
  unfold k0_chk2_6
  iterate 15 refine ⟨fun t k => (Scf.rem_no_trip _ _ k).elim, ?_⟩
  refine ⟨Scf.rem_ok _ _, ?_⟩
  iterate 15 refine ⟨fun t => (Scf.rem_no_trip _ _ t).elim, ?_⟩
  exact fun t => (Scf.rem_no_trip _ _ t).elim

theorem chk2_7 (h : Bounds v8 v15) : k0_chk2_7 v8 v15 := by
  unfold k0_chk2_7
  iterate 31 refine ⟨fun t => (Scf.rem_no_trip _ _ t).elim, ?_⟩
  exact fun t => (Scf.rem_no_trip _ _ t).elim

theorem chk2_8 (h : Bounds v8 v15) : k0_chk2_8 v8 v15 := by
  unfold k0_chk2_8
  iterate 31 refine ⟨fun t => (Scf.rem_no_trip _ _ t).elim, ?_⟩
  exact fun t => (Scf.rem_no_trip _ _ t).elim

theorem chk2_9 (h : Bounds v8 v15) : k0_chk2_9 v8 v15 := by
  unfold k0_chk2_9
  iterate 31 refine ⟨fun t => (Scf.rem_no_trip _ _ t).elim, ?_⟩
  exact fun t => (Scf.rem_no_trip _ _ t).elim

theorem chk2_10 (h : Bounds v8 v15) : k0_chk2_10 v8 v15 := by
  unfold k0_chk2_10
  iterate 31 refine ⟨fun t => (Scf.rem_no_trip _ _ t).elim, ?_⟩
  exact fun t => (Scf.rem_no_trip _ _ t).elim

theorem chk2_11 (h : Bounds v8 v15) : k0_chk2_11 v8 v15 := by
  unfold k0_chk2_11
  iterate 31 refine ⟨fun t => (Scf.rem_no_trip _ _ t).elim, ?_⟩
  exact fun t => (Scf.rem_no_trip _ _ t).elim

theorem chk2_12 (h : Bounds v8 v15) {e : BitVec 32} (h' : Bounds v15 e) : k0_chk2_12 v8 v15 := by
  unfold k0_chk2_12
  iterate 30 refine ⟨fun t => (Scf.rem_no_trip _ _ t).elim, ?_⟩
  exact ⟨chk0_dvd h', chk0_inb h' rfl rfl⟩

end Cert.Proof.Tile
-- ==== Proof.Trip.lean ====
/-
  One pair of windows of a group.
-/
module

public import proofs.«01_k».proof.Proof.Fold
public import proofs.«01_k».proof.Proof.Checks

@[expose] public section

set_option maxRecDepth 16384

noncomputable section

namespace Cert.Proof.Tile

open Cert.KernelIdeal Cert.KernelIdeal.Gen Cert.Words

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- The thread of a tile. -/
abbrev thr : Thread nD τ := V d (cV L) (jV L)

/-- A window's copy into the first buffer in flight: what it delivers, beside the rest of the share of the array. -/
def flyA (q : PosShare TreeShare) (X : S50000x256.Idx → F .f32) (b : ℕ) : sProp 𝕄 :=
  iprop(∃ Sx, Transfers.Flight countersEmb (thr d L) (SemLoc.dma cc0_scratch4.sem) (default : HIx 1) (wA).view.dmaCredit
      iprop(((wA).view.loc (thr d L) ↦{fullShare} (winOf X b : S128x256.Idx → F .f32)) ∗ ((xV).view.loc (thr d L) ↦[Sx]{q} X))
    ∗ ((xV).view.loc (thr d L) ↦[Finset.univ \ Sx]{q} X))

/-- A window read at its first row is the array's 128 rows from that row. -/
theorem win_read {off : Fin 2 → ℕ} {inb : ∀ a, off a + S128x256.size a ≤ S50000x256.size a} {b : ℕ} (h0 : off 0 = b) (h1 : off 1 = 0) (hb : b ≤ 49872)
    (X : S50000x256.Idx → F .f32) :
    ReadAs.same.apply (View.read (Elt F) ((xV).slice (Rect.unit (s := S50000x256) off S128x256.size inb) (fun _ => rfl)).view X) = winOf X b := by
  funext x
  change X ((Rect.unit (s := S50000x256) off S128x256.size inb).emb x) = _
  unfold winOf
  congr 1
  funext a
  refine Fin.ext ?_
  have hx0 : (x 0).val < 128 := (x 0).isLt
  match a with
  | 0 => change off 0 + 1 * (x 0).val = min (b + (x 0).val) 49999; omega
  | 1 => change off 1 + 1 * (x 1).val = (x 1).val; omega

/-- A window landed in the first buffer. -/
theorem landA {off : Fin 2 → ℕ} {inb : ∀ a, off a + S128x256.size a ≤ S50000x256.size a} {b : ℕ} (h0 : off 0 = b) (h1 : off 1 = 0) (hb : b ≤ 49872)
    (X : S50000x256.Idx → F .f32) (f) :
    View.write (Elt F) wA.view f (ReadAs.same.apply (View.read (Elt F) ((xV).slice (Rect.unit (s := S50000x256) off S128x256.size inb) (fun _ => rfl)).view X)) Finset.univ = winOf X b := by
  rw [win_read h0 h1 hb]; exact View.write_whole_univ _ _ _

/-- A window landed in the second buffer. -/
theorem landB {off : Fin 2 → ℕ} {inb : ∀ a, off a + S128x256.size a ≤ S50000x256.size a} {b : ℕ} (h0 : off 0 = b) (h1 : off 1 = 0) (hb : b ≤ 49872)
    (X : S50000x256.Idx → F .f32) (f) :
    View.write (Elt F) wB.view f (ReadAs.same.apply (View.read (Elt F) ((xV).slice (Rect.unit (s := S50000x256) off S128x256.size inb) (fun _ => rfl)).view X)) Finset.univ = winOf X b := by
  rw [win_read h0 h1 hb]; exact View.write_whole_univ _ _ _

/-- A window's first row is at most the array's last window's. -/
theorem Bd_le (S n : ℕ) : Bd S n ≤ 49872 := Nat.min_le_right _ _

set_option maxHeartbeats 8000000 in
/-- One pair of windows of the first group: both windows' rows added to the sums, and the next pair's first window in flight. -/
theorem t1_trip {q : PosShare TreeShare} {X : S50000x256.Idx → F .f32}
    {v8 v15 : BitVec 32} {hw2 : k0_chk2 v8 v15} (hB : Bounds v8 v15) {v24 v64 a b cc : BitVec 32} {y : FVec F S16 .f32}
    {t : Fin (k0_t1_loop v8 v15).trips} {g h : ℕ → F .f32} {O : CellTallies nD τ sig (HIx 1)} {W : Waits sig (HIx 1)} :
    iprop(Transfers.MayWaits (thr d L) (default : HIx 1) O
      ∗ flyA d L q X (Bd v8.toNat (2 * t))
      ∗ (∃ fB, ((wB).view.loc (thr d L) ↦{fullShare} fB))
      ∗ semVal (thr d L, SemLoc.dma cc0_scratch5.sem) 0
      ∗ owes (thr d L) O W : sProp 𝕄) ⊢ wp frame (wpE (defs₀ (F := F)) 𝒱₀ (thr d L) none) Set.univ
      (k0_t1_body L xV (Memref.isWhole_whole _) bV (Memref.isWhole_whole _) oV (Memref.isWhole_whole _)
            wA (Memref.isWhole_whole _) wB (Memref.isWhole_whole _) sV (Memref.isWhole_whole _) cfV (Memref.isWhole_whole _) cc0_scratch4 cc0_scratch5 cc0_scoped0 cc0_scoped1 v8 v15 hw2 v24 v64 y a b cc t (tup g h))
      (fun r => iprop(⌜r = tup (winSum X v8.toNat v15.toNat (2 * t + 1) (winSum X v8.toNat v15.toNat (2 * t) g)) (winSq X v8.toNat v15.toNat (2 * t + 1) (winSq X v8.toNat v15.toNat (2 * t) h))⌝
        ∗ flyA d L q X (Bd v8.toNat (min (2 * t + 2) (2 * Npair v8.toNat v15.toNat - 1)))
        ∗ (∃ fB, ((wB).view.loc (thr d L) ↦{fullShare} fB))
        ∗ semVal (thr d L, SemLoc.dma cc0_scratch5.sem) 0
        ∗ ∃ W', ⌜∀ p ∈ W', p ∈ W ∨ p.2 = none⌝ ∗ owes (thr d L) O W')) := by
  unfold k0_t1_body tup flyA
  iintro ⟨#Hmw, ⟨%Sx, Hfl, Hxr⟩, ⟨%fB, HB⟩, HsB, HO⟩
  rw [k0_part33_eq_skeleton, k0_part34_eq_skeleton]
  sl_unfold [k0_part33_skel, k0_part34_skel]
  generalize h2 : @k0_t2_body F _ = T2
  generalize h4 : @k0_t4_body F _ = T4
  generalize h6 : @k0_t6_body F _ = T6
  generalize h8 : @k0_t8_body F _ = T8
  rw [wp_bind]
  sl_exec
  sl_for (fun k acc => iprop(⌜acc = tup (sumRows (winOf X (Bd v8.toNat (2 * t))) (Lo v8.toNat (2 * t)) (4 * k) g) (sqRows (winOf X (Bd v8.toNat (2 * t))) (Lo v8.toNat (2 * t)) (4 * k) h)⌝
    ∗ (wA).view.loc (thr d L) ↦{fullShare} winOf X (Bd v8.toNat (2 * t)))) $$ [Hfl_dst]
  case region =>
    intro k acc
    subst h2
    iintro ⟨%he, H⟩
    subst he
    refine (t2_step d L).trans (wp_mono _ _ _ fun r => ?_)
    rw [add4_eq hB (isA hB t) (ltA hB t) k.isLt, addSq4_eq hB (isA hB t) (ltA hB t) k.isLt]
  · isplitr
    · ipureintro; rfl
    · iexact Hfl_dst
  iintro %acc ⟨%he, HA⟩
  rw [show Scf.trips (k0_t2_loop v8 v15 t).lb (k0_t2_loop v8 v15 t).ub (k0_t2_loop v8 v15 t).st = _ from trips4 hB (isA hB t) (ltA hB t)] at he
  generalize hg1 : sumRows (winOf X (Bd v8.toNat (2 * t))) (Lo v8.toNat (2 * t)) (4 * _) g = g1 at he
  generalize hh1 : sqRows (winOf X (Bd v8.toNat (2 * t))) (Lo v8.toNat (2 * t)) (4 * _) h = h1 at he
  subst he
  unfold tup
  sl_exec
  rw [wp_bind]
  sl_for (fun k acc => iprop(⌜acc = tup (sumRows (winOf X (Bd v8.toNat (2 * t))) (Rest v8.toNat v15.toNat (2 * t)) k g1) (sqRows (winOf X (Bd v8.toNat (2 * t))) (Rest v8.toNat v15.toNat (2 * t)) k h1)⌝
    ∗ (wA).view.loc (thr d L) ↦{fullShare} winOf X (Bd v8.toNat (2 * t)))) $$ [HA]
  case region =>
    intro k acc
    subst h4
    iintro ⟨%he, H⟩
    subst he
    refine (t4_step d L).trans (wp_mono _ _ _ fun r => ?_)
    rw [add1_eq hB (isA hB t) (ltA hB t) k.isLt, addSq1_eq hB (isA hB t) (ltA hB t) k.isLt]
  · isplitr
    · ipureintro; rfl
    · iexact HA
  iintro %acc ⟨%he, HA⟩
  rw [show Scf.trips (k0_t4_loop v8 v15 t).lb (k0_t4_loop v8 v15 t).ub (k0_t4_loop v8 v15 t).st = _ from trips1 hB (isA hB t) (ltA hB t)] at he
  rw [← hg1, ← hh1] at he
  change acc = tup (winSum X v8.toNat v15.toNat (2 * t) g) (winSq X v8.toNat v15.toNat (2 * t) h) at he
  generalize winSum X v8.toNat v15.toNat (2 * t) g = g2 at he ⊢
  generalize winSq X v8.toNat v15.toNat (2 * t) h = h2' at he ⊢
  subst he
  unfold tup
  sl_exec
  unfold t1_trip.sl.dma0 t1_trip.sl.dma0_1
  rw [landB (off := k0_off3 v8 v15 t) (b := Bd v8.toNat (2 * t + 1)) (toNat_bdma hB (isB hB t) (ltB hB t)) rfl (Bd_le _ _),
    landA (off := k0_off100 v8 v15 t) (b := Bd v8.toNat (min (2 * t + 2) (2 * Npair v8.toNat v15.toNat - 1))) (toNat_bdma hB (isN hB t) (ltN hB t)) rfl (Bd_le _ _)]
  sl_for (fun k acc => iprop(⌜acc = tup (sumRows (winOf X (Bd v8.toNat (2 * t + 1))) (Lo v8.toNat (2 * t + 1)) (4 * k) g2) (sqRows (winOf X (Bd v8.toNat (2 * t + 1))) (Lo v8.toNat (2 * t + 1)) (4 * k) h2')⌝
    ∗ (wB).view.loc (thr d L) ↦{fullShare} winOf X (Bd v8.toNat (2 * t + 1)))) $$ [HB]
  case region =>
    intro k acc
    subst h6
    iintro ⟨%he, H⟩
    subst he
    refine (t6_step d L).trans (wp_mono _ _ _ fun r => ?_)
    rw [add4_eq hB (isB hB t) (ltB hB t) k.isLt, addSq4_eq hB (isB hB t) (ltB hB t) k.isLt]
  · isplitr
    · ipureintro; rfl
    · iexact HB
  iintro %acc ⟨%he, HB⟩
  rw [show Scf.trips (k0_t6_loop v8 v15 t).lb (k0_t6_loop v8 v15 t).ub (k0_t6_loop v8 v15 t).st = _ from trips4 hB (isB hB t) (ltB hB t)] at he
  generalize hg3 : sumRows (winOf X (Bd v8.toNat (2 * t + 1))) (Lo v8.toNat (2 * t + 1)) (4 * _) g2 = g3 at he
  generalize hh3 : sqRows (winOf X (Bd v8.toNat (2 * t + 1))) (Lo v8.toNat (2 * t + 1)) (4 * _) h2' = h3 at he
  subst he
  unfold tup
  sl_exec
  sl_for (fun k acc => iprop(⌜acc = tup (sumRows (winOf X (Bd v8.toNat (2 * t + 1))) (Rest v8.toNat v15.toNat (2 * t + 1)) k g3) (sqRows (winOf X (Bd v8.toNat (2 * t + 1))) (Rest v8.toNat v15.toNat (2 * t + 1)) k h3)⌝
    ∗ (wB).view.loc (thr d L) ↦{fullShare} winOf X (Bd v8.toNat (2 * t + 1)))) $$ [HB]
  case region =>
    intro k acc
    subst h8
    iintro ⟨%he, H⟩
    subst he
    refine (t8_step d L).trans (wp_mono _ _ _ fun r => ?_)
    rw [add1_eq hB (isB hB t) (ltB hB t) k.isLt, addSq1_eq hB (isB hB t) (ltB hB t) k.isLt]
  · isplitr
    · ipureintro; rfl
    · iexact HB
  iintro %acc ⟨%he, HB⟩
  rw [show Scf.trips (k0_t8_loop v8 v15 t).lb (k0_t8_loop v8 v15 t).ub (k0_t8_loop v8 v15 t).st = _ from trips1 hB (isB hB t) (ltB hB t)] at he
  rw [← hg3, ← hh3] at he
  change acc = tup (winSum X v8.toNat v15.toNat (2 * t + 1) g2) (winSq X v8.toNat v15.toNat (2 * t + 1) h2') at he
  generalize winSum X v8.toNat v15.toNat (2 * t + 1) g2 = g4 at he ⊢
  generalize winSq X v8.toNat v15.toNat (2 * t + 1) h2' = h4' at he ⊢
  subst he
  unfold tup
  sl_exec
  sl_step
  isplitr
  · ipureintro; rfl
  isplitl [Hfl Hxr]
  · iexists _
    isplitl [Hfl]
    · iexact Hfl
    · iexact Hxr
  isplitl [HB]
  · iexists _; iexact HB
  isplitl [HsB]
  · iexact HsB
  iexists _
  isplitr
  swap
  · iexact HO
  ipureintro
  intro p hp
  rw [Finset.mem_insert, Finset.mem_insert] at hp
  rcases hp with rfl | rfl | hp
  · exact .inr rfl
  · exact .inr rfl
  · exact .inl hp

end Cert.Proof.Tile
-- ==== Proof.Checks2.lean ====
/-
  The side conditions of a whole group: those of its first copy, those of the first group's loops, and those of the
  second group's loops, which are the first group's at the next bounds.
-/
module

public import proofs.«01_k».proof.Proof.Checks

@[expose] public section

set_option maxRecDepth 65536
set_option maxHeartbeats 0

namespace Cert.Proof.Tile

open Cert.KernelIdeal Cert.KernelIdeal.Gen Cert.Words

open Idealize.ShloMosaic
open Idealize.ShloMosaic.Affine (IsInt)

variable {v8 v15 v22 : BitVec 32}

theorem chk1 (h : Bounds v8 v15) : k0_chk1 v8 := ⟨chk0_dvd h, chk0_inb h rfl rfl⟩

theorem chk2 (h : Bounds v8 v15) (h' : Bounds v15 v22) : k0_chk2 v8 v15 :=
  ⟨chk2_0 h, chk2_1 h, chk2_2 h, chk2_3 h, chk2_4 h, chk2_5 h, chk2_6 h, chk2_7 h, chk2_8 h, chk2_9 h, chk2_10 h, chk2_11 h, chk2_12 h h'⟩

theorem chk3_12 (h : Bounds v15 v22) : k0_chk3_12 v15 v22 := by
  unfold k0_chk3_12
  iterate 29 refine ⟨fun t => (Scf.rem_no_trip _ _ t).elim, ?_⟩
  exact fun t => (Scf.rem_no_trip _ _ t).elim

theorem chk3 (h : Bounds v15 v22) : k0_chk3 v15 v22 :=
  ⟨chk2_0 h, chk2_1 h, chk2_2 h, chk2_3 h, chk2_4 h, chk2_5 h, chk2_6 h, chk2_7 h, chk2_8 h, chk2_9 h, chk2_10 h, chk2_11 h, chk3_12 h⟩

end Cert.Proof.Tile
-- ==== Proof.Pair.lean ====
/-
  The loop over a group's pairs of windows, as an invariant; the second group's trips are the first group's at the
  next bounds.
-/
module

public import proofs.«01_k».proof.Proof.Trip
public import proofs.«01_k».proof.Proof.Checks2

@[expose] public section

set_option maxRecDepth 65536

noncomputable section

namespace Cert.Proof.Tile

open Cert.KernelIdeal Cert.KernelIdeal.Gen Cert.Words

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- Before pair `k` of a group: the sums over the windows before it, its first window in flight. -/
def pairInv (q : PosShare TreeShare) (X : S50000x256.Idx → F .f32) (s e : BitVec 32) (O : CellTallies nD τ sig (HIx 1)) (W : Waits sig (HIx 1))
    (k : ℕ) (acc : Carry F) : sProp 𝕄 :=
  iprop(Transfers.MayWaits (thr d L) (default : HIx 1) O
    ∗ ⌜acc = tup (grpSum X s.toNat e.toNat (2 * k)) (grpSq X s.toNat e.toNat (2 * k))⌝
    ∗ flyA d L q X (Bd s.toNat (min (2 * k) (2 * Npair s.toNat e.toNat - 1)))
    ∗ (∃ fB, ((wB).view.loc (thr d L) ↦{fullShare} fB))
    ∗ semVal (thr d L, SemLoc.dma cc0_scratch5.sem) 0
    ∗ ∃ W', ⌜∀ p ∈ W', p ∈ W ∨ p.2 = none⌝ ∗ owes (thr d L) O W')

/-- A pair of windows of the first group takes the loop from one pair to the next. -/
theorem pair1 {q : PosShare TreeShare} {X : S50000x256.Idx → F .f32}
    {v8 v15 : BitVec 32} {hw2 : k0_chk2 v8 v15} (hB : Bounds v8 v15) {v24 v64 a b cc : BitVec 32} {y : FVec F S16 .f32}
    {t : Fin (k0_t1_loop v8 v15).trips} {acc : Carry F} {O : CellTallies nD τ sig (HIx 1)} {W : Waits sig (HIx 1)} :
    pairInv d L q X v8 v15 O W t acc ⊢ wp frame (wpE (defs₀ (F := F)) 𝒱₀ (thr d L) none) Set.univ
      (k0_t1_body L xV (Memref.isWhole_whole _) bV (Memref.isWhole_whole _) oV (Memref.isWhole_whole _)
            wA (Memref.isWhole_whole _) wB (Memref.isWhole_whole _) sV (Memref.isWhole_whole _) cfV (Memref.isWhole_whole _) cc0_scratch4 cc0_scratch5 cc0_scoped0 cc0_scoped1 v8 v15 hw2 v24 v64 y a b cc t acc)
      (fun r => pairInv d L q X v8 v15 O W (t + 1) r) := by
  have ht : t.val < Npair v8.toNat v15.toNat := by exact lt_of_lt_of_eq t.isLt (tripsP hB)
  unfold pairInv
  iintro ⟨#Hmw, %he, Hfl, HB, Hs, %W', %hW', HO⟩
  subst he
  rw [show min (2 * t.val) (2 * Npair v8.toNat v15.toNat - 1) = 2 * t.val by omega]
  iapply (wp_wand frame (wpE (defs₀ (F := F)) 𝒱₀ (thr d L) none) Set.univ) $$ [Hfl HB Hs HO]
  · iapply (t1_trip d L hB (q := q) (X := X) (O := O) (W := W')) $$ [Hfl HB Hs HO]
    isplitr; · iexact Hmw
    isplitl [Hfl]; · iexact Hfl
    isplitl [HB]; · iexact HB
    isplitl [Hs]; · iexact Hs
    iexact HO
  iintro %r ⟨%he, Hfl, HB, Hs, %W2, %hW2, HO⟩
  isplitr; · iexact Hmw
  isplitr; · ipureintro; exact he
  isplitl [Hfl]; · iexact Hfl
  isplitl [HB]; · iexact HB
  isplitl [Hs]; · iexact Hs
  iexists W2
  isplitr
  swap; · iexact HO
  ipureintro
  intro p hp
  rcases hW2 p hp with h | h
  · exact hW' p h
  · exact .inr h

/-- The second group's trip is the first group's at the next bounds. -/
theorem t19_eq {v8 v15 v22 : BitVec 32} (hw1 : k0_chk2 v8 v15) (hw2 : k0_chk2 v15 v22) (hw3 : k0_chk3 v15 v22) (a b c : BitVec 32) (y : FVec F S16 .f32) :
    k0_t19_body L xV (Memref.isWhole_whole _) bV (Memref.isWhole_whole _) oV (Memref.isWhole_whole _)
            wA (Memref.isWhole_whole _) wB (Memref.isWhole_whole _) sV (Memref.isWhole_whole _) cfV (Memref.isWhole_whole _) cc0_scratch4 cc0_scratch5 cc0_scoped0 cc0_scoped1 v8 v15 hw1 v22 hw3 a b c y
      = k0_t1_body L xV (Memref.isWhole_whole _) bV (Memref.isWhole_whole _) oV (Memref.isWhole_whole _)
            wA (Memref.isWhole_whole _) wB (Memref.isWhole_whole _) sV (Memref.isWhole_whole _) cfV (Memref.isWhole_whole _) cc0_scratch4 cc0_scratch5 cc0_scoped0 cc0_scoped1 v15 v22 hw2 a c y 0#32 b 1#32 := by
  have h1 : k0_part101 (F := F) L xV (Memref.isWhole_whole _) bV (Memref.isWhole_whole _) oV (Memref.isWhole_whole _)
            wA (Memref.isWhole_whole _) wB (Memref.isWhole_whole _) sV (Memref.isWhole_whole _) cfV (Memref.isWhole_whole _) cc0_scratch4 cc0_scratch5 cc0_scoped0 cc0_scoped1 v15 v22 hw3
      = k0_part33 L xV (Memref.isWhole_whole _) bV (Memref.isWhole_whole _) oV (Memref.isWhole_whole _)
            wA (Memref.isWhole_whole _) wB (Memref.isWhole_whole _) sV (Memref.isWhole_whole _) cfV (Memref.isWhole_whole _) cc0_scratch4 cc0_scratch5 cc0_scoped0 cc0_scoped1 v15 v22 hw2 := rfl
  have h2 : k0_part102 (F := F) L xV (Memref.isWhole_whole _) bV (Memref.isWhole_whole _) oV (Memref.isWhole_whole _)
            wA (Memref.isWhole_whole _) wB (Memref.isWhole_whole _) sV (Memref.isWhole_whole _) cfV (Memref.isWhole_whole _) cc0_scratch4 cc0_scratch5 cc0_scoped0 cc0_scoped1 v15 v22 hw3
      = k0_part34 L xV (Memref.isWhole_whole _) bV (Memref.isWhole_whole _) oV (Memref.isWhole_whole _)
            wA (Memref.isWhole_whole _) wB (Memref.isWhole_whole _) sV (Memref.isWhole_whole _) cfV (Memref.isWhole_whole _) cc0_scratch4 cc0_scratch5 cc0_scoped0 cc0_scoped1 v15 v22 hw2 := rfl
  unfold k0_t19_body k0_t1_body
  rw [h1, h2]
  rfl

/-- A pair of windows of the second group takes its loop from one pair to the next. -/
theorem pair19 {q : PosShare TreeShare} {X : S50000x256.Idx → F .f32}
    {v8 v15 v22 : BitVec 32} {hw1 : k0_chk2 v8 v15} {hw3 : k0_chk3 v15 v22} (hB : Bounds v15 v22) {a b c : BitVec 32} {y : FVec F S16 .f32}
    {t : Fin (k0_t19_loop v15 v22).trips} {acc : Carry F} {O : CellTallies nD τ sig (HIx 1)} {W : Waits sig (HIx 1)} :
    pairInv d L q X v15 v22 O W t acc ⊢ wp frame (wpE (defs₀ (F := F)) 𝒱₀ (thr d L) none) Set.univ
      (k0_t19_body L xV (Memref.isWhole_whole _) bV (Memref.isWhole_whole _) oV (Memref.isWhole_whole _)
            wA (Memref.isWhole_whole _) wB (Memref.isWhole_whole _) sV (Memref.isWhole_whole _) cfV (Memref.isWhole_whole _) cc0_scratch4 cc0_scratch5 cc0_scoped0 cc0_scoped1 v8 v15 hw1 v22 hw3 a b c y t acc)
      (fun r => pairInv d L q X v15 v22 O W (t + 1) r) := by
  have hB2 : Bounds v22 v22 := ⟨Nat.le_refl _, hB.le_n⟩
  have e := congrFun (congrFun (t19_eq (F := F) L hw1 (chk2 hB hB2) hw3 a b c y) t) acc
  exact (pair1 d L (hw2 := chk2 hB hB2) (t := t) hB).trans (Entails.of_eq (congrArg (fun p => wp frame (wpE (defs₀ (F := F)) 𝒱₀ (thr d L) none) Set.univ p
    (fun r => pairInv d L q X v15 v22 O W (t + 1) r)) e.symm))

end Cert.Proof.Tile
-- ==== Proof.TileStart.lean ====
/-
  The start of a tile's task: its copy of the group bounds, the three bounds it reads, and their side conditions.
-/
module

public import proofs.«01_k».proof.Proof.Pair
public import proofs.«01_k».proof.Proof.Gen.KernelIdeal.Skeleton
public import Idealize.ShloMosaic.Lib.Pointwise.Reshape

@[expose] public section

set_option maxRecDepth 16384

noncomputable section

namespace Cert.Proof.Tile

open Cert.KernelIdeal Cert.KernelIdeal.Gen Cert.Words

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- Word `k` of the table of group bounds. -/
def wrd (B : S96.Idx → BitVec 32) (k : ℕ) : BitVec 32 := B (fun | 0 => ⟨min k 95, by show min k 95 < 96; omega⟩)

/-- The word a tile's first group's bounds start at. -/
abbrev tw (L : grid0.Coords) : ℕ := 4 * (L 1).val + 2 * (L 0).val

/-- A tile's block of the output. -/
abbrev oBlk (L : grid0.Coords) : Memref sig .scVector .hbm S1024 .f32 := (oV).slice (Rect.unit (s := S32768) (k0_off780 L) S1024.size (k0_off780_inb L)) (fun _ => rfl)

/-- What a tile leaves: its two groups' sums and sums of squares. -/
def tileOut (X : S50000x256.Idx → F .f32) (s0 s1 s2 : ℕ) (c : ℕ) : F .f32 :=
  if c < 256 then grpSum X s0 s1 (2 * Npair s0 s1) c
  else if c < 512 then grpSq X s0 s1 (2 * Npair s0 s1) (c - 256)
  else if c < 768 then grpSum X s1 s2 (2 * Npair s1 s2) (c - 512)
  else grpSq X s1 s2 (2 * Npair s1 s2) (c - 768)

/-- The word a tile reads from its copy of the table. -/
theorem word_read (r : Fin 3) (fs : S96.Idx → BitVec 32) (B : S96.Idx → BitVec 32) :
    extractAt ![0] (k0_pay3530 (F := F) (View.readAt (Elt F) sV.view (Rect.unit (s := S96) (k0_off1 L (BitVec.ofNat 32 r.val)) S16.size (k0_off1_inb L r)).toLoadRect
      (View.write (Elt F) sV.view fs (ReadAs.same.apply (View.read (Elt F) bV.view B)) Finset.univ))) inpos_S1_p0 = wrd B (tw L + r.val) := by
  rw [show View.write (Elt F) sV.view fs (ReadAs.same.apply (View.read (Elt F) bV.view B)) Finset.univ = B from View.write_whole_univ _ _ _]
  unfold k0_pay3530
  rw [shapeCast_id]
  change B _ = B _
  congr 1
  funext a
  refine Fin.ext ?_
  have h0 : (L 0).val < 2 := (L 0).isLt
  have h1 : (L 1).val < 16 := (L 1).isLt
  match a with
  | 0 =>
    change k0_off1 L (BitVec.ofNat 32 r.val) 0 + 1 * 0 = min (tw L + r.val) 95
    rw [k0_off1_eq]
    change 4 * (L 1).val + 2 * (L 0).val + r.val + 1 * 0 = min (4 * (L 1).val + 2 * (L 0).val + r.val) 95
    omega

set_option maxHeartbeats 8000000 in
theorem part137_run {qb : PosShare TreeShare} {B : S96.Idx → BitVec 32}
    (hB : Bounds (wrd B (tw L)) (wrd B (tw L + 1))) (hB' : Bounds (wrd B (tw L + 1)) (wrd B (tw L + 2)))
    {O : CellTallies nD τ sig (HIx 1)} {W : Waits sig (HIx 1)} {fs : S96.Idx → BitVec 32} :
    iprop(Transfers.MayWaits (thr d L) (default : HIx 1) O
      ∗ ((bV).view.loc (thr d L) ↦{qb} B)
      ∗ ((sV).view.loc (thr d L) ↦{fullShare} fs)
      ∗ semVal (thr d L, SemLoc.dma cc0_scoped0.sem) 0
      ∗ owes (thr d L) O W : sProp 𝕄) ⊢ wp frame (wpE (defs₀ (F := F)) 𝒱₀ (thr d L) none) Set.univ
      (k0_part137 L xV (Memref.isWhole_whole _) bV (Memref.isWhole_whole _) oV (Memref.isWhole_whole _)
            wA (Memref.isWhole_whole _) wB (Memref.isWhole_whole _) sV (Memref.isWhole_whole _) cfV (Memref.isWhole_whole _) cc0_scratch4 cc0_scratch5 cc0_scoped0 cc0_scoped1)
      (fun r => iprop(⌜r.2.1 = wrd B (tw L) ∧ r.2.2.2.1 = wrd B (tw L + 1) ∧ r.2.2.2.2.2.1 = wrd B (tw L + 2)⌝
        ∗ ((bV).view.loc (thr d L) ↦{qb} B)
        ∗ (∃ fs : S96.Idx → BitVec 32, ((sV).view.loc (thr d L) ↦{fullShare} fs))
        ∗ semVal (thr d L, SemLoc.dma cc0_scoped0.sem) 0
        ∗ ∃ W', ⌜∀ p ∈ W', p ∈ W ∨ p.2 = none⌝ ∗ owes (thr d L) O W')) := by
  rw [k0_part137_eq_skeleton]
  unfold k0_part137_skel
  iintro ⟨#Hmw, Hb, Hs, Hs0, HO⟩
  sl_exec
  have e8 : part137_run.sl.v8 (F := F) .. = wrd B (tw L) := word_read (F := F) L 0 fs B
  iapply (wp_assume _ _ _ _ (by rw [e8]; exact chk1 hB))
  sl_exec
  have e15 : part137_run.sl.v15 (F := F) .. = wrd B (tw L + 1) := word_read (F := F) L 1 fs B
  iapply (wp_assume _ _ _ _ (by rw [e8, e15]; exact chk2 hB hB'))
  sl_exec
  have e22 : part137_run.sl.v22 (F := F) .. = wrd B (tw L + 2) := word_read (F := F) L 2 fs B
  iapply (wp_assume _ _ _ _ (by rw [e15, e22]; exact chk3 hB'))
  sl_exec
  sl_step
  isplitr
  · ipureintro; exact ⟨e8, e15, e22⟩
  isplitl [Hb]; · iexact Hb
  isplitl [Hs]; · iexists _; iexact Hs
  isplitl [Hs0]; · iexact Hs0
  iexists _
  isplitr
  swap; · iexact HO
  ipureintro
  intro p hp
  rw [Finset.mem_insert] at hp
  rcases hp with rfl | hp
  · exact .inr rfl
  · exact .inl hp

end Cert.Proof.Tile
-- ==== Proof.NormVal.lean ====
/-
  What the second call computes, as values: the group a row lies in, the words a point of the grid takes its groups
  from, and a step of its loop read at an entry.
-/
module

public import proofs.«01_k».proof.Proof.TileStart
public import proofs.«01_k».proof.Proof.Gen.KernelIdeal.Skeleton
public import Idealize.ShloMosaic.Lib.Pointwise.Reshape
public import Idealize.ShloMosaic.Lib.Pointwise

@[expose] public section

set_option maxRecDepth 16384

noncomputable section

namespace Cert.Proof.Norm

open Cert.KernelIdeal Cert.KernelIdeal.Gen Cert.Words
open Cert.Proof.Tile (wrd)

open Idealize.ShloMosaic
open Idealize.ShloMosaic.Affine (IsInt isInt_lit)

variable {F : FTy → Type} [FloatOps F]

/-- The table of bounds ascends and ends within the rows. -/
def Asc (b : S96.Idx → BitVec 32) : Prop := ∀ k < 64, Bounds (wrd b k) (wrd b (k + 1))

/-- The groups of a block of a thousand rows: from group `g` on, `n` of them. -/
structure Span (b : S96.Idx → BitVec 32) (i : ℕ) (g n : BitVec 32) : Prop where
  le : g.toNat + n.toNat ≤ 64
  lo : (wrd b g.toNat).toNat ≤ 1000 * i
  hi : 1000 * (i + 1) ≤ (wrd b (g.toNat + n.toNat)).toNat

/-- How many groups end at or before a row: the group the row lies in. -/
def grp (b : S96.Idx → BitVec 32) (r : ℕ) : ℕ := ((Finset.range 63).filter fun k => (wrd b (k + 1)).toNat ≤ r).card

theorem grp_lt (b : S96.Idx → BitVec 32) (r : ℕ) : grp b r < 64 :=
  Nat.lt_succ_of_le ((Finset.card_filter_le _ _).trans (by rw [Finset.card_range]))

theorem asc_mono {b : S96.Idx → BitVec 32} (h : Asc b) {k l : ℕ} (hkl : k ≤ l) (hl : l ≤ 64) : (wrd b k).toNat ≤ (wrd b l).toNat := by
  induction l, hkl using Nat.le_induction with
  | base => exact le_refl _
  | succ n hn ih => exact (ih (by omega)).trans (h n (by omega)).le

/-- A row between a group's bounds lies in it. -/
theorem grp_eq {b : S96.Idx → BitVec 32} (h : Asc b) {g r : ℕ} (hg : g < 64) (h1 : (wrd b g).toNat ≤ r) (h2 : r < (wrd b (g + 1)).toNat) : grp b r = g := by
  have : (Finset.range 63).filter (fun k => (wrd b (k + 1)).toNat ≤ r) = Finset.range g := by
    ext k
    simp only [Finset.mem_filter, Finset.mem_range]
    constructor
    · rintro ⟨hk, hr⟩
      by_contra hc
      have := asc_mono h (k := g + 1) (l := k + 1) (by omega) (by omega)
      omega
    · intro hk
      refine ⟨by omega, ?_⟩
      have := asc_mono h (k := k + 1) (l := g) (by omega) (by omega)
      omega
  unfold grp
  rw [this, Finset.card_range]

/-! ## The words -/

variable {g n : BitVec 32}

theorem isInt_of (x : BitVec 32) (h : x.toNat < 2 ^ 31) : IsInt x (x.toNat : ℤ) := by
  unfold IsInt
  rw [BitVec.toInt_eq_toNat_of_lt (by omega)]

theorem isInt_n (h : g.toNat + n.toNat ≤ 64) : IsInt n (n.toNat : ℤ) := isInt_of n (by omega)
theorem isInt_g (h : g.toNat + n.toNat ≤ 64) : IsInt g (g.toNat : ℤ) := isInt_of g (by omega)

theorem ubN (h : g.toNat + n.toNat ≤ 64) : IsInt (k1_t1_loop n).ub (n.toNat : ℤ) := by
  show IsInt (Scalar.addi 0#32 _) _
  rw [Scalar.muli_divsi_one]
  exact Affine.addi (isInt_lit 0) (Affine.subi (isInt_n h) (isInt_lit 0) ⟨rfl, by push_cast; omega, by push_cast; omega⟩) (by push_cast; omega)

theorem ok1 (h : g.toNat + n.toNat ≤ 64) : (k1_t1_loop n).OK := Affine.ok (isInt_lit 0) (ubN h) (isInt_lit 1) ⟨by decide, by omega⟩
theorem trips1 (h : g.toNat + n.toNat ≤ 64) : (k1_t1_loop n).trips = n.toNat := by
  exact trips_of (isInt_lit 0) (ubN h) (by push_cast; omega)

theorem grpWord (h : g.toNat + n.toNat ≤ 64) {t : ℕ} (ht : t < n.toNat) : (Scalar.addi g (Scf.iv 0#32 1#32 t)).toNat = g.toNat + t :=
  Affine.nat_eq (Affine.addi (e := ((g.toNat + t : ℕ) : ℤ)) (isInt_g h) (isInt_iv0 (by omega)) (by push_cast; omega)) _ rfl
theorem grpWord' (h : g.toNat + n.toNat ≤ 64) {t : ℕ} (ht : t < n.toNat) : (Scalar.addi (Scalar.addi g (Scf.iv 0#32 1#32 t)) 1#32).toNat = g.toNat + t + 1 :=
  Affine.nat_eq (Affine.addi (e := ((g.toNat + t + 1 : ℕ) : ℤ)) (Affine.addi (e := ((g.toNat + t : ℕ) : ℤ)) (isInt_g h) (isInt_iv0 (by omega)) (by push_cast; omega)) (isInt_lit 1) (by push_cast; omega)) _ rfl

theorem off2_at (h : g.toNat + n.toNat ≤ 64) (t : Fin (k1_t1_loop n).trips) : k1_off2 g n t 0 = g.toNat + t :=
  grpWord h (lt_of_lt_of_eq t.isLt (trips1 h))
theorem off3_at (h : g.toNat + n.toNat ≤ 64) (t : Fin (k1_t1_loop n).trips) : k1_off3 g n t 0 = g.toNat + t + 1 :=
  grpWord' h (lt_of_lt_of_eq t.isLt (trips1 h))
theorem off4_at (h : g.toNat + n.toNat ≤ 64) (t : Fin (k1_t1_loop n).trips) : k1_off4 g n t 0 = g.toNat + t ∧ k1_off4 g n t 1 = 0 :=
  ⟨grpWord h (lt_of_lt_of_eq t.isLt (trips1 h)), rfl⟩

/-- What a point of the grid assumes of its two words. -/
theorem chk (h : g.toNat + n.toNat ≤ 64) : k1_chk1 g n := by
  have ht : ∀ t : Fin (k1_t1_loop n).trips, t.val < n.toNat := fun t => lt_of_lt_of_eq t.isLt (trips1 h)
  unfold k1_chk1
  refine ⟨ok1 h, fun t => ?_, fun t => ?_, fun t => ?_, Scf.rem_ok _ _, fun t => (Scf.rem_no_trip _ _ t).elim, fun t => (Scf.rem_no_trip _ _ t).elim, fun t => (Scf.rem_no_trip _ _ t).elim⟩
  · intro a; match a with
    | 0 => show k1_off2 g n t 0 + 1 ≤ 96; rw [off2_at h]; have := ht t; omega
  · intro a; match a with
    | 0 => show k1_off3 g n t 0 + 1 ≤ 96; rw [off3_at h]; have := ht t; omega
  · intro a; match a with
    | 0 => show k1_off4 g n t 0 + 1 ≤ 64; rw [(off4_at h t).1]; have := ht t; omega
    | 1 => show k1_off4 g n t 1 + 256 ≤ 256; rw [(off4_at h t).2]

/-! ## A step of the loop at an entry -/

/-- An entry of a table with a row per group. -/
def tab (A : S64x256.Idx → F .f32) (k c : ℕ) : F .f32 :=
  A (fun | 0 => ⟨min k 63, by show min k 63 < 64; omega⟩ | 1 => ⟨min c 255, by show min c 255 < 256; omega⟩)

/-- A row of such a table, as a vector of one row. -/
def tabRow (A : S64x256.Idx → F .f32) (k : ℕ) : S1x256.Idx → F .f32 := fun j => tab A k (j 1).val

theorem pay1_at (i : grid1.Coords) (j : S1000x1.Idx) :
    k1_pay1 i j = Scalar.addi (Scalar.muli (BitVec.ofNat 32 (i 0).val) 1000#32) (BitVec.ofNat 32 (j 0).val) := by
  unfold k1_pay1
  simp only [pointwise, List.foldl, Nat.zero_mul, Nat.zero_add]
  rfl

theorem isInt_row (i : grid1.Coords) {r : ℕ} (hr : r < 1000) :
    IsInt (Scalar.addi (Scalar.muli (BitVec.ofNat 32 (i 0).val) 1000#32) (BitVec.ofNat 32 r)) ((1000 * (i 0).val + r : ℕ) : ℤ) := by
  have hi : (i 0).val < 50 := (i 0).isLt
  exact Affine.addi (e := ((1000 * (i 0).val + r : ℕ) : ℤ))
    (Affine.muli (e := ((1000 * (i 0).val : ℕ) : ℤ)) (Affine.ofNat (e := ((i 0).val : ℕ)) _ ⟨rfl, by omega⟩) (isInt_lit 1000) (by push_cast; omega))
    (Affine.ofNat (e := (r : ℕ)) _ ⟨rfl, by omega⟩) (by push_cast; omega)

theorem zero_of {c : BitVec 1} (h : ¬ c = 1#1) : c = 0#1 := by revert c; decide

/-- Whether a row lies between two words, as the step computes it. -/
theorem mask_iff (i : grid1.Coords) {r : ℕ} (hr : r < 1000) {s e : BitVec 32} (hs : s.toNat ≤ 50000) (he : e.toNat ≤ 50000) :
    Scalar.andi (Scalar.cmpi .sge (Scalar.addi (Scalar.muli (BitVec.ofNat 32 (i 0).val) 1000#32) (BitVec.ofNat 32 r)) s)
        (Scalar.cmpi .slt (Scalar.addi (Scalar.muli (BitVec.ofNat 32 (i 0).val) 1000#32) (BitVec.ofNat 32 r)) e) = 1#1
      ↔ s.toNat ≤ 1000 * (i 0).val + r ∧ 1000 * (i 0).val + r < e.toNat := by
  have hw := isInt_row i hr
  have hs' := isInt_of s (by omega)
  have he' := isInt_of e (by omega)
  by_cases h1 : s.toNat ≤ 1000 * (i 0).val + r
  · have a1 := Affine.sge_holds hw hs' (by omega)
    by_cases h2 : 1000 * (i 0).val + r < e.toNat
    · have a2 := Affine.slt_holds hw he' (by omega)
      rw [show _ = 1#1 from a1, show _ = 1#1 from a2]
      exact ⟨fun _ => ⟨h1, h2⟩, fun _ => by decide⟩
    · have a2 := Affine.slt_fails hw he' (by omega)
      rw [show _ = 1#1 from a1, zero_of a2]
      exact ⟨fun h => absurd h (by decide), fun h => absurd h.2 h2⟩
  · have a1 := Affine.sge_fails hw hs' (by omega)
    rw [zero_of a1]
    refine ⟨fun h => absurd h ?_, fun h => absurd h.1 h1⟩
    generalize Scalar.cmpi .slt _ e = z
    revert z; decide

theorem pay2_at (i : grid1.Coords) (x : S1000x256.Idx → F .f32) (s e : BitVec 32) (a c : S1x256.Idx → F .f32) (o : S1000x256.Idx → F .f32)
    (hs : s.toNat ≤ 50000) (he : e.toNat ≤ 50000) (j : S1000x256.Idx) :
    k1_pay2 i x s e a c o j
      = if s.toNat ≤ 1000 * (i 0).val + (j 0).val ∧ 1000 * (i 0).val + (j 0).val < e.toNat then
          FloatOps.addf (FloatOps.mulf (x j) (a (ix2 0 (j 1)))) (c (ix2 0 (j 1)))
        else o j := by
  have hj : (j 0).val < 1000 := (j 0).isLt
  unfold k1_pay2
  simp only [shapeCast_id]
  simp only [pointwise]
  rw [pay1_at]
  show Scalar.select (Scalar.andi (Scalar.cmpi .sge (Scalar.addi (Scalar.muli (BitVec.ofNat 32 (i 0).val) 1000#32) (BitVec.ofNat 32 (j 0).val)) s)
        (Scalar.cmpi .slt (Scalar.addi (Scalar.muli (BitVec.ofNat 32 (i 0).val) 1000#32) (BitVec.ofNat 32 (j 0).val)) e)) _ _ = _
  unfold Scalar.select
  by_cases hc : s.toNat ≤ 1000 * (i 0).val + (j 0).val ∧ 1000 * (i 0).val + (j 0).val < e.toNat
  · refine (if_pos ((mask_iff i hj hs he).mpr hc)).trans ?_
    rw [if_pos hc]; rfl
  · refine (if_neg fun h => hc ((mask_iff i hj hs he).mp h)).trans ?_
    rw [if_neg hc]

/-- What a block of rows becomes: each row times its group's row of the one table plus its group's row of the other. -/
def blkOut (b : S96.Idx → BitVec 32) (A C : S64x256.Idx → F .f32) (i : ℕ) (x : S1000x256.Idx → F .f32) : S1000x256.Idx → F .f32 := fun j =>
  FloatOps.addf (FloatOps.mulf (x j) (tab A (grp b (1000 * i + (j 0).val)) (j 1).val)) (tab C (grp b (1000 * i + (j 0).val)) (j 1).val)

/-- A step over group `k` fills in the rows of it, if the rows before it are filled in. -/
theorem step_ok {b : S96.Idx → BitVec 32} (hb : Asc b) {A C : S64x256.Idx → F .f32} (i : grid1.Coords) {x o : S1000x256.Idx → F .f32} {k : ℕ} (hk : k < 64)
    (h : ∀ j, 1000 * (i 0).val + (j 0).val < (wrd b k).toNat → o j = blkOut b A C (i 0).val x j) (j : S1000x256.Idx)
    (hj : 1000 * (i 0).val + (j 0).val < (wrd b (k + 1)).toNat) :
    k1_pay2 i x (wrd b k) (wrd b (k + 1)) (tabRow A k) (tabRow C k) o j = blkOut b A C (i 0).val x j := by
  rw [pay2_at i x _ _ _ _ o ((hb k hk).le.trans (hb k hk).le_n) (hb k hk).le_n]
  by_cases h1 : (wrd b k).toNat ≤ 1000 * (i 0).val + (j 0).val
  · rw [if_pos ⟨h1, hj⟩]
    unfold blkOut
    rw [grp_eq hb hk h1 hj]; rfl
  · rw [if_neg fun hc => h1 hc.1]
    exact h j (by omega)

end Cert.Proof.Norm

end
-- ==== Proof.Norm.lean ====
/-
  The second call's body at a point of its grid.
-/
module

public import proofs.«01_k».proof.Proof.NormVal
public import Idealize.ShloMosaic.Lib.VecWindow

@[expose] public section

set_option maxRecDepth 16384

noncomputable section

namespace Cert.Proof.Norm

open Cert.KernelIdeal Cert.KernelIdeal.Gen Cert.Words
open Cert.Proof.Tile

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (i : grid1.Coords)
variable (a1 : Memref sig .tc .vmem S1000x256 .f32) (w1 : a1.IsWhole) (a2 : Memref sig .tc .smem S96 .i32) (w2 : a2.IsWhole)
  (a3 : Memref sig .tc .smem S50 .i32) (w3 : a3.IsWhole) (a4 : Memref sig .tc .smem S50 .i32) (w4 : a4.IsWhole)
  (a5 : Memref sig .tc .vmem S64x512 .f32) (w5 : a5.IsWhole) (a6 : Memref sig .tc .vmem S64x1 .f32) (w6 : a6.IsWhole)
  (a7 : Memref sig .tc .vmem S1x256 .f32) (w7 : a7.IsWhole) (a8 : Memref sig .tc .vmem S1x256 .f32) (w8 : a8.IsWhole)
  (a9 : Memref sig .tc .vmem S1000x256 .f32) (w9 : a9.IsWhole) (a10 : Memref sig .tc .vmem S64x256 .f32) (w10 : a10.IsWhole)
  (a11 : Memref sig .tc .vmem S64x256 .f32) (w11 : a11.IsWhole)

/-- A buffer of the TensorCore's, at its contents. -/
abbrev at' {sp : Space} {s : Shape} {e : EltTy} (M : Memref sig .tc sp s e) (f : Buf (Elt F) (M.view.loc (d : Thread nD τ))) : sProp 𝕄 :=
  M.view.loc (d : Thread nD τ) ↦[M.view.set]{fullShare} f

theorem word_at {sp : Space} {M : Memref sig .tc sp S96 .i32} {f : Buf (Elt F) (M.view.loc (d : Thread nD τ))} {b : S96.Idx → BitVec 32}
    (h : M.view.read (Elt F) f = b) {off : Fin S96.rank → ℕ} {inb : ∀ a, off a + S1.size a ≤ S96.size a} {hn : 0 < S1.numel} {k : ℕ} (hk : off 0 = k) :
    M.view.readAt (Elt F) (Rect.unit (s := S96) off S1.size inb).toLoadRect f (Shape.Idx.first hn) = wrd b k := by
  have hb : off 0 + 1 ≤ 96 := inb 0
  rw [View.readAt_apply, h]
  unfold wrd
  congr 1
  funext a
  match a with
  | 0 => exact Fin.ext (by show off 0 + 1 * 0 = min k 95; omega)

theorem row_at {sp : Space} {M : Memref sig .tc sp S64x256 .f32} {f : Buf (Elt F) (M.view.loc (d : Thread nD τ))} {A : S64x256.Idx → F .f32}
    (h : M.view.read (Elt F) f = A) {off : Fin S64x256.rank → ℕ} {inb : ∀ a, off a + S1x256.size a ≤ S64x256.size a} {k : ℕ} (hk : off 0 = k ∧ off 1 = 0) :
    M.view.readAt (Elt F) (Rect.unit (s := S64x256) off S1x256.size inb).toLoadRect f = tabRow A k := by
  have hb : off 0 + 1 ≤ 64 := inb 0
  funext j
  have h0 : (j 0).val < 1 := (j 0).isLt
  have h1 : (j 1).val < 256 := (j 1).isLt
  rw [View.readAt_apply, h]
  unfold tabRow tab
  congr 1
  funext a
  match a with
  | 0 => exact Fin.ext (by show off 0 + 1 * (j 0).val = min k 63; omega)
  | 1 => exact Fin.ext (by show off 1 + 1 * (j 1).val = min (j 1).val 255; omega)

theorem read_full {sp : Space} {s : Shape} {e : EltTy} (M : Memref sig .tc sp s e) (f : Buf (Elt F) (M.view.loc (d : Thread nD τ))) {off : Fin s.rank → ℕ}
    {inb : ∀ a, off a + s.size a ≤ s.size a} (x : s.Idx → Elt F e) : M.view.read (Elt F) (M.view.writes (Elt F) f [⟨Rect.unit off s.size inb, x⟩]) = x := by
  funext y
  have h := View.read_writes_cons_emb M.view f (Rect.unit off s.size inb) x [] y
  rwa [show (Rect.unit off s.size inb).emb y = y from funext fun a => Fin.ext (by
    show off a + 1 * (y a).val = (y a).val
    have := inb a; omega)] at h

set_option maxHeartbeats 8000000 in
/-- A trip of the loop over groups. -/
theorem trip_run {v7 : Vec F S1000x256 .f32} {g n : BitVec 32} (hle : g.toNat + n.toNat ≤ 64) {hw : k1_chk1 g n} (t : Fin (k1_t1_loop n).trips) {acc : BitVec 32}
    {b : S96.Idx → BitVec 32} {A C : S64x256.Idx → F .f32}
    {f2 : Buf (Elt F) (a2.view.loc (d : Thread nD τ))} {f9 : Buf (Elt F) (a9.view.loc (d : Thread nD τ))} {f10 : Buf (Elt F) (a10.view.loc (d : Thread nD τ))} {f11 : Buf (Elt F) (a11.view.loc (d : Thread nD τ))}
    (h2 : a2.view.read (Elt F) f2 = b) (h10 : a10.view.read (Elt F) f10 = A) (h11 : a11.view.read (Elt F) f11 = C) :
    iprop(at' d a2 f2 ∗ at' d a9 f9 ∗ at' d a10 f10 ∗ at' d a11 f11 : sProp 𝕄)
      ⊢ wp frame (wpE (defs₀ (F := F)) 𝒱₀ (d : Thread nD τ) none) Set.univ
        (k1_t1_body i a1 w1 a2 w2 a3 w3 a4 w4 a5 w5 a6 w6 a7 w7 a8 w8 a9 w9 a10 w10 a11 w11 v7 g n hw t acc)
        (fun _ => iprop(at' d a2 f2 ∗ at' d a10 f10 ∗ at' d a11 f11
          ∗ ∃ f, ⌜a9.view.read (Elt F) f = k1_pay2 i v7 (wrd b (g.toNat + t.val)) (wrd b (g.toNat + t.val + 1)) (tabRow A (g.toNat + t.val)) (tabRow C (g.toNat + t.val)) (a9.view.read (Elt F) f9)⌝ ∗ at' d a9 f)) := by
  unfold k1_t1_body
  iintro ⟨H2, H9, H10, H11⟩
  sl_exec
  sl_step
  isplitl [H2]; · iexact H2
  isplitl [H10]; · iexact H10
  isplitl [H11]; · iexact H11
  iexists _
  isplitr
  swap; · iexact H9
  ipureintro
  unfold trip_run.sl.r trip_run.sl.r_1
  rw [read_full, word_at d h2 (off2_at hle t), word_at d h2 (off3_at hle t), row_at d h10 (off4_at hle t), row_at d h11 (off4_at hle t), View.readAt_full]

/-- The left half of a table of pairs of rows, and the right one. -/
def lft (S : S64x512.Idx → F .f32) : S64x256.Idx → F .f32 := fun j => S (ix2 (j 0) ⟨(j 1).val, Nat.lt_trans (j 1).isLt (by decide)⟩)
def rgt (S : S64x512.Idx → F .f32) : S64x256.Idx → F .f32 := fun j => S (ix2 (j 0) ⟨256 + (j 1).val, Nat.add_lt_add_left (j 1).isLt 256⟩)

/-- The two tables of the second call, of the counts, the stats, and the weights. -/
def tabA (cnt : S64x1.Idx → F .f32) (S : S64x512.Idx → F .f32) (ga : S1x256.Idx → F .f32) : S64x256.Idx → F .f32 := k1_pay8 cnt (lft S) (rgt S) ga
def tabC (cnt : S64x1.Idx → F .f32) (S : S64x512.Idx → F .f32) (ga be : S1x256.Idx → F .f32) : S64x256.Idx → F .f32 := k1_pay9 cnt (lft S) (rgt S) ga be

theorem lft_at {sp : Space} {M : Memref sig .tc sp S64x512 .f32} {f : Buf (Elt F) (M.view.loc (d : Thread nD τ))} {S : S64x512.Idx → F .f32}
    (h : M.view.read (Elt F) f = S) {inb : ∀ a, (![0, 0] : Fin 2 → ℕ) a + S64x256.size a ≤ S64x512.size a} :
    M.view.readAt (Elt F) (Rect.unit (s := S64x512) ![0, 0] S64x256.size inb).toLoadRect f = lft S := by
  funext j
  rw [View.readAt_apply, h]
  unfold lft
  congr 1
  funext a
  match a with
  | 0 => exact Fin.ext (by show 0 + 1 * (j 0).val = (j 0).val; omega)
  | 1 => exact Fin.ext (by show 0 + 1 * (j 1).val = (j 1).val; omega)
theorem rgt_at {sp : Space} {M : Memref sig .tc sp S64x512 .f32} {f : Buf (Elt F) (M.view.loc (d : Thread nD τ))} {S : S64x512.Idx → F .f32}
    (h : M.view.read (Elt F) f = S) {inb : ∀ a, (![0, 256] : Fin 2 → ℕ) a + S64x256.size a ≤ S64x512.size a} :
    M.view.readAt (Elt F) (Rect.unit (s := S64x512) ![0, 256] S64x256.size inb).toLoadRect f = rgt S := by
  funext j
  rw [View.readAt_apply, h]
  unfold rgt
  congr 1
  funext a
  match a with
  | 0 => exact Fin.ext (by show 0 + 1 * (j 0).val = (j 0).val; omega)
  | 1 => exact Fin.ext (by show 256 + 1 * (j 1).val = 256 + (j 1).val; omega)

/-- A buffer that reads a value, at some contents that do. -/
theorem hold {sp : Space} {s : Shape} {e : EltTy} (M : Memref sig .tc sp s e) (f : Buf (Elt F) (M.view.loc (d : Thread nD τ))) {A : s.Idx → Elt F e}
    (h : M.view.read (Elt F) f = A) : at' d M f ⊢ iprop(∃ f' : Buf (Elt F) (M.view.loc (d : Thread nD τ)), ⌜M.view.read (Elt F) f' = A⌝ ∗ at' d M f' : sProp 𝕄) := by
  iintro H
  iexists f
  isplitr
  · ipureintro; exact h
  iexact H

theorem first_point {i : grid1.Coords} (h : ¬ Scalar.cmpi .ne ((Scalar.extui (Scalar.cmpi .eq (BitVec.ofNat 32 (i 0).val) 0#32) : BitVec 32)) 0#32 = 1#1) : (i 0).val ≠ 0 := by
  intro h0
  rw [h0] at h
  exact h (by decide)

/-- What the body's loop keeps. -/
def loopInv (b : S96.Idx → BitVec 32) (A C : S64x256.Idx → F .f32) (x : S1000x256.Idx → F .f32) (g : BitVec 32)
    (f2 : Buf (Elt F) (a2.view.loc (d : Thread nD τ))) (f10 : Buf (Elt F) (a10.view.loc (d : Thread nD τ))) (f11 : Buf (Elt F) (a11.view.loc (d : Thread nD τ))) (k : ℕ) (_ : BitVec 32) : sProp 𝕄 :=
  iprop(at' d a2 f2 ∗ at' d a10 f10 ∗ at' d a11 f11
    ∗ ∃ f, ⌜∀ j : S1000x256.Idx, 1000 * (i 0).val + (j 0).val < (wrd b (g.toNat + k)).toNat → a9.view.read (Elt F) f j = blkOut b A C (i 0).val x j⌝ ∗ at' d a9 f)

theorem loop_step {g n : BitVec 32} (hle : g.toNat + n.toNat ≤ 64) {hw : k1_chk1 g n} (t : Fin (k1_t1_loop n).trips) {acc : BitVec 32}
    {b : S96.Idx → BitVec 32} (hb : Asc b) {A C : S64x256.Idx → F .f32} {x : S1000x256.Idx → F .f32}
    {f2 : Buf (Elt F) (a2.view.loc (d : Thread nD τ))} {f10 : Buf (Elt F) (a10.view.loc (d : Thread nD τ))} {f11 : Buf (Elt F) (a11.view.loc (d : Thread nD τ))}
    (h2 : a2.view.read (Elt F) f2 = b) (h10 : a10.view.read (Elt F) f10 = A) (h11 : a11.view.read (Elt F) f11 = C) :
    loopInv d i a2 a9 a10 a11 b A C x g f2 f10 f11 t.val acc
      ⊢ wp frame (wpE (defs₀ (F := F)) 𝒱₀ (d : Thread nD τ) none) Set.univ
        (k1_t1_body i a1 w1 a2 w2 a3 w3 a4 w4 a5 w5 a6 w6 a7 w7 a8 w8 a9 w9 a10 w10 a11 w11 x g n hw t acc)
        (fun acc' => loopInv d i a2 a9 a10 a11 b A C x g f2 f10 f11 (t.val + 1) acc') := by
  have ht : t.val < n.toNat := lt_of_lt_of_eq t.isLt (trips1 hle)
  unfold loopInv
  iintro ⟨H2, H10, H11, %f, %hf, H9⟩
  iapply (wp_wand frame (wpE (defs₀ (F := F)) 𝒱₀ (d : Thread nD τ) none) Set.univ) $$ [H2 H9 H10 H11]
  · iapply (trip_run d i a1 w1 a2 w2 a3 w3 a4 w4 a5 w5 a6 w6 a7 w7 a8 w8 a9 w9 a10 w10 a11 w11 hle t h2 h10 h11) $$ [H2 H9 H10 H11]
    isplitl [H2]; · iexact H2
    isplitl [H9]; · iexact H9
    isplitl [H10]; · iexact H10
    iexact H11
  iintro %r ⟨H2, H10, H11, %f', %hf', H9⟩
  isplitl [H2]; · iexact H2
  isplitl [H10]; · iexact H10
  isplitl [H11]; · iexact H11
  iexists _
  isplitr
  swap; · iexact H9
  ipureintro
  intro j hj
  rw [hf']
  exact step_ok hb i (by omega) hf j hj

/-- What the body's buffers hold at a point: the block of rows, the bounds, the spans, the stats, the counts and the weights. -/
structure Ins (b : S96.Idx → BitVec 32) (gl gc : S50.Idx → BitVec 32) (x : S1000x256.Idx → F .f32) (S : S64x512.Idx → F .f32) (cnt : S64x1.Idx → F .f32) (ga be : S1x256.Idx → F .f32)
    (f1 : Buf (Elt F) (a1.view.loc (d : Thread nD τ))) (f2 : Buf (Elt F) (a2.view.loc (d : Thread nD τ))) (f3 : Buf (Elt F) (a3.view.loc (d : Thread nD τ))) (f4 : Buf (Elt F) (a4.view.loc (d : Thread nD τ)))
    (f5 : Buf (Elt F) (a5.view.loc (d : Thread nD τ))) (f6 : Buf (Elt F) (a6.view.loc (d : Thread nD τ))) (f7 : Buf (Elt F) (a7.view.loc (d : Thread nD τ))) (f8 : Buf (Elt F) (a8.view.loc (d : Thread nD τ))) : Prop where
  h1 : a1.view.read (Elt F) f1 = x
  h2 : a2.view.read (Elt F) f2 = b
  h3 : a3.view.read (Elt F) f3 = gl
  h4 : a4.view.read (Elt F) f4 = gc
  h5 : a5.view.read (Elt F) f5 = S
  h6 : a6.view.read (Elt F) f6 = cnt
  h7 : a7.view.read (Elt F) f7 = ga
  h8 : a8.view.read (Elt F) f8 = be

/-- The word at a grid point. -/
def pw (gl : S50.Idx → BitVec 32) (i : ℕ) : BitVec 32 := gl (fun | 0 => ⟨min i 49, by show min i 49 < 50; omega⟩)

theorem pw_at {M : Memref sig .tc .smem S50 .i32} {f : Buf (Elt F) (M.view.loc (d : Thread nD τ))} {b : S50.Idx → BitVec 32}
    (h : M.view.read (Elt F) f = b) {inb : ∀ a, k1_off1 i a + S1.size a ≤ S50.size a} {hn : 0 < S1.numel} :
    M.view.readAt (Elt F) (Rect.unit (s := S50) (k1_off1 i) S1.size inb).toLoadRect f (Shape.Idx.first hn) = pw b (i 0).val := by
  have hi : (i 0).val < 50 := (i 0).isLt
  have ho : k1_off1 i 0 = (i 0).val := by rw [k1_off1_eq]; rfl
  rw [View.readAt_apply, h]
  unfold pw
  congr 1
  funext a
  match a with
  | 0 => exact Fin.ext (by show k1_off1 i 0 + 1 * 0 = min (i 0).val 49; omega)

set_option maxHeartbeats 8000000 in
/-- The body at a grid point: the block's rows, normalised; the two tables in the scratch buffers, computed at the first point. -/
theorem body_run {b : S96.Idx → BitVec 32} (hb : Asc b) {gl gc : S50.Idx → BitVec 32} (hsp : Span b (i 0).val (pw gl (i 0).val) (pw gc (i 0).val))
    {x : S1000x256.Idx → F .f32} {S : S64x512.Idx → F .f32} {cnt : S64x1.Idx → F .f32} {ga be : S1x256.Idx → F .f32}
    {f1 : Buf (Elt F) (a1.view.loc (d : Thread nD τ))} {f2 : Buf (Elt F) (a2.view.loc (d : Thread nD τ))} {f3 : Buf (Elt F) (a3.view.loc (d : Thread nD τ))} {f4 : Buf (Elt F) (a4.view.loc (d : Thread nD τ))}
    {f5 : Buf (Elt F) (a5.view.loc (d : Thread nD τ))} {f6 : Buf (Elt F) (a6.view.loc (d : Thread nD τ))} {f7 : Buf (Elt F) (a7.view.loc (d : Thread nD τ))} {f8 : Buf (Elt F) (a8.view.loc (d : Thread nD τ))}
    {f9 : Buf (Elt F) (a9.view.loc (d : Thread nD τ))} {f10 : Buf (Elt F) (a10.view.loc (d : Thread nD τ))} {f11 : Buf (Elt F) (a11.view.loc (d : Thread nD τ))}
    (H : Ins d a1 a2 a3 a4 a5 a6 a7 a8 b gl gc x S cnt ga be f1 f2 f3 f4 f5 f6 f7 f8)
    (hs : (i 0).val ≠ 0 → a10.view.read (Elt F) f10 = tabA cnt S ga ∧ a11.view.read (Elt F) f11 = tabC cnt S ga be) :
    iprop(at' d a1 f1 ∗ at' d a2 f2 ∗ at' d a3 f3 ∗ at' d a4 f4 ∗ at' d a5 f5 ∗ at' d a6 f6 ∗ at' d a7 f7 ∗ at' d a8 f8 ∗ at' d a9 f9 ∗ at' d a10 f10 ∗ at' d a11 f11 : sProp 𝕄)
      ⊢ wp frame (wpE (defs₀ (F := F)) 𝒱₀ (d : Thread nD τ) none) Set.univ
        (cc1__norm_kernel i a1 w1 a2 w2 a3 w3 a4 w4 a5 w5 a6 w6 a7 w7 a8 w8 a9 w9 a10 w10 a11 w11)
        (fun _ => iprop(at' d a1 f1 ∗ at' d a2 f2 ∗ at' d a3 f3 ∗ at' d a4 f4 ∗ at' d a5 f5 ∗ at' d a6 f6 ∗ at' d a7 f7 ∗ at' d a8 f8
          ∗ (∃ f, ⌜a9.view.read (Elt F) f = blkOut b (tabA cnt S ga) (tabC cnt S ga be) (i 0).val x⌝ ∗ at' d a9 f)
          ∗ (∃ f, ⌜a10.view.read (Elt F) f = tabA cnt S ga⌝ ∗ at' d a10 f) ∗ (∃ f, ⌜a11.view.read (Elt F) f = tabC cnt S ga be⌝ ∗ at' d a11 f))) := by
  rw [cc1__norm_kernel_eq_skeleton]
  unfold cc1__norm_kernel_skel
  iintro ⟨H1, H2, H3, H4, H5, H6, H7, H8, H9, H10, H11⟩
  sl_exec
  have hA : a10.view.read (Elt F) (if hc : body_run.sl.v2 i = 1#1 then
      a10.view.writes (Elt F) f10
        [⟨Rect.unit (s := S64x256) ![0, 0] S64x256.size inb_S64x256_S64x256_0_0,
            k1_pay8 (View.readAt (Elt F) a6.view (Rect.unit (s := S64x1) ![0, 0] S64x1.size inb_S64x1_S64x1_0_0).toLoadRect f6)
              (View.readAt (Elt F) a5.view (Rect.unit (s := S64x512) ![0, 0] S64x256.size inb_S64x512_S64x256_0_0).toLoadRect f5)
              (View.readAt (Elt F) a5.view (Rect.unit (s := S64x512) ![0, 256] S64x256.size inb_S64x512_S64x256_0_256).toLoadRect f5)
              (View.readAt (Elt F) a7.view (Rect.unit (s := S1x256) ![0, 0] S1x256.size inb_S1x256_S1x256_0_0).toLoadRect f7)⟩]
      else f10) = tabA cnt S ga := by
    split
    · unfold tabA
      rw [read_full, View.readAt_full, View.readAt_full, H.h6, H.h7, lft_at d H.h5, rgt_at d H.h5]
    · rename_i hc; exact (hs (first_point hc)).1
  have hC : a11.view.read (Elt F) (if hc : body_run.sl.v2 i = 1#1 then
      a11.view.writes (Elt F) f11
        [⟨Rect.unit (s := S64x256) ![0, 0] S64x256.size inb_S64x256_S64x256_0_0, body_run.sl.r d a5 a6 a7 a8 (f5 := f5) (f6 := f6) (f7 := f7) (f8 := f8)⟩]
      else f11) = tabC cnt S ga be := by
    split
    · unfold tabC body_run.sl.r
      rw [read_full, View.readAt_full, View.readAt_full, View.readAt_full, H.h6, H.h7, H.h8, lft_at d H.h5, rgt_at d H.h5]
    · rename_i hc; exact (hs (first_point hc)).2
  ihave H10 := (hold d a10 _ hA) $$ H10
  ihave H11 := (hold d a11 _ hC) $$ H11
  icases H10 with ⟨%f10', %e10, H10⟩
  icases H11 with ⟨%f11', %e11, H11⟩
  have hsp' : Span b (i 0).val (body_run.sl.r_1 d i a3 (f3 := f3)) (body_run.sl.r_2 d i a4 (f4 := f4)) := by
    unfold body_run.sl.r_1 body_run.sl.r_2
    rw [pw_at d i H.h3, pw_at d i H.h4]; exact hsp
  iapply (wp_assume _ _ _ _ (chk hsp'.le))
  have htr : (k1_t1_loop (body_run.sl.r_2 d i a4 (f4 := f4))).trips = (body_run.sl.r_2 d i a4 (f4 := f4)).toNat := trips1 hsp'.le
  rw [View.readAt_full, H.h1]
  generalize hg : body_run.sl.r_1 d i a3 (f3 := f3) = g at hsp' htr ⊢
  generalize hn : body_run.sl.r_2 d i a4 (f4 := f4) = n at hsp' htr ⊢
  sl_exec
  sl_for (loopInv d i a2 a9 a10 a11 b (tabA cnt S ga) (tabC cnt S ga be) x g f2 f10' f11') $$ [H2 H9 H10 H11]
  case region =>
    intro k acc
    exact loop_step d i a1 w1 a2 w2 a3 w3 a4 w4 a5 w5 a6 w6 a7 w7 a8 w8 a9 w9 a10 w10 a11 w11 hsp'.le k hb H.h2 e10 e11
  · unfold loopInv
    isplitl [H2]; · iexact H2
    isplitl [H10]; · iexact H10
    isplitl [H11]; · iexact H11
    iexists _
    isplitr
    swap; · iexact H9
    ipureintro
    intro j hj
    have := hsp'.lo
    rw [Nat.add_zero] at hj
    omega
  unfold loopInv
  iintro %acc ⟨H2, H10, H11, %f, %hf, H9⟩
  rw [show Scf.trips (k1_t1_loop n).lb (k1_t1_loop n).ub (k1_t1_loop n).st = _ from htr] at hf
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists f
    isplitr
    · ipureintro
      funext j
      have hj : (j 0).val < 1000 := (j 0).isLt
      have := hsp'.hi
      exact hf j (by omega)
    iexact H9
  isplitl [H10]
  · iexists _
    isplitr
    · ipureintro; exact e10
    iexact H10
  iexists _
  isplitr
  · ipureintro; exact e11
  iexact H11

end Cert.Proof.Norm

end
-- ==== Proof.Starts.lean ====
/-
  The host's index arithmetic: the groups' bounds as counts of the rows' words, and the groups each block of a thousand rows
  meets as counts of the bounds.
-/
module

public import proofs.«01_k».proof.Proof.Norm
public import Idealize.ShloMosaic.Lib.IndicatorCount
public import Idealize.ShloMosaic.Lib.KernelVsHost
public import Idealize.ShloMosaic.Lib.Pointwise

@[expose] public section

set_option maxRecDepth 16384

noncomputable section

namespace Cert.Proof.Starts

open Cert.KernelIdeal Cert.KernelIdeal.Gen Cert.Words
open Cert.Proof.Tile (wrd)
open Cert.Proof.Norm (pw Asc Span)
open Idealize.ShloMosaic
open Idealize.ShloMosaic.IndicatorCount

/-! ## The host's words -/

/-- How many rows' words lie below each of 0 … 64. -/
def startsW (b : S50000.Idx → BitVec 32) : S65.Idx → BitVec 32 :=
  Host.reduce IntOp.addi (extui 32 (cmpi .slt (broadcastInDim S50000x65 ![0, 1] bcast_S50000x1_S50000x65_0_1 (broadcastInDim S50000x1 ![0] bcast_S50000_S50000x1_0 b))
    (broadcastInDim S50000x65 ![0, 1] bcast_S1x65_S50000x65_0_1 (broadcastInDim S1x65 ![1] bcast_S65_S1x65_1 (iotaInDim S65 32 0)))) natLt_1_32)
    (constantI S_ 32 0#32) reducesTo_S50000x65_S65_d0 h_S_
/-- The bounds, filled up with the number of rows. -/
def padW (s : S65.Idx → BitVec 32) : S96.Idx → BitVec 32 := pad S96 ![0] ![31] ![0] s (constantI S_ 32 50000#32) pads_S65_S96_0310 h_S_
/-- The first row of each block. -/
def rowW : S50.Idx → BitVec 32 := muli (iotaInDim S50 32 0) (broadcastInDim S50 ![] bcast_S_S50 (constantI S_ 32 1000#32))
/-- The first group of each block. -/
def loW (s : S65.Idx → BitVec 32) : S50.Idx → BitVec 32 :=
  subi (Host.reduce IntOp.addi (extui 32 (cmpi .sle (broadcastInDim S65x50 ![0, 1] bcast_S65x1_S65x50_0_1 (broadcastInDim S65x1 ![0] bcast_S65_S65x1_0 s))
    (broadcastInDim S65x50 ![0, 1] bcast_S1x50_S65x50_0_1 (broadcastInDim S1x50 ![1] bcast_S50_S1x50_1 rowW))) natLt_1_32)
    (constantI S_ 32 0#32) reducesTo_S65x50_S50_d0 h_S_) (broadcastInDim S50 ![] bcast_S_S50 (constantI S_ 32 1#32))
/-- The group after the last of each block. -/
def hiW (s : S65.Idx → BitVec 32) : S50.Idx → BitVec 32 :=
  Host.reduce IntOp.addi (extui 32 (cmpi .slt (broadcastInDim S64x50 ![0, 1] bcast_S64x1_S64x50_0_1 (broadcastInDim S64x1 ![0] bcast_S64_S64x1_0 (extractStridedSlice S64 ![0] s slices_S65_S64_0)))
    (broadcastInDim S64x50 ![0, 1] bcast_S1x50_S64x50_0_1 (broadcastInDim S1x50 ![1] bcast_S50_S1x50_1 (addi rowW (broadcastInDim S50 ![] bcast_S_S50 (constantI S_ 32 1000#32)))))) natLt_1_32)
    (constantI S_ 32 0#32) reducesTo_S64x50_S50_d0 h_S_
/-- How many groups each block meets. -/
def nW (s : S65.Idx → BitVec 32) : S50.Idx → BitVec 32 := subi (hiW s) (loW s)
/-- How many rows each group has. -/
def sizeW (s : S65.Idx → BitVec 32) : S64.Idx → BitVec 32 := subi (extractStridedSlice S64 ![1] s slices_S65_S64_1) (extractStridedSlice S64 ![0] s slices_S65_S64_0)

/-! ## Counting -/

/-- A compared pair of columns, counted. -/
theorem col_at {n m : ℕ} (p : CmpIPredicate) (x : IVec ⟨2, ![n, m]⟩ 32) (y : IVec ⟨2, ![n, m]⟩ 32) {u : Shape} (hw : 1 < 32)
    (hr : (⟨2, ![n, m]⟩ : Shape).ReducesTo [0] ⟨1, ![m]⟩) (hu : 0 < u.numel) (j : Fin m) :
    Host.reduce IntOp.addi (extui 32 (cmpi p x y) hw) (constantI u 32 0#32) hr hu (ix1 j)
      = BitVec.ofNat 32 (Finset.univ.filter fun r : Fin n => IntOp.cmpi p (x (ix2 r j)) (y (ix2 r j)) = 1#1).card := by
  have h : (⟨2, ![n, m]⟩ : Shape).Reduces [0] ⟨1, ![m]⟩ := ⟨rfl, Nat.one_pos, hr.2⟩
  rw [Host.reduce_eq_fold_single IntOp.addi _ _ hr h hu, ← fold_addi_setWidth_eq_card (w := 32) (fun r : Fin n => IntOp.cmpi p (x (ix2 r j)) (y (ix2 r j)))]
  have e : ∀ r : Fin n, h.lift (ix1 j) r = ix2 r j := fun r => by
    funext a
    match a with
    | 0 => rfl
    | 1 => rfl
  show (Finset.univ : Finset (Fin n)).fold IntOp.addi 0#32 (fun r => (IntOp.cmpi p (x (h.lift (ix1 j) r)) (y (h.lift (ix1 j) r))).setWidth 32) = _
  exact congrArg (fun f => (Finset.univ : Finset (Fin n)).fold IntOp.addi 0#32 f) (funext fun r => by rw [e r])

theorem slt_iff {a b : BitVec 32} (ha : a.toNat < 2 ^ 31) (hb : b.toNat < 2 ^ 31) : IntOp.cmpi .slt a b = 1#1 ↔ a.toNat < b.toNat := by
  have h : IntOp.cmpi .slt a b = BitVec.ofBool (a.slt b) := rfl
  rw [h, BitVec.slt_eq_decide, BitVec.toInt_eq_toNat_of_lt (by omega), BitVec.toInt_eq_toNat_of_lt (by omega)]
  by_cases hc : a.toNat < b.toNat
  · simp [hc]
  · simp [hc]

theorem sle_iff {a b : BitVec 32} (ha : a.toNat < 2 ^ 31) (hb : b.toNat < 2 ^ 31) : IntOp.cmpi .sle a b = 1#1 ↔ a.toNat ≤ b.toNat := by
  have h : IntOp.cmpi .sle a b = BitVec.ofBool (a.sle b) := rfl
  rw [h, BitVec.sle_eq_decide, BitVec.toInt_eq_toNat_of_lt (by omega), BitVec.toInt_eq_toNat_of_lt (by omega)]
  by_cases hc : a.toNat ≤ b.toNat
  · simp [hc]
  · simp [hc]

/-- The indices of a downward closed property are those below how many there are. -/
theorem down_iff {n : ℕ} (p : ℕ → Prop) [DecidablePred p] (hd : ∀ k l, k ≤ l → p l → p k) (k : ℕ) (hk : k < n) :
    p k ↔ k < (Finset.univ.filter fun r : Fin n => p r.val).card := by
  constructor
  · intro h
    have : (Finset.univ.filter fun r : Fin n => r.val < k + 1) ⊆ Finset.univ.filter fun r : Fin n => p r.val := fun r hr => by
      simp only [Finset.mem_filter, Finset.mem_univ, true_and] at hr ⊢
      exact hd _ _ (by omega) h
    have := Finset.card_le_card this
    rw [Fin.card_filter_val_lt] at this
    omega
  · intro h
    by_contra hc
    have : (Finset.univ.filter fun r : Fin n => p r.val) ⊆ Finset.univ.filter fun r : Fin n => r.val < k := fun r hr => by
      simp only [Finset.mem_filter, Finset.mem_univ, true_and] at hr ⊢
      by_contra h'
      exact hc (hd _ _ (by omega) hr)
    have := Finset.card_le_card this
    rw [Fin.card_filter_val_lt] at this
    omega

/-- How many rows' words lie below `k`. -/
def cnt (b : S50000.Idx → BitVec 32) (k : ℕ) : ℕ := (Finset.univ.filter fun r : Fin 50000 => (b (ix1 r)).toNat < k).card

variable {b : S50000.Idx → BitVec 32}

theorem cnt_le (k : ℕ) : cnt b k ≤ 50000 := (Finset.card_filter_le _ _).trans (by rw [Finset.card_univ, Fintype.card_fin])
theorem cnt_mono {k l : ℕ} (h : k ≤ l) : cnt b k ≤ cnt b l := Finset.card_le_card fun r hr => by
  simp only [Finset.mem_filter, Finset.mem_univ, true_and] at hr ⊢
  omega
theorem cnt_zero : cnt b 0 = 0 := by
  unfold cnt
  rw [Finset.filter_false_of_mem fun r _ => Nat.not_lt_zero _]; rfl
theorem cnt_all (hb : ∀ r, (b r).toNat < 64) {k : ℕ} (hk : 64 ≤ k) : cnt b k = 50000 := by
  unfold cnt
  rw [Finset.filter_true_of_mem fun r _ => lt_of_lt_of_le (hb _) hk, Finset.card_univ, Fintype.card_fin]

theorem ofNat_toNat {n : ℕ} (h : n < 2 ^ 32) : (BitVec.ofNat 32 n).toNat = n := by rw [BitVec.toNat_ofNat, Nat.mod_eq_of_lt h]

theorem startsW_at (hb : ∀ r, (b r).toNat < 64) (k : Fin 65) : startsW b (ix1 k) = BitVec.ofNat 32 (cnt b k.val) := by
  unfold startsW
  rw [col_at]
  refine congrArg _ (congrArg Finset.card (Finset.filter_congr fun r _ => ?_))
  have e1 : (broadcastInDim S50000x65 ![0, 1] bcast_S50000x1_S50000x65_0_1 (broadcastInDim S50000x1 ![0] bcast_S50000_S50000x1_0 b)) (ix2 r k) = b (ix1 r) := by
    simp only [pointwise]
    rfl
  have e2 : (broadcastInDim S50000x65 ![0, 1] bcast_S1x65_S50000x65_0_1 (broadcastInDim S1x65 ![1] bcast_S65_S1x65_1 (iotaInDim S65 32 0))) (ix2 r k) = BitVec.ofNat 32 k.val := by
    simp only [pointwise]
    rfl
  rw [e1, e2]
  have h := hb (ix1 r)
  have hk := k.isLt
  rw [slt_iff (by omega) (by rw [ofNat_toNat (by omega)]; omega), ofNat_toNat (by omega)]

theorem padW_at (hb : ∀ r, (b r).toNat < 64) (k : ℕ) : wrd (padW (startsW b)) k = BitVec.ofNat 32 (cnt b k) := by
  unfold wrd padW
  rcases Nat.lt_or_ge k 65 with h | h
  · rw [pad_apply_of_inside _ _ _ _ _ _ _ _ (ix1 ⟨k, h⟩) (fun a => by
      match a with
      | 0 => show min k 95 = 0 + k * (0 + 1); omega)]
    exact startsW_at hb _
  · rw [pad_apply_of_not_inside _ _ _ _ _ _ _ _ 0 (fun hc => by
      have h2 : (min k 95 - 0) / (0 + 1) < 65 := hc.2.2
      omega), cnt_all hb (by omega)]
    rfl

theorem padW_nat (hb : ∀ r, (b r).toNat < 64) (k : ℕ) : (wrd (padW (startsW b)) k).toNat = cnt b k := by
  rw [padW_at hb, ofNat_toNat (by have := cnt_le (b := b) k; omega)]

theorem asc (hb : ∀ r, (b r).toNat < 64) : Asc (padW (startsW b)) := fun k _ =>
  ⟨by rw [padW_nat hb, padW_nat hb]; exact cnt_mono (Nat.le_succ k), by rw [padW_nat hb]; exact cnt_le _⟩

theorem rowW_at (i : Fin 50) : rowW (ix1 i) = BitVec.ofNat 32 (1000 * i.val) := by
  have hi := i.isLt
  have e : rowW (ix1 i) = BitVec.ofNat 32 i.val * 1000#32 := by
    unfold rowW
    simp only [pointwise]
    rfl
  rw [e]
  refine BitVec.eq_of_toNat_eq ?_
  rw [BitVec.toNat_mul, ofNat_toNat (by omega), ofNat_toNat (by omega), ofNat_toNat (by omega)]
  omega

/-- How many bounds lie at or before a block's first row, and how many before the next block's. -/
def loN (b : S50000.Idx → BitVec 32) (i : ℕ) : ℕ := (Finset.univ.filter fun r : Fin 65 => cnt b r.val ≤ 1000 * i).card
def hiN (b : S50000.Idx → BitVec 32) (i : ℕ) : ℕ := (Finset.univ.filter fun r : Fin 64 => cnt b r.val < 1000 * (i + 1)).card

theorem loW_at (hb : ∀ r, (b r).toNat < 64) (i : Fin 50) : loW (startsW b) (ix1 i) = BitVec.ofNat 32 (loN b i.val) - 1#32 := by
  have hi := i.isLt
  unfold loW
  rw [show ∀ x y : S50.Idx → BitVec 32, subi x y (ix1 i) = x (ix1 i) - y (ix1 i) from fun _ _ => rfl, col_at]
  refine congrArg₂ (· - ·) ?_ (by simp only [pointwise])
  refine congrArg _ (congrArg Finset.card (Finset.filter_congr fun r _ => ?_))
  have e1 : (broadcastInDim S65x50 ![0, 1] bcast_S65x1_S65x50_0_1 (broadcastInDim S65x1 ![0] bcast_S65_S65x1_0 (startsW b))) (ix2 r i) = startsW b (ix1 r) := by
    simp only [pointwise]
    rfl
  have e2 : (broadcastInDim S65x50 ![0, 1] bcast_S1x50_S65x50_0_1 (broadcastInDim S1x50 ![1] bcast_S50_S1x50_1 rowW)) (ix2 r i) = rowW (ix1 i) := by
    simp only [pointwise]
    rfl
  have hc := cnt_le (b := b) r.val
  rw [e1, e2, startsW_at hb, rowW_at, sle_iff (by rw [ofNat_toNat (by omega)]; omega) (by rw [ofNat_toNat (by omega)]; omega), ofNat_toNat (by omega), ofNat_toNat (by omega)]

theorem hiW_at (hb : ∀ r, (b r).toNat < 64) (i : Fin 50) : hiW (startsW b) (ix1 i) = BitVec.ofNat 32 (hiN b i.val) := by
  have hi := i.isLt
  unfold hiW
  rw [col_at]
  refine congrArg _ (congrArg Finset.card (Finset.filter_congr fun r _ => ?_))
  have hr := r.isLt
  have e1 : (broadcastInDim S64x50 ![0, 1] bcast_S64x1_S64x50_0_1 (broadcastInDim S64x1 ![0] bcast_S64_S64x1_0 (extractStridedSlice S64 ![0] (startsW b) slices_S65_S64_0))) (ix2 r i)
      = startsW b (ix1 ⟨r.val, by omega⟩) := by
    simp only [pointwise]
    refine congrArg _ ?_
    funext a
    match a with
    | 0 => exact Fin.ext (by show 0 + r.val = r.val; omega)
  have e2 : (broadcastInDim S64x50 ![0, 1] bcast_S1x50_S64x50_0_1 (broadcastInDim S1x50 ![1] bcast_S50_S1x50_1 (addi rowW (broadcastInDim S50 ![] bcast_S_S50 (constantI S_ 32 1000#32))))) (ix2 r i)
      = BitVec.ofNat 32 (1000 * (i.val + 1)) := by
    have e3 : (broadcastInDim S64x50 ![0, 1] bcast_S1x50_S64x50_0_1 (broadcastInDim S1x50 ![1] bcast_S50_S1x50_1 (addi rowW (broadcastInDim S50 ![] bcast_S_S50 (constantI S_ 32 1000#32))))) (ix2 r i)
        = rowW (ix1 i) + 1000#32 := by
      simp only [pointwise]
      rfl
    rw [e3, rowW_at]
    refine BitVec.eq_of_toNat_eq ?_
    rw [BitVec.toNat_add, ofNat_toNat (by omega), ofNat_toNat (by omega), ofNat_toNat (by omega)]
    omega
  have hc := cnt_le (b := b) r.val
  have e4 : startsW b (ix1 ⟨r.val, by omega⟩) = BitVec.ofNat 32 (cnt b r.val) := startsW_at hb ⟨r.val, by omega⟩
  rw [e1, e2, e4, slt_iff (by rw [ofNat_toNat (by omega)]; omega) (by rw [ofNat_toNat (by omega)]; omega), ofNat_toNat (by omega), ofNat_toNat (by omega)]

theorem span (hb : ∀ r, (b r).toNat < 64) (i : ℕ) (hi : i < 50) : Span (padW (startsW b)) i (pw (loW (startsW b)) i) (pw (nW (startsW b)) i) := by
  have e0 : ∀ x : S50.Idx → BitVec 32, pw x i = x (ix1 ⟨i, hi⟩) := fun x => by
    unfold pw
    refine congrArg x ?_
    funext a
    match a with
    | 0 => exact Fin.ext (by show min i 49 = i; omega)
  have hl : ∀ k, k < 65 → (cnt b k ≤ 1000 * i ↔ k < loN b i) := fun k hk =>
    down_iff (fun k => cnt b k ≤ 1000 * i) (fun k l hkl h => (cnt_mono hkl).trans h) k hk
  have hh : ∀ k, k < 64 → (cnt b k < 1000 * (i + 1) ↔ k < hiN b i) := fun k hk =>
    down_iff (fun k => cnt b k < 1000 * (i + 1)) (fun k l hkl h => lt_of_le_of_lt (cnt_mono hkl) h) k hk
  have h64 : cnt b 64 = 50000 := cnt_all hb le_rfl
  have h0 : cnt b 0 = 0 := cnt_zero
  have l0 : 0 < loN b i := (hl 0 (by omega)).1 (by omega)
  have l1 : loN b i ≤ 64 := by
    by_contra hc
    have := (hl 64 (by omega)).2 (by omega)
    omega
  have u1 : hiN b i ≤ 64 := (Finset.card_filter_le _ _).trans (by rw [Finset.card_univ, Fintype.card_fin])
  have lg := (hl (loN b i - 1) (by omega)).2 (by omega)
  have ug := (hh (loN b i - 1) (by omega)).1 (by omega)
  have g : (pw (loW (startsW b)) i).toNat = loN b i - 1 := by
    have e : pw (loW (startsW b)) i = BitVec.ofNat 32 (loN b i) - 1#32 := (e0 _).trans (loW_at hb ⟨i, hi⟩)
    rw [e, BitVec.toNat_sub, ofNat_toNat (by omega), ofNat_toNat (by omega)]
    omega
  have n : (pw (nW (startsW b)) i).toNat = hiN b i - (loN b i - 1) := by
    have e : pw (nW (startsW b)) i = pw (hiW (startsW b)) i - pw (loW (startsW b)) i := rfl
    have eh : (pw (hiW (startsW b)) i).toNat = hiN b i := by
      have e : pw (hiW (startsW b)) i = BitVec.ofNat 32 (hiN b i) := (e0 _).trans (hiW_at hb ⟨i, hi⟩)
      rw [e, ofNat_toNat (by omega)]
    rw [e, BitVec.toNat_sub, g, eh]
    omega
  refine ⟨by omega, by rw [padW_nat hb, g]; exact lg, ?_⟩
  rw [padW_nat hb, g, n, show loN b i - 1 + (hiN b i - (loN b i - 1)) = hiN b i by omega]
  rcases Nat.lt_or_ge (hiN b i) 64 with h | h
  · by_contra hc
    exact absurd ((hh _ h).1 (by omega)) (lt_irrefl _)
  · rw [show hiN b i = 64 by omega, h64]; omega

theorem sizeW_eq (s : S65.Idx → BitVec 32) (g : Fin 64) : sizeW s (ix1 g) = s (ix1 ⟨g.val + 1, by omega⟩) - s (ix1 ⟨g.val, by omega⟩) := by
  unfold sizeW
  refine congrArg₂ (· - ·) (congrArg s ?_) (congrArg s ?_)
  · funext a
    match a with
    | 0 => exact Fin.ext (by show 1 + g.val = g.val + 1; omega)
  · funext a
    match a with
    | 0 => exact Fin.ext (by show 0 + g.val = g.val; omega)

theorem sizeW_at (hb : ∀ r, (b r).toNat < 64) (g : Fin 64) : sizeW (startsW b) (ix1 g) = BitVec.ofNat 32 (cnt b (g.val + 1) - cnt b g.val) := by
  have hg := g.isLt
  have e := sizeW_eq (startsW b) g
  have h1 := cnt_le (b := b) (g.val + 1)
  have h2 : cnt b g.val ≤ cnt b (g.val + 1) := cnt_mono (Nat.le_succ _)
  have e1 : startsW b (ix1 ⟨g.val + 1, by omega⟩) = BitVec.ofNat 32 (cnt b (g.val + 1)) := startsW_at hb ⟨g.val + 1, by omega⟩
  have e2 : startsW b (ix1 ⟨g.val, by omega⟩) = BitVec.ofNat 32 (cnt b g.val) := startsW_at hb ⟨g.val, by omega⟩
  rw [e, e1, e2]
  refine BitVec.eq_of_toNat_eq ?_
  rw [BitVec.toNat_sub, ofNat_toNat (by omega), ofNat_toNat (by omega), ofNat_toNat (by omega)]
  omega

end Cert.Proof.Starts

end
-- ==== Proof.Host.lean ====
/-
  @main as its host operations, the SparseCore call, three reshapes and the second call; and what the host operations leave.
-/
module

public import proofs.«01_k».proof.Proof.Starts
public import Idealize.ShloMosaic.Lib.StableHlo.RunClose
public import Idealize.ShloMosaic.Lib.Claim
public import Idealize.ShloMosaic.Lib.Pipeline.Frame

@[expose] public section

set_option maxRecDepth 16384
set_option maxHeartbeats 4000000

noncomputable section

namespace Cert.Proof.Host

open Cert.KernelIdeal Cert.KernelIdeal.Gen
open Cert.Proof.Starts
open Idealize.ShloMosaic Idealize.ShloMosaic.StableHlo
open Idealize.ShloMosaic.TcCoe

variable {F : FTy → Type} [FloatOps F]

/-- The host operations ahead of the SparseCore call. -/
def opsA : List (HloOp τ sig (Elt F)) :=
  [StableHlo.nullary main_v0 (iotaInDim S65 32 0),
   StableHlo.TRef.unary (TRef.of (T := ⟨S65, .i32⟩) main_v0) (TRef.of (T := ⟨S1x65, .i32⟩) main_call0_call0_v0) (broadcastInDim S1x65 ![1] bcast_S65_S1x65_1),
   StableHlo.TRef.unary (TRef.of (T := ⟨S50000, .i32⟩) main_arg1) (TRef.of (T := ⟨S50000x1, .i32⟩) main_call0_call0_v1) (broadcastInDim S50000x1 ![0] bcast_S50000_S50000x1_0),
   StableHlo.TRef.unary (TRef.of (T := ⟨S50000x1, .i32⟩) main_call0_call0_v1) (TRef.of (T := ⟨S50000x65, .i32⟩) main_call0_call0_v2) (broadcastInDim S50000x65 ![0, 1] bcast_S50000x1_S50000x65_0_1),
   StableHlo.TRef.unary (TRef.of (T := ⟨S1x65, .i32⟩) main_call0_call0_v0) (TRef.of (T := ⟨S50000x65, .i32⟩) main_call0_call0_v3) (broadcastInDim S50000x65 ![0, 1] bcast_S1x65_S50000x65_0_1),
   StableHlo.TRef.binary (TRef.of (T := ⟨S50000x65, .i32⟩) main_call0_call0_v2) (TRef.of (T := ⟨S50000x65, .i32⟩) main_call0_call0_v3) (TRef.of (T := ⟨S50000x65, .i1⟩) main_call0_call0_v4) (cmpi .slt),
   StableHlo.TRef.unary (TRef.of (T := ⟨S50000x65, .i1⟩) main_call0_call0_v4) (TRef.of (T := ⟨S50000x65, .i32⟩) main_call0_call0_v5) (extui 32 · natLt_1_32),
   StableHlo.TRef.nullary (TRef.of (T := ⟨S_, .i32⟩) main_call0_call0_c) (constantI S_ 32 0#32),
   StableHlo.TRef.binary (TRef.of (T := ⟨S50000x65, .i32⟩) main_call0_call0_v5) (TRef.of (T := ⟨S_, .i32⟩) main_call0_call0_c) (TRef.of (T := ⟨S65, .i32⟩) main_v1) (fun x v => Host.reduce IntOp.addi x v reducesTo_S50000x65_S65_d0 h_S_),
   StableHlo.unary main_v1 main_v2 ((extractStridedSlice S64 ![1] · slices_S65_S64_1) : (⟨S65, .i32⟩ : BufTy).Contents (Elt F) → (⟨S64, .i32⟩ : BufTy).Contents (Elt F)),
   StableHlo.unary main_v1 main_v3 ((extractStridedSlice S64 ![0] · slices_S65_S64_0) : (⟨S65, .i32⟩ : BufTy).Contents (Elt F) → (⟨S64, .i32⟩ : BufTy).Contents (Elt F)),
   StableHlo.binary main_v2 main_v3 main_v4 (subi : (⟨S64, .i32⟩ : BufTy).Contents (Elt F) → (⟨S64, .i32⟩ : BufTy).Contents (Elt F) → (⟨S64, .i32⟩ : BufTy).Contents (Elt F)),
   StableHlo.unary main_v4 main_v5 (sitofp .f32 : (⟨S64, .i32⟩ : BufTy).Contents (Elt F) → (⟨S64, .f32⟩ : BufTy).Contents (Elt F)),
   StableHlo.reshape main_v5 main_v6 (rfl : (.f32 : EltTy) = .f32) shapeCasts_S64_S64x1,
   StableHlo.nullary main_c (constantI S_ 32 50000#32),
   StableHlo.TRef.unary (TRef.of (T := ⟨S_, .i32⟩) main_c) (TRef.of (T := ⟨S_, .i32⟩) main_call1_v0) id,
   StableHlo.TRef.binary (TRef.of (T := ⟨S65, .i32⟩) main_v1) (TRef.of (T := ⟨S_, .i32⟩) main_call1_v0) (TRef.of (T := ⟨S96, .i32⟩) main_v7) (fun x v => pad S96 ![0] ![31] ![0] x v pads_S65_S96_0310 h_S_),
   StableHlo.nullary main_v8 (iotaInDim S50 32 0),
   StableHlo.nullary main_c_0 (constantI S_ 32 1000#32),
   StableHlo.unary main_c_0 main_v9 (broadcastInDim S50 ![] bcast_S_S50 : (⟨S_, .i32⟩ : BufTy).Contents (Elt F) → (⟨S50, .i32⟩ : BufTy).Contents (Elt F)),
   StableHlo.binary main_v8 main_v9 main_v10 (muli : (⟨S50, .i32⟩ : BufTy).Contents (Elt F) → (⟨S50, .i32⟩ : BufTy).Contents (Elt F) → (⟨S50, .i32⟩ : BufTy).Contents (Elt F)),
   StableHlo.TRef.unary (TRef.of (T := ⟨S50, .i32⟩) main_v10) (TRef.of (T := ⟨S1x50, .i32⟩) main_call2_call0_v0) (broadcastInDim S1x50 ![1] bcast_S50_S1x50_1),
   StableHlo.TRef.unary (TRef.of (T := ⟨S65, .i32⟩) main_v1) (TRef.of (T := ⟨S65x1, .i32⟩) main_call2_call0_v1) (broadcastInDim S65x1 ![0] bcast_S65_S65x1_0),
   StableHlo.TRef.unary (TRef.of (T := ⟨S65x1, .i32⟩) main_call2_call0_v1) (TRef.of (T := ⟨S65x50, .i32⟩) main_call2_call0_v2) (broadcastInDim S65x50 ![0, 1] bcast_S65x1_S65x50_0_1),
   StableHlo.TRef.unary (TRef.of (T := ⟨S1x50, .i32⟩) main_call2_call0_v0) (TRef.of (T := ⟨S65x50, .i32⟩) main_call2_call0_v3) (broadcastInDim S65x50 ![0, 1] bcast_S1x50_S65x50_0_1),
   StableHlo.TRef.binary (TRef.of (T := ⟨S65x50, .i32⟩) main_call2_call0_v2) (TRef.of (T := ⟨S65x50, .i32⟩) main_call2_call0_v3) (TRef.of (T := ⟨S65x50, .i1⟩) main_call2_call0_v4) (cmpi .sle),
   StableHlo.TRef.unary (TRef.of (T := ⟨S65x50, .i1⟩) main_call2_call0_v4) (TRef.of (T := ⟨S65x50, .i32⟩) main_call2_call0_v5) (extui 32 · natLt_1_32),
   StableHlo.TRef.nullary (TRef.of (T := ⟨S_, .i32⟩) main_call2_call0_c) (constantI S_ 32 0#32),
   StableHlo.TRef.binary (TRef.of (T := ⟨S65x50, .i32⟩) main_call2_call0_v5) (TRef.of (T := ⟨S_, .i32⟩) main_call2_call0_c) (TRef.of (T := ⟨S50, .i32⟩) main_v11) (fun x v => Host.reduce IntOp.addi x v reducesTo_S65x50_S50_d0 h_S_),
   StableHlo.nullary main_c_1 (constantI S_ 32 1#32),
   StableHlo.unary main_c_1 main_v12 (broadcastInDim S50 ![] bcast_S_S50 : (⟨S_, .i32⟩ : BufTy).Contents (Elt F) → (⟨S50, .i32⟩ : BufTy).Contents (Elt F)),
   StableHlo.binary main_v11 main_v12 main_v13 (subi : (⟨S50, .i32⟩ : BufTy).Contents (Elt F) → (⟨S50, .i32⟩ : BufTy).Contents (Elt F) → (⟨S50, .i32⟩ : BufTy).Contents (Elt F)),
   StableHlo.unary main_v1 main_v14 ((extractStridedSlice S64 ![0] · slices_S65_S64_0) : (⟨S65, .i32⟩ : BufTy).Contents (Elt F) → (⟨S64, .i32⟩ : BufTy).Contents (Elt F)),
   StableHlo.nullary main_c_2 (constantI S_ 32 1000#32),
   StableHlo.unary main_c_2 main_v15 (broadcastInDim S50 ![] bcast_S_S50 : (⟨S_, .i32⟩ : BufTy).Contents (Elt F) → (⟨S50, .i32⟩ : BufTy).Contents (Elt F)),
   StableHlo.binary main_v10 main_v15 main_v16 (addi : (⟨S50, .i32⟩ : BufTy).Contents (Elt F) → (⟨S50, .i32⟩ : BufTy).Contents (Elt F) → (⟨S50, .i32⟩ : BufTy).Contents (Elt F)),
   StableHlo.TRef.unary (TRef.of (T := ⟨S50, .i32⟩) main_v16) (TRef.of (T := ⟨S1x50, .i32⟩) main_call3_call0_v0) (broadcastInDim S1x50 ![1] bcast_S50_S1x50_1),
   StableHlo.TRef.unary (TRef.of (T := ⟨S64, .i32⟩) main_v14) (TRef.of (T := ⟨S64x1, .i32⟩) main_call3_call0_v1) (broadcastInDim S64x1 ![0] bcast_S64_S64x1_0),
   StableHlo.TRef.unary (TRef.of (T := ⟨S64x1, .i32⟩) main_call3_call0_v1) (TRef.of (T := ⟨S64x50, .i32⟩) main_call3_call0_v2) (broadcastInDim S64x50 ![0, 1] bcast_S64x1_S64x50_0_1),
   StableHlo.TRef.unary (TRef.of (T := ⟨S1x50, .i32⟩) main_call3_call0_v0) (TRef.of (T := ⟨S64x50, .i32⟩) main_call3_call0_v3) (broadcastInDim S64x50 ![0, 1] bcast_S1x50_S64x50_0_1),
   StableHlo.TRef.binary (TRef.of (T := ⟨S64x50, .i32⟩) main_call3_call0_v2) (TRef.of (T := ⟨S64x50, .i32⟩) main_call3_call0_v3) (TRef.of (T := ⟨S64x50, .i1⟩) main_call3_call0_v4) (cmpi .slt),
   StableHlo.TRef.unary (TRef.of (T := ⟨S64x50, .i1⟩) main_call3_call0_v4) (TRef.of (T := ⟨S64x50, .i32⟩) main_call3_call0_v5) (extui 32 · natLt_1_32),
   StableHlo.TRef.nullary (TRef.of (T := ⟨S_, .i32⟩) main_call3_call0_c) (constantI S_ 32 0#32),
   StableHlo.TRef.binary (TRef.of (T := ⟨S64x50, .i32⟩) main_call3_call0_v5) (TRef.of (T := ⟨S_, .i32⟩) main_call3_call0_c) (TRef.of (T := ⟨S50, .i32⟩) main_v17) (fun x v => Host.reduce IntOp.addi x v reducesTo_S64x50_S50_d0 h_S_),
   StableHlo.binary main_v17 main_v13 main_v18 (subi : (⟨S50, .i32⟩ : BufTy).Contents (Elt F) → (⟨S50, .i32⟩ : BufTy).Contents (Elt F) → (⟨S50, .i32⟩ : BufTy).Contents (Elt F))]

/-- The host operations between the two calls. -/
def opsB : List (HloOp τ sig (Elt F)) :=
  [StableHlo.reshape main_v19 main_v20 (rfl : (.f32 : EltTy) = .f32) shapeCasts_S32768_S64x512,
   StableHlo.reshape main_arg2 main_v21 (rfl : (.f32 : EltTy) = .f32) shapeCasts_S256_S1x256,
   StableHlo.reshape main_arg3 main_v22 (rfl : (.f32 : EltTy) = .f32) shapeCasts_S256_S1x256]

/-- @main in its pieces. -/
theorem main_eq (d : Dev nD) : main (F := F) d = (do
    seq opsA
    sc.run d 0
    seq opsB
    Idealize.SL.Sem.Prog.lift (.customCall (SparseCore.inner (Pipeline.entry 0)) ())
    pure ⟨⟩) := rfl

theorem opsA_bufs : ∀ op ∈ (opsA : List (HloOp τ sig (Elt F))), op.bufs ⊆ tcRefs τ sig := by
  simp only [opsA, List.forall_mem_cons]
  repeat' apply And.intro
  all_goals first | exact nullary_bufs_sub .. | exact unary_bufs_sub .. | exact binary_bufs_sub .. | exact reshape_bufs_sub .. | exact fun _ h => absurd h (List.not_mem_nil)
theorem opsA_fresh : ∀ op ∈ (opsA : List (HloOp τ sig (Elt F))), op.fresh = ∅ := by
  simp only [opsA, List.forall_mem_cons]
  repeat' apply And.intro
  all_goals first | rfl | exact fun _ h => absurd h (List.not_mem_nil)
theorem opsB_bufs : ∀ op ∈ (opsB : List (HloOp τ sig (Elt F))), op.bufs ⊆ tcRefs τ sig := by
  simp only [opsB, List.forall_mem_cons]
  repeat' apply And.intro
  all_goals first | exact reshape_bufs_sub .. | exact fun _ h => absurd h (List.not_mem_nil)
theorem opsB_fresh : ∀ op ∈ (opsB : List (HloOp τ sig (Elt F))), op.fresh = ∅ := by
  simp only [opsB, List.forall_mem_cons]
  repeat' apply And.intro
  all_goals first | rfl | exact fun _ h => absurd h (List.not_mem_nil)

variable (W : Valuation τ sig (Elt F))

theorem a_arg0 : after opsA W main_arg0 = W main_arg0 := by
  simp only [opsA, TRef.binary, TRef.nullary, TRef.unary, TRef.toBuf, TRef.ofBuf, cast_eq]
  after_results_simp <;> rfl
theorem a_arg1 : after opsA W main_arg1 = W main_arg1 := by
  simp only [opsA, TRef.binary, TRef.nullary, TRef.unary, TRef.toBuf, TRef.ofBuf, cast_eq]
  after_results_simp <;> rfl
theorem a_arg2 : after opsA W main_arg2 = W main_arg2 := by
  simp only [opsA, TRef.binary, TRef.nullary, TRef.unary, TRef.toBuf, TRef.ofBuf, cast_eq]
  after_results_simp <;> rfl
theorem a_arg3 : after opsA W main_arg3 = W main_arg3 := by
  simp only [opsA, TRef.binary, TRef.nullary, TRef.unary, TRef.toBuf, TRef.ofBuf, cast_eq]
  after_results_simp <;> rfl
theorem a_v6 : after opsA W main_v6 = shapeCast S64x1 (sitofp .f32 (sizeW (startsW (W main_arg1)))) shapeCasts_S64_S64x1 := by
  simp only [opsA, TRef.binary, TRef.nullary, TRef.unary, TRef.toBuf, TRef.ofBuf, cast_eq]
  after_results_simp <;> rfl
theorem a_v7 : after opsA W main_v7 = padW (startsW (W main_arg1)) := by
  simp only [opsA, TRef.binary, TRef.nullary, TRef.unary, TRef.toBuf, TRef.ofBuf, cast_eq]
  after_results_simp <;> rfl
theorem a_v13 : after opsA W main_v13 = loW (startsW (W main_arg1)) := by
  simp only [opsA, TRef.binary, TRef.nullary, TRef.unary, TRef.toBuf, TRef.ofBuf, cast_eq]
  after_results_simp <;> rfl
theorem a_v18 : after opsA W main_v18 = nW (startsW (W main_arg1)) := by
  simp only [opsA, TRef.binary, TRef.nullary, TRef.unary, TRef.toBuf, TRef.ofBuf, cast_eq]
  after_results_simp <;> rfl
theorem b_v20 : after opsB W main_v20 = shapeCast S64x512 (W main_v19) shapeCasts_S32768_S64x512 := by
  simp only [opsB, TRef.binary, TRef.nullary, TRef.unary, TRef.toBuf, TRef.ofBuf, cast_eq]
  after_results_simp <;> rfl
theorem b_v21 : after opsB W main_v21 = shapeCast S1x256 (W main_arg2) shapeCasts_S256_S1x256 := by
  simp only [opsB, TRef.binary, TRef.nullary, TRef.unary, TRef.toBuf, TRef.ofBuf, cast_eq]
  after_results_simp <;> rfl
theorem b_v22 : after opsB W main_v22 = shapeCast S1x256 (W main_arg3) shapeCasts_S256_S1x256 := by
  simp only [opsB, TRef.binary, TRef.nullary, TRef.unary, TRef.toBuf, TRef.ofBuf, cast_eq]
  after_results_simp <;> rfl
/-- The reshapes leave every other buffer. -/
theorem b_ne (b : Ref sig .tc) (h0 : b ≠ main_v20) (h1 : b ≠ main_v21) (h2 : b ≠ main_v22) : after opsB W b = W b :=
  after_of_writes_sub opsB W (W := [main_v20, main_v21, main_v22]) (forall_writes_sub_of_map rfl) (by simp [h0, h1, h2])

end Cert.Proof.Host

end
-- ==== Proof.Tile.lean ====
/-
  A tile's whole task: after its bounds, its two groups' sums, and its block of the statistics.
-/
module

public import proofs.«01_k».proof.Proof.TileStart
public import proofs.«01_k».proof.Proof.Gen.KernelIdeal.Skeleton
public import Idealize.ShloMosaic.Lib.Pointwise.Reshape

@[expose] public section

set_option maxRecDepth 16384

noncomputable section

namespace Cert.Proof.Tile

open Cert.KernelIdeal Cert.KernelIdeal.Gen Cert.Words

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

theorem off2_eq {v8 v15 : BitVec 32} (h : Bounds v8 v15) : k0_off2 v8 0 = Bd v8.toNat 0 := by
  have := toNat_bdma h (c := 0#32) (n := 0) (Affine.isInt_lit 0) (by omega)
  have h0 : bdma v8 0#32 = Scalar.minsi (Scalar.addi (ast v8) 0#32) 49872#32 := by
    rw [bdma, wbase]; congr 2
  rw [h0] at this
  exact this

/-- A vector stored at its place among the group's sums or squares, the first group's or the second's. -/
theorem pieceSum0 {X : S50000x256.Idx → F .f32} {s0 s1 s2 : ℕ} {o h : ℕ} {inb : ∀ a, (![o] : Fin 1 → ℕ) a + S16.size a ≤ S1024.size a} {w : S16.Idx → F .f32}
    (hw : w = shapeCast S16 (vec (grpSum X s0 s1 (2 * Npair s0 s1)) h) shapeCasts_S16_S16) (ho : o = 0 + 16 * h) (hh : h < 16) (x : (Rect.unit (s := S1024) ![o] S16.size inb).shape.Idx) :
    w x = tileOut X s0 s1 s2 ((Rect.unit (s := S1024) ![o] S16.size inb).emb x 0).val := by
  rw [shapeCast_id] at hw
  subst hw ho
  have hx : (x 0).val < 16 := (x 0).isLt
  change _ = tileOut X s0 s1 s2 (0 + 16 * h + 1 * (x 0).val)
  unfold tileOut
  rw [if_pos (by omega)]
  change (grpSum X s0 s1 (2 * Npair s0 s1)) (16 * h + (x 0).val) = _
  congr 1
  omega

theorem pieceSq0 {X : S50000x256.Idx → F .f32} {s0 s1 s2 : ℕ} {o h : ℕ} {inb : ∀ a, (![o] : Fin 1 → ℕ) a + S16.size a ≤ S1024.size a} {w : S16.Idx → F .f32}
    (hw : w = shapeCast S16 (vec (grpSq X s0 s1 (2 * Npair s0 s1)) h) shapeCasts_S16_S16) (ho : o = 256 + 16 * h) (hh : h < 16) (x : (Rect.unit (s := S1024) ![o] S16.size inb).shape.Idx) :
    w x = tileOut X s0 s1 s2 ((Rect.unit (s := S1024) ![o] S16.size inb).emb x 0).val := by
  rw [shapeCast_id] at hw
  subst hw ho
  have hx : (x 0).val < 16 := (x 0).isLt
  change _ = tileOut X s0 s1 s2 (256 + 16 * h + 1 * (x 0).val)
  unfold tileOut
  rw [if_neg (by omega), if_pos (by omega)]
  change (grpSq X s0 s1 (2 * Npair s0 s1)) (16 * h + (x 0).val) = _
  congr 1
  omega

theorem pieceSum1 {X : S50000x256.Idx → F .f32} {s0 s1 s2 : ℕ} {o h : ℕ} {inb : ∀ a, (![o] : Fin 1 → ℕ) a + S16.size a ≤ S1024.size a} {w : S16.Idx → F .f32}
    (hw : w = shapeCast S16 (vec (grpSum X s1 s2 (2 * Npair s1 s2)) h) shapeCasts_S16_S16) (ho : o = 512 + 16 * h) (hh : h < 16) (x : (Rect.unit (s := S1024) ![o] S16.size inb).shape.Idx) :
    w x = tileOut X s0 s1 s2 ((Rect.unit (s := S1024) ![o] S16.size inb).emb x 0).val := by
  rw [shapeCast_id] at hw
  subst hw ho
  have hx : (x 0).val < 16 := (x 0).isLt
  change _ = tileOut X s0 s1 s2 (512 + 16 * h + 1 * (x 0).val)
  unfold tileOut
  rw [if_neg (by omega), if_neg (by omega), if_pos (by omega)]
  change (grpSum X s1 s2 (2 * Npair s1 s2)) (16 * h + (x 0).val) = _
  congr 1
  omega

theorem pieceSq1 {X : S50000x256.Idx → F .f32} {s0 s1 s2 : ℕ} {o h : ℕ} {inb : ∀ a, (![o] : Fin 1 → ℕ) a + S16.size a ≤ S1024.size a} {w : S16.Idx → F .f32}
    (hw : w = shapeCast S16 (vec (grpSq X s1 s2 (2 * Npair s1 s2)) h) shapeCasts_S16_S16) (ho : o = 768 + 16 * h) (hh : h < 16) (x : (Rect.unit (s := S1024) ![o] S16.size inb).shape.Idx) :
    w x = tileOut X s0 s1 s2 ((Rect.unit (s := S1024) ![o] S16.size inb).emb x 0).val := by
  rw [shapeCast_id] at hw
  subst hw ho
  have hx : (x 0).val < 16 := (x 0).isLt
  change _ = tileOut X s0 s1 s2 (768 + 16 * h + 1 * (x 0).val)
  unfold tileOut
  rw [if_neg (by omega), if_neg (by omega), if_neg (by omega)]
  change (grpSq X s1 s2 (2 * Npair s1 s2)) (16 * h + (x 0).val) = _
  congr 1
  omega

/-- A tile's block, written whole, read back. -/
theorem out_read (fo : S32768.Idx → F .f32) (w : S1024.Idx → F .f32) (j : S1024.Idx) :
    (oBlk L).view.writes (Elt F) fo [⟨Rect.whole S1024, w⟩] ((oBlk L).view.emb j) = w j := by
  have h := View.read_writes_cons_emb (Val := Elt F) (oBlk L).view fo (Rect.whole S1024) w [] j
  rw [View.read_apply] at h
  rw [show (Rect.whole S1024).emb j = j from Rect.emb_whole_apply _ _] at h
  exact (cast_eq _ _).symm.trans h

set_option maxHeartbeats 8000000 in
theorem tile_run {qx qb : PosShare TreeShare} {X : S50000x256.Idx → F .f32} {B : S96.Idx → BitVec 32}
    (hB : Bounds (wrd B (tw L)) (wrd B (tw L + 1))) (hB' : Bounds (wrd B (tw L + 1)) (wrd B (tw L + 2)))
    {O : CellTallies nD τ sig (HIx 1)} {W : Waits sig (HIx 1)} {fo : S32768.Idx → F .f32} {fA fB} {fs} {fc : S1024.Idx → F .f32} :
    iprop(Transfers.MayWaits (thr d L) (default : HIx 1) O
      ∗ ((xV).view.loc (thr d L) ↦{qx} X)
      ∗ ((bV).view.loc (thr d L) ↦{qb} B)
      ∗ ((oBlk L).view.loc (thr d L) ↦[(oBlk L).view.set]{fullShare} fo)
      ∗ ((wA).view.loc (thr d L) ↦{fullShare} fA)
      ∗ ((wB).view.loc (thr d L) ↦{fullShare} fB)
      ∗ ((sV).view.loc (thr d L) ↦{fullShare} fs)
      ∗ ((cfV).view.loc (thr d L) ↦{fullShare} fc)
      ∗ semVal (thr d L, SemLoc.dma cc0_scratch4.sem) 0
      ∗ semVal (thr d L, SemLoc.dma cc0_scratch5.sem) 0
      ∗ semVal (thr d L, SemLoc.dma cc0_scoped0.sem) 0
      ∗ semVal (thr d L, SemLoc.dma cc0_scoped1.sem) 0
      ∗ owes (thr d L) O W : sProp 𝕄) ⊢ wp frame (wpE (defs₀ (F := F)) 𝒱₀ (thr d L) none) Set.univ
      (cc0__sc_stats_body L xV (Memref.isWhole_whole _) bV (Memref.isWhole_whole _) oV (Memref.isWhole_whole _)
            wA (Memref.isWhole_whole _) wB (Memref.isWhole_whole _) sV (Memref.isWhole_whole _) cfV (Memref.isWhole_whole _) cc0_scratch4 cc0_scratch5 cc0_scoped0 cc0_scoped1)
      (fun _ => iprop(((xV).view.loc (thr d L) ↦{qx} X)
        ∗ ((bV).view.loc (thr d L) ↦{qb} B)
        ∗ (∃ f, ⌜∀ j, f ((oBlk L).view.emb j) = tileOut X (wrd B (tw L)).toNat (wrd B (tw L + 1)).toNat (wrd B (tw L + 2)).toNat (j 0).val⌝
            ∗ ((oBlk L).view.loc (thr d L) ↦[(oBlk L).view.set]{fullShare} f))
        ∗ (∃ fA, ((wA).view.loc (thr d L) ↦{fullShare} fA))
        ∗ (∃ fB, ((wB).view.loc (thr d L) ↦{fullShare} fB))
        ∗ (∃ fs, ((sV).view.loc (thr d L) ↦{fullShare} fs))
        ∗ (∃ fc, ((cfV).view.loc (thr d L) ↦{fullShare} fc))
        ∗ semVal (thr d L, SemLoc.dma cc0_scratch4.sem) 0
        ∗ semVal (thr d L, SemLoc.dma cc0_scratch5.sem) 0
        ∗ semVal (thr d L, SemLoc.dma cc0_scoped0.sem) 0
        ∗ semVal (thr d L, SemLoc.dma cc0_scoped1.sem) 0
        ∗ ∃ W', ⌜∀ p ∈ W', p ∈ W ∨ p.2 = none⌝ ∗ owes (thr d L) O W')) := by
  rw [cc0__sc_stats_body_eq_skeleton]
  unfold cc0__sc_stats_body_skel
  iintro ⟨#Hmw, Hx, Hb, Ho, HA, HB, Hs, Hc, HsA, HsB, Hs0, Hs1, HO⟩
  rw [wp_bind]
  iapply (wp_wand frame (wpE (defs₀ (F := F)) 𝒱₀ (thr d L) none) Set.univ) $$ [Hb Hs Hs0 HO]
  · iapply (part137_run d L hB hB' (qb := qb) (O := O) (W := W) (fs := fs)) $$ [Hb Hs Hs0 HO]
    isplitr; · iexact Hmw
    isplitl [Hb]; · iexact Hb
    isplitl [Hs]; · iexact Hs
    isplitl [Hs0]; · iexact Hs0
    iexact HO
  iintro %r ⟨%he, Hb, ⟨%fs', Hs⟩, Hs0, %W1, %hW1, HO⟩
  obtain ⟨v1, v8, hw1, v15, hw2, v22, hw3, v24, v26, x1, v27, v32, v37⟩ := r
  obtain ⟨h8, h15, h22⟩ := he
  dsimp only at h8 h15 h22
  rw [← h8, ← h15, ← h22]
  rw [← h8, ← h15] at hB
  rw [← h15, ← h22] at hB'
  clear h8 h15 h22
  rw [k0_part138_eq_skeleton]
  unfold k0_part138_skel
  sl_exec
  unfold tile_run.sl.dma0
  rw [landA (off := k0_off2 v8) (b := Bd v8.toNat 0) (off2_eq hB) rfl (Bd_le _ _)]
  generalize h1 : @k0_t1_body F _ = T1
  sl_for (pairInv d L qx X v8 v15 O W1) $$ [HsA Hx HB HsB HO]
  case region =>
    intro k acc
    subst h1
    exact pair1 d L hB
  · unfold pairInv flyA
    isplitr; · iexact Hmw
    isplitr; · ipureintro; rfl
    isplitl [HsA Hx]
    · iexists _
      isplitl [HsA]
      · iexact HsA
      · iexact Hx
    isplitl [HB]; · iexists _; iexact HB
    isplitl [HsB]; · iexact HsB
    iexists W1
    isplitr
    swap; · iexact HO
    ipureintro; exact fun p hp => .inl hp
  unfold pairInv flyA
  iintro %acc ⟨-, %he, ⟨%Sx, HsA, Hx⟩, ⟨%fB2, HB⟩, HsB, %W2, %hW2, HO⟩
  rw [show Scf.trips (k0_t1_loop v8 v15).lb (k0_t1_loop v8 v15).ub (k0_t1_loop v8 v15).st = _ from tripsP hB] at he
  subst he
  unfold tup
  sl_exec
  unfold tile_run.sl.dma64
  rw [landA (off := k0_off391 v15) (b := Bd v15.toNat 0) (off2_eq hB') rfl (Bd_le _ _)]
  generalize h19 : @k0_t19_body F _ = T19
  sl_for (pairInv d L qx X v15 v22 O W) $$ [HsA Hx HB HsB HO]
  case region =>
    intro k acc
    subst h19
    exact pair19 d L hB'
  · unfold pairInv flyA
    isplitr; · iexact Hmw
    isplitr; · ipureintro; rfl
    isplitl [HsA Hx]
    · iexists _
      isplitl [HsA]
      · iexact HsA
      · iexact Hx
    isplitl [HB]; · iexists _; iexact HB
    isplitl [HsB]; · iexact HsB
    iexists _
    isplitr
    swap; · iexact HO
    ipureintro
    intro p hp
    rw [Finset.mem_insert] at hp
    rcases hp with rfl | hp
    · exact .inr rfl
    · rcases hW2 p hp with h | h
      · exact hW1 p h
      · exact .inr h
  unfold pairInv flyA
  iintro %acc ⟨-, %he, ⟨%Sy, HsA, Hx⟩, ⟨%fB3, HB⟩, HsB, %W3, %hW3, HO⟩
  rw [show Scf.trips (k0_t19_loop v15 v22).lb (k0_t19_loop v15 v22).ub (k0_t19_loop v15 v22).st = _ from tripsP hB'] at he
  subst he
  unfold tup
  sl_exec
  sl_step
  isplitl [Hx]; · iexact Hx
  isplitl [Hb]; · iexact Hb
  isplitl [Ho]
  · iexists _
    isplitr
    swap; · iexact Ho
    ipureintro
    intro j
    refine (out_read L fo _ j).trans ?_
    unfold tile_run.sl.dma64_1
    clear hW1 hW2 hW3 h1 h19
    refine View.read_writes_apply_of_pieces (Val := Elt F) cfV.view fc (fun j => tileOut X v8.toNat v15.toNat v22.toNat (j 0).val) _ ?_ j ?_
    · unfold tile_run.sl.Hc_64
      iterate 16
        refine List.forall_mem_cons.2 ⟨pieceSq1 rfl rfl (by decide) (inb := by decide), ?_⟩
        refine List.forall_mem_cons.2 ⟨pieceSum1 rfl rfl (by decide) (inb := by decide), ?_⟩
      iterate 16
        refine List.forall_mem_cons.2 ⟨pieceSq0 rfl rfl (by decide) (inb := by decide), ?_⟩
        refine List.forall_mem_cons.2 ⟨pieceSum0 rfl rfl (by decide) (inb := by decide), ?_⟩
      exact fun p hp => absurd hp List.not_mem_nil
    · exact View.cover_of_tiled _ ![16] rfl j
  isplitl [HsA_dst]; · iexists _; iexact HsA_dst
  isplitl [HB]; · iexists _; iexact HB
  isplitl [Hs]; · iexists _; iexact Hs
  isplitl [Hc]; · iexists _; iexact Hc
  isplitl [HsA]; · iexact HsA
  isplitl [HsB]; · iexact HsB
  isplitl [Hs0]; · iexact Hs0
  isplitl [Hs1]; · iexact Hs1
  iexists _
  isplitr
  swap; · iexact HO
  ipureintro
  intro p hp
  rw [Finset.mem_insert, Finset.mem_insert] at hp
  rcases hp with rfl | rfl | hp
  · exact .inr rfl
  · exact .inr rfl
  · exact hW3 p hp

end Cert.Proof.Tile
-- ==== Proof.Launch.lean ====
/-
  The launch of the SparseCore call: what its handshakes carry (a share of the rows and of the bounds to every tile, and
  the tile's own block of the output), a tile's task over its own storage, and the split of the operands over the tiles.
-/
module

public import proofs.«01_k».proof.Proof.Tile
public import Idealize.ShloMosaic.Lib.ShareLeaves

@[expose] public section

set_option maxRecDepth 16384

noncomputable section

namespace Cert.Proof.Tile

open Cert.KernelIdeal Cert.KernelIdeal.Gen Cert.Words

open Idealize.ShloMosaic
open Idealize.ShloMosaic.ShareLeaves (leaf pointsTo_leaves)
open Idealize.ShloMosaic.SparseCore (S V T)
open Idealize.ShloMosaic.SparseCore.Cfg (HIx Pay ownSems0 ownCells mem_ownCells ownRefs ownBufs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Where the operands are -/

abbrev xLoc (d : Dev nD) : Loc nD τ sig := (SparseCore.T d).loc main_arg0
abbrev bLoc (d : Dev nD) : Loc nD τ sig := (SparseCore.T d).loc main_v7
abbrev oLoc (d : Dev nD) : Loc nD τ sig := (SparseCore.T d).loc main_v19

/-- The coordinates of a tile of a core. -/
def coordsV (c : Fin (grid0.bound 0)) (s : Fin (grid0.bound 1)) : grid0.Coords :=
  fun | 0 => c | 1 => s | ⟨_ + 2, h⟩ => absurd h (Nat.not_lt.2 (Nat.le_add_left _ _))

/-- A core's share of a table every tile reads, and a tile's. -/
abbrev shC (c : Fin 2) : PosShare TreeShare := leaf 1 fullShare c
abbrev shT (L : grid0.Coords) : PosShare TreeShare := leaf 4 (shC (L 0)) (L 1)

/-- The cells of a tile's block of the output. -/
abbrev oSet (L : grid0.Coords) : Finset S32768.Idx := (oBlk L).view.set

theorem wid_lt (L : grid0.Coords) : 2 * (L 1).val + (L 0).val < 32 := by
  have h0 : (L 0).val < 2 := (L 0).isLt
  have h1 : (L 1).val < 16 := (L 1).isLt
  omega
/-- The number of a tile's block. -/
def wid (L : grid0.Coords) : Fin 32 := ⟨2 * (L 1).val + (L 0).val, wid_lt L⟩

theorem odiv : 32 ∣ S32768.size 0 := ⟨1024, rfl⟩

theorem oRect_eq (L : grid0.Coords) :
    Rect.unit (s := S32768) (k0_off780 L) S1024.size (k0_off780_inb L) = Rect.part (s := S32768) (a₀ := 0) odiv (wid L) := by
  unfold Rect.part Rect.block
  congr 1 <;> funext a
  · rw [k0_off780_eq]
    match a with
    | 0 => simp [Shape.partIx, Shape.partSize, wid]; omega
  · match a with
    | 0 => simp [Shape.partSize]

theorem oSet_eq (L : grid0.Coords) : oSet L = (Rect.part (s := S32768) (a₀ := 0) odiv (wid L)).set := by
  show ((View.whole (main_v19_scv : Ref sig .scVector)).slice _).set = _
  rw [View.set_slice, ← oRect_eq]; exact Finset.map_refl

/-- The tiles, listed by their block. -/
def tileEquiv : Fin 2 × Fin 16 ≃ Fin 32 where
  toFun p := ⟨2 * p.2.val + p.1.val, by omega⟩
  invFun w := (⟨w.val % 2, by omega⟩, ⟨w.val / 2, by omega⟩)
  left_inv p := by
    apply Prod.ext <;> apply Fin.ext <;> simp <;> omega
  right_inv w := by apply Fin.ext; simp; omega

theorem wid_coordsV (c : Fin 2) (i : Fin 16) : wid (coordsV c i) = tileEquiv (c, i) := rfl

/-! ## What the tiles leave -/

section Stats
variable [FloatOps F]

/-- The statistics of all the groups, as the tiles leave them: block `w` holds the sums and the sums of squares of groups
    `2 w` and `2 w + 1`. -/
def statsOut (X : S50000x256.Idx → F .f32) (B : S96.Idx → BitVec 32) : S32768.Idx → F .f32 := fun j =>
  tileOut X (wrd B (2 * ((j 0).val / 1024))).toNat (wrd B (2 * ((j 0).val / 1024) + 1)).toNat
    (wrd B (2 * ((j 0).val / 1024) + 2)).toNat ((j 0).val % 1024)

theorem oBlk_emb (L : grid0.Coords) (j : S1024.Idx) : ((oBlk L).view.emb j 0).val = 1024 * (wid L).val + (j 0).val := by
  show (k0_off780 L 0) + 1 * (j 0).val = _
  rw [k0_off780_eq]
  simp [wid]; omega

/-- A tile's block, read off the statistics. -/
theorem statsOut_tile (X : S50000x256.Idx → F .f32) (B : S96.Idx → BitVec 32) (L : grid0.Coords) (f : S32768.Idx → F .f32)
    (h : ∀ j, f ((oBlk L).view.emb j) = tileOut X (wrd B (tw L)).toNat (wrd B (tw L + 1)).toNat (wrd B (tw L + 2)).toNat (j 0).val) :
    ∀ i ∈ oSet L, f i = statsOut X B i := by
  intro i hi
  obtain ⟨j, -, rfl⟩ := Finset.mem_map.mp hi
  have hj : (j 0).val < 1024 := (j 0).isLt
  have e1 : ((oBlk L).view.emb j 0).val / 1024 = (wid L).val := by rw [oBlk_emb]; omega
  have e2 : ((oBlk L).view.emb j 0).val % 1024 = (j 0).val := by rw [oBlk_emb]; omega
  refine (h j).trans ?_
  unfold statsOut
  rw [e1, e2, show tw L = 2 * (wid L).val by show 4 * _ + 2 * _ = 2 * (2 * _ + _); omega]

end Stats

/-! ## What the handshakes carry -/

theorem nSub_zero [FloatOps F] : (K (F := F)).nSub 0 = 16 := rfl
theorem nCore_zero [FloatOps F] : (K (F := F)).nCore 0 = 2 := rfl

variable [FloatOps F]
variable (X : Dev nD → S50000x256.Idx → F .f32) (B : Dev nD → S96.Idx → BitVec 32) (O₁ : Dev nD → S32768.Idx → F .f32)

abbrev xPts (d : Dev nD) (q : PosShare TreeShare) : sProp 𝕄 := xLoc d ↦{q} X d
abbrev bPts (d : Dev nD) (q : PosShare TreeShare) : sProp 𝕄 := bLoc d ↦{q} B d
abbrev oPts (d : Dev nD) (L : grid0.Coords) (f : S32768.Idx → F .f32) : sProp 𝕄 := oLoc d ↦[oSet L]{fullShare} f

/-- A tile of the call, from its core and its place there. -/
abbrev LL (c : Fin ((K (F := F)).nCore 0)) (i : Fin ((K (F := F)).nSub 0)) : grid0.Coords := coordsV (Fin.cast nCore_zero c) (Fin.cast nSub_zero i)

/-- Each core takes its share of the rows and of the bounds, and its tiles' blocks of the output; each tile takes its
    share of the two and its block, and brings them back, its block at the statistics. -/
def P : (K (F := F)).Pay (nD := nD) (Val := Elt F) (Name := ℕ) (U := UU) where
  st := fun q d c => match q with
    | 0 => iprop(xPts X d (shC (Fin.cast nCore_zero c)) ∗ bPts B d (shC (Fin.cast nCore_zero c)) ∗ bigSep Finset.univ fun i : Fin 16 => oPts d (coordsV (Fin.cast nCore_zero c) i) (O₁ d))
  dn := fun q d c => match q with
    | 0 => iprop(xPts X d (shC (Fin.cast nCore_zero c)) ∗ bPts B d (shC (Fin.cast nCore_zero c)) ∗ bigSep Finset.univ fun i : Fin 16 => oPts d (coordsV (Fin.cast nCore_zero c) i) (statsOut (X d) (B d)))
  go := fun q d c i => match q with
    | 0 => iprop(xPts X d (shT (LL c i)) ∗ bPts B d (shT (LL c i)) ∗ oPts d (LL c i) (O₁ d))
  td := fun q d c i => match q with
    | 0 => iprop(xPts X d (shT (LL c i)) ∗ bPts B d (shT (LL c i)) ∗ oPts d (LL c i) (statsOut (X d) (B d)))
  x := fun _ _ => iprop(emp)

instance P_storable : (P (F := F) X B O₁).IsStorable where
  st q d c := match q with
    | 0 => (inferInstance : BI.Storable (upEmb : UEmb _ 𝕄) iprop(xPts X d (shC (Fin.cast nCore_zero c)) ∗ bPts B d (shC (Fin.cast nCore_zero c)) ∗ bigSep Finset.univ fun i : Fin 16 => oPts d (coordsV (Fin.cast nCore_zero c) i) (O₁ d)))
  dn q d c := match q with
    | 0 => (inferInstance : BI.Storable (upEmb : UEmb _ 𝕄) iprop(xPts X d (shC (Fin.cast nCore_zero c)) ∗ bPts B d (shC (Fin.cast nCore_zero c)) ∗ bigSep Finset.univ fun i : Fin 16 => oPts d (coordsV (Fin.cast nCore_zero c) i) (statsOut (X d) (B d))))
  go q d c i := match q with
    | 0 => (inferInstance : BI.Storable (upEmb : UEmb _ 𝕄) iprop(xPts X d (shT (LL c i)) ∗ bPts B d (shT (LL c i)) ∗ oPts d (LL c i) (O₁ d)))
  td q d c i := match q with
    | 0 => (inferInstance : BI.Storable (upEmb : UEmb _ 𝕄) iprop(xPts X d (shT (LL c i)) ∗ bPts B d (shT (LL c i)) ∗ oPts d (LL c i) (statsOut (X d) (B d))))

/-- What a tile's task asks of the bounds: they ascend and end within the rows. -/
def Asc (b : S96.Idx → BitVec 32) : Prop := ∀ k < 64, Bounds (wrd b k) (wrd b (k + 1))

/-! ## The task over a tile's own storage -/

section Task

variable (d : Dev nD) (L : grid0.Coords)

abbrev cell4 : GSem nD τ sig := (V d (cV L) (jV L), .dma cc0_scratch4.sem)
abbrev cell5 : GSem nD τ sig := (V d (cV L) (jV L), .dma cc0_scratch5.sem)
abbrev cellS0 : GSem nD τ sig := (V d (cV L) (jV L), .dma cc0_scoped0.sem)
abbrev cellS1 : GSem nD τ sig := (V d (cV L) (jV L), .dma cc0_scoped1.sem)

omit [FloatOps F] in
theorem cell_own {s : DmaSem sig} (h : (SemLoc.dma s : SemLoc sig).isScoped .scVector = true) :
    ((V d (cV L) (jV L), SemLoc.dma s) : GSem nD τ sig) ∈ ownCells (V d (cV L) (jV L)) := mem_ownCells.mpr ⟨rfl, h⟩

omit [FloatOps F] in
theorem cell_ne {s t : DmaSem sig} (h : s ≠ t) :
    ((V d (cV L) (jV L), SemLoc.dma s) : GSem nD τ sig) ≠ (V d (cV L) (jV L), SemLoc.dma t) :=
  fun e => h (SemLoc.dma.inj (Prod.mk.inj e).2)

omit [FloatOps F] in
theorem ownSems0_V :
    (ownSems0 (V d (cV L) (jV L)) : sProp 𝕄)
      = iprop(semVal (cell4 d L) 0 ∗ semVal (cell5 d L) 0 ∗ semVal (cellS0 d L) 0 ∗ semVal (cellS1 d L) 0
          ∗ bigSep (((((ownCells (V d (cV L) (jV L))).erase (cell4 d L)).erase (cell5 d L)).erase (cellS0 d L)).erase (cellS1 d L)) fun g => semVal g 0) := by
  unfold SparseCore.Cfg.ownSems0
  rw [SparseCore.bigSep_erase' (cell_own d L (s := cc0_scratch4.sem) (by decide)),
    SparseCore.bigSep_erase' (Finset.mem_erase.mpr ⟨cell_ne d L (by decide), cell_own d L (s := cc0_scratch5.sem) (by decide)⟩),
    SparseCore.bigSep_erase' (Finset.mem_erase.mpr ⟨cell_ne d L (by decide), Finset.mem_erase.mpr ⟨cell_ne d L (by decide), cell_own d L (s := cc0_scoped0.sem) (by decide)⟩⟩),
    SparseCore.bigSep_erase' (Finset.mem_erase.mpr ⟨cell_ne d L (by decide), Finset.mem_erase.mpr ⟨cell_ne d L (by decide), Finset.mem_erase.mpr ⟨cell_ne d L (by decide), cell_own d L (s := cc0_scoped1.sem) (by decide)⟩⟩⟩)]

abbrev rf (b : Ref sig .scVector) : DevRef τ sig := (Proc.scVector (cV L) (jV L)).devRef b

omit [FloatOps F] in
theorem rf_ne {b b' : Ref sig .scVector} (h : b ≠ b') : rf L b ≠ rf L b' := fun e => h (Proc.devRef_injective _ e)

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase (rf L cc0_scratch0)).erase (rf L cc0_scratch1)).erase (rf L cc0_scratch2)).erase (rf L cc0_scratch3))
              fun b => iprop(∃ f, ((d, b) : Loc nD τ sig) ↦{fullShare} f)) := by
  have o0 : rf L cc0_scratch0 ∈ ownRefs (τ := τ) (.scVector (cV L) (jV L)) := SparseCore.Cfg.mem_ownRefs_of_owner rfl
  have o1 : rf L cc0_scratch1 ∈ ownRefs (τ := τ) (.scVector (cV L) (jV L)) := SparseCore.Cfg.mem_ownRefs_of_owner rfl
  have o2 : rf L cc0_scratch2 ∈ ownRefs (τ := τ) (.scVector (cV L) (jV L)) := SparseCore.Cfg.mem_ownRefs_of_owner rfl
  have o3 : rf L cc0_scratch3 ∈ ownRefs (τ := τ) (.scVector (cV L) (jV L)) := SparseCore.Cfg.mem_ownRefs_of_owner rfl
  unfold SparseCore.Cfg.ownBufs
  refine (SparseCore.bigSep_erase' o0).trans ?_
  rw [SparseCore.bigSep_erase' (Finset.mem_erase.mpr ⟨rf_ne L (by decide), o1⟩),
    SparseCore.bigSep_erase' (Finset.mem_erase.mpr ⟨rf_ne L (by decide), Finset.mem_erase.mpr ⟨rf_ne L (by decide), o2⟩⟩),
    SparseCore.bigSep_erase' (Finset.mem_erase.mpr ⟨rf_ne L (by decide), Finset.mem_erase.mpr ⟨rf_ne L (by decide), Finset.mem_erase.mpr ⟨rf_ne L (by decide), o3⟩⟩⟩)]

/-- A tile's task: from its shares and its block, its own storage kept, its block left at the statistics. -/
theorem tile_body (hF : (K (F := F)).Facts) (hB : Asc (B d)) (O : CellTallies nD τ sig (HIx 1)) (W : Waits sig (HIx 1)) (hO : ∀ g, O g none = 0) :
    iprop(levAts (K (F := F)).L (K (F := F)).lev ∗ emp
        ∗ (xPts X d (shT L) ∗ bPts B d (shT L) ∗ oPts d L (O₁ d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_stats_body L xV (Memref.isWhole_whole _) bV (Memref.isWhole_whole _) oV (Memref.isWhole_whole _)
            wA (Memref.isWhole_whole _) wB (Memref.isWhole_whole _) sV (Memref.isWhole_whole _) cfV (Memref.isWhole_whole _) cc0_scratch4 cc0_scratch5 cc0_scoped0 cc0_scoped1)
          fun _ => iprop((xPts X d (shT L) ∗ bPts B d (shT L) ∗ oPts d L (statsOut (X d) (B d)))
            ∗ scopedBufs (V d (cV L) (jV L)) ∗ scopedSems0 (V d (cV L) (jV L))
            ∗ ∃ W', ⌜∀ p ∈ W', p ∈ W ∨ p.2 = none⌝ ∗ owes (V d (cV L) (jV L)) O W') := by
  have hL0 : (L 0).val < 2 := (L 0).isLt
  have hL1 : (L 1).val < 16 := (L 1).isLt
  rw [(K (F := F)).scopedBufs_V hF d (cV L) (jV L), SparseCore.Cfg.scopedSems0_V (Val := Elt F) d (cV L) (jV L), ownSems0_V, ownBufs_V]
  iintro ⟨#Hlv, -, ⟨Hx, Hb, Ho⟩, ⟨⟨%fA, HA⟩, ⟨%fB, HB⟩, ⟨%fs, Hs⟩, ⟨%fc, Hc⟩, Hbufs⟩, ⟨H4, H5, H0, H1, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  iapply (wp_wand frame (wpE (defs₀ (F := F)) 𝒱₀ (thr d L) none) Set.univ) $$ [Hmw Hx Hb Ho HA HB Hs Hc H4 H5 H0 H1 HO]
  · iapply (tile_run d L (hB (tw L) (by show 4 * _ + 2 * _ < 64; omega)) (hB (tw L + 1) (by show 4 * _ + 2 * _ + 1 < 64; omega)) (qx := shT L) (qb := shT L) (X := X d) (fo := O₁ d) (fA := fA) (fB := fB) (fs := fs) (fc := fc) (O := O) (W := W)) $$ [Hmw Hx Hb Ho HA HB Hs Hc H4 H5 H0 H1 HO]
    isplitl [Hmw]; · iexact Hmw
    isplitl [Hx]; · iexact Hx
    isplitl [Hb]; · iexact Hb
    isplitl [Ho]; · iexact Ho
    isplitl [HA]; · iexact HA
    isplitl [HB]; · iexact HB
    isplitl [Hs]; · iexact Hs
    isplitl [Hc]; · iexact Hc
    isplitl [H4]; · iexact H4
    isplitl [H5]; · iexact H5
    isplitl [H0]; · iexact H0
    isplitl [H1]; · iexact H1
    iexact HO
  iintro %_ ⟨Hx, Hb, ⟨%f, %hf, Ho⟩, HA, HB, Hs, Hc, H4, H5, H0, H1, HW⟩
  isplitl [Hx Hb Ho]
  · isplitl [Hx]; · iexact Hx
    isplitl [Hb]; · iexact Hb
    iapply (Entails.of_eq (pointsTo_congr (statsOut_tile (X d) (B d) L f hf)))
    iexact Ho
  isplitl [HA HB Hs Hc Hbufs]
  · isplitl [HA]; · iexact HA
    isplitl [HB]; · iexact HB
    isplitl [Hs]; · iexact Hs
    isplitl [Hc]; · iexact Hc
    iexact Hbufs
  isplitl [H4 H5 H0 H1 Hsems]
  · isplitl [H4]; · iexact H4
    isplitl [H5]; · iexact H5
    isplitl [H0]; · iexact H0
    isplitl [H1]; · iexact H1
    iexact Hsems
  iexact HW

theorem defs₀_vector (c : Fin τ.nSC) (s : Fin τ.nSub) :
    defs₀ (F := F) (.scVector c s) 0 ()
      = SparseCore.onTile hcore0 hsub0 (fun c s => cc0__sc_stats_body (coordsV c s) xV (Memref.isWhole_whole _) bV (Memref.isWhole_whole _) oV (Memref.isWhole_whole _)
            wA (Memref.isWhole_whole _) wB (Memref.isWhole_whole _) sV (Memref.isWhole_whole _) cfV (Memref.isWhole_whole _) cc0_scratch4 cc0_scratch5 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Task

theorem tileObl (hB : ∀ d, Asc (B d)) : (K (F := F)).TileObl (D (F := F)) 𝒱 (P X B O₁) v₀ 0 := by
  intro d c i O W hO _ _
  simp only [show (P (F := F) X B O₁).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body X B O₁ d (coordsV ⟨_, hci.1⟩ ⟨_, hci.2⟩) facts (hB d) O W hO).trans (wp_mono frame _ _ fun _ => obl_post)

/-! ## The operands over the tiles -/

theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

omit [FloatOps F] in
theorem pts_cores {ℓ : Loc nD τ sig} (f : Buf (Elt F) ℓ) :
    (ℓ ↦{fullShare} f : sProp 𝕄) = bigSep Finset.univ fun i : Fin 2 => ℓ ↦{shC i} f := pointsTo_leaves Finset.univ f 1 fullShare
omit [FloatOps F] in
theorem pts_tiles {ℓ : Loc nD τ sig} (f : Buf (Elt F) ℓ) (c : Fin 2) :
    (ℓ ↦{shC c} f : sProp 𝕄) = bigSep Finset.univ fun i : Fin 16 => ℓ ↦{shT (coordsV c i)} f := pointsTo_leaves Finset.univ f 4 (shC c)

theorem xPts_cores (d : Dev nD) : xPts X d fullShare = bigSep Finset.univ fun i : Fin 2 => xPts X d (shC i) := pts_cores (ℓ := xLoc d) (X d)
theorem bPts_cores (d : Dev nD) : bPts (F := F) B d fullShare = bigSep Finset.univ fun i : Fin 2 => bPts B d (shC i) := pts_cores (ℓ := bLoc d) (B d)
theorem xPts_tiles (d : Dev nD) (c : Fin 2) : xPts X d (shC c) = bigSep Finset.univ fun i : Fin 16 => xPts X d (shT (coordsV c i)) := pts_tiles (ℓ := xLoc d) (X d) c
theorem bPts_tiles (d : Dev nD) (c : Fin 2) : bPts (F := F) B d (shC c) = bigSep Finset.univ fun i : Fin 16 => bPts B d (shT (coordsV c i)) := pts_tiles (ℓ := bLoc d) (B d) c

theorem vecSplit_core (d : Dev nD) (c : Fin 2) :
    iprop(xPts X d (shC c) ∗ bPts B d (shC c) ∗ bigSep Finset.univ fun i : Fin 16 => oPts d (coordsV c i) (O₁ d))
    ⊢ |={Set.univ}=> iprop(
      (bigSep Finset.univ fun i : Fin 16 => iprop(xPts X d (shT (coordsV c i)) ∗ bPts B d (shT (coordsV c i)) ∗ oPts d (coordsV c i) (O₁ d)))
      ∗ ((bigSep Finset.univ fun i : Fin 16 => iprop(xPts X d (shT (coordsV c i)) ∗ bPts B d (shT (coordsV c i)) ∗ oPts d (coordsV c i) (statsOut (X d) (B d))))
          -∗ iprop(xPts X d (shC c) ∗ bPts B d (shC c) ∗ bigSep Finset.univ fun i : Fin 16 => oPts d (coordsV c i) (statsOut (X d) (B d))))) := by
  rw [bigSep_sep', bigSep_sep', bigSep_sep', bigSep_sep', xPts_tiles, bPts_tiles]
  iintro H; imodintro
  isplitl [H]; · iexact H
  iintro H; iexact H

theorem vecSplit : (K (F := F)).VecSplit' (P X B O₁) 0 :=
  fun d c => vecSplit_core X B O₁ d (Fin.cast nCore_zero c)

omit [FloatOps F] in
theorem oSets_disjoint : ∀ p ∈ (Finset.univ : Finset (Fin 2 × Fin 16)), ∀ p' ∈ (Finset.univ : Finset (Fin 2 × Fin 16)), p ≠ p' →
    Disjoint (oSet (coordsV p.1 p.2)) (oSet (coordsV p'.1 p'.2)) := fun p _ p' _ h => by
  rw [oSet_eq, oSet_eq, wid_coordsV, wid_coordsV]
  exact Rect.part_disjoint odiv (fun e => h (tileEquiv.injective e))

omit [FloatOps F] in
theorem oSets_cover : (Finset.univ : Finset (Fin 2 × Fin 16)).biUnion (fun p => oSet (coordsV p.1 p.2)) = Finset.univ := by
  refine Finset.eq_univ_of_forall fun j => ?_
  have hj : j ∈ (Finset.univ : Finset (Fin 32)).biUnion fun w => (Rect.part (s := S32768) (a₀ := 0) odiv w).set := by
    rw [Rect.biUnion_part odiv]; exact Finset.mem_univ _
  obtain ⟨w, -, hw⟩ := Finset.mem_biUnion.mp hj
  refine Finset.mem_biUnion.mpr ⟨tileEquiv.symm w, Finset.mem_univ _, ?_⟩
  rw [oSet_eq, wid_coordsV, Prod.mk.eta, Equiv.apply_symm_apply]
  exact hw

/-- The output whole is the tiles' blocks at once. -/
theorem oPts_tiles (d : Dev nD) (f : S32768.Idx → F .f32) :
    (oLoc d ↦{fullShare} f : sProp 𝕄) = bigSep Finset.univ fun c : Fin 2 => bigSep Finset.univ fun i : Fin 16 => oPts d (coordsV c i) f := by
  rw [← bigSep_univ_prod (fun (p : Fin 2 × Fin 16) => (oPts d (coordsV p.1 p.2) f : sProp 𝕄)),
    ← pointsTo_biUnion Finset.univ (ℓ := oLoc d) (fun p : Fin 2 × Fin 16 => oSet (coordsV p.1 p.2)) oSets_disjoint, oSets_cover]
  try rfl

/-- What the call takes whole is what its cores take. -/
theorem st_all (d : Dev nD) :
    (bigSep Finset.univ fun c : Fin ((K (F := F)).nCore 0) => (P X B O₁).st 0 d c)
      = iprop(xPts X d fullShare ∗ bPts B d fullShare ∗ (oLoc d ↦{fullShare} O₁ d)) := by
  rw [oPts_tiles, xPts_cores, bPts_cores, ← bigSep_sep', ← bigSep_sep']
  exact bigSep_cores (F := F) (fun c => iprop(xPts X d (shC c) ∗ bPts B d (shC c) ∗ bigSep Finset.univ fun i : Fin 16 => oPts d (coordsV c i) (O₁ d)))
/-- And what they bring back is the whole, the output at the statistics. -/
theorem dn_all (d : Dev nD) :
    (bigSep Finset.univ fun c : Fin ((K (F := F)).nCore 0) => (P X B O₁).dn 0 d c)
      = iprop(xPts X d fullShare ∗ bPts B d fullShare ∗ (oLoc d ↦{fullShare} statsOut (X d) (B d))) := by
  rw [oPts_tiles, xPts_cores, bPts_cores, ← bigSep_sep', ← bigSep_sep']
  exact bigSep_cores (F := F) (fun c => iprop(xPts X d (shC c) ∗ bPts B d (shC c) ∗ bigSep Finset.univ fun i : Fin 16 => oPts d (coordsV c i) (statsOut (X d) (B d))))

end Cert.Proof.Tile

end
-- ==== Proof.Region.lean ====
/-
  The second call as a region of @main: its proof data at the contents it is entered with, its body's obligation at each
  point, and the region from every buffer at one valuation to every buffer at the next.
-/
module

public import proofs.«01_k».proof.Proof.Norm
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.ValueKit.Geometry

@[expose] public section

set_option maxRecDepth 16384

noncomputable section

namespace Cert.Proof.Norm

open Cert.KernelIdeal Cert.KernelIdeal.Gen Cert.Words
open Cert.Proof.Tile (UP UU EP EH K D 𝒱 𝒱₀ wrd)

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))

/-- What the region is entered with: the rows, the bounds, the spans, the stats, the counts, the weights. -/
abbrev inX (c : Dev nD) : S50000x256.Idx → F .f32 := V c main_arg0
abbrev inB (c : Dev nD) : S96.Idx → BitVec 32 := V c main_v7
abbrev inG (c : Dev nD) : S50.Idx → BitVec 32 := V c main_v13
abbrev inN (c : Dev nD) : S50.Idx → BitVec 32 := V c main_v18
abbrev inS (c : Dev nD) : S64x512.Idx → F .f32 := V c main_v20
abbrev inC (c : Dev nD) : S64x1.Idx → F .f32 := V c main_v6
abbrev inGa (c : Dev nD) : S1x256.Idx → F .f32 := V c main_v21
abbrev inBe (c : Dev nD) : S1x256.Idx → F .f32 := V c main_v22

/-- What the region needs of them. -/
def Ok (c : Dev nD) : Prop := Asc (inB V c) ∧ ∀ i < 50, Span (inB V c) i (pw (inG V c) i) (pw (inN V c) i)

/-- The two tables. -/
abbrev tA (c : Dev nD) : S64x256.Idx → F .f32 := tabA (inC V c) (inS V c) (inGa V c)
abbrev tC (c : Dev nD) : S64x256.Idx → F .f32 := tabC (inC V c) (inS V c) (inGa V c) (inBe V c)

/-- A block of a thousand rows. -/
def rows (X : S50000x256.Idx → F .f32) (i : ℕ) : S1000x256.Idx → F .f32 := fun j =>
  X (ix2 ⟨min (1000 * i + (j 0).val) 49999, by show _ < 50000; omega⟩ (j 1))

/-- The result: each row times its group's row of the one table, plus its group's row of the other. -/
def out (X : S50000x256.Idx → F .f32) (b : S96.Idx → BitVec 32) (A C : S64x256.Idx → F .f32) : S50000x256.Idx → F .f32 := fun j =>
  FloatOps.addf (FloatOps.mulf (X j) (tab A (grp b (j 0).val) (j 1).val)) (tab C (grp b (j 0).val) (j 1).val)

/-- The scratch buffers between points: the two tables, once the first point is past. -/
def Φc (c : Dev nD) (t : ℕ) : sProp 𝕄 :=
  iprop(∃ (f : Buf (Elt F) ((c : Thread nD τ).loc cc1_scratch0)) (g : Buf (Elt F) ((c : Thread nD τ).loc cc1_scratch1)),
    ⌜t ≠ 0 → f = tA V c ∧ g = tC V c⌝ ∗ ((c : Thread nD τ).loc cc1_scratch0 ↦{fullShare} f) ∗ ((c : Thread nD τ).loc cc1_scratch1 ↦{fullShare} g))

/-- The proof data of the region. -/
def dat (bnd : ℕ) (c : Dev nD) : Dat τ (Elt F) (HIx 1) ℕ UU ℕ cfg1 c where
  A w := V c (Pipeline.arrRef spec1 w)
  after w t := match w with
    | ⟨0, _⟩ => rows (inX V c) t.val
    | ⟨1, _⟩ => inB V c
    | ⟨2, _⟩ => inG V c
    | ⟨3, _⟩ => inN V c
    | ⟨4, _⟩ => inS V c
    | ⟨5, _⟩ => inC V c
    | ⟨6, _⟩ => inGa V c
    | ⟨7, _⟩ => inBe V c
    | ⟨8, _⟩ => blkOut (inB V c) (tA V c) (tC V c) t.val (rows (inX V c) t.val)
  Φ t := Φc V c t.val
  q _ := fullShare
  owed _ := 0
  recorded _ := {p | (K (F := F)).lev ((T c), p.1) p.2 ≤ bnd}

theorem coord (t : Fin cfg1.N) : ((grid1.coords t) 0).val = t.val := by
  revert t; decide

theorem idx0 (t : Fin grid1.N) : win1_0.index t 0 = t.val := by revert t; decide +kernel
theorem idx8 (t : Fin grid1.N) : win1_8.index t 0 = t.val := by revert t; decide +kernel

variable (bnd : ℕ) (c : Dev nD) (t : Fin cfg1.N)

theorem blk0 : (dat V bnd c).blockOf 0 t = rows (inX V c) t.val := by
  have ht : t.val < 50 := lt_of_lt_of_eq t.isLt N_1
  funext y
  have h0 : (y 0).val < 1000 := (y 0).isLt
  show V c main_arg0 _ = V c main_arg0 _
  congr 1
  funext a
  match a with
  | 0 =>
    refine Fin.ext ?_
    show win1_0.index t 0 * 1000 + 1 * (y 0).val = min (1000 * t.val + (y 0).val) 49999
    rw [idx0 t]
    omega
  | 1 => exact Fin.ext (by show 0 * 256 + 1 * (y 1).val = (y 1).val; omega)

theorem blk1 : (dat V bnd c).blockOf 1 t = inB V c := by
  funext y
  show V c main_v7 _ = V c main_v7 y
  congr 1
  funext a
  match a with
  | 0 => exact Fin.ext (by show 0 * 96 + 1 * (y 0).val = (y 0).val; omega)
theorem blk2 : (dat V bnd c).blockOf 2 t = inG V c := by
  funext y
  show V c main_v13 _ = V c main_v13 y
  congr 1
  funext a
  match a with
  | 0 => exact Fin.ext (by show 0 * 50 + 1 * (y 0).val = (y 0).val; omega)
theorem blk3 : (dat V bnd c).blockOf 3 t = inN V c := by
  funext y
  show V c main_v18 _ = V c main_v18 y
  congr 1
  funext a
  match a with
  | 0 => exact Fin.ext (by show 0 * 50 + 1 * (y 0).val = (y 0).val; omega)
theorem blk4 : (dat V bnd c).blockOf 4 t = inS V c := by
  funext y
  show V c main_v20 _ = V c main_v20 y
  congr 1
  funext a
  match a with
  | 0 => exact Fin.ext (by show 0 * 64 + 1 * (y 0).val = (y 0).val; omega)
  | 1 => exact Fin.ext (by show 0 * 512 + 1 * (y 1).val = (y 1).val; omega)
theorem blk5 : (dat V bnd c).blockOf 5 t = inC V c := by
  funext y
  show V c main_v6 _ = V c main_v6 y
  congr 1
  funext a
  match a with
  | 0 => exact Fin.ext (by show 0 * 64 + 1 * (y 0).val = (y 0).val; omega)
  | 1 => exact Fin.ext (by show 0 * 1 + 1 * (y 1).val = (y 1).val; omega)
theorem blk6 : (dat V bnd c).blockOf 6 t = inGa V c := by
  funext y
  show V c main_v21 _ = V c main_v21 y
  congr 1
  funext a
  match a with
  | 0 => exact Fin.ext (by show 0 * 1 + 1 * (y 0).val = (y 0).val; omega)
  | 1 => exact Fin.ext (by show 0 * 256 + 1 * (y 1).val = (y 1).val; omega)
theorem blk7 : (dat V bnd c).blockOf 7 t = inBe V c := by
  funext y
  show V c main_v22 _ = V c main_v22 y
  congr 1
  funext a
  match a with
  | 0 => exact Fin.ext (by show 0 * 1 + 1 * (y 0).val = (y 0).val; omega)
  | 1 => exact Fin.ext (by show 0 * 256 + 1 * (y 1).val = (y 1).val; omega)

variable (d0 : S1000x256.Idx → F .f32)

theorem before0 (d) : (dat V bnd c).before 0 t d = rows (inX V c) t.val :=
  ((dat V bnd c).before_in_eq_fetched 0 rfl (fun _ => rfl) (fun _ _ _ => rfl) (fun t => (blk0 V bnd c t).symm) t d).trans (blk0 V bnd c t)
theorem before1 (d) : (dat V bnd c).before 1 t d = inB V c :=
  ((dat V bnd c).before_in_eq_fetched 1 rfl (fun _ => rfl) (fun _ _ _ => rfl) (fun t => (blk1 V bnd c t).symm) t d).trans (blk1 V bnd c t)
theorem before2 (d) : (dat V bnd c).before 2 t d = inG V c :=
  ((dat V bnd c).before_in_eq_fetched 2 rfl (fun _ => rfl) (fun _ _ _ => rfl) (fun t => (blk2 V bnd c t).symm) t d).trans (blk2 V bnd c t)
theorem before3 (d) : (dat V bnd c).before 3 t d = inN V c :=
  ((dat V bnd c).before_in_eq_fetched 3 rfl (fun _ => rfl) (fun _ _ _ => rfl) (fun t => (blk3 V bnd c t).symm) t d).trans (blk3 V bnd c t)
theorem before4 (d) : (dat V bnd c).before 4 t d = inS V c :=
  ((dat V bnd c).before_in_eq_fetched 4 rfl (fun _ => rfl) (fun _ _ _ => rfl) (fun t => (blk4 V bnd c t).symm) t d).trans (blk4 V bnd c t)
theorem before5 (d) : (dat V bnd c).before 5 t d = inC V c :=
  ((dat V bnd c).before_in_eq_fetched 5 rfl (fun _ => rfl) (fun _ _ _ => rfl) (fun t => (blk5 V bnd c t).symm) t d).trans (blk5 V bnd c t)
theorem before6 (d) : (dat V bnd c).before 6 t d = inGa V c :=
  ((dat V bnd c).before_in_eq_fetched 6 rfl (fun _ => rfl) (fun _ _ _ => rfl) (fun t => (blk6 V bnd c t).symm) t d).trans (blk6 V bnd c t)
theorem before7 (d) : (dat V bnd c).before 7 t d = inBe V c :=
  ((dat V bnd c).before_in_eq_fetched 7 rfl (fun _ => rfl) (fun _ _ _ => rfl) (fun t => (blk7 V bnd c t).symm) t d).trans (blk7 V bnd c t)

abbrev sc0 : Memref sig .tc .vmem S64x256 .f32 := Memref.whole cc1_scratch0
abbrev sc1 : Memref sig .tc .vmem S64x256 .f32 := Memref.whole cc1_scratch1

set_option maxHeartbeats 1000000 in
/-- The body at a point, on the buffers the region calls it with. -/
theorem point_run (hV : Ok V c) {f0 : Buf (Elt F) ((st1_0 t).view.loc (c : Thread nD τ))} {f1 : Buf (Elt F) ((st1_1 t).view.loc (c : Thread nD τ))} {f2 : Buf (Elt F) ((st1_2 t).view.loc (c : Thread nD τ))}
    {f3 : Buf (Elt F) ((st1_3 t).view.loc (c : Thread nD τ))} {f4 : Buf (Elt F) ((st1_4 t).view.loc (c : Thread nD τ))} {f5 : Buf (Elt F) ((st1_5 t).view.loc (c : Thread nD τ))}
    {f6 : Buf (Elt F) ((st1_6 t).view.loc (c : Thread nD τ))} {f7 : Buf (Elt F) ((st1_7 t).view.loc (c : Thread nD τ))} {f8 : Buf (Elt F) ((st1_8 t).view.loc (c : Thread nD τ))}
    {f10 : Buf (Elt F) (sc0.view.loc (c : Thread nD τ))} {f11 : Buf (Elt F) (sc1.view.loc (c : Thread nD τ))}
    (H : Ins c (st1_0 t) (st1_1 t) (st1_2 t) (st1_3 t) (st1_4 t) (st1_5 t) (st1_6 t) (st1_7 t) (inB V c) (inG V c) (inN V c) (rows (inX V c) t.val) (inS V c) (inC V c) (inGa V c) (inBe V c) f0 f1 f2 f3 f4 f5 f6 f7)
    (hs : t.val ≠ 0 → sc0.view.read (Elt F) f10 = tA V c ∧ sc1.view.read (Elt F) f11 = tC V c) :
    iprop(at' c (st1_0 t) f0 ∗ at' c (st1_1 t) f1 ∗ at' c (st1_2 t) f2 ∗ at' c (st1_3 t) f3 ∗ at' c (st1_4 t) f4 ∗ at' c (st1_5 t) f5 ∗ at' c (st1_6 t) f6 ∗ at' c (st1_7 t) f7 ∗ at' c (st1_8 t) f8 ∗ at' c sc0 f10 ∗ at' c sc1 f11 : sProp 𝕄)
      ⊢ wp frame (wpE (defs₀ (F := F)) 𝒱₀ (c : Thread nD τ) none) Set.univ (bodyAt1 (F := F) t)
        (fun _ => iprop(at' c (st1_0 t) f0 ∗ at' c (st1_1 t) f1 ∗ at' c (st1_2 t) f2 ∗ at' c (st1_3 t) f3 ∗ at' c (st1_4 t) f4 ∗ at' c (st1_5 t) f5 ∗ at' c (st1_6 t) f6 ∗ at' c (st1_7 t) f7
          ∗ (∃ f, ⌜(st1_8 t).view.read (Elt F) f = blkOut (inB V c) (tA V c) (tC V c) t.val (rows (inX V c) t.val)⌝ ∗ at' c (st1_8 t) f)
          ∗ (∃ f, ⌜sc0.view.read (Elt F) f = tA V c⌝ ∗ at' c sc0 f) ∗ (∃ f, ⌜sc1.view.read (Elt F) f = tC V c⌝ ∗ at' c sc1 f))) := by
  have ht : t.val < 50 := lt_of_lt_of_eq t.isLt N_1
  have hsp := hV.2 t.val ht
  rw [← coord t] at hs ⊢
  rw [← coord t] at hsp H
  exact body_run (F := F) c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2))
      (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6))
      (st1_7 t) (hstage1_7 ((cfg1.slots t 7).cast nbuf1_7)) (st1_8 t) (hstage1_8 ((cfg1.slots t 8).cast nbuf1_8)) sc0 (Memref.isWhole_whole _) sc1 (Memref.isWhole_whole _)
      hV.1 hsp H hs

theorem sc0_pt (f : Buf (Elt F) ((c : Thread nD τ).loc cc1_scratch0)) : ((c : Thread nD τ).loc cc1_scratch0 ↦{fullShare} f : sProp 𝕄) = at' c sc0 f := by
  unfold at'; simp only [Memref.view_whole, View.set_whole]
theorem sc1_pt (f : Buf (Elt F) ((c : Thread nD τ).loc cc1_scratch1)) : ((c : Thread nD τ).loc cc1_scratch1 ↦{fullShare} f : sProp 𝕄) = at' c sc1 f := by
  unfold at'; simp only [Memref.view_whole, View.set_whole]
theorem sc0_read (f : Buf (Elt F) ((c : Thread nD τ).loc cc1_scratch0)) : sc0.view.read (Elt F) f = f := View.read_whole _ _
theorem sc1_read (f : Buf (Elt F) ((c : Thread nD τ).loc cc1_scratch1)) : sc1.view.read (Elt F) f = f := View.read_whole _ _

set_option maxHeartbeats 4000000 in
theorem body_obligation (hV : Ok V c) : BodyObligation (dat V bnd c) (defs₀ (F := F)) 𝒱₀ (none : HIx 1) Set.univ := fun t => by
  have ht : t.val < 50 := lt_of_lt_of_eq t.isLt N_1
  rw [bigSep_W1, bigSep_W1]
  unfold owns
  rw [show (dat V bnd c).Φ t.castSucc = Φc V c t.val from rfl, show (dat V bnd c).Φ t.succ = Φc V c (t.val + 1) from rfl,
    show (dat V bnd c).owesAt (none : HIx 1) t.succ = (dat V bnd c).owesAt (none : HIx 1) t.castSucc from rfl]
  unfold Φc
  iintro ⟨⟨%f10, %f11, %hs, H10, H11⟩, Howes, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, -, H8⟩⟩
  rw [before0] at h0
  rw [before1] at h1
  rw [before2] at h2
  rw [before3] at h3
  rw [before4] at h4
  rw [before5] at h5
  rw [before6] at h6
  rw [before7] at h7
  simp only [sc0_pt, sc1_pt]
  rw [← sc0_read c f10, ← sc1_read c f11] at hs
  iapply (wp_wand frame (wpE (defs₀ (F := F)) 𝒱₀ (c : Thread nD τ) none) Set.univ) $$ [H0 H1 H2 H3 H4 H5 H6 H7 H8 H10 H11]
  · iapply (point_run V c t hV (f8 := f8) ⟨h0, h1, h2, h3, h4, h5, h6, h7⟩ hs) $$ [H0 H1 H2 H3 H4 H5 H6 H7 H8 H10 H11]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H10]; · iexact H10
    iexact H11
  iintro %r ⟨H0, H1, H2, H3, H4, H5, H6, H7, ⟨%g8, %e8, H8⟩, ⟨%g10, %e10, H10⟩, ⟨%g11, %e11, H11⟩⟩
  isplitl [H10 H11]
  · iexists g10; iexists g11
    isplitr
    · ipureintro; rw [sc0_read c] at e10; rw [sc1_read c] at e11; exact fun _ => ⟨e10, e11⟩
    isplitl [H10]; · iexact H10
    iexact H11
  isplitl [Howes]; · iexact Howes
  isplitl [H0]; · iexists _; isplitr; swap; (· iexact H0); ipureintro; exact h0
  isplitl [H1]; · iexists _; isplitr; swap; (· iexact H1); ipureintro; exact h1
  isplitl [H2]; · iexists _; isplitr; swap; (· iexact H2); ipureintro; exact h2
  isplitl [H3]; · iexists _; isplitr; swap; (· iexact H3); ipureintro; exact h3
  isplitl [H4]; · iexists _; isplitr; swap; (· iexact H4); ipureintro; exact h4
  isplitl [H5]; · iexists _; isplitr; swap; (· iexact H5); ipureintro; exact h5
  isplitl [H6]; · iexists _; isplitr; swap; (· iexact H6); ipureintro; exact h6
  isplitl [H7]; · iexists _; isplitr; swap; (· iexact H7); ipureintro; exact h7
  iexists _; isplitr; swap; (· iexact H8); ipureintro
  exact e8

/-- The result's array after the region. -/
theorem arr_out : (dat V bnd c).arrAt 8 cfg1.N = out (inX V c) (inB V c) (tA V c) (tC V c) := by
  refine (dat V bnd c).arrAt_eq_of_covers 8 _ (by decide +kernel) fun t hf y => ?_
  have ht : t.val < 50 := lt_of_lt_of_eq t.isLt N_1
  have h0 : (y 0).val < 1000 := (y 0).isLt
  have e : (((cfg1.win 8).blk t).view.emb y : S50000x256.Idx) = ix2 ⟨1000 * t.val + (y 0).val, by omega⟩ (y 1) := by
    funext a
    match a with
    | 0 =>
      refine Fin.ext ?_
      show win1_8.index t 0 * 1000 + 1 * (y 0).val = 1000 * t.val + (y 0).val
      rw [idx8 t]
      omega
    | 1 => exact Fin.ext (by show 0 * 256 + 1 * (y 1).val = (y 1).val; omega)
  rw [e]
  show blkOut (inB V c) (tA V c) (tC V c) t.val (rows (inX V c) t.val) y = _
  have e2 : rows (inX V c) t.val y = inX V c (ix2 ⟨1000 * t.val + (y 0).val, by omega⟩ (y 1)) := by
    unfold rows
    rw [show (⟨min (1000 * t.val + (y 0).val) 49999, by omega⟩ : Fin 50000) = ⟨1000 * t.val + (y 0).val, by omega⟩ from Fin.ext (Nat.min_eq_left (by omega))]
  unfold blkOut out
  rw [e2]
  rfl

/-! ## The region -/

/-- The region's proof data, the one pipeline's. -/
abbrev adm : (p : Fin 1) → (pcfgs (F := F) p).Adm := fun p => (cfgs p).toPCfg_adm
def pdats : (p : Fin 1) → (c : Dev nD) → Dat τ (Elt F) (HIx 1) ℕ UU ℕ (Pipeline.pin (pcfgs (F := F)) adm p) c
  | ⟨0, _⟩ => dat V bnd

variable (Vp : (c : Dev nD) → (b : Ref sig .tc) → Buf (Elt F) ((c : Thread nD τ).loc b))

set_option backward.isDefEq.respectTransparency.types false in
/-- The region, from every buffer at `V` to every buffer at `Vp`, which has the result at the result. -/
def reg (hV : ∀ c, Ok V c) (hout : ∀ c, Vp c main_v23 = out (inX V c) (inB V c) (tA V c) (tC V c)) (hne : ∀ c (b : Ref sig .tc), b ≠ main_v23 → Vp c b = V c b) :
    Pipeline.RegionSeg (pcfgs (F := F)) adm (pdats V bnd) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V bnd c (hV c)).loose
  hwaits := Pipeline.hwaits_of_owed_zero _ _ _ _ (K (F := F)).L (K (F := F)).lev 0 fun _ _ => rfl
  pre c := iprop(unscopedBufs c (V c) ∗ ∃ W, ⌜(K (F := F)).WBelow (T c) W bnd⌝ ∗ owes (c : Thread nD τ) (0 : CellTallies nD τ sig (HIx 1)) W)
  post c := iprop(unscopedBufs c (Vp c) ∗ ∃ W, ⌜(K (F := F)).WBelow (T c) W bnd⌝ ∗ owes (c : Thread nD τ) (0 : CellTallies nD τ sig (HIx 1)) W)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V bnd) launch1.win launch1.arr_whole c
      ((pdats V bnd 0 c).share_full fun _ => rfl) (V c) fun _ => rfl
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats V bnd 0 c).Φ 0 = Φc V c 0 from rfl, show (Pipeline.scopedRest ((pcfgs (F := F)) 0).spec c : sProp 𝕄) = _ from scopedRest1_eq c]
    unfold Φc
    iintro ⟨-, -, ⟨%f, Hf⟩, %g, Hg⟩
    iexists f; iexists g
    isplitr; · ipureintro; exact fun h => absurd rfl h
    isplitl [Hf] <;> iassumption
  hout c := by
    rw [Pipeline.ownSems0_none, show (pdats V bnd 0 c).Φ (Fin.last _) = Φc V c cfg1.N from rfl, show (Pipeline.scopedRest ((pcfgs (F := F)) 0).spec c : sProp 𝕄) = _ from scopedRest1_eq c]
    unfold Φc
    iintro ⟨%f, %g, -, Hf, Hg⟩
    isplitr; · iempintro
    isplitr; · iempintro
    isplitl [Hf]
    · iexists f; iexact Hf
    iexists g; iexact Hg
  hexit c := by
    have hjoin := Pipeline.unscopedBufs_of_arrays (p := 0) (pcfgs (F := F)) adm (Ix := HIx 1) (Name := ℕ) (U := UU) (Lvl := ℕ) launch1.win launch1.arr_whole c
      (pdats V bnd) ((pdats V bnd 0 c).share_full fun _ => rfl) (V c) (Vp c) ((pdats V bnd 0 c).arrAt · cfg1.N)
      (fun w => by
        match w with
        | 0 => exact ((pdats V bnd 0 c).arrAt_in 0 rfl _).trans (hne c main_arg0 (by decide)).symm
        | 1 => exact ((pdats V bnd 0 c).arrAt_in 1 rfl _).trans (hne c main_v7 (by decide)).symm
        | 2 => exact ((pdats V bnd 0 c).arrAt_in 2 rfl _).trans (hne c main_v13 (by decide)).symm
        | 3 => exact ((pdats V bnd 0 c).arrAt_in 3 rfl _).trans (hne c main_v18 (by decide)).symm
        | 4 => exact ((pdats V bnd 0 c).arrAt_in 4 rfl _).trans (hne c main_v20 (by decide)).symm
        | 5 => exact ((pdats V bnd 0 c).arrAt_in 5 rfl _).trans (hne c main_v6 (by decide)).symm
        | 6 => exact ((pdats V bnd 0 c).arrAt_in 6 rfl _).trans (hne c main_v21 (by decide)).symm
        | 7 => exact ((pdats V bnd 0 c).arrAt_in 7 rfl _).trans (hne c main_v22 (by decide)).symm
        | 8 => exact (arr_out V bnd c).trans (hout c).symm)
      (fun b hb => hne c b fun h => hb (h ▸ Finset.mem_image.mpr ⟨8, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW (Finset.mem_coe.mpr hp) with h | h
      · exact h
      · obtain ⟨w, s, rfl⟩ := h
        exact Nat.zero_le _
    iexact HO

end Cert.Proof.Norm

end
-- ==== Proof.Main.lean ====
/-
  @main on each device, from the launch to the last buffer: the host operations, the SparseCore call, the reshapes and the
  second call; and the program's run.
-/
module

public import proofs.«01_k».proof.Proof.Host
public import proofs.«01_k».proof.Proof.Launch
public import proofs.«01_k».proof.Proof.Region

@[expose] public section

set_option maxRecDepth 16384
set_option maxHeartbeats 2000000

noncomputable section

namespace Cert.Proof.Main

open Cert.KernelIdeal Cert.KernelIdeal.Gen
open Cert.Proof.Host
open Cert.Proof.Starts (startsW padW loW hiW nW sizeW)
open Cert.Proof.Tile (UH UP UU ΛP EP EH K D 𝒱 𝒱₀ v₀ facts statsOut P wrd tileObl vecSplit st_all dn_all xLoc bLoc oLoc)

open Idealize.ShloMosaic
open Idealize.ShloMosaic.TcCoe
open Idealize.ShloMosaic.SparseCore (S V T)
open Idealize.ShloMosaic.SparseCore.Cfg (HIx Pay)
open Idealize.ShloMosaic.StableHlo (after held)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the buffers hold -/

/-- At the launch, -/
def W0 (d : Dev nD) : Valuation τ sig (Elt F) := fun b => m (d, b)
/-- after the host operations, -/
def WA (d : Dev nD) : Valuation τ sig (Elt F) := after opsA (W0 m d)
/-- the rows and the padded bounds the SparseCore call is given, -/
def XX (d : Dev nD) : S50000x256.Idx → F .f32 := WA m d main_arg0
def BB (d : Dev nD) : S96.Idx → BitVec 32 := WA m d main_v7
def OO (d : Dev nD) : S32768.Idx → F .f32 := WA m d main_v19
/-- after the SparseCore call, -/
def WS (d : Dev nD) : Valuation τ sig (Elt F) := Function.update (WA m d) main_v19 (statsOut (XX m d) (BB m d))
/-- after the reshapes, -/
def WB (d : Dev nD) : Valuation τ sig (Elt F) := after opsB (WS m d)
/-- as the region sees them, -/
def VB (c : Dev nD) (b : Ref sig .tc) : Buf (Elt F) ((c : Thread nD τ).loc b) := WB m c b
/-- the result, -/
def res (d : Dev nD) : S50000x256.Idx → F .f32 :=
  Norm.out (Norm.inX (VB m) d) (Norm.inB (VB m) d) (Norm.tA (VB m) d) (Norm.tC (VB m) d)
/-- and after the second call. -/
def VC (c : Dev nD) (b : Ref sig .tc) : Buf (Elt F) ((c : Thread nD τ).loc b) :=
  (Function.update (WB m c) main_v23 (res m c) : Valuation τ sig (Elt F)) b

theorem WS_ne (d : Dev nD) (b : DevRef τ sig) (h : b ≠ main_v19) : WS m d b = WA m d b := Function.update_of_ne h _ _
theorem VC_out (d : Dev nD) : VC m d main_v23 = res m d := Function.update_self _ _ _
theorem VC_ne (d : Dev nD) (b : Ref sig .tc) (h : b ≠ main_v23) : VC m d b = VB m d b :=
  Function.update_of_ne (fun e => h (Proc.devRef_injective (τ := τ) .tc e)) _ _

/-! ## The SparseCore call's operands out of all the buffers -/

def T3 : Finset (DevRef τ sig) := {Proc.devRef (τ := τ) .tc main_arg0, Proc.devRef (τ := τ) .tc main_v7, Proc.devRef (τ := τ) .tc main_v19}

theorem T3_sub : T3 ⊆ Pipeline.ucRefs τ sig := by
  intro b hb
  simp only [T3, Finset.mem_insert, Finset.mem_singleton] at hb
  rcases hb with rfl | rfl | rfl <;> exact Pipeline.devRef_mem_ucRefs rfl

omit [FloatOps F] in
theorem held_T3 (d : Dev nD) (W : Valuation τ sig (Elt F)) :
    (held (T d) T3 W : sProp 𝕄)
      = iprop((xLoc d ↦{fullShare} W main_arg0) ∗ (bLoc d ↦{fullShare} W main_v7) ∗ (oLoc d ↦{fullShare} W main_v19)) := by
  unfold held T3
  rw [SparseCore.bigSep_insert' (by decide), SparseCore.bigSep_insert' (by decide), bigSep_singleton]

theorem call_in (d : Dev nD) :
    (held (d.tc : Thread nD τ) (Pipeline.ucRefs τ sig) (after opsA (W0 m d)) : sProp 𝕄)
      = iprop((bigSep Finset.univ fun c : Fin ((K (F := F)).nCore 0) => (P (XX m) (BB m) (OO m)).st 0 d c)
          ∗ held (T d) (Pipeline.ucRefs τ sig \ T3) (WA m d)) := by
  rw [show after opsA (W0 m d) = WA m d from rfl, StableHlo.held_sub_split (T d) T3_sub, held_T3, st_all]
  rfl

theorem call_out (d : Dev nD) :
    (held (T d) (Pipeline.ucRefs τ sig) (WS m d) : sProp 𝕄)
      = iprop((bigSep Finset.univ fun c : Fin ((K (F := F)).nCore 0) => (P (XX m) (BB m) (OO m)).dn 0 d c)
          ∗ held (T d) (Pipeline.ucRefs τ sig \ T3) (WA m d)) := by
  rw [StableHlo.held_sub_split (T d) T3_sub, held_T3, dn_all,
    StableHlo.held_congr (T d) (S := Pipeline.ucRefs τ sig \ T3) (V := WS m d) (V' := WA m d)
      (fun b hb => WS_ne m d b fun e => (Finset.mem_sdiff.mp hb).2 (e ▸ by decide)),
    WS_ne m d main_arg0 (by decide), WS_ne m d main_v7 (by decide)]
  unfold WS
  rw [Function.update_self]
  rfl

/-! ## The launch element -/

def u₀ : UU := (initOf (K (F := F)).hsCells (K (F := F)).hsToks, (initOf (Pipeline.cells (Pipeline.pin (pcfgs (F := F)) Norm.adm) (nD := nD) cellOf_inj)
  (Pipeline.launchToks (Pipeline.pin (pcfgs (F := F)) Norm.adm) (nD := nD) cellOf_inj), 1))

/-- What each device's TensorCore is dealt beside its buffers: the second call's cells and tokens. -/
abbrev G (d : Dev nD) : sProp 𝕄 :=
  iprop((bigSep Finset.univ fun p : Fin 1 => Pipeline.cellsGhost (Pipeline.pin (pcfgs (F := F)) Norm.adm) EP p d)
    ∗ bigSep Finset.univ fun p : Fin 1 => (Pipeline.toksInit (Pipeline.pin (pcfgs (F := F)) Norm.adm) EP p d : sProp 𝕄))

omit [FloatOps F] in
theorem own_up (a : UP) (b : Counters) : (BI.own ((embR : Emb (UP × Counters) 𝕄) (a, b)) : sProp 𝕄) ⊢ BI.own (EP a) :=
  (own_pair_emb (embR : Emb (UP × Counters) 𝕄) a b).trans sep_elim_left

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (XX m) (BB m) (OO m)).x q thr) := by
  unfold u₀
  iintro Hu
  ihave H := (ownU_pair (initOf (K (F := F)).hsCells (K (F := F)).hsToks) _) $$ Hu
  icases H with ⟨HH, HP⟩
  ihave HP := (own_up (F := F) _ _) $$ HP
  ihave HP := (Pipeline.fund_ghost (Pipeline.pin (pcfgs (F := F)) Norm.adm) EP (nD := nD) cellOf_inj) $$ HP
  imod HP
  imodintro
  isplitl [HH]; · iexact HH
  isplitl [HP]
  · rw [show (bigSep Finset.univ fun d : Dev nD => G (F := F) d) = _ from bigSep_sep' _ _ _]
    iexact HP
  rw [show (bigSep Finset.univ fun thr : Thread nD τ => bigSep Finset.univ fun q : Fin 1 => (P (XX m) (BB m) (OO m)).x q thr) = bigSep Finset.univ fun _ => iprop(emp) from
    bigSep_congr fun _ _ => bigSep_univ_of_subsingleton (0 : Fin 1)]
  iapply (Entails.of_eq (bigSep_emp_const (Finset.univ : Finset (Thread nD τ))).symm)
  iempintro

/-! ## @main -/

abbrev FIN (d : Dev nD) : sProp 𝕄 := unscopedBufs d (VC m d)

theorem init_held (d : Dev nD) :
    (unscopedBufs d (fun b => m ((SparseCore.T d).loc b)) : sProp 𝕄) = held (T d) (Pipeline.ucRefs τ sig) (W0 m d) :=
  Pipeline.unscopedBufs_held (Ix := HIx 1) (Name := ℕ) (U := UU) (Lvl := ℕ) d (W0 m d)

/-- What the region is entered with and left with. -/
theorem reg_pre (bnd : ℕ) (hok : ∀ c, Norm.Ok (VB m) c) (d : Dev nD) :
    (Norm.reg (VB m) bnd (VC m) hok (VC_out m) (VC_ne m)).pre d
      = iprop(unscopedBufs d (VB m d) ∗ ∃ W, ⌜(K (F := F)).WBelow (SparseCore.T d) W bnd⌝ ∗ owes (SparseCore.T d) 0 W) := rfl
theorem reg_post (bnd : ℕ) (hok : ∀ c, Norm.Ok (VB m) c) (d : Dev nD) :
    (Norm.reg (VB m) bnd (VC m) hok (VC_out m) (VC_ne m)).post d
      = iprop(unscopedBufs d (VC m d) ∗ ∃ W, ⌜(K (F := F)).WBelow (SparseCore.T d) W bnd⌝ ∗ owes (SparseCore.T d) 0 W) := rfl

/-- The second call, under the program's own body table: from every buffer at the reshaped values, what is owed unchanged. -/
theorem enter_eq :
    (Idealize.SL.Sem.Prog.lift (.customCall (SparseCore.inner (Pipeline.entry 0)) ()) : Prog (TpuEff nD τ sig (Elt F) (SparseCore.Sig (ΛP (F := F)) 1) .tc) PUnit)
      = SparseCore.liftProg (.op (.customCall (Pipeline.entry 0) ()) .ret : Prog (TpuEff nD τ sig (Elt F) (ΛP (F := F)) .tc) PUnit) := rfl

theorem region_step (bnd : ℕ) (hok : ∀ c, Norm.Ok (VB m) c) (κ : GSem nD τ sig → ℕ) (d : Dev nD) (Φ : PUnit → sProp 𝕄) :
    iprop((K (F := F)).ctx EH (P (XX m) (BB m) (OO m)) κ ∗ boundary (SparseCore.T d) ∗ unscopedBufs d (VB m d)
        ∗ (∃ W, ⌜(K (F := F)).WBelow (SparseCore.T d) W bnd⌝ ∗ owes (SparseCore.T d) 0 W) ∗ G (F := F) d
        ∗ ((boundary (SparseCore.T d) ∗ unscopedBufs d (VC m d)
            ∗ ∃ W, ⌜(K (F := F)).WBelow (SparseCore.T d) W bnd⌝ ∗ owes (SparseCore.T d) 0 W) -∗ Φ ⟨⟩))
      ⊢ wp frame (wpE ((K (F := F)).defs (D (F := F))) 𝒱 (SparseCore.T d) none) Set.univ
          (Idealize.SL.Sem.Prog.lift (.customCall (SparseCore.inner (Pipeline.entry 0)) ())) Φ := by
  rw [enter_eq]
  iintro ⟨#Hctx, Hb, Hu, HO, ⟨Hg, Ht⟩, Hk⟩
  ihave Hlev := (SparseCore.Cfg.ctx_levAts κ) $$ Hctx
  ihave Hg := (Entails.of_eq (bigSep_univ_of_subsingleton (0 : Fin 1))) $$ Hg
  ihave Ht := (Entails.of_eq (bigSep_univ_of_subsingleton (0 : Fin 1))) $$ Ht
  iapply ((K (F := F)).wp_liftProg (D (F := F)) 𝒱 (SparseCore.T d) Set.univ none (.op (.customCall (Pipeline.entry 0) ()) .ret) Φ)
  iapply (Pipeline.RegionSeg.wp (pcfgs (F := F)) Norm.adm (Norm.pdats (VB m) bnd) (none : HIx 1) cellOf_inj EP defs₀ 𝒱₀ (K (F := F)).L (K (F := F)).lev
    (Norm.reg (VB m) bnd (VC m) hok (VC_out m) (VC_ne m)) d none (fun _ h => absurd h (by simp)) _ Φ) $$ [Hb Hu HO Hg Ht Hk Hlev]
  rw [reg_pre, reg_post]
  isplitl [Hk]
  · iintro ⟨Hb, Hp⟩
    rw [wp_ret]
    imodintro
    iapply Hk
    isplitl [Hb]; · iexact Hb
    iexact Hp
  isplitl [Hb]; · iexact Hb
  isplitl [Hu HO]
  · isplitl [Hu]; · iexact Hu
    iexact HO
  isplitl [Hlev]; · iexact Hlev
  isplitl [Hg]; · iexact Hg
  iexact Ht

theorem mid_held (d : Dev nD) :
    (held (d.tc : Thread nD τ) (Pipeline.ucRefs τ sig) (after opsB (WS m d)) : sProp 𝕄) = unscopedBufs d (VB m d) :=
  (Pipeline.unscopedBufs_held (Ix := HIx 1) (Name := ℕ) (U := UU) (Lvl := ℕ) d (WB m d)).symm

theorem hmain (hok : ∀ c, Norm.Ok (VB m) c) (κ : GSem nD τ sig → ℕ) (d : Dev nD) :
    iprop((K (F := F)).ctx EH (P (XX m) (BB m) (OO m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq]
  rw [init_held]
  iintro ⟨#Hctx, Hst, ⟨Hb, Hh, Hts, -⟩, HG⟩
  iapply (StableHlo.wp_seq 𝒱 none Set.univ d (Pipeline.ucRefs τ sig) _ opsA
    (fun op h => Pipeline.sub_ucRefs op (opsA_bufs op h)) opsA_fresh (W0 m d)) $$ [Hb Hh]
  · isplitl [Hb] <;> iassumption
  iintro ⟨Hb, Hh⟩
  rw [wp_bind]
  ihave Hh := (Entails.of_eq (call_in m d)) $$ Hh
  icases Hh with ⟨Hin, Hrest⟩
  iapply ((K (F := F)).wp_run (D (F := F)) 𝒱 (EH := EH) (P := P (XX m) (BB m) (OO m)) κ d 0) $$ [Hst Hin Hrest Hb Hts HG]
  isplitr; · iexact Hctx
  isplitl [Hst]; · iexact Hst
  isplitl [Hin]; · iexact Hin
  iintro ⟨Hst, Hdn⟩
  ihave Hh := (Entails.of_eq (call_out m d).symm) $$ [Hdn Hrest]
  · isplitl [Hdn] <;> iassumption
  iapply (StableHlo.wp_seq 𝒱 none Set.univ d (Pipeline.ucRefs τ sig) _ opsB
    (fun op h => Pipeline.sub_ucRefs op (opsB_bufs op h)) opsB_fresh (WS m d)) $$ [Hb Hh]
  · isplitl [Hb] <;> iassumption
  iintro ⟨Hb, Hh⟩
  rw [wp_bind]
  unfold SparseCore.Cfg.tcSt
  icases Hst with ⟨HO, Hrest⟩
  rw [(K (F := F)).Otc_end d (by decide : 1 ≤ ((0 : Fin 1).val + 1))]
  ihave Hu := (Entails.of_eq (mid_held m d)) $$ Hh
  iapply (region_step m _ hok κ d) $$ [Hb Hu HO Hrest Hts HG]
  isplitr; · iexact Hctx
  isplitl [Hb]; · iexact Hb
  isplitl [Hu]; · iexact Hu
  isplitl [HO]; · iexact HO
  isplitl [HG]; · iexact HG
  iintro ⟨Hb, Hu, HO⟩
  rw [wp_pure]
  imodintro
  rw [(K (F := F)).Otc_end d (le_refl 1)]
  isplitl [HO Hrest]
  · isplitl [HO]; · iexact HO
    iexact Hrest
  isplitl [Hu]; · iexact Hu
  isplitl [Hb] <;> iassumption

end Cert.Proof.Main

end
-- ==== Proof.Run.lean ====
/-
  The program's run: it ends, every unscoped buffer at its value, every semaphore at zero.
-/
module

public import proofs.«01_k».proof.Proof.Main
public import Idealize.ShloMosaic.Lib.SparseCore.Quiescent

@[expose] public section

set_option maxRecDepth 16384
set_option maxHeartbeats 2000000

noncomputable section

namespace Cert.Proof.Main

open Cert.KernelIdeal Cert.KernelIdeal.Gen
open Cert.Proof.Host
open Cert.Proof.Starts (startsW padW loW hiW nW sizeW asc span)
open Cert.Proof.Tile (UH UP UU ΛP EP EH K D 𝒱 𝒱₀ v₀ facts statsOut P wrd tileObl vecSplit st_all dn_all xLoc bLoc oLoc)

open Idealize.ShloMosaic
open Idealize.ShloMosaic.TcCoe
open Idealize.ShloMosaic.SparseCore.Cfg (HIx Pay)
open Idealize.ShloMosaic.StableHlo (after held)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## Reading the final memory -/

def fq (d : Dev nD) (s' : Phys nD τ sig (Elt F)) : Prop :=
  ∀ b : Ref sig .tc, ¬ b.isScoped → s'.mem.mem ((SparseCore.T d : Thread nD τ).loc b) = VC m d b

theorem fin_one (d : Dev nD) (s' : Phys nD τ sig (Elt F)) (b : Ref sig .tc) (hb : ¬ b.isScoped) :
    iprop(FIN m d ∗ SI s') ⊢ (⌜s'.mem.mem ((SparseCore.T d : Thread nD τ).loc b) = VC m d b⌝ : sProp 𝕄) := by
  have hel : (FIN m d : sProp 𝕄) ⊢ ((SparseCore.T d : Thread nD τ).loc b ↦{fullShare} VC m d b) :=
    bigSep_elim (Finset.mem_filter.mpr ⟨Finset.mem_univ b, hb⟩)
  iintro ⟨Hf, HSI⟩
  ihave Hb := hel $$ Hf
  ihave H := (SI_pointsTo_agree (st := s') (ℓ := (SparseCore.T d : Thread nD τ).loc b) (I := Finset.univ) (q := fullShare) (f := VC m d b)) $$ [HSI Hb]
  · isplitl [HSI] <;> iassumption
  icases H with %h
  ipureintro; exact funext fun i => h i (Finset.mem_univ i)

theorem hfin (d : Dev nD) (s' : Phys nD τ sig (Elt F)) : iprop(FIN m d ∗ SI s') ⊢ (⌜fq m d s'⌝ : sProp 𝕄) :=
  ((Laws.forall_intro fun b : {b : Ref sig .tc // ¬ b.isScoped} => fin_one m d s' b.1 b.2).trans Laws.pure_forall.2).trans
    (Laws.pure_mono fun all b hb => all ⟨b, hb⟩)

/-! ## The run -/

/-- Every word of `batch` names a graph. -/
def InRange : Prop := ∀ (d : Dev nD) (r : S50000.Idx), (W0 m d main_arg1 r : BitVec 32).toNat < 64

theorem bb_eq (d : Dev nD) : BB m d = padW (startsW (W0 m d main_arg1)) := a_v7 (W0 m d)

theorem asc_bb (h : InRange m) (d : Dev nD) : Tile.Asc (BB m d) := by rw [bb_eq]; exact asc (h d)

theorem vb_arg (d : Dev nD) (b : Ref sig .tc) (h0 : b ≠ main_v20) (h1 : b ≠ main_v21)
    (h2 : b ≠ main_v22) (h3 : (b : DevRef τ sig) ≠ main_v19) : VB m d b = WA m d b :=
  (b_ne (WS m d) b h0 h1 h2).trans (WS_ne m d b h3)

theorem inB_eq (d : Dev nD) : Norm.inB (VB m) d = padW (startsW (W0 m d main_arg1)) :=
  (vb_arg m d main_v7 (by decide) (by decide) (by decide) (by decide)).trans (a_v7 (W0 m d))
theorem inG_eq (d : Dev nD) : Norm.inG (VB m) d = loW (startsW (W0 m d main_arg1)) :=
  (vb_arg m d main_v13 (by decide) (by decide) (by decide) (by decide)).trans (a_v13 (W0 m d))
theorem inN_eq (d : Dev nD) : Norm.inN (VB m) d = nW (startsW (W0 m d main_arg1)) :=
  (vb_arg m d main_v18 (by decide) (by decide) (by decide) (by decide)).trans (a_v18 (W0 m d))

theorem ok (h : InRange m) (d : Dev nD) : Norm.Ok (VB m) d := by
  refine ⟨?_, fun i hi => ?_⟩
  · rw [inB_eq]; exact asc (h d)
  · rw [inB_eq, inG_eq, inN_eq]; exact span (h d) i hi

/-- What the run leaves: the result at its value, the arguments as they were, every semaphore at zero. -/
def QC : PUnit × MemSt nD τ sig (Elt F) → Prop := fun r => (∀ c : Dev nD,
  r.2.mem (c.tc.loc main_v23) = res m c
  ∧ r.2.mem (c.tc.loc main_arg0) = m (c.tc.loc main_arg0) ∧ r.2.mem (c.tc.loc main_arg1) = m (c.tc.loc main_arg1)
  ∧ r.2.mem (c.tc.loc main_arg2) = m (c.tc.loc main_arg2) ∧ r.2.mem (c.tc.loc main_arg3) = m (c.tc.loc main_arg3)) ∧ r.2.sem = fun _ => 0

theorem vc_arg0 (d : Dev nD) : VC m d main_arg0 = m (d.tc.loc main_arg0) :=
  (VC_ne m d main_arg0 (by decide)).trans ((vb_arg m d main_arg0 (by decide) (by decide) (by decide) (by decide)).trans (a_arg0 (W0 m d)))
theorem vc_arg1 (d : Dev nD) : VC m d main_arg1 = m (d.tc.loc main_arg1) :=
  (VC_ne m d main_arg1 (by decide)).trans ((vb_arg m d main_arg1 (by decide) (by decide) (by decide) (by decide)).trans (a_arg1 (W0 m d)))
theorem vc_arg2 (d : Dev nD) : VC m d main_arg2 = m (d.tc.loc main_arg2) :=
  (VC_ne m d main_arg2 (by decide)).trans ((vb_arg m d main_arg2 (by decide) (by decide) (by decide) (by decide)).trans (a_arg2 (W0 m d)))
theorem vc_arg3 (d : Dev nD) : VC m d main_arg3 = m (d.tc.loc main_arg3) :=
  (VC_ne m d main_arg3 (by decide)).trans ((vb_arg m d main_arg3 (by decide) (by decide) (by decide) (by decide)).trans (a_arg3 (W0 m d)))

theorem qc_of (s' : Phys nD τ sig (Elt F)) (h : ∀ d, fq m d s') (hz : s'.mem.sem = fun _ => 0) : QC m (⟨⟩, s'.mem) :=
  ⟨fun c => ⟨(h c main_v23 (by decide)).trans (VC_out m c), (h c main_arg0 (by decide)).trans (vc_arg0 m c),
    (h c main_arg1 (by decide)).trans (vc_arg1 m c), (h c main_arg2 (by decide)).trans (vc_arg2 m c),
    (h c main_arg3 (by decide)).trans (vc_arg3 m c)⟩, hz⟩

theorem run_main [∀ e, Nonempty (Elt F e)] (h : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (XX m) (BB m) (OO m)) (A := ∅) facts v₀
    (fun q hq => match q with | 0 => nomatch hq)
    (fun q _ => match q with | 0 => tileObl (XX m) (BB m) (OO m) (asc_bb m h))
    (fun q _ => match q with | 0 => SparseCore.Cfg.VecSplit.of_plain (vecSplit (XX m) (BB m) (OO m)))
    m ρ main (fun d => G (F := F) d) (FIN m) (u₀ (F := F)) (sep_elim_left.trans (hu₀ m)) (hmain m ρ (ok m h)) (fq m) (hfin m) (QC m) (qc_of m)

end Cert.Proof.Main

end
-- ==== Proof.Frames.lean ====
/-
  The frames of the kernel read at the ideal and of the reference.
-/
module

public import proofs.«01_k».proof.Defs
public import proofs.«01_k».proof.Proof.Pre
public import proofs.«01_k».proof.Proof.Run
public import proofs.«01_k».proof.Proof.Gen.ReferenceIdeal.Run

@[expose] public section

set_option maxRecDepth 16384

noncomputable section

namespace Cert.Proof

open Idealize.ShloMosaic Idealize.SL.Sem
open Cert.Proof.Main (InRange QC run_main)

theorem range_ideal {m : (ℓ : Loc Cert.KernelIdeal.nD Cert.KernelIdeal.τ Cert.KernelIdeal.sig) → Buf (Elt Ideal) ℓ} (h : Pre_KernelIdeal m) : InRange m :=
  fun d r => Pre.in_range (h d) r

theorem frame_ideal : quiescent_KernelIdeal :=
  fun m g h => (θ_run _ _ _).mono (fun _ q => ⟨fun c => (q.1 c).2, q.2⟩) (run_main (F := Ideal) m g (range_ideal h))

theorem frame_reference : quiescent_ReferenceIdeal :=
  fun m g _ => (θ_run _ _ _).mono (fun r q => ⟨fun c => (q c).2, sem_eq_zero_of_no_sems (by decide) r.2⟩) (Cert.ReferenceIdeal.Value.run m g)

end Cert.Proof

end
-- ==== Proof.Pooled.lean ====
/-
  What the second precondition says of the argument arrays.
-/
module

public import proofs.«01_k».proof.Pre_pooled_input
public import proofs.«01_k».proof.Proof.Pre
public import Idealize.ShloMosaic.Lib.ReduceAll
public import Idealize.ShloMosaic.Lib.WordCmp
public import Idealize.ShloMosaic.Lib.Pointwise
public import Idealize.ShloMosaic.Lib.Affine

@[expose] public section

set_option maxRecDepth 16384

noncomputable section

namespace Cert.Proof.Pre

open Idealize.ShloMosaic

instance pooled_facts : Cert.Pre_pooled_input.Facts where
  bcast_S_S50000x256 := by decide
  reducesTo_S50000x256_S_d0_1 := by decide
  h_S_ := by decide
  bcast_S_S256 := by decide
  reducesTo_S256_S_d0 := by decide
  bcast_S_S50000 := by decide
  reducesTo_S50000_S_d0 := by decide
  slices_S50000_S49999_0 := by decide
  slices_S50000_S49999_1 := by decide
  reducesTo_S49999_S_d0 := by decide
  bcast_S_S127 := by decide
  slices_S50000_S127_49872 := by decide
  slices_S50000_S127_49873 := by decide
  reducesTo_S127_S_d0 := by decide

open Cert.Pre_pooled_input (S50000x256 S50000 S256 S_)

variable {F : FTy → Type} [FloatOps F]

variable {x : FVec F S50000x256 .f32} {b : IVec S50000 32} {g e : FVec F S256 .f32}

theorem slice_at {n o : ℕ} (b : IVec S50000 32) (h : S50000.Slices ![o] (⟨1, ![n]⟩ : Shape)) (i : (⟨1, ![n]⟩ : Shape).Idx) (k : Fin 50000) (hk : k.val = o + (i 0).val) :
    extractStridedSlice (⟨1, ![n]⟩ : Shape) ![o] b h i = b (ix1 k) := by
  unfold extractStridedSlice
  congr 1
  funext a
  match a with
  | 0 => exact Fin.ext hk.symm

theorem cmpi_at {s : Shape} (p : CmpIPredicate) (x y : IVec s 32) (i : s.Idx) : cmpi p x y i = IntOp.cmpi p (x i) (y i) := rfl

theorem ori_at {s : Shape} {w : ℕ} (x y : IVec s w) (i : s.Idx) : ori x y i = IntOp.ori (x i) (y i) := rfl

theorem parts (h : Cert.Pre_pooled_input.fn x b g e = fun _ => 1#1) :
    (∀ r : S50000.Idx, (b r).toNat < 64)
    ∧ (∀ i : S50000x256.Idx, FloatOps.cmpf .olt (FloatOps.hostAbsf (x i)) (FloatOps.ofBits .f32 0x7F800000#32) = 1#1)
    ∧ (∀ i : S256.Idx, FloatOps.cmpf .olt (FloatOps.hostAbsf (g i)) (FloatOps.ofBits .f32 0x7F800000#32) = 1#1)
    ∧ (∀ i : Cert.Pre_pooled_input.S49999.Idx, IntOp.cmpi .sle (b (ix1 ⟨(i 0).val, Nat.lt_succ_of_lt (i 0).isLt⟩)) (b (ix1 ⟨(i 0).val + 1, Nat.succ_lt_succ (i 0).isLt⟩)) = 1#1)
    ∧ (∀ i : Cert.Pre_pooled_input.S127.Idx, IntOp.ori
        (IntOp.cmpi .eq (b (ix1 ⟨49872 + (i 0).val, Nat.lt_of_lt_of_le (Nat.add_lt_add_left (i 0).isLt 49872) (by decide)⟩)) (b (ix1 ⟨49873 + (i 0).val, Nat.add_lt_add_left (i 0).isLt 49873⟩)))
        (IntOp.cmpi .eq (IntOp.andi (BitVec.ofNat 32 (i 0).val) 3#32) 3#32) = 1#1) := by
  have h := congrFun h (fun a => a.elim0)
  unfold Cert.Pre_pooled_input.fn Cert.Pre_pooled_input.fn_part1 at h
  obtain ⟨h, h28⟩ := IntOp.andi_eq_one.1 h
  obtain ⟨h, h18⟩ := IntOp.andi_eq_one.1 h
  obtain ⟨h8, h14⟩ := IntOp.andi_eq_one.1 h
  obtain ⟨h3, h7⟩ := IntOp.andi_eq_one.1 h8
  refine ⟨fun r => lt_of_bits (Host.reduce_andi_all (t := S_) _ _ _ _ _ h14 r), fun i => Host.reduce_andi_all (t := S_) _ _ _ _ _ h3 i,
    fun i => Host.reduce_andi_all (t := S_) _ _ _ _ _ h7 i, fun i => ?_, fun i => ?_⟩
  · have := Host.reduce_andi_all (t := S_) _ _ _ _ _ h18 i
    rw [cmpi_at] at this
    beta_reduce at this
    rw [slice_at _ _ i ⟨(i 0).val, Nat.lt_succ_of_lt (i 0).isLt⟩ (Nat.zero_add _).symm,
      slice_at _ _ i ⟨(i 0).val + 1, Nat.succ_lt_succ (i 0).isLt⟩ (Nat.add_comm _ _)] at this
    exact this
  · have := Host.reduce_andi_all (t := S_) _ _ _ _ _ h28 i
    rw [ori_at, cmpi_at, cmpi_at] at this
    beta_reduce at this
    rw [slice_at _ _ i ⟨49872 + (i 0).val, _⟩ rfl, slice_at _ _ i ⟨49873 + (i 0).val, Nat.add_lt_add_left (i 0).isLt 49873⟩ rfl] at this
    exact this

end Cert.Proof.Pre

end
-- ==== Proof.PooledFrames.lean ====
/-
  The same frames under the value claim's precondition.
-/
module

public import proofs.«01_k».proof.Defs
public import proofs.«01_k».proof.Proof.Pooled
public import proofs.«01_k».proof.Proof.Frames
public import proofs.«01_k».proof.Proof.Run
public import proofs.«01_k».proof.Proof.Gen.ReferenceIdeal.Run

@[expose] public section

set_option maxRecDepth 16384

noncomputable section

namespace Cert.Proof

open Idealize.ShloMosaic Idealize.SL.Sem
open Cert.Proof.Main (InRange QC run_main)

theorem range_pooled {m : (ℓ : Loc Cert.KernelIdeal.nD Cert.KernelIdeal.τ Cert.KernelIdeal.sig) → Buf (Elt Ideal) ℓ} (h : Pre_KernelIdeal_pooled_input m) : InRange m :=
  fun d r => (Pre.parts (h d)).1 r

theorem frame_ideal_pooled : quiescent_KernelIdeal_pre_pooled_input :=
  fun m g h => (θ_run _ _ _).mono (fun _ q => ⟨fun c => (q.1 c).2, q.2⟩) (run_main (F := Ideal) m g (range_pooled h))

theorem frame_reference_pooled : quiescent_ReferenceIdeal_pre_pooled_input :=
  fun m g _ => frame_reference m g trivial

end Cert.Proof

end
-- ==== Proof.SameTile.lean ====
/-
  The SparseCore program is one text in both printings.
-/
module

public import proofs.«01_k».proof.Proof.Gen.Kernel
public import proofs.«01_k».proof.Proof.Gen.KernelIdeal
public import Idealize.ShloMosaic.PureOps.BitExact

@[expose] public section

set_option maxRecDepth 100000
set_option maxHeartbeats 0

noncomputable section

namespace Cert.Proof.Same

open Idealize.ShloMosaic Idealize.SL.Sem

theorem tile_same : Cert.KernelIdeal.cc0__sc_stats_body (F := Bits) = Cert.Kernel.cc0__sc_stats_body (F := Bits) := rfl

end Cert.Proof.Same

end
-- ==== Proof.SameMain.lean ====
/-
  The host program is one text in both printings.
-/
module

public import proofs.«01_k».proof.Proof.Gen.Kernel
public import proofs.«01_k».proof.Proof.Gen.KernelIdeal
public import Idealize.ShloMosaic.PureOps.BitExact

@[expose] public section

set_option maxRecDepth 100000
set_option maxHeartbeats 0

noncomputable section

namespace Cert.Proof.Same

open Idealize.ShloMosaic Idealize.SL.Sem

theorem main_same : Cert.KernelIdeal.main (F := Bits) = Cert.Kernel.main (F := Bits) := rfl

end Cert.Proof.Same

end
-- ==== Proof.SameNorm.lean ====
/-
  The TensorCore program is one text in both printings.
-/
module

public import proofs.«01_k».proof.Proof.Gen.Kernel
public import proofs.«01_k».proof.Proof.Gen.KernelIdeal
public import Idealize.ShloMosaic.PureOps.BitExact

@[expose] public section

set_option maxRecDepth 100000
set_option maxHeartbeats 0

noncomputable section

namespace Cert.Proof.Same

open Idealize.ShloMosaic Idealize.SL.Sem

theorem norm_same : Cert.KernelIdeal.cc1__norm_kernel (F := Bits) = Cert.Kernel.cc1__norm_kernel (F := Bits) := rfl

end Cert.Proof.Same

end
-- ==== Proof.Same.lean ====
/-
  The kernel read at the machine's floats is the program the run is proved of, so its frame is that run's.
-/
module

public import proofs.«01_k».proof.Defs
public import proofs.«01_k».proof.Proof.Pre
public import proofs.«01_k».proof.Proof.Run
public import proofs.«01_k».proof.Proof.SameTile
public import proofs.«01_k».proof.Proof.SameMain
public import proofs.«01_k».proof.Proof.SameNorm

@[expose] public section

set_option maxRecDepth 100000
set_option maxHeartbeats 0

noncomputable section

namespace Cert.Proof.Same

open Idealize.ShloMosaic Idealize.SL.Sem
open Cert.Proof.Main (InRange QC run_main)

theorem bodies_same : Cert.KernelIdeal.defs₀ (F := Bits) = Cert.Kernel.defs₀ (F := Bits) := by
  funext p ℓ a
  match p, ℓ, a with
  | .scVector c s, 0, a => unfold Cert.KernelIdeal.defs₀; rw [tile_same]; rfl
  | .tc, 1, (t, s) => unfold Cert.KernelIdeal.defs₀; rw [norm_same]; rfl
  | .tc, 0, a => rfl
  | .scScalar c, 0, a => rfl
  | .scScalar c, 1, a => rfl
  | .scVector c s, 1, a => rfl

theorem defs_same : Cert.KernelIdeal.defs (F := Bits) = Cert.Kernel.defs (F := Bits) := by
  unfold Cert.KernelIdeal.defs; rw [bodies_same]; rfl

theorem threads_same : Cert.KernelIdeal.threads (F := Bits) = Cert.Kernel.threads (F := Bits) := by
  unfold Cert.KernelIdeal.threads; rw [main_same]; rfl

/-- The run of the kernel, over the machine's floats. -/
theorem run (m : (ℓ : Loc Cert.Kernel.nD Cert.Kernel.τ Cert.Kernel.sig) → Buf (Elt Bits) ℓ) (ρ : Dev Cert.Kernel.nD → PrngReg) (h : InRange (F := Bits) m) :
    θ_run (Cert.Kernel.defs (F := Bits)) (Cert.Kernel.threads (F := Bits)) ⟨m, fun _ => 0, ρ⟩ (QC (F := Bits) m) := by
  have h := run_main (F := Bits) m ρ h
  rw [defs_same, threads_same] at h
  exact h

theorem range_kernel {m : (ℓ : Loc Cert.Kernel.nD Cert.Kernel.τ Cert.Kernel.sig) → Buf (Elt Bits) ℓ} (h : Pre_Kernel m) : InRange (F := Bits) m :=
  fun d r => Pre.in_range (h d) r

theorem frame_kernel : quiescent_Kernel :=
  fun m g h => (θ_run _ _ _).mono (fun _ q => ⟨fun c => (q.1 c).2, q.2⟩) (run m g (range_kernel h))

end Cert.Proof.Same

end
-- ==== Proof.KerSum.lean ====
/-
  What the SparseCore leaves, at the ideal: the sums over the rows of a group.
-/
module

public import proofs.«01_k».proof.Proof.Fold
public import Idealize.ShloMosaic.PureOps.Ideal
public import Idealize.ShloMosaic.Lib.IdealHost
public import Mathlib.Algebra.BigOperators.Intervals

@[expose] public section

set_option maxRecDepth 16384

noncomputable section

namespace Cert.Proof.Tile

open Cert.KernelIdeal Cert.KernelIdeal.Gen Cert.Words
open Idealize.ShloMosaic
open scoped BigOperators

theorem sumRows_at (w : S128x256.Idx → Ideal .f32) (r n : ℕ) (g : ℕ → Ideal .f32) (c : ℕ) :
    (sumRows w r n g c : EReal) = g c + ∑ k ∈ Finset.range n, (cell w (r + k) c : EReal) := by
  induction n with
  | zero => rw [Finset.sum_range_zero, add_zero]; rfl
  | succ n ih => rw [Finset.sum_range_succ, ← add_assoc, ← ih]; rfl

theorem sqRows_at (w : S128x256.Idx → Ideal .f32) (r n : ℕ) (g : ℕ → Ideal .f32) (c : ℕ) :
    (sqRows w r n g c : EReal) = g c + ∑ k ∈ Finset.range n, (cell w (r + k) c : EReal) * (cell w (r + k) c : EReal) := by
  induction n with
  | zero => rw [Finset.sum_range_zero, add_zero]; rfl
  | succ n ih => rw [Finset.sum_range_succ, ← add_assoc, ← ih]; rfl

/-- An entry of the array, by its row and column. -/
def entry (X : S50000x256.Idx → Ideal .f32) (r c : ℕ) : EReal :=
  X (fun | 0 => ⟨min r 49999, by show min r 49999 < 50000; omega⟩ | 1 => ⟨min c 255, by show min c 255 < 256; omega⟩)

theorem cell_at (X : S50000x256.Idx → Ideal .f32) (b r c : ℕ) (hr : r < 128) : (cell (winOf X b) r c : EReal) = entry X (b + r) c := by
  unfold cell winOf entry
  refine congrArg X (funext fun a => ?_)
  match a with
  | 0 => exact Fin.ext (by show min (b + min r 127) 49999 = min (b + r) 49999; omega)
  | 1 => rfl

theorem shift (h ψ : ℕ → EReal) (B r n : ℕ) (hh : ∀ k < 128, h k = ψ (B + k)) (hr : r + n ≤ 128) :
    ∑ k ∈ Finset.range n, h (r + k) = ∑ k ∈ Finset.Ico (B + r) (B + r + n), ψ k := by
  rw [Finset.sum_Ico_eq_sum_range, Nat.add_sub_cancel_left]
  refine Finset.sum_congr rfl fun k hk => ?_
  have := Finset.mem_range.1 hk
  rw [hh _ (by omega), Nat.add_assoc]

/-- The rows a window adds are the group's rows in it. -/
theorem bounds_at {S E : ℕ} (hS : S ≤ E) (hE : E ≤ 50000 ∧ (E ≤ 49872 ∨ E % 4 = 0)) (c : ℕ) :
    (Lo S c ≤ Hi S E c ∧ Rest S E c = Lo S c + 4 * ((Hi S E c - Lo S c) / 4) ∧ Rest S E c ≤ Hi S E c ∧ Hi S E c ≤ 128
      ∧ ((Bd S c + Lo S c = max S (Ast S + 128 * c) ∧ Bd S c + Hi S E c = min E (Ast S + 128 * c + 128)) ∨ (Lo S c = Hi S E c ∧ min E (Ast S + 128 * c + 128) ≤ max S (Ast S + 128 * c))))
    ∨ ((Hi S E c - Lo S c) / 4 = 0 ∧ Hi S E c - Rest S E c = 0 ∧ min E (Ast S + 128 * c + 128) ≤ max S (Ast S + 128 * c)) := by
  unfold Rest Hi Lo Bd Ast
  omega

theorem two {S E : ℕ} (hS : S ≤ E) (hE : E ≤ 50000 ∧ (E ≤ 49872 ∨ E % 4 = 0)) (c : ℕ) (h ψ : ℕ → EReal) (hh : ∀ k < 128, h k = ψ (Bd S c + k)) :
    ∑ k ∈ Finset.range (4 * ((Hi S E c - Lo S c) / 4)), h (Lo S c + k) + ∑ k ∈ Finset.range (Hi S E c - Rest S E c), h (Rest S E c + k)
      = ∑ k ∈ Finset.Ico (max S (Ast S + 128 * c)) (min E (Ast S + 128 * c + 128)), ψ k := by
  rcases bounds_at hS hE c with ⟨h1, h2, h3, h4, h5⟩ | ⟨h1, h2, h3⟩
  · rw [shift h ψ _ _ _ hh (by omega), shift h ψ _ _ _ hh (by omega)]
    have e1 : Bd S c + Lo S c + 4 * ((Hi S E c - Lo S c) / 4) = Bd S c + Rest S E c := by omega
    have e2 : Bd S c + Rest S E c + (Hi S E c - Rest S E c) = Bd S c + Hi S E c := by omega
    rw [e1, e2, Finset.sum_Ico_consecutive _ (by omega) (by omega)]
    rcases h5 with ⟨e3, e4⟩ | ⟨e3, e4⟩
    · rw [e3, e4]
    · rw [e3, Finset.Ico_self, Finset.Ico_eq_empty_of_le e4]
  · rw [h1, h2, Finset.Ico_eq_empty_of_le h3]; simp

theorem more {S E : ℕ} (hS : S ≤ E) (n : ℕ) (ψ : ℕ → EReal) :
    ∑ k ∈ Finset.Ico S (max S (min E (Ast S + 128 * n))), ψ k + ∑ k ∈ Finset.Ico (max S (Ast S + 128 * n)) (min E (Ast S + 128 * n + 128)), ψ k
      = ∑ k ∈ Finset.Ico S (max S (min E (Ast S + 128 * (n + 1)))), ψ k := by
  have hA : Ast S ≤ S ∧ S < Ast S + 8 := by unfold Ast; omega
  rcases Nat.lt_or_ge (Ast S + 128 * n) E with hlt | hge
  · have e1 : max S (min E (Ast S + 128 * n)) = max S (Ast S + 128 * n) := by omega
    have e2 : max S (min E (Ast S + 128 * (n + 1))) = min E (Ast S + 128 * n + 128) := by omega
    rw [e1, e2, Finset.sum_Ico_consecutive _ (by omega) (by omega)]
  · have e1 : max S (min E (Ast S + 128 * n)) = max S (min E (Ast S + 128 * (n + 1))) := by omega
    rw [e1, Finset.Ico_eq_empty_of_le (show min E (Ast S + 128 * n + 128) ≤ max S (Ast S + 128 * n) by omega), Finset.sum_empty, add_zero]

theorem whole (S E : ℕ) (hS : S ≤ E) : max S (min E (Ast S + 128 * (2 * Npair S E))) = E := by
  unfold Npair Ast
  omega

variable (X : S50000x256.Idx → Ideal .f32) {S E : ℕ} (hS : S ≤ E) (hE : E ≤ 50000 ∧ (E ≤ 49872 ∨ E % 4 = 0)) (c : ℕ)

theorem start_empty (ψ : ℕ → EReal) : ∑ k ∈ Finset.Ico S (max S (min E (Ast S + 128 * 0))), ψ k = 0 := by
  have : Ast S ≤ S := by unfold Ast; omega
  rw [Finset.Ico_eq_empty_of_le (by omega), Finset.sum_empty]

include hS hE

theorem grpSum_upto (n : ℕ) : (grpSum X S E n c : EReal) = ∑ k ∈ Finset.Ico S (max S (min E (Ast S + 128 * n))), entry X k c := by
  induction n with
  | zero => rw [start_empty]; exact Ideal.ofBits_zero_f32
  | succ n ih =>
    rw [← more hS, ← ih, ← two hS hE n (fun k => cell (winOf X (Bd S n)) k c) _ fun k hk => cell_at X _ k c hk, ← add_assoc]
    exact (sumRows_at _ _ _ _ c).trans (congrArg (· + _) (sumRows_at _ _ _ _ c))

theorem grpSq_upto (n : ℕ) : (grpSq X S E n c : EReal) = ∑ k ∈ Finset.Ico S (max S (min E (Ast S + 128 * n))), entry X k c * entry X k c := by
  induction n with
  | zero => rw [start_empty]; exact Ideal.ofBits_zero_f32
  | succ n ih =>
    rw [← more hS, ← ih, ← two hS hE n (fun k => (cell (winOf X (Bd S n)) k c : EReal) * cell (winOf X (Bd S n)) k c) _ fun k hk => by rw [cell_at X _ k c hk], ← add_assoc]
    exact (sqRows_at _ _ _ _ c).trans (congrArg (· + _) (sqRows_at _ _ _ _ c))

theorem grpSum_all : (grpSum X S E (2 * Npair S E) c : EReal) = ∑ k ∈ Finset.Ico S E, entry X k c := by
  rw [grpSum_upto X hS hE, whole S E hS]

theorem grpSq_all : (grpSq X S E (2 * Npair S E) c : EReal) = ∑ k ∈ Finset.Ico S E, entry X k c * entry X k c := by
  rw [grpSq_upto X hS hE, whole S E hS]

end Cert.Proof.Tile

end
-- ==== Proof.TabVal.lean ====
/-
  The two tables of the second call, at the ideal.
-/
module

public import proofs.«01_k».proof.Proof.Norm
public import Idealize.ShloMosaic.PureOps.Ideal
public import Idealize.ShloMosaic.Lib.IdealHost
public import Idealize.ShloMosaic.Lib.Pipeline.Value
public import Idealize.ShloMosaic.Lib.Pointwise

@[expose] public section

set_option maxRecDepth 16384

noncomputable section

namespace Cert.Proof.Norm

open Cert.KernelIdeal Cert.KernelIdeal.Gen
open Idealize.ShloMosaic

variable (cnt : FVec Ideal S64x1 .f32) (s q : FVec Ideal S64x256 .f32) (ga be : FVec Ideal S1x256 .f32) (g : Fin 64) (c : Fin 256)

theorem bc_col (v : FVec Ideal S64x1 .f32) : broadcastTo S64x256 v broadcasts_S64x1_S64x256 (ix2 g c) = v (ix2 g 0) :=
  broadcastTo_apply _ _ _ _ fun a => match a with | 0 => rfl | 1 => rfl

theorem bc_row (v : FVec Ideal S1x256 .f32) : broadcastTo S64x256 v broadcasts_S1x256_S64x256 (ix2 g c) = v (ix2 0 c) :=
  broadcastTo_apply _ _ _ _ fun a => match a with | 0 => rfl | 1 => rfl

theorem div_at {t : Shape} (x y : FVec Ideal t .f32) (i : t.Idx) : divf x y i = Ideal.div (x i) (y i) := rfl
theorem sub_at {t : Shape} (x y : FVec Ideal t .f32) (i : t.Idx) : subf x y i = (x i : EReal) - y i := rfl
theorem add_at {t : Shape} (x y : FVec Ideal t .f32) (i : t.Idx) : addf x y i = (x i : EReal) + y i := rfl
theorem mul_at {t : Shape} (x y : FVec Ideal t .f32) (i : t.Idx) : mulf x y i = (x i : EReal) * y i := rfl
theorem max_at {t : Shape} (x y : FVec Ideal t .f32) (i : t.Idx) : maximumf x y i = max (x i : EReal) (y i) := rfl
theorem sqrt_at {t : Shape} (x : FVec Ideal t .f32) (i : t.Idx) : sqrt x i = Ideal.sqrt (x i) := rfl
theorem fill_at {t : Shape} (w : BitVec 32) (i : t.Idx) : broadcast t (FloatOps.ofBits (F := Ideal) .f32 w) i = Ideal.ofBits .f32 w := rfl

theorem pay4_at (j : S64x1.Idx) : k1_pay4 (F := Ideal) cnt j = max (cnt j : EReal) 1 := by
  unfold k1_pay4
  rw [shapeCast_self, max_at, fill_at, Ideal.ofBits_one_f32]

/-- The mean. -/
theorem pay5_at : k1_pay5 (F := Ideal) cnt s (ix2 g c) = Ideal.div (s (ix2 g c)) (max (cnt (ix2 g 0) : EReal) 1) := by
  unfold k1_pay5
  rw [shapeCast_self, div_at, bc_col, pay4_at]

/-- The inverse of the deviation. -/
theorem pay6_at : k1_pay6 (F := Ideal) cnt s q (ix2 g c)
    = Ideal.div 1 (Ideal.sqrt (max (Ideal.div (q (ix2 g c)) (max (cnt (ix2 g 0) : EReal) 1) - k1_pay5 (F := Ideal) cnt s (ix2 g c) * k1_pay5 (F := Ideal) cnt s (ix2 g c)) 0
        + Ideal.ofBits .f32 0x3727C5AC#32) + Ideal.ofBits .f32 0x3727C5AC#32) := by
  unfold k1_pay6
  rw [shapeCast_self, div_at, fill_at, add_at, fill_at, sqrt_at, add_at, fill_at, max_at, fill_at, sub_at, div_at, mul_at, bc_col, pay4_at,
    Ideal.ofBits_one_f32, Ideal.ofBits_zero_f32]

theorem pay8_at : k1_pay8 (F := Ideal) cnt s q ga (ix2 g c) = (k1_pay6 (F := Ideal) cnt s q (ix2 g c) : EReal) * ga (ix2 0 c) := by
  unfold k1_pay8 k1_pay7
  rw [shapeCast_self, shapeCast_self, mul_at, bc_row]

theorem pay9_at : k1_pay9 (F := Ideal) cnt s q ga be (ix2 g c)
    = (be (ix2 0 c) : EReal) - k1_pay5 (F := Ideal) cnt s (ix2 g c) * k1_pay6 (F := Ideal) cnt s q (ix2 g c) * ga (ix2 0 c) := by
  unfold k1_pay9 k1_pay7
  rw [shapeCast_self, shapeCast_self, shapeCast_self, sub_at, mul_at, mul_at, bc_row, bc_row]

end Cert.Proof.Norm

end
-- ==== Proof.RefVal.lean ====
/-
  The reference's result, in named pieces, and what each piece is at the ideal.
-/
module

public import proofs.«01_k».proof.Proof.Gen.ReferenceIdeal.Run
public import Idealize.ShloMosaic.Lib.Routing.OpsPair
public import Idealize.ShloMosaic.Lib.Routing.Ops
public import Idealize.ShloMosaic.Lib.ReduceAll
public import Idealize.ShloMosaic.Lib.Pointwise

@[expose] public section

set_option maxRecDepth 16384

noncomputable section

namespace Cert.Proof.Ref

open Cert.ReferenceIdeal Cert.ReferenceIdeal.Gen
open Idealize.ShloMosaic

section
variable {F : FTy → Type} [FloatOps F]

/-- A row number below zero counted from the table's end, as indexing does it. -/
def wrap (b : IVec S50000 32) : IVec S50000 32 :=
  select (cmpi .slt b (broadcastInDim S50000 ![] bcast_S_S50000 (constantI S_ 32 0#32))) (addi b (broadcastInDim S50000 ![] bcast_S_S50000 (constantI S_ 32 64#32))) b

def col (b : IVec S50000 32) : IVec S50000x1 32 := broadcastInDim S50000x1 ![0] bcast_S50000_S50000x1_0 b

/-- Whether each row number is in the table. -/
def inTab (w : IVec S50000 32) : IVec S50000 1 :=
  Host.reduce IntOp.andi (andi (cmpi .sge (col w) (broadcastInDim S50000x1 ![] bcast_S_S50000x1 (constantI S_ 32 0#32)))
    (cmpi .sle (col w) (broadcastInDim S50000x1 ![0, 1] bcast_S1x1_S50000x1_0_1 (broadcastInDim S1x1 ![1] bcast_S1_S1x1_1 (constantI S1 32 63#32))))) (constantI S_ 1 1#1) reducesTo_S50000x1_S50000_d1 h_S_

/-- The table's rows, one for each row number. -/
def take (t : FVec F S64x256 .f32) (b : IVec S50000 32) : FVec F S50000x256 .f32 :=
  select (broadcastInDim S50000x256 ![0] bcast_S50000_S50000x256_0 (inTab (wrap b)))
    (Host.gather gather_S64x256_S50000x1_S50000x256_1_0_n_n_0_1_1256 t (col (wrap b))) (broadcastInDim S50000x256 ![] bcast_S_S50000x256 (constant S_ .f32 0x7FC00000#32))

/-- The sums of the rows of each graph. -/
def sumBy (b : IVec S50000 32) (x : FVec F S50000x256 .f32) : FVec F S64x256 .f32 :=
  Host.scatterAdd scatter_S64x256_S50000x1_S50000x256_1_0_0_1 (broadcastInDim S64x256 ![] bcast_S_S64x256 (constant S_ .f32 0x00000000#32)) (col b) x

def ones : FVec F S64 .f32 := broadcastInDim S64 ![] bcast_S_S64 (constant S_ .f32 0x3F800000#32)

/-- The number of rows of each graph. -/
def count (b : IVec S50000 32) : FVec F S64 .f32 :=
  Host.scatterAdd scatter_S64_S50000x1_S50000_n_0_0_1 (broadcastInDim S64 ![] bcast_S_S64 (constant S_ .f32 0x00000000#32)) (col b) (broadcastInDim S50000 ![] bcast_S_S50000 (constant S_ .f32 0x3F800000#32))

def counts (b : IVec S50000 32) : FVec F S64x256 .f32 :=
  broadcastInDim S64x256 ![0, 1] bcast_S64x1_S64x256_0_1 (broadcastInDim S64x1 ![0] bcast_S64_S64x1_0 (maximumf (count b) ones))

def mean (x : FVec F S50000x256 .f32) (b : IVec S50000 32) : FVec F S64x256 .f32 := Host.divf (sumBy b x) (counts b)

def cen (x : FVec F S50000x256 .f32) (b : IVec S50000 32) : FVec F S50000x256 .f32 := subf x (take (mean x b) b)

def std (x : FVec F S50000x256 .f32) (b : IVec S50000 32) : FVec F S64x256 .f32 :=
  Host.sqrt (addf (Host.divf (sumBy b (mulf (cen x b) (cen x b))) (counts b)) (broadcastInDim S64x256 ![] bcast_S_S64x256 (constant S_ .f32 0x3727C5AC#32)))

def wide (g : FVec F S256 .f32) : FVec F S50000x256 .f32 := broadcastInDim S50000x256 ![0, 1] bcast_S1x256_S50000x256_0_1 (broadcastInDim S1x256 ![1] bcast_S256_S1x256_1 g)

def result (x : FVec F S50000x256 .f32) (b : IVec S50000 32) (g e : FVec F S256 .f32) : FVec F S50000x256 .f32 :=
  addf (mulf (Host.divf (cen x b) (addf (take (std x b) b) (broadcastInDim S50000x256 ![] bcast_S_S50000x256 (constant S_ .f32 0x3727C5AC#32)))) (wide g)) (wide e)

theorem res_eq (m : (ℓ : Loc nD τ sig) → Buf (Elt F) ℓ) (c : Dev nD) :
    Value.res_main_v33 m c = result (m (c.tc.loc main_arg0)) (m (c.tc.loc main_arg1)) (m (c.tc.loc main_arg2)) (m (c.tc.loc main_arg3)) := rfl

end

theorem col_at (b : IVec S50000 32) (j : S50000x1.Idx) : col b j = b (ix1 (j 0)) := by
  unfold col broadcastInDim
  congr 1
  funext a
  match a with
  | 0 => exact Fin.ext rfl

theorem land (k : S50000x256.Idx) (w : IVec S50000x1 32) (i : S64x256.Idx) :
    scatter_S64x256_S50000x1_S50000x256_1_0_0_1.resultIdx? k w = some i ↔ (w (ix2 (k 0) 0)).toInt = ((i 0).val : ℤ) ∧ (k 1).val = (i 1).val := by
  rw [Routing.resultIdx?_eq_some]
  have s0 : scatter_S64x256_S50000x1_S50000x256_1_0_0_1.start k w 0 = (w (ix2 (k 0) 0)).toInt := by
    unfold ScatterDims.start
    rw [dif_pos (show (0 : Fin 2) ∈ scatter_S64x256_S50000x1_S50000x256_1_0_0_1.scatterDimsToOperandDims from List.mem_singleton.2 rfl)]
    congr 2
    funext a
    match a with
    | 0 => rfl
    | 1 => rfl
  have s1 : scatter_S64x256_S50000x1_S50000x256_1_0_0_1.start k w 1 = 0 := by
    unfold ScatterDims.start
    rw [dif_neg (show ¬ (1 : Fin 2) ∈ scatter_S64x256_S50000x1_S50000x256_1_0_0_1.scatterDimsToOperandDims from fun h => absurd (List.mem_singleton.1 h) (by decide))]
  have w0 : scatter_S64x256_S50000x1_S50000x256_1_0_0_1.window k 0 = 0 := by
    unfold ScatterDims.window
    rw [dif_neg (by decide)]
  have w1 : scatter_S64x256_S50000x1_S50000x256_1_0_0_1.window k 1 = (k 1).val := by
    unfold ScatterDims.window
    rw [dif_pos (by decide)]
    rfl
  constructor
  · intro h
    have h0 := h 0
    have h1 := h 1
    rw [s0, w0] at h0
    rw [s1, w1] at h1
    exact ⟨by omega, by omega⟩
  · intro h a
    match a with
    | 0 => show scatter_S64x256_S50000x1_S50000x256_1_0_0_1.start k w 0 + _ = _; rw [s0, w0]; omega
    | 1 => show scatter_S64x256_S50000x1_S50000x256_1_0_0_1.start k w 1 + _ = _; rw [s1, w1]; omega

theorem land1 (k : S50000.Idx) (w : IVec S50000x1 32) (i : S64.Idx) :
    scatter_S64_S50000x1_S50000_n_0_0_1.resultIdx? k w = some i ↔ (w (ix2 (k 0) 0)).toInt = ((i 0).val : ℤ) := by
  rw [Routing.resultIdx?_eq_some]
  have s0 : scatter_S64_S50000x1_S50000_n_0_0_1.start k w 0 = (w (ix2 (k 0) 0)).toInt := by
    unfold ScatterDims.start
    rw [dif_pos (show (0 : Fin 1) ∈ scatter_S64_S50000x1_S50000_n_0_0_1.scatterDimsToOperandDims from List.mem_singleton.2 rfl)]
    congr 2
    funext a
    match a with
    | 0 => rfl
    | 1 => rfl
  have w0 : scatter_S64_S50000x1_S50000_n_0_0_1.window k 0 = 0 := by
    unfold ScatterDims.window
    rw [dif_neg (by decide)]
  constructor
  · intro h
    have h0 := h 0
    rw [s0, w0] at h0
    omega
  · intro h a
    match a with
    | 0 => show scatter_S64_S50000x1_S50000_n_0_0_1.start k w 0 + _ = _; rw [s0, w0]; omega

end Cert.Proof.Ref

end
-- ==== Proof.Alg.lean ====
/-
  The algebra: the two ways of normalising a column agree at the ideal.
-/
module

public import Idealize.ShloMosaic.PureOps.Ideal
public import Mathlib.Algebra.BigOperators.Field
public import Mathlib.Tactic.FieldSimp
public import Mathlib.Tactic.Ring
public import Mathlib.Tactic.Linarith
public import Mathlib.Tactic.Positivity

@[expose] public section

noncomputable section

namespace Cert.Proof.Alg

open Idealize.ShloMosaic
open scoped BigOperators

/-- The small constant is a positive real. -/
theorem eps_real : ∃ e : ℝ, 0 < e ∧ Ideal.ofBits .f32 0x3727C5AC#32 = (e : EReal) := by
  refine ⟨10995116 * (2 ^ 40)⁻¹, by positivity, ?_⟩
  simp [Ideal.ofBits, Ideal.ieee]

theorem inf_top : Ideal.ofBits .f32 0x7F800000#32 = ⊤ := by
  simp [Ideal.ofBits, Ideal.ieee]

theorem coe_sum {ι : Type} (R : Finset ι) (f : ι → ℝ) : ∑ i ∈ R, (f i : EReal) = ((∑ i ∈ R, f i : ℝ) : EReal) := by
  classical
  induction R using Finset.induction_on with
  | empty => simp
  | insert a R ha ih => rw [Finset.sum_insert ha, Finset.sum_insert ha, ih, EReal.coe_add]

theorem max_coe (a b : ℝ) : max (a : EReal) (b : EReal) = ((max a b : ℝ) : EReal) := (EReal.coe_strictMono.monotone.map_max).symm

/-- The number of rows, at least one. -/
theorem size_real {n : ℕ} (h : 0 < n) : max (((n : ℕ) : ℝ) : EReal) 1 = ((n : ℝ) : EReal) := by
  rw [← EReal.coe_one, max_coe, max_eq_left (by exact_mod_cast h)]

theorem div_real {y : ℝ} (h : y ≠ 0) (x : ℝ) : Ideal.div (x : EReal) (y : EReal) = ((x / y : ℝ) : EReal) := by
  rw [Ideal.div_coe h, ← EReal.coe_mul]; congr 1; ring

theorem sqrt_real {x : ℝ} (h : 0 ≤ x) : Ideal.sqrt (x : EReal) = ((Real.sqrt x : ℝ) : EReal) := by
  rw [Ideal.sqrt_coe, if_neg (not_lt.2 h)]

/-- The mean of the squares less the square of the mean is the mean of the squared distances from the mean. -/
theorem var_eq {ι : Type} (R : Finset ι) (hn : 0 < R.card) (X : ι → ℝ) :
    (∑ i ∈ R, X i * X i) / R.card - (∑ i ∈ R, X i) / R.card * ((∑ i ∈ R, X i) / R.card)
      = (∑ i ∈ R, (X i - (∑ i ∈ R, X i) / R.card) * (X i - (∑ i ∈ R, X i) / R.card)) / R.card := by
  have hc : (R.card : ℝ) ≠ 0 := by exact_mod_cast hn.ne'
  generalize hS : ∑ i ∈ R, X i = S
  have : ∑ i ∈ R, (X i - S / R.card) * (X i - S / R.card) = (∑ i ∈ R, X i * X i) - 2 * (S / R.card) * S + R.card * (S / R.card * (S / R.card)) := by
    rw [← hS, Finset.mul_sum, ← Finset.sum_sub_distrib, ← nsmul_eq_mul, ← Finset.sum_const, ← Finset.sum_add_distrib]
    refine Finset.sum_congr rfl fun i _ => ?_
    ring
  rw [this]
  field_simp
  ring

theorem var_nonneg {ι : Type} (R : Finset ι) (X : ι → ℝ) (m : ℝ) : 0 ≤ (∑ i ∈ R, (X i - m) * (X i - m)) / R.card :=
  div_nonneg (Finset.sum_nonneg fun i _ => mul_self_nonneg _) (Nat.cast_nonneg _)

/-- A scaled row plus a shift, and the same row normalised. -/
theorem affine (a m : ℝ) (b : EReal) : (a : EReal) + (b - (m : EReal)) = ((a - m : ℝ) : EReal) + b := by
  induction b using EReal.rec with
  | bot => rw [EReal.bot_sub, EReal.add_bot, EReal.add_bot]
  | top => rw [EReal.top_sub_coe, EReal.coe_add_top, EReal.coe_add_top]
  | coe r => rw [← EReal.coe_sub, ← EReal.coe_add, ← EReal.coe_add]; congr 1; ring

section
variable {ι : Type} (R : Finset ι) (hn : 0 < R.card) (X : ι → ℝ)
include hn

theorem mean_real : Ideal.div (∑ i ∈ R, (X i : EReal)) (max ((R.card : ℝ) : EReal) 1) = (((∑ i ∈ R, X i) / R.card : ℝ) : EReal) := by
  rw [coe_sum, size_real hn, div_real (by exact_mod_cast hn.ne')]

/-- The two results are one. -/
theorem same (x g : ℝ) (b : EReal) {e : ℝ} (he : 0 < e) {N M Sq Qs V : EReal} (hN : N = max ((R.card : ℝ) : EReal) 1)
    (hM : M = Ideal.div (∑ i ∈ R, (X i : EReal)) N) (hQ : Qs = ∑ i ∈ R, (X i : EReal) * (X i : EReal))
    (hV : V = ∑ i ∈ R, ((X i : EReal) - M) * ((X i : EReal) - M)) (hS : Sq = Ideal.div Qs N - M * M) :
    (x : EReal) * (Ideal.div 1 (Ideal.sqrt (max Sq 0 + e) + e) * g) + (b - M * Ideal.div 1 (Ideal.sqrt (max Sq 0 + e) + e) * g)
      = Ideal.div (x - M) (Ideal.sqrt (Ideal.div V N + e) + e) * g + b := by
  have hc : (R.card : ℝ) ≠ 0 := by exact_mod_cast hn.ne'
  rw [hN, mean_real R hn X] at hM
  generalize hm : (∑ i ∈ R, X i) / (R.card : ℝ) = m at hM
  subst hM
  have hq : Ideal.div Qs N = (((∑ i ∈ R, X i * X i) / R.card : ℝ) : EReal) := by
    rw [hQ, hN, ← mean_real R hn fun i => X i * X i]
    simp only [EReal.coe_mul]
  have hv : Ideal.div V N = (((∑ i ∈ R, (X i - m) * (X i - m)) / R.card : ℝ) : EReal) := by
    rw [hV, hN, ← mean_real R hn fun i => (X i - m) * (X i - m)]
    simp only [EReal.coe_mul, EReal.coe_sub]
  have hs : max Sq 0 = (((∑ i ∈ R, (X i - m) * (X i - m)) / R.card : ℝ) : EReal) := by
    have h0 := var_nonneg R X m
    have h1 := var_eq R hn X
    rw [hm] at h1
    rw [hS, hq, ← EReal.coe_mul, ← EReal.coe_sub, h1, ← EReal.coe_zero, max_coe, max_eq_left h0]
  rw [hs, hv]
  have h0 := var_nonneg R X m
  generalize (∑ i ∈ R, (X i - m) * (X i - m)) / (R.card : ℝ) = v at h0
  have hp : 0 < Real.sqrt (v + e) + e := add_pos_of_nonneg_of_pos (Real.sqrt_nonneg _) he
  rw [← EReal.coe_add, sqrt_real (by linarith), ← EReal.coe_add, ← EReal.coe_one, div_real hp.ne', ← EReal.coe_mul, ← EReal.coe_mul, ← EReal.coe_mul, ← EReal.coe_mul,
    affine, ← EReal.coe_sub, div_real hp.ne', ← EReal.coe_mul]
  congr 2
  field_simp

end

end Cert.Proof.Alg

end
-- ==== Proof.RefRead.lean ====
/-
  What the reference's pieces are at the ideal: sums over the rows of a graph.
-/
module

public import proofs.«01_k».proof.Proof.RefVal
public import proofs.«01_k».proof.Proof.Alg
public import Idealize.ShloMosaic.Lib.Pointwise

@[expose] public section

set_option maxRecDepth 16384

noncomputable section

namespace Cert.Proof.Ref

open Cert.ReferenceIdeal Cert.ReferenceIdeal.Gen
open Idealize.ShloMosaic
open scoped BigOperators

variable {b : IVec S50000 32} (hb : ∀ r, (b r).toNat < 64)

theorem toInt_small {w : BitVec 32} (h : w.toNat < 64) : w.toInt = (w.toNat : ℤ) := by
  rw [BitVec.toInt_eq_toNat_cond, if_pos (by omega)]

theorem select_at {α : Type} {s : Shape} (p : IVec s 1) (x y : s.Idx → α) (i : s.Idx) : select p x y i = Scalar.select (p i) (x i) (y i) := rfl
theorem divf_at {s : Shape} (x y : FVec Ideal s .f32) (i : s.Idx) : Host.divf x y i = Ideal.div (x i) (y i) := rfl
theorem subf_at {s : Shape} (x y : FVec Ideal s .f32) (i : s.Idx) : subf x y i = (x i : EReal) - y i := rfl
theorem addf_at {s : Shape} (x y : FVec Ideal s .f32) (i : s.Idx) : addf x y i = (x i : EReal) + y i := rfl
theorem mulf_at {s : Shape} (x y : FVec Ideal s .f32) (i : s.Idx) : mulf x y i = (x i : EReal) * y i := rfl
theorem maxf_at {s : Shape} (x y : FVec Ideal s .f32) (i : s.Idx) : maximumf x y i = max (x i : EReal) (y i) := rfl
theorem sqrt_at {s : Shape} (x : FVec Ideal s .f32) (i : s.Idx) : Host.sqrt x i = Ideal.sqrt (x i) := rfl
theorem const_at {t : Shape} (h : S_.BroadcastsInDim t (![] : Fin 0 → Fin t.rank)) (w : BitVec 32) (i : t.Idx) :
    broadcastInDim t ![] h (constant (F := Ideal) S_ .f32 w) i = Ideal.ofBits .f32 w := rfl

/-- The graph of a row. -/
def key (r : Fin 50000) : Fin 64 := ⟨(b (ix1 r)).toNat, hb _⟩

/-- The rows of a graph. -/
def rowsOf (b : IVec S50000 32) (g : ℕ) : Finset (Fin 50000) := Finset.univ.filter fun r => (b (ix1 r)).toNat = g

include hb

theorem wrap_eq : wrap b = b := funext fun r => Routing.wrap_of_lt (b r) _ (lt_trans (hb r) (by decide))

theorem inTab_one (r : S50000.Idx) : inTab b r = 1#1 := by
  unfold inTab
  refine Host.reduce_andi_one _ _ _ _ _ rfl fun i => ?_
  have h := hb (ix1 (i 0))
  have e : IntOp.andi (IntOp.cmpi .sge (col b i) 0#32) (IntOp.cmpi .sle (col b i) 63#32) = 1#1 := by
    rw [IntOp.andi_eq_one, IntOp.cmpi_sge, IntOp.cmpi_sle, col_at, toInt_small h]
    have e0 : (0#32 : BitVec 32).toInt = 0 := by decide
    have e1 : (63#32 : BitVec 32).toInt = 63 := by decide
    omega
  exact e

theorem take_at (t : FVec Ideal S64x256 .f32) (r : Fin 50000) (c : Fin 256) : take t b (ix2 r c) = t (ix2 (key hb r) c) := by
  have e : take t b (ix2 r c) = Scalar.select (inTab b (ix1 r)) (Host.gather gather_S64x256_S50000x1_S50000x256_1_0_n_n_0_1_1256 t (col b) (ix2 r c)) (FloatOps.ofBits .f32 0x7FC00000#32) := by
    unfold take
    rw [wrap_eq hb]
    have p : broadcastInDim S50000x256 ![0] bcast_S50000_S50000x256_0 (inTab b) (ix2 r c) = inTab b (ix1 r) := by
      unfold broadcastInDim
      exact congrArg (inTab b) (funext fun a => match a with | 0 => Fin.ext rfl)
    rw [← p, select_at]
    exact congrArg (Scalar.select _ _) (const_at _ _ _)
  rw [e, inTab_one hb]
  exact Routing.gather_row gather_S64x256_S50000x1_S50000x256_1_0_n_n_0_1_1256 rfl rfl rfl rfl rfl t (col b) r c (key hb r)
    ((col_at b _).trans (BitVec.eq_of_toNat_eq (by
      rw [BitVec.toNat_ofNat, Nat.mod_eq_of_lt (lt_trans (key hb r).isLt (by decide))]; rfl))) (by decide)

theorem sumBy_at (x : FVec Ideal S50000x256 .f32) (g : Fin 64) (c : Fin 256) :
    sumBy b x (ix2 g c) = ∑ r ∈ rowsOf b g.val, x (ix2 r c) := by
  have e : sumBy b x (ix2 g c) = (Ideal.ofBits .f32 0x00000000#32 : EReal)
      + ∑ k ∈ Finset.univ.filter (fun k => scatter_S64x256_S50000x1_S50000x256_1_0_0_1.resultIdx? k (col b) = some (ix2 g c)), x k := rfl
  rw [e, Ideal.ofBits_zero_f32, zero_add]
  refine Finset.sum_nbij' (fun k => k 0) (fun r => ix2 r c) ?_ ?_ ?_ ?_ ?_
  · intro k hk
    have hk := (land k (col b) (ix2 g c)).1 (Finset.mem_filter.1 hk).2
    rw [col_at, toInt_small (hb _)] at hk
    exact Finset.mem_filter.2 ⟨Finset.mem_univ _, by exact_mod_cast hk.1⟩
  · intro r hr
    refine Finset.mem_filter.2 ⟨Finset.mem_univ _, (land _ _ _).2 ⟨?_, rfl⟩⟩
    rw [col_at, toInt_small (hb _)]
    exact_mod_cast (Finset.mem_filter.1 hr).2
  · intro k hk
    have hk := (land k (col b) (ix2 g c)).1 (Finset.mem_filter.1 hk).2
    funext a
    match a with
    | 0 => rfl
    | 1 => exact Fin.ext hk.2.symm
  · intro r _; rfl
  · intro k hk
    have hk := (land k (col b) (ix2 g c)).1 (Finset.mem_filter.1 hk).2
    exact congrArg x (funext fun a => match a with | 0 => rfl | 1 => Fin.ext hk.2)

theorem count_at (g : Fin 64) : count (F := Ideal) b (ix1 g) = (((rowsOf b g.val).card : ℝ) : EReal) := by
  have e : count (F := Ideal) b (ix1 g) = (Ideal.ofBits .f32 0x00000000#32 : EReal)
      + ∑ k ∈ Finset.univ.filter (fun k => scatter_S64_S50000x1_S50000_n_0_0_1.resultIdx? k (col b) = some (ix1 g)), (Ideal.ofBits .f32 0x3F800000#32 : EReal) := rfl
  rw [e, Ideal.ofBits_zero_f32, Ideal.ofBits_one_f32, zero_add]
  have h1 : ∑ k ∈ Finset.univ.filter (fun k => scatter_S64_S50000x1_S50000_n_0_0_1.resultIdx? k (col b) = some (ix1 g)), (1 : EReal) = ∑ r ∈ rowsOf b g.val, (((1 : ℝ)) : EReal) := by
    refine Finset.sum_nbij' (fun k => k 0) (fun r => ix1 r) ?_ ?_ ?_ ?_ ?_
    · intro k hk
      have hk := (land1 k (col b) (ix1 g)).1 (Finset.mem_filter.1 hk).2
      rw [col_at, toInt_small (hb _)] at hk
      exact Finset.mem_filter.2 ⟨Finset.mem_univ _, by exact_mod_cast hk⟩
    · intro r hr
      refine Finset.mem_filter.2 ⟨Finset.mem_univ _, (land1 _ _ _).2 ?_⟩
      rw [col_at, toInt_small (hb _)]
      exact_mod_cast (Finset.mem_filter.1 hr).2
    · intro k _
      funext a
      match a with
      | 0 => rfl
    · intro r _; rfl
    · intro k _; exact EReal.coe_one.symm
  rw [h1, Alg.coe_sum, Finset.sum_const, nsmul_eq_mul, mul_one]

theorem counts_at (g : Fin 64) (c : Fin 256) : counts (F := Ideal) b (ix2 g c) = max (((rowsOf b g.val).card : ℝ) : EReal) 1 := by
  have e : counts (F := Ideal) b (ix2 g c) = max (count (F := Ideal) b (ix1 g)) (Ideal.ofBits .f32 0x3F800000#32 : EReal) := by
    unfold counts
    have : ∀ v : FVec Ideal S64 .f32, broadcastInDim S64x256 ![0, 1] bcast_S64x1_S64x256_0_1 (broadcastInDim S64x1 ![0] bcast_S64_S64x1_0 v) (ix2 g c) = v (ix1 g) := fun v => by
      unfold broadcastInDim
      congr 1
      funext a
      match a with
      | 0 => exact Fin.ext rfl
    rw [this, maxf_at]
    exact congrArg _ (const_at _ _ _)
  rw [e, count_at hb, Ideal.ofBits_one_f32]

theorem mean_at (x : FVec Ideal S50000x256 .f32) (g : Fin 64) (c : Fin 256) :
    mean x b (ix2 g c) = Ideal.div (∑ r ∈ rowsOf b g.val, x (ix2 r c)) (max (((rowsOf b g.val).card : ℝ) : EReal) 1) := by
  rw [← sumBy_at hb, ← counts_at hb g c, mean, divf_at]

theorem cen_at (x : FVec Ideal S50000x256 .f32) (r : Fin 50000) (c : Fin 256) :
    cen x b (ix2 r c) = (x (ix2 r c) : EReal) - mean x b (ix2 (key hb r) c) := by
  rw [← take_at hb (mean x b), cen, subf_at]

theorem std_at (x : FVec Ideal S50000x256 .f32) (g : Fin 64) (c : Fin 256) :
    std x b (ix2 g c) = Ideal.sqrt (Ideal.div (∑ r ∈ rowsOf b g.val, ((x (ix2 r c) : EReal) - mean x b (ix2 g c)) * ((x (ix2 r c) : EReal) - mean x b (ix2 g c)))
      (max (((rowsOf b g.val).card : ℝ) : EReal) 1) + Ideal.ofBits .f32 0x3727C5AC#32) := by
  have e : ∑ r ∈ rowsOf b g.val, ((x (ix2 r c) : EReal) - mean x b (ix2 g c)) * ((x (ix2 r c) : EReal) - mean x b (ix2 g c)) = sumBy b (mulf (cen x b) (cen x b)) (ix2 g c) := by
    rw [sumBy_at hb]
    refine Finset.sum_congr rfl fun r hr => ?_
    have hk : key hb r = g := Fin.ext (Finset.mem_filter.1 hr).2
    have := cen_at hb x r c
    rw [hk] at this
    rw [← this, mulf_at]
  rw [e, ← counts_at hb g c, std, sqrt_at, addf_at, divf_at, const_at]

/-- The reference's result at one row and column. -/
theorem result_at (x : FVec Ideal S50000x256 .f32) (g e : FVec Ideal S256 .f32) (r : Fin 50000) (c : Fin 256) :
    result x b g e (ix2 r c) = Ideal.div ((x (ix2 r c) : EReal) - mean x b (ix2 (key hb r) c)) (std x b (ix2 (key hb r) c) + Ideal.ofBits .f32 0x3727C5AC#32)
      * (g (ix1 c) : EReal) + (e (ix1 c) : EReal) := by
  have w : ∀ v : FVec Ideal S256 .f32, wide v (ix2 r c) = v (ix1 c) := fun v => by
    unfold wide broadcastInDim
    congr 1
    funext a
    match a with
    | 0 => exact Fin.ext rfl
  rw [← cen_at hb, ← take_at hb (std x b), ← w g, ← w e, result, addf_at, mulf_at, divf_at, addf_at, const_at]

end Cert.Proof.Ref

end
-- ==== Proof.Sorted.lean ====
/-
  When the rows are sorted by graph, a graph's rows are those from its start to its end.
-/
module

public import proofs.«01_k».proof.Proof.Starts
public import proofs.«01_k».proof.Proof.RefRead
public import Mathlib.Algebra.BigOperators.Intervals

@[expose] public section

set_option maxRecDepth 16384

noncomputable section

namespace Cert.Proof.Sorted

open Idealize.ShloMosaic
open Cert.ReferenceIdeal (S50000)
open Cert.Proof.Starts (cnt cnt_le cnt_mono padW startsW padW_nat asc)
open Cert.Proof.Ref (rowsOf)
open scoped BigOperators

variable {b : S50000.Idx → BitVec 32}

/-- No row's graph comes before an earlier row's. -/
def Up (b : S50000.Idx → BitVec 32) : Prop := ∀ r s : Fin 50000, r.val ≤ s.val → (b (ix1 r)).toNat ≤ (b (ix1 s)).toNat

theorem up_of_step (h : ∀ r : ℕ, ∀ hr : r + 1 < 50000, (b (ix1 ⟨r, by omega⟩)).toNat ≤ (b (ix1 ⟨r + 1, hr⟩)).toNat) : Up b := by
  intro r s hrs
  obtain ⟨r, hr⟩ := r
  obtain ⟨s, hs⟩ := s
  change r ≤ s at hrs
  induction s, hrs using Nat.le_induction with
  | base => exact le_refl _
  | succ n hn ih => exact (ih (by omega)).trans (h n hs)

theorem lt_cnt (hu : Up b) (r : Fin 50000) (k : ℕ) : (b (ix1 r)).toNat < k ↔ r.val < cnt b k := by
  classical
  have h := Starts.down_iff (n := 50000) (fun j => ∃ h : j < 50000, (b (ix1 ⟨j, h⟩)).toNat < k)
    (fun i j hij ⟨hj, e⟩ => ⟨by omega, lt_of_le_of_lt (hu ⟨i, by omega⟩ ⟨j, hj⟩ hij) e⟩) r.val r.isLt
  have e : (Finset.univ.filter fun r : Fin 50000 => ∃ h : r.val < 50000, (b (ix1 ⟨r.val, h⟩)).toNat < k).card = cnt b k := by
    unfold Starts.cnt
    exact congrArg Finset.card (Finset.filter_congr fun j _ => ⟨fun ⟨_, h⟩ => h, fun h => ⟨j.isLt, h⟩⟩)
  rw [← e, ← h]
  exact ⟨fun h => ⟨r.isLt, h⟩, fun ⟨_, h⟩ => h⟩

/-- A graph that ends among the last 128 rows ends at a multiple of four. -/
def Tail (b : S50000.Idx → BitVec 32) : Prop :=
  ∀ r : ℕ, ∀ hr : r + 1 < 50000, 49872 ≤ r → (b (ix1 ⟨r, Nat.lt_of_succ_lt hr⟩)).toNat = (b (ix1 ⟨r + 1, hr⟩)).toNat ∨ (r + 1) % 4 = 0

theorem cnt_tail (hu : Up b) (ht : Tail b) (k : ℕ) : cnt b k ≤ 50000 ∧ (cnt b k ≤ 49872 ∨ cnt b k % 4 = 0) := by
  have hle := cnt_le (b := b) k
  refine ⟨hle, ?_⟩
  by_contra hc
  obtain ⟨r, hr⟩ : ∃ r, cnt b k = r + 1 := ⟨cnt b k - 1, by omega⟩
  have hlt : r + 1 < 50000 := by omega
  have h1 := (lt_cnt hu ⟨r, Nat.lt_of_succ_lt hlt⟩ k).2 (by show r < cnt b k; omega)
  rcases ht r hlt (by omega) with h2 | h2
  · rw [h2] at h1
    have h3 : r + 1 < cnt b k := (lt_cnt hu ⟨r + 1, hlt⟩ k).1 h1
    omega
  · omega

theorem mem_rows (hu : Up b) (g : ℕ) (r : Fin 50000) : r ∈ rowsOf b g ↔ cnt b g ≤ r.val ∧ r.val < cnt b (g + 1) := by
  have h1 := lt_cnt hu r g
  have h2 := lt_cnt hu r (g + 1)
  unfold Ref.rowsOf
  simp only [Finset.mem_filter, Finset.mem_univ, true_and]
  omega

/-- A sum from a graph's start to its end is one over its rows. -/
theorem sum_rows {M : Type} [AddCommMonoid M] (hu : Up b) (g : ℕ) (f : ℕ → M) :
    ∑ k ∈ Finset.Ico (cnt b g) (cnt b (g + 1)), f k = ∑ r ∈ rowsOf b g, f r.val := by
  have hle := cnt_le (b := b) (g + 1)
  refine Finset.sum_nbij' (fun k => ⟨min k 49999, by omega⟩) (fun r => r.val) ?_ ?_ ?_ ?_ ?_
  · intro k hk
    have := Finset.mem_Ico.1 hk
    refine (mem_rows hu g _).2 ?_
    show cnt b g ≤ min k 49999 ∧ min k 49999 < cnt b (g + 1)
    omega
  · intro r hr
    exact Finset.mem_Ico.2 ((mem_rows hu g r).1 hr)
  · intro k hk
    have := Finset.mem_Ico.1 hk
    show min k 49999 = k
    omega
  · intro r _
    exact Fin.ext (by show min r.val 49999 = r.val; have := r.isLt; omega)
  · intro k hk
    have := Finset.mem_Ico.1 hk
    have e : min k 49999 = k := by omega
    show f k = f (min k 49999)
    rw [e]

theorem card_rows (hu : Up b) (g : ℕ) : (rowsOf b g).card = cnt b (g + 1) - cnt b g := by
  rw [Finset.card_eq_sum_ones, ← sum_rows hu g fun _ => 1, Finset.sum_const, smul_eq_mul, mul_one, Nat.card_Ico]

theorem grp_row (hb : ∀ r, (b r).toNat < 64) (hu : Up b) (r : Fin 50000) : Norm.grp (padW (startsW b)) r.val = (b (ix1 r)).toNat := by
  have h := (mem_rows hu (b (ix1 r)).toNat r).1 (Finset.mem_filter.2 ⟨Finset.mem_univ _, rfl⟩)
  exact Norm.grp_eq (asc hb) (hb _) (by rw [padW_nat hb]; exact h.1) (by rw [padW_nat hb]; exact h.2)

end Cert.Proof.Sorted

end
-- ==== Proof.Value.lean ====
/-
  The kernel's result at the ideal is the reference's.
-/
module

public import proofs.«01_k».proof.Proof.Run
public import proofs.«01_k».proof.Proof.KerSum
public import proofs.«01_k».proof.Proof.TabVal
public import proofs.«01_k».proof.Proof.Sorted

@[expose] public section

set_option maxRecDepth 16384

noncomputable section

namespace Cert.Proof.Main

open Cert.KernelIdeal Cert.KernelIdeal.Gen
open Cert.Proof.Host
open Cert.Proof.Starts (startsW padW sizeW padW_nat sizeW_at cnt cnt_le cnt_mono)
open Cert.Proof.Tile (statsOut tileOut wrd grpSum grpSq entry)
open Cert.Proof.Ref (rowsOf)
open Cert.Proof.Sorted (Up Tail)
open Cert.Words (Npair)
open Idealize.ShloMosaic
open Idealize.ShloMosaic.TcCoe
open Idealize.ShloMosaic.StableHlo (after)
open scoped BigOperators

/-! ## The statistics as the second call reads them -/

section
variable (X : S50000x256.Idx → Ideal .f32) (f : ℕ → ℕ) (g c : ℕ) (hc : c < 256)
include hc

theorem tile_sum : tileOut X (f (2 * ((512 * g + c) / 1024))) (f (2 * ((512 * g + c) / 1024) + 1)) (f (2 * ((512 * g + c) / 1024) + 2)) ((512 * g + c) % 1024)
    = grpSum X (f g) (f (g + 1)) (2 * Npair (f g) (f (g + 1))) c := by
  rcases Nat.even_or_odd' g with ⟨w, rfl | rfl⟩
  · rw [show (512 * (2 * w) + c) / 1024 = w by omega, show (512 * (2 * w) + c) % 1024 = c by omega]
    unfold tileOut
    rw [if_pos hc]
  · rw [show (512 * (2 * w + 1) + c) / 1024 = w by omega, show (512 * (2 * w + 1) + c) % 1024 = 512 + c by omega]
    unfold tileOut
    rw [if_neg (by omega), if_neg (by omega), if_pos (by omega), Nat.add_sub_cancel_left]

theorem tile_sq : tileOut X (f (2 * ((512 * g + (256 + c)) / 1024))) (f (2 * ((512 * g + (256 + c)) / 1024) + 1)) (f (2 * ((512 * g + (256 + c)) / 1024) + 2)) ((512 * g + (256 + c)) % 1024)
    = grpSq X (f g) (f (g + 1)) (2 * Npair (f g) (f (g + 1))) c := by
  rcases Nat.even_or_odd' g with ⟨w, rfl | rfl⟩
  · rw [show (512 * (2 * w) + (256 + c)) / 1024 = w by omega, show (512 * (2 * w) + (256 + c)) % 1024 = 256 + c by omega]
    unfold tileOut
    rw [if_neg (by omega), if_pos (by omega), Nat.add_sub_cancel_left]
  · rw [show (512 * (2 * w + 1) + (256 + c)) / 1024 = w by omega, show (512 * (2 * w + 1) + (256 + c)) % 1024 = 768 + c by omega]
    unfold tileOut
    rw [if_neg (by omega), if_neg (by omega), if_neg (by omega), Nat.add_sub_cancel_left]

end

section
variable (X : S50000x256.Idx → Ideal .f32) {b : S50000.Idx → BitVec 32} (hb : ∀ r, (b r).toNat < 64) (g : Fin 64) (c : Fin 256)

/-- The statistics of all the groups, a row each. -/
def stats (b : S50000.Idx → BitVec 32) : S64x512.Idx → Ideal .f32 := shapeCast S64x512 (statsOut X (padW (startsW b))) shapeCasts_S32768_S64x512

theorem stats_at (k : ℕ) (hk : k < 512) : stats X b (ix2 g ⟨k, hk⟩) = statsOut X (padW (startsW b)) (ix1 ⟨512 * g.val + k, by have := g.isLt; omega⟩) := by
  unfold stats
  refine shapeCast_apply _ _ _ _ ?_
  rw [Shape.rowMajor_val_one, Shape.rowMajor_val_two]
  show 512 * g.val + k = g.val * 512 + k
  omega

include hb

theorem sums_at : Norm.lft (stats X b) (ix2 g c) = grpSum X (cnt b g.val) (cnt b (g.val + 1)) (2 * Npair (cnt b g.val) (cnt b (g.val + 1))) c.val := by
  refine (stats_at X g c.val (Nat.lt_trans c.isLt (by decide))).trans (Eq.trans ?_ (tile_sum X (cnt b) g.val c.val c.isLt))
  unfold statsOut
  rw [padW_nat hb, padW_nat hb, padW_nat hb]
  rfl

theorem sqs_at : Norm.rgt (stats X b) (ix2 g c) = grpSq X (cnt b g.val) (cnt b (g.val + 1)) (2 * Npair (cnt b g.val) (cnt b (g.val + 1))) c.val := by
  refine (stats_at X g (256 + c.val) (Nat.add_lt_add_left c.isLt 256)).trans (Eq.trans ?_ (tile_sq X (cnt b) g.val c.val c.isLt))
  unfold statsOut
  rw [padW_nat hb, padW_nat hb, padW_nat hb]
  rfl

/-- The sizes of the groups, a row each. -/
def sizes (b : S50000.Idx → BitVec 32) : S64x1.Idx → Ideal .f32 := shapeCast S64x1 (sitofp (F := Ideal) .f32 (sizeW (startsW b))) shapeCasts_S64_S64x1

theorem sizes_at (hu : Up b) : sizes b (ix2 g 0) = (((rowsOf b g.val).card : ℝ) : EReal) := by
  have e : sizes b (ix2 g 0) = sitofp (F := Ideal) .f32 (sizeW (startsW b)) (ix1 g) := by
    unfold sizes
    refine shapeCast_apply _ _ _ _ ?_
    rw [Shape.rowMajor_val_one, Shape.rowMajor_val_two]
    show g.val = g.val * 1 + 0
    omega
  have e2 : sitofp (F := Ideal) .f32 (sizeW (startsW b)) (ix1 g) = (((sizeW (startsW b) (ix1 g)).toInt : ℝ) : EReal) := rfl
  have hle := cnt_le (b := b) (g.val + 1)
  have e3 : (BitVec.ofNat 32 (cnt b (g.val + 1) - cnt b g.val)).toInt = ((rowsOf b g.val).card : ℤ) := by
    rw [Sorted.card_rows hu, BitVec.toInt_eq_toNat_cond, BitVec.toNat_ofNat, Nat.mod_eq_of_lt (by omega), if_pos (by omega)]
  rw [e, e2, sizeW_at hb, e3, Int.cast_natCast]

end

theorem row_at (v : S256.Idx → Ideal .f32) (c : Fin 256) : shapeCast S1x256 v shapeCasts_S256_S1x256 (ix2 0 c) = v (ix1 c) := by
  refine shapeCast_apply _ _ _ _ ?_
  rw [Shape.rowMajor_val_one, Shape.rowMajor_val_two]
  show c.val = 0 * 256 + c.val
  omega

theorem entry_at (X : S50000x256.Idx → Ideal .f32) (r : Fin 50000) (c : Fin 256) : entry X r.val c.val = X (ix2 r c) := by
  unfold Tile.entry
  refine congrArg X (funext fun a => ?_)
  match a with
  | 0 => exact Fin.ext (by show min r.val 49999 = r.val; have := r.isLt; omega)
  | 1 => exact Fin.ext (by show min c.val 255 = c.val; have := c.isLt; omega)

theorem tab_at (A : S64x256.Idx → Ideal .f32) (g : Fin 64) (c : Fin 256) : Norm.tab A g.val c.val = A (ix2 g c) := by
  unfold Norm.tab
  refine congrArg A (funext fun a => ?_)
  match a with
  | 0 => exact Fin.ext (by show min g.val 63 = g.val; have := g.isLt; omega)
  | 1 => exact Fin.ext (by show min c.val 255 = c.val; have := c.isLt; omega)

/-! ## The result in terms of the arguments -/

/-- What the kernel computes of its four arguments. -/
def kernelOut (X : S50000x256.Idx → Ideal .f32) (b : S50000.Idx → BitVec 32) (ga be : S256.Idx → Ideal .f32) : S50000x256.Idx → Ideal .f32 :=
  Norm.out X (padW (startsW b)) (Norm.tabA (sizes b) (stats X b) (shapeCast S1x256 ga shapeCasts_S256_S1x256))
    (Norm.tabC (sizes b) (stats X b) (shapeCast S1x256 ga shapeCasts_S256_S1x256) (shapeCast S1x256 be shapeCasts_S256_S1x256))

theorem res_args (m : (ℓ : Loc nD τ sig) → Buf (Elt Ideal) ℓ) (d : Dev nD) :
    res m d = kernelOut (m (d.tc.loc main_arg0)) (m (d.tc.loc main_arg1)) (m (d.tc.loc main_arg2)) (m (d.tc.loc main_arg3)) := by
  have hx : Norm.inX (VB m) d = m (d.tc.loc main_arg0) := (vb_arg m d main_arg0 (by decide) (by decide) (by decide) (by decide)).trans (a_arg0 (W0 m d))
  have hc : Norm.inC (VB m) d = sizes (m (d.tc.loc main_arg1)) := (vb_arg m d main_v6 (by decide) (by decide) (by decide) (by decide)).trans (a_v6 (W0 m d))
  have hX : XX m d = m (d.tc.loc main_arg0) := a_arg0 (W0 m d)
  have hB : BB m d = padW (startsW (m (d.tc.loc main_arg1))) := bb_eq m d
  have h19 : WS m d main_v19 = statsOut (XX m d) (BB m d) := Function.update_self _ _ _
  have hs : Norm.inS (VB m) d = stats (m (d.tc.loc main_arg0)) (m (d.tc.loc main_arg1)) := by
    refine (b_v20 (WS m d)).trans ?_
    unfold stats
    rw [h19, hX, hB]
  have hg : Norm.inGa (VB m) d = shapeCast S1x256 (m (d.tc.loc main_arg2)) shapeCasts_S256_S1x256 :=
    (b_v21 (WS m d)).trans (congrArg (fun v => shapeCast S1x256 v shapeCasts_S256_S1x256) ((WS_ne m d main_arg2 (by decide)).trans (a_arg2 (W0 m d))))
  have he : Norm.inBe (VB m) d = shapeCast S1x256 (m (d.tc.loc main_arg3)) shapeCasts_S256_S1x256 :=
    (b_v22 (WS m d)).trans (congrArg (fun v => shapeCast S1x256 v shapeCasts_S256_S1x256) ((WS_ne m d main_arg3 (by decide)).trans (a_arg3 (W0 m d))))
  unfold res kernelOut Norm.tA Norm.tC
  rw [hx, inB_eq, hc, hs, hg, he]
  rfl

/-! ## The two results agree -/

section
variable {X : S50000x256.Idx → Ideal .f32} {b : S50000.Idx → BitVec 32} {ga be : S256.Idx → Ideal .f32}
  (hX : ∀ i, ∃ r : ℝ, X i = (r : EReal)) (hG : ∀ i, ∃ r : ℝ, ga i = (r : EReal)) (hb : ∀ r, (b r).toNat < 64) (hu : Up b) (ht : Tail b)

include hb hu ht in
theorem sums_rows (g : Fin 64) (c : Fin 256) : (Norm.lft (stats X b) (ix2 g c) : EReal) = ∑ r ∈ rowsOf b g.val, (X (ix2 r c) : EReal) := by
  rw [sums_at X hb, Tile.grpSum_all X (cnt_mono (Nat.le_succ _)) (Sorted.cnt_tail hu ht _), Sorted.sum_rows hu]
  exact Finset.sum_congr rfl fun r _ => entry_at X r c

include hb hu ht in
theorem sqs_rows (g : Fin 64) (c : Fin 256) : (Norm.rgt (stats X b) (ix2 g c) : EReal) = ∑ r ∈ rowsOf b g.val, (X (ix2 r c) : EReal) * (X (ix2 r c) : EReal) := by
  rw [sqs_at X hb, Tile.grpSq_all X (cnt_mono (Nat.le_succ _)) (Sorted.cnt_tail hu ht _), Sorted.sum_rows hu _ fun k => entry X k c.val * entry X k c.val]
  exact Finset.sum_congr rfl fun r _ => by rw [entry_at X r c]

include hX hG hb hu ht in
theorem agree : kernelOut X b ga be = Ref.result X b ga be := by
  funext j
  obtain ⟨r, c, rfl⟩ : ∃ (r : Fin 50000) (c : Fin 256), j = ix2 r c := ⟨j 0, j 1, eq_ix2 j⟩
  obtain ⟨e, he, hw⟩ := Alg.eps_real
  obtain ⟨ga', hga⟩ := hG (ix1 c)
  choose x hx using hX
  have hn : 0 < (rowsOf b (Ref.key hb r).val).card := Finset.card_pos.2 ⟨r, Finset.mem_filter.2 ⟨Finset.mem_univ _, rfl⟩⟩
  have hk : kernelOut X b ga be (ix2 r c) = (X (ix2 r c) : EReal) * (Norm.tabA (sizes b) (stats X b) (shapeCast S1x256 ga shapeCasts_S256_S1x256) (ix2 (Ref.key hb r) c) : EReal)
      + (Norm.tabC (sizes b) (stats X b) (shapeCast S1x256 ga shapeCasts_S256_S1x256) (shapeCast S1x256 be shapeCasts_S256_S1x256) (ix2 (Ref.key hb r) c) : EReal) := by
    rw [← tab_at (Norm.tabA (sizes b) _ _), ← tab_at (Norm.tabC (sizes b) _ _ _), ← show Norm.grp (padW (startsW b)) r.val = (Ref.key hb r).val from Sorted.grp_row hb hu r]
    rfl
  rw [hk, Ref.result_at hb, Ref.std_at hb, Ref.mean_at hb]
  unfold Norm.tabA Norm.tabC
  rw [Norm.pay8_at, Norm.pay9_at, Norm.pay6_at, Norm.pay5_at, row_at, row_at, sums_rows hb hu ht, sqs_rows hb hu ht, sizes_at hb _ hu, hw, hga]
  simp only [hx]
  exact Alg.same (rowsOf b (Ref.key hb r).val) hn (fun i => x (ix2 i c)) (x (ix2 r c)) ga' (be (ix1 c)) he rfl rfl rfl rfl rfl

end

end Cert.Proof.Main

end
-- ==== Proof.Algebraic.lean ====
/-
  The kernel and the reference compute one value at the ideal.
-/
module

public import proofs.«01_k».proof.Proof.PooledFrames
public import proofs.«01_k».proof.Proof.Value

@[expose] public section

set_option maxRecDepth 16384

noncomputable section

namespace Cert.Proof

open Idealize.ShloMosaic Idealize.SL.Sem
open Cert.Proof.Main (InRange QC run_main)

/-- A value whose magnitude is below infinity is a real number. -/
theorem real_of_lt {v : Ideal .f32} (h : FloatOps.cmpf (F := Ideal) .olt (FloatOps.hostAbsf v) (FloatOps.ofBits .f32 0x7F800000#32) = 1#1) : ∃ r : ℝ, v = (r : EReal) := by
  have h1 : BitVec.ofBool (decide (max (v : EReal) (-(v : EReal)) < Ideal.ofBits .f32 0x7F800000#32)) = 1#1 := h
  rw [Alg.inf_top] at h1
  have h2 : max (v : EReal) (-(v : EReal)) < ⊤ := by
    by_contra hc
    rw [decide_eq_false hc] at h1
    exact absurd h1 (by decide)
  obtain ⟨ha, hb⟩ := max_lt_iff.1 h2
  change EReal at v
  induction v using EReal.rec with
  | bot => exact absurd hb (by rw [EReal.neg_bot]; exact lt_irrefl _)
  | coe r => exact ⟨r, rfl⟩
  | top => exact absurd ha (lt_irrefl _)

section
variable {x : FVec Ideal Cert.Pre_pooled_input.S50000x256 .f32} {b : IVec Cert.Pre_pooled_input.S50000 32} {g e : FVec Ideal Cert.Pre_pooled_input.S256 .f32}
  (h : Cert.Pre_pooled_input.fn (F := Ideal) x b g e = fun _ => 1#1)
include h

theorem up_of_pre : Sorted.Up b := by
  obtain ⟨hb, _, _, hs, _⟩ := Pre.parts h
  refine Sorted.up_of_step fun r hr => ?_
  have h1 := IntOp.cmpi_sle.1 (hs (fun | 0 => ⟨r, by show r < 49999; omega⟩))
  rw [Ref.toInt_small (hb _), Ref.toInt_small (hb _)] at h1
  exact Int.ofNat_le.1 h1

theorem tail_of_pre : Sorted.Tail b := by
  intro r hr hle
  have h1 := IntOp.ori_eq_one.1 ((Pre.parts h).2.2.2.2 (fun | 0 => ⟨r - 49872, by show r - 49872 < 127; omega⟩))
  rcases h1 with h1 | h1
  · refine Or.inl (congrArg BitVec.toNat ?_)
    have e1 : (⟨49872 + (r - 49872), by omega⟩ : Fin 50000) = ⟨r, Nat.lt_of_succ_lt hr⟩ := Fin.ext (by show 49872 + (r - 49872) = r; omega)
    have e2 : (⟨49873 + (r - 49872), by omega⟩ : Fin 50000) = ⟨r + 1, hr⟩ := Fin.ext (by show 49873 + (r - 49872) = r + 1; omega)
    rw [← e1, ← e2]
    exact IntOp.cmpi_eq.1 h1
  · refine Or.inr ?_
    have h2 : BitVec.ofNat 32 (r - 49872) &&& 3#32 = 3#32 := IntOp.cmpi_eq.1 h1
    have h3 := congrArg BitVec.toNat h2
    rw [BitVec.toNat_and, BitVec.toNat_ofNat, show (3#32 : BitVec 32).toNat = 2 ^ 2 - 1 from rfl, Nat.and_two_pow_sub_one_eq_mod] at h3
    omega

theorem agree_of_pre : Main.kernelOut x b g e = Ref.result x b g e :=
  Main.agree (fun i => real_of_lt ((Pre.parts h).2.1 i)) (fun i => real_of_lt ((Pre.parts h).2.2.1 i)) (Pre.parts h).1 (up_of_pre h) (tail_of_pre h)

end

theorem same_value : algebraic_KernelIdeal_ReferenceIdeal_pre_pooled_input := by
  intro m g m' g' h ha
  refine ⟨fun c => Main.res m c, (θ_run _ _ _).mono (fun _ q => q.1) (run_main (F := Ideal) m g (range_pooled h)),
    (θ_run _ _ _).mono (fun r q c => ⟨(q c).1.trans ?_, (q c).2⟩) (Cert.ReferenceIdeal.Value.run m' g')⟩
  rw [Ref.res_eq m' c, (ha c).1, (ha c).2.1, (ha c).2.2.1, (ha c).2.2.2]
  exact ((Main.res_args m c).trans (agree_of_pre (h c))).symm

end Cert.Proof

end
-- ==== Proof.lean ====
/-
  The claims, assembled.
-/
module

public import proofs.«01_k».proof.Proof.Frames
public import proofs.«01_k».proof.Proof.PooledFrames
public import proofs.«01_k».proof.Proof.Same
public import proofs.«01_k».proof.Proof.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Pre.range_facts, Pre.pooled_facts,
    Same.frame_kernel, frame_ideal, frame_ideal_pooled, frame_reference, frame_reference_pooled, trivial, same_value⟩

end Cert.Proof

end
